-- ==== Defs.lean ====
def Pre_Kernel [hPre_sorted_ids : Cert.Pre_sorted_ids.Facts] (m : (ℓ : Loc Cert.Kernel.nD Cert.Kernel.τ Cert.Kernel.sig) → Buf (Elt Bits) ℓ) : Prop :=
  ∀ c : Dev Cert.Kernel.nD,
    (Cert.Pre_sorted_ids.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_sorted_ids : Cert.Pre_sorted_ids.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_ids [hPre_sorted_ids : Cert.Pre_sorted_ids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] [hPre_sorted_ids : Cert.Pre_sorted_ids.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_sorted_ids [hReferenceIdeal : Cert.ReferenceIdeal.Facts] [hPre_sorted_ids : Cert.Pre_sorted_ids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_ids m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_sorted_ids : Cert.Pre_sorted_ids.Facts),
    quiescent_Kernel (hKernel := hKernel) (hPre_sorted_ids := hPre_sorted_ids)
    ∧ quiescent_KernelIdeal (hKernelIdeal := hKernelIdeal) (hPre_sorted_ids := hPre_sorted_ids)
    ∧ quiescent_ReferenceIdeal (hReferenceIdeal := hReferenceIdeal)
    ∧ quiescent_ReferenceIdeal_pre_sorted_ids (hReferenceIdeal := hReferenceIdeal) (hPre_sorted_ids := hPre_sorted_ids)
    ∧ preserves_Kernel_KernelIdeal
    ∧ algebraic_KernelIdeal_ReferenceIdeal (hKernelIdeal := hKernelIdeal) (hReferenceIdeal := hReferenceIdeal) (hPre_sorted_ids := hPre_sorted_ids)
-- ==== Pre_sorted_ids.lean ====
abbrev S100000x128 : Shape := ⟨2, ![100000, 128]⟩
abbrev S100000 : Shape := ⟨1, ![100000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩
abbrev S99999 : Shape := ⟨1, ![99999]⟩

class Facts : Prop where
  bcast_S_S100000 : S_.BroadcastsInDim S100000 (![] : Fin 0 → Fin S100000.rank)
  reducesTo_S100000_S_d0 : S100000.ReducesTo [0] S_
  h_S_ : 0 < S_.numel
  slices_S100000_S99999_0 : S100000.Slices ![0] S99999
  slices_S100000_S99999_1 : S100000.Slices ![1] S99999
  reducesTo_S99999_S_d0 : S99999.ReducesTo [0] S_

variable [Facts]

def fn {F : FTy → Type} [FloatOps F] (main_arg0 : FVec F S100000x128 .f32) (main_arg1 : IVec S100000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S1x128 .f32) (main_arg9 : FVec F S1 .f32) (main_arg10 : FVec F S1x128 .f32) (main_arg11 : FVec F S1 .f32) (main_arg12 : FVec F S1x128 .f32) (main_arg13 : FVec F S1 .f32) (main_arg14 : FVec F S128x128 .f32) (main_arg15 : FVec F S128 .f32) (main_arg16 : FVec F S128 .f32) (main_arg17 : FVec F S128 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 1 := constantI S_ 1 1#1
  let main_v2 : IVec S_ 1 := (fun x v => Host.reduce IntOp.andi x v reducesTo_S100000_S_d0 h_S_) main_v1 main_c_0
  let main_c_1 : IVec S_ 32 := constantI S_ 32 256#32
  let main_v3 : IVec S100000 32 := broadcastInDim S100000 ![] bcast_S_S100000 main_c_1
  let main_v4 : IVec S100000 1 := cmpi .slt main_arg1 main_v3
  let main_c_2 : IVec S_ 1 := constantI S_ 1 1#1
  let main_v5 : IVec S_ 1 := (fun x v => Host.reduce IntOp.andi x v reducesTo_S100000_S_d0 h_S_) main_v4 main_c_2
  let main_v6 : IVec S_ 1 := andi main_v2 main_v5
  let main_v7 : IVec S99999 32 := (extractStridedSlice S99999 ![0] · slices_S100000_S99999_0) main_arg1
  let main_v8 : IVec S99999 32 := (extractStridedSlice S99999 ![1] · slices_S100000_S99999_1) main_arg1
  let main_v9 : IVec S99999 1 := cmpi .sle main_v7 main_v8
  let main_c_3 : IVec S_ 1 := constantI S_ 1 1#1
  let main_v10 : IVec S_ 1 := (fun x v => Host.reduce IntOp.andi x v reducesTo_S99999_S_d0 h_S_) main_v9 main_c_3
  let main_v11 : IVec S_ 1 := andi main_v6 main_v10
  main_v11
-- ==== Kernel.lean ====
abbrev S100000x128 : Shape := ⟨2, ![100000, 128]⟩
abbrev S100000 : Shape := ⟨1, ![100000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S32x256x128 : Shape := ⟨3, ![32, 256, 128]⟩
abbrev S32x256x16 : Shape := ⟨3, ![32, 256, 16]⟩
abbrev S2x112x128 : Shape := ⟨3, ![2, 112, 128]⟩
abbrev S3136 : Shape := ⟨1, ![3136]⟩
abbrev S256x128 : Shape := ⟨2, ![256, 128]⟩
abbrev S256x16 : Shape := ⟨2, ![256, 16]⟩
abbrev S2 : Shape := ⟨1, ![2]⟩
abbrev S16 : Shape := ⟨1, ![16]⟩
abbrev S1x16 : Shape := ⟨2, ![1, 16]⟩
abbrev S_ : Shape := ⟨0, ![]⟩
abbrev S1x112x128 : Shape := ⟨3, ![1, 112, 128]⟩
abbrev S112x128 : Shape := ⟨2, ![112, 128]⟩
abbrev S1x1x16 : Shape := ⟨3, ![1, 1, 16]⟩
abbrev S1x256x128 : Shape := ⟨3, ![1, 256, 128]⟩
abbrev S1x256x16 : Shape := ⟨3, ![1, 256, 16]⟩
abbrev S1x1 : Shape := ⟨2, ![1, 1]⟩
abbrev S128x16 : Shape := ⟨2, ![128, 16]⟩

abbrev nBuf : Table → Nat
  | .hbm => 37
  | .local .tc .vmem => 20
  | .local .scVector .vmem => 5
  | _ => 0

abbrev bufTy : (tb : Table) → Fin (nBuf tb) → BufTy
  | .hbm, ⟨0, _⟩ => ⟨S100000x128, .f32⟩
  | .hbm, ⟨1, _⟩ => ⟨S100000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x128, .f32⟩
  | .hbm, ⟨9, _⟩ => ⟨S1, .f32⟩
  | .hbm, ⟨10, _⟩ => ⟨S1x128, .f32⟩
  | .hbm, ⟨11, _⟩ => ⟨S1, .f32⟩
  | .hbm, ⟨12, _⟩ => ⟨S1x128, .f32⟩
  | .hbm, ⟨13, _⟩ => ⟨S1, .f32⟩
  | .hbm, ⟨14, _⟩ => ⟨S128x128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S32x256x128, .f32⟩
  | .hbm, ⟨19, _⟩ => ⟨S32x256x128, .f32⟩
  | .hbm, ⟨20, _⟩ => ⟨S32x256x16, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S1x1, .f32⟩
  | .hbm, ⟨25, _⟩ => ⟨S1x128, .f32⟩
  | .hbm, ⟨26, _⟩ => ⟨S1x1, .f32⟩
  | .hbm, ⟨27, _⟩ => ⟨S1x128, .f32⟩
  | .hbm, ⟨28, _⟩ => ⟨S1x1, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S256x128, .f32⟩
  | .local .tc .vmem, ⟨0, _⟩ => ⟨S32x256x128, .f32⟩
  | .local .tc .vmem, ⟨1, _⟩ => ⟨S32x256x128, .f32⟩
  | .local .tc .vmem, ⟨2, _⟩ => ⟨S32x256x16, .f32⟩
  | .local .tc .vmem, ⟨3, _⟩ => ⟨S128x128, .f32⟩
  | .local .tc .vmem, ⟨4, _⟩ => ⟨S1x128, .f32⟩
  | .local .tc .vmem, ⟨5, _⟩ => ⟨S128x128, .f32⟩
  | .local .tc .vmem, ⟨6, _⟩ => ⟨S1x128, .f32⟩
  | .local .tc .vmem, ⟨7, _⟩ => ⟨S128x128, .f32⟩
  | .local .tc .vmem, ⟨8, _⟩ => ⟨S1x128, .f32⟩
  | .local .tc .vmem, ⟨9, _⟩ => ⟨S128x128, .f32⟩
  | .local .tc .vmem, ⟨10, _⟩ => ⟨S1x128, .f32⟩
  | .local .tc .vmem, ⟨11, _⟩ => ⟨S128x128, .f32⟩
  | .local .tc .vmem, ⟨12, _⟩ => ⟨S1x128, .f32⟩
  | .local .tc .vmem, ⟨13, _⟩ => ⟨S128x128, .f32⟩
  | .local .tc .vmem, ⟨14, _⟩ => ⟨S1x128, .f32⟩
  | .local .tc .vmem, ⟨15, _⟩ => ⟨S128x128, .f32⟩
  | .local .tc .vmem, ⟨16, _⟩ => ⟨S1x128, .f32⟩
  | .local .tc .vmem, ⟨17, _⟩ => ⟨S1x128, .f32⟩
  | .local .tc .vmem, ⟨18, _⟩ => ⟨S1x128, .f32⟩
  | .local .tc .vmem, ⟨19, _⟩ => ⟨S256x128, .f32⟩
  | .local .scVector .vmem, ⟨0, _⟩ => ⟨S2x112x128, .f32⟩
  | .local .scVector .vmem, ⟨1, _⟩ => ⟨S3136, .i32⟩
  | .local .scVector .vmem, ⟨2, _⟩ => ⟨S256x128, .f32⟩
  | .local .scVector .vmem, ⟨3, _⟩ => ⟨S256x128, .f32⟩
  | .local .scVector .vmem, ⟨4, _⟩ => ⟨S256x16, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0_0 : Ref sig .tc := ⟨.hbm, 18, rfl⟩
abbrev main_v0_1 : Ref sig .tc := ⟨.hbm, 19, rfl⟩
abbrev main_v0_2 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_arg0_scv : Ref sig .scVector := ⟨.hbm, 0, rfl⟩
abbrev main_arg1_scv : Ref sig .scVector := ⟨.hbm, 1, rfl⟩
abbrev main_v0_0_scv : Ref sig .scVector := ⟨.hbm, 18, rfl⟩
abbrev main_v0_1_scv : Ref sig .scVector := ⟨.hbm, 19, rfl⟩
abbrev main_v0_2_scv : Ref sig .scVector := ⟨.hbm, 20, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc1_stg8_0 : Ref sig .tc := ⟨.vmem, 8, rfl⟩
abbrev cc1_stg9_0 : Ref sig .tc := ⟨.vmem, 9, rfl⟩
abbrev cc1_stg10_0 : Ref sig .tc := ⟨.vmem, 10, rfl⟩
abbrev cc1_stg11_0 : Ref sig .tc := ⟨.vmem, 11, rfl⟩
abbrev cc1_stg12_0 : Ref sig .tc := ⟨.vmem, 12, rfl⟩
abbrev cc1_stg13_0 : Ref sig .tc := ⟨.vmem, 13, rfl⟩
abbrev cc1_stg14_0 : Ref sig .tc := ⟨.vmem, 14, rfl⟩
abbrev cc1_stg15_0 : Ref sig .tc := ⟨.vmem, 15, rfl⟩
abbrev cc1_stg16_0 : Ref sig .tc := ⟨.vmem, 16, rfl⟩
abbrev cc1_stg17_0 : Ref sig .tc := ⟨.vmem, 17, rfl⟩
abbrev cc1_stg18_0 : Ref sig .tc := ⟨.vmem, 18, rfl⟩
abbrev cc1_stg19_0 : Ref sig .tc := ⟨.vmem, 19, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16
abbrev cc1_sem11_0 : DmaSem sig := 17
abbrev cc1_sem12_0 : DmaSem sig := 18
abbrev cc1_sem13_0 : DmaSem sig := 19
abbrev cc1_sem14_0 : DmaSem sig := 20
abbrev cc1_sem15_0 : DmaSem sig := 21
abbrev cc1_sem16_0 : DmaSem sig := 22
abbrev cc1_sem17_0 : DmaSem sig := 23
abbrev cc1_sem18_0 : DmaSem sig := 24
abbrev cc1_sem19_0 : DmaSem sig := 25
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c256_i32 : BitVec 32 := 256#32
  let v4 : BitVec 32 := Scalar.addi c0_i32_0 c256_i32
  let c1_i32 : BitVec 32 := 1#32
  ⟨c0_i32_0, v4, c1_i32⟩
def k0_off1 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let v95 : Index := Scalar.indexCast arg13
  let c0 : Index := 0#32
  ![v95.toNat, 0]
def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c96864_i32 : BitVec 32 := 96864#32
  let v45 : BitVec 32 := Scalar.minsi v5 c96864_i32
  v45
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c96864_i32 : BitVec 32 := 96864#32
  let v45 : BitVec 32 := Scalar.minsi v5 c96864_i32
  let v46 : BitVec 32 := v45
  ![v46.toNat]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c0_i32_17 : BitVec 32 := 0#32
  let v48 : BitVec 32 := Scalar.addi v5 c0_i32_17
  let c99888_i32 : BitVec 32 := 99888#32
  let v49 : BitVec 32 := Scalar.minsi v48 c99888_i32
  let c0_i32_22 : BitVec 32 := 0#32
  ![v49.toNat, 0]
@[reducible] def k0_t2_loop (i : grid0.Coords) : Scf.Loop 32 :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_37 : BitVec 32 := 1#32
  ⟨c0_i32_34, v71, c1_i32_37⟩
def k0_off4 (i : grid0.Coords) (k0_t2 : Fin (k0_t2_loop i).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let c0_i32_48 : BitVec 32 := 0#32
  let c0_i32_49 : BitVec 32 := 0#32
  ![v95.toNat, 0, 0]
def k0_off5 (i : grid0.Coords) (k0_t2 : Fin (k0_t2_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c0_i32_34 : BitVec 32 := 0#32
  let c1_i32_37 : BitVec 32 := 1#32
  let arg13 : BitVec 32 := Scf.iv c0_i32_34 c1_i32_37 k0_t2
  let c112_i32_46 : BitVec 32 := 112#32
  let v100 : BitVec 32 := Scalar.muli arg13 c112_i32_46
  let v101 : BitVec 32 := Scalar.addi v5 v100
  let c99888_i32_47 : BitVec 32 := 99888#32
  let v102 : BitVec 32 := Scalar.minsi v101 c99888_i32_47
  let c0_i32_50 : BitVec 32 := 0#32
  ![v102.toNat, 0]
def k0_off6 (i : grid0.Coords) (k0_t2 : Fin (k0_t2_loop i).trips) : Fin 1 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  ![v95.toNat]
def k0_cond1 (i : grid0.Coords) (k0_t2 : Fin (k0_t2_loop i).trips) : BitVec 1 :=
  let c0_i32_34 : BitVec 32 := 0#32
  let c1_i32_37 : BitVec 32 := 1#32
  let arg13 : BitVec 32 := Scf.iv c0_i32_34 c1_i32_37 k0_t2
  let c1_i32_54 : BitVec 32 := 1#32
  let v111 : BitVec 32 := Scalar.addi arg13 c1_i32_54
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v112 : BitVec 1 := Scalar.cmpi .slt v111 v44
  let v113 : BitVec 32 := Scalar.extui v112
  let c0_i32_55 : BitVec 32 := 0#32
  let v114 : BitVec 1 := Scalar.cmpi .ne v113 c0_i32_55
  v114

def k0_off7 (i : grid0.Coords) (k0_t2 : Fin (k0_t2_loop i).trips) : Fin 3 → Nat :=
  let c1_i32_63 : BitVec 32 := 1#32
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v126 : BitVec 32 := Scalar.subi c1_i32_63 v95
  let c0_i32_66 : BitVec 32 := 0#32
  let c0_i32_67 : BitVec 32 := 0#32
  ![v126.toNat, 0, 0]
def k0_off8 (i : grid0.Coords) (k0_t2 : Fin (k0_t2_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c0_i32_34 : BitVec 32 := 0#32
  let c1_i32_37 : BitVec 32 := 1#32
  let arg13 : BitVec 32 := Scf.iv c0_i32_34 c1_i32_37 k0_t2
  let c1_i32_62 : BitVec 32 := 1#32
  let v125 : BitVec 32 := Scalar.addi arg13 c1_i32_62
  let c112_i32_64 : BitVec 32 := 112#32
  let v127 : BitVec 32 := Scalar.muli v125 c112_i32_64
  let v128 : BitVec 32 := Scalar.addi v5 v127
  let c99888_i32_65 : BitVec 32 := 99888#32
  let v129 : BitVec 32 := Scalar.minsi v128 c99888_i32_65
  let c0_i32_68 : BitVec 32 := 0#32
  ![v129.toNat, 0]
def k0_off9 (i : grid0.Coords) (k0_t2 : Fin (k0_t2_loop i).trips) : Fin 1 → Nat :=
  let c1_i32_63 : BitVec 32 := 1#32
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v126 : BitVec 32 := Scalar.subi c1_i32_63 v95
  ![v126.toNat]
@[reducible] def k0_t3_loop (i : grid0.Coords) (k0_t2 : Fin (k0_t2_loop i).trips) : Scf.Loop 32 :=
  let c0_i32_58 : BitVec 32 := 0#32
  let c7_i32_57 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c0_i32_34 : BitVec 32 := 0#32
  let c1_i32_37 : BitVec 32 := 1#32
  let arg13 : BitVec 32 := Scf.iv c0_i32_34 c1_i32_37 k0_t2
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_60 : BitVec 32 := 1#32
  ⟨c0_i32_58, v122, c1_i32_60⟩
def k0_off10 (i : grid0.Coords) (k0_t2 : Fin (k0_t2_loop i).trips) (k0_t3 : Fin (k0_t3_loop i k0_t2).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c96864_i32 : BitVec 32 := 96864#32
  let v45 : BitVec 32 := Scalar.minsi v5 c96864_i32
  let v46 : BitVec 32 := v45
  let v47 : BitVec 32 := Scalar.subi v5 v46
  let c0_i32_34 : BitVec 32 := 0#32
  let c1_i32_37 : BitVec 32 := 1#32
  let arg13 : BitVec 32 := Scf.iv c0_i32_34 c1_i32_37 k0_t2
  let c7_i32_63 : BitVec 32 := 7#32
  let v127 : BitVec 32 := Scalar.muli arg13 c7_i32_63
  let c0_i32_58 : BitVec 32 := 0#32
  let c1_i32_60 : BitVec 32 := 1#32
  let arg32 : BitVec 32 := Scf.iv c0_i32_58 c1_i32_60 k0_t3
  let v128 : BitVec 32 := Scalar.addi v127 arg32
  let c16_i32_64 : BitVec 32 := 16#32
  let v129 : BitVec 32 := Scalar.muli v128 c16_i32_64
  let v130 : BitVec 32 := Scalar.addi v47 v129
  let v131 : Index := Scalar.indexCast v130
  ![v131.toNat]
def k0_off11 (i : grid0.Coords) (k0_t2 : Fin (k0_t2_loop i).trips) (k0_t3 : Fin (k0_t3_loop i k0_t2).trips) (c0_i32_67 : BitVec 32) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v146 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let v145 : BitVec 32 := Scalar.addi v126 c0_i32_67
  let v147 : Index := Scalar.indexCast v145
  let c0 : Index := 0#32
  ![v146.toNat, v147.toNat, 0]
def k0_off12 (i : grid0.Coords) (k0_t2 : Fin (k0_t2_loop i).trips) (k0_t3 : Fin (k0_t3_loop i k0_t2).trips) (c0_i32_68 : BitVec 32) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v150 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let v149 : BitVec 32 := Scalar.addi v126 c0_i32_68
  let v151 : Index := Scalar.indexCast v149
  let c16 : Index := 16#32
  ![v150.toNat, v151.toNat, 16]
def k0_off13 (i : grid0.Coords) (k0_t2 : Fin (k0_t2_loop i).trips) (k0_t3 : Fin (k0_t3_loop i k0_t2).trips) (c0_i32_69 : BitVec 32) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v154 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let v153 : BitVec 32 := Scalar.addi v126 c0_i32_69
  let v155 : Index := Scalar.indexCast v153
  let c32 : Index := 32#32
  ![v154.toNat, v155.toNat, 32]
def k0_off14 (i : grid0.Coords) (k0_t2 : Fin (k0_t2_loop i).trips) (k0_t3 : Fin (k0_t3_loop i k0_t2).trips) (c0_i32_70 : BitVec 32) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v158 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let v157 : BitVec 32 := Scalar.addi v126 c0_i32_70
  let v159 : Index := Scalar.indexCast v157
  let c48 : Index := 48#32
  ![v158.toNat, v159.toNat, 48]
def k0_off15 (i : grid0.Coords) (k0_t2 : Fin (k0_t2_loop i).trips) (k0_t3 : Fin (k0_t3_loop i k0_t2).trips) (c0_i32_71 : BitVec 32) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v162 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let v161 : BitVec 32 := Scalar.addi v126 c0_i32_71
  let v163 : Index := Scalar.indexCast v161
  let c64 : Index := 64#32
  ![v162.toNat, v163.toNat, 64]
def k0_off16 (i : grid0.Coords) (k0_t2 : Fin (k0_t2_loop i).trips) (k0_t3 : Fin (k0_t3_loop i k0_t2).trips) (c0_i32_72 : BitVec 32) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v166 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let v165 : BitVec 32 := Scalar.addi v126 c0_i32_72
  let v167 : Index := Scalar.indexCast v165
  let c80 : Index := 80#32
  ![v166.toNat, v167.toNat, 80]
def k0_off17 (i : grid0.Coords) (k0_t2 : Fin (k0_t2_loop i).trips) (k0_t3 : Fin (k0_t3_loop i k0_t2).trips) (c0_i32_73 : BitVec 32) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v170 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let v169 : BitVec 32 := Scalar.addi v126 c0_i32_73
  let v171 : Index := Scalar.indexCast v169
  let c96 : Index := 96#32
  ![v170.toNat, v171.toNat, 96]
def k0_off18 (i : grid0.Coords) (k0_t2 : Fin (k0_t2_loop i).trips) (k0_t3 : Fin (k0_t3_loop i k0_t2).trips) (c0_i32_74 : BitVec 32) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v174 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let v173 : BitVec 32 := Scalar.addi v126 c0_i32_74
  let v175 : Index := Scalar.indexCast v173
  let c112 : Index := 112#32
  ![v174.toNat, v175.toNat, 112]
def k0_cond2 (v140 : BitVec 32) : BitVec 1 :=
  let c1_i32_65 : BitVec 32 := 1#32
  let v141 : BitVec 1 := Scalar.cmpi .eq v140 c1_i32_65
  let v142 : BitVec 32 := Scalar.extui v141
  let c0_i32_66 : BitVec 32 := 0#32
  let v143 : BitVec 1 := Scalar.cmpi .ne v142 c0_i32_66
  v143

def k0_chk1 (v140 : BitVec 32) (v146 : IVec S16 32) : Prop :=
  (∀ (k0_h2 : ¬(k0_cond2 v140 = 1#1)), ∀ a x, ((![v146] : Fin 1 → IVec S16 32) a x).toNat < S3136.size a)
theorem k0_idx1_inb : ∀ (v140 : BitVec 32) (v146 : IVec S16 32) (k0_hw1 : k0_chk1 v140 v146), ∀ (k0_h2 : ¬(k0_cond2 v140 = 1#1)), ∀ a x, ((![v146] : Fin 1 → IVec S16 32) a x).toNat < S3136.size a := fun v140 v146 k0_hw1 k0_h2 => k0_hw1 k0_h2
def k0_off19 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v149 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c0_i32_68 : BitVec 32 := 0#32
  let v148 : BitVec 32 := Scalar.addi v126 c0_i32_68
  let v150 : Index := Scalar.indexCast v148
  let c0 : Index := 0#32
  ![v149.toNat, v150.toNat, 0]
def k0_off20 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v153 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c0_i32_69 : BitVec 32 := 0#32
  let v152 : BitVec 32 := Scalar.addi v126 c0_i32_69
  let v154 : Index := Scalar.indexCast v152
  let c16 : Index := 16#32
  ![v153.toNat, v154.toNat, 16]
def k0_off21 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v157 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c0_i32_70 : BitVec 32 := 0#32
  let v156 : BitVec 32 := Scalar.addi v126 c0_i32_70
  let v158 : Index := Scalar.indexCast v156
  let c32 : Index := 32#32
  ![v157.toNat, v158.toNat, 32]
def k0_off22 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v161 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c0_i32_71 : BitVec 32 := 0#32
  let v160 : BitVec 32 := Scalar.addi v126 c0_i32_71
  let v162 : Index := Scalar.indexCast v160
  let c48 : Index := 48#32
  ![v161.toNat, v162.toNat, 48]
def k0_off23 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v165 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c0_i32_72 : BitVec 32 := 0#32
  let v164 : BitVec 32 := Scalar.addi v126 c0_i32_72
  let v166 : Index := Scalar.indexCast v164
  let c64 : Index := 64#32
  ![v165.toNat, v166.toNat, 64]
def k0_off24 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v169 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c0_i32_73 : BitVec 32 := 0#32
  let v168 : BitVec 32 := Scalar.addi v126 c0_i32_73
  let v170 : Index := Scalar.indexCast v168
  let c80 : Index := 80#32
  ![v169.toNat, v170.toNat, 80]
def k0_off25 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v173 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c0_i32_74 : BitVec 32 := 0#32
  let v172 : BitVec 32 := Scalar.addi v126 c0_i32_74
  let v174 : Index := Scalar.indexCast v172
  let c96 : Index := 96#32
  ![v173.toNat, v174.toNat, 96]
def k0_off26 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v177 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c0_i32_75 : BitVec 32 := 0#32
  let v176 : BitVec 32 := Scalar.addi v126 c0_i32_75
  let v178 : Index := Scalar.indexCast v176
  let c112 : Index := 112#32
  ![v177.toNat, v178.toNat, 112]

def k0_chk2 (v140 : BitVec 32) (v186 : IVec S16 32) (v188 : IVec S16 32) : Prop :=
  (∀ (k0_h2 : ¬(k0_cond2 v140 = 1#1)), ∀ a x, ((![v186, v188] : Fin 2 → IVec S16 32) a x).toNat < S256x128.size a) ∧
  (∀ (k0_h2 : ¬(k0_cond2 v140 = 1#1)), ∀ a x, ((![v186, v188] : Fin 2 → IVec S16 32) a x).toNat < S256x128.size a)
theorem k0_idx2_inb : ∀ (v140 : BitVec 32) (v186 : IVec S16 32) (v188 : IVec S16 32) (k0_hw2 : k0_chk2 v140 v186 v188), ∀ (k0_h2 : ¬(k0_cond2 v140 = 1#1)), ∀ a x, ((![v186, v188] : Fin 2 → IVec S16 32) a x).toNat < S256x128.size a := fun v140 v186 v188 k0_hw2 k0_h2 => k0_hw2.1 k0_h2
theorem k0_idx3_inb : ∀ (v140 : BitVec 32) (v186 : IVec S16 32) (v188 : IVec S16 32) (k0_hw2 : k0_chk2 v140 v186 v188), ∀ (k0_h2 : ¬(k0_cond2 v140 = 1#1)), ∀ a x, ((![v186, v188] : Fin 2 → IVec S16 32) a x).toNat < S256x128.size a := fun v140 v186 v188 k0_hw2 k0_h2 => k0_hw2.2 k0_h2

def k0_chk3 (v140 : BitVec 32) (v186 : IVec S16 32) (v190 : IVec S16 32) : Prop :=
  (∀ (k0_h2 : ¬(k0_cond2 v140 = 1#1)), ∀ a x, ((![v186, v190] : Fin 2 → IVec S16 32) a x).toNat < S256x128.size a) ∧
  (∀ (k0_h2 : ¬(k0_cond2 v140 = 1#1)), ∀ a x, ((![v186, v190] : Fin 2 → IVec S16 32) a x).toNat < S256x128.size a)
theorem k0_idx4_inb : ∀ (v140 : BitVec 32) (v186 : IVec S16 32) (v190 : IVec S16 32) (k0_hw3 : k0_chk3 v140 v186 v190), ∀ (k0_h2 : ¬(k0_cond2 v140 = 1#1)), ∀ a x, ((![v186, v190] : Fin 2 → IVec S16 32) a x).toNat < S256x128.size a := fun v140 v186 v190 k0_hw3 k0_h2 => k0_hw3.1 k0_h2
theorem k0_idx5_inb : ∀ (v140 : BitVec 32) (v186 : IVec S16 32) (v190 : IVec S16 32) (k0_hw3 : k0_chk3 v140 v186 v190), ∀ (k0_h2 : ¬(k0_cond2 v140 = 1#1)), ∀ a x, ((![v186, v190] : Fin 2 → IVec S16 32) a x).toNat < S256x128.size a := fun v140 v186 v190 k0_hw3 k0_h2 => k0_hw3.2 k0_h2

def k0_chk4 (v140 : BitVec 32) (v186 : IVec S16 32) (v192 : IVec S16 32) : Prop :=
  (∀ (k0_h2 : ¬(k0_cond2 v140 = 1#1)), ∀ a x, ((![v186, v192] : Fin 2 → IVec S16 32) a x).toNat < S256x128.size a) ∧
  (∀ (k0_h2 : ¬(k0_cond2 v140 = 1#1)), ∀ a x, ((![v186, v192] : Fin 2 → IVec S16 32) a x).toNat < S256x128.size a)
theorem k0_idx6_inb : ∀ (v140 : BitVec 32) (v186 : IVec S16 32) (v192 : IVec S16 32) (k0_hw4 : k0_chk4 v140 v186 v192), ∀ (k0_h2 : ¬(k0_cond2 v140 = 1#1)), ∀ a x, ((![v186, v192] : Fin 2 → IVec S16 32) a x).toNat < S256x128.size a := fun v140 v186 v192 k0_hw4 k0_h2 => k0_hw4.1 k0_h2
theorem k0_idx7_inb : ∀ (v140 : BitVec 32) (v186 : IVec S16 32) (v192 : IVec S16 32) (k0_hw4 : k0_chk4 v140 v186 v192), ∀ (k0_h2 : ¬(k0_cond2 v140 = 1#1)), ∀ a x, ((![v186, v192] : Fin 2 → IVec S16 32) a x).toNat < S256x128.size a := fun v140 v186 v192 k0_hw4 k0_h2 => k0_hw4.2 k0_h2

def k0_chk5 (v140 : BitVec 32) (v186 : IVec S16 32) (v194 : IVec S16 32) : Prop :=
  (∀ (k0_h2 : ¬(k0_cond2 v140 = 1#1)), ∀ a x, ((![v186, v194] : Fin 2 → IVec S16 32) a x).toNat < S256x128.size a) ∧
  (∀ (k0_h2 : ¬(k0_cond2 v140 = 1#1)), ∀ a x, ((![v186, v194] : Fin 2 → IVec S16 32) a x).toNat < S256x128.size a)
theorem k0_idx8_inb : ∀ (v140 : BitVec 32) (v186 : IVec S16 32) (v194 : IVec S16 32) (k0_hw5 : k0_chk5 v140 v186 v194), ∀ (k0_h2 : ¬(k0_cond2 v140 = 1#1)), ∀ a x, ((![v186, v194] : Fin 2 → IVec S16 32) a x).toNat < S256x128.size a := fun v140 v186 v194 k0_hw5 k0_h2 => k0_hw5.1 k0_h2
theorem k0_idx9_inb : ∀ (v140 : BitVec 32) (v186 : IVec S16 32) (v194 : IVec S16 32) (k0_hw5 : k0_chk5 v140 v186 v194), ∀ (k0_h2 : ¬(k0_cond2 v140 = 1#1)), ∀ a x, ((![v186, v194] : Fin 2 → IVec S16 32) a x).toNat < S256x128.size a := fun v140 v186 v194 k0_hw5 k0_h2 => k0_hw5.2 k0_h2

def k0_chk6 (v140 : BitVec 32) (v186 : IVec S16 32) (v196 : IVec S16 32) : Prop :=
  (∀ (k0_h2 : ¬(k0_cond2 v140 = 1#1)), ∀ a x, ((![v186, v196] : Fin 2 → IVec S16 32) a x).toNat < S256x128.size a) ∧
  (∀ (k0_h2 : ¬(k0_cond2 v140 = 1#1)), ∀ a x, ((![v186, v196] : Fin 2 → IVec S16 32) a x).toNat < S256x128.size a)
theorem k0_idx10_inb : ∀ (v140 : BitVec 32) (v186 : IVec S16 32) (v196 : IVec S16 32) (k0_hw6 : k0_chk6 v140 v186 v196), ∀ (k0_h2 : ¬(k0_cond2 v140 = 1#1)), ∀ a x, ((![v186, v196] : Fin 2 → IVec S16 32) a x).toNat < S256x128.size a := fun v140 v186 v196 k0_hw6 k0_h2 => k0_hw6.1 k0_h2
theorem k0_idx11_inb : ∀ (v140 : BitVec 32) (v186 : IVec S16 32) (v196 : IVec S16 32) (k0_hw6 : k0_chk6 v140 v186 v196), ∀ (k0_h2 : ¬(k0_cond2 v140 = 1#1)), ∀ a x, ((![v186, v196] : Fin 2 → IVec S16 32) a x).toNat < S256x128.size a := fun v140 v186 v196 k0_hw6 k0_h2 => k0_hw6.2 k0_h2

def k0_chk7 (v140 : BitVec 32) (v186 : IVec S16 32) (v198 : IVec S16 32) : Prop :=
  (∀ (k0_h2 : ¬(k0_cond2 v140 = 1#1)), ∀ a x, ((![v186, v198] : Fin 2 → IVec S16 32) a x).toNat < S256x128.size a) ∧
  (∀ (k0_h2 : ¬(k0_cond2 v140 = 1#1)), ∀ a x, ((![v186, v198] : Fin 2 → IVec S16 32) a x).toNat < S256x128.size a)
theorem k0_idx12_inb : ∀ (v140 : BitVec 32) (v186 : IVec S16 32) (v198 : IVec S16 32) (k0_hw7 : k0_chk7 v140 v186 v198), ∀ (k0_h2 : ¬(k0_cond2 v140 = 1#1)), ∀ a x, ((![v186, v198] : Fin 2 → IVec S16 32) a x).toNat < S256x128.size a := fun v140 v186 v198 k0_hw7 k0_h2 => k0_hw7.1 k0_h2
theorem k0_idx13_inb : ∀ (v140 : BitVec 32) (v186 : IVec S16 32) (v198 : IVec S16 32) (k0_hw7 : k0_chk7 v140 v186 v198), ∀ (k0_h2 : ¬(k0_cond2 v140 = 1#1)), ∀ a x, ((![v186, v198] : Fin 2 → IVec S16 32) a x).toNat < S256x128.size a := fun v140 v186 v198 k0_hw7 k0_h2 => k0_hw7.2 k0_h2

def k0_chk8 (v140 : BitVec 32) (v186 : IVec S16 32) (v200 : IVec S16 32) : Prop :=
  (∀ (k0_h2 : ¬(k0_cond2 v140 = 1#1)), ∀ a x, ((![v186, v200] : Fin 2 → IVec S16 32) a x).toNat < S256x128.size a) ∧
  (∀ (k0_h2 : ¬(k0_cond2 v140 = 1#1)), ∀ a x, ((![v186, v200] : Fin 2 → IVec S16 32) a x).toNat < S256x128.size a)
theorem k0_idx14_inb : ∀ (v140 : BitVec 32) (v186 : IVec S16 32) (v200 : IVec S16 32) (k0_hw8 : k0_chk8 v140 v186 v200), ∀ (k0_h2 : ¬(k0_cond2 v140 = 1#1)), ∀ a x, ((![v186, v200] : Fin 2 → IVec S16 32) a x).toNat < S256x128.size a := fun v140 v186 v200 k0_hw8 k0_h2 => k0_hw8.1 k0_h2
theorem k0_idx15_inb : ∀ (v140 : BitVec 32) (v186 : IVec S16 32) (v200 : IVec S16 32) (k0_hw8 : k0_chk8 v140 v186 v200), ∀ (k0_h2 : ¬(k0_cond2 v140 = 1#1)), ∀ a x, ((![v186, v200] : Fin 2 → IVec S16 32) a x).toNat < S256x128.size a := fun v140 v186 v200 k0_hw8 k0_h2 => k0_hw8.2 k0_h2

def k0_chk9 (v140 : BitVec 32) (v186 : IVec S16 32) (v202 : IVec S16 32) : Prop :=
  (∀ (k0_h2 : ¬(k0_cond2 v140 = 1#1)), ∀ a x, ((![v186, v202] : Fin 2 → IVec S16 32) a x).toNat < S256x128.size a) ∧
  (∀ (k0_h2 : ¬(k0_cond2 v140 = 1#1)), ∀ a x, ((![v186, v202] : Fin 2 → IVec S16 32) a x).toNat < S256x128.size a)
theorem k0_idx16_inb : ∀ (v140 : BitVec 32) (v186 : IVec S16 32) (v202 : IVec S16 32) (k0_hw9 : k0_chk9 v140 v186 v202), ∀ (k0_h2 : ¬(k0_cond2 v140 = 1#1)), ∀ a x, ((![v186, v202] : Fin 2 → IVec S16 32) a x).toNat < S256x128.size a := fun v140 v186 v202 k0_hw9 k0_h2 => k0_hw9.1 k0_h2
theorem k0_idx17_inb : ∀ (v140 : BitVec 32) (v186 : IVec S16 32) (v202 : IVec S16 32) (k0_hw9 : k0_chk9 v140 v186 v202), ∀ (k0_h2 : ¬(k0_cond2 v140 = 1#1)), ∀ a x, ((![v186, v202] : Fin 2 → IVec S16 32) a x).toNat < S256x128.size a := fun v140 v186 v202 k0_hw9 k0_h2 => k0_hw9.2 k0_h2

def k0_chk10 (v2 : IVec S16 32) (v140 : BitVec 32) (v186 : IVec S16 32) : Prop :=
  (∀ (k0_h2 : ¬(k0_cond2 v140 = 1#1)), ∀ a x, ((![v186, v2] : Fin 2 → IVec S16 32) a x).toNat < S256x16.size a)
theorem k0_idx18_inb : ∀ (v2 : IVec S16 32) (v140 : BitVec 32) (v186 : IVec S16 32) (k0_hw10 : k0_chk10 v2 v140 v186), ∀ (k0_h2 : ¬(k0_cond2 v140 = 1#1)), ∀ a x, ((![v186, v2] : Fin 2 → IVec S16 32) a x).toNat < S256x16.size a := fun v2 v140 v186 k0_hw10 k0_h2 => k0_hw10 k0_h2

def k0_chk11 (v140 : BitVec 32) (v247 : IVec S16 32) : Prop :=
  (∀ (k0_h2 : ¬(k0_cond2 v140 = 1#1)), ∀ a x, ((![v247] : Fin 1 → IVec S16 32) a x).toNat < S3136.size a)
theorem k0_idx19_inb : ∀ (v140 : BitVec 32) (v247 : IVec S16 32) (k0_hw11 : k0_chk11 v140 v247), ∀ (k0_h2 : ¬(k0_cond2 v140 = 1#1)), ∀ a x, ((![v247] : Fin 1 → IVec S16 32) a x).toNat < S3136.size a := fun v140 v247 k0_hw11 k0_h2 => k0_hw11 k0_h2
def k0_off27 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v250 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c1_i32_91 : BitVec 32 := 1#32
  let v249 : BitVec 32 := Scalar.addi v126 c1_i32_91
  let v251 : Index := Scalar.indexCast v249
  let c0_92 : Index := 0#32
  ![v250.toNat, v251.toNat, 0]
def k0_off28 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v254 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c1_i32_93 : BitVec 32 := 1#32
  let v253 : BitVec 32 := Scalar.addi v126 c1_i32_93
  let v255 : Index := Scalar.indexCast v253
  let c16_94 : Index := 16#32
  ![v254.toNat, v255.toNat, 16]
def k0_off29 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v258 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c1_i32_95 : BitVec 32 := 1#32
  let v257 : BitVec 32 := Scalar.addi v126 c1_i32_95
  let v259 : Index := Scalar.indexCast v257
  let c32_96 : Index := 32#32
  ![v258.toNat, v259.toNat, 32]
def k0_off30 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v262 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c1_i32_97 : BitVec 32 := 1#32
  let v261 : BitVec 32 := Scalar.addi v126 c1_i32_97
  let v263 : Index := Scalar.indexCast v261
  let c48_98 : Index := 48#32
  ![v262.toNat, v263.toNat, 48]
def k0_off31 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v266 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c1_i32_99 : BitVec 32 := 1#32
  let v265 : BitVec 32 := Scalar.addi v126 c1_i32_99
  let v267 : Index := Scalar.indexCast v265
  let c64_100 : Index := 64#32
  ![v266.toNat, v267.toNat, 64]
def k0_off32 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v270 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c1_i32_101 : BitVec 32 := 1#32
  let v269 : BitVec 32 := Scalar.addi v126 c1_i32_101
  let v271 : Index := Scalar.indexCast v269
  let c80_102 : Index := 80#32
  ![v270.toNat, v271.toNat, 80]
def k0_off33 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v274 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c1_i32_103 : BitVec 32 := 1#32
  let v273 : BitVec 32 := Scalar.addi v126 c1_i32_103
  let v275 : Index := Scalar.indexCast v273
  let c96_104 : Index := 96#32
  ![v274.toNat, v275.toNat, 96]
def k0_off34 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v278 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c1_i32_105 : BitVec 32 := 1#32
  let v277 : BitVec 32 := Scalar.addi v126 c1_i32_105
  let v279 : Index := Scalar.indexCast v277
  let c112_106 : Index := 112#32
  ![v278.toNat, v279.toNat, 112]

def k0_chk12 (v140 : BitVec 32) (v287 : IVec S16 32) (v289 : IVec S16 32) : Prop :=
  (∀ (k0_h2 : ¬(k0_cond2 v140 = 1#1)), ∀ a x, ((![v287, v289] : Fin 2 → IVec S16 32) a x).toNat < S256x128.size a) ∧
  (∀ (k0_h2 : ¬(k0_cond2 v140 = 1#1)), ∀ a x, ((![v287, v289] : Fin 2 → IVec S16 32) a x).toNat < S256x128.size a)
theorem k0_idx20_inb : ∀ (v140 : BitVec 32) (v287 : IVec S16 32) (v289 : IVec S16 32) (k0_hw12 : k0_chk12 v140 v287 v289), ∀ (k0_h2 : ¬(k0_cond2 v140 = 1#1)), ∀ a x, ((![v287, v289] : Fin 2 → IVec S16 32) a x).toNat < S256x128.size a := fun v140 v287 v289 k0_hw12 k0_h2 => k0_hw12.1 k0_h2
theorem k0_idx21_inb : ∀ (v140 : BitVec 32) (v287 : IVec S16 32) (v289 : IVec S16 32) (k0_hw12 : k0_chk12 v140 v287 v289), ∀ (k0_h2 : ¬(k0_cond2 v140 = 1#1)), ∀ a x, ((![v287, v289] : Fin 2 → IVec S16 32) a x).toNat < S256x128.size a := fun v140 v287 v289 k0_hw12 k0_h2 => k0_hw12.2 k0_h2

def k0_chk13 (v140 : BitVec 32) (v287 : IVec S16 32) (v291 : IVec S16 32) : Prop :=
  (∀ (k0_h2 : ¬(k0_cond2 v140 = 1#1)), ∀ a x, ((![v287, v291] : Fin 2 → IVec S16 32) a x).toNat < S256x128.size a) ∧
  (∀ (k0_h2 : ¬(k0_cond2 v140 = 1#1)), ∀ a x, ((![v287, v291] : Fin 2 → IVec S16 32) a x).toNat < S256x128.size a)
theorem k0_idx22_inb : ∀ (v140 : BitVec 32) (v287 : IVec S16 32) (v291 : IVec S16 32) (k0_hw13 : k0_chk13 v140 v287 v291), ∀ (k0_h2 : ¬(k0_cond2 v140 = 1#1)), ∀ a x, ((![v287, v291] : Fin 2 → IVec S16 32) a x).toNat < S256x128.size a := fun v140 v287 v291 k0_hw13 k0_h2 => k0_hw13.1 k0_h2
theorem k0_idx23_inb : ∀ (v140 : BitVec 32) (v287 : IVec S16 32) (v291 : IVec S16 32) (k0_hw13 : k0_chk13 v140 v287 v291), ∀ (k0_h2 : ¬(k0_cond2 v140 = 1#1)), ∀ a x, ((![v287, v291] : Fin 2 → IVec S16 32) a x).toNat < S256x128.size a := fun v140 v287 v291 k0_hw13 k0_h2 => k0_hw13.2 k0_h2

def k0_chk14 (v140 : BitVec 32) (v287 : IVec S16 32) (v293 : IVec S16 32) : Prop :=
  (∀ (k0_h2 : ¬(k0_cond2 v140 = 1#1)), ∀ a x, ((![v287, v293] : Fin 2 → IVec S16 32) a x).toNat < S256x128.size a) ∧
  (∀ (k0_h2 : ¬(k0_cond2 v140 = 1#1)), ∀ a x, ((![v287, v293] : Fin 2 → IVec S16 32) a x).toNat < S256x128.size a)
theorem k0_idx24_inb : ∀ (v140 : BitVec 32) (v287 : IVec S16 32) (v293 : IVec S16 32) (k0_hw14 : k0_chk14 v140 v287 v293), ∀ (k0_h2 : ¬(k0_cond2 v140 = 1#1)), ∀ a x, ((![v287, v293] : Fin 2 → IVec S16 32) a x).toNat < S256x128.size a := fun v140 v287 v293 k0_hw14 k0_h2 => k0_hw14.1 k0_h2
theorem k0_idx25_inb : ∀ (v140 : BitVec 32) (v287 : IVec S16 32) (v293 : IVec S16 32) (k0_hw14 : k0_chk14 v140 v287 v293), ∀ (k0_h2 : ¬(k0_cond2 v140 = 1#1)), ∀ a x, ((![v287, v293] : Fin 2 → IVec S16 32) a x).toNat < S256x128.size a := fun v140 v287 v293 k0_hw14 k0_h2 => k0_hw14.2 k0_h2

def k0_chk15 (v140 : BitVec 32) (v287 : IVec S16 32) (v295 : IVec S16 32) : Prop :=
  (∀ (k0_h2 : ¬(k0_cond2 v140 = 1#1)), ∀ a x, ((![v287, v295] : Fin 2 → IVec S16 32) a x).toNat < S256x128.size a) ∧
  (∀ (k0_h2 : ¬(k0_cond2 v140 = 1#1)), ∀ a x, ((![v287, v295] : Fin 2 → IVec S16 32) a x).toNat < S256x128.size a)
theorem k0_idx26_inb : ∀ (v140 : BitVec 32) (v287 : IVec S16 32) (v295 : IVec S16 32) (k0_hw15 : k0_chk15 v140 v287 v295), ∀ (k0_h2 : ¬(k0_cond2 v140 = 1#1)), ∀ a x, ((![v287, v295] : Fin 2 → IVec S16 32) a x).toNat < S256x128.size a := fun v140 v287 v295 k0_hw15 k0_h2 => k0_hw15.1 k0_h2
theorem k0_idx27_inb : ∀ (v140 : BitVec 32) (v287 : IVec S16 32) (v295 : IVec S16 32) (k0_hw15 : k0_chk15 v140 v287 v295), ∀ (k0_h2 : ¬(k0_cond2 v140 = 1#1)), ∀ a x, ((![v287, v295] : Fin 2 → IVec S16 32) a x).toNat < S256x128.size a := fun v140 v287 v295 k0_hw15 k0_h2 => k0_hw15.2 k0_h2

def k0_chk16 (v140 : BitVec 32) (v287 : IVec S16 32) (v297 : IVec S16 32) : Prop :=
  (∀ (k0_h2 : ¬(k0_cond2 v140 = 1#1)), ∀ a x, ((![v287, v297] : Fin 2 → IVec S16 32) a x).toNat < S256x128.size a) ∧
  (∀ (k0_h2 : ¬(k0_cond2 v140 = 1#1)), ∀ a x, ((![v287, v297] : Fin 2 → IVec S16 32) a x).toNat < S256x128.size a)
theorem k0_idx28_inb : ∀ (v140 : BitVec 32) (v287 : IVec S16 32) (v297 : IVec S16 32) (k0_hw16 : k0_chk16 v140 v287 v297), ∀ (k0_h2 : ¬(k0_cond2 v140 = 1#1)), ∀ a x, ((![v287, v297] : Fin 2 → IVec S16 32) a x).toNat < S256x128.size a := fun v140 v287 v297 k0_hw16 k0_h2 => k0_hw16.1 k0_h2
theorem k0_idx29_inb : ∀ (v140 : BitVec 32) (v287 : IVec S16 32) (v297 : IVec S16 32) (k0_hw16 : k0_chk16 v140 v287 v297), ∀ (k0_h2 : ¬(k0_cond2 v140 = 1#1)), ∀ a x, ((![v287, v297] : Fin 2 → IVec S16 32) a x).toNat < S256x128.size a := fun v140 v287 v297 k0_hw16 k0_h2 => k0_hw16.2 k0_h2

def k0_chk17 (v140 : BitVec 32) (v287 : IVec S16 32) (v299 : IVec S16 32) : Prop :=
  (∀ (k0_h2 : ¬(k0_cond2 v140 = 1#1)), ∀ a x, ((![v287, v299] : Fin 2 → IVec S16 32) a x).toNat < S256x128.size a) ∧
  (∀ (k0_h2 : ¬(k0_cond2 v140 = 1#1)), ∀ a x, ((![v287, v299] : Fin 2 → IVec S16 32) a x).toNat < S256x128.size a)
theorem k0_idx30_inb : ∀ (v140 : BitVec 32) (v287 : IVec S16 32) (v299 : IVec S16 32) (k0_hw17 : k0_chk17 v140 v287 v299), ∀ (k0_h2 : ¬(k0_cond2 v140 = 1#1)), ∀ a x, ((![v287, v299] : Fin 2 → IVec S16 32) a x).toNat < S256x128.size a := fun v140 v287 v299 k0_hw17 k0_h2 => k0_hw17.1 k0_h2
theorem k0_idx31_inb : ∀ (v140 : BitVec 32) (v287 : IVec S16 32) (v299 : IVec S16 32) (k0_hw17 : k0_chk17 v140 v287 v299), ∀ (k0_h2 : ¬(k0_cond2 v140 = 1#1)), ∀ a x, ((![v287, v299] : Fin 2 → IVec S16 32) a x).toNat < S256x128.size a := fun v140 v287 v299 k0_hw17 k0_h2 => k0_hw17.2 k0_h2

def k0_chk18 (v140 : BitVec 32) (v287 : IVec S16 32) (v301 : IVec S16 32) : Prop :=
  (∀ (k0_h2 : ¬(k0_cond2 v140 = 1#1)), ∀ a x, ((![v287, v301] : Fin 2 → IVec S16 32) a x).toNat < S256x128.size a) ∧
  (∀ (k0_h2 : ¬(k0_cond2 v140 = 1#1)), ∀ a x, ((![v287, v301] : Fin 2 → IVec S16 32) a x).toNat < S256x128.size a)
theorem k0_idx32_inb : ∀ (v140 : BitVec 32) (v287 : IVec S16 32) (v301 : IVec S16 32) (k0_hw18 : k0_chk18 v140 v287 v301), ∀ (k0_h2 : ¬(k0_cond2 v140 = 1#1)), ∀ a x, ((![v287, v301] : Fin 2 → IVec S16 32) a x).toNat < S256x128.size a := fun v140 v287 v301 k0_hw18 k0_h2 => k0_hw18.1 k0_h2
theorem k0_idx33_inb : ∀ (v140 : BitVec 32) (v287 : IVec S16 32) (v301 : IVec S16 32) (k0_hw18 : k0_chk18 v140 v287 v301), ∀ (k0_h2 : ¬(k0_cond2 v140 = 1#1)), ∀ a x, ((![v287, v301] : Fin 2 → IVec S16 32) a x).toNat < S256x128.size a := fun v140 v287 v301 k0_hw18 k0_h2 => k0_hw18.2 k0_h2

def k0_chk19 (v140 : BitVec 32) (v287 : IVec S16 32) (v303 : IVec S16 32) : Prop :=
  (∀ (k0_h2 : ¬(k0_cond2 v140 = 1#1)), ∀ a x, ((![v287, v303] : Fin 2 → IVec S16 32) a x).toNat < S256x128.size a) ∧
  (∀ (k0_h2 : ¬(k0_cond2 v140 = 1#1)), ∀ a x, ((![v287, v303] : Fin 2 → IVec S16 32) a x).toNat < S256x128.size a)
theorem k0_idx34_inb : ∀ (v140 : BitVec 32) (v287 : IVec S16 32) (v303 : IVec S16 32) (k0_hw19 : k0_chk19 v140 v287 v303), ∀ (k0_h2 : ¬(k0_cond2 v140 = 1#1)), ∀ a x, ((![v287, v303] : Fin 2 → IVec S16 32) a x).toNat < S256x128.size a := fun v140 v287 v303 k0_hw19 k0_h2 => k0_hw19.1 k0_h2
theorem k0_idx35_inb : ∀ (v140 : BitVec 32) (v287 : IVec S16 32) (v303 : IVec S16 32) (k0_hw19 : k0_chk19 v140 v287 v303), ∀ (k0_h2 : ¬(k0_cond2 v140 = 1#1)), ∀ a x, ((![v287, v303] : Fin 2 → IVec S16 32) a x).toNat < S256x128.size a := fun v140 v287 v303 k0_hw19 k0_h2 => k0_hw19.2 k0_h2

def k0_chk20 (v2 : IVec S16 32) (v140 : BitVec 32) (v287 : IVec S16 32) : Prop :=
  (∀ (k0_h2 : ¬(k0_cond2 v140 = 1#1)), ∀ a x, ((![v287, v2] : Fin 2 → IVec S16 32) a x).toNat < S256x16.size a)
theorem k0_idx36_inb : ∀ (v2 : IVec S16 32) (v140 : BitVec 32) (v287 : IVec S16 32) (k0_hw20 : k0_chk20 v2 v140 v287), ∀ (k0_h2 : ¬(k0_cond2 v140 = 1#1)), ∀ a x, ((![v287, v2] : Fin 2 → IVec S16 32) a x).toNat < S256x16.size a := fun v2 v140 v287 k0_hw20 k0_h2 => k0_hw20 k0_h2

def k0_chk21 (v140 : BitVec 32) (v348 : IVec S16 32) : Prop :=
  (∀ (k0_h2 : ¬(k0_cond2 v140 = 1#1)), ∀ a x, ((![v348] : Fin 1 → IVec S16 32) a x).toNat < S3136.size a)
theorem k0_idx37_inb : ∀ (v140 : BitVec 32) (v348 : IVec S16 32) (k0_hw21 : k0_chk21 v140 v348), ∀ (k0_h2 : ¬(k0_cond2 v140 = 1#1)), ∀ a x, ((![v348] : Fin 1 → IVec S16 32) a x).toNat < S3136.size a := fun v140 v348 k0_hw21 k0_h2 => k0_hw21 k0_h2
def k0_off35 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v351 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c2_i32_122 : BitVec 32 := 2#32
  let v350 : BitVec 32 := Scalar.addi v126 c2_i32_122
  let v352 : Index := Scalar.indexCast v350
  let c0_123 : Index := 0#32
  ![v351.toNat, v352.toNat, 0]
def k0_off36 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v355 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c2_i32_124 : BitVec 32 := 2#32
  let v354 : BitVec 32 := Scalar.addi v126 c2_i32_124
  let v356 : Index := Scalar.indexCast v354
  let c16_125 : Index := 16#32
  ![v355.toNat, v356.toNat, 16]
def k0_off37 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v359 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c2_i32_126 : BitVec 32 := 2#32
  let v358 : BitVec 32 := Scalar.addi v126 c2_i32_126
  let v360 : Index := Scalar.indexCast v358
  let c32_127 : Index := 32#32
  ![v359.toNat, v360.toNat, 32]
def k0_off38 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v363 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c2_i32_128 : BitVec 32 := 2#32
  let v362 : BitVec 32 := Scalar.addi v126 c2_i32_128
  let v364 : Index := Scalar.indexCast v362
  let c48_129 : Index := 48#32
  ![v363.toNat, v364.toNat, 48]
def k0_off39 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v367 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c2_i32_130 : BitVec 32 := 2#32
  let v366 : BitVec 32 := Scalar.addi v126 c2_i32_130
  let v368 : Index := Scalar.indexCast v366
  let c64_131 : Index := 64#32
  ![v367.toNat, v368.toNat, 64]
def k0_off40 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v371 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c2_i32_132 : BitVec 32 := 2#32
  let v370 : BitVec 32 := Scalar.addi v126 c2_i32_132
  let v372 : Index := Scalar.indexCast v370
  let c80_133 : Index := 80#32
  ![v371.toNat, v372.toNat, 80]
def k0_off41 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v375 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c2_i32_134 : BitVec 32 := 2#32
  let v374 : BitVec 32 := Scalar.addi v126 c2_i32_134
  let v376 : Index := Scalar.indexCast v374
  let c96_135 : Index := 96#32
  ![v375.toNat, v376.toNat, 96]
def k0_off42 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v379 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c2_i32_136 : BitVec 32 := 2#32
  let v378 : BitVec 32 := Scalar.addi v126 c2_i32_136
  let v380 : Index := Scalar.indexCast v378
  let c112_137 : Index := 112#32
  ![v379.toNat, v380.toNat, 112]

def k0_chk22 (v140 : BitVec 32) (v388 : IVec S16 32) (v390 : IVec S16 32) : Prop :=
  (∀ (k0_h2 : ¬(k0_cond2 v140 = 1#1)), ∀ a x, ((![v388, v390] : Fin 2 → IVec S16 32) a x).toNat < S256x128.size a) ∧
  (∀ (k0_h2 : ¬(k0_cond2 v140 = 1#1)), ∀ a x, ((![v388, v390] : Fin 2 → IVec S16 32) a x).toNat < S256x128.size a)
theorem k0_idx38_inb : ∀ (v140 : BitVec 32) (v388 : IVec S16 32) (v390 : IVec S16 32) (k0_hw22 : k0_chk22 v140 v388 v390), ∀ (k0_h2 : ¬(k0_cond2 v140 = 1#1)), ∀ a x, ((![v388, v390] : Fin 2 → IVec S16 32) a x).toNat < S256x128.size a := fun v140 v388 v390 k0_hw22 k0_h2 => k0_hw22.1 k0_h2
theorem k0_idx39_inb : ∀ (v140 : BitVec 32) (v388 : IVec S16 32) (v390 : IVec S16 32) (k0_hw22 : k0_chk22 v140 v388 v390), ∀ (k0_h2 : ¬(k0_cond2 v140 = 1#1)), ∀ a x, ((![v388, v390] : Fin 2 → IVec S16 32) a x).toNat < S256x128.size a := fun v140 v388 v390 k0_hw22 k0_h2 => k0_hw22.2 k0_h2

def k0_chk23 (v140 : BitVec 32) (v388 : IVec S16 32) (v392 : IVec S16 32) : Prop :=
  (∀ (k0_h2 : ¬(k0_cond2 v140 = 1#1)), ∀ a x, ((![v388, v392] : Fin 2 → IVec S16 32) a x).toNat < S256x128.size a) ∧
  (∀ (k0_h2 : ¬(k0_cond2 v140 = 1#1)), ∀ a x, ((![v388, v392] : Fin 2 → IVec S16 32) a x).toNat < S256x128.size a)
theorem k0_idx40_inb : ∀ (v140 : BitVec 32) (v388 : IVec S16 32) (v392 : IVec S16 32) (k0_hw23 : k0_chk23 v140 v388 v392), ∀ (k0_h2 : ¬(k0_cond2 v140 = 1#1)), ∀ a x, ((![v388, v392] : Fin 2 → IVec S16 32) a x).toNat < S256x128.size a := fun v140 v388 v392 k0_hw23 k0_h2 => k0_hw23.1 k0_h2
theorem k0_idx41_inb : ∀ (v140 : BitVec 32) (v388 : IVec S16 32) (v392 : IVec S16 32) (k0_hw23 : k0_chk23 v140 v388 v392), ∀ (k0_h2 : ¬(k0_cond2 v140 = 1#1)), ∀ a x, ((![v388, v392] : Fin 2 → IVec S16 32) a x).toNat < S256x128.size a := fun v140 v388 v392 k0_hw23 k0_h2 => k0_hw23.2 k0_h2

def k0_chk24 (v140 : BitVec 32) (v388 : IVec S16 32) (v394 : IVec S16 32) : Prop :=
  (∀ (k0_h2 : ¬(k0_cond2 v140 = 1#1)), ∀ a x, ((![v388, v394] : Fin 2 → IVec S16 32) a x).toNat < S256x128.size a) ∧
  (∀ (k0_h2 : ¬(k0_cond2 v140 = 1#1)), ∀ a x, ((![v388, v394] : Fin 2 → IVec S16 32) a x).toNat < S256x128.size a)
theorem k0_idx42_inb : ∀ (v140 : BitVec 32) (v388 : IVec S16 32) (v394 : IVec S16 32) (k0_hw24 : k0_chk24 v140 v388 v394), ∀ (k0_h2 : ¬(k0_cond2 v140 = 1#1)), ∀ a x, ((![v388, v394] : Fin 2 → IVec S16 32) a x).toNat < S256x128.size a := fun v140 v388 v394 k0_hw24 k0_h2 => k0_hw24.1 k0_h2
theorem k0_idx43_inb : ∀ (v140 : BitVec 32) (v388 : IVec S16 32) (v394 : IVec S16 32) (k0_hw24 : k0_chk24 v140 v388 v394), ∀ (k0_h2 : ¬(k0_cond2 v140 = 1#1)), ∀ a x, ((![v388, v394] : Fin 2 → IVec S16 32) a x).toNat < S256x128.size a := fun v140 v388 v394 k0_hw24 k0_h2 => k0_hw24.2 k0_h2

def k0_chk25 (v140 : BitVec 32) (v388 : IVec S16 32) (v396 : IVec S16 32) : Prop :=
  (∀ (k0_h2 : ¬(k0_cond2 v140 = 1#1)), ∀ a x, ((![v388, v396] : Fin 2 → IVec S16 32) a x).toNat < S256x128.size a) ∧
  (∀ (k0_h2 : ¬(k0_cond2 v140 = 1#1)), ∀ a x, ((![v388, v396] : Fin 2 → IVec S16 32) a x).toNat < S256x128.size a)
theorem k0_idx44_inb : ∀ (v140 : BitVec 32) (v388 : IVec S16 32) (v396 : IVec S16 32) (k0_hw25 : k0_chk25 v140 v388 v396), ∀ (k0_h2 : ¬(k0_cond2 v140 = 1#1)), ∀ a x, ((![v388, v396] : Fin 2 → IVec S16 32) a x).toNat < S256x128.size a := fun v140 v388 v396 k0_hw25 k0_h2 => k0_hw25.1 k0_h2
theorem k0_idx45_inb : ∀ (v140 : BitVec 32) (v388 : IVec S16 32) (v396 : IVec S16 32) (k0_hw25 : k0_chk25 v140 v388 v396), ∀ (k0_h2 : ¬(k0_cond2 v140 = 1#1)), ∀ a x, ((![v388, v396] : Fin 2 → IVec S16 32) a x).toNat < S256x128.size a := fun v140 v388 v396 k0_hw25 k0_h2 => k0_hw25.2 k0_h2

def k0_chk26 (v140 : BitVec 32) (v388 : IVec S16 32) (v398 : IVec S16 32) : Prop :=
  (∀ (k0_h2 : ¬(k0_cond2 v140 = 1#1)), ∀ a x, ((![v388, v398] : Fin 2 → IVec S16 32) a x).toNat < S256x128.size a) ∧
  (∀ (k0_h2 : ¬(k0_cond2 v140 = 1#1)), ∀ a x, ((![v388, v398] : Fin 2 → IVec S16 32) a x).toNat < S256x128.size a)
theorem k0_idx46_inb : ∀ (v140 : BitVec 32) (v388 : IVec S16 32) (v398 : IVec S16 32) (k0_hw26 : k0_chk26 v140 v388 v398), ∀ (k0_h2 : ¬(k0_cond2 v140 = 1#1)), ∀ a x, ((![v388, v398] : Fin 2 → IVec S16 32) a x).toNat < S256x128.size a := fun v140 v388 v398 k0_hw26 k0_h2 => k0_hw26.1 k0_h2
theorem k0_idx47_inb : ∀ (v140 : BitVec 32) (v388 : IVec S16 32) (v398 : IVec S16 32) (k0_hw26 : k0_chk26 v140 v388 v398), ∀ (k0_h2 : ¬(k0_cond2 v140 = 1#1)), ∀ a x, ((![v388, v398] : Fin 2 → IVec S16 32) a x).toNat < S256x128.size a := fun v140 v388 v398 k0_hw26 k0_h2 => k0_hw26.2 k0_h2

def k0_chk27 (v140 : BitVec 32) (v388 : IVec S16 32) (v400 : IVec S16 32) : Prop :=
  (∀ (k0_h2 : ¬(k0_cond2 v140 = 1#1)), ∀ a x, ((![v388, v400] : Fin 2 → IVec S16 32) a x).toNat < S256x128.size a) ∧
  (∀ (k0_h2 : ¬(k0_cond2 v140 = 1#1)), ∀ a x, ((![v388, v400] : Fin 2 → IVec S16 32) a x).toNat < S256x128.size a)
theorem k0_idx48_inb : ∀ (v140 : BitVec 32) (v388 : IVec S16 32) (v400 : IVec S16 32) (k0_hw27 : k0_chk27 v140 v388 v400), ∀ (k0_h2 : ¬(k0_cond2 v140 = 1#1)), ∀ a x, ((![v388, v400] : Fin 2 → IVec S16 32) a x).toNat < S256x128.size a := fun v140 v388 v400 k0_hw27 k0_h2 => k0_hw27.1 k0_h2
theorem k0_idx49_inb : ∀ (v140 : BitVec 32) (v388 : IVec S16 32) (v400 : IVec S16 32) (k0_hw27 : k0_chk27 v140 v388 v400), ∀ (k0_h2 : ¬(k0_cond2 v140 = 1#1)), ∀ a x, ((![v388, v400] : Fin 2 → IVec S16 32) a x).toNat < S256x128.size a := fun v140 v388 v400 k0_hw27 k0_h2 => k0_hw27.2 k0_h2

def k0_chk28 (v140 : BitVec 32) (v388 : IVec S16 32) (v402 : IVec S16 32) : Prop :=
  (∀ (k0_h2 : ¬(k0_cond2 v140 = 1#1)), ∀ a x, ((![v388, v402] : Fin 2 → IVec S16 32) a x).toNat < S256x128.size a) ∧
  (∀ (k0_h2 : ¬(k0_cond2 v140 = 1#1)), ∀ a x, ((![v388, v402] : Fin 2 → IVec S16 32) a x).toNat < S256x128.size a)
theorem k0_idx50_inb : ∀ (v140 : BitVec 32) (v388 : IVec S16 32) (v402 : IVec S16 32) (k0_hw28 : k0_chk28 v140 v388 v402), ∀ (k0_h2 : ¬(k0_cond2 v140 = 1#1)), ∀ a x, ((![v388, v402] : Fin 2 → IVec S16 32) a x).toNat < S256x128.size a := fun v140 v388 v402 k0_hw28 k0_h2 => k0_hw28.1 k0_h2
theorem k0_idx51_inb : ∀ (v140 : BitVec 32) (v388 : IVec S16 32) (v402 : IVec S16 32) (k0_hw28 : k0_chk28 v140 v388 v402), ∀ (k0_h2 : ¬(k0_cond2 v140 = 1#1)), ∀ a x, ((![v388, v402] : Fin 2 → IVec S16 32) a x).toNat < S256x128.size a := fun v140 v388 v402 k0_hw28 k0_h2 => k0_hw28.2 k0_h2

def k0_chk29 (v140 : BitVec 32) (v388 : IVec S16 32) (v404 : IVec S16 32) : Prop :=
  (∀ (k0_h2 : ¬(k0_cond2 v140 = 1#1)), ∀ a x, ((![v388, v404] : Fin 2 → IVec S16 32) a x).toNat < S256x128.size a) ∧
  (∀ (k0_h2 : ¬(k0_cond2 v140 = 1#1)), ∀ a x, ((![v388, v404] : Fin 2 → IVec S16 32) a x).toNat < S256x128.size a)
theorem k0_idx52_inb : ∀ (v140 : BitVec 32) (v388 : IVec S16 32) (v404 : IVec S16 32) (k0_hw29 : k0_chk29 v140 v388 v404), ∀ (k0_h2 : ¬(k0_cond2 v140 = 1#1)), ∀ a x, ((![v388, v404] : Fin 2 → IVec S16 32) a x).toNat < S256x128.size a := fun v140 v388 v404 k0_hw29 k0_h2 => k0_hw29.1 k0_h2
theorem k0_idx53_inb : ∀ (v140 : BitVec 32) (v388 : IVec S16 32) (v404 : IVec S16 32) (k0_hw29 : k0_chk29 v140 v388 v404), ∀ (k0_h2 : ¬(k0_cond2 v140 = 1#1)), ∀ a x, ((![v388, v404] : Fin 2 → IVec S16 32) a x).toNat < S256x128.size a := fun v140 v388 v404 k0_hw29 k0_h2 => k0_hw29.2 k0_h2

def k0_chk30 (v2 : IVec S16 32) (v140 : BitVec 32) (v388 : IVec S16 32) : Prop :=
  (∀ (k0_h2 : ¬(k0_cond2 v140 = 1#1)), ∀ a x, ((![v388, v2] : Fin 2 → IVec S16 32) a x).toNat < S256x16.size a)
theorem k0_idx54_inb : ∀ (v2 : IVec S16 32) (v140 : BitVec 32) (v388 : IVec S16 32) (k0_hw30 : k0_chk30 v2 v140 v388), ∀ (k0_h2 : ¬(k0_cond2 v140 = 1#1)), ∀ a x, ((![v388, v2] : Fin 2 → IVec S16 32) a x).toNat < S256x16.size a := fun v2 v140 v388 k0_hw30 k0_h2 => k0_hw30 k0_h2

def k0_chk31 (v140 : BitVec 32) (v449 : IVec S16 32) : Prop :=
  (∀ (k0_h2 : ¬(k0_cond2 v140 = 1#1)), ∀ a x, ((![v449] : Fin 1 → IVec S16 32) a x).toNat < S3136.size a)
theorem k0_idx55_inb : ∀ (v140 : BitVec 32) (v449 : IVec S16 32) (k0_hw31 : k0_chk31 v140 v449), ∀ (k0_h2 : ¬(k0_cond2 v140 = 1#1)), ∀ a x, ((![v449] : Fin 1 → IVec S16 32) a x).toNat < S3136.size a := fun v140 v449 k0_hw31 k0_h2 => k0_hw31 k0_h2
def k0_off43 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v452 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c3_i32_152 : BitVec 32 := 3#32
  let v451 : BitVec 32 := Scalar.addi v126 c3_i32_152
  let v453 : Index := Scalar.indexCast v451
  let c0_153 : Index := 0#32
  ![v452.toNat, v453.toNat, 0]
def k0_off44 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v456 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c3_i32_154 : BitVec 32 := 3#32
  let v455 : BitVec 32 := Scalar.addi v126 c3_i32_154
  let v457 : Index := Scalar.indexCast v455
  let c16_155 : Index := 16#32
  ![v456.toNat, v457.toNat, 16]
def k0_off45 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v460 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c3_i32_156 : BitVec 32 := 3#32
  let v459 : BitVec 32 := Scalar.addi v126 c3_i32_156
  let v461 : Index := Scalar.indexCast v459
  let c32_157 : Index := 32#32
  ![v460.toNat, v461.toNat, 32]
def k0_off46 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v464 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c3_i32_158 : BitVec 32 := 3#32
  let v463 : BitVec 32 := Scalar.addi v126 c3_i32_158
  let v465 : Index := Scalar.indexCast v463
  let c48_159 : Index := 48#32
  ![v464.toNat, v465.toNat, 48]
def k0_off47 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v468 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c3_i32_160 : BitVec 32 := 3#32
  let v467 : BitVec 32 := Scalar.addi v126 c3_i32_160
  let v469 : Index := Scalar.indexCast v467
  let c64_161 : Index := 64#32
  ![v468.toNat, v469.toNat, 64]
def k0_off48 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v472 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c3_i32_162 : BitVec 32 := 3#32
  let v471 : BitVec 32 := Scalar.addi v126 c3_i32_162
  let v473 : Index := Scalar.indexCast v471
  let c80_163 : Index := 80#32
  ![v472.toNat, v473.toNat, 80]
def k0_off49 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v476 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c3_i32_164 : BitVec 32 := 3#32
  let v475 : BitVec 32 := Scalar.addi v126 c3_i32_164
  let v477 : Index := Scalar.indexCast v475
  let c96_165 : Index := 96#32
  ![v476.toNat, v477.toNat, 96]
def k0_off50 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v480 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c3_i32_166 : BitVec 32 := 3#32
  let v479 : BitVec 32 := Scalar.addi v126 c3_i32_166
  let v481 : Index := Scalar.indexCast v479
  let c112_167 : Index := 112#32
  ![v480.toNat, v481.toNat, 112]

def k0_chk32 (v140 : BitVec 32) (v489 : IVec S16 32) (v491 : IVec S16 32) : Prop :=
  (∀ (k0_h2 : ¬(k0_cond2 v140 = 1#1)), ∀ a x, ((![v489, v491] : Fin 2 → IVec S16 32) a x).toNat < S256x128.size a) ∧
  (∀ (k0_h2 : ¬(k0_cond2 v140 = 1#1)), ∀ a x, ((![v489, v491] : Fin 2 → IVec S16 32) a x).toNat < S256x128.size a)
theorem k0_idx56_inb : ∀ (v140 : BitVec 32) (v489 : IVec S16 32) (v491 : IVec S16 32) (k0_hw32 : k0_chk32 v140 v489 v491), ∀ (k0_h2 : ¬(k0_cond2 v140 = 1#1)), ∀ a x, ((![v489, v491] : Fin 2 → IVec S16 32) a x).toNat < S256x128.size a := fun v140 v489 v491 k0_hw32 k0_h2 => k0_hw32.1 k0_h2
theorem k0_idx57_inb : ∀ (v140 : BitVec 32) (v489 : IVec S16 32) (v491 : IVec S16 32) (k0_hw32 : k0_chk32 v140 v489 v491), ∀ (k0_h2 : ¬(k0_cond2 v140 = 1#1)), ∀ a x, ((![v489, v491] : Fin 2 → IVec S16 32) a x).toNat < S256x128.size a := fun v140 v489 v491 k0_hw32 k0_h2 => k0_hw32.2 k0_h2

def k0_chk33 (v140 : BitVec 32) (v489 : IVec S16 32) (v493 : IVec S16 32) : Prop :=
  (∀ (k0_h2 : ¬(k0_cond2 v140 = 1#1)), ∀ a x, ((![v489, v493] : Fin 2 → IVec S16 32) a x).toNat < S256x128.size a) ∧
  (∀ (k0_h2 : ¬(k0_cond2 v140 = 1#1)), ∀ a x, ((![v489, v493] : Fin 2 → IVec S16 32) a x).toNat < S256x128.size a)
theorem k0_idx58_inb : ∀ (v140 : BitVec 32) (v489 : IVec S16 32) (v493 : IVec S16 32) (k0_hw33 : k0_chk33 v140 v489 v493), ∀ (k0_h2 : ¬(k0_cond2 v140 = 1#1)), ∀ a x, ((![v489, v493] : Fin 2 → IVec S16 32) a x).toNat < S256x128.size a := fun v140 v489 v493 k0_hw33 k0_h2 => k0_hw33.1 k0_h2
theorem k0_idx59_inb : ∀ (v140 : BitVec 32) (v489 : IVec S16 32) (v493 : IVec S16 32) (k0_hw33 : k0_chk33 v140 v489 v493), ∀ (k0_h2 : ¬(k0_cond2 v140 = 1#1)), ∀ a x, ((![v489, v493] : Fin 2 → IVec S16 32) a x).toNat < S256x128.size a := fun v140 v489 v493 k0_hw33 k0_h2 => k0_hw33.2 k0_h2

def k0_chk34 (v140 : BitVec 32) (v489 : IVec S16 32) (v495 : IVec S16 32) : Prop :=
  (∀ (k0_h2 : ¬(k0_cond2 v140 = 1#1)), ∀ a x, ((![v489, v495] : Fin 2 → IVec S16 32) a x).toNat < S256x128.size a) ∧
  (∀ (k0_h2 : ¬(k0_cond2 v140 = 1#1)), ∀ a x, ((![v489, v495] : Fin 2 → IVec S16 32) a x).toNat < S256x128.size a)
theorem k0_idx60_inb : ∀ (v140 : BitVec 32) (v489 : IVec S16 32) (v495 : IVec S16 32) (k0_hw34 : k0_chk34 v140 v489 v495), ∀ (k0_h2 : ¬(k0_cond2 v140 = 1#1)), ∀ a x, ((![v489, v495] : Fin 2 → IVec S16 32) a x).toNat < S256x128.size a := fun v140 v489 v495 k0_hw34 k0_h2 => k0_hw34.1 k0_h2
theorem k0_idx61_inb : ∀ (v140 : BitVec 32) (v489 : IVec S16 32) (v495 : IVec S16 32) (k0_hw34 : k0_chk34 v140 v489 v495), ∀ (k0_h2 : ¬(k0_cond2 v140 = 1#1)), ∀ a x, ((![v489, v495] : Fin 2 → IVec S16 32) a x).toNat < S256x128.size a := fun v140 v489 v495 k0_hw34 k0_h2 => k0_hw34.2 k0_h2

def k0_chk35 (v140 : BitVec 32) (v489 : IVec S16 32) (v497 : IVec S16 32) : Prop :=
  (∀ (k0_h2 : ¬(k0_cond2 v140 = 1#1)), ∀ a x, ((![v489, v497] : Fin 2 → IVec S16 32) a x).toNat < S256x128.size a) ∧
  (∀ (k0_h2 : ¬(k0_cond2 v140 = 1#1)), ∀ a x, ((![v489, v497] : Fin 2 → IVec S16 32) a x).toNat < S256x128.size a)
theorem k0_idx62_inb : ∀ (v140 : BitVec 32) (v489 : IVec S16 32) (v497 : IVec S16 32) (k0_hw35 : k0_chk35 v140 v489 v497), ∀ (k0_h2 : ¬(k0_cond2 v140 = 1#1)), ∀ a x, ((![v489, v497] : Fin 2 → IVec S16 32) a x).toNat < S256x128.size a := fun v140 v489 v497 k0_hw35 k0_h2 => k0_hw35.1 k0_h2
theorem k0_idx63_inb : ∀ (v140 : BitVec 32) (v489 : IVec S16 32) (v497 : IVec S16 32) (k0_hw35 : k0_chk35 v140 v489 v497), ∀ (k0_h2 : ¬(k0_cond2 v140 = 1#1)), ∀ a x, ((![v489, v497] : Fin 2 → IVec S16 32) a x).toNat < S256x128.size a := fun v140 v489 v497 k0_hw35 k0_h2 => k0_hw35.2 k0_h2

def k0_chk36 (v140 : BitVec 32) (v489 : IVec S16 32) (v499 : IVec S16 32) : Prop :=
  (∀ (k0_h2 : ¬(k0_cond2 v140 = 1#1)), ∀ a x, ((![v489, v499] : Fin 2 → IVec S16 32) a x).toNat < S256x128.size a) ∧
  (∀ (k0_h2 : ¬(k0_cond2 v140 = 1#1)), ∀ a x, ((![v489, v499] : Fin 2 → IVec S16 32) a x).toNat < S256x128.size a)
theorem k0_idx64_inb : ∀ (v140 : BitVec 32) (v489 : IVec S16 32) (v499 : IVec S16 32) (k0_hw36 : k0_chk36 v140 v489 v499), ∀ (k0_h2 : ¬(k0_cond2 v140 = 1#1)), ∀ a x, ((![v489, v499] : Fin 2 → IVec S16 32) a x).toNat < S256x128.size a := fun v140 v489 v499 k0_hw36 k0_h2 => k0_hw36.1 k0_h2
theorem k0_idx65_inb : ∀ (v140 : BitVec 32) (v489 : IVec S16 32) (v499 : IVec S16 32) (k0_hw36 : k0_chk36 v140 v489 v499), ∀ (k0_h2 : ¬(k0_cond2 v140 = 1#1)), ∀ a x, ((![v489, v499] : Fin 2 → IVec S16 32) a x).toNat < S256x128.size a := fun v140 v489 v499 k0_hw36 k0_h2 => k0_hw36.2 k0_h2

def k0_chk37 (v140 : BitVec 32) (v489 : IVec S16 32) (v501 : IVec S16 32) : Prop :=
  (∀ (k0_h2 : ¬(k0_cond2 v140 = 1#1)), ∀ a x, ((![v489, v501] : Fin 2 → IVec S16 32) a x).toNat < S256x128.size a) ∧
  (∀ (k0_h2 : ¬(k0_cond2 v140 = 1#1)), ∀ a x, ((![v489, v501] : Fin 2 → IVec S16 32) a x).toNat < S256x128.size a)
theorem k0_idx66_inb : ∀ (v140 : BitVec 32) (v489 : IVec S16 32) (v501 : IVec S16 32) (k0_hw37 : k0_chk37 v140 v489 v501), ∀ (k0_h2 : ¬(k0_cond2 v140 = 1#1)), ∀ a x, ((![v489, v501] : Fin 2 → IVec S16 32) a x).toNat < S256x128.size a := fun v140 v489 v501 k0_hw37 k0_h2 => k0_hw37.1 k0_h2
theorem k0_idx67_inb : ∀ (v140 : BitVec 32) (v489 : IVec S16 32) (v501 : IVec S16 32) (k0_hw37 : k0_chk37 v140 v489 v501), ∀ (k0_h2 : ¬(k0_cond2 v140 = 1#1)), ∀ a x, ((![v489, v501] : Fin 2 → IVec S16 32) a x).toNat < S256x128.size a := fun v140 v489 v501 k0_hw37 k0_h2 => k0_hw37.2 k0_h2

def k0_chk38 (v140 : BitVec 32) (v489 : IVec S16 32) (v503 : IVec S16 32) : Prop :=
  (∀ (k0_h2 : ¬(k0_cond2 v140 = 1#1)), ∀ a x, ((![v489, v503] : Fin 2 → IVec S16 32) a x).toNat < S256x128.size a) ∧
  (∀ (k0_h2 : ¬(k0_cond2 v140 = 1#1)), ∀ a x, ((![v489, v503] : Fin 2 → IVec S16 32) a x).toNat < S256x128.size a)
theorem k0_idx68_inb : ∀ (v140 : BitVec 32) (v489 : IVec S16 32) (v503 : IVec S16 32) (k0_hw38 : k0_chk38 v140 v489 v503), ∀ (k0_h2 : ¬(k0_cond2 v140 = 1#1)), ∀ a x, ((![v489, v503] : Fin 2 → IVec S16 32) a x).toNat < S256x128.size a := fun v140 v489 v503 k0_hw38 k0_h2 => k0_hw38.1 k0_h2
theorem k0_idx69_inb : ∀ (v140 : BitVec 32) (v489 : IVec S16 32) (v503 : IVec S16 32) (k0_hw38 : k0_chk38 v140 v489 v503), ∀ (k0_h2 : ¬(k0_cond2 v140 = 1#1)), ∀ a x, ((![v489, v503] : Fin 2 → IVec S16 32) a x).toNat < S256x128.size a := fun v140 v489 v503 k0_hw38 k0_h2 => k0_hw38.2 k0_h2

def k0_chk39 (v140 : BitVec 32) (v489 : IVec S16 32) (v505 : IVec S16 32) : Prop :=
  (∀ (k0_h2 : ¬(k0_cond2 v140 = 1#1)), ∀ a x, ((![v489, v505] : Fin 2 → IVec S16 32) a x).toNat < S256x128.size a) ∧
  (∀ (k0_h2 : ¬(k0_cond2 v140 = 1#1)), ∀ a x, ((![v489, v505] : Fin 2 → IVec S16 32) a x).toNat < S256x128.size a)
theorem k0_idx70_inb : ∀ (v140 : BitVec 32) (v489 : IVec S16 32) (v505 : IVec S16 32) (k0_hw39 : k0_chk39 v140 v489 v505), ∀ (k0_h2 : ¬(k0_cond2 v140 = 1#1)), ∀ a x, ((![v489, v505] : Fin 2 → IVec S16 32) a x).toNat < S256x128.size a := fun v140 v489 v505 k0_hw39 k0_h2 => k0_hw39.1 k0_h2
theorem k0_idx71_inb : ∀ (v140 : BitVec 32) (v489 : IVec S16 32) (v505 : IVec S16 32) (k0_hw39 : k0_chk39 v140 v489 v505), ∀ (k0_h2 : ¬(k0_cond2 v140 = 1#1)), ∀ a x, ((![v489, v505] : Fin 2 → IVec S16 32) a x).toNat < S256x128.size a := fun v140 v489 v505 k0_hw39 k0_h2 => k0_hw39.2 k0_h2

def k0_chk40 (v2 : IVec S16 32) (v140 : BitVec 32) (v489 : IVec S16 32) : Prop :=
  (∀ (k0_h2 : ¬(k0_cond2 v140 = 1#1)), ∀ a x, ((![v489, v2] : Fin 2 → IVec S16 32) a x).toNat < S256x16.size a)
theorem k0_idx72_inb : ∀ (v2 : IVec S16 32) (v140 : BitVec 32) (v489 : IVec S16 32) (k0_hw40 : k0_chk40 v2 v140 v489), ∀ (k0_h2 : ¬(k0_cond2 v140 = 1#1)), ∀ a x, ((![v489, v2] : Fin 2 → IVec S16 32) a x).toNat < S256x16.size a := fun v2 v140 v489 k0_hw40 k0_h2 => k0_hw40 k0_h2

def k0_chk41 (v140 : BitVec 32) (v550 : IVec S16 32) : Prop :=
  (∀ (k0_h2 : ¬(k0_cond2 v140 = 1#1)), ∀ a x, ((![v550] : Fin 1 → IVec S16 32) a x).toNat < S3136.size a)
theorem k0_idx73_inb : ∀ (v140 : BitVec 32) (v550 : IVec S16 32) (k0_hw41 : k0_chk41 v140 v550), ∀ (k0_h2 : ¬(k0_cond2 v140 = 1#1)), ∀ a x, ((![v550] : Fin 1 → IVec S16 32) a x).toNat < S3136.size a := fun v140 v550 k0_hw41 k0_h2 => k0_hw41 k0_h2
def k0_off51 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v553 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c4_i32_182 : BitVec 32 := 4#32
  let v552 : BitVec 32 := Scalar.addi v126 c4_i32_182
  let v554 : Index := Scalar.indexCast v552
  let c0_183 : Index := 0#32
  ![v553.toNat, v554.toNat, 0]
def k0_off52 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v557 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c4_i32_184 : BitVec 32 := 4#32
  let v556 : BitVec 32 := Scalar.addi v126 c4_i32_184
  let v558 : Index := Scalar.indexCast v556
  let c16_185 : Index := 16#32
  ![v557.toNat, v558.toNat, 16]
def k0_off53 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v561 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c4_i32_186 : BitVec 32 := 4#32
  let v560 : BitVec 32 := Scalar.addi v126 c4_i32_186
  let v562 : Index := Scalar.indexCast v560
  let c32_187 : Index := 32#32
  ![v561.toNat, v562.toNat, 32]
def k0_off54 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v565 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c4_i32_188 : BitVec 32 := 4#32
  let v564 : BitVec 32 := Scalar.addi v126 c4_i32_188
  let v566 : Index := Scalar.indexCast v564
  let c48_189 : Index := 48#32
  ![v565.toNat, v566.toNat, 48]
def k0_off55 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v569 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c4_i32_190 : BitVec 32 := 4#32
  let v568 : BitVec 32 := Scalar.addi v126 c4_i32_190
  let v570 : Index := Scalar.indexCast v568
  let c64_191 : Index := 64#32
  ![v569.toNat, v570.toNat, 64]
def k0_off56 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v573 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c4_i32_192 : BitVec 32 := 4#32
  let v572 : BitVec 32 := Scalar.addi v126 c4_i32_192
  let v574 : Index := Scalar.indexCast v572
  let c80_193 : Index := 80#32
  ![v573.toNat, v574.toNat, 80]
def k0_off57 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v577 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c4_i32_194 : BitVec 32 := 4#32
  let v576 : BitVec 32 := Scalar.addi v126 c4_i32_194
  let v578 : Index := Scalar.indexCast v576
  let c96_195 : Index := 96#32
  ![v577.toNat, v578.toNat, 96]
def k0_off58 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v581 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c4_i32_196 : BitVec 32 := 4#32
  let v580 : BitVec 32 := Scalar.addi v126 c4_i32_196
  let v582 : Index := Scalar.indexCast v580
  let c112_197 : Index := 112#32
  ![v581.toNat, v582.toNat, 112]

def k0_chk42 (v140 : BitVec 32) (v590 : IVec S16 32) (v592 : IVec S16 32) : Prop :=
  (∀ (k0_h2 : ¬(k0_cond2 v140 = 1#1)), ∀ a x, ((![v590, v592] : Fin 2 → IVec S16 32) a x).toNat < S256x128.size a) ∧
  (∀ (k0_h2 : ¬(k0_cond2 v140 = 1#1)), ∀ a x, ((![v590, v592] : Fin 2 → IVec S16 32) a x).toNat < S256x128.size a)
theorem k0_idx74_inb : ∀ (v140 : BitVec 32) (v590 : IVec S16 32) (v592 : IVec S16 32) (k0_hw42 : k0_chk42 v140 v590 v592), ∀ (k0_h2 : ¬(k0_cond2 v140 = 1#1)), ∀ a x, ((![v590, v592] : Fin 2 → IVec S16 32) a x).toNat < S256x128.size a := fun v140 v590 v592 k0_hw42 k0_h2 => k0_hw42.1 k0_h2
theorem k0_idx75_inb : ∀ (v140 : BitVec 32) (v590 : IVec S16 32) (v592 : IVec S16 32) (k0_hw42 : k0_chk42 v140 v590 v592), ∀ (k0_h2 : ¬(k0_cond2 v140 = 1#1)), ∀ a x, ((![v590, v592] : Fin 2 → IVec S16 32) a x).toNat < S256x128.size a := fun v140 v590 v592 k0_hw42 k0_h2 => k0_hw42.2 k0_h2

def k0_chk43 (v140 : BitVec 32) (v590 : IVec S16 32) (v594 : IVec S16 32) : Prop :=
  (∀ (k0_h2 : ¬(k0_cond2 v140 = 1#1)), ∀ a x, ((![v590, v594] : Fin 2 → IVec S16 32) a x).toNat < S256x128.size a) ∧
  (∀ (k0_h2 : ¬(k0_cond2 v140 = 1#1)), ∀ a x, ((![v590, v594] : Fin 2 → IVec S16 32) a x).toNat < S256x128.size a)
theorem k0_idx76_inb : ∀ (v140 : BitVec 32) (v590 : IVec S16 32) (v594 : IVec S16 32) (k0_hw43 : k0_chk43 v140 v590 v594), ∀ (k0_h2 : ¬(k0_cond2 v140 = 1#1)), ∀ a x, ((![v590, v594] : Fin 2 → IVec S16 32) a x).toNat < S256x128.size a := fun v140 v590 v594 k0_hw43 k0_h2 => k0_hw43.1 k0_h2
theorem k0_idx77_inb : ∀ (v140 : BitVec 32) (v590 : IVec S16 32) (v594 : IVec S16 32) (k0_hw43 : k0_chk43 v140 v590 v594), ∀ (k0_h2 : ¬(k0_cond2 v140 = 1#1)), ∀ a x, ((![v590, v594] : Fin 2 → IVec S16 32) a x).toNat < S256x128.size a := fun v140 v590 v594 k0_hw43 k0_h2 => k0_hw43.2 k0_h2

def k0_chk44 (v140 : BitVec 32) (v590 : IVec S16 32) (v596 : IVec S16 32) : Prop :=
  (∀ (k0_h2 : ¬(k0_cond2 v140 = 1#1)), ∀ a x, ((![v590, v596] : Fin 2 → IVec S16 32) a x).toNat < S256x128.size a) ∧
  (∀ (k0_h2 : ¬(k0_cond2 v140 = 1#1)), ∀ a x, ((![v590, v596] : Fin 2 → IVec S16 32) a x).toNat < S256x128.size a)
theorem k0_idx78_inb : ∀ (v140 : BitVec 32) (v590 : IVec S16 32) (v596 : IVec S16 32) (k0_hw44 : k0_chk44 v140 v590 v596), ∀ (k0_h2 : ¬(k0_cond2 v140 = 1#1)), ∀ a x, ((![v590, v596] : Fin 2 → IVec S16 32) a x).toNat < S256x128.size a := fun v140 v590 v596 k0_hw44 k0_h2 => k0_hw44.1 k0_h2
theorem k0_idx79_inb : ∀ (v140 : BitVec 32) (v590 : IVec S16 32) (v596 : IVec S16 32) (k0_hw44 : k0_chk44 v140 v590 v596), ∀ (k0_h2 : ¬(k0_cond2 v140 = 1#1)), ∀ a x, ((![v590, v596] : Fin 2 → IVec S16 32) a x).toNat < S256x128.size a := fun v140 v590 v596 k0_hw44 k0_h2 => k0_hw44.2 k0_h2

def k0_chk45 (v140 : BitVec 32) (v590 : IVec S16 32) (v598 : IVec S16 32) : Prop :=
  (∀ (k0_h2 : ¬(k0_cond2 v140 = 1#1)), ∀ a x, ((![v590, v598] : Fin 2 → IVec S16 32) a x).toNat < S256x128.size a) ∧
  (∀ (k0_h2 : ¬(k0_cond2 v140 = 1#1)), ∀ a x, ((![v590, v598] : Fin 2 → IVec S16 32) a x).toNat < S256x128.size a)
theorem k0_idx80_inb : ∀ (v140 : BitVec 32) (v590 : IVec S16 32) (v598 : IVec S16 32) (k0_hw45 : k0_chk45 v140 v590 v598), ∀ (k0_h2 : ¬(k0_cond2 v140 = 1#1)), ∀ a x, ((![v590, v598] : Fin 2 → IVec S16 32) a x).toNat < S256x128.size a := fun v140 v590 v598 k0_hw45 k0_h2 => k0_hw45.1 k0_h2
theorem k0_idx81_inb : ∀ (v140 : BitVec 32) (v590 : IVec S16 32) (v598 : IVec S16 32) (k0_hw45 : k0_chk45 v140 v590 v598), ∀ (k0_h2 : ¬(k0_cond2 v140 = 1#1)), ∀ a x, ((![v590, v598] : Fin 2 → IVec S16 32) a x).toNat < S256x128.size a := fun v140 v590 v598 k0_hw45 k0_h2 => k0_hw45.2 k0_h2

def k0_chk46 (v140 : BitVec 32) (v590 : IVec S16 32) (v600 : IVec S16 32) : Prop :=
  (∀ (k0_h2 : ¬(k0_cond2 v140 = 1#1)), ∀ a x, ((![v590, v600] : Fin 2 → IVec S16 32) a x).toNat < S256x128.size a) ∧
  (∀ (k0_h2 : ¬(k0_cond2 v140 = 1#1)), ∀ a x, ((![v590, v600] : Fin 2 → IVec S16 32) a x).toNat < S256x128.size a)
theorem k0_idx82_inb : ∀ (v140 : BitVec 32) (v590 : IVec S16 32) (v600 : IVec S16 32) (k0_hw46 : k0_chk46 v140 v590 v600), ∀ (k0_h2 : ¬(k0_cond2 v140 = 1#1)), ∀ a x, ((![v590, v600] : Fin 2 → IVec S16 32) a x).toNat < S256x128.size a := fun v140 v590 v600 k0_hw46 k0_h2 => k0_hw46.1 k0_h2
theorem k0_idx83_inb : ∀ (v140 : BitVec 32) (v590 : IVec S16 32) (v600 : IVec S16 32) (k0_hw46 : k0_chk46 v140 v590 v600), ∀ (k0_h2 : ¬(k0_cond2 v140 = 1#1)), ∀ a x, ((![v590, v600] : Fin 2 → IVec S16 32) a x).toNat < S256x128.size a := fun v140 v590 v600 k0_hw46 k0_h2 => k0_hw46.2 k0_h2

def k0_chk47 (v140 : BitVec 32) (v590 : IVec S16 32) (v602 : IVec S16 32) : Prop :=
  (∀ (k0_h2 : ¬(k0_cond2 v140 = 1#1)), ∀ a x, ((![v590, v602] : Fin 2 → IVec S16 32) a x).toNat < S256x128.size a) ∧
  (∀ (k0_h2 : ¬(k0_cond2 v140 = 1#1)), ∀ a x, ((![v590, v602] : Fin 2 → IVec S16 32) a x).toNat < S256x128.size a)
theorem k0_idx84_inb : ∀ (v140 : BitVec 32) (v590 : IVec S16 32) (v602 : IVec S16 32) (k0_hw47 : k0_chk47 v140 v590 v602), ∀ (k0_h2 : ¬(k0_cond2 v140 = 1#1)), ∀ a x, ((![v590, v602] : Fin 2 → IVec S16 32) a x).toNat < S256x128.size a := fun v140 v590 v602 k0_hw47 k0_h2 => k0_hw47.1 k0_h2
theorem k0_idx85_inb : ∀ (v140 : BitVec 32) (v590 : IVec S16 32) (v602 : IVec S16 32) (k0_hw47 : k0_chk47 v140 v590 v602), ∀ (k0_h2 : ¬(k0_cond2 v140 = 1#1)), ∀ a x, ((![v590, v602] : Fin 2 → IVec S16 32) a x).toNat < S256x128.size a := fun v140 v590 v602 k0_hw47 k0_h2 => k0_hw47.2 k0_h2

def k0_chk48 (v140 : BitVec 32) (v590 : IVec S16 32) (v604 : IVec S16 32) : Prop :=
  (∀ (k0_h2 : ¬(k0_cond2 v140 = 1#1)), ∀ a x, ((![v590, v604] : Fin 2 → IVec S16 32) a x).toNat < S256x128.size a) ∧
  (∀ (k0_h2 : ¬(k0_cond2 v140 = 1#1)), ∀ a x, ((![v590, v604] : Fin 2 → IVec S16 32) a x).toNat < S256x128.size a)
theorem k0_idx86_inb : ∀ (v140 : BitVec 32) (v590 : IVec S16 32) (v604 : IVec S16 32) (k0_hw48 : k0_chk48 v140 v590 v604), ∀ (k0_h2 : ¬(k0_cond2 v140 = 1#1)), ∀ a x, ((![v590, v604] : Fin 2 → IVec S16 32) a x).toNat < S256x128.size a := fun v140 v590 v604 k0_hw48 k0_h2 => k0_hw48.1 k0_h2
theorem k0_idx87_inb : ∀ (v140 : BitVec 32) (v590 : IVec S16 32) (v604 : IVec S16 32) (k0_hw48 : k0_chk48 v140 v590 v604), ∀ (k0_h2 : ¬(k0_cond2 v140 = 1#1)), ∀ a x, ((![v590, v604] : Fin 2 → IVec S16 32) a x).toNat < S256x128.size a := fun v140 v590 v604 k0_hw48 k0_h2 => k0_hw48.2 k0_h2

def k0_chk49 (v140 : BitVec 32) (v590 : IVec S16 32) (v606 : IVec S16 32) : Prop :=
  (∀ (k0_h2 : ¬(k0_cond2 v140 = 1#1)), ∀ a x, ((![v590, v606] : Fin 2 → IVec S16 32) a x).toNat < S256x128.size a) ∧
  (∀ (k0_h2 : ¬(k0_cond2 v140 = 1#1)), ∀ a x, ((![v590, v606] : Fin 2 → IVec S16 32) a x).toNat < S256x128.size a)
theorem k0_idx88_inb : ∀ (v140 : BitVec 32) (v590 : IVec S16 32) (v606 : IVec S16 32) (k0_hw49 : k0_chk49 v140 v590 v606), ∀ (k0_h2 : ¬(k0_cond2 v140 = 1#1)), ∀ a x, ((![v590, v606] : Fin 2 → IVec S16 32) a x).toNat < S256x128.size a := fun v140 v590 v606 k0_hw49 k0_h2 => k0_hw49.1 k0_h2
theorem k0_idx89_inb : ∀ (v140 : BitVec 32) (v590 : IVec S16 32) (v606 : IVec S16 32) (k0_hw49 : k0_chk49 v140 v590 v606), ∀ (k0_h2 : ¬(k0_cond2 v140 = 1#1)), ∀ a x, ((![v590, v606] : Fin 2 → IVec S16 32) a x).toNat < S256x128.size a := fun v140 v590 v606 k0_hw49 k0_h2 => k0_hw49.2 k0_h2

def k0_chk50 (v2 : IVec S16 32) (v140 : BitVec 32) (v590 : IVec S16 32) : Prop :=
  (∀ (k0_h2 : ¬(k0_cond2 v140 = 1#1)), ∀ a x, ((![v590, v2] : Fin 2 → IVec S16 32) a x).toNat < S256x16.size a)
theorem k0_idx90_inb : ∀ (v2 : IVec S16 32) (v140 : BitVec 32) (v590 : IVec S16 32) (k0_hw50 : k0_chk50 v2 v140 v590), ∀ (k0_h2 : ¬(k0_cond2 v140 = 1#1)), ∀ a x, ((![v590, v2] : Fin 2 → IVec S16 32) a x).toNat < S256x16.size a := fun v2 v140 v590 k0_hw50 k0_h2 => k0_hw50 k0_h2

def k0_chk51 (v140 : BitVec 32) (v651 : IVec S16 32) : Prop :=
  (∀ (k0_h2 : ¬(k0_cond2 v140 = 1#1)), ∀ a x, ((![v651] : Fin 1 → IVec S16 32) a x).toNat < S3136.size a)
theorem k0_idx91_inb : ∀ (v140 : BitVec 32) (v651 : IVec S16 32) (k0_hw51 : k0_chk51 v140 v651), ∀ (k0_h2 : ¬(k0_cond2 v140 = 1#1)), ∀ a x, ((![v651] : Fin 1 → IVec S16 32) a x).toNat < S3136.size a := fun v140 v651 k0_hw51 k0_h2 => k0_hw51 k0_h2
def k0_off59 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v654 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c5_i32_212 : BitVec 32 := 5#32
  let v653 : BitVec 32 := Scalar.addi v126 c5_i32_212
  let v655 : Index := Scalar.indexCast v653
  let c0_213 : Index := 0#32
  ![v654.toNat, v655.toNat, 0]
def k0_off60 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v658 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c5_i32_214 : BitVec 32 := 5#32
  let v657 : BitVec 32 := Scalar.addi v126 c5_i32_214
  let v659 : Index := Scalar.indexCast v657
  let c16_215 : Index := 16#32
  ![v658.toNat, v659.toNat, 16]
def k0_off61 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v662 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c5_i32_216 : BitVec 32 := 5#32
  let v661 : BitVec 32 := Scalar.addi v126 c5_i32_216
  let v663 : Index := Scalar.indexCast v661
  let c32_217 : Index := 32#32
  ![v662.toNat, v663.toNat, 32]
def k0_off62 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v666 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c5_i32_218 : BitVec 32 := 5#32
  let v665 : BitVec 32 := Scalar.addi v126 c5_i32_218
  let v667 : Index := Scalar.indexCast v665
  let c48_219 : Index := 48#32
  ![v666.toNat, v667.toNat, 48]
def k0_off63 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v670 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c5_i32_220 : BitVec 32 := 5#32
  let v669 : BitVec 32 := Scalar.addi v126 c5_i32_220
  let v671 : Index := Scalar.indexCast v669
  let c64_221 : Index := 64#32
  ![v670.toNat, v671.toNat, 64]
def k0_off64 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v674 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c5_i32_222 : BitVec 32 := 5#32
  let v673 : BitVec 32 := Scalar.addi v126 c5_i32_222
  let v675 : Index := Scalar.indexCast v673
  let c80_223 : Index := 80#32
  ![v674.toNat, v675.toNat, 80]
def k0_off65 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v678 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c5_i32_224 : BitVec 32 := 5#32
  let v677 : BitVec 32 := Scalar.addi v126 c5_i32_224
  let v679 : Index := Scalar.indexCast v677
  let c96_225 : Index := 96#32
  ![v678.toNat, v679.toNat, 96]
def k0_off66 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v682 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c5_i32_226 : BitVec 32 := 5#32
  let v681 : BitVec 32 := Scalar.addi v126 c5_i32_226
  let v683 : Index := Scalar.indexCast v681
  let c112_227 : Index := 112#32
  ![v682.toNat, v683.toNat, 112]

def k0_chk52 (v140 : BitVec 32) (v691 : IVec S16 32) (v693 : IVec S16 32) : Prop :=
  (∀ (k0_h2 : ¬(k0_cond2 v140 = 1#1)), ∀ a x, ((![v691, v693] : Fin 2 → IVec S16 32) a x).toNat < S256x128.size a) ∧
  (∀ (k0_h2 : ¬(k0_cond2 v140 = 1#1)), ∀ a x, ((![v691, v693] : Fin 2 → IVec S16 32) a x).toNat < S256x128.size a)
theorem k0_idx92_inb : ∀ (v140 : BitVec 32) (v691 : IVec S16 32) (v693 : IVec S16 32) (k0_hw52 : k0_chk52 v140 v691 v693), ∀ (k0_h2 : ¬(k0_cond2 v140 = 1#1)), ∀ a x, ((![v691, v693] : Fin 2 → IVec S16 32) a x).toNat < S256x128.size a := fun v140 v691 v693 k0_hw52 k0_h2 => k0_hw52.1 k0_h2
theorem k0_idx93_inb : ∀ (v140 : BitVec 32) (v691 : IVec S16 32) (v693 : IVec S16 32) (k0_hw52 : k0_chk52 v140 v691 v693), ∀ (k0_h2 : ¬(k0_cond2 v140 = 1#1)), ∀ a x, ((![v691, v693] : Fin 2 → IVec S16 32) a x).toNat < S256x128.size a := fun v140 v691 v693 k0_hw52 k0_h2 => k0_hw52.2 k0_h2

def k0_chk53 (v140 : BitVec 32) (v691 : IVec S16 32) (v695 : IVec S16 32) : Prop :=
  (∀ (k0_h2 : ¬(k0_cond2 v140 = 1#1)), ∀ a x, ((![v691, v695] : Fin 2 → IVec S16 32) a x).toNat < S256x128.size a) ∧
  (∀ (k0_h2 : ¬(k0_cond2 v140 = 1#1)), ∀ a x, ((![v691, v695] : Fin 2 → IVec S16 32) a x).toNat < S256x128.size a)
theorem k0_idx94_inb : ∀ (v140 : BitVec 32) (v691 : IVec S16 32) (v695 : IVec S16 32) (k0_hw53 : k0_chk53 v140 v691 v695), ∀ (k0_h2 : ¬(k0_cond2 v140 = 1#1)), ∀ a x, ((![v691, v695] : Fin 2 → IVec S16 32) a x).toNat < S256x128.size a := fun v140 v691 v695 k0_hw53 k0_h2 => k0_hw53.1 k0_h2
theorem k0_idx95_inb : ∀ (v140 : BitVec 32) (v691 : IVec S16 32) (v695 : IVec S16 32) (k0_hw53 : k0_chk53 v140 v691 v695), ∀ (k0_h2 : ¬(k0_cond2 v140 = 1#1)), ∀ a x, ((![v691, v695] : Fin 2 → IVec S16 32) a x).toNat < S256x128.size a := fun v140 v691 v695 k0_hw53 k0_h2 => k0_hw53.2 k0_h2

def k0_chk54 (v140 : BitVec 32) (v691 : IVec S16 32) (v697 : IVec S16 32) : Prop :=
  (∀ (k0_h2 : ¬(k0_cond2 v140 = 1#1)), ∀ a x, ((![v691, v697] : Fin 2 → IVec S16 32) a x).toNat < S256x128.size a) ∧
  (∀ (k0_h2 : ¬(k0_cond2 v140 = 1#1)), ∀ a x, ((![v691, v697] : Fin 2 → IVec S16 32) a x).toNat < S256x128.size a)
theorem k0_idx96_inb : ∀ (v140 : BitVec 32) (v691 : IVec S16 32) (v697 : IVec S16 32) (k0_hw54 : k0_chk54 v140 v691 v697), ∀ (k0_h2 : ¬(k0_cond2 v140 = 1#1)), ∀ a x, ((![v691, v697] : Fin 2 → IVec S16 32) a x).toNat < S256x128.size a := fun v140 v691 v697 k0_hw54 k0_h2 => k0_hw54.1 k0_h2
theorem k0_idx97_inb : ∀ (v140 : BitVec 32) (v691 : IVec S16 32) (v697 : IVec S16 32) (k0_hw54 : k0_chk54 v140 v691 v697), ∀ (k0_h2 : ¬(k0_cond2 v140 = 1#1)), ∀ a x, ((![v691, v697] : Fin 2 → IVec S16 32) a x).toNat < S256x128.size a := fun v140 v691 v697 k0_hw54 k0_h2 => k0_hw54.2 k0_h2

def k0_chk55 (v140 : BitVec 32) (v691 : IVec S16 32) (v699 : IVec S16 32) : Prop :=
  (∀ (k0_h2 : ¬(k0_cond2 v140 = 1#1)), ∀ a x, ((![v691, v699] : Fin 2 → IVec S16 32) a x).toNat < S256x128.size a) ∧
  (∀ (k0_h2 : ¬(k0_cond2 v140 = 1#1)), ∀ a x, ((![v691, v699] : Fin 2 → IVec S16 32) a x).toNat < S256x128.size a)
theorem k0_idx98_inb : ∀ (v140 : BitVec 32) (v691 : IVec S16 32) (v699 : IVec S16 32) (k0_hw55 : k0_chk55 v140 v691 v699), ∀ (k0_h2 : ¬(k0_cond2 v140 = 1#1)), ∀ a x, ((![v691, v699] : Fin 2 → IVec S16 32) a x).toNat < S256x128.size a := fun v140 v691 v699 k0_hw55 k0_h2 => k0_hw55.1 k0_h2
theorem k0_idx99_inb : ∀ (v140 : BitVec 32) (v691 : IVec S16 32) (v699 : IVec S16 32) (k0_hw55 : k0_chk55 v140 v691 v699), ∀ (k0_h2 : ¬(k0_cond2 v140 = 1#1)), ∀ a x, ((![v691, v699] : Fin 2 → IVec S16 32) a x).toNat < S256x128.size a := fun v140 v691 v699 k0_hw55 k0_h2 => k0_hw55.2 k0_h2

def k0_chk56 (v140 : BitVec 32) (v691 : IVec S16 32) (v701 : IVec S16 32) : Prop :=
  (∀ (k0_h2 : ¬(k0_cond2 v140 = 1#1)), ∀ a x, ((![v691, v701] : Fin 2 → IVec S16 32) a x).toNat < S256x128.size a) ∧
  (∀ (k0_h2 : ¬(k0_cond2 v140 = 1#1)), ∀ a x, ((![v691, v701] : Fin 2 → IVec S16 32) a x).toNat < S256x128.size a)
theorem k0_idx100_inb : ∀ (v140 : BitVec 32) (v691 : IVec S16 32) (v701 : IVec S16 32) (k0_hw56 : k0_chk56 v140 v691 v701), ∀ (k0_h2 : ¬(k0_cond2 v140 = 1#1)), ∀ a x, ((![v691, v701] : Fin 2 → IVec S16 32) a x).toNat < S256x128.size a := fun v140 v691 v701 k0_hw56 k0_h2 => k0_hw56.1 k0_h2
theorem k0_idx101_inb : ∀ (v140 : BitVec 32) (v691 : IVec S16 32) (v701 : IVec S16 32) (k0_hw56 : k0_chk56 v140 v691 v701), ∀ (k0_h2 : ¬(k0_cond2 v140 = 1#1)), ∀ a x, ((![v691, v701] : Fin 2 → IVec S16 32) a x).toNat < S256x128.size a := fun v140 v691 v701 k0_hw56 k0_h2 => k0_hw56.2 k0_h2

def k0_chk57 (v140 : BitVec 32) (v691 : IVec S16 32) (v703 : IVec S16 32) : Prop :=
  (∀ (k0_h2 : ¬(k0_cond2 v140 = 1#1)), ∀ a x, ((![v691, v703] : Fin 2 → IVec S16 32) a x).toNat < S256x128.size a) ∧
  (∀ (k0_h2 : ¬(k0_cond2 v140 = 1#1)), ∀ a x, ((![v691, v703] : Fin 2 → IVec S16 32) a x).toNat < S256x128.size a)
theorem k0_idx102_inb : ∀ (v140 : BitVec 32) (v691 : IVec S16 32) (v703 : IVec S16 32) (k0_hw57 : k0_chk57 v140 v691 v703), ∀ (k0_h2 : ¬(k0_cond2 v140 = 1#1)), ∀ a x, ((![v691, v703] : Fin 2 → IVec S16 32) a x).toNat < S256x128.size a := fun v140 v691 v703 k0_hw57 k0_h2 => k0_hw57.1 k0_h2
theorem k0_idx103_inb : ∀ (v140 : BitVec 32) (v691 : IVec S16 32) (v703 : IVec S16 32) (k0_hw57 : k0_chk57 v140 v691 v703), ∀ (k0_h2 : ¬(k0_cond2 v140 = 1#1)), ∀ a x, ((![v691, v703] : Fin 2 → IVec S16 32) a x).toNat < S256x128.size a := fun v140 v691 v703 k0_hw57 k0_h2 => k0_hw57.2 k0_h2

def k0_chk58 (v140 : BitVec 32) (v691 : IVec S16 32) (v705 : IVec S16 32) : Prop :=
  (∀ (k0_h2 : ¬(k0_cond2 v140 = 1#1)), ∀ a x, ((![v691, v705] : Fin 2 → IVec S16 32) a x).toNat < S256x128.size a) ∧
  (∀ (k0_h2 : ¬(k0_cond2 v140 = 1#1)), ∀ a x, ((![v691, v705] : Fin 2 → IVec S16 32) a x).toNat < S256x128.size a)
theorem k0_idx104_inb : ∀ (v140 : BitVec 32) (v691 : IVec S16 32) (v705 : IVec S16 32) (k0_hw58 : k0_chk58 v140 v691 v705), ∀ (k0_h2 : ¬(k0_cond2 v140 = 1#1)), ∀ a x, ((![v691, v705] : Fin 2 → IVec S16 32) a x).toNat < S256x128.size a := fun v140 v691 v705 k0_hw58 k0_h2 => k0_hw58.1 k0_h2
theorem k0_idx105_inb : ∀ (v140 : BitVec 32) (v691 : IVec S16 32) (v705 : IVec S16 32) (k0_hw58 : k0_chk58 v140 v691 v705), ∀ (k0_h2 : ¬(k0_cond2 v140 = 1#1)), ∀ a x, ((![v691, v705] : Fin 2 → IVec S16 32) a x).toNat < S256x128.size a := fun v140 v691 v705 k0_hw58 k0_h2 => k0_hw58.2 k0_h2

def k0_chk59 (v140 : BitVec 32) (v691 : IVec S16 32) (v707 : IVec S16 32) : Prop :=
  (∀ (k0_h2 : ¬(k0_cond2 v140 = 1#1)), ∀ a x, ((![v691, v707] : Fin 2 → IVec S16 32) a x).toNat < S256x128.size a) ∧
  (∀ (k0_h2 : ¬(k0_cond2 v140 = 1#1)), ∀ a x, ((![v691, v707] : Fin 2 → IVec S16 32) a x).toNat < S256x128.size a)
theorem k0_idx106_inb : ∀ (v140 : BitVec 32) (v691 : IVec S16 32) (v707 : IVec S16 32) (k0_hw59 : k0_chk59 v140 v691 v707), ∀ (k0_h2 : ¬(k0_cond2 v140 = 1#1)), ∀ a x, ((![v691, v707] : Fin 2 → IVec S16 32) a x).toNat < S256x128.size a := fun v140 v691 v707 k0_hw59 k0_h2 => k0_hw59.1 k0_h2
theorem k0_idx107_inb : ∀ (v140 : BitVec 32) (v691 : IVec S16 32) (v707 : IVec S16 32) (k0_hw59 : k0_chk59 v140 v691 v707), ∀ (k0_h2 : ¬(k0_cond2 v140 = 1#1)), ∀ a x, ((![v691, v707] : Fin 2 → IVec S16 32) a x).toNat < S256x128.size a := fun v140 v691 v707 k0_hw59 k0_h2 => k0_hw59.2 k0_h2

def k0_chk60 (v2 : IVec S16 32) (v140 : BitVec 32) (v691 : IVec S16 32) : Prop :=
  (∀ (k0_h2 : ¬(k0_cond2 v140 = 1#1)), ∀ a x, ((![v691, v2] : Fin 2 → IVec S16 32) a x).toNat < S256x16.size a)
theorem k0_idx108_inb : ∀ (v2 : IVec S16 32) (v140 : BitVec 32) (v691 : IVec S16 32) (k0_hw60 : k0_chk60 v2 v140 v691), ∀ (k0_h2 : ¬(k0_cond2 v140 = 1#1)), ∀ a x, ((![v691, v2] : Fin 2 → IVec S16 32) a x).toNat < S256x16.size a := fun v2 v140 v691 k0_hw60 k0_h2 => k0_hw60 k0_h2

def k0_chk61 (v140 : BitVec 32) (v752 : IVec S16 32) : Prop :=
  (∀ (k0_h2 : ¬(k0_cond2 v140 = 1#1)), ∀ a x, ((![v752] : Fin 1 → IVec S16 32) a x).toNat < S3136.size a)
theorem k0_idx109_inb : ∀ (v140 : BitVec 32) (v752 : IVec S16 32) (k0_hw61 : k0_chk61 v140 v752), ∀ (k0_h2 : ¬(k0_cond2 v140 = 1#1)), ∀ a x, ((![v752] : Fin 1 → IVec S16 32) a x).toNat < S3136.size a := fun v140 v752 k0_hw61 k0_h2 => k0_hw61 k0_h2
def k0_off67 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v755 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c6_i32_242 : BitVec 32 := 6#32
  let v754 : BitVec 32 := Scalar.addi v126 c6_i32_242
  let v756 : Index := Scalar.indexCast v754
  let c0_243 : Index := 0#32
  ![v755.toNat, v756.toNat, 0]
def k0_off68 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v759 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c6_i32_244 : BitVec 32 := 6#32
  let v758 : BitVec 32 := Scalar.addi v126 c6_i32_244
  let v760 : Index := Scalar.indexCast v758
  let c16_245 : Index := 16#32
  ![v759.toNat, v760.toNat, 16]
def k0_off69 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v763 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c6_i32_246 : BitVec 32 := 6#32
  let v762 : BitVec 32 := Scalar.addi v126 c6_i32_246
  let v764 : Index := Scalar.indexCast v762
  let c32_247 : Index := 32#32
  ![v763.toNat, v764.toNat, 32]
def k0_off70 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v767 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c6_i32_248 : BitVec 32 := 6#32
  let v766 : BitVec 32 := Scalar.addi v126 c6_i32_248
  let v768 : Index := Scalar.indexCast v766
  let c48_249 : Index := 48#32
  ![v767.toNat, v768.toNat, 48]
def k0_off71 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v771 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c6_i32_250 : BitVec 32 := 6#32
  let v770 : BitVec 32 := Scalar.addi v126 c6_i32_250
  let v772 : Index := Scalar.indexCast v770
  let c64_251 : Index := 64#32
  ![v771.toNat, v772.toNat, 64]
def k0_off72 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v775 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c6_i32_252 : BitVec 32 := 6#32
  let v774 : BitVec 32 := Scalar.addi v126 c6_i32_252
  let v776 : Index := Scalar.indexCast v774
  let c80_253 : Index := 80#32
  ![v775.toNat, v776.toNat, 80]
def k0_off73 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v779 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c6_i32_254 : BitVec 32 := 6#32
  let v778 : BitVec 32 := Scalar.addi v126 c6_i32_254
  let v780 : Index := Scalar.indexCast v778
  let c96_255 : Index := 96#32
  ![v779.toNat, v780.toNat, 96]
def k0_off74 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v783 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c6_i32_256 : BitVec 32 := 6#32
  let v782 : BitVec 32 := Scalar.addi v126 c6_i32_256
  let v784 : Index := Scalar.indexCast v782
  let c112_257 : Index := 112#32
  ![v783.toNat, v784.toNat, 112]

def k0_chk62 (v140 : BitVec 32) (v792 : IVec S16 32) (v794 : IVec S16 32) : Prop :=
  (∀ (k0_h2 : ¬(k0_cond2 v140 = 1#1)), ∀ a x, ((![v792, v794] : Fin 2 → IVec S16 32) a x).toNat < S256x128.size a) ∧
  (∀ (k0_h2 : ¬(k0_cond2 v140 = 1#1)), ∀ a x, ((![v792, v794] : Fin 2 → IVec S16 32) a x).toNat < S256x128.size a)
theorem k0_idx110_inb : ∀ (v140 : BitVec 32) (v792 : IVec S16 32) (v794 : IVec S16 32) (k0_hw62 : k0_chk62 v140 v792 v794), ∀ (k0_h2 : ¬(k0_cond2 v140 = 1#1)), ∀ a x, ((![v792, v794] : Fin 2 → IVec S16 32) a x).toNat < S256x128.size a := fun v140 v792 v794 k0_hw62 k0_h2 => k0_hw62.1 k0_h2
theorem k0_idx111_inb : ∀ (v140 : BitVec 32) (v792 : IVec S16 32) (v794 : IVec S16 32) (k0_hw62 : k0_chk62 v140 v792 v794), ∀ (k0_h2 : ¬(k0_cond2 v140 = 1#1)), ∀ a x, ((![v792, v794] : Fin 2 → IVec S16 32) a x).toNat < S256x128.size a := fun v140 v792 v794 k0_hw62 k0_h2 => k0_hw62.2 k0_h2

def k0_chk63 (v140 : BitVec 32) (v792 : IVec S16 32) (v796 : IVec S16 32) : Prop :=
  (∀ (k0_h2 : ¬(k0_cond2 v140 = 1#1)), ∀ a x, ((![v792, v796] : Fin 2 → IVec S16 32) a x).toNat < S256x128.size a) ∧
  (∀ (k0_h2 : ¬(k0_cond2 v140 = 1#1)), ∀ a x, ((![v792, v796] : Fin 2 → IVec S16 32) a x).toNat < S256x128.size a)
theorem k0_idx112_inb : ∀ (v140 : BitVec 32) (v792 : IVec S16 32) (v796 : IVec S16 32) (k0_hw63 : k0_chk63 v140 v792 v796), ∀ (k0_h2 : ¬(k0_cond2 v140 = 1#1)), ∀ a x, ((![v792, v796] : Fin 2 → IVec S16 32) a x).toNat < S256x128.size a := fun v140 v792 v796 k0_hw63 k0_h2 => k0_hw63.1 k0_h2
theorem k0_idx113_inb : ∀ (v140 : BitVec 32) (v792 : IVec S16 32) (v796 : IVec S16 32) (k0_hw63 : k0_chk63 v140 v792 v796), ∀ (k0_h2 : ¬(k0_cond2 v140 = 1#1)), ∀ a x, ((![v792, v796] : Fin 2 → IVec S16 32) a x).toNat < S256x128.size a := fun v140 v792 v796 k0_hw63 k0_h2 => k0_hw63.2 k0_h2

def k0_chk64 (v140 : BitVec 32) (v792 : IVec S16 32) (v798 : IVec S16 32) : Prop :=
  (∀ (k0_h2 : ¬(k0_cond2 v140 = 1#1)), ∀ a x, ((![v792, v798] : Fin 2 → IVec S16 32) a x).toNat < S256x128.size a) ∧
  (∀ (k0_h2 : ¬(k0_cond2 v140 = 1#1)), ∀ a x, ((![v792, v798] : Fin 2 → IVec S16 32) a x).toNat < S256x128.size a)
theorem k0_idx114_inb : ∀ (v140 : BitVec 32) (v792 : IVec S16 32) (v798 : IVec S16 32) (k0_hw64 : k0_chk64 v140 v792 v798), ∀ (k0_h2 : ¬(k0_cond2 v140 = 1#1)), ∀ a x, ((![v792, v798] : Fin 2 → IVec S16 32) a x).toNat < S256x128.size a := fun v140 v792 v798 k0_hw64 k0_h2 => k0_hw64.1 k0_h2
theorem k0_idx115_inb : ∀ (v140 : BitVec 32) (v792 : IVec S16 32) (v798 : IVec S16 32) (k0_hw64 : k0_chk64 v140 v792 v798), ∀ (k0_h2 : ¬(k0_cond2 v140 = 1#1)), ∀ a x, ((![v792, v798] : Fin 2 → IVec S16 32) a x).toNat < S256x128.size a := fun v140 v792 v798 k0_hw64 k0_h2 => k0_hw64.2 k0_h2

def k0_chk65 (v140 : BitVec 32) (v792 : IVec S16 32) (v800 : IVec S16 32) : Prop :=
  (∀ (k0_h2 : ¬(k0_cond2 v140 = 1#1)), ∀ a x, ((![v792, v800] : Fin 2 → IVec S16 32) a x).toNat < S256x128.size a) ∧
  (∀ (k0_h2 : ¬(k0_cond2 v140 = 1#1)), ∀ a x, ((![v792, v800] : Fin 2 → IVec S16 32) a x).toNat < S256x128.size a)
theorem k0_idx116_inb : ∀ (v140 : BitVec 32) (v792 : IVec S16 32) (v800 : IVec S16 32) (k0_hw65 : k0_chk65 v140 v792 v800), ∀ (k0_h2 : ¬(k0_cond2 v140 = 1#1)), ∀ a x, ((![v792, v800] : Fin 2 → IVec S16 32) a x).toNat < S256x128.size a := fun v140 v792 v800 k0_hw65 k0_h2 => k0_hw65.1 k0_h2
theorem k0_idx117_inb : ∀ (v140 : BitVec 32) (v792 : IVec S16 32) (v800 : IVec S16 32) (k0_hw65 : k0_chk65 v140 v792 v800), ∀ (k0_h2 : ¬(k0_cond2 v140 = 1#1)), ∀ a x, ((![v792, v800] : Fin 2 → IVec S16 32) a x).toNat < S256x128.size a := fun v140 v792 v800 k0_hw65 k0_h2 => k0_hw65.2 k0_h2

def k0_chk66 (v140 : BitVec 32) (v792 : IVec S16 32) (v802 : IVec S16 32) : Prop :=
  (∀ (k0_h2 : ¬(k0_cond2 v140 = 1#1)), ∀ a x, ((![v792, v802] : Fin 2 → IVec S16 32) a x).toNat < S256x128.size a) ∧
  (∀ (k0_h2 : ¬(k0_cond2 v140 = 1#1)), ∀ a x, ((![v792, v802] : Fin 2 → IVec S16 32) a x).toNat < S256x128.size a)
theorem k0_idx118_inb : ∀ (v140 : BitVec 32) (v792 : IVec S16 32) (v802 : IVec S16 32) (k0_hw66 : k0_chk66 v140 v792 v802), ∀ (k0_h2 : ¬(k0_cond2 v140 = 1#1)), ∀ a x, ((![v792, v802] : Fin 2 → IVec S16 32) a x).toNat < S256x128.size a := fun v140 v792 v802 k0_hw66 k0_h2 => k0_hw66.1 k0_h2
theorem k0_idx119_inb : ∀ (v140 : BitVec 32) (v792 : IVec S16 32) (v802 : IVec S16 32) (k0_hw66 : k0_chk66 v140 v792 v802), ∀ (k0_h2 : ¬(k0_cond2 v140 = 1#1)), ∀ a x, ((![v792, v802] : Fin 2 → IVec S16 32) a x).toNat < S256x128.size a := fun v140 v792 v802 k0_hw66 k0_h2 => k0_hw66.2 k0_h2

def k0_chk67 (v140 : BitVec 32) (v792 : IVec S16 32) (v804 : IVec S16 32) : Prop :=
  (∀ (k0_h2 : ¬(k0_cond2 v140 = 1#1)), ∀ a x, ((![v792, v804] : Fin 2 → IVec S16 32) a x).toNat < S256x128.size a) ∧
  (∀ (k0_h2 : ¬(k0_cond2 v140 = 1#1)), ∀ a x, ((![v792, v804] : Fin 2 → IVec S16 32) a x).toNat < S256x128.size a)
theorem k0_idx120_inb : ∀ (v140 : BitVec 32) (v792 : IVec S16 32) (v804 : IVec S16 32) (k0_hw67 : k0_chk67 v140 v792 v804), ∀ (k0_h2 : ¬(k0_cond2 v140 = 1#1)), ∀ a x, ((![v792, v804] : Fin 2 → IVec S16 32) a x).toNat < S256x128.size a := fun v140 v792 v804 k0_hw67 k0_h2 => k0_hw67.1 k0_h2
theorem k0_idx121_inb : ∀ (v140 : BitVec 32) (v792 : IVec S16 32) (v804 : IVec S16 32) (k0_hw67 : k0_chk67 v140 v792 v804), ∀ (k0_h2 : ¬(k0_cond2 v140 = 1#1)), ∀ a x, ((![v792, v804] : Fin 2 → IVec S16 32) a x).toNat < S256x128.size a := fun v140 v792 v804 k0_hw67 k0_h2 => k0_hw67.2 k0_h2

def k0_chk68 (v140 : BitVec 32) (v792 : IVec S16 32) (v806 : IVec S16 32) : Prop :=
  (∀ (k0_h2 : ¬(k0_cond2 v140 = 1#1)), ∀ a x, ((![v792, v806] : Fin 2 → IVec S16 32) a x).toNat < S256x128.size a) ∧
  (∀ (k0_h2 : ¬(k0_cond2 v140 = 1#1)), ∀ a x, ((![v792, v806] : Fin 2 → IVec S16 32) a x).toNat < S256x128.size a)
theorem k0_idx122_inb : ∀ (v140 : BitVec 32) (v792 : IVec S16 32) (v806 : IVec S16 32) (k0_hw68 : k0_chk68 v140 v792 v806), ∀ (k0_h2 : ¬(k0_cond2 v140 = 1#1)), ∀ a x, ((![v792, v806] : Fin 2 → IVec S16 32) a x).toNat < S256x128.size a := fun v140 v792 v806 k0_hw68 k0_h2 => k0_hw68.1 k0_h2
theorem k0_idx123_inb : ∀ (v140 : BitVec 32) (v792 : IVec S16 32) (v806 : IVec S16 32) (k0_hw68 : k0_chk68 v140 v792 v806), ∀ (k0_h2 : ¬(k0_cond2 v140 = 1#1)), ∀ a x, ((![v792, v806] : Fin 2 → IVec S16 32) a x).toNat < S256x128.size a := fun v140 v792 v806 k0_hw68 k0_h2 => k0_hw68.2 k0_h2

def k0_chk69 (v140 : BitVec 32) (v792 : IVec S16 32) (v808 : IVec S16 32) : Prop :=
  (∀ (k0_h2 : ¬(k0_cond2 v140 = 1#1)), ∀ a x, ((![v792, v808] : Fin 2 → IVec S16 32) a x).toNat < S256x128.size a) ∧
  (∀ (k0_h2 : ¬(k0_cond2 v140 = 1#1)), ∀ a x, ((![v792, v808] : Fin 2 → IVec S16 32) a x).toNat < S256x128.size a)
theorem k0_idx124_inb : ∀ (v140 : BitVec 32) (v792 : IVec S16 32) (v808 : IVec S16 32) (k0_hw69 : k0_chk69 v140 v792 v808), ∀ (k0_h2 : ¬(k0_cond2 v140 = 1#1)), ∀ a x, ((![v792, v808] : Fin 2 → IVec S16 32) a x).toNat < S256x128.size a := fun v140 v792 v808 k0_hw69 k0_h2 => k0_hw69.1 k0_h2
theorem k0_idx125_inb : ∀ (v140 : BitVec 32) (v792 : IVec S16 32) (v808 : IVec S16 32) (k0_hw69 : k0_chk69 v140 v792 v808), ∀ (k0_h2 : ¬(k0_cond2 v140 = 1#1)), ∀ a x, ((![v792, v808] : Fin 2 → IVec S16 32) a x).toNat < S256x128.size a := fun v140 v792 v808 k0_hw69 k0_h2 => k0_hw69.2 k0_h2

def k0_chk70 (v2 : IVec S16 32) (v140 : BitVec 32) (v792 : IVec S16 32) : Prop :=
  (∀ (k0_h2 : ¬(k0_cond2 v140 = 1#1)), ∀ a x, ((![v792, v2] : Fin 2 → IVec S16 32) a x).toNat < S256x16.size a)
theorem k0_idx126_inb : ∀ (v2 : IVec S16 32) (v140 : BitVec 32) (v792 : IVec S16 32) (k0_hw70 : k0_chk70 v2 v140 v792), ∀ (k0_h2 : ¬(k0_cond2 v140 = 1#1)), ∀ a x, ((![v792, v2] : Fin 2 → IVec S16 32) a x).toNat < S256x16.size a := fun v2 v140 v792 k0_hw70 k0_h2 => k0_hw70 k0_h2

def k0_chk71 (v140 : BitVec 32) (v853 : IVec S16 32) : Prop :=
  (∀ (k0_h2 : ¬(k0_cond2 v140 = 1#1)), ∀ a x, ((![v853] : Fin 1 → IVec S16 32) a x).toNat < S3136.size a)
theorem k0_idx127_inb : ∀ (v140 : BitVec 32) (v853 : IVec S16 32) (k0_hw71 : k0_chk71 v140 v853), ∀ (k0_h2 : ¬(k0_cond2 v140 = 1#1)), ∀ a x, ((![v853] : Fin 1 → IVec S16 32) a x).toNat < S3136.size a := fun v140 v853 k0_hw71 k0_h2 => k0_hw71 k0_h2
def k0_off75 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v856 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c7_i32_273 : BitVec 32 := 7#32
  let v855 : BitVec 32 := Scalar.addi v126 c7_i32_273
  let v857 : Index := Scalar.indexCast v855
  let c0_274 : Index := 0#32
  ![v856.toNat, v857.toNat, 0]
def k0_off76 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v860 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c7_i32_275 : BitVec 32 := 7#32
  let v859 : BitVec 32 := Scalar.addi v126 c7_i32_275
  let v861 : Index := Scalar.indexCast v859
  let c16_276 : Index := 16#32
  ![v860.toNat, v861.toNat, 16]
def k0_off77 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v864 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c7_i32_277 : BitVec 32 := 7#32
  let v863 : BitVec 32 := Scalar.addi v126 c7_i32_277
  let v865 : Index := Scalar.indexCast v863
  let c32_278 : Index := 32#32
  ![v864.toNat, v865.toNat, 32]
def k0_off78 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v868 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c7_i32_279 : BitVec 32 := 7#32
  let v867 : BitVec 32 := Scalar.addi v126 c7_i32_279
  let v869 : Index := Scalar.indexCast v867
  let c48_280 : Index := 48#32
  ![v868.toNat, v869.toNat, 48]
def k0_off79 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v872 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c7_i32_281 : BitVec 32 := 7#32
  let v871 : BitVec 32 := Scalar.addi v126 c7_i32_281
  let v873 : Index := Scalar.indexCast v871
  let c64_282 : Index := 64#32
  ![v872.toNat, v873.toNat, 64]
def k0_off80 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v876 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c7_i32_283 : BitVec 32 := 7#32
  let v875 : BitVec 32 := Scalar.addi v126 c7_i32_283
  let v877 : Index := Scalar.indexCast v875
  let c80_284 : Index := 80#32
  ![v876.toNat, v877.toNat, 80]
def k0_off81 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v880 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c7_i32_285 : BitVec 32 := 7#32
  let v879 : BitVec 32 := Scalar.addi v126 c7_i32_285
  let v881 : Index := Scalar.indexCast v879
  let c96_286 : Index := 96#32
  ![v880.toNat, v881.toNat, 96]
def k0_off82 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v884 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c7_i32_287 : BitVec 32 := 7#32
  let v883 : BitVec 32 := Scalar.addi v126 c7_i32_287
  let v885 : Index := Scalar.indexCast v883
  let c112_288 : Index := 112#32
  ![v884.toNat, v885.toNat, 112]

def k0_chk72 (v140 : BitVec 32) (v893 : IVec S16 32) (v895 : IVec S16 32) : Prop :=
  (∀ (k0_h2 : ¬(k0_cond2 v140 = 1#1)), ∀ a x, ((![v893, v895] : Fin 2 → IVec S16 32) a x).toNat < S256x128.size a) ∧
  (∀ (k0_h2 : ¬(k0_cond2 v140 = 1#1)), ∀ a x, ((![v893, v895] : Fin 2 → IVec S16 32) a x).toNat < S256x128.size a)
theorem k0_idx128_inb : ∀ (v140 : BitVec 32) (v893 : IVec S16 32) (v895 : IVec S16 32) (k0_hw72 : k0_chk72 v140 v893 v895), ∀ (k0_h2 : ¬(k0_cond2 v140 = 1#1)), ∀ a x, ((![v893, v895] : Fin 2 → IVec S16 32) a x).toNat < S256x128.size a := fun v140 v893 v895 k0_hw72 k0_h2 => k0_hw72.1 k0_h2
theorem k0_idx129_inb : ∀ (v140 : BitVec 32) (v893 : IVec S16 32) (v895 : IVec S16 32) (k0_hw72 : k0_chk72 v140 v893 v895), ∀ (k0_h2 : ¬(k0_cond2 v140 = 1#1)), ∀ a x, ((![v893, v895] : Fin 2 → IVec S16 32) a x).toNat < S256x128.size a := fun v140 v893 v895 k0_hw72 k0_h2 => k0_hw72.2 k0_h2

def k0_chk73 (v140 : BitVec 32) (v893 : IVec S16 32) (v897 : IVec S16 32) : Prop :=
  (∀ (k0_h2 : ¬(k0_cond2 v140 = 1#1)), ∀ a x, ((![v893, v897] : Fin 2 → IVec S16 32) a x).toNat < S256x128.size a) ∧
  (∀ (k0_h2 : ¬(k0_cond2 v140 = 1#1)), ∀ a x, ((![v893, v897] : Fin 2 → IVec S16 32) a x).toNat < S256x128.size a)
theorem k0_idx130_inb : ∀ (v140 : BitVec 32) (v893 : IVec S16 32) (v897 : IVec S16 32) (k0_hw73 : k0_chk73 v140 v893 v897), ∀ (k0_h2 : ¬(k0_cond2 v140 = 1#1)), ∀ a x, ((![v893, v897] : Fin 2 → IVec S16 32) a x).toNat < S256x128.size a := fun v140 v893 v897 k0_hw73 k0_h2 => k0_hw73.1 k0_h2
theorem k0_idx131_inb : ∀ (v140 : BitVec 32) (v893 : IVec S16 32) (v897 : IVec S16 32) (k0_hw73 : k0_chk73 v140 v893 v897), ∀ (k0_h2 : ¬(k0_cond2 v140 = 1#1)), ∀ a x, ((![v893, v897] : Fin 2 → IVec S16 32) a x).toNat < S256x128.size a := fun v140 v893 v897 k0_hw73 k0_h2 => k0_hw73.2 k0_h2

def k0_chk74 (v140 : BitVec 32) (v893 : IVec S16 32) (v899 : IVec S16 32) : Prop :=
  (∀ (k0_h2 : ¬(k0_cond2 v140 = 1#1)), ∀ a x, ((![v893, v899] : Fin 2 → IVec S16 32) a x).toNat < S256x128.size a) ∧
  (∀ (k0_h2 : ¬(k0_cond2 v140 = 1#1)), ∀ a x, ((![v893, v899] : Fin 2 → IVec S16 32) a x).toNat < S256x128.size a)
theorem k0_idx132_inb : ∀ (v140 : BitVec 32) (v893 : IVec S16 32) (v899 : IVec S16 32) (k0_hw74 : k0_chk74 v140 v893 v899), ∀ (k0_h2 : ¬(k0_cond2 v140 = 1#1)), ∀ a x, ((![v893, v899] : Fin 2 → IVec S16 32) a x).toNat < S256x128.size a := fun v140 v893 v899 k0_hw74 k0_h2 => k0_hw74.1 k0_h2
theorem k0_idx133_inb : ∀ (v140 : BitVec 32) (v893 : IVec S16 32) (v899 : IVec S16 32) (k0_hw74 : k0_chk74 v140 v893 v899), ∀ (k0_h2 : ¬(k0_cond2 v140 = 1#1)), ∀ a x, ((![v893, v899] : Fin 2 → IVec S16 32) a x).toNat < S256x128.size a := fun v140 v893 v899 k0_hw74 k0_h2 => k0_hw74.2 k0_h2

def k0_chk75 (v140 : BitVec 32) (v893 : IVec S16 32) (v901 : IVec S16 32) : Prop :=
  (∀ (k0_h2 : ¬(k0_cond2 v140 = 1#1)), ∀ a x, ((![v893, v901] : Fin 2 → IVec S16 32) a x).toNat < S256x128.size a) ∧
  (∀ (k0_h2 : ¬(k0_cond2 v140 = 1#1)), ∀ a x, ((![v893, v901] : Fin 2 → IVec S16 32) a x).toNat < S256x128.size a)
theorem k0_idx134_inb : ∀ (v140 : BitVec 32) (v893 : IVec S16 32) (v901 : IVec S16 32) (k0_hw75 : k0_chk75 v140 v893 v901), ∀ (k0_h2 : ¬(k0_cond2 v140 = 1#1)), ∀ a x, ((![v893, v901] : Fin 2 → IVec S16 32) a x).toNat < S256x128.size a := fun v140 v893 v901 k0_hw75 k0_h2 => k0_hw75.1 k0_h2
theorem k0_idx135_inb : ∀ (v140 : BitVec 32) (v893 : IVec S16 32) (v901 : IVec S16 32) (k0_hw75 : k0_chk75 v140 v893 v901), ∀ (k0_h2 : ¬(k0_cond2 v140 = 1#1)), ∀ a x, ((![v893, v901] : Fin 2 → IVec S16 32) a x).toNat < S256x128.size a := fun v140 v893 v901 k0_hw75 k0_h2 => k0_hw75.2 k0_h2

def k0_chk76 (v140 : BitVec 32) (v893 : IVec S16 32) (v903 : IVec S16 32) : Prop :=
  (∀ (k0_h2 : ¬(k0_cond2 v140 = 1#1)), ∀ a x, ((![v893, v903] : Fin 2 → IVec S16 32) a x).toNat < S256x128.size a) ∧
  (∀ (k0_h2 : ¬(k0_cond2 v140 = 1#1)), ∀ a x, ((![v893, v903] : Fin 2 → IVec S16 32) a x).toNat < S256x128.size a)
theorem k0_idx136_inb : ∀ (v140 : BitVec 32) (v893 : IVec S16 32) (v903 : IVec S16 32) (k0_hw76 : k0_chk76 v140 v893 v903), ∀ (k0_h2 : ¬(k0_cond2 v140 = 1#1)), ∀ a x, ((![v893, v903] : Fin 2 → IVec S16 32) a x).toNat < S256x128.size a := fun v140 v893 v903 k0_hw76 k0_h2 => k0_hw76.1 k0_h2
theorem k0_idx137_inb : ∀ (v140 : BitVec 32) (v893 : IVec S16 32) (v903 : IVec S16 32) (k0_hw76 : k0_chk76 v140 v893 v903), ∀ (k0_h2 : ¬(k0_cond2 v140 = 1#1)), ∀ a x, ((![v893, v903] : Fin 2 → IVec S16 32) a x).toNat < S256x128.size a := fun v140 v893 v903 k0_hw76 k0_h2 => k0_hw76.2 k0_h2

def k0_chk77 (v140 : BitVec 32) (v893 : IVec S16 32) (v905 : IVec S16 32) : Prop :=
  (∀ (k0_h2 : ¬(k0_cond2 v140 = 1#1)), ∀ a x, ((![v893, v905] : Fin 2 → IVec S16 32) a x).toNat < S256x128.size a) ∧
  (∀ (k0_h2 : ¬(k0_cond2 v140 = 1#1)), ∀ a x, ((![v893, v905] : Fin 2 → IVec S16 32) a x).toNat < S256x128.size a)
theorem k0_idx138_inb : ∀ (v140 : BitVec 32) (v893 : IVec S16 32) (v905 : IVec S16 32) (k0_hw77 : k0_chk77 v140 v893 v905), ∀ (k0_h2 : ¬(k0_cond2 v140 = 1#1)), ∀ a x, ((![v893, v905] : Fin 2 → IVec S16 32) a x).toNat < S256x128.size a := fun v140 v893 v905 k0_hw77 k0_h2 => k0_hw77.1 k0_h2
theorem k0_idx139_inb : ∀ (v140 : BitVec 32) (v893 : IVec S16 32) (v905 : IVec S16 32) (k0_hw77 : k0_chk77 v140 v893 v905), ∀ (k0_h2 : ¬(k0_cond2 v140 = 1#1)), ∀ a x, ((![v893, v905] : Fin 2 → IVec S16 32) a x).toNat < S256x128.size a := fun v140 v893 v905 k0_hw77 k0_h2 => k0_hw77.2 k0_h2

def k0_chk78 (v140 : BitVec 32) (v893 : IVec S16 32) (v907 : IVec S16 32) : Prop :=
  (∀ (k0_h2 : ¬(k0_cond2 v140 = 1#1)), ∀ a x, ((![v893, v907] : Fin 2 → IVec S16 32) a x).toNat < S256x128.size a) ∧
  (∀ (k0_h2 : ¬(k0_cond2 v140 = 1#1)), ∀ a x, ((![v893, v907] : Fin 2 → IVec S16 32) a x).toNat < S256x128.size a)
theorem k0_idx140_inb : ∀ (v140 : BitVec 32) (v893 : IVec S16 32) (v907 : IVec S16 32) (k0_hw78 : k0_chk78 v140 v893 v907), ∀ (k0_h2 : ¬(k0_cond2 v140 = 1#1)), ∀ a x, ((![v893, v907] : Fin 2 → IVec S16 32) a x).toNat < S256x128.size a := fun v140 v893 v907 k0_hw78 k0_h2 => k0_hw78.1 k0_h2
theorem k0_idx141_inb : ∀ (v140 : BitVec 32) (v893 : IVec S16 32) (v907 : IVec S16 32) (k0_hw78 : k0_chk78 v140 v893 v907), ∀ (k0_h2 : ¬(k0_cond2 v140 = 1#1)), ∀ a x, ((![v893, v907] : Fin 2 → IVec S16 32) a x).toNat < S256x128.size a := fun v140 v893 v907 k0_hw78 k0_h2 => k0_hw78.2 k0_h2

def k0_chk79 (v140 : BitVec 32) (v893 : IVec S16 32) (v909 : IVec S16 32) : Prop :=
  (∀ (k0_h2 : ¬(k0_cond2 v140 = 1#1)), ∀ a x, ((![v893, v909] : Fin 2 → IVec S16 32) a x).toNat < S256x128.size a) ∧
  (∀ (k0_h2 : ¬(k0_cond2 v140 = 1#1)), ∀ a x, ((![v893, v909] : Fin 2 → IVec S16 32) a x).toNat < S256x128.size a)
theorem k0_idx142_inb : ∀ (v140 : BitVec 32) (v893 : IVec S16 32) (v909 : IVec S16 32) (k0_hw79 : k0_chk79 v140 v893 v909), ∀ (k0_h2 : ¬(k0_cond2 v140 = 1#1)), ∀ a x, ((![v893, v909] : Fin 2 → IVec S16 32) a x).toNat < S256x128.size a := fun v140 v893 v909 k0_hw79 k0_h2 => k0_hw79.1 k0_h2
theorem k0_idx143_inb : ∀ (v140 : BitVec 32) (v893 : IVec S16 32) (v909 : IVec S16 32) (k0_hw79 : k0_chk79 v140 v893 v909), ∀ (k0_h2 : ¬(k0_cond2 v140 = 1#1)), ∀ a x, ((![v893, v909] : Fin 2 → IVec S16 32) a x).toNat < S256x128.size a := fun v140 v893 v909 k0_hw79 k0_h2 => k0_hw79.2 k0_h2

def k0_chk80 (v2 : IVec S16 32) (v140 : BitVec 32) (v893 : IVec S16 32) : Prop :=
  (∀ (k0_h2 : ¬(k0_cond2 v140 = 1#1)), ∀ a x, ((![v893, v2] : Fin 2 → IVec S16 32) a x).toNat < S256x16.size a)
theorem k0_idx144_inb : ∀ (v2 : IVec S16 32) (v140 : BitVec 32) (v893 : IVec S16 32) (k0_hw80 : k0_chk80 v2 v140 v893), ∀ (k0_h2 : ¬(k0_cond2 v140 = 1#1)), ∀ a x, ((![v893, v2] : Fin 2 → IVec S16 32) a x).toNat < S256x16.size a := fun v2 v140 v893 k0_hw80 k0_h2 => k0_hw80 k0_h2

def k0_chk81 (v140 : BitVec 32) (v954 : IVec S16 32) : Prop :=
  (∀ (k0_h2 : ¬(k0_cond2 v140 = 1#1)), ∀ a x, ((![v954] : Fin 1 → IVec S16 32) a x).toNat < S3136.size a)
theorem k0_idx145_inb : ∀ (v140 : BitVec 32) (v954 : IVec S16 32) (k0_hw81 : k0_chk81 v140 v954), ∀ (k0_h2 : ¬(k0_cond2 v140 = 1#1)), ∀ a x, ((![v954] : Fin 1 → IVec S16 32) a x).toNat < S3136.size a := fun v140 v954 k0_hw81 k0_h2 => k0_hw81 k0_h2
def k0_off83 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v957 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c8_i32_303 : BitVec 32 := 8#32
  let v956 : BitVec 32 := Scalar.addi v126 c8_i32_303
  let v958 : Index := Scalar.indexCast v956
  let c0_304 : Index := 0#32
  ![v957.toNat, v958.toNat, 0]
def k0_off84 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v961 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c8_i32_305 : BitVec 32 := 8#32
  let v960 : BitVec 32 := Scalar.addi v126 c8_i32_305
  let v962 : Index := Scalar.indexCast v960
  let c16_306 : Index := 16#32
  ![v961.toNat, v962.toNat, 16]
def k0_off85 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v965 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c8_i32_307 : BitVec 32 := 8#32
  let v964 : BitVec 32 := Scalar.addi v126 c8_i32_307
  let v966 : Index := Scalar.indexCast v964
  let c32_308 : Index := 32#32
  ![v965.toNat, v966.toNat, 32]
def k0_off86 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v969 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c8_i32_309 : BitVec 32 := 8#32
  let v968 : BitVec 32 := Scalar.addi v126 c8_i32_309
  let v970 : Index := Scalar.indexCast v968
  let c48_310 : Index := 48#32
  ![v969.toNat, v970.toNat, 48]
def k0_off87 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v973 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c8_i32_311 : BitVec 32 := 8#32
  let v972 : BitVec 32 := Scalar.addi v126 c8_i32_311
  let v974 : Index := Scalar.indexCast v972
  let c64_312 : Index := 64#32
  ![v973.toNat, v974.toNat, 64]
def k0_off88 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v977 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c8_i32_313 : BitVec 32 := 8#32
  let v976 : BitVec 32 := Scalar.addi v126 c8_i32_313
  let v978 : Index := Scalar.indexCast v976
  let c80_314 : Index := 80#32
  ![v977.toNat, v978.toNat, 80]
def k0_off89 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v981 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c8_i32_315 : BitVec 32 := 8#32
  let v980 : BitVec 32 := Scalar.addi v126 c8_i32_315
  let v982 : Index := Scalar.indexCast v980
  let c96_316 : Index := 96#32
  ![v981.toNat, v982.toNat, 96]
def k0_off90 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v985 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c8_i32_317 : BitVec 32 := 8#32
  let v984 : BitVec 32 := Scalar.addi v126 c8_i32_317
  let v986 : Index := Scalar.indexCast v984
  let c112_318 : Index := 112#32
  ![v985.toNat, v986.toNat, 112]

def k0_chk82 (v140 : BitVec 32) (v994 : IVec S16 32) (v996 : IVec S16 32) : Prop :=
  (∀ (k0_h2 : ¬(k0_cond2 v140 = 1#1)), ∀ a x, ((![v994, v996] : Fin 2 → IVec S16 32) a x).toNat < S256x128.size a) ∧
  (∀ (k0_h2 : ¬(k0_cond2 v140 = 1#1)), ∀ a x, ((![v994, v996] : Fin 2 → IVec S16 32) a x).toNat < S256x128.size a)
theorem k0_idx146_inb : ∀ (v140 : BitVec 32) (v994 : IVec S16 32) (v996 : IVec S16 32) (k0_hw82 : k0_chk82 v140 v994 v996), ∀ (k0_h2 : ¬(k0_cond2 v140 = 1#1)), ∀ a x, ((![v994, v996] : Fin 2 → IVec S16 32) a x).toNat < S256x128.size a := fun v140 v994 v996 k0_hw82 k0_h2 => k0_hw82.1 k0_h2
theorem k0_idx147_inb : ∀ (v140 : BitVec 32) (v994 : IVec S16 32) (v996 : IVec S16 32) (k0_hw82 : k0_chk82 v140 v994 v996), ∀ (k0_h2 : ¬(k0_cond2 v140 = 1#1)), ∀ a x, ((![v994, v996] : Fin 2 → IVec S16 32) a x).toNat < S256x128.size a := fun v140 v994 v996 k0_hw82 k0_h2 => k0_hw82.2 k0_h2

def k0_chk83 (v140 : BitVec 32) (v994 : IVec S16 32) (v998 : IVec S16 32) : Prop :=
  (∀ (k0_h2 : ¬(k0_cond2 v140 = 1#1)), ∀ a x, ((![v994, v998] : Fin 2 → IVec S16 32) a x).toNat < S256x128.size a) ∧
  (∀ (k0_h2 : ¬(k0_cond2 v140 = 1#1)), ∀ a x, ((![v994, v998] : Fin 2 → IVec S16 32) a x).toNat < S256x128.size a)
theorem k0_idx148_inb : ∀ (v140 : BitVec 32) (v994 : IVec S16 32) (v998 : IVec S16 32) (k0_hw83 : k0_chk83 v140 v994 v998), ∀ (k0_h2 : ¬(k0_cond2 v140 = 1#1)), ∀ a x, ((![v994, v998] : Fin 2 → IVec S16 32) a x).toNat < S256x128.size a := fun v140 v994 v998 k0_hw83 k0_h2 => k0_hw83.1 k0_h2
theorem k0_idx149_inb : ∀ (v140 : BitVec 32) (v994 : IVec S16 32) (v998 : IVec S16 32) (k0_hw83 : k0_chk83 v140 v994 v998), ∀ (k0_h2 : ¬(k0_cond2 v140 = 1#1)), ∀ a x, ((![v994, v998] : Fin 2 → IVec S16 32) a x).toNat < S256x128.size a := fun v140 v994 v998 k0_hw83 k0_h2 => k0_hw83.2 k0_h2

def k0_chk84 (v140 : BitVec 32) (v994 : IVec S16 32) (v1000 : IVec S16 32) : Prop :=
  (∀ (k0_h2 : ¬(k0_cond2 v140 = 1#1)), ∀ a x, ((![v994, v1000] : Fin 2 → IVec S16 32) a x).toNat < S256x128.size a) ∧
  (∀ (k0_h2 : ¬(k0_cond2 v140 = 1#1)), ∀ a x, ((![v994, v1000] : Fin 2 → IVec S16 32) a x).toNat < S256x128.size a)
theorem k0_idx150_inb : ∀ (v140 : BitVec 32) (v994 : IVec S16 32) (v1000 : IVec S16 32) (k0_hw84 : k0_chk84 v140 v994 v1000), ∀ (k0_h2 : ¬(k0_cond2 v140 = 1#1)), ∀ a x, ((![v994, v1000] : Fin 2 → IVec S16 32) a x).toNat < S256x128.size a := fun v140 v994 v1000 k0_hw84 k0_h2 => k0_hw84.1 k0_h2
theorem k0_idx151_inb : ∀ (v140 : BitVec 32) (v994 : IVec S16 32) (v1000 : IVec S16 32) (k0_hw84 : k0_chk84 v140 v994 v1000), ∀ (k0_h2 : ¬(k0_cond2 v140 = 1#1)), ∀ a x, ((![v994, v1000] : Fin 2 → IVec S16 32) a x).toNat < S256x128.size a := fun v140 v994 v1000 k0_hw84 k0_h2 => k0_hw84.2 k0_h2

def k0_chk85 (v140 : BitVec 32) (v994 : IVec S16 32) (v1002 : IVec S16 32) : Prop :=
  (∀ (k0_h2 : ¬(k0_cond2 v140 = 1#1)), ∀ a x, ((![v994, v1002] : Fin 2 → IVec S16 32) a x).toNat < S256x128.size a) ∧
  (∀ (k0_h2 : ¬(k0_cond2 v140 = 1#1)), ∀ a x, ((![v994, v1002] : Fin 2 → IVec S16 32) a x).toNat < S256x128.size a)
theorem k0_idx152_inb : ∀ (v140 : BitVec 32) (v994 : IVec S16 32) (v1002 : IVec S16 32) (k0_hw85 : k0_chk85 v140 v994 v1002), ∀ (k0_h2 : ¬(k0_cond2 v140 = 1#1)), ∀ a x, ((![v994, v1002] : Fin 2 → IVec S16 32) a x).toNat < S256x128.size a := fun v140 v994 v1002 k0_hw85 k0_h2 => k0_hw85.1 k0_h2
theorem k0_idx153_inb : ∀ (v140 : BitVec 32) (v994 : IVec S16 32) (v1002 : IVec S16 32) (k0_hw85 : k0_chk85 v140 v994 v1002), ∀ (k0_h2 : ¬(k0_cond2 v140 = 1#1)), ∀ a x, ((![v994, v1002] : Fin 2 → IVec S16 32) a x).toNat < S256x128.size a := fun v140 v994 v1002 k0_hw85 k0_h2 => k0_hw85.2 k0_h2

def k0_chk86 (v140 : BitVec 32) (v994 : IVec S16 32) (v1004 : IVec S16 32) : Prop :=
  (∀ (k0_h2 : ¬(k0_cond2 v140 = 1#1)), ∀ a x, ((![v994, v1004] : Fin 2 → IVec S16 32) a x).toNat < S256x128.size a) ∧
  (∀ (k0_h2 : ¬(k0_cond2 v140 = 1#1)), ∀ a x, ((![v994, v1004] : Fin 2 → IVec S16 32) a x).toNat < S256x128.size a)
theorem k0_idx154_inb : ∀ (v140 : BitVec 32) (v994 : IVec S16 32) (v1004 : IVec S16 32) (k0_hw86 : k0_chk86 v140 v994 v1004), ∀ (k0_h2 : ¬(k0_cond2 v140 = 1#1)), ∀ a x, ((![v994, v1004] : Fin 2 → IVec S16 32) a x).toNat < S256x128.size a := fun v140 v994 v1004 k0_hw86 k0_h2 => k0_hw86.1 k0_h2
theorem k0_idx155_inb : ∀ (v140 : BitVec 32) (v994 : IVec S16 32) (v1004 : IVec S16 32) (k0_hw86 : k0_chk86 v140 v994 v1004), ∀ (k0_h2 : ¬(k0_cond2 v140 = 1#1)), ∀ a x, ((![v994, v1004] : Fin 2 → IVec S16 32) a x).toNat < S256x128.size a := fun v140 v994 v1004 k0_hw86 k0_h2 => k0_hw86.2 k0_h2

def k0_chk87 (v140 : BitVec 32) (v994 : IVec S16 32) (v1006 : IVec S16 32) : Prop :=
  (∀ (k0_h2 : ¬(k0_cond2 v140 = 1#1)), ∀ a x, ((![v994, v1006] : Fin 2 → IVec S16 32) a x).toNat < S256x128.size a) ∧
  (∀ (k0_h2 : ¬(k0_cond2 v140 = 1#1)), ∀ a x, ((![v994, v1006] : Fin 2 → IVec S16 32) a x).toNat < S256x128.size a)
theorem k0_idx156_inb : ∀ (v140 : BitVec 32) (v994 : IVec S16 32) (v1006 : IVec S16 32) (k0_hw87 : k0_chk87 v140 v994 v1006), ∀ (k0_h2 : ¬(k0_cond2 v140 = 1#1)), ∀ a x, ((![v994, v1006] : Fin 2 → IVec S16 32) a x).toNat < S256x128.size a := fun v140 v994 v1006 k0_hw87 k0_h2 => k0_hw87.1 k0_h2
theorem k0_idx157_inb : ∀ (v140 : BitVec 32) (v994 : IVec S16 32) (v1006 : IVec S16 32) (k0_hw87 : k0_chk87 v140 v994 v1006), ∀ (k0_h2 : ¬(k0_cond2 v140 = 1#1)), ∀ a x, ((![v994, v1006] : Fin 2 → IVec S16 32) a x).toNat < S256x128.size a := fun v140 v994 v1006 k0_hw87 k0_h2 => k0_hw87.2 k0_h2

def k0_chk88 (v140 : BitVec 32) (v994 : IVec S16 32) (v1008 : IVec S16 32) : Prop :=
  (∀ (k0_h2 : ¬(k0_cond2 v140 = 1#1)), ∀ a x, ((![v994, v1008] : Fin 2 → IVec S16 32) a x).toNat < S256x128.size a) ∧
  (∀ (k0_h2 : ¬(k0_cond2 v140 = 1#1)), ∀ a x, ((![v994, v1008] : Fin 2 → IVec S16 32) a x).toNat < S256x128.size a)
theorem k0_idx158_inb : ∀ (v140 : BitVec 32) (v994 : IVec S16 32) (v1008 : IVec S16 32) (k0_hw88 : k0_chk88 v140 v994 v1008), ∀ (k0_h2 : ¬(k0_cond2 v140 = 1#1)), ∀ a x, ((![v994, v1008] : Fin 2 → IVec S16 32) a x).toNat < S256x128.size a := fun v140 v994 v1008 k0_hw88 k0_h2 => k0_hw88.1 k0_h2
theorem k0_idx159_inb : ∀ (v140 : BitVec 32) (v994 : IVec S16 32) (v1008 : IVec S16 32) (k0_hw88 : k0_chk88 v140 v994 v1008), ∀ (k0_h2 : ¬(k0_cond2 v140 = 1#1)), ∀ a x, ((![v994, v1008] : Fin 2 → IVec S16 32) a x).toNat < S256x128.size a := fun v140 v994 v1008 k0_hw88 k0_h2 => k0_hw88.2 k0_h2

def k0_chk89 (v140 : BitVec 32) (v994 : IVec S16 32) (v1010 : IVec S16 32) : Prop :=
  (∀ (k0_h2 : ¬(k0_cond2 v140 = 1#1)), ∀ a x, ((![v994, v1010] : Fin 2 → IVec S16 32) a x).toNat < S256x128.size a) ∧
  (∀ (k0_h2 : ¬(k0_cond2 v140 = 1#1)), ∀ a x, ((![v994, v1010] : Fin 2 → IVec S16 32) a x).toNat < S256x128.size a)
theorem k0_idx160_inb : ∀ (v140 : BitVec 32) (v994 : IVec S16 32) (v1010 : IVec S16 32) (k0_hw89 : k0_chk89 v140 v994 v1010), ∀ (k0_h2 : ¬(k0_cond2 v140 = 1#1)), ∀ a x, ((![v994, v1010] : Fin 2 → IVec S16 32) a x).toNat < S256x128.size a := fun v140 v994 v1010 k0_hw89 k0_h2 => k0_hw89.1 k0_h2
theorem k0_idx161_inb : ∀ (v140 : BitVec 32) (v994 : IVec S16 32) (v1010 : IVec S16 32) (k0_hw89 : k0_chk89 v140 v994 v1010), ∀ (k0_h2 : ¬(k0_cond2 v140 = 1#1)), ∀ a x, ((![v994, v1010] : Fin 2 → IVec S16 32) a x).toNat < S256x128.size a := fun v140 v994 v1010 k0_hw89 k0_h2 => k0_hw89.2 k0_h2

def k0_chk90 (v2 : IVec S16 32) (v140 : BitVec 32) (v994 : IVec S16 32) : Prop :=
  (∀ (k0_h2 : ¬(k0_cond2 v140 = 1#1)), ∀ a x, ((![v994, v2] : Fin 2 → IVec S16 32) a x).toNat < S256x16.size a)
theorem k0_idx162_inb : ∀ (v2 : IVec S16 32) (v140 : BitVec 32) (v994 : IVec S16 32) (k0_hw90 : k0_chk90 v2 v140 v994), ∀ (k0_h2 : ¬(k0_cond2 v140 = 1#1)), ∀ a x, ((![v994, v2] : Fin 2 → IVec S16 32) a x).toNat < S256x16.size a := fun v2 v140 v994 k0_hw90 k0_h2 => k0_hw90 k0_h2

def k0_chk91 (v140 : BitVec 32) (v1055 : IVec S16 32) : Prop :=
  (∀ (k0_h2 : ¬(k0_cond2 v140 = 1#1)), ∀ a x, ((![v1055] : Fin 1 → IVec S16 32) a x).toNat < S3136.size a)
theorem k0_idx163_inb : ∀ (v140 : BitVec 32) (v1055 : IVec S16 32) (k0_hw91 : k0_chk91 v140 v1055), ∀ (k0_h2 : ¬(k0_cond2 v140 = 1#1)), ∀ a x, ((![v1055] : Fin 1 → IVec S16 32) a x).toNat < S3136.size a := fun v140 v1055 k0_hw91 k0_h2 => k0_hw91 k0_h2
def k0_off91 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1058 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c9_i32_333 : BitVec 32 := 9#32
  let v1057 : BitVec 32 := Scalar.addi v126 c9_i32_333
  let v1059 : Index := Scalar.indexCast v1057
  let c0_334 : Index := 0#32
  ![v1058.toNat, v1059.toNat, 0]
def k0_off92 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1062 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c9_i32_335 : BitVec 32 := 9#32
  let v1061 : BitVec 32 := Scalar.addi v126 c9_i32_335
  let v1063 : Index := Scalar.indexCast v1061
  let c16_336 : Index := 16#32
  ![v1062.toNat, v1063.toNat, 16]
def k0_off93 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1066 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c9_i32_337 : BitVec 32 := 9#32
  let v1065 : BitVec 32 := Scalar.addi v126 c9_i32_337
  let v1067 : Index := Scalar.indexCast v1065
  let c32_338 : Index := 32#32
  ![v1066.toNat, v1067.toNat, 32]
def k0_off94 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1070 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c9_i32_339 : BitVec 32 := 9#32
  let v1069 : BitVec 32 := Scalar.addi v126 c9_i32_339
  let v1071 : Index := Scalar.indexCast v1069
  let c48_340 : Index := 48#32
  ![v1070.toNat, v1071.toNat, 48]
def k0_off95 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1074 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c9_i32_341 : BitVec 32 := 9#32
  let v1073 : BitVec 32 := Scalar.addi v126 c9_i32_341
  let v1075 : Index := Scalar.indexCast v1073
  let c64_342 : Index := 64#32
  ![v1074.toNat, v1075.toNat, 64]
def k0_off96 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1078 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c9_i32_343 : BitVec 32 := 9#32
  let v1077 : BitVec 32 := Scalar.addi v126 c9_i32_343
  let v1079 : Index := Scalar.indexCast v1077
  let c80_344 : Index := 80#32
  ![v1078.toNat, v1079.toNat, 80]
def k0_off97 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1082 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c9_i32_345 : BitVec 32 := 9#32
  let v1081 : BitVec 32 := Scalar.addi v126 c9_i32_345
  let v1083 : Index := Scalar.indexCast v1081
  let c96_346 : Index := 96#32
  ![v1082.toNat, v1083.toNat, 96]
def k0_off98 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1086 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c9_i32_347 : BitVec 32 := 9#32
  let v1085 : BitVec 32 := Scalar.addi v126 c9_i32_347
  let v1087 : Index := Scalar.indexCast v1085
  let c112_348 : Index := 112#32
  ![v1086.toNat, v1087.toNat, 112]

def k0_chk92 (v140 : BitVec 32) (v1095 : IVec S16 32) (v1097 : IVec S16 32) : Prop :=
  (∀ (k0_h2 : ¬(k0_cond2 v140 = 1#1)), ∀ a x, ((![v1095, v1097] : Fin 2 → IVec S16 32) a x).toNat < S256x128.size a) ∧
  (∀ (k0_h2 : ¬(k0_cond2 v140 = 1#1)), ∀ a x, ((![v1095, v1097] : Fin 2 → IVec S16 32) a x).toNat < S256x128.size a)
theorem k0_idx164_inb : ∀ (v140 : BitVec 32) (v1095 : IVec S16 32) (v1097 : IVec S16 32) (k0_hw92 : k0_chk92 v140 v1095 v1097), ∀ (k0_h2 : ¬(k0_cond2 v140 = 1#1)), ∀ a x, ((![v1095, v1097] : Fin 2 → IVec S16 32) a x).toNat < S256x128.size a := fun v140 v1095 v1097 k0_hw92 k0_h2 => k0_hw92.1 k0_h2
theorem k0_idx165_inb : ∀ (v140 : BitVec 32) (v1095 : IVec S16 32) (v1097 : IVec S16 32) (k0_hw92 : k0_chk92 v140 v1095 v1097), ∀ (k0_h2 : ¬(k0_cond2 v140 = 1#1)), ∀ a x, ((![v1095, v1097] : Fin 2 → IVec S16 32) a x).toNat < S256x128.size a := fun v140 v1095 v1097 k0_hw92 k0_h2 => k0_hw92.2 k0_h2

def k0_chk93 (v140 : BitVec 32) (v1095 : IVec S16 32) (v1099 : IVec S16 32) : Prop :=
  (∀ (k0_h2 : ¬(k0_cond2 v140 = 1#1)), ∀ a x, ((![v1095, v1099] : Fin 2 → IVec S16 32) a x).toNat < S256x128.size a) ∧
  (∀ (k0_h2 : ¬(k0_cond2 v140 = 1#1)), ∀ a x, ((![v1095, v1099] : Fin 2 → IVec S16 32) a x).toNat < S256x128.size a)
theorem k0_idx166_inb : ∀ (v140 : BitVec 32) (v1095 : IVec S16 32) (v1099 : IVec S16 32) (k0_hw93 : k0_chk93 v140 v1095 v1099), ∀ (k0_h2 : ¬(k0_cond2 v140 = 1#1)), ∀ a x, ((![v1095, v1099] : Fin 2 → IVec S16 32) a x).toNat < S256x128.size a := fun v140 v1095 v1099 k0_hw93 k0_h2 => k0_hw93.1 k0_h2
theorem k0_idx167_inb : ∀ (v140 : BitVec 32) (v1095 : IVec S16 32) (v1099 : IVec S16 32) (k0_hw93 : k0_chk93 v140 v1095 v1099), ∀ (k0_h2 : ¬(k0_cond2 v140 = 1#1)), ∀ a x, ((![v1095, v1099] : Fin 2 → IVec S16 32) a x).toNat < S256x128.size a := fun v140 v1095 v1099 k0_hw93 k0_h2 => k0_hw93.2 k0_h2

def k0_chk94 (v140 : BitVec 32) (v1095 : IVec S16 32) (v1101 : IVec S16 32) : Prop :=
  (∀ (k0_h2 : ¬(k0_cond2 v140 = 1#1)), ∀ a x, ((![v1095, v1101] : Fin 2 → IVec S16 32) a x).toNat < S256x128.size a) ∧
  (∀ (k0_h2 : ¬(k0_cond2 v140 = 1#1)), ∀ a x, ((![v1095, v1101] : Fin 2 → IVec S16 32) a x).toNat < S256x128.size a)
theorem k0_idx168_inb : ∀ (v140 : BitVec 32) (v1095 : IVec S16 32) (v1101 : IVec S16 32) (k0_hw94 : k0_chk94 v140 v1095 v1101), ∀ (k0_h2 : ¬(k0_cond2 v140 = 1#1)), ∀ a x, ((![v1095, v1101] : Fin 2 → IVec S16 32) a x).toNat < S256x128.size a := fun v140 v1095 v1101 k0_hw94 k0_h2 => k0_hw94.1 k0_h2
theorem k0_idx169_inb : ∀ (v140 : BitVec 32) (v1095 : IVec S16 32) (v1101 : IVec S16 32) (k0_hw94 : k0_chk94 v140 v1095 v1101), ∀ (k0_h2 : ¬(k0_cond2 v140 = 1#1)), ∀ a x, ((![v1095, v1101] : Fin 2 → IVec S16 32) a x).toNat < S256x128.size a := fun v140 v1095 v1101 k0_hw94 k0_h2 => k0_hw94.2 k0_h2

def k0_chk95 (v140 : BitVec 32) (v1095 : IVec S16 32) (v1103 : IVec S16 32) : Prop :=
  (∀ (k0_h2 : ¬(k0_cond2 v140 = 1#1)), ∀ a x, ((![v1095, v1103] : Fin 2 → IVec S16 32) a x).toNat < S256x128.size a) ∧
  (∀ (k0_h2 : ¬(k0_cond2 v140 = 1#1)), ∀ a x, ((![v1095, v1103] : Fin 2 → IVec S16 32) a x).toNat < S256x128.size a)
theorem k0_idx170_inb : ∀ (v140 : BitVec 32) (v1095 : IVec S16 32) (v1103 : IVec S16 32) (k0_hw95 : k0_chk95 v140 v1095 v1103), ∀ (k0_h2 : ¬(k0_cond2 v140 = 1#1)), ∀ a x, ((![v1095, v1103] : Fin 2 → IVec S16 32) a x).toNat < S256x128.size a := fun v140 v1095 v1103 k0_hw95 k0_h2 => k0_hw95.1 k0_h2
theorem k0_idx171_inb : ∀ (v140 : BitVec 32) (v1095 : IVec S16 32) (v1103 : IVec S16 32) (k0_hw95 : k0_chk95 v140 v1095 v1103), ∀ (k0_h2 : ¬(k0_cond2 v140 = 1#1)), ∀ a x, ((![v1095, v1103] : Fin 2 → IVec S16 32) a x).toNat < S256x128.size a := fun v140 v1095 v1103 k0_hw95 k0_h2 => k0_hw95.2 k0_h2

def k0_chk96 (v140 : BitVec 32) (v1095 : IVec S16 32) (v1105 : IVec S16 32) : Prop :=
  (∀ (k0_h2 : ¬(k0_cond2 v140 = 1#1)), ∀ a x, ((![v1095, v1105] : Fin 2 → IVec S16 32) a x).toNat < S256x128.size a) ∧
  (∀ (k0_h2 : ¬(k0_cond2 v140 = 1#1)), ∀ a x, ((![v1095, v1105] : Fin 2 → IVec S16 32) a x).toNat < S256x128.size a)
theorem k0_idx172_inb : ∀ (v140 : BitVec 32) (v1095 : IVec S16 32) (v1105 : IVec S16 32) (k0_hw96 : k0_chk96 v140 v1095 v1105), ∀ (k0_h2 : ¬(k0_cond2 v140 = 1#1)), ∀ a x, ((![v1095, v1105] : Fin 2 → IVec S16 32) a x).toNat < S256x128.size a := fun v140 v1095 v1105 k0_hw96 k0_h2 => k0_hw96.1 k0_h2
theorem k0_idx173_inb : ∀ (v140 : BitVec 32) (v1095 : IVec S16 32) (v1105 : IVec S16 32) (k0_hw96 : k0_chk96 v140 v1095 v1105), ∀ (k0_h2 : ¬(k0_cond2 v140 = 1#1)), ∀ a x, ((![v1095, v1105] : Fin 2 → IVec S16 32) a x).toNat < S256x128.size a := fun v140 v1095 v1105 k0_hw96 k0_h2 => k0_hw96.2 k0_h2

def k0_chk97 (v140 : BitVec 32) (v1095 : IVec S16 32) (v1107 : IVec S16 32) : Prop :=
  (∀ (k0_h2 : ¬(k0_cond2 v140 = 1#1)), ∀ a x, ((![v1095, v1107] : Fin 2 → IVec S16 32) a x).toNat < S256x128.size a) ∧
  (∀ (k0_h2 : ¬(k0_cond2 v140 = 1#1)), ∀ a x, ((![v1095, v1107] : Fin 2 → IVec S16 32) a x).toNat < S256x128.size a)
theorem k0_idx174_inb : ∀ (v140 : BitVec 32) (v1095 : IVec S16 32) (v1107 : IVec S16 32) (k0_hw97 : k0_chk97 v140 v1095 v1107), ∀ (k0_h2 : ¬(k0_cond2 v140 = 1#1)), ∀ a x, ((![v1095, v1107] : Fin 2 → IVec S16 32) a x).toNat < S256x128.size a := fun v140 v1095 v1107 k0_hw97 k0_h2 => k0_hw97.1 k0_h2
theorem k0_idx175_inb : ∀ (v140 : BitVec 32) (v1095 : IVec S16 32) (v1107 : IVec S16 32) (k0_hw97 : k0_chk97 v140 v1095 v1107), ∀ (k0_h2 : ¬(k0_cond2 v140 = 1#1)), ∀ a x, ((![v1095, v1107] : Fin 2 → IVec S16 32) a x).toNat < S256x128.size a := fun v140 v1095 v1107 k0_hw97 k0_h2 => k0_hw97.2 k0_h2

def k0_chk98 (v140 : BitVec 32) (v1095 : IVec S16 32) (v1109 : IVec S16 32) : Prop :=
  (∀ (k0_h2 : ¬(k0_cond2 v140 = 1#1)), ∀ a x, ((![v1095, v1109] : Fin 2 → IVec S16 32) a x).toNat < S256x128.size a) ∧
  (∀ (k0_h2 : ¬(k0_cond2 v140 = 1#1)), ∀ a x, ((![v1095, v1109] : Fin 2 → IVec S16 32) a x).toNat < S256x128.size a)
theorem k0_idx176_inb : ∀ (v140 : BitVec 32) (v1095 : IVec S16 32) (v1109 : IVec S16 32) (k0_hw98 : k0_chk98 v140 v1095 v1109), ∀ (k0_h2 : ¬(k0_cond2 v140 = 1#1)), ∀ a x, ((![v1095, v1109] : Fin 2 → IVec S16 32) a x).toNat < S256x128.size a := fun v140 v1095 v1109 k0_hw98 k0_h2 => k0_hw98.1 k0_h2
theorem k0_idx177_inb : ∀ (v140 : BitVec 32) (v1095 : IVec S16 32) (v1109 : IVec S16 32) (k0_hw98 : k0_chk98 v140 v1095 v1109), ∀ (k0_h2 : ¬(k0_cond2 v140 = 1#1)), ∀ a x, ((![v1095, v1109] : Fin 2 → IVec S16 32) a x).toNat < S256x128.size a := fun v140 v1095 v1109 k0_hw98 k0_h2 => k0_hw98.2 k0_h2

def k0_chk99 (v140 : BitVec 32) (v1095 : IVec S16 32) (v1111 : IVec S16 32) : Prop :=
  (∀ (k0_h2 : ¬(k0_cond2 v140 = 1#1)), ∀ a x, ((![v1095, v1111] : Fin 2 → IVec S16 32) a x).toNat < S256x128.size a) ∧
  (∀ (k0_h2 : ¬(k0_cond2 v140 = 1#1)), ∀ a x, ((![v1095, v1111] : Fin 2 → IVec S16 32) a x).toNat < S256x128.size a)
theorem k0_idx178_inb : ∀ (v140 : BitVec 32) (v1095 : IVec S16 32) (v1111 : IVec S16 32) (k0_hw99 : k0_chk99 v140 v1095 v1111), ∀ (k0_h2 : ¬(k0_cond2 v140 = 1#1)), ∀ a x, ((![v1095, v1111] : Fin 2 → IVec S16 32) a x).toNat < S256x128.size a := fun v140 v1095 v1111 k0_hw99 k0_h2 => k0_hw99.1 k0_h2
theorem k0_idx179_inb : ∀ (v140 : BitVec 32) (v1095 : IVec S16 32) (v1111 : IVec S16 32) (k0_hw99 : k0_chk99 v140 v1095 v1111), ∀ (k0_h2 : ¬(k0_cond2 v140 = 1#1)), ∀ a x, ((![v1095, v1111] : Fin 2 → IVec S16 32) a x).toNat < S256x128.size a := fun v140 v1095 v1111 k0_hw99 k0_h2 => k0_hw99.2 k0_h2

def k0_chk100 (v2 : IVec S16 32) (v140 : BitVec 32) (v1095 : IVec S16 32) : Prop :=
  (∀ (k0_h2 : ¬(k0_cond2 v140 = 1#1)), ∀ a x, ((![v1095, v2] : Fin 2 → IVec S16 32) a x).toNat < S256x16.size a)
theorem k0_idx180_inb : ∀ (v2 : IVec S16 32) (v140 : BitVec 32) (v1095 : IVec S16 32) (k0_hw100 : k0_chk100 v2 v140 v1095), ∀ (k0_h2 : ¬(k0_cond2 v140 = 1#1)), ∀ a x, ((![v1095, v2] : Fin 2 → IVec S16 32) a x).toNat < S256x16.size a := fun v2 v140 v1095 k0_hw100 k0_h2 => k0_hw100 k0_h2

def k0_chk101 (v140 : BitVec 32) (v1156 : IVec S16 32) : Prop :=
  (∀ (k0_h2 : ¬(k0_cond2 v140 = 1#1)), ∀ a x, ((![v1156] : Fin 1 → IVec S16 32) a x).toNat < S3136.size a)
theorem k0_idx181_inb : ∀ (v140 : BitVec 32) (v1156 : IVec S16 32) (k0_hw101 : k0_chk101 v140 v1156), ∀ (k0_h2 : ¬(k0_cond2 v140 = 1#1)), ∀ a x, ((![v1156] : Fin 1 → IVec S16 32) a x).toNat < S3136.size a := fun v140 v1156 k0_hw101 k0_h2 => k0_hw101 k0_h2
def k0_off99 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1159 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c10_i32_363 : BitVec 32 := 10#32
  let v1158 : BitVec 32 := Scalar.addi v126 c10_i32_363
  let v1160 : Index := Scalar.indexCast v1158
  let c0_364 : Index := 0#32
  ![v1159.toNat, v1160.toNat, 0]
def k0_off100 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1163 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c10_i32_365 : BitVec 32 := 10#32
  let v1162 : BitVec 32 := Scalar.addi v126 c10_i32_365
  let v1164 : Index := Scalar.indexCast v1162
  let c16_366 : Index := 16#32
  ![v1163.toNat, v1164.toNat, 16]
def k0_off101 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1167 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c10_i32_367 : BitVec 32 := 10#32
  let v1166 : BitVec 32 := Scalar.addi v126 c10_i32_367
  let v1168 : Index := Scalar.indexCast v1166
  let c32_368 : Index := 32#32
  ![v1167.toNat, v1168.toNat, 32]
def k0_off102 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1171 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c10_i32_369 : BitVec 32 := 10#32
  let v1170 : BitVec 32 := Scalar.addi v126 c10_i32_369
  let v1172 : Index := Scalar.indexCast v1170
  let c48_370 : Index := 48#32
  ![v1171.toNat, v1172.toNat, 48]
def k0_off103 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1175 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c10_i32_371 : BitVec 32 := 10#32
  let v1174 : BitVec 32 := Scalar.addi v126 c10_i32_371
  let v1176 : Index := Scalar.indexCast v1174
  let c64_372 : Index := 64#32
  ![v1175.toNat, v1176.toNat, 64]
def k0_off104 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1179 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c10_i32_373 : BitVec 32 := 10#32
  let v1178 : BitVec 32 := Scalar.addi v126 c10_i32_373
  let v1180 : Index := Scalar.indexCast v1178
  let c80_374 : Index := 80#32
  ![v1179.toNat, v1180.toNat, 80]
def k0_off105 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1183 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c10_i32_375 : BitVec 32 := 10#32
  let v1182 : BitVec 32 := Scalar.addi v126 c10_i32_375
  let v1184 : Index := Scalar.indexCast v1182
  let c96_376 : Index := 96#32
  ![v1183.toNat, v1184.toNat, 96]
def k0_off106 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1187 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c10_i32_377 : BitVec 32 := 10#32
  let v1186 : BitVec 32 := Scalar.addi v126 c10_i32_377
  let v1188 : Index := Scalar.indexCast v1186
  let c112_378 : Index := 112#32
  ![v1187.toNat, v1188.toNat, 112]

def k0_chk102 (v140 : BitVec 32) (v1196 : IVec S16 32) (v1198 : IVec S16 32) : Prop :=
  (∀ (k0_h2 : ¬(k0_cond2 v140 = 1#1)), ∀ a x, ((![v1196, v1198] : Fin 2 → IVec S16 32) a x).toNat < S256x128.size a) ∧
  (∀ (k0_h2 : ¬(k0_cond2 v140 = 1#1)), ∀ a x, ((![v1196, v1198] : Fin 2 → IVec S16 32) a x).toNat < S256x128.size a)
theorem k0_idx182_inb : ∀ (v140 : BitVec 32) (v1196 : IVec S16 32) (v1198 : IVec S16 32) (k0_hw102 : k0_chk102 v140 v1196 v1198), ∀ (k0_h2 : ¬(k0_cond2 v140 = 1#1)), ∀ a x, ((![v1196, v1198] : Fin 2 → IVec S16 32) a x).toNat < S256x128.size a := fun v140 v1196 v1198 k0_hw102 k0_h2 => k0_hw102.1 k0_h2
theorem k0_idx183_inb : ∀ (v140 : BitVec 32) (v1196 : IVec S16 32) (v1198 : IVec S16 32) (k0_hw102 : k0_chk102 v140 v1196 v1198), ∀ (k0_h2 : ¬(k0_cond2 v140 = 1#1)), ∀ a x, ((![v1196, v1198] : Fin 2 → IVec S16 32) a x).toNat < S256x128.size a := fun v140 v1196 v1198 k0_hw102 k0_h2 => k0_hw102.2 k0_h2

def k0_chk103 (v140 : BitVec 32) (v1196 : IVec S16 32) (v1200 : IVec S16 32) : Prop :=
  (∀ (k0_h2 : ¬(k0_cond2 v140 = 1#1)), ∀ a x, ((![v1196, v1200] : Fin 2 → IVec S16 32) a x).toNat < S256x128.size a) ∧
  (∀ (k0_h2 : ¬(k0_cond2 v140 = 1#1)), ∀ a x, ((![v1196, v1200] : Fin 2 → IVec S16 32) a x).toNat < S256x128.size a)
theorem k0_idx184_inb : ∀ (v140 : BitVec 32) (v1196 : IVec S16 32) (v1200 : IVec S16 32) (k0_hw103 : k0_chk103 v140 v1196 v1200), ∀ (k0_h2 : ¬(k0_cond2 v140 = 1#1)), ∀ a x, ((![v1196, v1200] : Fin 2 → IVec S16 32) a x).toNat < S256x128.size a := fun v140 v1196 v1200 k0_hw103 k0_h2 => k0_hw103.1 k0_h2
theorem k0_idx185_inb : ∀ (v140 : BitVec 32) (v1196 : IVec S16 32) (v1200 : IVec S16 32) (k0_hw103 : k0_chk103 v140 v1196 v1200), ∀ (k0_h2 : ¬(k0_cond2 v140 = 1#1)), ∀ a x, ((![v1196, v1200] : Fin 2 → IVec S16 32) a x).toNat < S256x128.size a := fun v140 v1196 v1200 k0_hw103 k0_h2 => k0_hw103.2 k0_h2

def k0_chk104 (v140 : BitVec 32) (v1196 : IVec S16 32) (v1202 : IVec S16 32) : Prop :=
  (∀ (k0_h2 : ¬(k0_cond2 v140 = 1#1)), ∀ a x, ((![v1196, v1202] : Fin 2 → IVec S16 32) a x).toNat < S256x128.size a) ∧
  (∀ (k0_h2 : ¬(k0_cond2 v140 = 1#1)), ∀ a x, ((![v1196, v1202] : Fin 2 → IVec S16 32) a x).toNat < S256x128.size a)
theorem k0_idx186_inb : ∀ (v140 : BitVec 32) (v1196 : IVec S16 32) (v1202 : IVec S16 32) (k0_hw104 : k0_chk104 v140 v1196 v1202), ∀ (k0_h2 : ¬(k0_cond2 v140 = 1#1)), ∀ a x, ((![v1196, v1202] : Fin 2 → IVec S16 32) a x).toNat < S256x128.size a := fun v140 v1196 v1202 k0_hw104 k0_h2 => k0_hw104.1 k0_h2
theorem k0_idx187_inb : ∀ (v140 : BitVec 32) (v1196 : IVec S16 32) (v1202 : IVec S16 32) (k0_hw104 : k0_chk104 v140 v1196 v1202), ∀ (k0_h2 : ¬(k0_cond2 v140 = 1#1)), ∀ a x, ((![v1196, v1202] : Fin 2 → IVec S16 32) a x).toNat < S256x128.size a := fun v140 v1196 v1202 k0_hw104 k0_h2 => k0_hw104.2 k0_h2

def k0_chk105 (v140 : BitVec 32) (v1196 : IVec S16 32) (v1204 : IVec S16 32) : Prop :=
  (∀ (k0_h2 : ¬(k0_cond2 v140 = 1#1)), ∀ a x, ((![v1196, v1204] : Fin 2 → IVec S16 32) a x).toNat < S256x128.size a) ∧
  (∀ (k0_h2 : ¬(k0_cond2 v140 = 1#1)), ∀ a x, ((![v1196, v1204] : Fin 2 → IVec S16 32) a x).toNat < S256x128.size a)
theorem k0_idx188_inb : ∀ (v140 : BitVec 32) (v1196 : IVec S16 32) (v1204 : IVec S16 32) (k0_hw105 : k0_chk105 v140 v1196 v1204), ∀ (k0_h2 : ¬(k0_cond2 v140 = 1#1)), ∀ a x, ((![v1196, v1204] : Fin 2 → IVec S16 32) a x).toNat < S256x128.size a := fun v140 v1196 v1204 k0_hw105 k0_h2 => k0_hw105.1 k0_h2
theorem k0_idx189_inb : ∀ (v140 : BitVec 32) (v1196 : IVec S16 32) (v1204 : IVec S16 32) (k0_hw105 : k0_chk105 v140 v1196 v1204), ∀ (k0_h2 : ¬(k0_cond2 v140 = 1#1)), ∀ a x, ((![v1196, v1204] : Fin 2 → IVec S16 32) a x).toNat < S256x128.size a := fun v140 v1196 v1204 k0_hw105 k0_h2 => k0_hw105.2 k0_h2

def k0_chk106 (v140 : BitVec 32) (v1196 : IVec S16 32) (v1206 : IVec S16 32) : Prop :=
  (∀ (k0_h2 : ¬(k0_cond2 v140 = 1#1)), ∀ a x, ((![v1196, v1206] : Fin 2 → IVec S16 32) a x).toNat < S256x128.size a) ∧
  (∀ (k0_h2 : ¬(k0_cond2 v140 = 1#1)), ∀ a x, ((![v1196, v1206] : Fin 2 → IVec S16 32) a x).toNat < S256x128.size a)
theorem k0_idx190_inb : ∀ (v140 : BitVec 32) (v1196 : IVec S16 32) (v1206 : IVec S16 32) (k0_hw106 : k0_chk106 v140 v1196 v1206), ∀ (k0_h2 : ¬(k0_cond2 v140 = 1#1)), ∀ a x, ((![v1196, v1206] : Fin 2 → IVec S16 32) a x).toNat < S256x128.size a := fun v140 v1196 v1206 k0_hw106 k0_h2 => k0_hw106.1 k0_h2
theorem k0_idx191_inb : ∀ (v140 : BitVec 32) (v1196 : IVec S16 32) (v1206 : IVec S16 32) (k0_hw106 : k0_chk106 v140 v1196 v1206), ∀ (k0_h2 : ¬(k0_cond2 v140 = 1#1)), ∀ a x, ((![v1196, v1206] : Fin 2 → IVec S16 32) a x).toNat < S256x128.size a := fun v140 v1196 v1206 k0_hw106 k0_h2 => k0_hw106.2 k0_h2

def k0_chk107 (v140 : BitVec 32) (v1196 : IVec S16 32) (v1208 : IVec S16 32) : Prop :=
  (∀ (k0_h2 : ¬(k0_cond2 v140 = 1#1)), ∀ a x, ((![v1196, v1208] : Fin 2 → IVec S16 32) a x).toNat < S256x128.size a) ∧
  (∀ (k0_h2 : ¬(k0_cond2 v140 = 1#1)), ∀ a x, ((![v1196, v1208] : Fin 2 → IVec S16 32) a x).toNat < S256x128.size a)
theorem k0_idx192_inb : ∀ (v140 : BitVec 32) (v1196 : IVec S16 32) (v1208 : IVec S16 32) (k0_hw107 : k0_chk107 v140 v1196 v1208), ∀ (k0_h2 : ¬(k0_cond2 v140 = 1#1)), ∀ a x, ((![v1196, v1208] : Fin 2 → IVec S16 32) a x).toNat < S256x128.size a := fun v140 v1196 v1208 k0_hw107 k0_h2 => k0_hw107.1 k0_h2
theorem k0_idx193_inb : ∀ (v140 : BitVec 32) (v1196 : IVec S16 32) (v1208 : IVec S16 32) (k0_hw107 : k0_chk107 v140 v1196 v1208), ∀ (k0_h2 : ¬(k0_cond2 v140 = 1#1)), ∀ a x, ((![v1196, v1208] : Fin 2 → IVec S16 32) a x).toNat < S256x128.size a := fun v140 v1196 v1208 k0_hw107 k0_h2 => k0_hw107.2 k0_h2

def k0_chk108 (v140 : BitVec 32) (v1196 : IVec S16 32) (v1210 : IVec S16 32) : Prop :=
  (∀ (k0_h2 : ¬(k0_cond2 v140 = 1#1)), ∀ a x, ((![v1196, v1210] : Fin 2 → IVec S16 32) a x).toNat < S256x128.size a) ∧
  (∀ (k0_h2 : ¬(k0_cond2 v140 = 1#1)), ∀ a x, ((![v1196, v1210] : Fin 2 → IVec S16 32) a x).toNat < S256x128.size a)
theorem k0_idx194_inb : ∀ (v140 : BitVec 32) (v1196 : IVec S16 32) (v1210 : IVec S16 32) (k0_hw108 : k0_chk108 v140 v1196 v1210), ∀ (k0_h2 : ¬(k0_cond2 v140 = 1#1)), ∀ a x, ((![v1196, v1210] : Fin 2 → IVec S16 32) a x).toNat < S256x128.size a := fun v140 v1196 v1210 k0_hw108 k0_h2 => k0_hw108.1 k0_h2
theorem k0_idx195_inb : ∀ (v140 : BitVec 32) (v1196 : IVec S16 32) (v1210 : IVec S16 32) (k0_hw108 : k0_chk108 v140 v1196 v1210), ∀ (k0_h2 : ¬(k0_cond2 v140 = 1#1)), ∀ a x, ((![v1196, v1210] : Fin 2 → IVec S16 32) a x).toNat < S256x128.size a := fun v140 v1196 v1210 k0_hw108 k0_h2 => k0_hw108.2 k0_h2

def k0_chk109 (v140 : BitVec 32) (v1196 : IVec S16 32) (v1212 : IVec S16 32) : Prop :=
  (∀ (k0_h2 : ¬(k0_cond2 v140 = 1#1)), ∀ a x, ((![v1196, v1212] : Fin 2 → IVec S16 32) a x).toNat < S256x128.size a) ∧
  (∀ (k0_h2 : ¬(k0_cond2 v140 = 1#1)), ∀ a x, ((![v1196, v1212] : Fin 2 → IVec S16 32) a x).toNat < S256x128.size a)
theorem k0_idx196_inb : ∀ (v140 : BitVec 32) (v1196 : IVec S16 32) (v1212 : IVec S16 32) (k0_hw109 : k0_chk109 v140 v1196 v1212), ∀ (k0_h2 : ¬(k0_cond2 v140 = 1#1)), ∀ a x, ((![v1196, v1212] : Fin 2 → IVec S16 32) a x).toNat < S256x128.size a := fun v140 v1196 v1212 k0_hw109 k0_h2 => k0_hw109.1 k0_h2
theorem k0_idx197_inb : ∀ (v140 : BitVec 32) (v1196 : IVec S16 32) (v1212 : IVec S16 32) (k0_hw109 : k0_chk109 v140 v1196 v1212), ∀ (k0_h2 : ¬(k0_cond2 v140 = 1#1)), ∀ a x, ((![v1196, v1212] : Fin 2 → IVec S16 32) a x).toNat < S256x128.size a := fun v140 v1196 v1212 k0_hw109 k0_h2 => k0_hw109.2 k0_h2

def k0_chk110 (v2 : IVec S16 32) (v140 : BitVec 32) (v1196 : IVec S16 32) : Prop :=
  (∀ (k0_h2 : ¬(k0_cond2 v140 = 1#1)), ∀ a x, ((![v1196, v2] : Fin 2 → IVec S16 32) a x).toNat < S256x16.size a)
theorem k0_idx198_inb : ∀ (v2 : IVec S16 32) (v140 : BitVec 32) (v1196 : IVec S16 32) (k0_hw110 : k0_chk110 v2 v140 v1196), ∀ (k0_h2 : ¬(k0_cond2 v140 = 1#1)), ∀ a x, ((![v1196, v2] : Fin 2 → IVec S16 32) a x).toNat < S256x16.size a := fun v2 v140 v1196 k0_hw110 k0_h2 => k0_hw110 k0_h2

def k0_chk111 (v140 : BitVec 32) (v1257 : IVec S16 32) : Prop :=
  (∀ (k0_h2 : ¬(k0_cond2 v140 = 1#1)), ∀ a x, ((![v1257] : Fin 1 → IVec S16 32) a x).toNat < S3136.size a)
theorem k0_idx199_inb : ∀ (v140 : BitVec 32) (v1257 : IVec S16 32) (k0_hw111 : k0_chk111 v140 v1257), ∀ (k0_h2 : ¬(k0_cond2 v140 = 1#1)), ∀ a x, ((![v1257] : Fin 1 → IVec S16 32) a x).toNat < S3136.size a := fun v140 v1257 k0_hw111 k0_h2 => k0_hw111 k0_h2
def k0_off107 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1260 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c11_i32_393 : BitVec 32 := 11#32
  let v1259 : BitVec 32 := Scalar.addi v126 c11_i32_393
  let v1261 : Index := Scalar.indexCast v1259
  let c0_394 : Index := 0#32
  ![v1260.toNat, v1261.toNat, 0]
def k0_off108 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1264 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c11_i32_395 : BitVec 32 := 11#32
  let v1263 : BitVec 32 := Scalar.addi v126 c11_i32_395
  let v1265 : Index := Scalar.indexCast v1263
  let c16_396 : Index := 16#32
  ![v1264.toNat, v1265.toNat, 16]
def k0_off109 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1268 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c11_i32_397 : BitVec 32 := 11#32
  let v1267 : BitVec 32 := Scalar.addi v126 c11_i32_397
  let v1269 : Index := Scalar.indexCast v1267
  let c32_398 : Index := 32#32
  ![v1268.toNat, v1269.toNat, 32]
def k0_off110 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1272 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c11_i32_399 : BitVec 32 := 11#32
  let v1271 : BitVec 32 := Scalar.addi v126 c11_i32_399
  let v1273 : Index := Scalar.indexCast v1271
  let c48_400 : Index := 48#32
  ![v1272.toNat, v1273.toNat, 48]
def k0_off111 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1276 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c11_i32_401 : BitVec 32 := 11#32
  let v1275 : BitVec 32 := Scalar.addi v126 c11_i32_401
  let v1277 : Index := Scalar.indexCast v1275
  let c64_402 : Index := 64#32
  ![v1276.toNat, v1277.toNat, 64]
def k0_off112 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1280 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c11_i32_403 : BitVec 32 := 11#32
  let v1279 : BitVec 32 := Scalar.addi v126 c11_i32_403
  let v1281 : Index := Scalar.indexCast v1279
  let c80_404 : Index := 80#32
  ![v1280.toNat, v1281.toNat, 80]
def k0_off113 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1284 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c11_i32_405 : BitVec 32 := 11#32
  let v1283 : BitVec 32 := Scalar.addi v126 c11_i32_405
  let v1285 : Index := Scalar.indexCast v1283
  let c96_406 : Index := 96#32
  ![v1284.toNat, v1285.toNat, 96]
def k0_off114 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1288 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c11_i32_407 : BitVec 32 := 11#32
  let v1287 : BitVec 32 := Scalar.addi v126 c11_i32_407
  let v1289 : Index := Scalar.indexCast v1287
  let c112_408 : Index := 112#32
  ![v1288.toNat, v1289.toNat, 112]

def k0_chk112 (v140 : BitVec 32) (v1297 : IVec S16 32) (v1299 : IVec S16 32) : Prop :=
  (∀ (k0_h2 : ¬(k0_cond2 v140 = 1#1)), ∀ a x, ((![v1297, v1299] : Fin 2 → IVec S16 32) a x).toNat < S256x128.size a) ∧
  (∀ (k0_h2 : ¬(k0_cond2 v140 = 1#1)), ∀ a x, ((![v1297, v1299] : Fin 2 → IVec S16 32) a x).toNat < S256x128.size a)
theorem k0_idx200_inb : ∀ (v140 : BitVec 32) (v1297 : IVec S16 32) (v1299 : IVec S16 32) (k0_hw112 : k0_chk112 v140 v1297 v1299), ∀ (k0_h2 : ¬(k0_cond2 v140 = 1#1)), ∀ a x, ((![v1297, v1299] : Fin 2 → IVec S16 32) a x).toNat < S256x128.size a := fun v140 v1297 v1299 k0_hw112 k0_h2 => k0_hw112.1 k0_h2
theorem k0_idx201_inb : ∀ (v140 : BitVec 32) (v1297 : IVec S16 32) (v1299 : IVec S16 32) (k0_hw112 : k0_chk112 v140 v1297 v1299), ∀ (k0_h2 : ¬(k0_cond2 v140 = 1#1)), ∀ a x, ((![v1297, v1299] : Fin 2 → IVec S16 32) a x).toNat < S256x128.size a := fun v140 v1297 v1299 k0_hw112 k0_h2 => k0_hw112.2 k0_h2

def k0_chk113 (v140 : BitVec 32) (v1297 : IVec S16 32) (v1301 : IVec S16 32) : Prop :=
  (∀ (k0_h2 : ¬(k0_cond2 v140 = 1#1)), ∀ a x, ((![v1297, v1301] : Fin 2 → IVec S16 32) a x).toNat < S256x128.size a) ∧
  (∀ (k0_h2 : ¬(k0_cond2 v140 = 1#1)), ∀ a x, ((![v1297, v1301] : Fin 2 → IVec S16 32) a x).toNat < S256x128.size a)
theorem k0_idx202_inb : ∀ (v140 : BitVec 32) (v1297 : IVec S16 32) (v1301 : IVec S16 32) (k0_hw113 : k0_chk113 v140 v1297 v1301), ∀ (k0_h2 : ¬(k0_cond2 v140 = 1#1)), ∀ a x, ((![v1297, v1301] : Fin 2 → IVec S16 32) a x).toNat < S256x128.size a := fun v140 v1297 v1301 k0_hw113 k0_h2 => k0_hw113.1 k0_h2
theorem k0_idx203_inb : ∀ (v140 : BitVec 32) (v1297 : IVec S16 32) (v1301 : IVec S16 32) (k0_hw113 : k0_chk113 v140 v1297 v1301), ∀ (k0_h2 : ¬(k0_cond2 v140 = 1#1)), ∀ a x, ((![v1297, v1301] : Fin 2 → IVec S16 32) a x).toNat < S256x128.size a := fun v140 v1297 v1301 k0_hw113 k0_h2 => k0_hw113.2 k0_h2

def k0_chk114 (v140 : BitVec 32) (v1297 : IVec S16 32) (v1303 : IVec S16 32) : Prop :=
  (∀ (k0_h2 : ¬(k0_cond2 v140 = 1#1)), ∀ a x, ((![v1297, v1303] : Fin 2 → IVec S16 32) a x).toNat < S256x128.size a) ∧
  (∀ (k0_h2 : ¬(k0_cond2 v140 = 1#1)), ∀ a x, ((![v1297, v1303] : Fin 2 → IVec S16 32) a x).toNat < S256x128.size a)
theorem k0_idx204_inb : ∀ (v140 : BitVec 32) (v1297 : IVec S16 32) (v1303 : IVec S16 32) (k0_hw114 : k0_chk114 v140 v1297 v1303), ∀ (k0_h2 : ¬(k0_cond2 v140 = 1#1)), ∀ a x, ((![v1297, v1303] : Fin 2 → IVec S16 32) a x).toNat < S256x128.size a := fun v140 v1297 v1303 k0_hw114 k0_h2 => k0_hw114.1 k0_h2
theorem k0_idx205_inb : ∀ (v140 : BitVec 32) (v1297 : IVec S16 32) (v1303 : IVec S16 32) (k0_hw114 : k0_chk114 v140 v1297 v1303), ∀ (k0_h2 : ¬(k0_cond2 v140 = 1#1)), ∀ a x, ((![v1297, v1303] : Fin 2 → IVec S16 32) a x).toNat < S256x128.size a := fun v140 v1297 v1303 k0_hw114 k0_h2 => k0_hw114.2 k0_h2

def k0_chk115 (v140 : BitVec 32) (v1297 : IVec S16 32) (v1305 : IVec S16 32) : Prop :=
  (∀ (k0_h2 : ¬(k0_cond2 v140 = 1#1)), ∀ a x, ((![v1297, v1305] : Fin 2 → IVec S16 32) a x).toNat < S256x128.size a) ∧
  (∀ (k0_h2 : ¬(k0_cond2 v140 = 1#1)), ∀ a x, ((![v1297, v1305] : Fin 2 → IVec S16 32) a x).toNat < S256x128.size a)
theorem k0_idx206_inb : ∀ (v140 : BitVec 32) (v1297 : IVec S16 32) (v1305 : IVec S16 32) (k0_hw115 : k0_chk115 v140 v1297 v1305), ∀ (k0_h2 : ¬(k0_cond2 v140 = 1#1)), ∀ a x, ((![v1297, v1305] : Fin 2 → IVec S16 32) a x).toNat < S256x128.size a := fun v140 v1297 v1305 k0_hw115 k0_h2 => k0_hw115.1 k0_h2
theorem k0_idx207_inb : ∀ (v140 : BitVec 32) (v1297 : IVec S16 32) (v1305 : IVec S16 32) (k0_hw115 : k0_chk115 v140 v1297 v1305), ∀ (k0_h2 : ¬(k0_cond2 v140 = 1#1)), ∀ a x, ((![v1297, v1305] : Fin 2 → IVec S16 32) a x).toNat < S256x128.size a := fun v140 v1297 v1305 k0_hw115 k0_h2 => k0_hw115.2 k0_h2

def k0_chk116 (v140 : BitVec 32) (v1297 : IVec S16 32) (v1307 : IVec S16 32) : Prop :=
  (∀ (k0_h2 : ¬(k0_cond2 v140 = 1#1)), ∀ a x, ((![v1297, v1307] : Fin 2 → IVec S16 32) a x).toNat < S256x128.size a) ∧
  (∀ (k0_h2 : ¬(k0_cond2 v140 = 1#1)), ∀ a x, ((![v1297, v1307] : Fin 2 → IVec S16 32) a x).toNat < S256x128.size a)
theorem k0_idx208_inb : ∀ (v140 : BitVec 32) (v1297 : IVec S16 32) (v1307 : IVec S16 32) (k0_hw116 : k0_chk116 v140 v1297 v1307), ∀ (k0_h2 : ¬(k0_cond2 v140 = 1#1)), ∀ a x, ((![v1297, v1307] : Fin 2 → IVec S16 32) a x).toNat < S256x128.size a := fun v140 v1297 v1307 k0_hw116 k0_h2 => k0_hw116.1 k0_h2
theorem k0_idx209_inb : ∀ (v140 : BitVec 32) (v1297 : IVec S16 32) (v1307 : IVec S16 32) (k0_hw116 : k0_chk116 v140 v1297 v1307), ∀ (k0_h2 : ¬(k0_cond2 v140 = 1#1)), ∀ a x, ((![v1297, v1307] : Fin 2 → IVec S16 32) a x).toNat < S256x128.size a := fun v140 v1297 v1307 k0_hw116 k0_h2 => k0_hw116.2 k0_h2

def k0_chk117 (v140 : BitVec 32) (v1297 : IVec S16 32) (v1309 : IVec S16 32) : Prop :=
  (∀ (k0_h2 : ¬(k0_cond2 v140 = 1#1)), ∀ a x, ((![v1297, v1309] : Fin 2 → IVec S16 32) a x).toNat < S256x128.size a) ∧
  (∀ (k0_h2 : ¬(k0_cond2 v140 = 1#1)), ∀ a x, ((![v1297, v1309] : Fin 2 → IVec S16 32) a x).toNat < S256x128.size a)
theorem k0_idx210_inb : ∀ (v140 : BitVec 32) (v1297 : IVec S16 32) (v1309 : IVec S16 32) (k0_hw117 : k0_chk117 v140 v1297 v1309), ∀ (k0_h2 : ¬(k0_cond2 v140 = 1#1)), ∀ a x, ((![v1297, v1309] : Fin 2 → IVec S16 32) a x).toNat < S256x128.size a := fun v140 v1297 v1309 k0_hw117 k0_h2 => k0_hw117.1 k0_h2
theorem k0_idx211_inb : ∀ (v140 : BitVec 32) (v1297 : IVec S16 32) (v1309 : IVec S16 32) (k0_hw117 : k0_chk117 v140 v1297 v1309), ∀ (k0_h2 : ¬(k0_cond2 v140 = 1#1)), ∀ a x, ((![v1297, v1309] : Fin 2 → IVec S16 32) a x).toNat < S256x128.size a := fun v140 v1297 v1309 k0_hw117 k0_h2 => k0_hw117.2 k0_h2

def k0_chk118 (v140 : BitVec 32) (v1297 : IVec S16 32) (v1311 : IVec S16 32) : Prop :=
  (∀ (k0_h2 : ¬(k0_cond2 v140 = 1#1)), ∀ a x, ((![v1297, v1311] : Fin 2 → IVec S16 32) a x).toNat < S256x128.size a) ∧
  (∀ (k0_h2 : ¬(k0_cond2 v140 = 1#1)), ∀ a x, ((![v1297, v1311] : Fin 2 → IVec S16 32) a x).toNat < S256x128.size a)
theorem k0_idx212_inb : ∀ (v140 : BitVec 32) (v1297 : IVec S16 32) (v1311 : IVec S16 32) (k0_hw118 : k0_chk118 v140 v1297 v1311), ∀ (k0_h2 : ¬(k0_cond2 v140 = 1#1)), ∀ a x, ((![v1297, v1311] : Fin 2 → IVec S16 32) a x).toNat < S256x128.size a := fun v140 v1297 v1311 k0_hw118 k0_h2 => k0_hw118.1 k0_h2
theorem k0_idx213_inb : ∀ (v140 : BitVec 32) (v1297 : IVec S16 32) (v1311 : IVec S16 32) (k0_hw118 : k0_chk118 v140 v1297 v1311), ∀ (k0_h2 : ¬(k0_cond2 v140 = 1#1)), ∀ a x, ((![v1297, v1311] : Fin 2 → IVec S16 32) a x).toNat < S256x128.size a := fun v140 v1297 v1311 k0_hw118 k0_h2 => k0_hw118.2 k0_h2

def k0_chk119 (v140 : BitVec 32) (v1297 : IVec S16 32) (v1313 : IVec S16 32) : Prop :=
  (∀ (k0_h2 : ¬(k0_cond2 v140 = 1#1)), ∀ a x, ((![v1297, v1313] : Fin 2 → IVec S16 32) a x).toNat < S256x128.size a) ∧
  (∀ (k0_h2 : ¬(k0_cond2 v140 = 1#1)), ∀ a x, ((![v1297, v1313] : Fin 2 → IVec S16 32) a x).toNat < S256x128.size a)
theorem k0_idx214_inb : ∀ (v140 : BitVec 32) (v1297 : IVec S16 32) (v1313 : IVec S16 32) (k0_hw119 : k0_chk119 v140 v1297 v1313), ∀ (k0_h2 : ¬(k0_cond2 v140 = 1#1)), ∀ a x, ((![v1297, v1313] : Fin 2 → IVec S16 32) a x).toNat < S256x128.size a := fun v140 v1297 v1313 k0_hw119 k0_h2 => k0_hw119.1 k0_h2
theorem k0_idx215_inb : ∀ (v140 : BitVec 32) (v1297 : IVec S16 32) (v1313 : IVec S16 32) (k0_hw119 : k0_chk119 v140 v1297 v1313), ∀ (k0_h2 : ¬(k0_cond2 v140 = 1#1)), ∀ a x, ((![v1297, v1313] : Fin 2 → IVec S16 32) a x).toNat < S256x128.size a := fun v140 v1297 v1313 k0_hw119 k0_h2 => k0_hw119.2 k0_h2

def k0_chk120 (v2 : IVec S16 32) (v140 : BitVec 32) (v1297 : IVec S16 32) : Prop :=
  (∀ (k0_h2 : ¬(k0_cond2 v140 = 1#1)), ∀ a x, ((![v1297, v2] : Fin 2 → IVec S16 32) a x).toNat < S256x16.size a)
theorem k0_idx216_inb : ∀ (v2 : IVec S16 32) (v140 : BitVec 32) (v1297 : IVec S16 32) (k0_hw120 : k0_chk120 v2 v140 v1297), ∀ (k0_h2 : ¬(k0_cond2 v140 = 1#1)), ∀ a x, ((![v1297, v2] : Fin 2 → IVec S16 32) a x).toNat < S256x16.size a := fun v2 v140 v1297 k0_hw120 k0_h2 => k0_hw120 k0_h2

def k0_chk121 (v140 : BitVec 32) (v1358 : IVec S16 32) : Prop :=
  (∀ (k0_h2 : ¬(k0_cond2 v140 = 1#1)), ∀ a x, ((![v1358] : Fin 1 → IVec S16 32) a x).toNat < S3136.size a)
theorem k0_idx217_inb : ∀ (v140 : BitVec 32) (v1358 : IVec S16 32) (k0_hw121 : k0_chk121 v140 v1358), ∀ (k0_h2 : ¬(k0_cond2 v140 = 1#1)), ∀ a x, ((![v1358] : Fin 1 → IVec S16 32) a x).toNat < S3136.size a := fun v140 v1358 k0_hw121 k0_h2 => k0_hw121 k0_h2
def k0_off115 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1361 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c12_i32_423 : BitVec 32 := 12#32
  let v1360 : BitVec 32 := Scalar.addi v126 c12_i32_423
  let v1362 : Index := Scalar.indexCast v1360
  let c0_424 : Index := 0#32
  ![v1361.toNat, v1362.toNat, 0]
def k0_off116 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1365 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c12_i32_425 : BitVec 32 := 12#32
  let v1364 : BitVec 32 := Scalar.addi v126 c12_i32_425
  let v1366 : Index := Scalar.indexCast v1364
  let c16_426 : Index := 16#32
  ![v1365.toNat, v1366.toNat, 16]
def k0_off117 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1369 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c12_i32_427 : BitVec 32 := 12#32
  let v1368 : BitVec 32 := Scalar.addi v126 c12_i32_427
  let v1370 : Index := Scalar.indexCast v1368
  let c32_428 : Index := 32#32
  ![v1369.toNat, v1370.toNat, 32]
def k0_off118 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1373 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c12_i32_429 : BitVec 32 := 12#32
  let v1372 : BitVec 32 := Scalar.addi v126 c12_i32_429
  let v1374 : Index := Scalar.indexCast v1372
  let c48_430 : Index := 48#32
  ![v1373.toNat, v1374.toNat, 48]
def k0_off119 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1377 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c12_i32_431 : BitVec 32 := 12#32
  let v1376 : BitVec 32 := Scalar.addi v126 c12_i32_431
  let v1378 : Index := Scalar.indexCast v1376
  let c64_432 : Index := 64#32
  ![v1377.toNat, v1378.toNat, 64]
def k0_off120 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1381 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c12_i32_433 : BitVec 32 := 12#32
  let v1380 : BitVec 32 := Scalar.addi v126 c12_i32_433
  let v1382 : Index := Scalar.indexCast v1380
  let c80_434 : Index := 80#32
  ![v1381.toNat, v1382.toNat, 80]
def k0_off121 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1385 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c12_i32_435 : BitVec 32 := 12#32
  let v1384 : BitVec 32 := Scalar.addi v126 c12_i32_435
  let v1386 : Index := Scalar.indexCast v1384
  let c96_436 : Index := 96#32
  ![v1385.toNat, v1386.toNat, 96]
def k0_off122 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1389 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c12_i32_437 : BitVec 32 := 12#32
  let v1388 : BitVec 32 := Scalar.addi v126 c12_i32_437
  let v1390 : Index := Scalar.indexCast v1388
  let c112_438 : Index := 112#32
  ![v1389.toNat, v1390.toNat, 112]

def k0_chk122 (v140 : BitVec 32) (v1398 : IVec S16 32) (v1400 : IVec S16 32) : Prop :=
  (∀ (k0_h2 : ¬(k0_cond2 v140 = 1#1)), ∀ a x, ((![v1398, v1400] : Fin 2 → IVec S16 32) a x).toNat < S256x128.size a) ∧
  (∀ (k0_h2 : ¬(k0_cond2 v140 = 1#1)), ∀ a x, ((![v1398, v1400] : Fin 2 → IVec S16 32) a x).toNat < S256x128.size a)
theorem k0_idx218_inb : ∀ (v140 : BitVec 32) (v1398 : IVec S16 32) (v1400 : IVec S16 32) (k0_hw122 : k0_chk122 v140 v1398 v1400), ∀ (k0_h2 : ¬(k0_cond2 v140 = 1#1)), ∀ a x, ((![v1398, v1400] : Fin 2 → IVec S16 32) a x).toNat < S256x128.size a := fun v140 v1398 v1400 k0_hw122 k0_h2 => k0_hw122.1 k0_h2
theorem k0_idx219_inb : ∀ (v140 : BitVec 32) (v1398 : IVec S16 32) (v1400 : IVec S16 32) (k0_hw122 : k0_chk122 v140 v1398 v1400), ∀ (k0_h2 : ¬(k0_cond2 v140 = 1#1)), ∀ a x, ((![v1398, v1400] : Fin 2 → IVec S16 32) a x).toNat < S256x128.size a := fun v140 v1398 v1400 k0_hw122 k0_h2 => k0_hw122.2 k0_h2

def k0_chk123 (v140 : BitVec 32) (v1398 : IVec S16 32) (v1402 : IVec S16 32) : Prop :=
  (∀ (k0_h2 : ¬(k0_cond2 v140 = 1#1)), ∀ a x, ((![v1398, v1402] : Fin 2 → IVec S16 32) a x).toNat < S256x128.size a) ∧
  (∀ (k0_h2 : ¬(k0_cond2 v140 = 1#1)), ∀ a x, ((![v1398, v1402] : Fin 2 → IVec S16 32) a x).toNat < S256x128.size a)
theorem k0_idx220_inb : ∀ (v140 : BitVec 32) (v1398 : IVec S16 32) (v1402 : IVec S16 32) (k0_hw123 : k0_chk123 v140 v1398 v1402), ∀ (k0_h2 : ¬(k0_cond2 v140 = 1#1)), ∀ a x, ((![v1398, v1402] : Fin 2 → IVec S16 32) a x).toNat < S256x128.size a := fun v140 v1398 v1402 k0_hw123 k0_h2 => k0_hw123.1 k0_h2
theorem k0_idx221_inb : ∀ (v140 : BitVec 32) (v1398 : IVec S16 32) (v1402 : IVec S16 32) (k0_hw123 : k0_chk123 v140 v1398 v1402), ∀ (k0_h2 : ¬(k0_cond2 v140 = 1#1)), ∀ a x, ((![v1398, v1402] : Fin 2 → IVec S16 32) a x).toNat < S256x128.size a := fun v140 v1398 v1402 k0_hw123 k0_h2 => k0_hw123.2 k0_h2

def k0_chk124 (v140 : BitVec 32) (v1398 : IVec S16 32) (v1404 : IVec S16 32) : Prop :=
  (∀ (k0_h2 : ¬(k0_cond2 v140 = 1#1)), ∀ a x, ((![v1398, v1404] : Fin 2 → IVec S16 32) a x).toNat < S256x128.size a) ∧
  (∀ (k0_h2 : ¬(k0_cond2 v140 = 1#1)), ∀ a x, ((![v1398, v1404] : Fin 2 → IVec S16 32) a x).toNat < S256x128.size a)
theorem k0_idx222_inb : ∀ (v140 : BitVec 32) (v1398 : IVec S16 32) (v1404 : IVec S16 32) (k0_hw124 : k0_chk124 v140 v1398 v1404), ∀ (k0_h2 : ¬(k0_cond2 v140 = 1#1)), ∀ a x, ((![v1398, v1404] : Fin 2 → IVec S16 32) a x).toNat < S256x128.size a := fun v140 v1398 v1404 k0_hw124 k0_h2 => k0_hw124.1 k0_h2
theorem k0_idx223_inb : ∀ (v140 : BitVec 32) (v1398 : IVec S16 32) (v1404 : IVec S16 32) (k0_hw124 : k0_chk124 v140 v1398 v1404), ∀ (k0_h2 : ¬(k0_cond2 v140 = 1#1)), ∀ a x, ((![v1398, v1404] : Fin 2 → IVec S16 32) a x).toNat < S256x128.size a := fun v140 v1398 v1404 k0_hw124 k0_h2 => k0_hw124.2 k0_h2

def k0_chk125 (v140 : BitVec 32) (v1398 : IVec S16 32) (v1406 : IVec S16 32) : Prop :=
  (∀ (k0_h2 : ¬(k0_cond2 v140 = 1#1)), ∀ a x, ((![v1398, v1406] : Fin 2 → IVec S16 32) a x).toNat < S256x128.size a) ∧
  (∀ (k0_h2 : ¬(k0_cond2 v140 = 1#1)), ∀ a x, ((![v1398, v1406] : Fin 2 → IVec S16 32) a x).toNat < S256x128.size a)
theorem k0_idx224_inb : ∀ (v140 : BitVec 32) (v1398 : IVec S16 32) (v1406 : IVec S16 32) (k0_hw125 : k0_chk125 v140 v1398 v1406), ∀ (k0_h2 : ¬(k0_cond2 v140 = 1#1)), ∀ a x, ((![v1398, v1406] : Fin 2 → IVec S16 32) a x).toNat < S256x128.size a := fun v140 v1398 v1406 k0_hw125 k0_h2 => k0_hw125.1 k0_h2
theorem k0_idx225_inb : ∀ (v140 : BitVec 32) (v1398 : IVec S16 32) (v1406 : IVec S16 32) (k0_hw125 : k0_chk125 v140 v1398 v1406), ∀ (k0_h2 : ¬(k0_cond2 v140 = 1#1)), ∀ a x, ((![v1398, v1406] : Fin 2 → IVec S16 32) a x).toNat < S256x128.size a := fun v140 v1398 v1406 k0_hw125 k0_h2 => k0_hw125.2 k0_h2

def k0_chk126 (v140 : BitVec 32) (v1398 : IVec S16 32) (v1408 : IVec S16 32) : Prop :=
  (∀ (k0_h2 : ¬(k0_cond2 v140 = 1#1)), ∀ a x, ((![v1398, v1408] : Fin 2 → IVec S16 32) a x).toNat < S256x128.size a) ∧
  (∀ (k0_h2 : ¬(k0_cond2 v140 = 1#1)), ∀ a x, ((![v1398, v1408] : Fin 2 → IVec S16 32) a x).toNat < S256x128.size a)
theorem k0_idx226_inb : ∀ (v140 : BitVec 32) (v1398 : IVec S16 32) (v1408 : IVec S16 32) (k0_hw126 : k0_chk126 v140 v1398 v1408), ∀ (k0_h2 : ¬(k0_cond2 v140 = 1#1)), ∀ a x, ((![v1398, v1408] : Fin 2 → IVec S16 32) a x).toNat < S256x128.size a := fun v140 v1398 v1408 k0_hw126 k0_h2 => k0_hw126.1 k0_h2
theorem k0_idx227_inb : ∀ (v140 : BitVec 32) (v1398 : IVec S16 32) (v1408 : IVec S16 32) (k0_hw126 : k0_chk126 v140 v1398 v1408), ∀ (k0_h2 : ¬(k0_cond2 v140 = 1#1)), ∀ a x, ((![v1398, v1408] : Fin 2 → IVec S16 32) a x).toNat < S256x128.size a := fun v140 v1398 v1408 k0_hw126 k0_h2 => k0_hw126.2 k0_h2

def k0_chk127 (v140 : BitVec 32) (v1398 : IVec S16 32) (v1410 : IVec S16 32) : Prop :=
  (∀ (k0_h2 : ¬(k0_cond2 v140 = 1#1)), ∀ a x, ((![v1398, v1410] : Fin 2 → IVec S16 32) a x).toNat < S256x128.size a) ∧
  (∀ (k0_h2 : ¬(k0_cond2 v140 = 1#1)), ∀ a x, ((![v1398, v1410] : Fin 2 → IVec S16 32) a x).toNat < S256x128.size a)
theorem k0_idx228_inb : ∀ (v140 : BitVec 32) (v1398 : IVec S16 32) (v1410 : IVec S16 32) (k0_hw127 : k0_chk127 v140 v1398 v1410), ∀ (k0_h2 : ¬(k0_cond2 v140 = 1#1)), ∀ a x, ((![v1398, v1410] : Fin 2 → IVec S16 32) a x).toNat < S256x128.size a := fun v140 v1398 v1410 k0_hw127 k0_h2 => k0_hw127.1 k0_h2
theorem k0_idx229_inb : ∀ (v140 : BitVec 32) (v1398 : IVec S16 32) (v1410 : IVec S16 32) (k0_hw127 : k0_chk127 v140 v1398 v1410), ∀ (k0_h2 : ¬(k0_cond2 v140 = 1#1)), ∀ a x, ((![v1398, v1410] : Fin 2 → IVec S16 32) a x).toNat < S256x128.size a := fun v140 v1398 v1410 k0_hw127 k0_h2 => k0_hw127.2 k0_h2

def k0_chk128 (v140 : BitVec 32) (v1398 : IVec S16 32) (v1412 : IVec S16 32) : Prop :=
  (∀ (k0_h2 : ¬(k0_cond2 v140 = 1#1)), ∀ a x, ((![v1398, v1412] : Fin 2 → IVec S16 32) a x).toNat < S256x128.size a) ∧
  (∀ (k0_h2 : ¬(k0_cond2 v140 = 1#1)), ∀ a x, ((![v1398, v1412] : Fin 2 → IVec S16 32) a x).toNat < S256x128.size a)
theorem k0_idx230_inb : ∀ (v140 : BitVec 32) (v1398 : IVec S16 32) (v1412 : IVec S16 32) (k0_hw128 : k0_chk128 v140 v1398 v1412), ∀ (k0_h2 : ¬(k0_cond2 v140 = 1#1)), ∀ a x, ((![v1398, v1412] : Fin 2 → IVec S16 32) a x).toNat < S256x128.size a := fun v140 v1398 v1412 k0_hw128 k0_h2 => k0_hw128.1 k0_h2
theorem k0_idx231_inb : ∀ (v140 : BitVec 32) (v1398 : IVec S16 32) (v1412 : IVec S16 32) (k0_hw128 : k0_chk128 v140 v1398 v1412), ∀ (k0_h2 : ¬(k0_cond2 v140 = 1#1)), ∀ a x, ((![v1398, v1412] : Fin 2 → IVec S16 32) a x).toNat < S256x128.size a := fun v140 v1398 v1412 k0_hw128 k0_h2 => k0_hw128.2 k0_h2

def k0_chk129 (v140 : BitVec 32) (v1398 : IVec S16 32) (v1414 : IVec S16 32) : Prop :=
  (∀ (k0_h2 : ¬(k0_cond2 v140 = 1#1)), ∀ a x, ((![v1398, v1414] : Fin 2 → IVec S16 32) a x).toNat < S256x128.size a) ∧
  (∀ (k0_h2 : ¬(k0_cond2 v140 = 1#1)), ∀ a x, ((![v1398, v1414] : Fin 2 → IVec S16 32) a x).toNat < S256x128.size a)
theorem k0_idx232_inb : ∀ (v140 : BitVec 32) (v1398 : IVec S16 32) (v1414 : IVec S16 32) (k0_hw129 : k0_chk129 v140 v1398 v1414), ∀ (k0_h2 : ¬(k0_cond2 v140 = 1#1)), ∀ a x, ((![v1398, v1414] : Fin 2 → IVec S16 32) a x).toNat < S256x128.size a := fun v140 v1398 v1414 k0_hw129 k0_h2 => k0_hw129.1 k0_h2
theorem k0_idx233_inb : ∀ (v140 : BitVec 32) (v1398 : IVec S16 32) (v1414 : IVec S16 32) (k0_hw129 : k0_chk129 v140 v1398 v1414), ∀ (k0_h2 : ¬(k0_cond2 v140 = 1#1)), ∀ a x, ((![v1398, v1414] : Fin 2 → IVec S16 32) a x).toNat < S256x128.size a := fun v140 v1398 v1414 k0_hw129 k0_h2 => k0_hw129.2 k0_h2

def k0_chk130 (v2 : IVec S16 32) (v140 : BitVec 32) (v1398 : IVec S16 32) : Prop :=
  (∀ (k0_h2 : ¬(k0_cond2 v140 = 1#1)), ∀ a x, ((![v1398, v2] : Fin 2 → IVec S16 32) a x).toNat < S256x16.size a)
theorem k0_idx234_inb : ∀ (v2 : IVec S16 32) (v140 : BitVec 32) (v1398 : IVec S16 32) (k0_hw130 : k0_chk130 v2 v140 v1398), ∀ (k0_h2 : ¬(k0_cond2 v140 = 1#1)), ∀ a x, ((![v1398, v2] : Fin 2 → IVec S16 32) a x).toNat < S256x16.size a := fun v2 v140 v1398 k0_hw130 k0_h2 => k0_hw130 k0_h2

def k0_chk131 (v140 : BitVec 32) (v1459 : IVec S16 32) : Prop :=
  (∀ (k0_h2 : ¬(k0_cond2 v140 = 1#1)), ∀ a x, ((![v1459] : Fin 1 → IVec S16 32) a x).toNat < S3136.size a)
theorem k0_idx235_inb : ∀ (v140 : BitVec 32) (v1459 : IVec S16 32) (k0_hw131 : k0_chk131 v140 v1459), ∀ (k0_h2 : ¬(k0_cond2 v140 = 1#1)), ∀ a x, ((![v1459] : Fin 1 → IVec S16 32) a x).toNat < S3136.size a := fun v140 v1459 k0_hw131 k0_h2 => k0_hw131 k0_h2
def k0_off123 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1462 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c13_i32_453 : BitVec 32 := 13#32
  let v1461 : BitVec 32 := Scalar.addi v126 c13_i32_453
  let v1463 : Index := Scalar.indexCast v1461
  let c0_454 : Index := 0#32
  ![v1462.toNat, v1463.toNat, 0]
def k0_off124 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1466 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c13_i32_455 : BitVec 32 := 13#32
  let v1465 : BitVec 32 := Scalar.addi v126 c13_i32_455
  let v1467 : Index := Scalar.indexCast v1465
  let c16_456 : Index := 16#32
  ![v1466.toNat, v1467.toNat, 16]
def k0_off125 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1470 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c13_i32_457 : BitVec 32 := 13#32
  let v1469 : BitVec 32 := Scalar.addi v126 c13_i32_457
  let v1471 : Index := Scalar.indexCast v1469
  let c32_458 : Index := 32#32
  ![v1470.toNat, v1471.toNat, 32]
def k0_off126 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1474 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c13_i32_459 : BitVec 32 := 13#32
  let v1473 : BitVec 32 := Scalar.addi v126 c13_i32_459
  let v1475 : Index := Scalar.indexCast v1473
  let c48_460 : Index := 48#32
  ![v1474.toNat, v1475.toNat, 48]
def k0_off127 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1478 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c13_i32_461 : BitVec 32 := 13#32
  let v1477 : BitVec 32 := Scalar.addi v126 c13_i32_461
  let v1479 : Index := Scalar.indexCast v1477
  let c64_462 : Index := 64#32
  ![v1478.toNat, v1479.toNat, 64]
def k0_off128 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1482 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c13_i32_463 : BitVec 32 := 13#32
  let v1481 : BitVec 32 := Scalar.addi v126 c13_i32_463
  let v1483 : Index := Scalar.indexCast v1481
  let c80_464 : Index := 80#32
  ![v1482.toNat, v1483.toNat, 80]
def k0_off129 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1486 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c13_i32_465 : BitVec 32 := 13#32
  let v1485 : BitVec 32 := Scalar.addi v126 c13_i32_465
  let v1487 : Index := Scalar.indexCast v1485
  let c96_466 : Index := 96#32
  ![v1486.toNat, v1487.toNat, 96]
def k0_off130 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1490 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c13_i32_467 : BitVec 32 := 13#32
  let v1489 : BitVec 32 := Scalar.addi v126 c13_i32_467
  let v1491 : Index := Scalar.indexCast v1489
  let c112_468 : Index := 112#32
  ![v1490.toNat, v1491.toNat, 112]

def k0_chk132 (v140 : BitVec 32) (v1499 : IVec S16 32) (v1501 : IVec S16 32) : Prop :=
  (∀ (k0_h2 : ¬(k0_cond2 v140 = 1#1)), ∀ a x, ((![v1499, v1501] : Fin 2 → IVec S16 32) a x).toNat < S256x128.size a) ∧
  (∀ (k0_h2 : ¬(k0_cond2 v140 = 1#1)), ∀ a x, ((![v1499, v1501] : Fin 2 → IVec S16 32) a x).toNat < S256x128.size a)
theorem k0_idx236_inb : ∀ (v140 : BitVec 32) (v1499 : IVec S16 32) (v1501 : IVec S16 32) (k0_hw132 : k0_chk132 v140 v1499 v1501), ∀ (k0_h2 : ¬(k0_cond2 v140 = 1#1)), ∀ a x, ((![v1499, v1501] : Fin 2 → IVec S16 32) a x).toNat < S256x128.size a := fun v140 v1499 v1501 k0_hw132 k0_h2 => k0_hw132.1 k0_h2
theorem k0_idx237_inb : ∀ (v140 : BitVec 32) (v1499 : IVec S16 32) (v1501 : IVec S16 32) (k0_hw132 : k0_chk132 v140 v1499 v1501), ∀ (k0_h2 : ¬(k0_cond2 v140 = 1#1)), ∀ a x, ((![v1499, v1501] : Fin 2 → IVec S16 32) a x).toNat < S256x128.size a := fun v140 v1499 v1501 k0_hw132 k0_h2 => k0_hw132.2 k0_h2

def k0_chk133 (v140 : BitVec 32) (v1499 : IVec S16 32) (v1503 : IVec S16 32) : Prop :=
  (∀ (k0_h2 : ¬(k0_cond2 v140 = 1#1)), ∀ a x, ((![v1499, v1503] : Fin 2 → IVec S16 32) a x).toNat < S256x128.size a) ∧
  (∀ (k0_h2 : ¬(k0_cond2 v140 = 1#1)), ∀ a x, ((![v1499, v1503] : Fin 2 → IVec S16 32) a x).toNat < S256x128.size a)
theorem k0_idx238_inb : ∀ (v140 : BitVec 32) (v1499 : IVec S16 32) (v1503 : IVec S16 32) (k0_hw133 : k0_chk133 v140 v1499 v1503), ∀ (k0_h2 : ¬(k0_cond2 v140 = 1#1)), ∀ a x, ((![v1499, v1503] : Fin 2 → IVec S16 32) a x).toNat < S256x128.size a := fun v140 v1499 v1503 k0_hw133 k0_h2 => k0_hw133.1 k0_h2
theorem k0_idx239_inb : ∀ (v140 : BitVec 32) (v1499 : IVec S16 32) (v1503 : IVec S16 32) (k0_hw133 : k0_chk133 v140 v1499 v1503), ∀ (k0_h2 : ¬(k0_cond2 v140 = 1#1)), ∀ a x, ((![v1499, v1503] : Fin 2 → IVec S16 32) a x).toNat < S256x128.size a := fun v140 v1499 v1503 k0_hw133 k0_h2 => k0_hw133.2 k0_h2

def k0_chk134 (v140 : BitVec 32) (v1499 : IVec S16 32) (v1505 : IVec S16 32) : Prop :=
  (∀ (k0_h2 : ¬(k0_cond2 v140 = 1#1)), ∀ a x, ((![v1499, v1505] : Fin 2 → IVec S16 32) a x).toNat < S256x128.size a) ∧
  (∀ (k0_h2 : ¬(k0_cond2 v140 = 1#1)), ∀ a x, ((![v1499, v1505] : Fin 2 → IVec S16 32) a x).toNat < S256x128.size a)
theorem k0_idx240_inb : ∀ (v140 : BitVec 32) (v1499 : IVec S16 32) (v1505 : IVec S16 32) (k0_hw134 : k0_chk134 v140 v1499 v1505), ∀ (k0_h2 : ¬(k0_cond2 v140 = 1#1)), ∀ a x, ((![v1499, v1505] : Fin 2 → IVec S16 32) a x).toNat < S256x128.size a := fun v140 v1499 v1505 k0_hw134 k0_h2 => k0_hw134.1 k0_h2
theorem k0_idx241_inb : ∀ (v140 : BitVec 32) (v1499 : IVec S16 32) (v1505 : IVec S16 32) (k0_hw134 : k0_chk134 v140 v1499 v1505), ∀ (k0_h2 : ¬(k0_cond2 v140 = 1#1)), ∀ a x, ((![v1499, v1505] : Fin 2 → IVec S16 32) a x).toNat < S256x128.size a := fun v140 v1499 v1505 k0_hw134 k0_h2 => k0_hw134.2 k0_h2

def k0_chk135 (v140 : BitVec 32) (v1499 : IVec S16 32) (v1507 : IVec S16 32) : Prop :=
  (∀ (k0_h2 : ¬(k0_cond2 v140 = 1#1)), ∀ a x, ((![v1499, v1507] : Fin 2 → IVec S16 32) a x).toNat < S256x128.size a) ∧
  (∀ (k0_h2 : ¬(k0_cond2 v140 = 1#1)), ∀ a x, ((![v1499, v1507] : Fin 2 → IVec S16 32) a x).toNat < S256x128.size a)
theorem k0_idx242_inb : ∀ (v140 : BitVec 32) (v1499 : IVec S16 32) (v1507 : IVec S16 32) (k0_hw135 : k0_chk135 v140 v1499 v1507), ∀ (k0_h2 : ¬(k0_cond2 v140 = 1#1)), ∀ a x, ((![v1499, v1507] : Fin 2 → IVec S16 32) a x).toNat < S256x128.size a := fun v140 v1499 v1507 k0_hw135 k0_h2 => k0_hw135.1 k0_h2
theorem k0_idx243_inb : ∀ (v140 : BitVec 32) (v1499 : IVec S16 32) (v1507 : IVec S16 32) (k0_hw135 : k0_chk135 v140 v1499 v1507), ∀ (k0_h2 : ¬(k0_cond2 v140 = 1#1)), ∀ a x, ((![v1499, v1507] : Fin 2 → IVec S16 32) a x).toNat < S256x128.size a := fun v140 v1499 v1507 k0_hw135 k0_h2 => k0_hw135.2 k0_h2

def k0_chk136 (v140 : BitVec 32) (v1499 : IVec S16 32) (v1509 : IVec S16 32) : Prop :=
  (∀ (k0_h2 : ¬(k0_cond2 v140 = 1#1)), ∀ a x, ((![v1499, v1509] : Fin 2 → IVec S16 32) a x).toNat < S256x128.size a) ∧
  (∀ (k0_h2 : ¬(k0_cond2 v140 = 1#1)), ∀ a x, ((![v1499, v1509] : Fin 2 → IVec S16 32) a x).toNat < S256x128.size a)
theorem k0_idx244_inb : ∀ (v140 : BitVec 32) (v1499 : IVec S16 32) (v1509 : IVec S16 32) (k0_hw136 : k0_chk136 v140 v1499 v1509), ∀ (k0_h2 : ¬(k0_cond2 v140 = 1#1)), ∀ a x, ((![v1499, v1509] : Fin 2 → IVec S16 32) a x).toNat < S256x128.size a := fun v140 v1499 v1509 k0_hw136 k0_h2 => k0_hw136.1 k0_h2
theorem k0_idx245_inb : ∀ (v140 : BitVec 32) (v1499 : IVec S16 32) (v1509 : IVec S16 32) (k0_hw136 : k0_chk136 v140 v1499 v1509), ∀ (k0_h2 : ¬(k0_cond2 v140 = 1#1)), ∀ a x, ((![v1499, v1509] : Fin 2 → IVec S16 32) a x).toNat < S256x128.size a := fun v140 v1499 v1509 k0_hw136 k0_h2 => k0_hw136.2 k0_h2

def k0_chk137 (v140 : BitVec 32) (v1499 : IVec S16 32) (v1511 : IVec S16 32) : Prop :=
  (∀ (k0_h2 : ¬(k0_cond2 v140 = 1#1)), ∀ a x, ((![v1499, v1511] : Fin 2 → IVec S16 32) a x).toNat < S256x128.size a) ∧
  (∀ (k0_h2 : ¬(k0_cond2 v140 = 1#1)), ∀ a x, ((![v1499, v1511] : Fin 2 → IVec S16 32) a x).toNat < S256x128.size a)
theorem k0_idx246_inb : ∀ (v140 : BitVec 32) (v1499 : IVec S16 32) (v1511 : IVec S16 32) (k0_hw137 : k0_chk137 v140 v1499 v1511), ∀ (k0_h2 : ¬(k0_cond2 v140 = 1#1)), ∀ a x, ((![v1499, v1511] : Fin 2 → IVec S16 32) a x).toNat < S256x128.size a := fun v140 v1499 v1511 k0_hw137 k0_h2 => k0_hw137.1 k0_h2
theorem k0_idx247_inb : ∀ (v140 : BitVec 32) (v1499 : IVec S16 32) (v1511 : IVec S16 32) (k0_hw137 : k0_chk137 v140 v1499 v1511), ∀ (k0_h2 : ¬(k0_cond2 v140 = 1#1)), ∀ a x, ((![v1499, v1511] : Fin 2 → IVec S16 32) a x).toNat < S256x128.size a := fun v140 v1499 v1511 k0_hw137 k0_h2 => k0_hw137.2 k0_h2

def k0_chk138 (v140 : BitVec 32) (v1499 : IVec S16 32) (v1513 : IVec S16 32) : Prop :=
  (∀ (k0_h2 : ¬(k0_cond2 v140 = 1#1)), ∀ a x, ((![v1499, v1513] : Fin 2 → IVec S16 32) a x).toNat < S256x128.size a) ∧
  (∀ (k0_h2 : ¬(k0_cond2 v140 = 1#1)), ∀ a x, ((![v1499, v1513] : Fin 2 → IVec S16 32) a x).toNat < S256x128.size a)
theorem k0_idx248_inb : ∀ (v140 : BitVec 32) (v1499 : IVec S16 32) (v1513 : IVec S16 32) (k0_hw138 : k0_chk138 v140 v1499 v1513), ∀ (k0_h2 : ¬(k0_cond2 v140 = 1#1)), ∀ a x, ((![v1499, v1513] : Fin 2 → IVec S16 32) a x).toNat < S256x128.size a := fun v140 v1499 v1513 k0_hw138 k0_h2 => k0_hw138.1 k0_h2
theorem k0_idx249_inb : ∀ (v140 : BitVec 32) (v1499 : IVec S16 32) (v1513 : IVec S16 32) (k0_hw138 : k0_chk138 v140 v1499 v1513), ∀ (k0_h2 : ¬(k0_cond2 v140 = 1#1)), ∀ a x, ((![v1499, v1513] : Fin 2 → IVec S16 32) a x).toNat < S256x128.size a := fun v140 v1499 v1513 k0_hw138 k0_h2 => k0_hw138.2 k0_h2

def k0_chk139 (v140 : BitVec 32) (v1499 : IVec S16 32) (v1515 : IVec S16 32) : Prop :=
  (∀ (k0_h2 : ¬(k0_cond2 v140 = 1#1)), ∀ a x, ((![v1499, v1515] : Fin 2 → IVec S16 32) a x).toNat < S256x128.size a) ∧
  (∀ (k0_h2 : ¬(k0_cond2 v140 = 1#1)), ∀ a x, ((![v1499, v1515] : Fin 2 → IVec S16 32) a x).toNat < S256x128.size a)
theorem k0_idx250_inb : ∀ (v140 : BitVec 32) (v1499 : IVec S16 32) (v1515 : IVec S16 32) (k0_hw139 : k0_chk139 v140 v1499 v1515), ∀ (k0_h2 : ¬(k0_cond2 v140 = 1#1)), ∀ a x, ((![v1499, v1515] : Fin 2 → IVec S16 32) a x).toNat < S256x128.size a := fun v140 v1499 v1515 k0_hw139 k0_h2 => k0_hw139.1 k0_h2
theorem k0_idx251_inb : ∀ (v140 : BitVec 32) (v1499 : IVec S16 32) (v1515 : IVec S16 32) (k0_hw139 : k0_chk139 v140 v1499 v1515), ∀ (k0_h2 : ¬(k0_cond2 v140 = 1#1)), ∀ a x, ((![v1499, v1515] : Fin 2 → IVec S16 32) a x).toNat < S256x128.size a := fun v140 v1499 v1515 k0_hw139 k0_h2 => k0_hw139.2 k0_h2

def k0_chk140 (v2 : IVec S16 32) (v140 : BitVec 32) (v1499 : IVec S16 32) : Prop :=
  (∀ (k0_h2 : ¬(k0_cond2 v140 = 1#1)), ∀ a x, ((![v1499, v2] : Fin 2 → IVec S16 32) a x).toNat < S256x16.size a)
theorem k0_idx252_inb : ∀ (v2 : IVec S16 32) (v140 : BitVec 32) (v1499 : IVec S16 32) (k0_hw140 : k0_chk140 v2 v140 v1499), ∀ (k0_h2 : ¬(k0_cond2 v140 = 1#1)), ∀ a x, ((![v1499, v2] : Fin 2 → IVec S16 32) a x).toNat < S256x16.size a := fun v2 v140 v1499 k0_hw140 k0_h2 => k0_hw140 k0_h2

def k0_chk141 (v140 : BitVec 32) (v1560 : IVec S16 32) : Prop :=
  (∀ (k0_h2 : ¬(k0_cond2 v140 = 1#1)), ∀ a x, ((![v1560] : Fin 1 → IVec S16 32) a x).toNat < S3136.size a)
theorem k0_idx253_inb : ∀ (v140 : BitVec 32) (v1560 : IVec S16 32) (k0_hw141 : k0_chk141 v140 v1560), ∀ (k0_h2 : ¬(k0_cond2 v140 = 1#1)), ∀ a x, ((![v1560] : Fin 1 → IVec S16 32) a x).toNat < S3136.size a := fun v140 v1560 k0_hw141 k0_h2 => k0_hw141 k0_h2
def k0_off131 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1563 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c14_i32_483 : BitVec 32 := 14#32
  let v1562 : BitVec 32 := Scalar.addi v126 c14_i32_483
  let v1564 : Index := Scalar.indexCast v1562
  let c0_484 : Index := 0#32
  ![v1563.toNat, v1564.toNat, 0]
def k0_off132 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1567 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c14_i32_485 : BitVec 32 := 14#32
  let v1566 : BitVec 32 := Scalar.addi v126 c14_i32_485
  let v1568 : Index := Scalar.indexCast v1566
  let c16_486 : Index := 16#32
  ![v1567.toNat, v1568.toNat, 16]
def k0_off133 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1571 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c14_i32_487 : BitVec 32 := 14#32
  let v1570 : BitVec 32 := Scalar.addi v126 c14_i32_487
  let v1572 : Index := Scalar.indexCast v1570
  let c32_488 : Index := 32#32
  ![v1571.toNat, v1572.toNat, 32]
def k0_off134 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1575 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c14_i32_489 : BitVec 32 := 14#32
  let v1574 : BitVec 32 := Scalar.addi v126 c14_i32_489
  let v1576 : Index := Scalar.indexCast v1574
  let c48_490 : Index := 48#32
  ![v1575.toNat, v1576.toNat, 48]
def k0_off135 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1579 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c14_i32_491 : BitVec 32 := 14#32
  let v1578 : BitVec 32 := Scalar.addi v126 c14_i32_491
  let v1580 : Index := Scalar.indexCast v1578
  let c64_492 : Index := 64#32
  ![v1579.toNat, v1580.toNat, 64]
def k0_off136 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1583 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c14_i32_493 : BitVec 32 := 14#32
  let v1582 : BitVec 32 := Scalar.addi v126 c14_i32_493
  let v1584 : Index := Scalar.indexCast v1582
  let c80_494 : Index := 80#32
  ![v1583.toNat, v1584.toNat, 80]
def k0_off137 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1587 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c14_i32_495 : BitVec 32 := 14#32
  let v1586 : BitVec 32 := Scalar.addi v126 c14_i32_495
  let v1588 : Index := Scalar.indexCast v1586
  let c96_496 : Index := 96#32
  ![v1587.toNat, v1588.toNat, 96]
def k0_off138 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1591 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c14_i32_497 : BitVec 32 := 14#32
  let v1590 : BitVec 32 := Scalar.addi v126 c14_i32_497
  let v1592 : Index := Scalar.indexCast v1590
  let c112_498 : Index := 112#32
  ![v1591.toNat, v1592.toNat, 112]

def k0_chk142 (v140 : BitVec 32) (v1600 : IVec S16 32) (v1602 : IVec S16 32) : Prop :=
  (∀ (k0_h2 : ¬(k0_cond2 v140 = 1#1)), ∀ a x, ((![v1600, v1602] : Fin 2 → IVec S16 32) a x).toNat < S256x128.size a) ∧
  (∀ (k0_h2 : ¬(k0_cond2 v140 = 1#1)), ∀ a x, ((![v1600, v1602] : Fin 2 → IVec S16 32) a x).toNat < S256x128.size a)
theorem k0_idx254_inb : ∀ (v140 : BitVec 32) (v1600 : IVec S16 32) (v1602 : IVec S16 32) (k0_hw142 : k0_chk142 v140 v1600 v1602), ∀ (k0_h2 : ¬(k0_cond2 v140 = 1#1)), ∀ a x, ((![v1600, v1602] : Fin 2 → IVec S16 32) a x).toNat < S256x128.size a := fun v140 v1600 v1602 k0_hw142 k0_h2 => k0_hw142.1 k0_h2
theorem k0_idx255_inb : ∀ (v140 : BitVec 32) (v1600 : IVec S16 32) (v1602 : IVec S16 32) (k0_hw142 : k0_chk142 v140 v1600 v1602), ∀ (k0_h2 : ¬(k0_cond2 v140 = 1#1)), ∀ a x, ((![v1600, v1602] : Fin 2 → IVec S16 32) a x).toNat < S256x128.size a := fun v140 v1600 v1602 k0_hw142 k0_h2 => k0_hw142.2 k0_h2

def k0_chk143 (v140 : BitVec 32) (v1600 : IVec S16 32) (v1604 : IVec S16 32) : Prop :=
  (∀ (k0_h2 : ¬(k0_cond2 v140 = 1#1)), ∀ a x, ((![v1600, v1604] : Fin 2 → IVec S16 32) a x).toNat < S256x128.size a) ∧
  (∀ (k0_h2 : ¬(k0_cond2 v140 = 1#1)), ∀ a x, ((![v1600, v1604] : Fin 2 → IVec S16 32) a x).toNat < S256x128.size a)
theorem k0_idx256_inb : ∀ (v140 : BitVec 32) (v1600 : IVec S16 32) (v1604 : IVec S16 32) (k0_hw143 : k0_chk143 v140 v1600 v1604), ∀ (k0_h2 : ¬(k0_cond2 v140 = 1#1)), ∀ a x, ((![v1600, v1604] : Fin 2 → IVec S16 32) a x).toNat < S256x128.size a := fun v140 v1600 v1604 k0_hw143 k0_h2 => k0_hw143.1 k0_h2
theorem k0_idx257_inb : ∀ (v140 : BitVec 32) (v1600 : IVec S16 32) (v1604 : IVec S16 32) (k0_hw143 : k0_chk143 v140 v1600 v1604), ∀ (k0_h2 : ¬(k0_cond2 v140 = 1#1)), ∀ a x, ((![v1600, v1604] : Fin 2 → IVec S16 32) a x).toNat < S256x128.size a := fun v140 v1600 v1604 k0_hw143 k0_h2 => k0_hw143.2 k0_h2

def k0_chk144 (v140 : BitVec 32) (v1600 : IVec S16 32) (v1606 : IVec S16 32) : Prop :=
  (∀ (k0_h2 : ¬(k0_cond2 v140 = 1#1)), ∀ a x, ((![v1600, v1606] : Fin 2 → IVec S16 32) a x).toNat < S256x128.size a) ∧
  (∀ (k0_h2 : ¬(k0_cond2 v140 = 1#1)), ∀ a x, ((![v1600, v1606] : Fin 2 → IVec S16 32) a x).toNat < S256x128.size a)
theorem k0_idx258_inb : ∀ (v140 : BitVec 32) (v1600 : IVec S16 32) (v1606 : IVec S16 32) (k0_hw144 : k0_chk144 v140 v1600 v1606), ∀ (k0_h2 : ¬(k0_cond2 v140 = 1#1)), ∀ a x, ((![v1600, v1606] : Fin 2 → IVec S16 32) a x).toNat < S256x128.size a := fun v140 v1600 v1606 k0_hw144 k0_h2 => k0_hw144.1 k0_h2
theorem k0_idx259_inb : ∀ (v140 : BitVec 32) (v1600 : IVec S16 32) (v1606 : IVec S16 32) (k0_hw144 : k0_chk144 v140 v1600 v1606), ∀ (k0_h2 : ¬(k0_cond2 v140 = 1#1)), ∀ a x, ((![v1600, v1606] : Fin 2 → IVec S16 32) a x).toNat < S256x128.size a := fun v140 v1600 v1606 k0_hw144 k0_h2 => k0_hw144.2 k0_h2

def k0_chk145 (v140 : BitVec 32) (v1600 : IVec S16 32) (v1608 : IVec S16 32) : Prop :=
  (∀ (k0_h2 : ¬(k0_cond2 v140 = 1#1)), ∀ a x, ((![v1600, v1608] : Fin 2 → IVec S16 32) a x).toNat < S256x128.size a) ∧
  (∀ (k0_h2 : ¬(k0_cond2 v140 = 1#1)), ∀ a x, ((![v1600, v1608] : Fin 2 → IVec S16 32) a x).toNat < S256x128.size a)
theorem k0_idx260_inb : ∀ (v140 : BitVec 32) (v1600 : IVec S16 32) (v1608 : IVec S16 32) (k0_hw145 : k0_chk145 v140 v1600 v1608), ∀ (k0_h2 : ¬(k0_cond2 v140 = 1#1)), ∀ a x, ((![v1600, v1608] : Fin 2 → IVec S16 32) a x).toNat < S256x128.size a := fun v140 v1600 v1608 k0_hw145 k0_h2 => k0_hw145.1 k0_h2
theorem k0_idx261_inb : ∀ (v140 : BitVec 32) (v1600 : IVec S16 32) (v1608 : IVec S16 32) (k0_hw145 : k0_chk145 v140 v1600 v1608), ∀ (k0_h2 : ¬(k0_cond2 v140 = 1#1)), ∀ a x, ((![v1600, v1608] : Fin 2 → IVec S16 32) a x).toNat < S256x128.size a := fun v140 v1600 v1608 k0_hw145 k0_h2 => k0_hw145.2 k0_h2

def k0_chk146 (v140 : BitVec 32) (v1600 : IVec S16 32) (v1610 : IVec S16 32) : Prop :=
  (∀ (k0_h2 : ¬(k0_cond2 v140 = 1#1)), ∀ a x, ((![v1600, v1610] : Fin 2 → IVec S16 32) a x).toNat < S256x128.size a) ∧
  (∀ (k0_h2 : ¬(k0_cond2 v140 = 1#1)), ∀ a x, ((![v1600, v1610] : Fin 2 → IVec S16 32) a x).toNat < S256x128.size a)
theorem k0_idx262_inb : ∀ (v140 : BitVec 32) (v1600 : IVec S16 32) (v1610 : IVec S16 32) (k0_hw146 : k0_chk146 v140 v1600 v1610), ∀ (k0_h2 : ¬(k0_cond2 v140 = 1#1)), ∀ a x, ((![v1600, v1610] : Fin 2 → IVec S16 32) a x).toNat < S256x128.size a := fun v140 v1600 v1610 k0_hw146 k0_h2 => k0_hw146.1 k0_h2
theorem k0_idx263_inb : ∀ (v140 : BitVec 32) (v1600 : IVec S16 32) (v1610 : IVec S16 32) (k0_hw146 : k0_chk146 v140 v1600 v1610), ∀ (k0_h2 : ¬(k0_cond2 v140 = 1#1)), ∀ a x, ((![v1600, v1610] : Fin 2 → IVec S16 32) a x).toNat < S256x128.size a := fun v140 v1600 v1610 k0_hw146 k0_h2 => k0_hw146.2 k0_h2

def k0_chk147 (v140 : BitVec 32) (v1600 : IVec S16 32) (v1612 : IVec S16 32) : Prop :=
  (∀ (k0_h2 : ¬(k0_cond2 v140 = 1#1)), ∀ a x, ((![v1600, v1612] : Fin 2 → IVec S16 32) a x).toNat < S256x128.size a) ∧
  (∀ (k0_h2 : ¬(k0_cond2 v140 = 1#1)), ∀ a x, ((![v1600, v1612] : Fin 2 → IVec S16 32) a x).toNat < S256x128.size a)
theorem k0_idx264_inb : ∀ (v140 : BitVec 32) (v1600 : IVec S16 32) (v1612 : IVec S16 32) (k0_hw147 : k0_chk147 v140 v1600 v1612), ∀ (k0_h2 : ¬(k0_cond2 v140 = 1#1)), ∀ a x, ((![v1600, v1612] : Fin 2 → IVec S16 32) a x).toNat < S256x128.size a := fun v140 v1600 v1612 k0_hw147 k0_h2 => k0_hw147.1 k0_h2
theorem k0_idx265_inb : ∀ (v140 : BitVec 32) (v1600 : IVec S16 32) (v1612 : IVec S16 32) (k0_hw147 : k0_chk147 v140 v1600 v1612), ∀ (k0_h2 : ¬(k0_cond2 v140 = 1#1)), ∀ a x, ((![v1600, v1612] : Fin 2 → IVec S16 32) a x).toNat < S256x128.size a := fun v140 v1600 v1612 k0_hw147 k0_h2 => k0_hw147.2 k0_h2

def k0_chk148 (v140 : BitVec 32) (v1600 : IVec S16 32) (v1614 : IVec S16 32) : Prop :=
  (∀ (k0_h2 : ¬(k0_cond2 v140 = 1#1)), ∀ a x, ((![v1600, v1614] : Fin 2 → IVec S16 32) a x).toNat < S256x128.size a) ∧
  (∀ (k0_h2 : ¬(k0_cond2 v140 = 1#1)), ∀ a x, ((![v1600, v1614] : Fin 2 → IVec S16 32) a x).toNat < S256x128.size a)
theorem k0_idx266_inb : ∀ (v140 : BitVec 32) (v1600 : IVec S16 32) (v1614 : IVec S16 32) (k0_hw148 : k0_chk148 v140 v1600 v1614), ∀ (k0_h2 : ¬(k0_cond2 v140 = 1#1)), ∀ a x, ((![v1600, v1614] : Fin 2 → IVec S16 32) a x).toNat < S256x128.size a := fun v140 v1600 v1614 k0_hw148 k0_h2 => k0_hw148.1 k0_h2
theorem k0_idx267_inb : ∀ (v140 : BitVec 32) (v1600 : IVec S16 32) (v1614 : IVec S16 32) (k0_hw148 : k0_chk148 v140 v1600 v1614), ∀ (k0_h2 : ¬(k0_cond2 v140 = 1#1)), ∀ a x, ((![v1600, v1614] : Fin 2 → IVec S16 32) a x).toNat < S256x128.size a := fun v140 v1600 v1614 k0_hw148 k0_h2 => k0_hw148.2 k0_h2

def k0_chk149 (v140 : BitVec 32) (v1600 : IVec S16 32) (v1616 : IVec S16 32) : Prop :=
  (∀ (k0_h2 : ¬(k0_cond2 v140 = 1#1)), ∀ a x, ((![v1600, v1616] : Fin 2 → IVec S16 32) a x).toNat < S256x128.size a) ∧
  (∀ (k0_h2 : ¬(k0_cond2 v140 = 1#1)), ∀ a x, ((![v1600, v1616] : Fin 2 → IVec S16 32) a x).toNat < S256x128.size a)
theorem k0_idx268_inb : ∀ (v140 : BitVec 32) (v1600 : IVec S16 32) (v1616 : IVec S16 32) (k0_hw149 : k0_chk149 v140 v1600 v1616), ∀ (k0_h2 : ¬(k0_cond2 v140 = 1#1)), ∀ a x, ((![v1600, v1616] : Fin 2 → IVec S16 32) a x).toNat < S256x128.size a := fun v140 v1600 v1616 k0_hw149 k0_h2 => k0_hw149.1 k0_h2
theorem k0_idx269_inb : ∀ (v140 : BitVec 32) (v1600 : IVec S16 32) (v1616 : IVec S16 32) (k0_hw149 : k0_chk149 v140 v1600 v1616), ∀ (k0_h2 : ¬(k0_cond2 v140 = 1#1)), ∀ a x, ((![v1600, v1616] : Fin 2 → IVec S16 32) a x).toNat < S256x128.size a := fun v140 v1600 v1616 k0_hw149 k0_h2 => k0_hw149.2 k0_h2

def k0_chk150 (v2 : IVec S16 32) (v140 : BitVec 32) (v1600 : IVec S16 32) : Prop :=
  (∀ (k0_h2 : ¬(k0_cond2 v140 = 1#1)), ∀ a x, ((![v1600, v2] : Fin 2 → IVec S16 32) a x).toNat < S256x16.size a)
theorem k0_idx270_inb : ∀ (v2 : IVec S16 32) (v140 : BitVec 32) (v1600 : IVec S16 32) (k0_hw150 : k0_chk150 v2 v140 v1600), ∀ (k0_h2 : ¬(k0_cond2 v140 = 1#1)), ∀ a x, ((![v1600, v2] : Fin 2 → IVec S16 32) a x).toNat < S256x16.size a := fun v2 v140 v1600 k0_hw150 k0_h2 => k0_hw150 k0_h2

def k0_chk151 (v140 : BitVec 32) (v1661 : IVec S16 32) : Prop :=
  (∀ (k0_h2 : ¬(k0_cond2 v140 = 1#1)), ∀ a x, ((![v1661] : Fin 1 → IVec S16 32) a x).toNat < S3136.size a)
theorem k0_idx271_inb : ∀ (v140 : BitVec 32) (v1661 : IVec S16 32) (k0_hw151 : k0_chk151 v140 v1661), ∀ (k0_h2 : ¬(k0_cond2 v140 = 1#1)), ∀ a x, ((![v1661] : Fin 1 → IVec S16 32) a x).toNat < S3136.size a := fun v140 v1661 k0_hw151 k0_h2 => k0_hw151 k0_h2
def k0_off139 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1664 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c15_i32_513 : BitVec 32 := 15#32
  let v1663 : BitVec 32 := Scalar.addi v126 c15_i32_513
  let v1665 : Index := Scalar.indexCast v1663
  let c0_514 : Index := 0#32
  ![v1664.toNat, v1665.toNat, 0]
def k0_off140 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1668 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c15_i32_515 : BitVec 32 := 15#32
  let v1667 : BitVec 32 := Scalar.addi v126 c15_i32_515
  let v1669 : Index := Scalar.indexCast v1667
  let c16_516 : Index := 16#32
  ![v1668.toNat, v1669.toNat, 16]
def k0_off141 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1672 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c15_i32_517 : BitVec 32 := 15#32
  let v1671 : BitVec 32 := Scalar.addi v126 c15_i32_517
  let v1673 : Index := Scalar.indexCast v1671
  let c32_518 : Index := 32#32
  ![v1672.toNat, v1673.toNat, 32]
def k0_off142 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1676 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c15_i32_519 : BitVec 32 := 15#32
  let v1675 : BitVec 32 := Scalar.addi v126 c15_i32_519
  let v1677 : Index := Scalar.indexCast v1675
  let c48_520 : Index := 48#32
  ![v1676.toNat, v1677.toNat, 48]
def k0_off143 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1680 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c15_i32_521 : BitVec 32 := 15#32
  let v1679 : BitVec 32 := Scalar.addi v126 c15_i32_521
  let v1681 : Index := Scalar.indexCast v1679
  let c64_522 : Index := 64#32
  ![v1680.toNat, v1681.toNat, 64]
def k0_off144 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1684 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c15_i32_523 : BitVec 32 := 15#32
  let v1683 : BitVec 32 := Scalar.addi v126 c15_i32_523
  let v1685 : Index := Scalar.indexCast v1683
  let c80_524 : Index := 80#32
  ![v1684.toNat, v1685.toNat, 80]
def k0_off145 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1688 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c15_i32_525 : BitVec 32 := 15#32
  let v1687 : BitVec 32 := Scalar.addi v126 c15_i32_525
  let v1689 : Index := Scalar.indexCast v1687
  let c96_526 : Index := 96#32
  ![v1688.toNat, v1689.toNat, 96]
def k0_off146 (i : grid0.Coords) (k0_t2 : Fin (k0_t2_loop i).trips) (k0_t3 : Fin (k0_t3_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1692 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t3
  let c16_i32_62 : BitVec 32 := 16#32
  let v125 : BitVec 32 := Scalar.muli arg32 c16_i32_62
  let v126 : BitVec 32 := Scalar.addi v99 v125
  let c15_i32_527 : BitVec 32 := 15#32
  let v1691 : BitVec 32 := Scalar.addi v126 c15_i32_527
  let v1693 : Index := Scalar.indexCast v1691
  let c112_528 : Index := 112#32
  ![v1692.toNat, v1693.toNat, 112]

def k0_chk152 (v140 : BitVec 32) (v1701 : IVec S16 32) (v1703 : IVec S16 32) : Prop :=
  (∀ (k0_h2 : ¬(k0_cond2 v140 = 1#1)), ∀ a x, ((![v1701, v1703] : Fin 2 → IVec S16 32) a x).toNat < S256x128.size a) ∧
  (∀ (k0_h2 : ¬(k0_cond2 v140 = 1#1)), ∀ a x, ((![v1701, v1703] : Fin 2 → IVec S16 32) a x).toNat < S256x128.size a)
theorem k0_idx272_inb : ∀ (v140 : BitVec 32) (v1701 : IVec S16 32) (v1703 : IVec S16 32) (k0_hw152 : k0_chk152 v140 v1701 v1703), ∀ (k0_h2 : ¬(k0_cond2 v140 = 1#1)), ∀ a x, ((![v1701, v1703] : Fin 2 → IVec S16 32) a x).toNat < S256x128.size a := fun v140 v1701 v1703 k0_hw152 k0_h2 => k0_hw152.1 k0_h2
theorem k0_idx273_inb : ∀ (v140 : BitVec 32) (v1701 : IVec S16 32) (v1703 : IVec S16 32) (k0_hw152 : k0_chk152 v140 v1701 v1703), ∀ (k0_h2 : ¬(k0_cond2 v140 = 1#1)), ∀ a x, ((![v1701, v1703] : Fin 2 → IVec S16 32) a x).toNat < S256x128.size a := fun v140 v1701 v1703 k0_hw152 k0_h2 => k0_hw152.2 k0_h2

def k0_chk153 (v140 : BitVec 32) (v1701 : IVec S16 32) (v1705 : IVec S16 32) : Prop :=
  (∀ (k0_h2 : ¬(k0_cond2 v140 = 1#1)), ∀ a x, ((![v1701, v1705] : Fin 2 → IVec S16 32) a x).toNat < S256x128.size a) ∧
  (∀ (k0_h2 : ¬(k0_cond2 v140 = 1#1)), ∀ a x, ((![v1701, v1705] : Fin 2 → IVec S16 32) a x).toNat < S256x128.size a)
theorem k0_idx274_inb : ∀ (v140 : BitVec 32) (v1701 : IVec S16 32) (v1705 : IVec S16 32) (k0_hw153 : k0_chk153 v140 v1701 v1705), ∀ (k0_h2 : ¬(k0_cond2 v140 = 1#1)), ∀ a x, ((![v1701, v1705] : Fin 2 → IVec S16 32) a x).toNat < S256x128.size a := fun v140 v1701 v1705 k0_hw153 k0_h2 => k0_hw153.1 k0_h2
theorem k0_idx275_inb : ∀ (v140 : BitVec 32) (v1701 : IVec S16 32) (v1705 : IVec S16 32) (k0_hw153 : k0_chk153 v140 v1701 v1705), ∀ (k0_h2 : ¬(k0_cond2 v140 = 1#1)), ∀ a x, ((![v1701, v1705] : Fin 2 → IVec S16 32) a x).toNat < S256x128.size a := fun v140 v1701 v1705 k0_hw153 k0_h2 => k0_hw153.2 k0_h2

def k0_chk154 (v140 : BitVec 32) (v1701 : IVec S16 32) (v1707 : IVec S16 32) : Prop :=
  (∀ (k0_h2 : ¬(k0_cond2 v140 = 1#1)), ∀ a x, ((![v1701, v1707] : Fin 2 → IVec S16 32) a x).toNat < S256x128.size a) ∧
  (∀ (k0_h2 : ¬(k0_cond2 v140 = 1#1)), ∀ a x, ((![v1701, v1707] : Fin 2 → IVec S16 32) a x).toNat < S256x128.size a)
theorem k0_idx276_inb : ∀ (v140 : BitVec 32) (v1701 : IVec S16 32) (v1707 : IVec S16 32) (k0_hw154 : k0_chk154 v140 v1701 v1707), ∀ (k0_h2 : ¬(k0_cond2 v140 = 1#1)), ∀ a x, ((![v1701, v1707] : Fin 2 → IVec S16 32) a x).toNat < S256x128.size a := fun v140 v1701 v1707 k0_hw154 k0_h2 => k0_hw154.1 k0_h2
theorem k0_idx277_inb : ∀ (v140 : BitVec 32) (v1701 : IVec S16 32) (v1707 : IVec S16 32) (k0_hw154 : k0_chk154 v140 v1701 v1707), ∀ (k0_h2 : ¬(k0_cond2 v140 = 1#1)), ∀ a x, ((![v1701, v1707] : Fin 2 → IVec S16 32) a x).toNat < S256x128.size a := fun v140 v1701 v1707 k0_hw154 k0_h2 => k0_hw154.2 k0_h2

def k0_chk155 (v140 : BitVec 32) (v1701 : IVec S16 32) (v1709 : IVec S16 32) : Prop :=
  (∀ (k0_h2 : ¬(k0_cond2 v140 = 1#1)), ∀ a x, ((![v1701, v1709] : Fin 2 → IVec S16 32) a x).toNat < S256x128.size a) ∧
  (∀ (k0_h2 : ¬(k0_cond2 v140 = 1#1)), ∀ a x, ((![v1701, v1709] : Fin 2 → IVec S16 32) a x).toNat < S256x128.size a)
theorem k0_idx278_inb : ∀ (v140 : BitVec 32) (v1701 : IVec S16 32) (v1709 : IVec S16 32) (k0_hw155 : k0_chk155 v140 v1701 v1709), ∀ (k0_h2 : ¬(k0_cond2 v140 = 1#1)), ∀ a x, ((![v1701, v1709] : Fin 2 → IVec S16 32) a x).toNat < S256x128.size a := fun v140 v1701 v1709 k0_hw155 k0_h2 => k0_hw155.1 k0_h2
theorem k0_idx279_inb : ∀ (v140 : BitVec 32) (v1701 : IVec S16 32) (v1709 : IVec S16 32) (k0_hw155 : k0_chk155 v140 v1701 v1709), ∀ (k0_h2 : ¬(k0_cond2 v140 = 1#1)), ∀ a x, ((![v1701, v1709] : Fin 2 → IVec S16 32) a x).toNat < S256x128.size a := fun v140 v1701 v1709 k0_hw155 k0_h2 => k0_hw155.2 k0_h2

def k0_chk156 (v140 : BitVec 32) (v1701 : IVec S16 32) (v1711 : IVec S16 32) : Prop :=
  (∀ (k0_h2 : ¬(k0_cond2 v140 = 1#1)), ∀ a x, ((![v1701, v1711] : Fin 2 → IVec S16 32) a x).toNat < S256x128.size a) ∧
  (∀ (k0_h2 : ¬(k0_cond2 v140 = 1#1)), ∀ a x, ((![v1701, v1711] : Fin 2 → IVec S16 32) a x).toNat < S256x128.size a)
theorem k0_idx280_inb : ∀ (v140 : BitVec 32) (v1701 : IVec S16 32) (v1711 : IVec S16 32) (k0_hw156 : k0_chk156 v140 v1701 v1711), ∀ (k0_h2 : ¬(k0_cond2 v140 = 1#1)), ∀ a x, ((![v1701, v1711] : Fin 2 → IVec S16 32) a x).toNat < S256x128.size a := fun v140 v1701 v1711 k0_hw156 k0_h2 => k0_hw156.1 k0_h2
theorem k0_idx281_inb : ∀ (v140 : BitVec 32) (v1701 : IVec S16 32) (v1711 : IVec S16 32) (k0_hw156 : k0_chk156 v140 v1701 v1711), ∀ (k0_h2 : ¬(k0_cond2 v140 = 1#1)), ∀ a x, ((![v1701, v1711] : Fin 2 → IVec S16 32) a x).toNat < S256x128.size a := fun v140 v1701 v1711 k0_hw156 k0_h2 => k0_hw156.2 k0_h2

def k0_chk157 (v140 : BitVec 32) (v1701 : IVec S16 32) (v1713 : IVec S16 32) : Prop :=
  (∀ (k0_h2 : ¬(k0_cond2 v140 = 1#1)), ∀ a x, ((![v1701, v1713] : Fin 2 → IVec S16 32) a x).toNat < S256x128.size a) ∧
  (∀ (k0_h2 : ¬(k0_cond2 v140 = 1#1)), ∀ a x, ((![v1701, v1713] : Fin 2 → IVec S16 32) a x).toNat < S256x128.size a)
theorem k0_idx282_inb : ∀ (v140 : BitVec 32) (v1701 : IVec S16 32) (v1713 : IVec S16 32) (k0_hw157 : k0_chk157 v140 v1701 v1713), ∀ (k0_h2 : ¬(k0_cond2 v140 = 1#1)), ∀ a x, ((![v1701, v1713] : Fin 2 → IVec S16 32) a x).toNat < S256x128.size a := fun v140 v1701 v1713 k0_hw157 k0_h2 => k0_hw157.1 k0_h2
theorem k0_idx283_inb : ∀ (v140 : BitVec 32) (v1701 : IVec S16 32) (v1713 : IVec S16 32) (k0_hw157 : k0_chk157 v140 v1701 v1713), ∀ (k0_h2 : ¬(k0_cond2 v140 = 1#1)), ∀ a x, ((![v1701, v1713] : Fin 2 → IVec S16 32) a x).toNat < S256x128.size a := fun v140 v1701 v1713 k0_hw157 k0_h2 => k0_hw157.2 k0_h2

def k0_chk158 (v140 : BitVec 32) (v1701 : IVec S16 32) (v1715 : IVec S16 32) : Prop :=
  (∀ (k0_h2 : ¬(k0_cond2 v140 = 1#1)), ∀ a x, ((![v1701, v1715] : Fin 2 → IVec S16 32) a x).toNat < S256x128.size a) ∧
  (∀ (k0_h2 : ¬(k0_cond2 v140 = 1#1)), ∀ a x, ((![v1701, v1715] : Fin 2 → IVec S16 32) a x).toNat < S256x128.size a)
theorem k0_idx284_inb : ∀ (v140 : BitVec 32) (v1701 : IVec S16 32) (v1715 : IVec S16 32) (k0_hw158 : k0_chk158 v140 v1701 v1715), ∀ (k0_h2 : ¬(k0_cond2 v140 = 1#1)), ∀ a x, ((![v1701, v1715] : Fin 2 → IVec S16 32) a x).toNat < S256x128.size a := fun v140 v1701 v1715 k0_hw158 k0_h2 => k0_hw158.1 k0_h2
theorem k0_idx285_inb : ∀ (v140 : BitVec 32) (v1701 : IVec S16 32) (v1715 : IVec S16 32) (k0_hw158 : k0_chk158 v140 v1701 v1715), ∀ (k0_h2 : ¬(k0_cond2 v140 = 1#1)), ∀ a x, ((![v1701, v1715] : Fin 2 → IVec S16 32) a x).toNat < S256x128.size a := fun v140 v1701 v1715 k0_hw158 k0_h2 => k0_hw158.2 k0_h2

def k0_chk159 (v140 : BitVec 32) (v1701 : IVec S16 32) (v1717 : IVec S16 32) : Prop :=
  (∀ (k0_h2 : ¬(k0_cond2 v140 = 1#1)), ∀ a x, ((![v1701, v1717] : Fin 2 → IVec S16 32) a x).toNat < S256x128.size a) ∧
  (∀ (k0_h2 : ¬(k0_cond2 v140 = 1#1)), ∀ a x, ((![v1701, v1717] : Fin 2 → IVec S16 32) a x).toNat < S256x128.size a)
theorem k0_idx286_inb : ∀ (v140 : BitVec 32) (v1701 : IVec S16 32) (v1717 : IVec S16 32) (k0_hw159 : k0_chk159 v140 v1701 v1717), ∀ (k0_h2 : ¬(k0_cond2 v140 = 1#1)), ∀ a x, ((![v1701, v1717] : Fin 2 → IVec S16 32) a x).toNat < S256x128.size a := fun v140 v1701 v1717 k0_hw159 k0_h2 => k0_hw159.1 k0_h2
theorem k0_idx287_inb : ∀ (v140 : BitVec 32) (v1701 : IVec S16 32) (v1717 : IVec S16 32) (k0_hw159 : k0_chk159 v140 v1701 v1717), ∀ (k0_h2 : ¬(k0_cond2 v140 = 1#1)), ∀ a x, ((![v1701, v1717] : Fin 2 → IVec S16 32) a x).toNat < S256x128.size a := fun v140 v1701 v1717 k0_hw159 k0_h2 => k0_hw159.2 k0_h2

def k0_chk160 (v2 : IVec S16 32) (v140 : BitVec 32) (v1701 : IVec S16 32) : Prop :=
  (∀ (k0_h2 : ¬(k0_cond2 v140 = 1#1)), ∀ a x, ((![v1701, v2] : Fin 2 → IVec S16 32) a x).toNat < S256x16.size a)
theorem k0_idx288_inb : ∀ (v2 : IVec S16 32) (v140 : BitVec 32) (v1701 : IVec S16 32) (k0_hw160 : k0_chk160 v2 v140 v1701), ∀ (k0_h2 : ¬(k0_cond2 v140 = 1#1)), ∀ a x, ((![v1701, v2] : Fin 2 → IVec S16 32) a x).toNat < S256x16.size a := fun v2 v140 v1701 k0_hw160 k0_h2 => k0_hw160 k0_h2
@[reducible] def k0_t4_loop (i : grid0.Coords) (k0_t2 : Fin (k0_t2_loop i).trips) : Scf.Loop 32 :=
  let c0_i32_58 : BitVec 32 := 0#32
  let c7_i32_57 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c0_i32_34 : BitVec 32 := 0#32
  let c1_i32_37 : BitVec 32 := 1#32
  let arg13 : BitVec 32 := Scf.iv c0_i32_34 c1_i32_37 k0_t2
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let v119 : BitVec 32 := Scalar.addi c0_i32_58 v118
  let c1_i32_61 : BitVec 32 := 1#32
  ⟨v122, v119, c1_i32_61⟩
def k0_off147 (i : grid0.Coords) (k0_t2 : Fin (k0_t2_loop i).trips) (k0_t4 : Fin (k0_t4_loop i k0_t2).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c96864_i32 : BitVec 32 := 96864#32
  let v45 : BitVec 32 := Scalar.minsi v5 c96864_i32
  let v46 : BitVec 32 := v45
  let v47 : BitVec 32 := Scalar.subi v5 v46
  let c0_i32_34 : BitVec 32 := 0#32
  let c1_i32_37 : BitVec 32 := 1#32
  let arg13 : BitVec 32 := Scf.iv c0_i32_34 c1_i32_37 k0_t2
  let c7_i32_63 : BitVec 32 := 7#32
  let v127 : BitVec 32 := Scalar.muli arg13 c7_i32_63
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let v128 : BitVec 32 := Scalar.addi v127 arg32
  let c16_i32_64 : BitVec 32 := 16#32
  let v129 : BitVec 32 := Scalar.muli v128 c16_i32_64
  let v130 : BitVec 32 := Scalar.addi v47 v129
  let v131 : Index := Scalar.indexCast v130
  ![v131.toNat]
def k0_off148 (i : grid0.Coords) (k0_t2 : Fin (k0_t2_loop i).trips) (k0_t4 : Fin (k0_t4_loop i k0_t2).trips) (c0_i32_67 : BitVec 32) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v146 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let v145 : BitVec 32 := Scalar.addi v126 c0_i32_67
  let v147 : Index := Scalar.indexCast v145
  let c0 : Index := 0#32
  ![v146.toNat, v147.toNat, 0]
def k0_off149 (i : grid0.Coords) (k0_t2 : Fin (k0_t2_loop i).trips) (k0_t4 : Fin (k0_t4_loop i k0_t2).trips) (c0_i32_68 : BitVec 32) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v150 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let v149 : BitVec 32 := Scalar.addi v126 c0_i32_68
  let v151 : Index := Scalar.indexCast v149
  let c16 : Index := 16#32
  ![v150.toNat, v151.toNat, 16]
def k0_off150 (i : grid0.Coords) (k0_t2 : Fin (k0_t2_loop i).trips) (k0_t4 : Fin (k0_t4_loop i k0_t2).trips) (c0_i32_69 : BitVec 32) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v154 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let v153 : BitVec 32 := Scalar.addi v126 c0_i32_69
  let v155 : Index := Scalar.indexCast v153
  let c32 : Index := 32#32
  ![v154.toNat, v155.toNat, 32]
def k0_off151 (i : grid0.Coords) (k0_t2 : Fin (k0_t2_loop i).trips) (k0_t4 : Fin (k0_t4_loop i k0_t2).trips) (c0_i32_70 : BitVec 32) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v158 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let v157 : BitVec 32 := Scalar.addi v126 c0_i32_70
  let v159 : Index := Scalar.indexCast v157
  let c48 : Index := 48#32
  ![v158.toNat, v159.toNat, 48]
def k0_off152 (i : grid0.Coords) (k0_t2 : Fin (k0_t2_loop i).trips) (k0_t4 : Fin (k0_t4_loop i k0_t2).trips) (c0_i32_71 : BitVec 32) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v162 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let v161 : BitVec 32 := Scalar.addi v126 c0_i32_71
  let v163 : Index := Scalar.indexCast v161
  let c64 : Index := 64#32
  ![v162.toNat, v163.toNat, 64]
def k0_off153 (i : grid0.Coords) (k0_t2 : Fin (k0_t2_loop i).trips) (k0_t4 : Fin (k0_t4_loop i k0_t2).trips) (c0_i32_72 : BitVec 32) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v166 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let v165 : BitVec 32 := Scalar.addi v126 c0_i32_72
  let v167 : Index := Scalar.indexCast v165
  let c80 : Index := 80#32
  ![v166.toNat, v167.toNat, 80]
def k0_off154 (i : grid0.Coords) (k0_t2 : Fin (k0_t2_loop i).trips) (k0_t4 : Fin (k0_t4_loop i k0_t2).trips) (c0_i32_73 : BitVec 32) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v170 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let v169 : BitVec 32 := Scalar.addi v126 c0_i32_73
  let v171 : Index := Scalar.indexCast v169
  let c96 : Index := 96#32
  ![v170.toNat, v171.toNat, 96]
def k0_off155 (i : grid0.Coords) (k0_t2 : Fin (k0_t2_loop i).trips) (k0_t4 : Fin (k0_t4_loop i k0_t2).trips) (c0_i32_74 : BitVec 32) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v174 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let v173 : BitVec 32 := Scalar.addi v126 c0_i32_74
  let v175 : Index := Scalar.indexCast v173
  let c112 : Index := 112#32
  ![v174.toNat, v175.toNat, 112]
def k0_cond3 (v140 : BitVec 32) : BitVec 1 :=
  let c1_i32_65 : BitVec 32 := 1#32
  let v141 : BitVec 1 := Scalar.cmpi .eq v140 c1_i32_65
  let v142 : BitVec 32 := Scalar.extui v141
  let c0_i32_66 : BitVec 32 := 0#32
  let v143 : BitVec 1 := Scalar.cmpi .ne v142 c0_i32_66
  v143

def k0_chk161 (i : grid0.Coords) (k0_t2 : Fin (k0_t2_loop i).trips) (k0_t4 : Fin (k0_t4_loop i k0_t2).trips) (v140 : BitVec 32) (v146 : IVec S16 32) : Prop :=
  (∀ (k0_h3 : ¬(k0_cond3 v140 = 1#1)), ∀ a x, ((![v146] : Fin 1 → IVec S16 32) a x).toNat < S3136.size a)
theorem k0_idx289_inb : ∀ (i : grid0.Coords) (k0_t2 : Fin (k0_t2_loop i).trips) (k0_t4 : Fin (k0_t4_loop i k0_t2).trips) (v140 : BitVec 32) (v146 : IVec S16 32) (k0_hw161 : k0_chk161 i k0_t2 k0_t4 v140 v146), ∀ (k0_h3 : ¬(k0_cond3 v140 = 1#1)), ∀ a x, ((![v146] : Fin 1 → IVec S16 32) a x).toNat < S3136.size a := fun i k0_t2 k0_t4 v140 v146 k0_hw161 k0_h3 => k0_hw161 k0_h3
def k0_off156 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v149 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c0_i32_68 : BitVec 32 := 0#32
  let v148 : BitVec 32 := Scalar.addi v126 c0_i32_68
  let v150 : Index := Scalar.indexCast v148
  let c0 : Index := 0#32
  ![v149.toNat, v150.toNat, 0]
def k0_off157 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v153 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c0_i32_69 : BitVec 32 := 0#32
  let v152 : BitVec 32 := Scalar.addi v126 c0_i32_69
  let v154 : Index := Scalar.indexCast v152
  let c16 : Index := 16#32
  ![v153.toNat, v154.toNat, 16]
def k0_off158 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v157 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c0_i32_70 : BitVec 32 := 0#32
  let v156 : BitVec 32 := Scalar.addi v126 c0_i32_70
  let v158 : Index := Scalar.indexCast v156
  let c32 : Index := 32#32
  ![v157.toNat, v158.toNat, 32]
def k0_off159 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v161 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c0_i32_71 : BitVec 32 := 0#32
  let v160 : BitVec 32 := Scalar.addi v126 c0_i32_71
  let v162 : Index := Scalar.indexCast v160
  let c48 : Index := 48#32
  ![v161.toNat, v162.toNat, 48]
def k0_off160 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v165 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c0_i32_72 : BitVec 32 := 0#32
  let v164 : BitVec 32 := Scalar.addi v126 c0_i32_72
  let v166 : Index := Scalar.indexCast v164
  let c64 : Index := 64#32
  ![v165.toNat, v166.toNat, 64]
def k0_off161 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v169 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c0_i32_73 : BitVec 32 := 0#32
  let v168 : BitVec 32 := Scalar.addi v126 c0_i32_73
  let v170 : Index := Scalar.indexCast v168
  let c80 : Index := 80#32
  ![v169.toNat, v170.toNat, 80]
def k0_off162 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v173 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c0_i32_74 : BitVec 32 := 0#32
  let v172 : BitVec 32 := Scalar.addi v126 c0_i32_74
  let v174 : Index := Scalar.indexCast v172
  let c96 : Index := 96#32
  ![v173.toNat, v174.toNat, 96]
def k0_off163 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v177 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c0_i32_75 : BitVec 32 := 0#32
  let v176 : BitVec 32 := Scalar.addi v126 c0_i32_75
  let v178 : Index := Scalar.indexCast v176
  let c112 : Index := 112#32
  ![v177.toNat, v178.toNat, 112]

def k0_chk162 (i : grid0.Coords) (k0_t2 : Fin (k0_t2_loop i).trips) (k0_t4 : Fin (k0_t4_loop i k0_t2).trips) (v140 : BitVec 32) (v186 : IVec S16 32) (v188 : IVec S16 32) : Prop :=
  (∀ (k0_h3 : ¬(k0_cond3 v140 = 1#1)), ∀ a x, ((![v186, v188] : Fin 2 → IVec S16 32) a x).toNat < S256x128.size a) ∧
  (∀ (k0_h3 : ¬(k0_cond3 v140 = 1#1)), ∀ a x, ((![v186, v188] : Fin 2 → IVec S16 32) a x).toNat < S256x128.size a)
theorem k0_idx290_inb : ∀ (i : grid0.Coords) (k0_t2 : Fin (k0_t2_loop i).trips) (k0_t4 : Fin (k0_t4_loop i k0_t2).trips) (v140 : BitVec 32) (v186 : IVec S16 32) (v188 : IVec S16 32) (k0_hw162 : k0_chk162 i k0_t2 k0_t4 v140 v186 v188), ∀ (k0_h3 : ¬(k0_cond3 v140 = 1#1)), ∀ a x, ((![v186, v188] : Fin 2 → IVec S16 32) a x).toNat < S256x128.size a := fun i k0_t2 k0_t4 v140 v186 v188 k0_hw162 k0_h3 => k0_hw162.1 k0_h3
theorem k0_idx291_inb : ∀ (i : grid0.Coords) (k0_t2 : Fin (k0_t2_loop i).trips) (k0_t4 : Fin (k0_t4_loop i k0_t2).trips) (v140 : BitVec 32) (v186 : IVec S16 32) (v188 : IVec S16 32) (k0_hw162 : k0_chk162 i k0_t2 k0_t4 v140 v186 v188), ∀ (k0_h3 : ¬(k0_cond3 v140 = 1#1)), ∀ a x, ((![v186, v188] : Fin 2 → IVec S16 32) a x).toNat < S256x128.size a := fun i k0_t2 k0_t4 v140 v186 v188 k0_hw162 k0_h3 => k0_hw162.2 k0_h3

def k0_chk163 (i : grid0.Coords) (k0_t2 : Fin (k0_t2_loop i).trips) (k0_t4 : Fin (k0_t4_loop i k0_t2).trips) (v140 : BitVec 32) (v186 : IVec S16 32) (v190 : IVec S16 32) : Prop :=
  (∀ (k0_h3 : ¬(k0_cond3 v140 = 1#1)), ∀ a x, ((![v186, v190] : Fin 2 → IVec S16 32) a x).toNat < S256x128.size a) ∧
  (∀ (k0_h3 : ¬(k0_cond3 v140 = 1#1)), ∀ a x, ((![v186, v190] : Fin 2 → IVec S16 32) a x).toNat < S256x128.size a)
theorem k0_idx292_inb : ∀ (i : grid0.Coords) (k0_t2 : Fin (k0_t2_loop i).trips) (k0_t4 : Fin (k0_t4_loop i k0_t2).trips) (v140 : BitVec 32) (v186 : IVec S16 32) (v190 : IVec S16 32) (k0_hw163 : k0_chk163 i k0_t2 k0_t4 v140 v186 v190), ∀ (k0_h3 : ¬(k0_cond3 v140 = 1#1)), ∀ a x, ((![v186, v190] : Fin 2 → IVec S16 32) a x).toNat < S256x128.size a := fun i k0_t2 k0_t4 v140 v186 v190 k0_hw163 k0_h3 => k0_hw163.1 k0_h3
theorem k0_idx293_inb : ∀ (i : grid0.Coords) (k0_t2 : Fin (k0_t2_loop i).trips) (k0_t4 : Fin (k0_t4_loop i k0_t2).trips) (v140 : BitVec 32) (v186 : IVec S16 32) (v190 : IVec S16 32) (k0_hw163 : k0_chk163 i k0_t2 k0_t4 v140 v186 v190), ∀ (k0_h3 : ¬(k0_cond3 v140 = 1#1)), ∀ a x, ((![v186, v190] : Fin 2 → IVec S16 32) a x).toNat < S256x128.size a := fun i k0_t2 k0_t4 v140 v186 v190 k0_hw163 k0_h3 => k0_hw163.2 k0_h3

def k0_chk164 (i : grid0.Coords) (k0_t2 : Fin (k0_t2_loop i).trips) (k0_t4 : Fin (k0_t4_loop i k0_t2).trips) (v140 : BitVec 32) (v186 : IVec S16 32) (v192 : IVec S16 32) : Prop :=
  (∀ (k0_h3 : ¬(k0_cond3 v140 = 1#1)), ∀ a x, ((![v186, v192] : Fin 2 → IVec S16 32) a x).toNat < S256x128.size a) ∧
  (∀ (k0_h3 : ¬(k0_cond3 v140 = 1#1)), ∀ a x, ((![v186, v192] : Fin 2 → IVec S16 32) a x).toNat < S256x128.size a)
theorem k0_idx294_inb : ∀ (i : grid0.Coords) (k0_t2 : Fin (k0_t2_loop i).trips) (k0_t4 : Fin (k0_t4_loop i k0_t2).trips) (v140 : BitVec 32) (v186 : IVec S16 32) (v192 : IVec S16 32) (k0_hw164 : k0_chk164 i k0_t2 k0_t4 v140 v186 v192), ∀ (k0_h3 : ¬(k0_cond3 v140 = 1#1)), ∀ a x, ((![v186, v192] : Fin 2 → IVec S16 32) a x).toNat < S256x128.size a := fun i k0_t2 k0_t4 v140 v186 v192 k0_hw164 k0_h3 => k0_hw164.1 k0_h3
theorem k0_idx295_inb : ∀ (i : grid0.Coords) (k0_t2 : Fin (k0_t2_loop i).trips) (k0_t4 : Fin (k0_t4_loop i k0_t2).trips) (v140 : BitVec 32) (v186 : IVec S16 32) (v192 : IVec S16 32) (k0_hw164 : k0_chk164 i k0_t2 k0_t4 v140 v186 v192), ∀ (k0_h3 : ¬(k0_cond3 v140 = 1#1)), ∀ a x, ((![v186, v192] : Fin 2 → IVec S16 32) a x).toNat < S256x128.size a := fun i k0_t2 k0_t4 v140 v186 v192 k0_hw164 k0_h3 => k0_hw164.2 k0_h3

def k0_chk165 (i : grid0.Coords) (k0_t2 : Fin (k0_t2_loop i).trips) (k0_t4 : Fin (k0_t4_loop i k0_t2).trips) (v140 : BitVec 32) (v186 : IVec S16 32) (v194 : IVec S16 32) : Prop :=
  (∀ (k0_h3 : ¬(k0_cond3 v140 = 1#1)), ∀ a x, ((![v186, v194] : Fin 2 → IVec S16 32) a x).toNat < S256x128.size a) ∧
  (∀ (k0_h3 : ¬(k0_cond3 v140 = 1#1)), ∀ a x, ((![v186, v194] : Fin 2 → IVec S16 32) a x).toNat < S256x128.size a)
theorem k0_idx296_inb : ∀ (i : grid0.Coords) (k0_t2 : Fin (k0_t2_loop i).trips) (k0_t4 : Fin (k0_t4_loop i k0_t2).trips) (v140 : BitVec 32) (v186 : IVec S16 32) (v194 : IVec S16 32) (k0_hw165 : k0_chk165 i k0_t2 k0_t4 v140 v186 v194), ∀ (k0_h3 : ¬(k0_cond3 v140 = 1#1)), ∀ a x, ((![v186, v194] : Fin 2 → IVec S16 32) a x).toNat < S256x128.size a := fun i k0_t2 k0_t4 v140 v186 v194 k0_hw165 k0_h3 => k0_hw165.1 k0_h3
theorem k0_idx297_inb : ∀ (i : grid0.Coords) (k0_t2 : Fin (k0_t2_loop i).trips) (k0_t4 : Fin (k0_t4_loop i k0_t2).trips) (v140 : BitVec 32) (v186 : IVec S16 32) (v194 : IVec S16 32) (k0_hw165 : k0_chk165 i k0_t2 k0_t4 v140 v186 v194), ∀ (k0_h3 : ¬(k0_cond3 v140 = 1#1)), ∀ a x, ((![v186, v194] : Fin 2 → IVec S16 32) a x).toNat < S256x128.size a := fun i k0_t2 k0_t4 v140 v186 v194 k0_hw165 k0_h3 => k0_hw165.2 k0_h3

def k0_chk166 (i : grid0.Coords) (k0_t2 : Fin (k0_t2_loop i).trips) (k0_t4 : Fin (k0_t4_loop i k0_t2).trips) (v140 : BitVec 32) (v186 : IVec S16 32) (v196 : IVec S16 32) : Prop :=
  (∀ (k0_h3 : ¬(k0_cond3 v140 = 1#1)), ∀ a x, ((![v186, v196] : Fin 2 → IVec S16 32) a x).toNat < S256x128.size a) ∧
  (∀ (k0_h3 : ¬(k0_cond3 v140 = 1#1)), ∀ a x, ((![v186, v196] : Fin 2 → IVec S16 32) a x).toNat < S256x128.size a)
theorem k0_idx298_inb : ∀ (i : grid0.Coords) (k0_t2 : Fin (k0_t2_loop i).trips) (k0_t4 : Fin (k0_t4_loop i k0_t2).trips) (v140 : BitVec 32) (v186 : IVec S16 32) (v196 : IVec S16 32) (k0_hw166 : k0_chk166 i k0_t2 k0_t4 v140 v186 v196), ∀ (k0_h3 : ¬(k0_cond3 v140 = 1#1)), ∀ a x, ((![v186, v196] : Fin 2 → IVec S16 32) a x).toNat < S256x128.size a := fun i k0_t2 k0_t4 v140 v186 v196 k0_hw166 k0_h3 => k0_hw166.1 k0_h3
theorem k0_idx299_inb : ∀ (i : grid0.Coords) (k0_t2 : Fin (k0_t2_loop i).trips) (k0_t4 : Fin (k0_t4_loop i k0_t2).trips) (v140 : BitVec 32) (v186 : IVec S16 32) (v196 : IVec S16 32) (k0_hw166 : k0_chk166 i k0_t2 k0_t4 v140 v186 v196), ∀ (k0_h3 : ¬(k0_cond3 v140 = 1#1)), ∀ a x, ((![v186, v196] : Fin 2 → IVec S16 32) a x).toNat < S256x128.size a := fun i k0_t2 k0_t4 v140 v186 v196 k0_hw166 k0_h3 => k0_hw166.2 k0_h3

def k0_chk167 (i : grid0.Coords) (k0_t2 : Fin (k0_t2_loop i).trips) (k0_t4 : Fin (k0_t4_loop i k0_t2).trips) (v140 : BitVec 32) (v186 : IVec S16 32) (v198 : IVec S16 32) : Prop :=
  (∀ (k0_h3 : ¬(k0_cond3 v140 = 1#1)), ∀ a x, ((![v186, v198] : Fin 2 → IVec S16 32) a x).toNat < S256x128.size a) ∧
  (∀ (k0_h3 : ¬(k0_cond3 v140 = 1#1)), ∀ a x, ((![v186, v198] : Fin 2 → IVec S16 32) a x).toNat < S256x128.size a)
theorem k0_idx300_inb : ∀ (i : grid0.Coords) (k0_t2 : Fin (k0_t2_loop i).trips) (k0_t4 : Fin (k0_t4_loop i k0_t2).trips) (v140 : BitVec 32) (v186 : IVec S16 32) (v198 : IVec S16 32) (k0_hw167 : k0_chk167 i k0_t2 k0_t4 v140 v186 v198), ∀ (k0_h3 : ¬(k0_cond3 v140 = 1#1)), ∀ a x, ((![v186, v198] : Fin 2 → IVec S16 32) a x).toNat < S256x128.size a := fun i k0_t2 k0_t4 v140 v186 v198 k0_hw167 k0_h3 => k0_hw167.1 k0_h3
theorem k0_idx301_inb : ∀ (i : grid0.Coords) (k0_t2 : Fin (k0_t2_loop i).trips) (k0_t4 : Fin (k0_t4_loop i k0_t2).trips) (v140 : BitVec 32) (v186 : IVec S16 32) (v198 : IVec S16 32) (k0_hw167 : k0_chk167 i k0_t2 k0_t4 v140 v186 v198), ∀ (k0_h3 : ¬(k0_cond3 v140 = 1#1)), ∀ a x, ((![v186, v198] : Fin 2 → IVec S16 32) a x).toNat < S256x128.size a := fun i k0_t2 k0_t4 v140 v186 v198 k0_hw167 k0_h3 => k0_hw167.2 k0_h3

def k0_chk168 (i : grid0.Coords) (k0_t2 : Fin (k0_t2_loop i).trips) (k0_t4 : Fin (k0_t4_loop i k0_t2).trips) (v140 : BitVec 32) (v186 : IVec S16 32) (v200 : IVec S16 32) : Prop :=
  (∀ (k0_h3 : ¬(k0_cond3 v140 = 1#1)), ∀ a x, ((![v186, v200] : Fin 2 → IVec S16 32) a x).toNat < S256x128.size a) ∧
  (∀ (k0_h3 : ¬(k0_cond3 v140 = 1#1)), ∀ a x, ((![v186, v200] : Fin 2 → IVec S16 32) a x).toNat < S256x128.size a)
theorem k0_idx302_inb : ∀ (i : grid0.Coords) (k0_t2 : Fin (k0_t2_loop i).trips) (k0_t4 : Fin (k0_t4_loop i k0_t2).trips) (v140 : BitVec 32) (v186 : IVec S16 32) (v200 : IVec S16 32) (k0_hw168 : k0_chk168 i k0_t2 k0_t4 v140 v186 v200), ∀ (k0_h3 : ¬(k0_cond3 v140 = 1#1)), ∀ a x, ((![v186, v200] : Fin 2 → IVec S16 32) a x).toNat < S256x128.size a := fun i k0_t2 k0_t4 v140 v186 v200 k0_hw168 k0_h3 => k0_hw168.1 k0_h3
theorem k0_idx303_inb : ∀ (i : grid0.Coords) (k0_t2 : Fin (k0_t2_loop i).trips) (k0_t4 : Fin (k0_t4_loop i k0_t2).trips) (v140 : BitVec 32) (v186 : IVec S16 32) (v200 : IVec S16 32) (k0_hw168 : k0_chk168 i k0_t2 k0_t4 v140 v186 v200), ∀ (k0_h3 : ¬(k0_cond3 v140 = 1#1)), ∀ a x, ((![v186, v200] : Fin 2 → IVec S16 32) a x).toNat < S256x128.size a := fun i k0_t2 k0_t4 v140 v186 v200 k0_hw168 k0_h3 => k0_hw168.2 k0_h3

def k0_chk169 (i : grid0.Coords) (k0_t2 : Fin (k0_t2_loop i).trips) (k0_t4 : Fin (k0_t4_loop i k0_t2).trips) (v140 : BitVec 32) (v186 : IVec S16 32) (v202 : IVec S16 32) : Prop :=
  (∀ (k0_h3 : ¬(k0_cond3 v140 = 1#1)), ∀ a x, ((![v186, v202] : Fin 2 → IVec S16 32) a x).toNat < S256x128.size a) ∧
  (∀ (k0_h3 : ¬(k0_cond3 v140 = 1#1)), ∀ a x, ((![v186, v202] : Fin 2 → IVec S16 32) a x).toNat < S256x128.size a)
theorem k0_idx304_inb : ∀ (i : grid0.Coords) (k0_t2 : Fin (k0_t2_loop i).trips) (k0_t4 : Fin (k0_t4_loop i k0_t2).trips) (v140 : BitVec 32) (v186 : IVec S16 32) (v202 : IVec S16 32) (k0_hw169 : k0_chk169 i k0_t2 k0_t4 v140 v186 v202), ∀ (k0_h3 : ¬(k0_cond3 v140 = 1#1)), ∀ a x, ((![v186, v202] : Fin 2 → IVec S16 32) a x).toNat < S256x128.size a := fun i k0_t2 k0_t4 v140 v186 v202 k0_hw169 k0_h3 => k0_hw169.1 k0_h3
theorem k0_idx305_inb : ∀ (i : grid0.Coords) (k0_t2 : Fin (k0_t2_loop i).trips) (k0_t4 : Fin (k0_t4_loop i k0_t2).trips) (v140 : BitVec 32) (v186 : IVec S16 32) (v202 : IVec S16 32) (k0_hw169 : k0_chk169 i k0_t2 k0_t4 v140 v186 v202), ∀ (k0_h3 : ¬(k0_cond3 v140 = 1#1)), ∀ a x, ((![v186, v202] : Fin 2 → IVec S16 32) a x).toNat < S256x128.size a := fun i k0_t2 k0_t4 v140 v186 v202 k0_hw169 k0_h3 => k0_hw169.2 k0_h3

def k0_chk170 (i : grid0.Coords) (v2 : IVec S16 32) (k0_t2 : Fin (k0_t2_loop i).trips) (k0_t4 : Fin (k0_t4_loop i k0_t2).trips) (v140 : BitVec 32) (v186 : IVec S16 32) : Prop :=
  (∀ (k0_h3 : ¬(k0_cond3 v140 = 1#1)), ∀ a x, ((![v186, v2] : Fin 2 → IVec S16 32) a x).toNat < S256x16.size a)
theorem k0_idx306_inb : ∀ (i : grid0.Coords) (v2 : IVec S16 32) (k0_t2 : Fin (k0_t2_loop i).trips) (k0_t4 : Fin (k0_t4_loop i k0_t2).trips) (v140 : BitVec 32) (v186 : IVec S16 32) (k0_hw170 : k0_chk170 i v2 k0_t2 k0_t4 v140 v186), ∀ (k0_h3 : ¬(k0_cond3 v140 = 1#1)), ∀ a x, ((![v186, v2] : Fin 2 → IVec S16 32) a x).toNat < S256x16.size a := fun i v2 k0_t2 k0_t4 v140 v186 k0_hw170 k0_h3 => k0_hw170 k0_h3

def k0_chk171 (i : grid0.Coords) (k0_t2 : Fin (k0_t2_loop i).trips) (k0_t4 : Fin (k0_t4_loop i k0_t2).trips) (v140 : BitVec 32) (v247 : IVec S16 32) : Prop :=
  (∀ (k0_h3 : ¬(k0_cond3 v140 = 1#1)), ∀ a x, ((![v247] : Fin 1 → IVec S16 32) a x).toNat < S3136.size a)
theorem k0_idx307_inb : ∀ (i : grid0.Coords) (k0_t2 : Fin (k0_t2_loop i).trips) (k0_t4 : Fin (k0_t4_loop i k0_t2).trips) (v140 : BitVec 32) (v247 : IVec S16 32) (k0_hw171 : k0_chk171 i k0_t2 k0_t4 v140 v247), ∀ (k0_h3 : ¬(k0_cond3 v140 = 1#1)), ∀ a x, ((![v247] : Fin 1 → IVec S16 32) a x).toNat < S3136.size a := fun i k0_t2 k0_t4 v140 v247 k0_hw171 k0_h3 => k0_hw171 k0_h3
def k0_off164 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v250 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c1_i32_91 : BitVec 32 := 1#32
  let v249 : BitVec 32 := Scalar.addi v126 c1_i32_91
  let v251 : Index := Scalar.indexCast v249
  let c0_92 : Index := 0#32
  ![v250.toNat, v251.toNat, 0]
def k0_off165 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v254 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c1_i32_93 : BitVec 32 := 1#32
  let v253 : BitVec 32 := Scalar.addi v126 c1_i32_93
  let v255 : Index := Scalar.indexCast v253
  let c16_94 : Index := 16#32
  ![v254.toNat, v255.toNat, 16]
def k0_off166 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v258 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c1_i32_95 : BitVec 32 := 1#32
  let v257 : BitVec 32 := Scalar.addi v126 c1_i32_95
  let v259 : Index := Scalar.indexCast v257
  let c32_96 : Index := 32#32
  ![v258.toNat, v259.toNat, 32]
def k0_off167 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v262 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c1_i32_97 : BitVec 32 := 1#32
  let v261 : BitVec 32 := Scalar.addi v126 c1_i32_97
  let v263 : Index := Scalar.indexCast v261
  let c48_98 : Index := 48#32
  ![v262.toNat, v263.toNat, 48]
def k0_off168 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v266 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c1_i32_99 : BitVec 32 := 1#32
  let v265 : BitVec 32 := Scalar.addi v126 c1_i32_99
  let v267 : Index := Scalar.indexCast v265
  let c64_100 : Index := 64#32
  ![v266.toNat, v267.toNat, 64]
def k0_off169 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v270 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c1_i32_101 : BitVec 32 := 1#32
  let v269 : BitVec 32 := Scalar.addi v126 c1_i32_101
  let v271 : Index := Scalar.indexCast v269
  let c80_102 : Index := 80#32
  ![v270.toNat, v271.toNat, 80]
def k0_off170 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v274 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c1_i32_103 : BitVec 32 := 1#32
  let v273 : BitVec 32 := Scalar.addi v126 c1_i32_103
  let v275 : Index := Scalar.indexCast v273
  let c96_104 : Index := 96#32
  ![v274.toNat, v275.toNat, 96]
def k0_off171 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v278 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c1_i32_105 : BitVec 32 := 1#32
  let v277 : BitVec 32 := Scalar.addi v126 c1_i32_105
  let v279 : Index := Scalar.indexCast v277
  let c112_106 : Index := 112#32
  ![v278.toNat, v279.toNat, 112]

def k0_chk172 (i : grid0.Coords) (k0_t2 : Fin (k0_t2_loop i).trips) (k0_t4 : Fin (k0_t4_loop i k0_t2).trips) (v140 : BitVec 32) (v287 : IVec S16 32) (v289 : IVec S16 32) : Prop :=
  (∀ (k0_h3 : ¬(k0_cond3 v140 = 1#1)), ∀ a x, ((![v287, v289] : Fin 2 → IVec S16 32) a x).toNat < S256x128.size a) ∧
  (∀ (k0_h3 : ¬(k0_cond3 v140 = 1#1)), ∀ a x, ((![v287, v289] : Fin 2 → IVec S16 32) a x).toNat < S256x128.size a)
theorem k0_idx308_inb : ∀ (i : grid0.Coords) (k0_t2 : Fin (k0_t2_loop i).trips) (k0_t4 : Fin (k0_t4_loop i k0_t2).trips) (v140 : BitVec 32) (v287 : IVec S16 32) (v289 : IVec S16 32) (k0_hw172 : k0_chk172 i k0_t2 k0_t4 v140 v287 v289), ∀ (k0_h3 : ¬(k0_cond3 v140 = 1#1)), ∀ a x, ((![v287, v289] : Fin 2 → IVec S16 32) a x).toNat < S256x128.size a := fun i k0_t2 k0_t4 v140 v287 v289 k0_hw172 k0_h3 => k0_hw172.1 k0_h3
theorem k0_idx309_inb : ∀ (i : grid0.Coords) (k0_t2 : Fin (k0_t2_loop i).trips) (k0_t4 : Fin (k0_t4_loop i k0_t2).trips) (v140 : BitVec 32) (v287 : IVec S16 32) (v289 : IVec S16 32) (k0_hw172 : k0_chk172 i k0_t2 k0_t4 v140 v287 v289), ∀ (k0_h3 : ¬(k0_cond3 v140 = 1#1)), ∀ a x, ((![v287, v289] : Fin 2 → IVec S16 32) a x).toNat < S256x128.size a := fun i k0_t2 k0_t4 v140 v287 v289 k0_hw172 k0_h3 => k0_hw172.2 k0_h3

def k0_chk173 (i : grid0.Coords) (k0_t2 : Fin (k0_t2_loop i).trips) (k0_t4 : Fin (k0_t4_loop i k0_t2).trips) (v140 : BitVec 32) (v287 : IVec S16 32) (v291 : IVec S16 32) : Prop :=
  (∀ (k0_h3 : ¬(k0_cond3 v140 = 1#1)), ∀ a x, ((![v287, v291] : Fin 2 → IVec S16 32) a x).toNat < S256x128.size a) ∧
  (∀ (k0_h3 : ¬(k0_cond3 v140 = 1#1)), ∀ a x, ((![v287, v291] : Fin 2 → IVec S16 32) a x).toNat < S256x128.size a)
theorem k0_idx310_inb : ∀ (i : grid0.Coords) (k0_t2 : Fin (k0_t2_loop i).trips) (k0_t4 : Fin (k0_t4_loop i k0_t2).trips) (v140 : BitVec 32) (v287 : IVec S16 32) (v291 : IVec S16 32) (k0_hw173 : k0_chk173 i k0_t2 k0_t4 v140 v287 v291), ∀ (k0_h3 : ¬(k0_cond3 v140 = 1#1)), ∀ a x, ((![v287, v291] : Fin 2 → IVec S16 32) a x).toNat < S256x128.size a := fun i k0_t2 k0_t4 v140 v287 v291 k0_hw173 k0_h3 => k0_hw173.1 k0_h3
theorem k0_idx311_inb : ∀ (i : grid0.Coords) (k0_t2 : Fin (k0_t2_loop i).trips) (k0_t4 : Fin (k0_t4_loop i k0_t2).trips) (v140 : BitVec 32) (v287 : IVec S16 32) (v291 : IVec S16 32) (k0_hw173 : k0_chk173 i k0_t2 k0_t4 v140 v287 v291), ∀ (k0_h3 : ¬(k0_cond3 v140 = 1#1)), ∀ a x, ((![v287, v291] : Fin 2 → IVec S16 32) a x).toNat < S256x128.size a := fun i k0_t2 k0_t4 v140 v287 v291 k0_hw173 k0_h3 => k0_hw173.2 k0_h3

def k0_chk174 (i : grid0.Coords) (k0_t2 : Fin (k0_t2_loop i).trips) (k0_t4 : Fin (k0_t4_loop i k0_t2).trips) (v140 : BitVec 32) (v287 : IVec S16 32) (v293 : IVec S16 32) : Prop :=
  (∀ (k0_h3 : ¬(k0_cond3 v140 = 1#1)), ∀ a x, ((![v287, v293] : Fin 2 → IVec S16 32) a x).toNat < S256x128.size a) ∧
  (∀ (k0_h3 : ¬(k0_cond3 v140 = 1#1)), ∀ a x, ((![v287, v293] : Fin 2 → IVec S16 32) a x).toNat < S256x128.size a)
theorem k0_idx312_inb : ∀ (i : grid0.Coords) (k0_t2 : Fin (k0_t2_loop i).trips) (k0_t4 : Fin (k0_t4_loop i k0_t2).trips) (v140 : BitVec 32) (v287 : IVec S16 32) (v293 : IVec S16 32) (k0_hw174 : k0_chk174 i k0_t2 k0_t4 v140 v287 v293), ∀ (k0_h3 : ¬(k0_cond3 v140 = 1#1)), ∀ a x, ((![v287, v293] : Fin 2 → IVec S16 32) a x).toNat < S256x128.size a := fun i k0_t2 k0_t4 v140 v287 v293 k0_hw174 k0_h3 => k0_hw174.1 k0_h3
theorem k0_idx313_inb : ∀ (i : grid0.Coords) (k0_t2 : Fin (k0_t2_loop i).trips) (k0_t4 : Fin (k0_t4_loop i k0_t2).trips) (v140 : BitVec 32) (v287 : IVec S16 32) (v293 : IVec S16 32) (k0_hw174 : k0_chk174 i k0_t2 k0_t4 v140 v287 v293), ∀ (k0_h3 : ¬(k0_cond3 v140 = 1#1)), ∀ a x, ((![v287, v293] : Fin 2 → IVec S16 32) a x).toNat < S256x128.size a := fun i k0_t2 k0_t4 v140 v287 v293 k0_hw174 k0_h3 => k0_hw174.2 k0_h3

def k0_chk175 (i : grid0.Coords) (k0_t2 : Fin (k0_t2_loop i).trips) (k0_t4 : Fin (k0_t4_loop i k0_t2).trips) (v140 : BitVec 32) (v287 : IVec S16 32) (v295 : IVec S16 32) : Prop :=
  (∀ (k0_h3 : ¬(k0_cond3 v140 = 1#1)), ∀ a x, ((![v287, v295] : Fin 2 → IVec S16 32) a x).toNat < S256x128.size a) ∧
  (∀ (k0_h3 : ¬(k0_cond3 v140 = 1#1)), ∀ a x, ((![v287, v295] : Fin 2 → IVec S16 32) a x).toNat < S256x128.size a)
theorem k0_idx314_inb : ∀ (i : grid0.Coords) (k0_t2 : Fin (k0_t2_loop i).trips) (k0_t4 : Fin (k0_t4_loop i k0_t2).trips) (v140 : BitVec 32) (v287 : IVec S16 32) (v295 : IVec S16 32) (k0_hw175 : k0_chk175 i k0_t2 k0_t4 v140 v287 v295), ∀ (k0_h3 : ¬(k0_cond3 v140 = 1#1)), ∀ a x, ((![v287, v295] : Fin 2 → IVec S16 32) a x).toNat < S256x128.size a := fun i k0_t2 k0_t4 v140 v287 v295 k0_hw175 k0_h3 => k0_hw175.1 k0_h3
theorem k0_idx315_inb : ∀ (i : grid0.Coords) (k0_t2 : Fin (k0_t2_loop i).trips) (k0_t4 : Fin (k0_t4_loop i k0_t2).trips) (v140 : BitVec 32) (v287 : IVec S16 32) (v295 : IVec S16 32) (k0_hw175 : k0_chk175 i k0_t2 k0_t4 v140 v287 v295), ∀ (k0_h3 : ¬(k0_cond3 v140 = 1#1)), ∀ a x, ((![v287, v295] : Fin 2 → IVec S16 32) a x).toNat < S256x128.size a := fun i k0_t2 k0_t4 v140 v287 v295 k0_hw175 k0_h3 => k0_hw175.2 k0_h3

def k0_chk176 (i : grid0.Coords) (k0_t2 : Fin (k0_t2_loop i).trips) (k0_t4 : Fin (k0_t4_loop i k0_t2).trips) (v140 : BitVec 32) (v287 : IVec S16 32) (v297 : IVec S16 32) : Prop :=
  (∀ (k0_h3 : ¬(k0_cond3 v140 = 1#1)), ∀ a x, ((![v287, v297] : Fin 2 → IVec S16 32) a x).toNat < S256x128.size a) ∧
  (∀ (k0_h3 : ¬(k0_cond3 v140 = 1#1)), ∀ a x, ((![v287, v297] : Fin 2 → IVec S16 32) a x).toNat < S256x128.size a)
theorem k0_idx316_inb : ∀ (i : grid0.Coords) (k0_t2 : Fin (k0_t2_loop i).trips) (k0_t4 : Fin (k0_t4_loop i k0_t2).trips) (v140 : BitVec 32) (v287 : IVec S16 32) (v297 : IVec S16 32) (k0_hw176 : k0_chk176 i k0_t2 k0_t4 v140 v287 v297), ∀ (k0_h3 : ¬(k0_cond3 v140 = 1#1)), ∀ a x, ((![v287, v297] : Fin 2 → IVec S16 32) a x).toNat < S256x128.size a := fun i k0_t2 k0_t4 v140 v287 v297 k0_hw176 k0_h3 => k0_hw176.1 k0_h3
theorem k0_idx317_inb : ∀ (i : grid0.Coords) (k0_t2 : Fin (k0_t2_loop i).trips) (k0_t4 : Fin (k0_t4_loop i k0_t2).trips) (v140 : BitVec 32) (v287 : IVec S16 32) (v297 : IVec S16 32) (k0_hw176 : k0_chk176 i k0_t2 k0_t4 v140 v287 v297), ∀ (k0_h3 : ¬(k0_cond3 v140 = 1#1)), ∀ a x, ((![v287, v297] : Fin 2 → IVec S16 32) a x).toNat < S256x128.size a := fun i k0_t2 k0_t4 v140 v287 v297 k0_hw176 k0_h3 => k0_hw176.2 k0_h3

def k0_chk177 (i : grid0.Coords) (k0_t2 : Fin (k0_t2_loop i).trips) (k0_t4 : Fin (k0_t4_loop i k0_t2).trips) (v140 : BitVec 32) (v287 : IVec S16 32) (v299 : IVec S16 32) : Prop :=
  (∀ (k0_h3 : ¬(k0_cond3 v140 = 1#1)), ∀ a x, ((![v287, v299] : Fin 2 → IVec S16 32) a x).toNat < S256x128.size a) ∧
  (∀ (k0_h3 : ¬(k0_cond3 v140 = 1#1)), ∀ a x, ((![v287, v299] : Fin 2 → IVec S16 32) a x).toNat < S256x128.size a)
theorem k0_idx318_inb : ∀ (i : grid0.Coords) (k0_t2 : Fin (k0_t2_loop i).trips) (k0_t4 : Fin (k0_t4_loop i k0_t2).trips) (v140 : BitVec 32) (v287 : IVec S16 32) (v299 : IVec S16 32) (k0_hw177 : k0_chk177 i k0_t2 k0_t4 v140 v287 v299), ∀ (k0_h3 : ¬(k0_cond3 v140 = 1#1)), ∀ a x, ((![v287, v299] : Fin 2 → IVec S16 32) a x).toNat < S256x128.size a := fun i k0_t2 k0_t4 v140 v287 v299 k0_hw177 k0_h3 => k0_hw177.1 k0_h3
theorem k0_idx319_inb : ∀ (i : grid0.Coords) (k0_t2 : Fin (k0_t2_loop i).trips) (k0_t4 : Fin (k0_t4_loop i k0_t2).trips) (v140 : BitVec 32) (v287 : IVec S16 32) (v299 : IVec S16 32) (k0_hw177 : k0_chk177 i k0_t2 k0_t4 v140 v287 v299), ∀ (k0_h3 : ¬(k0_cond3 v140 = 1#1)), ∀ a x, ((![v287, v299] : Fin 2 → IVec S16 32) a x).toNat < S256x128.size a := fun i k0_t2 k0_t4 v140 v287 v299 k0_hw177 k0_h3 => k0_hw177.2 k0_h3

def k0_chk178 (i : grid0.Coords) (k0_t2 : Fin (k0_t2_loop i).trips) (k0_t4 : Fin (k0_t4_loop i k0_t2).trips) (v140 : BitVec 32) (v287 : IVec S16 32) (v301 : IVec S16 32) : Prop :=
  (∀ (k0_h3 : ¬(k0_cond3 v140 = 1#1)), ∀ a x, ((![v287, v301] : Fin 2 → IVec S16 32) a x).toNat < S256x128.size a) ∧
  (∀ (k0_h3 : ¬(k0_cond3 v140 = 1#1)), ∀ a x, ((![v287, v301] : Fin 2 → IVec S16 32) a x).toNat < S256x128.size a)
theorem k0_idx320_inb : ∀ (i : grid0.Coords) (k0_t2 : Fin (k0_t2_loop i).trips) (k0_t4 : Fin (k0_t4_loop i k0_t2).trips) (v140 : BitVec 32) (v287 : IVec S16 32) (v301 : IVec S16 32) (k0_hw178 : k0_chk178 i k0_t2 k0_t4 v140 v287 v301), ∀ (k0_h3 : ¬(k0_cond3 v140 = 1#1)), ∀ a x, ((![v287, v301] : Fin 2 → IVec S16 32) a x).toNat < S256x128.size a := fun i k0_t2 k0_t4 v140 v287 v301 k0_hw178 k0_h3 => k0_hw178.1 k0_h3
theorem k0_idx321_inb : ∀ (i : grid0.Coords) (k0_t2 : Fin (k0_t2_loop i).trips) (k0_t4 : Fin (k0_t4_loop i k0_t2).trips) (v140 : BitVec 32) (v287 : IVec S16 32) (v301 : IVec S16 32) (k0_hw178 : k0_chk178 i k0_t2 k0_t4 v140 v287 v301), ∀ (k0_h3 : ¬(k0_cond3 v140 = 1#1)), ∀ a x, ((![v287, v301] : Fin 2 → IVec S16 32) a x).toNat < S256x128.size a := fun i k0_t2 k0_t4 v140 v287 v301 k0_hw178 k0_h3 => k0_hw178.2 k0_h3

def k0_chk179 (i : grid0.Coords) (k0_t2 : Fin (k0_t2_loop i).trips) (k0_t4 : Fin (k0_t4_loop i k0_t2).trips) (v140 : BitVec 32) (v287 : IVec S16 32) (v303 : IVec S16 32) : Prop :=
  (∀ (k0_h3 : ¬(k0_cond3 v140 = 1#1)), ∀ a x, ((![v287, v303] : Fin 2 → IVec S16 32) a x).toNat < S256x128.size a) ∧
  (∀ (k0_h3 : ¬(k0_cond3 v140 = 1#1)), ∀ a x, ((![v287, v303] : Fin 2 → IVec S16 32) a x).toNat < S256x128.size a)
theorem k0_idx322_inb : ∀ (i : grid0.Coords) (k0_t2 : Fin (k0_t2_loop i).trips) (k0_t4 : Fin (k0_t4_loop i k0_t2).trips) (v140 : BitVec 32) (v287 : IVec S16 32) (v303 : IVec S16 32) (k0_hw179 : k0_chk179 i k0_t2 k0_t4 v140 v287 v303), ∀ (k0_h3 : ¬(k0_cond3 v140 = 1#1)), ∀ a x, ((![v287, v303] : Fin 2 → IVec S16 32) a x).toNat < S256x128.size a := fun i k0_t2 k0_t4 v140 v287 v303 k0_hw179 k0_h3 => k0_hw179.1 k0_h3
theorem k0_idx323_inb : ∀ (i : grid0.Coords) (k0_t2 : Fin (k0_t2_loop i).trips) (k0_t4 : Fin (k0_t4_loop i k0_t2).trips) (v140 : BitVec 32) (v287 : IVec S16 32) (v303 : IVec S16 32) (k0_hw179 : k0_chk179 i k0_t2 k0_t4 v140 v287 v303), ∀ (k0_h3 : ¬(k0_cond3 v140 = 1#1)), ∀ a x, ((![v287, v303] : Fin 2 → IVec S16 32) a x).toNat < S256x128.size a := fun i k0_t2 k0_t4 v140 v287 v303 k0_hw179 k0_h3 => k0_hw179.2 k0_h3

def k0_chk180 (i : grid0.Coords) (v2 : IVec S16 32) (k0_t2 : Fin (k0_t2_loop i).trips) (k0_t4 : Fin (k0_t4_loop i k0_t2).trips) (v140 : BitVec 32) (v287 : IVec S16 32) : Prop :=
  (∀ (k0_h3 : ¬(k0_cond3 v140 = 1#1)), ∀ a x, ((![v287, v2] : Fin 2 → IVec S16 32) a x).toNat < S256x16.size a)
theorem k0_idx324_inb : ∀ (i : grid0.Coords) (v2 : IVec S16 32) (k0_t2 : Fin (k0_t2_loop i).trips) (k0_t4 : Fin (k0_t4_loop i k0_t2).trips) (v140 : BitVec 32) (v287 : IVec S16 32) (k0_hw180 : k0_chk180 i v2 k0_t2 k0_t4 v140 v287), ∀ (k0_h3 : ¬(k0_cond3 v140 = 1#1)), ∀ a x, ((![v287, v2] : Fin 2 → IVec S16 32) a x).toNat < S256x16.size a := fun i v2 k0_t2 k0_t4 v140 v287 k0_hw180 k0_h3 => k0_hw180 k0_h3

def k0_chk181 (i : grid0.Coords) (k0_t2 : Fin (k0_t2_loop i).trips) (k0_t4 : Fin (k0_t4_loop i k0_t2).trips) (v140 : BitVec 32) (v348 : IVec S16 32) : Prop :=
  (∀ (k0_h3 : ¬(k0_cond3 v140 = 1#1)), ∀ a x, ((![v348] : Fin 1 → IVec S16 32) a x).toNat < S3136.size a)
theorem k0_idx325_inb : ∀ (i : grid0.Coords) (k0_t2 : Fin (k0_t2_loop i).trips) (k0_t4 : Fin (k0_t4_loop i k0_t2).trips) (v140 : BitVec 32) (v348 : IVec S16 32) (k0_hw181 : k0_chk181 i k0_t2 k0_t4 v140 v348), ∀ (k0_h3 : ¬(k0_cond3 v140 = 1#1)), ∀ a x, ((![v348] : Fin 1 → IVec S16 32) a x).toNat < S3136.size a := fun i k0_t2 k0_t4 v140 v348 k0_hw181 k0_h3 => k0_hw181 k0_h3
def k0_off172 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v351 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c2_i32_122 : BitVec 32 := 2#32
  let v350 : BitVec 32 := Scalar.addi v126 c2_i32_122
  let v352 : Index := Scalar.indexCast v350
  let c0_123 : Index := 0#32
  ![v351.toNat, v352.toNat, 0]
def k0_off173 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v355 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c2_i32_124 : BitVec 32 := 2#32
  let v354 : BitVec 32 := Scalar.addi v126 c2_i32_124
  let v356 : Index := Scalar.indexCast v354
  let c16_125 : Index := 16#32
  ![v355.toNat, v356.toNat, 16]
def k0_off174 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v359 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c2_i32_126 : BitVec 32 := 2#32
  let v358 : BitVec 32 := Scalar.addi v126 c2_i32_126
  let v360 : Index := Scalar.indexCast v358
  let c32_127 : Index := 32#32
  ![v359.toNat, v360.toNat, 32]
def k0_off175 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v363 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c2_i32_128 : BitVec 32 := 2#32
  let v362 : BitVec 32 := Scalar.addi v126 c2_i32_128
  let v364 : Index := Scalar.indexCast v362
  let c48_129 : Index := 48#32
  ![v363.toNat, v364.toNat, 48]
def k0_off176 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v367 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c2_i32_130 : BitVec 32 := 2#32
  let v366 : BitVec 32 := Scalar.addi v126 c2_i32_130
  let v368 : Index := Scalar.indexCast v366
  let c64_131 : Index := 64#32
  ![v367.toNat, v368.toNat, 64]
def k0_off177 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v371 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c2_i32_132 : BitVec 32 := 2#32
  let v370 : BitVec 32 := Scalar.addi v126 c2_i32_132
  let v372 : Index := Scalar.indexCast v370
  let c80_133 : Index := 80#32
  ![v371.toNat, v372.toNat, 80]
def k0_off178 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v375 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c2_i32_134 : BitVec 32 := 2#32
  let v374 : BitVec 32 := Scalar.addi v126 c2_i32_134
  let v376 : Index := Scalar.indexCast v374
  let c96_135 : Index := 96#32
  ![v375.toNat, v376.toNat, 96]
def k0_off179 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v379 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c2_i32_136 : BitVec 32 := 2#32
  let v378 : BitVec 32 := Scalar.addi v126 c2_i32_136
  let v380 : Index := Scalar.indexCast v378
  let c112_137 : Index := 112#32
  ![v379.toNat, v380.toNat, 112]

def k0_chk182 (i : grid0.Coords) (k0_t2 : Fin (k0_t2_loop i).trips) (k0_t4 : Fin (k0_t4_loop i k0_t2).trips) (v140 : BitVec 32) (v388 : IVec S16 32) (v390 : IVec S16 32) : Prop :=
  (∀ (k0_h3 : ¬(k0_cond3 v140 = 1#1)), ∀ a x, ((![v388, v390] : Fin 2 → IVec S16 32) a x).toNat < S256x128.size a) ∧
  (∀ (k0_h3 : ¬(k0_cond3 v140 = 1#1)), ∀ a x, ((![v388, v390] : Fin 2 → IVec S16 32) a x).toNat < S256x128.size a)
theorem k0_idx326_inb : ∀ (i : grid0.Coords) (k0_t2 : Fin (k0_t2_loop i).trips) (k0_t4 : Fin (k0_t4_loop i k0_t2).trips) (v140 : BitVec 32) (v388 : IVec S16 32) (v390 : IVec S16 32) (k0_hw182 : k0_chk182 i k0_t2 k0_t4 v140 v388 v390), ∀ (k0_h3 : ¬(k0_cond3 v140 = 1#1)), ∀ a x, ((![v388, v390] : Fin 2 → IVec S16 32) a x).toNat < S256x128.size a := fun i k0_t2 k0_t4 v140 v388 v390 k0_hw182 k0_h3 => k0_hw182.1 k0_h3
theorem k0_idx327_inb : ∀ (i : grid0.Coords) (k0_t2 : Fin (k0_t2_loop i).trips) (k0_t4 : Fin (k0_t4_loop i k0_t2).trips) (v140 : BitVec 32) (v388 : IVec S16 32) (v390 : IVec S16 32) (k0_hw182 : k0_chk182 i k0_t2 k0_t4 v140 v388 v390), ∀ (k0_h3 : ¬(k0_cond3 v140 = 1#1)), ∀ a x, ((![v388, v390] : Fin 2 → IVec S16 32) a x).toNat < S256x128.size a := fun i k0_t2 k0_t4 v140 v388 v390 k0_hw182 k0_h3 => k0_hw182.2 k0_h3

def k0_chk183 (i : grid0.Coords) (k0_t2 : Fin (k0_t2_loop i).trips) (k0_t4 : Fin (k0_t4_loop i k0_t2).trips) (v140 : BitVec 32) (v388 : IVec S16 32) (v392 : IVec S16 32) : Prop :=
  (∀ (k0_h3 : ¬(k0_cond3 v140 = 1#1)), ∀ a x, ((![v388, v392] : Fin 2 → IVec S16 32) a x).toNat < S256x128.size a) ∧
  (∀ (k0_h3 : ¬(k0_cond3 v140 = 1#1)), ∀ a x, ((![v388, v392] : Fin 2 → IVec S16 32) a x).toNat < S256x128.size a)
theorem k0_idx328_inb : ∀ (i : grid0.Coords) (k0_t2 : Fin (k0_t2_loop i).trips) (k0_t4 : Fin (k0_t4_loop i k0_t2).trips) (v140 : BitVec 32) (v388 : IVec S16 32) (v392 : IVec S16 32) (k0_hw183 : k0_chk183 i k0_t2 k0_t4 v140 v388 v392), ∀ (k0_h3 : ¬(k0_cond3 v140 = 1#1)), ∀ a x, ((![v388, v392] : Fin 2 → IVec S16 32) a x).toNat < S256x128.size a := fun i k0_t2 k0_t4 v140 v388 v392 k0_hw183 k0_h3 => k0_hw183.1 k0_h3
theorem k0_idx329_inb : ∀ (i : grid0.Coords) (k0_t2 : Fin (k0_t2_loop i).trips) (k0_t4 : Fin (k0_t4_loop i k0_t2).trips) (v140 : BitVec 32) (v388 : IVec S16 32) (v392 : IVec S16 32) (k0_hw183 : k0_chk183 i k0_t2 k0_t4 v140 v388 v392), ∀ (k0_h3 : ¬(k0_cond3 v140 = 1#1)), ∀ a x, ((![v388, v392] : Fin 2 → IVec S16 32) a x).toNat < S256x128.size a := fun i k0_t2 k0_t4 v140 v388 v392 k0_hw183 k0_h3 => k0_hw183.2 k0_h3

def k0_chk184 (i : grid0.Coords) (k0_t2 : Fin (k0_t2_loop i).trips) (k0_t4 : Fin (k0_t4_loop i k0_t2).trips) (v140 : BitVec 32) (v388 : IVec S16 32) (v394 : IVec S16 32) : Prop :=
  (∀ (k0_h3 : ¬(k0_cond3 v140 = 1#1)), ∀ a x, ((![v388, v394] : Fin 2 → IVec S16 32) a x).toNat < S256x128.size a) ∧
  (∀ (k0_h3 : ¬(k0_cond3 v140 = 1#1)), ∀ a x, ((![v388, v394] : Fin 2 → IVec S16 32) a x).toNat < S256x128.size a)
theorem k0_idx330_inb : ∀ (i : grid0.Coords) (k0_t2 : Fin (k0_t2_loop i).trips) (k0_t4 : Fin (k0_t4_loop i k0_t2).trips) (v140 : BitVec 32) (v388 : IVec S16 32) (v394 : IVec S16 32) (k0_hw184 : k0_chk184 i k0_t2 k0_t4 v140 v388 v394), ∀ (k0_h3 : ¬(k0_cond3 v140 = 1#1)), ∀ a x, ((![v388, v394] : Fin 2 → IVec S16 32) a x).toNat < S256x128.size a := fun i k0_t2 k0_t4 v140 v388 v394 k0_hw184 k0_h3 => k0_hw184.1 k0_h3
theorem k0_idx331_inb : ∀ (i : grid0.Coords) (k0_t2 : Fin (k0_t2_loop i).trips) (k0_t4 : Fin (k0_t4_loop i k0_t2).trips) (v140 : BitVec 32) (v388 : IVec S16 32) (v394 : IVec S16 32) (k0_hw184 : k0_chk184 i k0_t2 k0_t4 v140 v388 v394), ∀ (k0_h3 : ¬(k0_cond3 v140 = 1#1)), ∀ a x, ((![v388, v394] : Fin 2 → IVec S16 32) a x).toNat < S256x128.size a := fun i k0_t2 k0_t4 v140 v388 v394 k0_hw184 k0_h3 => k0_hw184.2 k0_h3

def k0_chk185 (i : grid0.Coords) (k0_t2 : Fin (k0_t2_loop i).trips) (k0_t4 : Fin (k0_t4_loop i k0_t2).trips) (v140 : BitVec 32) (v388 : IVec S16 32) (v396 : IVec S16 32) : Prop :=
  (∀ (k0_h3 : ¬(k0_cond3 v140 = 1#1)), ∀ a x, ((![v388, v396] : Fin 2 → IVec S16 32) a x).toNat < S256x128.size a) ∧
  (∀ (k0_h3 : ¬(k0_cond3 v140 = 1#1)), ∀ a x, ((![v388, v396] : Fin 2 → IVec S16 32) a x).toNat < S256x128.size a)
theorem k0_idx332_inb : ∀ (i : grid0.Coords) (k0_t2 : Fin (k0_t2_loop i).trips) (k0_t4 : Fin (k0_t4_loop i k0_t2).trips) (v140 : BitVec 32) (v388 : IVec S16 32) (v396 : IVec S16 32) (k0_hw185 : k0_chk185 i k0_t2 k0_t4 v140 v388 v396), ∀ (k0_h3 : ¬(k0_cond3 v140 = 1#1)), ∀ a x, ((![v388, v396] : Fin 2 → IVec S16 32) a x).toNat < S256x128.size a := fun i k0_t2 k0_t4 v140 v388 v396 k0_hw185 k0_h3 => k0_hw185.1 k0_h3
theorem k0_idx333_inb : ∀ (i : grid0.Coords) (k0_t2 : Fin (k0_t2_loop i).trips) (k0_t4 : Fin (k0_t4_loop i k0_t2).trips) (v140 : BitVec 32) (v388 : IVec S16 32) (v396 : IVec S16 32) (k0_hw185 : k0_chk185 i k0_t2 k0_t4 v140 v388 v396), ∀ (k0_h3 : ¬(k0_cond3 v140 = 1#1)), ∀ a x, ((![v388, v396] : Fin 2 → IVec S16 32) a x).toNat < S256x128.size a := fun i k0_t2 k0_t4 v140 v388 v396 k0_hw185 k0_h3 => k0_hw185.2 k0_h3

def k0_chk186 (i : grid0.Coords) (k0_t2 : Fin (k0_t2_loop i).trips) (k0_t4 : Fin (k0_t4_loop i k0_t2).trips) (v140 : BitVec 32) (v388 : IVec S16 32) (v398 : IVec S16 32) : Prop :=
  (∀ (k0_h3 : ¬(k0_cond3 v140 = 1#1)), ∀ a x, ((![v388, v398] : Fin 2 → IVec S16 32) a x).toNat < S256x128.size a) ∧
  (∀ (k0_h3 : ¬(k0_cond3 v140 = 1#1)), ∀ a x, ((![v388, v398] : Fin 2 → IVec S16 32) a x).toNat < S256x128.size a)
theorem k0_idx334_inb : ∀ (i : grid0.Coords) (k0_t2 : Fin (k0_t2_loop i).trips) (k0_t4 : Fin (k0_t4_loop i k0_t2).trips) (v140 : BitVec 32) (v388 : IVec S16 32) (v398 : IVec S16 32) (k0_hw186 : k0_chk186 i k0_t2 k0_t4 v140 v388 v398), ∀ (k0_h3 : ¬(k0_cond3 v140 = 1#1)), ∀ a x, ((![v388, v398] : Fin 2 → IVec S16 32) a x).toNat < S256x128.size a := fun i k0_t2 k0_t4 v140 v388 v398 k0_hw186 k0_h3 => k0_hw186.1 k0_h3
theorem k0_idx335_inb : ∀ (i : grid0.Coords) (k0_t2 : Fin (k0_t2_loop i).trips) (k0_t4 : Fin (k0_t4_loop i k0_t2).trips) (v140 : BitVec 32) (v388 : IVec S16 32) (v398 : IVec S16 32) (k0_hw186 : k0_chk186 i k0_t2 k0_t4 v140 v388 v398), ∀ (k0_h3 : ¬(k0_cond3 v140 = 1#1)), ∀ a x, ((![v388, v398] : Fin 2 → IVec S16 32) a x).toNat < S256x128.size a := fun i k0_t2 k0_t4 v140 v388 v398 k0_hw186 k0_h3 => k0_hw186.2 k0_h3

def k0_chk187 (i : grid0.Coords) (k0_t2 : Fin (k0_t2_loop i).trips) (k0_t4 : Fin (k0_t4_loop i k0_t2).trips) (v140 : BitVec 32) (v388 : IVec S16 32) (v400 : IVec S16 32) : Prop :=
  (∀ (k0_h3 : ¬(k0_cond3 v140 = 1#1)), ∀ a x, ((![v388, v400] : Fin 2 → IVec S16 32) a x).toNat < S256x128.size a) ∧
  (∀ (k0_h3 : ¬(k0_cond3 v140 = 1#1)), ∀ a x, ((![v388, v400] : Fin 2 → IVec S16 32) a x).toNat < S256x128.size a)
theorem k0_idx336_inb : ∀ (i : grid0.Coords) (k0_t2 : Fin (k0_t2_loop i).trips) (k0_t4 : Fin (k0_t4_loop i k0_t2).trips) (v140 : BitVec 32) (v388 : IVec S16 32) (v400 : IVec S16 32) (k0_hw187 : k0_chk187 i k0_t2 k0_t4 v140 v388 v400), ∀ (k0_h3 : ¬(k0_cond3 v140 = 1#1)), ∀ a x, ((![v388, v400] : Fin 2 → IVec S16 32) a x).toNat < S256x128.size a := fun i k0_t2 k0_t4 v140 v388 v400 k0_hw187 k0_h3 => k0_hw187.1 k0_h3
theorem k0_idx337_inb : ∀ (i : grid0.Coords) (k0_t2 : Fin (k0_t2_loop i).trips) (k0_t4 : Fin (k0_t4_loop i k0_t2).trips) (v140 : BitVec 32) (v388 : IVec S16 32) (v400 : IVec S16 32) (k0_hw187 : k0_chk187 i k0_t2 k0_t4 v140 v388 v400), ∀ (k0_h3 : ¬(k0_cond3 v140 = 1#1)), ∀ a x, ((![v388, v400] : Fin 2 → IVec S16 32) a x).toNat < S256x128.size a := fun i k0_t2 k0_t4 v140 v388 v400 k0_hw187 k0_h3 => k0_hw187.2 k0_h3

def k0_chk188 (i : grid0.Coords) (k0_t2 : Fin (k0_t2_loop i).trips) (k0_t4 : Fin (k0_t4_loop i k0_t2).trips) (v140 : BitVec 32) (v388 : IVec S16 32) (v402 : IVec S16 32) : Prop :=
  (∀ (k0_h3 : ¬(k0_cond3 v140 = 1#1)), ∀ a x, ((![v388, v402] : Fin 2 → IVec S16 32) a x).toNat < S256x128.size a) ∧
  (∀ (k0_h3 : ¬(k0_cond3 v140 = 1#1)), ∀ a x, ((![v388, v402] : Fin 2 → IVec S16 32) a x).toNat < S256x128.size a)
theorem k0_idx338_inb : ∀ (i : grid0.Coords) (k0_t2 : Fin (k0_t2_loop i).trips) (k0_t4 : Fin (k0_t4_loop i k0_t2).trips) (v140 : BitVec 32) (v388 : IVec S16 32) (v402 : IVec S16 32) (k0_hw188 : k0_chk188 i k0_t2 k0_t4 v140 v388 v402), ∀ (k0_h3 : ¬(k0_cond3 v140 = 1#1)), ∀ a x, ((![v388, v402] : Fin 2 → IVec S16 32) a x).toNat < S256x128.size a := fun i k0_t2 k0_t4 v140 v388 v402 k0_hw188 k0_h3 => k0_hw188.1 k0_h3
theorem k0_idx339_inb : ∀ (i : grid0.Coords) (k0_t2 : Fin (k0_t2_loop i).trips) (k0_t4 : Fin (k0_t4_loop i k0_t2).trips) (v140 : BitVec 32) (v388 : IVec S16 32) (v402 : IVec S16 32) (k0_hw188 : k0_chk188 i k0_t2 k0_t4 v140 v388 v402), ∀ (k0_h3 : ¬(k0_cond3 v140 = 1#1)), ∀ a x, ((![v388, v402] : Fin 2 → IVec S16 32) a x).toNat < S256x128.size a := fun i k0_t2 k0_t4 v140 v388 v402 k0_hw188 k0_h3 => k0_hw188.2 k0_h3

def k0_chk189 (i : grid0.Coords) (k0_t2 : Fin (k0_t2_loop i).trips) (k0_t4 : Fin (k0_t4_loop i k0_t2).trips) (v140 : BitVec 32) (v388 : IVec S16 32) (v404 : IVec S16 32) : Prop :=
  (∀ (k0_h3 : ¬(k0_cond3 v140 = 1#1)), ∀ a x, ((![v388, v404] : Fin 2 → IVec S16 32) a x).toNat < S256x128.size a) ∧
  (∀ (k0_h3 : ¬(k0_cond3 v140 = 1#1)), ∀ a x, ((![v388, v404] : Fin 2 → IVec S16 32) a x).toNat < S256x128.size a)
theorem k0_idx340_inb : ∀ (i : grid0.Coords) (k0_t2 : Fin (k0_t2_loop i).trips) (k0_t4 : Fin (k0_t4_loop i k0_t2).trips) (v140 : BitVec 32) (v388 : IVec S16 32) (v404 : IVec S16 32) (k0_hw189 : k0_chk189 i k0_t2 k0_t4 v140 v388 v404), ∀ (k0_h3 : ¬(k0_cond3 v140 = 1#1)), ∀ a x, ((![v388, v404] : Fin 2 → IVec S16 32) a x).toNat < S256x128.size a := fun i k0_t2 k0_t4 v140 v388 v404 k0_hw189 k0_h3 => k0_hw189.1 k0_h3
theorem k0_idx341_inb : ∀ (i : grid0.Coords) (k0_t2 : Fin (k0_t2_loop i).trips) (k0_t4 : Fin (k0_t4_loop i k0_t2).trips) (v140 : BitVec 32) (v388 : IVec S16 32) (v404 : IVec S16 32) (k0_hw189 : k0_chk189 i k0_t2 k0_t4 v140 v388 v404), ∀ (k0_h3 : ¬(k0_cond3 v140 = 1#1)), ∀ a x, ((![v388, v404] : Fin 2 → IVec S16 32) a x).toNat < S256x128.size a := fun i k0_t2 k0_t4 v140 v388 v404 k0_hw189 k0_h3 => k0_hw189.2 k0_h3

def k0_chk190 (i : grid0.Coords) (v2 : IVec S16 32) (k0_t2 : Fin (k0_t2_loop i).trips) (k0_t4 : Fin (k0_t4_loop i k0_t2).trips) (v140 : BitVec 32) (v388 : IVec S16 32) : Prop :=
  (∀ (k0_h3 : ¬(k0_cond3 v140 = 1#1)), ∀ a x, ((![v388, v2] : Fin 2 → IVec S16 32) a x).toNat < S256x16.size a)
theorem k0_idx342_inb : ∀ (i : grid0.Coords) (v2 : IVec S16 32) (k0_t2 : Fin (k0_t2_loop i).trips) (k0_t4 : Fin (k0_t4_loop i k0_t2).trips) (v140 : BitVec 32) (v388 : IVec S16 32) (k0_hw190 : k0_chk190 i v2 k0_t2 k0_t4 v140 v388), ∀ (k0_h3 : ¬(k0_cond3 v140 = 1#1)), ∀ a x, ((![v388, v2] : Fin 2 → IVec S16 32) a x).toNat < S256x16.size a := fun i v2 k0_t2 k0_t4 v140 v388 k0_hw190 k0_h3 => k0_hw190 k0_h3

def k0_chk191 (i : grid0.Coords) (k0_t2 : Fin (k0_t2_loop i).trips) (k0_t4 : Fin (k0_t4_loop i k0_t2).trips) (v140 : BitVec 32) (v449 : IVec S16 32) : Prop :=
  (∀ (k0_h3 : ¬(k0_cond3 v140 = 1#1)), ∀ a x, ((![v449] : Fin 1 → IVec S16 32) a x).toNat < S3136.size a)
theorem k0_idx343_inb : ∀ (i : grid0.Coords) (k0_t2 : Fin (k0_t2_loop i).trips) (k0_t4 : Fin (k0_t4_loop i k0_t2).trips) (v140 : BitVec 32) (v449 : IVec S16 32) (k0_hw191 : k0_chk191 i k0_t2 k0_t4 v140 v449), ∀ (k0_h3 : ¬(k0_cond3 v140 = 1#1)), ∀ a x, ((![v449] : Fin 1 → IVec S16 32) a x).toNat < S3136.size a := fun i k0_t2 k0_t4 v140 v449 k0_hw191 k0_h3 => k0_hw191 k0_h3
def k0_off180 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v452 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c3_i32_152 : BitVec 32 := 3#32
  let v451 : BitVec 32 := Scalar.addi v126 c3_i32_152
  let v453 : Index := Scalar.indexCast v451
  let c0_153 : Index := 0#32
  ![v452.toNat, v453.toNat, 0]
def k0_off181 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v456 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c3_i32_154 : BitVec 32 := 3#32
  let v455 : BitVec 32 := Scalar.addi v126 c3_i32_154
  let v457 : Index := Scalar.indexCast v455
  let c16_155 : Index := 16#32
  ![v456.toNat, v457.toNat, 16]
def k0_off182 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v460 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c3_i32_156 : BitVec 32 := 3#32
  let v459 : BitVec 32 := Scalar.addi v126 c3_i32_156
  let v461 : Index := Scalar.indexCast v459
  let c32_157 : Index := 32#32
  ![v460.toNat, v461.toNat, 32]
def k0_off183 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v464 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c3_i32_158 : BitVec 32 := 3#32
  let v463 : BitVec 32 := Scalar.addi v126 c3_i32_158
  let v465 : Index := Scalar.indexCast v463
  let c48_159 : Index := 48#32
  ![v464.toNat, v465.toNat, 48]
def k0_off184 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v468 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c3_i32_160 : BitVec 32 := 3#32
  let v467 : BitVec 32 := Scalar.addi v126 c3_i32_160
  let v469 : Index := Scalar.indexCast v467
  let c64_161 : Index := 64#32
  ![v468.toNat, v469.toNat, 64]
def k0_off185 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v472 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c3_i32_162 : BitVec 32 := 3#32
  let v471 : BitVec 32 := Scalar.addi v126 c3_i32_162
  let v473 : Index := Scalar.indexCast v471
  let c80_163 : Index := 80#32
  ![v472.toNat, v473.toNat, 80]
def k0_off186 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v476 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c3_i32_164 : BitVec 32 := 3#32
  let v475 : BitVec 32 := Scalar.addi v126 c3_i32_164
  let v477 : Index := Scalar.indexCast v475
  let c96_165 : Index := 96#32
  ![v476.toNat, v477.toNat, 96]
def k0_off187 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v480 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c3_i32_166 : BitVec 32 := 3#32
  let v479 : BitVec 32 := Scalar.addi v126 c3_i32_166
  let v481 : Index := Scalar.indexCast v479
  let c112_167 : Index := 112#32
  ![v480.toNat, v481.toNat, 112]

def k0_chk192 (i : grid0.Coords) (k0_t2 : Fin (k0_t2_loop i).trips) (k0_t4 : Fin (k0_t4_loop i k0_t2).trips) (v140 : BitVec 32) (v489 : IVec S16 32) (v491 : IVec S16 32) : Prop :=
  (∀ (k0_h3 : ¬(k0_cond3 v140 = 1#1)), ∀ a x, ((![v489, v491] : Fin 2 → IVec S16 32) a x).toNat < S256x128.size a) ∧
  (∀ (k0_h3 : ¬(k0_cond3 v140 = 1#1)), ∀ a x, ((![v489, v491] : Fin 2 → IVec S16 32) a x).toNat < S256x128.size a)
theorem k0_idx344_inb : ∀ (i : grid0.Coords) (k0_t2 : Fin (k0_t2_loop i).trips) (k0_t4 : Fin (k0_t4_loop i k0_t2).trips) (v140 : BitVec 32) (v489 : IVec S16 32) (v491 : IVec S16 32) (k0_hw192 : k0_chk192 i k0_t2 k0_t4 v140 v489 v491), ∀ (k0_h3 : ¬(k0_cond3 v140 = 1#1)), ∀ a x, ((![v489, v491] : Fin 2 → IVec S16 32) a x).toNat < S256x128.size a := fun i k0_t2 k0_t4 v140 v489 v491 k0_hw192 k0_h3 => k0_hw192.1 k0_h3
theorem k0_idx345_inb : ∀ (i : grid0.Coords) (k0_t2 : Fin (k0_t2_loop i).trips) (k0_t4 : Fin (k0_t4_loop i k0_t2).trips) (v140 : BitVec 32) (v489 : IVec S16 32) (v491 : IVec S16 32) (k0_hw192 : k0_chk192 i k0_t2 k0_t4 v140 v489 v491), ∀ (k0_h3 : ¬(k0_cond3 v140 = 1#1)), ∀ a x, ((![v489, v491] : Fin 2 → IVec S16 32) a x).toNat < S256x128.size a := fun i k0_t2 k0_t4 v140 v489 v491 k0_hw192 k0_h3 => k0_hw192.2 k0_h3

def k0_chk193 (i : grid0.Coords) (k0_t2 : Fin (k0_t2_loop i).trips) (k0_t4 : Fin (k0_t4_loop i k0_t2).trips) (v140 : BitVec 32) (v489 : IVec S16 32) (v493 : IVec S16 32) : Prop :=
  (∀ (k0_h3 : ¬(k0_cond3 v140 = 1#1)), ∀ a x, ((![v489, v493] : Fin 2 → IVec S16 32) a x).toNat < S256x128.size a) ∧
  (∀ (k0_h3 : ¬(k0_cond3 v140 = 1#1)), ∀ a x, ((![v489, v493] : Fin 2 → IVec S16 32) a x).toNat < S256x128.size a)
theorem k0_idx346_inb : ∀ (i : grid0.Coords) (k0_t2 : Fin (k0_t2_loop i).trips) (k0_t4 : Fin (k0_t4_loop i k0_t2).trips) (v140 : BitVec 32) (v489 : IVec S16 32) (v493 : IVec S16 32) (k0_hw193 : k0_chk193 i k0_t2 k0_t4 v140 v489 v493), ∀ (k0_h3 : ¬(k0_cond3 v140 = 1#1)), ∀ a x, ((![v489, v493] : Fin 2 → IVec S16 32) a x).toNat < S256x128.size a := fun i k0_t2 k0_t4 v140 v489 v493 k0_hw193 k0_h3 => k0_hw193.1 k0_h3
theorem k0_idx347_inb : ∀ (i : grid0.Coords) (k0_t2 : Fin (k0_t2_loop i).trips) (k0_t4 : Fin (k0_t4_loop i k0_t2).trips) (v140 : BitVec 32) (v489 : IVec S16 32) (v493 : IVec S16 32) (k0_hw193 : k0_chk193 i k0_t2 k0_t4 v140 v489 v493), ∀ (k0_h3 : ¬(k0_cond3 v140 = 1#1)), ∀ a x, ((![v489, v493] : Fin 2 → IVec S16 32) a x).toNat < S256x128.size a := fun i k0_t2 k0_t4 v140 v489 v493 k0_hw193 k0_h3 => k0_hw193.2 k0_h3

def k0_chk194 (i : grid0.Coords) (k0_t2 : Fin (k0_t2_loop i).trips) (k0_t4 : Fin (k0_t4_loop i k0_t2).trips) (v140 : BitVec 32) (v489 : IVec S16 32) (v495 : IVec S16 32) : Prop :=
  (∀ (k0_h3 : ¬(k0_cond3 v140 = 1#1)), ∀ a x, ((![v489, v495] : Fin 2 → IVec S16 32) a x).toNat < S256x128.size a) ∧
  (∀ (k0_h3 : ¬(k0_cond3 v140 = 1#1)), ∀ a x, ((![v489, v495] : Fin 2 → IVec S16 32) a x).toNat < S256x128.size a)
theorem k0_idx348_inb : ∀ (i : grid0.Coords) (k0_t2 : Fin (k0_t2_loop i).trips) (k0_t4 : Fin (k0_t4_loop i k0_t2).trips) (v140 : BitVec 32) (v489 : IVec S16 32) (v495 : IVec S16 32) (k0_hw194 : k0_chk194 i k0_t2 k0_t4 v140 v489 v495), ∀ (k0_h3 : ¬(k0_cond3 v140 = 1#1)), ∀ a x, ((![v489, v495] : Fin 2 → IVec S16 32) a x).toNat < S256x128.size a := fun i k0_t2 k0_t4 v140 v489 v495 k0_hw194 k0_h3 => k0_hw194.1 k0_h3
theorem k0_idx349_inb : ∀ (i : grid0.Coords) (k0_t2 : Fin (k0_t2_loop i).trips) (k0_t4 : Fin (k0_t4_loop i k0_t2).trips) (v140 : BitVec 32) (v489 : IVec S16 32) (v495 : IVec S16 32) (k0_hw194 : k0_chk194 i k0_t2 k0_t4 v140 v489 v495), ∀ (k0_h3 : ¬(k0_cond3 v140 = 1#1)), ∀ a x, ((![v489, v495] : Fin 2 → IVec S16 32) a x).toNat < S256x128.size a := fun i k0_t2 k0_t4 v140 v489 v495 k0_hw194 k0_h3 => k0_hw194.2 k0_h3

def k0_chk195 (i : grid0.Coords) (k0_t2 : Fin (k0_t2_loop i).trips) (k0_t4 : Fin (k0_t4_loop i k0_t2).trips) (v140 : BitVec 32) (v489 : IVec S16 32) (v497 : IVec S16 32) : Prop :=
  (∀ (k0_h3 : ¬(k0_cond3 v140 = 1#1)), ∀ a x, ((![v489, v497] : Fin 2 → IVec S16 32) a x).toNat < S256x128.size a) ∧
  (∀ (k0_h3 : ¬(k0_cond3 v140 = 1#1)), ∀ a x, ((![v489, v497] : Fin 2 → IVec S16 32) a x).toNat < S256x128.size a)
theorem k0_idx350_inb : ∀ (i : grid0.Coords) (k0_t2 : Fin (k0_t2_loop i).trips) (k0_t4 : Fin (k0_t4_loop i k0_t2).trips) (v140 : BitVec 32) (v489 : IVec S16 32) (v497 : IVec S16 32) (k0_hw195 : k0_chk195 i k0_t2 k0_t4 v140 v489 v497), ∀ (k0_h3 : ¬(k0_cond3 v140 = 1#1)), ∀ a x, ((![v489, v497] : Fin 2 → IVec S16 32) a x).toNat < S256x128.size a := fun i k0_t2 k0_t4 v140 v489 v497 k0_hw195 k0_h3 => k0_hw195.1 k0_h3
theorem k0_idx351_inb : ∀ (i : grid0.Coords) (k0_t2 : Fin (k0_t2_loop i).trips) (k0_t4 : Fin (k0_t4_loop i k0_t2).trips) (v140 : BitVec 32) (v489 : IVec S16 32) (v497 : IVec S16 32) (k0_hw195 : k0_chk195 i k0_t2 k0_t4 v140 v489 v497), ∀ (k0_h3 : ¬(k0_cond3 v140 = 1#1)), ∀ a x, ((![v489, v497] : Fin 2 → IVec S16 32) a x).toNat < S256x128.size a := fun i k0_t2 k0_t4 v140 v489 v497 k0_hw195 k0_h3 => k0_hw195.2 k0_h3

def k0_chk196 (i : grid0.Coords) (k0_t2 : Fin (k0_t2_loop i).trips) (k0_t4 : Fin (k0_t4_loop i k0_t2).trips) (v140 : BitVec 32) (v489 : IVec S16 32) (v499 : IVec S16 32) : Prop :=
  (∀ (k0_h3 : ¬(k0_cond3 v140 = 1#1)), ∀ a x, ((![v489, v499] : Fin 2 → IVec S16 32) a x).toNat < S256x128.size a) ∧
  (∀ (k0_h3 : ¬(k0_cond3 v140 = 1#1)), ∀ a x, ((![v489, v499] : Fin 2 → IVec S16 32) a x).toNat < S256x128.size a)
theorem k0_idx352_inb : ∀ (i : grid0.Coords) (k0_t2 : Fin (k0_t2_loop i).trips) (k0_t4 : Fin (k0_t4_loop i k0_t2).trips) (v140 : BitVec 32) (v489 : IVec S16 32) (v499 : IVec S16 32) (k0_hw196 : k0_chk196 i k0_t2 k0_t4 v140 v489 v499), ∀ (k0_h3 : ¬(k0_cond3 v140 = 1#1)), ∀ a x, ((![v489, v499] : Fin 2 → IVec S16 32) a x).toNat < S256x128.size a := fun i k0_t2 k0_t4 v140 v489 v499 k0_hw196 k0_h3 => k0_hw196.1 k0_h3
theorem k0_idx353_inb : ∀ (i : grid0.Coords) (k0_t2 : Fin (k0_t2_loop i).trips) (k0_t4 : Fin (k0_t4_loop i k0_t2).trips) (v140 : BitVec 32) (v489 : IVec S16 32) (v499 : IVec S16 32) (k0_hw196 : k0_chk196 i k0_t2 k0_t4 v140 v489 v499), ∀ (k0_h3 : ¬(k0_cond3 v140 = 1#1)), ∀ a x, ((![v489, v499] : Fin 2 → IVec S16 32) a x).toNat < S256x128.size a := fun i k0_t2 k0_t4 v140 v489 v499 k0_hw196 k0_h3 => k0_hw196.2 k0_h3

def k0_chk197 (i : grid0.Coords) (k0_t2 : Fin (k0_t2_loop i).trips) (k0_t4 : Fin (k0_t4_loop i k0_t2).trips) (v140 : BitVec 32) (v489 : IVec S16 32) (v501 : IVec S16 32) : Prop :=
  (∀ (k0_h3 : ¬(k0_cond3 v140 = 1#1)), ∀ a x, ((![v489, v501] : Fin 2 → IVec S16 32) a x).toNat < S256x128.size a) ∧
  (∀ (k0_h3 : ¬(k0_cond3 v140 = 1#1)), ∀ a x, ((![v489, v501] : Fin 2 → IVec S16 32) a x).toNat < S256x128.size a)
theorem k0_idx354_inb : ∀ (i : grid0.Coords) (k0_t2 : Fin (k0_t2_loop i).trips) (k0_t4 : Fin (k0_t4_loop i k0_t2).trips) (v140 : BitVec 32) (v489 : IVec S16 32) (v501 : IVec S16 32) (k0_hw197 : k0_chk197 i k0_t2 k0_t4 v140 v489 v501), ∀ (k0_h3 : ¬(k0_cond3 v140 = 1#1)), ∀ a x, ((![v489, v501] : Fin 2 → IVec S16 32) a x).toNat < S256x128.size a := fun i k0_t2 k0_t4 v140 v489 v501 k0_hw197 k0_h3 => k0_hw197.1 k0_h3
theorem k0_idx355_inb : ∀ (i : grid0.Coords) (k0_t2 : Fin (k0_t2_loop i).trips) (k0_t4 : Fin (k0_t4_loop i k0_t2).trips) (v140 : BitVec 32) (v489 : IVec S16 32) (v501 : IVec S16 32) (k0_hw197 : k0_chk197 i k0_t2 k0_t4 v140 v489 v501), ∀ (k0_h3 : ¬(k0_cond3 v140 = 1#1)), ∀ a x, ((![v489, v501] : Fin 2 → IVec S16 32) a x).toNat < S256x128.size a := fun i k0_t2 k0_t4 v140 v489 v501 k0_hw197 k0_h3 => k0_hw197.2 k0_h3

def k0_chk198 (i : grid0.Coords) (k0_t2 : Fin (k0_t2_loop i).trips) (k0_t4 : Fin (k0_t4_loop i k0_t2).trips) (v140 : BitVec 32) (v489 : IVec S16 32) (v503 : IVec S16 32) : Prop :=
  (∀ (k0_h3 : ¬(k0_cond3 v140 = 1#1)), ∀ a x, ((![v489, v503] : Fin 2 → IVec S16 32) a x).toNat < S256x128.size a) ∧
  (∀ (k0_h3 : ¬(k0_cond3 v140 = 1#1)), ∀ a x, ((![v489, v503] : Fin 2 → IVec S16 32) a x).toNat < S256x128.size a)
theorem k0_idx356_inb : ∀ (i : grid0.Coords) (k0_t2 : Fin (k0_t2_loop i).trips) (k0_t4 : Fin (k0_t4_loop i k0_t2).trips) (v140 : BitVec 32) (v489 : IVec S16 32) (v503 : IVec S16 32) (k0_hw198 : k0_chk198 i k0_t2 k0_t4 v140 v489 v503), ∀ (k0_h3 : ¬(k0_cond3 v140 = 1#1)), ∀ a x, ((![v489, v503] : Fin 2 → IVec S16 32) a x).toNat < S256x128.size a := fun i k0_t2 k0_t4 v140 v489 v503 k0_hw198 k0_h3 => k0_hw198.1 k0_h3
theorem k0_idx357_inb : ∀ (i : grid0.Coords) (k0_t2 : Fin (k0_t2_loop i).trips) (k0_t4 : Fin (k0_t4_loop i k0_t2).trips) (v140 : BitVec 32) (v489 : IVec S16 32) (v503 : IVec S16 32) (k0_hw198 : k0_chk198 i k0_t2 k0_t4 v140 v489 v503), ∀ (k0_h3 : ¬(k0_cond3 v140 = 1#1)), ∀ a x, ((![v489, v503] : Fin 2 → IVec S16 32) a x).toNat < S256x128.size a := fun i k0_t2 k0_t4 v140 v489 v503 k0_hw198 k0_h3 => k0_hw198.2 k0_h3

def k0_chk199 (i : grid0.Coords) (k0_t2 : Fin (k0_t2_loop i).trips) (k0_t4 : Fin (k0_t4_loop i k0_t2).trips) (v140 : BitVec 32) (v489 : IVec S16 32) (v505 : IVec S16 32) : Prop :=
  (∀ (k0_h3 : ¬(k0_cond3 v140 = 1#1)), ∀ a x, ((![v489, v505] : Fin 2 → IVec S16 32) a x).toNat < S256x128.size a) ∧
  (∀ (k0_h3 : ¬(k0_cond3 v140 = 1#1)), ∀ a x, ((![v489, v505] : Fin 2 → IVec S16 32) a x).toNat < S256x128.size a)
theorem k0_idx358_inb : ∀ (i : grid0.Coords) (k0_t2 : Fin (k0_t2_loop i).trips) (k0_t4 : Fin (k0_t4_loop i k0_t2).trips) (v140 : BitVec 32) (v489 : IVec S16 32) (v505 : IVec S16 32) (k0_hw199 : k0_chk199 i k0_t2 k0_t4 v140 v489 v505), ∀ (k0_h3 : ¬(k0_cond3 v140 = 1#1)), ∀ a x, ((![v489, v505] : Fin 2 → IVec S16 32) a x).toNat < S256x128.size a := fun i k0_t2 k0_t4 v140 v489 v505 k0_hw199 k0_h3 => k0_hw199.1 k0_h3
theorem k0_idx359_inb : ∀ (i : grid0.Coords) (k0_t2 : Fin (k0_t2_loop i).trips) (k0_t4 : Fin (k0_t4_loop i k0_t2).trips) (v140 : BitVec 32) (v489 : IVec S16 32) (v505 : IVec S16 32) (k0_hw199 : k0_chk199 i k0_t2 k0_t4 v140 v489 v505), ∀ (k0_h3 : ¬(k0_cond3 v140 = 1#1)), ∀ a x, ((![v489, v505] : Fin 2 → IVec S16 32) a x).toNat < S256x128.size a := fun i k0_t2 k0_t4 v140 v489 v505 k0_hw199 k0_h3 => k0_hw199.2 k0_h3

def k0_chk200 (i : grid0.Coords) (v2 : IVec S16 32) (k0_t2 : Fin (k0_t2_loop i).trips) (k0_t4 : Fin (k0_t4_loop i k0_t2).trips) (v140 : BitVec 32) (v489 : IVec S16 32) : Prop :=
  (∀ (k0_h3 : ¬(k0_cond3 v140 = 1#1)), ∀ a x, ((![v489, v2] : Fin 2 → IVec S16 32) a x).toNat < S256x16.size a)
theorem k0_idx360_inb : ∀ (i : grid0.Coords) (v2 : IVec S16 32) (k0_t2 : Fin (k0_t2_loop i).trips) (k0_t4 : Fin (k0_t4_loop i k0_t2).trips) (v140 : BitVec 32) (v489 : IVec S16 32) (k0_hw200 : k0_chk200 i v2 k0_t2 k0_t4 v140 v489), ∀ (k0_h3 : ¬(k0_cond3 v140 = 1#1)), ∀ a x, ((![v489, v2] : Fin 2 → IVec S16 32) a x).toNat < S256x16.size a := fun i v2 k0_t2 k0_t4 v140 v489 k0_hw200 k0_h3 => k0_hw200 k0_h3

def k0_chk201 (i : grid0.Coords) (k0_t2 : Fin (k0_t2_loop i).trips) (k0_t4 : Fin (k0_t4_loop i k0_t2).trips) (v140 : BitVec 32) (v550 : IVec S16 32) : Prop :=
  (∀ (k0_h3 : ¬(k0_cond3 v140 = 1#1)), ∀ a x, ((![v550] : Fin 1 → IVec S16 32) a x).toNat < S3136.size a)
theorem k0_idx361_inb : ∀ (i : grid0.Coords) (k0_t2 : Fin (k0_t2_loop i).trips) (k0_t4 : Fin (k0_t4_loop i k0_t2).trips) (v140 : BitVec 32) (v550 : IVec S16 32) (k0_hw201 : k0_chk201 i k0_t2 k0_t4 v140 v550), ∀ (k0_h3 : ¬(k0_cond3 v140 = 1#1)), ∀ a x, ((![v550] : Fin 1 → IVec S16 32) a x).toNat < S3136.size a := fun i k0_t2 k0_t4 v140 v550 k0_hw201 k0_h3 => k0_hw201 k0_h3
def k0_off188 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v553 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c4_i32_182 : BitVec 32 := 4#32
  let v552 : BitVec 32 := Scalar.addi v126 c4_i32_182
  let v554 : Index := Scalar.indexCast v552
  let c0_183 : Index := 0#32
  ![v553.toNat, v554.toNat, 0]
def k0_off189 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v557 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c4_i32_184 : BitVec 32 := 4#32
  let v556 : BitVec 32 := Scalar.addi v126 c4_i32_184
  let v558 : Index := Scalar.indexCast v556
  let c16_185 : Index := 16#32
  ![v557.toNat, v558.toNat, 16]
def k0_off190 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v561 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c4_i32_186 : BitVec 32 := 4#32
  let v560 : BitVec 32 := Scalar.addi v126 c4_i32_186
  let v562 : Index := Scalar.indexCast v560
  let c32_187 : Index := 32#32
  ![v561.toNat, v562.toNat, 32]
def k0_off191 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v565 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c4_i32_188 : BitVec 32 := 4#32
  let v564 : BitVec 32 := Scalar.addi v126 c4_i32_188
  let v566 : Index := Scalar.indexCast v564
  let c48_189 : Index := 48#32
  ![v565.toNat, v566.toNat, 48]
def k0_off192 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v569 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c4_i32_190 : BitVec 32 := 4#32
  let v568 : BitVec 32 := Scalar.addi v126 c4_i32_190
  let v570 : Index := Scalar.indexCast v568
  let c64_191 : Index := 64#32
  ![v569.toNat, v570.toNat, 64]
def k0_off193 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v573 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c4_i32_192 : BitVec 32 := 4#32
  let v572 : BitVec 32 := Scalar.addi v126 c4_i32_192
  let v574 : Index := Scalar.indexCast v572
  let c80_193 : Index := 80#32
  ![v573.toNat, v574.toNat, 80]
def k0_off194 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v577 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c4_i32_194 : BitVec 32 := 4#32
  let v576 : BitVec 32 := Scalar.addi v126 c4_i32_194
  let v578 : Index := Scalar.indexCast v576
  let c96_195 : Index := 96#32
  ![v577.toNat, v578.toNat, 96]
def k0_off195 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v581 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c4_i32_196 : BitVec 32 := 4#32
  let v580 : BitVec 32 := Scalar.addi v126 c4_i32_196
  let v582 : Index := Scalar.indexCast v580
  let c112_197 : Index := 112#32
  ![v581.toNat, v582.toNat, 112]

def k0_chk202 (i : grid0.Coords) (k0_t2 : Fin (k0_t2_loop i).trips) (k0_t4 : Fin (k0_t4_loop i k0_t2).trips) (v140 : BitVec 32) (v590 : IVec S16 32) (v592 : IVec S16 32) : Prop :=
  (∀ (k0_h3 : ¬(k0_cond3 v140 = 1#1)), ∀ a x, ((![v590, v592] : Fin 2 → IVec S16 32) a x).toNat < S256x128.size a) ∧
  (∀ (k0_h3 : ¬(k0_cond3 v140 = 1#1)), ∀ a x, ((![v590, v592] : Fin 2 → IVec S16 32) a x).toNat < S256x128.size a)
theorem k0_idx362_inb : ∀ (i : grid0.Coords) (k0_t2 : Fin (k0_t2_loop i).trips) (k0_t4 : Fin (k0_t4_loop i k0_t2).trips) (v140 : BitVec 32) (v590 : IVec S16 32) (v592 : IVec S16 32) (k0_hw202 : k0_chk202 i k0_t2 k0_t4 v140 v590 v592), ∀ (k0_h3 : ¬(k0_cond3 v140 = 1#1)), ∀ a x, ((![v590, v592] : Fin 2 → IVec S16 32) a x).toNat < S256x128.size a := fun i k0_t2 k0_t4 v140 v590 v592 k0_hw202 k0_h3 => k0_hw202.1 k0_h3
theorem k0_idx363_inb : ∀ (i : grid0.Coords) (k0_t2 : Fin (k0_t2_loop i).trips) (k0_t4 : Fin (k0_t4_loop i k0_t2).trips) (v140 : BitVec 32) (v590 : IVec S16 32) (v592 : IVec S16 32) (k0_hw202 : k0_chk202 i k0_t2 k0_t4 v140 v590 v592), ∀ (k0_h3 : ¬(k0_cond3 v140 = 1#1)), ∀ a x, ((![v590, v592] : Fin 2 → IVec S16 32) a x).toNat < S256x128.size a := fun i k0_t2 k0_t4 v140 v590 v592 k0_hw202 k0_h3 => k0_hw202.2 k0_h3

def k0_chk203 (i : grid0.Coords) (k0_t2 : Fin (k0_t2_loop i).trips) (k0_t4 : Fin (k0_t4_loop i k0_t2).trips) (v140 : BitVec 32) (v590 : IVec S16 32) (v594 : IVec S16 32) : Prop :=
  (∀ (k0_h3 : ¬(k0_cond3 v140 = 1#1)), ∀ a x, ((![v590, v594] : Fin 2 → IVec S16 32) a x).toNat < S256x128.size a) ∧
  (∀ (k0_h3 : ¬(k0_cond3 v140 = 1#1)), ∀ a x, ((![v590, v594] : Fin 2 → IVec S16 32) a x).toNat < S256x128.size a)
theorem k0_idx364_inb : ∀ (i : grid0.Coords) (k0_t2 : Fin (k0_t2_loop i).trips) (k0_t4 : Fin (k0_t4_loop i k0_t2).trips) (v140 : BitVec 32) (v590 : IVec S16 32) (v594 : IVec S16 32) (k0_hw203 : k0_chk203 i k0_t2 k0_t4 v140 v590 v594), ∀ (k0_h3 : ¬(k0_cond3 v140 = 1#1)), ∀ a x, ((![v590, v594] : Fin 2 → IVec S16 32) a x).toNat < S256x128.size a := fun i k0_t2 k0_t4 v140 v590 v594 k0_hw203 k0_h3 => k0_hw203.1 k0_h3
theorem k0_idx365_inb : ∀ (i : grid0.Coords) (k0_t2 : Fin (k0_t2_loop i).trips) (k0_t4 : Fin (k0_t4_loop i k0_t2).trips) (v140 : BitVec 32) (v590 : IVec S16 32) (v594 : IVec S16 32) (k0_hw203 : k0_chk203 i k0_t2 k0_t4 v140 v590 v594), ∀ (k0_h3 : ¬(k0_cond3 v140 = 1#1)), ∀ a x, ((![v590, v594] : Fin 2 → IVec S16 32) a x).toNat < S256x128.size a := fun i k0_t2 k0_t4 v140 v590 v594 k0_hw203 k0_h3 => k0_hw203.2 k0_h3

def k0_chk204 (i : grid0.Coords) (k0_t2 : Fin (k0_t2_loop i).trips) (k0_t4 : Fin (k0_t4_loop i k0_t2).trips) (v140 : BitVec 32) (v590 : IVec S16 32) (v596 : IVec S16 32) : Prop :=
  (∀ (k0_h3 : ¬(k0_cond3 v140 = 1#1)), ∀ a x, ((![v590, v596] : Fin 2 → IVec S16 32) a x).toNat < S256x128.size a) ∧
  (∀ (k0_h3 : ¬(k0_cond3 v140 = 1#1)), ∀ a x, ((![v590, v596] : Fin 2 → IVec S16 32) a x).toNat < S256x128.size a)
theorem k0_idx366_inb : ∀ (i : grid0.Coords) (k0_t2 : Fin (k0_t2_loop i).trips) (k0_t4 : Fin (k0_t4_loop i k0_t2).trips) (v140 : BitVec 32) (v590 : IVec S16 32) (v596 : IVec S16 32) (k0_hw204 : k0_chk204 i k0_t2 k0_t4 v140 v590 v596), ∀ (k0_h3 : ¬(k0_cond3 v140 = 1#1)), ∀ a x, ((![v590, v596] : Fin 2 → IVec S16 32) a x).toNat < S256x128.size a := fun i k0_t2 k0_t4 v140 v590 v596 k0_hw204 k0_h3 => k0_hw204.1 k0_h3
theorem k0_idx367_inb : ∀ (i : grid0.Coords) (k0_t2 : Fin (k0_t2_loop i).trips) (k0_t4 : Fin (k0_t4_loop i k0_t2).trips) (v140 : BitVec 32) (v590 : IVec S16 32) (v596 : IVec S16 32) (k0_hw204 : k0_chk204 i k0_t2 k0_t4 v140 v590 v596), ∀ (k0_h3 : ¬(k0_cond3 v140 = 1#1)), ∀ a x, ((![v590, v596] : Fin 2 → IVec S16 32) a x).toNat < S256x128.size a := fun i k0_t2 k0_t4 v140 v590 v596 k0_hw204 k0_h3 => k0_hw204.2 k0_h3

def k0_chk205 (i : grid0.Coords) (k0_t2 : Fin (k0_t2_loop i).trips) (k0_t4 : Fin (k0_t4_loop i k0_t2).trips) (v140 : BitVec 32) (v590 : IVec S16 32) (v598 : IVec S16 32) : Prop :=
  (∀ (k0_h3 : ¬(k0_cond3 v140 = 1#1)), ∀ a x, ((![v590, v598] : Fin 2 → IVec S16 32) a x).toNat < S256x128.size a) ∧
  (∀ (k0_h3 : ¬(k0_cond3 v140 = 1#1)), ∀ a x, ((![v590, v598] : Fin 2 → IVec S16 32) a x).toNat < S256x128.size a)
theorem k0_idx368_inb : ∀ (i : grid0.Coords) (k0_t2 : Fin (k0_t2_loop i).trips) (k0_t4 : Fin (k0_t4_loop i k0_t2).trips) (v140 : BitVec 32) (v590 : IVec S16 32) (v598 : IVec S16 32) (k0_hw205 : k0_chk205 i k0_t2 k0_t4 v140 v590 v598), ∀ (k0_h3 : ¬(k0_cond3 v140 = 1#1)), ∀ a x, ((![v590, v598] : Fin 2 → IVec S16 32) a x).toNat < S256x128.size a := fun i k0_t2 k0_t4 v140 v590 v598 k0_hw205 k0_h3 => k0_hw205.1 k0_h3
theorem k0_idx369_inb : ∀ (i : grid0.Coords) (k0_t2 : Fin (k0_t2_loop i).trips) (k0_t4 : Fin (k0_t4_loop i k0_t2).trips) (v140 : BitVec 32) (v590 : IVec S16 32) (v598 : IVec S16 32) (k0_hw205 : k0_chk205 i k0_t2 k0_t4 v140 v590 v598), ∀ (k0_h3 : ¬(k0_cond3 v140 = 1#1)), ∀ a x, ((![v590, v598] : Fin 2 → IVec S16 32) a x).toNat < S256x128.size a := fun i k0_t2 k0_t4 v140 v590 v598 k0_hw205 k0_h3 => k0_hw205.2 k0_h3

def k0_chk206 (i : grid0.Coords) (k0_t2 : Fin (k0_t2_loop i).trips) (k0_t4 : Fin (k0_t4_loop i k0_t2).trips) (v140 : BitVec 32) (v590 : IVec S16 32) (v600 : IVec S16 32) : Prop :=
  (∀ (k0_h3 : ¬(k0_cond3 v140 = 1#1)), ∀ a x, ((![v590, v600] : Fin 2 → IVec S16 32) a x).toNat < S256x128.size a) ∧
  (∀ (k0_h3 : ¬(k0_cond3 v140 = 1#1)), ∀ a x, ((![v590, v600] : Fin 2 → IVec S16 32) a x).toNat < S256x128.size a)
theorem k0_idx370_inb : ∀ (i : grid0.Coords) (k0_t2 : Fin (k0_t2_loop i).trips) (k0_t4 : Fin (k0_t4_loop i k0_t2).trips) (v140 : BitVec 32) (v590 : IVec S16 32) (v600 : IVec S16 32) (k0_hw206 : k0_chk206 i k0_t2 k0_t4 v140 v590 v600), ∀ (k0_h3 : ¬(k0_cond3 v140 = 1#1)), ∀ a x, ((![v590, v600] : Fin 2 → IVec S16 32) a x).toNat < S256x128.size a := fun i k0_t2 k0_t4 v140 v590 v600 k0_hw206 k0_h3 => k0_hw206.1 k0_h3
theorem k0_idx371_inb : ∀ (i : grid0.Coords) (k0_t2 : Fin (k0_t2_loop i).trips) (k0_t4 : Fin (k0_t4_loop i k0_t2).trips) (v140 : BitVec 32) (v590 : IVec S16 32) (v600 : IVec S16 32) (k0_hw206 : k0_chk206 i k0_t2 k0_t4 v140 v590 v600), ∀ (k0_h3 : ¬(k0_cond3 v140 = 1#1)), ∀ a x, ((![v590, v600] : Fin 2 → IVec S16 32) a x).toNat < S256x128.size a := fun i k0_t2 k0_t4 v140 v590 v600 k0_hw206 k0_h3 => k0_hw206.2 k0_h3

def k0_chk207 (i : grid0.Coords) (k0_t2 : Fin (k0_t2_loop i).trips) (k0_t4 : Fin (k0_t4_loop i k0_t2).trips) (v140 : BitVec 32) (v590 : IVec S16 32) (v602 : IVec S16 32) : Prop :=
  (∀ (k0_h3 : ¬(k0_cond3 v140 = 1#1)), ∀ a x, ((![v590, v602] : Fin 2 → IVec S16 32) a x).toNat < S256x128.size a) ∧
  (∀ (k0_h3 : ¬(k0_cond3 v140 = 1#1)), ∀ a x, ((![v590, v602] : Fin 2 → IVec S16 32) a x).toNat < S256x128.size a)
theorem k0_idx372_inb : ∀ (i : grid0.Coords) (k0_t2 : Fin (k0_t2_loop i).trips) (k0_t4 : Fin (k0_t4_loop i k0_t2).trips) (v140 : BitVec 32) (v590 : IVec S16 32) (v602 : IVec S16 32) (k0_hw207 : k0_chk207 i k0_t2 k0_t4 v140 v590 v602), ∀ (k0_h3 : ¬(k0_cond3 v140 = 1#1)), ∀ a x, ((![v590, v602] : Fin 2 → IVec S16 32) a x).toNat < S256x128.size a := fun i k0_t2 k0_t4 v140 v590 v602 k0_hw207 k0_h3 => k0_hw207.1 k0_h3
theorem k0_idx373_inb : ∀ (i : grid0.Coords) (k0_t2 : Fin (k0_t2_loop i).trips) (k0_t4 : Fin (k0_t4_loop i k0_t2).trips) (v140 : BitVec 32) (v590 : IVec S16 32) (v602 : IVec S16 32) (k0_hw207 : k0_chk207 i k0_t2 k0_t4 v140 v590 v602), ∀ (k0_h3 : ¬(k0_cond3 v140 = 1#1)), ∀ a x, ((![v590, v602] : Fin 2 → IVec S16 32) a x).toNat < S256x128.size a := fun i k0_t2 k0_t4 v140 v590 v602 k0_hw207 k0_h3 => k0_hw207.2 k0_h3

def k0_chk208 (i : grid0.Coords) (k0_t2 : Fin (k0_t2_loop i).trips) (k0_t4 : Fin (k0_t4_loop i k0_t2).trips) (v140 : BitVec 32) (v590 : IVec S16 32) (v604 : IVec S16 32) : Prop :=
  (∀ (k0_h3 : ¬(k0_cond3 v140 = 1#1)), ∀ a x, ((![v590, v604] : Fin 2 → IVec S16 32) a x).toNat < S256x128.size a) ∧
  (∀ (k0_h3 : ¬(k0_cond3 v140 = 1#1)), ∀ a x, ((![v590, v604] : Fin 2 → IVec S16 32) a x).toNat < S256x128.size a)
theorem k0_idx374_inb : ∀ (i : grid0.Coords) (k0_t2 : Fin (k0_t2_loop i).trips) (k0_t4 : Fin (k0_t4_loop i k0_t2).trips) (v140 : BitVec 32) (v590 : IVec S16 32) (v604 : IVec S16 32) (k0_hw208 : k0_chk208 i k0_t2 k0_t4 v140 v590 v604), ∀ (k0_h3 : ¬(k0_cond3 v140 = 1#1)), ∀ a x, ((![v590, v604] : Fin 2 → IVec S16 32) a x).toNat < S256x128.size a := fun i k0_t2 k0_t4 v140 v590 v604 k0_hw208 k0_h3 => k0_hw208.1 k0_h3
theorem k0_idx375_inb : ∀ (i : grid0.Coords) (k0_t2 : Fin (k0_t2_loop i).trips) (k0_t4 : Fin (k0_t4_loop i k0_t2).trips) (v140 : BitVec 32) (v590 : IVec S16 32) (v604 : IVec S16 32) (k0_hw208 : k0_chk208 i k0_t2 k0_t4 v140 v590 v604), ∀ (k0_h3 : ¬(k0_cond3 v140 = 1#1)), ∀ a x, ((![v590, v604] : Fin 2 → IVec S16 32) a x).toNat < S256x128.size a := fun i k0_t2 k0_t4 v140 v590 v604 k0_hw208 k0_h3 => k0_hw208.2 k0_h3

def k0_chk209 (i : grid0.Coords) (k0_t2 : Fin (k0_t2_loop i).trips) (k0_t4 : Fin (k0_t4_loop i k0_t2).trips) (v140 : BitVec 32) (v590 : IVec S16 32) (v606 : IVec S16 32) : Prop :=
  (∀ (k0_h3 : ¬(k0_cond3 v140 = 1#1)), ∀ a x, ((![v590, v606] : Fin 2 → IVec S16 32) a x).toNat < S256x128.size a) ∧
  (∀ (k0_h3 : ¬(k0_cond3 v140 = 1#1)), ∀ a x, ((![v590, v606] : Fin 2 → IVec S16 32) a x).toNat < S256x128.size a)
theorem k0_idx376_inb : ∀ (i : grid0.Coords) (k0_t2 : Fin (k0_t2_loop i).trips) (k0_t4 : Fin (k0_t4_loop i k0_t2).trips) (v140 : BitVec 32) (v590 : IVec S16 32) (v606 : IVec S16 32) (k0_hw209 : k0_chk209 i k0_t2 k0_t4 v140 v590 v606), ∀ (k0_h3 : ¬(k0_cond3 v140 = 1#1)), ∀ a x, ((![v590, v606] : Fin 2 → IVec S16 32) a x).toNat < S256x128.size a := fun i k0_t2 k0_t4 v140 v590 v606 k0_hw209 k0_h3 => k0_hw209.1 k0_h3
theorem k0_idx377_inb : ∀ (i : grid0.Coords) (k0_t2 : Fin (k0_t2_loop i).trips) (k0_t4 : Fin (k0_t4_loop i k0_t2).trips) (v140 : BitVec 32) (v590 : IVec S16 32) (v606 : IVec S16 32) (k0_hw209 : k0_chk209 i k0_t2 k0_t4 v140 v590 v606), ∀ (k0_h3 : ¬(k0_cond3 v140 = 1#1)), ∀ a x, ((![v590, v606] : Fin 2 → IVec S16 32) a x).toNat < S256x128.size a := fun i k0_t2 k0_t4 v140 v590 v606 k0_hw209 k0_h3 => k0_hw209.2 k0_h3

def k0_chk210 (i : grid0.Coords) (v2 : IVec S16 32) (k0_t2 : Fin (k0_t2_loop i).trips) (k0_t4 : Fin (k0_t4_loop i k0_t2).trips) (v140 : BitVec 32) (v590 : IVec S16 32) : Prop :=
  (∀ (k0_h3 : ¬(k0_cond3 v140 = 1#1)), ∀ a x, ((![v590, v2] : Fin 2 → IVec S16 32) a x).toNat < S256x16.size a)
theorem k0_idx378_inb : ∀ (i : grid0.Coords) (v2 : IVec S16 32) (k0_t2 : Fin (k0_t2_loop i).trips) (k0_t4 : Fin (k0_t4_loop i k0_t2).trips) (v140 : BitVec 32) (v590 : IVec S16 32) (k0_hw210 : k0_chk210 i v2 k0_t2 k0_t4 v140 v590), ∀ (k0_h3 : ¬(k0_cond3 v140 = 1#1)), ∀ a x, ((![v590, v2] : Fin 2 → IVec S16 32) a x).toNat < S256x16.size a := fun i v2 k0_t2 k0_t4 v140 v590 k0_hw210 k0_h3 => k0_hw210 k0_h3

def k0_chk211 (i : grid0.Coords) (k0_t2 : Fin (k0_t2_loop i).trips) (k0_t4 : Fin (k0_t4_loop i k0_t2).trips) (v140 : BitVec 32) (v651 : IVec S16 32) : Prop :=
  (∀ (k0_h3 : ¬(k0_cond3 v140 = 1#1)), ∀ a x, ((![v651] : Fin 1 → IVec S16 32) a x).toNat < S3136.size a)
theorem k0_idx379_inb : ∀ (i : grid0.Coords) (k0_t2 : Fin (k0_t2_loop i).trips) (k0_t4 : Fin (k0_t4_loop i k0_t2).trips) (v140 : BitVec 32) (v651 : IVec S16 32) (k0_hw211 : k0_chk211 i k0_t2 k0_t4 v140 v651), ∀ (k0_h3 : ¬(k0_cond3 v140 = 1#1)), ∀ a x, ((![v651] : Fin 1 → IVec S16 32) a x).toNat < S3136.size a := fun i k0_t2 k0_t4 v140 v651 k0_hw211 k0_h3 => k0_hw211 k0_h3
def k0_off196 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v654 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c5_i32_212 : BitVec 32 := 5#32
  let v653 : BitVec 32 := Scalar.addi v126 c5_i32_212
  let v655 : Index := Scalar.indexCast v653
  let c0_213 : Index := 0#32
  ![v654.toNat, v655.toNat, 0]
def k0_off197 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v658 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c5_i32_214 : BitVec 32 := 5#32
  let v657 : BitVec 32 := Scalar.addi v126 c5_i32_214
  let v659 : Index := Scalar.indexCast v657
  let c16_215 : Index := 16#32
  ![v658.toNat, v659.toNat, 16]
def k0_off198 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v662 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c5_i32_216 : BitVec 32 := 5#32
  let v661 : BitVec 32 := Scalar.addi v126 c5_i32_216
  let v663 : Index := Scalar.indexCast v661
  let c32_217 : Index := 32#32
  ![v662.toNat, v663.toNat, 32]
def k0_off199 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v666 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c5_i32_218 : BitVec 32 := 5#32
  let v665 : BitVec 32 := Scalar.addi v126 c5_i32_218
  let v667 : Index := Scalar.indexCast v665
  let c48_219 : Index := 48#32
  ![v666.toNat, v667.toNat, 48]
def k0_off200 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v670 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c5_i32_220 : BitVec 32 := 5#32
  let v669 : BitVec 32 := Scalar.addi v126 c5_i32_220
  let v671 : Index := Scalar.indexCast v669
  let c64_221 : Index := 64#32
  ![v670.toNat, v671.toNat, 64]
def k0_off201 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v674 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c5_i32_222 : BitVec 32 := 5#32
  let v673 : BitVec 32 := Scalar.addi v126 c5_i32_222
  let v675 : Index := Scalar.indexCast v673
  let c80_223 : Index := 80#32
  ![v674.toNat, v675.toNat, 80]
def k0_off202 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v678 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c5_i32_224 : BitVec 32 := 5#32
  let v677 : BitVec 32 := Scalar.addi v126 c5_i32_224
  let v679 : Index := Scalar.indexCast v677
  let c96_225 : Index := 96#32
  ![v678.toNat, v679.toNat, 96]
def k0_off203 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v682 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c5_i32_226 : BitVec 32 := 5#32
  let v681 : BitVec 32 := Scalar.addi v126 c5_i32_226
  let v683 : Index := Scalar.indexCast v681
  let c112_227 : Index := 112#32
  ![v682.toNat, v683.toNat, 112]

def k0_chk212 (i : grid0.Coords) (k0_t2 : Fin (k0_t2_loop i).trips) (k0_t4 : Fin (k0_t4_loop i k0_t2).trips) (v140 : BitVec 32) (v691 : IVec S16 32) (v693 : IVec S16 32) : Prop :=
  (∀ (k0_h3 : ¬(k0_cond3 v140 = 1#1)), ∀ a x, ((![v691, v693] : Fin 2 → IVec S16 32) a x).toNat < S256x128.size a) ∧
  (∀ (k0_h3 : ¬(k0_cond3 v140 = 1#1)), ∀ a x, ((![v691, v693] : Fin 2 → IVec S16 32) a x).toNat < S256x128.size a)
theorem k0_idx380_inb : ∀ (i : grid0.Coords) (k0_t2 : Fin (k0_t2_loop i).trips) (k0_t4 : Fin (k0_t4_loop i k0_t2).trips) (v140 : BitVec 32) (v691 : IVec S16 32) (v693 : IVec S16 32) (k0_hw212 : k0_chk212 i k0_t2 k0_t4 v140 v691 v693), ∀ (k0_h3 : ¬(k0_cond3 v140 = 1#1)), ∀ a x, ((![v691, v693] : Fin 2 → IVec S16 32) a x).toNat < S256x128.size a := fun i k0_t2 k0_t4 v140 v691 v693 k0_hw212 k0_h3 => k0_hw212.1 k0_h3
theorem k0_idx381_inb : ∀ (i : grid0.Coords) (k0_t2 : Fin (k0_t2_loop i).trips) (k0_t4 : Fin (k0_t4_loop i k0_t2).trips) (v140 : BitVec 32) (v691 : IVec S16 32) (v693 : IVec S16 32) (k0_hw212 : k0_chk212 i k0_t2 k0_t4 v140 v691 v693), ∀ (k0_h3 : ¬(k0_cond3 v140 = 1#1)), ∀ a x, ((![v691, v693] : Fin 2 → IVec S16 32) a x).toNat < S256x128.size a := fun i k0_t2 k0_t4 v140 v691 v693 k0_hw212 k0_h3 => k0_hw212.2 k0_h3

def k0_chk213 (i : grid0.Coords) (k0_t2 : Fin (k0_t2_loop i).trips) (k0_t4 : Fin (k0_t4_loop i k0_t2).trips) (v140 : BitVec 32) (v691 : IVec S16 32) (v695 : IVec S16 32) : Prop :=
  (∀ (k0_h3 : ¬(k0_cond3 v140 = 1#1)), ∀ a x, ((![v691, v695] : Fin 2 → IVec S16 32) a x).toNat < S256x128.size a) ∧
  (∀ (k0_h3 : ¬(k0_cond3 v140 = 1#1)), ∀ a x, ((![v691, v695] : Fin 2 → IVec S16 32) a x).toNat < S256x128.size a)
theorem k0_idx382_inb : ∀ (i : grid0.Coords) (k0_t2 : Fin (k0_t2_loop i).trips) (k0_t4 : Fin (k0_t4_loop i k0_t2).trips) (v140 : BitVec 32) (v691 : IVec S16 32) (v695 : IVec S16 32) (k0_hw213 : k0_chk213 i k0_t2 k0_t4 v140 v691 v695), ∀ (k0_h3 : ¬(k0_cond3 v140 = 1#1)), ∀ a x, ((![v691, v695] : Fin 2 → IVec S16 32) a x).toNat < S256x128.size a := fun i k0_t2 k0_t4 v140 v691 v695 k0_hw213 k0_h3 => k0_hw213.1 k0_h3
theorem k0_idx383_inb : ∀ (i : grid0.Coords) (k0_t2 : Fin (k0_t2_loop i).trips) (k0_t4 : Fin (k0_t4_loop i k0_t2).trips) (v140 : BitVec 32) (v691 : IVec S16 32) (v695 : IVec S16 32) (k0_hw213 : k0_chk213 i k0_t2 k0_t4 v140 v691 v695), ∀ (k0_h3 : ¬(k0_cond3 v140 = 1#1)), ∀ a x, ((![v691, v695] : Fin 2 → IVec S16 32) a x).toNat < S256x128.size a := fun i k0_t2 k0_t4 v140 v691 v695 k0_hw213 k0_h3 => k0_hw213.2 k0_h3

def k0_chk214 (i : grid0.Coords) (k0_t2 : Fin (k0_t2_loop i).trips) (k0_t4 : Fin (k0_t4_loop i k0_t2).trips) (v140 : BitVec 32) (v691 : IVec S16 32) (v697 : IVec S16 32) : Prop :=
  (∀ (k0_h3 : ¬(k0_cond3 v140 = 1#1)), ∀ a x, ((![v691, v697] : Fin 2 → IVec S16 32) a x).toNat < S256x128.size a) ∧
  (∀ (k0_h3 : ¬(k0_cond3 v140 = 1#1)), ∀ a x, ((![v691, v697] : Fin 2 → IVec S16 32) a x).toNat < S256x128.size a)
theorem k0_idx384_inb : ∀ (i : grid0.Coords) (k0_t2 : Fin (k0_t2_loop i).trips) (k0_t4 : Fin (k0_t4_loop i k0_t2).trips) (v140 : BitVec 32) (v691 : IVec S16 32) (v697 : IVec S16 32) (k0_hw214 : k0_chk214 i k0_t2 k0_t4 v140 v691 v697), ∀ (k0_h3 : ¬(k0_cond3 v140 = 1#1)), ∀ a x, ((![v691, v697] : Fin 2 → IVec S16 32) a x).toNat < S256x128.size a := fun i k0_t2 k0_t4 v140 v691 v697 k0_hw214 k0_h3 => k0_hw214.1 k0_h3
theorem k0_idx385_inb : ∀ (i : grid0.Coords) (k0_t2 : Fin (k0_t2_loop i).trips) (k0_t4 : Fin (k0_t4_loop i k0_t2).trips) (v140 : BitVec 32) (v691 : IVec S16 32) (v697 : IVec S16 32) (k0_hw214 : k0_chk214 i k0_t2 k0_t4 v140 v691 v697), ∀ (k0_h3 : ¬(k0_cond3 v140 = 1#1)), ∀ a x, ((![v691, v697] : Fin 2 → IVec S16 32) a x).toNat < S256x128.size a := fun i k0_t2 k0_t4 v140 v691 v697 k0_hw214 k0_h3 => k0_hw214.2 k0_h3

def k0_chk215 (i : grid0.Coords) (k0_t2 : Fin (k0_t2_loop i).trips) (k0_t4 : Fin (k0_t4_loop i k0_t2).trips) (v140 : BitVec 32) (v691 : IVec S16 32) (v699 : IVec S16 32) : Prop :=
  (∀ (k0_h3 : ¬(k0_cond3 v140 = 1#1)), ∀ a x, ((![v691, v699] : Fin 2 → IVec S16 32) a x).toNat < S256x128.size a) ∧
  (∀ (k0_h3 : ¬(k0_cond3 v140 = 1#1)), ∀ a x, ((![v691, v699] : Fin 2 → IVec S16 32) a x).toNat < S256x128.size a)
theorem k0_idx386_inb : ∀ (i : grid0.Coords) (k0_t2 : Fin (k0_t2_loop i).trips) (k0_t4 : Fin (k0_t4_loop i k0_t2).trips) (v140 : BitVec 32) (v691 : IVec S16 32) (v699 : IVec S16 32) (k0_hw215 : k0_chk215 i k0_t2 k0_t4 v140 v691 v699), ∀ (k0_h3 : ¬(k0_cond3 v140 = 1#1)), ∀ a x, ((![v691, v699] : Fin 2 → IVec S16 32) a x).toNat < S256x128.size a := fun i k0_t2 k0_t4 v140 v691 v699 k0_hw215 k0_h3 => k0_hw215.1 k0_h3
theorem k0_idx387_inb : ∀ (i : grid0.Coords) (k0_t2 : Fin (k0_t2_loop i).trips) (k0_t4 : Fin (k0_t4_loop i k0_t2).trips) (v140 : BitVec 32) (v691 : IVec S16 32) (v699 : IVec S16 32) (k0_hw215 : k0_chk215 i k0_t2 k0_t4 v140 v691 v699), ∀ (k0_h3 : ¬(k0_cond3 v140 = 1#1)), ∀ a x, ((![v691, v699] : Fin 2 → IVec S16 32) a x).toNat < S256x128.size a := fun i k0_t2 k0_t4 v140 v691 v699 k0_hw215 k0_h3 => k0_hw215.2 k0_h3

def k0_chk216 (i : grid0.Coords) (k0_t2 : Fin (k0_t2_loop i).trips) (k0_t4 : Fin (k0_t4_loop i k0_t2).trips) (v140 : BitVec 32) (v691 : IVec S16 32) (v701 : IVec S16 32) : Prop :=
  (∀ (k0_h3 : ¬(k0_cond3 v140 = 1#1)), ∀ a x, ((![v691, v701] : Fin 2 → IVec S16 32) a x).toNat < S256x128.size a) ∧
  (∀ (k0_h3 : ¬(k0_cond3 v140 = 1#1)), ∀ a x, ((![v691, v701] : Fin 2 → IVec S16 32) a x).toNat < S256x128.size a)
theorem k0_idx388_inb : ∀ (i : grid0.Coords) (k0_t2 : Fin (k0_t2_loop i).trips) (k0_t4 : Fin (k0_t4_loop i k0_t2).trips) (v140 : BitVec 32) (v691 : IVec S16 32) (v701 : IVec S16 32) (k0_hw216 : k0_chk216 i k0_t2 k0_t4 v140 v691 v701), ∀ (k0_h3 : ¬(k0_cond3 v140 = 1#1)), ∀ a x, ((![v691, v701] : Fin 2 → IVec S16 32) a x).toNat < S256x128.size a := fun i k0_t2 k0_t4 v140 v691 v701 k0_hw216 k0_h3 => k0_hw216.1 k0_h3
theorem k0_idx389_inb : ∀ (i : grid0.Coords) (k0_t2 : Fin (k0_t2_loop i).trips) (k0_t4 : Fin (k0_t4_loop i k0_t2).trips) (v140 : BitVec 32) (v691 : IVec S16 32) (v701 : IVec S16 32) (k0_hw216 : k0_chk216 i k0_t2 k0_t4 v140 v691 v701), ∀ (k0_h3 : ¬(k0_cond3 v140 = 1#1)), ∀ a x, ((![v691, v701] : Fin 2 → IVec S16 32) a x).toNat < S256x128.size a := fun i k0_t2 k0_t4 v140 v691 v701 k0_hw216 k0_h3 => k0_hw216.2 k0_h3

def k0_chk217 (i : grid0.Coords) (k0_t2 : Fin (k0_t2_loop i).trips) (k0_t4 : Fin (k0_t4_loop i k0_t2).trips) (v140 : BitVec 32) (v691 : IVec S16 32) (v703 : IVec S16 32) : Prop :=
  (∀ (k0_h3 : ¬(k0_cond3 v140 = 1#1)), ∀ a x, ((![v691, v703] : Fin 2 → IVec S16 32) a x).toNat < S256x128.size a) ∧
  (∀ (k0_h3 : ¬(k0_cond3 v140 = 1#1)), ∀ a x, ((![v691, v703] : Fin 2 → IVec S16 32) a x).toNat < S256x128.size a)
theorem k0_idx390_inb : ∀ (i : grid0.Coords) (k0_t2 : Fin (k0_t2_loop i).trips) (k0_t4 : Fin (k0_t4_loop i k0_t2).trips) (v140 : BitVec 32) (v691 : IVec S16 32) (v703 : IVec S16 32) (k0_hw217 : k0_chk217 i k0_t2 k0_t4 v140 v691 v703), ∀ (k0_h3 : ¬(k0_cond3 v140 = 1#1)), ∀ a x, ((![v691, v703] : Fin 2 → IVec S16 32) a x).toNat < S256x128.size a := fun i k0_t2 k0_t4 v140 v691 v703 k0_hw217 k0_h3 => k0_hw217.1 k0_h3
theorem k0_idx391_inb : ∀ (i : grid0.Coords) (k0_t2 : Fin (k0_t2_loop i).trips) (k0_t4 : Fin (k0_t4_loop i k0_t2).trips) (v140 : BitVec 32) (v691 : IVec S16 32) (v703 : IVec S16 32) (k0_hw217 : k0_chk217 i k0_t2 k0_t4 v140 v691 v703), ∀ (k0_h3 : ¬(k0_cond3 v140 = 1#1)), ∀ a x, ((![v691, v703] : Fin 2 → IVec S16 32) a x).toNat < S256x128.size a := fun i k0_t2 k0_t4 v140 v691 v703 k0_hw217 k0_h3 => k0_hw217.2 k0_h3

def k0_chk218 (i : grid0.Coords) (k0_t2 : Fin (k0_t2_loop i).trips) (k0_t4 : Fin (k0_t4_loop i k0_t2).trips) (v140 : BitVec 32) (v691 : IVec S16 32) (v705 : IVec S16 32) : Prop :=
  (∀ (k0_h3 : ¬(k0_cond3 v140 = 1#1)), ∀ a x, ((![v691, v705] : Fin 2 → IVec S16 32) a x).toNat < S256x128.size a) ∧
  (∀ (k0_h3 : ¬(k0_cond3 v140 = 1#1)), ∀ a x, ((![v691, v705] : Fin 2 → IVec S16 32) a x).toNat < S256x128.size a)
theorem k0_idx392_inb : ∀ (i : grid0.Coords) (k0_t2 : Fin (k0_t2_loop i).trips) (k0_t4 : Fin (k0_t4_loop i k0_t2).trips) (v140 : BitVec 32) (v691 : IVec S16 32) (v705 : IVec S16 32) (k0_hw218 : k0_chk218 i k0_t2 k0_t4 v140 v691 v705), ∀ (k0_h3 : ¬(k0_cond3 v140 = 1#1)), ∀ a x, ((![v691, v705] : Fin 2 → IVec S16 32) a x).toNat < S256x128.size a := fun i k0_t2 k0_t4 v140 v691 v705 k0_hw218 k0_h3 => k0_hw218.1 k0_h3
theorem k0_idx393_inb : ∀ (i : grid0.Coords) (k0_t2 : Fin (k0_t2_loop i).trips) (k0_t4 : Fin (k0_t4_loop i k0_t2).trips) (v140 : BitVec 32) (v691 : IVec S16 32) (v705 : IVec S16 32) (k0_hw218 : k0_chk218 i k0_t2 k0_t4 v140 v691 v705), ∀ (k0_h3 : ¬(k0_cond3 v140 = 1#1)), ∀ a x, ((![v691, v705] : Fin 2 → IVec S16 32) a x).toNat < S256x128.size a := fun i k0_t2 k0_t4 v140 v691 v705 k0_hw218 k0_h3 => k0_hw218.2 k0_h3

def k0_chk219 (i : grid0.Coords) (k0_t2 : Fin (k0_t2_loop i).trips) (k0_t4 : Fin (k0_t4_loop i k0_t2).trips) (v140 : BitVec 32) (v691 : IVec S16 32) (v707 : IVec S16 32) : Prop :=
  (∀ (k0_h3 : ¬(k0_cond3 v140 = 1#1)), ∀ a x, ((![v691, v707] : Fin 2 → IVec S16 32) a x).toNat < S256x128.size a) ∧
  (∀ (k0_h3 : ¬(k0_cond3 v140 = 1#1)), ∀ a x, ((![v691, v707] : Fin 2 → IVec S16 32) a x).toNat < S256x128.size a)
theorem k0_idx394_inb : ∀ (i : grid0.Coords) (k0_t2 : Fin (k0_t2_loop i).trips) (k0_t4 : Fin (k0_t4_loop i k0_t2).trips) (v140 : BitVec 32) (v691 : IVec S16 32) (v707 : IVec S16 32) (k0_hw219 : k0_chk219 i k0_t2 k0_t4 v140 v691 v707), ∀ (k0_h3 : ¬(k0_cond3 v140 = 1#1)), ∀ a x, ((![v691, v707] : Fin 2 → IVec S16 32) a x).toNat < S256x128.size a := fun i k0_t2 k0_t4 v140 v691 v707 k0_hw219 k0_h3 => k0_hw219.1 k0_h3
theorem k0_idx395_inb : ∀ (i : grid0.Coords) (k0_t2 : Fin (k0_t2_loop i).trips) (k0_t4 : Fin (k0_t4_loop i k0_t2).trips) (v140 : BitVec 32) (v691 : IVec S16 32) (v707 : IVec S16 32) (k0_hw219 : k0_chk219 i k0_t2 k0_t4 v140 v691 v707), ∀ (k0_h3 : ¬(k0_cond3 v140 = 1#1)), ∀ a x, ((![v691, v707] : Fin 2 → IVec S16 32) a x).toNat < S256x128.size a := fun i k0_t2 k0_t4 v140 v691 v707 k0_hw219 k0_h3 => k0_hw219.2 k0_h3

def k0_chk220 (i : grid0.Coords) (v2 : IVec S16 32) (k0_t2 : Fin (k0_t2_loop i).trips) (k0_t4 : Fin (k0_t4_loop i k0_t2).trips) (v140 : BitVec 32) (v691 : IVec S16 32) : Prop :=
  (∀ (k0_h3 : ¬(k0_cond3 v140 = 1#1)), ∀ a x, ((![v691, v2] : Fin 2 → IVec S16 32) a x).toNat < S256x16.size a)
theorem k0_idx396_inb : ∀ (i : grid0.Coords) (v2 : IVec S16 32) (k0_t2 : Fin (k0_t2_loop i).trips) (k0_t4 : Fin (k0_t4_loop i k0_t2).trips) (v140 : BitVec 32) (v691 : IVec S16 32) (k0_hw220 : k0_chk220 i v2 k0_t2 k0_t4 v140 v691), ∀ (k0_h3 : ¬(k0_cond3 v140 = 1#1)), ∀ a x, ((![v691, v2] : Fin 2 → IVec S16 32) a x).toNat < S256x16.size a := fun i v2 k0_t2 k0_t4 v140 v691 k0_hw220 k0_h3 => k0_hw220 k0_h3

def k0_chk221 (i : grid0.Coords) (k0_t2 : Fin (k0_t2_loop i).trips) (k0_t4 : Fin (k0_t4_loop i k0_t2).trips) (v140 : BitVec 32) (v752 : IVec S16 32) : Prop :=
  (∀ (k0_h3 : ¬(k0_cond3 v140 = 1#1)), ∀ a x, ((![v752] : Fin 1 → IVec S16 32) a x).toNat < S3136.size a)
theorem k0_idx397_inb : ∀ (i : grid0.Coords) (k0_t2 : Fin (k0_t2_loop i).trips) (k0_t4 : Fin (k0_t4_loop i k0_t2).trips) (v140 : BitVec 32) (v752 : IVec S16 32) (k0_hw221 : k0_chk221 i k0_t2 k0_t4 v140 v752), ∀ (k0_h3 : ¬(k0_cond3 v140 = 1#1)), ∀ a x, ((![v752] : Fin 1 → IVec S16 32) a x).toNat < S3136.size a := fun i k0_t2 k0_t4 v140 v752 k0_hw221 k0_h3 => k0_hw221 k0_h3
def k0_off204 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v755 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c6_i32_242 : BitVec 32 := 6#32
  let v754 : BitVec 32 := Scalar.addi v126 c6_i32_242
  let v756 : Index := Scalar.indexCast v754
  let c0_243 : Index := 0#32
  ![v755.toNat, v756.toNat, 0]
def k0_off205 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v759 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c6_i32_244 : BitVec 32 := 6#32
  let v758 : BitVec 32 := Scalar.addi v126 c6_i32_244
  let v760 : Index := Scalar.indexCast v758
  let c16_245 : Index := 16#32
  ![v759.toNat, v760.toNat, 16]
def k0_off206 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v763 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c6_i32_246 : BitVec 32 := 6#32
  let v762 : BitVec 32 := Scalar.addi v126 c6_i32_246
  let v764 : Index := Scalar.indexCast v762
  let c32_247 : Index := 32#32
  ![v763.toNat, v764.toNat, 32]
def k0_off207 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v767 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c6_i32_248 : BitVec 32 := 6#32
  let v766 : BitVec 32 := Scalar.addi v126 c6_i32_248
  let v768 : Index := Scalar.indexCast v766
  let c48_249 : Index := 48#32
  ![v767.toNat, v768.toNat, 48]
def k0_off208 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v771 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c6_i32_250 : BitVec 32 := 6#32
  let v770 : BitVec 32 := Scalar.addi v126 c6_i32_250
  let v772 : Index := Scalar.indexCast v770
  let c64_251 : Index := 64#32
  ![v771.toNat, v772.toNat, 64]
def k0_off209 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v775 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c6_i32_252 : BitVec 32 := 6#32
  let v774 : BitVec 32 := Scalar.addi v126 c6_i32_252
  let v776 : Index := Scalar.indexCast v774
  let c80_253 : Index := 80#32
  ![v775.toNat, v776.toNat, 80]
def k0_off210 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v779 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c6_i32_254 : BitVec 32 := 6#32
  let v778 : BitVec 32 := Scalar.addi v126 c6_i32_254
  let v780 : Index := Scalar.indexCast v778
  let c96_255 : Index := 96#32
  ![v779.toNat, v780.toNat, 96]
def k0_off211 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v783 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c6_i32_256 : BitVec 32 := 6#32
  let v782 : BitVec 32 := Scalar.addi v126 c6_i32_256
  let v784 : Index := Scalar.indexCast v782
  let c112_257 : Index := 112#32
  ![v783.toNat, v784.toNat, 112]

def k0_chk222 (i : grid0.Coords) (k0_t2 : Fin (k0_t2_loop i).trips) (k0_t4 : Fin (k0_t4_loop i k0_t2).trips) (v140 : BitVec 32) (v792 : IVec S16 32) (v794 : IVec S16 32) : Prop :=
  (∀ (k0_h3 : ¬(k0_cond3 v140 = 1#1)), ∀ a x, ((![v792, v794] : Fin 2 → IVec S16 32) a x).toNat < S256x128.size a) ∧
  (∀ (k0_h3 : ¬(k0_cond3 v140 = 1#1)), ∀ a x, ((![v792, v794] : Fin 2 → IVec S16 32) a x).toNat < S256x128.size a)
theorem k0_idx398_inb : ∀ (i : grid0.Coords) (k0_t2 : Fin (k0_t2_loop i).trips) (k0_t4 : Fin (k0_t4_loop i k0_t2).trips) (v140 : BitVec 32) (v792 : IVec S16 32) (v794 : IVec S16 32) (k0_hw222 : k0_chk222 i k0_t2 k0_t4 v140 v792 v794), ∀ (k0_h3 : ¬(k0_cond3 v140 = 1#1)), ∀ a x, ((![v792, v794] : Fin 2 → IVec S16 32) a x).toNat < S256x128.size a := fun i k0_t2 k0_t4 v140 v792 v794 k0_hw222 k0_h3 => k0_hw222.1 k0_h3
theorem k0_idx399_inb : ∀ (i : grid0.Coords) (k0_t2 : Fin (k0_t2_loop i).trips) (k0_t4 : Fin (k0_t4_loop i k0_t2).trips) (v140 : BitVec 32) (v792 : IVec S16 32) (v794 : IVec S16 32) (k0_hw222 : k0_chk222 i k0_t2 k0_t4 v140 v792 v794), ∀ (k0_h3 : ¬(k0_cond3 v140 = 1#1)), ∀ a x, ((![v792, v794] : Fin 2 → IVec S16 32) a x).toNat < S256x128.size a := fun i k0_t2 k0_t4 v140 v792 v794 k0_hw222 k0_h3 => k0_hw222.2 k0_h3

def k0_chk223 (i : grid0.Coords) (k0_t2 : Fin (k0_t2_loop i).trips) (k0_t4 : Fin (k0_t4_loop i k0_t2).trips) (v140 : BitVec 32) (v792 : IVec S16 32) (v796 : IVec S16 32) : Prop :=
  (∀ (k0_h3 : ¬(k0_cond3 v140 = 1#1)), ∀ a x, ((![v792, v796] : Fin 2 → IVec S16 32) a x).toNat < S256x128.size a) ∧
  (∀ (k0_h3 : ¬(k0_cond3 v140 = 1#1)), ∀ a x, ((![v792, v796] : Fin 2 → IVec S16 32) a x).toNat < S256x128.size a)
theorem k0_idx400_inb : ∀ (i : grid0.Coords) (k0_t2 : Fin (k0_t2_loop i).trips) (k0_t4 : Fin (k0_t4_loop i k0_t2).trips) (v140 : BitVec 32) (v792 : IVec S16 32) (v796 : IVec S16 32) (k0_hw223 : k0_chk223 i k0_t2 k0_t4 v140 v792 v796), ∀ (k0_h3 : ¬(k0_cond3 v140 = 1#1)), ∀ a x, ((![v792, v796] : Fin 2 → IVec S16 32) a x).toNat < S256x128.size a := fun i k0_t2 k0_t4 v140 v792 v796 k0_hw223 k0_h3 => k0_hw223.1 k0_h3
theorem k0_idx401_inb : ∀ (i : grid0.Coords) (k0_t2 : Fin (k0_t2_loop i).trips) (k0_t4 : Fin (k0_t4_loop i k0_t2).trips) (v140 : BitVec 32) (v792 : IVec S16 32) (v796 : IVec S16 32) (k0_hw223 : k0_chk223 i k0_t2 k0_t4 v140 v792 v796), ∀ (k0_h3 : ¬(k0_cond3 v140 = 1#1)), ∀ a x, ((![v792, v796] : Fin 2 → IVec S16 32) a x).toNat < S256x128.size a := fun i k0_t2 k0_t4 v140 v792 v796 k0_hw223 k0_h3 => k0_hw223.2 k0_h3

def k0_chk224 (i : grid0.Coords) (k0_t2 : Fin (k0_t2_loop i).trips) (k0_t4 : Fin (k0_t4_loop i k0_t2).trips) (v140 : BitVec 32) (v792 : IVec S16 32) (v798 : IVec S16 32) : Prop :=
  (∀ (k0_h3 : ¬(k0_cond3 v140 = 1#1)), ∀ a x, ((![v792, v798] : Fin 2 → IVec S16 32) a x).toNat < S256x128.size a) ∧
  (∀ (k0_h3 : ¬(k0_cond3 v140 = 1#1)), ∀ a x, ((![v792, v798] : Fin 2 → IVec S16 32) a x).toNat < S256x128.size a)
theorem k0_idx402_inb : ∀ (i : grid0.Coords) (k0_t2 : Fin (k0_t2_loop i).trips) (k0_t4 : Fin (k0_t4_loop i k0_t2).trips) (v140 : BitVec 32) (v792 : IVec S16 32) (v798 : IVec S16 32) (k0_hw224 : k0_chk224 i k0_t2 k0_t4 v140 v792 v798), ∀ (k0_h3 : ¬(k0_cond3 v140 = 1#1)), ∀ a x, ((![v792, v798] : Fin 2 → IVec S16 32) a x).toNat < S256x128.size a := fun i k0_t2 k0_t4 v140 v792 v798 k0_hw224 k0_h3 => k0_hw224.1 k0_h3
theorem k0_idx403_inb : ∀ (i : grid0.Coords) (k0_t2 : Fin (k0_t2_loop i).trips) (k0_t4 : Fin (k0_t4_loop i k0_t2).trips) (v140 : BitVec 32) (v792 : IVec S16 32) (v798 : IVec S16 32) (k0_hw224 : k0_chk224 i k0_t2 k0_t4 v140 v792 v798), ∀ (k0_h3 : ¬(k0_cond3 v140 = 1#1)), ∀ a x, ((![v792, v798] : Fin 2 → IVec S16 32) a x).toNat < S256x128.size a := fun i k0_t2 k0_t4 v140 v792 v798 k0_hw224 k0_h3 => k0_hw224.2 k0_h3

def k0_chk225 (i : grid0.Coords) (k0_t2 : Fin (k0_t2_loop i).trips) (k0_t4 : Fin (k0_t4_loop i k0_t2).trips) (v140 : BitVec 32) (v792 : IVec S16 32) (v800 : IVec S16 32) : Prop :=
  (∀ (k0_h3 : ¬(k0_cond3 v140 = 1#1)), ∀ a x, ((![v792, v800] : Fin 2 → IVec S16 32) a x).toNat < S256x128.size a) ∧
  (∀ (k0_h3 : ¬(k0_cond3 v140 = 1#1)), ∀ a x, ((![v792, v800] : Fin 2 → IVec S16 32) a x).toNat < S256x128.size a)
theorem k0_idx404_inb : ∀ (i : grid0.Coords) (k0_t2 : Fin (k0_t2_loop i).trips) (k0_t4 : Fin (k0_t4_loop i k0_t2).trips) (v140 : BitVec 32) (v792 : IVec S16 32) (v800 : IVec S16 32) (k0_hw225 : k0_chk225 i k0_t2 k0_t4 v140 v792 v800), ∀ (k0_h3 : ¬(k0_cond3 v140 = 1#1)), ∀ a x, ((![v792, v800] : Fin 2 → IVec S16 32) a x).toNat < S256x128.size a := fun i k0_t2 k0_t4 v140 v792 v800 k0_hw225 k0_h3 => k0_hw225.1 k0_h3
theorem k0_idx405_inb : ∀ (i : grid0.Coords) (k0_t2 : Fin (k0_t2_loop i).trips) (k0_t4 : Fin (k0_t4_loop i k0_t2).trips) (v140 : BitVec 32) (v792 : IVec S16 32) (v800 : IVec S16 32) (k0_hw225 : k0_chk225 i k0_t2 k0_t4 v140 v792 v800), ∀ (k0_h3 : ¬(k0_cond3 v140 = 1#1)), ∀ a x, ((![v792, v800] : Fin 2 → IVec S16 32) a x).toNat < S256x128.size a := fun i k0_t2 k0_t4 v140 v792 v800 k0_hw225 k0_h3 => k0_hw225.2 k0_h3

def k0_chk226 (i : grid0.Coords) (k0_t2 : Fin (k0_t2_loop i).trips) (k0_t4 : Fin (k0_t4_loop i k0_t2).trips) (v140 : BitVec 32) (v792 : IVec S16 32) (v802 : IVec S16 32) : Prop :=
  (∀ (k0_h3 : ¬(k0_cond3 v140 = 1#1)), ∀ a x, ((![v792, v802] : Fin 2 → IVec S16 32) a x).toNat < S256x128.size a) ∧
  (∀ (k0_h3 : ¬(k0_cond3 v140 = 1#1)), ∀ a x, ((![v792, v802] : Fin 2 → IVec S16 32) a x).toNat < S256x128.size a)
theorem k0_idx406_inb : ∀ (i : grid0.Coords) (k0_t2 : Fin (k0_t2_loop i).trips) (k0_t4 : Fin (k0_t4_loop i k0_t2).trips) (v140 : BitVec 32) (v792 : IVec S16 32) (v802 : IVec S16 32) (k0_hw226 : k0_chk226 i k0_t2 k0_t4 v140 v792 v802), ∀ (k0_h3 : ¬(k0_cond3 v140 = 1#1)), ∀ a x, ((![v792, v802] : Fin 2 → IVec S16 32) a x).toNat < S256x128.size a := fun i k0_t2 k0_t4 v140 v792 v802 k0_hw226 k0_h3 => k0_hw226.1 k0_h3
theorem k0_idx407_inb : ∀ (i : grid0.Coords) (k0_t2 : Fin (k0_t2_loop i).trips) (k0_t4 : Fin (k0_t4_loop i k0_t2).trips) (v140 : BitVec 32) (v792 : IVec S16 32) (v802 : IVec S16 32) (k0_hw226 : k0_chk226 i k0_t2 k0_t4 v140 v792 v802), ∀ (k0_h3 : ¬(k0_cond3 v140 = 1#1)), ∀ a x, ((![v792, v802] : Fin 2 → IVec S16 32) a x).toNat < S256x128.size a := fun i k0_t2 k0_t4 v140 v792 v802 k0_hw226 k0_h3 => k0_hw226.2 k0_h3

def k0_chk227 (i : grid0.Coords) (k0_t2 : Fin (k0_t2_loop i).trips) (k0_t4 : Fin (k0_t4_loop i k0_t2).trips) (v140 : BitVec 32) (v792 : IVec S16 32) (v804 : IVec S16 32) : Prop :=
  (∀ (k0_h3 : ¬(k0_cond3 v140 = 1#1)), ∀ a x, ((![v792, v804] : Fin 2 → IVec S16 32) a x).toNat < S256x128.size a) ∧
  (∀ (k0_h3 : ¬(k0_cond3 v140 = 1#1)), ∀ a x, ((![v792, v804] : Fin 2 → IVec S16 32) a x).toNat < S256x128.size a)
theorem k0_idx408_inb : ∀ (i : grid0.Coords) (k0_t2 : Fin (k0_t2_loop i).trips) (k0_t4 : Fin (k0_t4_loop i k0_t2).trips) (v140 : BitVec 32) (v792 : IVec S16 32) (v804 : IVec S16 32) (k0_hw227 : k0_chk227 i k0_t2 k0_t4 v140 v792 v804), ∀ (k0_h3 : ¬(k0_cond3 v140 = 1#1)), ∀ a x, ((![v792, v804] : Fin 2 → IVec S16 32) a x).toNat < S256x128.size a := fun i k0_t2 k0_t4 v140 v792 v804 k0_hw227 k0_h3 => k0_hw227.1 k0_h3
theorem k0_idx409_inb : ∀ (i : grid0.Coords) (k0_t2 : Fin (k0_t2_loop i).trips) (k0_t4 : Fin (k0_t4_loop i k0_t2).trips) (v140 : BitVec 32) (v792 : IVec S16 32) (v804 : IVec S16 32) (k0_hw227 : k0_chk227 i k0_t2 k0_t4 v140 v792 v804), ∀ (k0_h3 : ¬(k0_cond3 v140 = 1#1)), ∀ a x, ((![v792, v804] : Fin 2 → IVec S16 32) a x).toNat < S256x128.size a := fun i k0_t2 k0_t4 v140 v792 v804 k0_hw227 k0_h3 => k0_hw227.2 k0_h3

def k0_chk228 (i : grid0.Coords) (k0_t2 : Fin (k0_t2_loop i).trips) (k0_t4 : Fin (k0_t4_loop i k0_t2).trips) (v140 : BitVec 32) (v792 : IVec S16 32) (v806 : IVec S16 32) : Prop :=
  (∀ (k0_h3 : ¬(k0_cond3 v140 = 1#1)), ∀ a x, ((![v792, v806] : Fin 2 → IVec S16 32) a x).toNat < S256x128.size a) ∧
  (∀ (k0_h3 : ¬(k0_cond3 v140 = 1#1)), ∀ a x, ((![v792, v806] : Fin 2 → IVec S16 32) a x).toNat < S256x128.size a)
theorem k0_idx410_inb : ∀ (i : grid0.Coords) (k0_t2 : Fin (k0_t2_loop i).trips) (k0_t4 : Fin (k0_t4_loop i k0_t2).trips) (v140 : BitVec 32) (v792 : IVec S16 32) (v806 : IVec S16 32) (k0_hw228 : k0_chk228 i k0_t2 k0_t4 v140 v792 v806), ∀ (k0_h3 : ¬(k0_cond3 v140 = 1#1)), ∀ a x, ((![v792, v806] : Fin 2 → IVec S16 32) a x).toNat < S256x128.size a := fun i k0_t2 k0_t4 v140 v792 v806 k0_hw228 k0_h3 => k0_hw228.1 k0_h3
theorem k0_idx411_inb : ∀ (i : grid0.Coords) (k0_t2 : Fin (k0_t2_loop i).trips) (k0_t4 : Fin (k0_t4_loop i k0_t2).trips) (v140 : BitVec 32) (v792 : IVec S16 32) (v806 : IVec S16 32) (k0_hw228 : k0_chk228 i k0_t2 k0_t4 v140 v792 v806), ∀ (k0_h3 : ¬(k0_cond3 v140 = 1#1)), ∀ a x, ((![v792, v806] : Fin 2 → IVec S16 32) a x).toNat < S256x128.size a := fun i k0_t2 k0_t4 v140 v792 v806 k0_hw228 k0_h3 => k0_hw228.2 k0_h3

def k0_chk229 (i : grid0.Coords) (k0_t2 : Fin (k0_t2_loop i).trips) (k0_t4 : Fin (k0_t4_loop i k0_t2).trips) (v140 : BitVec 32) (v792 : IVec S16 32) (v808 : IVec S16 32) : Prop :=
  (∀ (k0_h3 : ¬(k0_cond3 v140 = 1#1)), ∀ a x, ((![v792, v808] : Fin 2 → IVec S16 32) a x).toNat < S256x128.size a) ∧
  (∀ (k0_h3 : ¬(k0_cond3 v140 = 1#1)), ∀ a x, ((![v792, v808] : Fin 2 → IVec S16 32) a x).toNat < S256x128.size a)
theorem k0_idx412_inb : ∀ (i : grid0.Coords) (k0_t2 : Fin (k0_t2_loop i).trips) (k0_t4 : Fin (k0_t4_loop i k0_t2).trips) (v140 : BitVec 32) (v792 : IVec S16 32) (v808 : IVec S16 32) (k0_hw229 : k0_chk229 i k0_t2 k0_t4 v140 v792 v808), ∀ (k0_h3 : ¬(k0_cond3 v140 = 1#1)), ∀ a x, ((![v792, v808] : Fin 2 → IVec S16 32) a x).toNat < S256x128.size a := fun i k0_t2 k0_t4 v140 v792 v808 k0_hw229 k0_h3 => k0_hw229.1 k0_h3
theorem k0_idx413_inb : ∀ (i : grid0.Coords) (k0_t2 : Fin (k0_t2_loop i).trips) (k0_t4 : Fin (k0_t4_loop i k0_t2).trips) (v140 : BitVec 32) (v792 : IVec S16 32) (v808 : IVec S16 32) (k0_hw229 : k0_chk229 i k0_t2 k0_t4 v140 v792 v808), ∀ (k0_h3 : ¬(k0_cond3 v140 = 1#1)), ∀ a x, ((![v792, v808] : Fin 2 → IVec S16 32) a x).toNat < S256x128.size a := fun i k0_t2 k0_t4 v140 v792 v808 k0_hw229 k0_h3 => k0_hw229.2 k0_h3

def k0_chk230 (i : grid0.Coords) (v2 : IVec S16 32) (k0_t2 : Fin (k0_t2_loop i).trips) (k0_t4 : Fin (k0_t4_loop i k0_t2).trips) (v140 : BitVec 32) (v792 : IVec S16 32) : Prop :=
  (∀ (k0_h3 : ¬(k0_cond3 v140 = 1#1)), ∀ a x, ((![v792, v2] : Fin 2 → IVec S16 32) a x).toNat < S256x16.size a)
theorem k0_idx414_inb : ∀ (i : grid0.Coords) (v2 : IVec S16 32) (k0_t2 : Fin (k0_t2_loop i).trips) (k0_t4 : Fin (k0_t4_loop i k0_t2).trips) (v140 : BitVec 32) (v792 : IVec S16 32) (k0_hw230 : k0_chk230 i v2 k0_t2 k0_t4 v140 v792), ∀ (k0_h3 : ¬(k0_cond3 v140 = 1#1)), ∀ a x, ((![v792, v2] : Fin 2 → IVec S16 32) a x).toNat < S256x16.size a := fun i v2 k0_t2 k0_t4 v140 v792 k0_hw230 k0_h3 => k0_hw230 k0_h3

def k0_chk231 (i : grid0.Coords) (k0_t2 : Fin (k0_t2_loop i).trips) (k0_t4 : Fin (k0_t4_loop i k0_t2).trips) (v140 : BitVec 32) (v853 : IVec S16 32) : Prop :=
  (∀ (k0_h3 : ¬(k0_cond3 v140 = 1#1)), ∀ a x, ((![v853] : Fin 1 → IVec S16 32) a x).toNat < S3136.size a)
theorem k0_idx415_inb : ∀ (i : grid0.Coords) (k0_t2 : Fin (k0_t2_loop i).trips) (k0_t4 : Fin (k0_t4_loop i k0_t2).trips) (v140 : BitVec 32) (v853 : IVec S16 32) (k0_hw231 : k0_chk231 i k0_t2 k0_t4 v140 v853), ∀ (k0_h3 : ¬(k0_cond3 v140 = 1#1)), ∀ a x, ((![v853] : Fin 1 → IVec S16 32) a x).toNat < S3136.size a := fun i k0_t2 k0_t4 v140 v853 k0_hw231 k0_h3 => k0_hw231 k0_h3
def k0_off212 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v856 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c7_i32_273 : BitVec 32 := 7#32
  let v855 : BitVec 32 := Scalar.addi v126 c7_i32_273
  let v857 : Index := Scalar.indexCast v855
  let c0_274 : Index := 0#32
  ![v856.toNat, v857.toNat, 0]
def k0_off213 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v860 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c7_i32_275 : BitVec 32 := 7#32
  let v859 : BitVec 32 := Scalar.addi v126 c7_i32_275
  let v861 : Index := Scalar.indexCast v859
  let c16_276 : Index := 16#32
  ![v860.toNat, v861.toNat, 16]
def k0_off214 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v864 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c7_i32_277 : BitVec 32 := 7#32
  let v863 : BitVec 32 := Scalar.addi v126 c7_i32_277
  let v865 : Index := Scalar.indexCast v863
  let c32_278 : Index := 32#32
  ![v864.toNat, v865.toNat, 32]
def k0_off215 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v868 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c7_i32_279 : BitVec 32 := 7#32
  let v867 : BitVec 32 := Scalar.addi v126 c7_i32_279
  let v869 : Index := Scalar.indexCast v867
  let c48_280 : Index := 48#32
  ![v868.toNat, v869.toNat, 48]
def k0_off216 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v872 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c7_i32_281 : BitVec 32 := 7#32
  let v871 : BitVec 32 := Scalar.addi v126 c7_i32_281
  let v873 : Index := Scalar.indexCast v871
  let c64_282 : Index := 64#32
  ![v872.toNat, v873.toNat, 64]
def k0_off217 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v876 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c7_i32_283 : BitVec 32 := 7#32
  let v875 : BitVec 32 := Scalar.addi v126 c7_i32_283
  let v877 : Index := Scalar.indexCast v875
  let c80_284 : Index := 80#32
  ![v876.toNat, v877.toNat, 80]
def k0_off218 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v880 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c7_i32_285 : BitVec 32 := 7#32
  let v879 : BitVec 32 := Scalar.addi v126 c7_i32_285
  let v881 : Index := Scalar.indexCast v879
  let c96_286 : Index := 96#32
  ![v880.toNat, v881.toNat, 96]
def k0_off219 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v884 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c7_i32_287 : BitVec 32 := 7#32
  let v883 : BitVec 32 := Scalar.addi v126 c7_i32_287
  let v885 : Index := Scalar.indexCast v883
  let c112_288 : Index := 112#32
  ![v884.toNat, v885.toNat, 112]

def k0_chk232 (i : grid0.Coords) (k0_t2 : Fin (k0_t2_loop i).trips) (k0_t4 : Fin (k0_t4_loop i k0_t2).trips) (v140 : BitVec 32) (v893 : IVec S16 32) (v895 : IVec S16 32) : Prop :=
  (∀ (k0_h3 : ¬(k0_cond3 v140 = 1#1)), ∀ a x, ((![v893, v895] : Fin 2 → IVec S16 32) a x).toNat < S256x128.size a) ∧
  (∀ (k0_h3 : ¬(k0_cond3 v140 = 1#1)), ∀ a x, ((![v893, v895] : Fin 2 → IVec S16 32) a x).toNat < S256x128.size a)
theorem k0_idx416_inb : ∀ (i : grid0.Coords) (k0_t2 : Fin (k0_t2_loop i).trips) (k0_t4 : Fin (k0_t4_loop i k0_t2).trips) (v140 : BitVec 32) (v893 : IVec S16 32) (v895 : IVec S16 32) (k0_hw232 : k0_chk232 i k0_t2 k0_t4 v140 v893 v895), ∀ (k0_h3 : ¬(k0_cond3 v140 = 1#1)), ∀ a x, ((![v893, v895] : Fin 2 → IVec S16 32) a x).toNat < S256x128.size a := fun i k0_t2 k0_t4 v140 v893 v895 k0_hw232 k0_h3 => k0_hw232.1 k0_h3
theorem k0_idx417_inb : ∀ (i : grid0.Coords) (k0_t2 : Fin (k0_t2_loop i).trips) (k0_t4 : Fin (k0_t4_loop i k0_t2).trips) (v140 : BitVec 32) (v893 : IVec S16 32) (v895 : IVec S16 32) (k0_hw232 : k0_chk232 i k0_t2 k0_t4 v140 v893 v895), ∀ (k0_h3 : ¬(k0_cond3 v140 = 1#1)), ∀ a x, ((![v893, v895] : Fin 2 → IVec S16 32) a x).toNat < S256x128.size a := fun i k0_t2 k0_t4 v140 v893 v895 k0_hw232 k0_h3 => k0_hw232.2 k0_h3

def k0_chk233 (i : grid0.Coords) (k0_t2 : Fin (k0_t2_loop i).trips) (k0_t4 : Fin (k0_t4_loop i k0_t2).trips) (v140 : BitVec 32) (v893 : IVec S16 32) (v897 : IVec S16 32) : Prop :=
  (∀ (k0_h3 : ¬(k0_cond3 v140 = 1#1)), ∀ a x, ((![v893, v897] : Fin 2 → IVec S16 32) a x).toNat < S256x128.size a) ∧
  (∀ (k0_h3 : ¬(k0_cond3 v140 = 1#1)), ∀ a x, ((![v893, v897] : Fin 2 → IVec S16 32) a x).toNat < S256x128.size a)
theorem k0_idx418_inb : ∀ (i : grid0.Coords) (k0_t2 : Fin (k0_t2_loop i).trips) (k0_t4 : Fin (k0_t4_loop i k0_t2).trips) (v140 : BitVec 32) (v893 : IVec S16 32) (v897 : IVec S16 32) (k0_hw233 : k0_chk233 i k0_t2 k0_t4 v140 v893 v897), ∀ (k0_h3 : ¬(k0_cond3 v140 = 1#1)), ∀ a x, ((![v893, v897] : Fin 2 → IVec S16 32) a x).toNat < S256x128.size a := fun i k0_t2 k0_t4 v140 v893 v897 k0_hw233 k0_h3 => k0_hw233.1 k0_h3
theorem k0_idx419_inb : ∀ (i : grid0.Coords) (k0_t2 : Fin (k0_t2_loop i).trips) (k0_t4 : Fin (k0_t4_loop i k0_t2).trips) (v140 : BitVec 32) (v893 : IVec S16 32) (v897 : IVec S16 32) (k0_hw233 : k0_chk233 i k0_t2 k0_t4 v140 v893 v897), ∀ (k0_h3 : ¬(k0_cond3 v140 = 1#1)), ∀ a x, ((![v893, v897] : Fin 2 → IVec S16 32) a x).toNat < S256x128.size a := fun i k0_t2 k0_t4 v140 v893 v897 k0_hw233 k0_h3 => k0_hw233.2 k0_h3

def k0_chk234 (i : grid0.Coords) (k0_t2 : Fin (k0_t2_loop i).trips) (k0_t4 : Fin (k0_t4_loop i k0_t2).trips) (v140 : BitVec 32) (v893 : IVec S16 32) (v899 : IVec S16 32) : Prop :=
  (∀ (k0_h3 : ¬(k0_cond3 v140 = 1#1)), ∀ a x, ((![v893, v899] : Fin 2 → IVec S16 32) a x).toNat < S256x128.size a) ∧
  (∀ (k0_h3 : ¬(k0_cond3 v140 = 1#1)), ∀ a x, ((![v893, v899] : Fin 2 → IVec S16 32) a x).toNat < S256x128.size a)
theorem k0_idx420_inb : ∀ (i : grid0.Coords) (k0_t2 : Fin (k0_t2_loop i).trips) (k0_t4 : Fin (k0_t4_loop i k0_t2).trips) (v140 : BitVec 32) (v893 : IVec S16 32) (v899 : IVec S16 32) (k0_hw234 : k0_chk234 i k0_t2 k0_t4 v140 v893 v899), ∀ (k0_h3 : ¬(k0_cond3 v140 = 1#1)), ∀ a x, ((![v893, v899] : Fin 2 → IVec S16 32) a x).toNat < S256x128.size a := fun i k0_t2 k0_t4 v140 v893 v899 k0_hw234 k0_h3 => k0_hw234.1 k0_h3
theorem k0_idx421_inb : ∀ (i : grid0.Coords) (k0_t2 : Fin (k0_t2_loop i).trips) (k0_t4 : Fin (k0_t4_loop i k0_t2).trips) (v140 : BitVec 32) (v893 : IVec S16 32) (v899 : IVec S16 32) (k0_hw234 : k0_chk234 i k0_t2 k0_t4 v140 v893 v899), ∀ (k0_h3 : ¬(k0_cond3 v140 = 1#1)), ∀ a x, ((![v893, v899] : Fin 2 → IVec S16 32) a x).toNat < S256x128.size a := fun i k0_t2 k0_t4 v140 v893 v899 k0_hw234 k0_h3 => k0_hw234.2 k0_h3

def k0_chk235 (i : grid0.Coords) (k0_t2 : Fin (k0_t2_loop i).trips) (k0_t4 : Fin (k0_t4_loop i k0_t2).trips) (v140 : BitVec 32) (v893 : IVec S16 32) (v901 : IVec S16 32) : Prop :=
  (∀ (k0_h3 : ¬(k0_cond3 v140 = 1#1)), ∀ a x, ((![v893, v901] : Fin 2 → IVec S16 32) a x).toNat < S256x128.size a) ∧
  (∀ (k0_h3 : ¬(k0_cond3 v140 = 1#1)), ∀ a x, ((![v893, v901] : Fin 2 → IVec S16 32) a x).toNat < S256x128.size a)
theorem k0_idx422_inb : ∀ (i : grid0.Coords) (k0_t2 : Fin (k0_t2_loop i).trips) (k0_t4 : Fin (k0_t4_loop i k0_t2).trips) (v140 : BitVec 32) (v893 : IVec S16 32) (v901 : IVec S16 32) (k0_hw235 : k0_chk235 i k0_t2 k0_t4 v140 v893 v901), ∀ (k0_h3 : ¬(k0_cond3 v140 = 1#1)), ∀ a x, ((![v893, v901] : Fin 2 → IVec S16 32) a x).toNat < S256x128.size a := fun i k0_t2 k0_t4 v140 v893 v901 k0_hw235 k0_h3 => k0_hw235.1 k0_h3
theorem k0_idx423_inb : ∀ (i : grid0.Coords) (k0_t2 : Fin (k0_t2_loop i).trips) (k0_t4 : Fin (k0_t4_loop i k0_t2).trips) (v140 : BitVec 32) (v893 : IVec S16 32) (v901 : IVec S16 32) (k0_hw235 : k0_chk235 i k0_t2 k0_t4 v140 v893 v901), ∀ (k0_h3 : ¬(k0_cond3 v140 = 1#1)), ∀ a x, ((![v893, v901] : Fin 2 → IVec S16 32) a x).toNat < S256x128.size a := fun i k0_t2 k0_t4 v140 v893 v901 k0_hw235 k0_h3 => k0_hw235.2 k0_h3

def k0_chk236 (i : grid0.Coords) (k0_t2 : Fin (k0_t2_loop i).trips) (k0_t4 : Fin (k0_t4_loop i k0_t2).trips) (v140 : BitVec 32) (v893 : IVec S16 32) (v903 : IVec S16 32) : Prop :=
  (∀ (k0_h3 : ¬(k0_cond3 v140 = 1#1)), ∀ a x, ((![v893, v903] : Fin 2 → IVec S16 32) a x).toNat < S256x128.size a) ∧
  (∀ (k0_h3 : ¬(k0_cond3 v140 = 1#1)), ∀ a x, ((![v893, v903] : Fin 2 → IVec S16 32) a x).toNat < S256x128.size a)
theorem k0_idx424_inb : ∀ (i : grid0.Coords) (k0_t2 : Fin (k0_t2_loop i).trips) (k0_t4 : Fin (k0_t4_loop i k0_t2).trips) (v140 : BitVec 32) (v893 : IVec S16 32) (v903 : IVec S16 32) (k0_hw236 : k0_chk236 i k0_t2 k0_t4 v140 v893 v903), ∀ (k0_h3 : ¬(k0_cond3 v140 = 1#1)), ∀ a x, ((![v893, v903] : Fin 2 → IVec S16 32) a x).toNat < S256x128.size a := fun i k0_t2 k0_t4 v140 v893 v903 k0_hw236 k0_h3 => k0_hw236.1 k0_h3
theorem k0_idx425_inb : ∀ (i : grid0.Coords) (k0_t2 : Fin (k0_t2_loop i).trips) (k0_t4 : Fin (k0_t4_loop i k0_t2).trips) (v140 : BitVec 32) (v893 : IVec S16 32) (v903 : IVec S16 32) (k0_hw236 : k0_chk236 i k0_t2 k0_t4 v140 v893 v903), ∀ (k0_h3 : ¬(k0_cond3 v140 = 1#1)), ∀ a x, ((![v893, v903] : Fin 2 → IVec S16 32) a x).toNat < S256x128.size a := fun i k0_t2 k0_t4 v140 v893 v903 k0_hw236 k0_h3 => k0_hw236.2 k0_h3

def k0_chk237 (i : grid0.Coords) (k0_t2 : Fin (k0_t2_loop i).trips) (k0_t4 : Fin (k0_t4_loop i k0_t2).trips) (v140 : BitVec 32) (v893 : IVec S16 32) (v905 : IVec S16 32) : Prop :=
  (∀ (k0_h3 : ¬(k0_cond3 v140 = 1#1)), ∀ a x, ((![v893, v905] : Fin 2 → IVec S16 32) a x).toNat < S256x128.size a) ∧
  (∀ (k0_h3 : ¬(k0_cond3 v140 = 1#1)), ∀ a x, ((![v893, v905] : Fin 2 → IVec S16 32) a x).toNat < S256x128.size a)
theorem k0_idx426_inb : ∀ (i : grid0.Coords) (k0_t2 : Fin (k0_t2_loop i).trips) (k0_t4 : Fin (k0_t4_loop i k0_t2).trips) (v140 : BitVec 32) (v893 : IVec S16 32) (v905 : IVec S16 32) (k0_hw237 : k0_chk237 i k0_t2 k0_t4 v140 v893 v905), ∀ (k0_h3 : ¬(k0_cond3 v140 = 1#1)), ∀ a x, ((![v893, v905] : Fin 2 → IVec S16 32) a x).toNat < S256x128.size a := fun i k0_t2 k0_t4 v140 v893 v905 k0_hw237 k0_h3 => k0_hw237.1 k0_h3
theorem k0_idx427_inb : ∀ (i : grid0.Coords) (k0_t2 : Fin (k0_t2_loop i).trips) (k0_t4 : Fin (k0_t4_loop i k0_t2).trips) (v140 : BitVec 32) (v893 : IVec S16 32) (v905 : IVec S16 32) (k0_hw237 : k0_chk237 i k0_t2 k0_t4 v140 v893 v905), ∀ (k0_h3 : ¬(k0_cond3 v140 = 1#1)), ∀ a x, ((![v893, v905] : Fin 2 → IVec S16 32) a x).toNat < S256x128.size a := fun i k0_t2 k0_t4 v140 v893 v905 k0_hw237 k0_h3 => k0_hw237.2 k0_h3

def k0_chk238 (i : grid0.Coords) (k0_t2 : Fin (k0_t2_loop i).trips) (k0_t4 : Fin (k0_t4_loop i k0_t2).trips) (v140 : BitVec 32) (v893 : IVec S16 32) (v907 : IVec S16 32) : Prop :=
  (∀ (k0_h3 : ¬(k0_cond3 v140 = 1#1)), ∀ a x, ((![v893, v907] : Fin 2 → IVec S16 32) a x).toNat < S256x128.size a) ∧
  (∀ (k0_h3 : ¬(k0_cond3 v140 = 1#1)), ∀ a x, ((![v893, v907] : Fin 2 → IVec S16 32) a x).toNat < S256x128.size a)
theorem k0_idx428_inb : ∀ (i : grid0.Coords) (k0_t2 : Fin (k0_t2_loop i).trips) (k0_t4 : Fin (k0_t4_loop i k0_t2).trips) (v140 : BitVec 32) (v893 : IVec S16 32) (v907 : IVec S16 32) (k0_hw238 : k0_chk238 i k0_t2 k0_t4 v140 v893 v907), ∀ (k0_h3 : ¬(k0_cond3 v140 = 1#1)), ∀ a x, ((![v893, v907] : Fin 2 → IVec S16 32) a x).toNat < S256x128.size a := fun i k0_t2 k0_t4 v140 v893 v907 k0_hw238 k0_h3 => k0_hw238.1 k0_h3
theorem k0_idx429_inb : ∀ (i : grid0.Coords) (k0_t2 : Fin (k0_t2_loop i).trips) (k0_t4 : Fin (k0_t4_loop i k0_t2).trips) (v140 : BitVec 32) (v893 : IVec S16 32) (v907 : IVec S16 32) (k0_hw238 : k0_chk238 i k0_t2 k0_t4 v140 v893 v907), ∀ (k0_h3 : ¬(k0_cond3 v140 = 1#1)), ∀ a x, ((![v893, v907] : Fin 2 → IVec S16 32) a x).toNat < S256x128.size a := fun i k0_t2 k0_t4 v140 v893 v907 k0_hw238 k0_h3 => k0_hw238.2 k0_h3

def k0_chk239 (i : grid0.Coords) (k0_t2 : Fin (k0_t2_loop i).trips) (k0_t4 : Fin (k0_t4_loop i k0_t2).trips) (v140 : BitVec 32) (v893 : IVec S16 32) (v909 : IVec S16 32) : Prop :=
  (∀ (k0_h3 : ¬(k0_cond3 v140 = 1#1)), ∀ a x, ((![v893, v909] : Fin 2 → IVec S16 32) a x).toNat < S256x128.size a) ∧
  (∀ (k0_h3 : ¬(k0_cond3 v140 = 1#1)), ∀ a x, ((![v893, v909] : Fin 2 → IVec S16 32) a x).toNat < S256x128.size a)
theorem k0_idx430_inb : ∀ (i : grid0.Coords) (k0_t2 : Fin (k0_t2_loop i).trips) (k0_t4 : Fin (k0_t4_loop i k0_t2).trips) (v140 : BitVec 32) (v893 : IVec S16 32) (v909 : IVec S16 32) (k0_hw239 : k0_chk239 i k0_t2 k0_t4 v140 v893 v909), ∀ (k0_h3 : ¬(k0_cond3 v140 = 1#1)), ∀ a x, ((![v893, v909] : Fin 2 → IVec S16 32) a x).toNat < S256x128.size a := fun i k0_t2 k0_t4 v140 v893 v909 k0_hw239 k0_h3 => k0_hw239.1 k0_h3
theorem k0_idx431_inb : ∀ (i : grid0.Coords) (k0_t2 : Fin (k0_t2_loop i).trips) (k0_t4 : Fin (k0_t4_loop i k0_t2).trips) (v140 : BitVec 32) (v893 : IVec S16 32) (v909 : IVec S16 32) (k0_hw239 : k0_chk239 i k0_t2 k0_t4 v140 v893 v909), ∀ (k0_h3 : ¬(k0_cond3 v140 = 1#1)), ∀ a x, ((![v893, v909] : Fin 2 → IVec S16 32) a x).toNat < S256x128.size a := fun i k0_t2 k0_t4 v140 v893 v909 k0_hw239 k0_h3 => k0_hw239.2 k0_h3

def k0_chk240 (i : grid0.Coords) (v2 : IVec S16 32) (k0_t2 : Fin (k0_t2_loop i).trips) (k0_t4 : Fin (k0_t4_loop i k0_t2).trips) (v140 : BitVec 32) (v893 : IVec S16 32) : Prop :=
  (∀ (k0_h3 : ¬(k0_cond3 v140 = 1#1)), ∀ a x, ((![v893, v2] : Fin 2 → IVec S16 32) a x).toNat < S256x16.size a)
theorem k0_idx432_inb : ∀ (i : grid0.Coords) (v2 : IVec S16 32) (k0_t2 : Fin (k0_t2_loop i).trips) (k0_t4 : Fin (k0_t4_loop i k0_t2).trips) (v140 : BitVec 32) (v893 : IVec S16 32) (k0_hw240 : k0_chk240 i v2 k0_t2 k0_t4 v140 v893), ∀ (k0_h3 : ¬(k0_cond3 v140 = 1#1)), ∀ a x, ((![v893, v2] : Fin 2 → IVec S16 32) a x).toNat < S256x16.size a := fun i v2 k0_t2 k0_t4 v140 v893 k0_hw240 k0_h3 => k0_hw240 k0_h3

def k0_chk241 (i : grid0.Coords) (k0_t2 : Fin (k0_t2_loop i).trips) (k0_t4 : Fin (k0_t4_loop i k0_t2).trips) (v140 : BitVec 32) (v954 : IVec S16 32) : Prop :=
  (∀ (k0_h3 : ¬(k0_cond3 v140 = 1#1)), ∀ a x, ((![v954] : Fin 1 → IVec S16 32) a x).toNat < S3136.size a)
theorem k0_idx433_inb : ∀ (i : grid0.Coords) (k0_t2 : Fin (k0_t2_loop i).trips) (k0_t4 : Fin (k0_t4_loop i k0_t2).trips) (v140 : BitVec 32) (v954 : IVec S16 32) (k0_hw241 : k0_chk241 i k0_t2 k0_t4 v140 v954), ∀ (k0_h3 : ¬(k0_cond3 v140 = 1#1)), ∀ a x, ((![v954] : Fin 1 → IVec S16 32) a x).toNat < S3136.size a := fun i k0_t2 k0_t4 v140 v954 k0_hw241 k0_h3 => k0_hw241 k0_h3
def k0_off220 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v957 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c8_i32_303 : BitVec 32 := 8#32
  let v956 : BitVec 32 := Scalar.addi v126 c8_i32_303
  let v958 : Index := Scalar.indexCast v956
  let c0_304 : Index := 0#32
  ![v957.toNat, v958.toNat, 0]
def k0_off221 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v961 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c8_i32_305 : BitVec 32 := 8#32
  let v960 : BitVec 32 := Scalar.addi v126 c8_i32_305
  let v962 : Index := Scalar.indexCast v960
  let c16_306 : Index := 16#32
  ![v961.toNat, v962.toNat, 16]
def k0_off222 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v965 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c8_i32_307 : BitVec 32 := 8#32
  let v964 : BitVec 32 := Scalar.addi v126 c8_i32_307
  let v966 : Index := Scalar.indexCast v964
  let c32_308 : Index := 32#32
  ![v965.toNat, v966.toNat, 32]
def k0_off223 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v969 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c8_i32_309 : BitVec 32 := 8#32
  let v968 : BitVec 32 := Scalar.addi v126 c8_i32_309
  let v970 : Index := Scalar.indexCast v968
  let c48_310 : Index := 48#32
  ![v969.toNat, v970.toNat, 48]
def k0_off224 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v973 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c8_i32_311 : BitVec 32 := 8#32
  let v972 : BitVec 32 := Scalar.addi v126 c8_i32_311
  let v974 : Index := Scalar.indexCast v972
  let c64_312 : Index := 64#32
  ![v973.toNat, v974.toNat, 64]
def k0_off225 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v977 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c8_i32_313 : BitVec 32 := 8#32
  let v976 : BitVec 32 := Scalar.addi v126 c8_i32_313
  let v978 : Index := Scalar.indexCast v976
  let c80_314 : Index := 80#32
  ![v977.toNat, v978.toNat, 80]
def k0_off226 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v981 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c8_i32_315 : BitVec 32 := 8#32
  let v980 : BitVec 32 := Scalar.addi v126 c8_i32_315
  let v982 : Index := Scalar.indexCast v980
  let c96_316 : Index := 96#32
  ![v981.toNat, v982.toNat, 96]
def k0_off227 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v985 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c8_i32_317 : BitVec 32 := 8#32
  let v984 : BitVec 32 := Scalar.addi v126 c8_i32_317
  let v986 : Index := Scalar.indexCast v984
  let c112_318 : Index := 112#32
  ![v985.toNat, v986.toNat, 112]

def k0_chk242 (i : grid0.Coords) (k0_t2 : Fin (k0_t2_loop i).trips) (k0_t4 : Fin (k0_t4_loop i k0_t2).trips) (v140 : BitVec 32) (v994 : IVec S16 32) (v996 : IVec S16 32) : Prop :=
  (∀ (k0_h3 : ¬(k0_cond3 v140 = 1#1)), ∀ a x, ((![v994, v996] : Fin 2 → IVec S16 32) a x).toNat < S256x128.size a) ∧
  (∀ (k0_h3 : ¬(k0_cond3 v140 = 1#1)), ∀ a x, ((![v994, v996] : Fin 2 → IVec S16 32) a x).toNat < S256x128.size a)
theorem k0_idx434_inb : ∀ (i : grid0.Coords) (k0_t2 : Fin (k0_t2_loop i).trips) (k0_t4 : Fin (k0_t4_loop i k0_t2).trips) (v140 : BitVec 32) (v994 : IVec S16 32) (v996 : IVec S16 32) (k0_hw242 : k0_chk242 i k0_t2 k0_t4 v140 v994 v996), ∀ (k0_h3 : ¬(k0_cond3 v140 = 1#1)), ∀ a x, ((![v994, v996] : Fin 2 → IVec S16 32) a x).toNat < S256x128.size a := fun i k0_t2 k0_t4 v140 v994 v996 k0_hw242 k0_h3 => k0_hw242.1 k0_h3
theorem k0_idx435_inb : ∀ (i : grid0.Coords) (k0_t2 : Fin (k0_t2_loop i).trips) (k0_t4 : Fin (k0_t4_loop i k0_t2).trips) (v140 : BitVec 32) (v994 : IVec S16 32) (v996 : IVec S16 32) (k0_hw242 : k0_chk242 i k0_t2 k0_t4 v140 v994 v996), ∀ (k0_h3 : ¬(k0_cond3 v140 = 1#1)), ∀ a x, ((![v994, v996] : Fin 2 → IVec S16 32) a x).toNat < S256x128.size a := fun i k0_t2 k0_t4 v140 v994 v996 k0_hw242 k0_h3 => k0_hw242.2 k0_h3

def k0_chk243 (i : grid0.Coords) (k0_t2 : Fin (k0_t2_loop i).trips) (k0_t4 : Fin (k0_t4_loop i k0_t2).trips) (v140 : BitVec 32) (v994 : IVec S16 32) (v998 : IVec S16 32) : Prop :=
  (∀ (k0_h3 : ¬(k0_cond3 v140 = 1#1)), ∀ a x, ((![v994, v998] : Fin 2 → IVec S16 32) a x).toNat < S256x128.size a) ∧
  (∀ (k0_h3 : ¬(k0_cond3 v140 = 1#1)), ∀ a x, ((![v994, v998] : Fin 2 → IVec S16 32) a x).toNat < S256x128.size a)
theorem k0_idx436_inb : ∀ (i : grid0.Coords) (k0_t2 : Fin (k0_t2_loop i).trips) (k0_t4 : Fin (k0_t4_loop i k0_t2).trips) (v140 : BitVec 32) (v994 : IVec S16 32) (v998 : IVec S16 32) (k0_hw243 : k0_chk243 i k0_t2 k0_t4 v140 v994 v998), ∀ (k0_h3 : ¬(k0_cond3 v140 = 1#1)), ∀ a x, ((![v994, v998] : Fin 2 → IVec S16 32) a x).toNat < S256x128.size a := fun i k0_t2 k0_t4 v140 v994 v998 k0_hw243 k0_h3 => k0_hw243.1 k0_h3
theorem k0_idx437_inb : ∀ (i : grid0.Coords) (k0_t2 : Fin (k0_t2_loop i).trips) (k0_t4 : Fin (k0_t4_loop i k0_t2).trips) (v140 : BitVec 32) (v994 : IVec S16 32) (v998 : IVec S16 32) (k0_hw243 : k0_chk243 i k0_t2 k0_t4 v140 v994 v998), ∀ (k0_h3 : ¬(k0_cond3 v140 = 1#1)), ∀ a x, ((![v994, v998] : Fin 2 → IVec S16 32) a x).toNat < S256x128.size a := fun i k0_t2 k0_t4 v140 v994 v998 k0_hw243 k0_h3 => k0_hw243.2 k0_h3

def k0_chk244 (i : grid0.Coords) (k0_t2 : Fin (k0_t2_loop i).trips) (k0_t4 : Fin (k0_t4_loop i k0_t2).trips) (v140 : BitVec 32) (v994 : IVec S16 32) (v1000 : IVec S16 32) : Prop :=
  (∀ (k0_h3 : ¬(k0_cond3 v140 = 1#1)), ∀ a x, ((![v994, v1000] : Fin 2 → IVec S16 32) a x).toNat < S256x128.size a) ∧
  (∀ (k0_h3 : ¬(k0_cond3 v140 = 1#1)), ∀ a x, ((![v994, v1000] : Fin 2 → IVec S16 32) a x).toNat < S256x128.size a)
theorem k0_idx438_inb : ∀ (i : grid0.Coords) (k0_t2 : Fin (k0_t2_loop i).trips) (k0_t4 : Fin (k0_t4_loop i k0_t2).trips) (v140 : BitVec 32) (v994 : IVec S16 32) (v1000 : IVec S16 32) (k0_hw244 : k0_chk244 i k0_t2 k0_t4 v140 v994 v1000), ∀ (k0_h3 : ¬(k0_cond3 v140 = 1#1)), ∀ a x, ((![v994, v1000] : Fin 2 → IVec S16 32) a x).toNat < S256x128.size a := fun i k0_t2 k0_t4 v140 v994 v1000 k0_hw244 k0_h3 => k0_hw244.1 k0_h3
theorem k0_idx439_inb : ∀ (i : grid0.Coords) (k0_t2 : Fin (k0_t2_loop i).trips) (k0_t4 : Fin (k0_t4_loop i k0_t2).trips) (v140 : BitVec 32) (v994 : IVec S16 32) (v1000 : IVec S16 32) (k0_hw244 : k0_chk244 i k0_t2 k0_t4 v140 v994 v1000), ∀ (k0_h3 : ¬(k0_cond3 v140 = 1#1)), ∀ a x, ((![v994, v1000] : Fin 2 → IVec S16 32) a x).toNat < S256x128.size a := fun i k0_t2 k0_t4 v140 v994 v1000 k0_hw244 k0_h3 => k0_hw244.2 k0_h3

def k0_chk245 (i : grid0.Coords) (k0_t2 : Fin (k0_t2_loop i).trips) (k0_t4 : Fin (k0_t4_loop i k0_t2).trips) (v140 : BitVec 32) (v994 : IVec S16 32) (v1002 : IVec S16 32) : Prop :=
  (∀ (k0_h3 : ¬(k0_cond3 v140 = 1#1)), ∀ a x, ((![v994, v1002] : Fin 2 → IVec S16 32) a x).toNat < S256x128.size a) ∧
  (∀ (k0_h3 : ¬(k0_cond3 v140 = 1#1)), ∀ a x, ((![v994, v1002] : Fin 2 → IVec S16 32) a x).toNat < S256x128.size a)
theorem k0_idx440_inb : ∀ (i : grid0.Coords) (k0_t2 : Fin (k0_t2_loop i).trips) (k0_t4 : Fin (k0_t4_loop i k0_t2).trips) (v140 : BitVec 32) (v994 : IVec S16 32) (v1002 : IVec S16 32) (k0_hw245 : k0_chk245 i k0_t2 k0_t4 v140 v994 v1002), ∀ (k0_h3 : ¬(k0_cond3 v140 = 1#1)), ∀ a x, ((![v994, v1002] : Fin 2 → IVec S16 32) a x).toNat < S256x128.size a := fun i k0_t2 k0_t4 v140 v994 v1002 k0_hw245 k0_h3 => k0_hw245.1 k0_h3
theorem k0_idx441_inb : ∀ (i : grid0.Coords) (k0_t2 : Fin (k0_t2_loop i).trips) (k0_t4 : Fin (k0_t4_loop i k0_t2).trips) (v140 : BitVec 32) (v994 : IVec S16 32) (v1002 : IVec S16 32) (k0_hw245 : k0_chk245 i k0_t2 k0_t4 v140 v994 v1002), ∀ (k0_h3 : ¬(k0_cond3 v140 = 1#1)), ∀ a x, ((![v994, v1002] : Fin 2 → IVec S16 32) a x).toNat < S256x128.size a := fun i k0_t2 k0_t4 v140 v994 v1002 k0_hw245 k0_h3 => k0_hw245.2 k0_h3

def k0_chk246 (i : grid0.Coords) (k0_t2 : Fin (k0_t2_loop i).trips) (k0_t4 : Fin (k0_t4_loop i k0_t2).trips) (v140 : BitVec 32) (v994 : IVec S16 32) (v1004 : IVec S16 32) : Prop :=
  (∀ (k0_h3 : ¬(k0_cond3 v140 = 1#1)), ∀ a x, ((![v994, v1004] : Fin 2 → IVec S16 32) a x).toNat < S256x128.size a) ∧
  (∀ (k0_h3 : ¬(k0_cond3 v140 = 1#1)), ∀ a x, ((![v994, v1004] : Fin 2 → IVec S16 32) a x).toNat < S256x128.size a)
theorem k0_idx442_inb : ∀ (i : grid0.Coords) (k0_t2 : Fin (k0_t2_loop i).trips) (k0_t4 : Fin (k0_t4_loop i k0_t2).trips) (v140 : BitVec 32) (v994 : IVec S16 32) (v1004 : IVec S16 32) (k0_hw246 : k0_chk246 i k0_t2 k0_t4 v140 v994 v1004), ∀ (k0_h3 : ¬(k0_cond3 v140 = 1#1)), ∀ a x, ((![v994, v1004] : Fin 2 → IVec S16 32) a x).toNat < S256x128.size a := fun i k0_t2 k0_t4 v140 v994 v1004 k0_hw246 k0_h3 => k0_hw246.1 k0_h3
theorem k0_idx443_inb : ∀ (i : grid0.Coords) (k0_t2 : Fin (k0_t2_loop i).trips) (k0_t4 : Fin (k0_t4_loop i k0_t2).trips) (v140 : BitVec 32) (v994 : IVec S16 32) (v1004 : IVec S16 32) (k0_hw246 : k0_chk246 i k0_t2 k0_t4 v140 v994 v1004), ∀ (k0_h3 : ¬(k0_cond3 v140 = 1#1)), ∀ a x, ((![v994, v1004] : Fin 2 → IVec S16 32) a x).toNat < S256x128.size a := fun i k0_t2 k0_t4 v140 v994 v1004 k0_hw246 k0_h3 => k0_hw246.2 k0_h3

def k0_chk247 (i : grid0.Coords) (k0_t2 : Fin (k0_t2_loop i).trips) (k0_t4 : Fin (k0_t4_loop i k0_t2).trips) (v140 : BitVec 32) (v994 : IVec S16 32) (v1006 : IVec S16 32) : Prop :=
  (∀ (k0_h3 : ¬(k0_cond3 v140 = 1#1)), ∀ a x, ((![v994, v1006] : Fin 2 → IVec S16 32) a x).toNat < S256x128.size a) ∧
  (∀ (k0_h3 : ¬(k0_cond3 v140 = 1#1)), ∀ a x, ((![v994, v1006] : Fin 2 → IVec S16 32) a x).toNat < S256x128.size a)
theorem k0_idx444_inb : ∀ (i : grid0.Coords) (k0_t2 : Fin (k0_t2_loop i).trips) (k0_t4 : Fin (k0_t4_loop i k0_t2).trips) (v140 : BitVec 32) (v994 : IVec S16 32) (v1006 : IVec S16 32) (k0_hw247 : k0_chk247 i k0_t2 k0_t4 v140 v994 v1006), ∀ (k0_h3 : ¬(k0_cond3 v140 = 1#1)), ∀ a x, ((![v994, v1006] : Fin 2 → IVec S16 32) a x).toNat < S256x128.size a := fun i k0_t2 k0_t4 v140 v994 v1006 k0_hw247 k0_h3 => k0_hw247.1 k0_h3
theorem k0_idx445_inb : ∀ (i : grid0.Coords) (k0_t2 : Fin (k0_t2_loop i).trips) (k0_t4 : Fin (k0_t4_loop i k0_t2).trips) (v140 : BitVec 32) (v994 : IVec S16 32) (v1006 : IVec S16 32) (k0_hw247 : k0_chk247 i k0_t2 k0_t4 v140 v994 v1006), ∀ (k0_h3 : ¬(k0_cond3 v140 = 1#1)), ∀ a x, ((![v994, v1006] : Fin 2 → IVec S16 32) a x).toNat < S256x128.size a := fun i k0_t2 k0_t4 v140 v994 v1006 k0_hw247 k0_h3 => k0_hw247.2 k0_h3

def k0_chk248 (i : grid0.Coords) (k0_t2 : Fin (k0_t2_loop i).trips) (k0_t4 : Fin (k0_t4_loop i k0_t2).trips) (v140 : BitVec 32) (v994 : IVec S16 32) (v1008 : IVec S16 32) : Prop :=
  (∀ (k0_h3 : ¬(k0_cond3 v140 = 1#1)), ∀ a x, ((![v994, v1008] : Fin 2 → IVec S16 32) a x).toNat < S256x128.size a) ∧
  (∀ (k0_h3 : ¬(k0_cond3 v140 = 1#1)), ∀ a x, ((![v994, v1008] : Fin 2 → IVec S16 32) a x).toNat < S256x128.size a)
theorem k0_idx446_inb : ∀ (i : grid0.Coords) (k0_t2 : Fin (k0_t2_loop i).trips) (k0_t4 : Fin (k0_t4_loop i k0_t2).trips) (v140 : BitVec 32) (v994 : IVec S16 32) (v1008 : IVec S16 32) (k0_hw248 : k0_chk248 i k0_t2 k0_t4 v140 v994 v1008), ∀ (k0_h3 : ¬(k0_cond3 v140 = 1#1)), ∀ a x, ((![v994, v1008] : Fin 2 → IVec S16 32) a x).toNat < S256x128.size a := fun i k0_t2 k0_t4 v140 v994 v1008 k0_hw248 k0_h3 => k0_hw248.1 k0_h3
theorem k0_idx447_inb : ∀ (i : grid0.Coords) (k0_t2 : Fin (k0_t2_loop i).trips) (k0_t4 : Fin (k0_t4_loop i k0_t2).trips) (v140 : BitVec 32) (v994 : IVec S16 32) (v1008 : IVec S16 32) (k0_hw248 : k0_chk248 i k0_t2 k0_t4 v140 v994 v1008), ∀ (k0_h3 : ¬(k0_cond3 v140 = 1#1)), ∀ a x, ((![v994, v1008] : Fin 2 → IVec S16 32) a x).toNat < S256x128.size a := fun i k0_t2 k0_t4 v140 v994 v1008 k0_hw248 k0_h3 => k0_hw248.2 k0_h3

def k0_chk249 (i : grid0.Coords) (k0_t2 : Fin (k0_t2_loop i).trips) (k0_t4 : Fin (k0_t4_loop i k0_t2).trips) (v140 : BitVec 32) (v994 : IVec S16 32) (v1010 : IVec S16 32) : Prop :=
  (∀ (k0_h3 : ¬(k0_cond3 v140 = 1#1)), ∀ a x, ((![v994, v1010] : Fin 2 → IVec S16 32) a x).toNat < S256x128.size a) ∧
  (∀ (k0_h3 : ¬(k0_cond3 v140 = 1#1)), ∀ a x, ((![v994, v1010] : Fin 2 → IVec S16 32) a x).toNat < S256x128.size a)
theorem k0_idx448_inb : ∀ (i : grid0.Coords) (k0_t2 : Fin (k0_t2_loop i).trips) (k0_t4 : Fin (k0_t4_loop i k0_t2).trips) (v140 : BitVec 32) (v994 : IVec S16 32) (v1010 : IVec S16 32) (k0_hw249 : k0_chk249 i k0_t2 k0_t4 v140 v994 v1010), ∀ (k0_h3 : ¬(k0_cond3 v140 = 1#1)), ∀ a x, ((![v994, v1010] : Fin 2 → IVec S16 32) a x).toNat < S256x128.size a := fun i k0_t2 k0_t4 v140 v994 v1010 k0_hw249 k0_h3 => k0_hw249.1 k0_h3
theorem k0_idx449_inb : ∀ (i : grid0.Coords) (k0_t2 : Fin (k0_t2_loop i).trips) (k0_t4 : Fin (k0_t4_loop i k0_t2).trips) (v140 : BitVec 32) (v994 : IVec S16 32) (v1010 : IVec S16 32) (k0_hw249 : k0_chk249 i k0_t2 k0_t4 v140 v994 v1010), ∀ (k0_h3 : ¬(k0_cond3 v140 = 1#1)), ∀ a x, ((![v994, v1010] : Fin 2 → IVec S16 32) a x).toNat < S256x128.size a := fun i k0_t2 k0_t4 v140 v994 v1010 k0_hw249 k0_h3 => k0_hw249.2 k0_h3

def k0_chk250 (i : grid0.Coords) (v2 : IVec S16 32) (k0_t2 : Fin (k0_t2_loop i).trips) (k0_t4 : Fin (k0_t4_loop i k0_t2).trips) (v140 : BitVec 32) (v994 : IVec S16 32) : Prop :=
  (∀ (k0_h3 : ¬(k0_cond3 v140 = 1#1)), ∀ a x, ((![v994, v2] : Fin 2 → IVec S16 32) a x).toNat < S256x16.size a)
theorem k0_idx450_inb : ∀ (i : grid0.Coords) (v2 : IVec S16 32) (k0_t2 : Fin (k0_t2_loop i).trips) (k0_t4 : Fin (k0_t4_loop i k0_t2).trips) (v140 : BitVec 32) (v994 : IVec S16 32) (k0_hw250 : k0_chk250 i v2 k0_t2 k0_t4 v140 v994), ∀ (k0_h3 : ¬(k0_cond3 v140 = 1#1)), ∀ a x, ((![v994, v2] : Fin 2 → IVec S16 32) a x).toNat < S256x16.size a := fun i v2 k0_t2 k0_t4 v140 v994 k0_hw250 k0_h3 => k0_hw250 k0_h3

def k0_chk251 (i : grid0.Coords) (k0_t2 : Fin (k0_t2_loop i).trips) (k0_t4 : Fin (k0_t4_loop i k0_t2).trips) (v140 : BitVec 32) (v1055 : IVec S16 32) : Prop :=
  (∀ (k0_h3 : ¬(k0_cond3 v140 = 1#1)), ∀ a x, ((![v1055] : Fin 1 → IVec S16 32) a x).toNat < S3136.size a)
theorem k0_idx451_inb : ∀ (i : grid0.Coords) (k0_t2 : Fin (k0_t2_loop i).trips) (k0_t4 : Fin (k0_t4_loop i k0_t2).trips) (v140 : BitVec 32) (v1055 : IVec S16 32) (k0_hw251 : k0_chk251 i k0_t2 k0_t4 v140 v1055), ∀ (k0_h3 : ¬(k0_cond3 v140 = 1#1)), ∀ a x, ((![v1055] : Fin 1 → IVec S16 32) a x).toNat < S3136.size a := fun i k0_t2 k0_t4 v140 v1055 k0_hw251 k0_h3 => k0_hw251 k0_h3
def k0_off228 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1058 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c9_i32_333 : BitVec 32 := 9#32
  let v1057 : BitVec 32 := Scalar.addi v126 c9_i32_333
  let v1059 : Index := Scalar.indexCast v1057
  let c0_334 : Index := 0#32
  ![v1058.toNat, v1059.toNat, 0]
def k0_off229 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1062 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c9_i32_335 : BitVec 32 := 9#32
  let v1061 : BitVec 32 := Scalar.addi v126 c9_i32_335
  let v1063 : Index := Scalar.indexCast v1061
  let c16_336 : Index := 16#32
  ![v1062.toNat, v1063.toNat, 16]
def k0_off230 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1066 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c9_i32_337 : BitVec 32 := 9#32
  let v1065 : BitVec 32 := Scalar.addi v126 c9_i32_337
  let v1067 : Index := Scalar.indexCast v1065
  let c32_338 : Index := 32#32
  ![v1066.toNat, v1067.toNat, 32]
def k0_off231 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1070 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c9_i32_339 : BitVec 32 := 9#32
  let v1069 : BitVec 32 := Scalar.addi v126 c9_i32_339
  let v1071 : Index := Scalar.indexCast v1069
  let c48_340 : Index := 48#32
  ![v1070.toNat, v1071.toNat, 48]
def k0_off232 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1074 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c9_i32_341 : BitVec 32 := 9#32
  let v1073 : BitVec 32 := Scalar.addi v126 c9_i32_341
  let v1075 : Index := Scalar.indexCast v1073
  let c64_342 : Index := 64#32
  ![v1074.toNat, v1075.toNat, 64]
def k0_off233 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1078 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c9_i32_343 : BitVec 32 := 9#32
  let v1077 : BitVec 32 := Scalar.addi v126 c9_i32_343
  let v1079 : Index := Scalar.indexCast v1077
  let c80_344 : Index := 80#32
  ![v1078.toNat, v1079.toNat, 80]
def k0_off234 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1082 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c9_i32_345 : BitVec 32 := 9#32
  let v1081 : BitVec 32 := Scalar.addi v126 c9_i32_345
  let v1083 : Index := Scalar.indexCast v1081
  let c96_346 : Index := 96#32
  ![v1082.toNat, v1083.toNat, 96]
def k0_off235 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1086 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c9_i32_347 : BitVec 32 := 9#32
  let v1085 : BitVec 32 := Scalar.addi v126 c9_i32_347
  let v1087 : Index := Scalar.indexCast v1085
  let c112_348 : Index := 112#32
  ![v1086.toNat, v1087.toNat, 112]

def k0_chk252 (i : grid0.Coords) (k0_t2 : Fin (k0_t2_loop i).trips) (k0_t4 : Fin (k0_t4_loop i k0_t2).trips) (v140 : BitVec 32) (v1095 : IVec S16 32) (v1097 : IVec S16 32) : Prop :=
  (∀ (k0_h3 : ¬(k0_cond3 v140 = 1#1)), ∀ a x, ((![v1095, v1097] : Fin 2 → IVec S16 32) a x).toNat < S256x128.size a) ∧
  (∀ (k0_h3 : ¬(k0_cond3 v140 = 1#1)), ∀ a x, ((![v1095, v1097] : Fin 2 → IVec S16 32) a x).toNat < S256x128.size a)
theorem k0_idx452_inb : ∀ (i : grid0.Coords) (k0_t2 : Fin (k0_t2_loop i).trips) (k0_t4 : Fin (k0_t4_loop i k0_t2).trips) (v140 : BitVec 32) (v1095 : IVec S16 32) (v1097 : IVec S16 32) (k0_hw252 : k0_chk252 i k0_t2 k0_t4 v140 v1095 v1097), ∀ (k0_h3 : ¬(k0_cond3 v140 = 1#1)), ∀ a x, ((![v1095, v1097] : Fin 2 → IVec S16 32) a x).toNat < S256x128.size a := fun i k0_t2 k0_t4 v140 v1095 v1097 k0_hw252 k0_h3 => k0_hw252.1 k0_h3
theorem k0_idx453_inb : ∀ (i : grid0.Coords) (k0_t2 : Fin (k0_t2_loop i).trips) (k0_t4 : Fin (k0_t4_loop i k0_t2).trips) (v140 : BitVec 32) (v1095 : IVec S16 32) (v1097 : IVec S16 32) (k0_hw252 : k0_chk252 i k0_t2 k0_t4 v140 v1095 v1097), ∀ (k0_h3 : ¬(k0_cond3 v140 = 1#1)), ∀ a x, ((![v1095, v1097] : Fin 2 → IVec S16 32) a x).toNat < S256x128.size a := fun i k0_t2 k0_t4 v140 v1095 v1097 k0_hw252 k0_h3 => k0_hw252.2 k0_h3

def k0_chk253 (i : grid0.Coords) (k0_t2 : Fin (k0_t2_loop i).trips) (k0_t4 : Fin (k0_t4_loop i k0_t2).trips) (v140 : BitVec 32) (v1095 : IVec S16 32) (v1099 : IVec S16 32) : Prop :=
  (∀ (k0_h3 : ¬(k0_cond3 v140 = 1#1)), ∀ a x, ((![v1095, v1099] : Fin 2 → IVec S16 32) a x).toNat < S256x128.size a) ∧
  (∀ (k0_h3 : ¬(k0_cond3 v140 = 1#1)), ∀ a x, ((![v1095, v1099] : Fin 2 → IVec S16 32) a x).toNat < S256x128.size a)
theorem k0_idx454_inb : ∀ (i : grid0.Coords) (k0_t2 : Fin (k0_t2_loop i).trips) (k0_t4 : Fin (k0_t4_loop i k0_t2).trips) (v140 : BitVec 32) (v1095 : IVec S16 32) (v1099 : IVec S16 32) (k0_hw253 : k0_chk253 i k0_t2 k0_t4 v140 v1095 v1099), ∀ (k0_h3 : ¬(k0_cond3 v140 = 1#1)), ∀ a x, ((![v1095, v1099] : Fin 2 → IVec S16 32) a x).toNat < S256x128.size a := fun i k0_t2 k0_t4 v140 v1095 v1099 k0_hw253 k0_h3 => k0_hw253.1 k0_h3
theorem k0_idx455_inb : ∀ (i : grid0.Coords) (k0_t2 : Fin (k0_t2_loop i).trips) (k0_t4 : Fin (k0_t4_loop i k0_t2).trips) (v140 : BitVec 32) (v1095 : IVec S16 32) (v1099 : IVec S16 32) (k0_hw253 : k0_chk253 i k0_t2 k0_t4 v140 v1095 v1099), ∀ (k0_h3 : ¬(k0_cond3 v140 = 1#1)), ∀ a x, ((![v1095, v1099] : Fin 2 → IVec S16 32) a x).toNat < S256x128.size a := fun i k0_t2 k0_t4 v140 v1095 v1099 k0_hw253 k0_h3 => k0_hw253.2 k0_h3

def k0_chk254 (i : grid0.Coords) (k0_t2 : Fin (k0_t2_loop i).trips) (k0_t4 : Fin (k0_t4_loop i k0_t2).trips) (v140 : BitVec 32) (v1095 : IVec S16 32) (v1101 : IVec S16 32) : Prop :=
  (∀ (k0_h3 : ¬(k0_cond3 v140 = 1#1)), ∀ a x, ((![v1095, v1101] : Fin 2 → IVec S16 32) a x).toNat < S256x128.size a) ∧
  (∀ (k0_h3 : ¬(k0_cond3 v140 = 1#1)), ∀ a x, ((![v1095, v1101] : Fin 2 → IVec S16 32) a x).toNat < S256x128.size a)
theorem k0_idx456_inb : ∀ (i : grid0.Coords) (k0_t2 : Fin (k0_t2_loop i).trips) (k0_t4 : Fin (k0_t4_loop i k0_t2).trips) (v140 : BitVec 32) (v1095 : IVec S16 32) (v1101 : IVec S16 32) (k0_hw254 : k0_chk254 i k0_t2 k0_t4 v140 v1095 v1101), ∀ (k0_h3 : ¬(k0_cond3 v140 = 1#1)), ∀ a x, ((![v1095, v1101] : Fin 2 → IVec S16 32) a x).toNat < S256x128.size a := fun i k0_t2 k0_t4 v140 v1095 v1101 k0_hw254 k0_h3 => k0_hw254.1 k0_h3
theorem k0_idx457_inb : ∀ (i : grid0.Coords) (k0_t2 : Fin (k0_t2_loop i).trips) (k0_t4 : Fin (k0_t4_loop i k0_t2).trips) (v140 : BitVec 32) (v1095 : IVec S16 32) (v1101 : IVec S16 32) (k0_hw254 : k0_chk254 i k0_t2 k0_t4 v140 v1095 v1101), ∀ (k0_h3 : ¬(k0_cond3 v140 = 1#1)), ∀ a x, ((![v1095, v1101] : Fin 2 → IVec S16 32) a x).toNat < S256x128.size a := fun i k0_t2 k0_t4 v140 v1095 v1101 k0_hw254 k0_h3 => k0_hw254.2 k0_h3

def k0_chk255 (i : grid0.Coords) (k0_t2 : Fin (k0_t2_loop i).trips) (k0_t4 : Fin (k0_t4_loop i k0_t2).trips) (v140 : BitVec 32) (v1095 : IVec S16 32) (v1103 : IVec S16 32) : Prop :=
  (∀ (k0_h3 : ¬(k0_cond3 v140 = 1#1)), ∀ a x, ((![v1095, v1103] : Fin 2 → IVec S16 32) a x).toNat < S256x128.size a) ∧
  (∀ (k0_h3 : ¬(k0_cond3 v140 = 1#1)), ∀ a x, ((![v1095, v1103] : Fin 2 → IVec S16 32) a x).toNat < S256x128.size a)
theorem k0_idx458_inb : ∀ (i : grid0.Coords) (k0_t2 : Fin (k0_t2_loop i).trips) (k0_t4 : Fin (k0_t4_loop i k0_t2).trips) (v140 : BitVec 32) (v1095 : IVec S16 32) (v1103 : IVec S16 32) (k0_hw255 : k0_chk255 i k0_t2 k0_t4 v140 v1095 v1103), ∀ (k0_h3 : ¬(k0_cond3 v140 = 1#1)), ∀ a x, ((![v1095, v1103] : Fin 2 → IVec S16 32) a x).toNat < S256x128.size a := fun i k0_t2 k0_t4 v140 v1095 v1103 k0_hw255 k0_h3 => k0_hw255.1 k0_h3
theorem k0_idx459_inb : ∀ (i : grid0.Coords) (k0_t2 : Fin (k0_t2_loop i).trips) (k0_t4 : Fin (k0_t4_loop i k0_t2).trips) (v140 : BitVec 32) (v1095 : IVec S16 32) (v1103 : IVec S16 32) (k0_hw255 : k0_chk255 i k0_t2 k0_t4 v140 v1095 v1103), ∀ (k0_h3 : ¬(k0_cond3 v140 = 1#1)), ∀ a x, ((![v1095, v1103] : Fin 2 → IVec S16 32) a x).toNat < S256x128.size a := fun i k0_t2 k0_t4 v140 v1095 v1103 k0_hw255 k0_h3 => k0_hw255.2 k0_h3

def k0_chk256 (i : grid0.Coords) (k0_t2 : Fin (k0_t2_loop i).trips) (k0_t4 : Fin (k0_t4_loop i k0_t2).trips) (v140 : BitVec 32) (v1095 : IVec S16 32) (v1105 : IVec S16 32) : Prop :=
  (∀ (k0_h3 : ¬(k0_cond3 v140 = 1#1)), ∀ a x, ((![v1095, v1105] : Fin 2 → IVec S16 32) a x).toNat < S256x128.size a) ∧
  (∀ (k0_h3 : ¬(k0_cond3 v140 = 1#1)), ∀ a x, ((![v1095, v1105] : Fin 2 → IVec S16 32) a x).toNat < S256x128.size a)
theorem k0_idx460_inb : ∀ (i : grid0.Coords) (k0_t2 : Fin (k0_t2_loop i).trips) (k0_t4 : Fin (k0_t4_loop i k0_t2).trips) (v140 : BitVec 32) (v1095 : IVec S16 32) (v1105 : IVec S16 32) (k0_hw256 : k0_chk256 i k0_t2 k0_t4 v140 v1095 v1105), ∀ (k0_h3 : ¬(k0_cond3 v140 = 1#1)), ∀ a x, ((![v1095, v1105] : Fin 2 → IVec S16 32) a x).toNat < S256x128.size a := fun i k0_t2 k0_t4 v140 v1095 v1105 k0_hw256 k0_h3 => k0_hw256.1 k0_h3
theorem k0_idx461_inb : ∀ (i : grid0.Coords) (k0_t2 : Fin (k0_t2_loop i).trips) (k0_t4 : Fin (k0_t4_loop i k0_t2).trips) (v140 : BitVec 32) (v1095 : IVec S16 32) (v1105 : IVec S16 32) (k0_hw256 : k0_chk256 i k0_t2 k0_t4 v140 v1095 v1105), ∀ (k0_h3 : ¬(k0_cond3 v140 = 1#1)), ∀ a x, ((![v1095, v1105] : Fin 2 → IVec S16 32) a x).toNat < S256x128.size a := fun i k0_t2 k0_t4 v140 v1095 v1105 k0_hw256 k0_h3 => k0_hw256.2 k0_h3

def k0_chk257 (i : grid0.Coords) (k0_t2 : Fin (k0_t2_loop i).trips) (k0_t4 : Fin (k0_t4_loop i k0_t2).trips) (v140 : BitVec 32) (v1095 : IVec S16 32) (v1107 : IVec S16 32) : Prop :=
  (∀ (k0_h3 : ¬(k0_cond3 v140 = 1#1)), ∀ a x, ((![v1095, v1107] : Fin 2 → IVec S16 32) a x).toNat < S256x128.size a) ∧
  (∀ (k0_h3 : ¬(k0_cond3 v140 = 1#1)), ∀ a x, ((![v1095, v1107] : Fin 2 → IVec S16 32) a x).toNat < S256x128.size a)
theorem k0_idx462_inb : ∀ (i : grid0.Coords) (k0_t2 : Fin (k0_t2_loop i).trips) (k0_t4 : Fin (k0_t4_loop i k0_t2).trips) (v140 : BitVec 32) (v1095 : IVec S16 32) (v1107 : IVec S16 32) (k0_hw257 : k0_chk257 i k0_t2 k0_t4 v140 v1095 v1107), ∀ (k0_h3 : ¬(k0_cond3 v140 = 1#1)), ∀ a x, ((![v1095, v1107] : Fin 2 → IVec S16 32) a x).toNat < S256x128.size a := fun i k0_t2 k0_t4 v140 v1095 v1107 k0_hw257 k0_h3 => k0_hw257.1 k0_h3
theorem k0_idx463_inb : ∀ (i : grid0.Coords) (k0_t2 : Fin (k0_t2_loop i).trips) (k0_t4 : Fin (k0_t4_loop i k0_t2).trips) (v140 : BitVec 32) (v1095 : IVec S16 32) (v1107 : IVec S16 32) (k0_hw257 : k0_chk257 i k0_t2 k0_t4 v140 v1095 v1107), ∀ (k0_h3 : ¬(k0_cond3 v140 = 1#1)), ∀ a x, ((![v1095, v1107] : Fin 2 → IVec S16 32) a x).toNat < S256x128.size a := fun i k0_t2 k0_t4 v140 v1095 v1107 k0_hw257 k0_h3 => k0_hw257.2 k0_h3

def k0_chk258 (i : grid0.Coords) (k0_t2 : Fin (k0_t2_loop i).trips) (k0_t4 : Fin (k0_t4_loop i k0_t2).trips) (v140 : BitVec 32) (v1095 : IVec S16 32) (v1109 : IVec S16 32) : Prop :=
  (∀ (k0_h3 : ¬(k0_cond3 v140 = 1#1)), ∀ a x, ((![v1095, v1109] : Fin 2 → IVec S16 32) a x).toNat < S256x128.size a) ∧
  (∀ (k0_h3 : ¬(k0_cond3 v140 = 1#1)), ∀ a x, ((![v1095, v1109] : Fin 2 → IVec S16 32) a x).toNat < S256x128.size a)
theorem k0_idx464_inb : ∀ (i : grid0.Coords) (k0_t2 : Fin (k0_t2_loop i).trips) (k0_t4 : Fin (k0_t4_loop i k0_t2).trips) (v140 : BitVec 32) (v1095 : IVec S16 32) (v1109 : IVec S16 32) (k0_hw258 : k0_chk258 i k0_t2 k0_t4 v140 v1095 v1109), ∀ (k0_h3 : ¬(k0_cond3 v140 = 1#1)), ∀ a x, ((![v1095, v1109] : Fin 2 → IVec S16 32) a x).toNat < S256x128.size a := fun i k0_t2 k0_t4 v140 v1095 v1109 k0_hw258 k0_h3 => k0_hw258.1 k0_h3
theorem k0_idx465_inb : ∀ (i : grid0.Coords) (k0_t2 : Fin (k0_t2_loop i).trips) (k0_t4 : Fin (k0_t4_loop i k0_t2).trips) (v140 : BitVec 32) (v1095 : IVec S16 32) (v1109 : IVec S16 32) (k0_hw258 : k0_chk258 i k0_t2 k0_t4 v140 v1095 v1109), ∀ (k0_h3 : ¬(k0_cond3 v140 = 1#1)), ∀ a x, ((![v1095, v1109] : Fin 2 → IVec S16 32) a x).toNat < S256x128.size a := fun i k0_t2 k0_t4 v140 v1095 v1109 k0_hw258 k0_h3 => k0_hw258.2 k0_h3

def k0_chk259 (i : grid0.Coords) (k0_t2 : Fin (k0_t2_loop i).trips) (k0_t4 : Fin (k0_t4_loop i k0_t2).trips) (v140 : BitVec 32) (v1095 : IVec S16 32) (v1111 : IVec S16 32) : Prop :=
  (∀ (k0_h3 : ¬(k0_cond3 v140 = 1#1)), ∀ a x, ((![v1095, v1111] : Fin 2 → IVec S16 32) a x).toNat < S256x128.size a) ∧
  (∀ (k0_h3 : ¬(k0_cond3 v140 = 1#1)), ∀ a x, ((![v1095, v1111] : Fin 2 → IVec S16 32) a x).toNat < S256x128.size a)
theorem k0_idx466_inb : ∀ (i : grid0.Coords) (k0_t2 : Fin (k0_t2_loop i).trips) (k0_t4 : Fin (k0_t4_loop i k0_t2).trips) (v140 : BitVec 32) (v1095 : IVec S16 32) (v1111 : IVec S16 32) (k0_hw259 : k0_chk259 i k0_t2 k0_t4 v140 v1095 v1111), ∀ (k0_h3 : ¬(k0_cond3 v140 = 1#1)), ∀ a x, ((![v1095, v1111] : Fin 2 → IVec S16 32) a x).toNat < S256x128.size a := fun i k0_t2 k0_t4 v140 v1095 v1111 k0_hw259 k0_h3 => k0_hw259.1 k0_h3
theorem k0_idx467_inb : ∀ (i : grid0.Coords) (k0_t2 : Fin (k0_t2_loop i).trips) (k0_t4 : Fin (k0_t4_loop i k0_t2).trips) (v140 : BitVec 32) (v1095 : IVec S16 32) (v1111 : IVec S16 32) (k0_hw259 : k0_chk259 i k0_t2 k0_t4 v140 v1095 v1111), ∀ (k0_h3 : ¬(k0_cond3 v140 = 1#1)), ∀ a x, ((![v1095, v1111] : Fin 2 → IVec S16 32) a x).toNat < S256x128.size a := fun i k0_t2 k0_t4 v140 v1095 v1111 k0_hw259 k0_h3 => k0_hw259.2 k0_h3

def k0_chk260 (i : grid0.Coords) (v2 : IVec S16 32) (k0_t2 : Fin (k0_t2_loop i).trips) (k0_t4 : Fin (k0_t4_loop i k0_t2).trips) (v140 : BitVec 32) (v1095 : IVec S16 32) : Prop :=
  (∀ (k0_h3 : ¬(k0_cond3 v140 = 1#1)), ∀ a x, ((![v1095, v2] : Fin 2 → IVec S16 32) a x).toNat < S256x16.size a)
theorem k0_idx468_inb : ∀ (i : grid0.Coords) (v2 : IVec S16 32) (k0_t2 : Fin (k0_t2_loop i).trips) (k0_t4 : Fin (k0_t4_loop i k0_t2).trips) (v140 : BitVec 32) (v1095 : IVec S16 32) (k0_hw260 : k0_chk260 i v2 k0_t2 k0_t4 v140 v1095), ∀ (k0_h3 : ¬(k0_cond3 v140 = 1#1)), ∀ a x, ((![v1095, v2] : Fin 2 → IVec S16 32) a x).toNat < S256x16.size a := fun i v2 k0_t2 k0_t4 v140 v1095 k0_hw260 k0_h3 => k0_hw260 k0_h3

def k0_chk261 (i : grid0.Coords) (k0_t2 : Fin (k0_t2_loop i).trips) (k0_t4 : Fin (k0_t4_loop i k0_t2).trips) (v140 : BitVec 32) (v1156 : IVec S16 32) : Prop :=
  (∀ (k0_h3 : ¬(k0_cond3 v140 = 1#1)), ∀ a x, ((![v1156] : Fin 1 → IVec S16 32) a x).toNat < S3136.size a)
theorem k0_idx469_inb : ∀ (i : grid0.Coords) (k0_t2 : Fin (k0_t2_loop i).trips) (k0_t4 : Fin (k0_t4_loop i k0_t2).trips) (v140 : BitVec 32) (v1156 : IVec S16 32) (k0_hw261 : k0_chk261 i k0_t2 k0_t4 v140 v1156), ∀ (k0_h3 : ¬(k0_cond3 v140 = 1#1)), ∀ a x, ((![v1156] : Fin 1 → IVec S16 32) a x).toNat < S3136.size a := fun i k0_t2 k0_t4 v140 v1156 k0_hw261 k0_h3 => k0_hw261 k0_h3
def k0_off236 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1159 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c10_i32_363 : BitVec 32 := 10#32
  let v1158 : BitVec 32 := Scalar.addi v126 c10_i32_363
  let v1160 : Index := Scalar.indexCast v1158
  let c0_364 : Index := 0#32
  ![v1159.toNat, v1160.toNat, 0]
def k0_off237 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1163 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c10_i32_365 : BitVec 32 := 10#32
  let v1162 : BitVec 32 := Scalar.addi v126 c10_i32_365
  let v1164 : Index := Scalar.indexCast v1162
  let c16_366 : Index := 16#32
  ![v1163.toNat, v1164.toNat, 16]
def k0_off238 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1167 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c10_i32_367 : BitVec 32 := 10#32
  let v1166 : BitVec 32 := Scalar.addi v126 c10_i32_367
  let v1168 : Index := Scalar.indexCast v1166
  let c32_368 : Index := 32#32
  ![v1167.toNat, v1168.toNat, 32]
def k0_off239 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1171 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c10_i32_369 : BitVec 32 := 10#32
  let v1170 : BitVec 32 := Scalar.addi v126 c10_i32_369
  let v1172 : Index := Scalar.indexCast v1170
  let c48_370 : Index := 48#32
  ![v1171.toNat, v1172.toNat, 48]
def k0_off240 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1175 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c10_i32_371 : BitVec 32 := 10#32
  let v1174 : BitVec 32 := Scalar.addi v126 c10_i32_371
  let v1176 : Index := Scalar.indexCast v1174
  let c64_372 : Index := 64#32
  ![v1175.toNat, v1176.toNat, 64]
def k0_off241 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1179 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c10_i32_373 : BitVec 32 := 10#32
  let v1178 : BitVec 32 := Scalar.addi v126 c10_i32_373
  let v1180 : Index := Scalar.indexCast v1178
  let c80_374 : Index := 80#32
  ![v1179.toNat, v1180.toNat, 80]
def k0_off242 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1183 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c10_i32_375 : BitVec 32 := 10#32
  let v1182 : BitVec 32 := Scalar.addi v126 c10_i32_375
  let v1184 : Index := Scalar.indexCast v1182
  let c96_376 : Index := 96#32
  ![v1183.toNat, v1184.toNat, 96]
def k0_off243 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1187 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c10_i32_377 : BitVec 32 := 10#32
  let v1186 : BitVec 32 := Scalar.addi v126 c10_i32_377
  let v1188 : Index := Scalar.indexCast v1186
  let c112_378 : Index := 112#32
  ![v1187.toNat, v1188.toNat, 112]

def k0_chk262 (i : grid0.Coords) (k0_t2 : Fin (k0_t2_loop i).trips) (k0_t4 : Fin (k0_t4_loop i k0_t2).trips) (v140 : BitVec 32) (v1196 : IVec S16 32) (v1198 : IVec S16 32) : Prop :=
  (∀ (k0_h3 : ¬(k0_cond3 v140 = 1#1)), ∀ a x, ((![v1196, v1198] : Fin 2 → IVec S16 32) a x).toNat < S256x128.size a) ∧
  (∀ (k0_h3 : ¬(k0_cond3 v140 = 1#1)), ∀ a x, ((![v1196, v1198] : Fin 2 → IVec S16 32) a x).toNat < S256x128.size a)
theorem k0_idx470_inb : ∀ (i : grid0.Coords) (k0_t2 : Fin (k0_t2_loop i).trips) (k0_t4 : Fin (k0_t4_loop i k0_t2).trips) (v140 : BitVec 32) (v1196 : IVec S16 32) (v1198 : IVec S16 32) (k0_hw262 : k0_chk262 i k0_t2 k0_t4 v140 v1196 v1198), ∀ (k0_h3 : ¬(k0_cond3 v140 = 1#1)), ∀ a x, ((![v1196, v1198] : Fin 2 → IVec S16 32) a x).toNat < S256x128.size a := fun i k0_t2 k0_t4 v140 v1196 v1198 k0_hw262 k0_h3 => k0_hw262.1 k0_h3
theorem k0_idx471_inb : ∀ (i : grid0.Coords) (k0_t2 : Fin (k0_t2_loop i).trips) (k0_t4 : Fin (k0_t4_loop i k0_t2).trips) (v140 : BitVec 32) (v1196 : IVec S16 32) (v1198 : IVec S16 32) (k0_hw262 : k0_chk262 i k0_t2 k0_t4 v140 v1196 v1198), ∀ (k0_h3 : ¬(k0_cond3 v140 = 1#1)), ∀ a x, ((![v1196, v1198] : Fin 2 → IVec S16 32) a x).toNat < S256x128.size a := fun i k0_t2 k0_t4 v140 v1196 v1198 k0_hw262 k0_h3 => k0_hw262.2 k0_h3

def k0_chk263 (i : grid0.Coords) (k0_t2 : Fin (k0_t2_loop i).trips) (k0_t4 : Fin (k0_t4_loop i k0_t2).trips) (v140 : BitVec 32) (v1196 : IVec S16 32) (v1200 : IVec S16 32) : Prop :=
  (∀ (k0_h3 : ¬(k0_cond3 v140 = 1#1)), ∀ a x, ((![v1196, v1200] : Fin 2 → IVec S16 32) a x).toNat < S256x128.size a) ∧
  (∀ (k0_h3 : ¬(k0_cond3 v140 = 1#1)), ∀ a x, ((![v1196, v1200] : Fin 2 → IVec S16 32) a x).toNat < S256x128.size a)
theorem k0_idx472_inb : ∀ (i : grid0.Coords) (k0_t2 : Fin (k0_t2_loop i).trips) (k0_t4 : Fin (k0_t4_loop i k0_t2).trips) (v140 : BitVec 32) (v1196 : IVec S16 32) (v1200 : IVec S16 32) (k0_hw263 : k0_chk263 i k0_t2 k0_t4 v140 v1196 v1200), ∀ (k0_h3 : ¬(k0_cond3 v140 = 1#1)), ∀ a x, ((![v1196, v1200] : Fin 2 → IVec S16 32) a x).toNat < S256x128.size a := fun i k0_t2 k0_t4 v140 v1196 v1200 k0_hw263 k0_h3 => k0_hw263.1 k0_h3
theorem k0_idx473_inb : ∀ (i : grid0.Coords) (k0_t2 : Fin (k0_t2_loop i).trips) (k0_t4 : Fin (k0_t4_loop i k0_t2).trips) (v140 : BitVec 32) (v1196 : IVec S16 32) (v1200 : IVec S16 32) (k0_hw263 : k0_chk263 i k0_t2 k0_t4 v140 v1196 v1200), ∀ (k0_h3 : ¬(k0_cond3 v140 = 1#1)), ∀ a x, ((![v1196, v1200] : Fin 2 → IVec S16 32) a x).toNat < S256x128.size a := fun i k0_t2 k0_t4 v140 v1196 v1200 k0_hw263 k0_h3 => k0_hw263.2 k0_h3

def k0_chk264 (i : grid0.Coords) (k0_t2 : Fin (k0_t2_loop i).trips) (k0_t4 : Fin (k0_t4_loop i k0_t2).trips) (v140 : BitVec 32) (v1196 : IVec S16 32) (v1202 : IVec S16 32) : Prop :=
  (∀ (k0_h3 : ¬(k0_cond3 v140 = 1#1)), ∀ a x, ((![v1196, v1202] : Fin 2 → IVec S16 32) a x).toNat < S256x128.size a) ∧
  (∀ (k0_h3 : ¬(k0_cond3 v140 = 1#1)), ∀ a x, ((![v1196, v1202] : Fin 2 → IVec S16 32) a x).toNat < S256x128.size a)
theorem k0_idx474_inb : ∀ (i : grid0.Coords) (k0_t2 : Fin (k0_t2_loop i).trips) (k0_t4 : Fin (k0_t4_loop i k0_t2).trips) (v140 : BitVec 32) (v1196 : IVec S16 32) (v1202 : IVec S16 32) (k0_hw264 : k0_chk264 i k0_t2 k0_t4 v140 v1196 v1202), ∀ (k0_h3 : ¬(k0_cond3 v140 = 1#1)), ∀ a x, ((![v1196, v1202] : Fin 2 → IVec S16 32) a x).toNat < S256x128.size a := fun i k0_t2 k0_t4 v140 v1196 v1202 k0_hw264 k0_h3 => k0_hw264.1 k0_h3
theorem k0_idx475_inb : ∀ (i : grid0.Coords) (k0_t2 : Fin (k0_t2_loop i).trips) (k0_t4 : Fin (k0_t4_loop i k0_t2).trips) (v140 : BitVec 32) (v1196 : IVec S16 32) (v1202 : IVec S16 32) (k0_hw264 : k0_chk264 i k0_t2 k0_t4 v140 v1196 v1202), ∀ (k0_h3 : ¬(k0_cond3 v140 = 1#1)), ∀ a x, ((![v1196, v1202] : Fin 2 → IVec S16 32) a x).toNat < S256x128.size a := fun i k0_t2 k0_t4 v140 v1196 v1202 k0_hw264 k0_h3 => k0_hw264.2 k0_h3

def k0_chk265 (i : grid0.Coords) (k0_t2 : Fin (k0_t2_loop i).trips) (k0_t4 : Fin (k0_t4_loop i k0_t2).trips) (v140 : BitVec 32) (v1196 : IVec S16 32) (v1204 : IVec S16 32) : Prop :=
  (∀ (k0_h3 : ¬(k0_cond3 v140 = 1#1)), ∀ a x, ((![v1196, v1204] : Fin 2 → IVec S16 32) a x).toNat < S256x128.size a) ∧
  (∀ (k0_h3 : ¬(k0_cond3 v140 = 1#1)), ∀ a x, ((![v1196, v1204] : Fin 2 → IVec S16 32) a x).toNat < S256x128.size a)
theorem k0_idx476_inb : ∀ (i : grid0.Coords) (k0_t2 : Fin (k0_t2_loop i).trips) (k0_t4 : Fin (k0_t4_loop i k0_t2).trips) (v140 : BitVec 32) (v1196 : IVec S16 32) (v1204 : IVec S16 32) (k0_hw265 : k0_chk265 i k0_t2 k0_t4 v140 v1196 v1204), ∀ (k0_h3 : ¬(k0_cond3 v140 = 1#1)), ∀ a x, ((![v1196, v1204] : Fin 2 → IVec S16 32) a x).toNat < S256x128.size a := fun i k0_t2 k0_t4 v140 v1196 v1204 k0_hw265 k0_h3 => k0_hw265.1 k0_h3
theorem k0_idx477_inb : ∀ (i : grid0.Coords) (k0_t2 : Fin (k0_t2_loop i).trips) (k0_t4 : Fin (k0_t4_loop i k0_t2).trips) (v140 : BitVec 32) (v1196 : IVec S16 32) (v1204 : IVec S16 32) (k0_hw265 : k0_chk265 i k0_t2 k0_t4 v140 v1196 v1204), ∀ (k0_h3 : ¬(k0_cond3 v140 = 1#1)), ∀ a x, ((![v1196, v1204] : Fin 2 → IVec S16 32) a x).toNat < S256x128.size a := fun i k0_t2 k0_t4 v140 v1196 v1204 k0_hw265 k0_h3 => k0_hw265.2 k0_h3

def k0_chk266 (i : grid0.Coords) (k0_t2 : Fin (k0_t2_loop i).trips) (k0_t4 : Fin (k0_t4_loop i k0_t2).trips) (v140 : BitVec 32) (v1196 : IVec S16 32) (v1206 : IVec S16 32) : Prop :=
  (∀ (k0_h3 : ¬(k0_cond3 v140 = 1#1)), ∀ a x, ((![v1196, v1206] : Fin 2 → IVec S16 32) a x).toNat < S256x128.size a) ∧
  (∀ (k0_h3 : ¬(k0_cond3 v140 = 1#1)), ∀ a x, ((![v1196, v1206] : Fin 2 → IVec S16 32) a x).toNat < S256x128.size a)
theorem k0_idx478_inb : ∀ (i : grid0.Coords) (k0_t2 : Fin (k0_t2_loop i).trips) (k0_t4 : Fin (k0_t4_loop i k0_t2).trips) (v140 : BitVec 32) (v1196 : IVec S16 32) (v1206 : IVec S16 32) (k0_hw266 : k0_chk266 i k0_t2 k0_t4 v140 v1196 v1206), ∀ (k0_h3 : ¬(k0_cond3 v140 = 1#1)), ∀ a x, ((![v1196, v1206] : Fin 2 → IVec S16 32) a x).toNat < S256x128.size a := fun i k0_t2 k0_t4 v140 v1196 v1206 k0_hw266 k0_h3 => k0_hw266.1 k0_h3
theorem k0_idx479_inb : ∀ (i : grid0.Coords) (k0_t2 : Fin (k0_t2_loop i).trips) (k0_t4 : Fin (k0_t4_loop i k0_t2).trips) (v140 : BitVec 32) (v1196 : IVec S16 32) (v1206 : IVec S16 32) (k0_hw266 : k0_chk266 i k0_t2 k0_t4 v140 v1196 v1206), ∀ (k0_h3 : ¬(k0_cond3 v140 = 1#1)), ∀ a x, ((![v1196, v1206] : Fin 2 → IVec S16 32) a x).toNat < S256x128.size a := fun i k0_t2 k0_t4 v140 v1196 v1206 k0_hw266 k0_h3 => k0_hw266.2 k0_h3

def k0_chk267 (i : grid0.Coords) (k0_t2 : Fin (k0_t2_loop i).trips) (k0_t4 : Fin (k0_t4_loop i k0_t2).trips) (v140 : BitVec 32) (v1196 : IVec S16 32) (v1208 : IVec S16 32) : Prop :=
  (∀ (k0_h3 : ¬(k0_cond3 v140 = 1#1)), ∀ a x, ((![v1196, v1208] : Fin 2 → IVec S16 32) a x).toNat < S256x128.size a) ∧
  (∀ (k0_h3 : ¬(k0_cond3 v140 = 1#1)), ∀ a x, ((![v1196, v1208] : Fin 2 → IVec S16 32) a x).toNat < S256x128.size a)
theorem k0_idx480_inb : ∀ (i : grid0.Coords) (k0_t2 : Fin (k0_t2_loop i).trips) (k0_t4 : Fin (k0_t4_loop i k0_t2).trips) (v140 : BitVec 32) (v1196 : IVec S16 32) (v1208 : IVec S16 32) (k0_hw267 : k0_chk267 i k0_t2 k0_t4 v140 v1196 v1208), ∀ (k0_h3 : ¬(k0_cond3 v140 = 1#1)), ∀ a x, ((![v1196, v1208] : Fin 2 → IVec S16 32) a x).toNat < S256x128.size a := fun i k0_t2 k0_t4 v140 v1196 v1208 k0_hw267 k0_h3 => k0_hw267.1 k0_h3
theorem k0_idx481_inb : ∀ (i : grid0.Coords) (k0_t2 : Fin (k0_t2_loop i).trips) (k0_t4 : Fin (k0_t4_loop i k0_t2).trips) (v140 : BitVec 32) (v1196 : IVec S16 32) (v1208 : IVec S16 32) (k0_hw267 : k0_chk267 i k0_t2 k0_t4 v140 v1196 v1208), ∀ (k0_h3 : ¬(k0_cond3 v140 = 1#1)), ∀ a x, ((![v1196, v1208] : Fin 2 → IVec S16 32) a x).toNat < S256x128.size a := fun i k0_t2 k0_t4 v140 v1196 v1208 k0_hw267 k0_h3 => k0_hw267.2 k0_h3

def k0_chk268 (i : grid0.Coords) (k0_t2 : Fin (k0_t2_loop i).trips) (k0_t4 : Fin (k0_t4_loop i k0_t2).trips) (v140 : BitVec 32) (v1196 : IVec S16 32) (v1210 : IVec S16 32) : Prop :=
  (∀ (k0_h3 : ¬(k0_cond3 v140 = 1#1)), ∀ a x, ((![v1196, v1210] : Fin 2 → IVec S16 32) a x).toNat < S256x128.size a) ∧
  (∀ (k0_h3 : ¬(k0_cond3 v140 = 1#1)), ∀ a x, ((![v1196, v1210] : Fin 2 → IVec S16 32) a x).toNat < S256x128.size a)
theorem k0_idx482_inb : ∀ (i : grid0.Coords) (k0_t2 : Fin (k0_t2_loop i).trips) (k0_t4 : Fin (k0_t4_loop i k0_t2).trips) (v140 : BitVec 32) (v1196 : IVec S16 32) (v1210 : IVec S16 32) (k0_hw268 : k0_chk268 i k0_t2 k0_t4 v140 v1196 v1210), ∀ (k0_h3 : ¬(k0_cond3 v140 = 1#1)), ∀ a x, ((![v1196, v1210] : Fin 2 → IVec S16 32) a x).toNat < S256x128.size a := fun i k0_t2 k0_t4 v140 v1196 v1210 k0_hw268 k0_h3 => k0_hw268.1 k0_h3
theorem k0_idx483_inb : ∀ (i : grid0.Coords) (k0_t2 : Fin (k0_t2_loop i).trips) (k0_t4 : Fin (k0_t4_loop i k0_t2).trips) (v140 : BitVec 32) (v1196 : IVec S16 32) (v1210 : IVec S16 32) (k0_hw268 : k0_chk268 i k0_t2 k0_t4 v140 v1196 v1210), ∀ (k0_h3 : ¬(k0_cond3 v140 = 1#1)), ∀ a x, ((![v1196, v1210] : Fin 2 → IVec S16 32) a x).toNat < S256x128.size a := fun i k0_t2 k0_t4 v140 v1196 v1210 k0_hw268 k0_h3 => k0_hw268.2 k0_h3

def k0_chk269 (i : grid0.Coords) (k0_t2 : Fin (k0_t2_loop i).trips) (k0_t4 : Fin (k0_t4_loop i k0_t2).trips) (v140 : BitVec 32) (v1196 : IVec S16 32) (v1212 : IVec S16 32) : Prop :=
  (∀ (k0_h3 : ¬(k0_cond3 v140 = 1#1)), ∀ a x, ((![v1196, v1212] : Fin 2 → IVec S16 32) a x).toNat < S256x128.size a) ∧
  (∀ (k0_h3 : ¬(k0_cond3 v140 = 1#1)), ∀ a x, ((![v1196, v1212] : Fin 2 → IVec S16 32) a x).toNat < S256x128.size a)
theorem k0_idx484_inb : ∀ (i : grid0.Coords) (k0_t2 : Fin (k0_t2_loop i).trips) (k0_t4 : Fin (k0_t4_loop i k0_t2).trips) (v140 : BitVec 32) (v1196 : IVec S16 32) (v1212 : IVec S16 32) (k0_hw269 : k0_chk269 i k0_t2 k0_t4 v140 v1196 v1212), ∀ (k0_h3 : ¬(k0_cond3 v140 = 1#1)), ∀ a x, ((![v1196, v1212] : Fin 2 → IVec S16 32) a x).toNat < S256x128.size a := fun i k0_t2 k0_t4 v140 v1196 v1212 k0_hw269 k0_h3 => k0_hw269.1 k0_h3
theorem k0_idx485_inb : ∀ (i : grid0.Coords) (k0_t2 : Fin (k0_t2_loop i).trips) (k0_t4 : Fin (k0_t4_loop i k0_t2).trips) (v140 : BitVec 32) (v1196 : IVec S16 32) (v1212 : IVec S16 32) (k0_hw269 : k0_chk269 i k0_t2 k0_t4 v140 v1196 v1212), ∀ (k0_h3 : ¬(k0_cond3 v140 = 1#1)), ∀ a x, ((![v1196, v1212] : Fin 2 → IVec S16 32) a x).toNat < S256x128.size a := fun i k0_t2 k0_t4 v140 v1196 v1212 k0_hw269 k0_h3 => k0_hw269.2 k0_h3

def k0_chk270 (i : grid0.Coords) (v2 : IVec S16 32) (k0_t2 : Fin (k0_t2_loop i).trips) (k0_t4 : Fin (k0_t4_loop i k0_t2).trips) (v140 : BitVec 32) (v1196 : IVec S16 32) : Prop :=
  (∀ (k0_h3 : ¬(k0_cond3 v140 = 1#1)), ∀ a x, ((![v1196, v2] : Fin 2 → IVec S16 32) a x).toNat < S256x16.size a)
theorem k0_idx486_inb : ∀ (i : grid0.Coords) (v2 : IVec S16 32) (k0_t2 : Fin (k0_t2_loop i).trips) (k0_t4 : Fin (k0_t4_loop i k0_t2).trips) (v140 : BitVec 32) (v1196 : IVec S16 32) (k0_hw270 : k0_chk270 i v2 k0_t2 k0_t4 v140 v1196), ∀ (k0_h3 : ¬(k0_cond3 v140 = 1#1)), ∀ a x, ((![v1196, v2] : Fin 2 → IVec S16 32) a x).toNat < S256x16.size a := fun i v2 k0_t2 k0_t4 v140 v1196 k0_hw270 k0_h3 => k0_hw270 k0_h3

def k0_chk271 (i : grid0.Coords) (k0_t2 : Fin (k0_t2_loop i).trips) (k0_t4 : Fin (k0_t4_loop i k0_t2).trips) (v140 : BitVec 32) (v1257 : IVec S16 32) : Prop :=
  (∀ (k0_h3 : ¬(k0_cond3 v140 = 1#1)), ∀ a x, ((![v1257] : Fin 1 → IVec S16 32) a x).toNat < S3136.size a)
theorem k0_idx487_inb : ∀ (i : grid0.Coords) (k0_t2 : Fin (k0_t2_loop i).trips) (k0_t4 : Fin (k0_t4_loop i k0_t2).trips) (v140 : BitVec 32) (v1257 : IVec S16 32) (k0_hw271 : k0_chk271 i k0_t2 k0_t4 v140 v1257), ∀ (k0_h3 : ¬(k0_cond3 v140 = 1#1)), ∀ a x, ((![v1257] : Fin 1 → IVec S16 32) a x).toNat < S3136.size a := fun i k0_t2 k0_t4 v140 v1257 k0_hw271 k0_h3 => k0_hw271 k0_h3
def k0_off244 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1260 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c11_i32_393 : BitVec 32 := 11#32
  let v1259 : BitVec 32 := Scalar.addi v126 c11_i32_393
  let v1261 : Index := Scalar.indexCast v1259
  let c0_394 : Index := 0#32
  ![v1260.toNat, v1261.toNat, 0]
def k0_off245 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1264 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c11_i32_395 : BitVec 32 := 11#32
  let v1263 : BitVec 32 := Scalar.addi v126 c11_i32_395
  let v1265 : Index := Scalar.indexCast v1263
  let c16_396 : Index := 16#32
  ![v1264.toNat, v1265.toNat, 16]
def k0_off246 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1268 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c11_i32_397 : BitVec 32 := 11#32
  let v1267 : BitVec 32 := Scalar.addi v126 c11_i32_397
  let v1269 : Index := Scalar.indexCast v1267
  let c32_398 : Index := 32#32
  ![v1268.toNat, v1269.toNat, 32]
def k0_off247 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1272 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c11_i32_399 : BitVec 32 := 11#32
  let v1271 : BitVec 32 := Scalar.addi v126 c11_i32_399
  let v1273 : Index := Scalar.indexCast v1271
  let c48_400 : Index := 48#32
  ![v1272.toNat, v1273.toNat, 48]
def k0_off248 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1276 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c11_i32_401 : BitVec 32 := 11#32
  let v1275 : BitVec 32 := Scalar.addi v126 c11_i32_401
  let v1277 : Index := Scalar.indexCast v1275
  let c64_402 : Index := 64#32
  ![v1276.toNat, v1277.toNat, 64]
def k0_off249 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1280 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c11_i32_403 : BitVec 32 := 11#32
  let v1279 : BitVec 32 := Scalar.addi v126 c11_i32_403
  let v1281 : Index := Scalar.indexCast v1279
  let c80_404 : Index := 80#32
  ![v1280.toNat, v1281.toNat, 80]
def k0_off250 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1284 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c11_i32_405 : BitVec 32 := 11#32
  let v1283 : BitVec 32 := Scalar.addi v126 c11_i32_405
  let v1285 : Index := Scalar.indexCast v1283
  let c96_406 : Index := 96#32
  ![v1284.toNat, v1285.toNat, 96]
def k0_off251 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1288 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c11_i32_407 : BitVec 32 := 11#32
  let v1287 : BitVec 32 := Scalar.addi v126 c11_i32_407
  let v1289 : Index := Scalar.indexCast v1287
  let c112_408 : Index := 112#32
  ![v1288.toNat, v1289.toNat, 112]

def k0_chk272 (i : grid0.Coords) (k0_t2 : Fin (k0_t2_loop i).trips) (k0_t4 : Fin (k0_t4_loop i k0_t2).trips) (v140 : BitVec 32) (v1297 : IVec S16 32) (v1299 : IVec S16 32) : Prop :=
  (∀ (k0_h3 : ¬(k0_cond3 v140 = 1#1)), ∀ a x, ((![v1297, v1299] : Fin 2 → IVec S16 32) a x).toNat < S256x128.size a) ∧
  (∀ (k0_h3 : ¬(k0_cond3 v140 = 1#1)), ∀ a x, ((![v1297, v1299] : Fin 2 → IVec S16 32) a x).toNat < S256x128.size a)
theorem k0_idx488_inb : ∀ (i : grid0.Coords) (k0_t2 : Fin (k0_t2_loop i).trips) (k0_t4 : Fin (k0_t4_loop i k0_t2).trips) (v140 : BitVec 32) (v1297 : IVec S16 32) (v1299 : IVec S16 32) (k0_hw272 : k0_chk272 i k0_t2 k0_t4 v140 v1297 v1299), ∀ (k0_h3 : ¬(k0_cond3 v140 = 1#1)), ∀ a x, ((![v1297, v1299] : Fin 2 → IVec S16 32) a x).toNat < S256x128.size a := fun i k0_t2 k0_t4 v140 v1297 v1299 k0_hw272 k0_h3 => k0_hw272.1 k0_h3
theorem k0_idx489_inb : ∀ (i : grid0.Coords) (k0_t2 : Fin (k0_t2_loop i).trips) (k0_t4 : Fin (k0_t4_loop i k0_t2).trips) (v140 : BitVec 32) (v1297 : IVec S16 32) (v1299 : IVec S16 32) (k0_hw272 : k0_chk272 i k0_t2 k0_t4 v140 v1297 v1299), ∀ (k0_h3 : ¬(k0_cond3 v140 = 1#1)), ∀ a x, ((![v1297, v1299] : Fin 2 → IVec S16 32) a x).toNat < S256x128.size a := fun i k0_t2 k0_t4 v140 v1297 v1299 k0_hw272 k0_h3 => k0_hw272.2 k0_h3

def k0_chk273 (i : grid0.Coords) (k0_t2 : Fin (k0_t2_loop i).trips) (k0_t4 : Fin (k0_t4_loop i k0_t2).trips) (v140 : BitVec 32) (v1297 : IVec S16 32) (v1301 : IVec S16 32) : Prop :=
  (∀ (k0_h3 : ¬(k0_cond3 v140 = 1#1)), ∀ a x, ((![v1297, v1301] : Fin 2 → IVec S16 32) a x).toNat < S256x128.size a) ∧
  (∀ (k0_h3 : ¬(k0_cond3 v140 = 1#1)), ∀ a x, ((![v1297, v1301] : Fin 2 → IVec S16 32) a x).toNat < S256x128.size a)
theorem k0_idx490_inb : ∀ (i : grid0.Coords) (k0_t2 : Fin (k0_t2_loop i).trips) (k0_t4 : Fin (k0_t4_loop i k0_t2).trips) (v140 : BitVec 32) (v1297 : IVec S16 32) (v1301 : IVec S16 32) (k0_hw273 : k0_chk273 i k0_t2 k0_t4 v140 v1297 v1301), ∀ (k0_h3 : ¬(k0_cond3 v140 = 1#1)), ∀ a x, ((![v1297, v1301] : Fin 2 → IVec S16 32) a x).toNat < S256x128.size a := fun i k0_t2 k0_t4 v140 v1297 v1301 k0_hw273 k0_h3 => k0_hw273.1 k0_h3
theorem k0_idx491_inb : ∀ (i : grid0.Coords) (k0_t2 : Fin (k0_t2_loop i).trips) (k0_t4 : Fin (k0_t4_loop i k0_t2).trips) (v140 : BitVec 32) (v1297 : IVec S16 32) (v1301 : IVec S16 32) (k0_hw273 : k0_chk273 i k0_t2 k0_t4 v140 v1297 v1301), ∀ (k0_h3 : ¬(k0_cond3 v140 = 1#1)), ∀ a x, ((![v1297, v1301] : Fin 2 → IVec S16 32) a x).toNat < S256x128.size a := fun i k0_t2 k0_t4 v140 v1297 v1301 k0_hw273 k0_h3 => k0_hw273.2 k0_h3

def k0_chk274 (i : grid0.Coords) (k0_t2 : Fin (k0_t2_loop i).trips) (k0_t4 : Fin (k0_t4_loop i k0_t2).trips) (v140 : BitVec 32) (v1297 : IVec S16 32) (v1303 : IVec S16 32) : Prop :=
  (∀ (k0_h3 : ¬(k0_cond3 v140 = 1#1)), ∀ a x, ((![v1297, v1303] : Fin 2 → IVec S16 32) a x).toNat < S256x128.size a) ∧
  (∀ (k0_h3 : ¬(k0_cond3 v140 = 1#1)), ∀ a x, ((![v1297, v1303] : Fin 2 → IVec S16 32) a x).toNat < S256x128.size a)
theorem k0_idx492_inb : ∀ (i : grid0.Coords) (k0_t2 : Fin (k0_t2_loop i).trips) (k0_t4 : Fin (k0_t4_loop i k0_t2).trips) (v140 : BitVec 32) (v1297 : IVec S16 32) (v1303 : IVec S16 32) (k0_hw274 : k0_chk274 i k0_t2 k0_t4 v140 v1297 v1303), ∀ (k0_h3 : ¬(k0_cond3 v140 = 1#1)), ∀ a x, ((![v1297, v1303] : Fin 2 → IVec S16 32) a x).toNat < S256x128.size a := fun i k0_t2 k0_t4 v140 v1297 v1303 k0_hw274 k0_h3 => k0_hw274.1 k0_h3
theorem k0_idx493_inb : ∀ (i : grid0.Coords) (k0_t2 : Fin (k0_t2_loop i).trips) (k0_t4 : Fin (k0_t4_loop i k0_t2).trips) (v140 : BitVec 32) (v1297 : IVec S16 32) (v1303 : IVec S16 32) (k0_hw274 : k0_chk274 i k0_t2 k0_t4 v140 v1297 v1303), ∀ (k0_h3 : ¬(k0_cond3 v140 = 1#1)), ∀ a x, ((![v1297, v1303] : Fin 2 → IVec S16 32) a x).toNat < S256x128.size a := fun i k0_t2 k0_t4 v140 v1297 v1303 k0_hw274 k0_h3 => k0_hw274.2 k0_h3

def k0_chk275 (i : grid0.Coords) (k0_t2 : Fin (k0_t2_loop i).trips) (k0_t4 : Fin (k0_t4_loop i k0_t2).trips) (v140 : BitVec 32) (v1297 : IVec S16 32) (v1305 : IVec S16 32) : Prop :=
  (∀ (k0_h3 : ¬(k0_cond3 v140 = 1#1)), ∀ a x, ((![v1297, v1305] : Fin 2 → IVec S16 32) a x).toNat < S256x128.size a) ∧
  (∀ (k0_h3 : ¬(k0_cond3 v140 = 1#1)), ∀ a x, ((![v1297, v1305] : Fin 2 → IVec S16 32) a x).toNat < S256x128.size a)
theorem k0_idx494_inb : ∀ (i : grid0.Coords) (k0_t2 : Fin (k0_t2_loop i).trips) (k0_t4 : Fin (k0_t4_loop i k0_t2).trips) (v140 : BitVec 32) (v1297 : IVec S16 32) (v1305 : IVec S16 32) (k0_hw275 : k0_chk275 i k0_t2 k0_t4 v140 v1297 v1305), ∀ (k0_h3 : ¬(k0_cond3 v140 = 1#1)), ∀ a x, ((![v1297, v1305] : Fin 2 → IVec S16 32) a x).toNat < S256x128.size a := fun i k0_t2 k0_t4 v140 v1297 v1305 k0_hw275 k0_h3 => k0_hw275.1 k0_h3
theorem k0_idx495_inb : ∀ (i : grid0.Coords) (k0_t2 : Fin (k0_t2_loop i).trips) (k0_t4 : Fin (k0_t4_loop i k0_t2).trips) (v140 : BitVec 32) (v1297 : IVec S16 32) (v1305 : IVec S16 32) (k0_hw275 : k0_chk275 i k0_t2 k0_t4 v140 v1297 v1305), ∀ (k0_h3 : ¬(k0_cond3 v140 = 1#1)), ∀ a x, ((![v1297, v1305] : Fin 2 → IVec S16 32) a x).toNat < S256x128.size a := fun i k0_t2 k0_t4 v140 v1297 v1305 k0_hw275 k0_h3 => k0_hw275.2 k0_h3

def k0_chk276 (i : grid0.Coords) (k0_t2 : Fin (k0_t2_loop i).trips) (k0_t4 : Fin (k0_t4_loop i k0_t2).trips) (v140 : BitVec 32) (v1297 : IVec S16 32) (v1307 : IVec S16 32) : Prop :=
  (∀ (k0_h3 : ¬(k0_cond3 v140 = 1#1)), ∀ a x, ((![v1297, v1307] : Fin 2 → IVec S16 32) a x).toNat < S256x128.size a) ∧
  (∀ (k0_h3 : ¬(k0_cond3 v140 = 1#1)), ∀ a x, ((![v1297, v1307] : Fin 2 → IVec S16 32) a x).toNat < S256x128.size a)
theorem k0_idx496_inb : ∀ (i : grid0.Coords) (k0_t2 : Fin (k0_t2_loop i).trips) (k0_t4 : Fin (k0_t4_loop i k0_t2).trips) (v140 : BitVec 32) (v1297 : IVec S16 32) (v1307 : IVec S16 32) (k0_hw276 : k0_chk276 i k0_t2 k0_t4 v140 v1297 v1307), ∀ (k0_h3 : ¬(k0_cond3 v140 = 1#1)), ∀ a x, ((![v1297, v1307] : Fin 2 → IVec S16 32) a x).toNat < S256x128.size a := fun i k0_t2 k0_t4 v140 v1297 v1307 k0_hw276 k0_h3 => k0_hw276.1 k0_h3
theorem k0_idx497_inb : ∀ (i : grid0.Coords) (k0_t2 : Fin (k0_t2_loop i).trips) (k0_t4 : Fin (k0_t4_loop i k0_t2).trips) (v140 : BitVec 32) (v1297 : IVec S16 32) (v1307 : IVec S16 32) (k0_hw276 : k0_chk276 i k0_t2 k0_t4 v140 v1297 v1307), ∀ (k0_h3 : ¬(k0_cond3 v140 = 1#1)), ∀ a x, ((![v1297, v1307] : Fin 2 → IVec S16 32) a x).toNat < S256x128.size a := fun i k0_t2 k0_t4 v140 v1297 v1307 k0_hw276 k0_h3 => k0_hw276.2 k0_h3

def k0_chk277 (i : grid0.Coords) (k0_t2 : Fin (k0_t2_loop i).trips) (k0_t4 : Fin (k0_t4_loop i k0_t2).trips) (v140 : BitVec 32) (v1297 : IVec S16 32) (v1309 : IVec S16 32) : Prop :=
  (∀ (k0_h3 : ¬(k0_cond3 v140 = 1#1)), ∀ a x, ((![v1297, v1309] : Fin 2 → IVec S16 32) a x).toNat < S256x128.size a) ∧
  (∀ (k0_h3 : ¬(k0_cond3 v140 = 1#1)), ∀ a x, ((![v1297, v1309] : Fin 2 → IVec S16 32) a x).toNat < S256x128.size a)
theorem k0_idx498_inb : ∀ (i : grid0.Coords) (k0_t2 : Fin (k0_t2_loop i).trips) (k0_t4 : Fin (k0_t4_loop i k0_t2).trips) (v140 : BitVec 32) (v1297 : IVec S16 32) (v1309 : IVec S16 32) (k0_hw277 : k0_chk277 i k0_t2 k0_t4 v140 v1297 v1309), ∀ (k0_h3 : ¬(k0_cond3 v140 = 1#1)), ∀ a x, ((![v1297, v1309] : Fin 2 → IVec S16 32) a x).toNat < S256x128.size a := fun i k0_t2 k0_t4 v140 v1297 v1309 k0_hw277 k0_h3 => k0_hw277.1 k0_h3
theorem k0_idx499_inb : ∀ (i : grid0.Coords) (k0_t2 : Fin (k0_t2_loop i).trips) (k0_t4 : Fin (k0_t4_loop i k0_t2).trips) (v140 : BitVec 32) (v1297 : IVec S16 32) (v1309 : IVec S16 32) (k0_hw277 : k0_chk277 i k0_t2 k0_t4 v140 v1297 v1309), ∀ (k0_h3 : ¬(k0_cond3 v140 = 1#1)), ∀ a x, ((![v1297, v1309] : Fin 2 → IVec S16 32) a x).toNat < S256x128.size a := fun i k0_t2 k0_t4 v140 v1297 v1309 k0_hw277 k0_h3 => k0_hw277.2 k0_h3

def k0_chk278 (i : grid0.Coords) (k0_t2 : Fin (k0_t2_loop i).trips) (k0_t4 : Fin (k0_t4_loop i k0_t2).trips) (v140 : BitVec 32) (v1297 : IVec S16 32) (v1311 : IVec S16 32) : Prop :=
  (∀ (k0_h3 : ¬(k0_cond3 v140 = 1#1)), ∀ a x, ((![v1297, v1311] : Fin 2 → IVec S16 32) a x).toNat < S256x128.size a) ∧
  (∀ (k0_h3 : ¬(k0_cond3 v140 = 1#1)), ∀ a x, ((![v1297, v1311] : Fin 2 → IVec S16 32) a x).toNat < S256x128.size a)
theorem k0_idx500_inb : ∀ (i : grid0.Coords) (k0_t2 : Fin (k0_t2_loop i).trips) (k0_t4 : Fin (k0_t4_loop i k0_t2).trips) (v140 : BitVec 32) (v1297 : IVec S16 32) (v1311 : IVec S16 32) (k0_hw278 : k0_chk278 i k0_t2 k0_t4 v140 v1297 v1311), ∀ (k0_h3 : ¬(k0_cond3 v140 = 1#1)), ∀ a x, ((![v1297, v1311] : Fin 2 → IVec S16 32) a x).toNat < S256x128.size a := fun i k0_t2 k0_t4 v140 v1297 v1311 k0_hw278 k0_h3 => k0_hw278.1 k0_h3
theorem k0_idx501_inb : ∀ (i : grid0.Coords) (k0_t2 : Fin (k0_t2_loop i).trips) (k0_t4 : Fin (k0_t4_loop i k0_t2).trips) (v140 : BitVec 32) (v1297 : IVec S16 32) (v1311 : IVec S16 32) (k0_hw278 : k0_chk278 i k0_t2 k0_t4 v140 v1297 v1311), ∀ (k0_h3 : ¬(k0_cond3 v140 = 1#1)), ∀ a x, ((![v1297, v1311] : Fin 2 → IVec S16 32) a x).toNat < S256x128.size a := fun i k0_t2 k0_t4 v140 v1297 v1311 k0_hw278 k0_h3 => k0_hw278.2 k0_h3

def k0_chk279 (i : grid0.Coords) (k0_t2 : Fin (k0_t2_loop i).trips) (k0_t4 : Fin (k0_t4_loop i k0_t2).trips) (v140 : BitVec 32) (v1297 : IVec S16 32) (v1313 : IVec S16 32) : Prop :=
  (∀ (k0_h3 : ¬(k0_cond3 v140 = 1#1)), ∀ a x, ((![v1297, v1313] : Fin 2 → IVec S16 32) a x).toNat < S256x128.size a) ∧
  (∀ (k0_h3 : ¬(k0_cond3 v140 = 1#1)), ∀ a x, ((![v1297, v1313] : Fin 2 → IVec S16 32) a x).toNat < S256x128.size a)
theorem k0_idx502_inb : ∀ (i : grid0.Coords) (k0_t2 : Fin (k0_t2_loop i).trips) (k0_t4 : Fin (k0_t4_loop i k0_t2).trips) (v140 : BitVec 32) (v1297 : IVec S16 32) (v1313 : IVec S16 32) (k0_hw279 : k0_chk279 i k0_t2 k0_t4 v140 v1297 v1313), ∀ (k0_h3 : ¬(k0_cond3 v140 = 1#1)), ∀ a x, ((![v1297, v1313] : Fin 2 → IVec S16 32) a x).toNat < S256x128.size a := fun i k0_t2 k0_t4 v140 v1297 v1313 k0_hw279 k0_h3 => k0_hw279.1 k0_h3
theorem k0_idx503_inb : ∀ (i : grid0.Coords) (k0_t2 : Fin (k0_t2_loop i).trips) (k0_t4 : Fin (k0_t4_loop i k0_t2).trips) (v140 : BitVec 32) (v1297 : IVec S16 32) (v1313 : IVec S16 32) (k0_hw279 : k0_chk279 i k0_t2 k0_t4 v140 v1297 v1313), ∀ (k0_h3 : ¬(k0_cond3 v140 = 1#1)), ∀ a x, ((![v1297, v1313] : Fin 2 → IVec S16 32) a x).toNat < S256x128.size a := fun i k0_t2 k0_t4 v140 v1297 v1313 k0_hw279 k0_h3 => k0_hw279.2 k0_h3

def k0_chk280 (i : grid0.Coords) (v2 : IVec S16 32) (k0_t2 : Fin (k0_t2_loop i).trips) (k0_t4 : Fin (k0_t4_loop i k0_t2).trips) (v140 : BitVec 32) (v1297 : IVec S16 32) : Prop :=
  (∀ (k0_h3 : ¬(k0_cond3 v140 = 1#1)), ∀ a x, ((![v1297, v2] : Fin 2 → IVec S16 32) a x).toNat < S256x16.size a)
theorem k0_idx504_inb : ∀ (i : grid0.Coords) (v2 : IVec S16 32) (k0_t2 : Fin (k0_t2_loop i).trips) (k0_t4 : Fin (k0_t4_loop i k0_t2).trips) (v140 : BitVec 32) (v1297 : IVec S16 32) (k0_hw280 : k0_chk280 i v2 k0_t2 k0_t4 v140 v1297), ∀ (k0_h3 : ¬(k0_cond3 v140 = 1#1)), ∀ a x, ((![v1297, v2] : Fin 2 → IVec S16 32) a x).toNat < S256x16.size a := fun i v2 k0_t2 k0_t4 v140 v1297 k0_hw280 k0_h3 => k0_hw280 k0_h3

def k0_chk281 (i : grid0.Coords) (k0_t2 : Fin (k0_t2_loop i).trips) (k0_t4 : Fin (k0_t4_loop i k0_t2).trips) (v140 : BitVec 32) (v1358 : IVec S16 32) : Prop :=
  (∀ (k0_h3 : ¬(k0_cond3 v140 = 1#1)), ∀ a x, ((![v1358] : Fin 1 → IVec S16 32) a x).toNat < S3136.size a)
theorem k0_idx505_inb : ∀ (i : grid0.Coords) (k0_t2 : Fin (k0_t2_loop i).trips) (k0_t4 : Fin (k0_t4_loop i k0_t2).trips) (v140 : BitVec 32) (v1358 : IVec S16 32) (k0_hw281 : k0_chk281 i k0_t2 k0_t4 v140 v1358), ∀ (k0_h3 : ¬(k0_cond3 v140 = 1#1)), ∀ a x, ((![v1358] : Fin 1 → IVec S16 32) a x).toNat < S3136.size a := fun i k0_t2 k0_t4 v140 v1358 k0_hw281 k0_h3 => k0_hw281 k0_h3
def k0_off252 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1361 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c12_i32_423 : BitVec 32 := 12#32
  let v1360 : BitVec 32 := Scalar.addi v126 c12_i32_423
  let v1362 : Index := Scalar.indexCast v1360
  let c0_424 : Index := 0#32
  ![v1361.toNat, v1362.toNat, 0]
def k0_off253 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1365 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c12_i32_425 : BitVec 32 := 12#32
  let v1364 : BitVec 32 := Scalar.addi v126 c12_i32_425
  let v1366 : Index := Scalar.indexCast v1364
  let c16_426 : Index := 16#32
  ![v1365.toNat, v1366.toNat, 16]
def k0_off254 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1369 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c12_i32_427 : BitVec 32 := 12#32
  let v1368 : BitVec 32 := Scalar.addi v126 c12_i32_427
  let v1370 : Index := Scalar.indexCast v1368
  let c32_428 : Index := 32#32
  ![v1369.toNat, v1370.toNat, 32]
def k0_off255 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1373 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c12_i32_429 : BitVec 32 := 12#32
  let v1372 : BitVec 32 := Scalar.addi v126 c12_i32_429
  let v1374 : Index := Scalar.indexCast v1372
  let c48_430 : Index := 48#32
  ![v1373.toNat, v1374.toNat, 48]
def k0_off256 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1377 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c12_i32_431 : BitVec 32 := 12#32
  let v1376 : BitVec 32 := Scalar.addi v126 c12_i32_431
  let v1378 : Index := Scalar.indexCast v1376
  let c64_432 : Index := 64#32
  ![v1377.toNat, v1378.toNat, 64]
def k0_off257 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1381 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c12_i32_433 : BitVec 32 := 12#32
  let v1380 : BitVec 32 := Scalar.addi v126 c12_i32_433
  let v1382 : Index := Scalar.indexCast v1380
  let c80_434 : Index := 80#32
  ![v1381.toNat, v1382.toNat, 80]
def k0_off258 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1385 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c12_i32_435 : BitVec 32 := 12#32
  let v1384 : BitVec 32 := Scalar.addi v126 c12_i32_435
  let v1386 : Index := Scalar.indexCast v1384
  let c96_436 : Index := 96#32
  ![v1385.toNat, v1386.toNat, 96]
def k0_off259 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1389 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c12_i32_437 : BitVec 32 := 12#32
  let v1388 : BitVec 32 := Scalar.addi v126 c12_i32_437
  let v1390 : Index := Scalar.indexCast v1388
  let c112_438 : Index := 112#32
  ![v1389.toNat, v1390.toNat, 112]

def k0_chk282 (i : grid0.Coords) (k0_t2 : Fin (k0_t2_loop i).trips) (k0_t4 : Fin (k0_t4_loop i k0_t2).trips) (v140 : BitVec 32) (v1398 : IVec S16 32) (v1400 : IVec S16 32) : Prop :=
  (∀ (k0_h3 : ¬(k0_cond3 v140 = 1#1)), ∀ a x, ((![v1398, v1400] : Fin 2 → IVec S16 32) a x).toNat < S256x128.size a) ∧
  (∀ (k0_h3 : ¬(k0_cond3 v140 = 1#1)), ∀ a x, ((![v1398, v1400] : Fin 2 → IVec S16 32) a x).toNat < S256x128.size a)
theorem k0_idx506_inb : ∀ (i : grid0.Coords) (k0_t2 : Fin (k0_t2_loop i).trips) (k0_t4 : Fin (k0_t4_loop i k0_t2).trips) (v140 : BitVec 32) (v1398 : IVec S16 32) (v1400 : IVec S16 32) (k0_hw282 : k0_chk282 i k0_t2 k0_t4 v140 v1398 v1400), ∀ (k0_h3 : ¬(k0_cond3 v140 = 1#1)), ∀ a x, ((![v1398, v1400] : Fin 2 → IVec S16 32) a x).toNat < S256x128.size a := fun i k0_t2 k0_t4 v140 v1398 v1400 k0_hw282 k0_h3 => k0_hw282.1 k0_h3
theorem k0_idx507_inb : ∀ (i : grid0.Coords) (k0_t2 : Fin (k0_t2_loop i).trips) (k0_t4 : Fin (k0_t4_loop i k0_t2).trips) (v140 : BitVec 32) (v1398 : IVec S16 32) (v1400 : IVec S16 32) (k0_hw282 : k0_chk282 i k0_t2 k0_t4 v140 v1398 v1400), ∀ (k0_h3 : ¬(k0_cond3 v140 = 1#1)), ∀ a x, ((![v1398, v1400] : Fin 2 → IVec S16 32) a x).toNat < S256x128.size a := fun i k0_t2 k0_t4 v140 v1398 v1400 k0_hw282 k0_h3 => k0_hw282.2 k0_h3

def k0_chk283 (i : grid0.Coords) (k0_t2 : Fin (k0_t2_loop i).trips) (k0_t4 : Fin (k0_t4_loop i k0_t2).trips) (v140 : BitVec 32) (v1398 : IVec S16 32) (v1402 : IVec S16 32) : Prop :=
  (∀ (k0_h3 : ¬(k0_cond3 v140 = 1#1)), ∀ a x, ((![v1398, v1402] : Fin 2 → IVec S16 32) a x).toNat < S256x128.size a) ∧
  (∀ (k0_h3 : ¬(k0_cond3 v140 = 1#1)), ∀ a x, ((![v1398, v1402] : Fin 2 → IVec S16 32) a x).toNat < S256x128.size a)
theorem k0_idx508_inb : ∀ (i : grid0.Coords) (k0_t2 : Fin (k0_t2_loop i).trips) (k0_t4 : Fin (k0_t4_loop i k0_t2).trips) (v140 : BitVec 32) (v1398 : IVec S16 32) (v1402 : IVec S16 32) (k0_hw283 : k0_chk283 i k0_t2 k0_t4 v140 v1398 v1402), ∀ (k0_h3 : ¬(k0_cond3 v140 = 1#1)), ∀ a x, ((![v1398, v1402] : Fin 2 → IVec S16 32) a x).toNat < S256x128.size a := fun i k0_t2 k0_t4 v140 v1398 v1402 k0_hw283 k0_h3 => k0_hw283.1 k0_h3
theorem k0_idx509_inb : ∀ (i : grid0.Coords) (k0_t2 : Fin (k0_t2_loop i).trips) (k0_t4 : Fin (k0_t4_loop i k0_t2).trips) (v140 : BitVec 32) (v1398 : IVec S16 32) (v1402 : IVec S16 32) (k0_hw283 : k0_chk283 i k0_t2 k0_t4 v140 v1398 v1402), ∀ (k0_h3 : ¬(k0_cond3 v140 = 1#1)), ∀ a x, ((![v1398, v1402] : Fin 2 → IVec S16 32) a x).toNat < S256x128.size a := fun i k0_t2 k0_t4 v140 v1398 v1402 k0_hw283 k0_h3 => k0_hw283.2 k0_h3

def k0_chk284 (i : grid0.Coords) (k0_t2 : Fin (k0_t2_loop i).trips) (k0_t4 : Fin (k0_t4_loop i k0_t2).trips) (v140 : BitVec 32) (v1398 : IVec S16 32) (v1404 : IVec S16 32) : Prop :=
  (∀ (k0_h3 : ¬(k0_cond3 v140 = 1#1)), ∀ a x, ((![v1398, v1404] : Fin 2 → IVec S16 32) a x).toNat < S256x128.size a) ∧
  (∀ (k0_h3 : ¬(k0_cond3 v140 = 1#1)), ∀ a x, ((![v1398, v1404] : Fin 2 → IVec S16 32) a x).toNat < S256x128.size a)
theorem k0_idx510_inb : ∀ (i : grid0.Coords) (k0_t2 : Fin (k0_t2_loop i).trips) (k0_t4 : Fin (k0_t4_loop i k0_t2).trips) (v140 : BitVec 32) (v1398 : IVec S16 32) (v1404 : IVec S16 32) (k0_hw284 : k0_chk284 i k0_t2 k0_t4 v140 v1398 v1404), ∀ (k0_h3 : ¬(k0_cond3 v140 = 1#1)), ∀ a x, ((![v1398, v1404] : Fin 2 → IVec S16 32) a x).toNat < S256x128.size a := fun i k0_t2 k0_t4 v140 v1398 v1404 k0_hw284 k0_h3 => k0_hw284.1 k0_h3
theorem k0_idx511_inb : ∀ (i : grid0.Coords) (k0_t2 : Fin (k0_t2_loop i).trips) (k0_t4 : Fin (k0_t4_loop i k0_t2).trips) (v140 : BitVec 32) (v1398 : IVec S16 32) (v1404 : IVec S16 32) (k0_hw284 : k0_chk284 i k0_t2 k0_t4 v140 v1398 v1404), ∀ (k0_h3 : ¬(k0_cond3 v140 = 1#1)), ∀ a x, ((![v1398, v1404] : Fin 2 → IVec S16 32) a x).toNat < S256x128.size a := fun i k0_t2 k0_t4 v140 v1398 v1404 k0_hw284 k0_h3 => k0_hw284.2 k0_h3

def k0_chk285 (i : grid0.Coords) (k0_t2 : Fin (k0_t2_loop i).trips) (k0_t4 : Fin (k0_t4_loop i k0_t2).trips) (v140 : BitVec 32) (v1398 : IVec S16 32) (v1406 : IVec S16 32) : Prop :=
  (∀ (k0_h3 : ¬(k0_cond3 v140 = 1#1)), ∀ a x, ((![v1398, v1406] : Fin 2 → IVec S16 32) a x).toNat < S256x128.size a) ∧
  (∀ (k0_h3 : ¬(k0_cond3 v140 = 1#1)), ∀ a x, ((![v1398, v1406] : Fin 2 → IVec S16 32) a x).toNat < S256x128.size a)
theorem k0_idx512_inb : ∀ (i : grid0.Coords) (k0_t2 : Fin (k0_t2_loop i).trips) (k0_t4 : Fin (k0_t4_loop i k0_t2).trips) (v140 : BitVec 32) (v1398 : IVec S16 32) (v1406 : IVec S16 32) (k0_hw285 : k0_chk285 i k0_t2 k0_t4 v140 v1398 v1406), ∀ (k0_h3 : ¬(k0_cond3 v140 = 1#1)), ∀ a x, ((![v1398, v1406] : Fin 2 → IVec S16 32) a x).toNat < S256x128.size a := fun i k0_t2 k0_t4 v140 v1398 v1406 k0_hw285 k0_h3 => k0_hw285.1 k0_h3
theorem k0_idx513_inb : ∀ (i : grid0.Coords) (k0_t2 : Fin (k0_t2_loop i).trips) (k0_t4 : Fin (k0_t4_loop i k0_t2).trips) (v140 : BitVec 32) (v1398 : IVec S16 32) (v1406 : IVec S16 32) (k0_hw285 : k0_chk285 i k0_t2 k0_t4 v140 v1398 v1406), ∀ (k0_h3 : ¬(k0_cond3 v140 = 1#1)), ∀ a x, ((![v1398, v1406] : Fin 2 → IVec S16 32) a x).toNat < S256x128.size a := fun i k0_t2 k0_t4 v140 v1398 v1406 k0_hw285 k0_h3 => k0_hw285.2 k0_h3

def k0_chk286 (i : grid0.Coords) (k0_t2 : Fin (k0_t2_loop i).trips) (k0_t4 : Fin (k0_t4_loop i k0_t2).trips) (v140 : BitVec 32) (v1398 : IVec S16 32) (v1408 : IVec S16 32) : Prop :=
  (∀ (k0_h3 : ¬(k0_cond3 v140 = 1#1)), ∀ a x, ((![v1398, v1408] : Fin 2 → IVec S16 32) a x).toNat < S256x128.size a) ∧
  (∀ (k0_h3 : ¬(k0_cond3 v140 = 1#1)), ∀ a x, ((![v1398, v1408] : Fin 2 → IVec S16 32) a x).toNat < S256x128.size a)
theorem k0_idx514_inb : ∀ (i : grid0.Coords) (k0_t2 : Fin (k0_t2_loop i).trips) (k0_t4 : Fin (k0_t4_loop i k0_t2).trips) (v140 : BitVec 32) (v1398 : IVec S16 32) (v1408 : IVec S16 32) (k0_hw286 : k0_chk286 i k0_t2 k0_t4 v140 v1398 v1408), ∀ (k0_h3 : ¬(k0_cond3 v140 = 1#1)), ∀ a x, ((![v1398, v1408] : Fin 2 → IVec S16 32) a x).toNat < S256x128.size a := fun i k0_t2 k0_t4 v140 v1398 v1408 k0_hw286 k0_h3 => k0_hw286.1 k0_h3
theorem k0_idx515_inb : ∀ (i : grid0.Coords) (k0_t2 : Fin (k0_t2_loop i).trips) (k0_t4 : Fin (k0_t4_loop i k0_t2).trips) (v140 : BitVec 32) (v1398 : IVec S16 32) (v1408 : IVec S16 32) (k0_hw286 : k0_chk286 i k0_t2 k0_t4 v140 v1398 v1408), ∀ (k0_h3 : ¬(k0_cond3 v140 = 1#1)), ∀ a x, ((![v1398, v1408] : Fin 2 → IVec S16 32) a x).toNat < S256x128.size a := fun i k0_t2 k0_t4 v140 v1398 v1408 k0_hw286 k0_h3 => k0_hw286.2 k0_h3

def k0_chk287 (i : grid0.Coords) (k0_t2 : Fin (k0_t2_loop i).trips) (k0_t4 : Fin (k0_t4_loop i k0_t2).trips) (v140 : BitVec 32) (v1398 : IVec S16 32) (v1410 : IVec S16 32) : Prop :=
  (∀ (k0_h3 : ¬(k0_cond3 v140 = 1#1)), ∀ a x, ((![v1398, v1410] : Fin 2 → IVec S16 32) a x).toNat < S256x128.size a) ∧
  (∀ (k0_h3 : ¬(k0_cond3 v140 = 1#1)), ∀ a x, ((![v1398, v1410] : Fin 2 → IVec S16 32) a x).toNat < S256x128.size a)
theorem k0_idx516_inb : ∀ (i : grid0.Coords) (k0_t2 : Fin (k0_t2_loop i).trips) (k0_t4 : Fin (k0_t4_loop i k0_t2).trips) (v140 : BitVec 32) (v1398 : IVec S16 32) (v1410 : IVec S16 32) (k0_hw287 : k0_chk287 i k0_t2 k0_t4 v140 v1398 v1410), ∀ (k0_h3 : ¬(k0_cond3 v140 = 1#1)), ∀ a x, ((![v1398, v1410] : Fin 2 → IVec S16 32) a x).toNat < S256x128.size a := fun i k0_t2 k0_t4 v140 v1398 v1410 k0_hw287 k0_h3 => k0_hw287.1 k0_h3
theorem k0_idx517_inb : ∀ (i : grid0.Coords) (k0_t2 : Fin (k0_t2_loop i).trips) (k0_t4 : Fin (k0_t4_loop i k0_t2).trips) (v140 : BitVec 32) (v1398 : IVec S16 32) (v1410 : IVec S16 32) (k0_hw287 : k0_chk287 i k0_t2 k0_t4 v140 v1398 v1410), ∀ (k0_h3 : ¬(k0_cond3 v140 = 1#1)), ∀ a x, ((![v1398, v1410] : Fin 2 → IVec S16 32) a x).toNat < S256x128.size a := fun i k0_t2 k0_t4 v140 v1398 v1410 k0_hw287 k0_h3 => k0_hw287.2 k0_h3

def k0_chk288 (i : grid0.Coords) (k0_t2 : Fin (k0_t2_loop i).trips) (k0_t4 : Fin (k0_t4_loop i k0_t2).trips) (v140 : BitVec 32) (v1398 : IVec S16 32) (v1412 : IVec S16 32) : Prop :=
  (∀ (k0_h3 : ¬(k0_cond3 v140 = 1#1)), ∀ a x, ((![v1398, v1412] : Fin 2 → IVec S16 32) a x).toNat < S256x128.size a) ∧
  (∀ (k0_h3 : ¬(k0_cond3 v140 = 1#1)), ∀ a x, ((![v1398, v1412] : Fin 2 → IVec S16 32) a x).toNat < S256x128.size a)
theorem k0_idx518_inb : ∀ (i : grid0.Coords) (k0_t2 : Fin (k0_t2_loop i).trips) (k0_t4 : Fin (k0_t4_loop i k0_t2).trips) (v140 : BitVec 32) (v1398 : IVec S16 32) (v1412 : IVec S16 32) (k0_hw288 : k0_chk288 i k0_t2 k0_t4 v140 v1398 v1412), ∀ (k0_h3 : ¬(k0_cond3 v140 = 1#1)), ∀ a x, ((![v1398, v1412] : Fin 2 → IVec S16 32) a x).toNat < S256x128.size a := fun i k0_t2 k0_t4 v140 v1398 v1412 k0_hw288 k0_h3 => k0_hw288.1 k0_h3
theorem k0_idx519_inb : ∀ (i : grid0.Coords) (k0_t2 : Fin (k0_t2_loop i).trips) (k0_t4 : Fin (k0_t4_loop i k0_t2).trips) (v140 : BitVec 32) (v1398 : IVec S16 32) (v1412 : IVec S16 32) (k0_hw288 : k0_chk288 i k0_t2 k0_t4 v140 v1398 v1412), ∀ (k0_h3 : ¬(k0_cond3 v140 = 1#1)), ∀ a x, ((![v1398, v1412] : Fin 2 → IVec S16 32) a x).toNat < S256x128.size a := fun i k0_t2 k0_t4 v140 v1398 v1412 k0_hw288 k0_h3 => k0_hw288.2 k0_h3

def k0_chk289 (i : grid0.Coords) (k0_t2 : Fin (k0_t2_loop i).trips) (k0_t4 : Fin (k0_t4_loop i k0_t2).trips) (v140 : BitVec 32) (v1398 : IVec S16 32) (v1414 : IVec S16 32) : Prop :=
  (∀ (k0_h3 : ¬(k0_cond3 v140 = 1#1)), ∀ a x, ((![v1398, v1414] : Fin 2 → IVec S16 32) a x).toNat < S256x128.size a) ∧
  (∀ (k0_h3 : ¬(k0_cond3 v140 = 1#1)), ∀ a x, ((![v1398, v1414] : Fin 2 → IVec S16 32) a x).toNat < S256x128.size a)
theorem k0_idx520_inb : ∀ (i : grid0.Coords) (k0_t2 : Fin (k0_t2_loop i).trips) (k0_t4 : Fin (k0_t4_loop i k0_t2).trips) (v140 : BitVec 32) (v1398 : IVec S16 32) (v1414 : IVec S16 32) (k0_hw289 : k0_chk289 i k0_t2 k0_t4 v140 v1398 v1414), ∀ (k0_h3 : ¬(k0_cond3 v140 = 1#1)), ∀ a x, ((![v1398, v1414] : Fin 2 → IVec S16 32) a x).toNat < S256x128.size a := fun i k0_t2 k0_t4 v140 v1398 v1414 k0_hw289 k0_h3 => k0_hw289.1 k0_h3
theorem k0_idx521_inb : ∀ (i : grid0.Coords) (k0_t2 : Fin (k0_t2_loop i).trips) (k0_t4 : Fin (k0_t4_loop i k0_t2).trips) (v140 : BitVec 32) (v1398 : IVec S16 32) (v1414 : IVec S16 32) (k0_hw289 : k0_chk289 i k0_t2 k0_t4 v140 v1398 v1414), ∀ (k0_h3 : ¬(k0_cond3 v140 = 1#1)), ∀ a x, ((![v1398, v1414] : Fin 2 → IVec S16 32) a x).toNat < S256x128.size a := fun i k0_t2 k0_t4 v140 v1398 v1414 k0_hw289 k0_h3 => k0_hw289.2 k0_h3

def k0_chk290 (i : grid0.Coords) (v2 : IVec S16 32) (k0_t2 : Fin (k0_t2_loop i).trips) (k0_t4 : Fin (k0_t4_loop i k0_t2).trips) (v140 : BitVec 32) (v1398 : IVec S16 32) : Prop :=
  (∀ (k0_h3 : ¬(k0_cond3 v140 = 1#1)), ∀ a x, ((![v1398, v2] : Fin 2 → IVec S16 32) a x).toNat < S256x16.size a)
theorem k0_idx522_inb : ∀ (i : grid0.Coords) (v2 : IVec S16 32) (k0_t2 : Fin (k0_t2_loop i).trips) (k0_t4 : Fin (k0_t4_loop i k0_t2).trips) (v140 : BitVec 32) (v1398 : IVec S16 32) (k0_hw290 : k0_chk290 i v2 k0_t2 k0_t4 v140 v1398), ∀ (k0_h3 : ¬(k0_cond3 v140 = 1#1)), ∀ a x, ((![v1398, v2] : Fin 2 → IVec S16 32) a x).toNat < S256x16.size a := fun i v2 k0_t2 k0_t4 v140 v1398 k0_hw290 k0_h3 => k0_hw290 k0_h3

def k0_chk291 (i : grid0.Coords) (k0_t2 : Fin (k0_t2_loop i).trips) (k0_t4 : Fin (k0_t4_loop i k0_t2).trips) (v140 : BitVec 32) (v1459 : IVec S16 32) : Prop :=
  (∀ (k0_h3 : ¬(k0_cond3 v140 = 1#1)), ∀ a x, ((![v1459] : Fin 1 → IVec S16 32) a x).toNat < S3136.size a)
theorem k0_idx523_inb : ∀ (i : grid0.Coords) (k0_t2 : Fin (k0_t2_loop i).trips) (k0_t4 : Fin (k0_t4_loop i k0_t2).trips) (v140 : BitVec 32) (v1459 : IVec S16 32) (k0_hw291 : k0_chk291 i k0_t2 k0_t4 v140 v1459), ∀ (k0_h3 : ¬(k0_cond3 v140 = 1#1)), ∀ a x, ((![v1459] : Fin 1 → IVec S16 32) a x).toNat < S3136.size a := fun i k0_t2 k0_t4 v140 v1459 k0_hw291 k0_h3 => k0_hw291 k0_h3
def k0_off260 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1462 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c13_i32_453 : BitVec 32 := 13#32
  let v1461 : BitVec 32 := Scalar.addi v126 c13_i32_453
  let v1463 : Index := Scalar.indexCast v1461
  let c0_454 : Index := 0#32
  ![v1462.toNat, v1463.toNat, 0]
def k0_off261 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1466 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c13_i32_455 : BitVec 32 := 13#32
  let v1465 : BitVec 32 := Scalar.addi v126 c13_i32_455
  let v1467 : Index := Scalar.indexCast v1465
  let c16_456 : Index := 16#32
  ![v1466.toNat, v1467.toNat, 16]
def k0_off262 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1470 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c13_i32_457 : BitVec 32 := 13#32
  let v1469 : BitVec 32 := Scalar.addi v126 c13_i32_457
  let v1471 : Index := Scalar.indexCast v1469
  let c32_458 : Index := 32#32
  ![v1470.toNat, v1471.toNat, 32]
def k0_off263 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1474 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c13_i32_459 : BitVec 32 := 13#32
  let v1473 : BitVec 32 := Scalar.addi v126 c13_i32_459
  let v1475 : Index := Scalar.indexCast v1473
  let c48_460 : Index := 48#32
  ![v1474.toNat, v1475.toNat, 48]
def k0_off264 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1478 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c13_i32_461 : BitVec 32 := 13#32
  let v1477 : BitVec 32 := Scalar.addi v126 c13_i32_461
  let v1479 : Index := Scalar.indexCast v1477
  let c64_462 : Index := 64#32
  ![v1478.toNat, v1479.toNat, 64]
def k0_off265 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1482 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c13_i32_463 : BitVec 32 := 13#32
  let v1481 : BitVec 32 := Scalar.addi v126 c13_i32_463
  let v1483 : Index := Scalar.indexCast v1481
  let c80_464 : Index := 80#32
  ![v1482.toNat, v1483.toNat, 80]
def k0_off266 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1486 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c13_i32_465 : BitVec 32 := 13#32
  let v1485 : BitVec 32 := Scalar.addi v126 c13_i32_465
  let v1487 : Index := Scalar.indexCast v1485
  let c96_466 : Index := 96#32
  ![v1486.toNat, v1487.toNat, 96]
def k0_off267 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1490 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c13_i32_467 : BitVec 32 := 13#32
  let v1489 : BitVec 32 := Scalar.addi v126 c13_i32_467
  let v1491 : Index := Scalar.indexCast v1489
  let c112_468 : Index := 112#32
  ![v1490.toNat, v1491.toNat, 112]

def k0_chk292 (i : grid0.Coords) (k0_t2 : Fin (k0_t2_loop i).trips) (k0_t4 : Fin (k0_t4_loop i k0_t2).trips) (v140 : BitVec 32) (v1499 : IVec S16 32) (v1501 : IVec S16 32) : Prop :=
  (∀ (k0_h3 : ¬(k0_cond3 v140 = 1#1)), ∀ a x, ((![v1499, v1501] : Fin 2 → IVec S16 32) a x).toNat < S256x128.size a) ∧
  (∀ (k0_h3 : ¬(k0_cond3 v140 = 1#1)), ∀ a x, ((![v1499, v1501] : Fin 2 → IVec S16 32) a x).toNat < S256x128.size a)
theorem k0_idx524_inb : ∀ (i : grid0.Coords) (k0_t2 : Fin (k0_t2_loop i).trips) (k0_t4 : Fin (k0_t4_loop i k0_t2).trips) (v140 : BitVec 32) (v1499 : IVec S16 32) (v1501 : IVec S16 32) (k0_hw292 : k0_chk292 i k0_t2 k0_t4 v140 v1499 v1501), ∀ (k0_h3 : ¬(k0_cond3 v140 = 1#1)), ∀ a x, ((![v1499, v1501] : Fin 2 → IVec S16 32) a x).toNat < S256x128.size a := fun i k0_t2 k0_t4 v140 v1499 v1501 k0_hw292 k0_h3 => k0_hw292.1 k0_h3
theorem k0_idx525_inb : ∀ (i : grid0.Coords) (k0_t2 : Fin (k0_t2_loop i).trips) (k0_t4 : Fin (k0_t4_loop i k0_t2).trips) (v140 : BitVec 32) (v1499 : IVec S16 32) (v1501 : IVec S16 32) (k0_hw292 : k0_chk292 i k0_t2 k0_t4 v140 v1499 v1501), ∀ (k0_h3 : ¬(k0_cond3 v140 = 1#1)), ∀ a x, ((![v1499, v1501] : Fin 2 → IVec S16 32) a x).toNat < S256x128.size a := fun i k0_t2 k0_t4 v140 v1499 v1501 k0_hw292 k0_h3 => k0_hw292.2 k0_h3

def k0_chk293 (i : grid0.Coords) (k0_t2 : Fin (k0_t2_loop i).trips) (k0_t4 : Fin (k0_t4_loop i k0_t2).trips) (v140 : BitVec 32) (v1499 : IVec S16 32) (v1503 : IVec S16 32) : Prop :=
  (∀ (k0_h3 : ¬(k0_cond3 v140 = 1#1)), ∀ a x, ((![v1499, v1503] : Fin 2 → IVec S16 32) a x).toNat < S256x128.size a) ∧
  (∀ (k0_h3 : ¬(k0_cond3 v140 = 1#1)), ∀ a x, ((![v1499, v1503] : Fin 2 → IVec S16 32) a x).toNat < S256x128.size a)
theorem k0_idx526_inb : ∀ (i : grid0.Coords) (k0_t2 : Fin (k0_t2_loop i).trips) (k0_t4 : Fin (k0_t4_loop i k0_t2).trips) (v140 : BitVec 32) (v1499 : IVec S16 32) (v1503 : IVec S16 32) (k0_hw293 : k0_chk293 i k0_t2 k0_t4 v140 v1499 v1503), ∀ (k0_h3 : ¬(k0_cond3 v140 = 1#1)), ∀ a x, ((![v1499, v1503] : Fin 2 → IVec S16 32) a x).toNat < S256x128.size a := fun i k0_t2 k0_t4 v140 v1499 v1503 k0_hw293 k0_h3 => k0_hw293.1 k0_h3
theorem k0_idx527_inb : ∀ (i : grid0.Coords) (k0_t2 : Fin (k0_t2_loop i).trips) (k0_t4 : Fin (k0_t4_loop i k0_t2).trips) (v140 : BitVec 32) (v1499 : IVec S16 32) (v1503 : IVec S16 32) (k0_hw293 : k0_chk293 i k0_t2 k0_t4 v140 v1499 v1503), ∀ (k0_h3 : ¬(k0_cond3 v140 = 1#1)), ∀ a x, ((![v1499, v1503] : Fin 2 → IVec S16 32) a x).toNat < S256x128.size a := fun i k0_t2 k0_t4 v140 v1499 v1503 k0_hw293 k0_h3 => k0_hw293.2 k0_h3

def k0_chk294 (i : grid0.Coords) (k0_t2 : Fin (k0_t2_loop i).trips) (k0_t4 : Fin (k0_t4_loop i k0_t2).trips) (v140 : BitVec 32) (v1499 : IVec S16 32) (v1505 : IVec S16 32) : Prop :=
  (∀ (k0_h3 : ¬(k0_cond3 v140 = 1#1)), ∀ a x, ((![v1499, v1505] : Fin 2 → IVec S16 32) a x).toNat < S256x128.size a) ∧
  (∀ (k0_h3 : ¬(k0_cond3 v140 = 1#1)), ∀ a x, ((![v1499, v1505] : Fin 2 → IVec S16 32) a x).toNat < S256x128.size a)
theorem k0_idx528_inb : ∀ (i : grid0.Coords) (k0_t2 : Fin (k0_t2_loop i).trips) (k0_t4 : Fin (k0_t4_loop i k0_t2).trips) (v140 : BitVec 32) (v1499 : IVec S16 32) (v1505 : IVec S16 32) (k0_hw294 : k0_chk294 i k0_t2 k0_t4 v140 v1499 v1505), ∀ (k0_h3 : ¬(k0_cond3 v140 = 1#1)), ∀ a x, ((![v1499, v1505] : Fin 2 → IVec S16 32) a x).toNat < S256x128.size a := fun i k0_t2 k0_t4 v140 v1499 v1505 k0_hw294 k0_h3 => k0_hw294.1 k0_h3
theorem k0_idx529_inb : ∀ (i : grid0.Coords) (k0_t2 : Fin (k0_t2_loop i).trips) (k0_t4 : Fin (k0_t4_loop i k0_t2).trips) (v140 : BitVec 32) (v1499 : IVec S16 32) (v1505 : IVec S16 32) (k0_hw294 : k0_chk294 i k0_t2 k0_t4 v140 v1499 v1505), ∀ (k0_h3 : ¬(k0_cond3 v140 = 1#1)), ∀ a x, ((![v1499, v1505] : Fin 2 → IVec S16 32) a x).toNat < S256x128.size a := fun i k0_t2 k0_t4 v140 v1499 v1505 k0_hw294 k0_h3 => k0_hw294.2 k0_h3

def k0_chk295 (i : grid0.Coords) (k0_t2 : Fin (k0_t2_loop i).trips) (k0_t4 : Fin (k0_t4_loop i k0_t2).trips) (v140 : BitVec 32) (v1499 : IVec S16 32) (v1507 : IVec S16 32) : Prop :=
  (∀ (k0_h3 : ¬(k0_cond3 v140 = 1#1)), ∀ a x, ((![v1499, v1507] : Fin 2 → IVec S16 32) a x).toNat < S256x128.size a) ∧
  (∀ (k0_h3 : ¬(k0_cond3 v140 = 1#1)), ∀ a x, ((![v1499, v1507] : Fin 2 → IVec S16 32) a x).toNat < S256x128.size a)
theorem k0_idx530_inb : ∀ (i : grid0.Coords) (k0_t2 : Fin (k0_t2_loop i).trips) (k0_t4 : Fin (k0_t4_loop i k0_t2).trips) (v140 : BitVec 32) (v1499 : IVec S16 32) (v1507 : IVec S16 32) (k0_hw295 : k0_chk295 i k0_t2 k0_t4 v140 v1499 v1507), ∀ (k0_h3 : ¬(k0_cond3 v140 = 1#1)), ∀ a x, ((![v1499, v1507] : Fin 2 → IVec S16 32) a x).toNat < S256x128.size a := fun i k0_t2 k0_t4 v140 v1499 v1507 k0_hw295 k0_h3 => k0_hw295.1 k0_h3
theorem k0_idx531_inb : ∀ (i : grid0.Coords) (k0_t2 : Fin (k0_t2_loop i).trips) (k0_t4 : Fin (k0_t4_loop i k0_t2).trips) (v140 : BitVec 32) (v1499 : IVec S16 32) (v1507 : IVec S16 32) (k0_hw295 : k0_chk295 i k0_t2 k0_t4 v140 v1499 v1507), ∀ (k0_h3 : ¬(k0_cond3 v140 = 1#1)), ∀ a x, ((![v1499, v1507] : Fin 2 → IVec S16 32) a x).toNat < S256x128.size a := fun i k0_t2 k0_t4 v140 v1499 v1507 k0_hw295 k0_h3 => k0_hw295.2 k0_h3

def k0_chk296 (i : grid0.Coords) (k0_t2 : Fin (k0_t2_loop i).trips) (k0_t4 : Fin (k0_t4_loop i k0_t2).trips) (v140 : BitVec 32) (v1499 : IVec S16 32) (v1509 : IVec S16 32) : Prop :=
  (∀ (k0_h3 : ¬(k0_cond3 v140 = 1#1)), ∀ a x, ((![v1499, v1509] : Fin 2 → IVec S16 32) a x).toNat < S256x128.size a) ∧
  (∀ (k0_h3 : ¬(k0_cond3 v140 = 1#1)), ∀ a x, ((![v1499, v1509] : Fin 2 → IVec S16 32) a x).toNat < S256x128.size a)
theorem k0_idx532_inb : ∀ (i : grid0.Coords) (k0_t2 : Fin (k0_t2_loop i).trips) (k0_t4 : Fin (k0_t4_loop i k0_t2).trips) (v140 : BitVec 32) (v1499 : IVec S16 32) (v1509 : IVec S16 32) (k0_hw296 : k0_chk296 i k0_t2 k0_t4 v140 v1499 v1509), ∀ (k0_h3 : ¬(k0_cond3 v140 = 1#1)), ∀ a x, ((![v1499, v1509] : Fin 2 → IVec S16 32) a x).toNat < S256x128.size a := fun i k0_t2 k0_t4 v140 v1499 v1509 k0_hw296 k0_h3 => k0_hw296.1 k0_h3
theorem k0_idx533_inb : ∀ (i : grid0.Coords) (k0_t2 : Fin (k0_t2_loop i).trips) (k0_t4 : Fin (k0_t4_loop i k0_t2).trips) (v140 : BitVec 32) (v1499 : IVec S16 32) (v1509 : IVec S16 32) (k0_hw296 : k0_chk296 i k0_t2 k0_t4 v140 v1499 v1509), ∀ (k0_h3 : ¬(k0_cond3 v140 = 1#1)), ∀ a x, ((![v1499, v1509] : Fin 2 → IVec S16 32) a x).toNat < S256x128.size a := fun i k0_t2 k0_t4 v140 v1499 v1509 k0_hw296 k0_h3 => k0_hw296.2 k0_h3

def k0_chk297 (i : grid0.Coords) (k0_t2 : Fin (k0_t2_loop i).trips) (k0_t4 : Fin (k0_t4_loop i k0_t2).trips) (v140 : BitVec 32) (v1499 : IVec S16 32) (v1511 : IVec S16 32) : Prop :=
  (∀ (k0_h3 : ¬(k0_cond3 v140 = 1#1)), ∀ a x, ((![v1499, v1511] : Fin 2 → IVec S16 32) a x).toNat < S256x128.size a) ∧
  (∀ (k0_h3 : ¬(k0_cond3 v140 = 1#1)), ∀ a x, ((![v1499, v1511] : Fin 2 → IVec S16 32) a x).toNat < S256x128.size a)
theorem k0_idx534_inb : ∀ (i : grid0.Coords) (k0_t2 : Fin (k0_t2_loop i).trips) (k0_t4 : Fin (k0_t4_loop i k0_t2).trips) (v140 : BitVec 32) (v1499 : IVec S16 32) (v1511 : IVec S16 32) (k0_hw297 : k0_chk297 i k0_t2 k0_t4 v140 v1499 v1511), ∀ (k0_h3 : ¬(k0_cond3 v140 = 1#1)), ∀ a x, ((![v1499, v1511] : Fin 2 → IVec S16 32) a x).toNat < S256x128.size a := fun i k0_t2 k0_t4 v140 v1499 v1511 k0_hw297 k0_h3 => k0_hw297.1 k0_h3
theorem k0_idx535_inb : ∀ (i : grid0.Coords) (k0_t2 : Fin (k0_t2_loop i).trips) (k0_t4 : Fin (k0_t4_loop i k0_t2).trips) (v140 : BitVec 32) (v1499 : IVec S16 32) (v1511 : IVec S16 32) (k0_hw297 : k0_chk297 i k0_t2 k0_t4 v140 v1499 v1511), ∀ (k0_h3 : ¬(k0_cond3 v140 = 1#1)), ∀ a x, ((![v1499, v1511] : Fin 2 → IVec S16 32) a x).toNat < S256x128.size a := fun i k0_t2 k0_t4 v140 v1499 v1511 k0_hw297 k0_h3 => k0_hw297.2 k0_h3

def k0_chk298 (i : grid0.Coords) (k0_t2 : Fin (k0_t2_loop i).trips) (k0_t4 : Fin (k0_t4_loop i k0_t2).trips) (v140 : BitVec 32) (v1499 : IVec S16 32) (v1513 : IVec S16 32) : Prop :=
  (∀ (k0_h3 : ¬(k0_cond3 v140 = 1#1)), ∀ a x, ((![v1499, v1513] : Fin 2 → IVec S16 32) a x).toNat < S256x128.size a) ∧
  (∀ (k0_h3 : ¬(k0_cond3 v140 = 1#1)), ∀ a x, ((![v1499, v1513] : Fin 2 → IVec S16 32) a x).toNat < S256x128.size a)
theorem k0_idx536_inb : ∀ (i : grid0.Coords) (k0_t2 : Fin (k0_t2_loop i).trips) (k0_t4 : Fin (k0_t4_loop i k0_t2).trips) (v140 : BitVec 32) (v1499 : IVec S16 32) (v1513 : IVec S16 32) (k0_hw298 : k0_chk298 i k0_t2 k0_t4 v140 v1499 v1513), ∀ (k0_h3 : ¬(k0_cond3 v140 = 1#1)), ∀ a x, ((![v1499, v1513] : Fin 2 → IVec S16 32) a x).toNat < S256x128.size a := fun i k0_t2 k0_t4 v140 v1499 v1513 k0_hw298 k0_h3 => k0_hw298.1 k0_h3
theorem k0_idx537_inb : ∀ (i : grid0.Coords) (k0_t2 : Fin (k0_t2_loop i).trips) (k0_t4 : Fin (k0_t4_loop i k0_t2).trips) (v140 : BitVec 32) (v1499 : IVec S16 32) (v1513 : IVec S16 32) (k0_hw298 : k0_chk298 i k0_t2 k0_t4 v140 v1499 v1513), ∀ (k0_h3 : ¬(k0_cond3 v140 = 1#1)), ∀ a x, ((![v1499, v1513] : Fin 2 → IVec S16 32) a x).toNat < S256x128.size a := fun i k0_t2 k0_t4 v140 v1499 v1513 k0_hw298 k0_h3 => k0_hw298.2 k0_h3

def k0_chk299 (i : grid0.Coords) (k0_t2 : Fin (k0_t2_loop i).trips) (k0_t4 : Fin (k0_t4_loop i k0_t2).trips) (v140 : BitVec 32) (v1499 : IVec S16 32) (v1515 : IVec S16 32) : Prop :=
  (∀ (k0_h3 : ¬(k0_cond3 v140 = 1#1)), ∀ a x, ((![v1499, v1515] : Fin 2 → IVec S16 32) a x).toNat < S256x128.size a) ∧
  (∀ (k0_h3 : ¬(k0_cond3 v140 = 1#1)), ∀ a x, ((![v1499, v1515] : Fin 2 → IVec S16 32) a x).toNat < S256x128.size a)
theorem k0_idx538_inb : ∀ (i : grid0.Coords) (k0_t2 : Fin (k0_t2_loop i).trips) (k0_t4 : Fin (k0_t4_loop i k0_t2).trips) (v140 : BitVec 32) (v1499 : IVec S16 32) (v1515 : IVec S16 32) (k0_hw299 : k0_chk299 i k0_t2 k0_t4 v140 v1499 v1515), ∀ (k0_h3 : ¬(k0_cond3 v140 = 1#1)), ∀ a x, ((![v1499, v1515] : Fin 2 → IVec S16 32) a x).toNat < S256x128.size a := fun i k0_t2 k0_t4 v140 v1499 v1515 k0_hw299 k0_h3 => k0_hw299.1 k0_h3
theorem k0_idx539_inb : ∀ (i : grid0.Coords) (k0_t2 : Fin (k0_t2_loop i).trips) (k0_t4 : Fin (k0_t4_loop i k0_t2).trips) (v140 : BitVec 32) (v1499 : IVec S16 32) (v1515 : IVec S16 32) (k0_hw299 : k0_chk299 i k0_t2 k0_t4 v140 v1499 v1515), ∀ (k0_h3 : ¬(k0_cond3 v140 = 1#1)), ∀ a x, ((![v1499, v1515] : Fin 2 → IVec S16 32) a x).toNat < S256x128.size a := fun i k0_t2 k0_t4 v140 v1499 v1515 k0_hw299 k0_h3 => k0_hw299.2 k0_h3

def k0_chk300 (i : grid0.Coords) (v2 : IVec S16 32) (k0_t2 : Fin (k0_t2_loop i).trips) (k0_t4 : Fin (k0_t4_loop i k0_t2).trips) (v140 : BitVec 32) (v1499 : IVec S16 32) : Prop :=
  (∀ (k0_h3 : ¬(k0_cond3 v140 = 1#1)), ∀ a x, ((![v1499, v2] : Fin 2 → IVec S16 32) a x).toNat < S256x16.size a)
theorem k0_idx540_inb : ∀ (i : grid0.Coords) (v2 : IVec S16 32) (k0_t2 : Fin (k0_t2_loop i).trips) (k0_t4 : Fin (k0_t4_loop i k0_t2).trips) (v140 : BitVec 32) (v1499 : IVec S16 32) (k0_hw300 : k0_chk300 i v2 k0_t2 k0_t4 v140 v1499), ∀ (k0_h3 : ¬(k0_cond3 v140 = 1#1)), ∀ a x, ((![v1499, v2] : Fin 2 → IVec S16 32) a x).toNat < S256x16.size a := fun i v2 k0_t2 k0_t4 v140 v1499 k0_hw300 k0_h3 => k0_hw300 k0_h3

def k0_chk301 (i : grid0.Coords) (k0_t2 : Fin (k0_t2_loop i).trips) (k0_t4 : Fin (k0_t4_loop i k0_t2).trips) (v140 : BitVec 32) (v1560 : IVec S16 32) : Prop :=
  (∀ (k0_h3 : ¬(k0_cond3 v140 = 1#1)), ∀ a x, ((![v1560] : Fin 1 → IVec S16 32) a x).toNat < S3136.size a)
theorem k0_idx541_inb : ∀ (i : grid0.Coords) (k0_t2 : Fin (k0_t2_loop i).trips) (k0_t4 : Fin (k0_t4_loop i k0_t2).trips) (v140 : BitVec 32) (v1560 : IVec S16 32) (k0_hw301 : k0_chk301 i k0_t2 k0_t4 v140 v1560), ∀ (k0_h3 : ¬(k0_cond3 v140 = 1#1)), ∀ a x, ((![v1560] : Fin 1 → IVec S16 32) a x).toNat < S3136.size a := fun i k0_t2 k0_t4 v140 v1560 k0_hw301 k0_h3 => k0_hw301 k0_h3
def k0_off268 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1563 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c14_i32_483 : BitVec 32 := 14#32
  let v1562 : BitVec 32 := Scalar.addi v126 c14_i32_483
  let v1564 : Index := Scalar.indexCast v1562
  let c0_484 : Index := 0#32
  ![v1563.toNat, v1564.toNat, 0]
def k0_off269 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1567 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c14_i32_485 : BitVec 32 := 14#32
  let v1566 : BitVec 32 := Scalar.addi v126 c14_i32_485
  let v1568 : Index := Scalar.indexCast v1566
  let c16_486 : Index := 16#32
  ![v1567.toNat, v1568.toNat, 16]
def k0_off270 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1571 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c14_i32_487 : BitVec 32 := 14#32
  let v1570 : BitVec 32 := Scalar.addi v126 c14_i32_487
  let v1572 : Index := Scalar.indexCast v1570
  let c32_488 : Index := 32#32
  ![v1571.toNat, v1572.toNat, 32]
def k0_off271 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1575 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c14_i32_489 : BitVec 32 := 14#32
  let v1574 : BitVec 32 := Scalar.addi v126 c14_i32_489
  let v1576 : Index := Scalar.indexCast v1574
  let c48_490 : Index := 48#32
  ![v1575.toNat, v1576.toNat, 48]
def k0_off272 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1579 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c14_i32_491 : BitVec 32 := 14#32
  let v1578 : BitVec 32 := Scalar.addi v126 c14_i32_491
  let v1580 : Index := Scalar.indexCast v1578
  let c64_492 : Index := 64#32
  ![v1579.toNat, v1580.toNat, 64]
def k0_off273 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1583 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c14_i32_493 : BitVec 32 := 14#32
  let v1582 : BitVec 32 := Scalar.addi v126 c14_i32_493
  let v1584 : Index := Scalar.indexCast v1582
  let c80_494 : Index := 80#32
  ![v1583.toNat, v1584.toNat, 80]
def k0_off274 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1587 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c14_i32_495 : BitVec 32 := 14#32
  let v1586 : BitVec 32 := Scalar.addi v126 c14_i32_495
  let v1588 : Index := Scalar.indexCast v1586
  let c96_496 : Index := 96#32
  ![v1587.toNat, v1588.toNat, 96]
def k0_off275 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1591 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c14_i32_497 : BitVec 32 := 14#32
  let v1590 : BitVec 32 := Scalar.addi v126 c14_i32_497
  let v1592 : Index := Scalar.indexCast v1590
  let c112_498 : Index := 112#32
  ![v1591.toNat, v1592.toNat, 112]

def k0_chk302 (i : grid0.Coords) (k0_t2 : Fin (k0_t2_loop i).trips) (k0_t4 : Fin (k0_t4_loop i k0_t2).trips) (v140 : BitVec 32) (v1600 : IVec S16 32) (v1602 : IVec S16 32) : Prop :=
  (∀ (k0_h3 : ¬(k0_cond3 v140 = 1#1)), ∀ a x, ((![v1600, v1602] : Fin 2 → IVec S16 32) a x).toNat < S256x128.size a) ∧
  (∀ (k0_h3 : ¬(k0_cond3 v140 = 1#1)), ∀ a x, ((![v1600, v1602] : Fin 2 → IVec S16 32) a x).toNat < S256x128.size a)
theorem k0_idx542_inb : ∀ (i : grid0.Coords) (k0_t2 : Fin (k0_t2_loop i).trips) (k0_t4 : Fin (k0_t4_loop i k0_t2).trips) (v140 : BitVec 32) (v1600 : IVec S16 32) (v1602 : IVec S16 32) (k0_hw302 : k0_chk302 i k0_t2 k0_t4 v140 v1600 v1602), ∀ (k0_h3 : ¬(k0_cond3 v140 = 1#1)), ∀ a x, ((![v1600, v1602] : Fin 2 → IVec S16 32) a x).toNat < S256x128.size a := fun i k0_t2 k0_t4 v140 v1600 v1602 k0_hw302 k0_h3 => k0_hw302.1 k0_h3
theorem k0_idx543_inb : ∀ (i : grid0.Coords) (k0_t2 : Fin (k0_t2_loop i).trips) (k0_t4 : Fin (k0_t4_loop i k0_t2).trips) (v140 : BitVec 32) (v1600 : IVec S16 32) (v1602 : IVec S16 32) (k0_hw302 : k0_chk302 i k0_t2 k0_t4 v140 v1600 v1602), ∀ (k0_h3 : ¬(k0_cond3 v140 = 1#1)), ∀ a x, ((![v1600, v1602] : Fin 2 → IVec S16 32) a x).toNat < S256x128.size a := fun i k0_t2 k0_t4 v140 v1600 v1602 k0_hw302 k0_h3 => k0_hw302.2 k0_h3

def k0_chk303 (i : grid0.Coords) (k0_t2 : Fin (k0_t2_loop i).trips) (k0_t4 : Fin (k0_t4_loop i k0_t2).trips) (v140 : BitVec 32) (v1600 : IVec S16 32) (v1604 : IVec S16 32) : Prop :=
  (∀ (k0_h3 : ¬(k0_cond3 v140 = 1#1)), ∀ a x, ((![v1600, v1604] : Fin 2 → IVec S16 32) a x).toNat < S256x128.size a) ∧
  (∀ (k0_h3 : ¬(k0_cond3 v140 = 1#1)), ∀ a x, ((![v1600, v1604] : Fin 2 → IVec S16 32) a x).toNat < S256x128.size a)
theorem k0_idx544_inb : ∀ (i : grid0.Coords) (k0_t2 : Fin (k0_t2_loop i).trips) (k0_t4 : Fin (k0_t4_loop i k0_t2).trips) (v140 : BitVec 32) (v1600 : IVec S16 32) (v1604 : IVec S16 32) (k0_hw303 : k0_chk303 i k0_t2 k0_t4 v140 v1600 v1604), ∀ (k0_h3 : ¬(k0_cond3 v140 = 1#1)), ∀ a x, ((![v1600, v1604] : Fin 2 → IVec S16 32) a x).toNat < S256x128.size a := fun i k0_t2 k0_t4 v140 v1600 v1604 k0_hw303 k0_h3 => k0_hw303.1 k0_h3
theorem k0_idx545_inb : ∀ (i : grid0.Coords) (k0_t2 : Fin (k0_t2_loop i).trips) (k0_t4 : Fin (k0_t4_loop i k0_t2).trips) (v140 : BitVec 32) (v1600 : IVec S16 32) (v1604 : IVec S16 32) (k0_hw303 : k0_chk303 i k0_t2 k0_t4 v140 v1600 v1604), ∀ (k0_h3 : ¬(k0_cond3 v140 = 1#1)), ∀ a x, ((![v1600, v1604] : Fin 2 → IVec S16 32) a x).toNat < S256x128.size a := fun i k0_t2 k0_t4 v140 v1600 v1604 k0_hw303 k0_h3 => k0_hw303.2 k0_h3

def k0_chk304 (i : grid0.Coords) (k0_t2 : Fin (k0_t2_loop i).trips) (k0_t4 : Fin (k0_t4_loop i k0_t2).trips) (v140 : BitVec 32) (v1600 : IVec S16 32) (v1606 : IVec S16 32) : Prop :=
  (∀ (k0_h3 : ¬(k0_cond3 v140 = 1#1)), ∀ a x, ((![v1600, v1606] : Fin 2 → IVec S16 32) a x).toNat < S256x128.size a) ∧
  (∀ (k0_h3 : ¬(k0_cond3 v140 = 1#1)), ∀ a x, ((![v1600, v1606] : Fin 2 → IVec S16 32) a x).toNat < S256x128.size a)
theorem k0_idx546_inb : ∀ (i : grid0.Coords) (k0_t2 : Fin (k0_t2_loop i).trips) (k0_t4 : Fin (k0_t4_loop i k0_t2).trips) (v140 : BitVec 32) (v1600 : IVec S16 32) (v1606 : IVec S16 32) (k0_hw304 : k0_chk304 i k0_t2 k0_t4 v140 v1600 v1606), ∀ (k0_h3 : ¬(k0_cond3 v140 = 1#1)), ∀ a x, ((![v1600, v1606] : Fin 2 → IVec S16 32) a x).toNat < S256x128.size a := fun i k0_t2 k0_t4 v140 v1600 v1606 k0_hw304 k0_h3 => k0_hw304.1 k0_h3
theorem k0_idx547_inb : ∀ (i : grid0.Coords) (k0_t2 : Fin (k0_t2_loop i).trips) (k0_t4 : Fin (k0_t4_loop i k0_t2).trips) (v140 : BitVec 32) (v1600 : IVec S16 32) (v1606 : IVec S16 32) (k0_hw304 : k0_chk304 i k0_t2 k0_t4 v140 v1600 v1606), ∀ (k0_h3 : ¬(k0_cond3 v140 = 1#1)), ∀ a x, ((![v1600, v1606] : Fin 2 → IVec S16 32) a x).toNat < S256x128.size a := fun i k0_t2 k0_t4 v140 v1600 v1606 k0_hw304 k0_h3 => k0_hw304.2 k0_h3

def k0_chk305 (i : grid0.Coords) (k0_t2 : Fin (k0_t2_loop i).trips) (k0_t4 : Fin (k0_t4_loop i k0_t2).trips) (v140 : BitVec 32) (v1600 : IVec S16 32) (v1608 : IVec S16 32) : Prop :=
  (∀ (k0_h3 : ¬(k0_cond3 v140 = 1#1)), ∀ a x, ((![v1600, v1608] : Fin 2 → IVec S16 32) a x).toNat < S256x128.size a) ∧
  (∀ (k0_h3 : ¬(k0_cond3 v140 = 1#1)), ∀ a x, ((![v1600, v1608] : Fin 2 → IVec S16 32) a x).toNat < S256x128.size a)
theorem k0_idx548_inb : ∀ (i : grid0.Coords) (k0_t2 : Fin (k0_t2_loop i).trips) (k0_t4 : Fin (k0_t4_loop i k0_t2).trips) (v140 : BitVec 32) (v1600 : IVec S16 32) (v1608 : IVec S16 32) (k0_hw305 : k0_chk305 i k0_t2 k0_t4 v140 v1600 v1608), ∀ (k0_h3 : ¬(k0_cond3 v140 = 1#1)), ∀ a x, ((![v1600, v1608] : Fin 2 → IVec S16 32) a x).toNat < S256x128.size a := fun i k0_t2 k0_t4 v140 v1600 v1608 k0_hw305 k0_h3 => k0_hw305.1 k0_h3
theorem k0_idx549_inb : ∀ (i : grid0.Coords) (k0_t2 : Fin (k0_t2_loop i).trips) (k0_t4 : Fin (k0_t4_loop i k0_t2).trips) (v140 : BitVec 32) (v1600 : IVec S16 32) (v1608 : IVec S16 32) (k0_hw305 : k0_chk305 i k0_t2 k0_t4 v140 v1600 v1608), ∀ (k0_h3 : ¬(k0_cond3 v140 = 1#1)), ∀ a x, ((![v1600, v1608] : Fin 2 → IVec S16 32) a x).toNat < S256x128.size a := fun i k0_t2 k0_t4 v140 v1600 v1608 k0_hw305 k0_h3 => k0_hw305.2 k0_h3

def k0_chk306 (i : grid0.Coords) (k0_t2 : Fin (k0_t2_loop i).trips) (k0_t4 : Fin (k0_t4_loop i k0_t2).trips) (v140 : BitVec 32) (v1600 : IVec S16 32) (v1610 : IVec S16 32) : Prop :=
  (∀ (k0_h3 : ¬(k0_cond3 v140 = 1#1)), ∀ a x, ((![v1600, v1610] : Fin 2 → IVec S16 32) a x).toNat < S256x128.size a) ∧
  (∀ (k0_h3 : ¬(k0_cond3 v140 = 1#1)), ∀ a x, ((![v1600, v1610] : Fin 2 → IVec S16 32) a x).toNat < S256x128.size a)
theorem k0_idx550_inb : ∀ (i : grid0.Coords) (k0_t2 : Fin (k0_t2_loop i).trips) (k0_t4 : Fin (k0_t4_loop i k0_t2).trips) (v140 : BitVec 32) (v1600 : IVec S16 32) (v1610 : IVec S16 32) (k0_hw306 : k0_chk306 i k0_t2 k0_t4 v140 v1600 v1610), ∀ (k0_h3 : ¬(k0_cond3 v140 = 1#1)), ∀ a x, ((![v1600, v1610] : Fin 2 → IVec S16 32) a x).toNat < S256x128.size a := fun i k0_t2 k0_t4 v140 v1600 v1610 k0_hw306 k0_h3 => k0_hw306.1 k0_h3
theorem k0_idx551_inb : ∀ (i : grid0.Coords) (k0_t2 : Fin (k0_t2_loop i).trips) (k0_t4 : Fin (k0_t4_loop i k0_t2).trips) (v140 : BitVec 32) (v1600 : IVec S16 32) (v1610 : IVec S16 32) (k0_hw306 : k0_chk306 i k0_t2 k0_t4 v140 v1600 v1610), ∀ (k0_h3 : ¬(k0_cond3 v140 = 1#1)), ∀ a x, ((![v1600, v1610] : Fin 2 → IVec S16 32) a x).toNat < S256x128.size a := fun i k0_t2 k0_t4 v140 v1600 v1610 k0_hw306 k0_h3 => k0_hw306.2 k0_h3

def k0_chk307 (i : grid0.Coords) (k0_t2 : Fin (k0_t2_loop i).trips) (k0_t4 : Fin (k0_t4_loop i k0_t2).trips) (v140 : BitVec 32) (v1600 : IVec S16 32) (v1612 : IVec S16 32) : Prop :=
  (∀ (k0_h3 : ¬(k0_cond3 v140 = 1#1)), ∀ a x, ((![v1600, v1612] : Fin 2 → IVec S16 32) a x).toNat < S256x128.size a) ∧
  (∀ (k0_h3 : ¬(k0_cond3 v140 = 1#1)), ∀ a x, ((![v1600, v1612] : Fin 2 → IVec S16 32) a x).toNat < S256x128.size a)
theorem k0_idx552_inb : ∀ (i : grid0.Coords) (k0_t2 : Fin (k0_t2_loop i).trips) (k0_t4 : Fin (k0_t4_loop i k0_t2).trips) (v140 : BitVec 32) (v1600 : IVec S16 32) (v1612 : IVec S16 32) (k0_hw307 : k0_chk307 i k0_t2 k0_t4 v140 v1600 v1612), ∀ (k0_h3 : ¬(k0_cond3 v140 = 1#1)), ∀ a x, ((![v1600, v1612] : Fin 2 → IVec S16 32) a x).toNat < S256x128.size a := fun i k0_t2 k0_t4 v140 v1600 v1612 k0_hw307 k0_h3 => k0_hw307.1 k0_h3
theorem k0_idx553_inb : ∀ (i : grid0.Coords) (k0_t2 : Fin (k0_t2_loop i).trips) (k0_t4 : Fin (k0_t4_loop i k0_t2).trips) (v140 : BitVec 32) (v1600 : IVec S16 32) (v1612 : IVec S16 32) (k0_hw307 : k0_chk307 i k0_t2 k0_t4 v140 v1600 v1612), ∀ (k0_h3 : ¬(k0_cond3 v140 = 1#1)), ∀ a x, ((![v1600, v1612] : Fin 2 → IVec S16 32) a x).toNat < S256x128.size a := fun i k0_t2 k0_t4 v140 v1600 v1612 k0_hw307 k0_h3 => k0_hw307.2 k0_h3

def k0_chk308 (i : grid0.Coords) (k0_t2 : Fin (k0_t2_loop i).trips) (k0_t4 : Fin (k0_t4_loop i k0_t2).trips) (v140 : BitVec 32) (v1600 : IVec S16 32) (v1614 : IVec S16 32) : Prop :=
  (∀ (k0_h3 : ¬(k0_cond3 v140 = 1#1)), ∀ a x, ((![v1600, v1614] : Fin 2 → IVec S16 32) a x).toNat < S256x128.size a) ∧
  (∀ (k0_h3 : ¬(k0_cond3 v140 = 1#1)), ∀ a x, ((![v1600, v1614] : Fin 2 → IVec S16 32) a x).toNat < S256x128.size a)
theorem k0_idx554_inb : ∀ (i : grid0.Coords) (k0_t2 : Fin (k0_t2_loop i).trips) (k0_t4 : Fin (k0_t4_loop i k0_t2).trips) (v140 : BitVec 32) (v1600 : IVec S16 32) (v1614 : IVec S16 32) (k0_hw308 : k0_chk308 i k0_t2 k0_t4 v140 v1600 v1614), ∀ (k0_h3 : ¬(k0_cond3 v140 = 1#1)), ∀ a x, ((![v1600, v1614] : Fin 2 → IVec S16 32) a x).toNat < S256x128.size a := fun i k0_t2 k0_t4 v140 v1600 v1614 k0_hw308 k0_h3 => k0_hw308.1 k0_h3
theorem k0_idx555_inb : ∀ (i : grid0.Coords) (k0_t2 : Fin (k0_t2_loop i).trips) (k0_t4 : Fin (k0_t4_loop i k0_t2).trips) (v140 : BitVec 32) (v1600 : IVec S16 32) (v1614 : IVec S16 32) (k0_hw308 : k0_chk308 i k0_t2 k0_t4 v140 v1600 v1614), ∀ (k0_h3 : ¬(k0_cond3 v140 = 1#1)), ∀ a x, ((![v1600, v1614] : Fin 2 → IVec S16 32) a x).toNat < S256x128.size a := fun i k0_t2 k0_t4 v140 v1600 v1614 k0_hw308 k0_h3 => k0_hw308.2 k0_h3

def k0_chk309 (i : grid0.Coords) (k0_t2 : Fin (k0_t2_loop i).trips) (k0_t4 : Fin (k0_t4_loop i k0_t2).trips) (v140 : BitVec 32) (v1600 : IVec S16 32) (v1616 : IVec S16 32) : Prop :=
  (∀ (k0_h3 : ¬(k0_cond3 v140 = 1#1)), ∀ a x, ((![v1600, v1616] : Fin 2 → IVec S16 32) a x).toNat < S256x128.size a) ∧
  (∀ (k0_h3 : ¬(k0_cond3 v140 = 1#1)), ∀ a x, ((![v1600, v1616] : Fin 2 → IVec S16 32) a x).toNat < S256x128.size a)
theorem k0_idx556_inb : ∀ (i : grid0.Coords) (k0_t2 : Fin (k0_t2_loop i).trips) (k0_t4 : Fin (k0_t4_loop i k0_t2).trips) (v140 : BitVec 32) (v1600 : IVec S16 32) (v1616 : IVec S16 32) (k0_hw309 : k0_chk309 i k0_t2 k0_t4 v140 v1600 v1616), ∀ (k0_h3 : ¬(k0_cond3 v140 = 1#1)), ∀ a x, ((![v1600, v1616] : Fin 2 → IVec S16 32) a x).toNat < S256x128.size a := fun i k0_t2 k0_t4 v140 v1600 v1616 k0_hw309 k0_h3 => k0_hw309.1 k0_h3
theorem k0_idx557_inb : ∀ (i : grid0.Coords) (k0_t2 : Fin (k0_t2_loop i).trips) (k0_t4 : Fin (k0_t4_loop i k0_t2).trips) (v140 : BitVec 32) (v1600 : IVec S16 32) (v1616 : IVec S16 32) (k0_hw309 : k0_chk309 i k0_t2 k0_t4 v140 v1600 v1616), ∀ (k0_h3 : ¬(k0_cond3 v140 = 1#1)), ∀ a x, ((![v1600, v1616] : Fin 2 → IVec S16 32) a x).toNat < S256x128.size a := fun i k0_t2 k0_t4 v140 v1600 v1616 k0_hw309 k0_h3 => k0_hw309.2 k0_h3

def k0_chk310 (i : grid0.Coords) (v2 : IVec S16 32) (k0_t2 : Fin (k0_t2_loop i).trips) (k0_t4 : Fin (k0_t4_loop i k0_t2).trips) (v140 : BitVec 32) (v1600 : IVec S16 32) : Prop :=
  (∀ (k0_h3 : ¬(k0_cond3 v140 = 1#1)), ∀ a x, ((![v1600, v2] : Fin 2 → IVec S16 32) a x).toNat < S256x16.size a)
theorem k0_idx558_inb : ∀ (i : grid0.Coords) (v2 : IVec S16 32) (k0_t2 : Fin (k0_t2_loop i).trips) (k0_t4 : Fin (k0_t4_loop i k0_t2).trips) (v140 : BitVec 32) (v1600 : IVec S16 32) (k0_hw310 : k0_chk310 i v2 k0_t2 k0_t4 v140 v1600), ∀ (k0_h3 : ¬(k0_cond3 v140 = 1#1)), ∀ a x, ((![v1600, v2] : Fin 2 → IVec S16 32) a x).toNat < S256x16.size a := fun i v2 k0_t2 k0_t4 v140 v1600 k0_hw310 k0_h3 => k0_hw310 k0_h3

def k0_chk311 (i : grid0.Coords) (k0_t2 : Fin (k0_t2_loop i).trips) (k0_t4 : Fin (k0_t4_loop i k0_t2).trips) (v140 : BitVec 32) (v1661 : IVec S16 32) : Prop :=
  (∀ (k0_h3 : ¬(k0_cond3 v140 = 1#1)), ∀ a x, ((![v1661] : Fin 1 → IVec S16 32) a x).toNat < S3136.size a)
theorem k0_idx559_inb : ∀ (i : grid0.Coords) (k0_t2 : Fin (k0_t2_loop i).trips) (k0_t4 : Fin (k0_t4_loop i k0_t2).trips) (v140 : BitVec 32) (v1661 : IVec S16 32) (k0_hw311 : k0_chk311 i k0_t2 k0_t4 v140 v1661), ∀ (k0_h3 : ¬(k0_cond3 v140 = 1#1)), ∀ a x, ((![v1661] : Fin 1 → IVec S16 32) a x).toNat < S3136.size a := fun i k0_t2 k0_t4 v140 v1661 k0_hw311 k0_h3 => k0_hw311 k0_h3
def k0_off276 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1664 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c15_i32_513 : BitVec 32 := 15#32
  let v1663 : BitVec 32 := Scalar.addi v126 c15_i32_513
  let v1665 : Index := Scalar.indexCast v1663
  let c0_514 : Index := 0#32
  ![v1664.toNat, v1665.toNat, 0]
def k0_off277 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1668 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c15_i32_515 : BitVec 32 := 15#32
  let v1667 : BitVec 32 := Scalar.addi v126 c15_i32_515
  let v1669 : Index := Scalar.indexCast v1667
  let c16_516 : Index := 16#32
  ![v1668.toNat, v1669.toNat, 16]
def k0_off278 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1672 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c15_i32_517 : BitVec 32 := 15#32
  let v1671 : BitVec 32 := Scalar.addi v126 c15_i32_517
  let v1673 : Index := Scalar.indexCast v1671
  let c32_518 : Index := 32#32
  ![v1672.toNat, v1673.toNat, 32]
def k0_off279 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1676 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c15_i32_519 : BitVec 32 := 15#32
  let v1675 : BitVec 32 := Scalar.addi v126 c15_i32_519
  let v1677 : Index := Scalar.indexCast v1675
  let c48_520 : Index := 48#32
  ![v1676.toNat, v1677.toNat, 48]
def k0_off280 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1680 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c15_i32_521 : BitVec 32 := 15#32
  let v1679 : BitVec 32 := Scalar.addi v126 c15_i32_521
  let v1681 : Index := Scalar.indexCast v1679
  let c64_522 : Index := 64#32
  ![v1680.toNat, v1681.toNat, 64]
def k0_off281 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1684 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c15_i32_523 : BitVec 32 := 15#32
  let v1683 : BitVec 32 := Scalar.addi v126 c15_i32_523
  let v1685 : Index := Scalar.indexCast v1683
  let c80_524 : Index := 80#32
  ![v1684.toNat, v1685.toNat, 80]
def k0_off282 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1688 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c15_i32_525 : BitVec 32 := 15#32
  let v1687 : BitVec 32 := Scalar.addi v126 c15_i32_525
  let v1689 : Index := Scalar.indexCast v1687
  let c96_526 : Index := 96#32
  ![v1688.toNat, v1689.toNat, 96]
def k0_off283 (i : grid0.Coords) (k0_t2 : Fin (k0_t2_loop i).trips) (k0_t4 : Fin (k0_t4_loop i k0_t2).trips) : Fin 3 → Nat :=
  let c0_i32_34 : BitVec 32 := 0#32
  let c1_i32_37 : BitVec 32 := 1#32
  let arg13 : BitVec 32 := Scf.iv c0_i32_34 c1_i32_37 k0_t2
  let c2_i32_43 : BitVec 32 := 2#32
  let v95 : BitVec 32 := Scalar.remsi arg13 c2_i32_43
  let v1692 : Index := Scalar.indexCast v95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t4
  let c16_i32_62 : BitVec 32 := 16#32
  let v125 : BitVec 32 := Scalar.muli arg32 c16_i32_62
  let v126 : BitVec 32 := Scalar.addi v99 v125
  let c15_i32_527 : BitVec 32 := 15#32
  let v1691 : BitVec 32 := Scalar.addi v126 c15_i32_527
  let v1693 : Index := Scalar.indexCast v1691
  let c112_528 : Index := 112#32
  ![v1692.toNat, v1693.toNat, 112]

def k0_chk312 (i : grid0.Coords) (k0_t2 : Fin (k0_t2_loop i).trips) (k0_t4 : Fin (k0_t4_loop i k0_t2).trips) (v140 : BitVec 32) (v1701 : IVec S16 32) (v1703 : IVec S16 32) : Prop :=
  (∀ (k0_h3 : ¬(k0_cond3 v140 = 1#1)), ∀ a x, ((![v1701, v1703] : Fin 2 → IVec S16 32) a x).toNat < S256x128.size a) ∧
  (∀ (k0_h3 : ¬(k0_cond3 v140 = 1#1)), ∀ a x, ((![v1701, v1703] : Fin 2 → IVec S16 32) a x).toNat < S256x128.size a)
theorem k0_idx560_inb : ∀ (i : grid0.Coords) (k0_t2 : Fin (k0_t2_loop i).trips) (k0_t4 : Fin (k0_t4_loop i k0_t2).trips) (v140 : BitVec 32) (v1701 : IVec S16 32) (v1703 : IVec S16 32) (k0_hw312 : k0_chk312 i k0_t2 k0_t4 v140 v1701 v1703), ∀ (k0_h3 : ¬(k0_cond3 v140 = 1#1)), ∀ a x, ((![v1701, v1703] : Fin 2 → IVec S16 32) a x).toNat < S256x128.size a := fun i k0_t2 k0_t4 v140 v1701 v1703 k0_hw312 k0_h3 => k0_hw312.1 k0_h3
theorem k0_idx561_inb : ∀ (i : grid0.Coords) (k0_t2 : Fin (k0_t2_loop i).trips) (k0_t4 : Fin (k0_t4_loop i k0_t2).trips) (v140 : BitVec 32) (v1701 : IVec S16 32) (v1703 : IVec S16 32) (k0_hw312 : k0_chk312 i k0_t2 k0_t4 v140 v1701 v1703), ∀ (k0_h3 : ¬(k0_cond3 v140 = 1#1)), ∀ a x, ((![v1701, v1703] : Fin 2 → IVec S16 32) a x).toNat < S256x128.size a := fun i k0_t2 k0_t4 v140 v1701 v1703 k0_hw312 k0_h3 => k0_hw312.2 k0_h3

def k0_chk313 (i : grid0.Coords) (k0_t2 : Fin (k0_t2_loop i).trips) (k0_t4 : Fin (k0_t4_loop i k0_t2).trips) (v140 : BitVec 32) (v1701 : IVec S16 32) (v1705 : IVec S16 32) : Prop :=
  (∀ (k0_h3 : ¬(k0_cond3 v140 = 1#1)), ∀ a x, ((![v1701, v1705] : Fin 2 → IVec S16 32) a x).toNat < S256x128.size a) ∧
  (∀ (k0_h3 : ¬(k0_cond3 v140 = 1#1)), ∀ a x, ((![v1701, v1705] : Fin 2 → IVec S16 32) a x).toNat < S256x128.size a)
theorem k0_idx562_inb : ∀ (i : grid0.Coords) (k0_t2 : Fin (k0_t2_loop i).trips) (k0_t4 : Fin (k0_t4_loop i k0_t2).trips) (v140 : BitVec 32) (v1701 : IVec S16 32) (v1705 : IVec S16 32) (k0_hw313 : k0_chk313 i k0_t2 k0_t4 v140 v1701 v1705), ∀ (k0_h3 : ¬(k0_cond3 v140 = 1#1)), ∀ a x, ((![v1701, v1705] : Fin 2 → IVec S16 32) a x).toNat < S256x128.size a := fun i k0_t2 k0_t4 v140 v1701 v1705 k0_hw313 k0_h3 => k0_hw313.1 k0_h3
theorem k0_idx563_inb : ∀ (i : grid0.Coords) (k0_t2 : Fin (k0_t2_loop i).trips) (k0_t4 : Fin (k0_t4_loop i k0_t2).trips) (v140 : BitVec 32) (v1701 : IVec S16 32) (v1705 : IVec S16 32) (k0_hw313 : k0_chk313 i k0_t2 k0_t4 v140 v1701 v1705), ∀ (k0_h3 : ¬(k0_cond3 v140 = 1#1)), ∀ a x, ((![v1701, v1705] : Fin 2 → IVec S16 32) a x).toNat < S256x128.size a := fun i k0_t2 k0_t4 v140 v1701 v1705 k0_hw313 k0_h3 => k0_hw313.2 k0_h3

def k0_chk314 (i : grid0.Coords) (k0_t2 : Fin (k0_t2_loop i).trips) (k0_t4 : Fin (k0_t4_loop i k0_t2).trips) (v140 : BitVec 32) (v1701 : IVec S16 32) (v1707 : IVec S16 32) : Prop :=
  (∀ (k0_h3 : ¬(k0_cond3 v140 = 1#1)), ∀ a x, ((![v1701, v1707] : Fin 2 → IVec S16 32) a x).toNat < S256x128.size a) ∧
  (∀ (k0_h3 : ¬(k0_cond3 v140 = 1#1)), ∀ a x, ((![v1701, v1707] : Fin 2 → IVec S16 32) a x).toNat < S256x128.size a)
theorem k0_idx564_inb : ∀ (i : grid0.Coords) (k0_t2 : Fin (k0_t2_loop i).trips) (k0_t4 : Fin (k0_t4_loop i k0_t2).trips) (v140 : BitVec 32) (v1701 : IVec S16 32) (v1707 : IVec S16 32) (k0_hw314 : k0_chk314 i k0_t2 k0_t4 v140 v1701 v1707), ∀ (k0_h3 : ¬(k0_cond3 v140 = 1#1)), ∀ a x, ((![v1701, v1707] : Fin 2 → IVec S16 32) a x).toNat < S256x128.size a := fun i k0_t2 k0_t4 v140 v1701 v1707 k0_hw314 k0_h3 => k0_hw314.1 k0_h3
theorem k0_idx565_inb : ∀ (i : grid0.Coords) (k0_t2 : Fin (k0_t2_loop i).trips) (k0_t4 : Fin (k0_t4_loop i k0_t2).trips) (v140 : BitVec 32) (v1701 : IVec S16 32) (v1707 : IVec S16 32) (k0_hw314 : k0_chk314 i k0_t2 k0_t4 v140 v1701 v1707), ∀ (k0_h3 : ¬(k0_cond3 v140 = 1#1)), ∀ a x, ((![v1701, v1707] : Fin 2 → IVec S16 32) a x).toNat < S256x128.size a := fun i k0_t2 k0_t4 v140 v1701 v1707 k0_hw314 k0_h3 => k0_hw314.2 k0_h3

def k0_chk315 (i : grid0.Coords) (k0_t2 : Fin (k0_t2_loop i).trips) (k0_t4 : Fin (k0_t4_loop i k0_t2).trips) (v140 : BitVec 32) (v1701 : IVec S16 32) (v1709 : IVec S16 32) : Prop :=
  (∀ (k0_h3 : ¬(k0_cond3 v140 = 1#1)), ∀ a x, ((![v1701, v1709] : Fin 2 → IVec S16 32) a x).toNat < S256x128.size a) ∧
  (∀ (k0_h3 : ¬(k0_cond3 v140 = 1#1)), ∀ a x, ((![v1701, v1709] : Fin 2 → IVec S16 32) a x).toNat < S256x128.size a)
theorem k0_idx566_inb : ∀ (i : grid0.Coords) (k0_t2 : Fin (k0_t2_loop i).trips) (k0_t4 : Fin (k0_t4_loop i k0_t2).trips) (v140 : BitVec 32) (v1701 : IVec S16 32) (v1709 : IVec S16 32) (k0_hw315 : k0_chk315 i k0_t2 k0_t4 v140 v1701 v1709), ∀ (k0_h3 : ¬(k0_cond3 v140 = 1#1)), ∀ a x, ((![v1701, v1709] : Fin 2 → IVec S16 32) a x).toNat < S256x128.size a := fun i k0_t2 k0_t4 v140 v1701 v1709 k0_hw315 k0_h3 => k0_hw315.1 k0_h3
theorem k0_idx567_inb : ∀ (i : grid0.Coords) (k0_t2 : Fin (k0_t2_loop i).trips) (k0_t4 : Fin (k0_t4_loop i k0_t2).trips) (v140 : BitVec 32) (v1701 : IVec S16 32) (v1709 : IVec S16 32) (k0_hw315 : k0_chk315 i k0_t2 k0_t4 v140 v1701 v1709), ∀ (k0_h3 : ¬(k0_cond3 v140 = 1#1)), ∀ a x, ((![v1701, v1709] : Fin 2 → IVec S16 32) a x).toNat < S256x128.size a := fun i k0_t2 k0_t4 v140 v1701 v1709 k0_hw315 k0_h3 => k0_hw315.2 k0_h3

def k0_chk316 (i : grid0.Coords) (k0_t2 : Fin (k0_t2_loop i).trips) (k0_t4 : Fin (k0_t4_loop i k0_t2).trips) (v140 : BitVec 32) (v1701 : IVec S16 32) (v1711 : IVec S16 32) : Prop :=
  (∀ (k0_h3 : ¬(k0_cond3 v140 = 1#1)), ∀ a x, ((![v1701, v1711] : Fin 2 → IVec S16 32) a x).toNat < S256x128.size a) ∧
  (∀ (k0_h3 : ¬(k0_cond3 v140 = 1#1)), ∀ a x, ((![v1701, v1711] : Fin 2 → IVec S16 32) a x).toNat < S256x128.size a)
theorem k0_idx568_inb : ∀ (i : grid0.Coords) (k0_t2 : Fin (k0_t2_loop i).trips) (k0_t4 : Fin (k0_t4_loop i k0_t2).trips) (v140 : BitVec 32) (v1701 : IVec S16 32) (v1711 : IVec S16 32) (k0_hw316 : k0_chk316 i k0_t2 k0_t4 v140 v1701 v1711), ∀ (k0_h3 : ¬(k0_cond3 v140 = 1#1)), ∀ a x, ((![v1701, v1711] : Fin 2 → IVec S16 32) a x).toNat < S256x128.size a := fun i k0_t2 k0_t4 v140 v1701 v1711 k0_hw316 k0_h3 => k0_hw316.1 k0_h3
theorem k0_idx569_inb : ∀ (i : grid0.Coords) (k0_t2 : Fin (k0_t2_loop i).trips) (k0_t4 : Fin (k0_t4_loop i k0_t2).trips) (v140 : BitVec 32) (v1701 : IVec S16 32) (v1711 : IVec S16 32) (k0_hw316 : k0_chk316 i k0_t2 k0_t4 v140 v1701 v1711), ∀ (k0_h3 : ¬(k0_cond3 v140 = 1#1)), ∀ a x, ((![v1701, v1711] : Fin 2 → IVec S16 32) a x).toNat < S256x128.size a := fun i k0_t2 k0_t4 v140 v1701 v1711 k0_hw316 k0_h3 => k0_hw316.2 k0_h3

def k0_chk317 (i : grid0.Coords) (k0_t2 : Fin (k0_t2_loop i).trips) (k0_t4 : Fin (k0_t4_loop i k0_t2).trips) (v140 : BitVec 32) (v1701 : IVec S16 32) (v1713 : IVec S16 32) : Prop :=
  (∀ (k0_h3 : ¬(k0_cond3 v140 = 1#1)), ∀ a x, ((![v1701, v1713] : Fin 2 → IVec S16 32) a x).toNat < S256x128.size a) ∧
  (∀ (k0_h3 : ¬(k0_cond3 v140 = 1#1)), ∀ a x, ((![v1701, v1713] : Fin 2 → IVec S16 32) a x).toNat < S256x128.size a)
theorem k0_idx570_inb : ∀ (i : grid0.Coords) (k0_t2 : Fin (k0_t2_loop i).trips) (k0_t4 : Fin (k0_t4_loop i k0_t2).trips) (v140 : BitVec 32) (v1701 : IVec S16 32) (v1713 : IVec S16 32) (k0_hw317 : k0_chk317 i k0_t2 k0_t4 v140 v1701 v1713), ∀ (k0_h3 : ¬(k0_cond3 v140 = 1#1)), ∀ a x, ((![v1701, v1713] : Fin 2 → IVec S16 32) a x).toNat < S256x128.size a := fun i k0_t2 k0_t4 v140 v1701 v1713 k0_hw317 k0_h3 => k0_hw317.1 k0_h3
theorem k0_idx571_inb : ∀ (i : grid0.Coords) (k0_t2 : Fin (k0_t2_loop i).trips) (k0_t4 : Fin (k0_t4_loop i k0_t2).trips) (v140 : BitVec 32) (v1701 : IVec S16 32) (v1713 : IVec S16 32) (k0_hw317 : k0_chk317 i k0_t2 k0_t4 v140 v1701 v1713), ∀ (k0_h3 : ¬(k0_cond3 v140 = 1#1)), ∀ a x, ((![v1701, v1713] : Fin 2 → IVec S16 32) a x).toNat < S256x128.size a := fun i k0_t2 k0_t4 v140 v1701 v1713 k0_hw317 k0_h3 => k0_hw317.2 k0_h3

def k0_chk318 (i : grid0.Coords) (k0_t2 : Fin (k0_t2_loop i).trips) (k0_t4 : Fin (k0_t4_loop i k0_t2).trips) (v140 : BitVec 32) (v1701 : IVec S16 32) (v1715 : IVec S16 32) : Prop :=
  (∀ (k0_h3 : ¬(k0_cond3 v140 = 1#1)), ∀ a x, ((![v1701, v1715] : Fin 2 → IVec S16 32) a x).toNat < S256x128.size a) ∧
  (∀ (k0_h3 : ¬(k0_cond3 v140 = 1#1)), ∀ a x, ((![v1701, v1715] : Fin 2 → IVec S16 32) a x).toNat < S256x128.size a)
theorem k0_idx572_inb : ∀ (i : grid0.Coords) (k0_t2 : Fin (k0_t2_loop i).trips) (k0_t4 : Fin (k0_t4_loop i k0_t2).trips) (v140 : BitVec 32) (v1701 : IVec S16 32) (v1715 : IVec S16 32) (k0_hw318 : k0_chk318 i k0_t2 k0_t4 v140 v1701 v1715), ∀ (k0_h3 : ¬(k0_cond3 v140 = 1#1)), ∀ a x, ((![v1701, v1715] : Fin 2 → IVec S16 32) a x).toNat < S256x128.size a := fun i k0_t2 k0_t4 v140 v1701 v1715 k0_hw318 k0_h3 => k0_hw318.1 k0_h3
theorem k0_idx573_inb : ∀ (i : grid0.Coords) (k0_t2 : Fin (k0_t2_loop i).trips) (k0_t4 : Fin (k0_t4_loop i k0_t2).trips) (v140 : BitVec 32) (v1701 : IVec S16 32) (v1715 : IVec S16 32) (k0_hw318 : k0_chk318 i k0_t2 k0_t4 v140 v1701 v1715), ∀ (k0_h3 : ¬(k0_cond3 v140 = 1#1)), ∀ a x, ((![v1701, v1715] : Fin 2 → IVec S16 32) a x).toNat < S256x128.size a := fun i k0_t2 k0_t4 v140 v1701 v1715 k0_hw318 k0_h3 => k0_hw318.2 k0_h3

def k0_chk319 (i : grid0.Coords) (k0_t2 : Fin (k0_t2_loop i).trips) (k0_t4 : Fin (k0_t4_loop i k0_t2).trips) (v140 : BitVec 32) (v1701 : IVec S16 32) (v1717 : IVec S16 32) : Prop :=
  (∀ (k0_h3 : ¬(k0_cond3 v140 = 1#1)), ∀ a x, ((![v1701, v1717] : Fin 2 → IVec S16 32) a x).toNat < S256x128.size a) ∧
  (∀ (k0_h3 : ¬(k0_cond3 v140 = 1#1)), ∀ a x, ((![v1701, v1717] : Fin 2 → IVec S16 32) a x).toNat < S256x128.size a)
theorem k0_idx574_inb : ∀ (i : grid0.Coords) (k0_t2 : Fin (k0_t2_loop i).trips) (k0_t4 : Fin (k0_t4_loop i k0_t2).trips) (v140 : BitVec 32) (v1701 : IVec S16 32) (v1717 : IVec S16 32) (k0_hw319 : k0_chk319 i k0_t2 k0_t4 v140 v1701 v1717), ∀ (k0_h3 : ¬(k0_cond3 v140 = 1#1)), ∀ a x, ((![v1701, v1717] : Fin 2 → IVec S16 32) a x).toNat < S256x128.size a := fun i k0_t2 k0_t4 v140 v1701 v1717 k0_hw319 k0_h3 => k0_hw319.1 k0_h3
theorem k0_idx575_inb : ∀ (i : grid0.Coords) (k0_t2 : Fin (k0_t2_loop i).trips) (k0_t4 : Fin (k0_t4_loop i k0_t2).trips) (v140 : BitVec 32) (v1701 : IVec S16 32) (v1717 : IVec S16 32) (k0_hw319 : k0_chk319 i k0_t2 k0_t4 v140 v1701 v1717), ∀ (k0_h3 : ¬(k0_cond3 v140 = 1#1)), ∀ a x, ((![v1701, v1717] : Fin 2 → IVec S16 32) a x).toNat < S256x128.size a := fun i k0_t2 k0_t4 v140 v1701 v1717 k0_hw319 k0_h3 => k0_hw319.2 k0_h3

def k0_chk320 (i : grid0.Coords) (v2 : IVec S16 32) (k0_t2 : Fin (k0_t2_loop i).trips) (k0_t4 : Fin (k0_t4_loop i k0_t2).trips) (v140 : BitVec 32) (v1701 : IVec S16 32) : Prop :=
  (∀ (k0_h3 : ¬(k0_cond3 v140 = 1#1)), ∀ a x, ((![v1701, v2] : Fin 2 → IVec S16 32) a x).toNat < S256x16.size a)
theorem k0_idx576_inb : ∀ (i : grid0.Coords) (v2 : IVec S16 32) (k0_t2 : Fin (k0_t2_loop i).trips) (k0_t4 : Fin (k0_t4_loop i k0_t2).trips) (v140 : BitVec 32) (v1701 : IVec S16 32) (k0_hw320 : k0_chk320 i v2 k0_t2 k0_t4 v140 v1701), ∀ (k0_h3 : ¬(k0_cond3 v140 = 1#1)), ∀ a x, ((![v1701, v2] : Fin 2 → IVec S16 32) a x).toNat < S256x16.size a := fun i v2 k0_t2 k0_t4 v140 v1701 k0_hw320 k0_h3 => k0_hw320 k0_h3
@[reducible] def k0_t5_loop (i : grid0.Coords) : Scf.Loop 32 :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let v68 : BitVec 32 := Scalar.addi c0_i32_34 v67
  let c1_i32_38 : BitVec 32 := 1#32
  ⟨v71, v68, c1_i32_38⟩
def k0_off284 (i : grid0.Coords) (k0_t5 : Fin (k0_t5_loop i).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let c0_i32_48 : BitVec 32 := 0#32
  let c0_i32_49 : BitVec 32 := 0#32
  ![v95.toNat, 0, 0]
def k0_off285 (i : grid0.Coords) (k0_t5 : Fin (k0_t5_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c0_i32_34 : BitVec 32 := 0#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c112_i32_46 : BitVec 32 := 112#32
  let v100 : BitVec 32 := Scalar.muli arg13 c112_i32_46
  let v101 : BitVec 32 := Scalar.addi v5 v100
  let c99888_i32_47 : BitVec 32 := 99888#32
  let v102 : BitVec 32 := Scalar.minsi v101 c99888_i32_47
  let c0_i32_50 : BitVec 32 := 0#32
  ![v102.toNat, 0]
def k0_off286 (i : grid0.Coords) (k0_t5 : Fin (k0_t5_loop i).trips) : Fin 1 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  ![v95.toNat]
def k0_cond4 (i : grid0.Coords) (k0_t5 : Fin (k0_t5_loop i).trips) : BitVec 1 :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c1_i32_54 : BitVec 32 := 1#32
  let v111 : BitVec 32 := Scalar.addi arg13 c1_i32_54
  let v112 : BitVec 1 := Scalar.cmpi .slt v111 v44
  let v113 : BitVec 32 := Scalar.extui v112
  let c0_i32_55 : BitVec 32 := 0#32
  let v114 : BitVec 1 := Scalar.cmpi .ne v113 c0_i32_55
  v114

def k0_off287 (i : grid0.Coords) (k0_t5 : Fin (k0_t5_loop i).trips) : Fin 3 → Nat :=
  let c1_i32_63 : BitVec 32 := 1#32
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v126 : BitVec 32 := Scalar.subi c1_i32_63 v95
  let c0_i32_66 : BitVec 32 := 0#32
  let c0_i32_67 : BitVec 32 := 0#32
  ![v126.toNat, 0, 0]
def k0_off288 (i : grid0.Coords) (k0_t5 : Fin (k0_t5_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c0_i32_34 : BitVec 32 := 0#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c1_i32_62 : BitVec 32 := 1#32
  let v125 : BitVec 32 := Scalar.addi arg13 c1_i32_62
  let c112_i32_64 : BitVec 32 := 112#32
  let v127 : BitVec 32 := Scalar.muli v125 c112_i32_64
  let v128 : BitVec 32 := Scalar.addi v5 v127
  let c99888_i32_65 : BitVec 32 := 99888#32
  let v129 : BitVec 32 := Scalar.minsi v128 c99888_i32_65
  let c0_i32_68 : BitVec 32 := 0#32
  ![v129.toNat, 0]
def k0_off289 (i : grid0.Coords) (k0_t5 : Fin (k0_t5_loop i).trips) : Fin 1 → Nat :=
  let c1_i32_63 : BitVec 32 := 1#32
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v126 : BitVec 32 := Scalar.subi c1_i32_63 v95
  ![v126.toNat]
@[reducible] def k0_t6_loop (i : grid0.Coords) (k0_t5 : Fin (k0_t5_loop i).trips) : Scf.Loop 32 :=
  let c0_i32_58 : BitVec 32 := 0#32
  let c7_i32_57 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c0_i32_34 : BitVec 32 := 0#32
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_60 : BitVec 32 := 1#32
  ⟨c0_i32_58, v122, c1_i32_60⟩
def k0_off290 (i : grid0.Coords) (k0_t5 : Fin (k0_t5_loop i).trips) (k0_t6 : Fin (k0_t6_loop i k0_t5).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c96864_i32 : BitVec 32 := 96864#32
  let v45 : BitVec 32 := Scalar.minsi v5 c96864_i32
  let v46 : BitVec 32 := v45
  let v47 : BitVec 32 := Scalar.subi v5 v46
  let c0_i32_34 : BitVec 32 := 0#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c7_i32_63 : BitVec 32 := 7#32
  let v127 : BitVec 32 := Scalar.muli arg13 c7_i32_63
  let c0_i32_58 : BitVec 32 := 0#32
  let c1_i32_60 : BitVec 32 := 1#32
  let arg32 : BitVec 32 := Scf.iv c0_i32_58 c1_i32_60 k0_t6
  let v128 : BitVec 32 := Scalar.addi v127 arg32
  let c16_i32_64 : BitVec 32 := 16#32
  let v129 : BitVec 32 := Scalar.muli v128 c16_i32_64
  let v130 : BitVec 32 := Scalar.addi v47 v129
  let v131 : Index := Scalar.indexCast v130
  ![v131.toNat]
def k0_off291 (i : grid0.Coords) (k0_t5 : Fin (k0_t5_loop i).trips) (k0_t6 : Fin (k0_t6_loop i k0_t5).trips) (c0_i32_67 : BitVec 32) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v146 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let v145 : BitVec 32 := Scalar.addi v126 c0_i32_67
  let v147 : Index := Scalar.indexCast v145
  let c0 : Index := 0#32
  ![v146.toNat, v147.toNat, 0]
def k0_off292 (i : grid0.Coords) (k0_t5 : Fin (k0_t5_loop i).trips) (k0_t6 : Fin (k0_t6_loop i k0_t5).trips) (c0_i32_68 : BitVec 32) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v150 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let v149 : BitVec 32 := Scalar.addi v126 c0_i32_68
  let v151 : Index := Scalar.indexCast v149
  let c16 : Index := 16#32
  ![v150.toNat, v151.toNat, 16]
def k0_off293 (i : grid0.Coords) (k0_t5 : Fin (k0_t5_loop i).trips) (k0_t6 : Fin (k0_t6_loop i k0_t5).trips) (c0_i32_69 : BitVec 32) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v154 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let v153 : BitVec 32 := Scalar.addi v126 c0_i32_69
  let v155 : Index := Scalar.indexCast v153
  let c32 : Index := 32#32
  ![v154.toNat, v155.toNat, 32]
def k0_off294 (i : grid0.Coords) (k0_t5 : Fin (k0_t5_loop i).trips) (k0_t6 : Fin (k0_t6_loop i k0_t5).trips) (c0_i32_70 : BitVec 32) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v158 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let v157 : BitVec 32 := Scalar.addi v126 c0_i32_70
  let v159 : Index := Scalar.indexCast v157
  let c48 : Index := 48#32
  ![v158.toNat, v159.toNat, 48]
def k0_off295 (i : grid0.Coords) (k0_t5 : Fin (k0_t5_loop i).trips) (k0_t6 : Fin (k0_t6_loop i k0_t5).trips) (c0_i32_71 : BitVec 32) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v162 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let v161 : BitVec 32 := Scalar.addi v126 c0_i32_71
  let v163 : Index := Scalar.indexCast v161
  let c64 : Index := 64#32
  ![v162.toNat, v163.toNat, 64]
def k0_off296 (i : grid0.Coords) (k0_t5 : Fin (k0_t5_loop i).trips) (k0_t6 : Fin (k0_t6_loop i k0_t5).trips) (c0_i32_72 : BitVec 32) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v166 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let v165 : BitVec 32 := Scalar.addi v126 c0_i32_72
  let v167 : Index := Scalar.indexCast v165
  let c80 : Index := 80#32
  ![v166.toNat, v167.toNat, 80]
def k0_off297 (i : grid0.Coords) (k0_t5 : Fin (k0_t5_loop i).trips) (k0_t6 : Fin (k0_t6_loop i k0_t5).trips) (c0_i32_73 : BitVec 32) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v170 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let v169 : BitVec 32 := Scalar.addi v126 c0_i32_73
  let v171 : Index := Scalar.indexCast v169
  let c96 : Index := 96#32
  ![v170.toNat, v171.toNat, 96]
def k0_off298 (i : grid0.Coords) (k0_t5 : Fin (k0_t5_loop i).trips) (k0_t6 : Fin (k0_t6_loop i k0_t5).trips) (c0_i32_74 : BitVec 32) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v174 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let v173 : BitVec 32 := Scalar.addi v126 c0_i32_74
  let v175 : Index := Scalar.indexCast v173
  let c112 : Index := 112#32
  ![v174.toNat, v175.toNat, 112]
def k0_cond5 (v140 : BitVec 32) : BitVec 1 :=
  let c1_i32_65 : BitVec 32 := 1#32
  let v141 : BitVec 1 := Scalar.cmpi .eq v140 c1_i32_65
  let v142 : BitVec 32 := Scalar.extui v141
  let c0_i32_66 : BitVec 32 := 0#32
  let v143 : BitVec 1 := Scalar.cmpi .ne v142 c0_i32_66
  v143

def k0_chk321 (i : grid0.Coords) (k0_t5 : Fin (k0_t5_loop i).trips) (v140 : BitVec 32) (v146 : IVec S16 32) : Prop :=
  (∀ (k0_h5 : ¬(k0_cond5 v140 = 1#1)), ∀ a x, ((![v146] : Fin 1 → IVec S16 32) a x).toNat < S3136.size a)
theorem k0_idx577_inb : ∀ (i : grid0.Coords) (k0_t5 : Fin (k0_t5_loop i).trips) (v140 : BitVec 32) (v146 : IVec S16 32) (k0_hw321 : k0_chk321 i k0_t5 v140 v146), ∀ (k0_h5 : ¬(k0_cond5 v140 = 1#1)), ∀ a x, ((![v146] : Fin 1 → IVec S16 32) a x).toNat < S3136.size a := fun i k0_t5 v140 v146 k0_hw321 k0_h5 => k0_hw321 k0_h5
def k0_off299 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v149 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c0_i32_68 : BitVec 32 := 0#32
  let v148 : BitVec 32 := Scalar.addi v126 c0_i32_68
  let v150 : Index := Scalar.indexCast v148
  let c0 : Index := 0#32
  ![v149.toNat, v150.toNat, 0]
def k0_off300 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v153 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c0_i32_69 : BitVec 32 := 0#32
  let v152 : BitVec 32 := Scalar.addi v126 c0_i32_69
  let v154 : Index := Scalar.indexCast v152
  let c16 : Index := 16#32
  ![v153.toNat, v154.toNat, 16]
def k0_off301 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v157 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c0_i32_70 : BitVec 32 := 0#32
  let v156 : BitVec 32 := Scalar.addi v126 c0_i32_70
  let v158 : Index := Scalar.indexCast v156
  let c32 : Index := 32#32
  ![v157.toNat, v158.toNat, 32]
def k0_off302 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v161 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c0_i32_71 : BitVec 32 := 0#32
  let v160 : BitVec 32 := Scalar.addi v126 c0_i32_71
  let v162 : Index := Scalar.indexCast v160
  let c48 : Index := 48#32
  ![v161.toNat, v162.toNat, 48]
def k0_off303 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v165 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c0_i32_72 : BitVec 32 := 0#32
  let v164 : BitVec 32 := Scalar.addi v126 c0_i32_72
  let v166 : Index := Scalar.indexCast v164
  let c64 : Index := 64#32
  ![v165.toNat, v166.toNat, 64]
def k0_off304 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v169 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c0_i32_73 : BitVec 32 := 0#32
  let v168 : BitVec 32 := Scalar.addi v126 c0_i32_73
  let v170 : Index := Scalar.indexCast v168
  let c80 : Index := 80#32
  ![v169.toNat, v170.toNat, 80]
def k0_off305 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v173 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c0_i32_74 : BitVec 32 := 0#32
  let v172 : BitVec 32 := Scalar.addi v126 c0_i32_74
  let v174 : Index := Scalar.indexCast v172
  let c96 : Index := 96#32
  ![v173.toNat, v174.toNat, 96]
def k0_off306 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v177 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c0_i32_75 : BitVec 32 := 0#32
  let v176 : BitVec 32 := Scalar.addi v126 c0_i32_75
  let v178 : Index := Scalar.indexCast v176
  let c112 : Index := 112#32
  ![v177.toNat, v178.toNat, 112]

def k0_chk322 (i : grid0.Coords) (k0_t5 : Fin (k0_t5_loop i).trips) (v140 : BitVec 32) (v186 : IVec S16 32) (v188 : IVec S16 32) : Prop :=
  (∀ (k0_h5 : ¬(k0_cond5 v140 = 1#1)), ∀ a x, ((![v186, v188] : Fin 2 → IVec S16 32) a x).toNat < S256x128.size a) ∧
  (∀ (k0_h5 : ¬(k0_cond5 v140 = 1#1)), ∀ a x, ((![v186, v188] : Fin 2 → IVec S16 32) a x).toNat < S256x128.size a)
theorem k0_idx578_inb : ∀ (i : grid0.Coords) (k0_t5 : Fin (k0_t5_loop i).trips) (v140 : BitVec 32) (v186 : IVec S16 32) (v188 : IVec S16 32) (k0_hw322 : k0_chk322 i k0_t5 v140 v186 v188), ∀ (k0_h5 : ¬(k0_cond5 v140 = 1#1)), ∀ a x, ((![v186, v188] : Fin 2 → IVec S16 32) a x).toNat < S256x128.size a := fun i k0_t5 v140 v186 v188 k0_hw322 k0_h5 => k0_hw322.1 k0_h5
theorem k0_idx579_inb : ∀ (i : grid0.Coords) (k0_t5 : Fin (k0_t5_loop i).trips) (v140 : BitVec 32) (v186 : IVec S16 32) (v188 : IVec S16 32) (k0_hw322 : k0_chk322 i k0_t5 v140 v186 v188), ∀ (k0_h5 : ¬(k0_cond5 v140 = 1#1)), ∀ a x, ((![v186, v188] : Fin 2 → IVec S16 32) a x).toNat < S256x128.size a := fun i k0_t5 v140 v186 v188 k0_hw322 k0_h5 => k0_hw322.2 k0_h5

def k0_chk323 (i : grid0.Coords) (k0_t5 : Fin (k0_t5_loop i).trips) (v140 : BitVec 32) (v186 : IVec S16 32) (v190 : IVec S16 32) : Prop :=
  (∀ (k0_h5 : ¬(k0_cond5 v140 = 1#1)), ∀ a x, ((![v186, v190] : Fin 2 → IVec S16 32) a x).toNat < S256x128.size a) ∧
  (∀ (k0_h5 : ¬(k0_cond5 v140 = 1#1)), ∀ a x, ((![v186, v190] : Fin 2 → IVec S16 32) a x).toNat < S256x128.size a)
theorem k0_idx580_inb : ∀ (i : grid0.Coords) (k0_t5 : Fin (k0_t5_loop i).trips) (v140 : BitVec 32) (v186 : IVec S16 32) (v190 : IVec S16 32) (k0_hw323 : k0_chk323 i k0_t5 v140 v186 v190), ∀ (k0_h5 : ¬(k0_cond5 v140 = 1#1)), ∀ a x, ((![v186, v190] : Fin 2 → IVec S16 32) a x).toNat < S256x128.size a := fun i k0_t5 v140 v186 v190 k0_hw323 k0_h5 => k0_hw323.1 k0_h5
theorem k0_idx581_inb : ∀ (i : grid0.Coords) (k0_t5 : Fin (k0_t5_loop i).trips) (v140 : BitVec 32) (v186 : IVec S16 32) (v190 : IVec S16 32) (k0_hw323 : k0_chk323 i k0_t5 v140 v186 v190), ∀ (k0_h5 : ¬(k0_cond5 v140 = 1#1)), ∀ a x, ((![v186, v190] : Fin 2 → IVec S16 32) a x).toNat < S256x128.size a := fun i k0_t5 v140 v186 v190 k0_hw323 k0_h5 => k0_hw323.2 k0_h5

def k0_chk324 (i : grid0.Coords) (k0_t5 : Fin (k0_t5_loop i).trips) (v140 : BitVec 32) (v186 : IVec S16 32) (v192 : IVec S16 32) : Prop :=
  (∀ (k0_h5 : ¬(k0_cond5 v140 = 1#1)), ∀ a x, ((![v186, v192] : Fin 2 → IVec S16 32) a x).toNat < S256x128.size a) ∧
  (∀ (k0_h5 : ¬(k0_cond5 v140 = 1#1)), ∀ a x, ((![v186, v192] : Fin 2 → IVec S16 32) a x).toNat < S256x128.size a)
theorem k0_idx582_inb : ∀ (i : grid0.Coords) (k0_t5 : Fin (k0_t5_loop i).trips) (v140 : BitVec 32) (v186 : IVec S16 32) (v192 : IVec S16 32) (k0_hw324 : k0_chk324 i k0_t5 v140 v186 v192), ∀ (k0_h5 : ¬(k0_cond5 v140 = 1#1)), ∀ a x, ((![v186, v192] : Fin 2 → IVec S16 32) a x).toNat < S256x128.size a := fun i k0_t5 v140 v186 v192 k0_hw324 k0_h5 => k0_hw324.1 k0_h5
theorem k0_idx583_inb : ∀ (i : grid0.Coords) (k0_t5 : Fin (k0_t5_loop i).trips) (v140 : BitVec 32) (v186 : IVec S16 32) (v192 : IVec S16 32) (k0_hw324 : k0_chk324 i k0_t5 v140 v186 v192), ∀ (k0_h5 : ¬(k0_cond5 v140 = 1#1)), ∀ a x, ((![v186, v192] : Fin 2 → IVec S16 32) a x).toNat < S256x128.size a := fun i k0_t5 v140 v186 v192 k0_hw324 k0_h5 => k0_hw324.2 k0_h5

def k0_chk325 (i : grid0.Coords) (k0_t5 : Fin (k0_t5_loop i).trips) (v140 : BitVec 32) (v186 : IVec S16 32) (v194 : IVec S16 32) : Prop :=
  (∀ (k0_h5 : ¬(k0_cond5 v140 = 1#1)), ∀ a x, ((![v186, v194] : Fin 2 → IVec S16 32) a x).toNat < S256x128.size a) ∧
  (∀ (k0_h5 : ¬(k0_cond5 v140 = 1#1)), ∀ a x, ((![v186, v194] : Fin 2 → IVec S16 32) a x).toNat < S256x128.size a)
theorem k0_idx584_inb : ∀ (i : grid0.Coords) (k0_t5 : Fin (k0_t5_loop i).trips) (v140 : BitVec 32) (v186 : IVec S16 32) (v194 : IVec S16 32) (k0_hw325 : k0_chk325 i k0_t5 v140 v186 v194), ∀ (k0_h5 : ¬(k0_cond5 v140 = 1#1)), ∀ a x, ((![v186, v194] : Fin 2 → IVec S16 32) a x).toNat < S256x128.size a := fun i k0_t5 v140 v186 v194 k0_hw325 k0_h5 => k0_hw325.1 k0_h5
theorem k0_idx585_inb : ∀ (i : grid0.Coords) (k0_t5 : Fin (k0_t5_loop i).trips) (v140 : BitVec 32) (v186 : IVec S16 32) (v194 : IVec S16 32) (k0_hw325 : k0_chk325 i k0_t5 v140 v186 v194), ∀ (k0_h5 : ¬(k0_cond5 v140 = 1#1)), ∀ a x, ((![v186, v194] : Fin 2 → IVec S16 32) a x).toNat < S256x128.size a := fun i k0_t5 v140 v186 v194 k0_hw325 k0_h5 => k0_hw325.2 k0_h5

def k0_chk326 (i : grid0.Coords) (k0_t5 : Fin (k0_t5_loop i).trips) (v140 : BitVec 32) (v186 : IVec S16 32) (v196 : IVec S16 32) : Prop :=
  (∀ (k0_h5 : ¬(k0_cond5 v140 = 1#1)), ∀ a x, ((![v186, v196] : Fin 2 → IVec S16 32) a x).toNat < S256x128.size a) ∧
  (∀ (k0_h5 : ¬(k0_cond5 v140 = 1#1)), ∀ a x, ((![v186, v196] : Fin 2 → IVec S16 32) a x).toNat < S256x128.size a)
theorem k0_idx586_inb : ∀ (i : grid0.Coords) (k0_t5 : Fin (k0_t5_loop i).trips) (v140 : BitVec 32) (v186 : IVec S16 32) (v196 : IVec S16 32) (k0_hw326 : k0_chk326 i k0_t5 v140 v186 v196), ∀ (k0_h5 : ¬(k0_cond5 v140 = 1#1)), ∀ a x, ((![v186, v196] : Fin 2 → IVec S16 32) a x).toNat < S256x128.size a := fun i k0_t5 v140 v186 v196 k0_hw326 k0_h5 => k0_hw326.1 k0_h5
theorem k0_idx587_inb : ∀ (i : grid0.Coords) (k0_t5 : Fin (k0_t5_loop i).trips) (v140 : BitVec 32) (v186 : IVec S16 32) (v196 : IVec S16 32) (k0_hw326 : k0_chk326 i k0_t5 v140 v186 v196), ∀ (k0_h5 : ¬(k0_cond5 v140 = 1#1)), ∀ a x, ((![v186, v196] : Fin 2 → IVec S16 32) a x).toNat < S256x128.size a := fun i k0_t5 v140 v186 v196 k0_hw326 k0_h5 => k0_hw326.2 k0_h5

def k0_chk327 (i : grid0.Coords) (k0_t5 : Fin (k0_t5_loop i).trips) (v140 : BitVec 32) (v186 : IVec S16 32) (v198 : IVec S16 32) : Prop :=
  (∀ (k0_h5 : ¬(k0_cond5 v140 = 1#1)), ∀ a x, ((![v186, v198] : Fin 2 → IVec S16 32) a x).toNat < S256x128.size a) ∧
  (∀ (k0_h5 : ¬(k0_cond5 v140 = 1#1)), ∀ a x, ((![v186, v198] : Fin 2 → IVec S16 32) a x).toNat < S256x128.size a)
theorem k0_idx588_inb : ∀ (i : grid0.Coords) (k0_t5 : Fin (k0_t5_loop i).trips) (v140 : BitVec 32) (v186 : IVec S16 32) (v198 : IVec S16 32) (k0_hw327 : k0_chk327 i k0_t5 v140 v186 v198), ∀ (k0_h5 : ¬(k0_cond5 v140 = 1#1)), ∀ a x, ((![v186, v198] : Fin 2 → IVec S16 32) a x).toNat < S256x128.size a := fun i k0_t5 v140 v186 v198 k0_hw327 k0_h5 => k0_hw327.1 k0_h5
theorem k0_idx589_inb : ∀ (i : grid0.Coords) (k0_t5 : Fin (k0_t5_loop i).trips) (v140 : BitVec 32) (v186 : IVec S16 32) (v198 : IVec S16 32) (k0_hw327 : k0_chk327 i k0_t5 v140 v186 v198), ∀ (k0_h5 : ¬(k0_cond5 v140 = 1#1)), ∀ a x, ((![v186, v198] : Fin 2 → IVec S16 32) a x).toNat < S256x128.size a := fun i k0_t5 v140 v186 v198 k0_hw327 k0_h5 => k0_hw327.2 k0_h5

def k0_chk328 (i : grid0.Coords) (k0_t5 : Fin (k0_t5_loop i).trips) (v140 : BitVec 32) (v186 : IVec S16 32) (v200 : IVec S16 32) : Prop :=
  (∀ (k0_h5 : ¬(k0_cond5 v140 = 1#1)), ∀ a x, ((![v186, v200] : Fin 2 → IVec S16 32) a x).toNat < S256x128.size a) ∧
  (∀ (k0_h5 : ¬(k0_cond5 v140 = 1#1)), ∀ a x, ((![v186, v200] : Fin 2 → IVec S16 32) a x).toNat < S256x128.size a)
theorem k0_idx590_inb : ∀ (i : grid0.Coords) (k0_t5 : Fin (k0_t5_loop i).trips) (v140 : BitVec 32) (v186 : IVec S16 32) (v200 : IVec S16 32) (k0_hw328 : k0_chk328 i k0_t5 v140 v186 v200), ∀ (k0_h5 : ¬(k0_cond5 v140 = 1#1)), ∀ a x, ((![v186, v200] : Fin 2 → IVec S16 32) a x).toNat < S256x128.size a := fun i k0_t5 v140 v186 v200 k0_hw328 k0_h5 => k0_hw328.1 k0_h5
theorem k0_idx591_inb : ∀ (i : grid0.Coords) (k0_t5 : Fin (k0_t5_loop i).trips) (v140 : BitVec 32) (v186 : IVec S16 32) (v200 : IVec S16 32) (k0_hw328 : k0_chk328 i k0_t5 v140 v186 v200), ∀ (k0_h5 : ¬(k0_cond5 v140 = 1#1)), ∀ a x, ((![v186, v200] : Fin 2 → IVec S16 32) a x).toNat < S256x128.size a := fun i k0_t5 v140 v186 v200 k0_hw328 k0_h5 => k0_hw328.2 k0_h5

def k0_chk329 (i : grid0.Coords) (k0_t5 : Fin (k0_t5_loop i).trips) (v140 : BitVec 32) (v186 : IVec S16 32) (v202 : IVec S16 32) : Prop :=
  (∀ (k0_h5 : ¬(k0_cond5 v140 = 1#1)), ∀ a x, ((![v186, v202] : Fin 2 → IVec S16 32) a x).toNat < S256x128.size a) ∧
  (∀ (k0_h5 : ¬(k0_cond5 v140 = 1#1)), ∀ a x, ((![v186, v202] : Fin 2 → IVec S16 32) a x).toNat < S256x128.size a)
theorem k0_idx592_inb : ∀ (i : grid0.Coords) (k0_t5 : Fin (k0_t5_loop i).trips) (v140 : BitVec 32) (v186 : IVec S16 32) (v202 : IVec S16 32) (k0_hw329 : k0_chk329 i k0_t5 v140 v186 v202), ∀ (k0_h5 : ¬(k0_cond5 v140 = 1#1)), ∀ a x, ((![v186, v202] : Fin 2 → IVec S16 32) a x).toNat < S256x128.size a := fun i k0_t5 v140 v186 v202 k0_hw329 k0_h5 => k0_hw329.1 k0_h5
theorem k0_idx593_inb : ∀ (i : grid0.Coords) (k0_t5 : Fin (k0_t5_loop i).trips) (v140 : BitVec 32) (v186 : IVec S16 32) (v202 : IVec S16 32) (k0_hw329 : k0_chk329 i k0_t5 v140 v186 v202), ∀ (k0_h5 : ¬(k0_cond5 v140 = 1#1)), ∀ a x, ((![v186, v202] : Fin 2 → IVec S16 32) a x).toNat < S256x128.size a := fun i k0_t5 v140 v186 v202 k0_hw329 k0_h5 => k0_hw329.2 k0_h5

def k0_chk330 (i : grid0.Coords) (v2 : IVec S16 32) (k0_t5 : Fin (k0_t5_loop i).trips) (v140 : BitVec 32) (v186 : IVec S16 32) : Prop :=
  (∀ (k0_h5 : ¬(k0_cond5 v140 = 1#1)), ∀ a x, ((![v186, v2] : Fin 2 → IVec S16 32) a x).toNat < S256x16.size a)
theorem k0_idx594_inb : ∀ (i : grid0.Coords) (v2 : IVec S16 32) (k0_t5 : Fin (k0_t5_loop i).trips) (v140 : BitVec 32) (v186 : IVec S16 32) (k0_hw330 : k0_chk330 i v2 k0_t5 v140 v186), ∀ (k0_h5 : ¬(k0_cond5 v140 = 1#1)), ∀ a x, ((![v186, v2] : Fin 2 → IVec S16 32) a x).toNat < S256x16.size a := fun i v2 k0_t5 v140 v186 k0_hw330 k0_h5 => k0_hw330 k0_h5

def k0_chk331 (i : grid0.Coords) (k0_t5 : Fin (k0_t5_loop i).trips) (v140 : BitVec 32) (v247 : IVec S16 32) : Prop :=
  (∀ (k0_h5 : ¬(k0_cond5 v140 = 1#1)), ∀ a x, ((![v247] : Fin 1 → IVec S16 32) a x).toNat < S3136.size a)
theorem k0_idx595_inb : ∀ (i : grid0.Coords) (k0_t5 : Fin (k0_t5_loop i).trips) (v140 : BitVec 32) (v247 : IVec S16 32) (k0_hw331 : k0_chk331 i k0_t5 v140 v247), ∀ (k0_h5 : ¬(k0_cond5 v140 = 1#1)), ∀ a x, ((![v247] : Fin 1 → IVec S16 32) a x).toNat < S3136.size a := fun i k0_t5 v140 v247 k0_hw331 k0_h5 => k0_hw331 k0_h5
def k0_off307 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v250 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c1_i32_91 : BitVec 32 := 1#32
  let v249 : BitVec 32 := Scalar.addi v126 c1_i32_91
  let v251 : Index := Scalar.indexCast v249
  let c0_92 : Index := 0#32
  ![v250.toNat, v251.toNat, 0]
def k0_off308 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v254 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c1_i32_93 : BitVec 32 := 1#32
  let v253 : BitVec 32 := Scalar.addi v126 c1_i32_93
  let v255 : Index := Scalar.indexCast v253
  let c16_94 : Index := 16#32
  ![v254.toNat, v255.toNat, 16]
def k0_off309 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v258 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c1_i32_95 : BitVec 32 := 1#32
  let v257 : BitVec 32 := Scalar.addi v126 c1_i32_95
  let v259 : Index := Scalar.indexCast v257
  let c32_96 : Index := 32#32
  ![v258.toNat, v259.toNat, 32]
def k0_off310 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v262 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c1_i32_97 : BitVec 32 := 1#32
  let v261 : BitVec 32 := Scalar.addi v126 c1_i32_97
  let v263 : Index := Scalar.indexCast v261
  let c48_98 : Index := 48#32
  ![v262.toNat, v263.toNat, 48]
def k0_off311 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v266 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c1_i32_99 : BitVec 32 := 1#32
  let v265 : BitVec 32 := Scalar.addi v126 c1_i32_99
  let v267 : Index := Scalar.indexCast v265
  let c64_100 : Index := 64#32
  ![v266.toNat, v267.toNat, 64]
def k0_off312 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v270 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c1_i32_101 : BitVec 32 := 1#32
  let v269 : BitVec 32 := Scalar.addi v126 c1_i32_101
  let v271 : Index := Scalar.indexCast v269
  let c80_102 : Index := 80#32
  ![v270.toNat, v271.toNat, 80]
def k0_off313 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v274 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c1_i32_103 : BitVec 32 := 1#32
  let v273 : BitVec 32 := Scalar.addi v126 c1_i32_103
  let v275 : Index := Scalar.indexCast v273
  let c96_104 : Index := 96#32
  ![v274.toNat, v275.toNat, 96]
def k0_off314 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v278 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c1_i32_105 : BitVec 32 := 1#32
  let v277 : BitVec 32 := Scalar.addi v126 c1_i32_105
  let v279 : Index := Scalar.indexCast v277
  let c112_106 : Index := 112#32
  ![v278.toNat, v279.toNat, 112]

def k0_chk332 (i : grid0.Coords) (k0_t5 : Fin (k0_t5_loop i).trips) (v140 : BitVec 32) (v287 : IVec S16 32) (v289 : IVec S16 32) : Prop :=
  (∀ (k0_h5 : ¬(k0_cond5 v140 = 1#1)), ∀ a x, ((![v287, v289] : Fin 2 → IVec S16 32) a x).toNat < S256x128.size a) ∧
  (∀ (k0_h5 : ¬(k0_cond5 v140 = 1#1)), ∀ a x, ((![v287, v289] : Fin 2 → IVec S16 32) a x).toNat < S256x128.size a)
theorem k0_idx596_inb : ∀ (i : grid0.Coords) (k0_t5 : Fin (k0_t5_loop i).trips) (v140 : BitVec 32) (v287 : IVec S16 32) (v289 : IVec S16 32) (k0_hw332 : k0_chk332 i k0_t5 v140 v287 v289), ∀ (k0_h5 : ¬(k0_cond5 v140 = 1#1)), ∀ a x, ((![v287, v289] : Fin 2 → IVec S16 32) a x).toNat < S256x128.size a := fun i k0_t5 v140 v287 v289 k0_hw332 k0_h5 => k0_hw332.1 k0_h5
theorem k0_idx597_inb : ∀ (i : grid0.Coords) (k0_t5 : Fin (k0_t5_loop i).trips) (v140 : BitVec 32) (v287 : IVec S16 32) (v289 : IVec S16 32) (k0_hw332 : k0_chk332 i k0_t5 v140 v287 v289), ∀ (k0_h5 : ¬(k0_cond5 v140 = 1#1)), ∀ a x, ((![v287, v289] : Fin 2 → IVec S16 32) a x).toNat < S256x128.size a := fun i k0_t5 v140 v287 v289 k0_hw332 k0_h5 => k0_hw332.2 k0_h5

def k0_chk333 (i : grid0.Coords) (k0_t5 : Fin (k0_t5_loop i).trips) (v140 : BitVec 32) (v287 : IVec S16 32) (v291 : IVec S16 32) : Prop :=
  (∀ (k0_h5 : ¬(k0_cond5 v140 = 1#1)), ∀ a x, ((![v287, v291] : Fin 2 → IVec S16 32) a x).toNat < S256x128.size a) ∧
  (∀ (k0_h5 : ¬(k0_cond5 v140 = 1#1)), ∀ a x, ((![v287, v291] : Fin 2 → IVec S16 32) a x).toNat < S256x128.size a)
theorem k0_idx598_inb : ∀ (i : grid0.Coords) (k0_t5 : Fin (k0_t5_loop i).trips) (v140 : BitVec 32) (v287 : IVec S16 32) (v291 : IVec S16 32) (k0_hw333 : k0_chk333 i k0_t5 v140 v287 v291), ∀ (k0_h5 : ¬(k0_cond5 v140 = 1#1)), ∀ a x, ((![v287, v291] : Fin 2 → IVec S16 32) a x).toNat < S256x128.size a := fun i k0_t5 v140 v287 v291 k0_hw333 k0_h5 => k0_hw333.1 k0_h5
theorem k0_idx599_inb : ∀ (i : grid0.Coords) (k0_t5 : Fin (k0_t5_loop i).trips) (v140 : BitVec 32) (v287 : IVec S16 32) (v291 : IVec S16 32) (k0_hw333 : k0_chk333 i k0_t5 v140 v287 v291), ∀ (k0_h5 : ¬(k0_cond5 v140 = 1#1)), ∀ a x, ((![v287, v291] : Fin 2 → IVec S16 32) a x).toNat < S256x128.size a := fun i k0_t5 v140 v287 v291 k0_hw333 k0_h5 => k0_hw333.2 k0_h5

def k0_chk334 (i : grid0.Coords) (k0_t5 : Fin (k0_t5_loop i).trips) (v140 : BitVec 32) (v287 : IVec S16 32) (v293 : IVec S16 32) : Prop :=
  (∀ (k0_h5 : ¬(k0_cond5 v140 = 1#1)), ∀ a x, ((![v287, v293] : Fin 2 → IVec S16 32) a x).toNat < S256x128.size a) ∧
  (∀ (k0_h5 : ¬(k0_cond5 v140 = 1#1)), ∀ a x, ((![v287, v293] : Fin 2 → IVec S16 32) a x).toNat < S256x128.size a)
theorem k0_idx600_inb : ∀ (i : grid0.Coords) (k0_t5 : Fin (k0_t5_loop i).trips) (v140 : BitVec 32) (v287 : IVec S16 32) (v293 : IVec S16 32) (k0_hw334 : k0_chk334 i k0_t5 v140 v287 v293), ∀ (k0_h5 : ¬(k0_cond5 v140 = 1#1)), ∀ a x, ((![v287, v293] : Fin 2 → IVec S16 32) a x).toNat < S256x128.size a := fun i k0_t5 v140 v287 v293 k0_hw334 k0_h5 => k0_hw334.1 k0_h5
theorem k0_idx601_inb : ∀ (i : grid0.Coords) (k0_t5 : Fin (k0_t5_loop i).trips) (v140 : BitVec 32) (v287 : IVec S16 32) (v293 : IVec S16 32) (k0_hw334 : k0_chk334 i k0_t5 v140 v287 v293), ∀ (k0_h5 : ¬(k0_cond5 v140 = 1#1)), ∀ a x, ((![v287, v293] : Fin 2 → IVec S16 32) a x).toNat < S256x128.size a := fun i k0_t5 v140 v287 v293 k0_hw334 k0_h5 => k0_hw334.2 k0_h5

def k0_chk335 (i : grid0.Coords) (k0_t5 : Fin (k0_t5_loop i).trips) (v140 : BitVec 32) (v287 : IVec S16 32) (v295 : IVec S16 32) : Prop :=
  (∀ (k0_h5 : ¬(k0_cond5 v140 = 1#1)), ∀ a x, ((![v287, v295] : Fin 2 → IVec S16 32) a x).toNat < S256x128.size a) ∧
  (∀ (k0_h5 : ¬(k0_cond5 v140 = 1#1)), ∀ a x, ((![v287, v295] : Fin 2 → IVec S16 32) a x).toNat < S256x128.size a)
theorem k0_idx602_inb : ∀ (i : grid0.Coords) (k0_t5 : Fin (k0_t5_loop i).trips) (v140 : BitVec 32) (v287 : IVec S16 32) (v295 : IVec S16 32) (k0_hw335 : k0_chk335 i k0_t5 v140 v287 v295), ∀ (k0_h5 : ¬(k0_cond5 v140 = 1#1)), ∀ a x, ((![v287, v295] : Fin 2 → IVec S16 32) a x).toNat < S256x128.size a := fun i k0_t5 v140 v287 v295 k0_hw335 k0_h5 => k0_hw335.1 k0_h5
theorem k0_idx603_inb : ∀ (i : grid0.Coords) (k0_t5 : Fin (k0_t5_loop i).trips) (v140 : BitVec 32) (v287 : IVec S16 32) (v295 : IVec S16 32) (k0_hw335 : k0_chk335 i k0_t5 v140 v287 v295), ∀ (k0_h5 : ¬(k0_cond5 v140 = 1#1)), ∀ a x, ((![v287, v295] : Fin 2 → IVec S16 32) a x).toNat < S256x128.size a := fun i k0_t5 v140 v287 v295 k0_hw335 k0_h5 => k0_hw335.2 k0_h5

def k0_chk336 (i : grid0.Coords) (k0_t5 : Fin (k0_t5_loop i).trips) (v140 : BitVec 32) (v287 : IVec S16 32) (v297 : IVec S16 32) : Prop :=
  (∀ (k0_h5 : ¬(k0_cond5 v140 = 1#1)), ∀ a x, ((![v287, v297] : Fin 2 → IVec S16 32) a x).toNat < S256x128.size a) ∧
  (∀ (k0_h5 : ¬(k0_cond5 v140 = 1#1)), ∀ a x, ((![v287, v297] : Fin 2 → IVec S16 32) a x).toNat < S256x128.size a)
theorem k0_idx604_inb : ∀ (i : grid0.Coords) (k0_t5 : Fin (k0_t5_loop i).trips) (v140 : BitVec 32) (v287 : IVec S16 32) (v297 : IVec S16 32) (k0_hw336 : k0_chk336 i k0_t5 v140 v287 v297), ∀ (k0_h5 : ¬(k0_cond5 v140 = 1#1)), ∀ a x, ((![v287, v297] : Fin 2 → IVec S16 32) a x).toNat < S256x128.size a := fun i k0_t5 v140 v287 v297 k0_hw336 k0_h5 => k0_hw336.1 k0_h5
theorem k0_idx605_inb : ∀ (i : grid0.Coords) (k0_t5 : Fin (k0_t5_loop i).trips) (v140 : BitVec 32) (v287 : IVec S16 32) (v297 : IVec S16 32) (k0_hw336 : k0_chk336 i k0_t5 v140 v287 v297), ∀ (k0_h5 : ¬(k0_cond5 v140 = 1#1)), ∀ a x, ((![v287, v297] : Fin 2 → IVec S16 32) a x).toNat < S256x128.size a := fun i k0_t5 v140 v287 v297 k0_hw336 k0_h5 => k0_hw336.2 k0_h5

def k0_chk337 (i : grid0.Coords) (k0_t5 : Fin (k0_t5_loop i).trips) (v140 : BitVec 32) (v287 : IVec S16 32) (v299 : IVec S16 32) : Prop :=
  (∀ (k0_h5 : ¬(k0_cond5 v140 = 1#1)), ∀ a x, ((![v287, v299] : Fin 2 → IVec S16 32) a x).toNat < S256x128.size a) ∧
  (∀ (k0_h5 : ¬(k0_cond5 v140 = 1#1)), ∀ a x, ((![v287, v299] : Fin 2 → IVec S16 32) a x).toNat < S256x128.size a)
theorem k0_idx606_inb : ∀ (i : grid0.Coords) (k0_t5 : Fin (k0_t5_loop i).trips) (v140 : BitVec 32) (v287 : IVec S16 32) (v299 : IVec S16 32) (k0_hw337 : k0_chk337 i k0_t5 v140 v287 v299), ∀ (k0_h5 : ¬(k0_cond5 v140 = 1#1)), ∀ a x, ((![v287, v299] : Fin 2 → IVec S16 32) a x).toNat < S256x128.size a := fun i k0_t5 v140 v287 v299 k0_hw337 k0_h5 => k0_hw337.1 k0_h5
theorem k0_idx607_inb : ∀ (i : grid0.Coords) (k0_t5 : Fin (k0_t5_loop i).trips) (v140 : BitVec 32) (v287 : IVec S16 32) (v299 : IVec S16 32) (k0_hw337 : k0_chk337 i k0_t5 v140 v287 v299), ∀ (k0_h5 : ¬(k0_cond5 v140 = 1#1)), ∀ a x, ((![v287, v299] : Fin 2 → IVec S16 32) a x).toNat < S256x128.size a := fun i k0_t5 v140 v287 v299 k0_hw337 k0_h5 => k0_hw337.2 k0_h5

def k0_chk338 (i : grid0.Coords) (k0_t5 : Fin (k0_t5_loop i).trips) (v140 : BitVec 32) (v287 : IVec S16 32) (v301 : IVec S16 32) : Prop :=
  (∀ (k0_h5 : ¬(k0_cond5 v140 = 1#1)), ∀ a x, ((![v287, v301] : Fin 2 → IVec S16 32) a x).toNat < S256x128.size a) ∧
  (∀ (k0_h5 : ¬(k0_cond5 v140 = 1#1)), ∀ a x, ((![v287, v301] : Fin 2 → IVec S16 32) a x).toNat < S256x128.size a)
theorem k0_idx608_inb : ∀ (i : grid0.Coords) (k0_t5 : Fin (k0_t5_loop i).trips) (v140 : BitVec 32) (v287 : IVec S16 32) (v301 : IVec S16 32) (k0_hw338 : k0_chk338 i k0_t5 v140 v287 v301), ∀ (k0_h5 : ¬(k0_cond5 v140 = 1#1)), ∀ a x, ((![v287, v301] : Fin 2 → IVec S16 32) a x).toNat < S256x128.size a := fun i k0_t5 v140 v287 v301 k0_hw338 k0_h5 => k0_hw338.1 k0_h5
theorem k0_idx609_inb : ∀ (i : grid0.Coords) (k0_t5 : Fin (k0_t5_loop i).trips) (v140 : BitVec 32) (v287 : IVec S16 32) (v301 : IVec S16 32) (k0_hw338 : k0_chk338 i k0_t5 v140 v287 v301), ∀ (k0_h5 : ¬(k0_cond5 v140 = 1#1)), ∀ a x, ((![v287, v301] : Fin 2 → IVec S16 32) a x).toNat < S256x128.size a := fun i k0_t5 v140 v287 v301 k0_hw338 k0_h5 => k0_hw338.2 k0_h5

def k0_chk339 (i : grid0.Coords) (k0_t5 : Fin (k0_t5_loop i).trips) (v140 : BitVec 32) (v287 : IVec S16 32) (v303 : IVec S16 32) : Prop :=
  (∀ (k0_h5 : ¬(k0_cond5 v140 = 1#1)), ∀ a x, ((![v287, v303] : Fin 2 → IVec S16 32) a x).toNat < S256x128.size a) ∧
  (∀ (k0_h5 : ¬(k0_cond5 v140 = 1#1)), ∀ a x, ((![v287, v303] : Fin 2 → IVec S16 32) a x).toNat < S256x128.size a)
theorem k0_idx610_inb : ∀ (i : grid0.Coords) (k0_t5 : Fin (k0_t5_loop i).trips) (v140 : BitVec 32) (v287 : IVec S16 32) (v303 : IVec S16 32) (k0_hw339 : k0_chk339 i k0_t5 v140 v287 v303), ∀ (k0_h5 : ¬(k0_cond5 v140 = 1#1)), ∀ a x, ((![v287, v303] : Fin 2 → IVec S16 32) a x).toNat < S256x128.size a := fun i k0_t5 v140 v287 v303 k0_hw339 k0_h5 => k0_hw339.1 k0_h5
theorem k0_idx611_inb : ∀ (i : grid0.Coords) (k0_t5 : Fin (k0_t5_loop i).trips) (v140 : BitVec 32) (v287 : IVec S16 32) (v303 : IVec S16 32) (k0_hw339 : k0_chk339 i k0_t5 v140 v287 v303), ∀ (k0_h5 : ¬(k0_cond5 v140 = 1#1)), ∀ a x, ((![v287, v303] : Fin 2 → IVec S16 32) a x).toNat < S256x128.size a := fun i k0_t5 v140 v287 v303 k0_hw339 k0_h5 => k0_hw339.2 k0_h5

def k0_chk340 (i : grid0.Coords) (v2 : IVec S16 32) (k0_t5 : Fin (k0_t5_loop i).trips) (v140 : BitVec 32) (v287 : IVec S16 32) : Prop :=
  (∀ (k0_h5 : ¬(k0_cond5 v140 = 1#1)), ∀ a x, ((![v287, v2] : Fin 2 → IVec S16 32) a x).toNat < S256x16.size a)
theorem k0_idx612_inb : ∀ (i : grid0.Coords) (v2 : IVec S16 32) (k0_t5 : Fin (k0_t5_loop i).trips) (v140 : BitVec 32) (v287 : IVec S16 32) (k0_hw340 : k0_chk340 i v2 k0_t5 v140 v287), ∀ (k0_h5 : ¬(k0_cond5 v140 = 1#1)), ∀ a x, ((![v287, v2] : Fin 2 → IVec S16 32) a x).toNat < S256x16.size a := fun i v2 k0_t5 v140 v287 k0_hw340 k0_h5 => k0_hw340 k0_h5

def k0_chk341 (i : grid0.Coords) (k0_t5 : Fin (k0_t5_loop i).trips) (v140 : BitVec 32) (v348 : IVec S16 32) : Prop :=
  (∀ (k0_h5 : ¬(k0_cond5 v140 = 1#1)), ∀ a x, ((![v348] : Fin 1 → IVec S16 32) a x).toNat < S3136.size a)
theorem k0_idx613_inb : ∀ (i : grid0.Coords) (k0_t5 : Fin (k0_t5_loop i).trips) (v140 : BitVec 32) (v348 : IVec S16 32) (k0_hw341 : k0_chk341 i k0_t5 v140 v348), ∀ (k0_h5 : ¬(k0_cond5 v140 = 1#1)), ∀ a x, ((![v348] : Fin 1 → IVec S16 32) a x).toNat < S3136.size a := fun i k0_t5 v140 v348 k0_hw341 k0_h5 => k0_hw341 k0_h5
def k0_off315 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v351 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c2_i32_122 : BitVec 32 := 2#32
  let v350 : BitVec 32 := Scalar.addi v126 c2_i32_122
  let v352 : Index := Scalar.indexCast v350
  let c0_123 : Index := 0#32
  ![v351.toNat, v352.toNat, 0]
def k0_off316 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v355 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c2_i32_124 : BitVec 32 := 2#32
  let v354 : BitVec 32 := Scalar.addi v126 c2_i32_124
  let v356 : Index := Scalar.indexCast v354
  let c16_125 : Index := 16#32
  ![v355.toNat, v356.toNat, 16]
def k0_off317 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v359 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c2_i32_126 : BitVec 32 := 2#32
  let v358 : BitVec 32 := Scalar.addi v126 c2_i32_126
  let v360 : Index := Scalar.indexCast v358
  let c32_127 : Index := 32#32
  ![v359.toNat, v360.toNat, 32]
def k0_off318 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v363 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c2_i32_128 : BitVec 32 := 2#32
  let v362 : BitVec 32 := Scalar.addi v126 c2_i32_128
  let v364 : Index := Scalar.indexCast v362
  let c48_129 : Index := 48#32
  ![v363.toNat, v364.toNat, 48]
def k0_off319 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v367 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c2_i32_130 : BitVec 32 := 2#32
  let v366 : BitVec 32 := Scalar.addi v126 c2_i32_130
  let v368 : Index := Scalar.indexCast v366
  let c64_131 : Index := 64#32
  ![v367.toNat, v368.toNat, 64]
def k0_off320 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v371 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c2_i32_132 : BitVec 32 := 2#32
  let v370 : BitVec 32 := Scalar.addi v126 c2_i32_132
  let v372 : Index := Scalar.indexCast v370
  let c80_133 : Index := 80#32
  ![v371.toNat, v372.toNat, 80]
def k0_off321 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v375 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c2_i32_134 : BitVec 32 := 2#32
  let v374 : BitVec 32 := Scalar.addi v126 c2_i32_134
  let v376 : Index := Scalar.indexCast v374
  let c96_135 : Index := 96#32
  ![v375.toNat, v376.toNat, 96]
def k0_off322 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v379 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c2_i32_136 : BitVec 32 := 2#32
  let v378 : BitVec 32 := Scalar.addi v126 c2_i32_136
  let v380 : Index := Scalar.indexCast v378
  let c112_137 : Index := 112#32
  ![v379.toNat, v380.toNat, 112]

def k0_chk342 (i : grid0.Coords) (k0_t5 : Fin (k0_t5_loop i).trips) (v140 : BitVec 32) (v388 : IVec S16 32) (v390 : IVec S16 32) : Prop :=
  (∀ (k0_h5 : ¬(k0_cond5 v140 = 1#1)), ∀ a x, ((![v388, v390] : Fin 2 → IVec S16 32) a x).toNat < S256x128.size a) ∧
  (∀ (k0_h5 : ¬(k0_cond5 v140 = 1#1)), ∀ a x, ((![v388, v390] : Fin 2 → IVec S16 32) a x).toNat < S256x128.size a)
theorem k0_idx614_inb : ∀ (i : grid0.Coords) (k0_t5 : Fin (k0_t5_loop i).trips) (v140 : BitVec 32) (v388 : IVec S16 32) (v390 : IVec S16 32) (k0_hw342 : k0_chk342 i k0_t5 v140 v388 v390), ∀ (k0_h5 : ¬(k0_cond5 v140 = 1#1)), ∀ a x, ((![v388, v390] : Fin 2 → IVec S16 32) a x).toNat < S256x128.size a := fun i k0_t5 v140 v388 v390 k0_hw342 k0_h5 => k0_hw342.1 k0_h5
theorem k0_idx615_inb : ∀ (i : grid0.Coords) (k0_t5 : Fin (k0_t5_loop i).trips) (v140 : BitVec 32) (v388 : IVec S16 32) (v390 : IVec S16 32) (k0_hw342 : k0_chk342 i k0_t5 v140 v388 v390), ∀ (k0_h5 : ¬(k0_cond5 v140 = 1#1)), ∀ a x, ((![v388, v390] : Fin 2 → IVec S16 32) a x).toNat < S256x128.size a := fun i k0_t5 v140 v388 v390 k0_hw342 k0_h5 => k0_hw342.2 k0_h5

def k0_chk343 (i : grid0.Coords) (k0_t5 : Fin (k0_t5_loop i).trips) (v140 : BitVec 32) (v388 : IVec S16 32) (v392 : IVec S16 32) : Prop :=
  (∀ (k0_h5 : ¬(k0_cond5 v140 = 1#1)), ∀ a x, ((![v388, v392] : Fin 2 → IVec S16 32) a x).toNat < S256x128.size a) ∧
  (∀ (k0_h5 : ¬(k0_cond5 v140 = 1#1)), ∀ a x, ((![v388, v392] : Fin 2 → IVec S16 32) a x).toNat < S256x128.size a)
theorem k0_idx616_inb : ∀ (i : grid0.Coords) (k0_t5 : Fin (k0_t5_loop i).trips) (v140 : BitVec 32) (v388 : IVec S16 32) (v392 : IVec S16 32) (k0_hw343 : k0_chk343 i k0_t5 v140 v388 v392), ∀ (k0_h5 : ¬(k0_cond5 v140 = 1#1)), ∀ a x, ((![v388, v392] : Fin 2 → IVec S16 32) a x).toNat < S256x128.size a := fun i k0_t5 v140 v388 v392 k0_hw343 k0_h5 => k0_hw343.1 k0_h5
theorem k0_idx617_inb : ∀ (i : grid0.Coords) (k0_t5 : Fin (k0_t5_loop i).trips) (v140 : BitVec 32) (v388 : IVec S16 32) (v392 : IVec S16 32) (k0_hw343 : k0_chk343 i k0_t5 v140 v388 v392), ∀ (k0_h5 : ¬(k0_cond5 v140 = 1#1)), ∀ a x, ((![v388, v392] : Fin 2 → IVec S16 32) a x).toNat < S256x128.size a := fun i k0_t5 v140 v388 v392 k0_hw343 k0_h5 => k0_hw343.2 k0_h5

def k0_chk344 (i : grid0.Coords) (k0_t5 : Fin (k0_t5_loop i).trips) (v140 : BitVec 32) (v388 : IVec S16 32) (v394 : IVec S16 32) : Prop :=
  (∀ (k0_h5 : ¬(k0_cond5 v140 = 1#1)), ∀ a x, ((![v388, v394] : Fin 2 → IVec S16 32) a x).toNat < S256x128.size a) ∧
  (∀ (k0_h5 : ¬(k0_cond5 v140 = 1#1)), ∀ a x, ((![v388, v394] : Fin 2 → IVec S16 32) a x).toNat < S256x128.size a)
theorem k0_idx618_inb : ∀ (i : grid0.Coords) (k0_t5 : Fin (k0_t5_loop i).trips) (v140 : BitVec 32) (v388 : IVec S16 32) (v394 : IVec S16 32) (k0_hw344 : k0_chk344 i k0_t5 v140 v388 v394), ∀ (k0_h5 : ¬(k0_cond5 v140 = 1#1)), ∀ a x, ((![v388, v394] : Fin 2 → IVec S16 32) a x).toNat < S256x128.size a := fun i k0_t5 v140 v388 v394 k0_hw344 k0_h5 => k0_hw344.1 k0_h5
theorem k0_idx619_inb : ∀ (i : grid0.Coords) (k0_t5 : Fin (k0_t5_loop i).trips) (v140 : BitVec 32) (v388 : IVec S16 32) (v394 : IVec S16 32) (k0_hw344 : k0_chk344 i k0_t5 v140 v388 v394), ∀ (k0_h5 : ¬(k0_cond5 v140 = 1#1)), ∀ a x, ((![v388, v394] : Fin 2 → IVec S16 32) a x).toNat < S256x128.size a := fun i k0_t5 v140 v388 v394 k0_hw344 k0_h5 => k0_hw344.2 k0_h5

def k0_chk345 (i : grid0.Coords) (k0_t5 : Fin (k0_t5_loop i).trips) (v140 : BitVec 32) (v388 : IVec S16 32) (v396 : IVec S16 32) : Prop :=
  (∀ (k0_h5 : ¬(k0_cond5 v140 = 1#1)), ∀ a x, ((![v388, v396] : Fin 2 → IVec S16 32) a x).toNat < S256x128.size a) ∧
  (∀ (k0_h5 : ¬(k0_cond5 v140 = 1#1)), ∀ a x, ((![v388, v396] : Fin 2 → IVec S16 32) a x).toNat < S256x128.size a)
theorem k0_idx620_inb : ∀ (i : grid0.Coords) (k0_t5 : Fin (k0_t5_loop i).trips) (v140 : BitVec 32) (v388 : IVec S16 32) (v396 : IVec S16 32) (k0_hw345 : k0_chk345 i k0_t5 v140 v388 v396), ∀ (k0_h5 : ¬(k0_cond5 v140 = 1#1)), ∀ a x, ((![v388, v396] : Fin 2 → IVec S16 32) a x).toNat < S256x128.size a := fun i k0_t5 v140 v388 v396 k0_hw345 k0_h5 => k0_hw345.1 k0_h5
theorem k0_idx621_inb : ∀ (i : grid0.Coords) (k0_t5 : Fin (k0_t5_loop i).trips) (v140 : BitVec 32) (v388 : IVec S16 32) (v396 : IVec S16 32) (k0_hw345 : k0_chk345 i k0_t5 v140 v388 v396), ∀ (k0_h5 : ¬(k0_cond5 v140 = 1#1)), ∀ a x, ((![v388, v396] : Fin 2 → IVec S16 32) a x).toNat < S256x128.size a := fun i k0_t5 v140 v388 v396 k0_hw345 k0_h5 => k0_hw345.2 k0_h5

def k0_chk346 (i : grid0.Coords) (k0_t5 : Fin (k0_t5_loop i).trips) (v140 : BitVec 32) (v388 : IVec S16 32) (v398 : IVec S16 32) : Prop :=
  (∀ (k0_h5 : ¬(k0_cond5 v140 = 1#1)), ∀ a x, ((![v388, v398] : Fin 2 → IVec S16 32) a x).toNat < S256x128.size a) ∧
  (∀ (k0_h5 : ¬(k0_cond5 v140 = 1#1)), ∀ a x, ((![v388, v398] : Fin 2 → IVec S16 32) a x).toNat < S256x128.size a)
theorem k0_idx622_inb : ∀ (i : grid0.Coords) (k0_t5 : Fin (k0_t5_loop i).trips) (v140 : BitVec 32) (v388 : IVec S16 32) (v398 : IVec S16 32) (k0_hw346 : k0_chk346 i k0_t5 v140 v388 v398), ∀ (k0_h5 : ¬(k0_cond5 v140 = 1#1)), ∀ a x, ((![v388, v398] : Fin 2 → IVec S16 32) a x).toNat < S256x128.size a := fun i k0_t5 v140 v388 v398 k0_hw346 k0_h5 => k0_hw346.1 k0_h5
theorem k0_idx623_inb : ∀ (i : grid0.Coords) (k0_t5 : Fin (k0_t5_loop i).trips) (v140 : BitVec 32) (v388 : IVec S16 32) (v398 : IVec S16 32) (k0_hw346 : k0_chk346 i k0_t5 v140 v388 v398), ∀ (k0_h5 : ¬(k0_cond5 v140 = 1#1)), ∀ a x, ((![v388, v398] : Fin 2 → IVec S16 32) a x).toNat < S256x128.size a := fun i k0_t5 v140 v388 v398 k0_hw346 k0_h5 => k0_hw346.2 k0_h5

def k0_chk347 (i : grid0.Coords) (k0_t5 : Fin (k0_t5_loop i).trips) (v140 : BitVec 32) (v388 : IVec S16 32) (v400 : IVec S16 32) : Prop :=
  (∀ (k0_h5 : ¬(k0_cond5 v140 = 1#1)), ∀ a x, ((![v388, v400] : Fin 2 → IVec S16 32) a x).toNat < S256x128.size a) ∧
  (∀ (k0_h5 : ¬(k0_cond5 v140 = 1#1)), ∀ a x, ((![v388, v400] : Fin 2 → IVec S16 32) a x).toNat < S256x128.size a)
theorem k0_idx624_inb : ∀ (i : grid0.Coords) (k0_t5 : Fin (k0_t5_loop i).trips) (v140 : BitVec 32) (v388 : IVec S16 32) (v400 : IVec S16 32) (k0_hw347 : k0_chk347 i k0_t5 v140 v388 v400), ∀ (k0_h5 : ¬(k0_cond5 v140 = 1#1)), ∀ a x, ((![v388, v400] : Fin 2 → IVec S16 32) a x).toNat < S256x128.size a := fun i k0_t5 v140 v388 v400 k0_hw347 k0_h5 => k0_hw347.1 k0_h5
theorem k0_idx625_inb : ∀ (i : grid0.Coords) (k0_t5 : Fin (k0_t5_loop i).trips) (v140 : BitVec 32) (v388 : IVec S16 32) (v400 : IVec S16 32) (k0_hw347 : k0_chk347 i k0_t5 v140 v388 v400), ∀ (k0_h5 : ¬(k0_cond5 v140 = 1#1)), ∀ a x, ((![v388, v400] : Fin 2 → IVec S16 32) a x).toNat < S256x128.size a := fun i k0_t5 v140 v388 v400 k0_hw347 k0_h5 => k0_hw347.2 k0_h5

def k0_chk348 (i : grid0.Coords) (k0_t5 : Fin (k0_t5_loop i).trips) (v140 : BitVec 32) (v388 : IVec S16 32) (v402 : IVec S16 32) : Prop :=
  (∀ (k0_h5 : ¬(k0_cond5 v140 = 1#1)), ∀ a x, ((![v388, v402] : Fin 2 → IVec S16 32) a x).toNat < S256x128.size a) ∧
  (∀ (k0_h5 : ¬(k0_cond5 v140 = 1#1)), ∀ a x, ((![v388, v402] : Fin 2 → IVec S16 32) a x).toNat < S256x128.size a)
theorem k0_idx626_inb : ∀ (i : grid0.Coords) (k0_t5 : Fin (k0_t5_loop i).trips) (v140 : BitVec 32) (v388 : IVec S16 32) (v402 : IVec S16 32) (k0_hw348 : k0_chk348 i k0_t5 v140 v388 v402), ∀ (k0_h5 : ¬(k0_cond5 v140 = 1#1)), ∀ a x, ((![v388, v402] : Fin 2 → IVec S16 32) a x).toNat < S256x128.size a := fun i k0_t5 v140 v388 v402 k0_hw348 k0_h5 => k0_hw348.1 k0_h5
theorem k0_idx627_inb : ∀ (i : grid0.Coords) (k0_t5 : Fin (k0_t5_loop i).trips) (v140 : BitVec 32) (v388 : IVec S16 32) (v402 : IVec S16 32) (k0_hw348 : k0_chk348 i k0_t5 v140 v388 v402), ∀ (k0_h5 : ¬(k0_cond5 v140 = 1#1)), ∀ a x, ((![v388, v402] : Fin 2 → IVec S16 32) a x).toNat < S256x128.size a := fun i k0_t5 v140 v388 v402 k0_hw348 k0_h5 => k0_hw348.2 k0_h5

def k0_chk349 (i : grid0.Coords) (k0_t5 : Fin (k0_t5_loop i).trips) (v140 : BitVec 32) (v388 : IVec S16 32) (v404 : IVec S16 32) : Prop :=
  (∀ (k0_h5 : ¬(k0_cond5 v140 = 1#1)), ∀ a x, ((![v388, v404] : Fin 2 → IVec S16 32) a x).toNat < S256x128.size a) ∧
  (∀ (k0_h5 : ¬(k0_cond5 v140 = 1#1)), ∀ a x, ((![v388, v404] : Fin 2 → IVec S16 32) a x).toNat < S256x128.size a)
theorem k0_idx628_inb : ∀ (i : grid0.Coords) (k0_t5 : Fin (k0_t5_loop i).trips) (v140 : BitVec 32) (v388 : IVec S16 32) (v404 : IVec S16 32) (k0_hw349 : k0_chk349 i k0_t5 v140 v388 v404), ∀ (k0_h5 : ¬(k0_cond5 v140 = 1#1)), ∀ a x, ((![v388, v404] : Fin 2 → IVec S16 32) a x).toNat < S256x128.size a := fun i k0_t5 v140 v388 v404 k0_hw349 k0_h5 => k0_hw349.1 k0_h5
theorem k0_idx629_inb : ∀ (i : grid0.Coords) (k0_t5 : Fin (k0_t5_loop i).trips) (v140 : BitVec 32) (v388 : IVec S16 32) (v404 : IVec S16 32) (k0_hw349 : k0_chk349 i k0_t5 v140 v388 v404), ∀ (k0_h5 : ¬(k0_cond5 v140 = 1#1)), ∀ a x, ((![v388, v404] : Fin 2 → IVec S16 32) a x).toNat < S256x128.size a := fun i k0_t5 v140 v388 v404 k0_hw349 k0_h5 => k0_hw349.2 k0_h5

def k0_chk350 (i : grid0.Coords) (v2 : IVec S16 32) (k0_t5 : Fin (k0_t5_loop i).trips) (v140 : BitVec 32) (v388 : IVec S16 32) : Prop :=
  (∀ (k0_h5 : ¬(k0_cond5 v140 = 1#1)), ∀ a x, ((![v388, v2] : Fin 2 → IVec S16 32) a x).toNat < S256x16.size a)
theorem k0_idx630_inb : ∀ (i : grid0.Coords) (v2 : IVec S16 32) (k0_t5 : Fin (k0_t5_loop i).trips) (v140 : BitVec 32) (v388 : IVec S16 32) (k0_hw350 : k0_chk350 i v2 k0_t5 v140 v388), ∀ (k0_h5 : ¬(k0_cond5 v140 = 1#1)), ∀ a x, ((![v388, v2] : Fin 2 → IVec S16 32) a x).toNat < S256x16.size a := fun i v2 k0_t5 v140 v388 k0_hw350 k0_h5 => k0_hw350 k0_h5

def k0_chk351 (i : grid0.Coords) (k0_t5 : Fin (k0_t5_loop i).trips) (v140 : BitVec 32) (v449 : IVec S16 32) : Prop :=
  (∀ (k0_h5 : ¬(k0_cond5 v140 = 1#1)), ∀ a x, ((![v449] : Fin 1 → IVec S16 32) a x).toNat < S3136.size a)
theorem k0_idx631_inb : ∀ (i : grid0.Coords) (k0_t5 : Fin (k0_t5_loop i).trips) (v140 : BitVec 32) (v449 : IVec S16 32) (k0_hw351 : k0_chk351 i k0_t5 v140 v449), ∀ (k0_h5 : ¬(k0_cond5 v140 = 1#1)), ∀ a x, ((![v449] : Fin 1 → IVec S16 32) a x).toNat < S3136.size a := fun i k0_t5 v140 v449 k0_hw351 k0_h5 => k0_hw351 k0_h5
def k0_off323 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v452 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c3_i32_152 : BitVec 32 := 3#32
  let v451 : BitVec 32 := Scalar.addi v126 c3_i32_152
  let v453 : Index := Scalar.indexCast v451
  let c0_153 : Index := 0#32
  ![v452.toNat, v453.toNat, 0]
def k0_off324 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v456 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c3_i32_154 : BitVec 32 := 3#32
  let v455 : BitVec 32 := Scalar.addi v126 c3_i32_154
  let v457 : Index := Scalar.indexCast v455
  let c16_155 : Index := 16#32
  ![v456.toNat, v457.toNat, 16]
def k0_off325 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v460 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c3_i32_156 : BitVec 32 := 3#32
  let v459 : BitVec 32 := Scalar.addi v126 c3_i32_156
  let v461 : Index := Scalar.indexCast v459
  let c32_157 : Index := 32#32
  ![v460.toNat, v461.toNat, 32]
def k0_off326 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v464 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c3_i32_158 : BitVec 32 := 3#32
  let v463 : BitVec 32 := Scalar.addi v126 c3_i32_158
  let v465 : Index := Scalar.indexCast v463
  let c48_159 : Index := 48#32
  ![v464.toNat, v465.toNat, 48]
def k0_off327 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v468 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c3_i32_160 : BitVec 32 := 3#32
  let v467 : BitVec 32 := Scalar.addi v126 c3_i32_160
  let v469 : Index := Scalar.indexCast v467
  let c64_161 : Index := 64#32
  ![v468.toNat, v469.toNat, 64]
def k0_off328 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v472 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c3_i32_162 : BitVec 32 := 3#32
  let v471 : BitVec 32 := Scalar.addi v126 c3_i32_162
  let v473 : Index := Scalar.indexCast v471
  let c80_163 : Index := 80#32
  ![v472.toNat, v473.toNat, 80]
def k0_off329 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v476 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c3_i32_164 : BitVec 32 := 3#32
  let v475 : BitVec 32 := Scalar.addi v126 c3_i32_164
  let v477 : Index := Scalar.indexCast v475
  let c96_165 : Index := 96#32
  ![v476.toNat, v477.toNat, 96]
def k0_off330 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v480 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c3_i32_166 : BitVec 32 := 3#32
  let v479 : BitVec 32 := Scalar.addi v126 c3_i32_166
  let v481 : Index := Scalar.indexCast v479
  let c112_167 : Index := 112#32
  ![v480.toNat, v481.toNat, 112]

def k0_chk352 (i : grid0.Coords) (k0_t5 : Fin (k0_t5_loop i).trips) (v140 : BitVec 32) (v489 : IVec S16 32) (v491 : IVec S16 32) : Prop :=
  (∀ (k0_h5 : ¬(k0_cond5 v140 = 1#1)), ∀ a x, ((![v489, v491] : Fin 2 → IVec S16 32) a x).toNat < S256x128.size a) ∧
  (∀ (k0_h5 : ¬(k0_cond5 v140 = 1#1)), ∀ a x, ((![v489, v491] : Fin 2 → IVec S16 32) a x).toNat < S256x128.size a)
theorem k0_idx632_inb : ∀ (i : grid0.Coords) (k0_t5 : Fin (k0_t5_loop i).trips) (v140 : BitVec 32) (v489 : IVec S16 32) (v491 : IVec S16 32) (k0_hw352 : k0_chk352 i k0_t5 v140 v489 v491), ∀ (k0_h5 : ¬(k0_cond5 v140 = 1#1)), ∀ a x, ((![v489, v491] : Fin 2 → IVec S16 32) a x).toNat < S256x128.size a := fun i k0_t5 v140 v489 v491 k0_hw352 k0_h5 => k0_hw352.1 k0_h5
theorem k0_idx633_inb : ∀ (i : grid0.Coords) (k0_t5 : Fin (k0_t5_loop i).trips) (v140 : BitVec 32) (v489 : IVec S16 32) (v491 : IVec S16 32) (k0_hw352 : k0_chk352 i k0_t5 v140 v489 v491), ∀ (k0_h5 : ¬(k0_cond5 v140 = 1#1)), ∀ a x, ((![v489, v491] : Fin 2 → IVec S16 32) a x).toNat < S256x128.size a := fun i k0_t5 v140 v489 v491 k0_hw352 k0_h5 => k0_hw352.2 k0_h5

def k0_chk353 (i : grid0.Coords) (k0_t5 : Fin (k0_t5_loop i).trips) (v140 : BitVec 32) (v489 : IVec S16 32) (v493 : IVec S16 32) : Prop :=
  (∀ (k0_h5 : ¬(k0_cond5 v140 = 1#1)), ∀ a x, ((![v489, v493] : Fin 2 → IVec S16 32) a x).toNat < S256x128.size a) ∧
  (∀ (k0_h5 : ¬(k0_cond5 v140 = 1#1)), ∀ a x, ((![v489, v493] : Fin 2 → IVec S16 32) a x).toNat < S256x128.size a)
theorem k0_idx634_inb : ∀ (i : grid0.Coords) (k0_t5 : Fin (k0_t5_loop i).trips) (v140 : BitVec 32) (v489 : IVec S16 32) (v493 : IVec S16 32) (k0_hw353 : k0_chk353 i k0_t5 v140 v489 v493), ∀ (k0_h5 : ¬(k0_cond5 v140 = 1#1)), ∀ a x, ((![v489, v493] : Fin 2 → IVec S16 32) a x).toNat < S256x128.size a := fun i k0_t5 v140 v489 v493 k0_hw353 k0_h5 => k0_hw353.1 k0_h5
theorem k0_idx635_inb : ∀ (i : grid0.Coords) (k0_t5 : Fin (k0_t5_loop i).trips) (v140 : BitVec 32) (v489 : IVec S16 32) (v493 : IVec S16 32) (k0_hw353 : k0_chk353 i k0_t5 v140 v489 v493), ∀ (k0_h5 : ¬(k0_cond5 v140 = 1#1)), ∀ a x, ((![v489, v493] : Fin 2 → IVec S16 32) a x).toNat < S256x128.size a := fun i k0_t5 v140 v489 v493 k0_hw353 k0_h5 => k0_hw353.2 k0_h5

def k0_chk354 (i : grid0.Coords) (k0_t5 : Fin (k0_t5_loop i).trips) (v140 : BitVec 32) (v489 : IVec S16 32) (v495 : IVec S16 32) : Prop :=
  (∀ (k0_h5 : ¬(k0_cond5 v140 = 1#1)), ∀ a x, ((![v489, v495] : Fin 2 → IVec S16 32) a x).toNat < S256x128.size a) ∧
  (∀ (k0_h5 : ¬(k0_cond5 v140 = 1#1)), ∀ a x, ((![v489, v495] : Fin 2 → IVec S16 32) a x).toNat < S256x128.size a)
theorem k0_idx636_inb : ∀ (i : grid0.Coords) (k0_t5 : Fin (k0_t5_loop i).trips) (v140 : BitVec 32) (v489 : IVec S16 32) (v495 : IVec S16 32) (k0_hw354 : k0_chk354 i k0_t5 v140 v489 v495), ∀ (k0_h5 : ¬(k0_cond5 v140 = 1#1)), ∀ a x, ((![v489, v495] : Fin 2 → IVec S16 32) a x).toNat < S256x128.size a := fun i k0_t5 v140 v489 v495 k0_hw354 k0_h5 => k0_hw354.1 k0_h5
theorem k0_idx637_inb : ∀ (i : grid0.Coords) (k0_t5 : Fin (k0_t5_loop i).trips) (v140 : BitVec 32) (v489 : IVec S16 32) (v495 : IVec S16 32) (k0_hw354 : k0_chk354 i k0_t5 v140 v489 v495), ∀ (k0_h5 : ¬(k0_cond5 v140 = 1#1)), ∀ a x, ((![v489, v495] : Fin 2 → IVec S16 32) a x).toNat < S256x128.size a := fun i k0_t5 v140 v489 v495 k0_hw354 k0_h5 => k0_hw354.2 k0_h5

def k0_chk355 (i : grid0.Coords) (k0_t5 : Fin (k0_t5_loop i).trips) (v140 : BitVec 32) (v489 : IVec S16 32) (v497 : IVec S16 32) : Prop :=
  (∀ (k0_h5 : ¬(k0_cond5 v140 = 1#1)), ∀ a x, ((![v489, v497] : Fin 2 → IVec S16 32) a x).toNat < S256x128.size a) ∧
  (∀ (k0_h5 : ¬(k0_cond5 v140 = 1#1)), ∀ a x, ((![v489, v497] : Fin 2 → IVec S16 32) a x).toNat < S256x128.size a)
theorem k0_idx638_inb : ∀ (i : grid0.Coords) (k0_t5 : Fin (k0_t5_loop i).trips) (v140 : BitVec 32) (v489 : IVec S16 32) (v497 : IVec S16 32) (k0_hw355 : k0_chk355 i k0_t5 v140 v489 v497), ∀ (k0_h5 : ¬(k0_cond5 v140 = 1#1)), ∀ a x, ((![v489, v497] : Fin 2 → IVec S16 32) a x).toNat < S256x128.size a := fun i k0_t5 v140 v489 v497 k0_hw355 k0_h5 => k0_hw355.1 k0_h5
theorem k0_idx639_inb : ∀ (i : grid0.Coords) (k0_t5 : Fin (k0_t5_loop i).trips) (v140 : BitVec 32) (v489 : IVec S16 32) (v497 : IVec S16 32) (k0_hw355 : k0_chk355 i k0_t5 v140 v489 v497), ∀ (k0_h5 : ¬(k0_cond5 v140 = 1#1)), ∀ a x, ((![v489, v497] : Fin 2 → IVec S16 32) a x).toNat < S256x128.size a := fun i k0_t5 v140 v489 v497 k0_hw355 k0_h5 => k0_hw355.2 k0_h5

def k0_chk356 (i : grid0.Coords) (k0_t5 : Fin (k0_t5_loop i).trips) (v140 : BitVec 32) (v489 : IVec S16 32) (v499 : IVec S16 32) : Prop :=
  (∀ (k0_h5 : ¬(k0_cond5 v140 = 1#1)), ∀ a x, ((![v489, v499] : Fin 2 → IVec S16 32) a x).toNat < S256x128.size a) ∧
  (∀ (k0_h5 : ¬(k0_cond5 v140 = 1#1)), ∀ a x, ((![v489, v499] : Fin 2 → IVec S16 32) a x).toNat < S256x128.size a)
theorem k0_idx640_inb : ∀ (i : grid0.Coords) (k0_t5 : Fin (k0_t5_loop i).trips) (v140 : BitVec 32) (v489 : IVec S16 32) (v499 : IVec S16 32) (k0_hw356 : k0_chk356 i k0_t5 v140 v489 v499), ∀ (k0_h5 : ¬(k0_cond5 v140 = 1#1)), ∀ a x, ((![v489, v499] : Fin 2 → IVec S16 32) a x).toNat < S256x128.size a := fun i k0_t5 v140 v489 v499 k0_hw356 k0_h5 => k0_hw356.1 k0_h5
theorem k0_idx641_inb : ∀ (i : grid0.Coords) (k0_t5 : Fin (k0_t5_loop i).trips) (v140 : BitVec 32) (v489 : IVec S16 32) (v499 : IVec S16 32) (k0_hw356 : k0_chk356 i k0_t5 v140 v489 v499), ∀ (k0_h5 : ¬(k0_cond5 v140 = 1#1)), ∀ a x, ((![v489, v499] : Fin 2 → IVec S16 32) a x).toNat < S256x128.size a := fun i k0_t5 v140 v489 v499 k0_hw356 k0_h5 => k0_hw356.2 k0_h5

def k0_chk357 (i : grid0.Coords) (k0_t5 : Fin (k0_t5_loop i).trips) (v140 : BitVec 32) (v489 : IVec S16 32) (v501 : IVec S16 32) : Prop :=
  (∀ (k0_h5 : ¬(k0_cond5 v140 = 1#1)), ∀ a x, ((![v489, v501] : Fin 2 → IVec S16 32) a x).toNat < S256x128.size a) ∧
  (∀ (k0_h5 : ¬(k0_cond5 v140 = 1#1)), ∀ a x, ((![v489, v501] : Fin 2 → IVec S16 32) a x).toNat < S256x128.size a)
theorem k0_idx642_inb : ∀ (i : grid0.Coords) (k0_t5 : Fin (k0_t5_loop i).trips) (v140 : BitVec 32) (v489 : IVec S16 32) (v501 : IVec S16 32) (k0_hw357 : k0_chk357 i k0_t5 v140 v489 v501), ∀ (k0_h5 : ¬(k0_cond5 v140 = 1#1)), ∀ a x, ((![v489, v501] : Fin 2 → IVec S16 32) a x).toNat < S256x128.size a := fun i k0_t5 v140 v489 v501 k0_hw357 k0_h5 => k0_hw357.1 k0_h5
theorem k0_idx643_inb : ∀ (i : grid0.Coords) (k0_t5 : Fin (k0_t5_loop i).trips) (v140 : BitVec 32) (v489 : IVec S16 32) (v501 : IVec S16 32) (k0_hw357 : k0_chk357 i k0_t5 v140 v489 v501), ∀ (k0_h5 : ¬(k0_cond5 v140 = 1#1)), ∀ a x, ((![v489, v501] : Fin 2 → IVec S16 32) a x).toNat < S256x128.size a := fun i k0_t5 v140 v489 v501 k0_hw357 k0_h5 => k0_hw357.2 k0_h5

def k0_chk358 (i : grid0.Coords) (k0_t5 : Fin (k0_t5_loop i).trips) (v140 : BitVec 32) (v489 : IVec S16 32) (v503 : IVec S16 32) : Prop :=
  (∀ (k0_h5 : ¬(k0_cond5 v140 = 1#1)), ∀ a x, ((![v489, v503] : Fin 2 → IVec S16 32) a x).toNat < S256x128.size a) ∧
  (∀ (k0_h5 : ¬(k0_cond5 v140 = 1#1)), ∀ a x, ((![v489, v503] : Fin 2 → IVec S16 32) a x).toNat < S256x128.size a)
theorem k0_idx644_inb : ∀ (i : grid0.Coords) (k0_t5 : Fin (k0_t5_loop i).trips) (v140 : BitVec 32) (v489 : IVec S16 32) (v503 : IVec S16 32) (k0_hw358 : k0_chk358 i k0_t5 v140 v489 v503), ∀ (k0_h5 : ¬(k0_cond5 v140 = 1#1)), ∀ a x, ((![v489, v503] : Fin 2 → IVec S16 32) a x).toNat < S256x128.size a := fun i k0_t5 v140 v489 v503 k0_hw358 k0_h5 => k0_hw358.1 k0_h5
theorem k0_idx645_inb : ∀ (i : grid0.Coords) (k0_t5 : Fin (k0_t5_loop i).trips) (v140 : BitVec 32) (v489 : IVec S16 32) (v503 : IVec S16 32) (k0_hw358 : k0_chk358 i k0_t5 v140 v489 v503), ∀ (k0_h5 : ¬(k0_cond5 v140 = 1#1)), ∀ a x, ((![v489, v503] : Fin 2 → IVec S16 32) a x).toNat < S256x128.size a := fun i k0_t5 v140 v489 v503 k0_hw358 k0_h5 => k0_hw358.2 k0_h5

def k0_chk359 (i : grid0.Coords) (k0_t5 : Fin (k0_t5_loop i).trips) (v140 : BitVec 32) (v489 : IVec S16 32) (v505 : IVec S16 32) : Prop :=
  (∀ (k0_h5 : ¬(k0_cond5 v140 = 1#1)), ∀ a x, ((![v489, v505] : Fin 2 → IVec S16 32) a x).toNat < S256x128.size a) ∧
  (∀ (k0_h5 : ¬(k0_cond5 v140 = 1#1)), ∀ a x, ((![v489, v505] : Fin 2 → IVec S16 32) a x).toNat < S256x128.size a)
theorem k0_idx646_inb : ∀ (i : grid0.Coords) (k0_t5 : Fin (k0_t5_loop i).trips) (v140 : BitVec 32) (v489 : IVec S16 32) (v505 : IVec S16 32) (k0_hw359 : k0_chk359 i k0_t5 v140 v489 v505), ∀ (k0_h5 : ¬(k0_cond5 v140 = 1#1)), ∀ a x, ((![v489, v505] : Fin 2 → IVec S16 32) a x).toNat < S256x128.size a := fun i k0_t5 v140 v489 v505 k0_hw359 k0_h5 => k0_hw359.1 k0_h5
theorem k0_idx647_inb : ∀ (i : grid0.Coords) (k0_t5 : Fin (k0_t5_loop i).trips) (v140 : BitVec 32) (v489 : IVec S16 32) (v505 : IVec S16 32) (k0_hw359 : k0_chk359 i k0_t5 v140 v489 v505), ∀ (k0_h5 : ¬(k0_cond5 v140 = 1#1)), ∀ a x, ((![v489, v505] : Fin 2 → IVec S16 32) a x).toNat < S256x128.size a := fun i k0_t5 v140 v489 v505 k0_hw359 k0_h5 => k0_hw359.2 k0_h5

def k0_chk360 (i : grid0.Coords) (v2 : IVec S16 32) (k0_t5 : Fin (k0_t5_loop i).trips) (v140 : BitVec 32) (v489 : IVec S16 32) : Prop :=
  (∀ (k0_h5 : ¬(k0_cond5 v140 = 1#1)), ∀ a x, ((![v489, v2] : Fin 2 → IVec S16 32) a x).toNat < S256x16.size a)
theorem k0_idx648_inb : ∀ (i : grid0.Coords) (v2 : IVec S16 32) (k0_t5 : Fin (k0_t5_loop i).trips) (v140 : BitVec 32) (v489 : IVec S16 32) (k0_hw360 : k0_chk360 i v2 k0_t5 v140 v489), ∀ (k0_h5 : ¬(k0_cond5 v140 = 1#1)), ∀ a x, ((![v489, v2] : Fin 2 → IVec S16 32) a x).toNat < S256x16.size a := fun i v2 k0_t5 v140 v489 k0_hw360 k0_h5 => k0_hw360 k0_h5

def k0_chk361 (i : grid0.Coords) (k0_t5 : Fin (k0_t5_loop i).trips) (v140 : BitVec 32) (v550 : IVec S16 32) : Prop :=
  (∀ (k0_h5 : ¬(k0_cond5 v140 = 1#1)), ∀ a x, ((![v550] : Fin 1 → IVec S16 32) a x).toNat < S3136.size a)
theorem k0_idx649_inb : ∀ (i : grid0.Coords) (k0_t5 : Fin (k0_t5_loop i).trips) (v140 : BitVec 32) (v550 : IVec S16 32) (k0_hw361 : k0_chk361 i k0_t5 v140 v550), ∀ (k0_h5 : ¬(k0_cond5 v140 = 1#1)), ∀ a x, ((![v550] : Fin 1 → IVec S16 32) a x).toNat < S3136.size a := fun i k0_t5 v140 v550 k0_hw361 k0_h5 => k0_hw361 k0_h5
def k0_off331 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v553 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c4_i32_182 : BitVec 32 := 4#32
  let v552 : BitVec 32 := Scalar.addi v126 c4_i32_182
  let v554 : Index := Scalar.indexCast v552
  let c0_183 : Index := 0#32
  ![v553.toNat, v554.toNat, 0]
def k0_off332 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v557 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c4_i32_184 : BitVec 32 := 4#32
  let v556 : BitVec 32 := Scalar.addi v126 c4_i32_184
  let v558 : Index := Scalar.indexCast v556
  let c16_185 : Index := 16#32
  ![v557.toNat, v558.toNat, 16]
def k0_off333 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v561 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c4_i32_186 : BitVec 32 := 4#32
  let v560 : BitVec 32 := Scalar.addi v126 c4_i32_186
  let v562 : Index := Scalar.indexCast v560
  let c32_187 : Index := 32#32
  ![v561.toNat, v562.toNat, 32]
def k0_off334 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v565 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c4_i32_188 : BitVec 32 := 4#32
  let v564 : BitVec 32 := Scalar.addi v126 c4_i32_188
  let v566 : Index := Scalar.indexCast v564
  let c48_189 : Index := 48#32
  ![v565.toNat, v566.toNat, 48]
def k0_off335 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v569 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c4_i32_190 : BitVec 32 := 4#32
  let v568 : BitVec 32 := Scalar.addi v126 c4_i32_190
  let v570 : Index := Scalar.indexCast v568
  let c64_191 : Index := 64#32
  ![v569.toNat, v570.toNat, 64]
def k0_off336 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v573 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c4_i32_192 : BitVec 32 := 4#32
  let v572 : BitVec 32 := Scalar.addi v126 c4_i32_192
  let v574 : Index := Scalar.indexCast v572
  let c80_193 : Index := 80#32
  ![v573.toNat, v574.toNat, 80]
def k0_off337 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v577 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c4_i32_194 : BitVec 32 := 4#32
  let v576 : BitVec 32 := Scalar.addi v126 c4_i32_194
  let v578 : Index := Scalar.indexCast v576
  let c96_195 : Index := 96#32
  ![v577.toNat, v578.toNat, 96]
def k0_off338 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v581 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c4_i32_196 : BitVec 32 := 4#32
  let v580 : BitVec 32 := Scalar.addi v126 c4_i32_196
  let v582 : Index := Scalar.indexCast v580
  let c112_197 : Index := 112#32
  ![v581.toNat, v582.toNat, 112]

def k0_chk362 (i : grid0.Coords) (k0_t5 : Fin (k0_t5_loop i).trips) (v140 : BitVec 32) (v590 : IVec S16 32) (v592 : IVec S16 32) : Prop :=
  (∀ (k0_h5 : ¬(k0_cond5 v140 = 1#1)), ∀ a x, ((![v590, v592] : Fin 2 → IVec S16 32) a x).toNat < S256x128.size a) ∧
  (∀ (k0_h5 : ¬(k0_cond5 v140 = 1#1)), ∀ a x, ((![v590, v592] : Fin 2 → IVec S16 32) a x).toNat < S256x128.size a)
theorem k0_idx650_inb : ∀ (i : grid0.Coords) (k0_t5 : Fin (k0_t5_loop i).trips) (v140 : BitVec 32) (v590 : IVec S16 32) (v592 : IVec S16 32) (k0_hw362 : k0_chk362 i k0_t5 v140 v590 v592), ∀ (k0_h5 : ¬(k0_cond5 v140 = 1#1)), ∀ a x, ((![v590, v592] : Fin 2 → IVec S16 32) a x).toNat < S256x128.size a := fun i k0_t5 v140 v590 v592 k0_hw362 k0_h5 => k0_hw362.1 k0_h5
theorem k0_idx651_inb : ∀ (i : grid0.Coords) (k0_t5 : Fin (k0_t5_loop i).trips) (v140 : BitVec 32) (v590 : IVec S16 32) (v592 : IVec S16 32) (k0_hw362 : k0_chk362 i k0_t5 v140 v590 v592), ∀ (k0_h5 : ¬(k0_cond5 v140 = 1#1)), ∀ a x, ((![v590, v592] : Fin 2 → IVec S16 32) a x).toNat < S256x128.size a := fun i k0_t5 v140 v590 v592 k0_hw362 k0_h5 => k0_hw362.2 k0_h5

def k0_chk363 (i : grid0.Coords) (k0_t5 : Fin (k0_t5_loop i).trips) (v140 : BitVec 32) (v590 : IVec S16 32) (v594 : IVec S16 32) : Prop :=
  (∀ (k0_h5 : ¬(k0_cond5 v140 = 1#1)), ∀ a x, ((![v590, v594] : Fin 2 → IVec S16 32) a x).toNat < S256x128.size a) ∧
  (∀ (k0_h5 : ¬(k0_cond5 v140 = 1#1)), ∀ a x, ((![v590, v594] : Fin 2 → IVec S16 32) a x).toNat < S256x128.size a)
theorem k0_idx652_inb : ∀ (i : grid0.Coords) (k0_t5 : Fin (k0_t5_loop i).trips) (v140 : BitVec 32) (v590 : IVec S16 32) (v594 : IVec S16 32) (k0_hw363 : k0_chk363 i k0_t5 v140 v590 v594), ∀ (k0_h5 : ¬(k0_cond5 v140 = 1#1)), ∀ a x, ((![v590, v594] : Fin 2 → IVec S16 32) a x).toNat < S256x128.size a := fun i k0_t5 v140 v590 v594 k0_hw363 k0_h5 => k0_hw363.1 k0_h5
theorem k0_idx653_inb : ∀ (i : grid0.Coords) (k0_t5 : Fin (k0_t5_loop i).trips) (v140 : BitVec 32) (v590 : IVec S16 32) (v594 : IVec S16 32) (k0_hw363 : k0_chk363 i k0_t5 v140 v590 v594), ∀ (k0_h5 : ¬(k0_cond5 v140 = 1#1)), ∀ a x, ((![v590, v594] : Fin 2 → IVec S16 32) a x).toNat < S256x128.size a := fun i k0_t5 v140 v590 v594 k0_hw363 k0_h5 => k0_hw363.2 k0_h5

def k0_chk364 (i : grid0.Coords) (k0_t5 : Fin (k0_t5_loop i).trips) (v140 : BitVec 32) (v590 : IVec S16 32) (v596 : IVec S16 32) : Prop :=
  (∀ (k0_h5 : ¬(k0_cond5 v140 = 1#1)), ∀ a x, ((![v590, v596] : Fin 2 → IVec S16 32) a x).toNat < S256x128.size a) ∧
  (∀ (k0_h5 : ¬(k0_cond5 v140 = 1#1)), ∀ a x, ((![v590, v596] : Fin 2 → IVec S16 32) a x).toNat < S256x128.size a)
theorem k0_idx654_inb : ∀ (i : grid0.Coords) (k0_t5 : Fin (k0_t5_loop i).trips) (v140 : BitVec 32) (v590 : IVec S16 32) (v596 : IVec S16 32) (k0_hw364 : k0_chk364 i k0_t5 v140 v590 v596), ∀ (k0_h5 : ¬(k0_cond5 v140 = 1#1)), ∀ a x, ((![v590, v596] : Fin 2 → IVec S16 32) a x).toNat < S256x128.size a := fun i k0_t5 v140 v590 v596 k0_hw364 k0_h5 => k0_hw364.1 k0_h5
theorem k0_idx655_inb : ∀ (i : grid0.Coords) (k0_t5 : Fin (k0_t5_loop i).trips) (v140 : BitVec 32) (v590 : IVec S16 32) (v596 : IVec S16 32) (k0_hw364 : k0_chk364 i k0_t5 v140 v590 v596), ∀ (k0_h5 : ¬(k0_cond5 v140 = 1#1)), ∀ a x, ((![v590, v596] : Fin 2 → IVec S16 32) a x).toNat < S256x128.size a := fun i k0_t5 v140 v590 v596 k0_hw364 k0_h5 => k0_hw364.2 k0_h5

def k0_chk365 (i : grid0.Coords) (k0_t5 : Fin (k0_t5_loop i).trips) (v140 : BitVec 32) (v590 : IVec S16 32) (v598 : IVec S16 32) : Prop :=
  (∀ (k0_h5 : ¬(k0_cond5 v140 = 1#1)), ∀ a x, ((![v590, v598] : Fin 2 → IVec S16 32) a x).toNat < S256x128.size a) ∧
  (∀ (k0_h5 : ¬(k0_cond5 v140 = 1#1)), ∀ a x, ((![v590, v598] : Fin 2 → IVec S16 32) a x).toNat < S256x128.size a)
theorem k0_idx656_inb : ∀ (i : grid0.Coords) (k0_t5 : Fin (k0_t5_loop i).trips) (v140 : BitVec 32) (v590 : IVec S16 32) (v598 : IVec S16 32) (k0_hw365 : k0_chk365 i k0_t5 v140 v590 v598), ∀ (k0_h5 : ¬(k0_cond5 v140 = 1#1)), ∀ a x, ((![v590, v598] : Fin 2 → IVec S16 32) a x).toNat < S256x128.size a := fun i k0_t5 v140 v590 v598 k0_hw365 k0_h5 => k0_hw365.1 k0_h5
theorem k0_idx657_inb : ∀ (i : grid0.Coords) (k0_t5 : Fin (k0_t5_loop i).trips) (v140 : BitVec 32) (v590 : IVec S16 32) (v598 : IVec S16 32) (k0_hw365 : k0_chk365 i k0_t5 v140 v590 v598), ∀ (k0_h5 : ¬(k0_cond5 v140 = 1#1)), ∀ a x, ((![v590, v598] : Fin 2 → IVec S16 32) a x).toNat < S256x128.size a := fun i k0_t5 v140 v590 v598 k0_hw365 k0_h5 => k0_hw365.2 k0_h5

def k0_chk366 (i : grid0.Coords) (k0_t5 : Fin (k0_t5_loop i).trips) (v140 : BitVec 32) (v590 : IVec S16 32) (v600 : IVec S16 32) : Prop :=
  (∀ (k0_h5 : ¬(k0_cond5 v140 = 1#1)), ∀ a x, ((![v590, v600] : Fin 2 → IVec S16 32) a x).toNat < S256x128.size a) ∧
  (∀ (k0_h5 : ¬(k0_cond5 v140 = 1#1)), ∀ a x, ((![v590, v600] : Fin 2 → IVec S16 32) a x).toNat < S256x128.size a)
theorem k0_idx658_inb : ∀ (i : grid0.Coords) (k0_t5 : Fin (k0_t5_loop i).trips) (v140 : BitVec 32) (v590 : IVec S16 32) (v600 : IVec S16 32) (k0_hw366 : k0_chk366 i k0_t5 v140 v590 v600), ∀ (k0_h5 : ¬(k0_cond5 v140 = 1#1)), ∀ a x, ((![v590, v600] : Fin 2 → IVec S16 32) a x).toNat < S256x128.size a := fun i k0_t5 v140 v590 v600 k0_hw366 k0_h5 => k0_hw366.1 k0_h5
theorem k0_idx659_inb : ∀ (i : grid0.Coords) (k0_t5 : Fin (k0_t5_loop i).trips) (v140 : BitVec 32) (v590 : IVec S16 32) (v600 : IVec S16 32) (k0_hw366 : k0_chk366 i k0_t5 v140 v590 v600), ∀ (k0_h5 : ¬(k0_cond5 v140 = 1#1)), ∀ a x, ((![v590, v600] : Fin 2 → IVec S16 32) a x).toNat < S256x128.size a := fun i k0_t5 v140 v590 v600 k0_hw366 k0_h5 => k0_hw366.2 k0_h5

def k0_chk367 (i : grid0.Coords) (k0_t5 : Fin (k0_t5_loop i).trips) (v140 : BitVec 32) (v590 : IVec S16 32) (v602 : IVec S16 32) : Prop :=
  (∀ (k0_h5 : ¬(k0_cond5 v140 = 1#1)), ∀ a x, ((![v590, v602] : Fin 2 → IVec S16 32) a x).toNat < S256x128.size a) ∧
  (∀ (k0_h5 : ¬(k0_cond5 v140 = 1#1)), ∀ a x, ((![v590, v602] : Fin 2 → IVec S16 32) a x).toNat < S256x128.size a)
theorem k0_idx660_inb : ∀ (i : grid0.Coords) (k0_t5 : Fin (k0_t5_loop i).trips) (v140 : BitVec 32) (v590 : IVec S16 32) (v602 : IVec S16 32) (k0_hw367 : k0_chk367 i k0_t5 v140 v590 v602), ∀ (k0_h5 : ¬(k0_cond5 v140 = 1#1)), ∀ a x, ((![v590, v602] : Fin 2 → IVec S16 32) a x).toNat < S256x128.size a := fun i k0_t5 v140 v590 v602 k0_hw367 k0_h5 => k0_hw367.1 k0_h5
theorem k0_idx661_inb : ∀ (i : grid0.Coords) (k0_t5 : Fin (k0_t5_loop i).trips) (v140 : BitVec 32) (v590 : IVec S16 32) (v602 : IVec S16 32) (k0_hw367 : k0_chk367 i k0_t5 v140 v590 v602), ∀ (k0_h5 : ¬(k0_cond5 v140 = 1#1)), ∀ a x, ((![v590, v602] : Fin 2 → IVec S16 32) a x).toNat < S256x128.size a := fun i k0_t5 v140 v590 v602 k0_hw367 k0_h5 => k0_hw367.2 k0_h5

def k0_chk368 (i : grid0.Coords) (k0_t5 : Fin (k0_t5_loop i).trips) (v140 : BitVec 32) (v590 : IVec S16 32) (v604 : IVec S16 32) : Prop :=
  (∀ (k0_h5 : ¬(k0_cond5 v140 = 1#1)), ∀ a x, ((![v590, v604] : Fin 2 → IVec S16 32) a x).toNat < S256x128.size a) ∧
  (∀ (k0_h5 : ¬(k0_cond5 v140 = 1#1)), ∀ a x, ((![v590, v604] : Fin 2 → IVec S16 32) a x).toNat < S256x128.size a)
theorem k0_idx662_inb : ∀ (i : grid0.Coords) (k0_t5 : Fin (k0_t5_loop i).trips) (v140 : BitVec 32) (v590 : IVec S16 32) (v604 : IVec S16 32) (k0_hw368 : k0_chk368 i k0_t5 v140 v590 v604), ∀ (k0_h5 : ¬(k0_cond5 v140 = 1#1)), ∀ a x, ((![v590, v604] : Fin 2 → IVec S16 32) a x).toNat < S256x128.size a := fun i k0_t5 v140 v590 v604 k0_hw368 k0_h5 => k0_hw368.1 k0_h5
theorem k0_idx663_inb : ∀ (i : grid0.Coords) (k0_t5 : Fin (k0_t5_loop i).trips) (v140 : BitVec 32) (v590 : IVec S16 32) (v604 : IVec S16 32) (k0_hw368 : k0_chk368 i k0_t5 v140 v590 v604), ∀ (k0_h5 : ¬(k0_cond5 v140 = 1#1)), ∀ a x, ((![v590, v604] : Fin 2 → IVec S16 32) a x).toNat < S256x128.size a := fun i k0_t5 v140 v590 v604 k0_hw368 k0_h5 => k0_hw368.2 k0_h5

def k0_chk369 (i : grid0.Coords) (k0_t5 : Fin (k0_t5_loop i).trips) (v140 : BitVec 32) (v590 : IVec S16 32) (v606 : IVec S16 32) : Prop :=
  (∀ (k0_h5 : ¬(k0_cond5 v140 = 1#1)), ∀ a x, ((![v590, v606] : Fin 2 → IVec S16 32) a x).toNat < S256x128.size a) ∧
  (∀ (k0_h5 : ¬(k0_cond5 v140 = 1#1)), ∀ a x, ((![v590, v606] : Fin 2 → IVec S16 32) a x).toNat < S256x128.size a)
theorem k0_idx664_inb : ∀ (i : grid0.Coords) (k0_t5 : Fin (k0_t5_loop i).trips) (v140 : BitVec 32) (v590 : IVec S16 32) (v606 : IVec S16 32) (k0_hw369 : k0_chk369 i k0_t5 v140 v590 v606), ∀ (k0_h5 : ¬(k0_cond5 v140 = 1#1)), ∀ a x, ((![v590, v606] : Fin 2 → IVec S16 32) a x).toNat < S256x128.size a := fun i k0_t5 v140 v590 v606 k0_hw369 k0_h5 => k0_hw369.1 k0_h5
theorem k0_idx665_inb : ∀ (i : grid0.Coords) (k0_t5 : Fin (k0_t5_loop i).trips) (v140 : BitVec 32) (v590 : IVec S16 32) (v606 : IVec S16 32) (k0_hw369 : k0_chk369 i k0_t5 v140 v590 v606), ∀ (k0_h5 : ¬(k0_cond5 v140 = 1#1)), ∀ a x, ((![v590, v606] : Fin 2 → IVec S16 32) a x).toNat < S256x128.size a := fun i k0_t5 v140 v590 v606 k0_hw369 k0_h5 => k0_hw369.2 k0_h5

def k0_chk370 (i : grid0.Coords) (v2 : IVec S16 32) (k0_t5 : Fin (k0_t5_loop i).trips) (v140 : BitVec 32) (v590 : IVec S16 32) : Prop :=
  (∀ (k0_h5 : ¬(k0_cond5 v140 = 1#1)), ∀ a x, ((![v590, v2] : Fin 2 → IVec S16 32) a x).toNat < S256x16.size a)
theorem k0_idx666_inb : ∀ (i : grid0.Coords) (v2 : IVec S16 32) (k0_t5 : Fin (k0_t5_loop i).trips) (v140 : BitVec 32) (v590 : IVec S16 32) (k0_hw370 : k0_chk370 i v2 k0_t5 v140 v590), ∀ (k0_h5 : ¬(k0_cond5 v140 = 1#1)), ∀ a x, ((![v590, v2] : Fin 2 → IVec S16 32) a x).toNat < S256x16.size a := fun i v2 k0_t5 v140 v590 k0_hw370 k0_h5 => k0_hw370 k0_h5

def k0_chk371 (i : grid0.Coords) (k0_t5 : Fin (k0_t5_loop i).trips) (v140 : BitVec 32) (v651 : IVec S16 32) : Prop :=
  (∀ (k0_h5 : ¬(k0_cond5 v140 = 1#1)), ∀ a x, ((![v651] : Fin 1 → IVec S16 32) a x).toNat < S3136.size a)
theorem k0_idx667_inb : ∀ (i : grid0.Coords) (k0_t5 : Fin (k0_t5_loop i).trips) (v140 : BitVec 32) (v651 : IVec S16 32) (k0_hw371 : k0_chk371 i k0_t5 v140 v651), ∀ (k0_h5 : ¬(k0_cond5 v140 = 1#1)), ∀ a x, ((![v651] : Fin 1 → IVec S16 32) a x).toNat < S3136.size a := fun i k0_t5 v140 v651 k0_hw371 k0_h5 => k0_hw371 k0_h5
def k0_off339 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v654 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c5_i32_212 : BitVec 32 := 5#32
  let v653 : BitVec 32 := Scalar.addi v126 c5_i32_212
  let v655 : Index := Scalar.indexCast v653
  let c0_213 : Index := 0#32
  ![v654.toNat, v655.toNat, 0]
def k0_off340 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v658 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c5_i32_214 : BitVec 32 := 5#32
  let v657 : BitVec 32 := Scalar.addi v126 c5_i32_214
  let v659 : Index := Scalar.indexCast v657
  let c16_215 : Index := 16#32
  ![v658.toNat, v659.toNat, 16]
def k0_off341 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v662 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c5_i32_216 : BitVec 32 := 5#32
  let v661 : BitVec 32 := Scalar.addi v126 c5_i32_216
  let v663 : Index := Scalar.indexCast v661
  let c32_217 : Index := 32#32
  ![v662.toNat, v663.toNat, 32]
def k0_off342 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v666 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c5_i32_218 : BitVec 32 := 5#32
  let v665 : BitVec 32 := Scalar.addi v126 c5_i32_218
  let v667 : Index := Scalar.indexCast v665
  let c48_219 : Index := 48#32
  ![v666.toNat, v667.toNat, 48]
def k0_off343 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v670 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c5_i32_220 : BitVec 32 := 5#32
  let v669 : BitVec 32 := Scalar.addi v126 c5_i32_220
  let v671 : Index := Scalar.indexCast v669
  let c64_221 : Index := 64#32
  ![v670.toNat, v671.toNat, 64]
def k0_off344 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v674 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c5_i32_222 : BitVec 32 := 5#32
  let v673 : BitVec 32 := Scalar.addi v126 c5_i32_222
  let v675 : Index := Scalar.indexCast v673
  let c80_223 : Index := 80#32
  ![v674.toNat, v675.toNat, 80]
def k0_off345 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v678 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c5_i32_224 : BitVec 32 := 5#32
  let v677 : BitVec 32 := Scalar.addi v126 c5_i32_224
  let v679 : Index := Scalar.indexCast v677
  let c96_225 : Index := 96#32
  ![v678.toNat, v679.toNat, 96]
def k0_off346 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v682 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c5_i32_226 : BitVec 32 := 5#32
  let v681 : BitVec 32 := Scalar.addi v126 c5_i32_226
  let v683 : Index := Scalar.indexCast v681
  let c112_227 : Index := 112#32
  ![v682.toNat, v683.toNat, 112]

def k0_chk372 (i : grid0.Coords) (k0_t5 : Fin (k0_t5_loop i).trips) (v140 : BitVec 32) (v691 : IVec S16 32) (v693 : IVec S16 32) : Prop :=
  (∀ (k0_h5 : ¬(k0_cond5 v140 = 1#1)), ∀ a x, ((![v691, v693] : Fin 2 → IVec S16 32) a x).toNat < S256x128.size a) ∧
  (∀ (k0_h5 : ¬(k0_cond5 v140 = 1#1)), ∀ a x, ((![v691, v693] : Fin 2 → IVec S16 32) a x).toNat < S256x128.size a)
theorem k0_idx668_inb : ∀ (i : grid0.Coords) (k0_t5 : Fin (k0_t5_loop i).trips) (v140 : BitVec 32) (v691 : IVec S16 32) (v693 : IVec S16 32) (k0_hw372 : k0_chk372 i k0_t5 v140 v691 v693), ∀ (k0_h5 : ¬(k0_cond5 v140 = 1#1)), ∀ a x, ((![v691, v693] : Fin 2 → IVec S16 32) a x).toNat < S256x128.size a := fun i k0_t5 v140 v691 v693 k0_hw372 k0_h5 => k0_hw372.1 k0_h5
theorem k0_idx669_inb : ∀ (i : grid0.Coords) (k0_t5 : Fin (k0_t5_loop i).trips) (v140 : BitVec 32) (v691 : IVec S16 32) (v693 : IVec S16 32) (k0_hw372 : k0_chk372 i k0_t5 v140 v691 v693), ∀ (k0_h5 : ¬(k0_cond5 v140 = 1#1)), ∀ a x, ((![v691, v693] : Fin 2 → IVec S16 32) a x).toNat < S256x128.size a := fun i k0_t5 v140 v691 v693 k0_hw372 k0_h5 => k0_hw372.2 k0_h5

def k0_chk373 (i : grid0.Coords) (k0_t5 : Fin (k0_t5_loop i).trips) (v140 : BitVec 32) (v691 : IVec S16 32) (v695 : IVec S16 32) : Prop :=
  (∀ (k0_h5 : ¬(k0_cond5 v140 = 1#1)), ∀ a x, ((![v691, v695] : Fin 2 → IVec S16 32) a x).toNat < S256x128.size a) ∧
  (∀ (k0_h5 : ¬(k0_cond5 v140 = 1#1)), ∀ a x, ((![v691, v695] : Fin 2 → IVec S16 32) a x).toNat < S256x128.size a)
theorem k0_idx670_inb : ∀ (i : grid0.Coords) (k0_t5 : Fin (k0_t5_loop i).trips) (v140 : BitVec 32) (v691 : IVec S16 32) (v695 : IVec S16 32) (k0_hw373 : k0_chk373 i k0_t5 v140 v691 v695), ∀ (k0_h5 : ¬(k0_cond5 v140 = 1#1)), ∀ a x, ((![v691, v695] : Fin 2 → IVec S16 32) a x).toNat < S256x128.size a := fun i k0_t5 v140 v691 v695 k0_hw373 k0_h5 => k0_hw373.1 k0_h5
theorem k0_idx671_inb : ∀ (i : grid0.Coords) (k0_t5 : Fin (k0_t5_loop i).trips) (v140 : BitVec 32) (v691 : IVec S16 32) (v695 : IVec S16 32) (k0_hw373 : k0_chk373 i k0_t5 v140 v691 v695), ∀ (k0_h5 : ¬(k0_cond5 v140 = 1#1)), ∀ a x, ((![v691, v695] : Fin 2 → IVec S16 32) a x).toNat < S256x128.size a := fun i k0_t5 v140 v691 v695 k0_hw373 k0_h5 => k0_hw373.2 k0_h5

def k0_chk374 (i : grid0.Coords) (k0_t5 : Fin (k0_t5_loop i).trips) (v140 : BitVec 32) (v691 : IVec S16 32) (v697 : IVec S16 32) : Prop :=
  (∀ (k0_h5 : ¬(k0_cond5 v140 = 1#1)), ∀ a x, ((![v691, v697] : Fin 2 → IVec S16 32) a x).toNat < S256x128.size a) ∧
  (∀ (k0_h5 : ¬(k0_cond5 v140 = 1#1)), ∀ a x, ((![v691, v697] : Fin 2 → IVec S16 32) a x).toNat < S256x128.size a)
theorem k0_idx672_inb : ∀ (i : grid0.Coords) (k0_t5 : Fin (k0_t5_loop i).trips) (v140 : BitVec 32) (v691 : IVec S16 32) (v697 : IVec S16 32) (k0_hw374 : k0_chk374 i k0_t5 v140 v691 v697), ∀ (k0_h5 : ¬(k0_cond5 v140 = 1#1)), ∀ a x, ((![v691, v697] : Fin 2 → IVec S16 32) a x).toNat < S256x128.size a := fun i k0_t5 v140 v691 v697 k0_hw374 k0_h5 => k0_hw374.1 k0_h5
theorem k0_idx673_inb : ∀ (i : grid0.Coords) (k0_t5 : Fin (k0_t5_loop i).trips) (v140 : BitVec 32) (v691 : IVec S16 32) (v697 : IVec S16 32) (k0_hw374 : k0_chk374 i k0_t5 v140 v691 v697), ∀ (k0_h5 : ¬(k0_cond5 v140 = 1#1)), ∀ a x, ((![v691, v697] : Fin 2 → IVec S16 32) a x).toNat < S256x128.size a := fun i k0_t5 v140 v691 v697 k0_hw374 k0_h5 => k0_hw374.2 k0_h5

def k0_chk375 (i : grid0.Coords) (k0_t5 : Fin (k0_t5_loop i).trips) (v140 : BitVec 32) (v691 : IVec S16 32) (v699 : IVec S16 32) : Prop :=
  (∀ (k0_h5 : ¬(k0_cond5 v140 = 1#1)), ∀ a x, ((![v691, v699] : Fin 2 → IVec S16 32) a x).toNat < S256x128.size a) ∧
  (∀ (k0_h5 : ¬(k0_cond5 v140 = 1#1)), ∀ a x, ((![v691, v699] : Fin 2 → IVec S16 32) a x).toNat < S256x128.size a)
theorem k0_idx674_inb : ∀ (i : grid0.Coords) (k0_t5 : Fin (k0_t5_loop i).trips) (v140 : BitVec 32) (v691 : IVec S16 32) (v699 : IVec S16 32) (k0_hw375 : k0_chk375 i k0_t5 v140 v691 v699), ∀ (k0_h5 : ¬(k0_cond5 v140 = 1#1)), ∀ a x, ((![v691, v699] : Fin 2 → IVec S16 32) a x).toNat < S256x128.size a := fun i k0_t5 v140 v691 v699 k0_hw375 k0_h5 => k0_hw375.1 k0_h5
theorem k0_idx675_inb : ∀ (i : grid0.Coords) (k0_t5 : Fin (k0_t5_loop i).trips) (v140 : BitVec 32) (v691 : IVec S16 32) (v699 : IVec S16 32) (k0_hw375 : k0_chk375 i k0_t5 v140 v691 v699), ∀ (k0_h5 : ¬(k0_cond5 v140 = 1#1)), ∀ a x, ((![v691, v699] : Fin 2 → IVec S16 32) a x).toNat < S256x128.size a := fun i k0_t5 v140 v691 v699 k0_hw375 k0_h5 => k0_hw375.2 k0_h5

def k0_chk376 (i : grid0.Coords) (k0_t5 : Fin (k0_t5_loop i).trips) (v140 : BitVec 32) (v691 : IVec S16 32) (v701 : IVec S16 32) : Prop :=
  (∀ (k0_h5 : ¬(k0_cond5 v140 = 1#1)), ∀ a x, ((![v691, v701] : Fin 2 → IVec S16 32) a x).toNat < S256x128.size a) ∧
  (∀ (k0_h5 : ¬(k0_cond5 v140 = 1#1)), ∀ a x, ((![v691, v701] : Fin 2 → IVec S16 32) a x).toNat < S256x128.size a)
theorem k0_idx676_inb : ∀ (i : grid0.Coords) (k0_t5 : Fin (k0_t5_loop i).trips) (v140 : BitVec 32) (v691 : IVec S16 32) (v701 : IVec S16 32) (k0_hw376 : k0_chk376 i k0_t5 v140 v691 v701), ∀ (k0_h5 : ¬(k0_cond5 v140 = 1#1)), ∀ a x, ((![v691, v701] : Fin 2 → IVec S16 32) a x).toNat < S256x128.size a := fun i k0_t5 v140 v691 v701 k0_hw376 k0_h5 => k0_hw376.1 k0_h5
theorem k0_idx677_inb : ∀ (i : grid0.Coords) (k0_t5 : Fin (k0_t5_loop i).trips) (v140 : BitVec 32) (v691 : IVec S16 32) (v701 : IVec S16 32) (k0_hw376 : k0_chk376 i k0_t5 v140 v691 v701), ∀ (k0_h5 : ¬(k0_cond5 v140 = 1#1)), ∀ a x, ((![v691, v701] : Fin 2 → IVec S16 32) a x).toNat < S256x128.size a := fun i k0_t5 v140 v691 v701 k0_hw376 k0_h5 => k0_hw376.2 k0_h5

def k0_chk377 (i : grid0.Coords) (k0_t5 : Fin (k0_t5_loop i).trips) (v140 : BitVec 32) (v691 : IVec S16 32) (v703 : IVec S16 32) : Prop :=
  (∀ (k0_h5 : ¬(k0_cond5 v140 = 1#1)), ∀ a x, ((![v691, v703] : Fin 2 → IVec S16 32) a x).toNat < S256x128.size a) ∧
  (∀ (k0_h5 : ¬(k0_cond5 v140 = 1#1)), ∀ a x, ((![v691, v703] : Fin 2 → IVec S16 32) a x).toNat < S256x128.size a)
theorem k0_idx678_inb : ∀ (i : grid0.Coords) (k0_t5 : Fin (k0_t5_loop i).trips) (v140 : BitVec 32) (v691 : IVec S16 32) (v703 : IVec S16 32) (k0_hw377 : k0_chk377 i k0_t5 v140 v691 v703), ∀ (k0_h5 : ¬(k0_cond5 v140 = 1#1)), ∀ a x, ((![v691, v703] : Fin 2 → IVec S16 32) a x).toNat < S256x128.size a := fun i k0_t5 v140 v691 v703 k0_hw377 k0_h5 => k0_hw377.1 k0_h5
theorem k0_idx679_inb : ∀ (i : grid0.Coords) (k0_t5 : Fin (k0_t5_loop i).trips) (v140 : BitVec 32) (v691 : IVec S16 32) (v703 : IVec S16 32) (k0_hw377 : k0_chk377 i k0_t5 v140 v691 v703), ∀ (k0_h5 : ¬(k0_cond5 v140 = 1#1)), ∀ a x, ((![v691, v703] : Fin 2 → IVec S16 32) a x).toNat < S256x128.size a := fun i k0_t5 v140 v691 v703 k0_hw377 k0_h5 => k0_hw377.2 k0_h5

def k0_chk378 (i : grid0.Coords) (k0_t5 : Fin (k0_t5_loop i).trips) (v140 : BitVec 32) (v691 : IVec S16 32) (v705 : IVec S16 32) : Prop :=
  (∀ (k0_h5 : ¬(k0_cond5 v140 = 1#1)), ∀ a x, ((![v691, v705] : Fin 2 → IVec S16 32) a x).toNat < S256x128.size a) ∧
  (∀ (k0_h5 : ¬(k0_cond5 v140 = 1#1)), ∀ a x, ((![v691, v705] : Fin 2 → IVec S16 32) a x).toNat < S256x128.size a)
theorem k0_idx680_inb : ∀ (i : grid0.Coords) (k0_t5 : Fin (k0_t5_loop i).trips) (v140 : BitVec 32) (v691 : IVec S16 32) (v705 : IVec S16 32) (k0_hw378 : k0_chk378 i k0_t5 v140 v691 v705), ∀ (k0_h5 : ¬(k0_cond5 v140 = 1#1)), ∀ a x, ((![v691, v705] : Fin 2 → IVec S16 32) a x).toNat < S256x128.size a := fun i k0_t5 v140 v691 v705 k0_hw378 k0_h5 => k0_hw378.1 k0_h5
theorem k0_idx681_inb : ∀ (i : grid0.Coords) (k0_t5 : Fin (k0_t5_loop i).trips) (v140 : BitVec 32) (v691 : IVec S16 32) (v705 : IVec S16 32) (k0_hw378 : k0_chk378 i k0_t5 v140 v691 v705), ∀ (k0_h5 : ¬(k0_cond5 v140 = 1#1)), ∀ a x, ((![v691, v705] : Fin 2 → IVec S16 32) a x).toNat < S256x128.size a := fun i k0_t5 v140 v691 v705 k0_hw378 k0_h5 => k0_hw378.2 k0_h5

def k0_chk379 (i : grid0.Coords) (k0_t5 : Fin (k0_t5_loop i).trips) (v140 : BitVec 32) (v691 : IVec S16 32) (v707 : IVec S16 32) : Prop :=
  (∀ (k0_h5 : ¬(k0_cond5 v140 = 1#1)), ∀ a x, ((![v691, v707] : Fin 2 → IVec S16 32) a x).toNat < S256x128.size a) ∧
  (∀ (k0_h5 : ¬(k0_cond5 v140 = 1#1)), ∀ a x, ((![v691, v707] : Fin 2 → IVec S16 32) a x).toNat < S256x128.size a)
theorem k0_idx682_inb : ∀ (i : grid0.Coords) (k0_t5 : Fin (k0_t5_loop i).trips) (v140 : BitVec 32) (v691 : IVec S16 32) (v707 : IVec S16 32) (k0_hw379 : k0_chk379 i k0_t5 v140 v691 v707), ∀ (k0_h5 : ¬(k0_cond5 v140 = 1#1)), ∀ a x, ((![v691, v707] : Fin 2 → IVec S16 32) a x).toNat < S256x128.size a := fun i k0_t5 v140 v691 v707 k0_hw379 k0_h5 => k0_hw379.1 k0_h5
theorem k0_idx683_inb : ∀ (i : grid0.Coords) (k0_t5 : Fin (k0_t5_loop i).trips) (v140 : BitVec 32) (v691 : IVec S16 32) (v707 : IVec S16 32) (k0_hw379 : k0_chk379 i k0_t5 v140 v691 v707), ∀ (k0_h5 : ¬(k0_cond5 v140 = 1#1)), ∀ a x, ((![v691, v707] : Fin 2 → IVec S16 32) a x).toNat < S256x128.size a := fun i k0_t5 v140 v691 v707 k0_hw379 k0_h5 => k0_hw379.2 k0_h5

def k0_chk380 (i : grid0.Coords) (v2 : IVec S16 32) (k0_t5 : Fin (k0_t5_loop i).trips) (v140 : BitVec 32) (v691 : IVec S16 32) : Prop :=
  (∀ (k0_h5 : ¬(k0_cond5 v140 = 1#1)), ∀ a x, ((![v691, v2] : Fin 2 → IVec S16 32) a x).toNat < S256x16.size a)
theorem k0_idx684_inb : ∀ (i : grid0.Coords) (v2 : IVec S16 32) (k0_t5 : Fin (k0_t5_loop i).trips) (v140 : BitVec 32) (v691 : IVec S16 32) (k0_hw380 : k0_chk380 i v2 k0_t5 v140 v691), ∀ (k0_h5 : ¬(k0_cond5 v140 = 1#1)), ∀ a x, ((![v691, v2] : Fin 2 → IVec S16 32) a x).toNat < S256x16.size a := fun i v2 k0_t5 v140 v691 k0_hw380 k0_h5 => k0_hw380 k0_h5

def k0_chk381 (i : grid0.Coords) (k0_t5 : Fin (k0_t5_loop i).trips) (v140 : BitVec 32) (v752 : IVec S16 32) : Prop :=
  (∀ (k0_h5 : ¬(k0_cond5 v140 = 1#1)), ∀ a x, ((![v752] : Fin 1 → IVec S16 32) a x).toNat < S3136.size a)
theorem k0_idx685_inb : ∀ (i : grid0.Coords) (k0_t5 : Fin (k0_t5_loop i).trips) (v140 : BitVec 32) (v752 : IVec S16 32) (k0_hw381 : k0_chk381 i k0_t5 v140 v752), ∀ (k0_h5 : ¬(k0_cond5 v140 = 1#1)), ∀ a x, ((![v752] : Fin 1 → IVec S16 32) a x).toNat < S3136.size a := fun i k0_t5 v140 v752 k0_hw381 k0_h5 => k0_hw381 k0_h5
def k0_off347 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v755 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c6_i32_242 : BitVec 32 := 6#32
  let v754 : BitVec 32 := Scalar.addi v126 c6_i32_242
  let v756 : Index := Scalar.indexCast v754
  let c0_243 : Index := 0#32
  ![v755.toNat, v756.toNat, 0]
def k0_off348 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v759 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c6_i32_244 : BitVec 32 := 6#32
  let v758 : BitVec 32 := Scalar.addi v126 c6_i32_244
  let v760 : Index := Scalar.indexCast v758
  let c16_245 : Index := 16#32
  ![v759.toNat, v760.toNat, 16]
def k0_off349 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v763 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c6_i32_246 : BitVec 32 := 6#32
  let v762 : BitVec 32 := Scalar.addi v126 c6_i32_246
  let v764 : Index := Scalar.indexCast v762
  let c32_247 : Index := 32#32
  ![v763.toNat, v764.toNat, 32]
def k0_off350 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v767 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c6_i32_248 : BitVec 32 := 6#32
  let v766 : BitVec 32 := Scalar.addi v126 c6_i32_248
  let v768 : Index := Scalar.indexCast v766
  let c48_249 : Index := 48#32
  ![v767.toNat, v768.toNat, 48]
def k0_off351 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v771 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c6_i32_250 : BitVec 32 := 6#32
  let v770 : BitVec 32 := Scalar.addi v126 c6_i32_250
  let v772 : Index := Scalar.indexCast v770
  let c64_251 : Index := 64#32
  ![v771.toNat, v772.toNat, 64]
def k0_off352 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v775 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c6_i32_252 : BitVec 32 := 6#32
  let v774 : BitVec 32 := Scalar.addi v126 c6_i32_252
  let v776 : Index := Scalar.indexCast v774
  let c80_253 : Index := 80#32
  ![v775.toNat, v776.toNat, 80]
def k0_off353 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v779 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c6_i32_254 : BitVec 32 := 6#32
  let v778 : BitVec 32 := Scalar.addi v126 c6_i32_254
  let v780 : Index := Scalar.indexCast v778
  let c96_255 : Index := 96#32
  ![v779.toNat, v780.toNat, 96]
def k0_off354 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v783 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c6_i32_256 : BitVec 32 := 6#32
  let v782 : BitVec 32 := Scalar.addi v126 c6_i32_256
  let v784 : Index := Scalar.indexCast v782
  let c112_257 : Index := 112#32
  ![v783.toNat, v784.toNat, 112]

def k0_chk382 (i : grid0.Coords) (k0_t5 : Fin (k0_t5_loop i).trips) (v140 : BitVec 32) (v792 : IVec S16 32) (v794 : IVec S16 32) : Prop :=
  (∀ (k0_h5 : ¬(k0_cond5 v140 = 1#1)), ∀ a x, ((![v792, v794] : Fin 2 → IVec S16 32) a x).toNat < S256x128.size a) ∧
  (∀ (k0_h5 : ¬(k0_cond5 v140 = 1#1)), ∀ a x, ((![v792, v794] : Fin 2 → IVec S16 32) a x).toNat < S256x128.size a)
theorem k0_idx686_inb : ∀ (i : grid0.Coords) (k0_t5 : Fin (k0_t5_loop i).trips) (v140 : BitVec 32) (v792 : IVec S16 32) (v794 : IVec S16 32) (k0_hw382 : k0_chk382 i k0_t5 v140 v792 v794), ∀ (k0_h5 : ¬(k0_cond5 v140 = 1#1)), ∀ a x, ((![v792, v794] : Fin 2 → IVec S16 32) a x).toNat < S256x128.size a := fun i k0_t5 v140 v792 v794 k0_hw382 k0_h5 => k0_hw382.1 k0_h5
theorem k0_idx687_inb : ∀ (i : grid0.Coords) (k0_t5 : Fin (k0_t5_loop i).trips) (v140 : BitVec 32) (v792 : IVec S16 32) (v794 : IVec S16 32) (k0_hw382 : k0_chk382 i k0_t5 v140 v792 v794), ∀ (k0_h5 : ¬(k0_cond5 v140 = 1#1)), ∀ a x, ((![v792, v794] : Fin 2 → IVec S16 32) a x).toNat < S256x128.size a := fun i k0_t5 v140 v792 v794 k0_hw382 k0_h5 => k0_hw382.2 k0_h5

def k0_chk383 (i : grid0.Coords) (k0_t5 : Fin (k0_t5_loop i).trips) (v140 : BitVec 32) (v792 : IVec S16 32) (v796 : IVec S16 32) : Prop :=
  (∀ (k0_h5 : ¬(k0_cond5 v140 = 1#1)), ∀ a x, ((![v792, v796] : Fin 2 → IVec S16 32) a x).toNat < S256x128.size a) ∧
  (∀ (k0_h5 : ¬(k0_cond5 v140 = 1#1)), ∀ a x, ((![v792, v796] : Fin 2 → IVec S16 32) a x).toNat < S256x128.size a)
theorem k0_idx688_inb : ∀ (i : grid0.Coords) (k0_t5 : Fin (k0_t5_loop i).trips) (v140 : BitVec 32) (v792 : IVec S16 32) (v796 : IVec S16 32) (k0_hw383 : k0_chk383 i k0_t5 v140 v792 v796), ∀ (k0_h5 : ¬(k0_cond5 v140 = 1#1)), ∀ a x, ((![v792, v796] : Fin 2 → IVec S16 32) a x).toNat < S256x128.size a := fun i k0_t5 v140 v792 v796 k0_hw383 k0_h5 => k0_hw383.1 k0_h5
theorem k0_idx689_inb : ∀ (i : grid0.Coords) (k0_t5 : Fin (k0_t5_loop i).trips) (v140 : BitVec 32) (v792 : IVec S16 32) (v796 : IVec S16 32) (k0_hw383 : k0_chk383 i k0_t5 v140 v792 v796), ∀ (k0_h5 : ¬(k0_cond5 v140 = 1#1)), ∀ a x, ((![v792, v796] : Fin 2 → IVec S16 32) a x).toNat < S256x128.size a := fun i k0_t5 v140 v792 v796 k0_hw383 k0_h5 => k0_hw383.2 k0_h5

def k0_chk384 (i : grid0.Coords) (k0_t5 : Fin (k0_t5_loop i).trips) (v140 : BitVec 32) (v792 : IVec S16 32) (v798 : IVec S16 32) : Prop :=
  (∀ (k0_h5 : ¬(k0_cond5 v140 = 1#1)), ∀ a x, ((![v792, v798] : Fin 2 → IVec S16 32) a x).toNat < S256x128.size a) ∧
  (∀ (k0_h5 : ¬(k0_cond5 v140 = 1#1)), ∀ a x, ((![v792, v798] : Fin 2 → IVec S16 32) a x).toNat < S256x128.size a)
theorem k0_idx690_inb : ∀ (i : grid0.Coords) (k0_t5 : Fin (k0_t5_loop i).trips) (v140 : BitVec 32) (v792 : IVec S16 32) (v798 : IVec S16 32) (k0_hw384 : k0_chk384 i k0_t5 v140 v792 v798), ∀ (k0_h5 : ¬(k0_cond5 v140 = 1#1)), ∀ a x, ((![v792, v798] : Fin 2 → IVec S16 32) a x).toNat < S256x128.size a := fun i k0_t5 v140 v792 v798 k0_hw384 k0_h5 => k0_hw384.1 k0_h5
theorem k0_idx691_inb : ∀ (i : grid0.Coords) (k0_t5 : Fin (k0_t5_loop i).trips) (v140 : BitVec 32) (v792 : IVec S16 32) (v798 : IVec S16 32) (k0_hw384 : k0_chk384 i k0_t5 v140 v792 v798), ∀ (k0_h5 : ¬(k0_cond5 v140 = 1#1)), ∀ a x, ((![v792, v798] : Fin 2 → IVec S16 32) a x).toNat < S256x128.size a := fun i k0_t5 v140 v792 v798 k0_hw384 k0_h5 => k0_hw384.2 k0_h5

def k0_chk385 (i : grid0.Coords) (k0_t5 : Fin (k0_t5_loop i).trips) (v140 : BitVec 32) (v792 : IVec S16 32) (v800 : IVec S16 32) : Prop :=
  (∀ (k0_h5 : ¬(k0_cond5 v140 = 1#1)), ∀ a x, ((![v792, v800] : Fin 2 → IVec S16 32) a x).toNat < S256x128.size a) ∧
  (∀ (k0_h5 : ¬(k0_cond5 v140 = 1#1)), ∀ a x, ((![v792, v800] : Fin 2 → IVec S16 32) a x).toNat < S256x128.size a)
theorem k0_idx692_inb : ∀ (i : grid0.Coords) (k0_t5 : Fin (k0_t5_loop i).trips) (v140 : BitVec 32) (v792 : IVec S16 32) (v800 : IVec S16 32) (k0_hw385 : k0_chk385 i k0_t5 v140 v792 v800), ∀ (k0_h5 : ¬(k0_cond5 v140 = 1#1)), ∀ a x, ((![v792, v800] : Fin 2 → IVec S16 32) a x).toNat < S256x128.size a := fun i k0_t5 v140 v792 v800 k0_hw385 k0_h5 => k0_hw385.1 k0_h5
theorem k0_idx693_inb : ∀ (i : grid0.Coords) (k0_t5 : Fin (k0_t5_loop i).trips) (v140 : BitVec 32) (v792 : IVec S16 32) (v800 : IVec S16 32) (k0_hw385 : k0_chk385 i k0_t5 v140 v792 v800), ∀ (k0_h5 : ¬(k0_cond5 v140 = 1#1)), ∀ a x, ((![v792, v800] : Fin 2 → IVec S16 32) a x).toNat < S256x128.size a := fun i k0_t5 v140 v792 v800 k0_hw385 k0_h5 => k0_hw385.2 k0_h5

def k0_chk386 (i : grid0.Coords) (k0_t5 : Fin (k0_t5_loop i).trips) (v140 : BitVec 32) (v792 : IVec S16 32) (v802 : IVec S16 32) : Prop :=
  (∀ (k0_h5 : ¬(k0_cond5 v140 = 1#1)), ∀ a x, ((![v792, v802] : Fin 2 → IVec S16 32) a x).toNat < S256x128.size a) ∧
  (∀ (k0_h5 : ¬(k0_cond5 v140 = 1#1)), ∀ a x, ((![v792, v802] : Fin 2 → IVec S16 32) a x).toNat < S256x128.size a)
theorem k0_idx694_inb : ∀ (i : grid0.Coords) (k0_t5 : Fin (k0_t5_loop i).trips) (v140 : BitVec 32) (v792 : IVec S16 32) (v802 : IVec S16 32) (k0_hw386 : k0_chk386 i k0_t5 v140 v792 v802), ∀ (k0_h5 : ¬(k0_cond5 v140 = 1#1)), ∀ a x, ((![v792, v802] : Fin 2 → IVec S16 32) a x).toNat < S256x128.size a := fun i k0_t5 v140 v792 v802 k0_hw386 k0_h5 => k0_hw386.1 k0_h5
theorem k0_idx695_inb : ∀ (i : grid0.Coords) (k0_t5 : Fin (k0_t5_loop i).trips) (v140 : BitVec 32) (v792 : IVec S16 32) (v802 : IVec S16 32) (k0_hw386 : k0_chk386 i k0_t5 v140 v792 v802), ∀ (k0_h5 : ¬(k0_cond5 v140 = 1#1)), ∀ a x, ((![v792, v802] : Fin 2 → IVec S16 32) a x).toNat < S256x128.size a := fun i k0_t5 v140 v792 v802 k0_hw386 k0_h5 => k0_hw386.2 k0_h5

def k0_chk387 (i : grid0.Coords) (k0_t5 : Fin (k0_t5_loop i).trips) (v140 : BitVec 32) (v792 : IVec S16 32) (v804 : IVec S16 32) : Prop :=
  (∀ (k0_h5 : ¬(k0_cond5 v140 = 1#1)), ∀ a x, ((![v792, v804] : Fin 2 → IVec S16 32) a x).toNat < S256x128.size a) ∧
  (∀ (k0_h5 : ¬(k0_cond5 v140 = 1#1)), ∀ a x, ((![v792, v804] : Fin 2 → IVec S16 32) a x).toNat < S256x128.size a)
theorem k0_idx696_inb : ∀ (i : grid0.Coords) (k0_t5 : Fin (k0_t5_loop i).trips) (v140 : BitVec 32) (v792 : IVec S16 32) (v804 : IVec S16 32) (k0_hw387 : k0_chk387 i k0_t5 v140 v792 v804), ∀ (k0_h5 : ¬(k0_cond5 v140 = 1#1)), ∀ a x, ((![v792, v804] : Fin 2 → IVec S16 32) a x).toNat < S256x128.size a := fun i k0_t5 v140 v792 v804 k0_hw387 k0_h5 => k0_hw387.1 k0_h5
theorem k0_idx697_inb : ∀ (i : grid0.Coords) (k0_t5 : Fin (k0_t5_loop i).trips) (v140 : BitVec 32) (v792 : IVec S16 32) (v804 : IVec S16 32) (k0_hw387 : k0_chk387 i k0_t5 v140 v792 v804), ∀ (k0_h5 : ¬(k0_cond5 v140 = 1#1)), ∀ a x, ((![v792, v804] : Fin 2 → IVec S16 32) a x).toNat < S256x128.size a := fun i k0_t5 v140 v792 v804 k0_hw387 k0_h5 => k0_hw387.2 k0_h5

def k0_chk388 (i : grid0.Coords) (k0_t5 : Fin (k0_t5_loop i).trips) (v140 : BitVec 32) (v792 : IVec S16 32) (v806 : IVec S16 32) : Prop :=
  (∀ (k0_h5 : ¬(k0_cond5 v140 = 1#1)), ∀ a x, ((![v792, v806] : Fin 2 → IVec S16 32) a x).toNat < S256x128.size a) ∧
  (∀ (k0_h5 : ¬(k0_cond5 v140 = 1#1)), ∀ a x, ((![v792, v806] : Fin 2 → IVec S16 32) a x).toNat < S256x128.size a)
theorem k0_idx698_inb : ∀ (i : grid0.Coords) (k0_t5 : Fin (k0_t5_loop i).trips) (v140 : BitVec 32) (v792 : IVec S16 32) (v806 : IVec S16 32) (k0_hw388 : k0_chk388 i k0_t5 v140 v792 v806), ∀ (k0_h5 : ¬(k0_cond5 v140 = 1#1)), ∀ a x, ((![v792, v806] : Fin 2 → IVec S16 32) a x).toNat < S256x128.size a := fun i k0_t5 v140 v792 v806 k0_hw388 k0_h5 => k0_hw388.1 k0_h5
theorem k0_idx699_inb : ∀ (i : grid0.Coords) (k0_t5 : Fin (k0_t5_loop i).trips) (v140 : BitVec 32) (v792 : IVec S16 32) (v806 : IVec S16 32) (k0_hw388 : k0_chk388 i k0_t5 v140 v792 v806), ∀ (k0_h5 : ¬(k0_cond5 v140 = 1#1)), ∀ a x, ((![v792, v806] : Fin 2 → IVec S16 32) a x).toNat < S256x128.size a := fun i k0_t5 v140 v792 v806 k0_hw388 k0_h5 => k0_hw388.2 k0_h5

def k0_chk389 (i : grid0.Coords) (k0_t5 : Fin (k0_t5_loop i).trips) (v140 : BitVec 32) (v792 : IVec S16 32) (v808 : IVec S16 32) : Prop :=
  (∀ (k0_h5 : ¬(k0_cond5 v140 = 1#1)), ∀ a x, ((![v792, v808] : Fin 2 → IVec S16 32) a x).toNat < S256x128.size a) ∧
  (∀ (k0_h5 : ¬(k0_cond5 v140 = 1#1)), ∀ a x, ((![v792, v808] : Fin 2 → IVec S16 32) a x).toNat < S256x128.size a)
theorem k0_idx700_inb : ∀ (i : grid0.Coords) (k0_t5 : Fin (k0_t5_loop i).trips) (v140 : BitVec 32) (v792 : IVec S16 32) (v808 : IVec S16 32) (k0_hw389 : k0_chk389 i k0_t5 v140 v792 v808), ∀ (k0_h5 : ¬(k0_cond5 v140 = 1#1)), ∀ a x, ((![v792, v808] : Fin 2 → IVec S16 32) a x).toNat < S256x128.size a := fun i k0_t5 v140 v792 v808 k0_hw389 k0_h5 => k0_hw389.1 k0_h5
theorem k0_idx701_inb : ∀ (i : grid0.Coords) (k0_t5 : Fin (k0_t5_loop i).trips) (v140 : BitVec 32) (v792 : IVec S16 32) (v808 : IVec S16 32) (k0_hw389 : k0_chk389 i k0_t5 v140 v792 v808), ∀ (k0_h5 : ¬(k0_cond5 v140 = 1#1)), ∀ a x, ((![v792, v808] : Fin 2 → IVec S16 32) a x).toNat < S256x128.size a := fun i k0_t5 v140 v792 v808 k0_hw389 k0_h5 => k0_hw389.2 k0_h5

def k0_chk390 (i : grid0.Coords) (v2 : IVec S16 32) (k0_t5 : Fin (k0_t5_loop i).trips) (v140 : BitVec 32) (v792 : IVec S16 32) : Prop :=
  (∀ (k0_h5 : ¬(k0_cond5 v140 = 1#1)), ∀ a x, ((![v792, v2] : Fin 2 → IVec S16 32) a x).toNat < S256x16.size a)
theorem k0_idx702_inb : ∀ (i : grid0.Coords) (v2 : IVec S16 32) (k0_t5 : Fin (k0_t5_loop i).trips) (v140 : BitVec 32) (v792 : IVec S16 32) (k0_hw390 : k0_chk390 i v2 k0_t5 v140 v792), ∀ (k0_h5 : ¬(k0_cond5 v140 = 1#1)), ∀ a x, ((![v792, v2] : Fin 2 → IVec S16 32) a x).toNat < S256x16.size a := fun i v2 k0_t5 v140 v792 k0_hw390 k0_h5 => k0_hw390 k0_h5

def k0_chk391 (i : grid0.Coords) (k0_t5 : Fin (k0_t5_loop i).trips) (v140 : BitVec 32) (v853 : IVec S16 32) : Prop :=
  (∀ (k0_h5 : ¬(k0_cond5 v140 = 1#1)), ∀ a x, ((![v853] : Fin 1 → IVec S16 32) a x).toNat < S3136.size a)
theorem k0_idx703_inb : ∀ (i : grid0.Coords) (k0_t5 : Fin (k0_t5_loop i).trips) (v140 : BitVec 32) (v853 : IVec S16 32) (k0_hw391 : k0_chk391 i k0_t5 v140 v853), ∀ (k0_h5 : ¬(k0_cond5 v140 = 1#1)), ∀ a x, ((![v853] : Fin 1 → IVec S16 32) a x).toNat < S3136.size a := fun i k0_t5 v140 v853 k0_hw391 k0_h5 => k0_hw391 k0_h5
def k0_off355 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v856 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c7_i32_273 : BitVec 32 := 7#32
  let v855 : BitVec 32 := Scalar.addi v126 c7_i32_273
  let v857 : Index := Scalar.indexCast v855
  let c0_274 : Index := 0#32
  ![v856.toNat, v857.toNat, 0]
def k0_off356 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v860 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c7_i32_275 : BitVec 32 := 7#32
  let v859 : BitVec 32 := Scalar.addi v126 c7_i32_275
  let v861 : Index := Scalar.indexCast v859
  let c16_276 : Index := 16#32
  ![v860.toNat, v861.toNat, 16]
def k0_off357 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v864 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c7_i32_277 : BitVec 32 := 7#32
  let v863 : BitVec 32 := Scalar.addi v126 c7_i32_277
  let v865 : Index := Scalar.indexCast v863
  let c32_278 : Index := 32#32
  ![v864.toNat, v865.toNat, 32]
def k0_off358 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v868 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c7_i32_279 : BitVec 32 := 7#32
  let v867 : BitVec 32 := Scalar.addi v126 c7_i32_279
  let v869 : Index := Scalar.indexCast v867
  let c48_280 : Index := 48#32
  ![v868.toNat, v869.toNat, 48]
def k0_off359 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v872 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c7_i32_281 : BitVec 32 := 7#32
  let v871 : BitVec 32 := Scalar.addi v126 c7_i32_281
  let v873 : Index := Scalar.indexCast v871
  let c64_282 : Index := 64#32
  ![v872.toNat, v873.toNat, 64]
def k0_off360 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v876 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c7_i32_283 : BitVec 32 := 7#32
  let v875 : BitVec 32 := Scalar.addi v126 c7_i32_283
  let v877 : Index := Scalar.indexCast v875
  let c80_284 : Index := 80#32
  ![v876.toNat, v877.toNat, 80]
def k0_off361 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v880 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c7_i32_285 : BitVec 32 := 7#32
  let v879 : BitVec 32 := Scalar.addi v126 c7_i32_285
  let v881 : Index := Scalar.indexCast v879
  let c96_286 : Index := 96#32
  ![v880.toNat, v881.toNat, 96]
def k0_off362 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v884 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c7_i32_287 : BitVec 32 := 7#32
  let v883 : BitVec 32 := Scalar.addi v126 c7_i32_287
  let v885 : Index := Scalar.indexCast v883
  let c112_288 : Index := 112#32
  ![v884.toNat, v885.toNat, 112]

def k0_chk392 (i : grid0.Coords) (k0_t5 : Fin (k0_t5_loop i).trips) (v140 : BitVec 32) (v893 : IVec S16 32) (v895 : IVec S16 32) : Prop :=
  (∀ (k0_h5 : ¬(k0_cond5 v140 = 1#1)), ∀ a x, ((![v893, v895] : Fin 2 → IVec S16 32) a x).toNat < S256x128.size a) ∧
  (∀ (k0_h5 : ¬(k0_cond5 v140 = 1#1)), ∀ a x, ((![v893, v895] : Fin 2 → IVec S16 32) a x).toNat < S256x128.size a)
theorem k0_idx704_inb : ∀ (i : grid0.Coords) (k0_t5 : Fin (k0_t5_loop i).trips) (v140 : BitVec 32) (v893 : IVec S16 32) (v895 : IVec S16 32) (k0_hw392 : k0_chk392 i k0_t5 v140 v893 v895), ∀ (k0_h5 : ¬(k0_cond5 v140 = 1#1)), ∀ a x, ((![v893, v895] : Fin 2 → IVec S16 32) a x).toNat < S256x128.size a := fun i k0_t5 v140 v893 v895 k0_hw392 k0_h5 => k0_hw392.1 k0_h5
theorem k0_idx705_inb : ∀ (i : grid0.Coords) (k0_t5 : Fin (k0_t5_loop i).trips) (v140 : BitVec 32) (v893 : IVec S16 32) (v895 : IVec S16 32) (k0_hw392 : k0_chk392 i k0_t5 v140 v893 v895), ∀ (k0_h5 : ¬(k0_cond5 v140 = 1#1)), ∀ a x, ((![v893, v895] : Fin 2 → IVec S16 32) a x).toNat < S256x128.size a := fun i k0_t5 v140 v893 v895 k0_hw392 k0_h5 => k0_hw392.2 k0_h5

def k0_chk393 (i : grid0.Coords) (k0_t5 : Fin (k0_t5_loop i).trips) (v140 : BitVec 32) (v893 : IVec S16 32) (v897 : IVec S16 32) : Prop :=
  (∀ (k0_h5 : ¬(k0_cond5 v140 = 1#1)), ∀ a x, ((![v893, v897] : Fin 2 → IVec S16 32) a x).toNat < S256x128.size a) ∧
  (∀ (k0_h5 : ¬(k0_cond5 v140 = 1#1)), ∀ a x, ((![v893, v897] : Fin 2 → IVec S16 32) a x).toNat < S256x128.size a)
theorem k0_idx706_inb : ∀ (i : grid0.Coords) (k0_t5 : Fin (k0_t5_loop i).trips) (v140 : BitVec 32) (v893 : IVec S16 32) (v897 : IVec S16 32) (k0_hw393 : k0_chk393 i k0_t5 v140 v893 v897), ∀ (k0_h5 : ¬(k0_cond5 v140 = 1#1)), ∀ a x, ((![v893, v897] : Fin 2 → IVec S16 32) a x).toNat < S256x128.size a := fun i k0_t5 v140 v893 v897 k0_hw393 k0_h5 => k0_hw393.1 k0_h5
theorem k0_idx707_inb : ∀ (i : grid0.Coords) (k0_t5 : Fin (k0_t5_loop i).trips) (v140 : BitVec 32) (v893 : IVec S16 32) (v897 : IVec S16 32) (k0_hw393 : k0_chk393 i k0_t5 v140 v893 v897), ∀ (k0_h5 : ¬(k0_cond5 v140 = 1#1)), ∀ a x, ((![v893, v897] : Fin 2 → IVec S16 32) a x).toNat < S256x128.size a := fun i k0_t5 v140 v893 v897 k0_hw393 k0_h5 => k0_hw393.2 k0_h5

def k0_chk394 (i : grid0.Coords) (k0_t5 : Fin (k0_t5_loop i).trips) (v140 : BitVec 32) (v893 : IVec S16 32) (v899 : IVec S16 32) : Prop :=
  (∀ (k0_h5 : ¬(k0_cond5 v140 = 1#1)), ∀ a x, ((![v893, v899] : Fin 2 → IVec S16 32) a x).toNat < S256x128.size a) ∧
  (∀ (k0_h5 : ¬(k0_cond5 v140 = 1#1)), ∀ a x, ((![v893, v899] : Fin 2 → IVec S16 32) a x).toNat < S256x128.size a)
theorem k0_idx708_inb : ∀ (i : grid0.Coords) (k0_t5 : Fin (k0_t5_loop i).trips) (v140 : BitVec 32) (v893 : IVec S16 32) (v899 : IVec S16 32) (k0_hw394 : k0_chk394 i k0_t5 v140 v893 v899), ∀ (k0_h5 : ¬(k0_cond5 v140 = 1#1)), ∀ a x, ((![v893, v899] : Fin 2 → IVec S16 32) a x).toNat < S256x128.size a := fun i k0_t5 v140 v893 v899 k0_hw394 k0_h5 => k0_hw394.1 k0_h5
theorem k0_idx709_inb : ∀ (i : grid0.Coords) (k0_t5 : Fin (k0_t5_loop i).trips) (v140 : BitVec 32) (v893 : IVec S16 32) (v899 : IVec S16 32) (k0_hw394 : k0_chk394 i k0_t5 v140 v893 v899), ∀ (k0_h5 : ¬(k0_cond5 v140 = 1#1)), ∀ a x, ((![v893, v899] : Fin 2 → IVec S16 32) a x).toNat < S256x128.size a := fun i k0_t5 v140 v893 v899 k0_hw394 k0_h5 => k0_hw394.2 k0_h5

def k0_chk395 (i : grid0.Coords) (k0_t5 : Fin (k0_t5_loop i).trips) (v140 : BitVec 32) (v893 : IVec S16 32) (v901 : IVec S16 32) : Prop :=
  (∀ (k0_h5 : ¬(k0_cond5 v140 = 1#1)), ∀ a x, ((![v893, v901] : Fin 2 → IVec S16 32) a x).toNat < S256x128.size a) ∧
  (∀ (k0_h5 : ¬(k0_cond5 v140 = 1#1)), ∀ a x, ((![v893, v901] : Fin 2 → IVec S16 32) a x).toNat < S256x128.size a)
theorem k0_idx710_inb : ∀ (i : grid0.Coords) (k0_t5 : Fin (k0_t5_loop i).trips) (v140 : BitVec 32) (v893 : IVec S16 32) (v901 : IVec S16 32) (k0_hw395 : k0_chk395 i k0_t5 v140 v893 v901), ∀ (k0_h5 : ¬(k0_cond5 v140 = 1#1)), ∀ a x, ((![v893, v901] : Fin 2 → IVec S16 32) a x).toNat < S256x128.size a := fun i k0_t5 v140 v893 v901 k0_hw395 k0_h5 => k0_hw395.1 k0_h5
theorem k0_idx711_inb : ∀ (i : grid0.Coords) (k0_t5 : Fin (k0_t5_loop i).trips) (v140 : BitVec 32) (v893 : IVec S16 32) (v901 : IVec S16 32) (k0_hw395 : k0_chk395 i k0_t5 v140 v893 v901), ∀ (k0_h5 : ¬(k0_cond5 v140 = 1#1)), ∀ a x, ((![v893, v901] : Fin 2 → IVec S16 32) a x).toNat < S256x128.size a := fun i k0_t5 v140 v893 v901 k0_hw395 k0_h5 => k0_hw395.2 k0_h5

def k0_chk396 (i : grid0.Coords) (k0_t5 : Fin (k0_t5_loop i).trips) (v140 : BitVec 32) (v893 : IVec S16 32) (v903 : IVec S16 32) : Prop :=
  (∀ (k0_h5 : ¬(k0_cond5 v140 = 1#1)), ∀ a x, ((![v893, v903] : Fin 2 → IVec S16 32) a x).toNat < S256x128.size a) ∧
  (∀ (k0_h5 : ¬(k0_cond5 v140 = 1#1)), ∀ a x, ((![v893, v903] : Fin 2 → IVec S16 32) a x).toNat < S256x128.size a)
theorem k0_idx712_inb : ∀ (i : grid0.Coords) (k0_t5 : Fin (k0_t5_loop i).trips) (v140 : BitVec 32) (v893 : IVec S16 32) (v903 : IVec S16 32) (k0_hw396 : k0_chk396 i k0_t5 v140 v893 v903), ∀ (k0_h5 : ¬(k0_cond5 v140 = 1#1)), ∀ a x, ((![v893, v903] : Fin 2 → IVec S16 32) a x).toNat < S256x128.size a := fun i k0_t5 v140 v893 v903 k0_hw396 k0_h5 => k0_hw396.1 k0_h5
theorem k0_idx713_inb : ∀ (i : grid0.Coords) (k0_t5 : Fin (k0_t5_loop i).trips) (v140 : BitVec 32) (v893 : IVec S16 32) (v903 : IVec S16 32) (k0_hw396 : k0_chk396 i k0_t5 v140 v893 v903), ∀ (k0_h5 : ¬(k0_cond5 v140 = 1#1)), ∀ a x, ((![v893, v903] : Fin 2 → IVec S16 32) a x).toNat < S256x128.size a := fun i k0_t5 v140 v893 v903 k0_hw396 k0_h5 => k0_hw396.2 k0_h5

def k0_chk397 (i : grid0.Coords) (k0_t5 : Fin (k0_t5_loop i).trips) (v140 : BitVec 32) (v893 : IVec S16 32) (v905 : IVec S16 32) : Prop :=
  (∀ (k0_h5 : ¬(k0_cond5 v140 = 1#1)), ∀ a x, ((![v893, v905] : Fin 2 → IVec S16 32) a x).toNat < S256x128.size a) ∧
  (∀ (k0_h5 : ¬(k0_cond5 v140 = 1#1)), ∀ a x, ((![v893, v905] : Fin 2 → IVec S16 32) a x).toNat < S256x128.size a)
theorem k0_idx714_inb : ∀ (i : grid0.Coords) (k0_t5 : Fin (k0_t5_loop i).trips) (v140 : BitVec 32) (v893 : IVec S16 32) (v905 : IVec S16 32) (k0_hw397 : k0_chk397 i k0_t5 v140 v893 v905), ∀ (k0_h5 : ¬(k0_cond5 v140 = 1#1)), ∀ a x, ((![v893, v905] : Fin 2 → IVec S16 32) a x).toNat < S256x128.size a := fun i k0_t5 v140 v893 v905 k0_hw397 k0_h5 => k0_hw397.1 k0_h5
theorem k0_idx715_inb : ∀ (i : grid0.Coords) (k0_t5 : Fin (k0_t5_loop i).trips) (v140 : BitVec 32) (v893 : IVec S16 32) (v905 : IVec S16 32) (k0_hw397 : k0_chk397 i k0_t5 v140 v893 v905), ∀ (k0_h5 : ¬(k0_cond5 v140 = 1#1)), ∀ a x, ((![v893, v905] : Fin 2 → IVec S16 32) a x).toNat < S256x128.size a := fun i k0_t5 v140 v893 v905 k0_hw397 k0_h5 => k0_hw397.2 k0_h5

def k0_chk398 (i : grid0.Coords) (k0_t5 : Fin (k0_t5_loop i).trips) (v140 : BitVec 32) (v893 : IVec S16 32) (v907 : IVec S16 32) : Prop :=
  (∀ (k0_h5 : ¬(k0_cond5 v140 = 1#1)), ∀ a x, ((![v893, v907] : Fin 2 → IVec S16 32) a x).toNat < S256x128.size a) ∧
  (∀ (k0_h5 : ¬(k0_cond5 v140 = 1#1)), ∀ a x, ((![v893, v907] : Fin 2 → IVec S16 32) a x).toNat < S256x128.size a)
theorem k0_idx716_inb : ∀ (i : grid0.Coords) (k0_t5 : Fin (k0_t5_loop i).trips) (v140 : BitVec 32) (v893 : IVec S16 32) (v907 : IVec S16 32) (k0_hw398 : k0_chk398 i k0_t5 v140 v893 v907), ∀ (k0_h5 : ¬(k0_cond5 v140 = 1#1)), ∀ a x, ((![v893, v907] : Fin 2 → IVec S16 32) a x).toNat < S256x128.size a := fun i k0_t5 v140 v893 v907 k0_hw398 k0_h5 => k0_hw398.1 k0_h5
theorem k0_idx717_inb : ∀ (i : grid0.Coords) (k0_t5 : Fin (k0_t5_loop i).trips) (v140 : BitVec 32) (v893 : IVec S16 32) (v907 : IVec S16 32) (k0_hw398 : k0_chk398 i k0_t5 v140 v893 v907), ∀ (k0_h5 : ¬(k0_cond5 v140 = 1#1)), ∀ a x, ((![v893, v907] : Fin 2 → IVec S16 32) a x).toNat < S256x128.size a := fun i k0_t5 v140 v893 v907 k0_hw398 k0_h5 => k0_hw398.2 k0_h5

def k0_chk399 (i : grid0.Coords) (k0_t5 : Fin (k0_t5_loop i).trips) (v140 : BitVec 32) (v893 : IVec S16 32) (v909 : IVec S16 32) : Prop :=
  (∀ (k0_h5 : ¬(k0_cond5 v140 = 1#1)), ∀ a x, ((![v893, v909] : Fin 2 → IVec S16 32) a x).toNat < S256x128.size a) ∧
  (∀ (k0_h5 : ¬(k0_cond5 v140 = 1#1)), ∀ a x, ((![v893, v909] : Fin 2 → IVec S16 32) a x).toNat < S256x128.size a)
theorem k0_idx718_inb : ∀ (i : grid0.Coords) (k0_t5 : Fin (k0_t5_loop i).trips) (v140 : BitVec 32) (v893 : IVec S16 32) (v909 : IVec S16 32) (k0_hw399 : k0_chk399 i k0_t5 v140 v893 v909), ∀ (k0_h5 : ¬(k0_cond5 v140 = 1#1)), ∀ a x, ((![v893, v909] : Fin 2 → IVec S16 32) a x).toNat < S256x128.size a := fun i k0_t5 v140 v893 v909 k0_hw399 k0_h5 => k0_hw399.1 k0_h5
theorem k0_idx719_inb : ∀ (i : grid0.Coords) (k0_t5 : Fin (k0_t5_loop i).trips) (v140 : BitVec 32) (v893 : IVec S16 32) (v909 : IVec S16 32) (k0_hw399 : k0_chk399 i k0_t5 v140 v893 v909), ∀ (k0_h5 : ¬(k0_cond5 v140 = 1#1)), ∀ a x, ((![v893, v909] : Fin 2 → IVec S16 32) a x).toNat < S256x128.size a := fun i k0_t5 v140 v893 v909 k0_hw399 k0_h5 => k0_hw399.2 k0_h5

def k0_chk400 (i : grid0.Coords) (v2 : IVec S16 32) (k0_t5 : Fin (k0_t5_loop i).trips) (v140 : BitVec 32) (v893 : IVec S16 32) : Prop :=
  (∀ (k0_h5 : ¬(k0_cond5 v140 = 1#1)), ∀ a x, ((![v893, v2] : Fin 2 → IVec S16 32) a x).toNat < S256x16.size a)
theorem k0_idx720_inb : ∀ (i : grid0.Coords) (v2 : IVec S16 32) (k0_t5 : Fin (k0_t5_loop i).trips) (v140 : BitVec 32) (v893 : IVec S16 32) (k0_hw400 : k0_chk400 i v2 k0_t5 v140 v893), ∀ (k0_h5 : ¬(k0_cond5 v140 = 1#1)), ∀ a x, ((![v893, v2] : Fin 2 → IVec S16 32) a x).toNat < S256x16.size a := fun i v2 k0_t5 v140 v893 k0_hw400 k0_h5 => k0_hw400 k0_h5

def k0_chk401 (i : grid0.Coords) (k0_t5 : Fin (k0_t5_loop i).trips) (v140 : BitVec 32) (v954 : IVec S16 32) : Prop :=
  (∀ (k0_h5 : ¬(k0_cond5 v140 = 1#1)), ∀ a x, ((![v954] : Fin 1 → IVec S16 32) a x).toNat < S3136.size a)
theorem k0_idx721_inb : ∀ (i : grid0.Coords) (k0_t5 : Fin (k0_t5_loop i).trips) (v140 : BitVec 32) (v954 : IVec S16 32) (k0_hw401 : k0_chk401 i k0_t5 v140 v954), ∀ (k0_h5 : ¬(k0_cond5 v140 = 1#1)), ∀ a x, ((![v954] : Fin 1 → IVec S16 32) a x).toNat < S3136.size a := fun i k0_t5 v140 v954 k0_hw401 k0_h5 => k0_hw401 k0_h5
def k0_off363 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v957 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c8_i32_303 : BitVec 32 := 8#32
  let v956 : BitVec 32 := Scalar.addi v126 c8_i32_303
  let v958 : Index := Scalar.indexCast v956
  let c0_304 : Index := 0#32
  ![v957.toNat, v958.toNat, 0]
def k0_off364 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v961 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c8_i32_305 : BitVec 32 := 8#32
  let v960 : BitVec 32 := Scalar.addi v126 c8_i32_305
  let v962 : Index := Scalar.indexCast v960
  let c16_306 : Index := 16#32
  ![v961.toNat, v962.toNat, 16]
def k0_off365 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v965 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c8_i32_307 : BitVec 32 := 8#32
  let v964 : BitVec 32 := Scalar.addi v126 c8_i32_307
  let v966 : Index := Scalar.indexCast v964
  let c32_308 : Index := 32#32
  ![v965.toNat, v966.toNat, 32]
def k0_off366 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v969 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c8_i32_309 : BitVec 32 := 8#32
  let v968 : BitVec 32 := Scalar.addi v126 c8_i32_309
  let v970 : Index := Scalar.indexCast v968
  let c48_310 : Index := 48#32
  ![v969.toNat, v970.toNat, 48]
def k0_off367 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v973 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c8_i32_311 : BitVec 32 := 8#32
  let v972 : BitVec 32 := Scalar.addi v126 c8_i32_311
  let v974 : Index := Scalar.indexCast v972
  let c64_312 : Index := 64#32
  ![v973.toNat, v974.toNat, 64]
def k0_off368 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v977 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c8_i32_313 : BitVec 32 := 8#32
  let v976 : BitVec 32 := Scalar.addi v126 c8_i32_313
  let v978 : Index := Scalar.indexCast v976
  let c80_314 : Index := 80#32
  ![v977.toNat, v978.toNat, 80]
def k0_off369 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v981 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c8_i32_315 : BitVec 32 := 8#32
  let v980 : BitVec 32 := Scalar.addi v126 c8_i32_315
  let v982 : Index := Scalar.indexCast v980
  let c96_316 : Index := 96#32
  ![v981.toNat, v982.toNat, 96]
def k0_off370 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v985 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c8_i32_317 : BitVec 32 := 8#32
  let v984 : BitVec 32 := Scalar.addi v126 c8_i32_317
  let v986 : Index := Scalar.indexCast v984
  let c112_318 : Index := 112#32
  ![v985.toNat, v986.toNat, 112]

def k0_chk402 (i : grid0.Coords) (k0_t5 : Fin (k0_t5_loop i).trips) (v140 : BitVec 32) (v994 : IVec S16 32) (v996 : IVec S16 32) : Prop :=
  (∀ (k0_h5 : ¬(k0_cond5 v140 = 1#1)), ∀ a x, ((![v994, v996] : Fin 2 → IVec S16 32) a x).toNat < S256x128.size a) ∧
  (∀ (k0_h5 : ¬(k0_cond5 v140 = 1#1)), ∀ a x, ((![v994, v996] : Fin 2 → IVec S16 32) a x).toNat < S256x128.size a)
theorem k0_idx722_inb : ∀ (i : grid0.Coords) (k0_t5 : Fin (k0_t5_loop i).trips) (v140 : BitVec 32) (v994 : IVec S16 32) (v996 : IVec S16 32) (k0_hw402 : k0_chk402 i k0_t5 v140 v994 v996), ∀ (k0_h5 : ¬(k0_cond5 v140 = 1#1)), ∀ a x, ((![v994, v996] : Fin 2 → IVec S16 32) a x).toNat < S256x128.size a := fun i k0_t5 v140 v994 v996 k0_hw402 k0_h5 => k0_hw402.1 k0_h5
theorem k0_idx723_inb : ∀ (i : grid0.Coords) (k0_t5 : Fin (k0_t5_loop i).trips) (v140 : BitVec 32) (v994 : IVec S16 32) (v996 : IVec S16 32) (k0_hw402 : k0_chk402 i k0_t5 v140 v994 v996), ∀ (k0_h5 : ¬(k0_cond5 v140 = 1#1)), ∀ a x, ((![v994, v996] : Fin 2 → IVec S16 32) a x).toNat < S256x128.size a := fun i k0_t5 v140 v994 v996 k0_hw402 k0_h5 => k0_hw402.2 k0_h5

def k0_chk403 (i : grid0.Coords) (k0_t5 : Fin (k0_t5_loop i).trips) (v140 : BitVec 32) (v994 : IVec S16 32) (v998 : IVec S16 32) : Prop :=
  (∀ (k0_h5 : ¬(k0_cond5 v140 = 1#1)), ∀ a x, ((![v994, v998] : Fin 2 → IVec S16 32) a x).toNat < S256x128.size a) ∧
  (∀ (k0_h5 : ¬(k0_cond5 v140 = 1#1)), ∀ a x, ((![v994, v998] : Fin 2 → IVec S16 32) a x).toNat < S256x128.size a)
theorem k0_idx724_inb : ∀ (i : grid0.Coords) (k0_t5 : Fin (k0_t5_loop i).trips) (v140 : BitVec 32) (v994 : IVec S16 32) (v998 : IVec S16 32) (k0_hw403 : k0_chk403 i k0_t5 v140 v994 v998), ∀ (k0_h5 : ¬(k0_cond5 v140 = 1#1)), ∀ a x, ((![v994, v998] : Fin 2 → IVec S16 32) a x).toNat < S256x128.size a := fun i k0_t5 v140 v994 v998 k0_hw403 k0_h5 => k0_hw403.1 k0_h5
theorem k0_idx725_inb : ∀ (i : grid0.Coords) (k0_t5 : Fin (k0_t5_loop i).trips) (v140 : BitVec 32) (v994 : IVec S16 32) (v998 : IVec S16 32) (k0_hw403 : k0_chk403 i k0_t5 v140 v994 v998), ∀ (k0_h5 : ¬(k0_cond5 v140 = 1#1)), ∀ a x, ((![v994, v998] : Fin 2 → IVec S16 32) a x).toNat < S256x128.size a := fun i k0_t5 v140 v994 v998 k0_hw403 k0_h5 => k0_hw403.2 k0_h5

def k0_chk404 (i : grid0.Coords) (k0_t5 : Fin (k0_t5_loop i).trips) (v140 : BitVec 32) (v994 : IVec S16 32) (v1000 : IVec S16 32) : Prop :=
  (∀ (k0_h5 : ¬(k0_cond5 v140 = 1#1)), ∀ a x, ((![v994, v1000] : Fin 2 → IVec S16 32) a x).toNat < S256x128.size a) ∧
  (∀ (k0_h5 : ¬(k0_cond5 v140 = 1#1)), ∀ a x, ((![v994, v1000] : Fin 2 → IVec S16 32) a x).toNat < S256x128.size a)
theorem k0_idx726_inb : ∀ (i : grid0.Coords) (k0_t5 : Fin (k0_t5_loop i).trips) (v140 : BitVec 32) (v994 : IVec S16 32) (v1000 : IVec S16 32) (k0_hw404 : k0_chk404 i k0_t5 v140 v994 v1000), ∀ (k0_h5 : ¬(k0_cond5 v140 = 1#1)), ∀ a x, ((![v994, v1000] : Fin 2 → IVec S16 32) a x).toNat < S256x128.size a := fun i k0_t5 v140 v994 v1000 k0_hw404 k0_h5 => k0_hw404.1 k0_h5
theorem k0_idx727_inb : ∀ (i : grid0.Coords) (k0_t5 : Fin (k0_t5_loop i).trips) (v140 : BitVec 32) (v994 : IVec S16 32) (v1000 : IVec S16 32) (k0_hw404 : k0_chk404 i k0_t5 v140 v994 v1000), ∀ (k0_h5 : ¬(k0_cond5 v140 = 1#1)), ∀ a x, ((![v994, v1000] : Fin 2 → IVec S16 32) a x).toNat < S256x128.size a := fun i k0_t5 v140 v994 v1000 k0_hw404 k0_h5 => k0_hw404.2 k0_h5

def k0_chk405 (i : grid0.Coords) (k0_t5 : Fin (k0_t5_loop i).trips) (v140 : BitVec 32) (v994 : IVec S16 32) (v1002 : IVec S16 32) : Prop :=
  (∀ (k0_h5 : ¬(k0_cond5 v140 = 1#1)), ∀ a x, ((![v994, v1002] : Fin 2 → IVec S16 32) a x).toNat < S256x128.size a) ∧
  (∀ (k0_h5 : ¬(k0_cond5 v140 = 1#1)), ∀ a x, ((![v994, v1002] : Fin 2 → IVec S16 32) a x).toNat < S256x128.size a)
theorem k0_idx728_inb : ∀ (i : grid0.Coords) (k0_t5 : Fin (k0_t5_loop i).trips) (v140 : BitVec 32) (v994 : IVec S16 32) (v1002 : IVec S16 32) (k0_hw405 : k0_chk405 i k0_t5 v140 v994 v1002), ∀ (k0_h5 : ¬(k0_cond5 v140 = 1#1)), ∀ a x, ((![v994, v1002] : Fin 2 → IVec S16 32) a x).toNat < S256x128.size a := fun i k0_t5 v140 v994 v1002 k0_hw405 k0_h5 => k0_hw405.1 k0_h5
theorem k0_idx729_inb : ∀ (i : grid0.Coords) (k0_t5 : Fin (k0_t5_loop i).trips) (v140 : BitVec 32) (v994 : IVec S16 32) (v1002 : IVec S16 32) (k0_hw405 : k0_chk405 i k0_t5 v140 v994 v1002), ∀ (k0_h5 : ¬(k0_cond5 v140 = 1#1)), ∀ a x, ((![v994, v1002] : Fin 2 → IVec S16 32) a x).toNat < S256x128.size a := fun i k0_t5 v140 v994 v1002 k0_hw405 k0_h5 => k0_hw405.2 k0_h5

def k0_chk406 (i : grid0.Coords) (k0_t5 : Fin (k0_t5_loop i).trips) (v140 : BitVec 32) (v994 : IVec S16 32) (v1004 : IVec S16 32) : Prop :=
  (∀ (k0_h5 : ¬(k0_cond5 v140 = 1#1)), ∀ a x, ((![v994, v1004] : Fin 2 → IVec S16 32) a x).toNat < S256x128.size a) ∧
  (∀ (k0_h5 : ¬(k0_cond5 v140 = 1#1)), ∀ a x, ((![v994, v1004] : Fin 2 → IVec S16 32) a x).toNat < S256x128.size a)
theorem k0_idx730_inb : ∀ (i : grid0.Coords) (k0_t5 : Fin (k0_t5_loop i).trips) (v140 : BitVec 32) (v994 : IVec S16 32) (v1004 : IVec S16 32) (k0_hw406 : k0_chk406 i k0_t5 v140 v994 v1004), ∀ (k0_h5 : ¬(k0_cond5 v140 = 1#1)), ∀ a x, ((![v994, v1004] : Fin 2 → IVec S16 32) a x).toNat < S256x128.size a := fun i k0_t5 v140 v994 v1004 k0_hw406 k0_h5 => k0_hw406.1 k0_h5
theorem k0_idx731_inb : ∀ (i : grid0.Coords) (k0_t5 : Fin (k0_t5_loop i).trips) (v140 : BitVec 32) (v994 : IVec S16 32) (v1004 : IVec S16 32) (k0_hw406 : k0_chk406 i k0_t5 v140 v994 v1004), ∀ (k0_h5 : ¬(k0_cond5 v140 = 1#1)), ∀ a x, ((![v994, v1004] : Fin 2 → IVec S16 32) a x).toNat < S256x128.size a := fun i k0_t5 v140 v994 v1004 k0_hw406 k0_h5 => k0_hw406.2 k0_h5

def k0_chk407 (i : grid0.Coords) (k0_t5 : Fin (k0_t5_loop i).trips) (v140 : BitVec 32) (v994 : IVec S16 32) (v1006 : IVec S16 32) : Prop :=
  (∀ (k0_h5 : ¬(k0_cond5 v140 = 1#1)), ∀ a x, ((![v994, v1006] : Fin 2 → IVec S16 32) a x).toNat < S256x128.size a) ∧
  (∀ (k0_h5 : ¬(k0_cond5 v140 = 1#1)), ∀ a x, ((![v994, v1006] : Fin 2 → IVec S16 32) a x).toNat < S256x128.size a)
theorem k0_idx732_inb : ∀ (i : grid0.Coords) (k0_t5 : Fin (k0_t5_loop i).trips) (v140 : BitVec 32) (v994 : IVec S16 32) (v1006 : IVec S16 32) (k0_hw407 : k0_chk407 i k0_t5 v140 v994 v1006), ∀ (k0_h5 : ¬(k0_cond5 v140 = 1#1)), ∀ a x, ((![v994, v1006] : Fin 2 → IVec S16 32) a x).toNat < S256x128.size a := fun i k0_t5 v140 v994 v1006 k0_hw407 k0_h5 => k0_hw407.1 k0_h5
theorem k0_idx733_inb : ∀ (i : grid0.Coords) (k0_t5 : Fin (k0_t5_loop i).trips) (v140 : BitVec 32) (v994 : IVec S16 32) (v1006 : IVec S16 32) (k0_hw407 : k0_chk407 i k0_t5 v140 v994 v1006), ∀ (k0_h5 : ¬(k0_cond5 v140 = 1#1)), ∀ a x, ((![v994, v1006] : Fin 2 → IVec S16 32) a x).toNat < S256x128.size a := fun i k0_t5 v140 v994 v1006 k0_hw407 k0_h5 => k0_hw407.2 k0_h5

def k0_chk408 (i : grid0.Coords) (k0_t5 : Fin (k0_t5_loop i).trips) (v140 : BitVec 32) (v994 : IVec S16 32) (v1008 : IVec S16 32) : Prop :=
  (∀ (k0_h5 : ¬(k0_cond5 v140 = 1#1)), ∀ a x, ((![v994, v1008] : Fin 2 → IVec S16 32) a x).toNat < S256x128.size a) ∧
  (∀ (k0_h5 : ¬(k0_cond5 v140 = 1#1)), ∀ a x, ((![v994, v1008] : Fin 2 → IVec S16 32) a x).toNat < S256x128.size a)
theorem k0_idx734_inb : ∀ (i : grid0.Coords) (k0_t5 : Fin (k0_t5_loop i).trips) (v140 : BitVec 32) (v994 : IVec S16 32) (v1008 : IVec S16 32) (k0_hw408 : k0_chk408 i k0_t5 v140 v994 v1008), ∀ (k0_h5 : ¬(k0_cond5 v140 = 1#1)), ∀ a x, ((![v994, v1008] : Fin 2 → IVec S16 32) a x).toNat < S256x128.size a := fun i k0_t5 v140 v994 v1008 k0_hw408 k0_h5 => k0_hw408.1 k0_h5
theorem k0_idx735_inb : ∀ (i : grid0.Coords) (k0_t5 : Fin (k0_t5_loop i).trips) (v140 : BitVec 32) (v994 : IVec S16 32) (v1008 : IVec S16 32) (k0_hw408 : k0_chk408 i k0_t5 v140 v994 v1008), ∀ (k0_h5 : ¬(k0_cond5 v140 = 1#1)), ∀ a x, ((![v994, v1008] : Fin 2 → IVec S16 32) a x).toNat < S256x128.size a := fun i k0_t5 v140 v994 v1008 k0_hw408 k0_h5 => k0_hw408.2 k0_h5

def k0_chk409 (i : grid0.Coords) (k0_t5 : Fin (k0_t5_loop i).trips) (v140 : BitVec 32) (v994 : IVec S16 32) (v1010 : IVec S16 32) : Prop :=
  (∀ (k0_h5 : ¬(k0_cond5 v140 = 1#1)), ∀ a x, ((![v994, v1010] : Fin 2 → IVec S16 32) a x).toNat < S256x128.size a) ∧
  (∀ (k0_h5 : ¬(k0_cond5 v140 = 1#1)), ∀ a x, ((![v994, v1010] : Fin 2 → IVec S16 32) a x).toNat < S256x128.size a)
theorem k0_idx736_inb : ∀ (i : grid0.Coords) (k0_t5 : Fin (k0_t5_loop i).trips) (v140 : BitVec 32) (v994 : IVec S16 32) (v1010 : IVec S16 32) (k0_hw409 : k0_chk409 i k0_t5 v140 v994 v1010), ∀ (k0_h5 : ¬(k0_cond5 v140 = 1#1)), ∀ a x, ((![v994, v1010] : Fin 2 → IVec S16 32) a x).toNat < S256x128.size a := fun i k0_t5 v140 v994 v1010 k0_hw409 k0_h5 => k0_hw409.1 k0_h5
theorem k0_idx737_inb : ∀ (i : grid0.Coords) (k0_t5 : Fin (k0_t5_loop i).trips) (v140 : BitVec 32) (v994 : IVec S16 32) (v1010 : IVec S16 32) (k0_hw409 : k0_chk409 i k0_t5 v140 v994 v1010), ∀ (k0_h5 : ¬(k0_cond5 v140 = 1#1)), ∀ a x, ((![v994, v1010] : Fin 2 → IVec S16 32) a x).toNat < S256x128.size a := fun i k0_t5 v140 v994 v1010 k0_hw409 k0_h5 => k0_hw409.2 k0_h5

def k0_chk410 (i : grid0.Coords) (v2 : IVec S16 32) (k0_t5 : Fin (k0_t5_loop i).trips) (v140 : BitVec 32) (v994 : IVec S16 32) : Prop :=
  (∀ (k0_h5 : ¬(k0_cond5 v140 = 1#1)), ∀ a x, ((![v994, v2] : Fin 2 → IVec S16 32) a x).toNat < S256x16.size a)
theorem k0_idx738_inb : ∀ (i : grid0.Coords) (v2 : IVec S16 32) (k0_t5 : Fin (k0_t5_loop i).trips) (v140 : BitVec 32) (v994 : IVec S16 32) (k0_hw410 : k0_chk410 i v2 k0_t5 v140 v994), ∀ (k0_h5 : ¬(k0_cond5 v140 = 1#1)), ∀ a x, ((![v994, v2] : Fin 2 → IVec S16 32) a x).toNat < S256x16.size a := fun i v2 k0_t5 v140 v994 k0_hw410 k0_h5 => k0_hw410 k0_h5

def k0_chk411 (i : grid0.Coords) (k0_t5 : Fin (k0_t5_loop i).trips) (v140 : BitVec 32) (v1055 : IVec S16 32) : Prop :=
  (∀ (k0_h5 : ¬(k0_cond5 v140 = 1#1)), ∀ a x, ((![v1055] : Fin 1 → IVec S16 32) a x).toNat < S3136.size a)
theorem k0_idx739_inb : ∀ (i : grid0.Coords) (k0_t5 : Fin (k0_t5_loop i).trips) (v140 : BitVec 32) (v1055 : IVec S16 32) (k0_hw411 : k0_chk411 i k0_t5 v140 v1055), ∀ (k0_h5 : ¬(k0_cond5 v140 = 1#1)), ∀ a x, ((![v1055] : Fin 1 → IVec S16 32) a x).toNat < S3136.size a := fun i k0_t5 v140 v1055 k0_hw411 k0_h5 => k0_hw411 k0_h5
def k0_off371 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1058 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c9_i32_333 : BitVec 32 := 9#32
  let v1057 : BitVec 32 := Scalar.addi v126 c9_i32_333
  let v1059 : Index := Scalar.indexCast v1057
  let c0_334 : Index := 0#32
  ![v1058.toNat, v1059.toNat, 0]

variable {F : FTy → Type} [FloatOps F]

def k0_off372 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1062 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c9_i32_335 : BitVec 32 := 9#32
  let v1061 : BitVec 32 := Scalar.addi v126 c9_i32_335
  let v1063 : Index := Scalar.indexCast v1061
  let c16_336 : Index := 16#32
  ![v1062.toNat, v1063.toNat, 16]
def k0_off373 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1066 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c9_i32_337 : BitVec 32 := 9#32
  let v1065 : BitVec 32 := Scalar.addi v126 c9_i32_337
  let v1067 : Index := Scalar.indexCast v1065
  let c32_338 : Index := 32#32
  ![v1066.toNat, v1067.toNat, 32]
def k0_off374 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1070 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c9_i32_339 : BitVec 32 := 9#32
  let v1069 : BitVec 32 := Scalar.addi v126 c9_i32_339
  let v1071 : Index := Scalar.indexCast v1069
  let c48_340 : Index := 48#32
  ![v1070.toNat, v1071.toNat, 48]
def k0_off375 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1074 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c9_i32_341 : BitVec 32 := 9#32
  let v1073 : BitVec 32 := Scalar.addi v126 c9_i32_341
  let v1075 : Index := Scalar.indexCast v1073
  let c64_342 : Index := 64#32
  ![v1074.toNat, v1075.toNat, 64]
def k0_off376 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1078 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c9_i32_343 : BitVec 32 := 9#32
  let v1077 : BitVec 32 := Scalar.addi v126 c9_i32_343
  let v1079 : Index := Scalar.indexCast v1077
  let c80_344 : Index := 80#32
  ![v1078.toNat, v1079.toNat, 80]
def k0_off377 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1082 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c9_i32_345 : BitVec 32 := 9#32
  let v1081 : BitVec 32 := Scalar.addi v126 c9_i32_345
  let v1083 : Index := Scalar.indexCast v1081
  let c96_346 : Index := 96#32
  ![v1082.toNat, v1083.toNat, 96]
def k0_off378 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1086 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c9_i32_347 : BitVec 32 := 9#32
  let v1085 : BitVec 32 := Scalar.addi v126 c9_i32_347
  let v1087 : Index := Scalar.indexCast v1085
  let c112_348 : Index := 112#32
  ![v1086.toNat, v1087.toNat, 112]

def k0_chk412 (i : grid0.Coords) (k0_t5 : Fin (k0_t5_loop i).trips) (v140 : BitVec 32) (v1095 : IVec S16 32) (v1097 : IVec S16 32) : Prop :=
  (∀ (k0_h5 : ¬(k0_cond5 v140 = 1#1)), ∀ a x, ((![v1095, v1097] : Fin 2 → IVec S16 32) a x).toNat < S256x128.size a) ∧
  (∀ (k0_h5 : ¬(k0_cond5 v140 = 1#1)), ∀ a x, ((![v1095, v1097] : Fin 2 → IVec S16 32) a x).toNat < S256x128.size a)
theorem k0_idx740_inb : ∀ (i : grid0.Coords) (k0_t5 : Fin (k0_t5_loop i).trips) (v140 : BitVec 32) (v1095 : IVec S16 32) (v1097 : IVec S16 32) (k0_hw412 : k0_chk412 i k0_t5 v140 v1095 v1097), ∀ (k0_h5 : ¬(k0_cond5 v140 = 1#1)), ∀ a x, ((![v1095, v1097] : Fin 2 → IVec S16 32) a x).toNat < S256x128.size a := fun i k0_t5 v140 v1095 v1097 k0_hw412 k0_h5 => k0_hw412.1 k0_h5
theorem k0_idx741_inb : ∀ (i : grid0.Coords) (k0_t5 : Fin (k0_t5_loop i).trips) (v140 : BitVec 32) (v1095 : IVec S16 32) (v1097 : IVec S16 32) (k0_hw412 : k0_chk412 i k0_t5 v140 v1095 v1097), ∀ (k0_h5 : ¬(k0_cond5 v140 = 1#1)), ∀ a x, ((![v1095, v1097] : Fin 2 → IVec S16 32) a x).toNat < S256x128.size a := fun i k0_t5 v140 v1095 v1097 k0_hw412 k0_h5 => k0_hw412.2 k0_h5

def k0_chk413 (i : grid0.Coords) (k0_t5 : Fin (k0_t5_loop i).trips) (v140 : BitVec 32) (v1095 : IVec S16 32) (v1099 : IVec S16 32) : Prop :=
  (∀ (k0_h5 : ¬(k0_cond5 v140 = 1#1)), ∀ a x, ((![v1095, v1099] : Fin 2 → IVec S16 32) a x).toNat < S256x128.size a) ∧
  (∀ (k0_h5 : ¬(k0_cond5 v140 = 1#1)), ∀ a x, ((![v1095, v1099] : Fin 2 → IVec S16 32) a x).toNat < S256x128.size a)
theorem k0_idx742_inb : ∀ (i : grid0.Coords) (k0_t5 : Fin (k0_t5_loop i).trips) (v140 : BitVec 32) (v1095 : IVec S16 32) (v1099 : IVec S16 32) (k0_hw413 : k0_chk413 i k0_t5 v140 v1095 v1099), ∀ (k0_h5 : ¬(k0_cond5 v140 = 1#1)), ∀ a x, ((![v1095, v1099] : Fin 2 → IVec S16 32) a x).toNat < S256x128.size a := fun i k0_t5 v140 v1095 v1099 k0_hw413 k0_h5 => k0_hw413.1 k0_h5
theorem k0_idx743_inb : ∀ (i : grid0.Coords) (k0_t5 : Fin (k0_t5_loop i).trips) (v140 : BitVec 32) (v1095 : IVec S16 32) (v1099 : IVec S16 32) (k0_hw413 : k0_chk413 i k0_t5 v140 v1095 v1099), ∀ (k0_h5 : ¬(k0_cond5 v140 = 1#1)), ∀ a x, ((![v1095, v1099] : Fin 2 → IVec S16 32) a x).toNat < S256x128.size a := fun i k0_t5 v140 v1095 v1099 k0_hw413 k0_h5 => k0_hw413.2 k0_h5

def k0_chk414 (i : grid0.Coords) (k0_t5 : Fin (k0_t5_loop i).trips) (v140 : BitVec 32) (v1095 : IVec S16 32) (v1101 : IVec S16 32) : Prop :=
  (∀ (k0_h5 : ¬(k0_cond5 v140 = 1#1)), ∀ a x, ((![v1095, v1101] : Fin 2 → IVec S16 32) a x).toNat < S256x128.size a) ∧
  (∀ (k0_h5 : ¬(k0_cond5 v140 = 1#1)), ∀ a x, ((![v1095, v1101] : Fin 2 → IVec S16 32) a x).toNat < S256x128.size a)
theorem k0_idx744_inb : ∀ (i : grid0.Coords) (k0_t5 : Fin (k0_t5_loop i).trips) (v140 : BitVec 32) (v1095 : IVec S16 32) (v1101 : IVec S16 32) (k0_hw414 : k0_chk414 i k0_t5 v140 v1095 v1101), ∀ (k0_h5 : ¬(k0_cond5 v140 = 1#1)), ∀ a x, ((![v1095, v1101] : Fin 2 → IVec S16 32) a x).toNat < S256x128.size a := fun i k0_t5 v140 v1095 v1101 k0_hw414 k0_h5 => k0_hw414.1 k0_h5
theorem k0_idx745_inb : ∀ (i : grid0.Coords) (k0_t5 : Fin (k0_t5_loop i).trips) (v140 : BitVec 32) (v1095 : IVec S16 32) (v1101 : IVec S16 32) (k0_hw414 : k0_chk414 i k0_t5 v140 v1095 v1101), ∀ (k0_h5 : ¬(k0_cond5 v140 = 1#1)), ∀ a x, ((![v1095, v1101] : Fin 2 → IVec S16 32) a x).toNat < S256x128.size a := fun i k0_t5 v140 v1095 v1101 k0_hw414 k0_h5 => k0_hw414.2 k0_h5

def k0_chk415 (i : grid0.Coords) (k0_t5 : Fin (k0_t5_loop i).trips) (v140 : BitVec 32) (v1095 : IVec S16 32) (v1103 : IVec S16 32) : Prop :=
  (∀ (k0_h5 : ¬(k0_cond5 v140 = 1#1)), ∀ a x, ((![v1095, v1103] : Fin 2 → IVec S16 32) a x).toNat < S256x128.size a) ∧
  (∀ (k0_h5 : ¬(k0_cond5 v140 = 1#1)), ∀ a x, ((![v1095, v1103] : Fin 2 → IVec S16 32) a x).toNat < S256x128.size a)
theorem k0_idx746_inb : ∀ (i : grid0.Coords) (k0_t5 : Fin (k0_t5_loop i).trips) (v140 : BitVec 32) (v1095 : IVec S16 32) (v1103 : IVec S16 32) (k0_hw415 : k0_chk415 i k0_t5 v140 v1095 v1103), ∀ (k0_h5 : ¬(k0_cond5 v140 = 1#1)), ∀ a x, ((![v1095, v1103] : Fin 2 → IVec S16 32) a x).toNat < S256x128.size a := fun i k0_t5 v140 v1095 v1103 k0_hw415 k0_h5 => k0_hw415.1 k0_h5
theorem k0_idx747_inb : ∀ (i : grid0.Coords) (k0_t5 : Fin (k0_t5_loop i).trips) (v140 : BitVec 32) (v1095 : IVec S16 32) (v1103 : IVec S16 32) (k0_hw415 : k0_chk415 i k0_t5 v140 v1095 v1103), ∀ (k0_h5 : ¬(k0_cond5 v140 = 1#1)), ∀ a x, ((![v1095, v1103] : Fin 2 → IVec S16 32) a x).toNat < S256x128.size a := fun i k0_t5 v140 v1095 v1103 k0_hw415 k0_h5 => k0_hw415.2 k0_h5

def k0_chk416 (i : grid0.Coords) (k0_t5 : Fin (k0_t5_loop i).trips) (v140 : BitVec 32) (v1095 : IVec S16 32) (v1105 : IVec S16 32) : Prop :=
  (∀ (k0_h5 : ¬(k0_cond5 v140 = 1#1)), ∀ a x, ((![v1095, v1105] : Fin 2 → IVec S16 32) a x).toNat < S256x128.size a) ∧
  (∀ (k0_h5 : ¬(k0_cond5 v140 = 1#1)), ∀ a x, ((![v1095, v1105] : Fin 2 → IVec S16 32) a x).toNat < S256x128.size a)
theorem k0_idx748_inb : ∀ (i : grid0.Coords) (k0_t5 : Fin (k0_t5_loop i).trips) (v140 : BitVec 32) (v1095 : IVec S16 32) (v1105 : IVec S16 32) (k0_hw416 : k0_chk416 i k0_t5 v140 v1095 v1105), ∀ (k0_h5 : ¬(k0_cond5 v140 = 1#1)), ∀ a x, ((![v1095, v1105] : Fin 2 → IVec S16 32) a x).toNat < S256x128.size a := fun i k0_t5 v140 v1095 v1105 k0_hw416 k0_h5 => k0_hw416.1 k0_h5
theorem k0_idx749_inb : ∀ (i : grid0.Coords) (k0_t5 : Fin (k0_t5_loop i).trips) (v140 : BitVec 32) (v1095 : IVec S16 32) (v1105 : IVec S16 32) (k0_hw416 : k0_chk416 i k0_t5 v140 v1095 v1105), ∀ (k0_h5 : ¬(k0_cond5 v140 = 1#1)), ∀ a x, ((![v1095, v1105] : Fin 2 → IVec S16 32) a x).toNat < S256x128.size a := fun i k0_t5 v140 v1095 v1105 k0_hw416 k0_h5 => k0_hw416.2 k0_h5

def k0_chk417 (i : grid0.Coords) (k0_t5 : Fin (k0_t5_loop i).trips) (v140 : BitVec 32) (v1095 : IVec S16 32) (v1107 : IVec S16 32) : Prop :=
  (∀ (k0_h5 : ¬(k0_cond5 v140 = 1#1)), ∀ a x, ((![v1095, v1107] : Fin 2 → IVec S16 32) a x).toNat < S256x128.size a) ∧
  (∀ (k0_h5 : ¬(k0_cond5 v140 = 1#1)), ∀ a x, ((![v1095, v1107] : Fin 2 → IVec S16 32) a x).toNat < S256x128.size a)
theorem k0_idx750_inb : ∀ (i : grid0.Coords) (k0_t5 : Fin (k0_t5_loop i).trips) (v140 : BitVec 32) (v1095 : IVec S16 32) (v1107 : IVec S16 32) (k0_hw417 : k0_chk417 i k0_t5 v140 v1095 v1107), ∀ (k0_h5 : ¬(k0_cond5 v140 = 1#1)), ∀ a x, ((![v1095, v1107] : Fin 2 → IVec S16 32) a x).toNat < S256x128.size a := fun i k0_t5 v140 v1095 v1107 k0_hw417 k0_h5 => k0_hw417.1 k0_h5
theorem k0_idx751_inb : ∀ (i : grid0.Coords) (k0_t5 : Fin (k0_t5_loop i).trips) (v140 : BitVec 32) (v1095 : IVec S16 32) (v1107 : IVec S16 32) (k0_hw417 : k0_chk417 i k0_t5 v140 v1095 v1107), ∀ (k0_h5 : ¬(k0_cond5 v140 = 1#1)), ∀ a x, ((![v1095, v1107] : Fin 2 → IVec S16 32) a x).toNat < S256x128.size a := fun i k0_t5 v140 v1095 v1107 k0_hw417 k0_h5 => k0_hw417.2 k0_h5

def k0_chk418 (i : grid0.Coords) (k0_t5 : Fin (k0_t5_loop i).trips) (v140 : BitVec 32) (v1095 : IVec S16 32) (v1109 : IVec S16 32) : Prop :=
  (∀ (k0_h5 : ¬(k0_cond5 v140 = 1#1)), ∀ a x, ((![v1095, v1109] : Fin 2 → IVec S16 32) a x).toNat < S256x128.size a) ∧
  (∀ (k0_h5 : ¬(k0_cond5 v140 = 1#1)), ∀ a x, ((![v1095, v1109] : Fin 2 → IVec S16 32) a x).toNat < S256x128.size a)
theorem k0_idx752_inb : ∀ (i : grid0.Coords) (k0_t5 : Fin (k0_t5_loop i).trips) (v140 : BitVec 32) (v1095 : IVec S16 32) (v1109 : IVec S16 32) (k0_hw418 : k0_chk418 i k0_t5 v140 v1095 v1109), ∀ (k0_h5 : ¬(k0_cond5 v140 = 1#1)), ∀ a x, ((![v1095, v1109] : Fin 2 → IVec S16 32) a x).toNat < S256x128.size a := fun i k0_t5 v140 v1095 v1109 k0_hw418 k0_h5 => k0_hw418.1 k0_h5
theorem k0_idx753_inb : ∀ (i : grid0.Coords) (k0_t5 : Fin (k0_t5_loop i).trips) (v140 : BitVec 32) (v1095 : IVec S16 32) (v1109 : IVec S16 32) (k0_hw418 : k0_chk418 i k0_t5 v140 v1095 v1109), ∀ (k0_h5 : ¬(k0_cond5 v140 = 1#1)), ∀ a x, ((![v1095, v1109] : Fin 2 → IVec S16 32) a x).toNat < S256x128.size a := fun i k0_t5 v140 v1095 v1109 k0_hw418 k0_h5 => k0_hw418.2 k0_h5

def k0_chk419 (i : grid0.Coords) (k0_t5 : Fin (k0_t5_loop i).trips) (v140 : BitVec 32) (v1095 : IVec S16 32) (v1111 : IVec S16 32) : Prop :=
  (∀ (k0_h5 : ¬(k0_cond5 v140 = 1#1)), ∀ a x, ((![v1095, v1111] : Fin 2 → IVec S16 32) a x).toNat < S256x128.size a) ∧
  (∀ (k0_h5 : ¬(k0_cond5 v140 = 1#1)), ∀ a x, ((![v1095, v1111] : Fin 2 → IVec S16 32) a x).toNat < S256x128.size a)
theorem k0_idx754_inb : ∀ (i : grid0.Coords) (k0_t5 : Fin (k0_t5_loop i).trips) (v140 : BitVec 32) (v1095 : IVec S16 32) (v1111 : IVec S16 32) (k0_hw419 : k0_chk419 i k0_t5 v140 v1095 v1111), ∀ (k0_h5 : ¬(k0_cond5 v140 = 1#1)), ∀ a x, ((![v1095, v1111] : Fin 2 → IVec S16 32) a x).toNat < S256x128.size a := fun i k0_t5 v140 v1095 v1111 k0_hw419 k0_h5 => k0_hw419.1 k0_h5
theorem k0_idx755_inb : ∀ (i : grid0.Coords) (k0_t5 : Fin (k0_t5_loop i).trips) (v140 : BitVec 32) (v1095 : IVec S16 32) (v1111 : IVec S16 32) (k0_hw419 : k0_chk419 i k0_t5 v140 v1095 v1111), ∀ (k0_h5 : ¬(k0_cond5 v140 = 1#1)), ∀ a x, ((![v1095, v1111] : Fin 2 → IVec S16 32) a x).toNat < S256x128.size a := fun i k0_t5 v140 v1095 v1111 k0_hw419 k0_h5 => k0_hw419.2 k0_h5

def k0_chk420 (i : grid0.Coords) (v2 : IVec S16 32) (k0_t5 : Fin (k0_t5_loop i).trips) (v140 : BitVec 32) (v1095 : IVec S16 32) : Prop :=
  (∀ (k0_h5 : ¬(k0_cond5 v140 = 1#1)), ∀ a x, ((![v1095, v2] : Fin 2 → IVec S16 32) a x).toNat < S256x16.size a)
theorem k0_idx756_inb : ∀ (i : grid0.Coords) (v2 : IVec S16 32) (k0_t5 : Fin (k0_t5_loop i).trips) (v140 : BitVec 32) (v1095 : IVec S16 32) (k0_hw420 : k0_chk420 i v2 k0_t5 v140 v1095), ∀ (k0_h5 : ¬(k0_cond5 v140 = 1#1)), ∀ a x, ((![v1095, v2] : Fin 2 → IVec S16 32) a x).toNat < S256x16.size a := fun i v2 k0_t5 v140 v1095 k0_hw420 k0_h5 => k0_hw420 k0_h5

def k0_chk421 (i : grid0.Coords) (k0_t5 : Fin (k0_t5_loop i).trips) (v140 : BitVec 32) (v1156 : IVec S16 32) : Prop :=
  (∀ (k0_h5 : ¬(k0_cond5 v140 = 1#1)), ∀ a x, ((![v1156] : Fin 1 → IVec S16 32) a x).toNat < S3136.size a)
theorem k0_idx757_inb : ∀ (i : grid0.Coords) (k0_t5 : Fin (k0_t5_loop i).trips) (v140 : BitVec 32) (v1156 : IVec S16 32) (k0_hw421 : k0_chk421 i k0_t5 v140 v1156), ∀ (k0_h5 : ¬(k0_cond5 v140 = 1#1)), ∀ a x, ((![v1156] : Fin 1 → IVec S16 32) a x).toNat < S3136.size a := fun i k0_t5 v140 v1156 k0_hw421 k0_h5 => k0_hw421 k0_h5
def k0_off379 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1159 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c10_i32_363 : BitVec 32 := 10#32
  let v1158 : BitVec 32 := Scalar.addi v126 c10_i32_363
  let v1160 : Index := Scalar.indexCast v1158
  let c0_364 : Index := 0#32
  ![v1159.toNat, v1160.toNat, 0]
def k0_off380 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1163 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c10_i32_365 : BitVec 32 := 10#32
  let v1162 : BitVec 32 := Scalar.addi v126 c10_i32_365
  let v1164 : Index := Scalar.indexCast v1162
  let c16_366 : Index := 16#32
  ![v1163.toNat, v1164.toNat, 16]
def k0_off381 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1167 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c10_i32_367 : BitVec 32 := 10#32
  let v1166 : BitVec 32 := Scalar.addi v126 c10_i32_367
  let v1168 : Index := Scalar.indexCast v1166
  let c32_368 : Index := 32#32
  ![v1167.toNat, v1168.toNat, 32]
def k0_off382 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1171 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c10_i32_369 : BitVec 32 := 10#32
  let v1170 : BitVec 32 := Scalar.addi v126 c10_i32_369
  let v1172 : Index := Scalar.indexCast v1170
  let c48_370 : Index := 48#32
  ![v1171.toNat, v1172.toNat, 48]
def k0_off383 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1175 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c10_i32_371 : BitVec 32 := 10#32
  let v1174 : BitVec 32 := Scalar.addi v126 c10_i32_371
  let v1176 : Index := Scalar.indexCast v1174
  let c64_372 : Index := 64#32
  ![v1175.toNat, v1176.toNat, 64]
def k0_off384 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1179 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c10_i32_373 : BitVec 32 := 10#32
  let v1178 : BitVec 32 := Scalar.addi v126 c10_i32_373
  let v1180 : Index := Scalar.indexCast v1178
  let c80_374 : Index := 80#32
  ![v1179.toNat, v1180.toNat, 80]
def k0_off385 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1183 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c10_i32_375 : BitVec 32 := 10#32
  let v1182 : BitVec 32 := Scalar.addi v126 c10_i32_375
  let v1184 : Index := Scalar.indexCast v1182
  let c96_376 : Index := 96#32
  ![v1183.toNat, v1184.toNat, 96]
def k0_off386 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1187 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c10_i32_377 : BitVec 32 := 10#32
  let v1186 : BitVec 32 := Scalar.addi v126 c10_i32_377
  let v1188 : Index := Scalar.indexCast v1186
  let c112_378 : Index := 112#32
  ![v1187.toNat, v1188.toNat, 112]

def k0_chk422 (i : grid0.Coords) (k0_t5 : Fin (k0_t5_loop i).trips) (v140 : BitVec 32) (v1196 : IVec S16 32) (v1198 : IVec S16 32) : Prop :=
  (∀ (k0_h5 : ¬(k0_cond5 v140 = 1#1)), ∀ a x, ((![v1196, v1198] : Fin 2 → IVec S16 32) a x).toNat < S256x128.size a) ∧
  (∀ (k0_h5 : ¬(k0_cond5 v140 = 1#1)), ∀ a x, ((![v1196, v1198] : Fin 2 → IVec S16 32) a x).toNat < S256x128.size a)
theorem k0_idx758_inb : ∀ (i : grid0.Coords) (k0_t5 : Fin (k0_t5_loop i).trips) (v140 : BitVec 32) (v1196 : IVec S16 32) (v1198 : IVec S16 32) (k0_hw422 : k0_chk422 i k0_t5 v140 v1196 v1198), ∀ (k0_h5 : ¬(k0_cond5 v140 = 1#1)), ∀ a x, ((![v1196, v1198] : Fin 2 → IVec S16 32) a x).toNat < S256x128.size a := fun i k0_t5 v140 v1196 v1198 k0_hw422 k0_h5 => k0_hw422.1 k0_h5
theorem k0_idx759_inb : ∀ (i : grid0.Coords) (k0_t5 : Fin (k0_t5_loop i).trips) (v140 : BitVec 32) (v1196 : IVec S16 32) (v1198 : IVec S16 32) (k0_hw422 : k0_chk422 i k0_t5 v140 v1196 v1198), ∀ (k0_h5 : ¬(k0_cond5 v140 = 1#1)), ∀ a x, ((![v1196, v1198] : Fin 2 → IVec S16 32) a x).toNat < S256x128.size a := fun i k0_t5 v140 v1196 v1198 k0_hw422 k0_h5 => k0_hw422.2 k0_h5

def k0_chk423 (i : grid0.Coords) (k0_t5 : Fin (k0_t5_loop i).trips) (v140 : BitVec 32) (v1196 : IVec S16 32) (v1200 : IVec S16 32) : Prop :=
  (∀ (k0_h5 : ¬(k0_cond5 v140 = 1#1)), ∀ a x, ((![v1196, v1200] : Fin 2 → IVec S16 32) a x).toNat < S256x128.size a) ∧
  (∀ (k0_h5 : ¬(k0_cond5 v140 = 1#1)), ∀ a x, ((![v1196, v1200] : Fin 2 → IVec S16 32) a x).toNat < S256x128.size a)
theorem k0_idx760_inb : ∀ (i : grid0.Coords) (k0_t5 : Fin (k0_t5_loop i).trips) (v140 : BitVec 32) (v1196 : IVec S16 32) (v1200 : IVec S16 32) (k0_hw423 : k0_chk423 i k0_t5 v140 v1196 v1200), ∀ (k0_h5 : ¬(k0_cond5 v140 = 1#1)), ∀ a x, ((![v1196, v1200] : Fin 2 → IVec S16 32) a x).toNat < S256x128.size a := fun i k0_t5 v140 v1196 v1200 k0_hw423 k0_h5 => k0_hw423.1 k0_h5
theorem k0_idx761_inb : ∀ (i : grid0.Coords) (k0_t5 : Fin (k0_t5_loop i).trips) (v140 : BitVec 32) (v1196 : IVec S16 32) (v1200 : IVec S16 32) (k0_hw423 : k0_chk423 i k0_t5 v140 v1196 v1200), ∀ (k0_h5 : ¬(k0_cond5 v140 = 1#1)), ∀ a x, ((![v1196, v1200] : Fin 2 → IVec S16 32) a x).toNat < S256x128.size a := fun i k0_t5 v140 v1196 v1200 k0_hw423 k0_h5 => k0_hw423.2 k0_h5

def k0_chk424 (i : grid0.Coords) (k0_t5 : Fin (k0_t5_loop i).trips) (v140 : BitVec 32) (v1196 : IVec S16 32) (v1202 : IVec S16 32) : Prop :=
  (∀ (k0_h5 : ¬(k0_cond5 v140 = 1#1)), ∀ a x, ((![v1196, v1202] : Fin 2 → IVec S16 32) a x).toNat < S256x128.size a) ∧
  (∀ (k0_h5 : ¬(k0_cond5 v140 = 1#1)), ∀ a x, ((![v1196, v1202] : Fin 2 → IVec S16 32) a x).toNat < S256x128.size a)
theorem k0_idx762_inb : ∀ (i : grid0.Coords) (k0_t5 : Fin (k0_t5_loop i).trips) (v140 : BitVec 32) (v1196 : IVec S16 32) (v1202 : IVec S16 32) (k0_hw424 : k0_chk424 i k0_t5 v140 v1196 v1202), ∀ (k0_h5 : ¬(k0_cond5 v140 = 1#1)), ∀ a x, ((![v1196, v1202] : Fin 2 → IVec S16 32) a x).toNat < S256x128.size a := fun i k0_t5 v140 v1196 v1202 k0_hw424 k0_h5 => k0_hw424.1 k0_h5
theorem k0_idx763_inb : ∀ (i : grid0.Coords) (k0_t5 : Fin (k0_t5_loop i).trips) (v140 : BitVec 32) (v1196 : IVec S16 32) (v1202 : IVec S16 32) (k0_hw424 : k0_chk424 i k0_t5 v140 v1196 v1202), ∀ (k0_h5 : ¬(k0_cond5 v140 = 1#1)), ∀ a x, ((![v1196, v1202] : Fin 2 → IVec S16 32) a x).toNat < S256x128.size a := fun i k0_t5 v140 v1196 v1202 k0_hw424 k0_h5 => k0_hw424.2 k0_h5

def k0_chk425 (i : grid0.Coords) (k0_t5 : Fin (k0_t5_loop i).trips) (v140 : BitVec 32) (v1196 : IVec S16 32) (v1204 : IVec S16 32) : Prop :=
  (∀ (k0_h5 : ¬(k0_cond5 v140 = 1#1)), ∀ a x, ((![v1196, v1204] : Fin 2 → IVec S16 32) a x).toNat < S256x128.size a) ∧
  (∀ (k0_h5 : ¬(k0_cond5 v140 = 1#1)), ∀ a x, ((![v1196, v1204] : Fin 2 → IVec S16 32) a x).toNat < S256x128.size a)
theorem k0_idx764_inb : ∀ (i : grid0.Coords) (k0_t5 : Fin (k0_t5_loop i).trips) (v140 : BitVec 32) (v1196 : IVec S16 32) (v1204 : IVec S16 32) (k0_hw425 : k0_chk425 i k0_t5 v140 v1196 v1204), ∀ (k0_h5 : ¬(k0_cond5 v140 = 1#1)), ∀ a x, ((![v1196, v1204] : Fin 2 → IVec S16 32) a x).toNat < S256x128.size a := fun i k0_t5 v140 v1196 v1204 k0_hw425 k0_h5 => k0_hw425.1 k0_h5
theorem k0_idx765_inb : ∀ (i : grid0.Coords) (k0_t5 : Fin (k0_t5_loop i).trips) (v140 : BitVec 32) (v1196 : IVec S16 32) (v1204 : IVec S16 32) (k0_hw425 : k0_chk425 i k0_t5 v140 v1196 v1204), ∀ (k0_h5 : ¬(k0_cond5 v140 = 1#1)), ∀ a x, ((![v1196, v1204] : Fin 2 → IVec S16 32) a x).toNat < S256x128.size a := fun i k0_t5 v140 v1196 v1204 k0_hw425 k0_h5 => k0_hw425.2 k0_h5

def k0_chk426 (i : grid0.Coords) (k0_t5 : Fin (k0_t5_loop i).trips) (v140 : BitVec 32) (v1196 : IVec S16 32) (v1206 : IVec S16 32) : Prop :=
  (∀ (k0_h5 : ¬(k0_cond5 v140 = 1#1)), ∀ a x, ((![v1196, v1206] : Fin 2 → IVec S16 32) a x).toNat < S256x128.size a) ∧
  (∀ (k0_h5 : ¬(k0_cond5 v140 = 1#1)), ∀ a x, ((![v1196, v1206] : Fin 2 → IVec S16 32) a x).toNat < S256x128.size a)
theorem k0_idx766_inb : ∀ (i : grid0.Coords) (k0_t5 : Fin (k0_t5_loop i).trips) (v140 : BitVec 32) (v1196 : IVec S16 32) (v1206 : IVec S16 32) (k0_hw426 : k0_chk426 i k0_t5 v140 v1196 v1206), ∀ (k0_h5 : ¬(k0_cond5 v140 = 1#1)), ∀ a x, ((![v1196, v1206] : Fin 2 → IVec S16 32) a x).toNat < S256x128.size a := fun i k0_t5 v140 v1196 v1206 k0_hw426 k0_h5 => k0_hw426.1 k0_h5
theorem k0_idx767_inb : ∀ (i : grid0.Coords) (k0_t5 : Fin (k0_t5_loop i).trips) (v140 : BitVec 32) (v1196 : IVec S16 32) (v1206 : IVec S16 32) (k0_hw426 : k0_chk426 i k0_t5 v140 v1196 v1206), ∀ (k0_h5 : ¬(k0_cond5 v140 = 1#1)), ∀ a x, ((![v1196, v1206] : Fin 2 → IVec S16 32) a x).toNat < S256x128.size a := fun i k0_t5 v140 v1196 v1206 k0_hw426 k0_h5 => k0_hw426.2 k0_h5

def k0_chk427 (i : grid0.Coords) (k0_t5 : Fin (k0_t5_loop i).trips) (v140 : BitVec 32) (v1196 : IVec S16 32) (v1208 : IVec S16 32) : Prop :=
  (∀ (k0_h5 : ¬(k0_cond5 v140 = 1#1)), ∀ a x, ((![v1196, v1208] : Fin 2 → IVec S16 32) a x).toNat < S256x128.size a) ∧
  (∀ (k0_h5 : ¬(k0_cond5 v140 = 1#1)), ∀ a x, ((![v1196, v1208] : Fin 2 → IVec S16 32) a x).toNat < S256x128.size a)
theorem k0_idx768_inb : ∀ (i : grid0.Coords) (k0_t5 : Fin (k0_t5_loop i).trips) (v140 : BitVec 32) (v1196 : IVec S16 32) (v1208 : IVec S16 32) (k0_hw427 : k0_chk427 i k0_t5 v140 v1196 v1208), ∀ (k0_h5 : ¬(k0_cond5 v140 = 1#1)), ∀ a x, ((![v1196, v1208] : Fin 2 → IVec S16 32) a x).toNat < S256x128.size a := fun i k0_t5 v140 v1196 v1208 k0_hw427 k0_h5 => k0_hw427.1 k0_h5
theorem k0_idx769_inb : ∀ (i : grid0.Coords) (k0_t5 : Fin (k0_t5_loop i).trips) (v140 : BitVec 32) (v1196 : IVec S16 32) (v1208 : IVec S16 32) (k0_hw427 : k0_chk427 i k0_t5 v140 v1196 v1208), ∀ (k0_h5 : ¬(k0_cond5 v140 = 1#1)), ∀ a x, ((![v1196, v1208] : Fin 2 → IVec S16 32) a x).toNat < S256x128.size a := fun i k0_t5 v140 v1196 v1208 k0_hw427 k0_h5 => k0_hw427.2 k0_h5

def k0_chk428 (i : grid0.Coords) (k0_t5 : Fin (k0_t5_loop i).trips) (v140 : BitVec 32) (v1196 : IVec S16 32) (v1210 : IVec S16 32) : Prop :=
  (∀ (k0_h5 : ¬(k0_cond5 v140 = 1#1)), ∀ a x, ((![v1196, v1210] : Fin 2 → IVec S16 32) a x).toNat < S256x128.size a) ∧
  (∀ (k0_h5 : ¬(k0_cond5 v140 = 1#1)), ∀ a x, ((![v1196, v1210] : Fin 2 → IVec S16 32) a x).toNat < S256x128.size a)
theorem k0_idx770_inb : ∀ (i : grid0.Coords) (k0_t5 : Fin (k0_t5_loop i).trips) (v140 : BitVec 32) (v1196 : IVec S16 32) (v1210 : IVec S16 32) (k0_hw428 : k0_chk428 i k0_t5 v140 v1196 v1210), ∀ (k0_h5 : ¬(k0_cond5 v140 = 1#1)), ∀ a x, ((![v1196, v1210] : Fin 2 → IVec S16 32) a x).toNat < S256x128.size a := fun i k0_t5 v140 v1196 v1210 k0_hw428 k0_h5 => k0_hw428.1 k0_h5
theorem k0_idx771_inb : ∀ (i : grid0.Coords) (k0_t5 : Fin (k0_t5_loop i).trips) (v140 : BitVec 32) (v1196 : IVec S16 32) (v1210 : IVec S16 32) (k0_hw428 : k0_chk428 i k0_t5 v140 v1196 v1210), ∀ (k0_h5 : ¬(k0_cond5 v140 = 1#1)), ∀ a x, ((![v1196, v1210] : Fin 2 → IVec S16 32) a x).toNat < S256x128.size a := fun i k0_t5 v140 v1196 v1210 k0_hw428 k0_h5 => k0_hw428.2 k0_h5

def k0_chk429 (i : grid0.Coords) (k0_t5 : Fin (k0_t5_loop i).trips) (v140 : BitVec 32) (v1196 : IVec S16 32) (v1212 : IVec S16 32) : Prop :=
  (∀ (k0_h5 : ¬(k0_cond5 v140 = 1#1)), ∀ a x, ((![v1196, v1212] : Fin 2 → IVec S16 32) a x).toNat < S256x128.size a) ∧
  (∀ (k0_h5 : ¬(k0_cond5 v140 = 1#1)), ∀ a x, ((![v1196, v1212] : Fin 2 → IVec S16 32) a x).toNat < S256x128.size a)
theorem k0_idx772_inb : ∀ (i : grid0.Coords) (k0_t5 : Fin (k0_t5_loop i).trips) (v140 : BitVec 32) (v1196 : IVec S16 32) (v1212 : IVec S16 32) (k0_hw429 : k0_chk429 i k0_t5 v140 v1196 v1212), ∀ (k0_h5 : ¬(k0_cond5 v140 = 1#1)), ∀ a x, ((![v1196, v1212] : Fin 2 → IVec S16 32) a x).toNat < S256x128.size a := fun i k0_t5 v140 v1196 v1212 k0_hw429 k0_h5 => k0_hw429.1 k0_h5
theorem k0_idx773_inb : ∀ (i : grid0.Coords) (k0_t5 : Fin (k0_t5_loop i).trips) (v140 : BitVec 32) (v1196 : IVec S16 32) (v1212 : IVec S16 32) (k0_hw429 : k0_chk429 i k0_t5 v140 v1196 v1212), ∀ (k0_h5 : ¬(k0_cond5 v140 = 1#1)), ∀ a x, ((![v1196, v1212] : Fin 2 → IVec S16 32) a x).toNat < S256x128.size a := fun i k0_t5 v140 v1196 v1212 k0_hw429 k0_h5 => k0_hw429.2 k0_h5

def k0_chk430 (i : grid0.Coords) (v2 : IVec S16 32) (k0_t5 : Fin (k0_t5_loop i).trips) (v140 : BitVec 32) (v1196 : IVec S16 32) : Prop :=
  (∀ (k0_h5 : ¬(k0_cond5 v140 = 1#1)), ∀ a x, ((![v1196, v2] : Fin 2 → IVec S16 32) a x).toNat < S256x16.size a)
theorem k0_idx774_inb : ∀ (i : grid0.Coords) (v2 : IVec S16 32) (k0_t5 : Fin (k0_t5_loop i).trips) (v140 : BitVec 32) (v1196 : IVec S16 32) (k0_hw430 : k0_chk430 i v2 k0_t5 v140 v1196), ∀ (k0_h5 : ¬(k0_cond5 v140 = 1#1)), ∀ a x, ((![v1196, v2] : Fin 2 → IVec S16 32) a x).toNat < S256x16.size a := fun i v2 k0_t5 v140 v1196 k0_hw430 k0_h5 => k0_hw430 k0_h5

def k0_chk431 (i : grid0.Coords) (k0_t5 : Fin (k0_t5_loop i).trips) (v140 : BitVec 32) (v1257 : IVec S16 32) : Prop :=
  (∀ (k0_h5 : ¬(k0_cond5 v140 = 1#1)), ∀ a x, ((![v1257] : Fin 1 → IVec S16 32) a x).toNat < S3136.size a)
theorem k0_idx775_inb : ∀ (i : grid0.Coords) (k0_t5 : Fin (k0_t5_loop i).trips) (v140 : BitVec 32) (v1257 : IVec S16 32) (k0_hw431 : k0_chk431 i k0_t5 v140 v1257), ∀ (k0_h5 : ¬(k0_cond5 v140 = 1#1)), ∀ a x, ((![v1257] : Fin 1 → IVec S16 32) a x).toNat < S3136.size a := fun i k0_t5 v140 v1257 k0_hw431 k0_h5 => k0_hw431 k0_h5
def k0_off387 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1260 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c11_i32_393 : BitVec 32 := 11#32
  let v1259 : BitVec 32 := Scalar.addi v126 c11_i32_393
  let v1261 : Index := Scalar.indexCast v1259
  let c0_394 : Index := 0#32
  ![v1260.toNat, v1261.toNat, 0]
def k0_off388 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1264 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c11_i32_395 : BitVec 32 := 11#32
  let v1263 : BitVec 32 := Scalar.addi v126 c11_i32_395
  let v1265 : Index := Scalar.indexCast v1263
  let c16_396 : Index := 16#32
  ![v1264.toNat, v1265.toNat, 16]
def k0_off389 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1268 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c11_i32_397 : BitVec 32 := 11#32
  let v1267 : BitVec 32 := Scalar.addi v126 c11_i32_397
  let v1269 : Index := Scalar.indexCast v1267
  let c32_398 : Index := 32#32
  ![v1268.toNat, v1269.toNat, 32]
def k0_off390 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1272 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c11_i32_399 : BitVec 32 := 11#32
  let v1271 : BitVec 32 := Scalar.addi v126 c11_i32_399
  let v1273 : Index := Scalar.indexCast v1271
  let c48_400 : Index := 48#32
  ![v1272.toNat, v1273.toNat, 48]
def k0_off391 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1276 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c11_i32_401 : BitVec 32 := 11#32
  let v1275 : BitVec 32 := Scalar.addi v126 c11_i32_401
  let v1277 : Index := Scalar.indexCast v1275
  let c64_402 : Index := 64#32
  ![v1276.toNat, v1277.toNat, 64]
def k0_off392 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1280 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c11_i32_403 : BitVec 32 := 11#32
  let v1279 : BitVec 32 := Scalar.addi v126 c11_i32_403
  let v1281 : Index := Scalar.indexCast v1279
  let c80_404 : Index := 80#32
  ![v1280.toNat, v1281.toNat, 80]
def k0_off393 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1284 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c11_i32_405 : BitVec 32 := 11#32
  let v1283 : BitVec 32 := Scalar.addi v126 c11_i32_405
  let v1285 : Index := Scalar.indexCast v1283
  let c96_406 : Index := 96#32
  ![v1284.toNat, v1285.toNat, 96]
def k0_off394 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1288 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c11_i32_407 : BitVec 32 := 11#32
  let v1287 : BitVec 32 := Scalar.addi v126 c11_i32_407
  let v1289 : Index := Scalar.indexCast v1287
  let c112_408 : Index := 112#32
  ![v1288.toNat, v1289.toNat, 112]

def k0_chk432 (i : grid0.Coords) (k0_t5 : Fin (k0_t5_loop i).trips) (v140 : BitVec 32) (v1297 : IVec S16 32) (v1299 : IVec S16 32) : Prop :=
  (∀ (k0_h5 : ¬(k0_cond5 v140 = 1#1)), ∀ a x, ((![v1297, v1299] : Fin 2 → IVec S16 32) a x).toNat < S256x128.size a) ∧
  (∀ (k0_h5 : ¬(k0_cond5 v140 = 1#1)), ∀ a x, ((![v1297, v1299] : Fin 2 → IVec S16 32) a x).toNat < S256x128.size a)
theorem k0_idx776_inb : ∀ (i : grid0.Coords) (k0_t5 : Fin (k0_t5_loop i).trips) (v140 : BitVec 32) (v1297 : IVec S16 32) (v1299 : IVec S16 32) (k0_hw432 : k0_chk432 i k0_t5 v140 v1297 v1299), ∀ (k0_h5 : ¬(k0_cond5 v140 = 1#1)), ∀ a x, ((![v1297, v1299] : Fin 2 → IVec S16 32) a x).toNat < S256x128.size a := fun i k0_t5 v140 v1297 v1299 k0_hw432 k0_h5 => k0_hw432.1 k0_h5
theorem k0_idx777_inb : ∀ (i : grid0.Coords) (k0_t5 : Fin (k0_t5_loop i).trips) (v140 : BitVec 32) (v1297 : IVec S16 32) (v1299 : IVec S16 32) (k0_hw432 : k0_chk432 i k0_t5 v140 v1297 v1299), ∀ (k0_h5 : ¬(k0_cond5 v140 = 1#1)), ∀ a x, ((![v1297, v1299] : Fin 2 → IVec S16 32) a x).toNat < S256x128.size a := fun i k0_t5 v140 v1297 v1299 k0_hw432 k0_h5 => k0_hw432.2 k0_h5

def k0_chk433 (i : grid0.Coords) (k0_t5 : Fin (k0_t5_loop i).trips) (v140 : BitVec 32) (v1297 : IVec S16 32) (v1301 : IVec S16 32) : Prop :=
  (∀ (k0_h5 : ¬(k0_cond5 v140 = 1#1)), ∀ a x, ((![v1297, v1301] : Fin 2 → IVec S16 32) a x).toNat < S256x128.size a) ∧
  (∀ (k0_h5 : ¬(k0_cond5 v140 = 1#1)), ∀ a x, ((![v1297, v1301] : Fin 2 → IVec S16 32) a x).toNat < S256x128.size a)
theorem k0_idx778_inb : ∀ (i : grid0.Coords) (k0_t5 : Fin (k0_t5_loop i).trips) (v140 : BitVec 32) (v1297 : IVec S16 32) (v1301 : IVec S16 32) (k0_hw433 : k0_chk433 i k0_t5 v140 v1297 v1301), ∀ (k0_h5 : ¬(k0_cond5 v140 = 1#1)), ∀ a x, ((![v1297, v1301] : Fin 2 → IVec S16 32) a x).toNat < S256x128.size a := fun i k0_t5 v140 v1297 v1301 k0_hw433 k0_h5 => k0_hw433.1 k0_h5
theorem k0_idx779_inb : ∀ (i : grid0.Coords) (k0_t5 : Fin (k0_t5_loop i).trips) (v140 : BitVec 32) (v1297 : IVec S16 32) (v1301 : IVec S16 32) (k0_hw433 : k0_chk433 i k0_t5 v140 v1297 v1301), ∀ (k0_h5 : ¬(k0_cond5 v140 = 1#1)), ∀ a x, ((![v1297, v1301] : Fin 2 → IVec S16 32) a x).toNat < S256x128.size a := fun i k0_t5 v140 v1297 v1301 k0_hw433 k0_h5 => k0_hw433.2 k0_h5

def k0_chk434 (i : grid0.Coords) (k0_t5 : Fin (k0_t5_loop i).trips) (v140 : BitVec 32) (v1297 : IVec S16 32) (v1303 : IVec S16 32) : Prop :=
  (∀ (k0_h5 : ¬(k0_cond5 v140 = 1#1)), ∀ a x, ((![v1297, v1303] : Fin 2 → IVec S16 32) a x).toNat < S256x128.size a) ∧
  (∀ (k0_h5 : ¬(k0_cond5 v140 = 1#1)), ∀ a x, ((![v1297, v1303] : Fin 2 → IVec S16 32) a x).toNat < S256x128.size a)
theorem k0_idx780_inb : ∀ (i : grid0.Coords) (k0_t5 : Fin (k0_t5_loop i).trips) (v140 : BitVec 32) (v1297 : IVec S16 32) (v1303 : IVec S16 32) (k0_hw434 : k0_chk434 i k0_t5 v140 v1297 v1303), ∀ (k0_h5 : ¬(k0_cond5 v140 = 1#1)), ∀ a x, ((![v1297, v1303] : Fin 2 → IVec S16 32) a x).toNat < S256x128.size a := fun i k0_t5 v140 v1297 v1303 k0_hw434 k0_h5 => k0_hw434.1 k0_h5
theorem k0_idx781_inb : ∀ (i : grid0.Coords) (k0_t5 : Fin (k0_t5_loop i).trips) (v140 : BitVec 32) (v1297 : IVec S16 32) (v1303 : IVec S16 32) (k0_hw434 : k0_chk434 i k0_t5 v140 v1297 v1303), ∀ (k0_h5 : ¬(k0_cond5 v140 = 1#1)), ∀ a x, ((![v1297, v1303] : Fin 2 → IVec S16 32) a x).toNat < S256x128.size a := fun i k0_t5 v140 v1297 v1303 k0_hw434 k0_h5 => k0_hw434.2 k0_h5

def k0_chk435 (i : grid0.Coords) (k0_t5 : Fin (k0_t5_loop i).trips) (v140 : BitVec 32) (v1297 : IVec S16 32) (v1305 : IVec S16 32) : Prop :=
  (∀ (k0_h5 : ¬(k0_cond5 v140 = 1#1)), ∀ a x, ((![v1297, v1305] : Fin 2 → IVec S16 32) a x).toNat < S256x128.size a) ∧
  (∀ (k0_h5 : ¬(k0_cond5 v140 = 1#1)), ∀ a x, ((![v1297, v1305] : Fin 2 → IVec S16 32) a x).toNat < S256x128.size a)
theorem k0_idx782_inb : ∀ (i : grid0.Coords) (k0_t5 : Fin (k0_t5_loop i).trips) (v140 : BitVec 32) (v1297 : IVec S16 32) (v1305 : IVec S16 32) (k0_hw435 : k0_chk435 i k0_t5 v140 v1297 v1305), ∀ (k0_h5 : ¬(k0_cond5 v140 = 1#1)), ∀ a x, ((![v1297, v1305] : Fin 2 → IVec S16 32) a x).toNat < S256x128.size a := fun i k0_t5 v140 v1297 v1305 k0_hw435 k0_h5 => k0_hw435.1 k0_h5
theorem k0_idx783_inb : ∀ (i : grid0.Coords) (k0_t5 : Fin (k0_t5_loop i).trips) (v140 : BitVec 32) (v1297 : IVec S16 32) (v1305 : IVec S16 32) (k0_hw435 : k0_chk435 i k0_t5 v140 v1297 v1305), ∀ (k0_h5 : ¬(k0_cond5 v140 = 1#1)), ∀ a x, ((![v1297, v1305] : Fin 2 → IVec S16 32) a x).toNat < S256x128.size a := fun i k0_t5 v140 v1297 v1305 k0_hw435 k0_h5 => k0_hw435.2 k0_h5

def k0_chk436 (i : grid0.Coords) (k0_t5 : Fin (k0_t5_loop i).trips) (v140 : BitVec 32) (v1297 : IVec S16 32) (v1307 : IVec S16 32) : Prop :=
  (∀ (k0_h5 : ¬(k0_cond5 v140 = 1#1)), ∀ a x, ((![v1297, v1307] : Fin 2 → IVec S16 32) a x).toNat < S256x128.size a) ∧
  (∀ (k0_h5 : ¬(k0_cond5 v140 = 1#1)), ∀ a x, ((![v1297, v1307] : Fin 2 → IVec S16 32) a x).toNat < S256x128.size a)
theorem k0_idx784_inb : ∀ (i : grid0.Coords) (k0_t5 : Fin (k0_t5_loop i).trips) (v140 : BitVec 32) (v1297 : IVec S16 32) (v1307 : IVec S16 32) (k0_hw436 : k0_chk436 i k0_t5 v140 v1297 v1307), ∀ (k0_h5 : ¬(k0_cond5 v140 = 1#1)), ∀ a x, ((![v1297, v1307] : Fin 2 → IVec S16 32) a x).toNat < S256x128.size a := fun i k0_t5 v140 v1297 v1307 k0_hw436 k0_h5 => k0_hw436.1 k0_h5
theorem k0_idx785_inb : ∀ (i : grid0.Coords) (k0_t5 : Fin (k0_t5_loop i).trips) (v140 : BitVec 32) (v1297 : IVec S16 32) (v1307 : IVec S16 32) (k0_hw436 : k0_chk436 i k0_t5 v140 v1297 v1307), ∀ (k0_h5 : ¬(k0_cond5 v140 = 1#1)), ∀ a x, ((![v1297, v1307] : Fin 2 → IVec S16 32) a x).toNat < S256x128.size a := fun i k0_t5 v140 v1297 v1307 k0_hw436 k0_h5 => k0_hw436.2 k0_h5

def k0_chk437 (i : grid0.Coords) (k0_t5 : Fin (k0_t5_loop i).trips) (v140 : BitVec 32) (v1297 : IVec S16 32) (v1309 : IVec S16 32) : Prop :=
  (∀ (k0_h5 : ¬(k0_cond5 v140 = 1#1)), ∀ a x, ((![v1297, v1309] : Fin 2 → IVec S16 32) a x).toNat < S256x128.size a) ∧
  (∀ (k0_h5 : ¬(k0_cond5 v140 = 1#1)), ∀ a x, ((![v1297, v1309] : Fin 2 → IVec S16 32) a x).toNat < S256x128.size a)
theorem k0_idx786_inb : ∀ (i : grid0.Coords) (k0_t5 : Fin (k0_t5_loop i).trips) (v140 : BitVec 32) (v1297 : IVec S16 32) (v1309 : IVec S16 32) (k0_hw437 : k0_chk437 i k0_t5 v140 v1297 v1309), ∀ (k0_h5 : ¬(k0_cond5 v140 = 1#1)), ∀ a x, ((![v1297, v1309] : Fin 2 → IVec S16 32) a x).toNat < S256x128.size a := fun i k0_t5 v140 v1297 v1309 k0_hw437 k0_h5 => k0_hw437.1 k0_h5
theorem k0_idx787_inb : ∀ (i : grid0.Coords) (k0_t5 : Fin (k0_t5_loop i).trips) (v140 : BitVec 32) (v1297 : IVec S16 32) (v1309 : IVec S16 32) (k0_hw437 : k0_chk437 i k0_t5 v140 v1297 v1309), ∀ (k0_h5 : ¬(k0_cond5 v140 = 1#1)), ∀ a x, ((![v1297, v1309] : Fin 2 → IVec S16 32) a x).toNat < S256x128.size a := fun i k0_t5 v140 v1297 v1309 k0_hw437 k0_h5 => k0_hw437.2 k0_h5

def k0_chk438 (i : grid0.Coords) (k0_t5 : Fin (k0_t5_loop i).trips) (v140 : BitVec 32) (v1297 : IVec S16 32) (v1311 : IVec S16 32) : Prop :=
  (∀ (k0_h5 : ¬(k0_cond5 v140 = 1#1)), ∀ a x, ((![v1297, v1311] : Fin 2 → IVec S16 32) a x).toNat < S256x128.size a) ∧
  (∀ (k0_h5 : ¬(k0_cond5 v140 = 1#1)), ∀ a x, ((![v1297, v1311] : Fin 2 → IVec S16 32) a x).toNat < S256x128.size a)
theorem k0_idx788_inb : ∀ (i : grid0.Coords) (k0_t5 : Fin (k0_t5_loop i).trips) (v140 : BitVec 32) (v1297 : IVec S16 32) (v1311 : IVec S16 32) (k0_hw438 : k0_chk438 i k0_t5 v140 v1297 v1311), ∀ (k0_h5 : ¬(k0_cond5 v140 = 1#1)), ∀ a x, ((![v1297, v1311] : Fin 2 → IVec S16 32) a x).toNat < S256x128.size a := fun i k0_t5 v140 v1297 v1311 k0_hw438 k0_h5 => k0_hw438.1 k0_h5
theorem k0_idx789_inb : ∀ (i : grid0.Coords) (k0_t5 : Fin (k0_t5_loop i).trips) (v140 : BitVec 32) (v1297 : IVec S16 32) (v1311 : IVec S16 32) (k0_hw438 : k0_chk438 i k0_t5 v140 v1297 v1311), ∀ (k0_h5 : ¬(k0_cond5 v140 = 1#1)), ∀ a x, ((![v1297, v1311] : Fin 2 → IVec S16 32) a x).toNat < S256x128.size a := fun i k0_t5 v140 v1297 v1311 k0_hw438 k0_h5 => k0_hw438.2 k0_h5

def k0_chk439 (i : grid0.Coords) (k0_t5 : Fin (k0_t5_loop i).trips) (v140 : BitVec 32) (v1297 : IVec S16 32) (v1313 : IVec S16 32) : Prop :=
  (∀ (k0_h5 : ¬(k0_cond5 v140 = 1#1)), ∀ a x, ((![v1297, v1313] : Fin 2 → IVec S16 32) a x).toNat < S256x128.size a) ∧
  (∀ (k0_h5 : ¬(k0_cond5 v140 = 1#1)), ∀ a x, ((![v1297, v1313] : Fin 2 → IVec S16 32) a x).toNat < S256x128.size a)
theorem k0_idx790_inb : ∀ (i : grid0.Coords) (k0_t5 : Fin (k0_t5_loop i).trips) (v140 : BitVec 32) (v1297 : IVec S16 32) (v1313 : IVec S16 32) (k0_hw439 : k0_chk439 i k0_t5 v140 v1297 v1313), ∀ (k0_h5 : ¬(k0_cond5 v140 = 1#1)), ∀ a x, ((![v1297, v1313] : Fin 2 → IVec S16 32) a x).toNat < S256x128.size a := fun i k0_t5 v140 v1297 v1313 k0_hw439 k0_h5 => k0_hw439.1 k0_h5
theorem k0_idx791_inb : ∀ (i : grid0.Coords) (k0_t5 : Fin (k0_t5_loop i).trips) (v140 : BitVec 32) (v1297 : IVec S16 32) (v1313 : IVec S16 32) (k0_hw439 : k0_chk439 i k0_t5 v140 v1297 v1313), ∀ (k0_h5 : ¬(k0_cond5 v140 = 1#1)), ∀ a x, ((![v1297, v1313] : Fin 2 → IVec S16 32) a x).toNat < S256x128.size a := fun i k0_t5 v140 v1297 v1313 k0_hw439 k0_h5 => k0_hw439.2 k0_h5

def k0_chk440 (i : grid0.Coords) (v2 : IVec S16 32) (k0_t5 : Fin (k0_t5_loop i).trips) (v140 : BitVec 32) (v1297 : IVec S16 32) : Prop :=
  (∀ (k0_h5 : ¬(k0_cond5 v140 = 1#1)), ∀ a x, ((![v1297, v2] : Fin 2 → IVec S16 32) a x).toNat < S256x16.size a)
theorem k0_idx792_inb : ∀ (i : grid0.Coords) (v2 : IVec S16 32) (k0_t5 : Fin (k0_t5_loop i).trips) (v140 : BitVec 32) (v1297 : IVec S16 32) (k0_hw440 : k0_chk440 i v2 k0_t5 v140 v1297), ∀ (k0_h5 : ¬(k0_cond5 v140 = 1#1)), ∀ a x, ((![v1297, v2] : Fin 2 → IVec S16 32) a x).toNat < S256x16.size a := fun i v2 k0_t5 v140 v1297 k0_hw440 k0_h5 => k0_hw440 k0_h5

def k0_chk441 (i : grid0.Coords) (k0_t5 : Fin (k0_t5_loop i).trips) (v140 : BitVec 32) (v1358 : IVec S16 32) : Prop :=
  (∀ (k0_h5 : ¬(k0_cond5 v140 = 1#1)), ∀ a x, ((![v1358] : Fin 1 → IVec S16 32) a x).toNat < S3136.size a)
theorem k0_idx793_inb : ∀ (i : grid0.Coords) (k0_t5 : Fin (k0_t5_loop i).trips) (v140 : BitVec 32) (v1358 : IVec S16 32) (k0_hw441 : k0_chk441 i k0_t5 v140 v1358), ∀ (k0_h5 : ¬(k0_cond5 v140 = 1#1)), ∀ a x, ((![v1358] : Fin 1 → IVec S16 32) a x).toNat < S3136.size a := fun i k0_t5 v140 v1358 k0_hw441 k0_h5 => k0_hw441 k0_h5
def k0_off395 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1361 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c12_i32_423 : BitVec 32 := 12#32
  let v1360 : BitVec 32 := Scalar.addi v126 c12_i32_423
  let v1362 : Index := Scalar.indexCast v1360
  let c0_424 : Index := 0#32
  ![v1361.toNat, v1362.toNat, 0]
def k0_off396 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1365 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c12_i32_425 : BitVec 32 := 12#32
  let v1364 : BitVec 32 := Scalar.addi v126 c12_i32_425
  let v1366 : Index := Scalar.indexCast v1364
  let c16_426 : Index := 16#32
  ![v1365.toNat, v1366.toNat, 16]
def k0_off397 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1369 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c12_i32_427 : BitVec 32 := 12#32
  let v1368 : BitVec 32 := Scalar.addi v126 c12_i32_427
  let v1370 : Index := Scalar.indexCast v1368
  let c32_428 : Index := 32#32
  ![v1369.toNat, v1370.toNat, 32]
def k0_off398 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1373 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c12_i32_429 : BitVec 32 := 12#32
  let v1372 : BitVec 32 := Scalar.addi v126 c12_i32_429
  let v1374 : Index := Scalar.indexCast v1372
  let c48_430 : Index := 48#32
  ![v1373.toNat, v1374.toNat, 48]
def k0_off399 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1377 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c12_i32_431 : BitVec 32 := 12#32
  let v1376 : BitVec 32 := Scalar.addi v126 c12_i32_431
  let v1378 : Index := Scalar.indexCast v1376
  let c64_432 : Index := 64#32
  ![v1377.toNat, v1378.toNat, 64]
def k0_off400 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1381 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c12_i32_433 : BitVec 32 := 12#32
  let v1380 : BitVec 32 := Scalar.addi v126 c12_i32_433
  let v1382 : Index := Scalar.indexCast v1380
  let c80_434 : Index := 80#32
  ![v1381.toNat, v1382.toNat, 80]
def k0_off401 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1385 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c12_i32_435 : BitVec 32 := 12#32
  let v1384 : BitVec 32 := Scalar.addi v126 c12_i32_435
  let v1386 : Index := Scalar.indexCast v1384
  let c96_436 : Index := 96#32
  ![v1385.toNat, v1386.toNat, 96]
def k0_off402 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1389 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c12_i32_437 : BitVec 32 := 12#32
  let v1388 : BitVec 32 := Scalar.addi v126 c12_i32_437
  let v1390 : Index := Scalar.indexCast v1388
  let c112_438 : Index := 112#32
  ![v1389.toNat, v1390.toNat, 112]

def k0_chk442 (i : grid0.Coords) (k0_t5 : Fin (k0_t5_loop i).trips) (v140 : BitVec 32) (v1398 : IVec S16 32) (v1400 : IVec S16 32) : Prop :=
  (∀ (k0_h5 : ¬(k0_cond5 v140 = 1#1)), ∀ a x, ((![v1398, v1400] : Fin 2 → IVec S16 32) a x).toNat < S256x128.size a) ∧
  (∀ (k0_h5 : ¬(k0_cond5 v140 = 1#1)), ∀ a x, ((![v1398, v1400] : Fin 2 → IVec S16 32) a x).toNat < S256x128.size a)
theorem k0_idx794_inb : ∀ (i : grid0.Coords) (k0_t5 : Fin (k0_t5_loop i).trips) (v140 : BitVec 32) (v1398 : IVec S16 32) (v1400 : IVec S16 32) (k0_hw442 : k0_chk442 i k0_t5 v140 v1398 v1400), ∀ (k0_h5 : ¬(k0_cond5 v140 = 1#1)), ∀ a x, ((![v1398, v1400] : Fin 2 → IVec S16 32) a x).toNat < S256x128.size a := fun i k0_t5 v140 v1398 v1400 k0_hw442 k0_h5 => k0_hw442.1 k0_h5
theorem k0_idx795_inb : ∀ (i : grid0.Coords) (k0_t5 : Fin (k0_t5_loop i).trips) (v140 : BitVec 32) (v1398 : IVec S16 32) (v1400 : IVec S16 32) (k0_hw442 : k0_chk442 i k0_t5 v140 v1398 v1400), ∀ (k0_h5 : ¬(k0_cond5 v140 = 1#1)), ∀ a x, ((![v1398, v1400] : Fin 2 → IVec S16 32) a x).toNat < S256x128.size a := fun i k0_t5 v140 v1398 v1400 k0_hw442 k0_h5 => k0_hw442.2 k0_h5

def k0_chk443 (i : grid0.Coords) (k0_t5 : Fin (k0_t5_loop i).trips) (v140 : BitVec 32) (v1398 : IVec S16 32) (v1402 : IVec S16 32) : Prop :=
  (∀ (k0_h5 : ¬(k0_cond5 v140 = 1#1)), ∀ a x, ((![v1398, v1402] : Fin 2 → IVec S16 32) a x).toNat < S256x128.size a) ∧
  (∀ (k0_h5 : ¬(k0_cond5 v140 = 1#1)), ∀ a x, ((![v1398, v1402] : Fin 2 → IVec S16 32) a x).toNat < S256x128.size a)
theorem k0_idx796_inb : ∀ (i : grid0.Coords) (k0_t5 : Fin (k0_t5_loop i).trips) (v140 : BitVec 32) (v1398 : IVec S16 32) (v1402 : IVec S16 32) (k0_hw443 : k0_chk443 i k0_t5 v140 v1398 v1402), ∀ (k0_h5 : ¬(k0_cond5 v140 = 1#1)), ∀ a x, ((![v1398, v1402] : Fin 2 → IVec S16 32) a x).toNat < S256x128.size a := fun i k0_t5 v140 v1398 v1402 k0_hw443 k0_h5 => k0_hw443.1 k0_h5
theorem k0_idx797_inb : ∀ (i : grid0.Coords) (k0_t5 : Fin (k0_t5_loop i).trips) (v140 : BitVec 32) (v1398 : IVec S16 32) (v1402 : IVec S16 32) (k0_hw443 : k0_chk443 i k0_t5 v140 v1398 v1402), ∀ (k0_h5 : ¬(k0_cond5 v140 = 1#1)), ∀ a x, ((![v1398, v1402] : Fin 2 → IVec S16 32) a x).toNat < S256x128.size a := fun i k0_t5 v140 v1398 v1402 k0_hw443 k0_h5 => k0_hw443.2 k0_h5

def k0_chk444 (i : grid0.Coords) (k0_t5 : Fin (k0_t5_loop i).trips) (v140 : BitVec 32) (v1398 : IVec S16 32) (v1404 : IVec S16 32) : Prop :=
  (∀ (k0_h5 : ¬(k0_cond5 v140 = 1#1)), ∀ a x, ((![v1398, v1404] : Fin 2 → IVec S16 32) a x).toNat < S256x128.size a) ∧
  (∀ (k0_h5 : ¬(k0_cond5 v140 = 1#1)), ∀ a x, ((![v1398, v1404] : Fin 2 → IVec S16 32) a x).toNat < S256x128.size a)
theorem k0_idx798_inb : ∀ (i : grid0.Coords) (k0_t5 : Fin (k0_t5_loop i).trips) (v140 : BitVec 32) (v1398 : IVec S16 32) (v1404 : IVec S16 32) (k0_hw444 : k0_chk444 i k0_t5 v140 v1398 v1404), ∀ (k0_h5 : ¬(k0_cond5 v140 = 1#1)), ∀ a x, ((![v1398, v1404] : Fin 2 → IVec S16 32) a x).toNat < S256x128.size a := fun i k0_t5 v140 v1398 v1404 k0_hw444 k0_h5 => k0_hw444.1 k0_h5
theorem k0_idx799_inb : ∀ (i : grid0.Coords) (k0_t5 : Fin (k0_t5_loop i).trips) (v140 : BitVec 32) (v1398 : IVec S16 32) (v1404 : IVec S16 32) (k0_hw444 : k0_chk444 i k0_t5 v140 v1398 v1404), ∀ (k0_h5 : ¬(k0_cond5 v140 = 1#1)), ∀ a x, ((![v1398, v1404] : Fin 2 → IVec S16 32) a x).toNat < S256x128.size a := fun i k0_t5 v140 v1398 v1404 k0_hw444 k0_h5 => k0_hw444.2 k0_h5

def k0_chk445 (i : grid0.Coords) (k0_t5 : Fin (k0_t5_loop i).trips) (v140 : BitVec 32) (v1398 : IVec S16 32) (v1406 : IVec S16 32) : Prop :=
  (∀ (k0_h5 : ¬(k0_cond5 v140 = 1#1)), ∀ a x, ((![v1398, v1406] : Fin 2 → IVec S16 32) a x).toNat < S256x128.size a) ∧
  (∀ (k0_h5 : ¬(k0_cond5 v140 = 1#1)), ∀ a x, ((![v1398, v1406] : Fin 2 → IVec S16 32) a x).toNat < S256x128.size a)
theorem k0_idx800_inb : ∀ (i : grid0.Coords) (k0_t5 : Fin (k0_t5_loop i).trips) (v140 : BitVec 32) (v1398 : IVec S16 32) (v1406 : IVec S16 32) (k0_hw445 : k0_chk445 i k0_t5 v140 v1398 v1406), ∀ (k0_h5 : ¬(k0_cond5 v140 = 1#1)), ∀ a x, ((![v1398, v1406] : Fin 2 → IVec S16 32) a x).toNat < S256x128.size a := fun i k0_t5 v140 v1398 v1406 k0_hw445 k0_h5 => k0_hw445.1 k0_h5
theorem k0_idx801_inb : ∀ (i : grid0.Coords) (k0_t5 : Fin (k0_t5_loop i).trips) (v140 : BitVec 32) (v1398 : IVec S16 32) (v1406 : IVec S16 32) (k0_hw445 : k0_chk445 i k0_t5 v140 v1398 v1406), ∀ (k0_h5 : ¬(k0_cond5 v140 = 1#1)), ∀ a x, ((![v1398, v1406] : Fin 2 → IVec S16 32) a x).toNat < S256x128.size a := fun i k0_t5 v140 v1398 v1406 k0_hw445 k0_h5 => k0_hw445.2 k0_h5

def k0_chk446 (i : grid0.Coords) (k0_t5 : Fin (k0_t5_loop i).trips) (v140 : BitVec 32) (v1398 : IVec S16 32) (v1408 : IVec S16 32) : Prop :=
  (∀ (k0_h5 : ¬(k0_cond5 v140 = 1#1)), ∀ a x, ((![v1398, v1408] : Fin 2 → IVec S16 32) a x).toNat < S256x128.size a) ∧
  (∀ (k0_h5 : ¬(k0_cond5 v140 = 1#1)), ∀ a x, ((![v1398, v1408] : Fin 2 → IVec S16 32) a x).toNat < S256x128.size a)
theorem k0_idx802_inb : ∀ (i : grid0.Coords) (k0_t5 : Fin (k0_t5_loop i).trips) (v140 : BitVec 32) (v1398 : IVec S16 32) (v1408 : IVec S16 32) (k0_hw446 : k0_chk446 i k0_t5 v140 v1398 v1408), ∀ (k0_h5 : ¬(k0_cond5 v140 = 1#1)), ∀ a x, ((![v1398, v1408] : Fin 2 → IVec S16 32) a x).toNat < S256x128.size a := fun i k0_t5 v140 v1398 v1408 k0_hw446 k0_h5 => k0_hw446.1 k0_h5
theorem k0_idx803_inb : ∀ (i : grid0.Coords) (k0_t5 : Fin (k0_t5_loop i).trips) (v140 : BitVec 32) (v1398 : IVec S16 32) (v1408 : IVec S16 32) (k0_hw446 : k0_chk446 i k0_t5 v140 v1398 v1408), ∀ (k0_h5 : ¬(k0_cond5 v140 = 1#1)), ∀ a x, ((![v1398, v1408] : Fin 2 → IVec S16 32) a x).toNat < S256x128.size a := fun i k0_t5 v140 v1398 v1408 k0_hw446 k0_h5 => k0_hw446.2 k0_h5

def k0_chk447 (i : grid0.Coords) (k0_t5 : Fin (k0_t5_loop i).trips) (v140 : BitVec 32) (v1398 : IVec S16 32) (v1410 : IVec S16 32) : Prop :=
  (∀ (k0_h5 : ¬(k0_cond5 v140 = 1#1)), ∀ a x, ((![v1398, v1410] : Fin 2 → IVec S16 32) a x).toNat < S256x128.size a) ∧
  (∀ (k0_h5 : ¬(k0_cond5 v140 = 1#1)), ∀ a x, ((![v1398, v1410] : Fin 2 → IVec S16 32) a x).toNat < S256x128.size a)
theorem k0_idx804_inb : ∀ (i : grid0.Coords) (k0_t5 : Fin (k0_t5_loop i).trips) (v140 : BitVec 32) (v1398 : IVec S16 32) (v1410 : IVec S16 32) (k0_hw447 : k0_chk447 i k0_t5 v140 v1398 v1410), ∀ (k0_h5 : ¬(k0_cond5 v140 = 1#1)), ∀ a x, ((![v1398, v1410] : Fin 2 → IVec S16 32) a x).toNat < S256x128.size a := fun i k0_t5 v140 v1398 v1410 k0_hw447 k0_h5 => k0_hw447.1 k0_h5
theorem k0_idx805_inb : ∀ (i : grid0.Coords) (k0_t5 : Fin (k0_t5_loop i).trips) (v140 : BitVec 32) (v1398 : IVec S16 32) (v1410 : IVec S16 32) (k0_hw447 : k0_chk447 i k0_t5 v140 v1398 v1410), ∀ (k0_h5 : ¬(k0_cond5 v140 = 1#1)), ∀ a x, ((![v1398, v1410] : Fin 2 → IVec S16 32) a x).toNat < S256x128.size a := fun i k0_t5 v140 v1398 v1410 k0_hw447 k0_h5 => k0_hw447.2 k0_h5

def k0_chk448 (i : grid0.Coords) (k0_t5 : Fin (k0_t5_loop i).trips) (v140 : BitVec 32) (v1398 : IVec S16 32) (v1412 : IVec S16 32) : Prop :=
  (∀ (k0_h5 : ¬(k0_cond5 v140 = 1#1)), ∀ a x, ((![v1398, v1412] : Fin 2 → IVec S16 32) a x).toNat < S256x128.size a) ∧
  (∀ (k0_h5 : ¬(k0_cond5 v140 = 1#1)), ∀ a x, ((![v1398, v1412] : Fin 2 → IVec S16 32) a x).toNat < S256x128.size a)
theorem k0_idx806_inb : ∀ (i : grid0.Coords) (k0_t5 : Fin (k0_t5_loop i).trips) (v140 : BitVec 32) (v1398 : IVec S16 32) (v1412 : IVec S16 32) (k0_hw448 : k0_chk448 i k0_t5 v140 v1398 v1412), ∀ (k0_h5 : ¬(k0_cond5 v140 = 1#1)), ∀ a x, ((![v1398, v1412] : Fin 2 → IVec S16 32) a x).toNat < S256x128.size a := fun i k0_t5 v140 v1398 v1412 k0_hw448 k0_h5 => k0_hw448.1 k0_h5
theorem k0_idx807_inb : ∀ (i : grid0.Coords) (k0_t5 : Fin (k0_t5_loop i).trips) (v140 : BitVec 32) (v1398 : IVec S16 32) (v1412 : IVec S16 32) (k0_hw448 : k0_chk448 i k0_t5 v140 v1398 v1412), ∀ (k0_h5 : ¬(k0_cond5 v140 = 1#1)), ∀ a x, ((![v1398, v1412] : Fin 2 → IVec S16 32) a x).toNat < S256x128.size a := fun i k0_t5 v140 v1398 v1412 k0_hw448 k0_h5 => k0_hw448.2 k0_h5

def k0_chk449 (i : grid0.Coords) (k0_t5 : Fin (k0_t5_loop i).trips) (v140 : BitVec 32) (v1398 : IVec S16 32) (v1414 : IVec S16 32) : Prop :=
  (∀ (k0_h5 : ¬(k0_cond5 v140 = 1#1)), ∀ a x, ((![v1398, v1414] : Fin 2 → IVec S16 32) a x).toNat < S256x128.size a) ∧
  (∀ (k0_h5 : ¬(k0_cond5 v140 = 1#1)), ∀ a x, ((![v1398, v1414] : Fin 2 → IVec S16 32) a x).toNat < S256x128.size a)
theorem k0_idx808_inb : ∀ (i : grid0.Coords) (k0_t5 : Fin (k0_t5_loop i).trips) (v140 : BitVec 32) (v1398 : IVec S16 32) (v1414 : IVec S16 32) (k0_hw449 : k0_chk449 i k0_t5 v140 v1398 v1414), ∀ (k0_h5 : ¬(k0_cond5 v140 = 1#1)), ∀ a x, ((![v1398, v1414] : Fin 2 → IVec S16 32) a x).toNat < S256x128.size a := fun i k0_t5 v140 v1398 v1414 k0_hw449 k0_h5 => k0_hw449.1 k0_h5
theorem k0_idx809_inb : ∀ (i : grid0.Coords) (k0_t5 : Fin (k0_t5_loop i).trips) (v140 : BitVec 32) (v1398 : IVec S16 32) (v1414 : IVec S16 32) (k0_hw449 : k0_chk449 i k0_t5 v140 v1398 v1414), ∀ (k0_h5 : ¬(k0_cond5 v140 = 1#1)), ∀ a x, ((![v1398, v1414] : Fin 2 → IVec S16 32) a x).toNat < S256x128.size a := fun i k0_t5 v140 v1398 v1414 k0_hw449 k0_h5 => k0_hw449.2 k0_h5

def k0_chk450 (i : grid0.Coords) (v2 : IVec S16 32) (k0_t5 : Fin (k0_t5_loop i).trips) (v140 : BitVec 32) (v1398 : IVec S16 32) : Prop :=
  (∀ (k0_h5 : ¬(k0_cond5 v140 = 1#1)), ∀ a x, ((![v1398, v2] : Fin 2 → IVec S16 32) a x).toNat < S256x16.size a)
theorem k0_idx810_inb : ∀ (i : grid0.Coords) (v2 : IVec S16 32) (k0_t5 : Fin (k0_t5_loop i).trips) (v140 : BitVec 32) (v1398 : IVec S16 32) (k0_hw450 : k0_chk450 i v2 k0_t5 v140 v1398), ∀ (k0_h5 : ¬(k0_cond5 v140 = 1#1)), ∀ a x, ((![v1398, v2] : Fin 2 → IVec S16 32) a x).toNat < S256x16.size a := fun i v2 k0_t5 v140 v1398 k0_hw450 k0_h5 => k0_hw450 k0_h5

def k0_chk451 (i : grid0.Coords) (k0_t5 : Fin (k0_t5_loop i).trips) (v140 : BitVec 32) (v1459 : IVec S16 32) : Prop :=
  (∀ (k0_h5 : ¬(k0_cond5 v140 = 1#1)), ∀ a x, ((![v1459] : Fin 1 → IVec S16 32) a x).toNat < S3136.size a)
theorem k0_idx811_inb : ∀ (i : grid0.Coords) (k0_t5 : Fin (k0_t5_loop i).trips) (v140 : BitVec 32) (v1459 : IVec S16 32) (k0_hw451 : k0_chk451 i k0_t5 v140 v1459), ∀ (k0_h5 : ¬(k0_cond5 v140 = 1#1)), ∀ a x, ((![v1459] : Fin 1 → IVec S16 32) a x).toNat < S3136.size a := fun i k0_t5 v140 v1459 k0_hw451 k0_h5 => k0_hw451 k0_h5
def k0_off403 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1462 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c13_i32_453 : BitVec 32 := 13#32
  let v1461 : BitVec 32 := Scalar.addi v126 c13_i32_453
  let v1463 : Index := Scalar.indexCast v1461
  let c0_454 : Index := 0#32
  ![v1462.toNat, v1463.toNat, 0]
def k0_off404 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1466 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c13_i32_455 : BitVec 32 := 13#32
  let v1465 : BitVec 32 := Scalar.addi v126 c13_i32_455
  let v1467 : Index := Scalar.indexCast v1465
  let c16_456 : Index := 16#32
  ![v1466.toNat, v1467.toNat, 16]
def k0_off405 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1470 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c13_i32_457 : BitVec 32 := 13#32
  let v1469 : BitVec 32 := Scalar.addi v126 c13_i32_457
  let v1471 : Index := Scalar.indexCast v1469
  let c32_458 : Index := 32#32
  ![v1470.toNat, v1471.toNat, 32]
def k0_off406 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1474 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c13_i32_459 : BitVec 32 := 13#32
  let v1473 : BitVec 32 := Scalar.addi v126 c13_i32_459
  let v1475 : Index := Scalar.indexCast v1473
  let c48_460 : Index := 48#32
  ![v1474.toNat, v1475.toNat, 48]
def k0_off407 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1478 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c13_i32_461 : BitVec 32 := 13#32
  let v1477 : BitVec 32 := Scalar.addi v126 c13_i32_461
  let v1479 : Index := Scalar.indexCast v1477
  let c64_462 : Index := 64#32
  ![v1478.toNat, v1479.toNat, 64]
def k0_off408 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1482 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c13_i32_463 : BitVec 32 := 13#32
  let v1481 : BitVec 32 := Scalar.addi v126 c13_i32_463
  let v1483 : Index := Scalar.indexCast v1481
  let c80_464 : Index := 80#32
  ![v1482.toNat, v1483.toNat, 80]
def k0_off409 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1486 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c13_i32_465 : BitVec 32 := 13#32
  let v1485 : BitVec 32 := Scalar.addi v126 c13_i32_465
  let v1487 : Index := Scalar.indexCast v1485
  let c96_466 : Index := 96#32
  ![v1486.toNat, v1487.toNat, 96]
def k0_off410 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1490 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c13_i32_467 : BitVec 32 := 13#32
  let v1489 : BitVec 32 := Scalar.addi v126 c13_i32_467
  let v1491 : Index := Scalar.indexCast v1489
  let c112_468 : Index := 112#32
  ![v1490.toNat, v1491.toNat, 112]

def k0_chk452 (i : grid0.Coords) (k0_t5 : Fin (k0_t5_loop i).trips) (v140 : BitVec 32) (v1499 : IVec S16 32) (v1501 : IVec S16 32) : Prop :=
  (∀ (k0_h5 : ¬(k0_cond5 v140 = 1#1)), ∀ a x, ((![v1499, v1501] : Fin 2 → IVec S16 32) a x).toNat < S256x128.size a) ∧
  (∀ (k0_h5 : ¬(k0_cond5 v140 = 1#1)), ∀ a x, ((![v1499, v1501] : Fin 2 → IVec S16 32) a x).toNat < S256x128.size a)
theorem k0_idx812_inb : ∀ (i : grid0.Coords) (k0_t5 : Fin (k0_t5_loop i).trips) (v140 : BitVec 32) (v1499 : IVec S16 32) (v1501 : IVec S16 32) (k0_hw452 : k0_chk452 i k0_t5 v140 v1499 v1501), ∀ (k0_h5 : ¬(k0_cond5 v140 = 1#1)), ∀ a x, ((![v1499, v1501] : Fin 2 → IVec S16 32) a x).toNat < S256x128.size a := fun i k0_t5 v140 v1499 v1501 k0_hw452 k0_h5 => k0_hw452.1 k0_h5
theorem k0_idx813_inb : ∀ (i : grid0.Coords) (k0_t5 : Fin (k0_t5_loop i).trips) (v140 : BitVec 32) (v1499 : IVec S16 32) (v1501 : IVec S16 32) (k0_hw452 : k0_chk452 i k0_t5 v140 v1499 v1501), ∀ (k0_h5 : ¬(k0_cond5 v140 = 1#1)), ∀ a x, ((![v1499, v1501] : Fin 2 → IVec S16 32) a x).toNat < S256x128.size a := fun i k0_t5 v140 v1499 v1501 k0_hw452 k0_h5 => k0_hw452.2 k0_h5

def k0_chk453 (i : grid0.Coords) (k0_t5 : Fin (k0_t5_loop i).trips) (v140 : BitVec 32) (v1499 : IVec S16 32) (v1503 : IVec S16 32) : Prop :=
  (∀ (k0_h5 : ¬(k0_cond5 v140 = 1#1)), ∀ a x, ((![v1499, v1503] : Fin 2 → IVec S16 32) a x).toNat < S256x128.size a) ∧
  (∀ (k0_h5 : ¬(k0_cond5 v140 = 1#1)), ∀ a x, ((![v1499, v1503] : Fin 2 → IVec S16 32) a x).toNat < S256x128.size a)
theorem k0_idx814_inb : ∀ (i : grid0.Coords) (k0_t5 : Fin (k0_t5_loop i).trips) (v140 : BitVec 32) (v1499 : IVec S16 32) (v1503 : IVec S16 32) (k0_hw453 : k0_chk453 i k0_t5 v140 v1499 v1503), ∀ (k0_h5 : ¬(k0_cond5 v140 = 1#1)), ∀ a x, ((![v1499, v1503] : Fin 2 → IVec S16 32) a x).toNat < S256x128.size a := fun i k0_t5 v140 v1499 v1503 k0_hw453 k0_h5 => k0_hw453.1 k0_h5
theorem k0_idx815_inb : ∀ (i : grid0.Coords) (k0_t5 : Fin (k0_t5_loop i).trips) (v140 : BitVec 32) (v1499 : IVec S16 32) (v1503 : IVec S16 32) (k0_hw453 : k0_chk453 i k0_t5 v140 v1499 v1503), ∀ (k0_h5 : ¬(k0_cond5 v140 = 1#1)), ∀ a x, ((![v1499, v1503] : Fin 2 → IVec S16 32) a x).toNat < S256x128.size a := fun i k0_t5 v140 v1499 v1503 k0_hw453 k0_h5 => k0_hw453.2 k0_h5

def k0_chk454 (i : grid0.Coords) (k0_t5 : Fin (k0_t5_loop i).trips) (v140 : BitVec 32) (v1499 : IVec S16 32) (v1505 : IVec S16 32) : Prop :=
  (∀ (k0_h5 : ¬(k0_cond5 v140 = 1#1)), ∀ a x, ((![v1499, v1505] : Fin 2 → IVec S16 32) a x).toNat < S256x128.size a) ∧
  (∀ (k0_h5 : ¬(k0_cond5 v140 = 1#1)), ∀ a x, ((![v1499, v1505] : Fin 2 → IVec S16 32) a x).toNat < S256x128.size a)
theorem k0_idx816_inb : ∀ (i : grid0.Coords) (k0_t5 : Fin (k0_t5_loop i).trips) (v140 : BitVec 32) (v1499 : IVec S16 32) (v1505 : IVec S16 32) (k0_hw454 : k0_chk454 i k0_t5 v140 v1499 v1505), ∀ (k0_h5 : ¬(k0_cond5 v140 = 1#1)), ∀ a x, ((![v1499, v1505] : Fin 2 → IVec S16 32) a x).toNat < S256x128.size a := fun i k0_t5 v140 v1499 v1505 k0_hw454 k0_h5 => k0_hw454.1 k0_h5
theorem k0_idx817_inb : ∀ (i : grid0.Coords) (k0_t5 : Fin (k0_t5_loop i).trips) (v140 : BitVec 32) (v1499 : IVec S16 32) (v1505 : IVec S16 32) (k0_hw454 : k0_chk454 i k0_t5 v140 v1499 v1505), ∀ (k0_h5 : ¬(k0_cond5 v140 = 1#1)), ∀ a x, ((![v1499, v1505] : Fin 2 → IVec S16 32) a x).toNat < S256x128.size a := fun i k0_t5 v140 v1499 v1505 k0_hw454 k0_h5 => k0_hw454.2 k0_h5

def k0_chk455 (i : grid0.Coords) (k0_t5 : Fin (k0_t5_loop i).trips) (v140 : BitVec 32) (v1499 : IVec S16 32) (v1507 : IVec S16 32) : Prop :=
  (∀ (k0_h5 : ¬(k0_cond5 v140 = 1#1)), ∀ a x, ((![v1499, v1507] : Fin 2 → IVec S16 32) a x).toNat < S256x128.size a) ∧
  (∀ (k0_h5 : ¬(k0_cond5 v140 = 1#1)), ∀ a x, ((![v1499, v1507] : Fin 2 → IVec S16 32) a x).toNat < S256x128.size a)
theorem k0_idx818_inb : ∀ (i : grid0.Coords) (k0_t5 : Fin (k0_t5_loop i).trips) (v140 : BitVec 32) (v1499 : IVec S16 32) (v1507 : IVec S16 32) (k0_hw455 : k0_chk455 i k0_t5 v140 v1499 v1507), ∀ (k0_h5 : ¬(k0_cond5 v140 = 1#1)), ∀ a x, ((![v1499, v1507] : Fin 2 → IVec S16 32) a x).toNat < S256x128.size a := fun i k0_t5 v140 v1499 v1507 k0_hw455 k0_h5 => k0_hw455.1 k0_h5
theorem k0_idx819_inb : ∀ (i : grid0.Coords) (k0_t5 : Fin (k0_t5_loop i).trips) (v140 : BitVec 32) (v1499 : IVec S16 32) (v1507 : IVec S16 32) (k0_hw455 : k0_chk455 i k0_t5 v140 v1499 v1507), ∀ (k0_h5 : ¬(k0_cond5 v140 = 1#1)), ∀ a x, ((![v1499, v1507] : Fin 2 → IVec S16 32) a x).toNat < S256x128.size a := fun i k0_t5 v140 v1499 v1507 k0_hw455 k0_h5 => k0_hw455.2 k0_h5

def k0_chk456 (i : grid0.Coords) (k0_t5 : Fin (k0_t5_loop i).trips) (v140 : BitVec 32) (v1499 : IVec S16 32) (v1509 : IVec S16 32) : Prop :=
  (∀ (k0_h5 : ¬(k0_cond5 v140 = 1#1)), ∀ a x, ((![v1499, v1509] : Fin 2 → IVec S16 32) a x).toNat < S256x128.size a) ∧
  (∀ (k0_h5 : ¬(k0_cond5 v140 = 1#1)), ∀ a x, ((![v1499, v1509] : Fin 2 → IVec S16 32) a x).toNat < S256x128.size a)
theorem k0_idx820_inb : ∀ (i : grid0.Coords) (k0_t5 : Fin (k0_t5_loop i).trips) (v140 : BitVec 32) (v1499 : IVec S16 32) (v1509 : IVec S16 32) (k0_hw456 : k0_chk456 i k0_t5 v140 v1499 v1509), ∀ (k0_h5 : ¬(k0_cond5 v140 = 1#1)), ∀ a x, ((![v1499, v1509] : Fin 2 → IVec S16 32) a x).toNat < S256x128.size a := fun i k0_t5 v140 v1499 v1509 k0_hw456 k0_h5 => k0_hw456.1 k0_h5
theorem k0_idx821_inb : ∀ (i : grid0.Coords) (k0_t5 : Fin (k0_t5_loop i).trips) (v140 : BitVec 32) (v1499 : IVec S16 32) (v1509 : IVec S16 32) (k0_hw456 : k0_chk456 i k0_t5 v140 v1499 v1509), ∀ (k0_h5 : ¬(k0_cond5 v140 = 1#1)), ∀ a x, ((![v1499, v1509] : Fin 2 → IVec S16 32) a x).toNat < S256x128.size a := fun i k0_t5 v140 v1499 v1509 k0_hw456 k0_h5 => k0_hw456.2 k0_h5

def k0_chk457 (i : grid0.Coords) (k0_t5 : Fin (k0_t5_loop i).trips) (v140 : BitVec 32) (v1499 : IVec S16 32) (v1511 : IVec S16 32) : Prop :=
  (∀ (k0_h5 : ¬(k0_cond5 v140 = 1#1)), ∀ a x, ((![v1499, v1511] : Fin 2 → IVec S16 32) a x).toNat < S256x128.size a) ∧
  (∀ (k0_h5 : ¬(k0_cond5 v140 = 1#1)), ∀ a x, ((![v1499, v1511] : Fin 2 → IVec S16 32) a x).toNat < S256x128.size a)
theorem k0_idx822_inb : ∀ (i : grid0.Coords) (k0_t5 : Fin (k0_t5_loop i).trips) (v140 : BitVec 32) (v1499 : IVec S16 32) (v1511 : IVec S16 32) (k0_hw457 : k0_chk457 i k0_t5 v140 v1499 v1511), ∀ (k0_h5 : ¬(k0_cond5 v140 = 1#1)), ∀ a x, ((![v1499, v1511] : Fin 2 → IVec S16 32) a x).toNat < S256x128.size a := fun i k0_t5 v140 v1499 v1511 k0_hw457 k0_h5 => k0_hw457.1 k0_h5
theorem k0_idx823_inb : ∀ (i : grid0.Coords) (k0_t5 : Fin (k0_t5_loop i).trips) (v140 : BitVec 32) (v1499 : IVec S16 32) (v1511 : IVec S16 32) (k0_hw457 : k0_chk457 i k0_t5 v140 v1499 v1511), ∀ (k0_h5 : ¬(k0_cond5 v140 = 1#1)), ∀ a x, ((![v1499, v1511] : Fin 2 → IVec S16 32) a x).toNat < S256x128.size a := fun i k0_t5 v140 v1499 v1511 k0_hw457 k0_h5 => k0_hw457.2 k0_h5

def k0_chk458 (i : grid0.Coords) (k0_t5 : Fin (k0_t5_loop i).trips) (v140 : BitVec 32) (v1499 : IVec S16 32) (v1513 : IVec S16 32) : Prop :=
  (∀ (k0_h5 : ¬(k0_cond5 v140 = 1#1)), ∀ a x, ((![v1499, v1513] : Fin 2 → IVec S16 32) a x).toNat < S256x128.size a) ∧
  (∀ (k0_h5 : ¬(k0_cond5 v140 = 1#1)), ∀ a x, ((![v1499, v1513] : Fin 2 → IVec S16 32) a x).toNat < S256x128.size a)
theorem k0_idx824_inb : ∀ (i : grid0.Coords) (k0_t5 : Fin (k0_t5_loop i).trips) (v140 : BitVec 32) (v1499 : IVec S16 32) (v1513 : IVec S16 32) (k0_hw458 : k0_chk458 i k0_t5 v140 v1499 v1513), ∀ (k0_h5 : ¬(k0_cond5 v140 = 1#1)), ∀ a x, ((![v1499, v1513] : Fin 2 → IVec S16 32) a x).toNat < S256x128.size a := fun i k0_t5 v140 v1499 v1513 k0_hw458 k0_h5 => k0_hw458.1 k0_h5
theorem k0_idx825_inb : ∀ (i : grid0.Coords) (k0_t5 : Fin (k0_t5_loop i).trips) (v140 : BitVec 32) (v1499 : IVec S16 32) (v1513 : IVec S16 32) (k0_hw458 : k0_chk458 i k0_t5 v140 v1499 v1513), ∀ (k0_h5 : ¬(k0_cond5 v140 = 1#1)), ∀ a x, ((![v1499, v1513] : Fin 2 → IVec S16 32) a x).toNat < S256x128.size a := fun i k0_t5 v140 v1499 v1513 k0_hw458 k0_h5 => k0_hw458.2 k0_h5

def k0_chk459 (i : grid0.Coords) (k0_t5 : Fin (k0_t5_loop i).trips) (v140 : BitVec 32) (v1499 : IVec S16 32) (v1515 : IVec S16 32) : Prop :=
  (∀ (k0_h5 : ¬(k0_cond5 v140 = 1#1)), ∀ a x, ((![v1499, v1515] : Fin 2 → IVec S16 32) a x).toNat < S256x128.size a) ∧
  (∀ (k0_h5 : ¬(k0_cond5 v140 = 1#1)), ∀ a x, ((![v1499, v1515] : Fin 2 → IVec S16 32) a x).toNat < S256x128.size a)
theorem k0_idx826_inb : ∀ (i : grid0.Coords) (k0_t5 : Fin (k0_t5_loop i).trips) (v140 : BitVec 32) (v1499 : IVec S16 32) (v1515 : IVec S16 32) (k0_hw459 : k0_chk459 i k0_t5 v140 v1499 v1515), ∀ (k0_h5 : ¬(k0_cond5 v140 = 1#1)), ∀ a x, ((![v1499, v1515] : Fin 2 → IVec S16 32) a x).toNat < S256x128.size a := fun i k0_t5 v140 v1499 v1515 k0_hw459 k0_h5 => k0_hw459.1 k0_h5
theorem k0_idx827_inb : ∀ (i : grid0.Coords) (k0_t5 : Fin (k0_t5_loop i).trips) (v140 : BitVec 32) (v1499 : IVec S16 32) (v1515 : IVec S16 32) (k0_hw459 : k0_chk459 i k0_t5 v140 v1499 v1515), ∀ (k0_h5 : ¬(k0_cond5 v140 = 1#1)), ∀ a x, ((![v1499, v1515] : Fin 2 → IVec S16 32) a x).toNat < S256x128.size a := fun i k0_t5 v140 v1499 v1515 k0_hw459 k0_h5 => k0_hw459.2 k0_h5

def k0_chk460 (i : grid0.Coords) (v2 : IVec S16 32) (k0_t5 : Fin (k0_t5_loop i).trips) (v140 : BitVec 32) (v1499 : IVec S16 32) : Prop :=
  (∀ (k0_h5 : ¬(k0_cond5 v140 = 1#1)), ∀ a x, ((![v1499, v2] : Fin 2 → IVec S16 32) a x).toNat < S256x16.size a)
theorem k0_idx828_inb : ∀ (i : grid0.Coords) (v2 : IVec S16 32) (k0_t5 : Fin (k0_t5_loop i).trips) (v140 : BitVec 32) (v1499 : IVec S16 32) (k0_hw460 : k0_chk460 i v2 k0_t5 v140 v1499), ∀ (k0_h5 : ¬(k0_cond5 v140 = 1#1)), ∀ a x, ((![v1499, v2] : Fin 2 → IVec S16 32) a x).toNat < S256x16.size a := fun i v2 k0_t5 v140 v1499 k0_hw460 k0_h5 => k0_hw460 k0_h5

def k0_chk461 (i : grid0.Coords) (k0_t5 : Fin (k0_t5_loop i).trips) (v140 : BitVec 32) (v1560 : IVec S16 32) : Prop :=
  (∀ (k0_h5 : ¬(k0_cond5 v140 = 1#1)), ∀ a x, ((![v1560] : Fin 1 → IVec S16 32) a x).toNat < S3136.size a)
theorem k0_idx829_inb : ∀ (i : grid0.Coords) (k0_t5 : Fin (k0_t5_loop i).trips) (v140 : BitVec 32) (v1560 : IVec S16 32) (k0_hw461 : k0_chk461 i k0_t5 v140 v1560), ∀ (k0_h5 : ¬(k0_cond5 v140 = 1#1)), ∀ a x, ((![v1560] : Fin 1 → IVec S16 32) a x).toNat < S3136.size a := fun i k0_t5 v140 v1560 k0_hw461 k0_h5 => k0_hw461 k0_h5
def k0_off411 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1563 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c14_i32_483 : BitVec 32 := 14#32
  let v1562 : BitVec 32 := Scalar.addi v126 c14_i32_483
  let v1564 : Index := Scalar.indexCast v1562
  let c0_484 : Index := 0#32
  ![v1563.toNat, v1564.toNat, 0]
def k0_off412 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1567 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c14_i32_485 : BitVec 32 := 14#32
  let v1566 : BitVec 32 := Scalar.addi v126 c14_i32_485
  let v1568 : Index := Scalar.indexCast v1566
  let c16_486 : Index := 16#32
  ![v1567.toNat, v1568.toNat, 16]
def k0_off413 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1571 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c14_i32_487 : BitVec 32 := 14#32
  let v1570 : BitVec 32 := Scalar.addi v126 c14_i32_487
  let v1572 : Index := Scalar.indexCast v1570
  let c32_488 : Index := 32#32
  ![v1571.toNat, v1572.toNat, 32]
def k0_off414 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1575 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c14_i32_489 : BitVec 32 := 14#32
  let v1574 : BitVec 32 := Scalar.addi v126 c14_i32_489
  let v1576 : Index := Scalar.indexCast v1574
  let c48_490 : Index := 48#32
  ![v1575.toNat, v1576.toNat, 48]
def k0_off415 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1579 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c14_i32_491 : BitVec 32 := 14#32
  let v1578 : BitVec 32 := Scalar.addi v126 c14_i32_491
  let v1580 : Index := Scalar.indexCast v1578
  let c64_492 : Index := 64#32
  ![v1579.toNat, v1580.toNat, 64]
def k0_off416 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1583 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c14_i32_493 : BitVec 32 := 14#32
  let v1582 : BitVec 32 := Scalar.addi v126 c14_i32_493
  let v1584 : Index := Scalar.indexCast v1582
  let c80_494 : Index := 80#32
  ![v1583.toNat, v1584.toNat, 80]
def k0_off417 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1587 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c14_i32_495 : BitVec 32 := 14#32
  let v1586 : BitVec 32 := Scalar.addi v126 c14_i32_495
  let v1588 : Index := Scalar.indexCast v1586
  let c96_496 : Index := 96#32
  ![v1587.toNat, v1588.toNat, 96]
def k0_off418 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1591 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c14_i32_497 : BitVec 32 := 14#32
  let v1590 : BitVec 32 := Scalar.addi v126 c14_i32_497
  let v1592 : Index := Scalar.indexCast v1590
  let c112_498 : Index := 112#32
  ![v1591.toNat, v1592.toNat, 112]

def k0_chk462 (i : grid0.Coords) (k0_t5 : Fin (k0_t5_loop i).trips) (v140 : BitVec 32) (v1600 : IVec S16 32) (v1602 : IVec S16 32) : Prop :=
  (∀ (k0_h5 : ¬(k0_cond5 v140 = 1#1)), ∀ a x, ((![v1600, v1602] : Fin 2 → IVec S16 32) a x).toNat < S256x128.size a) ∧
  (∀ (k0_h5 : ¬(k0_cond5 v140 = 1#1)), ∀ a x, ((![v1600, v1602] : Fin 2 → IVec S16 32) a x).toNat < S256x128.size a)
theorem k0_idx830_inb : ∀ (i : grid0.Coords) (k0_t5 : Fin (k0_t5_loop i).trips) (v140 : BitVec 32) (v1600 : IVec S16 32) (v1602 : IVec S16 32) (k0_hw462 : k0_chk462 i k0_t5 v140 v1600 v1602), ∀ (k0_h5 : ¬(k0_cond5 v140 = 1#1)), ∀ a x, ((![v1600, v1602] : Fin 2 → IVec S16 32) a x).toNat < S256x128.size a := fun i k0_t5 v140 v1600 v1602 k0_hw462 k0_h5 => k0_hw462.1 k0_h5
theorem k0_idx831_inb : ∀ (i : grid0.Coords) (k0_t5 : Fin (k0_t5_loop i).trips) (v140 : BitVec 32) (v1600 : IVec S16 32) (v1602 : IVec S16 32) (k0_hw462 : k0_chk462 i k0_t5 v140 v1600 v1602), ∀ (k0_h5 : ¬(k0_cond5 v140 = 1#1)), ∀ a x, ((![v1600, v1602] : Fin 2 → IVec S16 32) a x).toNat < S256x128.size a := fun i k0_t5 v140 v1600 v1602 k0_hw462 k0_h5 => k0_hw462.2 k0_h5

def k0_chk463 (i : grid0.Coords) (k0_t5 : Fin (k0_t5_loop i).trips) (v140 : BitVec 32) (v1600 : IVec S16 32) (v1604 : IVec S16 32) : Prop :=
  (∀ (k0_h5 : ¬(k0_cond5 v140 = 1#1)), ∀ a x, ((![v1600, v1604] : Fin 2 → IVec S16 32) a x).toNat < S256x128.size a) ∧
  (∀ (k0_h5 : ¬(k0_cond5 v140 = 1#1)), ∀ a x, ((![v1600, v1604] : Fin 2 → IVec S16 32) a x).toNat < S256x128.size a)
theorem k0_idx832_inb : ∀ (i : grid0.Coords) (k0_t5 : Fin (k0_t5_loop i).trips) (v140 : BitVec 32) (v1600 : IVec S16 32) (v1604 : IVec S16 32) (k0_hw463 : k0_chk463 i k0_t5 v140 v1600 v1604), ∀ (k0_h5 : ¬(k0_cond5 v140 = 1#1)), ∀ a x, ((![v1600, v1604] : Fin 2 → IVec S16 32) a x).toNat < S256x128.size a := fun i k0_t5 v140 v1600 v1604 k0_hw463 k0_h5 => k0_hw463.1 k0_h5
theorem k0_idx833_inb : ∀ (i : grid0.Coords) (k0_t5 : Fin (k0_t5_loop i).trips) (v140 : BitVec 32) (v1600 : IVec S16 32) (v1604 : IVec S16 32) (k0_hw463 : k0_chk463 i k0_t5 v140 v1600 v1604), ∀ (k0_h5 : ¬(k0_cond5 v140 = 1#1)), ∀ a x, ((![v1600, v1604] : Fin 2 → IVec S16 32) a x).toNat < S256x128.size a := fun i k0_t5 v140 v1600 v1604 k0_hw463 k0_h5 => k0_hw463.2 k0_h5

def k0_chk464 (i : grid0.Coords) (k0_t5 : Fin (k0_t5_loop i).trips) (v140 : BitVec 32) (v1600 : IVec S16 32) (v1606 : IVec S16 32) : Prop :=
  (∀ (k0_h5 : ¬(k0_cond5 v140 = 1#1)), ∀ a x, ((![v1600, v1606] : Fin 2 → IVec S16 32) a x).toNat < S256x128.size a) ∧
  (∀ (k0_h5 : ¬(k0_cond5 v140 = 1#1)), ∀ a x, ((![v1600, v1606] : Fin 2 → IVec S16 32) a x).toNat < S256x128.size a)
theorem k0_idx834_inb : ∀ (i : grid0.Coords) (k0_t5 : Fin (k0_t5_loop i).trips) (v140 : BitVec 32) (v1600 : IVec S16 32) (v1606 : IVec S16 32) (k0_hw464 : k0_chk464 i k0_t5 v140 v1600 v1606), ∀ (k0_h5 : ¬(k0_cond5 v140 = 1#1)), ∀ a x, ((![v1600, v1606] : Fin 2 → IVec S16 32) a x).toNat < S256x128.size a := fun i k0_t5 v140 v1600 v1606 k0_hw464 k0_h5 => k0_hw464.1 k0_h5
theorem k0_idx835_inb : ∀ (i : grid0.Coords) (k0_t5 : Fin (k0_t5_loop i).trips) (v140 : BitVec 32) (v1600 : IVec S16 32) (v1606 : IVec S16 32) (k0_hw464 : k0_chk464 i k0_t5 v140 v1600 v1606), ∀ (k0_h5 : ¬(k0_cond5 v140 = 1#1)), ∀ a x, ((![v1600, v1606] : Fin 2 → IVec S16 32) a x).toNat < S256x128.size a := fun i k0_t5 v140 v1600 v1606 k0_hw464 k0_h5 => k0_hw464.2 k0_h5

def k0_chk465 (i : grid0.Coords) (k0_t5 : Fin (k0_t5_loop i).trips) (v140 : BitVec 32) (v1600 : IVec S16 32) (v1608 : IVec S16 32) : Prop :=
  (∀ (k0_h5 : ¬(k0_cond5 v140 = 1#1)), ∀ a x, ((![v1600, v1608] : Fin 2 → IVec S16 32) a x).toNat < S256x128.size a) ∧
  (∀ (k0_h5 : ¬(k0_cond5 v140 = 1#1)), ∀ a x, ((![v1600, v1608] : Fin 2 → IVec S16 32) a x).toNat < S256x128.size a)
theorem k0_idx836_inb : ∀ (i : grid0.Coords) (k0_t5 : Fin (k0_t5_loop i).trips) (v140 : BitVec 32) (v1600 : IVec S16 32) (v1608 : IVec S16 32) (k0_hw465 : k0_chk465 i k0_t5 v140 v1600 v1608), ∀ (k0_h5 : ¬(k0_cond5 v140 = 1#1)), ∀ a x, ((![v1600, v1608] : Fin 2 → IVec S16 32) a x).toNat < S256x128.size a := fun i k0_t5 v140 v1600 v1608 k0_hw465 k0_h5 => k0_hw465.1 k0_h5
theorem k0_idx837_inb : ∀ (i : grid0.Coords) (k0_t5 : Fin (k0_t5_loop i).trips) (v140 : BitVec 32) (v1600 : IVec S16 32) (v1608 : IVec S16 32) (k0_hw465 : k0_chk465 i k0_t5 v140 v1600 v1608), ∀ (k0_h5 : ¬(k0_cond5 v140 = 1#1)), ∀ a x, ((![v1600, v1608] : Fin 2 → IVec S16 32) a x).toNat < S256x128.size a := fun i k0_t5 v140 v1600 v1608 k0_hw465 k0_h5 => k0_hw465.2 k0_h5

def k0_chk466 (i : grid0.Coords) (k0_t5 : Fin (k0_t5_loop i).trips) (v140 : BitVec 32) (v1600 : IVec S16 32) (v1610 : IVec S16 32) : Prop :=
  (∀ (k0_h5 : ¬(k0_cond5 v140 = 1#1)), ∀ a x, ((![v1600, v1610] : Fin 2 → IVec S16 32) a x).toNat < S256x128.size a) ∧
  (∀ (k0_h5 : ¬(k0_cond5 v140 = 1#1)), ∀ a x, ((![v1600, v1610] : Fin 2 → IVec S16 32) a x).toNat < S256x128.size a)
theorem k0_idx838_inb : ∀ (i : grid0.Coords) (k0_t5 : Fin (k0_t5_loop i).trips) (v140 : BitVec 32) (v1600 : IVec S16 32) (v1610 : IVec S16 32) (k0_hw466 : k0_chk466 i k0_t5 v140 v1600 v1610), ∀ (k0_h5 : ¬(k0_cond5 v140 = 1#1)), ∀ a x, ((![v1600, v1610] : Fin 2 → IVec S16 32) a x).toNat < S256x128.size a := fun i k0_t5 v140 v1600 v1610 k0_hw466 k0_h5 => k0_hw466.1 k0_h5
theorem k0_idx839_inb : ∀ (i : grid0.Coords) (k0_t5 : Fin (k0_t5_loop i).trips) (v140 : BitVec 32) (v1600 : IVec S16 32) (v1610 : IVec S16 32) (k0_hw466 : k0_chk466 i k0_t5 v140 v1600 v1610), ∀ (k0_h5 : ¬(k0_cond5 v140 = 1#1)), ∀ a x, ((![v1600, v1610] : Fin 2 → IVec S16 32) a x).toNat < S256x128.size a := fun i k0_t5 v140 v1600 v1610 k0_hw466 k0_h5 => k0_hw466.2 k0_h5

def k0_chk467 (i : grid0.Coords) (k0_t5 : Fin (k0_t5_loop i).trips) (v140 : BitVec 32) (v1600 : IVec S16 32) (v1612 : IVec S16 32) : Prop :=
  (∀ (k0_h5 : ¬(k0_cond5 v140 = 1#1)), ∀ a x, ((![v1600, v1612] : Fin 2 → IVec S16 32) a x).toNat < S256x128.size a) ∧
  (∀ (k0_h5 : ¬(k0_cond5 v140 = 1#1)), ∀ a x, ((![v1600, v1612] : Fin 2 → IVec S16 32) a x).toNat < S256x128.size a)
theorem k0_idx840_inb : ∀ (i : grid0.Coords) (k0_t5 : Fin (k0_t5_loop i).trips) (v140 : BitVec 32) (v1600 : IVec S16 32) (v1612 : IVec S16 32) (k0_hw467 : k0_chk467 i k0_t5 v140 v1600 v1612), ∀ (k0_h5 : ¬(k0_cond5 v140 = 1#1)), ∀ a x, ((![v1600, v1612] : Fin 2 → IVec S16 32) a x).toNat < S256x128.size a := fun i k0_t5 v140 v1600 v1612 k0_hw467 k0_h5 => k0_hw467.1 k0_h5
theorem k0_idx841_inb : ∀ (i : grid0.Coords) (k0_t5 : Fin (k0_t5_loop i).trips) (v140 : BitVec 32) (v1600 : IVec S16 32) (v1612 : IVec S16 32) (k0_hw467 : k0_chk467 i k0_t5 v140 v1600 v1612), ∀ (k0_h5 : ¬(k0_cond5 v140 = 1#1)), ∀ a x, ((![v1600, v1612] : Fin 2 → IVec S16 32) a x).toNat < S256x128.size a := fun i k0_t5 v140 v1600 v1612 k0_hw467 k0_h5 => k0_hw467.2 k0_h5

def k0_chk468 (i : grid0.Coords) (k0_t5 : Fin (k0_t5_loop i).trips) (v140 : BitVec 32) (v1600 : IVec S16 32) (v1614 : IVec S16 32) : Prop :=
  (∀ (k0_h5 : ¬(k0_cond5 v140 = 1#1)), ∀ a x, ((![v1600, v1614] : Fin 2 → IVec S16 32) a x).toNat < S256x128.size a) ∧
  (∀ (k0_h5 : ¬(k0_cond5 v140 = 1#1)), ∀ a x, ((![v1600, v1614] : Fin 2 → IVec S16 32) a x).toNat < S256x128.size a)
theorem k0_idx842_inb : ∀ (i : grid0.Coords) (k0_t5 : Fin (k0_t5_loop i).trips) (v140 : BitVec 32) (v1600 : IVec S16 32) (v1614 : IVec S16 32) (k0_hw468 : k0_chk468 i k0_t5 v140 v1600 v1614), ∀ (k0_h5 : ¬(k0_cond5 v140 = 1#1)), ∀ a x, ((![v1600, v1614] : Fin 2 → IVec S16 32) a x).toNat < S256x128.size a := fun i k0_t5 v140 v1600 v1614 k0_hw468 k0_h5 => k0_hw468.1 k0_h5
theorem k0_idx843_inb : ∀ (i : grid0.Coords) (k0_t5 : Fin (k0_t5_loop i).trips) (v140 : BitVec 32) (v1600 : IVec S16 32) (v1614 : IVec S16 32) (k0_hw468 : k0_chk468 i k0_t5 v140 v1600 v1614), ∀ (k0_h5 : ¬(k0_cond5 v140 = 1#1)), ∀ a x, ((![v1600, v1614] : Fin 2 → IVec S16 32) a x).toNat < S256x128.size a := fun i k0_t5 v140 v1600 v1614 k0_hw468 k0_h5 => k0_hw468.2 k0_h5

def k0_chk469 (i : grid0.Coords) (k0_t5 : Fin (k0_t5_loop i).trips) (v140 : BitVec 32) (v1600 : IVec S16 32) (v1616 : IVec S16 32) : Prop :=
  (∀ (k0_h5 : ¬(k0_cond5 v140 = 1#1)), ∀ a x, ((![v1600, v1616] : Fin 2 → IVec S16 32) a x).toNat < S256x128.size a) ∧
  (∀ (k0_h5 : ¬(k0_cond5 v140 = 1#1)), ∀ a x, ((![v1600, v1616] : Fin 2 → IVec S16 32) a x).toNat < S256x128.size a)
theorem k0_idx844_inb : ∀ (i : grid0.Coords) (k0_t5 : Fin (k0_t5_loop i).trips) (v140 : BitVec 32) (v1600 : IVec S16 32) (v1616 : IVec S16 32) (k0_hw469 : k0_chk469 i k0_t5 v140 v1600 v1616), ∀ (k0_h5 : ¬(k0_cond5 v140 = 1#1)), ∀ a x, ((![v1600, v1616] : Fin 2 → IVec S16 32) a x).toNat < S256x128.size a := fun i k0_t5 v140 v1600 v1616 k0_hw469 k0_h5 => k0_hw469.1 k0_h5
theorem k0_idx845_inb : ∀ (i : grid0.Coords) (k0_t5 : Fin (k0_t5_loop i).trips) (v140 : BitVec 32) (v1600 : IVec S16 32) (v1616 : IVec S16 32) (k0_hw469 : k0_chk469 i k0_t5 v140 v1600 v1616), ∀ (k0_h5 : ¬(k0_cond5 v140 = 1#1)), ∀ a x, ((![v1600, v1616] : Fin 2 → IVec S16 32) a x).toNat < S256x128.size a := fun i k0_t5 v140 v1600 v1616 k0_hw469 k0_h5 => k0_hw469.2 k0_h5

def k0_chk470 (i : grid0.Coords) (v2 : IVec S16 32) (k0_t5 : Fin (k0_t5_loop i).trips) (v140 : BitVec 32) (v1600 : IVec S16 32) : Prop :=
  (∀ (k0_h5 : ¬(k0_cond5 v140 = 1#1)), ∀ a x, ((![v1600, v2] : Fin 2 → IVec S16 32) a x).toNat < S256x16.size a)
theorem k0_idx846_inb : ∀ (i : grid0.Coords) (v2 : IVec S16 32) (k0_t5 : Fin (k0_t5_loop i).trips) (v140 : BitVec 32) (v1600 : IVec S16 32) (k0_hw470 : k0_chk470 i v2 k0_t5 v140 v1600), ∀ (k0_h5 : ¬(k0_cond5 v140 = 1#1)), ∀ a x, ((![v1600, v2] : Fin 2 → IVec S16 32) a x).toNat < S256x16.size a := fun i v2 k0_t5 v140 v1600 k0_hw470 k0_h5 => k0_hw470 k0_h5

def k0_chk471 (i : grid0.Coords) (k0_t5 : Fin (k0_t5_loop i).trips) (v140 : BitVec 32) (v1661 : IVec S16 32) : Prop :=
  (∀ (k0_h5 : ¬(k0_cond5 v140 = 1#1)), ∀ a x, ((![v1661] : Fin 1 → IVec S16 32) a x).toNat < S3136.size a)
theorem k0_idx847_inb : ∀ (i : grid0.Coords) (k0_t5 : Fin (k0_t5_loop i).trips) (v140 : BitVec 32) (v1661 : IVec S16 32) (k0_hw471 : k0_chk471 i k0_t5 v140 v1661), ∀ (k0_h5 : ¬(k0_cond5 v140 = 1#1)), ∀ a x, ((![v1661] : Fin 1 → IVec S16 32) a x).toNat < S3136.size a := fun i k0_t5 v140 v1661 k0_hw471 k0_h5 => k0_hw471 k0_h5
def k0_off419 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1664 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c15_i32_513 : BitVec 32 := 15#32
  let v1663 : BitVec 32 := Scalar.addi v126 c15_i32_513
  let v1665 : Index := Scalar.indexCast v1663
  let c0_514 : Index := 0#32
  ![v1664.toNat, v1665.toNat, 0]
def k0_off420 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1668 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c15_i32_515 : BitVec 32 := 15#32
  let v1667 : BitVec 32 := Scalar.addi v126 c15_i32_515
  let v1669 : Index := Scalar.indexCast v1667
  let c16_516 : Index := 16#32
  ![v1668.toNat, v1669.toNat, 16]
def k0_off421 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1672 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c15_i32_517 : BitVec 32 := 15#32
  let v1671 : BitVec 32 := Scalar.addi v126 c15_i32_517
  let v1673 : Index := Scalar.indexCast v1671
  let c32_518 : Index := 32#32
  ![v1672.toNat, v1673.toNat, 32]
def k0_off422 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1676 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c15_i32_519 : BitVec 32 := 15#32
  let v1675 : BitVec 32 := Scalar.addi v126 c15_i32_519
  let v1677 : Index := Scalar.indexCast v1675
  let c48_520 : Index := 48#32
  ![v1676.toNat, v1677.toNat, 48]
def k0_off423 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1680 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c15_i32_521 : BitVec 32 := 15#32
  let v1679 : BitVec 32 := Scalar.addi v126 c15_i32_521
  let v1681 : Index := Scalar.indexCast v1679
  let c64_522 : Index := 64#32
  ![v1680.toNat, v1681.toNat, 64]
def k0_off424 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1684 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c15_i32_523 : BitVec 32 := 15#32
  let v1683 : BitVec 32 := Scalar.addi v126 c15_i32_523
  let v1685 : Index := Scalar.indexCast v1683
  let c80_524 : Index := 80#32
  ![v1684.toNat, v1685.toNat, 80]
def k0_off425 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1688 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c15_i32_525 : BitVec 32 := 15#32
  let v1687 : BitVec 32 := Scalar.addi v126 c15_i32_525
  let v1689 : Index := Scalar.indexCast v1687
  let c96_526 : Index := 96#32
  ![v1688.toNat, v1689.toNat, 96]
def k0_off426 (i : grid0.Coords) (k0_t5 : Fin (k0_t5_loop i).trips) (k0_t6 : Fin (k0_t6_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1692 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c1_i32_60 : BitVec 32 := 1#32
  let arg32 : BitVec 32 := Scf.iv c0_i32_58 c1_i32_60 k0_t6
  let c16_i32_62 : BitVec 32 := 16#32
  let v125 : BitVec 32 := Scalar.muli arg32 c16_i32_62
  let v126 : BitVec 32 := Scalar.addi v99 v125
  let c15_i32_527 : BitVec 32 := 15#32
  let v1691 : BitVec 32 := Scalar.addi v126 c15_i32_527
  let v1693 : Index := Scalar.indexCast v1691
  let c112_528 : Index := 112#32
  ![v1692.toNat, v1693.toNat, 112]

def k0_chk472 (i : grid0.Coords) (k0_t5 : Fin (k0_t5_loop i).trips) (v140 : BitVec 32) (v1701 : IVec S16 32) (v1703 : IVec S16 32) : Prop :=
  (∀ (k0_h5 : ¬(k0_cond5 v140 = 1#1)), ∀ a x, ((![v1701, v1703] : Fin 2 → IVec S16 32) a x).toNat < S256x128.size a) ∧
  (∀ (k0_h5 : ¬(k0_cond5 v140 = 1#1)), ∀ a x, ((![v1701, v1703] : Fin 2 → IVec S16 32) a x).toNat < S256x128.size a)
theorem k0_idx848_inb : ∀ (i : grid0.Coords) (k0_t5 : Fin (k0_t5_loop i).trips) (v140 : BitVec 32) (v1701 : IVec S16 32) (v1703 : IVec S16 32) (k0_hw472 : k0_chk472 i k0_t5 v140 v1701 v1703), ∀ (k0_h5 : ¬(k0_cond5 v140 = 1#1)), ∀ a x, ((![v1701, v1703] : Fin 2 → IVec S16 32) a x).toNat < S256x128.size a := fun i k0_t5 v140 v1701 v1703 k0_hw472 k0_h5 => k0_hw472.1 k0_h5
theorem k0_idx849_inb : ∀ (i : grid0.Coords) (k0_t5 : Fin (k0_t5_loop i).trips) (v140 : BitVec 32) (v1701 : IVec S16 32) (v1703 : IVec S16 32) (k0_hw472 : k0_chk472 i k0_t5 v140 v1701 v1703), ∀ (k0_h5 : ¬(k0_cond5 v140 = 1#1)), ∀ a x, ((![v1701, v1703] : Fin 2 → IVec S16 32) a x).toNat < S256x128.size a := fun i k0_t5 v140 v1701 v1703 k0_hw472 k0_h5 => k0_hw472.2 k0_h5

def k0_chk473 (i : grid0.Coords) (k0_t5 : Fin (k0_t5_loop i).trips) (v140 : BitVec 32) (v1701 : IVec S16 32) (v1705 : IVec S16 32) : Prop :=
  (∀ (k0_h5 : ¬(k0_cond5 v140 = 1#1)), ∀ a x, ((![v1701, v1705] : Fin 2 → IVec S16 32) a x).toNat < S256x128.size a) ∧
  (∀ (k0_h5 : ¬(k0_cond5 v140 = 1#1)), ∀ a x, ((![v1701, v1705] : Fin 2 → IVec S16 32) a x).toNat < S256x128.size a)
theorem k0_idx850_inb : ∀ (i : grid0.Coords) (k0_t5 : Fin (k0_t5_loop i).trips) (v140 : BitVec 32) (v1701 : IVec S16 32) (v1705 : IVec S16 32) (k0_hw473 : k0_chk473 i k0_t5 v140 v1701 v1705), ∀ (k0_h5 : ¬(k0_cond5 v140 = 1#1)), ∀ a x, ((![v1701, v1705] : Fin 2 → IVec S16 32) a x).toNat < S256x128.size a := fun i k0_t5 v140 v1701 v1705 k0_hw473 k0_h5 => k0_hw473.1 k0_h5
theorem k0_idx851_inb : ∀ (i : grid0.Coords) (k0_t5 : Fin (k0_t5_loop i).trips) (v140 : BitVec 32) (v1701 : IVec S16 32) (v1705 : IVec S16 32) (k0_hw473 : k0_chk473 i k0_t5 v140 v1701 v1705), ∀ (k0_h5 : ¬(k0_cond5 v140 = 1#1)), ∀ a x, ((![v1701, v1705] : Fin 2 → IVec S16 32) a x).toNat < S256x128.size a := fun i k0_t5 v140 v1701 v1705 k0_hw473 k0_h5 => k0_hw473.2 k0_h5

def k0_chk474 (i : grid0.Coords) (k0_t5 : Fin (k0_t5_loop i).trips) (v140 : BitVec 32) (v1701 : IVec S16 32) (v1707 : IVec S16 32) : Prop :=
  (∀ (k0_h5 : ¬(k0_cond5 v140 = 1#1)), ∀ a x, ((![v1701, v1707] : Fin 2 → IVec S16 32) a x).toNat < S256x128.size a) ∧
  (∀ (k0_h5 : ¬(k0_cond5 v140 = 1#1)), ∀ a x, ((![v1701, v1707] : Fin 2 → IVec S16 32) a x).toNat < S256x128.size a)
theorem k0_idx852_inb : ∀ (i : grid0.Coords) (k0_t5 : Fin (k0_t5_loop i).trips) (v140 : BitVec 32) (v1701 : IVec S16 32) (v1707 : IVec S16 32) (k0_hw474 : k0_chk474 i k0_t5 v140 v1701 v1707), ∀ (k0_h5 : ¬(k0_cond5 v140 = 1#1)), ∀ a x, ((![v1701, v1707] : Fin 2 → IVec S16 32) a x).toNat < S256x128.size a := fun i k0_t5 v140 v1701 v1707 k0_hw474 k0_h5 => k0_hw474.1 k0_h5
theorem k0_idx853_inb : ∀ (i : grid0.Coords) (k0_t5 : Fin (k0_t5_loop i).trips) (v140 : BitVec 32) (v1701 : IVec S16 32) (v1707 : IVec S16 32) (k0_hw474 : k0_chk474 i k0_t5 v140 v1701 v1707), ∀ (k0_h5 : ¬(k0_cond5 v140 = 1#1)), ∀ a x, ((![v1701, v1707] : Fin 2 → IVec S16 32) a x).toNat < S256x128.size a := fun i k0_t5 v140 v1701 v1707 k0_hw474 k0_h5 => k0_hw474.2 k0_h5

def k0_chk475 (i : grid0.Coords) (k0_t5 : Fin (k0_t5_loop i).trips) (v140 : BitVec 32) (v1701 : IVec S16 32) (v1709 : IVec S16 32) : Prop :=
  (∀ (k0_h5 : ¬(k0_cond5 v140 = 1#1)), ∀ a x, ((![v1701, v1709] : Fin 2 → IVec S16 32) a x).toNat < S256x128.size a) ∧
  (∀ (k0_h5 : ¬(k0_cond5 v140 = 1#1)), ∀ a x, ((![v1701, v1709] : Fin 2 → IVec S16 32) a x).toNat < S256x128.size a)
theorem k0_idx854_inb : ∀ (i : grid0.Coords) (k0_t5 : Fin (k0_t5_loop i).trips) (v140 : BitVec 32) (v1701 : IVec S16 32) (v1709 : IVec S16 32) (k0_hw475 : k0_chk475 i k0_t5 v140 v1701 v1709), ∀ (k0_h5 : ¬(k0_cond5 v140 = 1#1)), ∀ a x, ((![v1701, v1709] : Fin 2 → IVec S16 32) a x).toNat < S256x128.size a := fun i k0_t5 v140 v1701 v1709 k0_hw475 k0_h5 => k0_hw475.1 k0_h5
theorem k0_idx855_inb : ∀ (i : grid0.Coords) (k0_t5 : Fin (k0_t5_loop i).trips) (v140 : BitVec 32) (v1701 : IVec S16 32) (v1709 : IVec S16 32) (k0_hw475 : k0_chk475 i k0_t5 v140 v1701 v1709), ∀ (k0_h5 : ¬(k0_cond5 v140 = 1#1)), ∀ a x, ((![v1701, v1709] : Fin 2 → IVec S16 32) a x).toNat < S256x128.size a := fun i k0_t5 v140 v1701 v1709 k0_hw475 k0_h5 => k0_hw475.2 k0_h5

def k0_chk476 (i : grid0.Coords) (k0_t5 : Fin (k0_t5_loop i).trips) (v140 : BitVec 32) (v1701 : IVec S16 32) (v1711 : IVec S16 32) : Prop :=
  (∀ (k0_h5 : ¬(k0_cond5 v140 = 1#1)), ∀ a x, ((![v1701, v1711] : Fin 2 → IVec S16 32) a x).toNat < S256x128.size a) ∧
  (∀ (k0_h5 : ¬(k0_cond5 v140 = 1#1)), ∀ a x, ((![v1701, v1711] : Fin 2 → IVec S16 32) a x).toNat < S256x128.size a)
theorem k0_idx856_inb : ∀ (i : grid0.Coords) (k0_t5 : Fin (k0_t5_loop i).trips) (v140 : BitVec 32) (v1701 : IVec S16 32) (v1711 : IVec S16 32) (k0_hw476 : k0_chk476 i k0_t5 v140 v1701 v1711), ∀ (k0_h5 : ¬(k0_cond5 v140 = 1#1)), ∀ a x, ((![v1701, v1711] : Fin 2 → IVec S16 32) a x).toNat < S256x128.size a := fun i k0_t5 v140 v1701 v1711 k0_hw476 k0_h5 => k0_hw476.1 k0_h5
theorem k0_idx857_inb : ∀ (i : grid0.Coords) (k0_t5 : Fin (k0_t5_loop i).trips) (v140 : BitVec 32) (v1701 : IVec S16 32) (v1711 : IVec S16 32) (k0_hw476 : k0_chk476 i k0_t5 v140 v1701 v1711), ∀ (k0_h5 : ¬(k0_cond5 v140 = 1#1)), ∀ a x, ((![v1701, v1711] : Fin 2 → IVec S16 32) a x).toNat < S256x128.size a := fun i k0_t5 v140 v1701 v1711 k0_hw476 k0_h5 => k0_hw476.2 k0_h5

def k0_chk477 (i : grid0.Coords) (k0_t5 : Fin (k0_t5_loop i).trips) (v140 : BitVec 32) (v1701 : IVec S16 32) (v1713 : IVec S16 32) : Prop :=
  (∀ (k0_h5 : ¬(k0_cond5 v140 = 1#1)), ∀ a x, ((![v1701, v1713] : Fin 2 → IVec S16 32) a x).toNat < S256x128.size a) ∧
  (∀ (k0_h5 : ¬(k0_cond5 v140 = 1#1)), ∀ a x, ((![v1701, v1713] : Fin 2 → IVec S16 32) a x).toNat < S256x128.size a)
theorem k0_idx858_inb : ∀ (i : grid0.Coords) (k0_t5 : Fin (k0_t5_loop i).trips) (v140 : BitVec 32) (v1701 : IVec S16 32) (v1713 : IVec S16 32) (k0_hw477 : k0_chk477 i k0_t5 v140 v1701 v1713), ∀ (k0_h5 : ¬(k0_cond5 v140 = 1#1)), ∀ a x, ((![v1701, v1713] : Fin 2 → IVec S16 32) a x).toNat < S256x128.size a := fun i k0_t5 v140 v1701 v1713 k0_hw477 k0_h5 => k0_hw477.1 k0_h5
theorem k0_idx859_inb : ∀ (i : grid0.Coords) (k0_t5 : Fin (k0_t5_loop i).trips) (v140 : BitVec 32) (v1701 : IVec S16 32) (v1713 : IVec S16 32) (k0_hw477 : k0_chk477 i k0_t5 v140 v1701 v1713), ∀ (k0_h5 : ¬(k0_cond5 v140 = 1#1)), ∀ a x, ((![v1701, v1713] : Fin 2 → IVec S16 32) a x).toNat < S256x128.size a := fun i k0_t5 v140 v1701 v1713 k0_hw477 k0_h5 => k0_hw477.2 k0_h5

def k0_chk478 (i : grid0.Coords) (k0_t5 : Fin (k0_t5_loop i).trips) (v140 : BitVec 32) (v1701 : IVec S16 32) (v1715 : IVec S16 32) : Prop :=
  (∀ (k0_h5 : ¬(k0_cond5 v140 = 1#1)), ∀ a x, ((![v1701, v1715] : Fin 2 → IVec S16 32) a x).toNat < S256x128.size a) ∧
  (∀ (k0_h5 : ¬(k0_cond5 v140 = 1#1)), ∀ a x, ((![v1701, v1715] : Fin 2 → IVec S16 32) a x).toNat < S256x128.size a)
theorem k0_idx860_inb : ∀ (i : grid0.Coords) (k0_t5 : Fin (k0_t5_loop i).trips) (v140 : BitVec 32) (v1701 : IVec S16 32) (v1715 : IVec S16 32) (k0_hw478 : k0_chk478 i k0_t5 v140 v1701 v1715), ∀ (k0_h5 : ¬(k0_cond5 v140 = 1#1)), ∀ a x, ((![v1701, v1715] : Fin 2 → IVec S16 32) a x).toNat < S256x128.size a := fun i k0_t5 v140 v1701 v1715 k0_hw478 k0_h5 => k0_hw478.1 k0_h5
theorem k0_idx861_inb : ∀ (i : grid0.Coords) (k0_t5 : Fin (k0_t5_loop i).trips) (v140 : BitVec 32) (v1701 : IVec S16 32) (v1715 : IVec S16 32) (k0_hw478 : k0_chk478 i k0_t5 v140 v1701 v1715), ∀ (k0_h5 : ¬(k0_cond5 v140 = 1#1)), ∀ a x, ((![v1701, v1715] : Fin 2 → IVec S16 32) a x).toNat < S256x128.size a := fun i k0_t5 v140 v1701 v1715 k0_hw478 k0_h5 => k0_hw478.2 k0_h5

def k0_chk479 (i : grid0.Coords) (k0_t5 : Fin (k0_t5_loop i).trips) (v140 : BitVec 32) (v1701 : IVec S16 32) (v1717 : IVec S16 32) : Prop :=
  (∀ (k0_h5 : ¬(k0_cond5 v140 = 1#1)), ∀ a x, ((![v1701, v1717] : Fin 2 → IVec S16 32) a x).toNat < S256x128.size a) ∧
  (∀ (k0_h5 : ¬(k0_cond5 v140 = 1#1)), ∀ a x, ((![v1701, v1717] : Fin 2 → IVec S16 32) a x).toNat < S256x128.size a)
theorem k0_idx862_inb : ∀ (i : grid0.Coords) (k0_t5 : Fin (k0_t5_loop i).trips) (v140 : BitVec 32) (v1701 : IVec S16 32) (v1717 : IVec S16 32) (k0_hw479 : k0_chk479 i k0_t5 v140 v1701 v1717), ∀ (k0_h5 : ¬(k0_cond5 v140 = 1#1)), ∀ a x, ((![v1701, v1717] : Fin 2 → IVec S16 32) a x).toNat < S256x128.size a := fun i k0_t5 v140 v1701 v1717 k0_hw479 k0_h5 => k0_hw479.1 k0_h5
theorem k0_idx863_inb : ∀ (i : grid0.Coords) (k0_t5 : Fin (k0_t5_loop i).trips) (v140 : BitVec 32) (v1701 : IVec S16 32) (v1717 : IVec S16 32) (k0_hw479 : k0_chk479 i k0_t5 v140 v1701 v1717), ∀ (k0_h5 : ¬(k0_cond5 v140 = 1#1)), ∀ a x, ((![v1701, v1717] : Fin 2 → IVec S16 32) a x).toNat < S256x128.size a := fun i k0_t5 v140 v1701 v1717 k0_hw479 k0_h5 => k0_hw479.2 k0_h5

def k0_chk480 (i : grid0.Coords) (v2 : IVec S16 32) (k0_t5 : Fin (k0_t5_loop i).trips) (v140 : BitVec 32) (v1701 : IVec S16 32) : Prop :=
  (∀ (k0_h5 : ¬(k0_cond5 v140 = 1#1)), ∀ a x, ((![v1701, v2] : Fin 2 → IVec S16 32) a x).toNat < S256x16.size a)
theorem k0_idx864_inb : ∀ (i : grid0.Coords) (v2 : IVec S16 32) (k0_t5 : Fin (k0_t5_loop i).trips) (v140 : BitVec 32) (v1701 : IVec S16 32) (k0_hw480 : k0_chk480 i v2 k0_t5 v140 v1701), ∀ (k0_h5 : ¬(k0_cond5 v140 = 1#1)), ∀ a x, ((![v1701, v2] : Fin 2 → IVec S16 32) a x).toNat < S256x16.size a := fun i v2 k0_t5 v140 v1701 k0_hw480 k0_h5 => k0_hw480 k0_h5
@[reducible] def k0_t7_loop (i : grid0.Coords) (k0_t5 : Fin (k0_t5_loop i).trips) : Scf.Loop 32 :=
  let c0_i32_58 : BitVec 32 := 0#32
  let c7_i32_57 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c0_i32_34 : BitVec 32 := 0#32
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let v119 : BitVec 32 := Scalar.addi c0_i32_58 v118
  let c1_i32_61 : BitVec 32 := 1#32
  ⟨v122, v119, c1_i32_61⟩
def k0_off427 (i : grid0.Coords) (k0_t5 : Fin (k0_t5_loop i).trips) (k0_t7 : Fin (k0_t7_loop i k0_t5).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c96864_i32 : BitVec 32 := 96864#32
  let v45 : BitVec 32 := Scalar.minsi v5 c96864_i32
  let v46 : BitVec 32 := v45
  let v47 : BitVec 32 := Scalar.subi v5 v46
  let c0_i32_34 : BitVec 32 := 0#32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c7_i32_63 : BitVec 32 := 7#32
  let v127 : BitVec 32 := Scalar.muli arg13 c7_i32_63
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let v128 : BitVec 32 := Scalar.addi v127 arg32
  let c16_i32_64 : BitVec 32 := 16#32
  let v129 : BitVec 32 := Scalar.muli v128 c16_i32_64
  let v130 : BitVec 32 := Scalar.addi v47 v129
  let v131 : Index := Scalar.indexCast v130
  ![v131.toNat]
def k0_off428 (i : grid0.Coords) (k0_t5 : Fin (k0_t5_loop i).trips) (k0_t7 : Fin (k0_t7_loop i k0_t5).trips) (c0_i32_67 : BitVec 32) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v146 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let v145 : BitVec 32 := Scalar.addi v126 c0_i32_67
  let v147 : Index := Scalar.indexCast v145
  let c0 : Index := 0#32
  ![v146.toNat, v147.toNat, 0]
def k0_off429 (i : grid0.Coords) (k0_t5 : Fin (k0_t5_loop i).trips) (k0_t7 : Fin (k0_t7_loop i k0_t5).trips) (c0_i32_68 : BitVec 32) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v150 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let v149 : BitVec 32 := Scalar.addi v126 c0_i32_68
  let v151 : Index := Scalar.indexCast v149
  let c16 : Index := 16#32
  ![v150.toNat, v151.toNat, 16]
def k0_off430 (i : grid0.Coords) (k0_t5 : Fin (k0_t5_loop i).trips) (k0_t7 : Fin (k0_t7_loop i k0_t5).trips) (c0_i32_69 : BitVec 32) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v154 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let v153 : BitVec 32 := Scalar.addi v126 c0_i32_69
  let v155 : Index := Scalar.indexCast v153
  let c32 : Index := 32#32
  ![v154.toNat, v155.toNat, 32]
def k0_off431 (i : grid0.Coords) (k0_t5 : Fin (k0_t5_loop i).trips) (k0_t7 : Fin (k0_t7_loop i k0_t5).trips) (c0_i32_70 : BitVec 32) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v158 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let v157 : BitVec 32 := Scalar.addi v126 c0_i32_70
  let v159 : Index := Scalar.indexCast v157
  let c48 : Index := 48#32
  ![v158.toNat, v159.toNat, 48]
def k0_off432 (i : grid0.Coords) (k0_t5 : Fin (k0_t5_loop i).trips) (k0_t7 : Fin (k0_t7_loop i k0_t5).trips) (c0_i32_71 : BitVec 32) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v162 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let v161 : BitVec 32 := Scalar.addi v126 c0_i32_71
  let v163 : Index := Scalar.indexCast v161
  let c64 : Index := 64#32
  ![v162.toNat, v163.toNat, 64]
def k0_off433 (i : grid0.Coords) (k0_t5 : Fin (k0_t5_loop i).trips) (k0_t7 : Fin (k0_t7_loop i k0_t5).trips) (c0_i32_72 : BitVec 32) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v166 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let v165 : BitVec 32 := Scalar.addi v126 c0_i32_72
  let v167 : Index := Scalar.indexCast v165
  let c80 : Index := 80#32
  ![v166.toNat, v167.toNat, 80]
def k0_off434 (i : grid0.Coords) (k0_t5 : Fin (k0_t5_loop i).trips) (k0_t7 : Fin (k0_t7_loop i k0_t5).trips) (c0_i32_73 : BitVec 32) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v170 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let v169 : BitVec 32 := Scalar.addi v126 c0_i32_73
  let v171 : Index := Scalar.indexCast v169
  let c96 : Index := 96#32
  ![v170.toNat, v171.toNat, 96]
def k0_off435 (i : grid0.Coords) (k0_t5 : Fin (k0_t5_loop i).trips) (k0_t7 : Fin (k0_t7_loop i k0_t5).trips) (c0_i32_74 : BitVec 32) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v174 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let v173 : BitVec 32 := Scalar.addi v126 c0_i32_74
  let v175 : Index := Scalar.indexCast v173
  let c112 : Index := 112#32
  ![v174.toNat, v175.toNat, 112]
def k0_cond6 (v140 : BitVec 32) : BitVec 1 :=
  let c1_i32_65 : BitVec 32 := 1#32
  let v141 : BitVec 1 := Scalar.cmpi .eq v140 c1_i32_65
  let v142 : BitVec 32 := Scalar.extui v141
  let c0_i32_66 : BitVec 32 := 0#32
  let v143 : BitVec 1 := Scalar.cmpi .ne v142 c0_i32_66
  v143

def k0_chk481 (i : grid0.Coords) (k0_t5 : Fin (k0_t5_loop i).trips) (v140 : BitVec 32) (v146 : IVec S16 32) : Prop :=
  (∀ (k0_h6 : ¬(k0_cond6 v140 = 1#1)), ∀ a x, ((![v146] : Fin 1 → IVec S16 32) a x).toNat < S3136.size a)
theorem k0_idx865_inb : ∀ (i : grid0.Coords) (k0_t5 : Fin (k0_t5_loop i).trips) (v140 : BitVec 32) (v146 : IVec S16 32) (k0_hw481 : k0_chk481 i k0_t5 v140 v146), ∀ (k0_h6 : ¬(k0_cond6 v140 = 1#1)), ∀ a x, ((![v146] : Fin 1 → IVec S16 32) a x).toNat < S3136.size a := fun i k0_t5 v140 v146 k0_hw481 k0_h6 => k0_hw481 k0_h6
def k0_off436 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v149 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c0_i32_68 : BitVec 32 := 0#32
  let v148 : BitVec 32 := Scalar.addi v126 c0_i32_68
  let v150 : Index := Scalar.indexCast v148
  let c0 : Index := 0#32
  ![v149.toNat, v150.toNat, 0]
def k0_off437 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v153 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c0_i32_69 : BitVec 32 := 0#32
  let v152 : BitVec 32 := Scalar.addi v126 c0_i32_69
  let v154 : Index := Scalar.indexCast v152
  let c16 : Index := 16#32
  ![v153.toNat, v154.toNat, 16]
def k0_off438 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v157 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c0_i32_70 : BitVec 32 := 0#32
  let v156 : BitVec 32 := Scalar.addi v126 c0_i32_70
  let v158 : Index := Scalar.indexCast v156
  let c32 : Index := 32#32
  ![v157.toNat, v158.toNat, 32]
def k0_off439 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v161 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c0_i32_71 : BitVec 32 := 0#32
  let v160 : BitVec 32 := Scalar.addi v126 c0_i32_71
  let v162 : Index := Scalar.indexCast v160
  let c48 : Index := 48#32
  ![v161.toNat, v162.toNat, 48]
def k0_off440 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v165 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c0_i32_72 : BitVec 32 := 0#32
  let v164 : BitVec 32 := Scalar.addi v126 c0_i32_72
  let v166 : Index := Scalar.indexCast v164
  let c64 : Index := 64#32
  ![v165.toNat, v166.toNat, 64]
def k0_off441 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v169 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c0_i32_73 : BitVec 32 := 0#32
  let v168 : BitVec 32 := Scalar.addi v126 c0_i32_73
  let v170 : Index := Scalar.indexCast v168
  let c80 : Index := 80#32
  ![v169.toNat, v170.toNat, 80]
def k0_off442 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v173 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c0_i32_74 : BitVec 32 := 0#32
  let v172 : BitVec 32 := Scalar.addi v126 c0_i32_74
  let v174 : Index := Scalar.indexCast v172
  let c96 : Index := 96#32
  ![v173.toNat, v174.toNat, 96]
def k0_off443 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v177 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c0_i32_75 : BitVec 32 := 0#32
  let v176 : BitVec 32 := Scalar.addi v126 c0_i32_75
  let v178 : Index := Scalar.indexCast v176
  let c112 : Index := 112#32
  ![v177.toNat, v178.toNat, 112]

def k0_chk482 (i : grid0.Coords) (k0_t5 : Fin (k0_t5_loop i).trips) (v140 : BitVec 32) (v186 : IVec S16 32) (v188 : IVec S16 32) : Prop :=
  (∀ (k0_h6 : ¬(k0_cond6 v140 = 1#1)), ∀ a x, ((![v186, v188] : Fin 2 → IVec S16 32) a x).toNat < S256x128.size a) ∧
  (∀ (k0_h6 : ¬(k0_cond6 v140 = 1#1)), ∀ a x, ((![v186, v188] : Fin 2 → IVec S16 32) a x).toNat < S256x128.size a)
theorem k0_idx866_inb : ∀ (i : grid0.Coords) (k0_t5 : Fin (k0_t5_loop i).trips) (v140 : BitVec 32) (v186 : IVec S16 32) (v188 : IVec S16 32) (k0_hw482 : k0_chk482 i k0_t5 v140 v186 v188), ∀ (k0_h6 : ¬(k0_cond6 v140 = 1#1)), ∀ a x, ((![v186, v188] : Fin 2 → IVec S16 32) a x).toNat < S256x128.size a := fun i k0_t5 v140 v186 v188 k0_hw482 k0_h6 => k0_hw482.1 k0_h6
theorem k0_idx867_inb : ∀ (i : grid0.Coords) (k0_t5 : Fin (k0_t5_loop i).trips) (v140 : BitVec 32) (v186 : IVec S16 32) (v188 : IVec S16 32) (k0_hw482 : k0_chk482 i k0_t5 v140 v186 v188), ∀ (k0_h6 : ¬(k0_cond6 v140 = 1#1)), ∀ a x, ((![v186, v188] : Fin 2 → IVec S16 32) a x).toNat < S256x128.size a := fun i k0_t5 v140 v186 v188 k0_hw482 k0_h6 => k0_hw482.2 k0_h6

def k0_chk483 (i : grid0.Coords) (k0_t5 : Fin (k0_t5_loop i).trips) (v140 : BitVec 32) (v186 : IVec S16 32) (v190 : IVec S16 32) : Prop :=
  (∀ (k0_h6 : ¬(k0_cond6 v140 = 1#1)), ∀ a x, ((![v186, v190] : Fin 2 → IVec S16 32) a x).toNat < S256x128.size a) ∧
  (∀ (k0_h6 : ¬(k0_cond6 v140 = 1#1)), ∀ a x, ((![v186, v190] : Fin 2 → IVec S16 32) a x).toNat < S256x128.size a)
theorem k0_idx868_inb : ∀ (i : grid0.Coords) (k0_t5 : Fin (k0_t5_loop i).trips) (v140 : BitVec 32) (v186 : IVec S16 32) (v190 : IVec S16 32) (k0_hw483 : k0_chk483 i k0_t5 v140 v186 v190), ∀ (k0_h6 : ¬(k0_cond6 v140 = 1#1)), ∀ a x, ((![v186, v190] : Fin 2 → IVec S16 32) a x).toNat < S256x128.size a := fun i k0_t5 v140 v186 v190 k0_hw483 k0_h6 => k0_hw483.1 k0_h6
theorem k0_idx869_inb : ∀ (i : grid0.Coords) (k0_t5 : Fin (k0_t5_loop i).trips) (v140 : BitVec 32) (v186 : IVec S16 32) (v190 : IVec S16 32) (k0_hw483 : k0_chk483 i k0_t5 v140 v186 v190), ∀ (k0_h6 : ¬(k0_cond6 v140 = 1#1)), ∀ a x, ((![v186, v190] : Fin 2 → IVec S16 32) a x).toNat < S256x128.size a := fun i k0_t5 v140 v186 v190 k0_hw483 k0_h6 => k0_hw483.2 k0_h6

def k0_chk484 (i : grid0.Coords) (k0_t5 : Fin (k0_t5_loop i).trips) (v140 : BitVec 32) (v186 : IVec S16 32) (v192 : IVec S16 32) : Prop :=
  (∀ (k0_h6 : ¬(k0_cond6 v140 = 1#1)), ∀ a x, ((![v186, v192] : Fin 2 → IVec S16 32) a x).toNat < S256x128.size a) ∧
  (∀ (k0_h6 : ¬(k0_cond6 v140 = 1#1)), ∀ a x, ((![v186, v192] : Fin 2 → IVec S16 32) a x).toNat < S256x128.size a)
theorem k0_idx870_inb : ∀ (i : grid0.Coords) (k0_t5 : Fin (k0_t5_loop i).trips) (v140 : BitVec 32) (v186 : IVec S16 32) (v192 : IVec S16 32) (k0_hw484 : k0_chk484 i k0_t5 v140 v186 v192), ∀ (k0_h6 : ¬(k0_cond6 v140 = 1#1)), ∀ a x, ((![v186, v192] : Fin 2 → IVec S16 32) a x).toNat < S256x128.size a := fun i k0_t5 v140 v186 v192 k0_hw484 k0_h6 => k0_hw484.1 k0_h6
theorem k0_idx871_inb : ∀ (i : grid0.Coords) (k0_t5 : Fin (k0_t5_loop i).trips) (v140 : BitVec 32) (v186 : IVec S16 32) (v192 : IVec S16 32) (k0_hw484 : k0_chk484 i k0_t5 v140 v186 v192), ∀ (k0_h6 : ¬(k0_cond6 v140 = 1#1)), ∀ a x, ((![v186, v192] : Fin 2 → IVec S16 32) a x).toNat < S256x128.size a := fun i k0_t5 v140 v186 v192 k0_hw484 k0_h6 => k0_hw484.2 k0_h6

def k0_chk485 (i : grid0.Coords) (k0_t5 : Fin (k0_t5_loop i).trips) (v140 : BitVec 32) (v186 : IVec S16 32) (v194 : IVec S16 32) : Prop :=
  (∀ (k0_h6 : ¬(k0_cond6 v140 = 1#1)), ∀ a x, ((![v186, v194] : Fin 2 → IVec S16 32) a x).toNat < S256x128.size a) ∧
  (∀ (k0_h6 : ¬(k0_cond6 v140 = 1#1)), ∀ a x, ((![v186, v194] : Fin 2 → IVec S16 32) a x).toNat < S256x128.size a)
theorem k0_idx872_inb : ∀ (i : grid0.Coords) (k0_t5 : Fin (k0_t5_loop i).trips) (v140 : BitVec 32) (v186 : IVec S16 32) (v194 : IVec S16 32) (k0_hw485 : k0_chk485 i k0_t5 v140 v186 v194), ∀ (k0_h6 : ¬(k0_cond6 v140 = 1#1)), ∀ a x, ((![v186, v194] : Fin 2 → IVec S16 32) a x).toNat < S256x128.size a := fun i k0_t5 v140 v186 v194 k0_hw485 k0_h6 => k0_hw485.1 k0_h6
theorem k0_idx873_inb : ∀ (i : grid0.Coords) (k0_t5 : Fin (k0_t5_loop i).trips) (v140 : BitVec 32) (v186 : IVec S16 32) (v194 : IVec S16 32) (k0_hw485 : k0_chk485 i k0_t5 v140 v186 v194), ∀ (k0_h6 : ¬(k0_cond6 v140 = 1#1)), ∀ a x, ((![v186, v194] : Fin 2 → IVec S16 32) a x).toNat < S256x128.size a := fun i k0_t5 v140 v186 v194 k0_hw485 k0_h6 => k0_hw485.2 k0_h6

def k0_chk486 (i : grid0.Coords) (k0_t5 : Fin (k0_t5_loop i).trips) (v140 : BitVec 32) (v186 : IVec S16 32) (v196 : IVec S16 32) : Prop :=
  (∀ (k0_h6 : ¬(k0_cond6 v140 = 1#1)), ∀ a x, ((![v186, v196] : Fin 2 → IVec S16 32) a x).toNat < S256x128.size a) ∧
  (∀ (k0_h6 : ¬(k0_cond6 v140 = 1#1)), ∀ a x, ((![v186, v196] : Fin 2 → IVec S16 32) a x).toNat < S256x128.size a)
theorem k0_idx874_inb : ∀ (i : grid0.Coords) (k0_t5 : Fin (k0_t5_loop i).trips) (v140 : BitVec 32) (v186 : IVec S16 32) (v196 : IVec S16 32) (k0_hw486 : k0_chk486 i k0_t5 v140 v186 v196), ∀ (k0_h6 : ¬(k0_cond6 v140 = 1#1)), ∀ a x, ((![v186, v196] : Fin 2 → IVec S16 32) a x).toNat < S256x128.size a := fun i k0_t5 v140 v186 v196 k0_hw486 k0_h6 => k0_hw486.1 k0_h6
theorem k0_idx875_inb : ∀ (i : grid0.Coords) (k0_t5 : Fin (k0_t5_loop i).trips) (v140 : BitVec 32) (v186 : IVec S16 32) (v196 : IVec S16 32) (k0_hw486 : k0_chk486 i k0_t5 v140 v186 v196), ∀ (k0_h6 : ¬(k0_cond6 v140 = 1#1)), ∀ a x, ((![v186, v196] : Fin 2 → IVec S16 32) a x).toNat < S256x128.size a := fun i k0_t5 v140 v186 v196 k0_hw486 k0_h6 => k0_hw486.2 k0_h6

def k0_chk487 (i : grid0.Coords) (k0_t5 : Fin (k0_t5_loop i).trips) (v140 : BitVec 32) (v186 : IVec S16 32) (v198 : IVec S16 32) : Prop :=
  (∀ (k0_h6 : ¬(k0_cond6 v140 = 1#1)), ∀ a x, ((![v186, v198] : Fin 2 → IVec S16 32) a x).toNat < S256x128.size a) ∧
  (∀ (k0_h6 : ¬(k0_cond6 v140 = 1#1)), ∀ a x, ((![v186, v198] : Fin 2 → IVec S16 32) a x).toNat < S256x128.size a)
theorem k0_idx876_inb : ∀ (i : grid0.Coords) (k0_t5 : Fin (k0_t5_loop i).trips) (v140 : BitVec 32) (v186 : IVec S16 32) (v198 : IVec S16 32) (k0_hw487 : k0_chk487 i k0_t5 v140 v186 v198), ∀ (k0_h6 : ¬(k0_cond6 v140 = 1#1)), ∀ a x, ((![v186, v198] : Fin 2 → IVec S16 32) a x).toNat < S256x128.size a := fun i k0_t5 v140 v186 v198 k0_hw487 k0_h6 => k0_hw487.1 k0_h6
theorem k0_idx877_inb : ∀ (i : grid0.Coords) (k0_t5 : Fin (k0_t5_loop i).trips) (v140 : BitVec 32) (v186 : IVec S16 32) (v198 : IVec S16 32) (k0_hw487 : k0_chk487 i k0_t5 v140 v186 v198), ∀ (k0_h6 : ¬(k0_cond6 v140 = 1#1)), ∀ a x, ((![v186, v198] : Fin 2 → IVec S16 32) a x).toNat < S256x128.size a := fun i k0_t5 v140 v186 v198 k0_hw487 k0_h6 => k0_hw487.2 k0_h6

def k0_chk488 (i : grid0.Coords) (k0_t5 : Fin (k0_t5_loop i).trips) (v140 : BitVec 32) (v186 : IVec S16 32) (v200 : IVec S16 32) : Prop :=
  (∀ (k0_h6 : ¬(k0_cond6 v140 = 1#1)), ∀ a x, ((![v186, v200] : Fin 2 → IVec S16 32) a x).toNat < S256x128.size a) ∧
  (∀ (k0_h6 : ¬(k0_cond6 v140 = 1#1)), ∀ a x, ((![v186, v200] : Fin 2 → IVec S16 32) a x).toNat < S256x128.size a)
theorem k0_idx878_inb : ∀ (i : grid0.Coords) (k0_t5 : Fin (k0_t5_loop i).trips) (v140 : BitVec 32) (v186 : IVec S16 32) (v200 : IVec S16 32) (k0_hw488 : k0_chk488 i k0_t5 v140 v186 v200), ∀ (k0_h6 : ¬(k0_cond6 v140 = 1#1)), ∀ a x, ((![v186, v200] : Fin 2 → IVec S16 32) a x).toNat < S256x128.size a := fun i k0_t5 v140 v186 v200 k0_hw488 k0_h6 => k0_hw488.1 k0_h6
theorem k0_idx879_inb : ∀ (i : grid0.Coords) (k0_t5 : Fin (k0_t5_loop i).trips) (v140 : BitVec 32) (v186 : IVec S16 32) (v200 : IVec S16 32) (k0_hw488 : k0_chk488 i k0_t5 v140 v186 v200), ∀ (k0_h6 : ¬(k0_cond6 v140 = 1#1)), ∀ a x, ((![v186, v200] : Fin 2 → IVec S16 32) a x).toNat < S256x128.size a := fun i k0_t5 v140 v186 v200 k0_hw488 k0_h6 => k0_hw488.2 k0_h6

def k0_chk489 (i : grid0.Coords) (k0_t5 : Fin (k0_t5_loop i).trips) (v140 : BitVec 32) (v186 : IVec S16 32) (v202 : IVec S16 32) : Prop :=
  (∀ (k0_h6 : ¬(k0_cond6 v140 = 1#1)), ∀ a x, ((![v186, v202] : Fin 2 → IVec S16 32) a x).toNat < S256x128.size a) ∧
  (∀ (k0_h6 : ¬(k0_cond6 v140 = 1#1)), ∀ a x, ((![v186, v202] : Fin 2 → IVec S16 32) a x).toNat < S256x128.size a)
theorem k0_idx880_inb : ∀ (i : grid0.Coords) (k0_t5 : Fin (k0_t5_loop i).trips) (v140 : BitVec 32) (v186 : IVec S16 32) (v202 : IVec S16 32) (k0_hw489 : k0_chk489 i k0_t5 v140 v186 v202), ∀ (k0_h6 : ¬(k0_cond6 v140 = 1#1)), ∀ a x, ((![v186, v202] : Fin 2 → IVec S16 32) a x).toNat < S256x128.size a := fun i k0_t5 v140 v186 v202 k0_hw489 k0_h6 => k0_hw489.1 k0_h6
theorem k0_idx881_inb : ∀ (i : grid0.Coords) (k0_t5 : Fin (k0_t5_loop i).trips) (v140 : BitVec 32) (v186 : IVec S16 32) (v202 : IVec S16 32) (k0_hw489 : k0_chk489 i k0_t5 v140 v186 v202), ∀ (k0_h6 : ¬(k0_cond6 v140 = 1#1)), ∀ a x, ((![v186, v202] : Fin 2 → IVec S16 32) a x).toNat < S256x128.size a := fun i k0_t5 v140 v186 v202 k0_hw489 k0_h6 => k0_hw489.2 k0_h6

def k0_chk490 (i : grid0.Coords) (v2 : IVec S16 32) (k0_t5 : Fin (k0_t5_loop i).trips) (v140 : BitVec 32) (v186 : IVec S16 32) : Prop :=
  (∀ (k0_h6 : ¬(k0_cond6 v140 = 1#1)), ∀ a x, ((![v186, v2] : Fin 2 → IVec S16 32) a x).toNat < S256x16.size a)
theorem k0_idx882_inb : ∀ (i : grid0.Coords) (v2 : IVec S16 32) (k0_t5 : Fin (k0_t5_loop i).trips) (v140 : BitVec 32) (v186 : IVec S16 32) (k0_hw490 : k0_chk490 i v2 k0_t5 v140 v186), ∀ (k0_h6 : ¬(k0_cond6 v140 = 1#1)), ∀ a x, ((![v186, v2] : Fin 2 → IVec S16 32) a x).toNat < S256x16.size a := fun i v2 k0_t5 v140 v186 k0_hw490 k0_h6 => k0_hw490 k0_h6

def k0_chk491 (i : grid0.Coords) (k0_t5 : Fin (k0_t5_loop i).trips) (v140 : BitVec 32) (v247 : IVec S16 32) : Prop :=
  (∀ (k0_h6 : ¬(k0_cond6 v140 = 1#1)), ∀ a x, ((![v247] : Fin 1 → IVec S16 32) a x).toNat < S3136.size a)
theorem k0_idx883_inb : ∀ (i : grid0.Coords) (k0_t5 : Fin (k0_t5_loop i).trips) (v140 : BitVec 32) (v247 : IVec S16 32) (k0_hw491 : k0_chk491 i k0_t5 v140 v247), ∀ (k0_h6 : ¬(k0_cond6 v140 = 1#1)), ∀ a x, ((![v247] : Fin 1 → IVec S16 32) a x).toNat < S3136.size a := fun i k0_t5 v140 v247 k0_hw491 k0_h6 => k0_hw491 k0_h6
def k0_off444 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v250 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c1_i32_91 : BitVec 32 := 1#32
  let v249 : BitVec 32 := Scalar.addi v126 c1_i32_91
  let v251 : Index := Scalar.indexCast v249
  let c0_92 : Index := 0#32
  ![v250.toNat, v251.toNat, 0]
def k0_off445 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v254 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c1_i32_93 : BitVec 32 := 1#32
  let v253 : BitVec 32 := Scalar.addi v126 c1_i32_93
  let v255 : Index := Scalar.indexCast v253
  let c16_94 : Index := 16#32
  ![v254.toNat, v255.toNat, 16]
def k0_off446 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v258 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c1_i32_95 : BitVec 32 := 1#32
  let v257 : BitVec 32 := Scalar.addi v126 c1_i32_95
  let v259 : Index := Scalar.indexCast v257
  let c32_96 : Index := 32#32
  ![v258.toNat, v259.toNat, 32]
def k0_off447 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v262 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c1_i32_97 : BitVec 32 := 1#32
  let v261 : BitVec 32 := Scalar.addi v126 c1_i32_97
  let v263 : Index := Scalar.indexCast v261
  let c48_98 : Index := 48#32
  ![v262.toNat, v263.toNat, 48]
def k0_off448 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v266 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c1_i32_99 : BitVec 32 := 1#32
  let v265 : BitVec 32 := Scalar.addi v126 c1_i32_99
  let v267 : Index := Scalar.indexCast v265
  let c64_100 : Index := 64#32
  ![v266.toNat, v267.toNat, 64]
def k0_off449 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v270 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c1_i32_101 : BitVec 32 := 1#32
  let v269 : BitVec 32 := Scalar.addi v126 c1_i32_101
  let v271 : Index := Scalar.indexCast v269
  let c80_102 : Index := 80#32
  ![v270.toNat, v271.toNat, 80]
def k0_off450 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v274 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c1_i32_103 : BitVec 32 := 1#32
  let v273 : BitVec 32 := Scalar.addi v126 c1_i32_103
  let v275 : Index := Scalar.indexCast v273
  let c96_104 : Index := 96#32
  ![v274.toNat, v275.toNat, 96]
def k0_off451 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v278 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c1_i32_105 : BitVec 32 := 1#32
  let v277 : BitVec 32 := Scalar.addi v126 c1_i32_105
  let v279 : Index := Scalar.indexCast v277
  let c112_106 : Index := 112#32
  ![v278.toNat, v279.toNat, 112]

def k0_chk492 (i : grid0.Coords) (k0_t5 : Fin (k0_t5_loop i).trips) (v140 : BitVec 32) (v287 : IVec S16 32) (v289 : IVec S16 32) : Prop :=
  (∀ (k0_h6 : ¬(k0_cond6 v140 = 1#1)), ∀ a x, ((![v287, v289] : Fin 2 → IVec S16 32) a x).toNat < S256x128.size a) ∧
  (∀ (k0_h6 : ¬(k0_cond6 v140 = 1#1)), ∀ a x, ((![v287, v289] : Fin 2 → IVec S16 32) a x).toNat < S256x128.size a)
theorem k0_idx884_inb : ∀ (i : grid0.Coords) (k0_t5 : Fin (k0_t5_loop i).trips) (v140 : BitVec 32) (v287 : IVec S16 32) (v289 : IVec S16 32) (k0_hw492 : k0_chk492 i k0_t5 v140 v287 v289), ∀ (k0_h6 : ¬(k0_cond6 v140 = 1#1)), ∀ a x, ((![v287, v289] : Fin 2 → IVec S16 32) a x).toNat < S256x128.size a := fun i k0_t5 v140 v287 v289 k0_hw492 k0_h6 => k0_hw492.1 k0_h6
theorem k0_idx885_inb : ∀ (i : grid0.Coords) (k0_t5 : Fin (k0_t5_loop i).trips) (v140 : BitVec 32) (v287 : IVec S16 32) (v289 : IVec S16 32) (k0_hw492 : k0_chk492 i k0_t5 v140 v287 v289), ∀ (k0_h6 : ¬(k0_cond6 v140 = 1#1)), ∀ a x, ((![v287, v289] : Fin 2 → IVec S16 32) a x).toNat < S256x128.size a := fun i k0_t5 v140 v287 v289 k0_hw492 k0_h6 => k0_hw492.2 k0_h6

def k0_chk493 (i : grid0.Coords) (k0_t5 : Fin (k0_t5_loop i).trips) (v140 : BitVec 32) (v287 : IVec S16 32) (v291 : IVec S16 32) : Prop :=
  (∀ (k0_h6 : ¬(k0_cond6 v140 = 1#1)), ∀ a x, ((![v287, v291] : Fin 2 → IVec S16 32) a x).toNat < S256x128.size a) ∧
  (∀ (k0_h6 : ¬(k0_cond6 v140 = 1#1)), ∀ a x, ((![v287, v291] : Fin 2 → IVec S16 32) a x).toNat < S256x128.size a)
theorem k0_idx886_inb : ∀ (i : grid0.Coords) (k0_t5 : Fin (k0_t5_loop i).trips) (v140 : BitVec 32) (v287 : IVec S16 32) (v291 : IVec S16 32) (k0_hw493 : k0_chk493 i k0_t5 v140 v287 v291), ∀ (k0_h6 : ¬(k0_cond6 v140 = 1#1)), ∀ a x, ((![v287, v291] : Fin 2 → IVec S16 32) a x).toNat < S256x128.size a := fun i k0_t5 v140 v287 v291 k0_hw493 k0_h6 => k0_hw493.1 k0_h6
theorem k0_idx887_inb : ∀ (i : grid0.Coords) (k0_t5 : Fin (k0_t5_loop i).trips) (v140 : BitVec 32) (v287 : IVec S16 32) (v291 : IVec S16 32) (k0_hw493 : k0_chk493 i k0_t5 v140 v287 v291), ∀ (k0_h6 : ¬(k0_cond6 v140 = 1#1)), ∀ a x, ((![v287, v291] : Fin 2 → IVec S16 32) a x).toNat < S256x128.size a := fun i k0_t5 v140 v287 v291 k0_hw493 k0_h6 => k0_hw493.2 k0_h6

def k0_chk494 (i : grid0.Coords) (k0_t5 : Fin (k0_t5_loop i).trips) (v140 : BitVec 32) (v287 : IVec S16 32) (v293 : IVec S16 32) : Prop :=
  (∀ (k0_h6 : ¬(k0_cond6 v140 = 1#1)), ∀ a x, ((![v287, v293] : Fin 2 → IVec S16 32) a x).toNat < S256x128.size a) ∧
  (∀ (k0_h6 : ¬(k0_cond6 v140 = 1#1)), ∀ a x, ((![v287, v293] : Fin 2 → IVec S16 32) a x).toNat < S256x128.size a)
theorem k0_idx888_inb : ∀ (i : grid0.Coords) (k0_t5 : Fin (k0_t5_loop i).trips) (v140 : BitVec 32) (v287 : IVec S16 32) (v293 : IVec S16 32) (k0_hw494 : k0_chk494 i k0_t5 v140 v287 v293), ∀ (k0_h6 : ¬(k0_cond6 v140 = 1#1)), ∀ a x, ((![v287, v293] : Fin 2 → IVec S16 32) a x).toNat < S256x128.size a := fun i k0_t5 v140 v287 v293 k0_hw494 k0_h6 => k0_hw494.1 k0_h6
theorem k0_idx889_inb : ∀ (i : grid0.Coords) (k0_t5 : Fin (k0_t5_loop i).trips) (v140 : BitVec 32) (v287 : IVec S16 32) (v293 : IVec S16 32) (k0_hw494 : k0_chk494 i k0_t5 v140 v287 v293), ∀ (k0_h6 : ¬(k0_cond6 v140 = 1#1)), ∀ a x, ((![v287, v293] : Fin 2 → IVec S16 32) a x).toNat < S256x128.size a := fun i k0_t5 v140 v287 v293 k0_hw494 k0_h6 => k0_hw494.2 k0_h6

def k0_chk495 (i : grid0.Coords) (k0_t5 : Fin (k0_t5_loop i).trips) (v140 : BitVec 32) (v287 : IVec S16 32) (v295 : IVec S16 32) : Prop :=
  (∀ (k0_h6 : ¬(k0_cond6 v140 = 1#1)), ∀ a x, ((![v287, v295] : Fin 2 → IVec S16 32) a x).toNat < S256x128.size a) ∧
  (∀ (k0_h6 : ¬(k0_cond6 v140 = 1#1)), ∀ a x, ((![v287, v295] : Fin 2 → IVec S16 32) a x).toNat < S256x128.size a)
theorem k0_idx890_inb : ∀ (i : grid0.Coords) (k0_t5 : Fin (k0_t5_loop i).trips) (v140 : BitVec 32) (v287 : IVec S16 32) (v295 : IVec S16 32) (k0_hw495 : k0_chk495 i k0_t5 v140 v287 v295), ∀ (k0_h6 : ¬(k0_cond6 v140 = 1#1)), ∀ a x, ((![v287, v295] : Fin 2 → IVec S16 32) a x).toNat < S256x128.size a := fun i k0_t5 v140 v287 v295 k0_hw495 k0_h6 => k0_hw495.1 k0_h6
theorem k0_idx891_inb : ∀ (i : grid0.Coords) (k0_t5 : Fin (k0_t5_loop i).trips) (v140 : BitVec 32) (v287 : IVec S16 32) (v295 : IVec S16 32) (k0_hw495 : k0_chk495 i k0_t5 v140 v287 v295), ∀ (k0_h6 : ¬(k0_cond6 v140 = 1#1)), ∀ a x, ((![v287, v295] : Fin 2 → IVec S16 32) a x).toNat < S256x128.size a := fun i k0_t5 v140 v287 v295 k0_hw495 k0_h6 => k0_hw495.2 k0_h6

def k0_chk496 (i : grid0.Coords) (k0_t5 : Fin (k0_t5_loop i).trips) (v140 : BitVec 32) (v287 : IVec S16 32) (v297 : IVec S16 32) : Prop :=
  (∀ (k0_h6 : ¬(k0_cond6 v140 = 1#1)), ∀ a x, ((![v287, v297] : Fin 2 → IVec S16 32) a x).toNat < S256x128.size a) ∧
  (∀ (k0_h6 : ¬(k0_cond6 v140 = 1#1)), ∀ a x, ((![v287, v297] : Fin 2 → IVec S16 32) a x).toNat < S256x128.size a)
theorem k0_idx892_inb : ∀ (i : grid0.Coords) (k0_t5 : Fin (k0_t5_loop i).trips) (v140 : BitVec 32) (v287 : IVec S16 32) (v297 : IVec S16 32) (k0_hw496 : k0_chk496 i k0_t5 v140 v287 v297), ∀ (k0_h6 : ¬(k0_cond6 v140 = 1#1)), ∀ a x, ((![v287, v297] : Fin 2 → IVec S16 32) a x).toNat < S256x128.size a := fun i k0_t5 v140 v287 v297 k0_hw496 k0_h6 => k0_hw496.1 k0_h6
theorem k0_idx893_inb : ∀ (i : grid0.Coords) (k0_t5 : Fin (k0_t5_loop i).trips) (v140 : BitVec 32) (v287 : IVec S16 32) (v297 : IVec S16 32) (k0_hw496 : k0_chk496 i k0_t5 v140 v287 v297), ∀ (k0_h6 : ¬(k0_cond6 v140 = 1#1)), ∀ a x, ((![v287, v297] : Fin 2 → IVec S16 32) a x).toNat < S256x128.size a := fun i k0_t5 v140 v287 v297 k0_hw496 k0_h6 => k0_hw496.2 k0_h6

def k0_chk497 (i : grid0.Coords) (k0_t5 : Fin (k0_t5_loop i).trips) (v140 : BitVec 32) (v287 : IVec S16 32) (v299 : IVec S16 32) : Prop :=
  (∀ (k0_h6 : ¬(k0_cond6 v140 = 1#1)), ∀ a x, ((![v287, v299] : Fin 2 → IVec S16 32) a x).toNat < S256x128.size a) ∧
  (∀ (k0_h6 : ¬(k0_cond6 v140 = 1#1)), ∀ a x, ((![v287, v299] : Fin 2 → IVec S16 32) a x).toNat < S256x128.size a)
theorem k0_idx894_inb : ∀ (i : grid0.Coords) (k0_t5 : Fin (k0_t5_loop i).trips) (v140 : BitVec 32) (v287 : IVec S16 32) (v299 : IVec S16 32) (k0_hw497 : k0_chk497 i k0_t5 v140 v287 v299), ∀ (k0_h6 : ¬(k0_cond6 v140 = 1#1)), ∀ a x, ((![v287, v299] : Fin 2 → IVec S16 32) a x).toNat < S256x128.size a := fun i k0_t5 v140 v287 v299 k0_hw497 k0_h6 => k0_hw497.1 k0_h6
theorem k0_idx895_inb : ∀ (i : grid0.Coords) (k0_t5 : Fin (k0_t5_loop i).trips) (v140 : BitVec 32) (v287 : IVec S16 32) (v299 : IVec S16 32) (k0_hw497 : k0_chk497 i k0_t5 v140 v287 v299), ∀ (k0_h6 : ¬(k0_cond6 v140 = 1#1)), ∀ a x, ((![v287, v299] : Fin 2 → IVec S16 32) a x).toNat < S256x128.size a := fun i k0_t5 v140 v287 v299 k0_hw497 k0_h6 => k0_hw497.2 k0_h6

def k0_chk498 (i : grid0.Coords) (k0_t5 : Fin (k0_t5_loop i).trips) (v140 : BitVec 32) (v287 : IVec S16 32) (v301 : IVec S16 32) : Prop :=
  (∀ (k0_h6 : ¬(k0_cond6 v140 = 1#1)), ∀ a x, ((![v287, v301] : Fin 2 → IVec S16 32) a x).toNat < S256x128.size a) ∧
  (∀ (k0_h6 : ¬(k0_cond6 v140 = 1#1)), ∀ a x, ((![v287, v301] : Fin 2 → IVec S16 32) a x).toNat < S256x128.size a)
theorem k0_idx896_inb : ∀ (i : grid0.Coords) (k0_t5 : Fin (k0_t5_loop i).trips) (v140 : BitVec 32) (v287 : IVec S16 32) (v301 : IVec S16 32) (k0_hw498 : k0_chk498 i k0_t5 v140 v287 v301), ∀ (k0_h6 : ¬(k0_cond6 v140 = 1#1)), ∀ a x, ((![v287, v301] : Fin 2 → IVec S16 32) a x).toNat < S256x128.size a := fun i k0_t5 v140 v287 v301 k0_hw498 k0_h6 => k0_hw498.1 k0_h6
theorem k0_idx897_inb : ∀ (i : grid0.Coords) (k0_t5 : Fin (k0_t5_loop i).trips) (v140 : BitVec 32) (v287 : IVec S16 32) (v301 : IVec S16 32) (k0_hw498 : k0_chk498 i k0_t5 v140 v287 v301), ∀ (k0_h6 : ¬(k0_cond6 v140 = 1#1)), ∀ a x, ((![v287, v301] : Fin 2 → IVec S16 32) a x).toNat < S256x128.size a := fun i k0_t5 v140 v287 v301 k0_hw498 k0_h6 => k0_hw498.2 k0_h6

def k0_chk499 (i : grid0.Coords) (k0_t5 : Fin (k0_t5_loop i).trips) (v140 : BitVec 32) (v287 : IVec S16 32) (v303 : IVec S16 32) : Prop :=
  (∀ (k0_h6 : ¬(k0_cond6 v140 = 1#1)), ∀ a x, ((![v287, v303] : Fin 2 → IVec S16 32) a x).toNat < S256x128.size a) ∧
  (∀ (k0_h6 : ¬(k0_cond6 v140 = 1#1)), ∀ a x, ((![v287, v303] : Fin 2 → IVec S16 32) a x).toNat < S256x128.size a)
theorem k0_idx898_inb : ∀ (i : grid0.Coords) (k0_t5 : Fin (k0_t5_loop i).trips) (v140 : BitVec 32) (v287 : IVec S16 32) (v303 : IVec S16 32) (k0_hw499 : k0_chk499 i k0_t5 v140 v287 v303), ∀ (k0_h6 : ¬(k0_cond6 v140 = 1#1)), ∀ a x, ((![v287, v303] : Fin 2 → IVec S16 32) a x).toNat < S256x128.size a := fun i k0_t5 v140 v287 v303 k0_hw499 k0_h6 => k0_hw499.1 k0_h6
theorem k0_idx899_inb : ∀ (i : grid0.Coords) (k0_t5 : Fin (k0_t5_loop i).trips) (v140 : BitVec 32) (v287 : IVec S16 32) (v303 : IVec S16 32) (k0_hw499 : k0_chk499 i k0_t5 v140 v287 v303), ∀ (k0_h6 : ¬(k0_cond6 v140 = 1#1)), ∀ a x, ((![v287, v303] : Fin 2 → IVec S16 32) a x).toNat < S256x128.size a := fun i k0_t5 v140 v287 v303 k0_hw499 k0_h6 => k0_hw499.2 k0_h6

def k0_chk500 (i : grid0.Coords) (v2 : IVec S16 32) (k0_t5 : Fin (k0_t5_loop i).trips) (v140 : BitVec 32) (v287 : IVec S16 32) : Prop :=
  (∀ (k0_h6 : ¬(k0_cond6 v140 = 1#1)), ∀ a x, ((![v287, v2] : Fin 2 → IVec S16 32) a x).toNat < S256x16.size a)
theorem k0_idx900_inb : ∀ (i : grid0.Coords) (v2 : IVec S16 32) (k0_t5 : Fin (k0_t5_loop i).trips) (v140 : BitVec 32) (v287 : IVec S16 32) (k0_hw500 : k0_chk500 i v2 k0_t5 v140 v287), ∀ (k0_h6 : ¬(k0_cond6 v140 = 1#1)), ∀ a x, ((![v287, v2] : Fin 2 → IVec S16 32) a x).toNat < S256x16.size a := fun i v2 k0_t5 v140 v287 k0_hw500 k0_h6 => k0_hw500 k0_h6

def k0_chk501 (i : grid0.Coords) (k0_t5 : Fin (k0_t5_loop i).trips) (v140 : BitVec 32) (v348 : IVec S16 32) : Prop :=
  (∀ (k0_h6 : ¬(k0_cond6 v140 = 1#1)), ∀ a x, ((![v348] : Fin 1 → IVec S16 32) a x).toNat < S3136.size a)
theorem k0_idx901_inb : ∀ (i : grid0.Coords) (k0_t5 : Fin (k0_t5_loop i).trips) (v140 : BitVec 32) (v348 : IVec S16 32) (k0_hw501 : k0_chk501 i k0_t5 v140 v348), ∀ (k0_h6 : ¬(k0_cond6 v140 = 1#1)), ∀ a x, ((![v348] : Fin 1 → IVec S16 32) a x).toNat < S3136.size a := fun i k0_t5 v140 v348 k0_hw501 k0_h6 => k0_hw501 k0_h6
def k0_off452 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v351 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c2_i32_122 : BitVec 32 := 2#32
  let v350 : BitVec 32 := Scalar.addi v126 c2_i32_122
  let v352 : Index := Scalar.indexCast v350
  let c0_123 : Index := 0#32
  ![v351.toNat, v352.toNat, 0]
def k0_off453 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v355 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c2_i32_124 : BitVec 32 := 2#32
  let v354 : BitVec 32 := Scalar.addi v126 c2_i32_124
  let v356 : Index := Scalar.indexCast v354
  let c16_125 : Index := 16#32
  ![v355.toNat, v356.toNat, 16]
def k0_off454 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v359 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c2_i32_126 : BitVec 32 := 2#32
  let v358 : BitVec 32 := Scalar.addi v126 c2_i32_126
  let v360 : Index := Scalar.indexCast v358
  let c32_127 : Index := 32#32
  ![v359.toNat, v360.toNat, 32]
def k0_off455 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v363 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c2_i32_128 : BitVec 32 := 2#32
  let v362 : BitVec 32 := Scalar.addi v126 c2_i32_128
  let v364 : Index := Scalar.indexCast v362
  let c48_129 : Index := 48#32
  ![v363.toNat, v364.toNat, 48]
def k0_off456 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v367 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c2_i32_130 : BitVec 32 := 2#32
  let v366 : BitVec 32 := Scalar.addi v126 c2_i32_130
  let v368 : Index := Scalar.indexCast v366
  let c64_131 : Index := 64#32
  ![v367.toNat, v368.toNat, 64]
def k0_off457 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v371 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c2_i32_132 : BitVec 32 := 2#32
  let v370 : BitVec 32 := Scalar.addi v126 c2_i32_132
  let v372 : Index := Scalar.indexCast v370
  let c80_133 : Index := 80#32
  ![v371.toNat, v372.toNat, 80]
def k0_off458 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v375 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c2_i32_134 : BitVec 32 := 2#32
  let v374 : BitVec 32 := Scalar.addi v126 c2_i32_134
  let v376 : Index := Scalar.indexCast v374
  let c96_135 : Index := 96#32
  ![v375.toNat, v376.toNat, 96]
def k0_off459 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v379 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c2_i32_136 : BitVec 32 := 2#32
  let v378 : BitVec 32 := Scalar.addi v126 c2_i32_136
  let v380 : Index := Scalar.indexCast v378
  let c112_137 : Index := 112#32
  ![v379.toNat, v380.toNat, 112]

def k0_chk502 (i : grid0.Coords) (k0_t5 : Fin (k0_t5_loop i).trips) (v140 : BitVec 32) (v388 : IVec S16 32) (v390 : IVec S16 32) : Prop :=
  (∀ (k0_h6 : ¬(k0_cond6 v140 = 1#1)), ∀ a x, ((![v388, v390] : Fin 2 → IVec S16 32) a x).toNat < S256x128.size a) ∧
  (∀ (k0_h6 : ¬(k0_cond6 v140 = 1#1)), ∀ a x, ((![v388, v390] : Fin 2 → IVec S16 32) a x).toNat < S256x128.size a)
theorem k0_idx902_inb : ∀ (i : grid0.Coords) (k0_t5 : Fin (k0_t5_loop i).trips) (v140 : BitVec 32) (v388 : IVec S16 32) (v390 : IVec S16 32) (k0_hw502 : k0_chk502 i k0_t5 v140 v388 v390), ∀ (k0_h6 : ¬(k0_cond6 v140 = 1#1)), ∀ a x, ((![v388, v390] : Fin 2 → IVec S16 32) a x).toNat < S256x128.size a := fun i k0_t5 v140 v388 v390 k0_hw502 k0_h6 => k0_hw502.1 k0_h6
theorem k0_idx903_inb : ∀ (i : grid0.Coords) (k0_t5 : Fin (k0_t5_loop i).trips) (v140 : BitVec 32) (v388 : IVec S16 32) (v390 : IVec S16 32) (k0_hw502 : k0_chk502 i k0_t5 v140 v388 v390), ∀ (k0_h6 : ¬(k0_cond6 v140 = 1#1)), ∀ a x, ((![v388, v390] : Fin 2 → IVec S16 32) a x).toNat < S256x128.size a := fun i k0_t5 v140 v388 v390 k0_hw502 k0_h6 => k0_hw502.2 k0_h6

def k0_chk503 (i : grid0.Coords) (k0_t5 : Fin (k0_t5_loop i).trips) (v140 : BitVec 32) (v388 : IVec S16 32) (v392 : IVec S16 32) : Prop :=
  (∀ (k0_h6 : ¬(k0_cond6 v140 = 1#1)), ∀ a x, ((![v388, v392] : Fin 2 → IVec S16 32) a x).toNat < S256x128.size a) ∧
  (∀ (k0_h6 : ¬(k0_cond6 v140 = 1#1)), ∀ a x, ((![v388, v392] : Fin 2 → IVec S16 32) a x).toNat < S256x128.size a)
theorem k0_idx904_inb : ∀ (i : grid0.Coords) (k0_t5 : Fin (k0_t5_loop i).trips) (v140 : BitVec 32) (v388 : IVec S16 32) (v392 : IVec S16 32) (k0_hw503 : k0_chk503 i k0_t5 v140 v388 v392), ∀ (k0_h6 : ¬(k0_cond6 v140 = 1#1)), ∀ a x, ((![v388, v392] : Fin 2 → IVec S16 32) a x).toNat < S256x128.size a := fun i k0_t5 v140 v388 v392 k0_hw503 k0_h6 => k0_hw503.1 k0_h6
theorem k0_idx905_inb : ∀ (i : grid0.Coords) (k0_t5 : Fin (k0_t5_loop i).trips) (v140 : BitVec 32) (v388 : IVec S16 32) (v392 : IVec S16 32) (k0_hw503 : k0_chk503 i k0_t5 v140 v388 v392), ∀ (k0_h6 : ¬(k0_cond6 v140 = 1#1)), ∀ a x, ((![v388, v392] : Fin 2 → IVec S16 32) a x).toNat < S256x128.size a := fun i k0_t5 v140 v388 v392 k0_hw503 k0_h6 => k0_hw503.2 k0_h6

def k0_chk504 (i : grid0.Coords) (k0_t5 : Fin (k0_t5_loop i).trips) (v140 : BitVec 32) (v388 : IVec S16 32) (v394 : IVec S16 32) : Prop :=
  (∀ (k0_h6 : ¬(k0_cond6 v140 = 1#1)), ∀ a x, ((![v388, v394] : Fin 2 → IVec S16 32) a x).toNat < S256x128.size a) ∧
  (∀ (k0_h6 : ¬(k0_cond6 v140 = 1#1)), ∀ a x, ((![v388, v394] : Fin 2 → IVec S16 32) a x).toNat < S256x128.size a)
theorem k0_idx906_inb : ∀ (i : grid0.Coords) (k0_t5 : Fin (k0_t5_loop i).trips) (v140 : BitVec 32) (v388 : IVec S16 32) (v394 : IVec S16 32) (k0_hw504 : k0_chk504 i k0_t5 v140 v388 v394), ∀ (k0_h6 : ¬(k0_cond6 v140 = 1#1)), ∀ a x, ((![v388, v394] : Fin 2 → IVec S16 32) a x).toNat < S256x128.size a := fun i k0_t5 v140 v388 v394 k0_hw504 k0_h6 => k0_hw504.1 k0_h6
theorem k0_idx907_inb : ∀ (i : grid0.Coords) (k0_t5 : Fin (k0_t5_loop i).trips) (v140 : BitVec 32) (v388 : IVec S16 32) (v394 : IVec S16 32) (k0_hw504 : k0_chk504 i k0_t5 v140 v388 v394), ∀ (k0_h6 : ¬(k0_cond6 v140 = 1#1)), ∀ a x, ((![v388, v394] : Fin 2 → IVec S16 32) a x).toNat < S256x128.size a := fun i k0_t5 v140 v388 v394 k0_hw504 k0_h6 => k0_hw504.2 k0_h6

def k0_chk505 (i : grid0.Coords) (k0_t5 : Fin (k0_t5_loop i).trips) (v140 : BitVec 32) (v388 : IVec S16 32) (v396 : IVec S16 32) : Prop :=
  (∀ (k0_h6 : ¬(k0_cond6 v140 = 1#1)), ∀ a x, ((![v388, v396] : Fin 2 → IVec S16 32) a x).toNat < S256x128.size a) ∧
  (∀ (k0_h6 : ¬(k0_cond6 v140 = 1#1)), ∀ a x, ((![v388, v396] : Fin 2 → IVec S16 32) a x).toNat < S256x128.size a)
theorem k0_idx908_inb : ∀ (i : grid0.Coords) (k0_t5 : Fin (k0_t5_loop i).trips) (v140 : BitVec 32) (v388 : IVec S16 32) (v396 : IVec S16 32) (k0_hw505 : k0_chk505 i k0_t5 v140 v388 v396), ∀ (k0_h6 : ¬(k0_cond6 v140 = 1#1)), ∀ a x, ((![v388, v396] : Fin 2 → IVec S16 32) a x).toNat < S256x128.size a := fun i k0_t5 v140 v388 v396 k0_hw505 k0_h6 => k0_hw505.1 k0_h6
theorem k0_idx909_inb : ∀ (i : grid0.Coords) (k0_t5 : Fin (k0_t5_loop i).trips) (v140 : BitVec 32) (v388 : IVec S16 32) (v396 : IVec S16 32) (k0_hw505 : k0_chk505 i k0_t5 v140 v388 v396), ∀ (k0_h6 : ¬(k0_cond6 v140 = 1#1)), ∀ a x, ((![v388, v396] : Fin 2 → IVec S16 32) a x).toNat < S256x128.size a := fun i k0_t5 v140 v388 v396 k0_hw505 k0_h6 => k0_hw505.2 k0_h6

def k0_chk506 (i : grid0.Coords) (k0_t5 : Fin (k0_t5_loop i).trips) (v140 : BitVec 32) (v388 : IVec S16 32) (v398 : IVec S16 32) : Prop :=
  (∀ (k0_h6 : ¬(k0_cond6 v140 = 1#1)), ∀ a x, ((![v388, v398] : Fin 2 → IVec S16 32) a x).toNat < S256x128.size a) ∧
  (∀ (k0_h6 : ¬(k0_cond6 v140 = 1#1)), ∀ a x, ((![v388, v398] : Fin 2 → IVec S16 32) a x).toNat < S256x128.size a)
theorem k0_idx910_inb : ∀ (i : grid0.Coords) (k0_t5 : Fin (k0_t5_loop i).trips) (v140 : BitVec 32) (v388 : IVec S16 32) (v398 : IVec S16 32) (k0_hw506 : k0_chk506 i k0_t5 v140 v388 v398), ∀ (k0_h6 : ¬(k0_cond6 v140 = 1#1)), ∀ a x, ((![v388, v398] : Fin 2 → IVec S16 32) a x).toNat < S256x128.size a := fun i k0_t5 v140 v388 v398 k0_hw506 k0_h6 => k0_hw506.1 k0_h6
theorem k0_idx911_inb : ∀ (i : grid0.Coords) (k0_t5 : Fin (k0_t5_loop i).trips) (v140 : BitVec 32) (v388 : IVec S16 32) (v398 : IVec S16 32) (k0_hw506 : k0_chk506 i k0_t5 v140 v388 v398), ∀ (k0_h6 : ¬(k0_cond6 v140 = 1#1)), ∀ a x, ((![v388, v398] : Fin 2 → IVec S16 32) a x).toNat < S256x128.size a := fun i k0_t5 v140 v388 v398 k0_hw506 k0_h6 => k0_hw506.2 k0_h6

def k0_chk507 (i : grid0.Coords) (k0_t5 : Fin (k0_t5_loop i).trips) (v140 : BitVec 32) (v388 : IVec S16 32) (v400 : IVec S16 32) : Prop :=
  (∀ (k0_h6 : ¬(k0_cond6 v140 = 1#1)), ∀ a x, ((![v388, v400] : Fin 2 → IVec S16 32) a x).toNat < S256x128.size a) ∧
  (∀ (k0_h6 : ¬(k0_cond6 v140 = 1#1)), ∀ a x, ((![v388, v400] : Fin 2 → IVec S16 32) a x).toNat < S256x128.size a)
theorem k0_idx912_inb : ∀ (i : grid0.Coords) (k0_t5 : Fin (k0_t5_loop i).trips) (v140 : BitVec 32) (v388 : IVec S16 32) (v400 : IVec S16 32) (k0_hw507 : k0_chk507 i k0_t5 v140 v388 v400), ∀ (k0_h6 : ¬(k0_cond6 v140 = 1#1)), ∀ a x, ((![v388, v400] : Fin 2 → IVec S16 32) a x).toNat < S256x128.size a := fun i k0_t5 v140 v388 v400 k0_hw507 k0_h6 => k0_hw507.1 k0_h6
theorem k0_idx913_inb : ∀ (i : grid0.Coords) (k0_t5 : Fin (k0_t5_loop i).trips) (v140 : BitVec 32) (v388 : IVec S16 32) (v400 : IVec S16 32) (k0_hw507 : k0_chk507 i k0_t5 v140 v388 v400), ∀ (k0_h6 : ¬(k0_cond6 v140 = 1#1)), ∀ a x, ((![v388, v400] : Fin 2 → IVec S16 32) a x).toNat < S256x128.size a := fun i k0_t5 v140 v388 v400 k0_hw507 k0_h6 => k0_hw507.2 k0_h6

def k0_chk508 (i : grid0.Coords) (k0_t5 : Fin (k0_t5_loop i).trips) (v140 : BitVec 32) (v388 : IVec S16 32) (v402 : IVec S16 32) : Prop :=
  (∀ (k0_h6 : ¬(k0_cond6 v140 = 1#1)), ∀ a x, ((![v388, v402] : Fin 2 → IVec S16 32) a x).toNat < S256x128.size a) ∧
  (∀ (k0_h6 : ¬(k0_cond6 v140 = 1#1)), ∀ a x, ((![v388, v402] : Fin 2 → IVec S16 32) a x).toNat < S256x128.size a)
theorem k0_idx914_inb : ∀ (i : grid0.Coords) (k0_t5 : Fin (k0_t5_loop i).trips) (v140 : BitVec 32) (v388 : IVec S16 32) (v402 : IVec S16 32) (k0_hw508 : k0_chk508 i k0_t5 v140 v388 v402), ∀ (k0_h6 : ¬(k0_cond6 v140 = 1#1)), ∀ a x, ((![v388, v402] : Fin 2 → IVec S16 32) a x).toNat < S256x128.size a := fun i k0_t5 v140 v388 v402 k0_hw508 k0_h6 => k0_hw508.1 k0_h6
theorem k0_idx915_inb : ∀ (i : grid0.Coords) (k0_t5 : Fin (k0_t5_loop i).trips) (v140 : BitVec 32) (v388 : IVec S16 32) (v402 : IVec S16 32) (k0_hw508 : k0_chk508 i k0_t5 v140 v388 v402), ∀ (k0_h6 : ¬(k0_cond6 v140 = 1#1)), ∀ a x, ((![v388, v402] : Fin 2 → IVec S16 32) a x).toNat < S256x128.size a := fun i k0_t5 v140 v388 v402 k0_hw508 k0_h6 => k0_hw508.2 k0_h6

def k0_chk509 (i : grid0.Coords) (k0_t5 : Fin (k0_t5_loop i).trips) (v140 : BitVec 32) (v388 : IVec S16 32) (v404 : IVec S16 32) : Prop :=
  (∀ (k0_h6 : ¬(k0_cond6 v140 = 1#1)), ∀ a x, ((![v388, v404] : Fin 2 → IVec S16 32) a x).toNat < S256x128.size a) ∧
  (∀ (k0_h6 : ¬(k0_cond6 v140 = 1#1)), ∀ a x, ((![v388, v404] : Fin 2 → IVec S16 32) a x).toNat < S256x128.size a)
theorem k0_idx916_inb : ∀ (i : grid0.Coords) (k0_t5 : Fin (k0_t5_loop i).trips) (v140 : BitVec 32) (v388 : IVec S16 32) (v404 : IVec S16 32) (k0_hw509 : k0_chk509 i k0_t5 v140 v388 v404), ∀ (k0_h6 : ¬(k0_cond6 v140 = 1#1)), ∀ a x, ((![v388, v404] : Fin 2 → IVec S16 32) a x).toNat < S256x128.size a := fun i k0_t5 v140 v388 v404 k0_hw509 k0_h6 => k0_hw509.1 k0_h6
theorem k0_idx917_inb : ∀ (i : grid0.Coords) (k0_t5 : Fin (k0_t5_loop i).trips) (v140 : BitVec 32) (v388 : IVec S16 32) (v404 : IVec S16 32) (k0_hw509 : k0_chk509 i k0_t5 v140 v388 v404), ∀ (k0_h6 : ¬(k0_cond6 v140 = 1#1)), ∀ a x, ((![v388, v404] : Fin 2 → IVec S16 32) a x).toNat < S256x128.size a := fun i k0_t5 v140 v388 v404 k0_hw509 k0_h6 => k0_hw509.2 k0_h6

def k0_chk510 (i : grid0.Coords) (v2 : IVec S16 32) (k0_t5 : Fin (k0_t5_loop i).trips) (v140 : BitVec 32) (v388 : IVec S16 32) : Prop :=
  (∀ (k0_h6 : ¬(k0_cond6 v140 = 1#1)), ∀ a x, ((![v388, v2] : Fin 2 → IVec S16 32) a x).toNat < S256x16.size a)
theorem k0_idx918_inb : ∀ (i : grid0.Coords) (v2 : IVec S16 32) (k0_t5 : Fin (k0_t5_loop i).trips) (v140 : BitVec 32) (v388 : IVec S16 32) (k0_hw510 : k0_chk510 i v2 k0_t5 v140 v388), ∀ (k0_h6 : ¬(k0_cond6 v140 = 1#1)), ∀ a x, ((![v388, v2] : Fin 2 → IVec S16 32) a x).toNat < S256x16.size a := fun i v2 k0_t5 v140 v388 k0_hw510 k0_h6 => k0_hw510 k0_h6

def k0_chk511 (i : grid0.Coords) (k0_t5 : Fin (k0_t5_loop i).trips) (v140 : BitVec 32) (v449 : IVec S16 32) : Prop :=
  (∀ (k0_h6 : ¬(k0_cond6 v140 = 1#1)), ∀ a x, ((![v449] : Fin 1 → IVec S16 32) a x).toNat < S3136.size a)
theorem k0_idx919_inb : ∀ (i : grid0.Coords) (k0_t5 : Fin (k0_t5_loop i).trips) (v140 : BitVec 32) (v449 : IVec S16 32) (k0_hw511 : k0_chk511 i k0_t5 v140 v449), ∀ (k0_h6 : ¬(k0_cond6 v140 = 1#1)), ∀ a x, ((![v449] : Fin 1 → IVec S16 32) a x).toNat < S3136.size a := fun i k0_t5 v140 v449 k0_hw511 k0_h6 => k0_hw511 k0_h6
def k0_off460 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v452 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c3_i32_152 : BitVec 32 := 3#32
  let v451 : BitVec 32 := Scalar.addi v126 c3_i32_152
  let v453 : Index := Scalar.indexCast v451
  let c0_153 : Index := 0#32
  ![v452.toNat, v453.toNat, 0]
def k0_off461 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v456 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c3_i32_154 : BitVec 32 := 3#32
  let v455 : BitVec 32 := Scalar.addi v126 c3_i32_154
  let v457 : Index := Scalar.indexCast v455
  let c16_155 : Index := 16#32
  ![v456.toNat, v457.toNat, 16]
def k0_off462 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v460 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c3_i32_156 : BitVec 32 := 3#32
  let v459 : BitVec 32 := Scalar.addi v126 c3_i32_156
  let v461 : Index := Scalar.indexCast v459
  let c32_157 : Index := 32#32
  ![v460.toNat, v461.toNat, 32]
def k0_off463 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v464 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c3_i32_158 : BitVec 32 := 3#32
  let v463 : BitVec 32 := Scalar.addi v126 c3_i32_158
  let v465 : Index := Scalar.indexCast v463
  let c48_159 : Index := 48#32
  ![v464.toNat, v465.toNat, 48]
def k0_off464 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v468 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c3_i32_160 : BitVec 32 := 3#32
  let v467 : BitVec 32 := Scalar.addi v126 c3_i32_160
  let v469 : Index := Scalar.indexCast v467
  let c64_161 : Index := 64#32
  ![v468.toNat, v469.toNat, 64]
def k0_off465 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v472 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c3_i32_162 : BitVec 32 := 3#32
  let v471 : BitVec 32 := Scalar.addi v126 c3_i32_162
  let v473 : Index := Scalar.indexCast v471
  let c80_163 : Index := 80#32
  ![v472.toNat, v473.toNat, 80]
def k0_off466 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v476 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c3_i32_164 : BitVec 32 := 3#32
  let v475 : BitVec 32 := Scalar.addi v126 c3_i32_164
  let v477 : Index := Scalar.indexCast v475
  let c96_165 : Index := 96#32
  ![v476.toNat, v477.toNat, 96]
def k0_off467 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v480 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c3_i32_166 : BitVec 32 := 3#32
  let v479 : BitVec 32 := Scalar.addi v126 c3_i32_166
  let v481 : Index := Scalar.indexCast v479
  let c112_167 : Index := 112#32
  ![v480.toNat, v481.toNat, 112]

def k0_chk512 (i : grid0.Coords) (k0_t5 : Fin (k0_t5_loop i).trips) (v140 : BitVec 32) (v489 : IVec S16 32) (v491 : IVec S16 32) : Prop :=
  (∀ (k0_h6 : ¬(k0_cond6 v140 = 1#1)), ∀ a x, ((![v489, v491] : Fin 2 → IVec S16 32) a x).toNat < S256x128.size a) ∧
  (∀ (k0_h6 : ¬(k0_cond6 v140 = 1#1)), ∀ a x, ((![v489, v491] : Fin 2 → IVec S16 32) a x).toNat < S256x128.size a)
theorem k0_idx920_inb : ∀ (i : grid0.Coords) (k0_t5 : Fin (k0_t5_loop i).trips) (v140 : BitVec 32) (v489 : IVec S16 32) (v491 : IVec S16 32) (k0_hw512 : k0_chk512 i k0_t5 v140 v489 v491), ∀ (k0_h6 : ¬(k0_cond6 v140 = 1#1)), ∀ a x, ((![v489, v491] : Fin 2 → IVec S16 32) a x).toNat < S256x128.size a := fun i k0_t5 v140 v489 v491 k0_hw512 k0_h6 => k0_hw512.1 k0_h6
theorem k0_idx921_inb : ∀ (i : grid0.Coords) (k0_t5 : Fin (k0_t5_loop i).trips) (v140 : BitVec 32) (v489 : IVec S16 32) (v491 : IVec S16 32) (k0_hw512 : k0_chk512 i k0_t5 v140 v489 v491), ∀ (k0_h6 : ¬(k0_cond6 v140 = 1#1)), ∀ a x, ((![v489, v491] : Fin 2 → IVec S16 32) a x).toNat < S256x128.size a := fun i k0_t5 v140 v489 v491 k0_hw512 k0_h6 => k0_hw512.2 k0_h6

def k0_chk513 (i : grid0.Coords) (k0_t5 : Fin (k0_t5_loop i).trips) (v140 : BitVec 32) (v489 : IVec S16 32) (v493 : IVec S16 32) : Prop :=
  (∀ (k0_h6 : ¬(k0_cond6 v140 = 1#1)), ∀ a x, ((![v489, v493] : Fin 2 → IVec S16 32) a x).toNat < S256x128.size a) ∧
  (∀ (k0_h6 : ¬(k0_cond6 v140 = 1#1)), ∀ a x, ((![v489, v493] : Fin 2 → IVec S16 32) a x).toNat < S256x128.size a)
theorem k0_idx922_inb : ∀ (i : grid0.Coords) (k0_t5 : Fin (k0_t5_loop i).trips) (v140 : BitVec 32) (v489 : IVec S16 32) (v493 : IVec S16 32) (k0_hw513 : k0_chk513 i k0_t5 v140 v489 v493), ∀ (k0_h6 : ¬(k0_cond6 v140 = 1#1)), ∀ a x, ((![v489, v493] : Fin 2 → IVec S16 32) a x).toNat < S256x128.size a := fun i k0_t5 v140 v489 v493 k0_hw513 k0_h6 => k0_hw513.1 k0_h6
theorem k0_idx923_inb : ∀ (i : grid0.Coords) (k0_t5 : Fin (k0_t5_loop i).trips) (v140 : BitVec 32) (v489 : IVec S16 32) (v493 : IVec S16 32) (k0_hw513 : k0_chk513 i k0_t5 v140 v489 v493), ∀ (k0_h6 : ¬(k0_cond6 v140 = 1#1)), ∀ a x, ((![v489, v493] : Fin 2 → IVec S16 32) a x).toNat < S256x128.size a := fun i k0_t5 v140 v489 v493 k0_hw513 k0_h6 => k0_hw513.2 k0_h6

def k0_chk514 (i : grid0.Coords) (k0_t5 : Fin (k0_t5_loop i).trips) (v140 : BitVec 32) (v489 : IVec S16 32) (v495 : IVec S16 32) : Prop :=
  (∀ (k0_h6 : ¬(k0_cond6 v140 = 1#1)), ∀ a x, ((![v489, v495] : Fin 2 → IVec S16 32) a x).toNat < S256x128.size a) ∧
  (∀ (k0_h6 : ¬(k0_cond6 v140 = 1#1)), ∀ a x, ((![v489, v495] : Fin 2 → IVec S16 32) a x).toNat < S256x128.size a)
theorem k0_idx924_inb : ∀ (i : grid0.Coords) (k0_t5 : Fin (k0_t5_loop i).trips) (v140 : BitVec 32) (v489 : IVec S16 32) (v495 : IVec S16 32) (k0_hw514 : k0_chk514 i k0_t5 v140 v489 v495), ∀ (k0_h6 : ¬(k0_cond6 v140 = 1#1)), ∀ a x, ((![v489, v495] : Fin 2 → IVec S16 32) a x).toNat < S256x128.size a := fun i k0_t5 v140 v489 v495 k0_hw514 k0_h6 => k0_hw514.1 k0_h6
theorem k0_idx925_inb : ∀ (i : grid0.Coords) (k0_t5 : Fin (k0_t5_loop i).trips) (v140 : BitVec 32) (v489 : IVec S16 32) (v495 : IVec S16 32) (k0_hw514 : k0_chk514 i k0_t5 v140 v489 v495), ∀ (k0_h6 : ¬(k0_cond6 v140 = 1#1)), ∀ a x, ((![v489, v495] : Fin 2 → IVec S16 32) a x).toNat < S256x128.size a := fun i k0_t5 v140 v489 v495 k0_hw514 k0_h6 => k0_hw514.2 k0_h6

def k0_chk515 (i : grid0.Coords) (k0_t5 : Fin (k0_t5_loop i).trips) (v140 : BitVec 32) (v489 : IVec S16 32) (v497 : IVec S16 32) : Prop :=
  (∀ (k0_h6 : ¬(k0_cond6 v140 = 1#1)), ∀ a x, ((![v489, v497] : Fin 2 → IVec S16 32) a x).toNat < S256x128.size a) ∧
  (∀ (k0_h6 : ¬(k0_cond6 v140 = 1#1)), ∀ a x, ((![v489, v497] : Fin 2 → IVec S16 32) a x).toNat < S256x128.size a)
theorem k0_idx926_inb : ∀ (i : grid0.Coords) (k0_t5 : Fin (k0_t5_loop i).trips) (v140 : BitVec 32) (v489 : IVec S16 32) (v497 : IVec S16 32) (k0_hw515 : k0_chk515 i k0_t5 v140 v489 v497), ∀ (k0_h6 : ¬(k0_cond6 v140 = 1#1)), ∀ a x, ((![v489, v497] : Fin 2 → IVec S16 32) a x).toNat < S256x128.size a := fun i k0_t5 v140 v489 v497 k0_hw515 k0_h6 => k0_hw515.1 k0_h6
theorem k0_idx927_inb : ∀ (i : grid0.Coords) (k0_t5 : Fin (k0_t5_loop i).trips) (v140 : BitVec 32) (v489 : IVec S16 32) (v497 : IVec S16 32) (k0_hw515 : k0_chk515 i k0_t5 v140 v489 v497), ∀ (k0_h6 : ¬(k0_cond6 v140 = 1#1)), ∀ a x, ((![v489, v497] : Fin 2 → IVec S16 32) a x).toNat < S256x128.size a := fun i k0_t5 v140 v489 v497 k0_hw515 k0_h6 => k0_hw515.2 k0_h6

def k0_chk516 (i : grid0.Coords) (k0_t5 : Fin (k0_t5_loop i).trips) (v140 : BitVec 32) (v489 : IVec S16 32) (v499 : IVec S16 32) : Prop :=
  (∀ (k0_h6 : ¬(k0_cond6 v140 = 1#1)), ∀ a x, ((![v489, v499] : Fin 2 → IVec S16 32) a x).toNat < S256x128.size a) ∧
  (∀ (k0_h6 : ¬(k0_cond6 v140 = 1#1)), ∀ a x, ((![v489, v499] : Fin 2 → IVec S16 32) a x).toNat < S256x128.size a)
theorem k0_idx928_inb : ∀ (i : grid0.Coords) (k0_t5 : Fin (k0_t5_loop i).trips) (v140 : BitVec 32) (v489 : IVec S16 32) (v499 : IVec S16 32) (k0_hw516 : k0_chk516 i k0_t5 v140 v489 v499), ∀ (k0_h6 : ¬(k0_cond6 v140 = 1#1)), ∀ a x, ((![v489, v499] : Fin 2 → IVec S16 32) a x).toNat < S256x128.size a := fun i k0_t5 v140 v489 v499 k0_hw516 k0_h6 => k0_hw516.1 k0_h6
theorem k0_idx929_inb : ∀ (i : grid0.Coords) (k0_t5 : Fin (k0_t5_loop i).trips) (v140 : BitVec 32) (v489 : IVec S16 32) (v499 : IVec S16 32) (k0_hw516 : k0_chk516 i k0_t5 v140 v489 v499), ∀ (k0_h6 : ¬(k0_cond6 v140 = 1#1)), ∀ a x, ((![v489, v499] : Fin 2 → IVec S16 32) a x).toNat < S256x128.size a := fun i k0_t5 v140 v489 v499 k0_hw516 k0_h6 => k0_hw516.2 k0_h6

def k0_chk517 (i : grid0.Coords) (k0_t5 : Fin (k0_t5_loop i).trips) (v140 : BitVec 32) (v489 : IVec S16 32) (v501 : IVec S16 32) : Prop :=
  (∀ (k0_h6 : ¬(k0_cond6 v140 = 1#1)), ∀ a x, ((![v489, v501] : Fin 2 → IVec S16 32) a x).toNat < S256x128.size a) ∧
  (∀ (k0_h6 : ¬(k0_cond6 v140 = 1#1)), ∀ a x, ((![v489, v501] : Fin 2 → IVec S16 32) a x).toNat < S256x128.size a)
theorem k0_idx930_inb : ∀ (i : grid0.Coords) (k0_t5 : Fin (k0_t5_loop i).trips) (v140 : BitVec 32) (v489 : IVec S16 32) (v501 : IVec S16 32) (k0_hw517 : k0_chk517 i k0_t5 v140 v489 v501), ∀ (k0_h6 : ¬(k0_cond6 v140 = 1#1)), ∀ a x, ((![v489, v501] : Fin 2 → IVec S16 32) a x).toNat < S256x128.size a := fun i k0_t5 v140 v489 v501 k0_hw517 k0_h6 => k0_hw517.1 k0_h6
theorem k0_idx931_inb : ∀ (i : grid0.Coords) (k0_t5 : Fin (k0_t5_loop i).trips) (v140 : BitVec 32) (v489 : IVec S16 32) (v501 : IVec S16 32) (k0_hw517 : k0_chk517 i k0_t5 v140 v489 v501), ∀ (k0_h6 : ¬(k0_cond6 v140 = 1#1)), ∀ a x, ((![v489, v501] : Fin 2 → IVec S16 32) a x).toNat < S256x128.size a := fun i k0_t5 v140 v489 v501 k0_hw517 k0_h6 => k0_hw517.2 k0_h6

def k0_chk518 (i : grid0.Coords) (k0_t5 : Fin (k0_t5_loop i).trips) (v140 : BitVec 32) (v489 : IVec S16 32) (v503 : IVec S16 32) : Prop :=
  (∀ (k0_h6 : ¬(k0_cond6 v140 = 1#1)), ∀ a x, ((![v489, v503] : Fin 2 → IVec S16 32) a x).toNat < S256x128.size a) ∧
  (∀ (k0_h6 : ¬(k0_cond6 v140 = 1#1)), ∀ a x, ((![v489, v503] : Fin 2 → IVec S16 32) a x).toNat < S256x128.size a)
theorem k0_idx932_inb : ∀ (i : grid0.Coords) (k0_t5 : Fin (k0_t5_loop i).trips) (v140 : BitVec 32) (v489 : IVec S16 32) (v503 : IVec S16 32) (k0_hw518 : k0_chk518 i k0_t5 v140 v489 v503), ∀ (k0_h6 : ¬(k0_cond6 v140 = 1#1)), ∀ a x, ((![v489, v503] : Fin 2 → IVec S16 32) a x).toNat < S256x128.size a := fun i k0_t5 v140 v489 v503 k0_hw518 k0_h6 => k0_hw518.1 k0_h6
theorem k0_idx933_inb : ∀ (i : grid0.Coords) (k0_t5 : Fin (k0_t5_loop i).trips) (v140 : BitVec 32) (v489 : IVec S16 32) (v503 : IVec S16 32) (k0_hw518 : k0_chk518 i k0_t5 v140 v489 v503), ∀ (k0_h6 : ¬(k0_cond6 v140 = 1#1)), ∀ a x, ((![v489, v503] : Fin 2 → IVec S16 32) a x).toNat < S256x128.size a := fun i k0_t5 v140 v489 v503 k0_hw518 k0_h6 => k0_hw518.2 k0_h6

def k0_chk519 (i : grid0.Coords) (k0_t5 : Fin (k0_t5_loop i).trips) (v140 : BitVec 32) (v489 : IVec S16 32) (v505 : IVec S16 32) : Prop :=
  (∀ (k0_h6 : ¬(k0_cond6 v140 = 1#1)), ∀ a x, ((![v489, v505] : Fin 2 → IVec S16 32) a x).toNat < S256x128.size a) ∧
  (∀ (k0_h6 : ¬(k0_cond6 v140 = 1#1)), ∀ a x, ((![v489, v505] : Fin 2 → IVec S16 32) a x).toNat < S256x128.size a)
theorem k0_idx934_inb : ∀ (i : grid0.Coords) (k0_t5 : Fin (k0_t5_loop i).trips) (v140 : BitVec 32) (v489 : IVec S16 32) (v505 : IVec S16 32) (k0_hw519 : k0_chk519 i k0_t5 v140 v489 v505), ∀ (k0_h6 : ¬(k0_cond6 v140 = 1#1)), ∀ a x, ((![v489, v505] : Fin 2 → IVec S16 32) a x).toNat < S256x128.size a := fun i k0_t5 v140 v489 v505 k0_hw519 k0_h6 => k0_hw519.1 k0_h6
theorem k0_idx935_inb : ∀ (i : grid0.Coords) (k0_t5 : Fin (k0_t5_loop i).trips) (v140 : BitVec 32) (v489 : IVec S16 32) (v505 : IVec S16 32) (k0_hw519 : k0_chk519 i k0_t5 v140 v489 v505), ∀ (k0_h6 : ¬(k0_cond6 v140 = 1#1)), ∀ a x, ((![v489, v505] : Fin 2 → IVec S16 32) a x).toNat < S256x128.size a := fun i k0_t5 v140 v489 v505 k0_hw519 k0_h6 => k0_hw519.2 k0_h6

def k0_chk520 (i : grid0.Coords) (v2 : IVec S16 32) (k0_t5 : Fin (k0_t5_loop i).trips) (v140 : BitVec 32) (v489 : IVec S16 32) : Prop :=
  (∀ (k0_h6 : ¬(k0_cond6 v140 = 1#1)), ∀ a x, ((![v489, v2] : Fin 2 → IVec S16 32) a x).toNat < S256x16.size a)
theorem k0_idx936_inb : ∀ (i : grid0.Coords) (v2 : IVec S16 32) (k0_t5 : Fin (k0_t5_loop i).trips) (v140 : BitVec 32) (v489 : IVec S16 32) (k0_hw520 : k0_chk520 i v2 k0_t5 v140 v489), ∀ (k0_h6 : ¬(k0_cond6 v140 = 1#1)), ∀ a x, ((![v489, v2] : Fin 2 → IVec S16 32) a x).toNat < S256x16.size a := fun i v2 k0_t5 v140 v489 k0_hw520 k0_h6 => k0_hw520 k0_h6

def k0_chk521 (i : grid0.Coords) (k0_t5 : Fin (k0_t5_loop i).trips) (v140 : BitVec 32) (v550 : IVec S16 32) : Prop :=
  (∀ (k0_h6 : ¬(k0_cond6 v140 = 1#1)), ∀ a x, ((![v550] : Fin 1 → IVec S16 32) a x).toNat < S3136.size a)
theorem k0_idx937_inb : ∀ (i : grid0.Coords) (k0_t5 : Fin (k0_t5_loop i).trips) (v140 : BitVec 32) (v550 : IVec S16 32) (k0_hw521 : k0_chk521 i k0_t5 v140 v550), ∀ (k0_h6 : ¬(k0_cond6 v140 = 1#1)), ∀ a x, ((![v550] : Fin 1 → IVec S16 32) a x).toNat < S3136.size a := fun i k0_t5 v140 v550 k0_hw521 k0_h6 => k0_hw521 k0_h6
def k0_off468 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v553 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c4_i32_182 : BitVec 32 := 4#32
  let v552 : BitVec 32 := Scalar.addi v126 c4_i32_182
  let v554 : Index := Scalar.indexCast v552
  let c0_183 : Index := 0#32
  ![v553.toNat, v554.toNat, 0]
def k0_off469 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v557 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c4_i32_184 : BitVec 32 := 4#32
  let v556 : BitVec 32 := Scalar.addi v126 c4_i32_184
  let v558 : Index := Scalar.indexCast v556
  let c16_185 : Index := 16#32
  ![v557.toNat, v558.toNat, 16]
def k0_off470 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v561 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c4_i32_186 : BitVec 32 := 4#32
  let v560 : BitVec 32 := Scalar.addi v126 c4_i32_186
  let v562 : Index := Scalar.indexCast v560
  let c32_187 : Index := 32#32
  ![v561.toNat, v562.toNat, 32]
def k0_off471 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v565 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c4_i32_188 : BitVec 32 := 4#32
  let v564 : BitVec 32 := Scalar.addi v126 c4_i32_188
  let v566 : Index := Scalar.indexCast v564
  let c48_189 : Index := 48#32
  ![v565.toNat, v566.toNat, 48]
def k0_off472 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v569 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c4_i32_190 : BitVec 32 := 4#32
  let v568 : BitVec 32 := Scalar.addi v126 c4_i32_190
  let v570 : Index := Scalar.indexCast v568
  let c64_191 : Index := 64#32
  ![v569.toNat, v570.toNat, 64]
def k0_off473 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v573 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c4_i32_192 : BitVec 32 := 4#32
  let v572 : BitVec 32 := Scalar.addi v126 c4_i32_192
  let v574 : Index := Scalar.indexCast v572
  let c80_193 : Index := 80#32
  ![v573.toNat, v574.toNat, 80]
def k0_off474 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v577 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c4_i32_194 : BitVec 32 := 4#32
  let v576 : BitVec 32 := Scalar.addi v126 c4_i32_194
  let v578 : Index := Scalar.indexCast v576
  let c96_195 : Index := 96#32
  ![v577.toNat, v578.toNat, 96]
def k0_off475 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v581 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c4_i32_196 : BitVec 32 := 4#32
  let v580 : BitVec 32 := Scalar.addi v126 c4_i32_196
  let v582 : Index := Scalar.indexCast v580
  let c112_197 : Index := 112#32
  ![v581.toNat, v582.toNat, 112]

def k0_chk522 (i : grid0.Coords) (k0_t5 : Fin (k0_t5_loop i).trips) (v140 : BitVec 32) (v590 : IVec S16 32) (v592 : IVec S16 32) : Prop :=
  (∀ (k0_h6 : ¬(k0_cond6 v140 = 1#1)), ∀ a x, ((![v590, v592] : Fin 2 → IVec S16 32) a x).toNat < S256x128.size a) ∧
  (∀ (k0_h6 : ¬(k0_cond6 v140 = 1#1)), ∀ a x, ((![v590, v592] : Fin 2 → IVec S16 32) a x).toNat < S256x128.size a)
theorem k0_idx938_inb : ∀ (i : grid0.Coords) (k0_t5 : Fin (k0_t5_loop i).trips) (v140 : BitVec 32) (v590 : IVec S16 32) (v592 : IVec S16 32) (k0_hw522 : k0_chk522 i k0_t5 v140 v590 v592), ∀ (k0_h6 : ¬(k0_cond6 v140 = 1#1)), ∀ a x, ((![v590, v592] : Fin 2 → IVec S16 32) a x).toNat < S256x128.size a := fun i k0_t5 v140 v590 v592 k0_hw522 k0_h6 => k0_hw522.1 k0_h6
theorem k0_idx939_inb : ∀ (i : grid0.Coords) (k0_t5 : Fin (k0_t5_loop i).trips) (v140 : BitVec 32) (v590 : IVec S16 32) (v592 : IVec S16 32) (k0_hw522 : k0_chk522 i k0_t5 v140 v590 v592), ∀ (k0_h6 : ¬(k0_cond6 v140 = 1#1)), ∀ a x, ((![v590, v592] : Fin 2 → IVec S16 32) a x).toNat < S256x128.size a := fun i k0_t5 v140 v590 v592 k0_hw522 k0_h6 => k0_hw522.2 k0_h6

def k0_chk523 (i : grid0.Coords) (k0_t5 : Fin (k0_t5_loop i).trips) (v140 : BitVec 32) (v590 : IVec S16 32) (v594 : IVec S16 32) : Prop :=
  (∀ (k0_h6 : ¬(k0_cond6 v140 = 1#1)), ∀ a x, ((![v590, v594] : Fin 2 → IVec S16 32) a x).toNat < S256x128.size a) ∧
  (∀ (k0_h6 : ¬(k0_cond6 v140 = 1#1)), ∀ a x, ((![v590, v594] : Fin 2 → IVec S16 32) a x).toNat < S256x128.size a)
theorem k0_idx940_inb : ∀ (i : grid0.Coords) (k0_t5 : Fin (k0_t5_loop i).trips) (v140 : BitVec 32) (v590 : IVec S16 32) (v594 : IVec S16 32) (k0_hw523 : k0_chk523 i k0_t5 v140 v590 v594), ∀ (k0_h6 : ¬(k0_cond6 v140 = 1#1)), ∀ a x, ((![v590, v594] : Fin 2 → IVec S16 32) a x).toNat < S256x128.size a := fun i k0_t5 v140 v590 v594 k0_hw523 k0_h6 => k0_hw523.1 k0_h6
theorem k0_idx941_inb : ∀ (i : grid0.Coords) (k0_t5 : Fin (k0_t5_loop i).trips) (v140 : BitVec 32) (v590 : IVec S16 32) (v594 : IVec S16 32) (k0_hw523 : k0_chk523 i k0_t5 v140 v590 v594), ∀ (k0_h6 : ¬(k0_cond6 v140 = 1#1)), ∀ a x, ((![v590, v594] : Fin 2 → IVec S16 32) a x).toNat < S256x128.size a := fun i k0_t5 v140 v590 v594 k0_hw523 k0_h6 => k0_hw523.2 k0_h6

def k0_chk524 (i : grid0.Coords) (k0_t5 : Fin (k0_t5_loop i).trips) (v140 : BitVec 32) (v590 : IVec S16 32) (v596 : IVec S16 32) : Prop :=
  (∀ (k0_h6 : ¬(k0_cond6 v140 = 1#1)), ∀ a x, ((![v590, v596] : Fin 2 → IVec S16 32) a x).toNat < S256x128.size a) ∧
  (∀ (k0_h6 : ¬(k0_cond6 v140 = 1#1)), ∀ a x, ((![v590, v596] : Fin 2 → IVec S16 32) a x).toNat < S256x128.size a)
theorem k0_idx942_inb : ∀ (i : grid0.Coords) (k0_t5 : Fin (k0_t5_loop i).trips) (v140 : BitVec 32) (v590 : IVec S16 32) (v596 : IVec S16 32) (k0_hw524 : k0_chk524 i k0_t5 v140 v590 v596), ∀ (k0_h6 : ¬(k0_cond6 v140 = 1#1)), ∀ a x, ((![v590, v596] : Fin 2 → IVec S16 32) a x).toNat < S256x128.size a := fun i k0_t5 v140 v590 v596 k0_hw524 k0_h6 => k0_hw524.1 k0_h6
theorem k0_idx943_inb : ∀ (i : grid0.Coords) (k0_t5 : Fin (k0_t5_loop i).trips) (v140 : BitVec 32) (v590 : IVec S16 32) (v596 : IVec S16 32) (k0_hw524 : k0_chk524 i k0_t5 v140 v590 v596), ∀ (k0_h6 : ¬(k0_cond6 v140 = 1#1)), ∀ a x, ((![v590, v596] : Fin 2 → IVec S16 32) a x).toNat < S256x128.size a := fun i k0_t5 v140 v590 v596 k0_hw524 k0_h6 => k0_hw524.2 k0_h6

def k0_chk525 (i : grid0.Coords) (k0_t5 : Fin (k0_t5_loop i).trips) (v140 : BitVec 32) (v590 : IVec S16 32) (v598 : IVec S16 32) : Prop :=
  (∀ (k0_h6 : ¬(k0_cond6 v140 = 1#1)), ∀ a x, ((![v590, v598] : Fin 2 → IVec S16 32) a x).toNat < S256x128.size a) ∧
  (∀ (k0_h6 : ¬(k0_cond6 v140 = 1#1)), ∀ a x, ((![v590, v598] : Fin 2 → IVec S16 32) a x).toNat < S256x128.size a)
theorem k0_idx944_inb : ∀ (i : grid0.Coords) (k0_t5 : Fin (k0_t5_loop i).trips) (v140 : BitVec 32) (v590 : IVec S16 32) (v598 : IVec S16 32) (k0_hw525 : k0_chk525 i k0_t5 v140 v590 v598), ∀ (k0_h6 : ¬(k0_cond6 v140 = 1#1)), ∀ a x, ((![v590, v598] : Fin 2 → IVec S16 32) a x).toNat < S256x128.size a := fun i k0_t5 v140 v590 v598 k0_hw525 k0_h6 => k0_hw525.1 k0_h6
theorem k0_idx945_inb : ∀ (i : grid0.Coords) (k0_t5 : Fin (k0_t5_loop i).trips) (v140 : BitVec 32) (v590 : IVec S16 32) (v598 : IVec S16 32) (k0_hw525 : k0_chk525 i k0_t5 v140 v590 v598), ∀ (k0_h6 : ¬(k0_cond6 v140 = 1#1)), ∀ a x, ((![v590, v598] : Fin 2 → IVec S16 32) a x).toNat < S256x128.size a := fun i k0_t5 v140 v590 v598 k0_hw525 k0_h6 => k0_hw525.2 k0_h6

def k0_chk526 (i : grid0.Coords) (k0_t5 : Fin (k0_t5_loop i).trips) (v140 : BitVec 32) (v590 : IVec S16 32) (v600 : IVec S16 32) : Prop :=
  (∀ (k0_h6 : ¬(k0_cond6 v140 = 1#1)), ∀ a x, ((![v590, v600] : Fin 2 → IVec S16 32) a x).toNat < S256x128.size a) ∧
  (∀ (k0_h6 : ¬(k0_cond6 v140 = 1#1)), ∀ a x, ((![v590, v600] : Fin 2 → IVec S16 32) a x).toNat < S256x128.size a)
theorem k0_idx946_inb : ∀ (i : grid0.Coords) (k0_t5 : Fin (k0_t5_loop i).trips) (v140 : BitVec 32) (v590 : IVec S16 32) (v600 : IVec S16 32) (k0_hw526 : k0_chk526 i k0_t5 v140 v590 v600), ∀ (k0_h6 : ¬(k0_cond6 v140 = 1#1)), ∀ a x, ((![v590, v600] : Fin 2 → IVec S16 32) a x).toNat < S256x128.size a := fun i k0_t5 v140 v590 v600 k0_hw526 k0_h6 => k0_hw526.1 k0_h6
theorem k0_idx947_inb : ∀ (i : grid0.Coords) (k0_t5 : Fin (k0_t5_loop i).trips) (v140 : BitVec 32) (v590 : IVec S16 32) (v600 : IVec S16 32) (k0_hw526 : k0_chk526 i k0_t5 v140 v590 v600), ∀ (k0_h6 : ¬(k0_cond6 v140 = 1#1)), ∀ a x, ((![v590, v600] : Fin 2 → IVec S16 32) a x).toNat < S256x128.size a := fun i k0_t5 v140 v590 v600 k0_hw526 k0_h6 => k0_hw526.2 k0_h6

def k0_chk527 (i : grid0.Coords) (k0_t5 : Fin (k0_t5_loop i).trips) (v140 : BitVec 32) (v590 : IVec S16 32) (v602 : IVec S16 32) : Prop :=
  (∀ (k0_h6 : ¬(k0_cond6 v140 = 1#1)), ∀ a x, ((![v590, v602] : Fin 2 → IVec S16 32) a x).toNat < S256x128.size a) ∧
  (∀ (k0_h6 : ¬(k0_cond6 v140 = 1#1)), ∀ a x, ((![v590, v602] : Fin 2 → IVec S16 32) a x).toNat < S256x128.size a)
theorem k0_idx948_inb : ∀ (i : grid0.Coords) (k0_t5 : Fin (k0_t5_loop i).trips) (v140 : BitVec 32) (v590 : IVec S16 32) (v602 : IVec S16 32) (k0_hw527 : k0_chk527 i k0_t5 v140 v590 v602), ∀ (k0_h6 : ¬(k0_cond6 v140 = 1#1)), ∀ a x, ((![v590, v602] : Fin 2 → IVec S16 32) a x).toNat < S256x128.size a := fun i k0_t5 v140 v590 v602 k0_hw527 k0_h6 => k0_hw527.1 k0_h6
theorem k0_idx949_inb : ∀ (i : grid0.Coords) (k0_t5 : Fin (k0_t5_loop i).trips) (v140 : BitVec 32) (v590 : IVec S16 32) (v602 : IVec S16 32) (k0_hw527 : k0_chk527 i k0_t5 v140 v590 v602), ∀ (k0_h6 : ¬(k0_cond6 v140 = 1#1)), ∀ a x, ((![v590, v602] : Fin 2 → IVec S16 32) a x).toNat < S256x128.size a := fun i k0_t5 v140 v590 v602 k0_hw527 k0_h6 => k0_hw527.2 k0_h6

def k0_chk528 (i : grid0.Coords) (k0_t5 : Fin (k0_t5_loop i).trips) (v140 : BitVec 32) (v590 : IVec S16 32) (v604 : IVec S16 32) : Prop :=
  (∀ (k0_h6 : ¬(k0_cond6 v140 = 1#1)), ∀ a x, ((![v590, v604] : Fin 2 → IVec S16 32) a x).toNat < S256x128.size a) ∧
  (∀ (k0_h6 : ¬(k0_cond6 v140 = 1#1)), ∀ a x, ((![v590, v604] : Fin 2 → IVec S16 32) a x).toNat < S256x128.size a)
theorem k0_idx950_inb : ∀ (i : grid0.Coords) (k0_t5 : Fin (k0_t5_loop i).trips) (v140 : BitVec 32) (v590 : IVec S16 32) (v604 : IVec S16 32) (k0_hw528 : k0_chk528 i k0_t5 v140 v590 v604), ∀ (k0_h6 : ¬(k0_cond6 v140 = 1#1)), ∀ a x, ((![v590, v604] : Fin 2 → IVec S16 32) a x).toNat < S256x128.size a := fun i k0_t5 v140 v590 v604 k0_hw528 k0_h6 => k0_hw528.1 k0_h6
theorem k0_idx951_inb : ∀ (i : grid0.Coords) (k0_t5 : Fin (k0_t5_loop i).trips) (v140 : BitVec 32) (v590 : IVec S16 32) (v604 : IVec S16 32) (k0_hw528 : k0_chk528 i k0_t5 v140 v590 v604), ∀ (k0_h6 : ¬(k0_cond6 v140 = 1#1)), ∀ a x, ((![v590, v604] : Fin 2 → IVec S16 32) a x).toNat < S256x128.size a := fun i k0_t5 v140 v590 v604 k0_hw528 k0_h6 => k0_hw528.2 k0_h6

def k0_chk529 (i : grid0.Coords) (k0_t5 : Fin (k0_t5_loop i).trips) (v140 : BitVec 32) (v590 : IVec S16 32) (v606 : IVec S16 32) : Prop :=
  (∀ (k0_h6 : ¬(k0_cond6 v140 = 1#1)), ∀ a x, ((![v590, v606] : Fin 2 → IVec S16 32) a x).toNat < S256x128.size a) ∧
  (∀ (k0_h6 : ¬(k0_cond6 v140 = 1#1)), ∀ a x, ((![v590, v606] : Fin 2 → IVec S16 32) a x).toNat < S256x128.size a)
theorem k0_idx952_inb : ∀ (i : grid0.Coords) (k0_t5 : Fin (k0_t5_loop i).trips) (v140 : BitVec 32) (v590 : IVec S16 32) (v606 : IVec S16 32) (k0_hw529 : k0_chk529 i k0_t5 v140 v590 v606), ∀ (k0_h6 : ¬(k0_cond6 v140 = 1#1)), ∀ a x, ((![v590, v606] : Fin 2 → IVec S16 32) a x).toNat < S256x128.size a := fun i k0_t5 v140 v590 v606 k0_hw529 k0_h6 => k0_hw529.1 k0_h6
theorem k0_idx953_inb : ∀ (i : grid0.Coords) (k0_t5 : Fin (k0_t5_loop i).trips) (v140 : BitVec 32) (v590 : IVec S16 32) (v606 : IVec S16 32) (k0_hw529 : k0_chk529 i k0_t5 v140 v590 v606), ∀ (k0_h6 : ¬(k0_cond6 v140 = 1#1)), ∀ a x, ((![v590, v606] : Fin 2 → IVec S16 32) a x).toNat < S256x128.size a := fun i k0_t5 v140 v590 v606 k0_hw529 k0_h6 => k0_hw529.2 k0_h6

def k0_chk530 (i : grid0.Coords) (v2 : IVec S16 32) (k0_t5 : Fin (k0_t5_loop i).trips) (v140 : BitVec 32) (v590 : IVec S16 32) : Prop :=
  (∀ (k0_h6 : ¬(k0_cond6 v140 = 1#1)), ∀ a x, ((![v590, v2] : Fin 2 → IVec S16 32) a x).toNat < S256x16.size a)
theorem k0_idx954_inb : ∀ (i : grid0.Coords) (v2 : IVec S16 32) (k0_t5 : Fin (k0_t5_loop i).trips) (v140 : BitVec 32) (v590 : IVec S16 32) (k0_hw530 : k0_chk530 i v2 k0_t5 v140 v590), ∀ (k0_h6 : ¬(k0_cond6 v140 = 1#1)), ∀ a x, ((![v590, v2] : Fin 2 → IVec S16 32) a x).toNat < S256x16.size a := fun i v2 k0_t5 v140 v590 k0_hw530 k0_h6 => k0_hw530 k0_h6

def k0_chk531 (i : grid0.Coords) (k0_t5 : Fin (k0_t5_loop i).trips) (v140 : BitVec 32) (v651 : IVec S16 32) : Prop :=
  (∀ (k0_h6 : ¬(k0_cond6 v140 = 1#1)), ∀ a x, ((![v651] : Fin 1 → IVec S16 32) a x).toNat < S3136.size a)
theorem k0_idx955_inb : ∀ (i : grid0.Coords) (k0_t5 : Fin (k0_t5_loop i).trips) (v140 : BitVec 32) (v651 : IVec S16 32) (k0_hw531 : k0_chk531 i k0_t5 v140 v651), ∀ (k0_h6 : ¬(k0_cond6 v140 = 1#1)), ∀ a x, ((![v651] : Fin 1 → IVec S16 32) a x).toNat < S3136.size a := fun i k0_t5 v140 v651 k0_hw531 k0_h6 => k0_hw531 k0_h6
def k0_off476 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v654 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c5_i32_212 : BitVec 32 := 5#32
  let v653 : BitVec 32 := Scalar.addi v126 c5_i32_212
  let v655 : Index := Scalar.indexCast v653
  let c0_213 : Index := 0#32
  ![v654.toNat, v655.toNat, 0]
def k0_off477 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v658 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c5_i32_214 : BitVec 32 := 5#32
  let v657 : BitVec 32 := Scalar.addi v126 c5_i32_214
  let v659 : Index := Scalar.indexCast v657
  let c16_215 : Index := 16#32
  ![v658.toNat, v659.toNat, 16]
def k0_off478 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v662 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c5_i32_216 : BitVec 32 := 5#32
  let v661 : BitVec 32 := Scalar.addi v126 c5_i32_216
  let v663 : Index := Scalar.indexCast v661
  let c32_217 : Index := 32#32
  ![v662.toNat, v663.toNat, 32]
def k0_off479 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v666 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c5_i32_218 : BitVec 32 := 5#32
  let v665 : BitVec 32 := Scalar.addi v126 c5_i32_218
  let v667 : Index := Scalar.indexCast v665
  let c48_219 : Index := 48#32
  ![v666.toNat, v667.toNat, 48]
def k0_off480 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v670 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c5_i32_220 : BitVec 32 := 5#32
  let v669 : BitVec 32 := Scalar.addi v126 c5_i32_220
  let v671 : Index := Scalar.indexCast v669
  let c64_221 : Index := 64#32
  ![v670.toNat, v671.toNat, 64]
def k0_off481 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v674 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c5_i32_222 : BitVec 32 := 5#32
  let v673 : BitVec 32 := Scalar.addi v126 c5_i32_222
  let v675 : Index := Scalar.indexCast v673
  let c80_223 : Index := 80#32
  ![v674.toNat, v675.toNat, 80]
def k0_off482 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v678 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c5_i32_224 : BitVec 32 := 5#32
  let v677 : BitVec 32 := Scalar.addi v126 c5_i32_224
  let v679 : Index := Scalar.indexCast v677
  let c96_225 : Index := 96#32
  ![v678.toNat, v679.toNat, 96]
def k0_off483 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v682 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c5_i32_226 : BitVec 32 := 5#32
  let v681 : BitVec 32 := Scalar.addi v126 c5_i32_226
  let v683 : Index := Scalar.indexCast v681
  let c112_227 : Index := 112#32
  ![v682.toNat, v683.toNat, 112]

def k0_chk532 (i : grid0.Coords) (k0_t5 : Fin (k0_t5_loop i).trips) (v140 : BitVec 32) (v691 : IVec S16 32) (v693 : IVec S16 32) : Prop :=
  (∀ (k0_h6 : ¬(k0_cond6 v140 = 1#1)), ∀ a x, ((![v691, v693] : Fin 2 → IVec S16 32) a x).toNat < S256x128.size a) ∧
  (∀ (k0_h6 : ¬(k0_cond6 v140 = 1#1)), ∀ a x, ((![v691, v693] : Fin 2 → IVec S16 32) a x).toNat < S256x128.size a)
theorem k0_idx956_inb : ∀ (i : grid0.Coords) (k0_t5 : Fin (k0_t5_loop i).trips) (v140 : BitVec 32) (v691 : IVec S16 32) (v693 : IVec S16 32) (k0_hw532 : k0_chk532 i k0_t5 v140 v691 v693), ∀ (k0_h6 : ¬(k0_cond6 v140 = 1#1)), ∀ a x, ((![v691, v693] : Fin 2 → IVec S16 32) a x).toNat < S256x128.size a := fun i k0_t5 v140 v691 v693 k0_hw532 k0_h6 => k0_hw532.1 k0_h6
theorem k0_idx957_inb : ∀ (i : grid0.Coords) (k0_t5 : Fin (k0_t5_loop i).trips) (v140 : BitVec 32) (v691 : IVec S16 32) (v693 : IVec S16 32) (k0_hw532 : k0_chk532 i k0_t5 v140 v691 v693), ∀ (k0_h6 : ¬(k0_cond6 v140 = 1#1)), ∀ a x, ((![v691, v693] : Fin 2 → IVec S16 32) a x).toNat < S256x128.size a := fun i k0_t5 v140 v691 v693 k0_hw532 k0_h6 => k0_hw532.2 k0_h6

def k0_chk533 (i : grid0.Coords) (k0_t5 : Fin (k0_t5_loop i).trips) (v140 : BitVec 32) (v691 : IVec S16 32) (v695 : IVec S16 32) : Prop :=
  (∀ (k0_h6 : ¬(k0_cond6 v140 = 1#1)), ∀ a x, ((![v691, v695] : Fin 2 → IVec S16 32) a x).toNat < S256x128.size a) ∧
  (∀ (k0_h6 : ¬(k0_cond6 v140 = 1#1)), ∀ a x, ((![v691, v695] : Fin 2 → IVec S16 32) a x).toNat < S256x128.size a)
theorem k0_idx958_inb : ∀ (i : grid0.Coords) (k0_t5 : Fin (k0_t5_loop i).trips) (v140 : BitVec 32) (v691 : IVec S16 32) (v695 : IVec S16 32) (k0_hw533 : k0_chk533 i k0_t5 v140 v691 v695), ∀ (k0_h6 : ¬(k0_cond6 v140 = 1#1)), ∀ a x, ((![v691, v695] : Fin 2 → IVec S16 32) a x).toNat < S256x128.size a := fun i k0_t5 v140 v691 v695 k0_hw533 k0_h6 => k0_hw533.1 k0_h6
theorem k0_idx959_inb : ∀ (i : grid0.Coords) (k0_t5 : Fin (k0_t5_loop i).trips) (v140 : BitVec 32) (v691 : IVec S16 32) (v695 : IVec S16 32) (k0_hw533 : k0_chk533 i k0_t5 v140 v691 v695), ∀ (k0_h6 : ¬(k0_cond6 v140 = 1#1)), ∀ a x, ((![v691, v695] : Fin 2 → IVec S16 32) a x).toNat < S256x128.size a := fun i k0_t5 v140 v691 v695 k0_hw533 k0_h6 => k0_hw533.2 k0_h6

def k0_chk534 (i : grid0.Coords) (k0_t5 : Fin (k0_t5_loop i).trips) (v140 : BitVec 32) (v691 : IVec S16 32) (v697 : IVec S16 32) : Prop :=
  (∀ (k0_h6 : ¬(k0_cond6 v140 = 1#1)), ∀ a x, ((![v691, v697] : Fin 2 → IVec S16 32) a x).toNat < S256x128.size a) ∧
  (∀ (k0_h6 : ¬(k0_cond6 v140 = 1#1)), ∀ a x, ((![v691, v697] : Fin 2 → IVec S16 32) a x).toNat < S256x128.size a)
theorem k0_idx960_inb : ∀ (i : grid0.Coords) (k0_t5 : Fin (k0_t5_loop i).trips) (v140 : BitVec 32) (v691 : IVec S16 32) (v697 : IVec S16 32) (k0_hw534 : k0_chk534 i k0_t5 v140 v691 v697), ∀ (k0_h6 : ¬(k0_cond6 v140 = 1#1)), ∀ a x, ((![v691, v697] : Fin 2 → IVec S16 32) a x).toNat < S256x128.size a := fun i k0_t5 v140 v691 v697 k0_hw534 k0_h6 => k0_hw534.1 k0_h6
theorem k0_idx961_inb : ∀ (i : grid0.Coords) (k0_t5 : Fin (k0_t5_loop i).trips) (v140 : BitVec 32) (v691 : IVec S16 32) (v697 : IVec S16 32) (k0_hw534 : k0_chk534 i k0_t5 v140 v691 v697), ∀ (k0_h6 : ¬(k0_cond6 v140 = 1#1)), ∀ a x, ((![v691, v697] : Fin 2 → IVec S16 32) a x).toNat < S256x128.size a := fun i k0_t5 v140 v691 v697 k0_hw534 k0_h6 => k0_hw534.2 k0_h6

def k0_chk535 (i : grid0.Coords) (k0_t5 : Fin (k0_t5_loop i).trips) (v140 : BitVec 32) (v691 : IVec S16 32) (v699 : IVec S16 32) : Prop :=
  (∀ (k0_h6 : ¬(k0_cond6 v140 = 1#1)), ∀ a x, ((![v691, v699] : Fin 2 → IVec S16 32) a x).toNat < S256x128.size a) ∧
  (∀ (k0_h6 : ¬(k0_cond6 v140 = 1#1)), ∀ a x, ((![v691, v699] : Fin 2 → IVec S16 32) a x).toNat < S256x128.size a)
theorem k0_idx962_inb : ∀ (i : grid0.Coords) (k0_t5 : Fin (k0_t5_loop i).trips) (v140 : BitVec 32) (v691 : IVec S16 32) (v699 : IVec S16 32) (k0_hw535 : k0_chk535 i k0_t5 v140 v691 v699), ∀ (k0_h6 : ¬(k0_cond6 v140 = 1#1)), ∀ a x, ((![v691, v699] : Fin 2 → IVec S16 32) a x).toNat < S256x128.size a := fun i k0_t5 v140 v691 v699 k0_hw535 k0_h6 => k0_hw535.1 k0_h6
theorem k0_idx963_inb : ∀ (i : grid0.Coords) (k0_t5 : Fin (k0_t5_loop i).trips) (v140 : BitVec 32) (v691 : IVec S16 32) (v699 : IVec S16 32) (k0_hw535 : k0_chk535 i k0_t5 v140 v691 v699), ∀ (k0_h6 : ¬(k0_cond6 v140 = 1#1)), ∀ a x, ((![v691, v699] : Fin 2 → IVec S16 32) a x).toNat < S256x128.size a := fun i k0_t5 v140 v691 v699 k0_hw535 k0_h6 => k0_hw535.2 k0_h6

def k0_chk536 (i : grid0.Coords) (k0_t5 : Fin (k0_t5_loop i).trips) (v140 : BitVec 32) (v691 : IVec S16 32) (v701 : IVec S16 32) : Prop :=
  (∀ (k0_h6 : ¬(k0_cond6 v140 = 1#1)), ∀ a x, ((![v691, v701] : Fin 2 → IVec S16 32) a x).toNat < S256x128.size a) ∧
  (∀ (k0_h6 : ¬(k0_cond6 v140 = 1#1)), ∀ a x, ((![v691, v701] : Fin 2 → IVec S16 32) a x).toNat < S256x128.size a)
theorem k0_idx964_inb : ∀ (i : grid0.Coords) (k0_t5 : Fin (k0_t5_loop i).trips) (v140 : BitVec 32) (v691 : IVec S16 32) (v701 : IVec S16 32) (k0_hw536 : k0_chk536 i k0_t5 v140 v691 v701), ∀ (k0_h6 : ¬(k0_cond6 v140 = 1#1)), ∀ a x, ((![v691, v701] : Fin 2 → IVec S16 32) a x).toNat < S256x128.size a := fun i k0_t5 v140 v691 v701 k0_hw536 k0_h6 => k0_hw536.1 k0_h6
theorem k0_idx965_inb : ∀ (i : grid0.Coords) (k0_t5 : Fin (k0_t5_loop i).trips) (v140 : BitVec 32) (v691 : IVec S16 32) (v701 : IVec S16 32) (k0_hw536 : k0_chk536 i k0_t5 v140 v691 v701), ∀ (k0_h6 : ¬(k0_cond6 v140 = 1#1)), ∀ a x, ((![v691, v701] : Fin 2 → IVec S16 32) a x).toNat < S256x128.size a := fun i k0_t5 v140 v691 v701 k0_hw536 k0_h6 => k0_hw536.2 k0_h6

def k0_chk537 (i : grid0.Coords) (k0_t5 : Fin (k0_t5_loop i).trips) (v140 : BitVec 32) (v691 : IVec S16 32) (v703 : IVec S16 32) : Prop :=
  (∀ (k0_h6 : ¬(k0_cond6 v140 = 1#1)), ∀ a x, ((![v691, v703] : Fin 2 → IVec S16 32) a x).toNat < S256x128.size a) ∧
  (∀ (k0_h6 : ¬(k0_cond6 v140 = 1#1)), ∀ a x, ((![v691, v703] : Fin 2 → IVec S16 32) a x).toNat < S256x128.size a)
theorem k0_idx966_inb : ∀ (i : grid0.Coords) (k0_t5 : Fin (k0_t5_loop i).trips) (v140 : BitVec 32) (v691 : IVec S16 32) (v703 : IVec S16 32) (k0_hw537 : k0_chk537 i k0_t5 v140 v691 v703), ∀ (k0_h6 : ¬(k0_cond6 v140 = 1#1)), ∀ a x, ((![v691, v703] : Fin 2 → IVec S16 32) a x).toNat < S256x128.size a := fun i k0_t5 v140 v691 v703 k0_hw537 k0_h6 => k0_hw537.1 k0_h6
theorem k0_idx967_inb : ∀ (i : grid0.Coords) (k0_t5 : Fin (k0_t5_loop i).trips) (v140 : BitVec 32) (v691 : IVec S16 32) (v703 : IVec S16 32) (k0_hw537 : k0_chk537 i k0_t5 v140 v691 v703), ∀ (k0_h6 : ¬(k0_cond6 v140 = 1#1)), ∀ a x, ((![v691, v703] : Fin 2 → IVec S16 32) a x).toNat < S256x128.size a := fun i k0_t5 v140 v691 v703 k0_hw537 k0_h6 => k0_hw537.2 k0_h6

def k0_chk538 (i : grid0.Coords) (k0_t5 : Fin (k0_t5_loop i).trips) (v140 : BitVec 32) (v691 : IVec S16 32) (v705 : IVec S16 32) : Prop :=
  (∀ (k0_h6 : ¬(k0_cond6 v140 = 1#1)), ∀ a x, ((![v691, v705] : Fin 2 → IVec S16 32) a x).toNat < S256x128.size a) ∧
  (∀ (k0_h6 : ¬(k0_cond6 v140 = 1#1)), ∀ a x, ((![v691, v705] : Fin 2 → IVec S16 32) a x).toNat < S256x128.size a)
theorem k0_idx968_inb : ∀ (i : grid0.Coords) (k0_t5 : Fin (k0_t5_loop i).trips) (v140 : BitVec 32) (v691 : IVec S16 32) (v705 : IVec S16 32) (k0_hw538 : k0_chk538 i k0_t5 v140 v691 v705), ∀ (k0_h6 : ¬(k0_cond6 v140 = 1#1)), ∀ a x, ((![v691, v705] : Fin 2 → IVec S16 32) a x).toNat < S256x128.size a := fun i k0_t5 v140 v691 v705 k0_hw538 k0_h6 => k0_hw538.1 k0_h6
theorem k0_idx969_inb : ∀ (i : grid0.Coords) (k0_t5 : Fin (k0_t5_loop i).trips) (v140 : BitVec 32) (v691 : IVec S16 32) (v705 : IVec S16 32) (k0_hw538 : k0_chk538 i k0_t5 v140 v691 v705), ∀ (k0_h6 : ¬(k0_cond6 v140 = 1#1)), ∀ a x, ((![v691, v705] : Fin 2 → IVec S16 32) a x).toNat < S256x128.size a := fun i k0_t5 v140 v691 v705 k0_hw538 k0_h6 => k0_hw538.2 k0_h6

def k0_chk539 (i : grid0.Coords) (k0_t5 : Fin (k0_t5_loop i).trips) (v140 : BitVec 32) (v691 : IVec S16 32) (v707 : IVec S16 32) : Prop :=
  (∀ (k0_h6 : ¬(k0_cond6 v140 = 1#1)), ∀ a x, ((![v691, v707] : Fin 2 → IVec S16 32) a x).toNat < S256x128.size a) ∧
  (∀ (k0_h6 : ¬(k0_cond6 v140 = 1#1)), ∀ a x, ((![v691, v707] : Fin 2 → IVec S16 32) a x).toNat < S256x128.size a)
theorem k0_idx970_inb : ∀ (i : grid0.Coords) (k0_t5 : Fin (k0_t5_loop i).trips) (v140 : BitVec 32) (v691 : IVec S16 32) (v707 : IVec S16 32) (k0_hw539 : k0_chk539 i k0_t5 v140 v691 v707), ∀ (k0_h6 : ¬(k0_cond6 v140 = 1#1)), ∀ a x, ((![v691, v707] : Fin 2 → IVec S16 32) a x).toNat < S256x128.size a := fun i k0_t5 v140 v691 v707 k0_hw539 k0_h6 => k0_hw539.1 k0_h6
theorem k0_idx971_inb : ∀ (i : grid0.Coords) (k0_t5 : Fin (k0_t5_loop i).trips) (v140 : BitVec 32) (v691 : IVec S16 32) (v707 : IVec S16 32) (k0_hw539 : k0_chk539 i k0_t5 v140 v691 v707), ∀ (k0_h6 : ¬(k0_cond6 v140 = 1#1)), ∀ a x, ((![v691, v707] : Fin 2 → IVec S16 32) a x).toNat < S256x128.size a := fun i k0_t5 v140 v691 v707 k0_hw539 k0_h6 => k0_hw539.2 k0_h6

def k0_chk540 (i : grid0.Coords) (v2 : IVec S16 32) (k0_t5 : Fin (k0_t5_loop i).trips) (v140 : BitVec 32) (v691 : IVec S16 32) : Prop :=
  (∀ (k0_h6 : ¬(k0_cond6 v140 = 1#1)), ∀ a x, ((![v691, v2] : Fin 2 → IVec S16 32) a x).toNat < S256x16.size a)
theorem k0_idx972_inb : ∀ (i : grid0.Coords) (v2 : IVec S16 32) (k0_t5 : Fin (k0_t5_loop i).trips) (v140 : BitVec 32) (v691 : IVec S16 32) (k0_hw540 : k0_chk540 i v2 k0_t5 v140 v691), ∀ (k0_h6 : ¬(k0_cond6 v140 = 1#1)), ∀ a x, ((![v691, v2] : Fin 2 → IVec S16 32) a x).toNat < S256x16.size a := fun i v2 k0_t5 v140 v691 k0_hw540 k0_h6 => k0_hw540 k0_h6

def k0_chk541 (i : grid0.Coords) (k0_t5 : Fin (k0_t5_loop i).trips) (v140 : BitVec 32) (v752 : IVec S16 32) : Prop :=
  (∀ (k0_h6 : ¬(k0_cond6 v140 = 1#1)), ∀ a x, ((![v752] : Fin 1 → IVec S16 32) a x).toNat < S3136.size a)
theorem k0_idx973_inb : ∀ (i : grid0.Coords) (k0_t5 : Fin (k0_t5_loop i).trips) (v140 : BitVec 32) (v752 : IVec S16 32) (k0_hw541 : k0_chk541 i k0_t5 v140 v752), ∀ (k0_h6 : ¬(k0_cond6 v140 = 1#1)), ∀ a x, ((![v752] : Fin 1 → IVec S16 32) a x).toNat < S3136.size a := fun i k0_t5 v140 v752 k0_hw541 k0_h6 => k0_hw541 k0_h6
def k0_off484 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v755 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c6_i32_242 : BitVec 32 := 6#32
  let v754 : BitVec 32 := Scalar.addi v126 c6_i32_242
  let v756 : Index := Scalar.indexCast v754
  let c0_243 : Index := 0#32
  ![v755.toNat, v756.toNat, 0]
def k0_off485 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v759 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c6_i32_244 : BitVec 32 := 6#32
  let v758 : BitVec 32 := Scalar.addi v126 c6_i32_244
  let v760 : Index := Scalar.indexCast v758
  let c16_245 : Index := 16#32
  ![v759.toNat, v760.toNat, 16]
def k0_off486 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v763 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c6_i32_246 : BitVec 32 := 6#32
  let v762 : BitVec 32 := Scalar.addi v126 c6_i32_246
  let v764 : Index := Scalar.indexCast v762
  let c32_247 : Index := 32#32
  ![v763.toNat, v764.toNat, 32]
def k0_off487 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v767 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c6_i32_248 : BitVec 32 := 6#32
  let v766 : BitVec 32 := Scalar.addi v126 c6_i32_248
  let v768 : Index := Scalar.indexCast v766
  let c48_249 : Index := 48#32
  ![v767.toNat, v768.toNat, 48]
def k0_off488 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v771 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c6_i32_250 : BitVec 32 := 6#32
  let v770 : BitVec 32 := Scalar.addi v126 c6_i32_250
  let v772 : Index := Scalar.indexCast v770
  let c64_251 : Index := 64#32
  ![v771.toNat, v772.toNat, 64]
def k0_off489 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v775 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c6_i32_252 : BitVec 32 := 6#32
  let v774 : BitVec 32 := Scalar.addi v126 c6_i32_252
  let v776 : Index := Scalar.indexCast v774
  let c80_253 : Index := 80#32
  ![v775.toNat, v776.toNat, 80]
def k0_off490 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v779 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c6_i32_254 : BitVec 32 := 6#32
  let v778 : BitVec 32 := Scalar.addi v126 c6_i32_254
  let v780 : Index := Scalar.indexCast v778
  let c96_255 : Index := 96#32
  ![v779.toNat, v780.toNat, 96]
def k0_off491 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v783 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c6_i32_256 : BitVec 32 := 6#32
  let v782 : BitVec 32 := Scalar.addi v126 c6_i32_256
  let v784 : Index := Scalar.indexCast v782
  let c112_257 : Index := 112#32
  ![v783.toNat, v784.toNat, 112]

def k0_chk542 (i : grid0.Coords) (k0_t5 : Fin (k0_t5_loop i).trips) (v140 : BitVec 32) (v792 : IVec S16 32) (v794 : IVec S16 32) : Prop :=
  (∀ (k0_h6 : ¬(k0_cond6 v140 = 1#1)), ∀ a x, ((![v792, v794] : Fin 2 → IVec S16 32) a x).toNat < S256x128.size a) ∧
  (∀ (k0_h6 : ¬(k0_cond6 v140 = 1#1)), ∀ a x, ((![v792, v794] : Fin 2 → IVec S16 32) a x).toNat < S256x128.size a)
theorem k0_idx974_inb : ∀ (i : grid0.Coords) (k0_t5 : Fin (k0_t5_loop i).trips) (v140 : BitVec 32) (v792 : IVec S16 32) (v794 : IVec S16 32) (k0_hw542 : k0_chk542 i k0_t5 v140 v792 v794), ∀ (k0_h6 : ¬(k0_cond6 v140 = 1#1)), ∀ a x, ((![v792, v794] : Fin 2 → IVec S16 32) a x).toNat < S256x128.size a := fun i k0_t5 v140 v792 v794 k0_hw542 k0_h6 => k0_hw542.1 k0_h6
theorem k0_idx975_inb : ∀ (i : grid0.Coords) (k0_t5 : Fin (k0_t5_loop i).trips) (v140 : BitVec 32) (v792 : IVec S16 32) (v794 : IVec S16 32) (k0_hw542 : k0_chk542 i k0_t5 v140 v792 v794), ∀ (k0_h6 : ¬(k0_cond6 v140 = 1#1)), ∀ a x, ((![v792, v794] : Fin 2 → IVec S16 32) a x).toNat < S256x128.size a := fun i k0_t5 v140 v792 v794 k0_hw542 k0_h6 => k0_hw542.2 k0_h6

def k0_chk543 (i : grid0.Coords) (k0_t5 : Fin (k0_t5_loop i).trips) (v140 : BitVec 32) (v792 : IVec S16 32) (v796 : IVec S16 32) : Prop :=
  (∀ (k0_h6 : ¬(k0_cond6 v140 = 1#1)), ∀ a x, ((![v792, v796] : Fin 2 → IVec S16 32) a x).toNat < S256x128.size a) ∧
  (∀ (k0_h6 : ¬(k0_cond6 v140 = 1#1)), ∀ a x, ((![v792, v796] : Fin 2 → IVec S16 32) a x).toNat < S256x128.size a)
theorem k0_idx976_inb : ∀ (i : grid0.Coords) (k0_t5 : Fin (k0_t5_loop i).trips) (v140 : BitVec 32) (v792 : IVec S16 32) (v796 : IVec S16 32) (k0_hw543 : k0_chk543 i k0_t5 v140 v792 v796), ∀ (k0_h6 : ¬(k0_cond6 v140 = 1#1)), ∀ a x, ((![v792, v796] : Fin 2 → IVec S16 32) a x).toNat < S256x128.size a := fun i k0_t5 v140 v792 v796 k0_hw543 k0_h6 => k0_hw543.1 k0_h6
theorem k0_idx977_inb : ∀ (i : grid0.Coords) (k0_t5 : Fin (k0_t5_loop i).trips) (v140 : BitVec 32) (v792 : IVec S16 32) (v796 : IVec S16 32) (k0_hw543 : k0_chk543 i k0_t5 v140 v792 v796), ∀ (k0_h6 : ¬(k0_cond6 v140 = 1#1)), ∀ a x, ((![v792, v796] : Fin 2 → IVec S16 32) a x).toNat < S256x128.size a := fun i k0_t5 v140 v792 v796 k0_hw543 k0_h6 => k0_hw543.2 k0_h6

def k0_chk544 (i : grid0.Coords) (k0_t5 : Fin (k0_t5_loop i).trips) (v140 : BitVec 32) (v792 : IVec S16 32) (v798 : IVec S16 32) : Prop :=
  (∀ (k0_h6 : ¬(k0_cond6 v140 = 1#1)), ∀ a x, ((![v792, v798] : Fin 2 → IVec S16 32) a x).toNat < S256x128.size a) ∧
  (∀ (k0_h6 : ¬(k0_cond6 v140 = 1#1)), ∀ a x, ((![v792, v798] : Fin 2 → IVec S16 32) a x).toNat < S256x128.size a)
theorem k0_idx978_inb : ∀ (i : grid0.Coords) (k0_t5 : Fin (k0_t5_loop i).trips) (v140 : BitVec 32) (v792 : IVec S16 32) (v798 : IVec S16 32) (k0_hw544 : k0_chk544 i k0_t5 v140 v792 v798), ∀ (k0_h6 : ¬(k0_cond6 v140 = 1#1)), ∀ a x, ((![v792, v798] : Fin 2 → IVec S16 32) a x).toNat < S256x128.size a := fun i k0_t5 v140 v792 v798 k0_hw544 k0_h6 => k0_hw544.1 k0_h6
theorem k0_idx979_inb : ∀ (i : grid0.Coords) (k0_t5 : Fin (k0_t5_loop i).trips) (v140 : BitVec 32) (v792 : IVec S16 32) (v798 : IVec S16 32) (k0_hw544 : k0_chk544 i k0_t5 v140 v792 v798), ∀ (k0_h6 : ¬(k0_cond6 v140 = 1#1)), ∀ a x, ((![v792, v798] : Fin 2 → IVec S16 32) a x).toNat < S256x128.size a := fun i k0_t5 v140 v792 v798 k0_hw544 k0_h6 => k0_hw544.2 k0_h6

def k0_chk545 (i : grid0.Coords) (k0_t5 : Fin (k0_t5_loop i).trips) (v140 : BitVec 32) (v792 : IVec S16 32) (v800 : IVec S16 32) : Prop :=
  (∀ (k0_h6 : ¬(k0_cond6 v140 = 1#1)), ∀ a x, ((![v792, v800] : Fin 2 → IVec S16 32) a x).toNat < S256x128.size a) ∧
  (∀ (k0_h6 : ¬(k0_cond6 v140 = 1#1)), ∀ a x, ((![v792, v800] : Fin 2 → IVec S16 32) a x).toNat < S256x128.size a)
theorem k0_idx980_inb : ∀ (i : grid0.Coords) (k0_t5 : Fin (k0_t5_loop i).trips) (v140 : BitVec 32) (v792 : IVec S16 32) (v800 : IVec S16 32) (k0_hw545 : k0_chk545 i k0_t5 v140 v792 v800), ∀ (k0_h6 : ¬(k0_cond6 v140 = 1#1)), ∀ a x, ((![v792, v800] : Fin 2 → IVec S16 32) a x).toNat < S256x128.size a := fun i k0_t5 v140 v792 v800 k0_hw545 k0_h6 => k0_hw545.1 k0_h6
theorem k0_idx981_inb : ∀ (i : grid0.Coords) (k0_t5 : Fin (k0_t5_loop i).trips) (v140 : BitVec 32) (v792 : IVec S16 32) (v800 : IVec S16 32) (k0_hw545 : k0_chk545 i k0_t5 v140 v792 v800), ∀ (k0_h6 : ¬(k0_cond6 v140 = 1#1)), ∀ a x, ((![v792, v800] : Fin 2 → IVec S16 32) a x).toNat < S256x128.size a := fun i k0_t5 v140 v792 v800 k0_hw545 k0_h6 => k0_hw545.2 k0_h6

def k0_chk546 (i : grid0.Coords) (k0_t5 : Fin (k0_t5_loop i).trips) (v140 : BitVec 32) (v792 : IVec S16 32) (v802 : IVec S16 32) : Prop :=
  (∀ (k0_h6 : ¬(k0_cond6 v140 = 1#1)), ∀ a x, ((![v792, v802] : Fin 2 → IVec S16 32) a x).toNat < S256x128.size a) ∧
  (∀ (k0_h6 : ¬(k0_cond6 v140 = 1#1)), ∀ a x, ((![v792, v802] : Fin 2 → IVec S16 32) a x).toNat < S256x128.size a)
theorem k0_idx982_inb : ∀ (i : grid0.Coords) (k0_t5 : Fin (k0_t5_loop i).trips) (v140 : BitVec 32) (v792 : IVec S16 32) (v802 : IVec S16 32) (k0_hw546 : k0_chk546 i k0_t5 v140 v792 v802), ∀ (k0_h6 : ¬(k0_cond6 v140 = 1#1)), ∀ a x, ((![v792, v802] : Fin 2 → IVec S16 32) a x).toNat < S256x128.size a := fun i k0_t5 v140 v792 v802 k0_hw546 k0_h6 => k0_hw546.1 k0_h6
theorem k0_idx983_inb : ∀ (i : grid0.Coords) (k0_t5 : Fin (k0_t5_loop i).trips) (v140 : BitVec 32) (v792 : IVec S16 32) (v802 : IVec S16 32) (k0_hw546 : k0_chk546 i k0_t5 v140 v792 v802), ∀ (k0_h6 : ¬(k0_cond6 v140 = 1#1)), ∀ a x, ((![v792, v802] : Fin 2 → IVec S16 32) a x).toNat < S256x128.size a := fun i k0_t5 v140 v792 v802 k0_hw546 k0_h6 => k0_hw546.2 k0_h6

def k0_chk547 (i : grid0.Coords) (k0_t5 : Fin (k0_t5_loop i).trips) (v140 : BitVec 32) (v792 : IVec S16 32) (v804 : IVec S16 32) : Prop :=
  (∀ (k0_h6 : ¬(k0_cond6 v140 = 1#1)), ∀ a x, ((![v792, v804] : Fin 2 → IVec S16 32) a x).toNat < S256x128.size a) ∧
  (∀ (k0_h6 : ¬(k0_cond6 v140 = 1#1)), ∀ a x, ((![v792, v804] : Fin 2 → IVec S16 32) a x).toNat < S256x128.size a)
theorem k0_idx984_inb : ∀ (i : grid0.Coords) (k0_t5 : Fin (k0_t5_loop i).trips) (v140 : BitVec 32) (v792 : IVec S16 32) (v804 : IVec S16 32) (k0_hw547 : k0_chk547 i k0_t5 v140 v792 v804), ∀ (k0_h6 : ¬(k0_cond6 v140 = 1#1)), ∀ a x, ((![v792, v804] : Fin 2 → IVec S16 32) a x).toNat < S256x128.size a := fun i k0_t5 v140 v792 v804 k0_hw547 k0_h6 => k0_hw547.1 k0_h6
theorem k0_idx985_inb : ∀ (i : grid0.Coords) (k0_t5 : Fin (k0_t5_loop i).trips) (v140 : BitVec 32) (v792 : IVec S16 32) (v804 : IVec S16 32) (k0_hw547 : k0_chk547 i k0_t5 v140 v792 v804), ∀ (k0_h6 : ¬(k0_cond6 v140 = 1#1)), ∀ a x, ((![v792, v804] : Fin 2 → IVec S16 32) a x).toNat < S256x128.size a := fun i k0_t5 v140 v792 v804 k0_hw547 k0_h6 => k0_hw547.2 k0_h6

def k0_chk548 (i : grid0.Coords) (k0_t5 : Fin (k0_t5_loop i).trips) (v140 : BitVec 32) (v792 : IVec S16 32) (v806 : IVec S16 32) : Prop :=
  (∀ (k0_h6 : ¬(k0_cond6 v140 = 1#1)), ∀ a x, ((![v792, v806] : Fin 2 → IVec S16 32) a x).toNat < S256x128.size a) ∧
  (∀ (k0_h6 : ¬(k0_cond6 v140 = 1#1)), ∀ a x, ((![v792, v806] : Fin 2 → IVec S16 32) a x).toNat < S256x128.size a)
theorem k0_idx986_inb : ∀ (i : grid0.Coords) (k0_t5 : Fin (k0_t5_loop i).trips) (v140 : BitVec 32) (v792 : IVec S16 32) (v806 : IVec S16 32) (k0_hw548 : k0_chk548 i k0_t5 v140 v792 v806), ∀ (k0_h6 : ¬(k0_cond6 v140 = 1#1)), ∀ a x, ((![v792, v806] : Fin 2 → IVec S16 32) a x).toNat < S256x128.size a := fun i k0_t5 v140 v792 v806 k0_hw548 k0_h6 => k0_hw548.1 k0_h6
theorem k0_idx987_inb : ∀ (i : grid0.Coords) (k0_t5 : Fin (k0_t5_loop i).trips) (v140 : BitVec 32) (v792 : IVec S16 32) (v806 : IVec S16 32) (k0_hw548 : k0_chk548 i k0_t5 v140 v792 v806), ∀ (k0_h6 : ¬(k0_cond6 v140 = 1#1)), ∀ a x, ((![v792, v806] : Fin 2 → IVec S16 32) a x).toNat < S256x128.size a := fun i k0_t5 v140 v792 v806 k0_hw548 k0_h6 => k0_hw548.2 k0_h6

def k0_chk549 (i : grid0.Coords) (k0_t5 : Fin (k0_t5_loop i).trips) (v140 : BitVec 32) (v792 : IVec S16 32) (v808 : IVec S16 32) : Prop :=
  (∀ (k0_h6 : ¬(k0_cond6 v140 = 1#1)), ∀ a x, ((![v792, v808] : Fin 2 → IVec S16 32) a x).toNat < S256x128.size a) ∧
  (∀ (k0_h6 : ¬(k0_cond6 v140 = 1#1)), ∀ a x, ((![v792, v808] : Fin 2 → IVec S16 32) a x).toNat < S256x128.size a)
theorem k0_idx988_inb : ∀ (i : grid0.Coords) (k0_t5 : Fin (k0_t5_loop i).trips) (v140 : BitVec 32) (v792 : IVec S16 32) (v808 : IVec S16 32) (k0_hw549 : k0_chk549 i k0_t5 v140 v792 v808), ∀ (k0_h6 : ¬(k0_cond6 v140 = 1#1)), ∀ a x, ((![v792, v808] : Fin 2 → IVec S16 32) a x).toNat < S256x128.size a := fun i k0_t5 v140 v792 v808 k0_hw549 k0_h6 => k0_hw549.1 k0_h6
theorem k0_idx989_inb : ∀ (i : grid0.Coords) (k0_t5 : Fin (k0_t5_loop i).trips) (v140 : BitVec 32) (v792 : IVec S16 32) (v808 : IVec S16 32) (k0_hw549 : k0_chk549 i k0_t5 v140 v792 v808), ∀ (k0_h6 : ¬(k0_cond6 v140 = 1#1)), ∀ a x, ((![v792, v808] : Fin 2 → IVec S16 32) a x).toNat < S256x128.size a := fun i k0_t5 v140 v792 v808 k0_hw549 k0_h6 => k0_hw549.2 k0_h6

def k0_chk550 (i : grid0.Coords) (v2 : IVec S16 32) (k0_t5 : Fin (k0_t5_loop i).trips) (v140 : BitVec 32) (v792 : IVec S16 32) : Prop :=
  (∀ (k0_h6 : ¬(k0_cond6 v140 = 1#1)), ∀ a x, ((![v792, v2] : Fin 2 → IVec S16 32) a x).toNat < S256x16.size a)
theorem k0_idx990_inb : ∀ (i : grid0.Coords) (v2 : IVec S16 32) (k0_t5 : Fin (k0_t5_loop i).trips) (v140 : BitVec 32) (v792 : IVec S16 32) (k0_hw550 : k0_chk550 i v2 k0_t5 v140 v792), ∀ (k0_h6 : ¬(k0_cond6 v140 = 1#1)), ∀ a x, ((![v792, v2] : Fin 2 → IVec S16 32) a x).toNat < S256x16.size a := fun i v2 k0_t5 v140 v792 k0_hw550 k0_h6 => k0_hw550 k0_h6

def k0_chk551 (i : grid0.Coords) (k0_t5 : Fin (k0_t5_loop i).trips) (v140 : BitVec 32) (v853 : IVec S16 32) : Prop :=
  (∀ (k0_h6 : ¬(k0_cond6 v140 = 1#1)), ∀ a x, ((![v853] : Fin 1 → IVec S16 32) a x).toNat < S3136.size a)
theorem k0_idx991_inb : ∀ (i : grid0.Coords) (k0_t5 : Fin (k0_t5_loop i).trips) (v140 : BitVec 32) (v853 : IVec S16 32) (k0_hw551 : k0_chk551 i k0_t5 v140 v853), ∀ (k0_h6 : ¬(k0_cond6 v140 = 1#1)), ∀ a x, ((![v853] : Fin 1 → IVec S16 32) a x).toNat < S3136.size a := fun i k0_t5 v140 v853 k0_hw551 k0_h6 => k0_hw551 k0_h6
def k0_off492 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v856 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c7_i32_273 : BitVec 32 := 7#32
  let v855 : BitVec 32 := Scalar.addi v126 c7_i32_273
  let v857 : Index := Scalar.indexCast v855
  let c0_274 : Index := 0#32
  ![v856.toNat, v857.toNat, 0]
def k0_off493 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v860 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c7_i32_275 : BitVec 32 := 7#32
  let v859 : BitVec 32 := Scalar.addi v126 c7_i32_275
  let v861 : Index := Scalar.indexCast v859
  let c16_276 : Index := 16#32
  ![v860.toNat, v861.toNat, 16]
def k0_off494 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v864 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c7_i32_277 : BitVec 32 := 7#32
  let v863 : BitVec 32 := Scalar.addi v126 c7_i32_277
  let v865 : Index := Scalar.indexCast v863
  let c32_278 : Index := 32#32
  ![v864.toNat, v865.toNat, 32]
def k0_off495 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v868 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c7_i32_279 : BitVec 32 := 7#32
  let v867 : BitVec 32 := Scalar.addi v126 c7_i32_279
  let v869 : Index := Scalar.indexCast v867
  let c48_280 : Index := 48#32
  ![v868.toNat, v869.toNat, 48]
def k0_off496 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v872 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c7_i32_281 : BitVec 32 := 7#32
  let v871 : BitVec 32 := Scalar.addi v126 c7_i32_281
  let v873 : Index := Scalar.indexCast v871
  let c64_282 : Index := 64#32
  ![v872.toNat, v873.toNat, 64]
def k0_off497 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v876 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c7_i32_283 : BitVec 32 := 7#32
  let v875 : BitVec 32 := Scalar.addi v126 c7_i32_283
  let v877 : Index := Scalar.indexCast v875
  let c80_284 : Index := 80#32
  ![v876.toNat, v877.toNat, 80]
def k0_off498 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v880 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c7_i32_285 : BitVec 32 := 7#32
  let v879 : BitVec 32 := Scalar.addi v126 c7_i32_285
  let v881 : Index := Scalar.indexCast v879
  let c96_286 : Index := 96#32
  ![v880.toNat, v881.toNat, 96]
def k0_off499 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v884 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c7_i32_287 : BitVec 32 := 7#32
  let v883 : BitVec 32 := Scalar.addi v126 c7_i32_287
  let v885 : Index := Scalar.indexCast v883
  let c112_288 : Index := 112#32
  ![v884.toNat, v885.toNat, 112]

def k0_chk552 (i : grid0.Coords) (k0_t5 : Fin (k0_t5_loop i).trips) (v140 : BitVec 32) (v893 : IVec S16 32) (v895 : IVec S16 32) : Prop :=
  (∀ (k0_h6 : ¬(k0_cond6 v140 = 1#1)), ∀ a x, ((![v893, v895] : Fin 2 → IVec S16 32) a x).toNat < S256x128.size a) ∧
  (∀ (k0_h6 : ¬(k0_cond6 v140 = 1#1)), ∀ a x, ((![v893, v895] : Fin 2 → IVec S16 32) a x).toNat < S256x128.size a)
theorem k0_idx992_inb : ∀ (i : grid0.Coords) (k0_t5 : Fin (k0_t5_loop i).trips) (v140 : BitVec 32) (v893 : IVec S16 32) (v895 : IVec S16 32) (k0_hw552 : k0_chk552 i k0_t5 v140 v893 v895), ∀ (k0_h6 : ¬(k0_cond6 v140 = 1#1)), ∀ a x, ((![v893, v895] : Fin 2 → IVec S16 32) a x).toNat < S256x128.size a := fun i k0_t5 v140 v893 v895 k0_hw552 k0_h6 => k0_hw552.1 k0_h6
theorem k0_idx993_inb : ∀ (i : grid0.Coords) (k0_t5 : Fin (k0_t5_loop i).trips) (v140 : BitVec 32) (v893 : IVec S16 32) (v895 : IVec S16 32) (k0_hw552 : k0_chk552 i k0_t5 v140 v893 v895), ∀ (k0_h6 : ¬(k0_cond6 v140 = 1#1)), ∀ a x, ((![v893, v895] : Fin 2 → IVec S16 32) a x).toNat < S256x128.size a := fun i k0_t5 v140 v893 v895 k0_hw552 k0_h6 => k0_hw552.2 k0_h6

def k0_chk553 (i : grid0.Coords) (k0_t5 : Fin (k0_t5_loop i).trips) (v140 : BitVec 32) (v893 : IVec S16 32) (v897 : IVec S16 32) : Prop :=
  (∀ (k0_h6 : ¬(k0_cond6 v140 = 1#1)), ∀ a x, ((![v893, v897] : Fin 2 → IVec S16 32) a x).toNat < S256x128.size a) ∧
  (∀ (k0_h6 : ¬(k0_cond6 v140 = 1#1)), ∀ a x, ((![v893, v897] : Fin 2 → IVec S16 32) a x).toNat < S256x128.size a)
theorem k0_idx994_inb : ∀ (i : grid0.Coords) (k0_t5 : Fin (k0_t5_loop i).trips) (v140 : BitVec 32) (v893 : IVec S16 32) (v897 : IVec S16 32) (k0_hw553 : k0_chk553 i k0_t5 v140 v893 v897), ∀ (k0_h6 : ¬(k0_cond6 v140 = 1#1)), ∀ a x, ((![v893, v897] : Fin 2 → IVec S16 32) a x).toNat < S256x128.size a := fun i k0_t5 v140 v893 v897 k0_hw553 k0_h6 => k0_hw553.1 k0_h6
theorem k0_idx995_inb : ∀ (i : grid0.Coords) (k0_t5 : Fin (k0_t5_loop i).trips) (v140 : BitVec 32) (v893 : IVec S16 32) (v897 : IVec S16 32) (k0_hw553 : k0_chk553 i k0_t5 v140 v893 v897), ∀ (k0_h6 : ¬(k0_cond6 v140 = 1#1)), ∀ a x, ((![v893, v897] : Fin 2 → IVec S16 32) a x).toNat < S256x128.size a := fun i k0_t5 v140 v893 v897 k0_hw553 k0_h6 => k0_hw553.2 k0_h6

def k0_chk554 (i : grid0.Coords) (k0_t5 : Fin (k0_t5_loop i).trips) (v140 : BitVec 32) (v893 : IVec S16 32) (v899 : IVec S16 32) : Prop :=
  (∀ (k0_h6 : ¬(k0_cond6 v140 = 1#1)), ∀ a x, ((![v893, v899] : Fin 2 → IVec S16 32) a x).toNat < S256x128.size a) ∧
  (∀ (k0_h6 : ¬(k0_cond6 v140 = 1#1)), ∀ a x, ((![v893, v899] : Fin 2 → IVec S16 32) a x).toNat < S256x128.size a)
theorem k0_idx996_inb : ∀ (i : grid0.Coords) (k0_t5 : Fin (k0_t5_loop i).trips) (v140 : BitVec 32) (v893 : IVec S16 32) (v899 : IVec S16 32) (k0_hw554 : k0_chk554 i k0_t5 v140 v893 v899), ∀ (k0_h6 : ¬(k0_cond6 v140 = 1#1)), ∀ a x, ((![v893, v899] : Fin 2 → IVec S16 32) a x).toNat < S256x128.size a := fun i k0_t5 v140 v893 v899 k0_hw554 k0_h6 => k0_hw554.1 k0_h6
theorem k0_idx997_inb : ∀ (i : grid0.Coords) (k0_t5 : Fin (k0_t5_loop i).trips) (v140 : BitVec 32) (v893 : IVec S16 32) (v899 : IVec S16 32) (k0_hw554 : k0_chk554 i k0_t5 v140 v893 v899), ∀ (k0_h6 : ¬(k0_cond6 v140 = 1#1)), ∀ a x, ((![v893, v899] : Fin 2 → IVec S16 32) a x).toNat < S256x128.size a := fun i k0_t5 v140 v893 v899 k0_hw554 k0_h6 => k0_hw554.2 k0_h6

def k0_chk555 (i : grid0.Coords) (k0_t5 : Fin (k0_t5_loop i).trips) (v140 : BitVec 32) (v893 : IVec S16 32) (v901 : IVec S16 32) : Prop :=
  (∀ (k0_h6 : ¬(k0_cond6 v140 = 1#1)), ∀ a x, ((![v893, v901] : Fin 2 → IVec S16 32) a x).toNat < S256x128.size a) ∧
  (∀ (k0_h6 : ¬(k0_cond6 v140 = 1#1)), ∀ a x, ((![v893, v901] : Fin 2 → IVec S16 32) a x).toNat < S256x128.size a)
theorem k0_idx998_inb : ∀ (i : grid0.Coords) (k0_t5 : Fin (k0_t5_loop i).trips) (v140 : BitVec 32) (v893 : IVec S16 32) (v901 : IVec S16 32) (k0_hw555 : k0_chk555 i k0_t5 v140 v893 v901), ∀ (k0_h6 : ¬(k0_cond6 v140 = 1#1)), ∀ a x, ((![v893, v901] : Fin 2 → IVec S16 32) a x).toNat < S256x128.size a := fun i k0_t5 v140 v893 v901 k0_hw555 k0_h6 => k0_hw555.1 k0_h6
theorem k0_idx999_inb : ∀ (i : grid0.Coords) (k0_t5 : Fin (k0_t5_loop i).trips) (v140 : BitVec 32) (v893 : IVec S16 32) (v901 : IVec S16 32) (k0_hw555 : k0_chk555 i k0_t5 v140 v893 v901), ∀ (k0_h6 : ¬(k0_cond6 v140 = 1#1)), ∀ a x, ((![v893, v901] : Fin 2 → IVec S16 32) a x).toNat < S256x128.size a := fun i k0_t5 v140 v893 v901 k0_hw555 k0_h6 => k0_hw555.2 k0_h6

def k0_chk556 (i : grid0.Coords) (k0_t5 : Fin (k0_t5_loop i).trips) (v140 : BitVec 32) (v893 : IVec S16 32) (v903 : IVec S16 32) : Prop :=
  (∀ (k0_h6 : ¬(k0_cond6 v140 = 1#1)), ∀ a x, ((![v893, v903] : Fin 2 → IVec S16 32) a x).toNat < S256x128.size a) ∧
  (∀ (k0_h6 : ¬(k0_cond6 v140 = 1#1)), ∀ a x, ((![v893, v903] : Fin 2 → IVec S16 32) a x).toNat < S256x128.size a)
theorem k0_idx1000_inb : ∀ (i : grid0.Coords) (k0_t5 : Fin (k0_t5_loop i).trips) (v140 : BitVec 32) (v893 : IVec S16 32) (v903 : IVec S16 32) (k0_hw556 : k0_chk556 i k0_t5 v140 v893 v903), ∀ (k0_h6 : ¬(k0_cond6 v140 = 1#1)), ∀ a x, ((![v893, v903] : Fin 2 → IVec S16 32) a x).toNat < S256x128.size a := fun i k0_t5 v140 v893 v903 k0_hw556 k0_h6 => k0_hw556.1 k0_h6
theorem k0_idx1001_inb : ∀ (i : grid0.Coords) (k0_t5 : Fin (k0_t5_loop i).trips) (v140 : BitVec 32) (v893 : IVec S16 32) (v903 : IVec S16 32) (k0_hw556 : k0_chk556 i k0_t5 v140 v893 v903), ∀ (k0_h6 : ¬(k0_cond6 v140 = 1#1)), ∀ a x, ((![v893, v903] : Fin 2 → IVec S16 32) a x).toNat < S256x128.size a := fun i k0_t5 v140 v893 v903 k0_hw556 k0_h6 => k0_hw556.2 k0_h6

def k0_chk557 (i : grid0.Coords) (k0_t5 : Fin (k0_t5_loop i).trips) (v140 : BitVec 32) (v893 : IVec S16 32) (v905 : IVec S16 32) : Prop :=
  (∀ (k0_h6 : ¬(k0_cond6 v140 = 1#1)), ∀ a x, ((![v893, v905] : Fin 2 → IVec S16 32) a x).toNat < S256x128.size a) ∧
  (∀ (k0_h6 : ¬(k0_cond6 v140 = 1#1)), ∀ a x, ((![v893, v905] : Fin 2 → IVec S16 32) a x).toNat < S256x128.size a)
theorem k0_idx1002_inb : ∀ (i : grid0.Coords) (k0_t5 : Fin (k0_t5_loop i).trips) (v140 : BitVec 32) (v893 : IVec S16 32) (v905 : IVec S16 32) (k0_hw557 : k0_chk557 i k0_t5 v140 v893 v905), ∀ (k0_h6 : ¬(k0_cond6 v140 = 1#1)), ∀ a x, ((![v893, v905] : Fin 2 → IVec S16 32) a x).toNat < S256x128.size a := fun i k0_t5 v140 v893 v905 k0_hw557 k0_h6 => k0_hw557.1 k0_h6
theorem k0_idx1003_inb : ∀ (i : grid0.Coords) (k0_t5 : Fin (k0_t5_loop i).trips) (v140 : BitVec 32) (v893 : IVec S16 32) (v905 : IVec S16 32) (k0_hw557 : k0_chk557 i k0_t5 v140 v893 v905), ∀ (k0_h6 : ¬(k0_cond6 v140 = 1#1)), ∀ a x, ((![v893, v905] : Fin 2 → IVec S16 32) a x).toNat < S256x128.size a := fun i k0_t5 v140 v893 v905 k0_hw557 k0_h6 => k0_hw557.2 k0_h6

def k0_chk558 (i : grid0.Coords) (k0_t5 : Fin (k0_t5_loop i).trips) (v140 : BitVec 32) (v893 : IVec S16 32) (v907 : IVec S16 32) : Prop :=
  (∀ (k0_h6 : ¬(k0_cond6 v140 = 1#1)), ∀ a x, ((![v893, v907] : Fin 2 → IVec S16 32) a x).toNat < S256x128.size a) ∧
  (∀ (k0_h6 : ¬(k0_cond6 v140 = 1#1)), ∀ a x, ((![v893, v907] : Fin 2 → IVec S16 32) a x).toNat < S256x128.size a)
theorem k0_idx1004_inb : ∀ (i : grid0.Coords) (k0_t5 : Fin (k0_t5_loop i).trips) (v140 : BitVec 32) (v893 : IVec S16 32) (v907 : IVec S16 32) (k0_hw558 : k0_chk558 i k0_t5 v140 v893 v907), ∀ (k0_h6 : ¬(k0_cond6 v140 = 1#1)), ∀ a x, ((![v893, v907] : Fin 2 → IVec S16 32) a x).toNat < S256x128.size a := fun i k0_t5 v140 v893 v907 k0_hw558 k0_h6 => k0_hw558.1 k0_h6
theorem k0_idx1005_inb : ∀ (i : grid0.Coords) (k0_t5 : Fin (k0_t5_loop i).trips) (v140 : BitVec 32) (v893 : IVec S16 32) (v907 : IVec S16 32) (k0_hw558 : k0_chk558 i k0_t5 v140 v893 v907), ∀ (k0_h6 : ¬(k0_cond6 v140 = 1#1)), ∀ a x, ((![v893, v907] : Fin 2 → IVec S16 32) a x).toNat < S256x128.size a := fun i k0_t5 v140 v893 v907 k0_hw558 k0_h6 => k0_hw558.2 k0_h6

def k0_chk559 (i : grid0.Coords) (k0_t5 : Fin (k0_t5_loop i).trips) (v140 : BitVec 32) (v893 : IVec S16 32) (v909 : IVec S16 32) : Prop :=
  (∀ (k0_h6 : ¬(k0_cond6 v140 = 1#1)), ∀ a x, ((![v893, v909] : Fin 2 → IVec S16 32) a x).toNat < S256x128.size a) ∧
  (∀ (k0_h6 : ¬(k0_cond6 v140 = 1#1)), ∀ a x, ((![v893, v909] : Fin 2 → IVec S16 32) a x).toNat < S256x128.size a)
theorem k0_idx1006_inb : ∀ (i : grid0.Coords) (k0_t5 : Fin (k0_t5_loop i).trips) (v140 : BitVec 32) (v893 : IVec S16 32) (v909 : IVec S16 32) (k0_hw559 : k0_chk559 i k0_t5 v140 v893 v909), ∀ (k0_h6 : ¬(k0_cond6 v140 = 1#1)), ∀ a x, ((![v893, v909] : Fin 2 → IVec S16 32) a x).toNat < S256x128.size a := fun i k0_t5 v140 v893 v909 k0_hw559 k0_h6 => k0_hw559.1 k0_h6
theorem k0_idx1007_inb : ∀ (i : grid0.Coords) (k0_t5 : Fin (k0_t5_loop i).trips) (v140 : BitVec 32) (v893 : IVec S16 32) (v909 : IVec S16 32) (k0_hw559 : k0_chk559 i k0_t5 v140 v893 v909), ∀ (k0_h6 : ¬(k0_cond6 v140 = 1#1)), ∀ a x, ((![v893, v909] : Fin 2 → IVec S16 32) a x).toNat < S256x128.size a := fun i k0_t5 v140 v893 v909 k0_hw559 k0_h6 => k0_hw559.2 k0_h6

def k0_chk560 (i : grid0.Coords) (v2 : IVec S16 32) (k0_t5 : Fin (k0_t5_loop i).trips) (v140 : BitVec 32) (v893 : IVec S16 32) : Prop :=
  (∀ (k0_h6 : ¬(k0_cond6 v140 = 1#1)), ∀ a x, ((![v893, v2] : Fin 2 → IVec S16 32) a x).toNat < S256x16.size a)
theorem k0_idx1008_inb : ∀ (i : grid0.Coords) (v2 : IVec S16 32) (k0_t5 : Fin (k0_t5_loop i).trips) (v140 : BitVec 32) (v893 : IVec S16 32) (k0_hw560 : k0_chk560 i v2 k0_t5 v140 v893), ∀ (k0_h6 : ¬(k0_cond6 v140 = 1#1)), ∀ a x, ((![v893, v2] : Fin 2 → IVec S16 32) a x).toNat < S256x16.size a := fun i v2 k0_t5 v140 v893 k0_hw560 k0_h6 => k0_hw560 k0_h6

def k0_chk561 (i : grid0.Coords) (k0_t5 : Fin (k0_t5_loop i).trips) (v140 : BitVec 32) (v954 : IVec S16 32) : Prop :=
  (∀ (k0_h6 : ¬(k0_cond6 v140 = 1#1)), ∀ a x, ((![v954] : Fin 1 → IVec S16 32) a x).toNat < S3136.size a)
theorem k0_idx1009_inb : ∀ (i : grid0.Coords) (k0_t5 : Fin (k0_t5_loop i).trips) (v140 : BitVec 32) (v954 : IVec S16 32) (k0_hw561 : k0_chk561 i k0_t5 v140 v954), ∀ (k0_h6 : ¬(k0_cond6 v140 = 1#1)), ∀ a x, ((![v954] : Fin 1 → IVec S16 32) a x).toNat < S3136.size a := fun i k0_t5 v140 v954 k0_hw561 k0_h6 => k0_hw561 k0_h6
def k0_off500 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v957 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c8_i32_303 : BitVec 32 := 8#32
  let v956 : BitVec 32 := Scalar.addi v126 c8_i32_303
  let v958 : Index := Scalar.indexCast v956
  let c0_304 : Index := 0#32
  ![v957.toNat, v958.toNat, 0]
def k0_off501 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v961 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c8_i32_305 : BitVec 32 := 8#32
  let v960 : BitVec 32 := Scalar.addi v126 c8_i32_305
  let v962 : Index := Scalar.indexCast v960
  let c16_306 : Index := 16#32
  ![v961.toNat, v962.toNat, 16]
def k0_off502 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v965 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c8_i32_307 : BitVec 32 := 8#32
  let v964 : BitVec 32 := Scalar.addi v126 c8_i32_307
  let v966 : Index := Scalar.indexCast v964
  let c32_308 : Index := 32#32
  ![v965.toNat, v966.toNat, 32]
def k0_off503 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v969 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c8_i32_309 : BitVec 32 := 8#32
  let v968 : BitVec 32 := Scalar.addi v126 c8_i32_309
  let v970 : Index := Scalar.indexCast v968
  let c48_310 : Index := 48#32
  ![v969.toNat, v970.toNat, 48]
def k0_off504 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v973 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c8_i32_311 : BitVec 32 := 8#32
  let v972 : BitVec 32 := Scalar.addi v126 c8_i32_311
  let v974 : Index := Scalar.indexCast v972
  let c64_312 : Index := 64#32
  ![v973.toNat, v974.toNat, 64]
def k0_off505 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v977 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c8_i32_313 : BitVec 32 := 8#32
  let v976 : BitVec 32 := Scalar.addi v126 c8_i32_313
  let v978 : Index := Scalar.indexCast v976
  let c80_314 : Index := 80#32
  ![v977.toNat, v978.toNat, 80]
def k0_off506 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v981 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c8_i32_315 : BitVec 32 := 8#32
  let v980 : BitVec 32 := Scalar.addi v126 c8_i32_315
  let v982 : Index := Scalar.indexCast v980
  let c96_316 : Index := 96#32
  ![v981.toNat, v982.toNat, 96]
def k0_off507 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v985 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c8_i32_317 : BitVec 32 := 8#32
  let v984 : BitVec 32 := Scalar.addi v126 c8_i32_317
  let v986 : Index := Scalar.indexCast v984
  let c112_318 : Index := 112#32
  ![v985.toNat, v986.toNat, 112]

def k0_chk562 (i : grid0.Coords) (k0_t5 : Fin (k0_t5_loop i).trips) (v140 : BitVec 32) (v994 : IVec S16 32) (v996 : IVec S16 32) : Prop :=
  (∀ (k0_h6 : ¬(k0_cond6 v140 = 1#1)), ∀ a x, ((![v994, v996] : Fin 2 → IVec S16 32) a x).toNat < S256x128.size a) ∧
  (∀ (k0_h6 : ¬(k0_cond6 v140 = 1#1)), ∀ a x, ((![v994, v996] : Fin 2 → IVec S16 32) a x).toNat < S256x128.size a)
theorem k0_idx1010_inb : ∀ (i : grid0.Coords) (k0_t5 : Fin (k0_t5_loop i).trips) (v140 : BitVec 32) (v994 : IVec S16 32) (v996 : IVec S16 32) (k0_hw562 : k0_chk562 i k0_t5 v140 v994 v996), ∀ (k0_h6 : ¬(k0_cond6 v140 = 1#1)), ∀ a x, ((![v994, v996] : Fin 2 → IVec S16 32) a x).toNat < S256x128.size a := fun i k0_t5 v140 v994 v996 k0_hw562 k0_h6 => k0_hw562.1 k0_h6
theorem k0_idx1011_inb : ∀ (i : grid0.Coords) (k0_t5 : Fin (k0_t5_loop i).trips) (v140 : BitVec 32) (v994 : IVec S16 32) (v996 : IVec S16 32) (k0_hw562 : k0_chk562 i k0_t5 v140 v994 v996), ∀ (k0_h6 : ¬(k0_cond6 v140 = 1#1)), ∀ a x, ((![v994, v996] : Fin 2 → IVec S16 32) a x).toNat < S256x128.size a := fun i k0_t5 v140 v994 v996 k0_hw562 k0_h6 => k0_hw562.2 k0_h6

def k0_chk563 (i : grid0.Coords) (k0_t5 : Fin (k0_t5_loop i).trips) (v140 : BitVec 32) (v994 : IVec S16 32) (v998 : IVec S16 32) : Prop :=
  (∀ (k0_h6 : ¬(k0_cond6 v140 = 1#1)), ∀ a x, ((![v994, v998] : Fin 2 → IVec S16 32) a x).toNat < S256x128.size a) ∧
  (∀ (k0_h6 : ¬(k0_cond6 v140 = 1#1)), ∀ a x, ((![v994, v998] : Fin 2 → IVec S16 32) a x).toNat < S256x128.size a)
theorem k0_idx1012_inb : ∀ (i : grid0.Coords) (k0_t5 : Fin (k0_t5_loop i).trips) (v140 : BitVec 32) (v994 : IVec S16 32) (v998 : IVec S16 32) (k0_hw563 : k0_chk563 i k0_t5 v140 v994 v998), ∀ (k0_h6 : ¬(k0_cond6 v140 = 1#1)), ∀ a x, ((![v994, v998] : Fin 2 → IVec S16 32) a x).toNat < S256x128.size a := fun i k0_t5 v140 v994 v998 k0_hw563 k0_h6 => k0_hw563.1 k0_h6
theorem k0_idx1013_inb : ∀ (i : grid0.Coords) (k0_t5 : Fin (k0_t5_loop i).trips) (v140 : BitVec 32) (v994 : IVec S16 32) (v998 : IVec S16 32) (k0_hw563 : k0_chk563 i k0_t5 v140 v994 v998), ∀ (k0_h6 : ¬(k0_cond6 v140 = 1#1)), ∀ a x, ((![v994, v998] : Fin 2 → IVec S16 32) a x).toNat < S256x128.size a := fun i k0_t5 v140 v994 v998 k0_hw563 k0_h6 => k0_hw563.2 k0_h6

def k0_chk564 (i : grid0.Coords) (k0_t5 : Fin (k0_t5_loop i).trips) (v140 : BitVec 32) (v994 : IVec S16 32) (v1000 : IVec S16 32) : Prop :=
  (∀ (k0_h6 : ¬(k0_cond6 v140 = 1#1)), ∀ a x, ((![v994, v1000] : Fin 2 → IVec S16 32) a x).toNat < S256x128.size a) ∧
  (∀ (k0_h6 : ¬(k0_cond6 v140 = 1#1)), ∀ a x, ((![v994, v1000] : Fin 2 → IVec S16 32) a x).toNat < S256x128.size a)
theorem k0_idx1014_inb : ∀ (i : grid0.Coords) (k0_t5 : Fin (k0_t5_loop i).trips) (v140 : BitVec 32) (v994 : IVec S16 32) (v1000 : IVec S16 32) (k0_hw564 : k0_chk564 i k0_t5 v140 v994 v1000), ∀ (k0_h6 : ¬(k0_cond6 v140 = 1#1)), ∀ a x, ((![v994, v1000] : Fin 2 → IVec S16 32) a x).toNat < S256x128.size a := fun i k0_t5 v140 v994 v1000 k0_hw564 k0_h6 => k0_hw564.1 k0_h6
theorem k0_idx1015_inb : ∀ (i : grid0.Coords) (k0_t5 : Fin (k0_t5_loop i).trips) (v140 : BitVec 32) (v994 : IVec S16 32) (v1000 : IVec S16 32) (k0_hw564 : k0_chk564 i k0_t5 v140 v994 v1000), ∀ (k0_h6 : ¬(k0_cond6 v140 = 1#1)), ∀ a x, ((![v994, v1000] : Fin 2 → IVec S16 32) a x).toNat < S256x128.size a := fun i k0_t5 v140 v994 v1000 k0_hw564 k0_h6 => k0_hw564.2 k0_h6

def k0_chk565 (i : grid0.Coords) (k0_t5 : Fin (k0_t5_loop i).trips) (v140 : BitVec 32) (v994 : IVec S16 32) (v1002 : IVec S16 32) : Prop :=
  (∀ (k0_h6 : ¬(k0_cond6 v140 = 1#1)), ∀ a x, ((![v994, v1002] : Fin 2 → IVec S16 32) a x).toNat < S256x128.size a) ∧
  (∀ (k0_h6 : ¬(k0_cond6 v140 = 1#1)), ∀ a x, ((![v994, v1002] : Fin 2 → IVec S16 32) a x).toNat < S256x128.size a)
theorem k0_idx1016_inb : ∀ (i : grid0.Coords) (k0_t5 : Fin (k0_t5_loop i).trips) (v140 : BitVec 32) (v994 : IVec S16 32) (v1002 : IVec S16 32) (k0_hw565 : k0_chk565 i k0_t5 v140 v994 v1002), ∀ (k0_h6 : ¬(k0_cond6 v140 = 1#1)), ∀ a x, ((![v994, v1002] : Fin 2 → IVec S16 32) a x).toNat < S256x128.size a := fun i k0_t5 v140 v994 v1002 k0_hw565 k0_h6 => k0_hw565.1 k0_h6
theorem k0_idx1017_inb : ∀ (i : grid0.Coords) (k0_t5 : Fin (k0_t5_loop i).trips) (v140 : BitVec 32) (v994 : IVec S16 32) (v1002 : IVec S16 32) (k0_hw565 : k0_chk565 i k0_t5 v140 v994 v1002), ∀ (k0_h6 : ¬(k0_cond6 v140 = 1#1)), ∀ a x, ((![v994, v1002] : Fin 2 → IVec S16 32) a x).toNat < S256x128.size a := fun i k0_t5 v140 v994 v1002 k0_hw565 k0_h6 => k0_hw565.2 k0_h6

def k0_chk566 (i : grid0.Coords) (k0_t5 : Fin (k0_t5_loop i).trips) (v140 : BitVec 32) (v994 : IVec S16 32) (v1004 : IVec S16 32) : Prop :=
  (∀ (k0_h6 : ¬(k0_cond6 v140 = 1#1)), ∀ a x, ((![v994, v1004] : Fin 2 → IVec S16 32) a x).toNat < S256x128.size a) ∧
  (∀ (k0_h6 : ¬(k0_cond6 v140 = 1#1)), ∀ a x, ((![v994, v1004] : Fin 2 → IVec S16 32) a x).toNat < S256x128.size a)
theorem k0_idx1018_inb : ∀ (i : grid0.Coords) (k0_t5 : Fin (k0_t5_loop i).trips) (v140 : BitVec 32) (v994 : IVec S16 32) (v1004 : IVec S16 32) (k0_hw566 : k0_chk566 i k0_t5 v140 v994 v1004), ∀ (k0_h6 : ¬(k0_cond6 v140 = 1#1)), ∀ a x, ((![v994, v1004] : Fin 2 → IVec S16 32) a x).toNat < S256x128.size a := fun i k0_t5 v140 v994 v1004 k0_hw566 k0_h6 => k0_hw566.1 k0_h6
theorem k0_idx1019_inb : ∀ (i : grid0.Coords) (k0_t5 : Fin (k0_t5_loop i).trips) (v140 : BitVec 32) (v994 : IVec S16 32) (v1004 : IVec S16 32) (k0_hw566 : k0_chk566 i k0_t5 v140 v994 v1004), ∀ (k0_h6 : ¬(k0_cond6 v140 = 1#1)), ∀ a x, ((![v994, v1004] : Fin 2 → IVec S16 32) a x).toNat < S256x128.size a := fun i k0_t5 v140 v994 v1004 k0_hw566 k0_h6 => k0_hw566.2 k0_h6

def k0_chk567 (i : grid0.Coords) (k0_t5 : Fin (k0_t5_loop i).trips) (v140 : BitVec 32) (v994 : IVec S16 32) (v1006 : IVec S16 32) : Prop :=
  (∀ (k0_h6 : ¬(k0_cond6 v140 = 1#1)), ∀ a x, ((![v994, v1006] : Fin 2 → IVec S16 32) a x).toNat < S256x128.size a) ∧
  (∀ (k0_h6 : ¬(k0_cond6 v140 = 1#1)), ∀ a x, ((![v994, v1006] : Fin 2 → IVec S16 32) a x).toNat < S256x128.size a)
theorem k0_idx1020_inb : ∀ (i : grid0.Coords) (k0_t5 : Fin (k0_t5_loop i).trips) (v140 : BitVec 32) (v994 : IVec S16 32) (v1006 : IVec S16 32) (k0_hw567 : k0_chk567 i k0_t5 v140 v994 v1006), ∀ (k0_h6 : ¬(k0_cond6 v140 = 1#1)), ∀ a x, ((![v994, v1006] : Fin 2 → IVec S16 32) a x).toNat < S256x128.size a := fun i k0_t5 v140 v994 v1006 k0_hw567 k0_h6 => k0_hw567.1 k0_h6
theorem k0_idx1021_inb : ∀ (i : grid0.Coords) (k0_t5 : Fin (k0_t5_loop i).trips) (v140 : BitVec 32) (v994 : IVec S16 32) (v1006 : IVec S16 32) (k0_hw567 : k0_chk567 i k0_t5 v140 v994 v1006), ∀ (k0_h6 : ¬(k0_cond6 v140 = 1#1)), ∀ a x, ((![v994, v1006] : Fin 2 → IVec S16 32) a x).toNat < S256x128.size a := fun i k0_t5 v140 v994 v1006 k0_hw567 k0_h6 => k0_hw567.2 k0_h6

def k0_chk568 (i : grid0.Coords) (k0_t5 : Fin (k0_t5_loop i).trips) (v140 : BitVec 32) (v994 : IVec S16 32) (v1008 : IVec S16 32) : Prop :=
  (∀ (k0_h6 : ¬(k0_cond6 v140 = 1#1)), ∀ a x, ((![v994, v1008] : Fin 2 → IVec S16 32) a x).toNat < S256x128.size a) ∧
  (∀ (k0_h6 : ¬(k0_cond6 v140 = 1#1)), ∀ a x, ((![v994, v1008] : Fin 2 → IVec S16 32) a x).toNat < S256x128.size a)
theorem k0_idx1022_inb : ∀ (i : grid0.Coords) (k0_t5 : Fin (k0_t5_loop i).trips) (v140 : BitVec 32) (v994 : IVec S16 32) (v1008 : IVec S16 32) (k0_hw568 : k0_chk568 i k0_t5 v140 v994 v1008), ∀ (k0_h6 : ¬(k0_cond6 v140 = 1#1)), ∀ a x, ((![v994, v1008] : Fin 2 → IVec S16 32) a x).toNat < S256x128.size a := fun i k0_t5 v140 v994 v1008 k0_hw568 k0_h6 => k0_hw568.1 k0_h6
theorem k0_idx1023_inb : ∀ (i : grid0.Coords) (k0_t5 : Fin (k0_t5_loop i).trips) (v140 : BitVec 32) (v994 : IVec S16 32) (v1008 : IVec S16 32) (k0_hw568 : k0_chk568 i k0_t5 v140 v994 v1008), ∀ (k0_h6 : ¬(k0_cond6 v140 = 1#1)), ∀ a x, ((![v994, v1008] : Fin 2 → IVec S16 32) a x).toNat < S256x128.size a := fun i k0_t5 v140 v994 v1008 k0_hw568 k0_h6 => k0_hw568.2 k0_h6

def k0_chk569 (i : grid0.Coords) (k0_t5 : Fin (k0_t5_loop i).trips) (v140 : BitVec 32) (v994 : IVec S16 32) (v1010 : IVec S16 32) : Prop :=
  (∀ (k0_h6 : ¬(k0_cond6 v140 = 1#1)), ∀ a x, ((![v994, v1010] : Fin 2 → IVec S16 32) a x).toNat < S256x128.size a) ∧
  (∀ (k0_h6 : ¬(k0_cond6 v140 = 1#1)), ∀ a x, ((![v994, v1010] : Fin 2 → IVec S16 32) a x).toNat < S256x128.size a)
theorem k0_idx1024_inb : ∀ (i : grid0.Coords) (k0_t5 : Fin (k0_t5_loop i).trips) (v140 : BitVec 32) (v994 : IVec S16 32) (v1010 : IVec S16 32) (k0_hw569 : k0_chk569 i k0_t5 v140 v994 v1010), ∀ (k0_h6 : ¬(k0_cond6 v140 = 1#1)), ∀ a x, ((![v994, v1010] : Fin 2 → IVec S16 32) a x).toNat < S256x128.size a := fun i k0_t5 v140 v994 v1010 k0_hw569 k0_h6 => k0_hw569.1 k0_h6
theorem k0_idx1025_inb : ∀ (i : grid0.Coords) (k0_t5 : Fin (k0_t5_loop i).trips) (v140 : BitVec 32) (v994 : IVec S16 32) (v1010 : IVec S16 32) (k0_hw569 : k0_chk569 i k0_t5 v140 v994 v1010), ∀ (k0_h6 : ¬(k0_cond6 v140 = 1#1)), ∀ a x, ((![v994, v1010] : Fin 2 → IVec S16 32) a x).toNat < S256x128.size a := fun i k0_t5 v140 v994 v1010 k0_hw569 k0_h6 => k0_hw569.2 k0_h6

def k0_chk570 (i : grid0.Coords) (v2 : IVec S16 32) (k0_t5 : Fin (k0_t5_loop i).trips) (v140 : BitVec 32) (v994 : IVec S16 32) : Prop :=
  (∀ (k0_h6 : ¬(k0_cond6 v140 = 1#1)), ∀ a x, ((![v994, v2] : Fin 2 → IVec S16 32) a x).toNat < S256x16.size a)
theorem k0_idx1026_inb : ∀ (i : grid0.Coords) (v2 : IVec S16 32) (k0_t5 : Fin (k0_t5_loop i).trips) (v140 : BitVec 32) (v994 : IVec S16 32) (k0_hw570 : k0_chk570 i v2 k0_t5 v140 v994), ∀ (k0_h6 : ¬(k0_cond6 v140 = 1#1)), ∀ a x, ((![v994, v2] : Fin 2 → IVec S16 32) a x).toNat < S256x16.size a := fun i v2 k0_t5 v140 v994 k0_hw570 k0_h6 => k0_hw570 k0_h6

def k0_chk571 (i : grid0.Coords) (k0_t5 : Fin (k0_t5_loop i).trips) (v140 : BitVec 32) (v1055 : IVec S16 32) : Prop :=
  (∀ (k0_h6 : ¬(k0_cond6 v140 = 1#1)), ∀ a x, ((![v1055] : Fin 1 → IVec S16 32) a x).toNat < S3136.size a)
theorem k0_idx1027_inb : ∀ (i : grid0.Coords) (k0_t5 : Fin (k0_t5_loop i).trips) (v140 : BitVec 32) (v1055 : IVec S16 32) (k0_hw571 : k0_chk571 i k0_t5 v140 v1055), ∀ (k0_h6 : ¬(k0_cond6 v140 = 1#1)), ∀ a x, ((![v1055] : Fin 1 → IVec S16 32) a x).toNat < S3136.size a := fun i k0_t5 v140 v1055 k0_hw571 k0_h6 => k0_hw571 k0_h6
def k0_off508 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1058 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c9_i32_333 : BitVec 32 := 9#32
  let v1057 : BitVec 32 := Scalar.addi v126 c9_i32_333
  let v1059 : Index := Scalar.indexCast v1057
  let c0_334 : Index := 0#32
  ![v1058.toNat, v1059.toNat, 0]
def k0_off509 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1062 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c9_i32_335 : BitVec 32 := 9#32
  let v1061 : BitVec 32 := Scalar.addi v126 c9_i32_335
  let v1063 : Index := Scalar.indexCast v1061
  let c16_336 : Index := 16#32
  ![v1062.toNat, v1063.toNat, 16]
def k0_off510 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1066 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c9_i32_337 : BitVec 32 := 9#32
  let v1065 : BitVec 32 := Scalar.addi v126 c9_i32_337
  let v1067 : Index := Scalar.indexCast v1065
  let c32_338 : Index := 32#32
  ![v1066.toNat, v1067.toNat, 32]
def k0_off511 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1070 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c9_i32_339 : BitVec 32 := 9#32
  let v1069 : BitVec 32 := Scalar.addi v126 c9_i32_339
  let v1071 : Index := Scalar.indexCast v1069
  let c48_340 : Index := 48#32
  ![v1070.toNat, v1071.toNat, 48]
def k0_off512 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1074 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c9_i32_341 : BitVec 32 := 9#32
  let v1073 : BitVec 32 := Scalar.addi v126 c9_i32_341
  let v1075 : Index := Scalar.indexCast v1073
  let c64_342 : Index := 64#32
  ![v1074.toNat, v1075.toNat, 64]
def k0_off513 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1078 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c9_i32_343 : BitVec 32 := 9#32
  let v1077 : BitVec 32 := Scalar.addi v126 c9_i32_343
  let v1079 : Index := Scalar.indexCast v1077
  let c80_344 : Index := 80#32
  ![v1078.toNat, v1079.toNat, 80]
def k0_off514 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1082 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c9_i32_345 : BitVec 32 := 9#32
  let v1081 : BitVec 32 := Scalar.addi v126 c9_i32_345
  let v1083 : Index := Scalar.indexCast v1081
  let c96_346 : Index := 96#32
  ![v1082.toNat, v1083.toNat, 96]
def k0_off515 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1086 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c9_i32_347 : BitVec 32 := 9#32
  let v1085 : BitVec 32 := Scalar.addi v126 c9_i32_347
  let v1087 : Index := Scalar.indexCast v1085
  let c112_348 : Index := 112#32
  ![v1086.toNat, v1087.toNat, 112]

def k0_chk572 (i : grid0.Coords) (k0_t5 : Fin (k0_t5_loop i).trips) (v140 : BitVec 32) (v1095 : IVec S16 32) (v1097 : IVec S16 32) : Prop :=
  (∀ (k0_h6 : ¬(k0_cond6 v140 = 1#1)), ∀ a x, ((![v1095, v1097] : Fin 2 → IVec S16 32) a x).toNat < S256x128.size a) ∧
  (∀ (k0_h6 : ¬(k0_cond6 v140 = 1#1)), ∀ a x, ((![v1095, v1097] : Fin 2 → IVec S16 32) a x).toNat < S256x128.size a)
theorem k0_idx1028_inb : ∀ (i : grid0.Coords) (k0_t5 : Fin (k0_t5_loop i).trips) (v140 : BitVec 32) (v1095 : IVec S16 32) (v1097 : IVec S16 32) (k0_hw572 : k0_chk572 i k0_t5 v140 v1095 v1097), ∀ (k0_h6 : ¬(k0_cond6 v140 = 1#1)), ∀ a x, ((![v1095, v1097] : Fin 2 → IVec S16 32) a x).toNat < S256x128.size a := fun i k0_t5 v140 v1095 v1097 k0_hw572 k0_h6 => k0_hw572.1 k0_h6
theorem k0_idx1029_inb : ∀ (i : grid0.Coords) (k0_t5 : Fin (k0_t5_loop i).trips) (v140 : BitVec 32) (v1095 : IVec S16 32) (v1097 : IVec S16 32) (k0_hw572 : k0_chk572 i k0_t5 v140 v1095 v1097), ∀ (k0_h6 : ¬(k0_cond6 v140 = 1#1)), ∀ a x, ((![v1095, v1097] : Fin 2 → IVec S16 32) a x).toNat < S256x128.size a := fun i k0_t5 v140 v1095 v1097 k0_hw572 k0_h6 => k0_hw572.2 k0_h6

def k0_chk573 (i : grid0.Coords) (k0_t5 : Fin (k0_t5_loop i).trips) (v140 : BitVec 32) (v1095 : IVec S16 32) (v1099 : IVec S16 32) : Prop :=
  (∀ (k0_h6 : ¬(k0_cond6 v140 = 1#1)), ∀ a x, ((![v1095, v1099] : Fin 2 → IVec S16 32) a x).toNat < S256x128.size a) ∧
  (∀ (k0_h6 : ¬(k0_cond6 v140 = 1#1)), ∀ a x, ((![v1095, v1099] : Fin 2 → IVec S16 32) a x).toNat < S256x128.size a)
theorem k0_idx1030_inb : ∀ (i : grid0.Coords) (k0_t5 : Fin (k0_t5_loop i).trips) (v140 : BitVec 32) (v1095 : IVec S16 32) (v1099 : IVec S16 32) (k0_hw573 : k0_chk573 i k0_t5 v140 v1095 v1099), ∀ (k0_h6 : ¬(k0_cond6 v140 = 1#1)), ∀ a x, ((![v1095, v1099] : Fin 2 → IVec S16 32) a x).toNat < S256x128.size a := fun i k0_t5 v140 v1095 v1099 k0_hw573 k0_h6 => k0_hw573.1 k0_h6
theorem k0_idx1031_inb : ∀ (i : grid0.Coords) (k0_t5 : Fin (k0_t5_loop i).trips) (v140 : BitVec 32) (v1095 : IVec S16 32) (v1099 : IVec S16 32) (k0_hw573 : k0_chk573 i k0_t5 v140 v1095 v1099), ∀ (k0_h6 : ¬(k0_cond6 v140 = 1#1)), ∀ a x, ((![v1095, v1099] : Fin 2 → IVec S16 32) a x).toNat < S256x128.size a := fun i k0_t5 v140 v1095 v1099 k0_hw573 k0_h6 => k0_hw573.2 k0_h6

def k0_chk574 (i : grid0.Coords) (k0_t5 : Fin (k0_t5_loop i).trips) (v140 : BitVec 32) (v1095 : IVec S16 32) (v1101 : IVec S16 32) : Prop :=
  (∀ (k0_h6 : ¬(k0_cond6 v140 = 1#1)), ∀ a x, ((![v1095, v1101] : Fin 2 → IVec S16 32) a x).toNat < S256x128.size a) ∧
  (∀ (k0_h6 : ¬(k0_cond6 v140 = 1#1)), ∀ a x, ((![v1095, v1101] : Fin 2 → IVec S16 32) a x).toNat < S256x128.size a)
theorem k0_idx1032_inb : ∀ (i : grid0.Coords) (k0_t5 : Fin (k0_t5_loop i).trips) (v140 : BitVec 32) (v1095 : IVec S16 32) (v1101 : IVec S16 32) (k0_hw574 : k0_chk574 i k0_t5 v140 v1095 v1101), ∀ (k0_h6 : ¬(k0_cond6 v140 = 1#1)), ∀ a x, ((![v1095, v1101] : Fin 2 → IVec S16 32) a x).toNat < S256x128.size a := fun i k0_t5 v140 v1095 v1101 k0_hw574 k0_h6 => k0_hw574.1 k0_h6
theorem k0_idx1033_inb : ∀ (i : grid0.Coords) (k0_t5 : Fin (k0_t5_loop i).trips) (v140 : BitVec 32) (v1095 : IVec S16 32) (v1101 : IVec S16 32) (k0_hw574 : k0_chk574 i k0_t5 v140 v1095 v1101), ∀ (k0_h6 : ¬(k0_cond6 v140 = 1#1)), ∀ a x, ((![v1095, v1101] : Fin 2 → IVec S16 32) a x).toNat < S256x128.size a := fun i k0_t5 v140 v1095 v1101 k0_hw574 k0_h6 => k0_hw574.2 k0_h6

def k0_chk575 (i : grid0.Coords) (k0_t5 : Fin (k0_t5_loop i).trips) (v140 : BitVec 32) (v1095 : IVec S16 32) (v1103 : IVec S16 32) : Prop :=
  (∀ (k0_h6 : ¬(k0_cond6 v140 = 1#1)), ∀ a x, ((![v1095, v1103] : Fin 2 → IVec S16 32) a x).toNat < S256x128.size a) ∧
  (∀ (k0_h6 : ¬(k0_cond6 v140 = 1#1)), ∀ a x, ((![v1095, v1103] : Fin 2 → IVec S16 32) a x).toNat < S256x128.size a)
theorem k0_idx1034_inb : ∀ (i : grid0.Coords) (k0_t5 : Fin (k0_t5_loop i).trips) (v140 : BitVec 32) (v1095 : IVec S16 32) (v1103 : IVec S16 32) (k0_hw575 : k0_chk575 i k0_t5 v140 v1095 v1103), ∀ (k0_h6 : ¬(k0_cond6 v140 = 1#1)), ∀ a x, ((![v1095, v1103] : Fin 2 → IVec S16 32) a x).toNat < S256x128.size a := fun i k0_t5 v140 v1095 v1103 k0_hw575 k0_h6 => k0_hw575.1 k0_h6
theorem k0_idx1035_inb : ∀ (i : grid0.Coords) (k0_t5 : Fin (k0_t5_loop i).trips) (v140 : BitVec 32) (v1095 : IVec S16 32) (v1103 : IVec S16 32) (k0_hw575 : k0_chk575 i k0_t5 v140 v1095 v1103), ∀ (k0_h6 : ¬(k0_cond6 v140 = 1#1)), ∀ a x, ((![v1095, v1103] : Fin 2 → IVec S16 32) a x).toNat < S256x128.size a := fun i k0_t5 v140 v1095 v1103 k0_hw575 k0_h6 => k0_hw575.2 k0_h6

def k0_chk576 (i : grid0.Coords) (k0_t5 : Fin (k0_t5_loop i).trips) (v140 : BitVec 32) (v1095 : IVec S16 32) (v1105 : IVec S16 32) : Prop :=
  (∀ (k0_h6 : ¬(k0_cond6 v140 = 1#1)), ∀ a x, ((![v1095, v1105] : Fin 2 → IVec S16 32) a x).toNat < S256x128.size a) ∧
  (∀ (k0_h6 : ¬(k0_cond6 v140 = 1#1)), ∀ a x, ((![v1095, v1105] : Fin 2 → IVec S16 32) a x).toNat < S256x128.size a)
theorem k0_idx1036_inb : ∀ (i : grid0.Coords) (k0_t5 : Fin (k0_t5_loop i).trips) (v140 : BitVec 32) (v1095 : IVec S16 32) (v1105 : IVec S16 32) (k0_hw576 : k0_chk576 i k0_t5 v140 v1095 v1105), ∀ (k0_h6 : ¬(k0_cond6 v140 = 1#1)), ∀ a x, ((![v1095, v1105] : Fin 2 → IVec S16 32) a x).toNat < S256x128.size a := fun i k0_t5 v140 v1095 v1105 k0_hw576 k0_h6 => k0_hw576.1 k0_h6
theorem k0_idx1037_inb : ∀ (i : grid0.Coords) (k0_t5 : Fin (k0_t5_loop i).trips) (v140 : BitVec 32) (v1095 : IVec S16 32) (v1105 : IVec S16 32) (k0_hw576 : k0_chk576 i k0_t5 v140 v1095 v1105), ∀ (k0_h6 : ¬(k0_cond6 v140 = 1#1)), ∀ a x, ((![v1095, v1105] : Fin 2 → IVec S16 32) a x).toNat < S256x128.size a := fun i k0_t5 v140 v1095 v1105 k0_hw576 k0_h6 => k0_hw576.2 k0_h6

def k0_chk577 (i : grid0.Coords) (k0_t5 : Fin (k0_t5_loop i).trips) (v140 : BitVec 32) (v1095 : IVec S16 32) (v1107 : IVec S16 32) : Prop :=
  (∀ (k0_h6 : ¬(k0_cond6 v140 = 1#1)), ∀ a x, ((![v1095, v1107] : Fin 2 → IVec S16 32) a x).toNat < S256x128.size a) ∧
  (∀ (k0_h6 : ¬(k0_cond6 v140 = 1#1)), ∀ a x, ((![v1095, v1107] : Fin 2 → IVec S16 32) a x).toNat < S256x128.size a)
theorem k0_idx1038_inb : ∀ (i : grid0.Coords) (k0_t5 : Fin (k0_t5_loop i).trips) (v140 : BitVec 32) (v1095 : IVec S16 32) (v1107 : IVec S16 32) (k0_hw577 : k0_chk577 i k0_t5 v140 v1095 v1107), ∀ (k0_h6 : ¬(k0_cond6 v140 = 1#1)), ∀ a x, ((![v1095, v1107] : Fin 2 → IVec S16 32) a x).toNat < S256x128.size a := fun i k0_t5 v140 v1095 v1107 k0_hw577 k0_h6 => k0_hw577.1 k0_h6
theorem k0_idx1039_inb : ∀ (i : grid0.Coords) (k0_t5 : Fin (k0_t5_loop i).trips) (v140 : BitVec 32) (v1095 : IVec S16 32) (v1107 : IVec S16 32) (k0_hw577 : k0_chk577 i k0_t5 v140 v1095 v1107), ∀ (k0_h6 : ¬(k0_cond6 v140 = 1#1)), ∀ a x, ((![v1095, v1107] : Fin 2 → IVec S16 32) a x).toNat < S256x128.size a := fun i k0_t5 v140 v1095 v1107 k0_hw577 k0_h6 => k0_hw577.2 k0_h6

def k0_chk578 (i : grid0.Coords) (k0_t5 : Fin (k0_t5_loop i).trips) (v140 : BitVec 32) (v1095 : IVec S16 32) (v1109 : IVec S16 32) : Prop :=
  (∀ (k0_h6 : ¬(k0_cond6 v140 = 1#1)), ∀ a x, ((![v1095, v1109] : Fin 2 → IVec S16 32) a x).toNat < S256x128.size a) ∧
  (∀ (k0_h6 : ¬(k0_cond6 v140 = 1#1)), ∀ a x, ((![v1095, v1109] : Fin 2 → IVec S16 32) a x).toNat < S256x128.size a)
theorem k0_idx1040_inb : ∀ (i : grid0.Coords) (k0_t5 : Fin (k0_t5_loop i).trips) (v140 : BitVec 32) (v1095 : IVec S16 32) (v1109 : IVec S16 32) (k0_hw578 : k0_chk578 i k0_t5 v140 v1095 v1109), ∀ (k0_h6 : ¬(k0_cond6 v140 = 1#1)), ∀ a x, ((![v1095, v1109] : Fin 2 → IVec S16 32) a x).toNat < S256x128.size a := fun i k0_t5 v140 v1095 v1109 k0_hw578 k0_h6 => k0_hw578.1 k0_h6
theorem k0_idx1041_inb : ∀ (i : grid0.Coords) (k0_t5 : Fin (k0_t5_loop i).trips) (v140 : BitVec 32) (v1095 : IVec S16 32) (v1109 : IVec S16 32) (k0_hw578 : k0_chk578 i k0_t5 v140 v1095 v1109), ∀ (k0_h6 : ¬(k0_cond6 v140 = 1#1)), ∀ a x, ((![v1095, v1109] : Fin 2 → IVec S16 32) a x).toNat < S256x128.size a := fun i k0_t5 v140 v1095 v1109 k0_hw578 k0_h6 => k0_hw578.2 k0_h6

def k0_chk579 (i : grid0.Coords) (k0_t5 : Fin (k0_t5_loop i).trips) (v140 : BitVec 32) (v1095 : IVec S16 32) (v1111 : IVec S16 32) : Prop :=
  (∀ (k0_h6 : ¬(k0_cond6 v140 = 1#1)), ∀ a x, ((![v1095, v1111] : Fin 2 → IVec S16 32) a x).toNat < S256x128.size a) ∧
  (∀ (k0_h6 : ¬(k0_cond6 v140 = 1#1)), ∀ a x, ((![v1095, v1111] : Fin 2 → IVec S16 32) a x).toNat < S256x128.size a)
theorem k0_idx1042_inb : ∀ (i : grid0.Coords) (k0_t5 : Fin (k0_t5_loop i).trips) (v140 : BitVec 32) (v1095 : IVec S16 32) (v1111 : IVec S16 32) (k0_hw579 : k0_chk579 i k0_t5 v140 v1095 v1111), ∀ (k0_h6 : ¬(k0_cond6 v140 = 1#1)), ∀ a x, ((![v1095, v1111] : Fin 2 → IVec S16 32) a x).toNat < S256x128.size a := fun i k0_t5 v140 v1095 v1111 k0_hw579 k0_h6 => k0_hw579.1 k0_h6
theorem k0_idx1043_inb : ∀ (i : grid0.Coords) (k0_t5 : Fin (k0_t5_loop i).trips) (v140 : BitVec 32) (v1095 : IVec S16 32) (v1111 : IVec S16 32) (k0_hw579 : k0_chk579 i k0_t5 v140 v1095 v1111), ∀ (k0_h6 : ¬(k0_cond6 v140 = 1#1)), ∀ a x, ((![v1095, v1111] : Fin 2 → IVec S16 32) a x).toNat < S256x128.size a := fun i k0_t5 v140 v1095 v1111 k0_hw579 k0_h6 => k0_hw579.2 k0_h6

def k0_chk580 (i : grid0.Coords) (v2 : IVec S16 32) (k0_t5 : Fin (k0_t5_loop i).trips) (v140 : BitVec 32) (v1095 : IVec S16 32) : Prop :=
  (∀ (k0_h6 : ¬(k0_cond6 v140 = 1#1)), ∀ a x, ((![v1095, v2] : Fin 2 → IVec S16 32) a x).toNat < S256x16.size a)
theorem k0_idx1044_inb : ∀ (i : grid0.Coords) (v2 : IVec S16 32) (k0_t5 : Fin (k0_t5_loop i).trips) (v140 : BitVec 32) (v1095 : IVec S16 32) (k0_hw580 : k0_chk580 i v2 k0_t5 v140 v1095), ∀ (k0_h6 : ¬(k0_cond6 v140 = 1#1)), ∀ a x, ((![v1095, v2] : Fin 2 → IVec S16 32) a x).toNat < S256x16.size a := fun i v2 k0_t5 v140 v1095 k0_hw580 k0_h6 => k0_hw580 k0_h6

def k0_chk581 (i : grid0.Coords) (k0_t5 : Fin (k0_t5_loop i).trips) (v140 : BitVec 32) (v1156 : IVec S16 32) : Prop :=
  (∀ (k0_h6 : ¬(k0_cond6 v140 = 1#1)), ∀ a x, ((![v1156] : Fin 1 → IVec S16 32) a x).toNat < S3136.size a)
theorem k0_idx1045_inb : ∀ (i : grid0.Coords) (k0_t5 : Fin (k0_t5_loop i).trips) (v140 : BitVec 32) (v1156 : IVec S16 32) (k0_hw581 : k0_chk581 i k0_t5 v140 v1156), ∀ (k0_h6 : ¬(k0_cond6 v140 = 1#1)), ∀ a x, ((![v1156] : Fin 1 → IVec S16 32) a x).toNat < S3136.size a := fun i k0_t5 v140 v1156 k0_hw581 k0_h6 => k0_hw581 k0_h6
def k0_off516 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1159 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c10_i32_363 : BitVec 32 := 10#32
  let v1158 : BitVec 32 := Scalar.addi v126 c10_i32_363
  let v1160 : Index := Scalar.indexCast v1158
  let c0_364 : Index := 0#32
  ![v1159.toNat, v1160.toNat, 0]
def k0_off517 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1163 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c10_i32_365 : BitVec 32 := 10#32
  let v1162 : BitVec 32 := Scalar.addi v126 c10_i32_365
  let v1164 : Index := Scalar.indexCast v1162
  let c16_366 : Index := 16#32
  ![v1163.toNat, v1164.toNat, 16]
def k0_off518 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1167 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c10_i32_367 : BitVec 32 := 10#32
  let v1166 : BitVec 32 := Scalar.addi v126 c10_i32_367
  let v1168 : Index := Scalar.indexCast v1166
  let c32_368 : Index := 32#32
  ![v1167.toNat, v1168.toNat, 32]
def k0_off519 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1171 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c10_i32_369 : BitVec 32 := 10#32
  let v1170 : BitVec 32 := Scalar.addi v126 c10_i32_369
  let v1172 : Index := Scalar.indexCast v1170
  let c48_370 : Index := 48#32
  ![v1171.toNat, v1172.toNat, 48]
def k0_off520 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1175 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c10_i32_371 : BitVec 32 := 10#32
  let v1174 : BitVec 32 := Scalar.addi v126 c10_i32_371
  let v1176 : Index := Scalar.indexCast v1174
  let c64_372 : Index := 64#32
  ![v1175.toNat, v1176.toNat, 64]
def k0_off521 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1179 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c10_i32_373 : BitVec 32 := 10#32
  let v1178 : BitVec 32 := Scalar.addi v126 c10_i32_373
  let v1180 : Index := Scalar.indexCast v1178
  let c80_374 : Index := 80#32
  ![v1179.toNat, v1180.toNat, 80]
def k0_off522 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1183 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c10_i32_375 : BitVec 32 := 10#32
  let v1182 : BitVec 32 := Scalar.addi v126 c10_i32_375
  let v1184 : Index := Scalar.indexCast v1182
  let c96_376 : Index := 96#32
  ![v1183.toNat, v1184.toNat, 96]
def k0_off523 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1187 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c10_i32_377 : BitVec 32 := 10#32
  let v1186 : BitVec 32 := Scalar.addi v126 c10_i32_377
  let v1188 : Index := Scalar.indexCast v1186
  let c112_378 : Index := 112#32
  ![v1187.toNat, v1188.toNat, 112]

def k0_chk582 (i : grid0.Coords) (k0_t5 : Fin (k0_t5_loop i).trips) (v140 : BitVec 32) (v1196 : IVec S16 32) (v1198 : IVec S16 32) : Prop :=
  (∀ (k0_h6 : ¬(k0_cond6 v140 = 1#1)), ∀ a x, ((![v1196, v1198] : Fin 2 → IVec S16 32) a x).toNat < S256x128.size a) ∧
  (∀ (k0_h6 : ¬(k0_cond6 v140 = 1#1)), ∀ a x, ((![v1196, v1198] : Fin 2 → IVec S16 32) a x).toNat < S256x128.size a)
theorem k0_idx1046_inb : ∀ (i : grid0.Coords) (k0_t5 : Fin (k0_t5_loop i).trips) (v140 : BitVec 32) (v1196 : IVec S16 32) (v1198 : IVec S16 32) (k0_hw582 : k0_chk582 i k0_t5 v140 v1196 v1198), ∀ (k0_h6 : ¬(k0_cond6 v140 = 1#1)), ∀ a x, ((![v1196, v1198] : Fin 2 → IVec S16 32) a x).toNat < S256x128.size a := fun i k0_t5 v140 v1196 v1198 k0_hw582 k0_h6 => k0_hw582.1 k0_h6
theorem k0_idx1047_inb : ∀ (i : grid0.Coords) (k0_t5 : Fin (k0_t5_loop i).trips) (v140 : BitVec 32) (v1196 : IVec S16 32) (v1198 : IVec S16 32) (k0_hw582 : k0_chk582 i k0_t5 v140 v1196 v1198), ∀ (k0_h6 : ¬(k0_cond6 v140 = 1#1)), ∀ a x, ((![v1196, v1198] : Fin 2 → IVec S16 32) a x).toNat < S256x128.size a := fun i k0_t5 v140 v1196 v1198 k0_hw582 k0_h6 => k0_hw582.2 k0_h6

def k0_chk583 (i : grid0.Coords) (k0_t5 : Fin (k0_t5_loop i).trips) (v140 : BitVec 32) (v1196 : IVec S16 32) (v1200 : IVec S16 32) : Prop :=
  (∀ (k0_h6 : ¬(k0_cond6 v140 = 1#1)), ∀ a x, ((![v1196, v1200] : Fin 2 → IVec S16 32) a x).toNat < S256x128.size a) ∧
  (∀ (k0_h6 : ¬(k0_cond6 v140 = 1#1)), ∀ a x, ((![v1196, v1200] : Fin 2 → IVec S16 32) a x).toNat < S256x128.size a)
theorem k0_idx1048_inb : ∀ (i : grid0.Coords) (k0_t5 : Fin (k0_t5_loop i).trips) (v140 : BitVec 32) (v1196 : IVec S16 32) (v1200 : IVec S16 32) (k0_hw583 : k0_chk583 i k0_t5 v140 v1196 v1200), ∀ (k0_h6 : ¬(k0_cond6 v140 = 1#1)), ∀ a x, ((![v1196, v1200] : Fin 2 → IVec S16 32) a x).toNat < S256x128.size a := fun i k0_t5 v140 v1196 v1200 k0_hw583 k0_h6 => k0_hw583.1 k0_h6
theorem k0_idx1049_inb : ∀ (i : grid0.Coords) (k0_t5 : Fin (k0_t5_loop i).trips) (v140 : BitVec 32) (v1196 : IVec S16 32) (v1200 : IVec S16 32) (k0_hw583 : k0_chk583 i k0_t5 v140 v1196 v1200), ∀ (k0_h6 : ¬(k0_cond6 v140 = 1#1)), ∀ a x, ((![v1196, v1200] : Fin 2 → IVec S16 32) a x).toNat < S256x128.size a := fun i k0_t5 v140 v1196 v1200 k0_hw583 k0_h6 => k0_hw583.2 k0_h6

def k0_chk584 (i : grid0.Coords) (k0_t5 : Fin (k0_t5_loop i).trips) (v140 : BitVec 32) (v1196 : IVec S16 32) (v1202 : IVec S16 32) : Prop :=
  (∀ (k0_h6 : ¬(k0_cond6 v140 = 1#1)), ∀ a x, ((![v1196, v1202] : Fin 2 → IVec S16 32) a x).toNat < S256x128.size a) ∧
  (∀ (k0_h6 : ¬(k0_cond6 v140 = 1#1)), ∀ a x, ((![v1196, v1202] : Fin 2 → IVec S16 32) a x).toNat < S256x128.size a)
theorem k0_idx1050_inb : ∀ (i : grid0.Coords) (k0_t5 : Fin (k0_t5_loop i).trips) (v140 : BitVec 32) (v1196 : IVec S16 32) (v1202 : IVec S16 32) (k0_hw584 : k0_chk584 i k0_t5 v140 v1196 v1202), ∀ (k0_h6 : ¬(k0_cond6 v140 = 1#1)), ∀ a x, ((![v1196, v1202] : Fin 2 → IVec S16 32) a x).toNat < S256x128.size a := fun i k0_t5 v140 v1196 v1202 k0_hw584 k0_h6 => k0_hw584.1 k0_h6
theorem k0_idx1051_inb : ∀ (i : grid0.Coords) (k0_t5 : Fin (k0_t5_loop i).trips) (v140 : BitVec 32) (v1196 : IVec S16 32) (v1202 : IVec S16 32) (k0_hw584 : k0_chk584 i k0_t5 v140 v1196 v1202), ∀ (k0_h6 : ¬(k0_cond6 v140 = 1#1)), ∀ a x, ((![v1196, v1202] : Fin 2 → IVec S16 32) a x).toNat < S256x128.size a := fun i k0_t5 v140 v1196 v1202 k0_hw584 k0_h6 => k0_hw584.2 k0_h6

def k0_chk585 (i : grid0.Coords) (k0_t5 : Fin (k0_t5_loop i).trips) (v140 : BitVec 32) (v1196 : IVec S16 32) (v1204 : IVec S16 32) : Prop :=
  (∀ (k0_h6 : ¬(k0_cond6 v140 = 1#1)), ∀ a x, ((![v1196, v1204] : Fin 2 → IVec S16 32) a x).toNat < S256x128.size a) ∧
  (∀ (k0_h6 : ¬(k0_cond6 v140 = 1#1)), ∀ a x, ((![v1196, v1204] : Fin 2 → IVec S16 32) a x).toNat < S256x128.size a)
theorem k0_idx1052_inb : ∀ (i : grid0.Coords) (k0_t5 : Fin (k0_t5_loop i).trips) (v140 : BitVec 32) (v1196 : IVec S16 32) (v1204 : IVec S16 32) (k0_hw585 : k0_chk585 i k0_t5 v140 v1196 v1204), ∀ (k0_h6 : ¬(k0_cond6 v140 = 1#1)), ∀ a x, ((![v1196, v1204] : Fin 2 → IVec S16 32) a x).toNat < S256x128.size a := fun i k0_t5 v140 v1196 v1204 k0_hw585 k0_h6 => k0_hw585.1 k0_h6
theorem k0_idx1053_inb : ∀ (i : grid0.Coords) (k0_t5 : Fin (k0_t5_loop i).trips) (v140 : BitVec 32) (v1196 : IVec S16 32) (v1204 : IVec S16 32) (k0_hw585 : k0_chk585 i k0_t5 v140 v1196 v1204), ∀ (k0_h6 : ¬(k0_cond6 v140 = 1#1)), ∀ a x, ((![v1196, v1204] : Fin 2 → IVec S16 32) a x).toNat < S256x128.size a := fun i k0_t5 v140 v1196 v1204 k0_hw585 k0_h6 => k0_hw585.2 k0_h6

def k0_chk586 (i : grid0.Coords) (k0_t5 : Fin (k0_t5_loop i).trips) (v140 : BitVec 32) (v1196 : IVec S16 32) (v1206 : IVec S16 32) : Prop :=
  (∀ (k0_h6 : ¬(k0_cond6 v140 = 1#1)), ∀ a x, ((![v1196, v1206] : Fin 2 → IVec S16 32) a x).toNat < S256x128.size a) ∧
  (∀ (k0_h6 : ¬(k0_cond6 v140 = 1#1)), ∀ a x, ((![v1196, v1206] : Fin 2 → IVec S16 32) a x).toNat < S256x128.size a)
theorem k0_idx1054_inb : ∀ (i : grid0.Coords) (k0_t5 : Fin (k0_t5_loop i).trips) (v140 : BitVec 32) (v1196 : IVec S16 32) (v1206 : IVec S16 32) (k0_hw586 : k0_chk586 i k0_t5 v140 v1196 v1206), ∀ (k0_h6 : ¬(k0_cond6 v140 = 1#1)), ∀ a x, ((![v1196, v1206] : Fin 2 → IVec S16 32) a x).toNat < S256x128.size a := fun i k0_t5 v140 v1196 v1206 k0_hw586 k0_h6 => k0_hw586.1 k0_h6
theorem k0_idx1055_inb : ∀ (i : grid0.Coords) (k0_t5 : Fin (k0_t5_loop i).trips) (v140 : BitVec 32) (v1196 : IVec S16 32) (v1206 : IVec S16 32) (k0_hw586 : k0_chk586 i k0_t5 v140 v1196 v1206), ∀ (k0_h6 : ¬(k0_cond6 v140 = 1#1)), ∀ a x, ((![v1196, v1206] : Fin 2 → IVec S16 32) a x).toNat < S256x128.size a := fun i k0_t5 v140 v1196 v1206 k0_hw586 k0_h6 => k0_hw586.2 k0_h6

def k0_chk587 (i : grid0.Coords) (k0_t5 : Fin (k0_t5_loop i).trips) (v140 : BitVec 32) (v1196 : IVec S16 32) (v1208 : IVec S16 32) : Prop :=
  (∀ (k0_h6 : ¬(k0_cond6 v140 = 1#1)), ∀ a x, ((![v1196, v1208] : Fin 2 → IVec S16 32) a x).toNat < S256x128.size a) ∧
  (∀ (k0_h6 : ¬(k0_cond6 v140 = 1#1)), ∀ a x, ((![v1196, v1208] : Fin 2 → IVec S16 32) a x).toNat < S256x128.size a)
theorem k0_idx1056_inb : ∀ (i : grid0.Coords) (k0_t5 : Fin (k0_t5_loop i).trips) (v140 : BitVec 32) (v1196 : IVec S16 32) (v1208 : IVec S16 32) (k0_hw587 : k0_chk587 i k0_t5 v140 v1196 v1208), ∀ (k0_h6 : ¬(k0_cond6 v140 = 1#1)), ∀ a x, ((![v1196, v1208] : Fin 2 → IVec S16 32) a x).toNat < S256x128.size a := fun i k0_t5 v140 v1196 v1208 k0_hw587 k0_h6 => k0_hw587.1 k0_h6
theorem k0_idx1057_inb : ∀ (i : grid0.Coords) (k0_t5 : Fin (k0_t5_loop i).trips) (v140 : BitVec 32) (v1196 : IVec S16 32) (v1208 : IVec S16 32) (k0_hw587 : k0_chk587 i k0_t5 v140 v1196 v1208), ∀ (k0_h6 : ¬(k0_cond6 v140 = 1#1)), ∀ a x, ((![v1196, v1208] : Fin 2 → IVec S16 32) a x).toNat < S256x128.size a := fun i k0_t5 v140 v1196 v1208 k0_hw587 k0_h6 => k0_hw587.2 k0_h6

def k0_chk588 (i : grid0.Coords) (k0_t5 : Fin (k0_t5_loop i).trips) (v140 : BitVec 32) (v1196 : IVec S16 32) (v1210 : IVec S16 32) : Prop :=
  (∀ (k0_h6 : ¬(k0_cond6 v140 = 1#1)), ∀ a x, ((![v1196, v1210] : Fin 2 → IVec S16 32) a x).toNat < S256x128.size a) ∧
  (∀ (k0_h6 : ¬(k0_cond6 v140 = 1#1)), ∀ a x, ((![v1196, v1210] : Fin 2 → IVec S16 32) a x).toNat < S256x128.size a)
theorem k0_idx1058_inb : ∀ (i : grid0.Coords) (k0_t5 : Fin (k0_t5_loop i).trips) (v140 : BitVec 32) (v1196 : IVec S16 32) (v1210 : IVec S16 32) (k0_hw588 : k0_chk588 i k0_t5 v140 v1196 v1210), ∀ (k0_h6 : ¬(k0_cond6 v140 = 1#1)), ∀ a x, ((![v1196, v1210] : Fin 2 → IVec S16 32) a x).toNat < S256x128.size a := fun i k0_t5 v140 v1196 v1210 k0_hw588 k0_h6 => k0_hw588.1 k0_h6
theorem k0_idx1059_inb : ∀ (i : grid0.Coords) (k0_t5 : Fin (k0_t5_loop i).trips) (v140 : BitVec 32) (v1196 : IVec S16 32) (v1210 : IVec S16 32) (k0_hw588 : k0_chk588 i k0_t5 v140 v1196 v1210), ∀ (k0_h6 : ¬(k0_cond6 v140 = 1#1)), ∀ a x, ((![v1196, v1210] : Fin 2 → IVec S16 32) a x).toNat < S256x128.size a := fun i k0_t5 v140 v1196 v1210 k0_hw588 k0_h6 => k0_hw588.2 k0_h6

def k0_chk589 (i : grid0.Coords) (k0_t5 : Fin (k0_t5_loop i).trips) (v140 : BitVec 32) (v1196 : IVec S16 32) (v1212 : IVec S16 32) : Prop :=
  (∀ (k0_h6 : ¬(k0_cond6 v140 = 1#1)), ∀ a x, ((![v1196, v1212] : Fin 2 → IVec S16 32) a x).toNat < S256x128.size a) ∧
  (∀ (k0_h6 : ¬(k0_cond6 v140 = 1#1)), ∀ a x, ((![v1196, v1212] : Fin 2 → IVec S16 32) a x).toNat < S256x128.size a)
theorem k0_idx1060_inb : ∀ (i : grid0.Coords) (k0_t5 : Fin (k0_t5_loop i).trips) (v140 : BitVec 32) (v1196 : IVec S16 32) (v1212 : IVec S16 32) (k0_hw589 : k0_chk589 i k0_t5 v140 v1196 v1212), ∀ (k0_h6 : ¬(k0_cond6 v140 = 1#1)), ∀ a x, ((![v1196, v1212] : Fin 2 → IVec S16 32) a x).toNat < S256x128.size a := fun i k0_t5 v140 v1196 v1212 k0_hw589 k0_h6 => k0_hw589.1 k0_h6
theorem k0_idx1061_inb : ∀ (i : grid0.Coords) (k0_t5 : Fin (k0_t5_loop i).trips) (v140 : BitVec 32) (v1196 : IVec S16 32) (v1212 : IVec S16 32) (k0_hw589 : k0_chk589 i k0_t5 v140 v1196 v1212), ∀ (k0_h6 : ¬(k0_cond6 v140 = 1#1)), ∀ a x, ((![v1196, v1212] : Fin 2 → IVec S16 32) a x).toNat < S256x128.size a := fun i k0_t5 v140 v1196 v1212 k0_hw589 k0_h6 => k0_hw589.2 k0_h6

def k0_chk590 (i : grid0.Coords) (v2 : IVec S16 32) (k0_t5 : Fin (k0_t5_loop i).trips) (v140 : BitVec 32) (v1196 : IVec S16 32) : Prop :=
  (∀ (k0_h6 : ¬(k0_cond6 v140 = 1#1)), ∀ a x, ((![v1196, v2] : Fin 2 → IVec S16 32) a x).toNat < S256x16.size a)
theorem k0_idx1062_inb : ∀ (i : grid0.Coords) (v2 : IVec S16 32) (k0_t5 : Fin (k0_t5_loop i).trips) (v140 : BitVec 32) (v1196 : IVec S16 32) (k0_hw590 : k0_chk590 i v2 k0_t5 v140 v1196), ∀ (k0_h6 : ¬(k0_cond6 v140 = 1#1)), ∀ a x, ((![v1196, v2] : Fin 2 → IVec S16 32) a x).toNat < S256x16.size a := fun i v2 k0_t5 v140 v1196 k0_hw590 k0_h6 => k0_hw590 k0_h6

def k0_chk591 (i : grid0.Coords) (k0_t5 : Fin (k0_t5_loop i).trips) (v140 : BitVec 32) (v1257 : IVec S16 32) : Prop :=
  (∀ (k0_h6 : ¬(k0_cond6 v140 = 1#1)), ∀ a x, ((![v1257] : Fin 1 → IVec S16 32) a x).toNat < S3136.size a)
theorem k0_idx1063_inb : ∀ (i : grid0.Coords) (k0_t5 : Fin (k0_t5_loop i).trips) (v140 : BitVec 32) (v1257 : IVec S16 32) (k0_hw591 : k0_chk591 i k0_t5 v140 v1257), ∀ (k0_h6 : ¬(k0_cond6 v140 = 1#1)), ∀ a x, ((![v1257] : Fin 1 → IVec S16 32) a x).toNat < S3136.size a := fun i k0_t5 v140 v1257 k0_hw591 k0_h6 => k0_hw591 k0_h6
def k0_off524 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1260 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c11_i32_393 : BitVec 32 := 11#32
  let v1259 : BitVec 32 := Scalar.addi v126 c11_i32_393
  let v1261 : Index := Scalar.indexCast v1259
  let c0_394 : Index := 0#32
  ![v1260.toNat, v1261.toNat, 0]
def k0_off525 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1264 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c11_i32_395 : BitVec 32 := 11#32
  let v1263 : BitVec 32 := Scalar.addi v126 c11_i32_395
  let v1265 : Index := Scalar.indexCast v1263
  let c16_396 : Index := 16#32
  ![v1264.toNat, v1265.toNat, 16]
def k0_off526 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1268 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c11_i32_397 : BitVec 32 := 11#32
  let v1267 : BitVec 32 := Scalar.addi v126 c11_i32_397
  let v1269 : Index := Scalar.indexCast v1267
  let c32_398 : Index := 32#32
  ![v1268.toNat, v1269.toNat, 32]
def k0_off527 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1272 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c11_i32_399 : BitVec 32 := 11#32
  let v1271 : BitVec 32 := Scalar.addi v126 c11_i32_399
  let v1273 : Index := Scalar.indexCast v1271
  let c48_400 : Index := 48#32
  ![v1272.toNat, v1273.toNat, 48]
def k0_off528 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1276 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c11_i32_401 : BitVec 32 := 11#32
  let v1275 : BitVec 32 := Scalar.addi v126 c11_i32_401
  let v1277 : Index := Scalar.indexCast v1275
  let c64_402 : Index := 64#32
  ![v1276.toNat, v1277.toNat, 64]
def k0_off529 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1280 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c11_i32_403 : BitVec 32 := 11#32
  let v1279 : BitVec 32 := Scalar.addi v126 c11_i32_403
  let v1281 : Index := Scalar.indexCast v1279
  let c80_404 : Index := 80#32
  ![v1280.toNat, v1281.toNat, 80]
def k0_off530 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1284 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c11_i32_405 : BitVec 32 := 11#32
  let v1283 : BitVec 32 := Scalar.addi v126 c11_i32_405
  let v1285 : Index := Scalar.indexCast v1283
  let c96_406 : Index := 96#32
  ![v1284.toNat, v1285.toNat, 96]
def k0_off531 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1288 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c11_i32_407 : BitVec 32 := 11#32
  let v1287 : BitVec 32 := Scalar.addi v126 c11_i32_407
  let v1289 : Index := Scalar.indexCast v1287
  let c112_408 : Index := 112#32
  ![v1288.toNat, v1289.toNat, 112]

def k0_chk592 (i : grid0.Coords) (k0_t5 : Fin (k0_t5_loop i).trips) (v140 : BitVec 32) (v1297 : IVec S16 32) (v1299 : IVec S16 32) : Prop :=
  (∀ (k0_h6 : ¬(k0_cond6 v140 = 1#1)), ∀ a x, ((![v1297, v1299] : Fin 2 → IVec S16 32) a x).toNat < S256x128.size a) ∧
  (∀ (k0_h6 : ¬(k0_cond6 v140 = 1#1)), ∀ a x, ((![v1297, v1299] : Fin 2 → IVec S16 32) a x).toNat < S256x128.size a)
theorem k0_idx1064_inb : ∀ (i : grid0.Coords) (k0_t5 : Fin (k0_t5_loop i).trips) (v140 : BitVec 32) (v1297 : IVec S16 32) (v1299 : IVec S16 32) (k0_hw592 : k0_chk592 i k0_t5 v140 v1297 v1299), ∀ (k0_h6 : ¬(k0_cond6 v140 = 1#1)), ∀ a x, ((![v1297, v1299] : Fin 2 → IVec S16 32) a x).toNat < S256x128.size a := fun i k0_t5 v140 v1297 v1299 k0_hw592 k0_h6 => k0_hw592.1 k0_h6
theorem k0_idx1065_inb : ∀ (i : grid0.Coords) (k0_t5 : Fin (k0_t5_loop i).trips) (v140 : BitVec 32) (v1297 : IVec S16 32) (v1299 : IVec S16 32) (k0_hw592 : k0_chk592 i k0_t5 v140 v1297 v1299), ∀ (k0_h6 : ¬(k0_cond6 v140 = 1#1)), ∀ a x, ((![v1297, v1299] : Fin 2 → IVec S16 32) a x).toNat < S256x128.size a := fun i k0_t5 v140 v1297 v1299 k0_hw592 k0_h6 => k0_hw592.2 k0_h6

def k0_chk593 (i : grid0.Coords) (k0_t5 : Fin (k0_t5_loop i).trips) (v140 : BitVec 32) (v1297 : IVec S16 32) (v1301 : IVec S16 32) : Prop :=
  (∀ (k0_h6 : ¬(k0_cond6 v140 = 1#1)), ∀ a x, ((![v1297, v1301] : Fin 2 → IVec S16 32) a x).toNat < S256x128.size a) ∧
  (∀ (k0_h6 : ¬(k0_cond6 v140 = 1#1)), ∀ a x, ((![v1297, v1301] : Fin 2 → IVec S16 32) a x).toNat < S256x128.size a)
theorem k0_idx1066_inb : ∀ (i : grid0.Coords) (k0_t5 : Fin (k0_t5_loop i).trips) (v140 : BitVec 32) (v1297 : IVec S16 32) (v1301 : IVec S16 32) (k0_hw593 : k0_chk593 i k0_t5 v140 v1297 v1301), ∀ (k0_h6 : ¬(k0_cond6 v140 = 1#1)), ∀ a x, ((![v1297, v1301] : Fin 2 → IVec S16 32) a x).toNat < S256x128.size a := fun i k0_t5 v140 v1297 v1301 k0_hw593 k0_h6 => k0_hw593.1 k0_h6
theorem k0_idx1067_inb : ∀ (i : grid0.Coords) (k0_t5 : Fin (k0_t5_loop i).trips) (v140 : BitVec 32) (v1297 : IVec S16 32) (v1301 : IVec S16 32) (k0_hw593 : k0_chk593 i k0_t5 v140 v1297 v1301), ∀ (k0_h6 : ¬(k0_cond6 v140 = 1#1)), ∀ a x, ((![v1297, v1301] : Fin 2 → IVec S16 32) a x).toNat < S256x128.size a := fun i k0_t5 v140 v1297 v1301 k0_hw593 k0_h6 => k0_hw593.2 k0_h6

def k0_chk594 (i : grid0.Coords) (k0_t5 : Fin (k0_t5_loop i).trips) (v140 : BitVec 32) (v1297 : IVec S16 32) (v1303 : IVec S16 32) : Prop :=
  (∀ (k0_h6 : ¬(k0_cond6 v140 = 1#1)), ∀ a x, ((![v1297, v1303] : Fin 2 → IVec S16 32) a x).toNat < S256x128.size a) ∧
  (∀ (k0_h6 : ¬(k0_cond6 v140 = 1#1)), ∀ a x, ((![v1297, v1303] : Fin 2 → IVec S16 32) a x).toNat < S256x128.size a)
theorem k0_idx1068_inb : ∀ (i : grid0.Coords) (k0_t5 : Fin (k0_t5_loop i).trips) (v140 : BitVec 32) (v1297 : IVec S16 32) (v1303 : IVec S16 32) (k0_hw594 : k0_chk594 i k0_t5 v140 v1297 v1303), ∀ (k0_h6 : ¬(k0_cond6 v140 = 1#1)), ∀ a x, ((![v1297, v1303] : Fin 2 → IVec S16 32) a x).toNat < S256x128.size a := fun i k0_t5 v140 v1297 v1303 k0_hw594 k0_h6 => k0_hw594.1 k0_h6
theorem k0_idx1069_inb : ∀ (i : grid0.Coords) (k0_t5 : Fin (k0_t5_loop i).trips) (v140 : BitVec 32) (v1297 : IVec S16 32) (v1303 : IVec S16 32) (k0_hw594 : k0_chk594 i k0_t5 v140 v1297 v1303), ∀ (k0_h6 : ¬(k0_cond6 v140 = 1#1)), ∀ a x, ((![v1297, v1303] : Fin 2 → IVec S16 32) a x).toNat < S256x128.size a := fun i k0_t5 v140 v1297 v1303 k0_hw594 k0_h6 => k0_hw594.2 k0_h6

def k0_chk595 (i : grid0.Coords) (k0_t5 : Fin (k0_t5_loop i).trips) (v140 : BitVec 32) (v1297 : IVec S16 32) (v1305 : IVec S16 32) : Prop :=
  (∀ (k0_h6 : ¬(k0_cond6 v140 = 1#1)), ∀ a x, ((![v1297, v1305] : Fin 2 → IVec S16 32) a x).toNat < S256x128.size a) ∧
  (∀ (k0_h6 : ¬(k0_cond6 v140 = 1#1)), ∀ a x, ((![v1297, v1305] : Fin 2 → IVec S16 32) a x).toNat < S256x128.size a)
theorem k0_idx1070_inb : ∀ (i : grid0.Coords) (k0_t5 : Fin (k0_t5_loop i).trips) (v140 : BitVec 32) (v1297 : IVec S16 32) (v1305 : IVec S16 32) (k0_hw595 : k0_chk595 i k0_t5 v140 v1297 v1305), ∀ (k0_h6 : ¬(k0_cond6 v140 = 1#1)), ∀ a x, ((![v1297, v1305] : Fin 2 → IVec S16 32) a x).toNat < S256x128.size a := fun i k0_t5 v140 v1297 v1305 k0_hw595 k0_h6 => k0_hw595.1 k0_h6
theorem k0_idx1071_inb : ∀ (i : grid0.Coords) (k0_t5 : Fin (k0_t5_loop i).trips) (v140 : BitVec 32) (v1297 : IVec S16 32) (v1305 : IVec S16 32) (k0_hw595 : k0_chk595 i k0_t5 v140 v1297 v1305), ∀ (k0_h6 : ¬(k0_cond6 v140 = 1#1)), ∀ a x, ((![v1297, v1305] : Fin 2 → IVec S16 32) a x).toNat < S256x128.size a := fun i k0_t5 v140 v1297 v1305 k0_hw595 k0_h6 => k0_hw595.2 k0_h6

def k0_chk596 (i : grid0.Coords) (k0_t5 : Fin (k0_t5_loop i).trips) (v140 : BitVec 32) (v1297 : IVec S16 32) (v1307 : IVec S16 32) : Prop :=
  (∀ (k0_h6 : ¬(k0_cond6 v140 = 1#1)), ∀ a x, ((![v1297, v1307] : Fin 2 → IVec S16 32) a x).toNat < S256x128.size a) ∧
  (∀ (k0_h6 : ¬(k0_cond6 v140 = 1#1)), ∀ a x, ((![v1297, v1307] : Fin 2 → IVec S16 32) a x).toNat < S256x128.size a)
theorem k0_idx1072_inb : ∀ (i : grid0.Coords) (k0_t5 : Fin (k0_t5_loop i).trips) (v140 : BitVec 32) (v1297 : IVec S16 32) (v1307 : IVec S16 32) (k0_hw596 : k0_chk596 i k0_t5 v140 v1297 v1307), ∀ (k0_h6 : ¬(k0_cond6 v140 = 1#1)), ∀ a x, ((![v1297, v1307] : Fin 2 → IVec S16 32) a x).toNat < S256x128.size a := fun i k0_t5 v140 v1297 v1307 k0_hw596 k0_h6 => k0_hw596.1 k0_h6
theorem k0_idx1073_inb : ∀ (i : grid0.Coords) (k0_t5 : Fin (k0_t5_loop i).trips) (v140 : BitVec 32) (v1297 : IVec S16 32) (v1307 : IVec S16 32) (k0_hw596 : k0_chk596 i k0_t5 v140 v1297 v1307), ∀ (k0_h6 : ¬(k0_cond6 v140 = 1#1)), ∀ a x, ((![v1297, v1307] : Fin 2 → IVec S16 32) a x).toNat < S256x128.size a := fun i k0_t5 v140 v1297 v1307 k0_hw596 k0_h6 => k0_hw596.2 k0_h6

def k0_chk597 (i : grid0.Coords) (k0_t5 : Fin (k0_t5_loop i).trips) (v140 : BitVec 32) (v1297 : IVec S16 32) (v1309 : IVec S16 32) : Prop :=
  (∀ (k0_h6 : ¬(k0_cond6 v140 = 1#1)), ∀ a x, ((![v1297, v1309] : Fin 2 → IVec S16 32) a x).toNat < S256x128.size a) ∧
  (∀ (k0_h6 : ¬(k0_cond6 v140 = 1#1)), ∀ a x, ((![v1297, v1309] : Fin 2 → IVec S16 32) a x).toNat < S256x128.size a)
theorem k0_idx1074_inb : ∀ (i : grid0.Coords) (k0_t5 : Fin (k0_t5_loop i).trips) (v140 : BitVec 32) (v1297 : IVec S16 32) (v1309 : IVec S16 32) (k0_hw597 : k0_chk597 i k0_t5 v140 v1297 v1309), ∀ (k0_h6 : ¬(k0_cond6 v140 = 1#1)), ∀ a x, ((![v1297, v1309] : Fin 2 → IVec S16 32) a x).toNat < S256x128.size a := fun i k0_t5 v140 v1297 v1309 k0_hw597 k0_h6 => k0_hw597.1 k0_h6
theorem k0_idx1075_inb : ∀ (i : grid0.Coords) (k0_t5 : Fin (k0_t5_loop i).trips) (v140 : BitVec 32) (v1297 : IVec S16 32) (v1309 : IVec S16 32) (k0_hw597 : k0_chk597 i k0_t5 v140 v1297 v1309), ∀ (k0_h6 : ¬(k0_cond6 v140 = 1#1)), ∀ a x, ((![v1297, v1309] : Fin 2 → IVec S16 32) a x).toNat < S256x128.size a := fun i k0_t5 v140 v1297 v1309 k0_hw597 k0_h6 => k0_hw597.2 k0_h6

def k0_chk598 (i : grid0.Coords) (k0_t5 : Fin (k0_t5_loop i).trips) (v140 : BitVec 32) (v1297 : IVec S16 32) (v1311 : IVec S16 32) : Prop :=
  (∀ (k0_h6 : ¬(k0_cond6 v140 = 1#1)), ∀ a x, ((![v1297, v1311] : Fin 2 → IVec S16 32) a x).toNat < S256x128.size a) ∧
  (∀ (k0_h6 : ¬(k0_cond6 v140 = 1#1)), ∀ a x, ((![v1297, v1311] : Fin 2 → IVec S16 32) a x).toNat < S256x128.size a)
theorem k0_idx1076_inb : ∀ (i : grid0.Coords) (k0_t5 : Fin (k0_t5_loop i).trips) (v140 : BitVec 32) (v1297 : IVec S16 32) (v1311 : IVec S16 32) (k0_hw598 : k0_chk598 i k0_t5 v140 v1297 v1311), ∀ (k0_h6 : ¬(k0_cond6 v140 = 1#1)), ∀ a x, ((![v1297, v1311] : Fin 2 → IVec S16 32) a x).toNat < S256x128.size a := fun i k0_t5 v140 v1297 v1311 k0_hw598 k0_h6 => k0_hw598.1 k0_h6
theorem k0_idx1077_inb : ∀ (i : grid0.Coords) (k0_t5 : Fin (k0_t5_loop i).trips) (v140 : BitVec 32) (v1297 : IVec S16 32) (v1311 : IVec S16 32) (k0_hw598 : k0_chk598 i k0_t5 v140 v1297 v1311), ∀ (k0_h6 : ¬(k0_cond6 v140 = 1#1)), ∀ a x, ((![v1297, v1311] : Fin 2 → IVec S16 32) a x).toNat < S256x128.size a := fun i k0_t5 v140 v1297 v1311 k0_hw598 k0_h6 => k0_hw598.2 k0_h6

def k0_chk599 (i : grid0.Coords) (k0_t5 : Fin (k0_t5_loop i).trips) (v140 : BitVec 32) (v1297 : IVec S16 32) (v1313 : IVec S16 32) : Prop :=
  (∀ (k0_h6 : ¬(k0_cond6 v140 = 1#1)), ∀ a x, ((![v1297, v1313] : Fin 2 → IVec S16 32) a x).toNat < S256x128.size a) ∧
  (∀ (k0_h6 : ¬(k0_cond6 v140 = 1#1)), ∀ a x, ((![v1297, v1313] : Fin 2 → IVec S16 32) a x).toNat < S256x128.size a)
theorem k0_idx1078_inb : ∀ (i : grid0.Coords) (k0_t5 : Fin (k0_t5_loop i).trips) (v140 : BitVec 32) (v1297 : IVec S16 32) (v1313 : IVec S16 32) (k0_hw599 : k0_chk599 i k0_t5 v140 v1297 v1313), ∀ (k0_h6 : ¬(k0_cond6 v140 = 1#1)), ∀ a x, ((![v1297, v1313] : Fin 2 → IVec S16 32) a x).toNat < S256x128.size a := fun i k0_t5 v140 v1297 v1313 k0_hw599 k0_h6 => k0_hw599.1 k0_h6
theorem k0_idx1079_inb : ∀ (i : grid0.Coords) (k0_t5 : Fin (k0_t5_loop i).trips) (v140 : BitVec 32) (v1297 : IVec S16 32) (v1313 : IVec S16 32) (k0_hw599 : k0_chk599 i k0_t5 v140 v1297 v1313), ∀ (k0_h6 : ¬(k0_cond6 v140 = 1#1)), ∀ a x, ((![v1297, v1313] : Fin 2 → IVec S16 32) a x).toNat < S256x128.size a := fun i k0_t5 v140 v1297 v1313 k0_hw599 k0_h6 => k0_hw599.2 k0_h6

def k0_chk600 (i : grid0.Coords) (v2 : IVec S16 32) (k0_t5 : Fin (k0_t5_loop i).trips) (v140 : BitVec 32) (v1297 : IVec S16 32) : Prop :=
  (∀ (k0_h6 : ¬(k0_cond6 v140 = 1#1)), ∀ a x, ((![v1297, v2] : Fin 2 → IVec S16 32) a x).toNat < S256x16.size a)
theorem k0_idx1080_inb : ∀ (i : grid0.Coords) (v2 : IVec S16 32) (k0_t5 : Fin (k0_t5_loop i).trips) (v140 : BitVec 32) (v1297 : IVec S16 32) (k0_hw600 : k0_chk600 i v2 k0_t5 v140 v1297), ∀ (k0_h6 : ¬(k0_cond6 v140 = 1#1)), ∀ a x, ((![v1297, v2] : Fin 2 → IVec S16 32) a x).toNat < S256x16.size a := fun i v2 k0_t5 v140 v1297 k0_hw600 k0_h6 => k0_hw600 k0_h6

def k0_chk601 (i : grid0.Coords) (k0_t5 : Fin (k0_t5_loop i).trips) (v140 : BitVec 32) (v1358 : IVec S16 32) : Prop :=
  (∀ (k0_h6 : ¬(k0_cond6 v140 = 1#1)), ∀ a x, ((![v1358] : Fin 1 → IVec S16 32) a x).toNat < S3136.size a)
theorem k0_idx1081_inb : ∀ (i : grid0.Coords) (k0_t5 : Fin (k0_t5_loop i).trips) (v140 : BitVec 32) (v1358 : IVec S16 32) (k0_hw601 : k0_chk601 i k0_t5 v140 v1358), ∀ (k0_h6 : ¬(k0_cond6 v140 = 1#1)), ∀ a x, ((![v1358] : Fin 1 → IVec S16 32) a x).toNat < S3136.size a := fun i k0_t5 v140 v1358 k0_hw601 k0_h6 => k0_hw601 k0_h6
def k0_off532 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1361 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c12_i32_423 : BitVec 32 := 12#32
  let v1360 : BitVec 32 := Scalar.addi v126 c12_i32_423
  let v1362 : Index := Scalar.indexCast v1360
  let c0_424 : Index := 0#32
  ![v1361.toNat, v1362.toNat, 0]
def k0_off533 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1365 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c12_i32_425 : BitVec 32 := 12#32
  let v1364 : BitVec 32 := Scalar.addi v126 c12_i32_425
  let v1366 : Index := Scalar.indexCast v1364
  let c16_426 : Index := 16#32
  ![v1365.toNat, v1366.toNat, 16]
def k0_off534 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1369 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c12_i32_427 : BitVec 32 := 12#32
  let v1368 : BitVec 32 := Scalar.addi v126 c12_i32_427
  let v1370 : Index := Scalar.indexCast v1368
  let c32_428 : Index := 32#32
  ![v1369.toNat, v1370.toNat, 32]
def k0_off535 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1373 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c12_i32_429 : BitVec 32 := 12#32
  let v1372 : BitVec 32 := Scalar.addi v126 c12_i32_429
  let v1374 : Index := Scalar.indexCast v1372
  let c48_430 : Index := 48#32
  ![v1373.toNat, v1374.toNat, 48]
def k0_off536 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1377 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c12_i32_431 : BitVec 32 := 12#32
  let v1376 : BitVec 32 := Scalar.addi v126 c12_i32_431
  let v1378 : Index := Scalar.indexCast v1376
  let c64_432 : Index := 64#32
  ![v1377.toNat, v1378.toNat, 64]
def k0_off537 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1381 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c12_i32_433 : BitVec 32 := 12#32
  let v1380 : BitVec 32 := Scalar.addi v126 c12_i32_433
  let v1382 : Index := Scalar.indexCast v1380
  let c80_434 : Index := 80#32
  ![v1381.toNat, v1382.toNat, 80]
def k0_off538 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1385 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c12_i32_435 : BitVec 32 := 12#32
  let v1384 : BitVec 32 := Scalar.addi v126 c12_i32_435
  let v1386 : Index := Scalar.indexCast v1384
  let c96_436 : Index := 96#32
  ![v1385.toNat, v1386.toNat, 96]
def k0_off539 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1389 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c12_i32_437 : BitVec 32 := 12#32
  let v1388 : BitVec 32 := Scalar.addi v126 c12_i32_437
  let v1390 : Index := Scalar.indexCast v1388
  let c112_438 : Index := 112#32
  ![v1389.toNat, v1390.toNat, 112]

def k0_chk602 (i : grid0.Coords) (k0_t5 : Fin (k0_t5_loop i).trips) (v140 : BitVec 32) (v1398 : IVec S16 32) (v1400 : IVec S16 32) : Prop :=
  (∀ (k0_h6 : ¬(k0_cond6 v140 = 1#1)), ∀ a x, ((![v1398, v1400] : Fin 2 → IVec S16 32) a x).toNat < S256x128.size a) ∧
  (∀ (k0_h6 : ¬(k0_cond6 v140 = 1#1)), ∀ a x, ((![v1398, v1400] : Fin 2 → IVec S16 32) a x).toNat < S256x128.size a)
theorem k0_idx1082_inb : ∀ (i : grid0.Coords) (k0_t5 : Fin (k0_t5_loop i).trips) (v140 : BitVec 32) (v1398 : IVec S16 32) (v1400 : IVec S16 32) (k0_hw602 : k0_chk602 i k0_t5 v140 v1398 v1400), ∀ (k0_h6 : ¬(k0_cond6 v140 = 1#1)), ∀ a x, ((![v1398, v1400] : Fin 2 → IVec S16 32) a x).toNat < S256x128.size a := fun i k0_t5 v140 v1398 v1400 k0_hw602 k0_h6 => k0_hw602.1 k0_h6
theorem k0_idx1083_inb : ∀ (i : grid0.Coords) (k0_t5 : Fin (k0_t5_loop i).trips) (v140 : BitVec 32) (v1398 : IVec S16 32) (v1400 : IVec S16 32) (k0_hw602 : k0_chk602 i k0_t5 v140 v1398 v1400), ∀ (k0_h6 : ¬(k0_cond6 v140 = 1#1)), ∀ a x, ((![v1398, v1400] : Fin 2 → IVec S16 32) a x).toNat < S256x128.size a := fun i k0_t5 v140 v1398 v1400 k0_hw602 k0_h6 => k0_hw602.2 k0_h6

def k0_chk603 (i : grid0.Coords) (k0_t5 : Fin (k0_t5_loop i).trips) (v140 : BitVec 32) (v1398 : IVec S16 32) (v1402 : IVec S16 32) : Prop :=
  (∀ (k0_h6 : ¬(k0_cond6 v140 = 1#1)), ∀ a x, ((![v1398, v1402] : Fin 2 → IVec S16 32) a x).toNat < S256x128.size a) ∧
  (∀ (k0_h6 : ¬(k0_cond6 v140 = 1#1)), ∀ a x, ((![v1398, v1402] : Fin 2 → IVec S16 32) a x).toNat < S256x128.size a)
theorem k0_idx1084_inb : ∀ (i : grid0.Coords) (k0_t5 : Fin (k0_t5_loop i).trips) (v140 : BitVec 32) (v1398 : IVec S16 32) (v1402 : IVec S16 32) (k0_hw603 : k0_chk603 i k0_t5 v140 v1398 v1402), ∀ (k0_h6 : ¬(k0_cond6 v140 = 1#1)), ∀ a x, ((![v1398, v1402] : Fin 2 → IVec S16 32) a x).toNat < S256x128.size a := fun i k0_t5 v140 v1398 v1402 k0_hw603 k0_h6 => k0_hw603.1 k0_h6
theorem k0_idx1085_inb : ∀ (i : grid0.Coords) (k0_t5 : Fin (k0_t5_loop i).trips) (v140 : BitVec 32) (v1398 : IVec S16 32) (v1402 : IVec S16 32) (k0_hw603 : k0_chk603 i k0_t5 v140 v1398 v1402), ∀ (k0_h6 : ¬(k0_cond6 v140 = 1#1)), ∀ a x, ((![v1398, v1402] : Fin 2 → IVec S16 32) a x).toNat < S256x128.size a := fun i k0_t5 v140 v1398 v1402 k0_hw603 k0_h6 => k0_hw603.2 k0_h6

def k0_chk604 (i : grid0.Coords) (k0_t5 : Fin (k0_t5_loop i).trips) (v140 : BitVec 32) (v1398 : IVec S16 32) (v1404 : IVec S16 32) : Prop :=
  (∀ (k0_h6 : ¬(k0_cond6 v140 = 1#1)), ∀ a x, ((![v1398, v1404] : Fin 2 → IVec S16 32) a x).toNat < S256x128.size a) ∧
  (∀ (k0_h6 : ¬(k0_cond6 v140 = 1#1)), ∀ a x, ((![v1398, v1404] : Fin 2 → IVec S16 32) a x).toNat < S256x128.size a)
theorem k0_idx1086_inb : ∀ (i : grid0.Coords) (k0_t5 : Fin (k0_t5_loop i).trips) (v140 : BitVec 32) (v1398 : IVec S16 32) (v1404 : IVec S16 32) (k0_hw604 : k0_chk604 i k0_t5 v140 v1398 v1404), ∀ (k0_h6 : ¬(k0_cond6 v140 = 1#1)), ∀ a x, ((![v1398, v1404] : Fin 2 → IVec S16 32) a x).toNat < S256x128.size a := fun i k0_t5 v140 v1398 v1404 k0_hw604 k0_h6 => k0_hw604.1 k0_h6
theorem k0_idx1087_inb : ∀ (i : grid0.Coords) (k0_t5 : Fin (k0_t5_loop i).trips) (v140 : BitVec 32) (v1398 : IVec S16 32) (v1404 : IVec S16 32) (k0_hw604 : k0_chk604 i k0_t5 v140 v1398 v1404), ∀ (k0_h6 : ¬(k0_cond6 v140 = 1#1)), ∀ a x, ((![v1398, v1404] : Fin 2 → IVec S16 32) a x).toNat < S256x128.size a := fun i k0_t5 v140 v1398 v1404 k0_hw604 k0_h6 => k0_hw604.2 k0_h6

def k0_chk605 (i : grid0.Coords) (k0_t5 : Fin (k0_t5_loop i).trips) (v140 : BitVec 32) (v1398 : IVec S16 32) (v1406 : IVec S16 32) : Prop :=
  (∀ (k0_h6 : ¬(k0_cond6 v140 = 1#1)), ∀ a x, ((![v1398, v1406] : Fin 2 → IVec S16 32) a x).toNat < S256x128.size a) ∧
  (∀ (k0_h6 : ¬(k0_cond6 v140 = 1#1)), ∀ a x, ((![v1398, v1406] : Fin 2 → IVec S16 32) a x).toNat < S256x128.size a)
theorem k0_idx1088_inb : ∀ (i : grid0.Coords) (k0_t5 : Fin (k0_t5_loop i).trips) (v140 : BitVec 32) (v1398 : IVec S16 32) (v1406 : IVec S16 32) (k0_hw605 : k0_chk605 i k0_t5 v140 v1398 v1406), ∀ (k0_h6 : ¬(k0_cond6 v140 = 1#1)), ∀ a x, ((![v1398, v1406] : Fin 2 → IVec S16 32) a x).toNat < S256x128.size a := fun i k0_t5 v140 v1398 v1406 k0_hw605 k0_h6 => k0_hw605.1 k0_h6
theorem k0_idx1089_inb : ∀ (i : grid0.Coords) (k0_t5 : Fin (k0_t5_loop i).trips) (v140 : BitVec 32) (v1398 : IVec S16 32) (v1406 : IVec S16 32) (k0_hw605 : k0_chk605 i k0_t5 v140 v1398 v1406), ∀ (k0_h6 : ¬(k0_cond6 v140 = 1#1)), ∀ a x, ((![v1398, v1406] : Fin 2 → IVec S16 32) a x).toNat < S256x128.size a := fun i k0_t5 v140 v1398 v1406 k0_hw605 k0_h6 => k0_hw605.2 k0_h6

def k0_chk606 (i : grid0.Coords) (k0_t5 : Fin (k0_t5_loop i).trips) (v140 : BitVec 32) (v1398 : IVec S16 32) (v1408 : IVec S16 32) : Prop :=
  (∀ (k0_h6 : ¬(k0_cond6 v140 = 1#1)), ∀ a x, ((![v1398, v1408] : Fin 2 → IVec S16 32) a x).toNat < S256x128.size a) ∧
  (∀ (k0_h6 : ¬(k0_cond6 v140 = 1#1)), ∀ a x, ((![v1398, v1408] : Fin 2 → IVec S16 32) a x).toNat < S256x128.size a)
theorem k0_idx1090_inb : ∀ (i : grid0.Coords) (k0_t5 : Fin (k0_t5_loop i).trips) (v140 : BitVec 32) (v1398 : IVec S16 32) (v1408 : IVec S16 32) (k0_hw606 : k0_chk606 i k0_t5 v140 v1398 v1408), ∀ (k0_h6 : ¬(k0_cond6 v140 = 1#1)), ∀ a x, ((![v1398, v1408] : Fin 2 → IVec S16 32) a x).toNat < S256x128.size a := fun i k0_t5 v140 v1398 v1408 k0_hw606 k0_h6 => k0_hw606.1 k0_h6
theorem k0_idx1091_inb : ∀ (i : grid0.Coords) (k0_t5 : Fin (k0_t5_loop i).trips) (v140 : BitVec 32) (v1398 : IVec S16 32) (v1408 : IVec S16 32) (k0_hw606 : k0_chk606 i k0_t5 v140 v1398 v1408), ∀ (k0_h6 : ¬(k0_cond6 v140 = 1#1)), ∀ a x, ((![v1398, v1408] : Fin 2 → IVec S16 32) a x).toNat < S256x128.size a := fun i k0_t5 v140 v1398 v1408 k0_hw606 k0_h6 => k0_hw606.2 k0_h6

def k0_chk607 (i : grid0.Coords) (k0_t5 : Fin (k0_t5_loop i).trips) (v140 : BitVec 32) (v1398 : IVec S16 32) (v1410 : IVec S16 32) : Prop :=
  (∀ (k0_h6 : ¬(k0_cond6 v140 = 1#1)), ∀ a x, ((![v1398, v1410] : Fin 2 → IVec S16 32) a x).toNat < S256x128.size a) ∧
  (∀ (k0_h6 : ¬(k0_cond6 v140 = 1#1)), ∀ a x, ((![v1398, v1410] : Fin 2 → IVec S16 32) a x).toNat < S256x128.size a)
theorem k0_idx1092_inb : ∀ (i : grid0.Coords) (k0_t5 : Fin (k0_t5_loop i).trips) (v140 : BitVec 32) (v1398 : IVec S16 32) (v1410 : IVec S16 32) (k0_hw607 : k0_chk607 i k0_t5 v140 v1398 v1410), ∀ (k0_h6 : ¬(k0_cond6 v140 = 1#1)), ∀ a x, ((![v1398, v1410] : Fin 2 → IVec S16 32) a x).toNat < S256x128.size a := fun i k0_t5 v140 v1398 v1410 k0_hw607 k0_h6 => k0_hw607.1 k0_h6
theorem k0_idx1093_inb : ∀ (i : grid0.Coords) (k0_t5 : Fin (k0_t5_loop i).trips) (v140 : BitVec 32) (v1398 : IVec S16 32) (v1410 : IVec S16 32) (k0_hw607 : k0_chk607 i k0_t5 v140 v1398 v1410), ∀ (k0_h6 : ¬(k0_cond6 v140 = 1#1)), ∀ a x, ((![v1398, v1410] : Fin 2 → IVec S16 32) a x).toNat < S256x128.size a := fun i k0_t5 v140 v1398 v1410 k0_hw607 k0_h6 => k0_hw607.2 k0_h6

def k0_chk608 (i : grid0.Coords) (k0_t5 : Fin (k0_t5_loop i).trips) (v140 : BitVec 32) (v1398 : IVec S16 32) (v1412 : IVec S16 32) : Prop :=
  (∀ (k0_h6 : ¬(k0_cond6 v140 = 1#1)), ∀ a x, ((![v1398, v1412] : Fin 2 → IVec S16 32) a x).toNat < S256x128.size a) ∧
  (∀ (k0_h6 : ¬(k0_cond6 v140 = 1#1)), ∀ a x, ((![v1398, v1412] : Fin 2 → IVec S16 32) a x).toNat < S256x128.size a)
theorem k0_idx1094_inb : ∀ (i : grid0.Coords) (k0_t5 : Fin (k0_t5_loop i).trips) (v140 : BitVec 32) (v1398 : IVec S16 32) (v1412 : IVec S16 32) (k0_hw608 : k0_chk608 i k0_t5 v140 v1398 v1412), ∀ (k0_h6 : ¬(k0_cond6 v140 = 1#1)), ∀ a x, ((![v1398, v1412] : Fin 2 → IVec S16 32) a x).toNat < S256x128.size a := fun i k0_t5 v140 v1398 v1412 k0_hw608 k0_h6 => k0_hw608.1 k0_h6
theorem k0_idx1095_inb : ∀ (i : grid0.Coords) (k0_t5 : Fin (k0_t5_loop i).trips) (v140 : BitVec 32) (v1398 : IVec S16 32) (v1412 : IVec S16 32) (k0_hw608 : k0_chk608 i k0_t5 v140 v1398 v1412), ∀ (k0_h6 : ¬(k0_cond6 v140 = 1#1)), ∀ a x, ((![v1398, v1412] : Fin 2 → IVec S16 32) a x).toNat < S256x128.size a := fun i k0_t5 v140 v1398 v1412 k0_hw608 k0_h6 => k0_hw608.2 k0_h6

def k0_chk609 (i : grid0.Coords) (k0_t5 : Fin (k0_t5_loop i).trips) (v140 : BitVec 32) (v1398 : IVec S16 32) (v1414 : IVec S16 32) : Prop :=
  (∀ (k0_h6 : ¬(k0_cond6 v140 = 1#1)), ∀ a x, ((![v1398, v1414] : Fin 2 → IVec S16 32) a x).toNat < S256x128.size a) ∧
  (∀ (k0_h6 : ¬(k0_cond6 v140 = 1#1)), ∀ a x, ((![v1398, v1414] : Fin 2 → IVec S16 32) a x).toNat < S256x128.size a)
theorem k0_idx1096_inb : ∀ (i : grid0.Coords) (k0_t5 : Fin (k0_t5_loop i).trips) (v140 : BitVec 32) (v1398 : IVec S16 32) (v1414 : IVec S16 32) (k0_hw609 : k0_chk609 i k0_t5 v140 v1398 v1414), ∀ (k0_h6 : ¬(k0_cond6 v140 = 1#1)), ∀ a x, ((![v1398, v1414] : Fin 2 → IVec S16 32) a x).toNat < S256x128.size a := fun i k0_t5 v140 v1398 v1414 k0_hw609 k0_h6 => k0_hw609.1 k0_h6
theorem k0_idx1097_inb : ∀ (i : grid0.Coords) (k0_t5 : Fin (k0_t5_loop i).trips) (v140 : BitVec 32) (v1398 : IVec S16 32) (v1414 : IVec S16 32) (k0_hw609 : k0_chk609 i k0_t5 v140 v1398 v1414), ∀ (k0_h6 : ¬(k0_cond6 v140 = 1#1)), ∀ a x, ((![v1398, v1414] : Fin 2 → IVec S16 32) a x).toNat < S256x128.size a := fun i k0_t5 v140 v1398 v1414 k0_hw609 k0_h6 => k0_hw609.2 k0_h6

def k0_chk610 (i : grid0.Coords) (v2 : IVec S16 32) (k0_t5 : Fin (k0_t5_loop i).trips) (v140 : BitVec 32) (v1398 : IVec S16 32) : Prop :=
  (∀ (k0_h6 : ¬(k0_cond6 v140 = 1#1)), ∀ a x, ((![v1398, v2] : Fin 2 → IVec S16 32) a x).toNat < S256x16.size a)
theorem k0_idx1098_inb : ∀ (i : grid0.Coords) (v2 : IVec S16 32) (k0_t5 : Fin (k0_t5_loop i).trips) (v140 : BitVec 32) (v1398 : IVec S16 32) (k0_hw610 : k0_chk610 i v2 k0_t5 v140 v1398), ∀ (k0_h6 : ¬(k0_cond6 v140 = 1#1)), ∀ a x, ((![v1398, v2] : Fin 2 → IVec S16 32) a x).toNat < S256x16.size a := fun i v2 k0_t5 v140 v1398 k0_hw610 k0_h6 => k0_hw610 k0_h6

def k0_chk611 (i : grid0.Coords) (k0_t5 : Fin (k0_t5_loop i).trips) (v140 : BitVec 32) (v1459 : IVec S16 32) : Prop :=
  (∀ (k0_h6 : ¬(k0_cond6 v140 = 1#1)), ∀ a x, ((![v1459] : Fin 1 → IVec S16 32) a x).toNat < S3136.size a)
theorem k0_idx1099_inb : ∀ (i : grid0.Coords) (k0_t5 : Fin (k0_t5_loop i).trips) (v140 : BitVec 32) (v1459 : IVec S16 32) (k0_hw611 : k0_chk611 i k0_t5 v140 v1459), ∀ (k0_h6 : ¬(k0_cond6 v140 = 1#1)), ∀ a x, ((![v1459] : Fin 1 → IVec S16 32) a x).toNat < S3136.size a := fun i k0_t5 v140 v1459 k0_hw611 k0_h6 => k0_hw611 k0_h6
def k0_off540 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1462 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c13_i32_453 : BitVec 32 := 13#32
  let v1461 : BitVec 32 := Scalar.addi v126 c13_i32_453
  let v1463 : Index := Scalar.indexCast v1461
  let c0_454 : Index := 0#32
  ![v1462.toNat, v1463.toNat, 0]
def k0_off541 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1466 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c13_i32_455 : BitVec 32 := 13#32
  let v1465 : BitVec 32 := Scalar.addi v126 c13_i32_455
  let v1467 : Index := Scalar.indexCast v1465
  let c16_456 : Index := 16#32
  ![v1466.toNat, v1467.toNat, 16]
def k0_off542 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1470 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c13_i32_457 : BitVec 32 := 13#32
  let v1469 : BitVec 32 := Scalar.addi v126 c13_i32_457
  let v1471 : Index := Scalar.indexCast v1469
  let c32_458 : Index := 32#32
  ![v1470.toNat, v1471.toNat, 32]
def k0_off543 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1474 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c13_i32_459 : BitVec 32 := 13#32
  let v1473 : BitVec 32 := Scalar.addi v126 c13_i32_459
  let v1475 : Index := Scalar.indexCast v1473
  let c48_460 : Index := 48#32
  ![v1474.toNat, v1475.toNat, 48]
def k0_off544 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1478 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c13_i32_461 : BitVec 32 := 13#32
  let v1477 : BitVec 32 := Scalar.addi v126 c13_i32_461
  let v1479 : Index := Scalar.indexCast v1477
  let c64_462 : Index := 64#32
  ![v1478.toNat, v1479.toNat, 64]
def k0_off545 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1482 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c13_i32_463 : BitVec 32 := 13#32
  let v1481 : BitVec 32 := Scalar.addi v126 c13_i32_463
  let v1483 : Index := Scalar.indexCast v1481
  let c80_464 : Index := 80#32
  ![v1482.toNat, v1483.toNat, 80]
def k0_off546 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1486 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c13_i32_465 : BitVec 32 := 13#32
  let v1485 : BitVec 32 := Scalar.addi v126 c13_i32_465
  let v1487 : Index := Scalar.indexCast v1485
  let c96_466 : Index := 96#32
  ![v1486.toNat, v1487.toNat, 96]
def k0_off547 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1490 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c13_i32_467 : BitVec 32 := 13#32
  let v1489 : BitVec 32 := Scalar.addi v126 c13_i32_467
  let v1491 : Index := Scalar.indexCast v1489
  let c112_468 : Index := 112#32
  ![v1490.toNat, v1491.toNat, 112]

def k0_chk612 (i : grid0.Coords) (k0_t5 : Fin (k0_t5_loop i).trips) (v140 : BitVec 32) (v1499 : IVec S16 32) (v1501 : IVec S16 32) : Prop :=
  (∀ (k0_h6 : ¬(k0_cond6 v140 = 1#1)), ∀ a x, ((![v1499, v1501] : Fin 2 → IVec S16 32) a x).toNat < S256x128.size a) ∧
  (∀ (k0_h6 : ¬(k0_cond6 v140 = 1#1)), ∀ a x, ((![v1499, v1501] : Fin 2 → IVec S16 32) a x).toNat < S256x128.size a)
theorem k0_idx1100_inb : ∀ (i : grid0.Coords) (k0_t5 : Fin (k0_t5_loop i).trips) (v140 : BitVec 32) (v1499 : IVec S16 32) (v1501 : IVec S16 32) (k0_hw612 : k0_chk612 i k0_t5 v140 v1499 v1501), ∀ (k0_h6 : ¬(k0_cond6 v140 = 1#1)), ∀ a x, ((![v1499, v1501] : Fin 2 → IVec S16 32) a x).toNat < S256x128.size a := fun i k0_t5 v140 v1499 v1501 k0_hw612 k0_h6 => k0_hw612.1 k0_h6
theorem k0_idx1101_inb : ∀ (i : grid0.Coords) (k0_t5 : Fin (k0_t5_loop i).trips) (v140 : BitVec 32) (v1499 : IVec S16 32) (v1501 : IVec S16 32) (k0_hw612 : k0_chk612 i k0_t5 v140 v1499 v1501), ∀ (k0_h6 : ¬(k0_cond6 v140 = 1#1)), ∀ a x, ((![v1499, v1501] : Fin 2 → IVec S16 32) a x).toNat < S256x128.size a := fun i k0_t5 v140 v1499 v1501 k0_hw612 k0_h6 => k0_hw612.2 k0_h6

def k0_chk613 (i : grid0.Coords) (k0_t5 : Fin (k0_t5_loop i).trips) (v140 : BitVec 32) (v1499 : IVec S16 32) (v1503 : IVec S16 32) : Prop :=
  (∀ (k0_h6 : ¬(k0_cond6 v140 = 1#1)), ∀ a x, ((![v1499, v1503] : Fin 2 → IVec S16 32) a x).toNat < S256x128.size a) ∧
  (∀ (k0_h6 : ¬(k0_cond6 v140 = 1#1)), ∀ a x, ((![v1499, v1503] : Fin 2 → IVec S16 32) a x).toNat < S256x128.size a)
theorem k0_idx1102_inb : ∀ (i : grid0.Coords) (k0_t5 : Fin (k0_t5_loop i).trips) (v140 : BitVec 32) (v1499 : IVec S16 32) (v1503 : IVec S16 32) (k0_hw613 : k0_chk613 i k0_t5 v140 v1499 v1503), ∀ (k0_h6 : ¬(k0_cond6 v140 = 1#1)), ∀ a x, ((![v1499, v1503] : Fin 2 → IVec S16 32) a x).toNat < S256x128.size a := fun i k0_t5 v140 v1499 v1503 k0_hw613 k0_h6 => k0_hw613.1 k0_h6
theorem k0_idx1103_inb : ∀ (i : grid0.Coords) (k0_t5 : Fin (k0_t5_loop i).trips) (v140 : BitVec 32) (v1499 : IVec S16 32) (v1503 : IVec S16 32) (k0_hw613 : k0_chk613 i k0_t5 v140 v1499 v1503), ∀ (k0_h6 : ¬(k0_cond6 v140 = 1#1)), ∀ a x, ((![v1499, v1503] : Fin 2 → IVec S16 32) a x).toNat < S256x128.size a := fun i k0_t5 v140 v1499 v1503 k0_hw613 k0_h6 => k0_hw613.2 k0_h6

def k0_chk614 (i : grid0.Coords) (k0_t5 : Fin (k0_t5_loop i).trips) (v140 : BitVec 32) (v1499 : IVec S16 32) (v1505 : IVec S16 32) : Prop :=
  (∀ (k0_h6 : ¬(k0_cond6 v140 = 1#1)), ∀ a x, ((![v1499, v1505] : Fin 2 → IVec S16 32) a x).toNat < S256x128.size a) ∧
  (∀ (k0_h6 : ¬(k0_cond6 v140 = 1#1)), ∀ a x, ((![v1499, v1505] : Fin 2 → IVec S16 32) a x).toNat < S256x128.size a)
theorem k0_idx1104_inb : ∀ (i : grid0.Coords) (k0_t5 : Fin (k0_t5_loop i).trips) (v140 : BitVec 32) (v1499 : IVec S16 32) (v1505 : IVec S16 32) (k0_hw614 : k0_chk614 i k0_t5 v140 v1499 v1505), ∀ (k0_h6 : ¬(k0_cond6 v140 = 1#1)), ∀ a x, ((![v1499, v1505] : Fin 2 → IVec S16 32) a x).toNat < S256x128.size a := fun i k0_t5 v140 v1499 v1505 k0_hw614 k0_h6 => k0_hw614.1 k0_h6
theorem k0_idx1105_inb : ∀ (i : grid0.Coords) (k0_t5 : Fin (k0_t5_loop i).trips) (v140 : BitVec 32) (v1499 : IVec S16 32) (v1505 : IVec S16 32) (k0_hw614 : k0_chk614 i k0_t5 v140 v1499 v1505), ∀ (k0_h6 : ¬(k0_cond6 v140 = 1#1)), ∀ a x, ((![v1499, v1505] : Fin 2 → IVec S16 32) a x).toNat < S256x128.size a := fun i k0_t5 v140 v1499 v1505 k0_hw614 k0_h6 => k0_hw614.2 k0_h6

def k0_chk615 (i : grid0.Coords) (k0_t5 : Fin (k0_t5_loop i).trips) (v140 : BitVec 32) (v1499 : IVec S16 32) (v1507 : IVec S16 32) : Prop :=
  (∀ (k0_h6 : ¬(k0_cond6 v140 = 1#1)), ∀ a x, ((![v1499, v1507] : Fin 2 → IVec S16 32) a x).toNat < S256x128.size a) ∧
  (∀ (k0_h6 : ¬(k0_cond6 v140 = 1#1)), ∀ a x, ((![v1499, v1507] : Fin 2 → IVec S16 32) a x).toNat < S256x128.size a)
theorem k0_idx1106_inb : ∀ (i : grid0.Coords) (k0_t5 : Fin (k0_t5_loop i).trips) (v140 : BitVec 32) (v1499 : IVec S16 32) (v1507 : IVec S16 32) (k0_hw615 : k0_chk615 i k0_t5 v140 v1499 v1507), ∀ (k0_h6 : ¬(k0_cond6 v140 = 1#1)), ∀ a x, ((![v1499, v1507] : Fin 2 → IVec S16 32) a x).toNat < S256x128.size a := fun i k0_t5 v140 v1499 v1507 k0_hw615 k0_h6 => k0_hw615.1 k0_h6
theorem k0_idx1107_inb : ∀ (i : grid0.Coords) (k0_t5 : Fin (k0_t5_loop i).trips) (v140 : BitVec 32) (v1499 : IVec S16 32) (v1507 : IVec S16 32) (k0_hw615 : k0_chk615 i k0_t5 v140 v1499 v1507), ∀ (k0_h6 : ¬(k0_cond6 v140 = 1#1)), ∀ a x, ((![v1499, v1507] : Fin 2 → IVec S16 32) a x).toNat < S256x128.size a := fun i k0_t5 v140 v1499 v1507 k0_hw615 k0_h6 => k0_hw615.2 k0_h6

def k0_chk616 (i : grid0.Coords) (k0_t5 : Fin (k0_t5_loop i).trips) (v140 : BitVec 32) (v1499 : IVec S16 32) (v1509 : IVec S16 32) : Prop :=
  (∀ (k0_h6 : ¬(k0_cond6 v140 = 1#1)), ∀ a x, ((![v1499, v1509] : Fin 2 → IVec S16 32) a x).toNat < S256x128.size a) ∧
  (∀ (k0_h6 : ¬(k0_cond6 v140 = 1#1)), ∀ a x, ((![v1499, v1509] : Fin 2 → IVec S16 32) a x).toNat < S256x128.size a)
theorem k0_idx1108_inb : ∀ (i : grid0.Coords) (k0_t5 : Fin (k0_t5_loop i).trips) (v140 : BitVec 32) (v1499 : IVec S16 32) (v1509 : IVec S16 32) (k0_hw616 : k0_chk616 i k0_t5 v140 v1499 v1509), ∀ (k0_h6 : ¬(k0_cond6 v140 = 1#1)), ∀ a x, ((![v1499, v1509] : Fin 2 → IVec S16 32) a x).toNat < S256x128.size a := fun i k0_t5 v140 v1499 v1509 k0_hw616 k0_h6 => k0_hw616.1 k0_h6
theorem k0_idx1109_inb : ∀ (i : grid0.Coords) (k0_t5 : Fin (k0_t5_loop i).trips) (v140 : BitVec 32) (v1499 : IVec S16 32) (v1509 : IVec S16 32) (k0_hw616 : k0_chk616 i k0_t5 v140 v1499 v1509), ∀ (k0_h6 : ¬(k0_cond6 v140 = 1#1)), ∀ a x, ((![v1499, v1509] : Fin 2 → IVec S16 32) a x).toNat < S256x128.size a := fun i k0_t5 v140 v1499 v1509 k0_hw616 k0_h6 => k0_hw616.2 k0_h6

def k0_chk617 (i : grid0.Coords) (k0_t5 : Fin (k0_t5_loop i).trips) (v140 : BitVec 32) (v1499 : IVec S16 32) (v1511 : IVec S16 32) : Prop :=
  (∀ (k0_h6 : ¬(k0_cond6 v140 = 1#1)), ∀ a x, ((![v1499, v1511] : Fin 2 → IVec S16 32) a x).toNat < S256x128.size a) ∧
  (∀ (k0_h6 : ¬(k0_cond6 v140 = 1#1)), ∀ a x, ((![v1499, v1511] : Fin 2 → IVec S16 32) a x).toNat < S256x128.size a)
theorem k0_idx1110_inb : ∀ (i : grid0.Coords) (k0_t5 : Fin (k0_t5_loop i).trips) (v140 : BitVec 32) (v1499 : IVec S16 32) (v1511 : IVec S16 32) (k0_hw617 : k0_chk617 i k0_t5 v140 v1499 v1511), ∀ (k0_h6 : ¬(k0_cond6 v140 = 1#1)), ∀ a x, ((![v1499, v1511] : Fin 2 → IVec S16 32) a x).toNat < S256x128.size a := fun i k0_t5 v140 v1499 v1511 k0_hw617 k0_h6 => k0_hw617.1 k0_h6
theorem k0_idx1111_inb : ∀ (i : grid0.Coords) (k0_t5 : Fin (k0_t5_loop i).trips) (v140 : BitVec 32) (v1499 : IVec S16 32) (v1511 : IVec S16 32) (k0_hw617 : k0_chk617 i k0_t5 v140 v1499 v1511), ∀ (k0_h6 : ¬(k0_cond6 v140 = 1#1)), ∀ a x, ((![v1499, v1511] : Fin 2 → IVec S16 32) a x).toNat < S256x128.size a := fun i k0_t5 v140 v1499 v1511 k0_hw617 k0_h6 => k0_hw617.2 k0_h6

def k0_chk618 (i : grid0.Coords) (k0_t5 : Fin (k0_t5_loop i).trips) (v140 : BitVec 32) (v1499 : IVec S16 32) (v1513 : IVec S16 32) : Prop :=
  (∀ (k0_h6 : ¬(k0_cond6 v140 = 1#1)), ∀ a x, ((![v1499, v1513] : Fin 2 → IVec S16 32) a x).toNat < S256x128.size a) ∧
  (∀ (k0_h6 : ¬(k0_cond6 v140 = 1#1)), ∀ a x, ((![v1499, v1513] : Fin 2 → IVec S16 32) a x).toNat < S256x128.size a)
theorem k0_idx1112_inb : ∀ (i : grid0.Coords) (k0_t5 : Fin (k0_t5_loop i).trips) (v140 : BitVec 32) (v1499 : IVec S16 32) (v1513 : IVec S16 32) (k0_hw618 : k0_chk618 i k0_t5 v140 v1499 v1513), ∀ (k0_h6 : ¬(k0_cond6 v140 = 1#1)), ∀ a x, ((![v1499, v1513] : Fin 2 → IVec S16 32) a x).toNat < S256x128.size a := fun i k0_t5 v140 v1499 v1513 k0_hw618 k0_h6 => k0_hw618.1 k0_h6
theorem k0_idx1113_inb : ∀ (i : grid0.Coords) (k0_t5 : Fin (k0_t5_loop i).trips) (v140 : BitVec 32) (v1499 : IVec S16 32) (v1513 : IVec S16 32) (k0_hw618 : k0_chk618 i k0_t5 v140 v1499 v1513), ∀ (k0_h6 : ¬(k0_cond6 v140 = 1#1)), ∀ a x, ((![v1499, v1513] : Fin 2 → IVec S16 32) a x).toNat < S256x128.size a := fun i k0_t5 v140 v1499 v1513 k0_hw618 k0_h6 => k0_hw618.2 k0_h6

def k0_chk619 (i : grid0.Coords) (k0_t5 : Fin (k0_t5_loop i).trips) (v140 : BitVec 32) (v1499 : IVec S16 32) (v1515 : IVec S16 32) : Prop :=
  (∀ (k0_h6 : ¬(k0_cond6 v140 = 1#1)), ∀ a x, ((![v1499, v1515] : Fin 2 → IVec S16 32) a x).toNat < S256x128.size a) ∧
  (∀ (k0_h6 : ¬(k0_cond6 v140 = 1#1)), ∀ a x, ((![v1499, v1515] : Fin 2 → IVec S16 32) a x).toNat < S256x128.size a)
theorem k0_idx1114_inb : ∀ (i : grid0.Coords) (k0_t5 : Fin (k0_t5_loop i).trips) (v140 : BitVec 32) (v1499 : IVec S16 32) (v1515 : IVec S16 32) (k0_hw619 : k0_chk619 i k0_t5 v140 v1499 v1515), ∀ (k0_h6 : ¬(k0_cond6 v140 = 1#1)), ∀ a x, ((![v1499, v1515] : Fin 2 → IVec S16 32) a x).toNat < S256x128.size a := fun i k0_t5 v140 v1499 v1515 k0_hw619 k0_h6 => k0_hw619.1 k0_h6
theorem k0_idx1115_inb : ∀ (i : grid0.Coords) (k0_t5 : Fin (k0_t5_loop i).trips) (v140 : BitVec 32) (v1499 : IVec S16 32) (v1515 : IVec S16 32) (k0_hw619 : k0_chk619 i k0_t5 v140 v1499 v1515), ∀ (k0_h6 : ¬(k0_cond6 v140 = 1#1)), ∀ a x, ((![v1499, v1515] : Fin 2 → IVec S16 32) a x).toNat < S256x128.size a := fun i k0_t5 v140 v1499 v1515 k0_hw619 k0_h6 => k0_hw619.2 k0_h6

def k0_chk620 (i : grid0.Coords) (v2 : IVec S16 32) (k0_t5 : Fin (k0_t5_loop i).trips) (v140 : BitVec 32) (v1499 : IVec S16 32) : Prop :=
  (∀ (k0_h6 : ¬(k0_cond6 v140 = 1#1)), ∀ a x, ((![v1499, v2] : Fin 2 → IVec S16 32) a x).toNat < S256x16.size a)
theorem k0_idx1116_inb : ∀ (i : grid0.Coords) (v2 : IVec S16 32) (k0_t5 : Fin (k0_t5_loop i).trips) (v140 : BitVec 32) (v1499 : IVec S16 32) (k0_hw620 : k0_chk620 i v2 k0_t5 v140 v1499), ∀ (k0_h6 : ¬(k0_cond6 v140 = 1#1)), ∀ a x, ((![v1499, v2] : Fin 2 → IVec S16 32) a x).toNat < S256x16.size a := fun i v2 k0_t5 v140 v1499 k0_hw620 k0_h6 => k0_hw620 k0_h6

def k0_chk621 (i : grid0.Coords) (k0_t5 : Fin (k0_t5_loop i).trips) (v140 : BitVec 32) (v1560 : IVec S16 32) : Prop :=
  (∀ (k0_h6 : ¬(k0_cond6 v140 = 1#1)), ∀ a x, ((![v1560] : Fin 1 → IVec S16 32) a x).toNat < S3136.size a)
theorem k0_idx1117_inb : ∀ (i : grid0.Coords) (k0_t5 : Fin (k0_t5_loop i).trips) (v140 : BitVec 32) (v1560 : IVec S16 32) (k0_hw621 : k0_chk621 i k0_t5 v140 v1560), ∀ (k0_h6 : ¬(k0_cond6 v140 = 1#1)), ∀ a x, ((![v1560] : Fin 1 → IVec S16 32) a x).toNat < S3136.size a := fun i k0_t5 v140 v1560 k0_hw621 k0_h6 => k0_hw621 k0_h6
def k0_off548 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1563 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c14_i32_483 : BitVec 32 := 14#32
  let v1562 : BitVec 32 := Scalar.addi v126 c14_i32_483
  let v1564 : Index := Scalar.indexCast v1562
  let c0_484 : Index := 0#32
  ![v1563.toNat, v1564.toNat, 0]
def k0_off549 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1567 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c14_i32_485 : BitVec 32 := 14#32
  let v1566 : BitVec 32 := Scalar.addi v126 c14_i32_485
  let v1568 : Index := Scalar.indexCast v1566
  let c16_486 : Index := 16#32
  ![v1567.toNat, v1568.toNat, 16]
def k0_off550 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1571 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c14_i32_487 : BitVec 32 := 14#32
  let v1570 : BitVec 32 := Scalar.addi v126 c14_i32_487
  let v1572 : Index := Scalar.indexCast v1570
  let c32_488 : Index := 32#32
  ![v1571.toNat, v1572.toNat, 32]
def k0_off551 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1575 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c14_i32_489 : BitVec 32 := 14#32
  let v1574 : BitVec 32 := Scalar.addi v126 c14_i32_489
  let v1576 : Index := Scalar.indexCast v1574
  let c48_490 : Index := 48#32
  ![v1575.toNat, v1576.toNat, 48]
def k0_off552 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1579 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c14_i32_491 : BitVec 32 := 14#32
  let v1578 : BitVec 32 := Scalar.addi v126 c14_i32_491
  let v1580 : Index := Scalar.indexCast v1578
  let c64_492 : Index := 64#32
  ![v1579.toNat, v1580.toNat, 64]
def k0_off553 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1583 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c14_i32_493 : BitVec 32 := 14#32
  let v1582 : BitVec 32 := Scalar.addi v126 c14_i32_493
  let v1584 : Index := Scalar.indexCast v1582
  let c80_494 : Index := 80#32
  ![v1583.toNat, v1584.toNat, 80]
def k0_off554 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1587 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c14_i32_495 : BitVec 32 := 14#32
  let v1586 : BitVec 32 := Scalar.addi v126 c14_i32_495
  let v1588 : Index := Scalar.indexCast v1586
  let c96_496 : Index := 96#32
  ![v1587.toNat, v1588.toNat, 96]
def k0_off555 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1591 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c14_i32_497 : BitVec 32 := 14#32
  let v1590 : BitVec 32 := Scalar.addi v126 c14_i32_497
  let v1592 : Index := Scalar.indexCast v1590
  let c112_498 : Index := 112#32
  ![v1591.toNat, v1592.toNat, 112]

def k0_chk622 (i : grid0.Coords) (k0_t5 : Fin (k0_t5_loop i).trips) (v140 : BitVec 32) (v1600 : IVec S16 32) (v1602 : IVec S16 32) : Prop :=
  (∀ (k0_h6 : ¬(k0_cond6 v140 = 1#1)), ∀ a x, ((![v1600, v1602] : Fin 2 → IVec S16 32) a x).toNat < S256x128.size a) ∧
  (∀ (k0_h6 : ¬(k0_cond6 v140 = 1#1)), ∀ a x, ((![v1600, v1602] : Fin 2 → IVec S16 32) a x).toNat < S256x128.size a)
theorem k0_idx1118_inb : ∀ (i : grid0.Coords) (k0_t5 : Fin (k0_t5_loop i).trips) (v140 : BitVec 32) (v1600 : IVec S16 32) (v1602 : IVec S16 32) (k0_hw622 : k0_chk622 i k0_t5 v140 v1600 v1602), ∀ (k0_h6 : ¬(k0_cond6 v140 = 1#1)), ∀ a x, ((![v1600, v1602] : Fin 2 → IVec S16 32) a x).toNat < S256x128.size a := fun i k0_t5 v140 v1600 v1602 k0_hw622 k0_h6 => k0_hw622.1 k0_h6
theorem k0_idx1119_inb : ∀ (i : grid0.Coords) (k0_t5 : Fin (k0_t5_loop i).trips) (v140 : BitVec 32) (v1600 : IVec S16 32) (v1602 : IVec S16 32) (k0_hw622 : k0_chk622 i k0_t5 v140 v1600 v1602), ∀ (k0_h6 : ¬(k0_cond6 v140 = 1#1)), ∀ a x, ((![v1600, v1602] : Fin 2 → IVec S16 32) a x).toNat < S256x128.size a := fun i k0_t5 v140 v1600 v1602 k0_hw622 k0_h6 => k0_hw622.2 k0_h6

def k0_chk623 (i : grid0.Coords) (k0_t5 : Fin (k0_t5_loop i).trips) (v140 : BitVec 32) (v1600 : IVec S16 32) (v1604 : IVec S16 32) : Prop :=
  (∀ (k0_h6 : ¬(k0_cond6 v140 = 1#1)), ∀ a x, ((![v1600, v1604] : Fin 2 → IVec S16 32) a x).toNat < S256x128.size a) ∧
  (∀ (k0_h6 : ¬(k0_cond6 v140 = 1#1)), ∀ a x, ((![v1600, v1604] : Fin 2 → IVec S16 32) a x).toNat < S256x128.size a)
theorem k0_idx1120_inb : ∀ (i : grid0.Coords) (k0_t5 : Fin (k0_t5_loop i).trips) (v140 : BitVec 32) (v1600 : IVec S16 32) (v1604 : IVec S16 32) (k0_hw623 : k0_chk623 i k0_t5 v140 v1600 v1604), ∀ (k0_h6 : ¬(k0_cond6 v140 = 1#1)), ∀ a x, ((![v1600, v1604] : Fin 2 → IVec S16 32) a x).toNat < S256x128.size a := fun i k0_t5 v140 v1600 v1604 k0_hw623 k0_h6 => k0_hw623.1 k0_h6
theorem k0_idx1121_inb : ∀ (i : grid0.Coords) (k0_t5 : Fin (k0_t5_loop i).trips) (v140 : BitVec 32) (v1600 : IVec S16 32) (v1604 : IVec S16 32) (k0_hw623 : k0_chk623 i k0_t5 v140 v1600 v1604), ∀ (k0_h6 : ¬(k0_cond6 v140 = 1#1)), ∀ a x, ((![v1600, v1604] : Fin 2 → IVec S16 32) a x).toNat < S256x128.size a := fun i k0_t5 v140 v1600 v1604 k0_hw623 k0_h6 => k0_hw623.2 k0_h6

def k0_chk624 (i : grid0.Coords) (k0_t5 : Fin (k0_t5_loop i).trips) (v140 : BitVec 32) (v1600 : IVec S16 32) (v1606 : IVec S16 32) : Prop :=
  (∀ (k0_h6 : ¬(k0_cond6 v140 = 1#1)), ∀ a x, ((![v1600, v1606] : Fin 2 → IVec S16 32) a x).toNat < S256x128.size a) ∧
  (∀ (k0_h6 : ¬(k0_cond6 v140 = 1#1)), ∀ a x, ((![v1600, v1606] : Fin 2 → IVec S16 32) a x).toNat < S256x128.size a)
theorem k0_idx1122_inb : ∀ (i : grid0.Coords) (k0_t5 : Fin (k0_t5_loop i).trips) (v140 : BitVec 32) (v1600 : IVec S16 32) (v1606 : IVec S16 32) (k0_hw624 : k0_chk624 i k0_t5 v140 v1600 v1606), ∀ (k0_h6 : ¬(k0_cond6 v140 = 1#1)), ∀ a x, ((![v1600, v1606] : Fin 2 → IVec S16 32) a x).toNat < S256x128.size a := fun i k0_t5 v140 v1600 v1606 k0_hw624 k0_h6 => k0_hw624.1 k0_h6
theorem k0_idx1123_inb : ∀ (i : grid0.Coords) (k0_t5 : Fin (k0_t5_loop i).trips) (v140 : BitVec 32) (v1600 : IVec S16 32) (v1606 : IVec S16 32) (k0_hw624 : k0_chk624 i k0_t5 v140 v1600 v1606), ∀ (k0_h6 : ¬(k0_cond6 v140 = 1#1)), ∀ a x, ((![v1600, v1606] : Fin 2 → IVec S16 32) a x).toNat < S256x128.size a := fun i k0_t5 v140 v1600 v1606 k0_hw624 k0_h6 => k0_hw624.2 k0_h6

def k0_chk625 (i : grid0.Coords) (k0_t5 : Fin (k0_t5_loop i).trips) (v140 : BitVec 32) (v1600 : IVec S16 32) (v1608 : IVec S16 32) : Prop :=
  (∀ (k0_h6 : ¬(k0_cond6 v140 = 1#1)), ∀ a x, ((![v1600, v1608] : Fin 2 → IVec S16 32) a x).toNat < S256x128.size a) ∧
  (∀ (k0_h6 : ¬(k0_cond6 v140 = 1#1)), ∀ a x, ((![v1600, v1608] : Fin 2 → IVec S16 32) a x).toNat < S256x128.size a)
theorem k0_idx1124_inb : ∀ (i : grid0.Coords) (k0_t5 : Fin (k0_t5_loop i).trips) (v140 : BitVec 32) (v1600 : IVec S16 32) (v1608 : IVec S16 32) (k0_hw625 : k0_chk625 i k0_t5 v140 v1600 v1608), ∀ (k0_h6 : ¬(k0_cond6 v140 = 1#1)), ∀ a x, ((![v1600, v1608] : Fin 2 → IVec S16 32) a x).toNat < S256x128.size a := fun i k0_t5 v140 v1600 v1608 k0_hw625 k0_h6 => k0_hw625.1 k0_h6
theorem k0_idx1125_inb : ∀ (i : grid0.Coords) (k0_t5 : Fin (k0_t5_loop i).trips) (v140 : BitVec 32) (v1600 : IVec S16 32) (v1608 : IVec S16 32) (k0_hw625 : k0_chk625 i k0_t5 v140 v1600 v1608), ∀ (k0_h6 : ¬(k0_cond6 v140 = 1#1)), ∀ a x, ((![v1600, v1608] : Fin 2 → IVec S16 32) a x).toNat < S256x128.size a := fun i k0_t5 v140 v1600 v1608 k0_hw625 k0_h6 => k0_hw625.2 k0_h6

def k0_chk626 (i : grid0.Coords) (k0_t5 : Fin (k0_t5_loop i).trips) (v140 : BitVec 32) (v1600 : IVec S16 32) (v1610 : IVec S16 32) : Prop :=
  (∀ (k0_h6 : ¬(k0_cond6 v140 = 1#1)), ∀ a x, ((![v1600, v1610] : Fin 2 → IVec S16 32) a x).toNat < S256x128.size a) ∧
  (∀ (k0_h6 : ¬(k0_cond6 v140 = 1#1)), ∀ a x, ((![v1600, v1610] : Fin 2 → IVec S16 32) a x).toNat < S256x128.size a)
theorem k0_idx1126_inb : ∀ (i : grid0.Coords) (k0_t5 : Fin (k0_t5_loop i).trips) (v140 : BitVec 32) (v1600 : IVec S16 32) (v1610 : IVec S16 32) (k0_hw626 : k0_chk626 i k0_t5 v140 v1600 v1610), ∀ (k0_h6 : ¬(k0_cond6 v140 = 1#1)), ∀ a x, ((![v1600, v1610] : Fin 2 → IVec S16 32) a x).toNat < S256x128.size a := fun i k0_t5 v140 v1600 v1610 k0_hw626 k0_h6 => k0_hw626.1 k0_h6
theorem k0_idx1127_inb : ∀ (i : grid0.Coords) (k0_t5 : Fin (k0_t5_loop i).trips) (v140 : BitVec 32) (v1600 : IVec S16 32) (v1610 : IVec S16 32) (k0_hw626 : k0_chk626 i k0_t5 v140 v1600 v1610), ∀ (k0_h6 : ¬(k0_cond6 v140 = 1#1)), ∀ a x, ((![v1600, v1610] : Fin 2 → IVec S16 32) a x).toNat < S256x128.size a := fun i k0_t5 v140 v1600 v1610 k0_hw626 k0_h6 => k0_hw626.2 k0_h6

def k0_chk627 (i : grid0.Coords) (k0_t5 : Fin (k0_t5_loop i).trips) (v140 : BitVec 32) (v1600 : IVec S16 32) (v1612 : IVec S16 32) : Prop :=
  (∀ (k0_h6 : ¬(k0_cond6 v140 = 1#1)), ∀ a x, ((![v1600, v1612] : Fin 2 → IVec S16 32) a x).toNat < S256x128.size a) ∧
  (∀ (k0_h6 : ¬(k0_cond6 v140 = 1#1)), ∀ a x, ((![v1600, v1612] : Fin 2 → IVec S16 32) a x).toNat < S256x128.size a)
theorem k0_idx1128_inb : ∀ (i : grid0.Coords) (k0_t5 : Fin (k0_t5_loop i).trips) (v140 : BitVec 32) (v1600 : IVec S16 32) (v1612 : IVec S16 32) (k0_hw627 : k0_chk627 i k0_t5 v140 v1600 v1612), ∀ (k0_h6 : ¬(k0_cond6 v140 = 1#1)), ∀ a x, ((![v1600, v1612] : Fin 2 → IVec S16 32) a x).toNat < S256x128.size a := fun i k0_t5 v140 v1600 v1612 k0_hw627 k0_h6 => k0_hw627.1 k0_h6
theorem k0_idx1129_inb : ∀ (i : grid0.Coords) (k0_t5 : Fin (k0_t5_loop i).trips) (v140 : BitVec 32) (v1600 : IVec S16 32) (v1612 : IVec S16 32) (k0_hw627 : k0_chk627 i k0_t5 v140 v1600 v1612), ∀ (k0_h6 : ¬(k0_cond6 v140 = 1#1)), ∀ a x, ((![v1600, v1612] : Fin 2 → IVec S16 32) a x).toNat < S256x128.size a := fun i k0_t5 v140 v1600 v1612 k0_hw627 k0_h6 => k0_hw627.2 k0_h6

def k0_chk628 (i : grid0.Coords) (k0_t5 : Fin (k0_t5_loop i).trips) (v140 : BitVec 32) (v1600 : IVec S16 32) (v1614 : IVec S16 32) : Prop :=
  (∀ (k0_h6 : ¬(k0_cond6 v140 = 1#1)), ∀ a x, ((![v1600, v1614] : Fin 2 → IVec S16 32) a x).toNat < S256x128.size a) ∧
  (∀ (k0_h6 : ¬(k0_cond6 v140 = 1#1)), ∀ a x, ((![v1600, v1614] : Fin 2 → IVec S16 32) a x).toNat < S256x128.size a)
theorem k0_idx1130_inb : ∀ (i : grid0.Coords) (k0_t5 : Fin (k0_t5_loop i).trips) (v140 : BitVec 32) (v1600 : IVec S16 32) (v1614 : IVec S16 32) (k0_hw628 : k0_chk628 i k0_t5 v140 v1600 v1614), ∀ (k0_h6 : ¬(k0_cond6 v140 = 1#1)), ∀ a x, ((![v1600, v1614] : Fin 2 → IVec S16 32) a x).toNat < S256x128.size a := fun i k0_t5 v140 v1600 v1614 k0_hw628 k0_h6 => k0_hw628.1 k0_h6
theorem k0_idx1131_inb : ∀ (i : grid0.Coords) (k0_t5 : Fin (k0_t5_loop i).trips) (v140 : BitVec 32) (v1600 : IVec S16 32) (v1614 : IVec S16 32) (k0_hw628 : k0_chk628 i k0_t5 v140 v1600 v1614), ∀ (k0_h6 : ¬(k0_cond6 v140 = 1#1)), ∀ a x, ((![v1600, v1614] : Fin 2 → IVec S16 32) a x).toNat < S256x128.size a := fun i k0_t5 v140 v1600 v1614 k0_hw628 k0_h6 => k0_hw628.2 k0_h6

def k0_chk629 (i : grid0.Coords) (k0_t5 : Fin (k0_t5_loop i).trips) (v140 : BitVec 32) (v1600 : IVec S16 32) (v1616 : IVec S16 32) : Prop :=
  (∀ (k0_h6 : ¬(k0_cond6 v140 = 1#1)), ∀ a x, ((![v1600, v1616] : Fin 2 → IVec S16 32) a x).toNat < S256x128.size a) ∧
  (∀ (k0_h6 : ¬(k0_cond6 v140 = 1#1)), ∀ a x, ((![v1600, v1616] : Fin 2 → IVec S16 32) a x).toNat < S256x128.size a)
theorem k0_idx1132_inb : ∀ (i : grid0.Coords) (k0_t5 : Fin (k0_t5_loop i).trips) (v140 : BitVec 32) (v1600 : IVec S16 32) (v1616 : IVec S16 32) (k0_hw629 : k0_chk629 i k0_t5 v140 v1600 v1616), ∀ (k0_h6 : ¬(k0_cond6 v140 = 1#1)), ∀ a x, ((![v1600, v1616] : Fin 2 → IVec S16 32) a x).toNat < S256x128.size a := fun i k0_t5 v140 v1600 v1616 k0_hw629 k0_h6 => k0_hw629.1 k0_h6
theorem k0_idx1133_inb : ∀ (i : grid0.Coords) (k0_t5 : Fin (k0_t5_loop i).trips) (v140 : BitVec 32) (v1600 : IVec S16 32) (v1616 : IVec S16 32) (k0_hw629 : k0_chk629 i k0_t5 v140 v1600 v1616), ∀ (k0_h6 : ¬(k0_cond6 v140 = 1#1)), ∀ a x, ((![v1600, v1616] : Fin 2 → IVec S16 32) a x).toNat < S256x128.size a := fun i k0_t5 v140 v1600 v1616 k0_hw629 k0_h6 => k0_hw629.2 k0_h6

def k0_chk630 (i : grid0.Coords) (v2 : IVec S16 32) (k0_t5 : Fin (k0_t5_loop i).trips) (v140 : BitVec 32) (v1600 : IVec S16 32) : Prop :=
  (∀ (k0_h6 : ¬(k0_cond6 v140 = 1#1)), ∀ a x, ((![v1600, v2] : Fin 2 → IVec S16 32) a x).toNat < S256x16.size a)
theorem k0_idx1134_inb : ∀ (i : grid0.Coords) (v2 : IVec S16 32) (k0_t5 : Fin (k0_t5_loop i).trips) (v140 : BitVec 32) (v1600 : IVec S16 32) (k0_hw630 : k0_chk630 i v2 k0_t5 v140 v1600), ∀ (k0_h6 : ¬(k0_cond6 v140 = 1#1)), ∀ a x, ((![v1600, v2] : Fin 2 → IVec S16 32) a x).toNat < S256x16.size a := fun i v2 k0_t5 v140 v1600 k0_hw630 k0_h6 => k0_hw630 k0_h6

def k0_chk631 (i : grid0.Coords) (k0_t5 : Fin (k0_t5_loop i).trips) (v140 : BitVec 32) (v1661 : IVec S16 32) : Prop :=
  (∀ (k0_h6 : ¬(k0_cond6 v140 = 1#1)), ∀ a x, ((![v1661] : Fin 1 → IVec S16 32) a x).toNat < S3136.size a)
theorem k0_idx1135_inb : ∀ (i : grid0.Coords) (k0_t5 : Fin (k0_t5_loop i).trips) (v140 : BitVec 32) (v1661 : IVec S16 32) (k0_hw631 : k0_chk631 i k0_t5 v140 v1661), ∀ (k0_h6 : ¬(k0_cond6 v140 = 1#1)), ∀ a x, ((![v1661] : Fin 1 → IVec S16 32) a x).toNat < S3136.size a := fun i k0_t5 v140 v1661 k0_hw631 k0_h6 => k0_hw631 k0_h6
def k0_off556 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1664 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c15_i32_513 : BitVec 32 := 15#32
  let v1663 : BitVec 32 := Scalar.addi v126 c15_i32_513
  let v1665 : Index := Scalar.indexCast v1663
  let c0_514 : Index := 0#32
  ![v1664.toNat, v1665.toNat, 0]
def k0_off557 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1668 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c15_i32_515 : BitVec 32 := 15#32
  let v1667 : BitVec 32 := Scalar.addi v126 c15_i32_515
  let v1669 : Index := Scalar.indexCast v1667
  let c16_516 : Index := 16#32
  ![v1668.toNat, v1669.toNat, 16]
def k0_off558 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1672 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c15_i32_517 : BitVec 32 := 15#32
  let v1671 : BitVec 32 := Scalar.addi v126 c15_i32_517
  let v1673 : Index := Scalar.indexCast v1671
  let c32_518 : Index := 32#32
  ![v1672.toNat, v1673.toNat, 32]
def k0_off559 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1676 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c15_i32_519 : BitVec 32 := 15#32
  let v1675 : BitVec 32 := Scalar.addi v126 c15_i32_519
  let v1677 : Index := Scalar.indexCast v1675
  let c48_520 : Index := 48#32
  ![v1676.toNat, v1677.toNat, 48]
def k0_off560 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1680 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c15_i32_521 : BitVec 32 := 15#32
  let v1679 : BitVec 32 := Scalar.addi v126 c15_i32_521
  let v1681 : Index := Scalar.indexCast v1679
  let c64_522 : Index := 64#32
  ![v1680.toNat, v1681.toNat, 64]
def k0_off561 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1684 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c15_i32_523 : BitVec 32 := 15#32
  let v1683 : BitVec 32 := Scalar.addi v126 c15_i32_523
  let v1685 : Index := Scalar.indexCast v1683
  let c80_524 : Index := 80#32
  ![v1684.toNat, v1685.toNat, 80]
def k0_off562 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1688 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c15_i32_525 : BitVec 32 := 15#32
  let v1687 : BitVec 32 := Scalar.addi v126 c15_i32_525
  let v1689 : Index := Scalar.indexCast v1687
  let c96_526 : Index := 96#32
  ![v1688.toNat, v1689.toNat, 96]
def k0_off563 (i : grid0.Coords) (k0_t5 : Fin (k0_t5_loop i).trips) (k0_t7 : Fin (k0_t7_loop i k0_t5).trips) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v5 : BitVec 32 := Scalar.muli v1 c3136_i32
  let c3136_i32_2 : BitVec 32 := 3136#32
  let v6 : BitVec 32 := Scalar.addi v5 c3136_i32_2
  let c100000_i32 : BitVec 32 := 100000#32
  let v7 : BitVec 32 := Scalar.minsi v6 c100000_i32
  let v8 : BitVec 32 := Scalar.subi v7 v5
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c16_i32 : BitVec 32 := 16#32
  let c0_i32_5 : BitVec 32 := 0#32
  let v15 : BitVec 1 := Scalar.cmpi .sgt c16_i32 c0_i32_5
  let v16 : BitVec 32 := Scalar.extui v15
  let c0_i32_6 : BitVec 32 := 0#32
  let v17 : BitVec 1 := Scalar.cmpi .slt c16_i32 c0_i32_6
  let v18 : BitVec 32 := Scalar.extui v17
  let v19 : BitVec 32 := Scalar.subi v16 v18
  let v20 : BitVec 1 := Scalar.cmpi .ne v14 v19
  let v21 : BitVec 32 := Scalar.remsi v8 c16_i32
  let c0_i32_7 : BitVec 32 := 0#32
  let v22 : BitVec 1 := Scalar.cmpi .ne v21 c0_i32_7
  let v23 : BitVec 1 := Scalar.andi v20 v22
  let v9 : BitVec 32 := Scalar.divsi v8 c16_i32
  let c1_i32_8 : BitVec 32 := 1#32
  let v24 : BitVec 32 := Scalar.subi v9 c1_i32_8
  let v25 : BitVec 32 := Scalar.select v23 v24 v9
  let c7_i32 : BitVec 32 := 7#32
  let v26 : BitVec 32 := Scalar.addi v25 c7_i32
  let c1_i32_9 : BitVec 32 := 1#32
  let v27 : BitVec 32 := Scalar.subi v26 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c7_i32_10 : BitVec 32 := 7#32
  let c0_i32_13 : BitVec 32 := 0#32
  let v34 : BitVec 1 := Scalar.cmpi .sgt c7_i32_10 c0_i32_13
  let v35 : BitVec 32 := Scalar.extui v34
  let c0_i32_14 : BitVec 32 := 0#32
  let v36 : BitVec 1 := Scalar.cmpi .slt c7_i32_10 c0_i32_14
  let v37 : BitVec 32 := Scalar.extui v36
  let v38 : BitVec 32 := Scalar.subi v35 v37
  let v39 : BitVec 1 := Scalar.cmpi .ne v33 v38
  let v40 : BitVec 32 := Scalar.remsi v27 c7_i32_10
  let c0_i32_15 : BitVec 32 := 0#32
  let v41 : BitVec 1 := Scalar.cmpi .ne v40 c0_i32_15
  let v42 : BitVec 1 := Scalar.andi v39 v41
  let v28 : BitVec 32 := Scalar.divsi v27 c7_i32_10
  let c1_i32_16 : BitVec 32 := 1#32
  let v43 : BitVec 32 := Scalar.subi v28 c1_i32_16
  let v44 : BitVec 32 := Scalar.select v42 v43 v28
  let v67 : BitVec 32 := Scalar.subi v44 c0_i32_34
  let c1_i32_36 : BitVec 32 := 1#32
  let v69 : BitVec 32 := Scalar.divsi v67 c1_i32_36
  let v70 : BitVec 32 := Scalar.muli v69 c1_i32_36
  let v71 : BitVec 32 := Scalar.addi c0_i32_34 v70
  let c1_i32_38 : BitVec 32 := 1#32
  let arg13 : BitVec 32 := Scf.iv v71 c1_i32_38 k0_t5
  let c2_i32_43 : BitVec 32 := 2#32
  let v95 : BitVec 32 := Scalar.remsi arg13 c2_i32_43
  let v1692 : Index := Scalar.indexCast v95
  let c112_i32_44 : BitVec 32 := 112#32
  let v96 : BitVec 32 := Scalar.muli arg13 c112_i32_44
  let v97 : BitVec 32 := Scalar.addi v5 v96
  let c99888_i32_45 : BitVec 32 := 99888#32
  let v98 : BitVec 32 := Scalar.minsi v97 c99888_i32_45
  let v99 : BitVec 32 := Scalar.subi v97 v98
  let c0_i32_58 : BitVec 32 := 0#32
  let c7_i32_57 : BitVec 32 := 7#32
  let c7_i32_56 : BitVec 32 := 7#32
  let v115 : BitVec 32 := Scalar.muli arg13 c7_i32_56
  let v116 : BitVec 32 := Scalar.subi v25 v115
  let v117 : BitVec 32 := Scalar.minsi c7_i32_57 v116
  let v118 : BitVec 32 := Scalar.subi v117 c0_i32_58
  let c1_i32_59 : BitVec 32 := 1#32
  let v120 : BitVec 32 := Scalar.divsi v118 c1_i32_59
  let v121 : BitVec 32 := Scalar.muli v120 c1_i32_59
  let v122 : BitVec 32 := Scalar.addi c0_i32_58 v121
  let c1_i32_61 : BitVec 32 := 1#32
  let arg32 : BitVec 32 := Scf.iv v122 c1_i32_61 k0_t7
  let c16_i32_62 : BitVec 32 := 16#32
  let v125 : BitVec 32 := Scalar.muli arg32 c16_i32_62
  let v126 : BitVec 32 := Scalar.addi v99 v125
  let c15_i32_527 : BitVec 32 := 15#32
  let v1691 : BitVec 32 := Scalar.addi v126 c15_i32_527
  let v1693 : Index := Scalar.indexCast v1691
  let c112_528 : Index := 112#32
  ![v1692.toNat, v1693.toNat, 112]

def k0_chk632 (i : grid0.Coords) (k0_t5 : Fin (k0_t5_loop i).trips) (v140 : BitVec 32) (v1701 : IVec S16 32) (v1703 : IVec S16 32) : Prop :=
  (∀ (k0_h6 : ¬(k0_cond6 v140 = 1#1)), ∀ a x, ((![v1701, v1703] : Fin 2 → IVec S16 32) a x).toNat < S256x128.size a) ∧
  (∀ (k0_h6 : ¬(k0_cond6 v140 = 1#1)), ∀ a x, ((![v1701, v1703] : Fin 2 → IVec S16 32) a x).toNat < S256x128.size a)
theorem k0_idx1136_inb : ∀ (i : grid0.Coords) (k0_t5 : Fin (k0_t5_loop i).trips) (v140 : BitVec 32) (v1701 : IVec S16 32) (v1703 : IVec S16 32) (k0_hw632 : k0_chk632 i k0_t5 v140 v1701 v1703), ∀ (k0_h6 : ¬(k0_cond6 v140 = 1#1)), ∀ a x, ((![v1701, v1703] : Fin 2 → IVec S16 32) a x).toNat < S256x128.size a := fun i k0_t5 v140 v1701 v1703 k0_hw632 k0_h6 => k0_hw632.1 k0_h6
theorem k0_idx1137_inb : ∀ (i : grid0.Coords) (k0_t5 : Fin (k0_t5_loop i).trips) (v140 : BitVec 32) (v1701 : IVec S16 32) (v1703 : IVec S16 32) (k0_hw632 : k0_chk632 i k0_t5 v140 v1701 v1703), ∀ (k0_h6 : ¬(k0_cond6 v140 = 1#1)), ∀ a x, ((![v1701, v1703] : Fin 2 → IVec S16 32) a x).toNat < S256x128.size a := fun i k0_t5 v140 v1701 v1703 k0_hw632 k0_h6 => k0_hw632.2 k0_h6

def k0_chk633 (i : grid0.Coords) (k0_t5 : Fin (k0_t5_loop i).trips) (v140 : BitVec 32) (v1701 : IVec S16 32) (v1705 : IVec S16 32) : Prop :=
  (∀ (k0_h6 : ¬(k0_cond6 v140 = 1#1)), ∀ a x, ((![v1701, v1705] : Fin 2 → IVec S16 32) a x).toNat < S256x128.size a) ∧
  (∀ (k0_h6 : ¬(k0_cond6 v140 = 1#1)), ∀ a x, ((![v1701, v1705] : Fin 2 → IVec S16 32) a x).toNat < S256x128.size a)
theorem k0_idx1138_inb : ∀ (i : grid0.Coords) (k0_t5 : Fin (k0_t5_loop i).trips) (v140 : BitVec 32) (v1701 : IVec S16 32) (v1705 : IVec S16 32) (k0_hw633 : k0_chk633 i k0_t5 v140 v1701 v1705), ∀ (k0_h6 : ¬(k0_cond6 v140 = 1#1)), ∀ a x, ((![v1701, v1705] : Fin 2 → IVec S16 32) a x).toNat < S256x128.size a := fun i k0_t5 v140 v1701 v1705 k0_hw633 k0_h6 => k0_hw633.1 k0_h6
theorem k0_idx1139_inb : ∀ (i : grid0.Coords) (k0_t5 : Fin (k0_t5_loop i).trips) (v140 : BitVec 32) (v1701 : IVec S16 32) (v1705 : IVec S16 32) (k0_hw633 : k0_chk633 i k0_t5 v140 v1701 v1705), ∀ (k0_h6 : ¬(k0_cond6 v140 = 1#1)), ∀ a x, ((![v1701, v1705] : Fin 2 → IVec S16 32) a x).toNat < S256x128.size a := fun i k0_t5 v140 v1701 v1705 k0_hw633 k0_h6 => k0_hw633.2 k0_h6

def k0_chk634 (i : grid0.Coords) (k0_t5 : Fin (k0_t5_loop i).trips) (v140 : BitVec 32) (v1701 : IVec S16 32) (v1707 : IVec S16 32) : Prop :=
  (∀ (k0_h6 : ¬(k0_cond6 v140 = 1#1)), ∀ a x, ((![v1701, v1707] : Fin 2 → IVec S16 32) a x).toNat < S256x128.size a) ∧
  (∀ (k0_h6 : ¬(k0_cond6 v140 = 1#1)), ∀ a x, ((![v1701, v1707] : Fin 2 → IVec S16 32) a x).toNat < S256x128.size a)
theorem k0_idx1140_inb : ∀ (i : grid0.Coords) (k0_t5 : Fin (k0_t5_loop i).trips) (v140 : BitVec 32) (v1701 : IVec S16 32) (v1707 : IVec S16 32) (k0_hw634 : k0_chk634 i k0_t5 v140 v1701 v1707), ∀ (k0_h6 : ¬(k0_cond6 v140 = 1#1)), ∀ a x, ((![v1701, v1707] : Fin 2 → IVec S16 32) a x).toNat < S256x128.size a := fun i k0_t5 v140 v1701 v1707 k0_hw634 k0_h6 => k0_hw634.1 k0_h6
theorem k0_idx1141_inb : ∀ (i : grid0.Coords) (k0_t5 : Fin (k0_t5_loop i).trips) (v140 : BitVec 32) (v1701 : IVec S16 32) (v1707 : IVec S16 32) (k0_hw634 : k0_chk634 i k0_t5 v140 v1701 v1707), ∀ (k0_h6 : ¬(k0_cond6 v140 = 1#1)), ∀ a x, ((![v1701, v1707] : Fin 2 → IVec S16 32) a x).toNat < S256x128.size a := fun i k0_t5 v140 v1701 v1707 k0_hw634 k0_h6 => k0_hw634.2 k0_h6

def k0_chk635 (i : grid0.Coords) (k0_t5 : Fin (k0_t5_loop i).trips) (v140 : BitVec 32) (v1701 : IVec S16 32) (v1709 : IVec S16 32) : Prop :=
  (∀ (k0_h6 : ¬(k0_cond6 v140 = 1#1)), ∀ a x, ((![v1701, v1709] : Fin 2 → IVec S16 32) a x).toNat < S256x128.size a) ∧
  (∀ (k0_h6 : ¬(k0_cond6 v140 = 1#1)), ∀ a x, ((![v1701, v1709] : Fin 2 → IVec S16 32) a x).toNat < S256x128.size a)
theorem k0_idx1142_inb : ∀ (i : grid0.Coords) (k0_t5 : Fin (k0_t5_loop i).trips) (v140 : BitVec 32) (v1701 : IVec S16 32) (v1709 : IVec S16 32) (k0_hw635 : k0_chk635 i k0_t5 v140 v1701 v1709), ∀ (k0_h6 : ¬(k0_cond6 v140 = 1#1)), ∀ a x, ((![v1701, v1709] : Fin 2 → IVec S16 32) a x).toNat < S256x128.size a := fun i k0_t5 v140 v1701 v1709 k0_hw635 k0_h6 => k0_hw635.1 k0_h6
theorem k0_idx1143_inb : ∀ (i : grid0.Coords) (k0_t5 : Fin (k0_t5_loop i).trips) (v140 : BitVec 32) (v1701 : IVec S16 32) (v1709 : IVec S16 32) (k0_hw635 : k0_chk635 i k0_t5 v140 v1701 v1709), ∀ (k0_h6 : ¬(k0_cond6 v140 = 1#1)), ∀ a x, ((![v1701, v1709] : Fin 2 → IVec S16 32) a x).toNat < S256x128.size a := fun i k0_t5 v140 v1701 v1709 k0_hw635 k0_h6 => k0_hw635.2 k0_h6

def k0_chk636 (i : grid0.Coords) (k0_t5 : Fin (k0_t5_loop i).trips) (v140 : BitVec 32) (v1701 : IVec S16 32) (v1711 : IVec S16 32) : Prop :=
  (∀ (k0_h6 : ¬(k0_cond6 v140 = 1#1)), ∀ a x, ((![v1701, v1711] : Fin 2 → IVec S16 32) a x).toNat < S256x128.size a) ∧
  (∀ (k0_h6 : ¬(k0_cond6 v140 = 1#1)), ∀ a x, ((![v1701, v1711] : Fin 2 → IVec S16 32) a x).toNat < S256x128.size a)
theorem k0_idx1144_inb : ∀ (i : grid0.Coords) (k0_t5 : Fin (k0_t5_loop i).trips) (v140 : BitVec 32) (v1701 : IVec S16 32) (v1711 : IVec S16 32) (k0_hw636 : k0_chk636 i k0_t5 v140 v1701 v1711), ∀ (k0_h6 : ¬(k0_cond6 v140 = 1#1)), ∀ a x, ((![v1701, v1711] : Fin 2 → IVec S16 32) a x).toNat < S256x128.size a := fun i k0_t5 v140 v1701 v1711 k0_hw636 k0_h6 => k0_hw636.1 k0_h6
theorem k0_idx1145_inb : ∀ (i : grid0.Coords) (k0_t5 : Fin (k0_t5_loop i).trips) (v140 : BitVec 32) (v1701 : IVec S16 32) (v1711 : IVec S16 32) (k0_hw636 : k0_chk636 i k0_t5 v140 v1701 v1711), ∀ (k0_h6 : ¬(k0_cond6 v140 = 1#1)), ∀ a x, ((![v1701, v1711] : Fin 2 → IVec S16 32) a x).toNat < S256x128.size a := fun i k0_t5 v140 v1701 v1711 k0_hw636 k0_h6 => k0_hw636.2 k0_h6

def k0_chk637 (i : grid0.Coords) (k0_t5 : Fin (k0_t5_loop i).trips) (v140 : BitVec 32) (v1701 : IVec S16 32) (v1713 : IVec S16 32) : Prop :=
  (∀ (k0_h6 : ¬(k0_cond6 v140 = 1#1)), ∀ a x, ((![v1701, v1713] : Fin 2 → IVec S16 32) a x).toNat < S256x128.size a) ∧
  (∀ (k0_h6 : ¬(k0_cond6 v140 = 1#1)), ∀ a x, ((![v1701, v1713] : Fin 2 → IVec S16 32) a x).toNat < S256x128.size a)
theorem k0_idx1146_inb : ∀ (i : grid0.Coords) (k0_t5 : Fin (k0_t5_loop i).trips) (v140 : BitVec 32) (v1701 : IVec S16 32) (v1713 : IVec S16 32) (k0_hw637 : k0_chk637 i k0_t5 v140 v1701 v1713), ∀ (k0_h6 : ¬(k0_cond6 v140 = 1#1)), ∀ a x, ((![v1701, v1713] : Fin 2 → IVec S16 32) a x).toNat < S256x128.size a := fun i k0_t5 v140 v1701 v1713 k0_hw637 k0_h6 => k0_hw637.1 k0_h6
theorem k0_idx1147_inb : ∀ (i : grid0.Coords) (k0_t5 : Fin (k0_t5_loop i).trips) (v140 : BitVec 32) (v1701 : IVec S16 32) (v1713 : IVec S16 32) (k0_hw637 : k0_chk637 i k0_t5 v140 v1701 v1713), ∀ (k0_h6 : ¬(k0_cond6 v140 = 1#1)), ∀ a x, ((![v1701, v1713] : Fin 2 → IVec S16 32) a x).toNat < S256x128.size a := fun i k0_t5 v140 v1701 v1713 k0_hw637 k0_h6 => k0_hw637.2 k0_h6

def k0_chk638 (i : grid0.Coords) (k0_t5 : Fin (k0_t5_loop i).trips) (v140 : BitVec 32) (v1701 : IVec S16 32) (v1715 : IVec S16 32) : Prop :=
  (∀ (k0_h6 : ¬(k0_cond6 v140 = 1#1)), ∀ a x, ((![v1701, v1715] : Fin 2 → IVec S16 32) a x).toNat < S256x128.size a) ∧
  (∀ (k0_h6 : ¬(k0_cond6 v140 = 1#1)), ∀ a x, ((![v1701, v1715] : Fin 2 → IVec S16 32) a x).toNat < S256x128.size a)
theorem k0_idx1148_inb : ∀ (i : grid0.Coords) (k0_t5 : Fin (k0_t5_loop i).trips) (v140 : BitVec 32) (v1701 : IVec S16 32) (v1715 : IVec S16 32) (k0_hw638 : k0_chk638 i k0_t5 v140 v1701 v1715), ∀ (k0_h6 : ¬(k0_cond6 v140 = 1#1)), ∀ a x, ((![v1701, v1715] : Fin 2 → IVec S16 32) a x).toNat < S256x128.size a := fun i k0_t5 v140 v1701 v1715 k0_hw638 k0_h6 => k0_hw638.1 k0_h6
theorem k0_idx1149_inb : ∀ (i : grid0.Coords) (k0_t5 : Fin (k0_t5_loop i).trips) (v140 : BitVec 32) (v1701 : IVec S16 32) (v1715 : IVec S16 32) (k0_hw638 : k0_chk638 i k0_t5 v140 v1701 v1715), ∀ (k0_h6 : ¬(k0_cond6 v140 = 1#1)), ∀ a x, ((![v1701, v1715] : Fin 2 → IVec S16 32) a x).toNat < S256x128.size a := fun i k0_t5 v140 v1701 v1715 k0_hw638 k0_h6 => k0_hw638.2 k0_h6

def k0_chk639 (i : grid0.Coords) (k0_t5 : Fin (k0_t5_loop i).trips) (v140 : BitVec 32) (v1701 : IVec S16 32) (v1717 : IVec S16 32) : Prop :=
  (∀ (k0_h6 : ¬(k0_cond6 v140 = 1#1)), ∀ a x, ((![v1701, v1717] : Fin 2 → IVec S16 32) a x).toNat < S256x128.size a) ∧
  (∀ (k0_h6 : ¬(k0_cond6 v140 = 1#1)), ∀ a x, ((![v1701, v1717] : Fin 2 → IVec S16 32) a x).toNat < S256x128.size a)
theorem k0_idx1150_inb : ∀ (i : grid0.Coords) (k0_t5 : Fin (k0_t5_loop i).trips) (v140 : BitVec 32) (v1701 : IVec S16 32) (v1717 : IVec S16 32) (k0_hw639 : k0_chk639 i k0_t5 v140 v1701 v1717), ∀ (k0_h6 : ¬(k0_cond6 v140 = 1#1)), ∀ a x, ((![v1701, v1717] : Fin 2 → IVec S16 32) a x).toNat < S256x128.size a := fun i k0_t5 v140 v1701 v1717 k0_hw639 k0_h6 => k0_hw639.1 k0_h6
theorem k0_idx1151_inb : ∀ (i : grid0.Coords) (k0_t5 : Fin (k0_t5_loop i).trips) (v140 : BitVec 32) (v1701 : IVec S16 32) (v1717 : IVec S16 32) (k0_hw639 : k0_chk639 i k0_t5 v140 v1701 v1717), ∀ (k0_h6 : ¬(k0_cond6 v140 = 1#1)), ∀ a x, ((![v1701, v1717] : Fin 2 → IVec S16 32) a x).toNat < S256x128.size a := fun i k0_t5 v140 v1701 v1717 k0_hw639 k0_h6 => k0_hw639.2 k0_h6

def k0_chk640 (i : grid0.Coords) (v2 : IVec S16 32) (k0_t5 : Fin (k0_t5_loop i).trips) (v140 : BitVec 32) (v1701 : IVec S16 32) : Prop :=
  (∀ (k0_h6 : ¬(k0_cond6 v140 = 1#1)), ∀ a x, ((![v1701, v2] : Fin 2 → IVec S16 32) a x).toNat < S256x16.size a)
theorem k0_idx1152_inb : ∀ (i : grid0.Coords) (v2 : IVec S16 32) (k0_t5 : Fin (k0_t5_loop i).trips) (v140 : BitVec 32) (v1701 : IVec S16 32) (k0_hw640 : k0_chk640 i v2 k0_t5 v140 v1701), ∀ (k0_h6 : ¬(k0_cond6 v140 = 1#1)), ∀ a x, ((![v1701, v2] : Fin 2 → IVec S16 32) a x).toNat < S256x16.size a := fun i v2 k0_t5 v140 v1701 k0_hw640 k0_h6 => k0_hw640 k0_h6

def k0_chk641 (v77 : IVec S16 32) (v79 : IVec S16 32) : Prop :=
  (∀ a x, ((![v77, v79] : Fin 2 → IVec S16 32) a x).toNat < S256x128.size a) ∧
  (∀ a x, ((![v77, v79] : Fin 2 → IVec S16 32) a x).toNat < S256x128.size a)
theorem k0_idx1153_inb : ∀ (v77 : IVec S16 32) (v79 : IVec S16 32) (k0_hw641 : k0_chk641 v77 v79), ∀ a x, ((![v77, v79] : Fin 2 → IVec S16 32) a x).toNat < S256x128.size a := fun v77 v79 k0_hw641 => k0_hw641.1
theorem k0_idx1154_inb : ∀ (v77 : IVec S16 32) (v79 : IVec S16 32) (k0_hw641 : k0_chk641 v77 v79), ∀ a x, ((![v77, v79] : Fin 2 → IVec S16 32) a x).toNat < S256x128.size a := fun v77 v79 k0_hw641 => k0_hw641.2

def k0_chk642 (v77 : IVec S16 32) (v81 : IVec S16 32) : Prop :=
  (∀ a x, ((![v77, v81] : Fin 2 → IVec S16 32) a x).toNat < S256x128.size a) ∧
  (∀ a x, ((![v77, v81] : Fin 2 → IVec S16 32) a x).toNat < S256x128.size a)
theorem k0_idx1155_inb : ∀ (v77 : IVec S16 32) (v81 : IVec S16 32) (k0_hw642 : k0_chk642 v77 v81), ∀ a x, ((![v77, v81] : Fin 2 → IVec S16 32) a x).toNat < S256x128.size a := fun v77 v81 k0_hw642 => k0_hw642.1
theorem k0_idx1156_inb : ∀ (v77 : IVec S16 32) (v81 : IVec S16 32) (k0_hw642 : k0_chk642 v77 v81), ∀ a x, ((![v77, v81] : Fin 2 → IVec S16 32) a x).toNat < S256x128.size a := fun v77 v81 k0_hw642 => k0_hw642.2

def k0_chk643 (v77 : IVec S16 32) (v83 : IVec S16 32) : Prop :=
  (∀ a x, ((![v77, v83] : Fin 2 → IVec S16 32) a x).toNat < S256x128.size a) ∧
  (∀ a x, ((![v77, v83] : Fin 2 → IVec S16 32) a x).toNat < S256x128.size a)
theorem k0_idx1157_inb : ∀ (v77 : IVec S16 32) (v83 : IVec S16 32) (k0_hw643 : k0_chk643 v77 v83), ∀ a x, ((![v77, v83] : Fin 2 → IVec S16 32) a x).toNat < S256x128.size a := fun v77 v83 k0_hw643 => k0_hw643.1
theorem k0_idx1158_inb : ∀ (v77 : IVec S16 32) (v83 : IVec S16 32) (k0_hw643 : k0_chk643 v77 v83), ∀ a x, ((![v77, v83] : Fin 2 → IVec S16 32) a x).toNat < S256x128.size a := fun v77 v83 k0_hw643 => k0_hw643.2

def k0_chk644 (v77 : IVec S16 32) (v85 : IVec S16 32) : Prop :=
  (∀ a x, ((![v77, v85] : Fin 2 → IVec S16 32) a x).toNat < S256x128.size a) ∧
  (∀ a x, ((![v77, v85] : Fin 2 → IVec S16 32) a x).toNat < S256x128.size a)
theorem k0_idx1159_inb : ∀ (v77 : IVec S16 32) (v85 : IVec S16 32) (k0_hw644 : k0_chk644 v77 v85), ∀ a x, ((![v77, v85] : Fin 2 → IVec S16 32) a x).toNat < S256x128.size a := fun v77 v85 k0_hw644 => k0_hw644.1
theorem k0_idx1160_inb : ∀ (v77 : IVec S16 32) (v85 : IVec S16 32) (k0_hw644 : k0_chk644 v77 v85), ∀ a x, ((![v77, v85] : Fin 2 → IVec S16 32) a x).toNat < S256x128.size a := fun v77 v85 k0_hw644 => k0_hw644.2

def k0_chk645 (v77 : IVec S16 32) (v87 : IVec S16 32) : Prop :=
  (∀ a x, ((![v77, v87] : Fin 2 → IVec S16 32) a x).toNat < S256x128.size a) ∧
  (∀ a x, ((![v77, v87] : Fin 2 → IVec S16 32) a x).toNat < S256x128.size a)
theorem k0_idx1161_inb : ∀ (v77 : IVec S16 32) (v87 : IVec S16 32) (k0_hw645 : k0_chk645 v77 v87), ∀ a x, ((![v77, v87] : Fin 2 → IVec S16 32) a x).toNat < S256x128.size a := fun v77 v87 k0_hw645 => k0_hw645.1
theorem k0_idx1162_inb : ∀ (v77 : IVec S16 32) (v87 : IVec S16 32) (k0_hw645 : k0_chk645 v77 v87), ∀ a x, ((![v77, v87] : Fin 2 → IVec S16 32) a x).toNat < S256x128.size a := fun v77 v87 k0_hw645 => k0_hw645.2

def k0_chk646 (v77 : IVec S16 32) (v89 : IVec S16 32) : Prop :=
  (∀ a x, ((![v77, v89] : Fin 2 → IVec S16 32) a x).toNat < S256x128.size a) ∧
  (∀ a x, ((![v77, v89] : Fin 2 → IVec S16 32) a x).toNat < S256x128.size a)
theorem k0_idx1163_inb : ∀ (v77 : IVec S16 32) (v89 : IVec S16 32) (k0_hw646 : k0_chk646 v77 v89), ∀ a x, ((![v77, v89] : Fin 2 → IVec S16 32) a x).toNat < S256x128.size a := fun v77 v89 k0_hw646 => k0_hw646.1
theorem k0_idx1164_inb : ∀ (v77 : IVec S16 32) (v89 : IVec S16 32) (k0_hw646 : k0_chk646 v77 v89), ∀ a x, ((![v77, v89] : Fin 2 → IVec S16 32) a x).toNat < S256x128.size a := fun v77 v89 k0_hw646 => k0_hw646.2

def k0_chk647 (v77 : IVec S16 32) (v91 : IVec S16 32) : Prop :=
  (∀ a x, ((![v77, v91] : Fin 2 → IVec S16 32) a x).toNat < S256x128.size a) ∧
  (∀ a x, ((![v77, v91] : Fin 2 → IVec S16 32) a x).toNat < S256x128.size a)
theorem k0_idx1165_inb : ∀ (v77 : IVec S16 32) (v91 : IVec S16 32) (k0_hw647 : k0_chk647 v77 v91), ∀ a x, ((![v77, v91] : Fin 2 → IVec S16 32) a x).toNat < S256x128.size a := fun v77 v91 k0_hw647 => k0_hw647.1
theorem k0_idx1166_inb : ∀ (v77 : IVec S16 32) (v91 : IVec S16 32) (k0_hw647 : k0_chk647 v77 v91), ∀ a x, ((![v77, v91] : Fin 2 → IVec S16 32) a x).toNat < S256x128.size a := fun v77 v91 k0_hw647 => k0_hw647.2

def k0_chk648 (v77 : IVec S16 32) (v93 : IVec S16 32) : Prop :=
  (∀ a x, ((![v77, v93] : Fin 2 → IVec S16 32) a x).toNat < S256x128.size a) ∧
  (∀ a x, ((![v77, v93] : Fin 2 → IVec S16 32) a x).toNat < S256x128.size a)
theorem k0_idx1167_inb : ∀ (v77 : IVec S16 32) (v93 : IVec S16 32) (k0_hw648 : k0_chk648 v77 v93), ∀ a x, ((![v77, v93] : Fin 2 → IVec S16 32) a x).toNat < S256x128.size a := fun v77 v93 k0_hw648 => k0_hw648.1
theorem k0_idx1168_inb : ∀ (v77 : IVec S16 32) (v93 : IVec S16 32) (k0_hw648 : k0_chk648 v77 v93), ∀ a x, ((![v77, v93] : Fin 2 → IVec S16 32) a x).toNat < S256x128.size a := fun v77 v93 k0_hw648 => k0_hw648.2

def k0_chk649 (v2 : IVec S16 32) (v77 : IVec S16 32) : Prop :=
  (∀ a x, ((![v77, v2] : Fin 2 → IVec S16 32) a x).toNat < S256x16.size a)
theorem k0_idx1169_inb : ∀ (v2 : IVec S16 32) (v77 : IVec S16 32) (k0_hw649 : k0_chk649 v2 v77), ∀ a x, ((![v77, v2] : Fin 2 → IVec S16 32) a x).toNat < S256x16.size a := fun v2 v77 k0_hw649 => k0_hw649
def k0_off564 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_43_r1 : BitVec 32 := 0#32
  let c0_i32_44_r1 : BitVec 32 := 0#32
  ![v1.toNat, 0, 0]
def k0_off565 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_43_r3 : BitVec 32 := 0#32
  let c0_i32_44_r3 : BitVec 32 := 0#32
  ![v1.toNat, 0, 0]
abbrev grid1 : Pipeline.Grid := .none

abbrev stage1_0 : Fin 1 → Memref sig .tc .vmem S32x256x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S32x256x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S128x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev stage1_13 : Fin 1 → Memref sig .tc .vmem S128x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))

abbrev stage1_14 : Fin 1 → Memref sig .tc .vmem S1x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))

abbrev stage1_15 : Fin 1 → Memref sig .tc .vmem S128x128 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))

abbrev stage1_16 : Fin 1 → Memref sig .tc .vmem S1x128 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))

abbrev stage1_17 : Fin 1 → Memref sig .tc .vmem S1x128 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))

abbrev stage1_18 : Fin 1 → Memref sig .tc .vmem S1x128 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))

abbrev stage1_19 : Fin 1 → Memref sig .tc .vmem S256x128 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x128 : Shape := ⟨2, ![100000, 128]⟩
abbrev S100000 : Shape := ⟨1, ![100000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩
abbrev S256x128 : Shape := ⟨2, ![256, 128]⟩
abbrev S100000x1 : Shape := ⟨2, ![100000, 1]⟩
abbrev S256 : Shape := ⟨1, ![256]⟩
abbrev S256x1 : Shape := ⟨2, ![256, 1]⟩
abbrev S1x100000x1 : Shape := ⟨3, ![1, 100000, 1]⟩
abbrev S256x1x1 : Shape := ⟨3, ![256, 1, 1]⟩
abbrev S256x100000x1 : Shape := ⟨3, ![256, 100000, 1]⟩
abbrev S1x100000x128 : Shape := ⟨3, ![1, 100000, 128]⟩
abbrev S256x100000x128 : Shape := ⟨3, ![256, 100000, 128]⟩
abbrev S128x1 : Shape := ⟨2, ![128, 1]⟩
abbrev S1x1 : Shape := ⟨2, ![1, 1]⟩
abbrev S256x3 : Shape := ⟨2, ![256, 3]⟩

abbrev nBuf : Space → Nat
  | .hbm => 179
  | .vmem => 0
  | .smem => 0
  | _ => 0

abbrev hbmTy0_0 (i : Nat) : BufTy := match i % 128 with
  | 0 => ⟨S100000x128, .f32⟩
  | 1 => ⟨S100000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S1x128, .f32⟩
  | 9 => ⟨S1, .f32⟩
  | 10 => ⟨S1x128, .f32⟩
  | 11 => ⟨S1, .f32⟩
  | 12 => ⟨S1x128, .f32⟩
  | 13 => ⟨S1, .f32⟩
  | 14 => ⟨S128x128, .f32⟩
  | 15 => ⟨S128, .f32⟩
  | 16 => ⟨S128, .f32⟩
  | 17 => ⟨S128, .f32⟩
  | 18 => ⟨S_, .f32⟩
  | 19 => ⟨S256x128, .f32⟩
  | 20 => ⟨S100000x1, .i32⟩
  | 21 => ⟨S256x128, .f32⟩
  | 22 => ⟨S_, .f32⟩
  | 23 => ⟨S100000, .f32⟩
  | 24 => ⟨S_, .f32⟩
  | 25 => ⟨S256, .f32⟩
  | 26 => ⟨S100000x1, .i32⟩
  | 27 => ⟨S256, .f32⟩
  | 28 => ⟨S_, .f32⟩
  | 29 => ⟨S_, .f32⟩
  | 30 => ⟨S256, .f32⟩
  | 31 => ⟨S256, .f32⟩
  | 32 => ⟨S256x1, .f32⟩
  | 33 => ⟨S256x128, .f32⟩
  | 34 => ⟨S256x128, .f32⟩
  | 35 => ⟨S1x100000x1, .i32⟩
  | 36 => ⟨S256, .i32⟩
  | 37 => ⟨S256x1x1, .i32⟩
  | 38 => ⟨S256x100000x1, .i32⟩
  | 39 => ⟨S256x100000x1, .i32⟩
  | 40 => ⟨S256x100000x1, .i1⟩
  | 41 => ⟨S1x100000x128, .f32⟩
  | 42 => ⟨S_, .f32⟩
  | 43 => ⟨S_, .f32⟩
  | 44 => ⟨S256x100000x128, .i1⟩
  | 45 => ⟨S256x100000x128, .f32⟩
  | 46 => ⟨S256x100000x128, .f32⟩
  | 47 => ⟨S256x100000x128, .f32⟩
  | 48 => ⟨S_, .f32⟩
  | 49 => ⟨S256x128, .f32⟩
  | 50 => ⟨S128x128, .f32⟩
  | 51 => ⟨S256x128, .f32⟩
  | 52 => ⟨S1x128, .f32⟩
  | 53 => ⟨S256x128, .f32⟩
  | 54 => ⟨S256x128, .f32⟩
  | 55 => ⟨S128x128, .f32⟩
  | 56 => ⟨S256x128, .f32⟩
  | 57 => ⟨S1x128, .f32⟩
  | 58 => ⟨S256x128, .f32⟩
  | 59 => ⟨S256x128, .f32⟩
  | 60 => ⟨S128x128, .f32⟩
  | 61 => ⟨S256x128, .f32⟩
  | 62 => ⟨S1x128, .f32⟩
  | 63 => ⟨S256x128, .f32⟩
  | 64 => ⟨S256x128, .f32⟩
  | 65 => ⟨S128x1, .f32⟩
  | 66 => ⟨S256x1, .f32⟩
  | 67 => ⟨S1x1, .f32⟩
  | 68 => ⟨S256x1, .f32⟩
  | 69 => ⟨S256x1, .f32⟩
  | 70 => ⟨S256x1, .f32⟩
  | 71 => ⟨S256x1, .f32⟩
  | 72 => ⟨S_, .f32⟩
  | 73 => ⟨S256x1, .f32⟩
  | 74 => ⟨S256x1, .f32⟩
  | 75 => ⟨S_, .f32⟩
  | 76 => ⟨S256x1, .f32⟩
  | 77 => ⟨S256x1, .f32⟩
  | 78 => ⟨S128x1, .f32⟩
  | 79 => ⟨S256x1, .f32⟩
  | 80 => ⟨S1x1, .f32⟩
  | 81 => ⟨S256x1, .f32⟩
  | 82 => ⟨S256x1, .f32⟩
  | 83 => ⟨S256x1, .f32⟩
  | 84 => ⟨S256x1, .f32⟩
  | 85 => ⟨S_, .f32⟩
  | 86 => ⟨S256x1, .f32⟩
  | 87 => ⟨S256x1, .f32⟩
  | 88 => ⟨S_, .f32⟩
  | 89 => ⟨S256x1, .f32⟩
  | 90 => ⟨S256x1, .f32⟩
  | 91 => ⟨S128x1, .f32⟩
  | 92 => ⟨S256x1, .f32⟩
  | 93 => ⟨S1x1, .f32⟩
  | 94 => ⟨S256x1, .f32⟩
  | 95 => ⟨S256x1, .f32⟩
  | 96 => ⟨S256x1, .f32⟩
  | 97 => ⟨S256x1, .f32⟩
  | 98 => ⟨S_, .f32⟩
  | 99 => ⟨S256x1, .f32⟩
  | 100 => ⟨S256x1, .f32⟩
  | 101 => ⟨S_, .f32⟩
  | 102 => ⟨S256x1, .f32⟩
  | 103 => ⟨S256x1, .f32⟩
  | 104 => ⟨S256x3, .f32⟩
  | 105 => ⟨S_, .f32⟩
  | 106 => ⟨S256, .f32⟩
  | 107 => ⟨S_, .f32⟩
  | 108 => ⟨S256, .f32⟩
  | 109 => ⟨S256, .f32⟩
  | 110 => ⟨S256x1, .f32⟩
  | 111 => ⟨S256x3, .f32⟩
  | 112 => ⟨S256x3, .f32⟩
  | 113 => ⟨S256x3, .f32⟩
  | 114 => ⟨S_, .f32⟩
  | 115 => ⟨S256, .f32⟩
  | 116 => ⟨S256x1, .f32⟩
  | 117 => ⟨S256x3, .f32⟩
  | 118 => ⟨S256x3, .f32⟩
  | 119 => ⟨S256x1, .f32⟩
  | 120 => ⟨S256x128, .f32⟩
  | 121 => ⟨S256x128, .f32⟩
  | 122 => ⟨S256x1, .f32⟩
  | 123 => ⟨S256x128, .f32⟩
  | 124 => ⟨S256x128, .f32⟩
  | 125 => ⟨S256x128, .f32⟩
  | 126 => ⟨S256x1, .f32⟩
  | 127 => ⟨S256x128, .f32⟩
  | _ => ⟨S100000x128, .f32⟩

abbrev hbmTy0_1 (i : Nat) : BufTy := match i % 128 with
  | 0 => ⟨S256x128, .f32⟩
  | 1 => ⟨S256x128, .f32⟩
  | 2 => ⟨S128x128, .f32⟩
  | 3 => ⟨S256x128, .f32⟩
  | 4 => ⟨S1x128, .f32⟩
  | 5 => ⟨S256x128, .f32⟩
  | 6 => ⟨S256x128, .f32⟩
  | 7 => ⟨S_, .f32⟩
  | 8 => ⟨S256, .f32⟩
  | 9 => ⟨S256x1, .f32⟩
  | 10 => ⟨S_, .f32⟩
  | 11 => ⟨S256x1, .f32⟩
  | 12 => ⟨S256x1, .f32⟩
  | 13 => ⟨S_, .i32⟩
  | 14 => ⟨S_, .f32⟩
  | 15 => ⟨S256, .f32⟩
  | 16 => ⟨S256x1, .f32⟩
  | 17 => ⟨S_, .f32⟩
  | 18 => ⟨S256x1, .f32⟩
  | 19 => ⟨S256x1, .f32⟩
  | 20 => ⟨S256x128, .f32⟩
  | 21 => ⟨S256x128, .f32⟩
  | 22 => ⟨S256x128, .f32⟩
  | 23 => ⟨S_, .f32⟩
  | 24 => ⟨S_, .f32⟩
  | 25 => ⟨S_, .f32⟩
  | 26 => ⟨S_, .f32⟩
  | 27 => ⟨S256, .f32⟩
  | 28 => ⟨S256x1, .f32⟩
  | 29 => ⟨S256x1, .f32⟩
  | 30 => ⟨S256x1, .f32⟩
  | 31 => ⟨S_, .f32⟩
  | 32 => ⟨S_, .i1⟩
  | 33 => ⟨S_, .f32⟩
  | 34 => ⟨S_, .f32⟩
  | 35 => ⟨S256x1, .f32⟩
  | 36 => ⟨S256x1, .f32⟩
  | 37 => ⟨S256x128, .f32⟩
  | 38 => ⟨S256x128, .f32⟩
  | 39 => ⟨S_, .f32⟩
  | 40 => ⟨S256x1, .f32⟩
  | 41 => ⟨S256x1, .f32⟩
  | 42 => ⟨S256x1, .f32⟩
  | 43 => ⟨S256x128, .f32⟩
  | 44 => ⟨S256x128, .f32⟩
  | 45 => ⟨S1x128, .f32⟩
  | 46 => ⟨S256x128, .f32⟩
  | 47 => ⟨S256x128, .f32⟩
  | 48 => ⟨S1x128, .f32⟩
  | 49 => ⟨S256x128, .f32⟩
  | 50 => ⟨S256x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_cst_0 : Ref sig .tc := ⟨.hbm, 22, rfl⟩
abbrev main_v3 : Ref sig .tc := ⟨.hbm, 23, rfl⟩
abbrev main_cst_1 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_v18 : Ref sig .tc := ⟨.hbm, 47, rfl⟩
abbrev main_cst_4 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_5 : Ref sig .tc := ⟨.hbm, 72, rfl⟩
abbrev main_v42 : Ref sig .tc := ⟨.hbm, 73, rfl⟩
abbrev main_v43 : Ref sig .tc := ⟨.hbm, 74, rfl⟩
abbrev main_cst_6 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_7 : Ref sig .tc := ⟨.hbm, 85, rfl⟩
abbrev main_v53 : Ref sig .tc := ⟨.hbm, 86, rfl⟩
abbrev main_v54 : Ref sig .tc := ⟨.hbm, 87, rfl⟩
abbrev main_cst_8 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_9 : Ref sig .tc := ⟨.hbm, 98, rfl⟩
abbrev main_v64 : Ref sig .tc := ⟨.hbm, 99, rfl⟩
abbrev main_v65 : Ref sig .tc := ⟨.hbm, 100, rfl⟩
abbrev main_cst_10 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_11 : Ref sig .tc := ⟨.hbm, 105, rfl⟩
abbrev main_v69 : Ref sig .tc := ⟨.hbm, 106, rfl⟩
abbrev main_cst_12 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_13 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_14 : Ref sig .tc := ⟨.hbm, 135, rfl⟩
abbrev main_v96 : Ref sig .tc := ⟨.hbm, 136, rfl⟩
abbrev main_v97 : Ref sig .tc := ⟨.hbm, 137, rfl⟩
abbrev main_cst_15 : Ref sig .tc := ⟨.hbm, 138, rfl⟩
abbrev main_v98 : Ref sig .tc := ⟨.hbm, 139, rfl⟩
abbrev main_v99 : Ref sig .tc := ⟨.hbm, 140, rfl⟩
abbrev main_c : Ref sig .tc := ⟨.hbm, 141, rfl⟩
abbrev main_call2_cst : Ref sig .tc := ⟨.hbm, 142, rfl⟩
abbrev main_call2_v0 : Ref sig .tc := ⟨.hbm, 143, rfl⟩
abbrev main_call2_v1 : Ref sig .tc := ⟨.hbm, 144, rfl⟩
abbrev main_call2_cst_0 : Ref sig .tc := ⟨.hbm, 145, rfl⟩
abbrev main_call2_v2 : Ref sig .tc := ⟨.hbm, 146, rfl⟩
abbrev main_call2_v3 : Ref sig .tc := ⟨.hbm, 147, rfl⟩
abbrev main_call2_v4 : Ref sig .tc := ⟨.hbm, 148, rfl⟩
abbrev main_call2_v5 : Ref sig .tc := ⟨.hbm, 149, rfl⟩
abbrev main_call2_v6 : Ref sig .tc := ⟨.hbm, 150, rfl⟩
abbrev main_call2_v7 : Ref sig .tc := ⟨.hbm, 151, rfl⟩
abbrev main_call2_cst_1 : Ref sig .tc := ⟨.hbm, 152, rfl⟩
abbrev main_call2_v8 : Ref sig .tc := ⟨.hbm, 153, rfl⟩
abbrev main_call2_cst_2 : Ref sig .tc := ⟨.hbm, 154, rfl⟩
abbrev main_call2_v9 : Ref sig .tc := ⟨.hbm, 155, rfl⟩
abbrev main_call2_v10 : Ref sig .tc := ⟨.hbm, 156, rfl⟩
abbrev main_call2_v11 : Ref sig .tc := ⟨.hbm, 157, rfl⟩
abbrev main_call2_v12 : Ref sig .tc := ⟨.hbm, 158, rfl⟩
abbrev main_call2_cst_3 : Ref sig .tc := ⟨.hbm, 159, rfl⟩
abbrev main_call2_v13 : Ref sig .tc := ⟨.hbm, 160, rfl⟩
abbrev main_call2_cst_4 : Ref sig .tc := ⟨.hbm, 161, rfl⟩
abbrev main_call2_call0_v0 : Ref sig .tc := ⟨.hbm, 162, rfl⟩
abbrev main_call2_call0_v1 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_cst_16 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩

abbrev nD : Nat := 1
abbrev τ : Topo := Topo.v7x

variable {F : FTy → Type} [FloatOps F]
-- ==== Proof.Facts.lean ====
/-
  Every side condition the program `KernelIdeal` states. The rows a block reads are bounded by two small tables (what a
  block skips and how many chunks it has), then by arithmetic; the remainder loops of the counted loops have no trip.
-/
module

public import proofs.«01_k».proof.KernelIdeal
public import Idealize.ShloMosaic.Lib.Decide

@[expose] public section

set_option synthInstance.maxSize 4096
set_option maxRecDepth 100000

open Idealize Idealize.ShloMosaic

namespace Cert.KernelIdeal

/-- The rows a block skips, as the kernel computes them. -/
def skipW (i : grid0.Coords) (t : Fin (k0_t2_loop i).trips) : BitVec 32 :=
  let w := Scalar.addi (Scalar.muli (Scalar.addi (Scalar.muli (BitVec.ofNat 32 (i 1).val) 2#32) (BitVec.ofNat 32 (i 0).val)) 3136#32) (Scalar.muli (Scf.iv 0#32 1#32 t) 112#32)
  Scalar.subi w (Scalar.minsi w 99888#32)

/-- The first id a tile uses, as the kernel computes it. -/
def idW (i : grid0.Coords) : BitVec 32 :=
  let r := Scalar.muli (Scalar.addi (Scalar.muli (BitVec.ofNat 32 (i 1).val) 2#32) (BitVec.ofNat 32 (i 0).val)) 3136#32
  Scalar.subi r (Scalar.minsi r 96864#32)

theorem skip_le : ∀ (i : grid0.Coords) (t : Fin (k0_t2_loop i).trips),
    ((skipW i t).toNat + 16 * (k0_t3_loop i t).trips ≤ 112 ∧ (Scalar.remsi (Scf.iv 0#32 1#32 t : BitVec 32) 2#32).toNat = t.val % 2)
      ∧ (idW i).toNat + 16 * (7 * t.val + (k0_t3_loop i t).trips) ≤ 3136 := by decide +kernel
theorem t4_none : ∀ (i : grid0.Coords) (t : Fin (k0_t2_loop i).trips), (k0_t4_loop i t).trips = 0 := by decide +kernel
theorem t5_none : ∀ (i : grid0.Coords), (k0_t5_loop i).trips = 0 := by decide +kernel
theorem vac4 (i : grid0.Coords) (t : Fin (k0_t2_loop i).trips) (c : Fin (k0_t4_loop i t).trips) : False :=
  Nat.not_lt_zero _ (Nat.lt_of_lt_of_le c.isLt (t4_none i t).le)
theorem vac5 (i : grid0.Coords) (t : Fin (k0_t5_loop i).trips) : False :=
  Nat.not_lt_zero _ (Nat.lt_of_lt_of_le t.isLt (t5_none i).le)

theorem row_toNat (i : grid0.Coords) (t : Fin (k0_t2_loop i).trips) (c : Fin (k0_t3_loop i t).trips) (r : Fin 16) :
    (Scalar.indexCast (Scalar.addi (Scalar.addi (skipW i t) (Scalar.muli (Scf.iv 0#32 1#32 c) 16#32)) (BitVec.ofNat 32 r.val))).toNat = (skipW i t).toNat + 16 * c.val + r.val := by
  have h := (skip_le i t).1.1
  have hc := c.isLt
  have hr := r.isLt
  have e : (Scf.iv 0#32 1#32 c : BitVec 32) = BitVec.ofNat 32 c.val := by simp [Scf.iv]
  simp only [e, Scalar.indexCast, Scalar.addi, Scalar.muli, IntOp.addi, IntOp.muli, BitVec.toNat_add, BitVec.toNat_mul, BitVec.toNat_ofNat]
  omega

theorem id_toNat (i : grid0.Coords) (t : Fin (k0_t2_loop i).trips) (c : Fin (k0_t3_loop i t).trips) :
    (Scalar.indexCast (Scalar.addi (idW i) (Scalar.muli (Scalar.addi (Scalar.muli (Scf.iv 0#32 1#32 t) 7#32) (Scf.iv 0#32 1#32 c)) 16#32))).toNat
      = (idW i).toNat + 16 * (7 * t.val + c.val) := by
  have h := (skip_le i t).2
  have hc := c.isLt
  have e : (Scf.iv 0#32 1#32 c : BitVec 32) = BitVec.ofNat 32 c.val := by simp [Scf.iv]
  have e' : (Scf.iv 0#32 1#32 t : BitVec 32) = BitVec.ofNat 32 t.val := by simp [Scf.iv]
  simp only [e, e', Scalar.indexCast, Scalar.addi, Scalar.muli, IntOp.addi, IntOp.muli, BitVec.toNat_add, BitVec.toNat_mul, BitVec.toNat_ofNat]
  omega

theorem rinb (i : grid0.Coords) (t : Fin (k0_t2_loop i).trips) (c : Fin (k0_t3_loop i t).trips) (r : Fin 16) (n : Nat) (hn : n ≤ 112) :
    ∀ a, (![(Scalar.indexCast (Scalar.remsi (Scf.iv 0#32 1#32 t : BitVec 32) 2#32)).toNat,
      (Scalar.indexCast (Scalar.addi (Scalar.addi (skipW i t) (Scalar.muli (Scf.iv 0#32 1#32 c) 16#32)) (BitVec.ofNat 32 r.val))).toNat, n] : Fin 3 → Nat) a
        + S1x1x16.size a ≤ S2x112x128.size a := by
  have h := (skip_le i t).1
  have hc := c.isLt
  have hr := r.isLt
  rw [row_toNat]
  intro a
  match a with
  | 0 => show (Scalar.remsi (Scf.iv 0#32 1#32 t : BitVec 32) 2#32).toNat + 1 ≤ 2; omega
  | 1 => show (skipW i t).toNat + 16 * c.val + r.val + 1 ≤ 112; omega
  | 2 => show n + 16 ≤ 128; omega

theorem idinb (i : grid0.Coords) (t : Fin (k0_t2_loop i).trips) (c : Fin (k0_t3_loop i t).trips) :
    ∀ a, (![(Scalar.indexCast (Scalar.addi (idW i) (Scalar.muli (Scalar.addi (Scalar.muli (Scf.iv 0#32 1#32 t) 7#32) (Scf.iv 0#32 1#32 c)) 16#32))).toNat] : Fin 1 → Nat) a
        + S16.size a ≤ S3136.size a := by
  have h := (skip_le i t).2
  have hc := c.isLt
  rw [id_toNat]
  intro a
  match a with
  | 0 => show (idW i).toNat + 16 * (7 * t.val + c.val) + 16 ≤ 3136; omega

instance facts₀ : Facts₀ where
  iota_S16_d0_w32_scVector := by decide
  h_S1x16 := by decide
  shapeCasts_S1x16_S16 := by decide
  shapeCasts_S16_S1x16 := by decide
  inb_S2x112x128_S1x112x128_0_0_0 := by decide
  squeezes_S1x112x128_S112x128 := by decide
  inb_S2_S1_0 := by decide
  squeezes_S1_S_ := by decide
  h_S16 := by decide
  natLt_1_32 := by decide
  inpos_S16_p15 := by decide
  h_S1x1x16 := by decide
  shapeCasts_S1x1x16_S16 := by decide
  h_S3136 := by decide
  h_S256x128 := by decide
  h_S256x16 := by decide
  squeezes_S1x256x128_S256x128 := by decide
  squeezes_S1x256x16_S256x16 := by decide
  bcast_S1x128_S128x128_0_1 := by decide
  shapeCasts_S1_S1x1 := by decide
  bcast_S1x1_S1x128_0_1 := by decide
  shapeCasts_S128_S1x128 := by decide
  inb_S32x256x16_S1x256x16_0_0_0 := by decide
  h_S1x256x16 := by decide
  shapeCasts_S1x256x16_S256x16 := by decide
  inb_S32x256x128_S1x256x128_0_0_0 := by decide
  h_S1x256x128 := by decide
  shapeCasts_S1x256x128_S256x128 := by decide
  inb_S32x256x16_S1x256x16_1_0_0 := by decide
  inb_S32x256x128_S1x256x128_1_0_0 := by decide
  inb_S32x256x16_S1x256x16_2_0_0 := by decide
  inb_S32x256x128_S1x256x128_2_0_0 := by decide
  inb_S32x256x16_S1x256x16_3_0_0 := by decide
  inb_S32x256x128_S1x256x128_3_0_0 := by decide
  inb_S32x256x16_S1x256x16_4_0_0 := by decide
  inb_S32x256x128_S1x256x128_4_0_0 := by decide
  inb_S32x256x16_S1x256x16_5_0_0 := by decide
  inb_S32x256x128_S1x256x128_5_0_0 := by decide
  inb_S32x256x16_S1x256x16_6_0_0 := by decide
  inb_S32x256x128_S1x256x128_6_0_0 := by decide
  inb_S32x256x16_S1x256x16_7_0_0 := by decide
  inb_S32x256x128_S1x256x128_7_0_0 := by decide
  inb_S32x256x16_S1x256x16_8_0_0 := by decide
  inb_S32x256x128_S1x256x128_8_0_0 := by decide
  inb_S32x256x16_S1x256x16_9_0_0 := by decide
  inb_S32x256x128_S1x256x128_9_0_0 := by decide
  inb_S32x256x16_S1x256x16_10_0_0 := by decide
  inb_S32x256x128_S1x256x128_10_0_0 := by decide
  inb_S32x256x16_S1x256x16_11_0_0 := by decide
  inb_S32x256x128_S1x256x128_11_0_0 := by decide
  inb_S32x256x16_S1x256x16_12_0_0 := by decide
  inb_S32x256x128_S1x256x128_12_0_0 := by decide
  inb_S32x256x16_S1x256x16_13_0_0 := by decide
  inb_S32x256x128_S1x256x128_13_0_0 := by decide
  inb_S32x256x16_S1x256x16_14_0_0 := by decide
  inb_S32x256x128_S1x256x128_14_0_0 := by decide
  inb_S32x256x16_S1x256x16_15_0_0 := by decide
  inb_S32x256x128_S1x256x128_15_0_0 := by decide
  inb_S32x256x16_S1x256x16_16_0_0 := by decide
  inb_S32x256x128_S1x256x128_16_0_0 := by decide
  inb_S32x256x16_S1x256x16_17_0_0 := by decide
  inb_S32x256x128_S1x256x128_17_0_0 := by decide
  inb_S32x256x16_S1x256x16_18_0_0 := by decide
  inb_S32x256x128_S1x256x128_18_0_0 := by decide
  inb_S32x256x16_S1x256x16_19_0_0 := by decide
  inb_S32x256x128_S1x256x128_19_0_0 := by decide
  inb_S32x256x16_S1x256x16_20_0_0 := by decide
  inb_S32x256x128_S1x256x128_20_0_0 := by decide
  inb_S32x256x16_S1x256x16_21_0_0 := by decide
  inb_S32x256x128_S1x256x128_21_0_0 := by decide
  inb_S32x256x16_S1x256x16_22_0_0 := by decide
  inb_S32x256x128_S1x256x128_22_0_0 := by decide
  inb_S32x256x16_S1x256x16_23_0_0 := by decide
  inb_S32x256x128_S1x256x128_23_0_0 := by decide
  inb_S32x256x16_S1x256x16_24_0_0 := by decide
  inb_S32x256x128_S1x256x128_24_0_0 := by decide
  inb_S32x256x16_S1x256x16_25_0_0 := by decide
  inb_S32x256x128_S1x256x128_25_0_0 := by decide
  inb_S32x256x16_S1x256x16_26_0_0 := by decide
  inb_S32x256x128_S1x256x128_26_0_0 := by decide
  inb_S32x256x16_S1x256x16_27_0_0 := by decide
  inb_S32x256x128_S1x256x128_27_0_0 := by decide
  inb_S32x256x16_S1x256x16_28_0_0 := by decide
  inb_S32x256x128_S1x256x128_28_0_0 := by decide
  inb_S32x256x16_S1x256x16_29_0_0 := by decide
  inb_S32x256x128_S1x256x128_29_0_0 := by decide
  inb_S32x256x16_S1x256x16_30_0_0 := by decide
  inb_S32x256x128_S1x256x128_30_0_0 := by decide
  inb_S32x256x16_S1x256x16_31_0_0 := by decide
  inb_S32x256x128_S1x256x128_31_0_0 := by decide
  inb_S128x128_S128x128_0_0 := by decide
  h_S128x128 := by decide
  inb_S1x128_S1x128_0_0 := by decide
  h_S1x128 := by decide
  shapeCasts_S1x128_S1x128 := by decide
  broadcasts_S1x128_S256x128 := by decide
  shapeCasts_S128x128_S128x128 := by decide
  inb_S256x128_S256x128_0_0 := by decide
  dot_S256x16_S128x16_S256x128_1_1_0_0_n_n_wf := by decide
  dot_S256x128_S128x128_S256x128_1_1_0_0_n_n_wf := by decide
  hcc0_scratch5 := by decide
  hcc0_scoped0 := by decide
  hcc0_scoped1 := by decide
  hcc0_scoped2 := by decide
  hcc0_scoped3 := by decide
  hscKind := by decide
  hscCore := by decide
  hscSub := by decide
  hcore0 := by decide
  hsub0 := by decide
  k0_t1_ok := by decide +kernel
  k0_off1_inb := by decide +kernel
  k0_mult1_dvd := by decide +kernel
  k0_off2_inb := by decide +kernel
  k0_off3_inb := by decide +kernel
  k0_t2_ok := by decide +kernel
  k0_off4_inb := by decide +kernel
  k0_off5_inb := by decide +kernel
  k0_off6_inb := by decide +kernel
  k0_off7_inb := by decide +kernel
  k0_off8_inb := by decide +kernel
  k0_off9_inb := by decide +kernel
  k0_t3_ok := by decide +kernel
  k0_off10_inb := fun i t c => idinb i t c
  k0_off11_inb := fun i t c r => rinb i t c r 0 (by decide)
  k0_off12_inb := fun i t c r => rinb i t c r 16 (by decide)
  k0_off13_inb := fun i t c r => rinb i t c r 32 (by decide)
  k0_off14_inb := fun i t c r => rinb i t c r 48 (by decide)
  k0_off15_inb := fun i t c r => rinb i t c r 64 (by decide)
  k0_off16_inb := fun i t c r => rinb i t c r 80 (by decide)
  k0_off17_inb := fun i t c r => rinb i t c r 96 (by decide)
  k0_off18_inb := fun i t c r => rinb i t c r 112 (by decide)
  k0_off19_inb := fun i t c => rinb i t c 0 0 (by decide)
  k0_off20_inb := fun i t c => rinb i t c 0 16 (by decide)
  k0_off21_inb := fun i t c => rinb i t c 0 32 (by decide)
  k0_off22_inb := fun i t c => rinb i t c 0 48 (by decide)
  k0_off23_inb := fun i t c => rinb i t c 0 64 (by decide)
  k0_off24_inb := fun i t c => rinb i t c 0 80 (by decide)
  k0_off25_inb := fun i t c => rinb i t c 0 96 (by decide)
  k0_off26_inb := fun i t c => rinb i t c 0 112 (by decide)
  k0_off27_inb := fun i t c => rinb i t c 1 0 (by decide)
  k0_off28_inb := fun i t c => rinb i t c 1 16 (by decide)
  k0_off29_inb := fun i t c => rinb i t c 1 32 (by decide)
  k0_off30_inb := fun i t c => rinb i t c 1 48 (by decide)
  k0_off31_inb := fun i t c => rinb i t c 1 64 (by decide)
  k0_off32_inb := fun i t c => rinb i t c 1 80 (by decide)
  k0_off33_inb := fun i t c => rinb i t c 1 96 (by decide)
  k0_off34_inb := fun i t c => rinb i t c 1 112 (by decide)
  k0_off35_inb := fun i t c => rinb i t c 2 0 (by decide)
  k0_off36_inb := fun i t c => rinb i t c 2 16 (by decide)
  k0_off37_inb := fun i t c => rinb i t c 2 32 (by decide)
  k0_off38_inb := fun i t c => rinb i t c 2 48 (by decide)
  k0_off39_inb := fun i t c => rinb i t c 2 64 (by decide)
  k0_off40_inb := fun i t c => rinb i t c 2 80 (by decide)
  k0_off41_inb := fun i t c => rinb i t c 2 96 (by decide)
  k0_off42_inb := fun i t c => rinb i t c 2 112 (by decide)
  k0_off43_inb := fun i t c => rinb i t c 3 0 (by decide)
  k0_off44_inb := fun i t c => rinb i t c 3 16 (by decide)
  k0_off45_inb := fun i t c => rinb i t c 3 32 (by decide)
  k0_off46_inb := fun i t c => rinb i t c 3 48 (by decide)
  k0_off47_inb := fun i t c => rinb i t c 3 64 (by decide)
  k0_off48_inb := fun i t c => rinb i t c 3 80 (by decide)
  k0_off49_inb := fun i t c => rinb i t c 3 96 (by decide)
  k0_off50_inb := fun i t c => rinb i t c 3 112 (by decide)
  k0_off51_inb := fun i t c => rinb i t c 4 0 (by decide)
  k0_off52_inb := fun i t c => rinb i t c 4 16 (by decide)
  k0_off53_inb := fun i t c => rinb i t c 4 32 (by decide)
  k0_off54_inb := fun i t c => rinb i t c 4 48 (by decide)
  k0_off55_inb := fun i t c => rinb i t c 4 64 (by decide)
  k0_off56_inb := fun i t c => rinb i t c 4 80 (by decide)
  k0_off57_inb := fun i t c => rinb i t c 4 96 (by decide)
  k0_off58_inb := fun i t c => rinb i t c 4 112 (by decide)
  k0_off59_inb := fun i t c => rinb i t c 5 0 (by decide)
  k0_off60_inb := fun i t c => rinb i t c 5 16 (by decide)
  k0_off61_inb := fun i t c => rinb i t c 5 32 (by decide)
  k0_off62_inb := fun i t c => rinb i t c 5 48 (by decide)
  k0_off63_inb := fun i t c => rinb i t c 5 64 (by decide)
  k0_off64_inb := fun i t c => rinb i t c 5 80 (by decide)
  k0_off65_inb := fun i t c => rinb i t c 5 96 (by decide)
  k0_off66_inb := fun i t c => rinb i t c 5 112 (by decide)
  k0_off67_inb := fun i t c => rinb i t c 6 0 (by decide)
  k0_off68_inb := fun i t c => rinb i t c 6 16 (by decide)
  k0_off69_inb := fun i t c => rinb i t c 6 32 (by decide)
  k0_off70_inb := fun i t c => rinb i t c 6 48 (by decide)
  k0_off71_inb := fun i t c => rinb i t c 6 64 (by decide)
  k0_off72_inb := fun i t c => rinb i t c 6 80 (by decide)
  k0_off73_inb := fun i t c => rinb i t c 6 96 (by decide)
  k0_off74_inb := fun i t c => rinb i t c 6 112 (by decide)
  k0_off75_inb := fun i t c => rinb i t c 7 0 (by decide)
  k0_off76_inb := fun i t c => rinb i t c 7 16 (by decide)
  k0_off77_inb := fun i t c => rinb i t c 7 32 (by decide)
  k0_off78_inb := fun i t c => rinb i t c 7 48 (by decide)
  k0_off79_inb := fun i t c => rinb i t c 7 64 (by decide)
  k0_off80_inb := fun i t c => rinb i t c 7 80 (by decide)
  k0_off81_inb := fun i t c => rinb i t c 7 96 (by decide)
  k0_off82_inb := fun i t c => rinb i t c 7 112 (by decide)
  k0_off83_inb := fun i t c => rinb i t c 8 0 (by decide)
  k0_off84_inb := fun i t c => rinb i t c 8 16 (by decide)
  k0_off85_inb := fun i t c => rinb i t c 8 32 (by decide)
  k0_off86_inb := fun i t c => rinb i t c 8 48 (by decide)
  k0_off87_inb := fun i t c => rinb i t c 8 64 (by decide)
  k0_off88_inb := fun i t c => rinb i t c 8 80 (by decide)
  k0_off89_inb := fun i t c => rinb i t c 8 96 (by decide)
  k0_off90_inb := fun i t c => rinb i t c 8 112 (by decide)
  k0_off91_inb := fun i t c => rinb i t c 9 0 (by decide)
  k0_off92_inb := fun i t c => rinb i t c 9 16 (by decide)
  k0_off93_inb := fun i t c => rinb i t c 9 32 (by decide)
  k0_off94_inb := fun i t c => rinb i t c 9 48 (by decide)
  k0_off95_inb := fun i t c => rinb i t c 9 64 (by decide)
  k0_off96_inb := fun i t c => rinb i t c 9 80 (by decide)
  k0_off97_inb := fun i t c => rinb i t c 9 96 (by decide)
  k0_off98_inb := fun i t c => rinb i t c 9 112 (by decide)
  k0_off99_inb := fun i t c => rinb i t c 10 0 (by decide)
  k0_off100_inb := fun i t c => rinb i t c 10 16 (by decide)
  k0_off101_inb := fun i t c => rinb i t c 10 32 (by decide)
  k0_off102_inb := fun i t c => rinb i t c 10 48 (by decide)
  k0_off103_inb := fun i t c => rinb i t c 10 64 (by decide)
  k0_off104_inb := fun i t c => rinb i t c 10 80 (by decide)
  k0_off105_inb := fun i t c => rinb i t c 10 96 (by decide)
  k0_off106_inb := fun i t c => rinb i t c 10 112 (by decide)
  k0_off107_inb := fun i t c => rinb i t c 11 0 (by decide)
  k0_off108_inb := fun i t c => rinb i t c 11 16 (by decide)
  k0_off109_inb := fun i t c => rinb i t c 11 32 (by decide)
  k0_off110_inb := fun i t c => rinb i t c 11 48 (by decide)
  k0_off111_inb := fun i t c => rinb i t c 11 64 (by decide)
  k0_off112_inb := fun i t c => rinb i t c 11 80 (by decide)
  k0_off113_inb := fun i t c => rinb i t c 11 96 (by decide)
  k0_off114_inb := fun i t c => rinb i t c 11 112 (by decide)
  k0_off115_inb := fun i t c => rinb i t c 12 0 (by decide)
  k0_off116_inb := fun i t c => rinb i t c 12 16 (by decide)
  k0_off117_inb := fun i t c => rinb i t c 12 32 (by decide)
  k0_off118_inb := fun i t c => rinb i t c 12 48 (by decide)
  k0_off119_inb := fun i t c => rinb i t c 12 64 (by decide)
  k0_off120_inb := fun i t c => rinb i t c 12 80 (by decide)
  k0_off121_inb := fun i t c => rinb i t c 12 96 (by decide)
  k0_off122_inb := fun i t c => rinb i t c 12 112 (by decide)
  k0_off123_inb := fun i t c => rinb i t c 13 0 (by decide)
  k0_off124_inb := fun i t c => rinb i t c 13 16 (by decide)
  k0_off125_inb := fun i t c => rinb i t c 13 32 (by decide)
  k0_off126_inb := fun i t c => rinb i t c 13 48 (by decide)
  k0_off127_inb := fun i t c => rinb i t c 13 64 (by decide)
  k0_off128_inb := fun i t c => rinb i t c 13 80 (by decide)
  k0_off129_inb := fun i t c => rinb i t c 13 96 (by decide)
  k0_off130_inb := fun i t c => rinb i t c 13 112 (by decide)
  k0_off131_inb := fun i t c => rinb i t c 14 0 (by decide)
  k0_off132_inb := fun i t c => rinb i t c 14 16 (by decide)
  k0_off133_inb := fun i t c => rinb i t c 14 32 (by decide)
  k0_off134_inb := fun i t c => rinb i t c 14 48 (by decide)
  k0_off135_inb := fun i t c => rinb i t c 14 64 (by decide)
  k0_off136_inb := fun i t c => rinb i t c 14 80 (by decide)
  k0_off137_inb := fun i t c => rinb i t c 14 96 (by decide)
  k0_off138_inb := fun i t c => rinb i t c 14 112 (by decide)
  k0_off139_inb := fun i t c => rinb i t c 15 0 (by decide)
  k0_off140_inb := fun i t c => rinb i t c 15 16 (by decide)
  k0_off141_inb := fun i t c => rinb i t c 15 32 (by decide)
  k0_off142_inb := fun i t c => rinb i t c 15 48 (by decide)
  k0_off143_inb := fun i t c => rinb i t c 15 64 (by decide)
  k0_off144_inb := fun i t c => rinb i t c 15 80 (by decide)
  k0_off145_inb := fun i t c => rinb i t c 15 96 (by decide)
  k0_off146_inb := fun i t c => rinb i t c 15 112 (by decide)
  k0_t4_ok := by decide +kernel
  k0_off147_inb := fun i t c => (vac4 i t c).elim
  k0_off148_inb := fun i t c => (vac4 i t c).elim
  k0_off149_inb := fun i t c => (vac4 i t c).elim
  k0_off150_inb := fun i t c => (vac4 i t c).elim
  k0_off151_inb := fun i t c => (vac4 i t c).elim
  k0_off152_inb := fun i t c => (vac4 i t c).elim
  k0_off153_inb := fun i t c => (vac4 i t c).elim
  k0_off154_inb := fun i t c => (vac4 i t c).elim
  k0_off155_inb := fun i t c => (vac4 i t c).elim
  k0_off156_inb := fun i t c => (vac4 i t c).elim
  k0_off157_inb := fun i t c => (vac4 i t c).elim
  k0_off158_inb := fun i t c => (vac4 i t c).elim
  k0_off159_inb := fun i t c => (vac4 i t c).elim
  k0_off160_inb := fun i t c => (vac4 i t c).elim
  k0_off161_inb := fun i t c => (vac4 i t c).elim
  k0_off162_inb := fun i t c => (vac4 i t c).elim
  k0_off163_inb := fun i t c => (vac4 i t c).elim
  k0_off164_inb := fun i t c => (vac4 i t c).elim
  k0_off165_inb := fun i t c => (vac4 i t c).elim
  k0_off166_inb := fun i t c => (vac4 i t c).elim
  k0_off167_inb := fun i t c => (vac4 i t c).elim
  k0_off168_inb := fun i t c => (vac4 i t c).elim
  k0_off169_inb := fun i t c => (vac4 i t c).elim
  k0_off170_inb := fun i t c => (vac4 i t c).elim
  k0_off171_inb := fun i t c => (vac4 i t c).elim
  k0_off172_inb := fun i t c => (vac4 i t c).elim
  k0_off173_inb := fun i t c => (vac4 i t c).elim
  k0_off174_inb := fun i t c => (vac4 i t c).elim
  k0_off175_inb := fun i t c => (vac4 i t c).elim
  k0_off176_inb := fun i t c => (vac4 i t c).elim
  k0_off177_inb := fun i t c => (vac4 i t c).elim
  k0_off178_inb := fun i t c => (vac4 i t c).elim
  k0_off179_inb := fun i t c => (vac4 i t c).elim
  k0_off180_inb := fun i t c => (vac4 i t c).elim
  k0_off181_inb := fun i t c => (vac4 i t c).elim
  k0_off182_inb := fun i t c => (vac4 i t c).elim
  k0_off183_inb := fun i t c => (vac4 i t c).elim
  k0_off184_inb := fun i t c => (vac4 i t c).elim
  k0_off185_inb := fun i t c => (vac4 i t c).elim
  k0_off186_inb := fun i t c => (vac4 i t c).elim
  k0_off187_inb := fun i t c => (vac4 i t c).elim
  k0_off188_inb := fun i t c => (vac4 i t c).elim
  k0_off189_inb := fun i t c => (vac4 i t c).elim
  k0_off190_inb := fun i t c => (vac4 i t c).elim
  k0_off191_inb := fun i t c => (vac4 i t c).elim
  k0_off192_inb := fun i t c => (vac4 i t c).elim
  k0_off193_inb := fun i t c => (vac4 i t c).elim
  k0_off194_inb := fun i t c => (vac4 i t c).elim
  k0_off195_inb := fun i t c => (vac4 i t c).elim
  k0_off196_inb := fun i t c => (vac4 i t c).elim
  k0_off197_inb := fun i t c => (vac4 i t c).elim
  k0_off198_inb := fun i t c => (vac4 i t c).elim
  k0_off199_inb := fun i t c => (vac4 i t c).elim
  k0_off200_inb := fun i t c => (vac4 i t c).elim
  k0_off201_inb := fun i t c => (vac4 i t c).elim
  k0_off202_inb := fun i t c => (vac4 i t c).elim
  k0_off203_inb := fun i t c => (vac4 i t c).elim
  k0_off204_inb := fun i t c => (vac4 i t c).elim
  k0_off205_inb := fun i t c => (vac4 i t c).elim
  k0_off206_inb := fun i t c => (vac4 i t c).elim
  k0_off207_inb := fun i t c => (vac4 i t c).elim
  k0_off208_inb := fun i t c => (vac4 i t c).elim
  k0_off209_inb := fun i t c => (vac4 i t c).elim
  k0_off210_inb := fun i t c => (vac4 i t c).elim
  k0_off211_inb := fun i t c => (vac4 i t c).elim
  k0_off212_inb := fun i t c => (vac4 i t c).elim
  k0_off213_inb := fun i t c => (vac4 i t c).elim
  k0_off214_inb := fun i t c => (vac4 i t c).elim
  k0_off215_inb := fun i t c => (vac4 i t c).elim
  k0_off216_inb := fun i t c => (vac4 i t c).elim
  k0_off217_inb := fun i t c => (vac4 i t c).elim
  k0_off218_inb := fun i t c => (vac4 i t c).elim
  k0_off219_inb := fun i t c => (vac4 i t c).elim
  k0_off220_inb := fun i t c => (vac4 i t c).elim
  k0_off221_inb := fun i t c => (vac4 i t c).elim
  k0_off222_inb := fun i t c => (vac4 i t c).elim
  k0_off223_inb := fun i t c => (vac4 i t c).elim
  k0_off224_inb := fun i t c => (vac4 i t c).elim
  k0_off225_inb := fun i t c => (vac4 i t c).elim
  k0_off226_inb := fun i t c => (vac4 i t c).elim
  k0_off227_inb := fun i t c => (vac4 i t c).elim
  k0_off228_inb := fun i t c => (vac4 i t c).elim
  k0_off229_inb := fun i t c => (vac4 i t c).elim
  k0_off230_inb := fun i t c => (vac4 i t c).elim
  k0_off231_inb := fun i t c => (vac4 i t c).elim
  k0_off232_inb := fun i t c => (vac4 i t c).elim
  k0_off233_inb := fun i t c => (vac4 i t c).elim
  k0_off234_inb := fun i t c => (vac4 i t c).elim
  k0_off235_inb := fun i t c => (vac4 i t c).elim
  k0_off236_inb := fun i t c => (vac4 i t c).elim
  k0_off237_inb := fun i t c => (vac4 i t c).elim
  k0_off238_inb := fun i t c => (vac4 i t c).elim
  k0_off239_inb := fun i t c => (vac4 i t c).elim
  k0_off240_inb := fun i t c => (vac4 i t c).elim
  k0_off241_inb := fun i t c => (vac4 i t c).elim
  k0_off242_inb := fun i t c => (vac4 i t c).elim
  k0_off243_inb := fun i t c => (vac4 i t c).elim
  k0_off244_inb := fun i t c => (vac4 i t c).elim
  k0_off245_inb := fun i t c => (vac4 i t c).elim
  k0_off246_inb := fun i t c => (vac4 i t c).elim
  k0_off247_inb := fun i t c => (vac4 i t c).elim
  k0_off248_inb := fun i t c => (vac4 i t c).elim
  k0_off249_inb := fun i t c => (vac4 i t c).elim
  k0_off250_inb := fun i t c => (vac4 i t c).elim
  k0_off251_inb := fun i t c => (vac4 i t c).elim
  k0_off252_inb := fun i t c => (vac4 i t c).elim
  k0_off253_inb := fun i t c => (vac4 i t c).elim
  k0_off254_inb := fun i t c => (vac4 i t c).elim
  k0_off255_inb := fun i t c => (vac4 i t c).elim
  k0_off256_inb := fun i t c => (vac4 i t c).elim
  k0_off257_inb := fun i t c => (vac4 i t c).elim
  k0_off258_inb := fun i t c => (vac4 i t c).elim
  k0_off259_inb := fun i t c => (vac4 i t c).elim
  k0_off260_inb := fun i t c => (vac4 i t c).elim
  k0_off261_inb := fun i t c => (vac4 i t c).elim
  k0_off262_inb := fun i t c => (vac4 i t c).elim
  k0_off263_inb := fun i t c => (vac4 i t c).elim
  k0_off264_inb := fun i t c => (vac4 i t c).elim
  k0_off265_inb := fun i t c => (vac4 i t c).elim
  k0_off266_inb := fun i t c => (vac4 i t c).elim
  k0_off267_inb := fun i t c => (vac4 i t c).elim
  k0_off268_inb := fun i t c => (vac4 i t c).elim
  k0_off269_inb := fun i t c => (vac4 i t c).elim
  k0_off270_inb := fun i t c => (vac4 i t c).elim
  k0_off271_inb := fun i t c => (vac4 i t c).elim
  k0_off272_inb := fun i t c => (vac4 i t c).elim
  k0_off273_inb := fun i t c => (vac4 i t c).elim
  k0_off274_inb := fun i t c => (vac4 i t c).elim
  k0_off275_inb := fun i t c => (vac4 i t c).elim
  k0_off276_inb := fun i t c => (vac4 i t c).elim
  k0_off277_inb := fun i t c => (vac4 i t c).elim
  k0_off278_inb := fun i t c => (vac4 i t c).elim
  k0_off279_inb := fun i t c => (vac4 i t c).elim
  k0_off280_inb := fun i t c => (vac4 i t c).elim
  k0_off281_inb := fun i t c => (vac4 i t c).elim
  k0_off282_inb := fun i t c => (vac4 i t c).elim
  k0_off283_inb := fun i t c => (vac4 i t c).elim
  k0_t5_ok := by decide +kernel
  k0_off284_inb := fun i t => (vac5 i t).elim
  k0_off285_inb := fun i t => (vac5 i t).elim
  k0_off286_inb := fun i t => (vac5 i t).elim
  k0_off287_inb := fun i t => (vac5 i t).elim
  k0_off288_inb := fun i t => (vac5 i t).elim
  k0_off289_inb := fun i t => (vac5 i t).elim
  k0_t6_ok := fun i t => (vac5 i t).elim
  k0_off290_inb := fun i t => (vac5 i t).elim
  k0_off291_inb := fun i t => (vac5 i t).elim
  k0_off292_inb := fun i t => (vac5 i t).elim
  k0_off293_inb := fun i t => (vac5 i t).elim
  k0_off294_inb := fun i t => (vac5 i t).elim
  k0_off295_inb := fun i t => (vac5 i t).elim
  k0_off296_inb := fun i t => (vac5 i t).elim
  k0_off297_inb := fun i t => (vac5 i t).elim
  k0_off298_inb := fun i t => (vac5 i t).elim
  k0_off299_inb := fun i t => (vac5 i t).elim
  k0_off300_inb := fun i t => (vac5 i t).elim
  k0_off301_inb := fun i t => (vac5 i t).elim
  k0_off302_inb := fun i t => (vac5 i t).elim
  k0_off303_inb := fun i t => (vac5 i t).elim
  k0_off304_inb := fun i t => (vac5 i t).elim
  k0_off305_inb := fun i t => (vac5 i t).elim
  k0_off306_inb := fun i t => (vac5 i t).elim
  k0_off307_inb := fun i t => (vac5 i t).elim
  k0_off308_inb := fun i t => (vac5 i t).elim
  k0_off309_inb := fun i t => (vac5 i t).elim
  k0_off310_inb := fun i t => (vac5 i t).elim
  k0_off311_inb := fun i t => (vac5 i t).elim
  k0_off312_inb := fun i t => (vac5 i t).elim
  k0_off313_inb := fun i t => (vac5 i t).elim
  k0_off314_inb := fun i t => (vac5 i t).elim
  k0_off315_inb := fun i t => (vac5 i t).elim
  k0_off316_inb := fun i t => (vac5 i t).elim
  k0_off317_inb := fun i t => (vac5 i t).elim
  k0_off318_inb := fun i t => (vac5 i t).elim
  k0_off319_inb := fun i t => (vac5 i t).elim
  k0_off320_inb := fun i t => (vac5 i t).elim
  k0_off321_inb := fun i t => (vac5 i t).elim
  k0_off322_inb := fun i t => (vac5 i t).elim
  k0_off323_inb := fun i t => (vac5 i t).elim
  k0_off324_inb := fun i t => (vac5 i t).elim
  k0_off325_inb := fun i t => (vac5 i t).elim
  k0_off326_inb := fun i t => (vac5 i t).elim
  k0_off327_inb := fun i t => (vac5 i t).elim
  k0_off328_inb := fun i t => (vac5 i t).elim
  k0_off329_inb := fun i t => (vac5 i t).elim
  k0_off330_inb := fun i t => (vac5 i t).elim
  k0_off331_inb := fun i t => (vac5 i t).elim
  k0_off332_inb := fun i t => (vac5 i t).elim
  k0_off333_inb := fun i t => (vac5 i t).elim
  k0_off334_inb := fun i t => (vac5 i t).elim
  k0_off335_inb := fun i t => (vac5 i t).elim
  k0_off336_inb := fun i t => (vac5 i t).elim
  k0_off337_inb := fun i t => (vac5 i t).elim
  k0_off338_inb := fun i t => (vac5 i t).elim
  k0_off339_inb := fun i t => (vac5 i t).elim
  k0_off340_inb := fun i t => (vac5 i t).elim
  k0_off341_inb := fun i t => (vac5 i t).elim
  k0_off342_inb := fun i t => (vac5 i t).elim
  k0_off343_inb := fun i t => (vac5 i t).elim
  k0_off344_inb := fun i t => (vac5 i t).elim
  k0_off345_inb := fun i t => (vac5 i t).elim
  k0_off346_inb := fun i t => (vac5 i t).elim
  k0_off347_inb := fun i t => (vac5 i t).elim
  k0_off348_inb := fun i t => (vac5 i t).elim
  k0_off349_inb := fun i t => (vac5 i t).elim
  k0_off350_inb := fun i t => (vac5 i t).elim
  k0_off351_inb := fun i t => (vac5 i t).elim
  k0_off352_inb := fun i t => (vac5 i t).elim
  k0_off353_inb := fun i t => (vac5 i t).elim
  k0_off354_inb := fun i t => (vac5 i t).elim
  k0_off355_inb := fun i t => (vac5 i t).elim
  k0_off356_inb := fun i t => (vac5 i t).elim
  k0_off357_inb := fun i t => (vac5 i t).elim
  k0_off358_inb := fun i t => (vac5 i t).elim
  k0_off359_inb := fun i t => (vac5 i t).elim
  k0_off360_inb := fun i t => (vac5 i t).elim
  k0_off361_inb := fun i t => (vac5 i t).elim
  k0_off362_inb := fun i t => (vac5 i t).elim
  k0_off363_inb := fun i t => (vac5 i t).elim
  k0_off364_inb := fun i t => (vac5 i t).elim
  k0_off365_inb := fun i t => (vac5 i t).elim
  k0_off366_inb := fun i t => (vac5 i t).elim
  k0_off367_inb := fun i t => (vac5 i t).elim
  k0_off368_inb := fun i t => (vac5 i t).elim
  k0_off369_inb := fun i t => (vac5 i t).elim
  k0_off370_inb := fun i t => (vac5 i t).elim
  k0_off371_inb := fun i t => (vac5 i t).elim
  k0_off372_inb := fun i t => (vac5 i t).elim
  k0_off373_inb := fun i t => (vac5 i t).elim
  k0_off374_inb := fun i t => (vac5 i t).elim
  k0_off375_inb := fun i t => (vac5 i t).elim
  k0_off376_inb := fun i t => (vac5 i t).elim
  k0_off377_inb := fun i t => (vac5 i t).elim
  k0_off378_inb := fun i t => (vac5 i t).elim
  k0_off379_inb := fun i t => (vac5 i t).elim
  k0_off380_inb := fun i t => (vac5 i t).elim
  k0_off381_inb := fun i t => (vac5 i t).elim
  k0_off382_inb := fun i t => (vac5 i t).elim
  k0_off383_inb := fun i t => (vac5 i t).elim
  k0_off384_inb := fun i t => (vac5 i t).elim
  k0_off385_inb := fun i t => (vac5 i t).elim
  k0_off386_inb := fun i t => (vac5 i t).elim
  k0_off387_inb := fun i t => (vac5 i t).elim
  k0_off388_inb := fun i t => (vac5 i t).elim
  k0_off389_inb := fun i t => (vac5 i t).elim
  k0_off390_inb := fun i t => (vac5 i t).elim
  k0_off391_inb := fun i t => (vac5 i t).elim
  k0_off392_inb := fun i t => (vac5 i t).elim
  k0_off393_inb := fun i t => (vac5 i t).elim
  k0_off394_inb := fun i t => (vac5 i t).elim
  k0_off395_inb := fun i t => (vac5 i t).elim
  k0_off396_inb := fun i t => (vac5 i t).elim
  k0_off397_inb := fun i t => (vac5 i t).elim
  k0_off398_inb := fun i t => (vac5 i t).elim
  k0_off399_inb := fun i t => (vac5 i t).elim
  k0_off400_inb := fun i t => (vac5 i t).elim
  k0_off401_inb := fun i t => (vac5 i t).elim
  k0_off402_inb := fun i t => (vac5 i t).elim
  k0_off403_inb := fun i t => (vac5 i t).elim
  k0_off404_inb := fun i t => (vac5 i t).elim
  k0_off405_inb := fun i t => (vac5 i t).elim
  k0_off406_inb := fun i t => (vac5 i t).elim
  k0_off407_inb := fun i t => (vac5 i t).elim
  k0_off408_inb := fun i t => (vac5 i t).elim
  k0_off409_inb := fun i t => (vac5 i t).elim
  k0_off410_inb := fun i t => (vac5 i t).elim
  k0_off411_inb := fun i t => (vac5 i t).elim
  k0_off412_inb := fun i t => (vac5 i t).elim
  k0_off413_inb := fun i t => (vac5 i t).elim
  k0_off414_inb := fun i t => (vac5 i t).elim
  k0_off415_inb := fun i t => (vac5 i t).elim
  k0_off416_inb := fun i t => (vac5 i t).elim
  k0_off417_inb := fun i t => (vac5 i t).elim
  k0_off418_inb := fun i t => (vac5 i t).elim
  k0_off419_inb := fun i t => (vac5 i t).elim
  k0_off420_inb := fun i t => (vac5 i t).elim
  k0_off421_inb := fun i t => (vac5 i t).elim
  k0_off422_inb := fun i t => (vac5 i t).elim
  k0_off423_inb := fun i t => (vac5 i t).elim
  k0_off424_inb := fun i t => (vac5 i t).elim
  k0_off425_inb := fun i t => (vac5 i t).elim
  k0_off426_inb := fun i t => (vac5 i t).elim
  k0_t7_ok := fun i t => (vac5 i t).elim
  k0_off427_inb := fun i t => (vac5 i t).elim
  k0_off428_inb := fun i t => (vac5 i t).elim
  k0_off429_inb := fun i t => (vac5 i t).elim
  k0_off430_inb := fun i t => (vac5 i t).elim
  k0_off431_inb := fun i t => (vac5 i t).elim
  k0_off432_inb := fun i t => (vac5 i t).elim
  k0_off433_inb := fun i t => (vac5 i t).elim
  k0_off434_inb := fun i t => (vac5 i t).elim
  k0_off435_inb := fun i t => (vac5 i t).elim
  k0_off436_inb := fun i t => (vac5 i t).elim
  k0_off437_inb := fun i t => (vac5 i t).elim
  k0_off438_inb := fun i t => (vac5 i t).elim
  k0_off439_inb := fun i t => (vac5 i t).elim
  k0_off440_inb := fun i t => (vac5 i t).elim
  k0_off441_inb := fun i t => (vac5 i t).elim
  k0_off442_inb := fun i t => (vac5 i t).elim
  k0_off443_inb := fun i t => (vac5 i t).elim
  k0_off444_inb := fun i t => (vac5 i t).elim
  k0_off445_inb := fun i t => (vac5 i t).elim
  k0_off446_inb := fun i t => (vac5 i t).elim
  k0_off447_inb := fun i t => (vac5 i t).elim
  k0_off448_inb := fun i t => (vac5 i t).elim
  k0_off449_inb := fun i t => (vac5 i t).elim
  k0_off450_inb := fun i t => (vac5 i t).elim
  k0_off451_inb := fun i t => (vac5 i t).elim
  k0_off452_inb := fun i t => (vac5 i t).elim
  k0_off453_inb := fun i t => (vac5 i t).elim
  k0_off454_inb := fun i t => (vac5 i t).elim
  k0_off455_inb := fun i t => (vac5 i t).elim
  k0_off456_inb := fun i t => (vac5 i t).elim
  k0_off457_inb := fun i t => (vac5 i t).elim
  k0_off458_inb := fun i t => (vac5 i t).elim
  k0_off459_inb := fun i t => (vac5 i t).elim
  k0_off460_inb := fun i t => (vac5 i t).elim
  k0_off461_inb := fun i t => (vac5 i t).elim
  k0_off462_inb := fun i t => (vac5 i t).elim
  k0_off463_inb := fun i t => (vac5 i t).elim
  k0_off464_inb := fun i t => (vac5 i t).elim
  k0_off465_inb := fun i t => (vac5 i t).elim
  k0_off466_inb := fun i t => (vac5 i t).elim
  k0_off467_inb := fun i t => (vac5 i t).elim
  k0_off468_inb := fun i t => (vac5 i t).elim
  k0_off469_inb := fun i t => (vac5 i t).elim
  k0_off470_inb := fun i t => (vac5 i t).elim
  k0_off471_inb := fun i t => (vac5 i t).elim
  k0_off472_inb := fun i t => (vac5 i t).elim
  k0_off473_inb := fun i t => (vac5 i t).elim
  k0_off474_inb := fun i t => (vac5 i t).elim
  k0_off475_inb := fun i t => (vac5 i t).elim
  k0_off476_inb := fun i t => (vac5 i t).elim
  k0_off477_inb := fun i t => (vac5 i t).elim
  k0_off478_inb := fun i t => (vac5 i t).elim
  k0_off479_inb := fun i t => (vac5 i t).elim
  k0_off480_inb := fun i t => (vac5 i t).elim
  k0_off481_inb := fun i t => (vac5 i t).elim
  k0_off482_inb := fun i t => (vac5 i t).elim
  k0_off483_inb := fun i t => (vac5 i t).elim
  k0_off484_inb := fun i t => (vac5 i t).elim
  k0_off485_inb := fun i t => (vac5 i t).elim
  k0_off486_inb := fun i t => (vac5 i t).elim
  k0_off487_inb := fun i t => (vac5 i t).elim
  k0_off488_inb := fun i t => (vac5 i t).elim
  k0_off489_inb := fun i t => (vac5 i t).elim
  k0_off490_inb := fun i t => (vac5 i t).elim
  k0_off491_inb := fun i t => (vac5 i t).elim
  k0_off492_inb := fun i t => (vac5 i t).elim
  k0_off493_inb := fun i t => (vac5 i t).elim
  k0_off494_inb := fun i t => (vac5 i t).elim
  k0_off495_inb := fun i t => (vac5 i t).elim
  k0_off496_inb := fun i t => (vac5 i t).elim
  k0_off497_inb := fun i t => (vac5 i t).elim
  k0_off498_inb := fun i t => (vac5 i t).elim
  k0_off499_inb := fun i t => (vac5 i t).elim
  k0_off500_inb := fun i t => (vac5 i t).elim
  k0_off501_inb := fun i t => (vac5 i t).elim
  k0_off502_inb := fun i t => (vac5 i t).elim
  k0_off503_inb := fun i t => (vac5 i t).elim
  k0_off504_inb := fun i t => (vac5 i t).elim
  k0_off505_inb := fun i t => (vac5 i t).elim
  k0_off506_inb := fun i t => (vac5 i t).elim
  k0_off507_inb := fun i t => (vac5 i t).elim
  k0_off508_inb := fun i t => (vac5 i t).elim
  k0_off509_inb := fun i t => (vac5 i t).elim
  k0_off510_inb := fun i t => (vac5 i t).elim
  k0_off511_inb := fun i t => (vac5 i t).elim
  k0_off512_inb := fun i t => (vac5 i t).elim
  k0_off513_inb := fun i t => (vac5 i t).elim
  k0_off514_inb := fun i t => (vac5 i t).elim
  k0_off515_inb := fun i t => (vac5 i t).elim
  k0_off516_inb := fun i t => (vac5 i t).elim
  k0_off517_inb := fun i t => (vac5 i t).elim
  k0_off518_inb := fun i t => (vac5 i t).elim
  k0_off519_inb := fun i t => (vac5 i t).elim
  k0_off520_inb := fun i t => (vac5 i t).elim
  k0_off521_inb := fun i t => (vac5 i t).elim
  k0_off522_inb := fun i t => (vac5 i t).elim
  k0_off523_inb := fun i t => (vac5 i t).elim
  k0_off524_inb := fun i t => (vac5 i t).elim
  k0_off525_inb := fun i t => (vac5 i t).elim
  k0_off526_inb := fun i t => (vac5 i t).elim
  k0_off527_inb := fun i t => (vac5 i t).elim
  k0_off528_inb := fun i t => (vac5 i t).elim
  k0_off529_inb := fun i t => (vac5 i t).elim
  k0_off530_inb := fun i t => (vac5 i t).elim
  k0_off531_inb := fun i t => (vac5 i t).elim
  k0_off532_inb := fun i t => (vac5 i t).elim
  k0_off533_inb := fun i t => (vac5 i t).elim
  k0_off534_inb := fun i t => (vac5 i t).elim
  k0_off535_inb := fun i t => (vac5 i t).elim
  k0_off536_inb := fun i t => (vac5 i t).elim
  k0_off537_inb := fun i t => (vac5 i t).elim
  k0_off538_inb := fun i t => (vac5 i t).elim
  k0_off539_inb := fun i t => (vac5 i t).elim
  k0_off540_inb := fun i t => (vac5 i t).elim
  k0_off541_inb := fun i t => (vac5 i t).elim
  k0_off542_inb := fun i t => (vac5 i t).elim
  k0_off543_inb := fun i t => (vac5 i t).elim
  k0_off544_inb := fun i t => (vac5 i t).elim
  k0_off545_inb := fun i t => (vac5 i t).elim
  k0_off546_inb := fun i t => (vac5 i t).elim
  k0_off547_inb := fun i t => (vac5 i t).elim
  k0_off548_inb := fun i t => (vac5 i t).elim
  k0_off549_inb := fun i t => (vac5 i t).elim
  k0_off550_inb := fun i t => (vac5 i t).elim
  k0_off551_inb := fun i t => (vac5 i t).elim
  k0_off552_inb := fun i t => (vac5 i t).elim
  k0_off553_inb := fun i t => (vac5 i t).elim
  k0_off554_inb := fun i t => (vac5 i t).elim
  k0_off555_inb := fun i t => (vac5 i t).elim
  k0_off556_inb := fun i t => (vac5 i t).elim
  k0_off557_inb := fun i t => (vac5 i t).elim
  k0_off558_inb := fun i t => (vac5 i t).elim
  k0_off559_inb := fun i t => (vac5 i t).elim
  k0_off560_inb := fun i t => (vac5 i t).elim
  k0_off561_inb := fun i t => (vac5 i t).elim
  k0_off562_inb := fun i t => (vac5 i t).elim
  k0_off563_inb := fun i t => (vac5 i t).elim
  k0_off564_inb := by decide +kernel
  k0_off565_inb := by decide +kernel
  hstage1_0 := fun | 0 => Memref.isWhole_whole _ | ⟨_ + 1, h⟩ => absurd h (Nat.not_lt.2 (Nat.le_add_left _ _))
  hstage1_1 := fun | 0 => Memref.isWhole_whole _ | ⟨_ + 1, h⟩ => absurd h (Nat.not_lt.2 (Nat.le_add_left _ _))
  hstage1_2 := fun | 0 => Memref.isWhole_whole _ | ⟨_ + 1, h⟩ => absurd h (Nat.not_lt.2 (Nat.le_add_left _ _))
  hstage1_3 := fun | 0 => Memref.isWhole_whole _ | ⟨_ + 1, h⟩ => absurd h (Nat.not_lt.2 (Nat.le_add_left _ _))
  hstage1_4 := fun | 0 => Memref.isWhole_whole _ | ⟨_ + 1, h⟩ => absurd h (Nat.not_lt.2 (Nat.le_add_left _ _))
  hstage1_5 := fun | 0 => Memref.isWhole_whole _ | ⟨_ + 1, h⟩ => absurd h (Nat.not_lt.2 (Nat.le_add_left _ _))
  hstage1_6 := fun | 0 => Memref.isWhole_whole _ | ⟨_ + 1, h⟩ => absurd h (Nat.not_lt.2 (Nat.le_add_left _ _))
  hstage1_7 := fun | 0 => Memref.isWhole_whole _ | ⟨_ + 1, h⟩ => absurd h (Nat.not_lt.2 (Nat.le_add_left _ _))
  hstage1_8 := fun | 0 => Memref.isWhole_whole _ | ⟨_ + 1, h⟩ => absurd h (Nat.not_lt.2 (Nat.le_add_left _ _))
  hstage1_9 := fun | 0 => Memref.isWhole_whole _ | ⟨_ + 1, h⟩ => absurd h (Nat.not_lt.2 (Nat.le_add_left _ _))
  hstage1_10 := fun | 0 => Memref.isWhole_whole _ | ⟨_ + 1, h⟩ => absurd h (Nat.not_lt.2 (Nat.le_add_left _ _))
  hstage1_11 := fun | 0 => Memref.isWhole_whole _ | ⟨_ + 1, h⟩ => absurd h (Nat.not_lt.2 (Nat.le_add_left _ _))
  hstage1_12 := fun | 0 => Memref.isWhole_whole _ | ⟨_ + 1, h⟩ => absurd h (Nat.not_lt.2 (Nat.le_add_left _ _))
  hstage1_13 := fun | 0 => Memref.isWhole_whole _ | ⟨_ + 1, h⟩ => absurd h (Nat.not_lt.2 (Nat.le_add_left _ _))
  hstage1_14 := fun | 0 => Memref.isWhole_whole _ | ⟨_ + 1, h⟩ => absurd h (Nat.not_lt.2 (Nat.le_add_left _ _))
  hstage1_15 := fun | 0 => Memref.isWhole_whole _ | ⟨_ + 1, h⟩ => absurd h (Nat.not_lt.2 (Nat.le_add_left _ _))
  hstage1_16 := fun | 0 => Memref.isWhole_whole _ | ⟨_ + 1, h⟩ => absurd h (Nat.not_lt.2 (Nat.le_add_left _ _))
  hstage1_17 := fun | 0 => Memref.isWhole_whole _ | ⟨_ + 1, h⟩ => absurd h (Nat.not_lt.2 (Nat.le_add_left _ _))
  hstage1_18 := fun | 0 => Memref.isWhole_whole _ | ⟨_ + 1, h⟩ => absurd h (Nat.not_lt.2 (Nat.le_add_left _ _))
  hstage1_19 := fun | 0 => Memref.isWhole_whole _ | ⟨_ + 1, h⟩ => absurd h (Nat.not_lt.2 (Nat.le_add_left _ _))

instance facts : Facts := { facts₀ with }

end Cert.KernelIdeal
-- ==== Proof.Row.lean ====
/-
  The kernel's row loop, sixteen rows of one chunk at a time, in a short form: what one row of the fast path does, what
  one row of the slow path does, and that the two printed regions are sixteen of them each.
-/
module

public import proofs.«01_k».proof.KernelIdeal
@[expose] public section
open Idealize Idealize.ShloMosaic Idealize.SL.Sem
open Idealize.ShloMosaic.RefSig (ofTables tileCredit tileCredit_eq_zero tileCredit_pos)
noncomputable section
namespace Cert.KernelIdeal
variable {F : FTy → Type} [FloatOps F] [Facts]
open Facts₀ Facts

/-- What the row loop carries: eight running sums, eight running greatest values, the segment of the run, its length. -/
structure Acc (F : FTy → Type) where
  s : Fin 8 → FVec F S16 .f32
  m : Fin 8 → FVec F S16 .f32
  run : IVec S16 32
  cnt : F .f32

abbrev Tup (F : FTy → Type) : Type := FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × IVec S16 32 × F .f32

def Acc.tup (a : Acc F) : Tup F :=
  (a.s 0, a.s 1, a.s 2, a.s 3, a.s 4, a.s 5, a.s 6, a.s 7, a.m 0, a.m 1, a.m 2, a.m 3, a.m 4, a.m 5, a.m 6, a.m 7, a.run, a.cnt)

variable (i : grid0.Coords) (arg7 : Memref sig .scVector .vmem S2x112x128 .f32) (k0_t2 : Fin (k0_t2_loop i).trips) (k0_t3 : Fin (k0_t3_loop i k0_t2).trips)

abbrev PT (F : FTy → Type) (i : grid0.Coords) : Type → Type 1 := Prog (TpuEff nD τ sig (Elt F) Λ₀ (.scVector ((i 0).castLE hcore0) ((i 1).castLE hsub0)))

/-- The eight loads of one row. -/
def loads8 (r : Fin 16) (k : (Fin 8 → FVec F S16 .f32) → PT F i (Tup F)) : PT F i (Tup F) :=
  .op (.load arg7 (Rect.unit (s := S2x112x128) (k0_off11 i k0_t2 k0_t3 (BitVec.ofNat 32 r.val)) S1x1x16.size (k0_off11_inb i k0_t2 k0_t3 r)).toLoadRect (View.loadsAt_vmem h_S1x1x16)) fun (x0 : Vec F S1x1x16 .f32) =>
  .op (.load arg7 (Rect.unit (s := S2x112x128) (k0_off12 i k0_t2 k0_t3 (BitVec.ofNat 32 r.val)) S1x1x16.size (k0_off12_inb i k0_t2 k0_t3 r)).toLoadRect (View.loadsAt_vmem h_S1x1x16)) fun (x1 : Vec F S1x1x16 .f32) =>
  .op (.load arg7 (Rect.unit (s := S2x112x128) (k0_off13 i k0_t2 k0_t3 (BitVec.ofNat 32 r.val)) S1x1x16.size (k0_off13_inb i k0_t2 k0_t3 r)).toLoadRect (View.loadsAt_vmem h_S1x1x16)) fun (x2 : Vec F S1x1x16 .f32) =>
  .op (.load arg7 (Rect.unit (s := S2x112x128) (k0_off14 i k0_t2 k0_t3 (BitVec.ofNat 32 r.val)) S1x1x16.size (k0_off14_inb i k0_t2 k0_t3 r)).toLoadRect (View.loadsAt_vmem h_S1x1x16)) fun (x3 : Vec F S1x1x16 .f32) =>
  .op (.load arg7 (Rect.unit (s := S2x112x128) (k0_off15 i k0_t2 k0_t3 (BitVec.ofNat 32 r.val)) S1x1x16.size (k0_off15_inb i k0_t2 k0_t3 r)).toLoadRect (View.loadsAt_vmem h_S1x1x16)) fun (x4 : Vec F S1x1x16 .f32) =>
  .op (.load arg7 (Rect.unit (s := S2x112x128) (k0_off16 i k0_t2 k0_t3 (BitVec.ofNat 32 r.val)) S1x1x16.size (k0_off16_inb i k0_t2 k0_t3 r)).toLoadRect (View.loadsAt_vmem h_S1x1x16)) fun (x5 : Vec F S1x1x16 .f32) =>
  .op (.load arg7 (Rect.unit (s := S2x112x128) (k0_off17 i k0_t2 k0_t3 (BitVec.ofNat 32 r.val)) S1x1x16.size (k0_off17_inb i k0_t2 k0_t3 r)).toLoadRect (View.loadsAt_vmem h_S1x1x16)) fun (x6 : Vec F S1x1x16 .f32) =>
  .op (.load arg7 (Rect.unit (s := S2x112x128) (k0_off18 i k0_t2 k0_t3 (BitVec.ofNat 32 r.val)) S1x1x16.size (k0_off18_inb i k0_t2 k0_t3 r)).toLoadRect (View.loadsAt_vmem h_S1x1x16)) fun (x7 : Vec F S1x1x16 .f32) =>
  k fun j => shapeCast S16 ((![x0, x1, x2, x3, x4, x5, x6, x7] : Fin 8 → Vec F S1x1x16 .f32) j) shapeCasts_S1x1x16_S16

/-- One row on the fast path. -/
def accFast (v : Fin 8 → FVec F S16 .f32) (a : Acc F) : Acc F :=
  ⟨fun j => addf (a.s j) (v j), fun j => maximumf (a.m j) (v j), a.run, Scalar.addf a.cnt (Scalar.ofBits .f32 0x3F800000#32)⟩

def fastRows : (l : List (Fin 16)) → Acc F → PT F i (Tup F)
  | [], a => .ret a.tup
  | r :: l, a => loads8 i arg7 k0_t2 k0_t3 r fun v => fastRows l (accFast v a)

variable (arg8 : Memref sig .scVector .vmem S3136 .i32) (arg9 : Memref sig .scVector .vmem S256x128 .f32) (arg10 : Memref sig .scVector .vmem S256x128 .f32) (arg11 : Memref sig .scVector .vmem S256x16 .f32)

/-- The mask of the lanes that flush. -/
def flushM (seg run : IVec S16 32) : IVec S16 1 :=
  andi (xori (cmpi .eq seg run) (constantI S16 1 1#1)) (cmpi .sge run (broadcast S16 0#32))
/-- The row it flushes to. -/
def atRow (run : IVec S16 32) : IVec S16 32 := maxsi run (broadcast S16 0#32)
/-- The columns of lane group `j`. -/
def colIx (v2 : IVec S16 32) (j : Fin 8) : IVec S16 32 := addi v2 (broadcast S16 (BitVec.ofNat 32 (16 * j.val)))

/-- The least of the lanes of a mask, as a number. -/
def minBit (e : IVec S16 1) : BitVec 32 :=
  extractAt ![15] (xori (scan .min (xori (extui 32 e natLt_1_32) (broadcast S16 2147483648#32))) (broadcast S16 2147483648#32)) inpos_S16_p15

/-- One row on the slow path. -/
def accSlow (seg : IVec S16 32) (v : Fin 8 → FVec F S16 .f32) (a : Acc F) : Acc F :=
  let e := cmpi .eq seg a.run
  ⟨fun j => select e (addf (a.s j) (v j)) (v j), fun j => select e (maximumf (a.m j) (v j)) (v j), seg,
    Scalar.addf (Scalar.mulf a.cnt (Scalar.sitofp .f32 (minBit e))) (Scalar.ofBits .f32 0x3F800000#32)⟩

/-- The two stores of lane group `j` of a flushed run. -/
def flush1 (v2 : IVec S16 32) (v140 : BitVec 32) (k0_h2 : ¬(k0_cond2 v140 = 1#1)) (seg : IVec S16 32) (a : Acc F) (j : Fin 8) (k : PT F i (Tup F)) : PT F i (Tup F) :=
  .op (TpuEff.assume (k0_chk2 v140 (atRow a.run) (colIx v2 j)) (k0_chk2.dec _ _ _)) fun h2a =>
  SparseCore.vectorStoreIdx arg9 ![atRow a.run, colIx v2 j] (a.s j) (flushM seg a.run) false (k0_idx2_inb v140 _ _ h2a.down k0_h2) (View.stores_vmem_bits_univ h_S256x128 rfl) >>= fun _ =>
  SparseCore.vectorStoreIdx arg10 ![atRow a.run, colIx v2 j] (a.m j) (flushM seg a.run) false (k0_idx3_inb v140 _ _ h2a.down k0_h2) (View.stores_vmem_bits_univ h_S256x128 rfl) >>= fun _ => k

def flushes (v2 : IVec S16 32) (v140 : BitVec 32) (k0_h2 : ¬(k0_cond2 v140 = 1#1)) (seg : IVec S16 32) (a : Acc F) : List (Fin 8) → PT F i (Tup F) → PT F i (Tup F)
  | [], k => k
  | j :: l, k => flush1 i arg9 arg10 v2 v140 k0_h2 seg a j (flushes v2 v140 k0_h2 seg a l k)

def slowRow (v2 : IVec S16 32) (v130 v140 : BitVec 32) (k0_h2 : ¬(k0_cond2 v140 = 1#1)) (r : Fin 16) (a : Acc F) (k : Acc F → PT F i (Tup F)) : PT F i (Tup F) :=
  .op (TpuEff.assume (k0_chk1 v140 (broadcast S16 (Scalar.addi v130 (BitVec.ofNat 32 r.val)))) (k0_chk1.dec _ _)) fun h1 =>
  SparseCore.vectorLoadIdx arg8 ![broadcast S16 (Scalar.addi v130 (BitVec.ofNat 32 r.val))] (k0_idx1_inb v140 _ h1.down k0_h2) (View.loads_vmem h_S3136) >>= fun (seg : IVec S16 32) =>
  loads8 i arg7 k0_t2 k0_t3 r fun v =>
  .op (TpuEff.assume (k0_chk10 v2 v140 (atRow a.run)) (k0_chk10.dec _ _ _)) fun h10 =>
  flushes i arg9 arg10 v2 v140 k0_h2 seg a [0, 1, 2, 3, 4, 5, 6, 7] (
  SparseCore.vectorStoreIdx arg11 ![atRow a.run, v2] (broadcast S16 a.cnt) (flushM seg a.run) false (k0_idx18_inb v2 v140 _ h10.down k0_h2) (View.stores_vmem_bits_univ h_S256x16 rfl) >>= fun _ =>
  k (accSlow seg v a))

def slowRows (v2 : IVec S16 32) (v130 v140 : BitVec 32) (k0_h2 : ¬(k0_cond2 v140 = 1#1)) : (l : List (Fin 16)) → Acc F → PT F i (Tup F)
  | [], a => .ret a.tup
  | r :: l, a => slowRow i arg7 k0_t2 k0_t3 arg8 arg9 arg10 arg11 v2 v130 v140 k0_h2 r a (slowRows v2 v130 v140 k0_h2 l)

set_option maxRecDepth 1000000
set_option maxHeartbeats 0
/-- The fast path's region is sixteen rows of it. -/
theorem fast_eq (i : grid0.Coords) (arg2 : Memref sig .scVector .hbm S100000x128 .f32) (harg2 : arg2.IsWhole) (arg3 : Memref sig .scVector .hbm S100000 .i32) (harg3 : arg3.IsWhole) (arg4 : Memref sig .scVector .hbm S32x256x128 .f32) (harg4 : arg4.IsWhole) (arg5 : Memref sig .scVector .hbm S32x256x128 .f32) (harg5 : arg5.IsWhole) (arg6 : Memref sig .scVector .hbm S32x256x16 .f32) (harg6 : arg6.IsWhole) (arg7 : Memref sig .scVector .vmem S2x112x128 .f32) (harg7 : arg7.IsWhole) (arg8 : Memref sig .scVector .vmem S3136 .i32) (harg8 : arg8.IsWhole) (arg9 : Memref sig .scVector .vmem S256x128 .f32) (harg9 : arg9.IsWhole) (arg10 : Memref sig .scVector .vmem S256x128 .f32) (harg10 : arg10.IsWhole) (arg11 : Memref sig .scVector .vmem S256x16 .f32) (harg11 : arg11.IsWhole) (arg12 : DmaSems sig S2) (v95_r0 : DmaSems sig S_) (v95_r1 : DmaSems sig S_) (v95_r2 : DmaSems sig S_) (v95_r3 : DmaSems sig S_) (k0_t2 : Fin (k0_t2_loop i).trips) (k0_t3 : Fin (k0_t3_loop i k0_t2).trips) (v95 : BitVec 32) (v126 : BitVec 32) (a : Acc F) :
    ((k0_part20 i arg2 harg2 arg3 harg3 arg4 harg4 arg5 harg5 arg6 harg6 arg7 harg7 arg8 harg8 arg9 harg9 arg10 harg10 arg11 harg11 arg12 v95_r0 v95_r1 v95_r2 v95_r3 k0_t2 v95 k0_t3 (a.s 0) (a.s 1) (a.s 2) (a.s 3) (a.s 4) (a.s 5) (a.s 6) (a.s 7) (a.m 0) (a.m 1) (a.m 2) (a.m 3) (a.m 4) (a.m 5) (a.m 6) (a.m 7) a.cnt v126 >>= fun ⟨v878, v879, v911, v912, v913, v914, v915, v916, v917, v918, v919, v920, v921, v922, v923, v924, v925, v926⟩ =>
      pure (v912, v913, v914, v915, v916, v917, v918, v919, v920, v921, v922, v923, v924, v925, v926, maximumf v878 v911, a.run, Scalar.addf v879 (Scalar.ofBits .f32 0x3F800000#32))) : PT F i (Tup F))
    = fastRows i arg7 k0_t2 k0_t3 [0, 1, 2, 3, 4, 5, 6, 7, 8, 9, 10, 11, 12, 13, 14, 15] a := by
  rfl
/-- The slow path's region is sixteen rows of it. -/
theorem slow_eq (i : grid0.Coords) (arg2 : Memref sig .scVector .hbm S100000x128 .f32) (harg2 : arg2.IsWhole) (arg3 : Memref sig .scVector .hbm S100000 .i32) (harg3 : arg3.IsWhole) (arg4 : Memref sig .scVector .hbm S32x256x128 .f32) (harg4 : arg4.IsWhole) (arg5 : Memref sig .scVector .hbm S32x256x128 .f32) (harg5 : arg5.IsWhole) (arg6 : Memref sig .scVector .hbm S32x256x16 .f32) (harg6 : arg6.IsWhole) (arg7 : Memref sig .scVector .vmem S2x112x128 .f32) (harg7 : arg7.IsWhole) (arg8 : Memref sig .scVector .vmem S3136 .i32) (harg8 : arg8.IsWhole) (arg9 : Memref sig .scVector .vmem S256x128 .f32) (harg9 : arg9.IsWhole) (arg10 : Memref sig .scVector .vmem S256x128 .f32) (harg10 : arg10.IsWhole) (arg11 : Memref sig .scVector .vmem S256x16 .f32) (harg11 : arg11.IsWhole) (arg12 : DmaSems sig S2) (v95_r0 : DmaSems sig S_) (v95_r1 : DmaSems sig S_) (v95_r2 : DmaSems sig S_) (v95_r3 : DmaSems sig S_) (v2 : IVec S16 32) (k0_t2 : Fin (k0_t2_loop i).trips) (k0_t3 : Fin (k0_t3_loop i k0_t2).trips) (v95 : BitVec 32) (v126 v130 v140 : BitVec 32) (k0_h2 : ¬(k0_cond2 v140 = 1#1)) (a : Acc F) :
    ((k0_part65 i arg2 harg2 arg3 harg3 arg4 harg4 arg5 harg5 arg6 harg6 arg7 harg7 arg8 harg8 arg9 harg9 arg10 harg10 arg11 harg11 arg12 v95_r0 v95_r1 v95_r2 v95_r3 v2 k0_t2 v95 k0_t3 (a.s 0) (a.s 1) (a.s 2) (a.s 3) (a.s 4) (a.s 5) (a.s 6) (a.s 7) (a.m 0) (a.m 1) (a.m 2) (a.m 3) (a.m 4) (a.m 5) (a.m 6) (a.m 7) a.run a.cnt v126 v130 v140 k0_h2 >>= fun ⟨v1647, v1649, v1651, v1653, v1655, v1657, v1659, v1662, v1670, v1674, v1678, v1682, v1686, v1690, v1694, v1695, v1726, v1728, v1730, v1732, v1734, v1736, v1738, v1740, v1742, v1744, v1745⟩ => do
      have v1746 : FVec F S16 .f32 := select v1695 v1745 v1670
      have v1747 : FVec F S16 .f32 := maximumf v1647 v1674
      have v1748 : FVec F S16 .f32 := select v1695 v1747 v1674
      have v1749 : FVec F S16 .f32 := maximumf v1649 v1678
      have v1750 : FVec F S16 .f32 := select v1695 v1749 v1678
      have v1751 : FVec F S16 .f32 := maximumf v1651 v1682
      have v1752 : FVec F S16 .f32 := select v1695 v1751 v1682
      have v1753 : FVec F S16 .f32 := maximumf v1653 v1686
      have v1754 : FVec F S16 .f32 := select v1695 v1753 v1686
      have v1755 : FVec F S16 .f32 := maximumf v1655 v1690
      have v1756 : FVec F S16 .f32 := select v1695 v1755 v1690
      have v1757 : FVec F S16 .f32 := maximumf v1657 v1694
      have v1758 : FVec F S16 .f32 := select v1695 v1757 v1694
      have v1759 : F .f32 := Scalar.mulf v1659 v1726
      have cst_542 : F .f32 := Scalar.ofBits .f32 0x3F800000#32
      have v1760 : F .f32 := Scalar.addf v1759 cst_542
      pure (v1728, v1730, v1732, v1734, v1736, v1738, v1740, v1742, v1744, v1746, v1748, v1750, v1752, v1754, v1756, v1758, v1662, v1760)) : PT F i (Tup F))
    = slowRows i arg7 k0_t2 k0_t3 arg8 arg9 arg10 arg11 v2 v130 v140 k0_h2 [0, 1, 2, 3, 4, 5, 6, 7, 8, 9, 10, 11, 12, 13, 14, 15] a := by
  rfl
end Cert.KernelIdeal
-- ==== Proof.Base.lean ====
/-
  What the launch of the kernel is stated over: the program as the launch theorem sees it, the resource algebra, the
  buffers of a tile, and the sequential meaning of a tile's work over any float family.
-/
module

public import proofs.«01_k».proof.Proof.Facts
public import proofs.«01_k».proof.Proof.Row
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic

@[expose] public section

noncomputable section

namespace Cert.Proof.Pool

open Cert.KernelIdeal Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program as the launch theorem sees it -/

abbrev ΛP (F : FTy → Type) [FloatOps F] : Labels := Pipeline.Sig Λ₀ (Fin 1) fun p => (pcfgs (F := F) p).Adm
abbrev K : SparseCore.Cfg τ sig (ΛP F) 1 := sc (F := F)
abbrev D : Defs nD τ sig (Elt F) (ΛP F) := Pipeline.defs pcfgs defs₀
abbrev 𝒱₀ : Variants := Variants.none
abbrev 𝒱 : Variants := 𝒱₀.lift
abbrev v₀ : 𝒱.V := Sum.inl none

theorem kfacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UK : Type := URounds (GSem nD τ sig) Unit
abbrev UU : Type := UH × (UK × Counters)
abbrev MM (F : FTy → Type) : Type _ := MT nD τ sig (HIx 1) (Elt F) ℕ UU ℕ

abbrev EH : Emb UH (MM F) := embL

/-! ## A tile -/

abbrev cV (i : grid0.Coords) : Fin τ.nSC := (i 0).castLE hcore0
abbrev jV (i : grid0.Coords) : Fin τ.nSub := (i 1).castLE hsub0

/-- The number of a tile, the row its part starts at, its blocks and its chunks of sixteen rows. -/
def wid (i : grid0.Coords) : ℕ := (i 1).val * 2 + (i 0).val
def nbt (i : grid0.Coords) : ℕ := if wid i = 31 then 25 else 28
def nch (i : grid0.Coords) : ℕ := if wid i = 31 then 174 else 196

abbrev b7 : Memref sig .scVector .vmem S2x112x128 .f32 := Memref.whole cc0_scratch0
abbrev b8 : Memref sig .scVector .vmem S3136 .i32 := Memref.whole cc0_scratch1
abbrev b9 : Memref sig .scVector .vmem S256x128 .f32 := Memref.whole cc0_scratch2
abbrev b10 : Memref sig .scVector .vmem S256x128 .f32 := Memref.whole cc0_scratch3
abbrev b11 : Memref sig .scVector .vmem S256x16 .f32 := Memref.whole cc0_scratch4

/-- The lane numbers. -/
abbrev lanes : IVec S16 32 := iota .scVector S16 32 [0] iota_S16_d0_w32_scVector

/-! ## The sequential meaning of a tile's work -/

/-- What a tile holds besides the rows: what its loop carries and its three tables. -/
structure St (F : FTy → Type) where
  acc : Acc F
  sumT : S256x128.Idx → F .f32
  maxT : S256x128.Idx → F .f32
  cntT : S256x16.Idx → F .f32

/-- A masked scatter, nothing where an index is out of range. -/
def scat {s : Shape} (T : s.Idx → F .f32) (idxs : Fin s.rank → IVec S16 32) (v : FVec F S16 .f32) (mask : IVec S16 1) : s.Idx → F .f32 :=
  open Classical in if h : ∀ a x, (idxs a x).toNat < s.size a then storeIdx (e := .f32) T idxs v mask false h else T

/-- One row on the fast path. -/
def fastSt (v : Fin 8 → FVec F S16 .f32) (st : St F) : St F := { st with acc := accFast v st.acc }

/-- The tables once the run in hand is flushed under a mask. -/
def flushSt (mask : IVec S16 1) (a : Acc F) (st : St F) : St F :=
  { st with
    sumT := List.foldl (fun T j => scat T ![atRow a.run, colIx lanes j] (a.s j) mask) st.sumT [0, 1, 2, 3, 4, 5, 6, 7]
    maxT := List.foldl (fun T j => scat T ![atRow a.run, colIx lanes j] (a.m j) mask) st.maxT [0, 1, 2, 3, 4, 5, 6, 7]
    cntT := scat st.cntT ![atRow a.run, lanes] (broadcast S16 a.cnt) mask }

/-- One row on the slow path. -/
def slowSt (seg : IVec S16 32) (v : Fin 8 → FVec F S16 .f32) (st : St F) : St F :=
  { flushSt (flushM seg st.acc.run) st.acc st with acc := accSlow seg v st.acc }

section Data

variable (x : S100000x128.Idx → F .f32) (ids : S100000.Idx → BitVec 32)

def xAt (r c : ℕ) : F .f32 := x fun | 0 => ⟨r % 100000, Nat.mod_lt _ (by decide)⟩ | 1 => ⟨c % 128, Nat.mod_lt _ (by decide)⟩
def idAt (r : ℕ) : BitVec 32 := ids fun | 0 => ⟨r % 100000, Nat.mod_lt _ (by decide)⟩

/-- Row `n` of the data as the eight vectors the loop loads. -/
def rowV (n : ℕ) (j : Fin 8) : FVec F S16 .f32 := fun l => xAt x n (16 * j.val + (l 0).val)
/-- The id of row `n` on every lane. -/
def segV (n : ℕ) : IVec S16 32 := fun _ => idAt ids n
/-- The ids of the sixteen rows from `n`. -/
def idsV (n : ℕ) : IVec S16 32 := fun l => idAt ids (n + (l 0).val)

/-- Sixteen rows from row `n`. -/
def chunkSt (n : ℕ) (st : St F) : St F :=
  if k0_cond2 (minBit (cmpi .eq (idsV ids n) st.acc.run)) = 1#1 then (List.finRange 16).foldl (fun st r => fastSt (rowV x (n + r.val)) st) st
  else (List.finRange 16).foldl (fun st r => slowSt (segV ids (n + r.val)) (rowV x (n + r.val)) st) st

/-- What the loop carries at first. -/
def acc₀ : Acc F :=
  ⟨fun _ => broadcast S16 (Scalar.ofBits .f32 0x00000000#32), fun _ => broadcast S16 (Scalar.ofBits .f32 0xFF800000#32), broadcast S16 4294967295#32, Scalar.ofBits .f32 0x00000000#32⟩

def st₀ (t9 t10 : S256x128.Idx → F .f32) : St F := ⟨acc₀, t9, t10, fun _ => Scalar.ofBits .f32 0x00000000#32⟩

/-- The state of a tile once it has done `k` chunks. -/
def stC (i : grid0.Coords) (t9 t10 : S256x128.Idx → F .f32) : ℕ → St F
  | 0 => st₀ t9 t10
  | k + 1 => chunkSt x ids (3136 * wid i + 16 * k) (stC i t9 t10 k)

/-- The last flush's mask. -/
def endM (run : IVec S16 32) : IVec S16 1 := cmpi .sge run (broadcast S16 0#32)

/-- What a tile leaves. -/
def stEnd (i : grid0.Coords) (t9 t10 : S256x128.Idx → F .f32) : St F :=
  flushSt (endM (stC x ids i t9 t10 (nch i)).acc.run) (stC x ids i t9 t10 (nch i)).acc (stC x ids i t9 t10 (nch i))

end Data

end Cert.Proof.Pool

end
-- ==== Proof.Step.lean ====
/-
  One row and one chunk of a tile's loop: what the program does on the tile's buffers is what `Base`'s sequential meaning says.
-/
module

public import proofs.«01_k».proof.Proof.Base

@[expose] public section

noncomputable section

namespace Cert.Proof.Pool

open Cert.KernelIdeal Cert.KernelIdeal.Facts₀ Cert.KernelIdeal.Facts
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The thread of a tile. -/
abbrev tl (d : Dev nD) (i : grid0.Coords) : Thread nD τ := V d (cV i) (jV i)

/-- The predicate transformer of a tile's program. -/
abbrev W (d : Dev nD) (i : grid0.Coords) {α : Type} (p : PT F i α) (Q : α → sProp (MM F)) : sProp (MM F) :=
  wp frame (wpE (defs₀ (F := F)) 𝒱₀ (tl d i) none) Set.univ p Q

/-! ## Numbers -/

/-- The row the block `t` starts at in memory, the rows before its first. -/
def blkBase (i : grid0.Coords) (t : ℕ) : ℕ := min (3136 * wid i + 112 * t) 99888
/-- The row the ids held start at. -/
def idBase (i : grid0.Coords) : ℕ := min (3136 * wid i) 96864

theorem skip_eq : ∀ (i : grid0.Coords) (t : Fin (k0_t2_loop i).trips),
    (skipW i t).toNat + min (3136 * ((i 1).val * 2 + (i 0).val) + 112 * t.val) 99888 = 3136 * ((i 1).val * 2 + (i 0).val) + 112 * t.val := by decide +kernel
theorem idW_eq : ∀ (i : grid0.Coords), (idW i).toNat + min (3136 * ((i 1).val * 2 + (i 0).val)) 96864 = 3136 * ((i 1).val * 2 + (i 0).val) := by decide +kernel

/-- The first row of chunk `c` of block `t`. -/
def rowN (i : grid0.Coords) (t c : ℕ) : ℕ := 3136 * wid i + 16 * (7 * t + c)

theorem row_at (i : grid0.Coords) (t : Fin (k0_t2_loop i).trips) (c r : ℕ) :
    blkBase i t.val + ((skipW i t).toNat + 16 * c + r) = rowN i t.val c + r := by
  have h := skip_eq i t
  unfold blkBase rowN wid
  omega

theorem id_at (i : grid0.Coords) (n : ℕ) : idBase i + ((idW i).toNat + 16 * n) = 3136 * wid i + 16 * n := by
  have h := idW_eq i
  unfold idBase wid
  omega

section Loads

variable (x : S100000x128.Idx → F .f32) (ids : S100000.Idx → BitVec 32)

/-- What a slot of the row buffer holds once rows from `n` have landed there. -/
def blk (n : ℕ) : S2x112x128.Idx → F .f32 := fun y => xAt x (n + (y 1).val) (y 2).val
/-- What the id buffer holds. -/
def idBuf (i : grid0.Coords) : S3136.Idx → BitVec 32 := fun y => idAt ids (idBase i + (y 0).val)

theorem pos_1x1x16 (l : S16.Idx) (k : S1x1x16.Idx) (hk : (k 2).val = (l 0).val) : (S1x1x16.rowMajor k).val = (S16.rowMajor l).val := by
  rw [Shape.rowMajor_val_three, Shape.rowMajor_val_one]
  have h0 : (k 0).val = 0 := by have := (k 0).isLt; change (k 0).val < 1 at this; omega
  have h1 : (k 1).val = 0 := by have := (k 1).isLt; change (k 1).val < 1 at this; omega
  rw [h0, h1]
  simp [hk]

variable (d : Dev nD) (i : grid0.Coords)

/-- A row's load of lane group `j`. -/
theorem wp_ld {α : Type} {off : Fin 3 → ℕ} {inb : ∀ a, off a + S1x1x16.size a ≤ S2x112x128.size a}
    {hl : b7.view.LoadsAt (Rect.unit (s := S2x112x128) off S1x1x16.size inb).toLoadRect}
    {S : Finset S2x112x128.Idx} {n : ℕ} {k : Vec F S1x1x16 .f32 → PT F i α} {Q : α → sProp (MM F)} (p q : ℕ) (j : Fin 8)
    (hoff : off = ![p, q, 16 * j.val]) (hS : ∀ y : S2x112x128.Idx, (y 0).val = p → y ∈ S) :
    ((tl d i).loc cc0_scratch0 ↦[S]{fullShare} blk x n)
      ⊢ iprop((∀ v, ⌜shapeCast S16 v shapeCasts_S1x1x16_S16 = rowV x (n + q) j⌝ -∗ ((tl d i).loc cc0_scratch0 ↦[S]{fullShare} blk x n) -∗ W d i (k v) Q)
        -∗ W d i (.op (.load b7 (Rect.unit (s := S2x112x128) off S1x1x16.size inb).toLoadRect hl) k) Q) := by
  subst hoff
  iintro H Hk
  iapply (wp_load_rect (defs := defs₀ (F := F)) 𝒱₀ (tl d i) none Set.univ (m := b7) (r := Rect.unit (s := S2x112x128) ![p, q, 16 * j.val] S1x1x16.size inb)
    (S := S) (q := fullShare) (f := blk x n) ?hS) $$ H
  case hS =>
    intro y hy
    refine hS y ?_
    rw [View.set, Finset.mem_map] at hy
    obtain ⟨z, -, rfl⟩ := hy
    have : (z 0).val = 0 := by have := (z 0).isLt; change (z 0).val < 1 at this; omega
    show p + 1 * (z 0).val = p
    omega
  iintro H
  ispecialize Hk $$ %_ %_ H
  swap; iexact Hk
  funext l
  have e : Shape.reshapeEquiv (s := S1x1x16) (s' := S16) shapeCasts_S1x1x16_S16 l = (fun | 0 => ⟨0, by decide⟩ | 1 => ⟨0, by decide⟩ | 2 => ⟨(l 0).val, (l 0).isLt⟩) :=
    Shape.reshapeEquiv_eq_of_rowMajor _ (pos_1x1x16 l _ rfl)
  refine (congrArg ((b7.access (Rect.unit (s := S2x112x128) ![p, q, 16 * j.val] S1x1x16.size inb)).read (Elt F) (blk x n)) e).trans ?_
  show xAt x (n + (q + 1 * 0)) (16 * j.val + 1 * (l 0).val) = xAt x (n + q) (16 * j.val + (l 0).val)
  simp

variable (t : Fin (k0_t2_loop i).trips) (c : Fin (k0_t3_loop i t).trips)

theorem off_row (r : Fin 16) (w : ℕ) :
    (![(Scalar.indexCast (Scalar.remsi (Scf.iv 0#32 1#32 t : BitVec 32) 2#32)).toNat,
      (Scalar.indexCast (Scalar.addi (Scalar.addi (skipW i t) (Scalar.muli (Scf.iv 0#32 1#32 c) 16#32)) (BitVec.ofNat 32 r.val))).toNat, w] : Fin 3 → ℕ)
      = ![t.val % 2, (skipW i t).toNat + 16 * c.val + r.val, w] := by
  rw [row_toNat, show (Scalar.indexCast (Scalar.remsi (Scf.iv 0#32 1#32 t : BitVec 32) 2#32)).toNat = t.val % 2 from (skip_le i t).1.2]

/-- The eight loads of a row. -/
theorem wp_loads8 {S : Finset S2x112x128.Idx} (hS : ∀ y : S2x112x128.Idx, (y 0).val = t.val % 2 → y ∈ S) (r : Fin 16)
    {k : (Fin 8 → FVec F S16 .f32) → PT F i (Tup F)} {Q : Tup F → sProp (MM F)} :
    ((tl d i).loc cc0_scratch0 ↦[S]{fullShare} blk x (blkBase i t.val))
      ⊢ iprop((((tl d i).loc cc0_scratch0 ↦[S]{fullShare} blk x (blkBase i t.val)) -∗ W d i (k (rowV x (rowN i t.val c.val + r.val))) Q)
        -∗ W d i (loads8 i b7 t c r k) Q) := by
  have hn := row_at i t c.val r.val
  iintro H Hk
  unfold loads8
  iapply (wp_ld x d i (t.val % 2) ((skipW i t).toNat + 16 * c.val + r.val) 0 (off_row i t c r 0) hS) $$ H
  iintro %v0 %h0 H
  iapply (wp_ld x d i (t.val % 2) ((skipW i t).toNat + 16 * c.val + r.val) 1 (off_row i t c r 16) hS) $$ H
  iintro %v1 %h1 H
  iapply (wp_ld x d i (t.val % 2) ((skipW i t).toNat + 16 * c.val + r.val) 2 (off_row i t c r 32) hS) $$ H
  iintro %v2 %h2 H
  iapply (wp_ld x d i (t.val % 2) ((skipW i t).toNat + 16 * c.val + r.val) 3 (off_row i t c r 48) hS) $$ H
  iintro %v3 %h3 H
  iapply (wp_ld x d i (t.val % 2) ((skipW i t).toNat + 16 * c.val + r.val) 4 (off_row i t c r 64) hS) $$ H
  iintro %v4 %h4 H
  iapply (wp_ld x d i (t.val % 2) ((skipW i t).toNat + 16 * c.val + r.val) 5 (off_row i t c r 80) hS) $$ H
  iintro %v5 %h5 H
  iapply (wp_ld x d i (t.val % 2) ((skipW i t).toNat + 16 * c.val + r.val) 6 (off_row i t c r 96) hS) $$ H
  iintro %v6 %h6 H
  iapply (wp_ld x d i (t.val % 2) ((skipW i t).toNat + 16 * c.val + r.val) 7 (off_row i t c r 112) hS) $$ H
  iintro %v7 %h7 H
  have e : (fun j => shapeCast S16 ((![v0, v1, v2, v3, v4, v5, v6, v7] : Fin 8 → Vec F S1x1x16 .f32) j) shapeCasts_S1x1x16_S16) = rowV x (rowN i t.val c.val + r.val) := by
    rw [hn] at h0 h1 h2 h3 h4 h5 h6 h7
    funext j
    match j with
    | 0 => exact h0
    | 1 => exact h1
    | 2 => exact h2
    | 3 => exact h3
    | 4 => exact h4
    | 5 => exact h5
    | 6 => exact h6
    | 7 => exact h7
  rw [e]
  iapply Hk $$ H

/-- The rows of the fast path. -/
theorem wp_fastRows {S : Finset S2x112x128.Idx} (hS : ∀ y : S2x112x128.Idx, (y 0).val = t.val % 2 → y ∈ S) {Q : Tup F → sProp (MM F)} :
    ∀ (l : List (Fin 16)) (st : St F),
    ((tl d i).loc cc0_scratch0 ↦[S]{fullShare} blk x (blkBase i t.val))
      ⊢ iprop((((tl d i).loc cc0_scratch0 ↦[S]{fullShare} blk x (blkBase i t.val)) -∗ Q (l.foldl (fun st r => fastSt (rowV x (rowN i t.val c.val + r.val)) st) st).acc.tup)
        -∗ W d i (fastRows i b7 t c l st.acc) Q)
  | [], st => by
    simp only [List.foldl_nil]
    iintro H Hk
    ihave Hk := Hk $$ H
    unfold fastRows W
    sl_step
    iexact Hk
  | r :: l, st => by
    iintro H Hk
    unfold fastRows
    iapply (wp_loads8 x d i t c hS r) $$ H
    iintro H
    iapply (wp_fastRows hS l (fastSt (rowV x (rowN i t.val c.val + r.val)) st)) $$ H
    iexact Hk

/-! ## Scatters -/

/-- The rows a run names are rows of the tables. -/
def InR (run : IVec S16 32) : Prop := ∀ z, (atRow run z).toNat < 256

theorem lanes_toNat (z : S16.Idx) : (lanes z).toNat = (z 0).val := by
  have h : (z 0).val < 16 := (z 0).isLt
  show (iota .scVector S16 32 [0] iota_S16_d0_w32_scVector z).toNat = _
  simp only [iota, List.map_cons, List.map_nil]
  simp
  omega

theorem colIx_toNat (j : Fin 8) (z : S16.Idx) : (colIx lanes j z).toNat = (z 0).val + 16 * j.val := by
  have h : (z 0).val < 16 := (z 0).isLt
  have hj := j.isLt
  show (lanes z + BitVec.ofNat 32 (16 * j.val)).toNat = _
  rw [BitVec.toNat_add, lanes_toNat, BitVec.toNat_ofNat]
  omega

theorem in_tab {run : IVec S16 32} (h : InR run) (j : Fin 8) : ∀ a z, ((![atRow run, colIx lanes j] : Fin 2 → IVec S16 32) a z).toNat < S256x128.size a := by
  intro a z
  match a with
  | 0 => exact h z
  | 1 =>
    show (colIx lanes j z).toNat < 128
    rw [colIx_toNat]
    have h : (z 0).val < 16 := (z 0).isLt
    omega

theorem in_cnt {run : IVec S16 32} (h : InR run) : ∀ a z, ((![atRow run, lanes] : Fin 2 → IVec S16 32) a z).toNat < S256x16.size a := by
  intro a z
  match a with
  | 0 => exact h z
  | 1 => exact (lanes_toNat z).trans_lt (z 0).isLt

theorem wp_scat9 {α : Type} {T : S256x128.Idx → F .f32} {idxs : Fin 2 → IVec S16 32} {v : FVec F S16 .f32} {mask : IVec S16 1}
    {h : ∀ a z, (idxs a z).toNat < S256x128.size a} {hs : (b9.access (.whole S256x128)).Stores Finset.univ} {k : PUnit → PT F i α} {Q : α → sProp (MM F)} :
    ((tl d i).loc cc0_scratch2 ↦{fullShare} T)
      ⊢ iprop((((tl d i).loc cc0_scratch2 ↦{fullShare} scat T idxs v mask) -∗ W d i (k ⟨⟩) Q)
        -∗ W d i (SparseCore.vectorStoreIdx b9 idxs v mask false h hs >>= k) Q) := by
  have e := SparseCore.wp_vectorStoreIdx (defs := defs₀ (F := F)) 𝒱₀ (tl d i) none Set.univ (base := b9) (idxs := idxs) (v := v) (mask := mask) (add := false) (h := h) (hs := hs) (k := k) (f := T) (Q := Q)
  rw [show (b9.access (.whole S256x128)).set = Finset.univ from Memref.set_access_whole cc0_scratch2] at e
  rw [show (b9.access (.whole S256x128)).write (Elt F) T (storeIdx ((b9.access (.whole S256x128)).read (Elt F) T) idxs v mask false h) Finset.univ = scat T idxs v mask from by
    rw [scat, dif_pos h]
    exact (Memref.write_access_whole_univ (Elt F) cc0_scratch2 _ _).trans (congrArg (fun T => storeIdx (e := .f32) T idxs v mask false h) (Memref.read_access_whole (Elt F) cc0_scratch2 T))] at e
  exact e

theorem wp_scat10 {α : Type} {T : S256x128.Idx → F .f32} {idxs : Fin 2 → IVec S16 32} {v : FVec F S16 .f32} {mask : IVec S16 1}
    {h : ∀ a z, (idxs a z).toNat < S256x128.size a} {hs : (b10.access (.whole S256x128)).Stores Finset.univ} {k : PUnit → PT F i α} {Q : α → sProp (MM F)} :
    ((tl d i).loc cc0_scratch3 ↦{fullShare} T)
      ⊢ iprop((((tl d i).loc cc0_scratch3 ↦{fullShare} scat T idxs v mask) -∗ W d i (k ⟨⟩) Q)
        -∗ W d i (SparseCore.vectorStoreIdx b10 idxs v mask false h hs >>= k) Q) := by
  have e := SparseCore.wp_vectorStoreIdx (defs := defs₀ (F := F)) 𝒱₀ (tl d i) none Set.univ (base := b10) (idxs := idxs) (v := v) (mask := mask) (add := false) (h := h) (hs := hs) (k := k) (f := T) (Q := Q)
  rw [show (b10.access (.whole S256x128)).set = Finset.univ from Memref.set_access_whole cc0_scratch3] at e
  rw [show (b10.access (.whole S256x128)).write (Elt F) T (storeIdx ((b10.access (.whole S256x128)).read (Elt F) T) idxs v mask false h) Finset.univ = scat T idxs v mask from by
    rw [scat, dif_pos h]
    exact (Memref.write_access_whole_univ (Elt F) cc0_scratch3 _ _).trans (congrArg (fun T => storeIdx (e := .f32) T idxs v mask false h) (Memref.read_access_whole (Elt F) cc0_scratch3 T))] at e
  exact e

theorem wp_scat11 {α : Type} {T : S256x16.Idx → F .f32} {idxs : Fin 2 → IVec S16 32} {v : FVec F S16 .f32} {mask : IVec S16 1}
    {h : ∀ a z, (idxs a z).toNat < S256x16.size a} {hs : (b11.access (.whole S256x16)).Stores Finset.univ} {k : PUnit → PT F i α} {Q : α → sProp (MM F)} :
    ((tl d i).loc cc0_scratch4 ↦{fullShare} T)
      ⊢ iprop((((tl d i).loc cc0_scratch4 ↦{fullShare} scat T idxs v mask) -∗ W d i (k ⟨⟩) Q)
        -∗ W d i (SparseCore.vectorStoreIdx b11 idxs v mask false h hs >>= k) Q) := by
  have e := SparseCore.wp_vectorStoreIdx (defs := defs₀ (F := F)) 𝒱₀ (tl d i) none Set.univ (base := b11) (idxs := idxs) (v := v) (mask := mask) (add := false) (h := h) (hs := hs) (k := k) (f := T) (Q := Q)
  rw [show (b11.access (.whole S256x16)).set = Finset.univ from Memref.set_access_whole cc0_scratch4] at e
  rw [show (b11.access (.whole S256x16)).write (Elt F) T (storeIdx ((b11.access (.whole S256x16)).read (Elt F) T) idxs v mask false h) Finset.univ = scat T idxs v mask from by
    rw [scat, dif_pos h]
    exact (Memref.write_access_whole_univ (Elt F) cc0_scratch4 _ _).trans (congrArg (fun T => storeIdx (e := .f32) T idxs v mask false h) (Memref.read_access_whole (Elt F) cc0_scratch4 T))] at e
  exact e

/-- The two tables of rows. -/
abbrev Tab2 (T9 T10 : S256x128.Idx → F .f32) : sProp (MM F) :=
  iprop(((tl d i).loc cc0_scratch2 ↦{fullShare} T9) ∗ ((tl d i).loc cc0_scratch3 ↦{fullShare} T10))

theorem wp_flushes (v140 : BitVec 32) (h2 : ¬(k0_cond2 v140 = 1#1)) (seg : IVec S16 32) (a : Acc F) (ha : InR a.run) {k : PT F i (Tup F)} {Q : Tup F → sProp (MM F)} :
    ∀ (l : List (Fin 8)) (T9 T10 : S256x128.Idx → F .f32),
    Tab2 d i T9 T10
      ⊢ iprop((Tab2 d i (l.foldl (fun T j => scat T ![atRow a.run, colIx lanes j] (a.s j) (flushM seg a.run)) T9)
            (l.foldl (fun T j => scat T ![atRow a.run, colIx lanes j] (a.m j) (flushM seg a.run)) T10) -∗ W d i k Q)
        -∗ W d i (flushes i b9 b10 lanes v140 h2 seg a l k) Q)
  | [], T9, T10 => by
    simp only [List.foldl_nil]
    iintro H Hk
    unfold flushes
    iapply Hk $$ H
  | j :: l, T9, T10 => by
    iintro ⟨H9, H10⟩ Hk
    unfold flushes flush1
    iapply (Entails.of_eq (wp_assume_of (defs := defs₀ (F := F)) 𝒱₀ (tl d i) none Set.univ (P := k0_chk2 v140 (atRow a.run) (colIx lanes j)) ⟨fun _ => in_tab ha j, fun _ => in_tab ha j⟩).symm)
    iapply (wp_scat9 d i) $$ H9
    iintro H9
    iapply (wp_scat10 d i) $$ H10
    iintro H10
    ihave H : Tab2 d i _ _ $$ [H9 H10]
    · isplitl [H9]; · iexact H9
      iexact H10
    iapply (wp_flushes v140 h2 seg a ha l _ _) $$ H
    iexact Hk

/-- What the slow path works on. -/
abbrev SlowR (S : Finset S2x112x128.Idx) (st : St F) : sProp (MM F) :=
  iprop(((tl d i).loc cc0_scratch0 ↦[S]{fullShare} blk x (blkBase i t.val)) ∗ ((tl d i).loc cc0_scratch1 ↦{fullShare} idBuf ids i)
    ∗ ((tl d i).loc cc0_scratch2 ↦{fullShare} st.sumT) ∗ ((tl d i).loc cc0_scratch3 ↦{fullShare} st.maxT) ∗ ((tl d i).loc cc0_scratch4 ↦{fullShare} st.cntT))

/-- Every id is a row of the tables. -/
def IdsIn : Prop := ∀ r, (idAt ids r).toNat < 256

theorem InR_seg (h : IdsIn ids) (n : ℕ) : InR (segV ids n) := by
  intro z
  have h0 := h n
  show (IntOp.maxsi (idAt ids n) 0#32).toNat < 256
  unfold IntOp.maxsi
  split <;> simp [h0]

theorem wp_slowRow (hids : IdsIn ids) {S : Finset S2x112x128.Idx} (hS : ∀ y : S2x112x128.Idx, (y 0).val = t.val % 2 → y ∈ S)
    (v130 v140 : BitVec 32) (h2 : ¬(k0_cond2 v140 = 1#1)) (hv : v130.toNat = (idW i).toNat + 16 * (7 * t.val + c.val)) (r : Fin 16) (st : St F) (ha : InR st.acc.run)
    {k : Acc F → PT F i (Tup F)} {Q : Tup F → sProp (MM F)} :
    SlowR x ids d i t S st
      ⊢ iprop((SlowR x ids d i t S (slowSt (segV ids (rowN i t.val c.val + r.val)) (rowV x (rowN i t.val c.val + r.val)) st)
            -∗ W d i (k (slowSt (segV ids (rowN i t.val c.val + r.val)) (rowV x (rowN i t.val c.val + r.val)) st).acc) Q)
        -∗ W d i (slowRow i b7 t c b8 b9 b10 b11 lanes v130 v140 h2 r st.acc k) Q) := by
  have hle := (skip_le i t).2
  have hc := c.isLt
  have hr := r.isLt
  have hi : (Scalar.addi v130 (BitVec.ofNat 32 r.val)).toNat = (idW i).toNat + 16 * (7 * t.val + c.val) + r.val := by
    simp only [Scalar.addi, IntOp.addi, BitVec.toNat_add, BitVec.toNat_ofNat, hv]
    omega
  have hin : ∀ a z, ((![broadcast S16 (Scalar.addi v130 (BitVec.ofNat 32 r.val))] : Fin 1 → IVec S16 32) a z).toNat < S3136.size a := by
    intro a z
    match a with
    | 0 => show (Scalar.addi v130 (BitVec.ofNat 32 r.val)).toNat < 3136; rw [hi]; omega
  iintro ⟨H7, H8, H9, H10, H11⟩ Hk
  unfold slowRow
  iapply (Entails.of_eq (wp_assume_of (defs := defs₀ (F := F)) 𝒱₀ (tl d i) none Set.univ (P := k0_chk1 v140 (broadcast S16 (Scalar.addi v130 (BitVec.ofNat 32 r.val)))) (fun _ => hin)).symm)
  iapply (SparseCore.wp_vectorLoadIdx (defs := defs₀ (F := F)) 𝒱₀ (tl d i) none Set.univ (base := b8) (S := Finset.univ) (q := fullShare) (f := idBuf ids i) (Finset.subset_univ _)) $$ H8
  iintro H8
  have hseg : loadIdx (F := F) (e := .i32) ((b8.access (.whole S3136)).read (Elt F) (idBuf ids i)) ![broadcast S16 (Scalar.addi v130 (BitVec.ofNat 32 r.val))] hin
      = segV ids (rowN i t.val c.val + r.val) := by
    funext z
    rw [show (b8.access (.whole S3136)).read (Elt F) (idBuf ids i) = idBuf ids i from Memref.read_access_whole (Elt F) cc0_scratch1 _]
    show idAt ids (idBase i + (Scalar.addi v130 (BitVec.ofNat 32 r.val)).toNat) = idAt ids (rowN i t.val c.val + r.val)
    rw [hi, ← Nat.add_assoc, id_at]
    rfl
  rw [hseg]
  iapply (wp_loads8 x d i t c hS r) $$ H7
  iintro H7
  iapply (Entails.of_eq (wp_assume_of (defs := defs₀ (F := F)) 𝒱₀ (tl d i) none Set.univ (P := k0_chk10 lanes v140 (atRow st.acc.run)) (fun _ => in_cnt ha)).symm)
  ihave H : Tab2 d i st.sumT st.maxT $$ [H9 H10]
  · isplitl [H9]; · iexact H9
    iexact H10
  iapply (wp_flushes d i v140 h2 _ st.acc ha) $$ H
  iintro ⟨H9, H10⟩
  iapply (wp_scat11 d i) $$ H11
  iintro H11
  iapply Hk
  isplitl [H7]; · iexact H7
  isplitl [H8]; · iexact H8
  isplitl [H9]; · iexact H9
  isplitl [H10]; · iexact H10
  iexact H11

theorem slowSt_run (seg : IVec S16 32) (v : Fin 8 → FVec F S16 .f32) (st : St F) : (slowSt seg v st).acc.run = seg := rfl

theorem wp_slowRows (hids : IdsIn ids) {S : Finset S2x112x128.Idx} (hS : ∀ y : S2x112x128.Idx, (y 0).val = t.val % 2 → y ∈ S)
    (v130 v140 : BitVec 32) (h2 : ¬(k0_cond2 v140 = 1#1)) (hv : v130.toNat = (idW i).toNat + 16 * (7 * t.val + c.val)) {Q : Tup F → sProp (MM F)} :
    ∀ (l : List (Fin 16)) (st : St F) (_ : InR st.acc.run),
    SlowR x ids d i t S st
      ⊢ iprop((SlowR x ids d i t S (l.foldl (fun st r => slowSt (segV ids (rowN i t.val c.val + r.val)) (rowV x (rowN i t.val c.val + r.val)) st) st)
            -∗ Q (l.foldl (fun st r => slowSt (segV ids (rowN i t.val c.val + r.val)) (rowV x (rowN i t.val c.val + r.val)) st) st).acc.tup)
        -∗ W d i (slowRows i b7 t c b8 b9 b10 b11 lanes v130 v140 h2 l st.acc) Q)
  | [], st, ha => by
    simp only [List.foldl_nil]
    iintro H Hk
    ihave Hk := Hk $$ H
    unfold slowRows W
    sl_step
    iexact Hk
  | r :: l, st, ha => by
    rw [List.foldl_cons]
    iintro H Hk
    unfold slowRows
    iapply (wp_slowRow x ids d i t c hids hS v130 v140 h2 hv r st ha) $$ H
    iintro H
    have hr : InR (slowSt (segV ids (rowN i t.val c.val + r.val)) (rowV x (rowN i t.val c.val + r.val)) st).acc.run := by
      rw [slowSt_run]; exact InR_seg ids hids _
    generalize slowSt (segV ids (rowN i t.val c.val + r.val)) (rowV x (rowN i t.val c.val + r.val)) st = st' at hr ⊢
    iapply (wp_slowRows hids hS v130 v140 h2 hv l st' hr) $$ H
    iexact Hk

end Loads

end Cert.Proof.Pool

end
-- ==== Proof.Copy.lean ====
/-
  The copies of a tile: the blocks of rows into the two slots, the ids in, the three tables out.
-/
module

public import proofs.«01_k».proof.Proof.Step

@[expose] public section

noncomputable section

namespace Cert.Proof.Pool

open Cert.KernelIdeal Cert.KernelIdeal.Facts₀ Cert.KernelIdeal.Facts
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev EC : UEmb Counters (MM F) := countersEmb (U := UU)

abbrev b2 : Memref sig .scVector .hbm S100000x128 .f32 := Memref.whole main_arg0_scv
abbrev b3 : Memref sig .scVector .hbm S100000 .i32 := Memref.whole main_arg1_scv
abbrev b4 : Memref sig .scVector .hbm S32x256x128 .f32 := Memref.whole main_v0_0_scv
abbrev b5 : Memref sig .scVector .hbm S32x256x128 .f32 := Memref.whole main_v0_1_scv
abbrev b6 : Memref sig .scVector .hbm S32x256x16 .f32 := Memref.whole main_v0_2_scv

theorem slot_inb {p : ℕ} (hp : p < 2) : ∀ a, (![p, 0, 0] : Fin 3 → ℕ) a + S1x112x128.size a ≤ S2x112x128.size a := by
  intro a
  match a with
  | 0 => show p + 1 ≤ 2; omega
  | 1 => show 0 + 112 ≤ 112; omega
  | 2 => show 0 + 128 ≤ 128; omega
theorem rows_inb {b : ℕ} (hb : b ≤ 99888) : ∀ a, (![b, 0] : Fin 2 → ℕ) a + S112x128.size a ≤ S100000x128.size a := by
  intro a
  match a with
  | 0 => show b + 112 ≤ 100000; omega
  | 1 => show 0 + 128 ≤ 128; omega
theorem ids_inb {b : ℕ} (hb : b ≤ 96864) : ∀ a, (![b] : Fin 1 → ℕ) a + S3136.size a ≤ S100000.size a := by
  intro a
  match a with
  | 0 => show b + 3136 ≤ 100000; omega
theorem sem_inb {p : ℕ} (hp : p < 2) : ∀ a, (![p] : Fin 1 → ℕ) a + S1.size a ≤ S2.size a := by
  intro a
  match a with
  | 0 => show p + 1 ≤ 2; omega

/-- A slot of the row buffer, a block of rows, a part of the ids, a slot's semaphore. -/
def slotM (p : ℕ) (hp : p < 2) : Memref sig .scVector .vmem S112x128 .f32 :=
  (b7.slice (Rect.unit (s := S2x112x128) ![p, 0, 0] S1x112x128.size (slot_inb hp)) (fun _ => rfl)).squeeze S112x128 squeezes_S1x112x128_S112x128
def rowsM (b : ℕ) (hb : b ≤ 99888) : Memref sig .scVector .hbm S112x128 .f32 :=
  b2.slice (Rect.unit (s := S100000x128) ![b, 0] S112x128.size (rows_inb hb)) (fun _ => rfl)
def idsM (b : ℕ) (hb : b ≤ 96864) : Memref sig .scVector .hbm S3136 .i32 :=
  b3.slice (Rect.unit (s := S100000) ![b] S3136.size (ids_inb hb)) (fun _ => rfl)
def semM (p : ℕ) (hp : p < 2) : DmaSem sig := ((cc0_scratch5.slice (Rect.unit (s := S2) ![p] S1.size (sem_inb hp))).squeeze S_ squeezes_S1_S_).sem

/-- The elements of slot `p`. -/
def slotS (p : ℕ) : Finset S2x112x128.Idx := Finset.univ.filter fun y => (y 0).val = p
/-- The elements of the block of rows from `b`. -/
def rowsS (b : ℕ) : Finset S100000x128.Idx := Finset.univ.filter fun y => b ≤ (y 0).val ∧ (y 0).val < b + 112
def idsS (b : ℕ) : Finset S100000.Idx := Finset.univ.filter fun y => b ≤ (y 0).val ∧ (y 0).val < b + 3136

theorem pos_1x112x128 (z : S112x128.Idx) (k : S1x112x128.Idx) (h1 : (k 1).val = (z 0).val) (h2 : (k 2).val = (z 1).val) :
    (S1x112x128.rowMajor k).val = (S112x128.rowMajor z).val := by
  rw [Shape.rowMajor_val_three, Shape.rowMajor_val_two]
  have h0 : (k 0).val = 0 := by have := (k 0).isLt; change (k 0).val < 1 at this; omega
  rw [h0, h1, h2]
  show (0 * 112 + _) * 128 + _ = _ * 128 + _
  omega

theorem slot_emb (p : ℕ) (hp : p < 2) (z : S112x128.Idx) :
    (slotM p hp).view.emb z = (fun | 0 => ⟨p, hp⟩ | 1 => z 0 | 2 => z 1 : S2x112x128.Idx) := by
  have e : Shape.reshapeEquiv (s := S1x112x128) (s' := S112x128) squeezes_S1x112x128_S112x128.numel_eq z = (fun | 0 => ⟨0, by decide⟩ | 1 => z 0 | 2 => z 1) :=
    Shape.reshapeEquiv_eq_of_rowMajor _ (pos_1x112x128 z _ rfl rfl)
  show (Rect.unit (s := S2x112x128) ![p, 0, 0] S1x112x128.size (slot_inb hp)).emb (Shape.reshapeEquiv (s := S1x112x128) (s' := S112x128) squeezes_S1x112x128_S112x128.numel_eq z) = _
  rw [e]
  funext a
  match a with
  | 0 => exact Fin.ext (show p + 1 * 0 = p by omega)
  | 1 => exact Fin.ext (show 0 + 1 * (z 0).val = (z 0).val by omega)
  | 2 => exact Fin.ext (show 0 + 1 * (z 1).val = (z 1).val by omega)

theorem set_slot (p : ℕ) (hp : p < 2) : (slotM p hp).view.set = slotS p := by
  refine Finset.ext fun (y : S2x112x128.Idx) => ?_
  constructor
  · intro hy
    obtain ⟨z, -, rfl⟩ := Finset.mem_map.mp hy
    refine Finset.mem_filter.mpr ⟨Finset.mem_univ _, ?_⟩
    rw [slot_emb]
  · intro hy
    obtain ⟨-, h⟩ := Finset.mem_filter.mp hy
    refine Finset.mem_map.mpr ⟨(fun | 0 => y 1 | 1 => y 2 : S112x128.Idx), Finset.mem_univ _, ?_⟩
    rw [slot_emb]
    funext a
    match a with
    | 0 => exact Fin.ext h.symm
    | 1 => rfl
    | 2 => rfl

/-- The element of the rows an element of a block is. -/
def rowsAt (b : ℕ) (hb : b ≤ 99888) (z : S112x128.Idx) : S100000x128.Idx := fun
  | 0 => ⟨b + (z 0).val, Nat.lt_of_lt_of_le (Nat.add_lt_add_left (z 0).isLt b) (Nat.add_le_add_right hb 112)⟩
  | 1 => z 1
def idsAt (b : ℕ) (hb : b ≤ 96864) (z : S3136.Idx) : S100000.Idx := fun
  | 0 => ⟨b + (z 0).val, Nat.lt_of_lt_of_le (Nat.add_lt_add_left (z 0).isLt b) (Nat.add_le_add_right hb 3136)⟩

theorem rows_emb (b : ℕ) (hb : b ≤ 99888) (z : S112x128.Idx) : (rowsM b hb).view.emb z = rowsAt b hb z := by
  show (Rect.unit (s := S100000x128) ![b, 0] S112x128.size (rows_inb hb)).emb z = _
  funext a
  match a with
  | 0 => exact Fin.ext (show b + 1 * (z 0).val = b + (z 0).val by omega)
  | 1 => exact Fin.ext (show 0 + 1 * (z 1).val = (z 1).val by omega)

theorem set_rows (b : ℕ) (hb : b ≤ 99888) : (rowsM b hb).view.set = rowsS b := by
  refine Finset.ext fun (y : S100000x128.Idx) => ?_
  constructor
  · intro hy
    obtain ⟨z, -, rfl⟩ := Finset.mem_map.mp hy
    rw [rows_emb]
    refine Finset.mem_filter.mpr ⟨Finset.mem_univ _, ?_⟩
    have hz : (z 0).val < 112 := (z 0).isLt
    show b ≤ b + (z 0).val ∧ b + (z 0).val < b + 112
    omega
  · intro hy
    obtain ⟨-, h, h'⟩ := Finset.mem_filter.mp hy
    refine Finset.mem_map.mpr ⟨(fun | 0 => ⟨(y 0).val - b, show (y 0).val - b < 112 by omega⟩ | 1 => y 1 : S112x128.Idx), Finset.mem_univ _, ?_⟩
    rw [rows_emb]
    funext a
    match a with
    | 0 => exact Fin.ext (show b + ((y 0).val - b) = (y 0).val by omega)
    | 1 => rfl

theorem ids_emb (b : ℕ) (hb : b ≤ 96864) (z : S3136.Idx) : (idsM b hb).view.emb z = idsAt b hb z := by
  show (Rect.unit (s := S100000) ![b] S3136.size (ids_inb hb)).emb z = _
  funext a
  match a with
  | 0 => exact Fin.ext (show b + 1 * (z 0).val = b + (z 0).val by omega)

theorem set_ids (b : ℕ) (hb : b ≤ 96864) : (idsM b hb).view.set = idsS b := by
  refine Finset.ext fun (y : S100000.Idx) => ?_
  constructor
  · intro hy
    obtain ⟨z, -, rfl⟩ := Finset.mem_map.mp hy
    rw [ids_emb]
    refine Finset.mem_filter.mpr ⟨Finset.mem_univ _, ?_⟩
    have hz : (z 0).val < 3136 := (z 0).isLt
    show b ≤ b + (z 0).val ∧ b + (z 0).val < b + 3136
    omega
  · intro hy
    obtain ⟨-, h, h'⟩ := Finset.mem_filter.mp hy
    refine Finset.mem_map.mpr ⟨(fun | 0 => ⟨(y 0).val - b, show (y 0).val - b < 3136 by omega⟩ : S3136.Idx), Finset.mem_univ _, ?_⟩
    rw [ids_emb]
    funext a
    match a with
    | 0 => exact Fin.ext (show b + ((y 0).val - b) = (y 0).val by omega)

section

variable (x : S100000x128.Idx → F .f32) (ids : S100000.Idx → BitVec 32) (d : Dev nD) (i : grid0.Coords)

theorem xAt_eq (y : S100000x128.Idx) : xAt x (y 0).val (y 1).val = x y := by
  have h0 : (y 0).val < 100000 := (y 0).isLt
  have h1 : (y 1).val < 128 := (y 1).isLt
  unfold xAt
  congr 1
  funext a
  match a with
  | 0 => exact Fin.ext (Nat.mod_eq_of_lt h0)
  | 1 => exact Fin.ext (Nat.mod_eq_of_lt h1)

theorem idAt_eq (y : S100000.Idx) : idAt ids (y 0).val = ids y := by
  have h0 : (y 0).val < 100000 := (y 0).isLt
  unfold idAt
  congr 1
  funext a
  match a with
  | 0 => exact Fin.ext (Nat.mod_eq_of_lt h0)

/-- A block's rows landed in a slot. -/
theorem landed (p : ℕ) (hp : p < 2) (b : ℕ) (hb : b ≤ 99888) (fd : S2x112x128.Idx → F .f32) :
    ∀ y ∈ slotS p, (slotM p hp).view.write (Elt F) fd ((rowsM b hb).view.read (Elt F) x) Finset.univ y = blk x b y := by
  intro y hy
  obtain ⟨z, -, rfl⟩ := Finset.mem_map.mp (show y ∈ (slotM p hp).view.set by rw [set_slot]; exact hy)
  refine (View.write_emb_of_mem (v := (slotM p hp).view) (Val := Elt F) fd _ (Finset.mem_univ z)).trans ?_
  show x ((rowsM b hb).view.emb z) = blk x b ((slotM p hp).view.emb z)
  refine (congrArg x (rows_emb b hb z)).trans (((xAt_eq x (rowsAt b hb z)).symm).trans ?_)
  exact (congrArg (blk x b) (slot_emb p hp z)).symm

theorem pts_slot (p : ℕ) (hp : p < 2) (q : PosShare TreeShare) (f : S2x112x128.Idx → F .f32) :
    ((slotM p hp).view.loc (tl d i) ↦[(slotM p hp).view.set]{q} f : sProp (MM F)) = ((tl d i).loc cc0_scratch0 ↦[slotS p]{q} f) :=
  congrArg (fun s => ((tl d i).loc cc0_scratch0 ↦[s]{q} f : sProp (MM F))) (set_slot p hp)
theorem pts_rows (b : ℕ) (hb : b ≤ 99888) (q : PosShare TreeShare) (f : S100000x128.Idx → F .f32) :
    ((rowsM b hb).view.loc (tl d i) ↦[(rowsM b hb).view.set]{q} f : sProp (MM F)) = ((tl d i).loc main_arg0_scv ↦[rowsS b]{q} f) :=
  congrArg (fun s => ((tl d i).loc main_arg0_scv ↦[s]{q} f : sProp (MM F))) (set_rows b hb)
theorem pts_ids (b : ℕ) (hb : b ≤ 96864) (q : PosShare TreeShare) (f : S100000.Idx → BitVec 32) :
    ((idsM b hb).view.loc (tl d i) ↦[(idsM b hb).view.set]{q} f : sProp (MM F)) = ((tl d i).loc main_arg1_scv ↦[idsS b]{q} f) :=
  congrArg (fun s => ((tl d i).loc main_arg1_scv ↦[s]{q} f : sProp (MM F))) (set_ids b hb)

/-- A block's fetch into a slot starts. -/
theorem wp_fetch {α : Type} {p : ℕ} (hp : p < 2) {b : ℕ} (hb : b ≤ 99888) {o4 : Fin 3 → ℕ} {o5 : Fin 2 → ℕ} {o6 : Fin 1 → ℕ}
    {i4 : ∀ a, o4 a + S1x112x128.size a ≤ S2x112x128.size a} {i5 : ∀ a, o5 a + S112x128.size a ≤ S100000x128.size a} {i6 : ∀ a, o6 a + S1.size a ≤ S2.size a}
    (e4 : o4 = ![p, 0, 0]) (e5 : o5 = ![b, 0]) (e6 : o6 = ![p]) {w1 w2 w3} {k : PUnit → PT F i α} {Q : α → sProp (MM F)}
    {q : PosShare TreeShare} {fd : S2x112x128.Idx → F .f32} :
    iprop(((tl d i).loc main_arg0_scv ↦[rowsS b]{q} x) ∗ ((tl d i).loc cc0_scratch0 ↦[slotS p]{fullShare} fd) ∗ semVal (tl d i, .dma (semM p hp)) 0)
      ⊢ iprop((Transfers.Flight EC (tl d i) (.dma (semM p hp)) (default : HIx 1) ((slotM p hp).view.dmaCredit)
            iprop(((tl d i).loc cc0_scratch0 ↦[slotS p]{fullShare} blk x b) ∗ ((tl d i).loc main_arg0_scv ↦[rowsS b]{q} x)) -∗ W d i (k ⟨⟩) Q)
        -∗ W d i (.op (.enqueueDma (b2.slice (Rect.unit (s := S100000x128) o5 S112x128.size i5) (fun _ => rfl))
            (.here ((b7.slice (Rect.unit (s := S2x112x128) o4 S1x112x128.size i4) (fun _ => rfl)).squeeze S112x128 squeezes_S1x112x128_S112x128))
            (.dma ((cc0_scratch5.slice (Rect.unit (s := S2) o6 S1.size i6)).squeeze S_ squeezes_S1_S_).sem) w1 w2 w3) k) Q) := by
  subst e4 e5 e6
  iintro ⟨Hx, Hb, Hs⟩ Hk
  ihave Hx := (Entails.of_eq (pts_rows d i b hb q x).symm) $$ Hx
  ihave Hb := (Entails.of_eq (pts_slot d i p hp fullShare fd).symm) $$ Hb
  iapply (Transfers.wp_dmaLocal (EC (F := F)) (defs := defs₀ (F := F)) 𝒱₀ (tl d i) none (src := rowsM b hb) (via := .same) (dst := slotM p hp) (sm := .dma (semM p hp))
    (q := q) (fs := x) (Sd := (slotM p hp).view.set) (fd := fd)
    (default : HIx 1) ((slotM p hp).view.dmaCredit) rfl (View.amount_pos _ (.dma (semM p hp)) (show 0 < S112x128.numel by decide)) subset_rfl) $$ [Hx Hb Hs]
  · isplitl [Hx]; · iexact Hx
    isplitl [Hb]; · iexact Hb
    iexact Hs
  iintro HF
  iapply Hk
  iapply (Transfers.Flight_mono (EC (F := F)) (tl d i) ?h) $$ HF
  case h =>
    iintro ⟨Hb, Hx⟩
    isplitl [Hb]
    · iapply (Entails.of_eq ((pts_slot d i p hp fullShare _).trans (pointsTo_congr (landed x p hp b hb fd)))) $$ Hb
    · iapply (Entails.of_eq (pts_rows d i b hb q x)) $$ Hx

/-- A slot's fetch is waited for. -/
theorem wp_landed {α : Type} {p : ℕ} (hp : p < 2) {o4 : Fin 3 → ℕ} {o5 : Fin 2 → ℕ} {o6 : Fin 1 → ℕ}
    {i4 : ∀ a, o4 a + S1x112x128.size a ≤ S2x112x128.size a} {i5 : ∀ a, o5 a + S112x128.size a ≤ S100000x128.size a} {i6 : ∀ a, o6 a + S1.size a ≤ S2.size a}
    (e4 : o4 = ![p, 0, 0]) (e6 : o6 = ![p]) {w1 w2} {k : PUnit → PT F i α} {Q : α → sProp (MM F)} {D : sProp (MM F)}
    {O : CellTallies nD τ sig (HIx 1)} {W' : Waits sig (HIx 1)} :
    iprop(Transfers.Flight EC (tl d i) (.dma (semM p hp)) (default : HIx 1) ((slotM p hp).view.dmaCredit) D ∗ owes (tl d i) O W' ∗ Transfers.MayWaits (tl d i) (default : HIx 1) O)
      ⊢ iprop((iprop(D ∗ semVal (tl d i, .dma (semM p hp)) 0 ∗ owes (tl d i) O (insert (SemLoc.dma (semM p hp), (default : HIx 1)) W')) -∗ W d i (k ⟨⟩) Q)
        -∗ W d i (.op (.waitDma2 ((cc0_scratch5.slice (Rect.unit (s := S2) o6 S1.size i6)).squeeze S_ squeezes_S1_S_).sem
            (b2.slice (Rect.unit (s := S100000x128) o5 S112x128.size i5) (fun _ => rfl))
            ((b7.slice (Rect.unit (s := S2x112x128) o4 S1x112x128.size i4) (fun _ => rfl)).squeeze S112x128 squeezes_S1x112x128_S112x128) w1 w2) k) Q) := by
  subst e4 e6
  iintro ⟨HF, HO, Hm⟩
  ihave Hm := (Transfers.MayWaits.elim (SemLoc.dma (semM p hp))) $$ Hm
  iapply (Transfers.wp_waitLocalO (EC (F := F)) (defs := defs₀ (F := F)) 𝒱₀ (tl d i) none (sem := semM p hp) (default : HIx 1) rfl)
  isplitl [HF]; · iexact HF
  isplitl [HO]; · iexact HO
  iexact Hm

/-! ## The ids in -/

theorem wp_idsIn {α : Type} {b : ℕ} (hb : b ≤ 96864) (hbi : b = idBase i) {o2 : Fin 1 → ℕ} {i2 : ∀ a, o2 a + S3136.size a ≤ S100000.size a} (e2 : o2 = ![b])
    {w1 w2 w3 w4 w5} {k : PUnit → PT F i α} {Q : α → sProp (MM F)} {q : PosShare TreeShare} {f : S3136.Idx → BitVec 32} {O : CellTallies nD τ sig (HIx 1)} {W' : Waits sig (HIx 1)} :
    iprop(((tl d i).loc main_arg1_scv ↦[idsS b]{q} ids) ∗ ((tl d i).loc cc0_scratch1 ↦{fullShare} f) ∗ semVal (tl d i, .dma cc0_scoped0.sem) 0
        ∗ owes (tl d i) O W' ∗ Transfers.MayWaits (tl d i) (default : HIx 1) O)
      ⊢ iprop((iprop(((tl d i).loc main_arg1_scv ↦[idsS b]{q} ids) ∗ ((tl d i).loc cc0_scratch1 ↦{fullShare} idBuf ids i) ∗ semVal (tl d i, .dma cc0_scoped0.sem) 0
            ∗ owes (tl d i) O (insert (SemLoc.dma cc0_scoped0.sem, (default : HIx 1)) W')) -∗ W d i (k ⟨⟩) Q)
        -∗ W d i (.op (.enqueueDma (b3.slice (Rect.unit (s := S100000) o2 S3136.size i2) (fun _ => rfl)) (.here b8) (.dma cc0_scoped0.sem) w1 w2 w3) fun _ =>
            .op (.waitDma2 cc0_scoped0.sem (b3.slice (Rect.unit (s := S100000) o2 S3136.size i2) (fun _ => rfl)) b8 w4 w5) k) Q) := by
  subst e2 hbi
  iintro ⟨Hx, Hb, Hs, HO, Hm⟩ Hk
  ihave Hx := (Entails.of_eq (pts_ids d i (idBase i) hb q ids).symm) $$ Hx
  iapply (Transfers.wp_dmaLocal (EC (F := F)) (defs := defs₀ (F := F)) 𝒱₀ (tl d i) none (src := idsM (idBase i) hb) (via := .same) (dst := b8) (sm := .dma cc0_scoped0.sem)
    (q := q) (fs := ids) (Sd := Finset.univ) (fd := f)
    (default : HIx 1) (b8.view.dmaCredit) rfl (View.amount_pos _ (.dma cc0_scoped0.sem) (show 0 < S3136.numel by decide)) (Finset.subset_univ _)) $$ [Hx Hb Hs]
  · isplitl [Hx]; · iexact Hx
    isplitl [Hb]; · iexact Hb
    iexact Hs
  iintro HF
  ihave Hm := (Transfers.MayWaits.elim (SemLoc.dma cc0_scoped0.sem)) $$ Hm
  iapply (Transfers.wp_waitLocalO (EC (F := F)) (defs := defs₀ (F := F)) 𝒱₀ (tl d i) none (sem := cc0_scoped0.sem) (default : HIx 1) rfl) $$ [HF HO Hm]
  · isplitl [HF]; · iexact HF
    isplitl [HO]; · iexact HO
    iexact Hm
  iintro ⟨⟨Hb, Hx⟩, Hs, HO⟩
  iapply Hk
  isplitl [Hx]; · iapply (Entails.of_eq (pts_ids d i (idBase i) hb q ids)) $$ Hx
  isplitl [Hb]
  · iapply (Entails.of_eq (congrArg (fun g => ((tl d i).loc cc0_scratch1 ↦{fullShare} g : sProp (MM F))) ?h)) $$ Hb
    case h =>
      refine (View.write_whole_univ cc0_scratch1 _ _).trans ?_
      funext y
      refine (congrArg ids (ids_emb (idBase i) hb y)).trans ?_
      exact (idAt_eq ids (idsAt (idBase i) hb y)).symm
  isplitl [Hs]; · iexact Hs
  iexact HO

/-! ## The tables out -/

theorem out_inb {w : ℕ} (hw : w < 32) : ∀ a, (![w, 0, 0] : Fin 3 → ℕ) a + S1x256x128.size a ≤ S32x256x128.size a := by
  intro a
  match a with
  | 0 => show w + 1 ≤ 32; omega
  | 1 => show 0 + 256 ≤ 256; omega
  | 2 => show 0 + 128 ≤ 128; omega
theorem outc_inb {w : ℕ} (hw : w < 32) : ∀ a, (![w, 0, 0] : Fin 3 → ℕ) a + S1x256x16.size a ≤ S32x256x16.size a := by
  intro a
  match a with
  | 0 => show w + 1 ≤ 32; omega
  | 1 => show 0 + 256 ≤ 256; omega
  | 2 => show 0 + 16 ≤ 16; omega

/-- The elements a tile's tables go to. -/
def outS (w : ℕ) : Finset S32x256x128.Idx := Finset.univ.filter fun y => (y 0).val = w
def outcS (w : ℕ) : Finset S32x256x16.Idx := Finset.univ.filter fun y => (y 0).val = w
/-- A table under a tile's number. -/
def under (T : S256x128.Idx → F .f32) : S32x256x128.Idx → F .f32 := fun y => T fun | 0 => y 1 | 1 => y 2
def underc (T : S256x16.Idx → F .f32) : S32x256x16.Idx → F .f32 := fun y => T fun | 0 => y 1 | 1 => y 2

theorem pos_S1x256x128 (z : S256x128.Idx) (k : S1x256x128.Idx) (h1 : (k 1).val = (z 0).val) (h2 : (k 2).val = (z 1).val) :
    (S1x256x128.rowMajor k).val = (S256x128.rowMajor z).val := by
  rw [Shape.rowMajor_val_three, Shape.rowMajor_val_two]
  have h0 : (k 0).val = 0 := by have := (k 0).isLt; change (k 0).val < 1 at this; omega
  rw [h0, h1, h2]
  show (0 * 256 + _) * 128 + _ = _ * 128 + _
  omega

theorem pos_S1x256x16 (z : S256x16.Idx) (k : S1x256x16.Idx) (h1 : (k 1).val = (z 0).val) (h2 : (k 2).val = (z 1).val) :
    (S1x256x16.rowMajor k).val = (S256x16.rowMajor z).val := by
  rw [Shape.rowMajor_val_three, Shape.rowMajor_val_two]
  have h0 : (k 0).val = 0 := by have := (k 0).isLt; change (k 0).val < 1 at this; omega
  rw [h0, h1, h2]
  show (0 * 256 + _) * 16 + _ = _ * 16 + _
  omega

def outM4 (w : ℕ) (hw : w < 32) : Memref sig .scVector .hbm S256x128 .f32 :=
  (b4.slice (Rect.unit (s := S32x256x128) ![w, 0, 0] S1x256x128.size (out_inb hw)) (fun _ => rfl)).squeeze S256x128 squeezes_S1x256x128_S256x128

theorem out4_emb (w : ℕ) (hw : w < 32) (z : S256x128.Idx) : (outM4 w hw).view.emb z = (fun | 0 => ⟨w, hw⟩ | 1 => z 0 | 2 => z 1 : S32x256x128.Idx) := by
  have e : Shape.reshapeEquiv (s := S1x256x128) (s' := S256x128) squeezes_S1x256x128_S256x128.numel_eq z = (fun | 0 => ⟨0, by decide⟩ | 1 => z 0 | 2 => z 1) :=
    Shape.reshapeEquiv_eq_of_rowMajor _ (pos_S1x256x128 z _ rfl rfl)
  show (Rect.unit (s := S32x256x128) ![w, 0, 0] S1x256x128.size (out_inb hw)).emb (Shape.reshapeEquiv (s := S1x256x128) (s' := S256x128) squeezes_S1x256x128_S256x128.numel_eq z) = _
  rw [e]
  funext a
  match a with
  | 0 => exact Fin.ext (show w + 1 * 0 = w by omega)
  | 1 => exact Fin.ext (show 0 + 1 * (z 0).val = (z 0).val by omega)
  | 2 => exact Fin.ext (show 0 + 1 * (z 1).val = (z 1).val by omega)

theorem set_out4 (w : ℕ) (hw : w < 32) : (outM4 w hw).view.set = outS w := by
  refine Finset.ext fun (y : S32x256x128.Idx) => ?_
  constructor
  · intro hy
    obtain ⟨z, -, rfl⟩ := Finset.mem_map.mp hy
    refine Finset.mem_filter.mpr ⟨Finset.mem_univ _, ?_⟩
    rw [out4_emb]
  · intro hy
    obtain ⟨-, h⟩ := Finset.mem_filter.mp hy
    refine Finset.mem_map.mpr ⟨(fun | 0 => y 1 | 1 => y 2 : S256x128.Idx), Finset.mem_univ _, ?_⟩
    rw [out4_emb]
    funext a
    match a with
    | 0 => exact Fin.ext h.symm
    | 1 => rfl
    | 2 => rfl

theorem pts_out4 (w : ℕ) (hw : w < 32) (f : S32x256x128.Idx → F .f32) :
    ((outM4 w hw).view.loc (tl d i) ↦[(outM4 w hw).view.set]{fullShare} f : sProp (MM F)) = ((tl d i).loc main_v0_0_scv ↦[outS w]{fullShare} f) :=
  congrArg (fun s => ((tl d i).loc main_v0_0_scv ↦[s]{fullShare} f : sProp (MM F))) (set_out4 w hw)

theorem out4_landed (w : ℕ) (hw : w < 32) (fd : S32x256x128.Idx → F .f32) (T : S256x128.Idx → F .f32) :
    ∀ y ∈ outS w, (outM4 w hw).view.write (Elt F) fd (b9.view.read (Elt F) T) Finset.univ y = under T y := by
  intro y hy
  obtain ⟨z, -, rfl⟩ := Finset.mem_map.mp (show y ∈ (outM4 w hw).view.set by rw [set_out4]; exact hy)
  refine (View.write_emb_of_mem (v := (outM4 w hw).view) (Val := Elt F) fd _ (Finset.mem_univ z)).trans ?_
  refine Eq.trans ?_ (congrArg (under T) (out4_emb w hw z)).symm
  show T z = T _
  congr 1
  funext a
  match a with
  | 0 => rfl
  | 1 => rfl

theorem wp_out4 {α : Type} {w : ℕ} (hw : w < 32) {o : Fin 3 → ℕ} {i1 : ∀ a, o a + S1x256x128.size a ≤ S32x256x128.size a} (e1 : o = ![w, 0, 0])
    {w1 w2 w3 w4 w5} {k : PUnit → PT F i α} {Q : α → sProp (MM F)} {T : S256x128.Idx → F .f32} {f : S32x256x128.Idx → F .f32} {O : CellTallies nD τ sig (HIx 1)} {W' : Waits sig (HIx 1)} :
    iprop(((tl d i).loc cc0_scratch2 ↦{fullShare} T) ∗ ((tl d i).loc main_v0_0_scv ↦[outS w]{fullShare} f) ∗ semVal (tl d i, .dma cc0_scoped1.sem) 0
        ∗ owes (tl d i) O W' ∗ Transfers.MayWaits (tl d i) (default : HIx 1) O)
      ⊢ iprop((iprop(((tl d i).loc cc0_scratch2 ↦{fullShare} T) ∗ ((tl d i).loc main_v0_0_scv ↦[outS w]{fullShare} under T) ∗ semVal (tl d i, .dma cc0_scoped1.sem) 0
            ∗ owes (tl d i) O (insert (SemLoc.dma cc0_scoped1.sem, (default : HIx 1)) W')) -∗ W d i (k ⟨⟩) Q)
        -∗ W d i (.op (.enqueueDma b9 (.here ((b4.slice (Rect.unit (s := S32x256x128) o S1x256x128.size i1) (fun _ => rfl)).squeeze S256x128 squeezes_S1x256x128_S256x128)) (.dma cc0_scoped1.sem) w1 w2 w3) fun _ =>
            .op (.waitDma2 cc0_scoped1.sem b9 ((b4.slice (Rect.unit (s := S32x256x128) o S1x256x128.size i1) (fun _ => rfl)).squeeze S256x128 squeezes_S1x256x128_S256x128) w4 w5) k) Q) := by
  subst e1
  iintro ⟨Hx, Hb, Hs, HO, Hm⟩ Hk
  ihave Hb := (Entails.of_eq (pts_out4 d i w hw f).symm) $$ Hb
  ihave Hx := (Entails.of_eq (congrArg (fun s => ((tl d i).loc cc0_scratch2 ↦[s]{fullShare} T : sProp (MM F))) (View.set_whole cc0_scratch2)).symm) $$ Hx
  iapply (Transfers.wp_dmaLocal (EC (F := F)) (defs := defs₀ (F := F)) 𝒱₀ (tl d i) none (src := b9) (via := .same) (dst := outM4 w hw) (sm := .dma cc0_scoped1.sem)
    (q := fullShare) (fs := T) (Sd := (outM4 w hw).view.set) (fd := f)
    (default : HIx 1) ((outM4 w hw).view.dmaCredit) rfl (View.amount_pos _ (.dma cc0_scoped1.sem) (show 0 < S256x128.numel by decide)) subset_rfl) $$ [Hx Hb Hs]
  · isplitl [Hx]; · iexact Hx
    isplitl [Hb]; · iexact Hb
    iexact Hs
  iintro HF
  ihave Hm := (Transfers.MayWaits.elim (SemLoc.dma cc0_scoped1.sem)) $$ Hm
  iapply (Transfers.wp_waitLocalO (EC (F := F)) (defs := defs₀ (F := F)) 𝒱₀ (tl d i) none (sem := cc0_scoped1.sem) (default : HIx 1) rfl) $$ [HF HO Hm]
  · isplitl [HF]; · iexact HF
    isplitl [HO]; · iexact HO
    iexact Hm
  iintro ⟨⟨Hb, Hx⟩, Hs, HO⟩
  iapply Hk
  isplitl [Hx]; · iapply (Entails.of_eq (congrArg (fun s => ((tl d i).loc cc0_scratch2 ↦[s]{fullShare} T : sProp (MM F))) (View.set_whole cc0_scratch2))) $$ Hx
  isplitl [Hb]; · iapply (Entails.of_eq ((pts_out4 d i w hw _).trans (pointsTo_congr (out4_landed w hw f T)))) $$ Hb
  isplitl [Hs]; · iexact Hs
  iexact HO

def outM5 (w : ℕ) (hw : w < 32) : Memref sig .scVector .hbm S256x128 .f32 :=
  (b5.slice (Rect.unit (s := S32x256x128) ![w, 0, 0] S1x256x128.size (out_inb hw)) (fun _ => rfl)).squeeze S256x128 squeezes_S1x256x128_S256x128

theorem out5_emb (w : ℕ) (hw : w < 32) (z : S256x128.Idx) : (outM5 w hw).view.emb z = (fun | 0 => ⟨w, hw⟩ | 1 => z 0 | 2 => z 1 : S32x256x128.Idx) := by
  have e : Shape.reshapeEquiv (s := S1x256x128) (s' := S256x128) squeezes_S1x256x128_S256x128.numel_eq z = (fun | 0 => ⟨0, by decide⟩ | 1 => z 0 | 2 => z 1) :=
    Shape.reshapeEquiv_eq_of_rowMajor _ (pos_S1x256x128 z _ rfl rfl)
  show (Rect.unit (s := S32x256x128) ![w, 0, 0] S1x256x128.size (out_inb hw)).emb (Shape.reshapeEquiv (s := S1x256x128) (s' := S256x128) squeezes_S1x256x128_S256x128.numel_eq z) = _
  rw [e]
  funext a
  match a with
  | 0 => exact Fin.ext (show w + 1 * 0 = w by omega)
  | 1 => exact Fin.ext (show 0 + 1 * (z 0).val = (z 0).val by omega)
  | 2 => exact Fin.ext (show 0 + 1 * (z 1).val = (z 1).val by omega)

theorem set_out5 (w : ℕ) (hw : w < 32) : (outM5 w hw).view.set = outS w := by
  refine Finset.ext fun (y : S32x256x128.Idx) => ?_
  constructor
  · intro hy
    obtain ⟨z, -, rfl⟩ := Finset.mem_map.mp hy
    refine Finset.mem_filter.mpr ⟨Finset.mem_univ _, ?_⟩
    rw [out5_emb]
  · intro hy
    obtain ⟨-, h⟩ := Finset.mem_filter.mp hy
    refine Finset.mem_map.mpr ⟨(fun | 0 => y 1 | 1 => y 2 : S256x128.Idx), Finset.mem_univ _, ?_⟩
    rw [out5_emb]
    funext a
    match a with
    | 0 => exact Fin.ext h.symm
    | 1 => rfl
    | 2 => rfl

theorem pts_out5 (w : ℕ) (hw : w < 32) (f : S32x256x128.Idx → F .f32) :
    ((outM5 w hw).view.loc (tl d i) ↦[(outM5 w hw).view.set]{fullShare} f : sProp (MM F)) = ((tl d i).loc main_v0_1_scv ↦[outS w]{fullShare} f) :=
  congrArg (fun s => ((tl d i).loc main_v0_1_scv ↦[s]{fullShare} f : sProp (MM F))) (set_out5 w hw)

theorem out5_landed (w : ℕ) (hw : w < 32) (fd : S32x256x128.Idx → F .f32) (T : S256x128.Idx → F .f32) :
    ∀ y ∈ outS w, (outM5 w hw).view.write (Elt F) fd (b10.view.read (Elt F) T) Finset.univ y = under T y := by
  intro y hy
  obtain ⟨z, -, rfl⟩ := Finset.mem_map.mp (show y ∈ (outM5 w hw).view.set by rw [set_out5]; exact hy)
  refine (View.write_emb_of_mem (v := (outM5 w hw).view) (Val := Elt F) fd _ (Finset.mem_univ z)).trans ?_
  refine Eq.trans ?_ (congrArg (under T) (out5_emb w hw z)).symm
  show T z = T _
  congr 1
  funext a
  match a with
  | 0 => rfl
  | 1 => rfl

theorem wp_out5 {α : Type} {w : ℕ} (hw : w < 32) {o : Fin 3 → ℕ} {i1 : ∀ a, o a + S1x256x128.size a ≤ S32x256x128.size a} (e1 : o = ![w, 0, 0])
    {w1 w2 w3 w4 w5} {k : PUnit → PT F i α} {Q : α → sProp (MM F)} {T : S256x128.Idx → F .f32} {f : S32x256x128.Idx → F .f32} {O : CellTallies nD τ sig (HIx 1)} {W' : Waits sig (HIx 1)} :
    iprop(((tl d i).loc cc0_scratch3 ↦{fullShare} T) ∗ ((tl d i).loc main_v0_1_scv ↦[outS w]{fullShare} f) ∗ semVal (tl d i, .dma cc0_scoped2.sem) 0
        ∗ owes (tl d i) O W' ∗ Transfers.MayWaits (tl d i) (default : HIx 1) O)
      ⊢ iprop((iprop(((tl d i).loc cc0_scratch3 ↦{fullShare} T) ∗ ((tl d i).loc main_v0_1_scv ↦[outS w]{fullShare} under T) ∗ semVal (tl d i, .dma cc0_scoped2.sem) 0
            ∗ owes (tl d i) O (insert (SemLoc.dma cc0_scoped2.sem, (default : HIx 1)) W')) -∗ W d i (k ⟨⟩) Q)
        -∗ W d i (.op (.enqueueDma b10 (.here ((b5.slice (Rect.unit (s := S32x256x128) o S1x256x128.size i1) (fun _ => rfl)).squeeze S256x128 squeezes_S1x256x128_S256x128)) (.dma cc0_scoped2.sem) w1 w2 w3) fun _ =>
            .op (.waitDma2 cc0_scoped2.sem b10 ((b5.slice (Rect.unit (s := S32x256x128) o S1x256x128.size i1) (fun _ => rfl)).squeeze S256x128 squeezes_S1x256x128_S256x128) w4 w5) k) Q) := by
  subst e1
  iintro ⟨Hx, Hb, Hs, HO, Hm⟩ Hk
  ihave Hb := (Entails.of_eq (pts_out5 d i w hw f).symm) $$ Hb
  ihave Hx := (Entails.of_eq (congrArg (fun s => ((tl d i).loc cc0_scratch3 ↦[s]{fullShare} T : sProp (MM F))) (View.set_whole cc0_scratch3)).symm) $$ Hx
  iapply (Transfers.wp_dmaLocal (EC (F := F)) (defs := defs₀ (F := F)) 𝒱₀ (tl d i) none (src := b10) (via := .same) (dst := outM5 w hw) (sm := .dma cc0_scoped2.sem)
    (q := fullShare) (fs := T) (Sd := (outM5 w hw).view.set) (fd := f)
    (default : HIx 1) ((outM5 w hw).view.dmaCredit) rfl (View.amount_pos _ (.dma cc0_scoped2.sem) (show 0 < S256x128.numel by decide)) subset_rfl) $$ [Hx Hb Hs]
  · isplitl [Hx]; · iexact Hx
    isplitl [Hb]; · iexact Hb
    iexact Hs
  iintro HF
  ihave Hm := (Transfers.MayWaits.elim (SemLoc.dma cc0_scoped2.sem)) $$ Hm
  iapply (Transfers.wp_waitLocalO (EC (F := F)) (defs := defs₀ (F := F)) 𝒱₀ (tl d i) none (sem := cc0_scoped2.sem) (default : HIx 1) rfl) $$ [HF HO Hm]
  · isplitl [HF]; · iexact HF
    isplitl [HO]; · iexact HO
    iexact Hm
  iintro ⟨⟨Hb, Hx⟩, Hs, HO⟩
  iapply Hk
  isplitl [Hx]; · iapply (Entails.of_eq (congrArg (fun s => ((tl d i).loc cc0_scratch3 ↦[s]{fullShare} T : sProp (MM F))) (View.set_whole cc0_scratch3))) $$ Hx
  isplitl [Hb]; · iapply (Entails.of_eq ((pts_out5 d i w hw _).trans (pointsTo_congr (out5_landed w hw f T)))) $$ Hb
  isplitl [Hs]; · iexact Hs
  iexact HO

def outM6 (w : ℕ) (hw : w < 32) : Memref sig .scVector .hbm S256x16 .f32 :=
  (b6.slice (Rect.unit (s := S32x256x16) ![w, 0, 0] S1x256x16.size (outc_inb hw)) (fun _ => rfl)).squeeze S256x16 squeezes_S1x256x16_S256x16

theorem out6_emb (w : ℕ) (hw : w < 32) (z : S256x16.Idx) : (outM6 w hw).view.emb z = (fun | 0 => ⟨w, hw⟩ | 1 => z 0 | 2 => z 1 : S32x256x16.Idx) := by
  have e : Shape.reshapeEquiv (s := S1x256x16) (s' := S256x16) squeezes_S1x256x16_S256x16.numel_eq z = (fun | 0 => ⟨0, by decide⟩ | 1 => z 0 | 2 => z 1) :=
    Shape.reshapeEquiv_eq_of_rowMajor _ (pos_S1x256x16 z _ rfl rfl)
  show (Rect.unit (s := S32x256x16) ![w, 0, 0] S1x256x16.size (outc_inb hw)).emb (Shape.reshapeEquiv (s := S1x256x16) (s' := S256x16) squeezes_S1x256x16_S256x16.numel_eq z) = _
  rw [e]
  funext a
  match a with
  | 0 => exact Fin.ext (show w + 1 * 0 = w by omega)
  | 1 => exact Fin.ext (show 0 + 1 * (z 0).val = (z 0).val by omega)
  | 2 => exact Fin.ext (show 0 + 1 * (z 1).val = (z 1).val by omega)

theorem set_out6 (w : ℕ) (hw : w < 32) : (outM6 w hw).view.set = outcS w := by
  refine Finset.ext fun (y : S32x256x16.Idx) => ?_
  constructor
  · intro hy
    obtain ⟨z, -, rfl⟩ := Finset.mem_map.mp hy
    refine Finset.mem_filter.mpr ⟨Finset.mem_univ _, ?_⟩
    rw [out6_emb]
  · intro hy
    obtain ⟨-, h⟩ := Finset.mem_filter.mp hy
    refine Finset.mem_map.mpr ⟨(fun | 0 => y 1 | 1 => y 2 : S256x16.Idx), Finset.mem_univ _, ?_⟩
    rw [out6_emb]
    funext a
    match a with
    | 0 => exact Fin.ext h.symm
    | 1 => rfl
    | 2 => rfl

theorem pts_out6 (w : ℕ) (hw : w < 32) (f : S32x256x16.Idx → F .f32) :
    ((outM6 w hw).view.loc (tl d i) ↦[(outM6 w hw).view.set]{fullShare} f : sProp (MM F)) = ((tl d i).loc main_v0_2_scv ↦[outcS w]{fullShare} f) :=
  congrArg (fun s => ((tl d i).loc main_v0_2_scv ↦[s]{fullShare} f : sProp (MM F))) (set_out6 w hw)

theorem out6_landed (w : ℕ) (hw : w < 32) (fd : S32x256x16.Idx → F .f32) (T : S256x16.Idx → F .f32) :
    ∀ y ∈ outcS w, (outM6 w hw).view.write (Elt F) fd (b11.view.read (Elt F) T) Finset.univ y = underc T y := by
  intro y hy
  obtain ⟨z, -, rfl⟩ := Finset.mem_map.mp (show y ∈ (outM6 w hw).view.set by rw [set_out6]; exact hy)
  refine (View.write_emb_of_mem (v := (outM6 w hw).view) (Val := Elt F) fd _ (Finset.mem_univ z)).trans ?_
  refine Eq.trans ?_ (congrArg (underc T) (out6_emb w hw z)).symm
  show T z = T _
  congr 1
  funext a
  match a with
  | 0 => rfl
  | 1 => rfl

theorem wp_out6 {α : Type} {w : ℕ} (hw : w < 32) {o : Fin 3 → ℕ} {i1 : ∀ a, o a + S1x256x16.size a ≤ S32x256x16.size a} (e1 : o = ![w, 0, 0])
    {w1 w2 w3 w4 w5} {k : PUnit → PT F i α} {Q : α → sProp (MM F)} {T : S256x16.Idx → F .f32} {f : S32x256x16.Idx → F .f32} {O : CellTallies nD τ sig (HIx 1)} {W' : Waits sig (HIx 1)} :
    iprop(((tl d i).loc cc0_scratch4 ↦{fullShare} T) ∗ ((tl d i).loc main_v0_2_scv ↦[outcS w]{fullShare} f) ∗ semVal (tl d i, .dma cc0_scoped3.sem) 0
        ∗ owes (tl d i) O W' ∗ Transfers.MayWaits (tl d i) (default : HIx 1) O)
      ⊢ iprop((iprop(((tl d i).loc cc0_scratch4 ↦{fullShare} T) ∗ ((tl d i).loc main_v0_2_scv ↦[outcS w]{fullShare} underc T) ∗ semVal (tl d i, .dma cc0_scoped3.sem) 0
            ∗ owes (tl d i) O (insert (SemLoc.dma cc0_scoped3.sem, (default : HIx 1)) W')) -∗ W d i (k ⟨⟩) Q)
        -∗ W d i (.op (.enqueueDma b11 (.here ((b6.slice (Rect.unit (s := S32x256x16) o S1x256x16.size i1) (fun _ => rfl)).squeeze S256x16 squeezes_S1x256x16_S256x16)) (.dma cc0_scoped3.sem) w1 w2 w3) fun _ =>
            .op (.waitDma2 cc0_scoped3.sem b11 ((b6.slice (Rect.unit (s := S32x256x16) o S1x256x16.size i1) (fun _ => rfl)).squeeze S256x16 squeezes_S1x256x16_S256x16) w4 w5) k) Q) := by
  subst e1
  iintro ⟨Hx, Hb, Hs, HO, Hm⟩ Hk
  ihave Hb := (Entails.of_eq (pts_out6 d i w hw f).symm) $$ Hb
  ihave Hx := (Entails.of_eq (congrArg (fun s => ((tl d i).loc cc0_scratch4 ↦[s]{fullShare} T : sProp (MM F))) (View.set_whole cc0_scratch4)).symm) $$ Hx
  iapply (Transfers.wp_dmaLocal (EC (F := F)) (defs := defs₀ (F := F)) 𝒱₀ (tl d i) none (src := b11) (via := .same) (dst := outM6 w hw) (sm := .dma cc0_scoped3.sem)
    (q := fullShare) (fs := T) (Sd := (outM6 w hw).view.set) (fd := f)
    (default : HIx 1) ((outM6 w hw).view.dmaCredit) rfl (View.amount_pos _ (.dma cc0_scoped3.sem) (show 0 < S256x16.numel by decide)) subset_rfl) $$ [Hx Hb Hs]
  · isplitl [Hx]; · iexact Hx
    isplitl [Hb]; · iexact Hb
    iexact Hs
  iintro HF
  ihave Hm := (Transfers.MayWaits.elim (SemLoc.dma cc0_scoped3.sem)) $$ Hm
  iapply (Transfers.wp_waitLocalO (EC (F := F)) (defs := defs₀ (F := F)) 𝒱₀ (tl d i) none (sem := cc0_scoped3.sem) (default : HIx 1) rfl) $$ [HF HO Hm]
  · isplitl [HF]; · iexact HF
    isplitl [HO]; · iexact HO
    iexact Hm
  iintro ⟨⟨Hb, Hx⟩, Hs, HO⟩
  iapply Hk
  isplitl [Hx]; · iapply (Entails.of_eq (congrArg (fun s => ((tl d i).loc cc0_scratch4 ↦[s]{fullShare} T : sProp (MM F))) (View.set_whole cc0_scratch4))) $$ Hx
  isplitl [Hb]; · iapply (Entails.of_eq ((pts_out6 d i w hw _).trans (pointsTo_congr (out6_landed w hw f T)))) $$ Hb
  isplitl [Hs]; · iexact Hs
  iexact HO

end

end Cert.Proof.Pool

end
-- ==== Proof.Offs.lean ====
/-
  The places the kernel's copies go from and to, as numbers: the slot, the rows and the semaphore of each block, a tile's
  part of the tables, and how many blocks and chunks there are.
-/
module

public import proofs.«01_k».proof.Proof.Copy

@[expose] public section

set_option maxRecDepth 100000

namespace Cert.Proof.Pool

open Cert.KernelIdeal Cert.KernelIdeal.Facts₀ Cert.KernelIdeal.Facts
open Idealize.ShloMosaic

theorem off2_n : ∀ (i : grid0.Coords), k0_off2 i 0 = min (3136 * ((i 1).val * 2 + (i 0).val)) 96864 := by decide +kernel
theorem off3_n : ∀ (i : grid0.Coords), k0_off3 i 0 = min (3136 * ((i 1).val * 2 + (i 0).val) + 112 * 0) 99888 := by decide +kernel
theorem offs_n : ∀ (i : grid0.Coords) (t : Fin (k0_t2_loop i).trips),
    (k0_off4 i t 0 = t.val % 2 ∧ k0_off6 i t 0 = t.val % 2 ∧ k0_off7 i t 0 = (t.val + 1) % 2 ∧ k0_off9 i t 0 = (t.val + 1) % 2)
      ∧ k0_off5 i t 0 = min (3136 * ((i 1).val * 2 + (i 0).val) + 112 * t.val) 99888
      ∧ k0_off8 i t 0 = min (3136 * ((i 1).val * 2 + (i 0).val) + 112 * (t.val + 1)) 99888 := by decide +kernel
theorem trips_n : ∀ (i : grid0.Coords), (k0_t2_loop i).trips = (if (i 1).val * 2 + (i 0).val = 31 then 25 else 28) := by decide +kernel
theorem chunks_n : ∀ (i : grid0.Coords) (t : Fin (k0_t2_loop i).trips),
    7 * t.val + (k0_t3_loop i t).trips = min (7 * (t.val + 1)) (if (i 1).val * 2 + (i 0).val = 31 then 174 else 196)
      ∧ (k0_cond1 i t = 1#1 ↔ t.val + 1 < (if (i 1).val * 2 + (i 0).val = 31 then 25 else 28)) := by decide +kernel
theorem off564_n : ∀ (i : grid0.Coords), k0_off564 i 0 = (i 1).val * 2 + (i 0).val ∧ k0_off565 i 0 = (i 1).val * 2 + (i 0).val := by decide +kernel
theorem wid_n : ∀ (i : grid0.Coords), (i 1).val * 2 + (i 0).val < 32 := by decide +kernel

theorem vec1 {o : Fin 1 → ℕ} {a : ℕ} (h : o 0 = a) : o = ![a] := by
  funext z
  match z with
  | 0 => exact h
theorem vec2 {o : Fin 2 → ℕ} {a b : ℕ} (h : o 0 = a) (h1 : o 1 = b) : o = ![a, b] := by
  funext z
  match z with
  | 0 => exact h
  | 1 => exact h1
theorem vec3 {o : Fin 3 → ℕ} {a b c : ℕ} (h : o 0 = a) (h1 : o 1 = b) (h2 : o 2 = c) : o = ![a, b, c] := by
  funext z
  match z with
  | 0 => exact h
  | 1 => exact h1
  | 2 => exact h2

variable (i : grid0.Coords)

theorem wid_lt : wid i < 32 := wid_n i
theorem off2_eq : k0_off2 i = ![idBase i] := vec1 (off2_n i)
theorem off3_eq : k0_off3 i = ![blkBase i 0, 0] := vec2 (off3_n i) rfl
theorem off564_eq : k0_off564 i = ![wid i, 0, 0] := vec3 (off564_n i).1 rfl rfl
theorem off565_eq : k0_off565 i = ![wid i, 0, 0] := vec3 (off564_n i).2 rfl rfl
theorem trips_eq : (k0_t2_loop i).trips = nbt i := trips_n i
theorem blk_le (t : ℕ) : blkBase i t ≤ 99888 := min_le_right _ _
theorem idB_le : idBase i ≤ 96864 := min_le_right _ _

variable (t : Fin (k0_t2_loop i).trips)

theorem off4_eq : k0_off4 i t = ![t.val % 2, 0, 0] := vec3 (offs_n i t).1.1 rfl rfl
theorem off5_eq : k0_off5 i t = ![blkBase i t.val, 0] := vec2 (offs_n i t).2.1 rfl
theorem off6_eq : k0_off6 i t = ![t.val % 2] := vec1 (offs_n i t).1.2.1
theorem off7_eq : k0_off7 i t = ![(t.val + 1) % 2, 0, 0] := vec3 (offs_n i t).1.2.2.1 rfl rfl
theorem off8_eq : k0_off8 i t = ![blkBase i (t.val + 1), 0] := vec2 (offs_n i t).2.2 rfl
theorem off9_eq : k0_off9 i t = ![(t.val + 1) % 2] := vec1 (offs_n i t).1.2.2.2
theorem chunks_eq : 7 * t.val + (k0_t3_loop i t).trips = min (7 * (t.val + 1)) (nch i) := (chunks_n i t).1
theorem cond1_iff : k0_cond1 i t = 1#1 ↔ t.val + 1 < nbt i := (chunks_n i t).2

theorem off10_eq (c : Fin (k0_t3_loop i t).trips) : k0_off10 i t c = ![(idW i).toNat + 16 * (7 * t.val + c.val)] := vec1 (id_toNat i t c)

end Cert.Proof.Pool
-- ==== Proof.Tile.lean ====
/-
  A tile's whole task: its tables cleared, its ids fetched, the blocks of rows fetched one ahead of the one in use, the
  sixteen-row chunks of each block, the last flush and the tables written out.
-/
module

public import proofs.«01_k».proof.Proof.Offs

@[expose] public section

noncomputable section

namespace Cert.Proof.Pool

open Cert.KernelIdeal Cert.KernelIdeal.Facts₀ Cert.KernelIdeal.Facts
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

section Body

variable (x : S100000x128.Idx → F .f32) (ids : S100000.Idx → BitVec 32) (d : Dev nD) (i : grid0.Coords)

/-! ## The chunks of a block -/

/-- The load of a chunk's ids. -/
theorem wp_ldIds {α : Type} {off : Fin 1 → ℕ} {inb : ∀ a, off a + S16.size a ≤ S3136.size a} {hl : b8.view.LoadsAt (Rect.unit (s := S3136) off S16.size inb).toLoadRect}
    {k : Vec F S16 .i32 → PT F i α} {Q : α → sProp (MM F)} (n : ℕ) (hoff : off = ![(idW i).toNat + 16 * n]) :
    ((tl d i).loc cc0_scratch1 ↦{fullShare} idBuf ids i)
      ⊢ iprop((((tl d i).loc cc0_scratch1 ↦{fullShare} idBuf ids i) -∗ W d i (k (idsV ids (3136 * wid i + 16 * n))) Q)
        -∗ W d i (.op (.load b8 (Rect.unit (s := S3136) off S16.size inb).toLoadRect hl) k) Q) := by
  subst hoff
  iintro H Hk
  iapply (wp_load_rect (defs := defs₀ (F := F)) 𝒱₀ (tl d i) none Set.univ (m := b8) (r := Rect.unit (s := S3136) ![(idW i).toNat + 16 * n] S16.size inb)
    (S := Finset.univ) (q := fullShare) (f := idBuf ids i) (Finset.subset_univ _)) $$ H
  iintro H
  ihave Hk := Hk $$ H
  iapply (Entails.of_eq (congrArg (fun v => W d i (k v) Q) ?h)) $$ Hk
  case h =>
    funext l
    show idAt ids _ = idAt ids (idBase i + ((idW i).toNat + 16 * n + 1 * (l 0).val))
    rw [← id_at i n]
    congr 1
    omega

theorem InR_fold (hids : IdsIn ids) (n : ℕ) : ∀ (l : List (Fin 16)) (st : St F), InR st.acc.run →
    InR (l.foldl (fun st r => slowSt (segV ids (n + r.val)) (rowV x (n + r.val)) st) st).acc.run
  | [], _, h => h
  | r :: l, st, _ => by
    rw [List.foldl_cons]
    exact InR_fold hids n l _ (by rw [slowSt_run]; exact InR_seg ids hids _)

theorem run_fast (n : ℕ) : ∀ (l : List (Fin 16)) (st : St F), (l.foldl (fun st r => fastSt (rowV x (n + r.val)) st) st).acc.run = st.acc.run
  | [], _ => rfl
  | r :: l, st => by rw [List.foldl_cons, run_fast n l]; rfl

theorem tabs_fast (n : ℕ) : ∀ (l : List (Fin 16)) (st : St F),
    (l.foldl (fun st r => fastSt (rowV x (n + r.val)) st) st).sumT = st.sumT ∧ (l.foldl (fun st r => fastSt (rowV x (n + r.val)) st) st).maxT = st.maxT
      ∧ (l.foldl (fun st r => fastSt (rowV x (n + r.val)) st) st).cntT = st.cntT
  | [], _ => ⟨rfl, rfl, rfl⟩
  | r :: l, st => by rw [List.foldl_cons]; exact tabs_fast n l _

theorem InR_chunk (hids : IdsIn ids) (n : ℕ) (st : St F) (h : InR st.acc.run) : InR (chunkSt x ids n st).acc.run := by
  unfold chunkSt
  split
  · rw [run_fast]; exact h
  · exact InR_fold x ids hids n _ st h

theorem InR_stC (hids : IdsIn ids) (t9 t10 : S256x128.Idx → F .f32) : ∀ k, InR (stC x ids i t9 t10 k).acc.run
  | 0 => fun _ => show (IntOp.maxsi 4294967295#32 0#32).toNat < 256 by decide
  | k + 1 => InR_chunk x ids hids _ _ (InR_stC hids t9 t10 k)

/-- Both branches of a test. -/
theorem W_dif {α : Type} {c : Prop} [Decidable c] {p : c → PT F i α} {p' : ¬c → PT F i α} {a : c → PT F i α} {b : ¬c → PT F i α} {Q : α → sProp (MM F)} {P : sProp (MM F)}
    (ha : ∀ hc, a hc = p hc) (hb : ∀ hc, b hc = p' hc) (h : ∀ hc, P ⊢ W d i (a hc) Q) (h' : ∀ hc, P ⊢ W d i (b hc) Q) : P ⊢ W d i (if hc : c then p hc else p' hc) Q := by
  split
  · rw [← ha]; exact h _
  · rw [← hb]; exact h' _

/-! ## The blocks in flight -/

abbrev p2 (t : ℕ) : t % 2 < 2 := Nat.mod_lt t (by decide)

variable (q : PosShare TreeShare)

/-- Block `t` on its way into its slot. -/
abbrev Flt (t : ℕ) : sProp (MM F) :=
  Transfers.Flight EC (tl d i) (.dma (semM (t % 2) (p2 t))) (default : HIx 1) ((slotM (t % 2) (p2 t)).view.dmaCredit)
    iprop(((tl d i).loc cc0_scratch0 ↦[slotS (t % 2)]{fullShare} blk x (blkBase i t)) ∗ ((tl d i).loc main_arg0_scv ↦[rowsS (blkBase i t)]{q} x))

/-- Slot `t` free, at any contents. -/
abbrev Free (t : ℕ) : sProp (MM F) := iprop((∃ f : S2x112x128.Idx → F .f32, (tl d i).loc cc0_scratch0 ↦[slotS (t % 2)]{fullShare} f) ∗ semVal (tl d i, .dma (semM (t % 2) (p2 t))) 0)

theorem Free_two (t : ℕ) : (Free d i t : sProp (MM F)) = Free d i (t + 1 + 1) := by
  have h : ∀ (p p' : ℕ) (hp : p < 2) (hp' : p' < 2), p = p' →
      (iprop((∃ f : S2x112x128.Idx → F .f32, (tl d i).loc cc0_scratch0 ↦[slotS p]{fullShare} f) ∗ semVal (tl d i, .dma (semM p hp)) 0) : sProp (MM F))
        = iprop((∃ f : S2x112x128.Idx → F .f32, (tl d i).loc cc0_scratch0 ↦[slotS p']{fullShare} f) ∗ semVal (tl d i, .dma (semM p' hp')) 0) := by
    intro p p' hp hp' e
    subst e
    rfl
  exact h _ _ (p2 t) (p2 (t + 1 + 1)) (by omega)

/-- The rows and slot of block `t`: in flight while there is such a block. -/
def Next (t : ℕ) : sProp (MM F) :=
  if t < nbt i then iprop(Flt x d i q t ∗ ((tl d i).loc main_arg0_scv ↦[Finset.univ \ rowsS (blkBase i t)]{q} x))
  else iprop(((tl d i).loc main_arg0_scv ↦{q} x) ∗ Free d i t)

theorem Next_lt {t : ℕ} (h : t < nbt i) : Next x d i q t = iprop(Flt x d i q t ∗ ((tl d i).loc main_arg0_scv ↦[Finset.univ \ rowsS (blkBase i t)]{q} x)) := if_pos h
theorem Next_ge {t : ℕ} (h : ¬t < nbt i) : Next x d i q t = iprop(((tl d i).loc main_arg0_scv ↦{q} x) ∗ Free d i t) := if_neg h

theorem x_whole (b : ℕ) :
    (iprop(((tl d i).loc main_arg0_scv ↦[rowsS b]{q} x) ∗ ((tl d i).loc main_arg0_scv ↦[Finset.univ \ rowsS b]{q} x)) : sProp (MM F)) = ((tl d i).loc main_arg0_scv ↦{q} x) :=
  Entails.antisymm (pointsTo_split_subset (ℓ := (tl d i).loc main_arg0_scv) (I := rowsS b) (S := Finset.univ) (Finset.subset_univ _)).2
    (pointsTo_split_subset (ℓ := (tl d i).loc main_arg0_scv) (I := rowsS b) (S := Finset.univ) (Finset.subset_univ _)).1

/-- The tables of a state. -/
abbrev Tabs (st : St F) : sProp (MM F) :=
  iprop(((tl d i).loc cc0_scratch2 ↦{fullShare} st.sumT) ∗ ((tl d i).loc cc0_scratch3 ↦{fullShare} st.maxT) ∗ ((tl d i).loc cc0_scratch4 ↦{fullShare} st.cntT))

variable (O : CellTallies nD τ sig (HIx 1)) (t9 t10 : S256x128.Idx → F .f32)

/-- Between the blocks. -/
def BlkI (t : ℕ) (a : Tup F) : sProp (MM F) :=
  iprop(⌜a = (stC x ids i t9 t10 (min (7 * t) (nch i))).acc.tup⌝ ∗ Transfers.MayWaits (tl d i) (default : HIx 1) O ∗ Next x d i q t ∗ Free d i (t + 1)
    ∗ ((tl d i).loc cc0_scratch1 ↦{fullShare} idBuf ids i) ∗ Tabs d i (stC x ids i t9 t10 (min (7 * t) (nch i))) ∗ ∃ W', owes (tl d i) O W')

/-- Between the chunks of a block. -/
def CI (t : Fin (k0_t2_loop i).trips) (c : ℕ) (a : Tup F) : sProp (MM F) :=
  iprop(⌜a = (stC x ids i t9 t10 (7 * t.val + c)).acc.tup⌝ ∗ SlowR x ids d i t (slotS (t.val % 2)) (stC x ids i t9 t10 (7 * t.val + c)))

/-- After the first six lane groups of the last flush. -/
def MidI (st : St F) : sProp (MM F) :=
  iprop(Transfers.MayWaits (tl d i) (default : HIx 1) O ∗ ((tl d i).loc main_arg0_scv ↦{q} x) ∗ Free d i (nbt i) ∗ Free d i (nbt i + 1)
    ∗ ((tl d i).loc cc0_scratch1 ↦{fullShare} idBuf ids i)
    ∗ ((tl d i).loc cc0_scratch2 ↦{fullShare} List.foldl (fun T j => scat T ![atRow st.acc.run, colIx lanes j] (st.acc.s j) (endM st.acc.run)) st.sumT [0, 1, 2, 3, 4, 5])
    ∗ ((tl d i).loc cc0_scratch3 ↦{fullShare} List.foldl (fun T j => scat T ![atRow st.acc.run, colIx lanes j] (st.acc.m j) (endM st.acc.run)) st.maxT [0, 1, 2, 3, 4, 5])
    ∗ ((tl d i).loc cc0_scratch4 ↦{fullShare} st.cntT) ∗ ∃ W', owes (tl d i) O W')

set_option maxRecDepth 10000 in
theorem wp_part263 (hids : IdsIn ids) (v5 v25 v44 : BitVec 32) {Q} :
    BlkI x ids d i q O t9 t10 0 (st₀ t9 t10).acc.tup
      ⊢ iprop((∀ hw, MidI x ids d i q O (stC x ids i t9 t10 (nch i)) -∗ Q ⟨(stC x ids i t9 t10 (nch i)).acc.s 6, (stC x ids i t9 t10 (nch i)).acc.s 7, (stC x ids i t9 t10 (nch i)).acc.m 6, (stC x ids i t9 t10 (nch i)).acc.m 7, (stC x ids i t9 t10 (nch i)).acc.cnt,
          endM (stC x ids i t9 t10 (nch i)).acc.run, atRow (stC x ids i t9 t10 (nch i)).acc.run, hw, broadcast S16 96#32⟩)
        -∗ W d i (k0_part263 i b2 (Memref.isWhole_whole _) b3 (Memref.isWhole_whole _) b4 (Memref.isWhole_whole _) b5 (Memref.isWhole_whole _) b6 (Memref.isWhole_whole _)
          b7 (Memref.isWhole_whole _) b8 (Memref.isWhole_whole _) b9 (Memref.isWhole_whole _) b10 (Memref.isWhole_whole _) b11 (Memref.isWhole_whole _)
          cc0_scratch5 cc0_scoped0 cc0_scoped1 cc0_scoped2 cc0_scoped3
          lanes (broadcast S16 (Scalar.ofBits .f32 0x00000000#32)) v5 v25 v44 (idW i)
          (broadcast S16 (Scalar.ofBits .f32 0xFF800000#32)) (broadcast S16 (Scalar.ofBits .f32 0xFF800000#32)) (broadcast S16 (Scalar.ofBits .f32 0xFF800000#32)) (broadcast S16 (Scalar.ofBits .f32 0xFF800000#32))
          (broadcast S16 (Scalar.ofBits .f32 0xFF800000#32)) (broadcast S16 (Scalar.ofBits .f32 0xFF800000#32)) (broadcast S16 (Scalar.ofBits .f32 0xFF800000#32)) (Scalar.ofBits .f32 0xFF800000#32)) Q) := by
  unfold W
  iintro HI Hk
  sl_unfold [k0_part263]
  simp only [Prog.lift, Prog.bind_op, Prog.bind_ret, Prog.pure_eq_ret, Prog.bind_assoc]
  sl_for (BlkI x ids d i q O t9 t10) $$ [HI]
  · intro t a
    have ht : t.val < nbt i := trips_eq i ▸ t.isLt
    have hc := chunks_eq i t
    have hm : min (7 * t.val) (nch i) = 7 * t.val := by
      have := ht
      unfold nbt at this
      unfold nch
      split at this <;> rename_i h <;> simp only [h, if_true, if_false] <;> omega
    unfold BlkI
    rw [hm, Next_lt x d i q ht]
    iintro ⟨%ha, #Hm, HN, HF, Hid, HT, %W', HO⟩
    subst ha
    icases HN with ⟨HFl, Hx⟩
    icases HT with ⟨H9, H10, H11⟩
    sl_unfold [wp_part263.sl.prog.body_1]
    simp only [Prog.lift, Prog.bind_op, Prog.bind_ret, Prog.pure_eq_ret, Prog.bind_assoc]
    iapply (wp_landed d i (p2 t.val) (off4_eq i t) (off6_eq i t)) $$ [HFl HO]
    · isplitl [HFl]; · iexact HFl
      isplitl [HO]; · iexact HO
      iexact Hm
    iintro ⟨⟨Hb, Hxr⟩, Hs, HO⟩
    ihave Hx := (Entails.of_eq (x_whole x d i q (blkBase i t.val))) $$ [Hxr Hx]
    · isplitl [Hxr]; · iexact Hxr
      iexact Hx
    icases HF with ⟨⟨%f, Hf⟩, Hs'⟩
    rcases Classical.em (k0_cond1 i t = 1#1) with h | h
    case' inl =>
      have ht := (cond1_iff i t).mp h
      irw [dif_pos h]
      simp only [Prog.bind_op, Prog.bind_ret]
      ihave Hx := (Entails.of_eq (x_whole x d i q (blkBase i (t.val + 1))).symm) $$ Hx
      icases Hx with ⟨Hr, Hx⟩
      iapply (wp_fetch x d i (p2 (t.val + 1)) (blk_le i (t.val + 1)) (off7_eq i t) (off8_eq i t) (off9_eq i t)) $$ [Hr Hf Hs']
      · isplitl [Hr]; · iexact Hr
        isplitl [Hf]; · iexact Hf
        iexact Hs'
      iintro HFl
      ihave HN := (Entails.of_eq (Next_lt x d i q ht).symm) $$ [HFl Hx]
      · isplitl [HFl]; · iexact HFl
        iexact Hx
    case' inr =>
      have ht := fun h' => h ((cond1_iff i t).mpr h')
      irw [dif_neg h]
      simp only [Prog.bind_op, Prog.bind_ret]
      ihave HN := (Entails.of_eq (Next_ge x d i q ht).symm) $$ [Hx Hf Hs']
      · isplitl [Hx]; · iexact Hx
        isplitl [Hf]; · iexists f; iexact Hf
        iexact Hs'
    all_goals
     dsimp only [W]
     have hS : ∀ y : S2x112x128.Idx, (y 0).val = t.val % 2 → y ∈ slotS (t.val % 2) := fun y hy => Finset.mem_filter.mpr ⟨Finset.mem_univ _, hy⟩
     sl_for (CI x ids d i t9 t10 t) $$ [Hb Hid H9 H10 H11]
     · intro c a
       unfold CI
       have hr := InR_stC x ids i hids t9 t10 (7 * t.val + c.val)
       have e1 : stC x ids i t9 t10 (7 * t.val + (c.val + 1)) = chunkSt x ids (rowN i t.val c.val) (stC x ids i t9 t10 (7 * t.val + c.val)) := rfl
       generalize stC x ids i t9 t10 (7 * t.val + c.val) = st at hr e1 ⊢
       iintro ⟨%ha, Hb, Hid, H9, H10, H11⟩
       subst ha
       first | sl_unfold [wp_part263.sl.prog.body_2] | sl_unfold [wp_part263.sl.prog.body_3] | sl_unfold [wp_part263.sl.prog.body_4] | sl_unfold [wp_part263.sl.prog.body_5]
       simp only [Prog.lift, Prog.bind_op, Prog.bind_ret, Prog.pure_eq_ret, Prog.bind_assoc]
       iapply (wp_ldIds ids d i (7 * t.val + c.val) (off10_eq i t c)) $$ Hid
       iintro Hid
       refine W_dif d i (a := fun _ => fastRows i b7 t c [0, 1, 2, 3, 4, 5, 6, 7, 8, 9, 10, 11, 12, 13, 14, 15] st.acc)
         (b := fun h2 => slowRows i b7 t c b8 b9 b10 b11 lanes (Scalar.indexCast (Scalar.addi (idW i) (Scalar.muli (Scalar.addi (Scalar.muli (Scf.iv 0#32 1#32 t.val) 7#32) (Scf.iv 0#32 1#32 c.val)) 16#32))) (minBit (cmpi .eq (idsV ids (rowN i t.val c.val)) st.acc.run)) h2 [0, 1, 2, 3, 4, 5, 6, 7, 8, 9, 10, 11, 12, 13, 14, 15] st.acc)
         (fun h2 => (fast_eq i b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _) cc0_scratch5 cc0_scoped0 cc0_scoped1 cc0_scoped2 cc0_scoped3 t c (Scalar.remsi (Scf.iv 0#32 1#32 t.val) 2#32) (Scalar.addi (Scalar.subi (Scalar.addi v5 (Scalar.muli (Scf.iv 0#32 1#32 t.val) 112#32)) (Scalar.minsi (Scalar.addi v5 (Scalar.muli (Scf.iv 0#32 1#32 t.val) 112#32)) 99888#32)) (Scalar.muli (Scf.iv 0#32 1#32 c.val) 16#32)) st.acc).symm)
         (fun h2 => (slow_eq i b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _) cc0_scratch5 cc0_scoped0 cc0_scoped1 cc0_scoped2 cc0_scoped3 lanes t c (Scalar.remsi (Scf.iv 0#32 1#32 t.val) 2#32) (Scalar.addi (Scalar.subi (Scalar.addi v5 (Scalar.muli (Scf.iv 0#32 1#32 t.val) 112#32)) (Scalar.minsi (Scalar.addi v5 (Scalar.muli (Scf.iv 0#32 1#32 t.val) 112#32)) 99888#32)) (Scalar.muli (Scf.iv 0#32 1#32 c.val) 16#32)) (Scalar.indexCast (Scalar.addi (idW i) (Scalar.muli (Scalar.addi (Scalar.muli (Scf.iv 0#32 1#32 t.val) 7#32) (Scf.iv 0#32 1#32 c.val)) 16#32))) (minBit (cmpi .eq (idsV ids (rowN i t.val c.val)) st.acc.run)) h2 st.acc).symm) (fun h2 => ?_) (fun h2 => ?_)
       · replace h2 : k0_cond2 (minBit (cmpi .eq (idsV ids (rowN i t.val c.val)) st.acc.run)) = 1#1 := h2
         iintro ⟨⟨⟨⟨Hb, H9⟩, H10⟩, H11⟩, Hid⟩
         iapply (wp_fastRows x d i t c hS _ st) $$ Hb
         iintro Hb
         have e2 : chunkSt x ids (rowN i t.val c.val) st = (List.finRange 16).foldl (fun st r => fastSt (rowV x (rowN i t.val c.val + r.val)) st) st := if_pos h2
         have e3 := tabs_fast x (rowN i t.val c.val) (List.finRange 16) st
         rw [← e2] at e3
         isplitr; · ipureintro; rw [e1, e2]; rfl
         have eS : SlowR x ids d i t (slotS (t.val % 2)) (chunkSt x ids (rowN i t.val c.val) st) = SlowR x ids d i t (slotS (t.val % 2)) st := by unfold SlowR; rw [e3.1, e3.2.1, e3.2.2]
         irw [e1, eS]
         isplitl [Hb]; · iexact Hb
         isplitl [Hid]; · iexact Hid
         isplitl [H9]; · iexact H9
         isplitl [H10]; · iexact H10
         iexact H11
       · replace h2 : ¬(k0_cond2 (minBit (cmpi .eq (idsV ids (rowN i t.val c.val)) st.acc.run)) = 1#1) := h2
         have hw := wp_slowRows x ids d i t c hids hS (Scalar.indexCast (Scalar.addi (idW i) (Scalar.muli (Scalar.addi (Scalar.muli (Scf.iv 0#32 1#32 t.val) 7#32) (Scf.iv 0#32 1#32 c.val)) 16#32))) (minBit (cmpi .eq (idsV ids (rowN i t.val c.val)) st.acc.run)) h2 (id_toNat i t c) (Q := fun a => iprop(⌜a = (stC x ids i t9 t10 (7 * t.val + (c.val + 1))).acc.tup⌝ ∗ SlowR x ids d i t (slotS (t.val % 2)) (stC x ids i t9 t10 (7 * t.val + (c.val + 1))))) [0, 1, 2, 3, 4, 5, 6, 7, 8, 9, 10, 11, 12, 13, 14, 15] st hr
         have e2 : chunkSt x ids (rowN i t.val c.val) st = List.foldl (fun st r => slowSt (segV ids (rowN i t.val c.val + r.val)) (rowV x (rowN i t.val c.val + r.val)) st) st ([0, 1, 2, 3, 4, 5, 6, 7, 8, 9, 10, 11, 12, 13, 14, 15] : List (Fin 16)) := if_neg h2
         rw [← e2] at hw
         iintro ⟨⟨⟨⟨Hb, H9⟩, H10⟩, H11⟩, Hid⟩
         iapply hw $$ [Hb Hid H9 H10 H11]
         · isplitl [Hb]; · iexact Hb
           isplitl [Hid]; · iexact Hid
           isplitl [H9]; · iexact H9
           isplitl [H10]; · iexact H10
           iexact H11
         iintro H
         irw [e1]
         isplitr; · ipureintro; rfl
         iexact H
     · unfold CI
       isplitr; · ipureintro; rfl
       isplitl [Hb]; · iexact Hb
       isplitl [Hid]; · iexact Hid
       isplitl [H9]; · iexact H9
       isplitl [H10]; · iexact H10
       iexact H11
     have e4 : 7 * t.val + Scf.trips (k0_t3_loop i t).lb (k0_t3_loop i t).ub (k0_t3_loop i t).st = min (7 * (t.val + 1)) (nch i) := hc
     unfold CI
     irw [e4]
     generalize stC x ids i t9 t10 (min (7 * (t.val + 1)) (nch i)) = st
     iintro %acc ⟨%ha, Hb, Hid, H9, H10, H11⟩
     subst ha
     first | sl_unfold [wp_part263.sl.prog.cont_2] | sl_unfold [wp_part263.sl.prog.cont_3] | sl_unfold [wp_part263.sl.prog.cont_4] | sl_unfold [wp_part263.sl.prog.cont_5]
     simp only [Prog.lift, Prog.bind_op, Prog.bind_ret, Prog.pure_eq_ret, Prog.bind_assoc]
     sl_for0 (t4_none i t)
     first | sl_unfold [wp_part263.sl.prog.cont_2] | sl_unfold [wp_part263.sl.prog.cont_3] | sl_unfold [wp_part263.sl.prog.cont_4] | sl_unfold [wp_part263.sl.prog.cont_5]
     sl_step
     ihave HF := (Entails.of_eq (Free_two d i t.val)) $$ [Hb Hs]
     · isplitl [Hb]; · iexists _; iexact Hb
       iexact Hs
     isplitr; · ipureintro; rfl
     isplitr; · iexact Hm
     isplitl [HN]; · iexact HN
     isplitl [HF]; · iexact HF
     isplitl [Hid]; · iexact Hid
     isplitl [H9 H10 H11]
     · isplitl [H9]; · iexact H9
       isplitl [H10]; · iexact H10
       iexact H11
     iexists _; iexact HO
  · iexact HI
  have e5 : Scf.trips (k0_t2_loop i).lb (k0_t2_loop i).ub (k0_t2_loop i).st = nbt i := trips_eq i
  have e6 : min (7 * nbt i) (nch i) = nch i := by
    unfold nbt nch
    split <;> omega
  irw [e5]
  unfold BlkI
  irw [e6]
  have hr := InR_stC x ids i hids t9 t10 (nch i)
  irevert Hk
  generalize stC x ids i t9 t10 (nch i) = st at hr ⊢
  iintro Hk %acc ⟨%ha, #Hm, HN, HF, Hid, ⟨H9, H10, H11⟩, %W', HO⟩
  subst ha
  sl_unfold [wp_part263.sl.prog.cont_1]
  simp only [Prog.lift, Prog.bind_op, Prog.bind_ret, Prog.pure_eq_ret, Prog.bind_assoc]
  sl_for0 (t5_none i)
  ihave HN := (Entails.of_eq (Next_ge x d i q (Nat.lt_irrefl (nbt i)))) $$ HN
  icases HN with ⟨Hx, HN⟩
  sl_unfold [wp_part263.sl.prog.cont_6]
  simp only [Prog.lift, Prog.bind_op, Prog.bind_ret, Prog.pure_eq_ret, Prog.bind_assoc]
  iapply (Entails.of_eq (wp_assume_of (defs := defs₀ (F := F)) 𝒱₀ (tl d i) none Set.univ (P := k0_chk649 lanes (atRow st.acc.run)) (in_cnt hr)).symm)
  iapply (Entails.of_eq (wp_assume_of (defs := defs₀ (F := F)) 𝒱₀ (tl d i) none Set.univ (P := k0_chk641 (atRow st.acc.run) (colIx lanes 0)) ⟨in_tab hr 0, in_tab hr 0⟩).symm)
  iapply (wp_scat9 d i) $$ H9
  iintro H9
  iapply (wp_scat10 d i) $$ H10
  iintro H10
  iapply (Entails.of_eq (wp_assume_of (defs := defs₀ (F := F)) 𝒱₀ (tl d i) none Set.univ (P := k0_chk642 (atRow st.acc.run) (colIx lanes 1)) ⟨in_tab hr 1, in_tab hr 1⟩).symm)
  iapply (wp_scat9 d i) $$ H9
  iintro H9
  iapply (wp_scat10 d i) $$ H10
  iintro H10
  iapply (Entails.of_eq (wp_assume_of (defs := defs₀ (F := F)) 𝒱₀ (tl d i) none Set.univ (P := k0_chk643 (atRow st.acc.run) (colIx lanes 2)) ⟨in_tab hr 2, in_tab hr 2⟩).symm)
  iapply (wp_scat9 d i) $$ H9
  iintro H9
  iapply (wp_scat10 d i) $$ H10
  iintro H10
  iapply (Entails.of_eq (wp_assume_of (defs := defs₀ (F := F)) 𝒱₀ (tl d i) none Set.univ (P := k0_chk644 (atRow st.acc.run) (colIx lanes 3)) ⟨in_tab hr 3, in_tab hr 3⟩).symm)
  iapply (wp_scat9 d i) $$ H9
  iintro H9
  iapply (wp_scat10 d i) $$ H10
  iintro H10
  iapply (Entails.of_eq (wp_assume_of (defs := defs₀ (F := F)) 𝒱₀ (tl d i) none Set.univ (P := k0_chk645 (atRow st.acc.run) (colIx lanes 4)) ⟨in_tab hr 4, in_tab hr 4⟩).symm)
  iapply (wp_scat9 d i) $$ H9
  iintro H9
  iapply (wp_scat10 d i) $$ H10
  iintro H10
  iapply (Entails.of_eq (wp_assume_of (defs := defs₀ (F := F)) 𝒱₀ (tl d i) none Set.univ (P := k0_chk646 (atRow st.acc.run) (colIx lanes 5)) ⟨in_tab hr 5, in_tab hr 5⟩).symm)
  iapply (wp_scat9 d i) $$ H9
  iintro H9
  iapply (wp_scat10 d i) $$ H10
  iintro H10
  unfold W
  sl_step
  ihave Hk := Hk $$ %(in_cnt hr) [Hx HN HF Hid H9 H10 H11 HO]
  swap; iapply (Entails.of_eq ?h) $$ Hk; case h => rfl
  unfold MidI
  isplitr; · iexact Hm
  isplitl [Hx]; · iexact Hx
  isplitl [HN]; · iexact HN
  isplitl [HF]; · iexact HF
  isplitl [Hid]; · iexact Hid
  isplitl [H9]; · iexact H9
  isplitl [H10]; · iexact H10
  isplitl [H11]; · iexact H11
  iexists _; iexact HO

end Body

end Cert.Proof.Pool

end
-- ==== Proof.Pool.lean ====
/-
  A tile's whole task: the counts cleared, the ids fetched, the first block started, the loop and the last flush, the
  three tables written out.
-/
module

public import proofs.«01_k».proof.Proof.Tile

@[expose] public section

noncomputable section

namespace Cert.Proof.Pool

open Cert.KernelIdeal Cert.KernelIdeal.Facts₀ Cert.KernelIdeal.Facts
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

section Body

variable (x : S100000x128.Idx → F .f32) (ids : S100000.Idx → BitVec 32) (d : Dev nD) (i : grid0.Coords)

/-! ## The counts cleared -/

theorem zero_trips : k0_t1_loop.trips = 256 := by decide +kernel
theorem off1_eq : ∀ t : Fin k0_t1_loop.trips, k0_off1 t = ![t.val, 0] := by decide +kernel

/-- The row `t` of the counts set to nothing. -/
theorem zero_row {t : ℕ} {inb : ∀ a, (![t, 0] : Fin 2 → ℕ) a + S1x16.size a ≤ S256x16.size a} (f : S256x16.Idx → F .f32) (z : F .f32)
    (w : Vec F S1x16 .f32) (hw : ∀ y, w y = z) (hf : ∀ y : S256x16.Idx, (y 0).val < t → f y = z) (y : S256x16.Idx) (hy : (y 0).val < t + 1) :
    (b11.access (Rect.unit (s := S256x16) ![t, 0] S1x16.size inb)).write (Elt F) f w Finset.univ y = z := by
  by_cases h : (y 0).val < t
  · refine (View.write_of_not_mem (v := b11.access (Rect.unit (s := S256x16) ![t, 0] S1x16.size inb)) (Val := Elt F) f w Finset.univ ?_).trans (hf y h)
    intro hm
    obtain ⟨k, -, hk⟩ := Finset.mem_map.mp hm
    have : t + 1 * (k 0).val = (y 0).val := congrArg (fun y : S256x16.Idx => (y 0).val) hk
    omega
  · have hlt : (y 1).val < 16 := (y 1).isLt
    let k : S1x16.Idx := fun | 0 => ⟨0, by decide⟩ | 1 => ⟨(y 1).val, hlt⟩
    have e : (b11.access (Rect.unit (s := S256x16) ![t, 0] S1x16.size inb)).emb k = y := by
      funext a
      match a with
      | 0 => exact Fin.ext (show t + 1 * 0 = (y 0).val by omega)
      | 1 => exact Fin.ext (show 0 + 1 * (y 1).val = (y 1).val by omega)
    have hwr := View.write_emb_of_mem (v := b11.access (Rect.unit (s := S256x16) ![t, 0] S1x16.size inb)) (Val := Elt F) f w (M := Finset.univ) (x := k) (Finset.mem_univ _)
    refine (congrArg _ e.symm).trans (hwr.trans ?_)
    exact hw k

theorem zero_row' {t : ℕ} {o : Fin 2 → ℕ} {inb : ∀ a, o a + S1x16.size a ≤ S256x16.size a} (e : o = ![t, 0]) (f : S256x16.Idx → F .f32) (z : F .f32)
    (w : Vec F S1x16 .f32) (hw : ∀ y, w y = z) (hf : ∀ y : S256x16.Idx, (y 0).val < t → f y = z) (y : S256x16.Idx) (hy : (y 0).val < t + 1) :
    (b11.access (Rect.unit (s := S256x16) o S1x16.size inb)).write (Elt F) f w Finset.univ y = z := by
  subst e
  exact zero_row f z w hw hf y hy

/-- Between the rows cleared. -/
def ZI (t : ℕ) (_ : PUnit) : sProp (MM F) :=
  iprop(∃ f : S256x16.Idx → F .f32, ⌜∀ y : S256x16.Idx, (y 0).val < t → f y = Scalar.ofBits .f32 0x00000000#32⌝ ∗ ((tl d i).loc cc0_scratch4 ↦{fullShare} f))

/-! ## The tile's own semaphores and buffers -/

abbrev tc (p : ℕ) (hp : p < 2) : GSem nD τ sig := (tl d i, .dma (semM p hp))
abbrev tcs0 : GSem nD τ sig := (tl d i, .dma cc0_scoped0.sem)
abbrev tcs1 : GSem nD τ sig := (tl d i, .dma cc0_scoped1.sem)
abbrev tcs2 : GSem nD τ sig := (tl d i, .dma cc0_scoped2.sem)
abbrev tcs3 : GSem nD τ sig := (tl d i, .dma cc0_scoped3.sem)

abbrev p20 : 0 < 2 := by decide
abbrev p21 : 1 < 2 := by decide

theorem own_of (s : SemLoc sig) (h : s.isScoped .scVector = true) : ((tl d i, s) : GSem nD τ sig) ∈ ownCells (tl d i) :=
  (mem_ownCells (g := (tl d i, s))).mpr ⟨rfl, h⟩

theorem cell_ne {s s' : SemLoc sig} (h : s ≠ s') : ((tl d i, s) : GSem nD τ sig) ≠ (tl d i, s') := fun e => h (congrArg Prod.snd e)

abbrev restCells : Finset (GSem nD τ sig) :=
  ((((((ownCells (tl d i)).erase (tc d i 0 p20)).erase (tc d i 1 p21)).erase (tcs0 d i)).erase (tcs1 d i)).erase (tcs2 d i)).erase (tcs3 d i)

theorem ownSems0_tile :
    (ownSems0 (tl d i) : sProp (MM F))
      = iprop(semVal (tc d i 0 p20) 0 ∗ semVal (tc d i 1 p21) 0 ∗ semVal (tcs0 d i) 0 ∗ semVal (tcs1 d i) 0 ∗ semVal (tcs2 d i) 0 ∗ semVal (tcs3 d i) 0
          ∗ bigSep (restCells d i) fun g => semVal g 0) := by
  unfold SparseCore.Cfg.ownSems0
  have m (s : SemLoc sig) (h : s.isScoped .scVector = true) := own_of d i s h
  have n {s s' : SemLoc sig} (h : s ≠ s') := cell_ne d i h
  rw [SparseCore.bigSep_erase' (m (.dma (semM 0 p20)) (by decide)),
    SparseCore.bigSep_erase' (Finset.mem_erase.mpr ⟨n (s := .dma (semM 1 p21)) (s' := .dma (semM 0 p20)) (by decide), m _ (by decide)⟩),
    SparseCore.bigSep_erase' (Finset.mem_erase.mpr ⟨n (s := .dma cc0_scoped0.sem) (s' := .dma (semM 1 p21)) (by decide),
      Finset.mem_erase.mpr ⟨n (s' := .dma (semM 0 p20)) (by decide), m _ (by decide)⟩⟩),
    SparseCore.bigSep_erase' (Finset.mem_erase.mpr ⟨n (s := .dma cc0_scoped1.sem) (s' := .dma cc0_scoped0.sem) (by decide),
      Finset.mem_erase.mpr ⟨n (s' := .dma (semM 1 p21)) (by decide), Finset.mem_erase.mpr ⟨n (s' := .dma (semM 0 p20)) (by decide), m _ (by decide)⟩⟩⟩),
    SparseCore.bigSep_erase' (Finset.mem_erase.mpr ⟨n (s := .dma cc0_scoped2.sem) (s' := .dma cc0_scoped1.sem) (by decide), Finset.mem_erase.mpr ⟨n (s' := .dma cc0_scoped0.sem) (by decide),
      Finset.mem_erase.mpr ⟨n (s' := .dma (semM 1 p21)) (by decide), Finset.mem_erase.mpr ⟨n (s' := .dma (semM 0 p20)) (by decide), m _ (by decide)⟩⟩⟩⟩),
    SparseCore.bigSep_erase' (Finset.mem_erase.mpr ⟨n (s := .dma cc0_scoped3.sem) (s' := .dma cc0_scoped2.sem) (by decide), Finset.mem_erase.mpr ⟨n (s' := .dma cc0_scoped1.sem) (by decide), Finset.mem_erase.mpr ⟨n (s' := .dma cc0_scoped0.sem) (by decide),
      Finset.mem_erase.mpr ⟨n (s' := .dma (semM 1 p21)) (by decide), Finset.mem_erase.mpr ⟨n (s' := .dma (semM 0 p20)) (by decide), m _ (by decide)⟩⟩⟩⟩⟩)]

abbrev bufOf (b : Ref sig .scVector) : DevRef τ sig := (Proc.scVector (cV i) (jV i)).devRef b
abbrev restBufs : Finset (DevRef τ sig) :=
  (((((ownRefs (τ := τ) (.scVector (cV i) (jV i))).erase (bufOf i cc0_scratch0)).erase (bufOf i cc0_scratch1)).erase (bufOf i cc0_scratch2)).erase (bufOf i cc0_scratch3)).erase (bufOf i cc0_scratch4)

theorem ownBufs_tile :
    (ownBufs (tl d i) : sProp (MM F))
      = iprop((∃ f, (tl d i).loc cc0_scratch0 ↦{fullShare} f) ∗ (∃ f, (tl d i).loc cc0_scratch1 ↦{fullShare} f) ∗ (∃ f, (tl d i).loc cc0_scratch2 ↦{fullShare} f)
          ∗ (∃ f, (tl d i).loc cc0_scratch3 ↦{fullShare} f) ∗ (∃ f, (tl d i).loc cc0_scratch4 ↦{fullShare} f)
          ∗ bigSep (restBufs i) fun b => iprop(∃ f, ((d, b) : Loc nD τ sig) ↦{fullShare} f)) := by
  unfold SparseCore.Cfg.ownBufs
  have n {b b' : Ref sig .scVector} (h : b ≠ b') : bufOf i b ≠ bufOf i b' := fun e => h (Proc.devRef_injective _ e)
  refine (SparseCore.bigSep_erase' (SparseCore.Cfg.mem_ownRefs_of_owner (p := Proc.scVector (cV i) (jV i)) (b := bufOf i cc0_scratch0) rfl)).trans ?_
  rw [SparseCore.bigSep_erase' (Finset.mem_erase.mpr ⟨n (b := cc0_scratch1) (b' := cc0_scratch0) (by decide),
      SparseCore.Cfg.mem_ownRefs_of_owner (p := Proc.scVector (cV i) (jV i)) (b := bufOf i cc0_scratch1) rfl⟩),
    SparseCore.bigSep_erase' (Finset.mem_erase.mpr ⟨n (b := cc0_scratch2) (b' := cc0_scratch1) (by decide), Finset.mem_erase.mpr ⟨n (b' := cc0_scratch0) (by decide),
      SparseCore.Cfg.mem_ownRefs_of_owner (p := Proc.scVector (cV i) (jV i)) (b := bufOf i cc0_scratch2) rfl⟩⟩),
    SparseCore.bigSep_erase' (Finset.mem_erase.mpr ⟨n (b := cc0_scratch3) (b' := cc0_scratch2) (by decide), Finset.mem_erase.mpr ⟨n (b' := cc0_scratch1) (by decide), Finset.mem_erase.mpr ⟨n (b' := cc0_scratch0) (by decide),
      SparseCore.Cfg.mem_ownRefs_of_owner (p := Proc.scVector (cV i) (jV i)) (b := bufOf i cc0_scratch3) rfl⟩⟩⟩),
    SparseCore.bigSep_erase' (Finset.mem_erase.mpr ⟨n (b := cc0_scratch4) (b' := cc0_scratch3) (by decide), Finset.mem_erase.mpr ⟨n (b' := cc0_scratch2) (by decide), Finset.mem_erase.mpr ⟨n (b' := cc0_scratch1) (by decide), Finset.mem_erase.mpr ⟨n (b' := cc0_scratch0) (by decide),
      SparseCore.Cfg.mem_ownRefs_of_owner (p := Proc.scVector (cV i) (jV i)) (b := bufOf i cc0_scratch4) rfl⟩⟩⟩⟩)]

/-! ## The two slots -/

theorem slots_disj : Disjoint (slotS 0) (slotS 1) := by
  rw [Finset.disjoint_left]
  intro y h0 h1
  have h0 := (Finset.mem_filter.mp h0).2
  have h1 := (Finset.mem_filter.mp h1).2
  omega
theorem slots_all : slotS 0 ∪ slotS 1 = Finset.univ := by
  refine Finset.ext fun y => ⟨fun _ => Finset.mem_univ _, fun _ => ?_⟩
  have h : (y 0).val < 2 := (y 0).isLt
  rw [Finset.mem_union]
  rcases (show (y 0).val = 0 ∨ (y 0).val = 1 by omega) with h | h
  · exact .inl (Finset.mem_filter.mpr ⟨Finset.mem_univ _, h⟩)
  · exact .inr (Finset.mem_filter.mpr ⟨Finset.mem_univ _, h⟩)

theorem slots_split (f : S2x112x128.Idx → F .f32) :
    ((tl d i).loc cc0_scratch0 ↦{fullShare} f : sProp (MM F)) ⊢ iprop(((tl d i).loc cc0_scratch0 ↦[slotS 0]{fullShare} f) ∗ ((tl d i).loc cc0_scratch0 ↦[slotS 1]{fullShare} f)) := by
  have h := (pointsTo_union (ℓ := (tl d i).loc cc0_scratch0) (q := fullShare) (f := f) (Ix := HIx 1) (Val := Elt F) (Name := ℕ) (U := UU) (Lvl := ℕ) slots_disj).1
  rw [slots_all] at h
  exact h

theorem slots_join (f g : S2x112x128.Idx → F .f32) :
    iprop(((tl d i).loc cc0_scratch0 ↦[slotS 0]{fullShare} f) ∗ ((tl d i).loc cc0_scratch0 ↦[slotS 1]{fullShare} g)) ⊢ (iprop(∃ f, (tl d i).loc cc0_scratch0 ↦{fullShare} f) : sProp (MM F)) := by
  have h := (pointsTo_join (ℓ := (tl d i).loc cc0_scratch0) (q := fullShare) (f := f) (g := g) (Ix := HIx 1) (Val := Elt F) (Name := ℕ) (U := UU) (Lvl := ℕ) slots_disj)
  rw [slots_all] at h
  iintro H
  iexists _
  iapply h $$ H

abbrev Both : sProp (MM F) := iprop((∃ f, (tl d i).loc cc0_scratch0 ↦{fullShare} f) ∗ semVal (tc d i 0 p20) 0 ∗ semVal (tc d i 1 p21) 0)

theorem both_of : iprop(Free d i 0 ∗ Free d i 1) ⊢ (Both d i : sProp (MM F)) := by
  iintro ⟨⟨⟨%f, Hf⟩, Hs⟩, ⟨%g, Hg⟩, Hs'⟩
  isplitl [Hf Hg]
  · iapply (slots_join d i f g)
    isplitl [Hf]; · iexact Hf
    iexact Hg
  isplitl [Hs]; · iexact Hs
  iexact Hs'

theorem both_of_next : ∀ t, iprop(Free d i t ∗ Free d i (t + 1)) ⊢ (Both d i : sProp (MM F))
  | 0 => both_of d i
  | t + 1 => by
    rw [← Free_two d i t]
    exact sep_comm.1.trans (both_of_next t)

theorem ids_whole (b : ℕ) (q : PosShare TreeShare) :
    (iprop(((tl d i).loc main_arg1_scv ↦[idsS b]{q} ids) ∗ ((tl d i).loc main_arg1_scv ↦[Finset.univ \ idsS b]{q} ids)) : sProp (MM F)) = ((tl d i).loc main_arg1_scv ↦{q} ids) :=
  Entails.antisymm (pointsTo_split_subset (ℓ := (tl d i).loc main_arg1_scv) (I := idsS b) (S := Finset.univ) (Finset.subset_univ _)).2
    (pointsTo_split_subset (ℓ := (tl d i).loc main_arg1_scv) (I := idsS b) (S := Finset.univ) (Finset.subset_univ _)).1

/-! ## The task -/

variable (q : PosShare TreeShare)

/-- What a tile is handed. -/
abbrev InP (f4 f5 : S32x256x128.Idx → F .f32) (f6 : S32x256x16.Idx → F .f32) : sProp (MM F) :=
  iprop(((tl d i).loc main_arg0_scv ↦{q} x) ∗ ((tl d i).loc main_arg1_scv ↦{q} ids) ∗ ((tl d i).loc main_v0_0_scv ↦[outS (wid i)]{fullShare} f4)
    ∗ ((tl d i).loc main_v0_1_scv ↦[outS (wid i)]{fullShare} f5) ∗ ((tl d i).loc main_v0_2_scv ↦[outcS (wid i)]{fullShare} f6))
/-- What it gives back. -/
abbrev OutP : sProp (MM F) :=
  iprop(∃ t9 t10, InP x ids d i q (under (stEnd x ids i t9 t10).sumT) (under (stEnd x ids i t9 t10).maxT) (underc (stEnd x ids i t9 t10).cntT))

theorem tile_body (hids : IdsIn ids) (hF : (K (F := F)).Facts) (O : CellTallies nD τ sig (HIx 1)) (W₀ : Waits sig (HIx 1)) (hO : ∀ g, O g none = 0)
    (f4 f5 : S32x256x128.Idx → F .f32) (f6 : S32x256x16.Idx → F .f32) :
    iprop(levAts (K (F := F)).L (K (F := F)).lev ∗ emp ∗ InP x ids d i q f4 f5 f6 ∗ scopedBufs (tl d i) ∗ scopedSems0 (tl d i) ∗ owes (tl d i) O W₀)
      ⊢ wp frame (wpE (defs₀ (F := F)) 𝒱₀ (tl d i) none) Set.univ
          (cc0__sc_pool i b2 (Memref.isWhole_whole _) b3 (Memref.isWhole_whole _) b4 (Memref.isWhole_whole _) b5 (Memref.isWhole_whole _) b6 (Memref.isWhole_whole _)
          b7 (Memref.isWhole_whole _) b8 (Memref.isWhole_whole _) b9 (Memref.isWhole_whole _) b10 (Memref.isWhole_whole _) b11 (Memref.isWhole_whole _)
          cc0_scratch5 cc0_scoped0 cc0_scoped1 cc0_scoped2 cc0_scoped3)
          fun _ => iprop(OutP x ids d i q ∗ scopedBufs (tl d i) ∗ scopedSems0 (tl d i)
            ∗ ∃ W', ⌜∀ p ∈ W', p ∈ W₀ ∨ p.2 = none ∨ p.2 = some (0 : Fin 1)⌝ ∗ owes (tl d i) O W') := by
  rw [(K (F := F)).scopedBufs_V hF d (cV i) (jV i), SparseCore.Cfg.scopedSems0_V (Val := Elt F) d (cV i) (jV i), ownSems0_tile, ownBufs_tile]
  iintro ⟨#Hlv, -, ⟨Hx, Hi, H4, H5, H6⟩, ⟨⟨%f0, Hb⟩, ⟨%f1, Hid⟩, ⟨%t9, H9⟩, ⟨%t10, H10⟩, ⟨%fc, H11⟩, Hbufs⟩, ⟨Hs0, Hs1, Hc0, Hc1, Hc2, Hc3, Hsems⟩, HO⟩
  ihave Hmw := (show levAts (K (F := F)).L (K (F := F)).lev ⊢ Transfers.MayWaits (tl d i) (default : HIx 1) O from
    (K (F := F)).mayWaits_none (thr := tl d i) hO) $$ Hlv
  icases Hmw with #Hm
  sl_unfold [cc0__sc_pool]
  sl_unfold [k0_part261]
  simp only [Prog.lift, Prog.bind_op, Prog.bind_ret, Prog.pure_eq_ret, Prog.bind_assoc]
  sl_for (ZI d i) $$ [H11]
  · intro t _
    unfold ZI
    iintro ⟨%f, %hf, H⟩
    sl_unfold [tile_body.sl.prog.body_1]
    simp only [Prog.lift, Prog.bind_op, Prog.bind_ret, Prog.pure_eq_ret, Prog.bind_assoc]
    iapply (wp_load_rect (defs := defs₀ (F := F)) 𝒱₀ (tl d i) none Set.univ (m := b11) (r := Rect.unit (s := S256x16) (k0_off1 t) S1x16.size (k0_off1_inb t)) (S := Finset.univ) (q := fullShare) (f := f) (Finset.subset_univ _)) $$ H
    iintro H
    iapply (wp_store (defs := defs₀ (F := F)) 𝒱₀ (tl d i) none Set.univ (m := b11) (r := Rect.unit (s := S256x16) (k0_off1 t) S1x16.size (k0_off1_inb t)) (S := Finset.univ) (f := f) (Finset.subset_univ _)) $$ H
    iintro H
    sl_step
    iexists _
    isplitr
    swap; · iexact H
    ipureintro
    intro y hy
    exact zero_row' (off1_eq t) f _ _ (fun _ => rfl) hf y hy
  · unfold ZI
    iexists fc
    isplitr; · ipureintro; intro y hy; exact absurd hy (Nat.not_lt_zero _)
    iexact H11
  have e0 : Scf.trips k0_t1_loop.lb k0_t1_loop.ub k0_t1_loop.st = 256 := zero_trips
  irw [e0]
  unfold ZI
  iintro %acc ⟨%f, %hf, H11⟩
  have hz : f = fun _ => Scalar.ofBits .f32 0x00000000#32 := funext fun y => hf y (y 0).isLt
  subst hz
  sl_unfold [tile_body.sl.prog.cont_1]
  sl_unfold [k0_part262]
  simp only [Prog.lift, Prog.bind_op, Prog.bind_ret, Prog.pure_eq_ret, Prog.bind_assoc]
  ihave Hi := (Entails.of_eq (ids_whole ids d i (idBase i) q).symm) $$ Hi
  icases Hi with ⟨Hi, Hi'⟩
  iapply (wp_idsIn ids d i (idB_le i) rfl (off2_eq i)) $$ [Hi Hid Hc0 HO]
  · isplitl [Hi]; · iexact Hi
    isplitl [Hid]; · iexact Hid
    isplitl [Hc0]; · iexact Hc0
    isplitl [HO]; · iexact HO
    iexact Hm
  iintro ⟨Hi, Hid, Hc0, HO⟩
  ihave Hi := (Entails.of_eq (ids_whole ids d i (idBase i) q)) $$ [Hi Hi']
  · isplitl [Hi]; · iexact Hi
    iexact Hi'
  ihave Hx := (Entails.of_eq (x_whole x d i q (blkBase i 0)).symm) $$ Hx
  icases Hx with ⟨Hr, Hx⟩
  ihave Hb := (slots_split d i f0) $$ Hb
  icases Hb with ⟨Hb, Hb'⟩
  iapply (wp_fetch x d i (p2 0) (blk_le i 0) (o4 := ![0, 0, 0]) rfl (off3_eq i) (o6 := ![0]) rfl) $$ [Hr Hb Hs0]
  · isplitl [Hr]; · iexact Hr
    isplitl [Hb]; · iexact Hb
    iexact Hs0
  iintro HFl
  ihave HN := (Entails.of_eq (Next_lt x d i q (show 0 < nbt i by unfold nbt; split <;> decide)).symm) $$ [HFl Hx]
  · isplitl [HFl]; · iexact HFl
    iexact Hx
  iapply (Entails.of_eq (wp_bind frame (wpE (defs₀ (F := F)) 𝒱₀ (tl d i) none) Set.univ _ _ _).symm)
  iapply (wp_part263 x ids d i q O t9 t10 hids _ _ _) $$ [HN Hb' Hs1 Hid H9 H10 H11 HO]
  · unfold BlkI
    isplitr; · ipureintro; rfl
    isplitr; · iexact Hm
    isplitl [HN]; · iexact HN
    isplitl [Hb' Hs1]
    · isplitl [Hb']; · iexists f0; iexact Hb'
      iexact Hs1
    isplitl [Hid]; · iexact Hid
    isplitl [H9 H10 H11]
    · isplitl [H9]; · iexact H9
      isplitl [H10]; · iexact H10
      iexact H11
    iexists _; iexact HO
  have hr := InR_stC x ids i hids t9 t10 (nch i)
  have eE : stEnd x ids i t9 t10 = flushSt (endM (stC x ids i t9 t10 (nch i)).acc.run) (stC x ids i t9 t10 (nch i)).acc (stC x ids i t9 t10 (nch i)) := rfl
  generalize stC x ids i t9 t10 (nch i) = st at hr eE ⊢
  unfold MidI
  iintro %hw ⟨-, Hx, HN, HF, Hid, H9, H10, H11, %W', HO⟩
  dsimp only
  sl_unfold [k0_part264]
  simp only [Prog.lift, Prog.bind_op, Prog.bind_ret, Prog.pure_eq_ret, Prog.bind_assoc]
  iapply (Entails.of_eq (wp_assume_of (defs := defs₀ (F := F)) 𝒱₀ (tl d i) none Set.univ (P := k0_chk647 (atRow st.acc.run) (colIx lanes 6)) ⟨in_tab hr 6, in_tab hr 6⟩).symm)
  iapply (wp_scat9 d i) $$ H9
  iintro H9
  iapply (wp_scat10 d i) $$ H10
  iintro H10
  iapply (Entails.of_eq (wp_assume_of (defs := defs₀ (F := F)) 𝒱₀ (tl d i) none Set.univ (P := k0_chk648 (atRow st.acc.run) (colIx lanes 7)) ⟨in_tab hr 7, in_tab hr 7⟩).symm)
  iapply (wp_scat9 d i) $$ H9
  iintro H9
  iapply (wp_scat10 d i) $$ H10
  iintro H10
  iapply (wp_scat11 d i) $$ H11
  iintro H11
  iapply (wp_out4 d i (wid_lt i) (off564_eq i)) $$ [H9 H4 Hc1 HO]
  · isplitl [H9]; · iexact H9
    isplitl [H4]; · iexact H4
    isplitl [Hc1]; · iexact Hc1
    isplitl [HO]; · iexact HO
    iexact Hm
  iintro ⟨H9, H4, Hc1, HO⟩
  iapply (wp_out5 d i (wid_lt i) (off564_eq i)) $$ [H10 H5 Hc2 HO]
  · isplitl [H10]; · iexact H10
    isplitl [H5]; · iexact H5
    isplitl [Hc2]; · iexact Hc2
    isplitl [HO]; · iexact HO
    iexact Hm
  iintro ⟨H10, H5, Hc2, HO⟩
  iapply (wp_out6 d i (wid_lt i) (off565_eq i)) $$ [H11 H6 Hc3 HO]
  · isplitl [H11]; · iexact H11
    isplitl [H6]; · iexact H6
    isplitl [Hc3]; · iexact Hc3
    isplitl [HO]; · iexact HO
    iexact Hm
  iintro ⟨H11, H6, Hc3, HO⟩
  unfold W
  sl_step
  ihave HB := (both_of_next d i (nbt i)) $$ [HN HF]
  · isplitl [HN]; · iexact HN
    iexact HF
  icases HB with ⟨Hb, Hs0, Hs1⟩
  isplitl [Hx Hi H4 H5 H6]
  · iexists t9; iexists t10
    irw [eE]
    isplitl [Hx]; · iexact Hx
    isplitl [Hi]; · iexact Hi
    isplitl [H4]; · iexact H4
    isplitl [H5]; · iexact H5
    iexact H6
  isplitl [Hb Hid H9 H10 H11 Hbufs]
  · isplitl [Hb]; · iexact Hb
    isplitl [Hid]; · iexists _; iexact Hid
    isplitl [H9]; · iexists _; iexact H9
    isplitl [H10]; · iexists _; iexact H10
    isplitl [H11]; · iexists _; iexact H11
    iexact Hbufs
  isplitl [Hs0 Hs1 Hc0 Hc1 Hc2 Hc3 Hsems]
  · isplitl [Hs0]; · iexact Hs0
    isplitl [Hs1]; · iexact Hs1
    isplitl [Hc0]; · iexact Hc0
    isplitl [Hc1]; · iexact Hc1
    isplitl [Hc2]; · iexact Hc2
    isplitl [Hc3]; · iexact Hc3
    iexact Hsems
  iexists _; isplitr
  swap; · iexact HO
  ipureintro; intro p _
  rcases p.2 with _ | q
  · exact .inr (.inl rfl)
  · exact .inr (.inr (congrArg some (Subsingleton.elim q 0)))

end Body

end Cert.Proof.Pool

end
-- ==== Proof.Launch.lean ====
/-
  The SparseCore call: what it hands its tiles and takes back, how the arrays split among the tiles and how their
  parts of the partial tables come together.
-/
module

public import proofs.«01_k».proof.Proof.Pool

@[expose] public section

noncomputable section

namespace Cert.Proof.Pool

open Cert.KernelIdeal Cert.KernelIdeal.Facts₀ Cert.KernelIdeal.Facts
open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)

/-! ## The tiles and their numbers -/

def coordsV (c : Fin (grid0.bound 0)) (s : Fin (grid0.bound 1)) : grid0.Coords :=
  fun | 0 => c | 1 => s | ⟨_ + 2, h⟩ => absurd h (Nat.not_lt.2 (Nat.le_add_left _ _))

/-- Core and subcore against the number of the tile. -/
def tileNo : Fin 2 × Fin 16 ≃ Fin 32 where
  toFun p := ⟨p.2.val * 2 + p.1.val, by have := p.1.isLt; have := p.2.isLt; omega⟩
  invFun p := (⟨p.val % 2, Nat.mod_lt _ (by decide)⟩, ⟨p.val / 2, by have := p.isLt; omega⟩)
  left_inv p := by
    have := p.1.isLt; have := p.2.isLt
    exact Prod.ext (Fin.ext (by show (p.2.val * 2 + p.1.val) % 2 = p.1.val; omega)) (Fin.ext (by show (p.2.val * 2 + p.1.val) / 2 = p.2.val; omega))
  right_inv p := Fin.ext (by show p.val / 2 * 2 + p.val % 2 = p.val; omega)

/-- The tile of a number. -/
def tileOf (p : Fin 32) : grid0.Coords := coordsV (tileNo.symm p).1 (tileNo.symm p).2

theorem wid_coordsV (c : Fin 2) (s : Fin 16) : wid (coordsV c s) = (tileNo (c, s)).val := rfl
theorem tileOf_no (c : Fin 2) (s : Fin 16) : tileOf (tileNo (c, s)) = coordsV c s := by
  unfold tileOf; rw [tileNo.symm_apply_apply]
theorem wid_tileOf (p : Fin 32) : wid (tileOf p) = p.val := by
  have h := wid_coordsV (tileNo.symm p).1 (tileNo.symm p).2
  rw [Prod.mk.eta, tileNo.apply_symm_apply] at h; exact h

/-! ## The arrays of the call -/

abbrev xLoc (d : Dev nD) : Loc nD τ sig := (SparseCore.T d).loc main_arg0
abbrev iLoc (d : Dev nD) : Loc nD τ sig := (SparseCore.T d).loc main_arg1
abbrev s4Loc (d : Dev nD) : Loc nD τ sig := (SparseCore.T d).loc main_v0_0
abbrev s5Loc (d : Dev nD) : Loc nD τ sig := (SparseCore.T d).loc main_v0_1
abbrev s6Loc (d : Dev nD) : Loc nD τ sig := (SparseCore.T d).loc main_v0_2

/-- The data and the ids at the launch. -/
abbrev xM (d : Dev nD) : S100000x128.Idx → F .f32 := m (xLoc d)
abbrev idM (d : Dev nD) : S100000.Idx → BitVec 32 := m (iLoc d)

/-- A tile's share of what all of them read. -/
abbrev shr (p : Fin 32) : PosShare TreeShare := Transfers.dealOf fullShare Finset.univ p

abbrev goP (d : Dev nD) (c : Fin 2) (s : Fin 16) : sProp (MM F) :=
  InP (xM m d) (idM m d) d (coordsV c s) (shr (tileNo (c, s))) (m (s4Loc d)) (m (s5Loc d)) (m (s6Loc d))
abbrev tdP (d : Dev nD) (c : Fin 2) (s : Fin 16) : sProp (MM F) :=
  OutP (xM m d) (idM m d) d (coordsV c s) (shr (tileNo (c, s)))

theorem nCore_zero : (K (F := F)).nCore 0 = 2 := rfl
theorem nSub_zero : (K (F := F)).nSub 0 = 16 := rfl

def P : (K (F := F)).Pay (nD := nD) (Val := Elt F) (Name := ℕ) (U := UU) where
  st := fun q d c => match q with | 0 => bigSep Finset.univ fun s : Fin 16 => goP m d (Fin.cast nCore_zero c) s
  dn := fun q d c => match q with | 0 => bigSep Finset.univ fun s : Fin 16 => tdP m d (Fin.cast nCore_zero c) s
  go := fun q d c i => match q with | 0 => goP m d (Fin.cast nCore_zero c) (Fin.cast nSub_zero i)
  td := fun q d c i => match q with | 0 => tdP m d (Fin.cast nCore_zero c) (Fin.cast nSub_zero i)
  x := fun _ _ => iprop(emp)

instance P_storable : (P (F := F) m).IsStorable where
  st q d c := match q with
    | 0 => (inferInstance : BI.Storable (upEmb : UEmb _ (MM F)) (bigSep Finset.univ fun s : Fin 16 => goP m d (Fin.cast nCore_zero c) s))
  dn q d c := match q with
    | 0 => (inferInstance : BI.Storable (upEmb : UEmb _ (MM F)) (bigSep Finset.univ fun s : Fin 16 => tdP m d (Fin.cast nCore_zero c) s))
  go q d c i := match q with
    | 0 => (inferInstance : BI.Storable (upEmb : UEmb _ (MM F)) (goP m d (Fin.cast nCore_zero c) (Fin.cast nSub_zero i)))
  td q d c i := match q with
    | 0 => (inferInstance : BI.Storable (upEmb : UEmb _ (MM F)) (tdP m d (Fin.cast nCore_zero c) (Fin.cast nSub_zero i)))

/-! ## The call's obligations -/

theorem defs₀_vector (c : Fin τ.nSC) (s : Fin τ.nSub) :
    defs₀ (F := F) (.scVector c s) 0 ()
      = SparseCore.onTile hcore0 hsub0 (fun c s => cc0__sc_pool (coordsV c s) b2 (Memref.isWhole_whole _) b3 (Memref.isWhole_whole _) b4 (Memref.isWhole_whole _) b5 (Memref.isWhole_whole _) b6 (Memref.isWhole_whole _)
          b7 (Memref.isWhole_whole _) b8 (Memref.isWhole_whole _) b9 (Memref.isWhole_whole _) b10 (Memref.isWhole_whole _) b11 (Memref.isWhole_whole _)
          cc0_scratch5 cc0_scoped0 cc0_scoped1 cc0_scoped2 cc0_scoped3) ⟨⟩ c s := rfl

theorem tileObl (hids : ∀ d, IdsIn (idM m d)) (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body (xM m d) (idM m d) d (coordsV ⟨_, hci.1⟩ ⟨_, hci.2⟩) (shr (tileNo (Fin.cast nCore_zero c, Fin.cast nSub_zero i))) (hids d) hF O W hO _ _ _

theorem vecSplit : (K (F := F)).VecSplit' (P m) 0 := by
  intro d c
  rw [show (P m).st 0 d c = bigSep Finset.univ fun i => (P m).go 0 d c i from rfl, show (P m).dn 0 d c = bigSep Finset.univ fun i => (P m).td 0 d c i from rfl]
  iintro H
  imodintro
  isplitl [H]; · iexact H
  iintro H
  iexact H

/-! ## The arrays split among the tiles, and gathered -/

theorem bigSep_tiles (Φ : Fin 32 → sProp (MM F)) :
    (bigSep Finset.univ fun c : Fin ((K (F := F)).nCore 0) => bigSep Finset.univ fun s : Fin 16 => Φ (tileNo (Fin.cast nCore_zero c, s))) = bigSep Finset.univ Φ := by
  rw [bigSep_univ_equiv tileNo Φ, bigSep_univ_prod]
  rfl

theorem outS_disj : ∀ t ∈ (Finset.univ : Finset (Fin 32)), ∀ t' ∈ (Finset.univ : Finset (Fin 32)), t ≠ t' → Disjoint (outS t.val) (outS t'.val) := by
  intro t _ t' _ h
  rw [Finset.disjoint_left]
  intro y h1 h2
  exact h (Fin.ext (((Finset.mem_filter.mp h1).2).symm.trans (Finset.mem_filter.mp h2).2))
theorem outcS_disj : ∀ t ∈ (Finset.univ : Finset (Fin 32)), ∀ t' ∈ (Finset.univ : Finset (Fin 32)), t ≠ t' → Disjoint (outcS t.val) (outcS t'.val) := by
  intro t _ t' _ h
  rw [Finset.disjoint_left]
  intro y h1 h2
  exact h (Fin.ext (((Finset.mem_filter.mp h1).2).symm.trans (Finset.mem_filter.mp h2).2))
theorem outS_cover : (Finset.univ : Finset (Fin 32)).biUnion (fun t => outS t.val) = Finset.univ :=
  Finset.eq_univ_of_forall fun y => Finset.mem_biUnion.mpr ⟨y 0, Finset.mem_univ _, Finset.mem_filter.mpr ⟨Finset.mem_univ _, rfl⟩⟩
theorem outcS_cover : (Finset.univ : Finset (Fin 32)).biUnion (fun t => outcS t.val) = Finset.univ :=
  Finset.eq_univ_of_forall fun y => Finset.mem_biUnion.mpr ⟨y 0, Finset.mem_univ _, Finset.mem_filter.mpr ⟨Finset.mem_univ _, rfl⟩⟩

theorem pts_all4 (d : Dev nD) (f : S32x256x128.Idx → F .f32) :
    (s4Loc d ↦{fullShare} f : sProp (MM F)) = bigSep Finset.univ fun p : Fin 32 => s4Loc d ↦[outS p.val]{fullShare} f := by
  rw [← pointsTo_biUnion Finset.univ (ℓ := s4Loc d) (fun t : Fin 32 => outS t.val) outS_disj, outS_cover]
theorem pts_all5 (d : Dev nD) (f : S32x256x128.Idx → F .f32) :
    (s5Loc d ↦{fullShare} f : sProp (MM F)) = bigSep Finset.univ fun p : Fin 32 => s5Loc d ↦[outS p.val]{fullShare} f := by
  rw [← pointsTo_biUnion Finset.univ (ℓ := s5Loc d) (fun t : Fin 32 => outS t.val) outS_disj, outS_cover]
theorem pts_all6 (d : Dev nD) (f : S32x256x16.Idx → F .f32) :
    (s6Loc d ↦{fullShare} f : sProp (MM F)) = bigSep Finset.univ fun p : Fin 32 => s6Loc d ↦[outcS p.val]{fullShare} f := by
  rw [← pointsTo_biUnion Finset.univ (ℓ := s6Loc d) (fun t : Fin 32 => outcS t.val) outcS_disj, outcS_cover]

/-- What the tables the tiles leave hold in all: tile `p`'s part under the number `p`. -/
def part4 (G : Fin 32 → S32x256x128.Idx → F .f32) : S32x256x128.Idx → F .f32 := fun y => G (y 0) y
def part6 (G : Fin 32 → S32x256x16.Idx → F .f32) : S32x256x16.Idx → F .f32 := fun y => G (y 0) y

theorem part4_eq (G : Fin 32 → S32x256x128.Idx → F .f32) (p : Fin 32) : ∀ y ∈ outS p.val, G p y = part4 G y := by
  intro y hy
  have : p = y 0 := Fin.ext (Finset.mem_filter.mp hy).2.symm
  subst this; rfl
theorem part6_eq (G : Fin 32 → S32x256x16.Idx → F .f32) (p : Fin 32) : ∀ y ∈ outcS p.val, G p y = part6 G y := by
  intro y hy
  have : p = y 0 := Fin.ext (Finset.mem_filter.mp hy).2.symm
  subst this; rfl

theorem gather4 (d : Dev nD) (G : Fin 32 → S32x256x128.Idx → F .f32) :
    (bigSep Finset.univ fun p : Fin 32 => s4Loc d ↦[outS p.val]{fullShare} G p) = (s4Loc d ↦{fullShare} part4 G : sProp (MM F)) := by
  rw [pts_all4]
  exact bigSep_congr fun p _ => pointsTo_congr (part4_eq G p)
theorem gather5 (d : Dev nD) (G : Fin 32 → S32x256x128.Idx → F .f32) :
    (bigSep Finset.univ fun p : Fin 32 => s5Loc d ↦[outS p.val]{fullShare} G p) = (s5Loc d ↦{fullShare} part4 G : sProp (MM F)) := by
  rw [pts_all5]
  exact bigSep_congr fun p _ => pointsTo_congr (part4_eq G p)
theorem gather6 (d : Dev nD) (G : Fin 32 → S32x256x16.Idx → F .f32) :
    (bigSep Finset.univ fun p : Fin 32 => s6Loc d ↦[outcS p.val]{fullShare} G p) = (s6Loc d ↦{fullShare} part6 G : sProp (MM F)) := by
  rw [pts_all6]
  exact bigSep_congr fun p _ => pointsTo_congr (part6_eq G p)

/-- The tables the call leaves, in what each tile's scratch held before. -/
abbrev Tab (F : FTy → Type) : Type := S256x128.Idx → F .f32
def psum (d : Dev nD) (t : Fin 32 → Tab F × Tab F) : S32x256x128.Idx → F .f32 :=
  part4 fun p => under (stEnd (xM m d) (idM m d) (tileOf p) (t p).1 (t p).2).sumT
def pmax (d : Dev nD) (t : Fin 32 → Tab F × Tab F) : S32x256x128.Idx → F .f32 :=
  part4 fun p => under (stEnd (xM m d) (idM m d) (tileOf p) (t p).1 (t p).2).maxT
def pcnt (d : Dev nD) (t : Fin 32 → Tab F × Tab F) : S32x256x16.Idx → F .f32 :=
  part6 fun p => underc (stEnd (xM m d) (idM m d) (tileOf p) (t p).1 (t p).2).cntT

/-- The five arrays of the call. -/
abbrev FiveP (d : Dev nD) (f4 f5 : S32x256x128.Idx → F .f32) (f6 : S32x256x16.Idx → F .f32) : sProp (MM F) :=
  iprop((xLoc d ↦{fullShare} m (xLoc d)) ∗ (iLoc d ↦{fullShare} m (iLoc d)) ∗ (s4Loc d ↦{fullShare} f4) ∗ (s5Loc d ↦{fullShare} f5) ∗ (s6Loc d ↦{fullShare} f6))

abbrev atP (d : Dev nD) (p : Fin 32) (f4 f5 : S32x256x128.Idx → F .f32) (f6 : S32x256x16.Idx → F .f32) : sProp (MM F) :=
  iprop((xLoc d ↦{shr p} m (xLoc d)) ∗ (iLoc d ↦{shr p} m (iLoc d)) ∗ (s4Loc d ↦[outS p.val]{fullShare} f4) ∗ (s5Loc d ↦[outS p.val]{fullShare} f5) ∗ (s6Loc d ↦[outcS p.val]{fullShare} f6))

theorem five_eq (d : Dev nD) (G4 G5 : Fin 32 → S32x256x128.Idx → F .f32) (G6 : Fin 32 → S32x256x16.Idx → F .f32) :
    (bigSep Finset.univ fun p : Fin 32 => atP m d p (G4 p) (G5 p) (G6 p)) = FiveP m d (part4 G4) (part4 G5) (part6 G6) := by
  unfold atP FiveP
  rw [bigSep_sep', bigSep_sep', bigSep_sep', bigSep_sep', gather4, gather5, gather6,
    ← Transfers.pointsTo_deal (Finset.univ : Finset (Fin 32)) Finset.univ_nonempty fullShare,
    ← Transfers.pointsTo_deal (Finset.univ : Finset (Fin 32)) Finset.univ_nonempty fullShare]

theorem st0_eq (d : Dev nD) :
    (bigSep Finset.univ fun c : Fin ((K (F := F)).nCore 0) => (P m).st 0 d c) = FiveP m d (m (s4Loc d)) (m (s5Loc d)) (m (s6Loc d)) :=
  (bigSep_tiles fun p => atP m d p (m (s4Loc d)) (m (s5Loc d)) (m (s6Loc d))).trans
    (five_eq m d (fun _ => m (s4Loc d)) (fun _ => m (s5Loc d)) (fun _ => m (s6Loc d)))

theorem dn0_out (d : Dev nD) :
    (bigSep Finset.univ fun c : Fin ((K (F := F)).nCore 0) => (P m).dn 0 d c) ⊢ iprop(∃ t, FiveP m d (psum m d t) (pmax m d t) (pcnt m d t)) := by
  have e : (bigSep Finset.univ fun c : Fin ((K (F := F)).nCore 0) => (P m).dn 0 d c)
      = bigSep Finset.univ fun p : Fin 32 => iprop(∃ t9 t10, atP m d p (under (stEnd (xM m d) (idM m d) (tileOf p) t9 t10).sumT)
          (under (stEnd (xM m d) (idM m d) (tileOf p) t9 t10).maxT) (underc (stEnd (xM m d) (idM m d) (tileOf p) t9 t10).cntT)) := by
    rw [← bigSep_tiles]
    refine bigSep_congr fun c _ => ?_
    rw [show (P m).dn 0 d c = bigSep Finset.univ fun s : Fin 16 => tdP m d (Fin.cast nCore_zero c) s from rfl]
    refine bigSep_congr fun s _ => ?_
    rw [tileOf_no]
    rfl
  rw [e]
  have : Nonempty (Tab F × Tab F) := ⟨(fun _ => Scalar.ofBits .f32 0#32, fun _ => Scalar.ofBits .f32 0#32)⟩
  refine BI.Entails.trans (bigSep_mono (Ψ := fun p : Fin 32 => iprop(∃ t : Tab F × Tab F, atP m d p (under (stEnd (xM m d) (idM m d) (tileOf p) t.1 t.2).sumT)
          (under (stEnd (xM m d) (idM m d) (tileOf p) t.1 t.2).maxT) (underc (stEnd (xM m d) (idM m d) (tileOf p) t.1 t.2).cntT))) fun p _ => ?_) ?_
  · show iprop(∃ t9 t10, atP m d p (under (stEnd (xM m d) (idM m d) (tileOf p) t9 t10).sumT)
          (under (stEnd (xM m d) (idM m d) (tileOf p) t9 t10).maxT) (underc (stEnd (xM m d) (idM m d) (tileOf p) t9 t10).cntT)) ⊢ _
    iintro ⟨%t9, %t10, H⟩
    iexists (t9, t10)
    iexact H
  refine (bigSep_exists_pi Finset.univ _).trans ?_
  iintro ⟨%t, H⟩
  iexists t
  iapply (Entails.of_eq (five_eq m d (fun p => under (stEnd (xM m d) (idM m d) (tileOf p) (t p).1 (t p).2).sumT)
    (fun p => under (stEnd (xM m d) (idM m d) (tileOf p) (t p).1 (t p).2).maxT) (fun p => underc (stEnd (xM m d) (idM m d) (tileOf p) (t p).1 (t p).2).cntT)))
  iexact H

end Cert.Proof.Pool

end
-- ==== Proof.Tail.lean ====
/-
  The TensorCore's tail: what it computes of the 32 partial tables and the layers' weights, as pure functions, and its
  run — it loads its operands and stores one result.
-/
module

public import proofs.«01_k».proof.Proof.Base

@[expose] public section

noncomputable section

namespace Cert.Proof.Pool

open Cert.KernelIdeal Cert.KernelIdeal.Facts₀ Cert.KernelIdeal.Facts
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The values -/

/-- The tail's operands: the partial sums, maxima and counts, the three layers, the three gates, the last layer and the
    normalisation's scale and shift. -/
structure TailIn (F : FTy → Type) where
  ps : Vec F S32x256x128 .f32
  pm : Vec F S32x256x128 .f32
  pc : Vec F S32x256x16 .f32
  wm : Vec F S128x128 .f32
  bm : Vec F S1x128 .f32
  wx : Vec F S128x128 .f32
  bx : Vec F S1x128 .f32
  ws : Vec F S128x128 .f32
  bs : Vec F S1x128 .f32
  gm : Vec F S128x128 .f32
  cm : Vec F S1x128 .f32
  gx : Vec F S128x128 .f32
  cx : Vec F S1x128 .f32
  gs : Vec F S128x128 .f32
  cs : Vec F S1x128 .f32
  wo : Vec F S128x128 .f32
  bo : Vec F S1x128 .f32
  ga : Vec F S1x128 .f32
  be : Vec F S1x128 .f32

variable (I : TailIn F)

/-- A number at every place of a table. -/
def all128 (b : BitVec 32) : FVec F S256x128 .f32 := broadcast S256x128 (Scalar.ofBits .f32 b)
def ones16 : FVec F S128x16 .f32 := broadcast S128x16 (Scalar.ofBits .f32 0x3F800000#32)
def zero128 : FVec F S256x128 .f32 := constant S256x128 .f32 0x00000000#32

theorem part_inb (p : ℕ) : ∀ a, (![p % 32, 0, 0] : Fin 3 → ℕ) a + S1x256x128.size a ≤ S32x256x128.size a := by
  intro a; have := Nat.mod_lt p (show 0 < 32 by decide)
  fin_cases a <;> simp [S1x256x128, S32x256x128] <;> omega
theorem part_inb16 (p : ℕ) : ∀ a, (![p % 32, 0, 0] : Fin 3 → ℕ) a + S1x256x16.size a ≤ S32x256x16.size a := by
  intro a; have := Nat.mod_lt p (show 0 < 32 by decide)
  fin_cases a <;> simp [S1x256x16, S32x256x16] <;> omega

/-- Part `p` of the sums, of the maxima, of the counts. -/
def rawA (p : ℕ) : Vec F S1x256x128 .f32 := fun y => I.ps ((Rect.unit (s := S32x256x128) ![p % 32, 0, 0] S1x256x128.size (part_inb p)).emb y)
def rawB (p : ℕ) : Vec F S1x256x128 .f32 := fun y => I.pm ((Rect.unit (s := S32x256x128) ![p % 32, 0, 0] S1x256x128.size (part_inb p)).emb y)
def rawC (p : ℕ) : Vec F S1x256x16 .f32 := fun y => I.pc ((Rect.unit (s := S32x256x16) ![p % 32, 0, 0] S1x256x16.size (part_inb16 p)).emb y)
def ptA (p : ℕ) : FVec F S256x128 .f32 := shapeCast S256x128 (rawA I p) shapeCasts_S1x256x128_S256x128
def ptB (p : ℕ) : FVec F S256x128 .f32 := shapeCast S256x128 (rawB I p) shapeCasts_S1x256x128_S256x128
def ptC (p : ℕ) : FVec F S256x16 .f32 := shapeCast S256x16 (rawC I p) shapeCasts_S1x256x16_S256x16

/-- Where part `p` holds a segment. -/
def has (p : ℕ) : IVec S256x128 1 :=
  cmpf .ogt (matmul dot_S256x16_S128x16_S256x128_1_1_0_0_n_n none (ptC I p) ones16 zero128) (all128 0x00000000#32)

/-- The sums, the maxima and the counts over the first `n` parts. -/
def accA : ℕ → FVec F S256x128 .f32
  | 0 => all128 0x00000000#32
  | n + 1 => addf (accA n) (select (has I n) (ptA I n) (all128 0x00000000#32))
def accB : ℕ → FVec F S256x128 .f32
  | 0 => all128 0xFF800000#32
  | n + 1 => select (has I n) (maximumf (accB n) (ptB I n)) (accB n)
def accC : ℕ → FVec F S256x16 .f32
  | 0 => broadcast S256x16 (Scalar.ofBits .f32 0x00000000#32)
  | n + 1 => addf (accC n) (ptC I n)

/-- One linear layer of 128 to 128: the products, then the bias. -/
def layer0 (v : FVec F S256x128 .f32) (w : Vec F S128x128 .f32) : FVec F S256x128 .f32 :=
  matmul dot_S256x128_S128x128_S256x128_1_1_0_0_n_n none v w zero128
def bias (b : Vec F S1x128 .f32) : FVec F S256x128 .f32 :=
  broadcastTo S256x128 (shapeCast S1x128 b shapeCasts_S1x128_S1x128) broadcasts_S1x128_S256x128
def layer (v : FVec F S256x128 .f32) (w : Vec F S128x128 .f32) (b : Vec F S1x128 .f32) : FVec F S256x128 .f32 :=
  addf (layer0 v w) (bias b)
def gateL (v : FVec F S256x128 .f32) (w : Vec F S128x128 .f32) (b : Vec F S1x128 .f32) : FVec F S256x128 .f32 :=
  layer v (shapeCast S128x128 w shapeCasts_S128x128_S128x128) b
def sigm (g : FVec F S256x128 .f32) : FVec F S256x128 .f32 :=
  divf (all128 0x3F800000#32) (addf (all128 0x3F800000#32) (exp (subf (all128 0x00000000#32) g)))

def countsK : FVec F S256x128 .f32 :=
  maximumf (mulf (matmul dot_S256x16_S128x16_S256x128_1_1_0_0_n_n none (accC I 32) ones16 zero128) (all128 0x3D800000#32)) (all128 0x3F800000#32)
def meanR : FVec F S256x128 .f32 := layer (divf (accA I 32) (countsK I)) I.wm I.bm
def maxR0 : FVec F S256x128 .f32 := layer0 (accB I 32) I.wx
def maxR : FVec F S256x128 .f32 := addf (maxR0 I) (bias I.bx)
def sumR : FVec F S256x128 .f32 := layer (accA I 32) I.ws I.bs
def sigM : FVec F S256x128 .f32 := sigm (gateL (meanR I) I.gm I.cm)
def gateX : FVec F S256x128 .f32 := gateL (maxR I) I.gx I.cx
def gateS : FVec F S256x128 .f32 := gateL (sumR I) I.gs I.cs
def top3 (a b c : FVec F S256x128 .f32) : FVec F S256x128 .f32 := maximumf (maximumf a b) c
def expM : FVec F S256x128 .f32 := exp (subf (sigM I) (top3 (sigM I) (sigm (gateX I)) (sigm (gateS I))))
def expX : FVec F S256x128 .f32 := exp (subf (sigm (gateX I)) (top3 (sigM I) (sigm (gateX I)) (sigm (gateS I))))
def expS : FVec F S256x128 .f32 := exp (subf (sigm (gateS I)) (top3 (sigM I) (sigm (gateX I)) (sigm (gateS I))))
def pooledK : FVec F S256x128 .f32 :=
  divf (addf (addf (mulf (expM I) (meanR I)) (mulf (expX I) (maxR I))) (mulf (expS I) (sumR I))) (addf (addf (expM I) (expX I)) (expS I))
def geK : FVec F S256x128 .f32 := layer (pooledK I) I.wo I.bo
def ones128 : FVec F S128x128 .f32 := broadcast S128x128 (Scalar.ofBits .f32 0x3F800000#32)
def devK : FVec F S256x128 .f32 := subf (geK I) (mulf (layer0 (geK I) ones128) (all128 0x3C000000#32))
def sqK : FVec F S256x128 .f32 := layer0 (mulf (devK I) (devK I)) ones128
/-- What the tail stores. -/
def tailOut : FVec F S256x128 .f32 :=
  addf (mulf (divf (devK I) (sqrt (addf (mulf (sqK I) (all128 0x3C000000#32)) (all128 0x3727C5AC#32)))) (bias I.ga)) (bias I.be)

/-! ## Programs that only load -/

section Run

/-- A rectangle of all of a shape keeps every place. -/
theorem unit_whole_emb {s : Shape} {off : Fin s.rank → ℕ} (inb : ∀ a, off a + s.size a ≤ s.size a) (y : s.Idx) :
    (Rect.unit (s := s) off s.size inb).emb y = y := by
  funext a
  apply Fin.ext
  have := inb a
  show off a + 1 * (y a).val = (y a).val
  omega

/-- `H` holds the memref `M` at contents `X`, and takes it back. -/
def Holds (H : sProp (MM F)) (c : Dev nD) {s : Shape} {e : EltTy} (M : Memref sig .tc .vmem s e) (X : s.Idx → Elt F e) : Prop :=
  H ⊢ iprop(owns (SparseCore.T c : Thread nD τ) M fullShare X ∗ (owns (SparseCore.T c : Thread nD τ) M fullShare X -∗ H))

/-- From `H` the program ends at `v`, `H` as it was. -/
def Reads (H : sProp (MM F)) (c : Dev nD) {α : Type} (p : Prog (TpuEff nD τ sig (Elt F) Λ₀ .tc) α) (v : α) : Prop :=
  ∀ Q : α → sProp (MM F), iprop(H ∗ (H -∗ Q v)) ⊢ wp frame (wpE (defs₀ (F := F)) 𝒱₀ (SparseCore.T c) none) Set.univ p Q

variable {H : sProp (MM F)} {c : Dev nD}

theorem Reads.pure {α : Type} {v w : α} (h : v = w) : Reads (F := F) H c (Pure.pure v) w := by
  subst h; intro Q
  iintro ⟨H1, Hk⟩
  iapply (Entails.of_eq (wp_ret frame (wpE (defs₀ (F := F)) 𝒱₀ (SparseCore.T c) none) Set.univ v Q).symm)
  imodintro
  iapply Hk; iexact H1

theorem Reads.bind {α β : Type} {p : Prog (TpuEff nD τ sig (Elt F) Λ₀ .tc) α} {k : α → Prog (TpuEff nD τ sig (Elt F) Λ₀ .tc) β} {v : α} {w : β}
    (hp : Reads (F := F) H c p v) (hk : Reads (F := F) H c (k v) w) : Reads (F := F) H c (p >>= k) w := by
  intro Q
  refine .trans ?_ (Entails.of_eq (wp_bind frame (wpE (defs₀ (F := F)) 𝒱₀ (SparseCore.T c) none) Set.univ p k Q).symm)
  refine .trans ?_ (hp _)
  iintro ⟨H1, Hk⟩
  isplitl [H1]; · iexact H1
  iintro H2
  iapply (hk Q) $$ [$H2 $Hk]

theorem Reads.load1 {s : Shape} {e : EltTy} {M : Memref sig .tc .vmem s e} {X : s.Idx → Elt F e} (hM : Holds H c M X)
    {r : Rect s} {hl : M.view.LoadsAt r.toLoadRect} :
    Reads (F := F) H c (Prog.lift (.load M r.toLoadRect hl)) (fun y => X (r.emb y)) := by
  intro Q
  iintro ⟨H1, Hk⟩
  have hM' : H ⊢ iprop(owns (SparseCore.T c : Thread nD τ) M fullShare X ∗ (owns (SparseCore.T c : Thread nD τ) M fullShare X -∗ H)) := hM
  ihave H2 := hM' $$ H1
  icases H2 with ⟨Ho, Hb⟩
  unfold owns
  icases Ho with ⟨%f, %hf, Ho⟩
  iapply (wp_load_rect (defs := defs₀ (F := F)) 𝒱₀ (SparseCore.T c) none Set.univ (m := M) (r := r) (hl := hl) (k := .ret) (S := M.view.set) (q := fullShare) (f := f)
    (by rw [show (M.access r).set = r.set.map M.view.emb from View.set_slice _ _]; exact View.setOn_subset_set _ _)) $$ Ho
  iintro Ho
  iapply (Entails.of_eq (wp_ret frame (wpE (defs₀ (F := F)) 𝒱₀ (SparseCore.T c) none) Set.univ _ Q).symm)
  imodintro
  have e : (M.access r).read (Elt F) f = (fun y => X (r.emb y)) := by subst hf; rfl
  irw [e]
  iapply Hk
  iapply Hb
  iexists f
  isplitr
  · ipureintro; exact hf
  · iexact Ho

theorem Reads.load1' {s : Shape} {e : EltTy} {M : Memref sig .tc .vmem s e} {X : s.Idx → Elt F e} (hM : Holds H c M X)
    {r : Rect s} {hl : M.view.LoadsAt r.toLoadRect} {v : r.shape.Idx → Elt F e} (hv : ∀ y, v y = X (r.emb y)) :
    Reads (F := F) H c (Prog.lift (.load M r.toLoadRect hl)) v := by
  obtain rfl : v = fun y => X (r.emb y) := funext hv
  exact Reads.load1 hM

theorem Reads.load {s : Shape} {e : EltTy} {M : Memref sig .tc .vmem s e} {X : s.Idx → Elt F e} (hM : Holds H c M X)
    {r : Rect s} {hl : M.view.LoadsAt r.toLoadRect} {β : Type} {k : (r.shape.Idx → Elt F e) → Prog (TpuEff nD τ sig (Elt F) Λ₀ .tc) β} {w : β}
    (hk : Reads (F := F) H c (k fun y => X (r.emb y)) w) : Reads (F := F) H c (Prog.lift (.load M r.toLoadRect hl) >>= k) w :=
  Reads.bind (Reads.load1 hM) hk

/-- A load of all of a memref. -/
theorem Reads.load1W {s : Shape} {e : EltTy} {M : Memref sig .tc .vmem s e} {X : s.Idx → Elt F e} (hM : Holds H c M X)
    {off : Fin s.rank → ℕ} {inb : ∀ a, off a + s.size a ≤ s.size a} {hl : M.view.LoadsAt (Rect.unit (s := s) off s.size inb).toLoadRect} :
    Reads (F := F) H c (Prog.lift (.load M (Rect.unit (s := s) off s.size inb).toLoadRect hl)) X :=
  Reads.load1' hM fun y => congrArg X (unit_whole_emb inb y).symm

theorem Reads.loadW {s : Shape} {e : EltTy} {M : Memref sig .tc .vmem s e} {X : s.Idx → Elt F e} (hM : Holds H c M X)
    {off : Fin s.rank → ℕ} {inb : ∀ a, off a + s.size a ≤ s.size a} {hl : M.view.LoadsAt (Rect.unit (s := s) off s.size inb).toLoadRect}
    {β : Type} {k : (s.Idx → Elt F e) → Prog (TpuEff nD τ sig (Elt F) Λ₀ .tc) β} {w : β}
    (hk : Reads (F := F) H c (k X) w) : Reads (F := F) H c (Prog.lift (.load M (Rect.unit (s := s) off s.size inb).toLoadRect hl) >>= k) w :=
  Reads.bind (Reads.load1W hM) hk

theorem Reads.andThen {α β : Type} {p : Prog (TpuEff nD τ sig (Elt F) Λ₀ .tc) α} {k : α → Prog (TpuEff nD τ sig (Elt F) Λ₀ .tc) β} {v : α}
    {G : sProp (MM F)} {Q : β → sProp (MM F)} (hp : Reads (F := F) H c p v)
    (hk : iprop(H ∗ G) ⊢ wp frame (wpE (defs₀ (F := F)) 𝒱₀ (SparseCore.T c) none) Set.univ (k v) Q) :
    iprop(H ∗ G) ⊢ wp frame (wpE (defs₀ (F := F)) 𝒱₀ (SparseCore.T c) none) Set.univ (p >>= k) Q := by
  refine .trans ?_ (Entails.of_eq (wp_bind frame (wpE (defs₀ (F := F)) 𝒱₀ (SparseCore.T c) none) Set.univ p k Q).symm)
  refine .trans ?_ (hp _)
  iintro ⟨H1, Hk⟩
  isplitl [H1]; · iexact H1
  iintro H2
  iapply hk $$ [$H2 $Hk]

end Run

/-! ## The tail run -/

section Tail

variable {H : sProp (MM F)} {c : Dev nD}
variable (arg0 : Memref sig .tc .vmem S32x256x128 .f32) (harg0 : arg0.IsWhole) (arg1 : Memref sig .tc .vmem S32x256x128 .f32) (harg1 : arg1.IsWhole) (arg2 : Memref sig .tc .vmem S32x256x16 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S128x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S256x128 .f32) (harg19 : arg19.IsWhole)
variable (h0 : Holds (F := F) H c arg0 I.ps) (h1 : Holds (F := F) H c arg1 I.pm) (h2 : Holds (F := F) H c arg2 I.pc) (h3 : Holds (F := F) H c arg3 I.wm) (h4 : Holds (F := F) H c arg4 I.bm) (h5 : Holds (F := F) H c arg5 I.wx) (h6 : Holds (F := F) H c arg6 I.bx) (h7 : Holds (F := F) H c arg7 I.ws) (h8 : Holds (F := F) H c arg8 I.bs) (h9 : Holds (F := F) H c arg9 I.gm) (h10 : Holds (F := F) H c arg10 I.cm) (h11 : Holds (F := F) H c arg11 I.gx) (h12 : Holds (F := F) H c arg12 I.cx) (h13 : Holds (F := F) H c arg13 I.gs) (h14 : Holds (F := F) H c arg14 I.cs) (h15 : Holds (F := F) H c arg15 I.wo) (h16 : Holds (F := F) H c arg16 I.bo) (h17 : Holds (F := F) H c arg17 I.ga) (h18 : Holds (F := F) H c arg18 I.be)

include h0 h1 h2 in
theorem reads_part1 : Reads (F := F) H c (k1_part1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
    ⟨ones16, (accB I 1), (accC I 1), (ptC I 1), (has I 1), (accA I 2), (maximumf (accB I 1) (ptB I 1))⟩ :=
  Reads.load h2 <| Reads.load h0 <| Reads.load h1 <| Reads.load h2 <| Reads.load h0 <| Reads.load h1 (Reads.pure rfl)

include h0 h1 h2 in
theorem reads_part2 : Reads (F := F) H c (k1_part2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ones16 (accB I 1) (accC I 1) (ptC I 1) (has I 1) (accA I 2) (maximumf (accB I 1) (ptB I 1)))
    ⟨(accA I 4), (accB I 4), (accC I 4), (rawC I 4)⟩ :=
  Reads.load h2 <| Reads.load h0 <| Reads.load h1 <| Reads.load h2 <| Reads.load h0 <| Reads.load h1 <| Reads.load h2 (Reads.pure rfl)

include h0 h1 h2 in
theorem reads_part3 : Reads (F := F) H c (k1_part3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ones16 (accA I 4) (accB I 4) (accC I 4) (rawC I 4))
    ⟨(accA I 6), (accB I 6), (accC I 6), (ptC I 6), (has I 6)⟩ :=
  Reads.load h0 <| Reads.load h1 <| Reads.load h2 <| Reads.load h0 <| Reads.load h1 <| Reads.load h2 (Reads.pure rfl)

include h0 h1 h2 in
theorem reads_part4 : Reads (F := F) H c (k1_part4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ones16 (accA I 6) (accB I 6) (accC I 6) (ptC I 6) (has I 6))
    ⟨(accA I 8), (accB I 8), (accC I 8), (ptC I 8), (has I 8), (ptA I 8), (Scalar.ofBits .f32 0x00000000#32 : F .f32)⟩ :=
  Reads.load h0 <| Reads.load h1 <| Reads.load h2 <| Reads.load h0 <| Reads.load h1 <| Reads.load h2 <| Reads.load h0 (Reads.pure rfl)

include h0 h1 h2 in
theorem reads_part5 : Reads (F := F) H c (k1_part5 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ones16 (accA I 8) (accB I 8) (accC I 8) (ptC I 8) (has I 8) (ptA I 8) (Scalar.ofBits .f32 0x00000000#32 : F .f32))
    ⟨(accB I 10), (accC I 10), (ptC I 10), (has I 10), (accA I 11)⟩ :=
  Reads.load h1 <| Reads.load h2 <| Reads.load h0 <| Reads.load h1 <| Reads.load h2 <| Reads.load h0 (Reads.pure rfl)

include h0 h1 h2 in
theorem reads_part6 : Reads (F := F) H c (k1_part6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ones16 (accB I 10) (accC I 10) (ptC I 10) (has I 10) (accA I 11))
    ⟨(accA I 13), (accB I 13), (accC I 13)⟩ :=
  Reads.load h1 <| Reads.load h2 <| Reads.load h0 <| Reads.load h1 <| Reads.load h2 <| Reads.load h0 <| Reads.load h1 (Reads.pure rfl)

include h0 h1 h2 in
theorem reads_part7 : Reads (F := F) H c (k1_part7 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ones16 (accA I 13) (accB I 13) (accC I 13))
    ⟨(accA I 15), (accB I 15), (accC I 15), (ptC I 15), (matmul dot_S256x16_S128x16_S256x128_1_1_0_0_n_n none (ptC I 15) ones16 zero128)⟩ :=
  Reads.load h2 <| Reads.load h0 <| Reads.load h1 <| Reads.load h2 <| Reads.load h0 <| Reads.load h1 <| Reads.load h2 (Reads.pure rfl)

include h0 h1 h2 in
theorem reads_part8 : Reads (F := F) H c (k1_part8 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ones16 (accA I 15) (accB I 15) (accC I 15) (ptC I 15) (matmul dot_S256x16_S128x16_S256x128_1_1_0_0_n_n none (ptC I 15) ones16 zero128))
    ⟨(accA I 17), (accB I 17), (accC I 17), (ptC I 17), (has I 17)⟩ :=
  Reads.load h0 <| Reads.load h1 <| Reads.load h2 <| Reads.load h0 <| Reads.load h1 <| Reads.load h2 (Reads.pure rfl)

include h0 h1 h2 in
theorem reads_part9 : Reads (F := F) H c (k1_part9 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ones16 (accA I 17) (accB I 17) (accC I 17) (ptC I 17) (has I 17))
    ⟨(accB I 19), (accC I 19), (ptC I 19), (has I 19), (accA I 20)⟩ :=
  Reads.load h0 <| Reads.load h1 <| Reads.load h2 <| Reads.load h0 <| Reads.load h1 <| Reads.load h2 <| Reads.load h0 (Reads.pure rfl)

include h0 h1 h2 in
theorem reads_part10 : Reads (F := F) H c (k1_part10 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ones16 (accB I 19) (accC I 19) (ptC I 19) (has I 19) (accA I 20))
    ⟨(accB I 21), (accC I 21), (ptC I 21), (has I 21), (accA I 22), (maximumf (accB I 21) (ptB I 21))⟩ :=
  Reads.load h1 <| Reads.load h2 <| Reads.load h0 <| Reads.load h1 <| Reads.load h2 <| Reads.load h0 <| Reads.load h1 (Reads.pure rfl)

include h0 h1 h2 in
theorem reads_part11 : Reads (F := F) H c (k1_part11 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ones16 (accB I 21) (accC I 21) (ptC I 21) (has I 21) (accA I 22) (maximumf (accB I 21) (ptB I 21)))
    ⟨(accA I 24), (accB I 24), (accC I 24), (rawC I 24)⟩ :=
  Reads.load h2 <| Reads.load h0 <| Reads.load h1 <| Reads.load h2 <| Reads.load h0 <| Reads.load h1 <| Reads.load h2 (Reads.pure rfl)

include h0 h1 h2 in
theorem reads_part12 : Reads (F := F) H c (k1_part12 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ones16 (accA I 24) (accB I 24) (accC I 24) (rawC I 24))
    ⟨(accA I 26), (accB I 26), (accC I 26), (ptC I 26), (has I 26)⟩ :=
  Reads.load h0 <| Reads.load h1 <| Reads.load h2 <| Reads.load h0 <| Reads.load h1 <| Reads.load h2 (Reads.pure rfl)

include h0 h1 h2 in
theorem reads_part13 : Reads (F := F) H c (k1_part13 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ones16 (accA I 26) (accB I 26) (accC I 26) (ptC I 26) (has I 26))
    ⟨(accA I 28), (accB I 28), (accC I 28), (ptC I 28), (has I 28), (ptA I 28), (Scalar.ofBits .f32 0x00000000#32 : F .f32)⟩ :=
  Reads.load h0 <| Reads.load h1 <| Reads.load h2 <| Reads.load h0 <| Reads.load h1 <| Reads.load h2 <| Reads.load h0 (Reads.pure rfl)

include h0 h1 h2 in
theorem reads_part14 : Reads (F := F) H c (k1_part14 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ones16 (accA I 28) (accB I 28) (accC I 28) (ptC I 28) (has I 28) (ptA I 28) (Scalar.ofBits .f32 0x00000000#32 : F .f32))
    ⟨(accB I 30), (accC I 30), (ptC I 30), (has I 30), (accA I 31)⟩ :=
  Reads.load h1 <| Reads.load h2 <| Reads.load h0 <| Reads.load h1 <| Reads.load h2 <| Reads.load h0 (Reads.pure rfl)

include h0 h1 h2 h3 h4 h5 h6 in
theorem reads_part15 : Reads (F := F) H c (k1_part15 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ones16 (accB I 30) (accC I 30) (ptC I 30) (has I 30) (accA I 31))
    ⟨(accA I 32), (meanR I), (maxR0 I), I.bx⟩ :=
  Reads.load h1 <| Reads.load h2 <| Reads.load h0 <| Reads.load h1 <| Reads.loadW h3 <| Reads.loadW h4 <| Reads.loadW h5 <| Reads.loadW h6 (Reads.pure rfl)

include h7 h8 h9 h10 h11 h12 h13 h14 in
theorem reads_part16 : Reads (F := F) H c (k1_part16 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (accA I 32) (meanR I) (maxR0 I) I.bx)
    ⟨(maxR I), (sumR I), (gateX I), (gateS I), (sigM I)⟩ :=
  Reads.loadW h7 <| Reads.loadW h8 <| Reads.loadW h9 <| Reads.loadW h10 <| Reads.loadW h11 <| Reads.loadW h12 <| Reads.loadW h13 <| Reads.loadW h14 (Reads.pure rfl)

include h15 h16 in
theorem reads_part17 : Reads (F := F) H c (k1_part17 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (meanR I) (maxR I) (sumR I) (gateX I) (gateS I) (sigM I))
    ⟨(devK I), (sqK I), (all128 0x3C000000#32)⟩ :=
  Reads.loadW h15 <| Reads.loadW h16 (Reads.pure rfl)

include h0 h1 h2 h3 h4 h5 h6 h7 h8 h9 h10 h11 h12 h13 h14 h15 h16 h17 h18 in
/-- The tail's run: its operands as they were, its result stored. -/
theorem wp_tail (X0 : S256x128.Idx → F .f32) (Q : PUnit → sProp (MM F)) :
    iprop(H ∗ (owns (SparseCore.T c : Thread nD τ) arg19 fullShare X0
        ∗ (iprop(H ∗ owns (SparseCore.T c : Thread nD τ) arg19 fullShare (tailOut I)) -∗ Q ⟨⟩)))
      ⊢ wp frame (wpE (defs₀ (F := F)) 𝒱₀ (SparseCore.T c) none) Set.univ (cc1__tc_tail arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q := by
  unfold cc1__tc_tail
  refine Reads.andThen (reads_part1 I arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2) ?_
  refine Reads.andThen (reads_part2 I arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2) ?_
  refine Reads.andThen (reads_part3 I arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2) ?_
  refine Reads.andThen (reads_part4 I arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2) ?_
  refine Reads.andThen (reads_part5 I arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2) ?_
  refine Reads.andThen (reads_part6 I arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2) ?_
  refine Reads.andThen (reads_part7 I arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2) ?_
  refine Reads.andThen (reads_part8 I arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2) ?_
  refine Reads.andThen (reads_part9 I arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2) ?_
  refine Reads.andThen (reads_part10 I arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2) ?_
  refine Reads.andThen (reads_part11 I arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2) ?_
  refine Reads.andThen (reads_part12 I arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2) ?_
  refine Reads.andThen (reads_part13 I arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2) ?_
  refine Reads.andThen (reads_part14 I arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2) ?_
  refine Reads.andThen (reads_part15 I arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 h2 h3 h4 h5 h6) ?_
  refine Reads.andThen (reads_part16 I arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h7 h8 h9 h10 h11 h12 h13 h14) ?_
  refine Reads.andThen (reads_part17 I arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h15 h16) ?_
  refine Reads.andThen (Reads.load1W h17) ?_
  refine Reads.andThen (Reads.load1W h18) ?_
  unfold owns
  iintro ⟨H1, ⟨%f, %hf, Ho⟩, Hk⟩
  have hS : (arg19.access (Rect.unit (s := S256x128) ![0, 0] S256x128.size inb_S256x128_S256x128_0_0)).set ⊆ arg19.view.set := by
    rw [show (arg19.access (Rect.unit (s := S256x128) ![0, 0] S256x128.size inb_S256x128_S256x128_0_0)).set
      = (Rect.unit (s := S256x128) ![0, 0] S256x128.size inb_S256x128_S256x128_0_0).set.map arg19.view.emb from View.set_slice _ _]
    exact View.setOn_subset_set _ _
  iapply (wp_load_rect (defs := defs₀ (F := F)) 𝒱₀ (SparseCore.T c) none Set.univ (m := arg19)
    (r := Rect.unit (s := S256x128) ![0, 0] S256x128.size inb_S256x128_S256x128_0_0) (S := arg19.view.set) (q := fullShare) (f := f) hS) $$ Ho
  iintro Ho
  iapply (wp_store (defs := defs₀ (F := F)) 𝒱₀ (SparseCore.T c) none Set.univ (m := arg19)
    (r := Rect.unit (s := S256x128) ![0, 0] S256x128.size inb_S256x128_S256x128_0_0) (w := tailOut I) (Mk := Finset.univ)
    (S := arg19.view.set) (f := f) hS) $$ Ho
  iintro Ho
  iapply (Entails.of_eq (wp_ret frame (wpE (defs₀ (F := F)) 𝒱₀ (SparseCore.T c) none) Set.univ _ Q).symm)
  imodintro
  iapply Hk
  isplitl [H1]; · iexact H1
  iexists _
  isplitr
  · ipureintro
    funext y
    have e := unit_whole_emb (s := S256x128) inb_S256x128_S256x128_0_0 y
    have h := View.read_slice_write_emb (Val := Elt F) (v := arg19.view) (Rect.unit (s := S256x128) ![0, 0] S256x128.size inb_S256x128_S256x128_0_0)
      f (tailOut I) (M := Finset.univ) (x := y) (Finset.mem_univ _)
    rw [e] at h
    exact h
  · iexact Ho

end Tail

end Cert.Proof.Pool
-- ==== Proof.Region.lean ====
/-
  The TensorCore region: its layout, its proof data over any contents of the arrays, the body's obligation and the
  region as a step of @main.
-/
module

public import proofs.«01_k».proof.Proof.Tail
public import Idealize.ShloMosaic.Lib.Pipeline.Kit
public import Idealize.ShloMosaic.Lib.Pipeline.FrameTail
public import Idealize.ShloMosaic.Lib.Pipeline.RegionArrays

@[expose] public section

noncomputable section

namespace Cert.Proof.Pool

open Cert.KernelIdeal Cert.KernelIdeal.Facts₀ Cert.KernelIdeal.Facts
open Idealize.ShloMosaic Idealize.ShloMosaic.TcCoe
open Idealize.ShloMosaic.SparseCore (S V)
open Idealize.ShloMosaic.SparseCore.Cfg (HIx Pay)
open Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The layout -/

abbrev stageSems : Fin 1 → List (DmaSem sig) :=
  fun | 0 => Pipeline.specSems spec1 | ⟨_ + 1, h⟩ => absurd h (Nat.not_lt.2 (Nat.le_add_left _ _))
theorem stageSems_nodup : ∀ p : Fin 1, (stageSems p).Nodup := by decide
theorem stageSems_apart : ∀ p p' : Fin 1, p ≠ p' → (stageSems p).Forall (· ∉ stageSems p') := by decide
theorem cells_inj : Function.Injective (Pipeline.cellOf (nD := nD) (τ := τ) cfgs) :=
  Pipeline.cellOf_injective_of_table cfgs stageSems (fun | 0 => rfl | ⟨_ + 1, h⟩ => absurd h (Nat.not_lt.2 (Nat.le_add_left _ _))) stageSems_nodup stageSems_apart

set_option maxRecDepth 3072 in
theorem wins_ok : Pipeline.WinFacts spec1 := by decide
theorem blocks_pos : ∀ w : Fin 20, 0 < (spec1 w).block.numel := by decide
theorem arrs_whole : ∀ w : Fin 20, (spec1 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _ | 9 => Memref.isWhole_whole _ | 10 => Memref.isWhole_whole _ | 11 => Memref.isWhole_whole _ | 12 => Memref.isWhole_whole _ | 13 => Memref.isWhole_whole _ | 14 => Memref.isWhole_whole _ | 15 => Memref.isWhole_whole _ | 16 => Memref.isWhole_whole _ | 17 => Memref.isWhole_whole _ | 18 => Memref.isWhole_whole _ | 19 => Memref.isWhole_whole _ | ⟨_ + 20, h⟩ => absurd h (Nat.not_lt.2 (Nat.le_add_left _ _))
theorem stages_whole : ∀ (w : Fin 20) (s : Fin (spec1 w).nbuf), ((spec1 w).stage s).IsWhole := fun | 0 => fun _ => Memref.isWhole_whole _ | 1 => fun _ => Memref.isWhole_whole _ | 2 => fun _ => Memref.isWhole_whole _ | 3 => fun _ => Memref.isWhole_whole _ | 4 => fun _ => Memref.isWhole_whole _ | 5 => fun _ => Memref.isWhole_whole _ | 6 => fun _ => Memref.isWhole_whole _ | 7 => fun _ => Memref.isWhole_whole _ | 8 => fun _ => Memref.isWhole_whole _ | 9 => fun _ => Memref.isWhole_whole _ | 10 => fun _ => Memref.isWhole_whole _ | 11 => fun _ => Memref.isWhole_whole _ | 12 => fun _ => Memref.isWhole_whole _ | 13 => fun _ => Memref.isWhole_whole _ | 14 => fun _ => Memref.isWhole_whole _ | 15 => fun _ => Memref.isWhole_whole _ | 16 => fun _ => Memref.isWhole_whole _ | 17 => fun _ => Memref.isWhole_whole _ | 18 => fun _ => Memref.isWhole_whole _ | 19 => fun _ => Memref.isWhole_whole _ | ⟨_ + 20, h⟩ => absurd h (Nat.not_lt.2 (Nat.le_add_left _ _))
theorem layout : Pipeline.LaunchFacts (nD := nD) (τ := τ) cfgs 0 := ⟨cells_inj, wins_ok, blocks_pos, arrs_whole, stages_whole⟩

theorem layoutP : Pipeline.PLaunchFacts (nD := nD) (τ := τ) (pcfgs (F := F)) 0 := layout.toP

theorem points : grid1.N = 1 := by decide
/-- The grid's one point. -/
def pt0 : Fin grid1.N := ⟨0, by rw [points]; decide⟩
theorem eq_pt0 (t : Fin grid1.N) : t = pt0 := by
  obtain ⟨t, ht⟩ := t; have := points; simp only [pt0, Fin.mk.injEq]; omega

theorem scoped_none {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = (BI.emp : sProp (MT nD τ sig Ix Val Name U Lvl)) :=
  Pipeline.scopedRest_eq_of_list spec1 c [] (by decide) (by decide)

/-! ## The proof data -/

/-- The tail's operands, off the arrays. -/
def tailIn (W : Valuation τ sig (Elt F)) : TailIn F where
  ps := ((cfg1.win 0).blk pt0).view.read (Elt F) (W (Proc.devRef .tc (Pipeline.arrRef spec1 0)))
  pm := ((cfg1.win 1).blk pt0).view.read (Elt F) (W (Proc.devRef .tc (Pipeline.arrRef spec1 1)))
  pc := ((cfg1.win 2).blk pt0).view.read (Elt F) (W (Proc.devRef .tc (Pipeline.arrRef spec1 2)))
  wm := ((cfg1.win 3).blk pt0).view.read (Elt F) (W (Proc.devRef .tc (Pipeline.arrRef spec1 3)))
  bm := ((cfg1.win 4).blk pt0).view.read (Elt F) (W (Proc.devRef .tc (Pipeline.arrRef spec1 4)))
  wx := ((cfg1.win 5).blk pt0).view.read (Elt F) (W (Proc.devRef .tc (Pipeline.arrRef spec1 5)))
  bx := ((cfg1.win 6).blk pt0).view.read (Elt F) (W (Proc.devRef .tc (Pipeline.arrRef spec1 6)))
  ws := ((cfg1.win 7).blk pt0).view.read (Elt F) (W (Proc.devRef .tc (Pipeline.arrRef spec1 7)))
  bs := ((cfg1.win 8).blk pt0).view.read (Elt F) (W (Proc.devRef .tc (Pipeline.arrRef spec1 8)))
  gm := ((cfg1.win 9).blk pt0).view.read (Elt F) (W (Proc.devRef .tc (Pipeline.arrRef spec1 9)))
  cm := ((cfg1.win 10).blk pt0).view.read (Elt F) (W (Proc.devRef .tc (Pipeline.arrRef spec1 10)))
  gx := ((cfg1.win 11).blk pt0).view.read (Elt F) (W (Proc.devRef .tc (Pipeline.arrRef spec1 11)))
  cx := ((cfg1.win 12).blk pt0).view.read (Elt F) (W (Proc.devRef .tc (Pipeline.arrRef spec1 12)))
  gs := ((cfg1.win 13).blk pt0).view.read (Elt F) (W (Proc.devRef .tc (Pipeline.arrRef spec1 13)))
  cs := ((cfg1.win 14).blk pt0).view.read (Elt F) (W (Proc.devRef .tc (Pipeline.arrRef spec1 14)))
  wo := ((cfg1.win 15).blk pt0).view.read (Elt F) (W (Proc.devRef .tc (Pipeline.arrRef spec1 15)))
  bo := ((cfg1.win 16).blk pt0).view.read (Elt F) (W (Proc.devRef .tc (Pipeline.arrRef spec1 16)))
  ga := ((cfg1.win 17).blk pt0).view.read (Elt F) (W (Proc.devRef .tc (Pipeline.arrRef spec1 17)))
  be := ((cfg1.win 18).blk pt0).view.read (Elt F) (W (Proc.devRef .tc (Pipeline.arrRef spec1 18)))

/-- What the core's waits had recorded when the SparseCore call was over. -/
def recd (c : Dev nD) : Set (SemLoc sig × HIx 1) := fun p => (K (F := F)).lev (SparseCore.T c, p.1) p.2 ≤ 8 * SparseCore.Cfg.Blocks.fst (Q := 1) (N := 1) 1

def tdat (W : Dev nD → Valuation τ sig (Elt F)) (c : Dev nD) : Pipeline.Dat τ (Elt F) (HIx 1) ℕ UU ℕ cfg1 c where
  A w := W c (Proc.devRef .tc (Pipeline.arrRef spec1 w))
  after w _ := match w with
    | ⟨0, _⟩ => ((cfg1.win 0).blk pt0).view.read (Elt F) ((W c) (Proc.devRef .tc (Pipeline.arrRef spec1 0)))
    | ⟨1, _⟩ => ((cfg1.win 1).blk pt0).view.read (Elt F) ((W c) (Proc.devRef .tc (Pipeline.arrRef spec1 1)))
    | ⟨2, _⟩ => ((cfg1.win 2).blk pt0).view.read (Elt F) ((W c) (Proc.devRef .tc (Pipeline.arrRef spec1 2)))
    | ⟨3, _⟩ => ((cfg1.win 3).blk pt0).view.read (Elt F) ((W c) (Proc.devRef .tc (Pipeline.arrRef spec1 3)))
    | ⟨4, _⟩ => ((cfg1.win 4).blk pt0).view.read (Elt F) ((W c) (Proc.devRef .tc (Pipeline.arrRef spec1 4)))
    | ⟨5, _⟩ => ((cfg1.win 5).blk pt0).view.read (Elt F) ((W c) (Proc.devRef .tc (Pipeline.arrRef spec1 5)))
    | ⟨6, _⟩ => ((cfg1.win 6).blk pt0).view.read (Elt F) ((W c) (Proc.devRef .tc (Pipeline.arrRef spec1 6)))
    | ⟨7, _⟩ => ((cfg1.win 7).blk pt0).view.read (Elt F) ((W c) (Proc.devRef .tc (Pipeline.arrRef spec1 7)))
    | ⟨8, _⟩ => ((cfg1.win 8).blk pt0).view.read (Elt F) ((W c) (Proc.devRef .tc (Pipeline.arrRef spec1 8)))
    | ⟨9, _⟩ => ((cfg1.win 9).blk pt0).view.read (Elt F) ((W c) (Proc.devRef .tc (Pipeline.arrRef spec1 9)))
    | ⟨10, _⟩ => ((cfg1.win 10).blk pt0).view.read (Elt F) ((W c) (Proc.devRef .tc (Pipeline.arrRef spec1 10)))
    | ⟨11, _⟩ => ((cfg1.win 11).blk pt0).view.read (Elt F) ((W c) (Proc.devRef .tc (Pipeline.arrRef spec1 11)))
    | ⟨12, _⟩ => ((cfg1.win 12).blk pt0).view.read (Elt F) ((W c) (Proc.devRef .tc (Pipeline.arrRef spec1 12)))
    | ⟨13, _⟩ => ((cfg1.win 13).blk pt0).view.read (Elt F) ((W c) (Proc.devRef .tc (Pipeline.arrRef spec1 13)))
    | ⟨14, _⟩ => ((cfg1.win 14).blk pt0).view.read (Elt F) ((W c) (Proc.devRef .tc (Pipeline.arrRef spec1 14)))
    | ⟨15, _⟩ => ((cfg1.win 15).blk pt0).view.read (Elt F) ((W c) (Proc.devRef .tc (Pipeline.arrRef spec1 15)))
    | ⟨16, _⟩ => ((cfg1.win 16).blk pt0).view.read (Elt F) ((W c) (Proc.devRef .tc (Pipeline.arrRef spec1 16)))
    | ⟨17, _⟩ => ((cfg1.win 17).blk pt0).view.read (Elt F) ((W c) (Proc.devRef .tc (Pipeline.arrRef spec1 17)))
    | ⟨18, _⟩ => ((cfg1.win 18).blk pt0).view.read (Elt F) ((W c) (Proc.devRef .tc (Pipeline.arrRef spec1 18)))
    | ⟨19, _⟩ => tailOut (tailIn (W c))
    | ⟨_ + 20, h⟩ => absurd h (Nat.not_lt.2 (Nat.le_add_left _ _))
  Φ _ := iprop(emp)
  q _ := fullShare
  owed _ := (K (F := F)).Otc c 1
  recorded _ := recd (F := F) c

abbrev adm : (p : Fin 1) → (pcfgs (F := F) p).Adm := fun p => (cfgs p).toPCfg_adm
def pdats (W : Dev nD → Valuation τ sig (Elt F)) : (p : Fin 1) → (c : Dev nD) → Pipeline.Dat τ (Elt F) (HIx 1) ℕ UU ℕ (Pipeline.pin (pcfgs (F := F)) adm p) c
  | 0 => tdat W

/-! ## The body -/

theorem before_0 (W : Dev nD → Valuation τ sig (Elt F)) (c : Dev nD) (d) : (tdat W c).before 0 pt0 d = ((cfg1.win 0).blk pt0).view.read (Elt F) ((W c) (Proc.devRef .tc (Pipeline.arrRef spec1 0))) := by
  unfold Pipeline.Dat.before; rw [if_pos (by decide)]; rfl
theorem before_1 (W : Dev nD → Valuation τ sig (Elt F)) (c : Dev nD) (d) : (tdat W c).before 1 pt0 d = ((cfg1.win 1).blk pt0).view.read (Elt F) ((W c) (Proc.devRef .tc (Pipeline.arrRef spec1 1))) := by
  unfold Pipeline.Dat.before; rw [if_pos (by decide)]; rfl
theorem before_2 (W : Dev nD → Valuation τ sig (Elt F)) (c : Dev nD) (d) : (tdat W c).before 2 pt0 d = ((cfg1.win 2).blk pt0).view.read (Elt F) ((W c) (Proc.devRef .tc (Pipeline.arrRef spec1 2))) := by
  unfold Pipeline.Dat.before; rw [if_pos (by decide)]; rfl
theorem before_3 (W : Dev nD → Valuation τ sig (Elt F)) (c : Dev nD) (d) : (tdat W c).before 3 pt0 d = ((cfg1.win 3).blk pt0).view.read (Elt F) ((W c) (Proc.devRef .tc (Pipeline.arrRef spec1 3))) := by
  unfold Pipeline.Dat.before; rw [if_pos (by decide)]; rfl
theorem before_4 (W : Dev nD → Valuation τ sig (Elt F)) (c : Dev nD) (d) : (tdat W c).before 4 pt0 d = ((cfg1.win 4).blk pt0).view.read (Elt F) ((W c) (Proc.devRef .tc (Pipeline.arrRef spec1 4))) := by
  unfold Pipeline.Dat.before; rw [if_pos (by decide)]; rfl
theorem before_5 (W : Dev nD → Valuation τ sig (Elt F)) (c : Dev nD) (d) : (tdat W c).before 5 pt0 d = ((cfg1.win 5).blk pt0).view.read (Elt F) ((W c) (Proc.devRef .tc (Pipeline.arrRef spec1 5))) := by
  unfold Pipeline.Dat.before; rw [if_pos (by decide)]; rfl
theorem before_6 (W : Dev nD → Valuation τ sig (Elt F)) (c : Dev nD) (d) : (tdat W c).before 6 pt0 d = ((cfg1.win 6).blk pt0).view.read (Elt F) ((W c) (Proc.devRef .tc (Pipeline.arrRef spec1 6))) := by
  unfold Pipeline.Dat.before; rw [if_pos (by decide)]; rfl
theorem before_7 (W : Dev nD → Valuation τ sig (Elt F)) (c : Dev nD) (d) : (tdat W c).before 7 pt0 d = ((cfg1.win 7).blk pt0).view.read (Elt F) ((W c) (Proc.devRef .tc (Pipeline.arrRef spec1 7))) := by
  unfold Pipeline.Dat.before; rw [if_pos (by decide)]; rfl
theorem before_8 (W : Dev nD → Valuation τ sig (Elt F)) (c : Dev nD) (d) : (tdat W c).before 8 pt0 d = ((cfg1.win 8).blk pt0).view.read (Elt F) ((W c) (Proc.devRef .tc (Pipeline.arrRef spec1 8))) := by
  unfold Pipeline.Dat.before; rw [if_pos (by decide)]; rfl
theorem before_9 (W : Dev nD → Valuation τ sig (Elt F)) (c : Dev nD) (d) : (tdat W c).before 9 pt0 d = ((cfg1.win 9).blk pt0).view.read (Elt F) ((W c) (Proc.devRef .tc (Pipeline.arrRef spec1 9))) := by
  unfold Pipeline.Dat.before; rw [if_pos (by decide)]; rfl
theorem before_10 (W : Dev nD → Valuation τ sig (Elt F)) (c : Dev nD) (d) : (tdat W c).before 10 pt0 d = ((cfg1.win 10).blk pt0).view.read (Elt F) ((W c) (Proc.devRef .tc (Pipeline.arrRef spec1 10))) := by
  unfold Pipeline.Dat.before; rw [if_pos (by decide)]; rfl
theorem before_11 (W : Dev nD → Valuation τ sig (Elt F)) (c : Dev nD) (d) : (tdat W c).before 11 pt0 d = ((cfg1.win 11).blk pt0).view.read (Elt F) ((W c) (Proc.devRef .tc (Pipeline.arrRef spec1 11))) := by
  unfold Pipeline.Dat.before; rw [if_pos (by decide)]; rfl
theorem before_12 (W : Dev nD → Valuation τ sig (Elt F)) (c : Dev nD) (d) : (tdat W c).before 12 pt0 d = ((cfg1.win 12).blk pt0).view.read (Elt F) ((W c) (Proc.devRef .tc (Pipeline.arrRef spec1 12))) := by
  unfold Pipeline.Dat.before; rw [if_pos (by decide)]; rfl
theorem before_13 (W : Dev nD → Valuation τ sig (Elt F)) (c : Dev nD) (d) : (tdat W c).before 13 pt0 d = ((cfg1.win 13).blk pt0).view.read (Elt F) ((W c) (Proc.devRef .tc (Pipeline.arrRef spec1 13))) := by
  unfold Pipeline.Dat.before; rw [if_pos (by decide)]; rfl
theorem before_14 (W : Dev nD → Valuation τ sig (Elt F)) (c : Dev nD) (d) : (tdat W c).before 14 pt0 d = ((cfg1.win 14).blk pt0).view.read (Elt F) ((W c) (Proc.devRef .tc (Pipeline.arrRef spec1 14))) := by
  unfold Pipeline.Dat.before; rw [if_pos (by decide)]; rfl
theorem before_15 (W : Dev nD → Valuation τ sig (Elt F)) (c : Dev nD) (d) : (tdat W c).before 15 pt0 d = ((cfg1.win 15).blk pt0).view.read (Elt F) ((W c) (Proc.devRef .tc (Pipeline.arrRef spec1 15))) := by
  unfold Pipeline.Dat.before; rw [if_pos (by decide)]; rfl
theorem before_16 (W : Dev nD → Valuation τ sig (Elt F)) (c : Dev nD) (d) : (tdat W c).before 16 pt0 d = ((cfg1.win 16).blk pt0).view.read (Elt F) ((W c) (Proc.devRef .tc (Pipeline.arrRef spec1 16))) := by
  unfold Pipeline.Dat.before; rw [if_pos (by decide)]; rfl
theorem before_17 (W : Dev nD → Valuation τ sig (Elt F)) (c : Dev nD) (d) : (tdat W c).before 17 pt0 d = ((cfg1.win 17).blk pt0).view.read (Elt F) ((W c) (Proc.devRef .tc (Pipeline.arrRef spec1 17))) := by
  unfold Pipeline.Dat.before; rw [if_pos (by decide)]; rfl
theorem before_18 (W : Dev nD → Valuation τ sig (Elt F)) (c : Dev nD) (d) : (tdat W c).before 18 pt0 d = ((cfg1.win 18).blk pt0).view.read (Elt F) ((W c) (Proc.devRef .tc (Pipeline.arrRef spec1 18))) := by
  unfold Pipeline.Dat.before; rw [if_pos (by decide)]; rfl

/-- One window's staging buffer among those of the operands. -/
theorem holds_of {c : Dev nD} (Φ : Fin 20 → sProp (MM F)) (w : Fin 20) (hw : w ∈ (Finset.univ.erase 19 : Finset (Fin 20)))
    {s : Shape} {e : EltTy} (M : Memref sig .tc .vmem s e) (X : s.Idx → Elt F e)
    (h : Φ w = owns (SparseCore.T c : Thread nD τ) M fullShare X) :
    Holds (F := F) (bigSep (Finset.univ.erase 19) Φ) c M X := by
  unfold Holds
  rw [← Finset.insert_erase hw, SparseCore.bigSep_insert' (Finset.notMem_erase w _), h]
  iintro ⟨H, Hr⟩
  isplitl [H]; · iexact H
  iintro H
  isplitl [H]; · iexact H
  iexact Hr

/-- The operands' staging buffers as staged, the result's at anything. -/
def opnd (W : Dev nD → Valuation τ sig (Elt F)) (c : Dev nD) (s : (w : Fin cfg1.W) → Fin (cfg1.win w).nbuf) (w : Fin 20) : sProp (MM F) :=
  owns (SparseCore.T c : Thread nD τ) ((cfg1.win w).stage (s w)) fullShare ((tdat W c).after w pt0)

set_option maxRecDepth 4000 in
theorem body_runs (W : Dev nD → Valuation τ sig (Elt F)) (c : Dev nD) :
    BodyObligation (tdat (F := F) W c) (defs₀ (F := F)) 𝒱₀ none Set.univ := fun t => by
  obtain rfl := eq_pt0 t
  have hb : (bigSep Finset.univ fun w : Fin 20 => (iprop(∃ d, owns (SparseCore.T c : Thread nD τ) ((cfg1.win w).stage (cfg1.slots pt0 w)) fullShare ((tdat W c).before w pt0 d)) : sProp (MM F)))
      ⊢ iprop((∃ X, owns (SparseCore.T c : Thread nD τ) ((cfg1.win 19).stage (cfg1.slots pt0 19)) fullShare X)
        ∗ bigSep (Finset.univ.erase 19) (opnd W c (cfg1.slots pt0))) := by
    conv => enter [1]; rw [← Finset.insert_erase (Finset.mem_univ (19 : Fin 20)), SparseCore.bigSep_insert' (Finset.notMem_erase _ _)]
    refine BIClass.sep_mono ?_ (bigSep_mono fun w hw => ?_)
    · iintro ⟨%d, H⟩; iexists _; iexact H
    · show (iprop(∃ d, owns (SparseCore.T c : Thread nD τ) ((cfg1.win w).stage (cfg1.slots pt0 w)) fullShare ((tdat W c).before w pt0 d)) : sProp (MM F))
        ⊢ owns (SparseCore.T c : Thread nD τ) ((cfg1.win w).stage (cfg1.slots pt0 w)) fullShare ((tdat W c).after w pt0)
      iintro ⟨%d, H⟩
      have e : (tdat W c).before w pt0 d = (tdat W c).after w pt0 := by
        match w, hw with
        | ⟨0, _⟩, _ => exact before_0 W c d
        | ⟨1, _⟩, _ => exact before_1 W c d
        | ⟨2, _⟩, _ => exact before_2 W c d
        | ⟨3, _⟩, _ => exact before_3 W c d
        | ⟨4, _⟩, _ => exact before_4 W c d
        | ⟨5, _⟩, _ => exact before_5 W c d
        | ⟨6, _⟩, _ => exact before_6 W c d
        | ⟨7, _⟩, _ => exact before_7 W c d
        | ⟨8, _⟩, _ => exact before_8 W c d
        | ⟨9, _⟩, _ => exact before_9 W c d
        | ⟨10, _⟩, _ => exact before_10 W c d
        | ⟨11, _⟩, _ => exact before_11 W c d
        | ⟨12, _⟩, _ => exact before_12 W c d
        | ⟨13, _⟩, _ => exact before_13 W c d
        | ⟨14, _⟩, _ => exact before_14 W c d
        | ⟨15, _⟩, _ => exact before_15 W c d
        | ⟨16, _⟩, _ => exact before_16 W c d
        | ⟨17, _⟩, _ => exact before_17 W c d
        | ⟨18, _⟩, _ => exact before_18 W c d
        | ⟨19, _⟩, hw => exact absurd rfl (Finset.ne_of_mem_erase hw)
        | ⟨_ + 20, h⟩, _ => exact absurd h (Nat.not_lt.2 (Nat.le_add_left _ _))
      irw [← e]
      iexact H
  have ha : iprop(bigSep (Finset.univ.erase 19) (opnd W c (cfg1.slots pt0))
        ∗ owns (SparseCore.T c : Thread nD τ) ((cfg1.win 19).stage (cfg1.slots pt0 19)) fullShare (tailOut (tailIn (W c))))
      ⊢ (bigSep Finset.univ fun w : Fin 20 => owns (SparseCore.T c : Thread nD τ) ((cfg1.win w).stage (cfg1.slots pt0 w)) fullShare ((tdat W c).after w pt0) : sProp (MM F)) := by
    conv => enter [2]; rw [← Finset.insert_erase (Finset.mem_univ (19 : Fin 20)), SparseCore.bigSep_insert' (Finset.notMem_erase _ _)]
    iintro ⟨H, Ho⟩
    isplitl [Ho]; · iexact Ho
    iexact H
  show iprop((tdat W c).Φ pt0.castSucc ∗ (tdat W c).owesAt none pt0.castSucc
      ∗ bigSep Finset.univ fun w : Fin 20 => (iprop(∃ d, owns (SparseCore.T c : Thread nD τ) ((cfg1.win w).stage (cfg1.slots pt0 w)) fullShare ((tdat W c).before w pt0 d)) : sProp (MM F))) ⊢ _
  refine (sep_mono_right (sep_mono_right hb)).trans ?_
  iintro ⟨-, HO, ⟨%X, Hx⟩, Hr⟩
  iapply (wp_tail (F := F) (H := bigSep (Finset.univ.erase 19) (opnd W c (cfg1.slots pt0))) (c := c) (tailIn (W c))
    ((cfg1.win 0).stage (cfg1.slots pt0 0)) (hstage1_0 0) ((cfg1.win 1).stage (cfg1.slots pt0 1)) (hstage1_1 0) ((cfg1.win 2).stage (cfg1.slots pt0 2)) (hstage1_2 0) ((cfg1.win 3).stage (cfg1.slots pt0 3)) (hstage1_3 0) ((cfg1.win 4).stage (cfg1.slots pt0 4)) (hstage1_4 0) ((cfg1.win 5).stage (cfg1.slots pt0 5)) (hstage1_5 0) ((cfg1.win 6).stage (cfg1.slots pt0 6)) (hstage1_6 0) ((cfg1.win 7).stage (cfg1.slots pt0 7)) (hstage1_7 0) ((cfg1.win 8).stage (cfg1.slots pt0 8)) (hstage1_8 0) ((cfg1.win 9).stage (cfg1.slots pt0 9)) (hstage1_9 0) ((cfg1.win 10).stage (cfg1.slots pt0 10)) (hstage1_10 0) ((cfg1.win 11).stage (cfg1.slots pt0 11)) (hstage1_11 0) ((cfg1.win 12).stage (cfg1.slots pt0 12)) (hstage1_12 0) ((cfg1.win 13).stage (cfg1.slots pt0 13)) (hstage1_13 0) ((cfg1.win 14).stage (cfg1.slots pt0 14)) (hstage1_14 0) ((cfg1.win 15).stage (cfg1.slots pt0 15)) (hstage1_15 0) ((cfg1.win 16).stage (cfg1.slots pt0 16)) (hstage1_16 0) ((cfg1.win 17).stage (cfg1.slots pt0 17)) (hstage1_17 0) ((cfg1.win 18).stage (cfg1.slots pt0 18)) (hstage1_18 0) ((cfg1.win 19).stage (cfg1.slots pt0 19)) (hstage1_19 0)
    (holds_of _ 0 (by decide) _ _ rfl)
    (holds_of _ 1 (by decide) _ _ rfl)
    (holds_of _ 2 (by decide) _ _ rfl)
    (holds_of _ 3 (by decide) _ _ rfl)
    (holds_of _ 4 (by decide) _ _ rfl)
    (holds_of _ 5 (by decide) _ _ rfl)
    (holds_of _ 6 (by decide) _ _ rfl)
    (holds_of _ 7 (by decide) _ _ rfl)
    (holds_of _ 8 (by decide) _ _ rfl)
    (holds_of _ 9 (by decide) _ _ rfl)
    (holds_of _ 10 (by decide) _ _ rfl)
    (holds_of _ 11 (by decide) _ _ rfl)
    (holds_of _ 12 (by decide) _ _ rfl)
    (holds_of _ 13 (by decide) _ _ rfl)
    (holds_of _ 14 (by decide) _ _ rfl)
    (holds_of _ 15 (by decide) _ _ rfl)
    (holds_of _ 16 (by decide) _ _ rfl)
    (holds_of _ 17 (by decide) _ _ rfl)
    (holds_of _ 18 (by decide) _ _ rfl)
    X _) $$ [HO Hx Hr]
  isplitl [Hr]; · iexact Hr
  isplitl [Hx]; · iexact Hx
  iintro ⟨Hr, Ho⟩
  isplitr; · iempintro
  isplitl [HO]; · iexact HO
  iapply ha
  isplitl [Hr]; · iexact Hr
  iexact Ho

/-! ## The region -/

theorem shares (W : Dev nD → Valuation τ sig (Elt F)) (c : Dev nD) (w : Fin 20) : (tdat W c).share w = fullShare := by
  unfold Dat.share; split <;> rfl

theorem Otc_none (c : Dev nD) (g : GSem nD τ sig) : (K (F := F)).Otc c 1 g none = 0 := by
  by_contra h
  have := (K (F := F)).lev_of_Otc_pos (Nat.pos_of_ne_zero h)
  simp only [SparseCore.Cfg.lev] at this
  omega

set_option backward.isDefEq.respectTransparency.types false in
def region (W : Dev nD → Valuation τ sig (Elt F)) :
    RegionSeg (pcfgs (F := F)) adm (pdats W) none (defs₀ (F := F)) 𝒱₀ (K (F := F)).L (K (F := F)).lev 0 :=
  { win := (layoutP (F := F)).win.to₀
    block_pos := (layoutP (F := F)).block_pos
    stage_whole := (layoutP (F := F)).stage_whole
    K := PEmpty
    osem := fun k => k.elim
    ho := OwnSemFacts.none _
    hbody := fun c => (body_runs W c).loose
    hwaits := fun c => Pipeline.cellsWaits_intro _ (pdats W) none 0 c fun w s t => (K (F := F)).mayWait_none _ (Otc_none c)
    pre := fun c => iprop(StableHlo.held (c.tc : Thread nD τ) (ucRefs τ sig) (W c) ∗ ∃ Wd, ⌜(K (F := F)).WBelow (SparseCore.T c) Wd (8 * SparseCore.Cfg.Blocks.fst (Q := 1) (N := 1) 1)⌝ ∗ owes (SparseCore.T c : Thread nD τ) ((K (F := F)).Otc c 1) Wd)
    post := fun c => iprop(StableHlo.held (c.tc : Thread nD τ) (ucRefs τ sig) (afterRegion (tdat W c) (W c)) ∗ ∃ Wd, ⌜(K (F := F)).WBelow (SparseCore.T c) Wd (8 * SparseCore.Cfg.Blocks.fst (Q := 1) (N := 1) 1)⌝ ∗ owes (SparseCore.T c : Thread nD τ) ((K (F := F)).Otc c 1) Wd)
    X := fun _ => iprop(emp)
    Y := fun _ => iprop(emp)
    Z := fun c => unscopedRest (Ix := HIx 1) (Name := ℕ) (U := UU) (Lvl := ℕ) spec1 c (fun b => W c (Proc.devRef .tc b))
    hentry := fun c => by
      rw [ownSems0_none, show StableHlo.held (c.tc : Thread nD τ) (ucRefs τ sig) (W c) = unscopedBufs c (fun b => W c (Proc.devRef .tc b))
        from (unscopedBufs_held (Ix := HIx 1) (Name := ℕ) (U := UU) (Lvl := ℕ) c (W c)).symm]
      have hsplit := arrays_of_unscopedBufs (p := 0) (pcfgs (F := F)) adm (pdats W) (layoutP (F := F)).win (layoutP (F := F)).arr_whole c (fun w => shares W c w)
        (fun b => W c (Proc.devRef .tc b)) (fun w => rfl)
      iintro ⟨⟨Hub, %Wd, %hWd, HO⟩, -, -⟩
      ihave H := hsplit $$ Hub
      icases H with ⟨Ha, Hrest⟩
      imodintro
      isplitl [Ha]; · iexact Ha
      isplitr
      · unfold prefHeld
        iapply (show (BI.emp : sProp (MM F)) ⊢ bigSep (Finset.univ : Finset (Fin 0)) _ from by
          rw [show (Finset.univ : Finset (Fin 0)) = ∅ from rfl, BI.bigSep_empty])
        iempintro
      isplitl [HO]
      · unfold Dat.owesAt owesWithin
        iexists Wd; isplitr
        · ipureintro; exact fun p hp => Or.inl (hWd p hp)
        · iexact HO
      isplitr; · iempintro
      iexact Hrest
    hin := fun c => by
      show iprop(emp ∗ _) ⊢ iprop(emp)
      iintro ⟨H, -, -⟩; iexact H
    hout := fun c => by
      rw [ownSems0_none]
      show iprop(emp) ⊢ iprop(emp ∗ emp ∗ Pipeline.scopedRest (Ix := HIx 1) (Name := ℕ) (U := UU) (Lvl := ℕ) (Val := Elt F) spec1 c)
      rw [scoped_none]
      iintro -
      isplitr; · iempintro
      isplitr <;> iempintro
    hexit := fun c => by
      have hjoin := unscopedBufs_of_arrays (p := 0) (pcfgs (F := F)) adm (Ix := HIx 1) (Name := ℕ) (U := UU) (Lvl := ℕ)
        (layoutP (F := F)).win (layoutP (F := F)).arr_whole c (pdats W) (fun w => shares W c w)
        (fun b => W c (Proc.devRef .tc b)) (fun b => afterRegion (tdat W c) (W c) (Proc.devRef .tc b)) ((pdats W 0 c).arrAt · cfg1.N)
        (fun w => (afterRegion_arr (tdat W c) (W c) layout.win.arr_inj w).symm)
        (fun b hb => afterRegion_of_not_arr (tdat W c) (W c)
          fun w h => hb (h ▸ Finset.mem_image.mpr ⟨w, Finset.mem_univ _, rfl⟩))
      rw [show StableHlo.held (c.tc : Thread nD τ) (ucRefs τ sig) (afterRegion (tdat W c) (W c)) = unscopedBufs c (fun b => afterRegion (tdat W c) (W c) (Proc.devRef .tc b))
        from (unscopedBufs_held (Ix := HIx 1) (Name := ℕ) (U := UU) (Lvl := ℕ) c _).symm]
      iintro ⟨Ha, HO, -, Hrest⟩
      imodintro
      isplitl [Ha Hrest]
      · iapply hjoin; isplitl [Ha] <;> iassumption
      unfold Dat.owesAt owesWithin
      icases HO with ⟨%Wd, %hWd, HO⟩
      iexists Wd; isplitr
      · ipureintro
        intro p hp
        rcases hWd hp with h | ⟨w, s, rfl⟩
        · exact h
        · exact Nat.zero_le _
      iexact HO }

end Cert.Proof.Pool

end
-- ==== Proof.Main.lean ====
/-
  @main's run: the SparseCore call, the host's operations, the TensorCore region; what every buffer holds at the end.
-/
module

public import proofs.«01_k».proof.Proof.Launch
public import proofs.«01_k».proof.Proof.Region

@[expose] public section

noncomputable section

namespace Cert.Proof.Pool

open Cert.KernelIdeal Cert.KernelIdeal.Facts₀ Cert.KernelIdeal.Facts
open Idealize.ShloMosaic Idealize.ShloMosaic.TcCoe
open Idealize.ShloMosaic.SparseCore (S V)
open Idealize.ShloMosaic.SparseCore.Cfg (HIx Pay)
open Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)

/-! ## The host's operations -/

/-- The operations between the SparseCore call and the region, in order. -/
def hostOps : List (HloOp τ sig (Elt F)) :=
  [StableHlo.unary main_arg8 main_v1 (broadcastInDim S128x128 ![0, 1] bcast_S1x128_S128x128_0_1 : (⟨S1x128, .f32⟩ : BufTy).Contents (Elt F) → (⟨S128x128, .f32⟩ : BufTy).Contents (Elt F)),
   StableHlo.unary main_arg10 main_v2 (broadcastInDim S128x128 ![0, 1] bcast_S1x128_S128x128_0_1 : (⟨S1x128, .f32⟩ : BufTy).Contents (Elt F) → (⟨S128x128, .f32⟩ : BufTy).Contents (Elt F)),
   StableHlo.unary main_arg12 main_v3 (broadcastInDim S128x128 ![0, 1] bcast_S1x128_S128x128_0_1 : (⟨S1x128, .f32⟩ : BufTy).Contents (Elt F) → (⟨S128x128, .f32⟩ : BufTy).Contents (Elt F)),
   StableHlo.reshape main_arg9 main_v4 (rfl : (.f32 : EltTy) = .f32) shapeCasts_S1_S1x1,
   StableHlo.unary main_v4 main_v5 (broadcastInDim S1x128 ![0, 1] bcast_S1x1_S1x128_0_1 : (⟨S1x1, .f32⟩ : BufTy).Contents (Elt F) → (⟨S1x128, .f32⟩ : BufTy).Contents (Elt F)),
   StableHlo.reshape main_arg11 main_v6 (rfl : (.f32 : EltTy) = .f32) shapeCasts_S1_S1x1,
   StableHlo.unary main_v6 main_v7 (broadcastInDim S1x128 ![0, 1] bcast_S1x1_S1x128_0_1 : (⟨S1x1, .f32⟩ : BufTy).Contents (Elt F) → (⟨S1x128, .f32⟩ : BufTy).Contents (Elt F)),
   StableHlo.reshape main_arg13 main_v8 (rfl : (.f32 : EltTy) = .f32) shapeCasts_S1_S1x1,
   StableHlo.unary main_v8 main_v9 (broadcastInDim S1x128 ![0, 1] bcast_S1x1_S1x128_0_1 : (⟨S1x1, .f32⟩ : BufTy).Contents (Elt F) → (⟨S1x128, .f32⟩ : BufTy).Contents (Elt F)),
   StableHlo.reshape main_arg3 main_v10 (rfl : (.f32 : EltTy) = .f32) shapeCasts_S128_S1x128,
   StableHlo.reshape main_arg5 main_v11 (rfl : (.f32 : EltTy) = .f32) shapeCasts_S128_S1x128,
   StableHlo.reshape main_arg7 main_v12 (rfl : (.f32 : EltTy) = .f32) shapeCasts_S128_S1x128,
   StableHlo.reshape main_arg15 main_v13 (rfl : (.f32 : EltTy) = .f32) shapeCasts_S128_S1x128,
   StableHlo.reshape main_arg16 main_v14 (rfl : (.f32 : EltTy) = .f32) shapeCasts_S128_S1x128,
   StableHlo.reshape main_arg17 main_v15 (rfl : (.f32 : EltTy) = .f32) shapeCasts_S128_S1x128]

/-- The region's call, in the program without the SparseCore's calls. -/
abbrev regionCall : Prog (TpuEff nD τ sig (Elt F) (ΛP F) .tc) PUnit := .op (.customCall (Pipeline.entry 0) ()) fun _ => .ret ⟨⟩

theorem main_eq (d : Dev nD) : main (F := F) d = ((sc (F := F)).run d 0 >>= fun _ => StableHlo.seq (hostOps (F := F)) >>= fun _ =>
    SparseCore.liftProg (regionCall (F := F))) := rfl

theorem hostOps_sub : ∀ op ∈ hostOps (F := F), op.bufs ⊆ ucRefs τ sig := by
  intro op h
  unfold hostOps at h
  (repeat (cases h with | head => exact Finset.insert_subset (devRef_mem_ucRefs rfl) (Finset.singleton_subset_iff.mpr (devRef_mem_ucRefs rfl)) | tail _ h => ?_)); exact nomatch h

theorem hostOps_fresh : ∀ op ∈ hostOps (F := F), op.fresh = ∅ := by
  intro op h
  unfold hostOps at h
  (repeat (cases h with | head => rfl | tail _ h => ?_)); exact nomatch h

/-! ## What the buffers hold -/

/-- After the SparseCore call; -/
def vCall (t : Fin 32 → Tab F × Tab F) (d : Dev nD) : Valuation τ sig (Elt F) :=
  Function.update (Function.update (Function.update (StableHlo.launchContents m d)
    (Proc.devRef .tc main_v0_0) (psum m d t)) (Proc.devRef .tc main_v0_1) (pmax m d t)) (Proc.devRef .tc main_v0_2) (pcnt m d t)
/-- at the region's entry; -/
def vHost (t : Fin 32 → Tab F × Tab F) (d : Dev nD) : Valuation τ sig (Elt F) := StableHlo.after hostOps (vCall m t d)
/-- at the end. -/
def vEnd (t : Fin 32 → Tab F × Tab F) (d : Dev nD) : Valuation τ sig (Elt F) := afterRegion (tdat (vHost m t) d) (vHost m t d)

def hostBufs : Finset (Ref sig .tc) :=
  (Finset.univ.filter fun b : Ref sig .tc => ¬ b.isScoped) \ {main_arg0, main_arg1, main_v0_0, main_v0_1, main_v0_2}

theorem assoc_eq {M : Type _} [URA M] (P Q R : sProp M) : iprop((P ∗ Q) ∗ R) = iprop(P ∗ Q ∗ R) := equiv_iff.mp ⟨BI.sep_assoc, BI.sep_assoc'⟩

theorem held_five (d : Dev nD) (W : Valuation τ sig (Elt F)) :
    (StableHlo.held (d.tc : Thread nD τ) (ucRefs τ sig) W : sProp (MM F))
      = iprop(((xLoc d ↦{fullShare} W (Proc.devRef .tc main_arg0)) ∗ (iLoc d ↦{fullShare} W (Proc.devRef .tc main_arg1))
          ∗ (s4Loc d ↦{fullShare} W (Proc.devRef .tc main_v0_0)) ∗ (s5Loc d ↦{fullShare} W (Proc.devRef .tc main_v0_1)) ∗ (s6Loc d ↦{fullShare} W (Proc.devRef .tc main_v0_2)))
        ∗ bigSep hostBufs fun b => ((SparseCore.T d : Thread nD τ).loc b) ↦{fullShare} W (Proc.devRef .tc b)) := by
  rw [← unscopedBufs_held (Ix := HIx 1) (Name := ℕ) (U := UU) (Lvl := ℕ) d W]
  unfold unscopedBufs
  rw [show (Finset.univ.filter fun b : Ref sig .tc => ¬ b.isScoped)
      = insert main_arg0 (insert main_arg1 (insert main_v0_0 (insert main_v0_1 (insert main_v0_2 hostBufs)))) by decide,
    SparseCore.bigSep_insert' (by decide), SparseCore.bigSep_insert' (by decide), SparseCore.bigSep_insert' (by decide),
    SparseCore.bigSep_insert' (by decide), SparseCore.bigSep_insert' (by decide)]
  simp only [assoc_eq]

theorem vCall_rest (t : Fin 32 → Tab F × Tab F) (d : Dev nD) (b : Ref sig .tc) (hb : b ≠ main_v0_0 ∧ b ≠ main_v0_1 ∧ b ≠ main_v0_2) :
    vCall m t d (Proc.devRef .tc b) = StableHlo.launchContents m d (Proc.devRef .tc b) := by
  unfold vCall
  have hi : ∀ a : Ref sig .tc, b ≠ a → (Proc.devRef .tc b : DevRef τ sig) ≠ Proc.devRef .tc a := fun a h e => h (Proc.devRef_injective _ e)
  rw [Function.update_of_ne (hi _ hb.2.2), Function.update_of_ne (hi _ hb.2.1), Function.update_of_ne (hi _ hb.1)]

theorem hostBufs_ne (b : Ref sig .tc) (hb : b ∈ hostBufs) : b ≠ main_v0_0 ∧ b ≠ main_v0_1 ∧ b ≠ main_v0_2 := by
  have h := (Finset.mem_sdiff.mp hb).2
  simp only [Finset.mem_insert, Finset.mem_singleton, not_or] at h
  exact ⟨h.2.2.1, h.2.2.2.1, h.2.2.2.2⟩

/-- Before the call: the five arrays and the rest; -/
theorem held_launch (d : Dev nD) :
    (unscopedBufs d (fun b => m ((SparseCore.T d : Thread nD τ).loc b)) : sProp (MM F))
      = iprop(FiveP m d (m (s4Loc d)) (m (s5Loc d)) (m (s6Loc d))
        ∗ bigSep hostBufs fun b => ((SparseCore.T d : Thread nD τ).loc b) ↦{fullShare} StableHlo.launchContents m d (Proc.devRef .tc b)) :=
  (unscopedBufs_held (Ix := HIx 1) (Name := ℕ) (U := UU) (Lvl := ℕ) d (StableHlo.launchContents m d)).trans (held_five d _)

/-- after it. -/
theorem held_call (t : Fin 32 → Tab F × Tab F) (d : Dev nD) :
    (StableHlo.held (d.tc : Thread nD τ) (ucRefs τ sig) (vCall m t d) : sProp (MM F))
      = iprop(FiveP m d (psum m d t) (pmax m d t) (pcnt m d t)
        ∗ bigSep hostBufs fun b => ((SparseCore.T d : Thread nD τ).loc b) ↦{fullShare} StableHlo.launchContents m d (Proc.devRef .tc b)) := by
  rw [held_five]
  have e0 := vCall_rest m t d main_arg0 (by decide)
  have e1 := vCall_rest m t d main_arg1 (by decide)
  have e4 : vCall m t d (Proc.devRef .tc main_v0_0) = psum m d t := by
    unfold vCall; rw [Function.update_of_ne (by decide), Function.update_of_ne (by decide), Function.update_self]
  have e5 : vCall m t d (Proc.devRef .tc main_v0_1) = pmax m d t := by
    unfold vCall; rw [Function.update_of_ne (by decide), Function.update_self]
  have e6 : vCall m t d (Proc.devRef .tc main_v0_2) = pcnt m d t := by
    unfold vCall; rw [Function.update_self]
  rw [e0, e1, e4, e5, e6, bigSep_congr fun b hb => by rw [vCall_rest m t d b (hostBufs_ne b hb)]]

/-! ## The launch element -/

abbrev EP : Emb UK (MM F) := (Emb.inl : Emb UK (UK × Counters)).trans embR

instance EP_lands : (EP (F := F)).LandsIn (upEmb : UEmb _ (MM F)) := by
  unfold EP; infer_instance

abbrev pcells : Finset (GSem nD τ sig) := Pipeline.cells (Pipeline.pin (pcfgs (F := F)) adm) (layoutP.cellOf_inj adm)

def u₀ : UU := (initOf (K (F := F)).hsCells (K (F := F)).hsToks,
  (initOf (pcells (F := F)) (Pipeline.launchToks (Pipeline.pin (pcfgs (F := F)) adm) (layoutP.cellOf_inj adm)), 1))

/-- What the region's step takes of the launch. -/
def ghosts (d : Dev nD) : sProp (MM F) :=
  iprop(Pipeline.cellsGhost (Pipeline.pin (pcfgs (F := F)) adm) EP 0 d ∗ Pipeline.toksInit (Pipeline.pin (pcfgs (F := F)) adm) EP 0 d)

theorem hu₀ : (ownU (u₀ (F := F)) : sProp (MM F))
    ⊢ |={Set.univ}=> iprop(BI.own (EH (initOf (K (F := F)).hsCells (K (F := F)).hsToks)) ∗ (bigSep Finset.univ fun d : Dev nD => ghosts (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, Hp⟩
  ihave H := (own_pair_emb embR _ (1 : Counters)) $$ Hp
  icases H with ⟨Hp, -⟩
  imod (Pipeline.fund_ghost (Pipeline.pin (pcfgs (F := F)) adm) (EP (F := F)) (layoutP.cellOf_inj adm)) $$ Hp with ⟨Hg, Ht⟩
  imodintro
  isplitl [HH]; · iexact HH
  isplitl [Hg Ht]
  · unfold ghosts
    rw [bigSep_sep']
    isplitl [Hg]
    · rw [bigSep_congr fun (c : Dev nD) _ => (bigSep_univ_of_subsingleton (0 : Fin 1) (Φ := fun p => Pipeline.cellsGhost (Pipeline.pin (pcfgs (F := F)) adm) (EP (F := F)) p c)).symm]
      iexact Hg
    · rw [bigSep_congr fun (c : Dev nD) _ => (bigSep_univ_of_subsingleton (0 : Fin 1) (Φ := fun p => Pipeline.toksInit (Pipeline.pin (pcfgs (F := F)) adm) (EP (F := F)) p c)).symm]
      iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), show (bigSep Finset.univ fun _ : Thread nD τ => (iprop(emp) : sProp (MM F))) = iprop(emp) from bigSep_emp_const _]
  iempintro

/-! ## @main on the TensorCore -/

theorem region_step [∀ e, Nonempty (Elt F e)] (W : Dev nD → Valuation τ sig (Elt F)) (d : Dev nD) (Q : PUnit → sProp (MM F)) :
    iprop((iprop(boundary (d.tc : Thread nD τ) ∗ (region W).post d) -∗ Q ⟨⟩)
        ∗ boundary (d.tc : Thread nD τ) ∗ (region W).pre d ∗ levAts (K (F := F)).L (K (F := F)).lev ∗ ghosts d)
      ⊢ wp frame (wpE (D (F := F)) 𝒱 (SparseCore.T d) none) Set.univ (regionCall (F := F)) Q := by
  have h := RegionSeg.wp (pcfgs (F := F)) adm (pdats W) none (layoutP.cellOf_inj adm) EP (defs₀ (F := F)) 𝒱₀ (K (F := F)).L (K (F := F)).lev
    (region W) d none (fun u hu => nomatch hu) (fun _ => .ret ⟨⟩) Q
  refine BI.Entails.trans ?_ h
  show (iprop((iprop(boundary (d.tc : Thread nD τ) ∗ (region W).post d) -∗ Q ⟨⟩)
        ∗ boundary (d.tc : Thread nD τ) ∗ (region W).pre d ∗ levAts (K (F := F)).L (K (F := F)).lev ∗ ghosts d) : sProp (MM F))
    ⊢ (iprop((iprop(boundary (d.tc : Thread nD τ) ∗ (region W).post d) -∗ wp frame (wpE (D (F := F)) 𝒱 (SparseCore.T d) none) Set.univ (.ret ⟨⟩) Q)
        ∗ boundary (d.tc : Thread nD τ) ∗ (region W).pre d ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d) : sProp (MM F))
  unfold ghosts
  iintro ⟨Hk, Hb, Hpre, Hl, Hg, Ht⟩
  isplitl [Hk]
  · iintro H
    iapply (Entails.of_eq (wp_ret frame (wpE (D (F := F)) 𝒱 (SparseCore.T d) none) Set.univ _ Q).symm)
    imodintro
    iapply Hk; iexact H
  isplitl [Hb]; · iexact Hb
  isplitl [Hpre]; · iexact Hpre
  isplitl [Hl]; · iexact Hl
  isplitl [Hg] <;> iassumption

theorem region_lifted [∀ e, Nonempty (Elt F e)] (W : Dev nD → Valuation τ sig (Elt F)) (d : Dev nD) (Q : PUnit → sProp (MM F)) :
    iprop((iprop(boundary (d.tc : Thread nD τ) ∗ (region W).post d) -∗ Q ⟨⟩)
        ∗ boundary (d.tc : Thread nD τ) ∗ (region W).pre d ∗ levAts (K (F := F)).L (K (F := F)).lev ∗ ghosts d)
      ⊢ wp frame (wpE ((K (F := F)).defs (D (F := F))) 𝒱 (SparseCore.T d) none) Set.univ (SparseCore.liftProg (regionCall (F := F))) Q :=
  (region_step W d Q).trans ((K (F := F)).wp_liftProg (D (F := F)) 𝒱 (SparseCore.T d) Set.univ none (regionCall (F := F)) Q)

theorem region_pre (W : Dev nD → Valuation τ sig (Elt F)) (d : Dev nD) :
    iprop(StableHlo.held (d.tc : Thread nD τ) (ucRefs τ sig) (W d) ∗ ∃ Wd, ⌜(K (F := F)).WBelow (SparseCore.T d) Wd (8 * SparseCore.Cfg.Blocks.fst (Q := 1) (N := 1) 1)⌝ ∗ owes (SparseCore.T d : Thread nD τ) ((K (F := F)).Otc d 1) Wd)
      ⊢ (region W).pre d := BI.Entails.refl _
theorem region_post (W : Dev nD → Valuation τ sig (Elt F)) (d : Dev nD) :
    (region W).post d ⊢ iprop(StableHlo.held (d.tc : Thread nD τ) (ucRefs τ sig) (afterRegion (tdat W d) (W d)) ∗ ∃ Wd, ⌜(K (F := F)).WBelow (SparseCore.T d) Wd (8 * SparseCore.Cfg.Blocks.fst (Q := 1) (N := 1) 1)⌝ ∗ owes (SparseCore.T d : Thread nD τ) ((K (F := F)).Otc d 1) Wd) :=
  BI.Entails.refl _

abbrev FIN (d : Dev nD) : sProp (MM F) := iprop(∃ t, StableHlo.held (d.tc : Thread nD τ) (ucRefs τ sig) (vEnd m t d))

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ ghosts d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, wp_bind, held_launch]
  iintro ⟨#Hctx, Hst, ⟨Hb, ⟨H5, Hrest⟩, Hts, -⟩, Hg⟩
  iapply ((K (F := F)).wp_run (D (F := F)) 𝒱 (EH := EH) (P := P m) κ d 0) $$ [Hst H5 Hrest Hb Hts Hg]
  isplitr; · iexact Hctx
  isplitl [Hst]; · iexact Hst
  isplitl [H5]
  · rw [st0_eq]; iexact H5
  iintro ⟨Hst, Hdn⟩
  ihave Hdn' := (dn0_out m d) $$ Hdn
  icases Hdn' with ⟨%t, H5⟩
  ihave Hh := (Entails.of_eq (held_call m t d).symm) $$ [H5 Hrest]
  · isplitl [H5] <;> iassumption
  iapply (StableHlo.wp_seq 𝒱 none Set.univ d (ucRefs τ sig) _ (hostOps (F := F)) hostOps_sub hostOps_fresh (vCall m t d)) $$ [Hb Hh]
  · isplitl [Hb] <;> iassumption
  iintro ⟨Hb, Hh⟩
  unfold SparseCore.Cfg.tcSt
  icases Hst with ⟨HO, Hst⟩
  iapply (region_lifted (fun d' => vHost m t d') d _)
  isplitl [Hst Hts]
  · iintro ⟨Hb, Hp⟩
    ihave Hp' := (region_post (fun d' => vHost m t d') d) $$ Hp
    icases Hp' with ⟨Hh, HO⟩
    isplitl [HO Hst]
    · isplitl [HO]; · iexact HO
      iexact Hst
    isplitl [Hh]
    · iexists t; iexact Hh
    isplitl [Hb] <;> iassumption
  isplitl [Hb]; · iexact Hb
  isplitl [Hh HO]
  · iapply (region_pre (fun d' => vHost m t d') d)
    isplitl [Hh]; · iexact Hh
    iexact HO
  isplitr [Hg]
  · iapply (SparseCore.Cfg.ctx_levAts κ); iexact Hctx
  iexact Hg

def fq (d : Dev nD) (s' : Phys nD τ sig (Elt F)) : Prop := ∃ t, ∀ b ∈ ucRefs τ sig, s'.mem.mem ((d.tc : Thread nD τ).1, b) = vEnd m t d b

theorem hfin (d : Dev nD) (s' : Phys nD τ sig (Elt F)) : iprop(FIN m d ∗ SI s') ⊢ (⌜fq m d s'⌝ : sProp (MM F)) := by
  iintro ⟨⟨%t, Hh⟩, HSI⟩
  unfold StableHlo.held
  ihave Hr := (pointsTo_read_all (ucRefs τ sig) (fun b => ((d.tc : Thread nD τ).1, b)) (vEnd m t d) s') $$ [Hh HSI]
  · isplitl [Hh] <;> iassumption
  icases Hr with ⟨%hr, -⟩
  ipureintro; exact ⟨t, hr⟩

/-! ## The program's run -/

def QC : PUnit × MemSt nD τ sig (Elt F) → Prop := fun r =>
  (∀ d : Dev nD, ∃ t, ∀ b ∈ ucRefs τ sig, r.2.mem ((d.tc : Thread nD τ).1, b) = vEnd m t d b) ∧ r.2.sem = fun _ => 0

theorem run_main [∀ e, Nonempty (Elt F e)] (hids : ∀ d, IdsIn (idM m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) kfacts v₀
    (fun q hq => match q with | 0 => nomatch hq)
    (fun q _ => match q with | 0 => tileObl m hids kfacts)
    (fun q _ => match q with | 0 => SparseCore.Cfg.VecSplit.of_plain (vecSplit m))
    m ρ main (fun d => ghosts d) (FIN m) (u₀ (F := F)) (sep_elim_left.trans (hu₀ m)) (hmain m ρ) (fq m) (hfin m) (QC m) (fun _ h hz => ⟨h, hz⟩)

end Cert.Proof.Pool

end
-- ==== Proof.Ends.lean ====
/-
  What the arguments hold at the end of @main's run, and what the precondition says of the segment ids.
-/
module

public import proofs.«01_k».proof.Proof.Main
public import proofs.«01_k».proof.Pre_sorted_ids
public import proofs.«01_k».proof.Proof.Gen.Pre_sorted_ids
public import Idealize.ShloMosaic.Lib.ReduceAll
public import Idealize.ShloMosaic.Lib.Affine
public import Idealize.ShloMosaic.Lib.StableHlo.RunRead
public import Idealize.ShloMosaic.Lib.Pipeline.RegionArraysS

@[expose] public section

noncomputable section

namespace Cert.Proof.Pool

open Cert.KernelIdeal Cert.KernelIdeal.Facts₀ Cert.KernelIdeal.Facts
open Idealize.ShloMosaic Idealize.ShloMosaic.TcCoe
open Idealize.ShloMosaic.Pipeline
open Idealize.SL.Sem

variable {F : FTy → Type} [FloatOps F]

variable (m : (ℓ : Loc nD τ sig) → Buf (Elt F) ℓ) (ρ : Dev nD → PrngReg)

/-- What the host's operations write, in order. -/
def hostOuts : List (Ref sig .tc) :=
  [main_v1, main_v2, main_v3, main_v4, main_v5, main_v6, main_v7, main_v8, main_v9, main_v10, main_v11, main_v12, main_v13, main_v14, main_v15]

theorem vHost_keeps (t : Fin 32 → Tab F × Tab F) (d : Dev nD) (b : Ref sig .tc) (hb : b ∉ hostOuts) :
    vHost m t d (Proc.devRef .tc b) = vCall m t d (Proc.devRef .tc b) :=
  StableHlo.after_unwritten hostOuts rfl hb _

theorem arr_inj : Function.Injective (arrRef cfg1.spec) := by
  intro a b h
  revert h
  revert a b
  show ∀ a b : Fin 20, arrRef spec1 a = arrRef spec1 b → a = b
  decide

/-- An array that nothing of @main writes is as it was. -/
theorem vEnd_keeps (t : Fin 32 → Tab F × Tab F) (d : Dev nD) (b : Ref sig .tc) (hb : b ∉ hostOuts)
    (h3 : b ≠ main_v0_0 ∧ b ≠ main_v0_1 ∧ b ≠ main_v0_2) (ho : b ≠ main_v16) :
    vEnd m t d (Proc.devRef .tc b) = m ((d.tc : Thread nD τ).loc b) := by
  unfold vEnd
  refine (afterRegion_keeps (tdat (vHost m t) d) (vHost m t d) arr_inj (fun _ => rfl) b ?_).trans
    ((vHost_keeps m t d b hb).trans (vCall_rest m t d b h3))
  intro w hw
  by_contra hc
  have : ∀ w : Fin 20, (cfg1.win w).isOut ≠ false → arrRef spec1 w = main_v16 := by decide
  exact ho (hw.symm.trans (this w hc))

/-- The memory at the end, by reference. -/
theorem QC_read {r : PUnit × MemSt nD τ sig (Elt F)} (h : QC m r) (d : Dev nD) :
    ∃ t, ∀ b : Ref sig .tc, b.isScoped = false → r.2.mem ((d.tc : Thread nD τ).loc b) = vEnd m t d (Proc.devRef .tc b) := by
  obtain ⟨t, ht⟩ := h.1 d
  exact ⟨t, fun b hb => ht _ (devRef_mem_ucRefs hb)⟩

/-- Every argument is kept, and the semaphores are at zero. -/
theorem QC_args {r : PUnit × MemSt nD τ sig (Elt F)} (h : QC m r) (d : Dev nD) (b : Ref sig .tc) (hs : b.isScoped = false) (hb : b ∉ hostOuts)
    (h3 : b ≠ main_v0_0 ∧ b ≠ main_v0_1 ∧ b ≠ main_v0_2) (ho : b ≠ main_v16) :
    r.2.mem ((d.tc : Thread nD τ).loc b) = m ((d.tc : Thread nD τ).loc b) := by
  obtain ⟨t, ht⟩ := QC_read m h d
  exact (ht b hs).trans (vEnd_keeps m t d b hb h3 ho)

theorem QC_frame {r : PUnit × MemSt nD τ sig (Elt F)} (h : QC m r) :
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) ∧ r.2.sem = fun _ => 0 :=
  ⟨fun c => ⟨
    QC_args m h c main_arg0 rfl (by decide) (by decide) (by decide),
    QC_args m h c main_arg1 rfl (by decide) (by decide) (by decide),
    QC_args m h c main_arg2 rfl (by decide) (by decide) (by decide),
    QC_args m h c main_arg3 rfl (by decide) (by decide) (by decide),
    QC_args m h c main_arg4 rfl (by decide) (by decide) (by decide),
    QC_args m h c main_arg5 rfl (by decide) (by decide) (by decide),
    QC_args m h c main_arg6 rfl (by decide) (by decide) (by decide),
    QC_args m h c main_arg7 rfl (by decide) (by decide) (by decide),
    QC_args m h c main_arg8 rfl (by decide) (by decide) (by decide),
    QC_args m h c main_arg9 rfl (by decide) (by decide) (by decide),
    QC_args m h c main_arg10 rfl (by decide) (by decide) (by decide),
    QC_args m h c main_arg11 rfl (by decide) (by decide) (by decide),
    QC_args m h c main_arg12 rfl (by decide) (by decide) (by decide),
    QC_args m h c main_arg13 rfl (by decide) (by decide) (by decide),
    QC_args m h c main_arg14 rfl (by decide) (by decide) (by decide),
    QC_args m h c main_arg15 rfl (by decide) (by decide) (by decide),
    QC_args m h c main_arg16 rfl (by decide) (by decide) (by decide),
    QC_args m h c main_arg17 rfl (by decide) (by decide) (by decide)⟩, h.2⟩

/-! ## The precondition -/

instance : Subsingleton (Cert.Pre_sorted_ids.S_).Idx := ⟨fun a b => funext fun i => i.elim0⟩

/-- An id of the data lies in [0, 256), and is no greater than the next. -/
theorem sorted_read (x : FVec F S100000x128 .f32) (ids : IVec S100000 32) (a2 : FVec F S128x128 .f32) (a3 : FVec F S128 .f32)
    (a4 : FVec F S128x128 .f32) (a5 : FVec F S128 .f32) (a6 : FVec F S128x128 .f32) (a7 : FVec F S128 .f32) (a8 : FVec F S1x128 .f32) (a9 : FVec F S1 .f32)
    (a10 : FVec F S1x128 .f32) (a11 : FVec F S1 .f32) (a12 : FVec F S1x128 .f32) (a13 : FVec F S1 .f32) (a14 : FVec F S128x128 .f32) (a15 : FVec F S128 .f32)
    (a16 : FVec F S128 .f32) (a17 : FVec F S128 .f32)
    (h : Cert.Pre_sorted_ids.fn x ids a2 a3 a4 a5 a6 a7 a8 a9 a10 a11 a12 a13 a14 a15 a16 a17 = fun _ => 1#1) :
    (∀ i, (ids i).toNat < 256) ∧ ∀ n : ℕ, n + 1 < 100000 → (idAt ids n).toNat ≤ (idAt ids (n + 1)).toNat := by
  have h0 := congrFun h (fun i => i.elim0)
  unfold Cert.Pre_sorted_ids.fn at h0
  dsimp only at h0
  replace h0 := IntOp.andi_eq_one.mp h0
  rw [show ∀ (a b : IVec Cert.Pre_sorted_ids.S_ 1) i, andi a b i = IntOp.andi (a i) (b i) from fun _ _ _ => rfl, IntOp.andi_eq_one] at h0
  obtain ⟨⟨hge, hlt⟩, hle⟩ := h0
  have hr : ∀ i, (ids i).toNat < 256 := by
    intro i
    have e1 := Host.reduce_andi_all _ _ _ _ _ hge i
    have e2 := Host.reduce_andi_all _ _ _ _ _ hlt i
    have f1 : (0#32).toInt ≤ (ids i).toInt := IntOp.cmpi_sge.mp e1
    have f2 : (ids i).toInt < (256#32).toInt := IntOp.cmpi_slt.mp e2
    rw [show (0#32).toInt = 0 by decide] at f1
    rw [show (256#32).toInt = 256 by decide] at f2
    have g := BitVec.toInt_eq_toNat_cond (ids i)
    have := (ids i).isLt
    split at g <;> omega
  refine ⟨hr, fun n hn => ?_⟩
  have e3 := Host.reduce_andi_all _ _ _ _ _ hle (fun | 0 => ⟨n, by show n < 99999; omega⟩)
  have f3 : (idAt ids n).toInt ≤ (idAt ids (n + 1)).toInt := by
    have := IntOp.cmpi_sle.mp e3
    refine le_trans (le_of_eq (congrArg (fun j => (ids j).toInt) ?_)) (this.trans (le_of_eq (congrArg (fun j => (ids j).toInt) ?_)))
    · funext z; match z with | 0 => apply Fin.ext; show n % 100000 = 0 + n; omega
    · funext z; match z with | 0 => apply Fin.ext; show 1 + n = (n + 1) % 100000; omega
  have h1 : (idAt ids n).toNat < 256 := hr _
  have h2 : (idAt ids (n + 1)).toNat < 256 := hr _
  have g1 := BitVec.toInt_eq_toNat_cond (idAt ids n)
  have g2 := BitVec.toInt_eq_toNat_cond (idAt ids (n + 1))
  split at g1 <;> split at g2 <;> omega

end Cert.Proof.Pool

end
-- ==== Proof.Xfer.lean ====
/-
  The kernel as printed at `Bits` and its idealization are the same text: a run of the one is a run of the other.
-/
module

public import proofs.«01_k».proof.Proof.Ends
public import proofs.«01_k».proof.Proof.FactsK
public import Idealize.ShloMosaic.PureOps.BitExact

@[expose] public section

noncomputable section

namespace Cert.Proof.Pool

open Idealize.ShloMosaic Idealize.ShloMosaic.TcCoe
open Idealize.SL.Sem

-- the two programs are compared by unfolding both
set_option maxHeartbeats 0 in
set_option smartUnfolding false in
theorem run_kernel (m : (ℓ : Loc Cert.Kernel.nD Cert.Kernel.τ Cert.Kernel.sig) → Buf (Elt Bits) ℓ) (g : Dev Cert.Kernel.nD → PrngReg)
    (Q : PUnit × MemSt Cert.Kernel.nD Cert.Kernel.τ Cert.Kernel.sig (Elt Bits) → Prop)
    (h : θ_run (Cert.KernelIdeal.defs (F := Bits)) (Cert.KernelIdeal.threads (F := Bits)) ⟨m, fun _ => 0, g⟩ Q) :
    θ_run (Cert.Kernel.defs (F := Bits)) (Cert.Kernel.threads (F := Bits)) ⟨m, fun _ => 0, g⟩ Q := h

end Cert.Proof.Pool

end
-- ==== Proof.RefForm.lean ====
/-
  The reference's result in named pieces: the pools, the layers, the gates, their softmax, the mix, the normalisation.
-/
module

public import proofs.«01_k».proof.Proof.Gen.ReferenceIdeal.Run

@[expose] public section

noncomputable section

namespace Cert.Proof.Plain

open Cert.ReferenceIdeal Cert.ReferenceIdeal.Gen Cert.ReferenceIdeal.Value Idealize.ShloMosaic Idealize.ShloMosaic.TcCoe Idealize.ShloMosaic.StableHlo

variable {F : FTy → Type} [FloatOps F]

/-- The sums, the counts and the maxima of the segments. -/
def pSum (x : FVec F S100000x128 .f32) (ids : IVec S100000 32) : FVec F S256x128 .f32 :=
  Host.scatterAdd scatter_S256x128_S100000x1_S100000x128_1_0_0_1 (broadcastInDim S256x128 ![] bcast_S_S256x128 (constant S_ .f32 0x00000000#32)) (broadcastInDim S100000x1 ![0] bcast_S100000_S100000x1_0 ids) x
def pCnt (ids : IVec S100000 32) : FVec F S256 .f32 :=
  Host.scatterAdd scatter_S256_S100000x1_S100000_n_0_0_1 (broadcastInDim S256 ![] bcast_S_S256 (constant S_ .f32 0x00000000#32)) (broadcastInDim S100000x1 ![0] bcast_S100000_S100000x1_0 ids) (broadcastInDim S100000 ![] bcast_S_S100000 (constant S_ .f32 0x3F800000#32))
def pMasked (x : FVec F S100000x128 .f32) (ids : IVec S100000 32) : FVec F S256x100000x128 .f32 :=
  select (broadcastInDim S256x100000x128 ![0, 1, 2] bcast_S256x100000x1_S256x100000x128_0_1_2 (cmpi .eq (broadcastInDim S256x100000x1 ![0, 1, 2] bcast_S1x100000x1_S256x100000x1_0_1_2 (broadcastInDim S1x100000x1 ![1] bcast_S100000_S1x100000x1_1 ids)) (broadcastInDim S256x100000x1 ![0, 1, 2] bcast_S256x1x1_S256x100000x1_0_1_2 (broadcastInDim S256x1x1 ![0] bcast_S256_S256x1x1_0 (iotaInDim S256 32 0))))) (broadcastInDim S256x100000x128 ![0, 1, 2] bcast_S1x100000x128_S256x100000x128_0_1_2 (broadcastInDim S1x100000x128 ![1, 2] bcast_S100000x128_S1x100000x128_1_2 x)) (broadcastInDim S256x100000x128 ![] bcast_S_S256x100000x128 (id (constant S_ .f32 0xFF800000#32)))
def pMax (x : FVec F S100000x128 .f32) (ids : IVec S100000 32) : FVec F S256x128 .f32 :=
  Host.reduce FloatOps.maximumf (pMasked x ids) (constant S_ .f32 0xFF800000#32) reducesTo_S256x100000x128_S256x128_d1 h_S_

/-- The means: the sums over the counts, no count under one. -/
def pMean (s : FVec F S256x128 .f32) (n : FVec F S256 .f32) : FVec F S256x128 .f32 :=
  Host.divf s (broadcastInDim S256x128 ![0, 1] bcast_S256x1_S256x128_0_1 (broadcastInDim S256x1 ![0] bcast_S256_S256x1_0 (maximumf (broadcastInDim S256 ![] bcast_S_S256 (id (constant S_ .f32 0x3F800000#32))) n)))
/-- A layer. -/
def lay (v : FVec F S256x128 .f32) (w : FVec F S128x128 .f32) (b : FVec F S128 .f32) : FVec F S256x128 .f32 :=
  addf (Host.dotGeneral dot_S256x128_S128x128_S256x128_1_0_0_1_n_n none v (transpose S128x128 [1, 0] w transposes_S128x128_S128x128_1_0)) (broadcastInDim S256x128 ![0, 1] bcast_S1x128_S256x128_0_1 (broadcastInDim S1x128 ![1] bcast_S128_S1x128_1 b))
/-- A gate. -/
def gat (v : FVec F S256x128 .f32) (w : FVec F S1x128 .f32) (b : FVec F S1 .f32) : FVec F S256x1 .f32 :=
  Host.divf (broadcastInDim S256x1 ![] bcast_S_S256x1 (constant S_ .f32 0x3F800000#32)) (addf (broadcastInDim S256x1 ![] bcast_S_S256x1 (constant S_ .f32 0x3F800000#32)) (Host.exp (Host.negf (addf (Host.dotGeneral dot_S256x128_S128x1_S256x1_1_0_0_1_n_n none v (transpose S128x1 [1, 0] w transposes_S1x128_S128x1_1_0)) (broadcastInDim S256x1 ![0, 1] bcast_S1x1_S256x1_0_1 (broadcastInDim S1x1 ![1] bcast_S1_S1x1_1 b))))))
/-- Three columns side by side. -/
def cat (a b c : FVec F S256x1 .f32) : FVec F S256x3 .f32 :=
  concatenate S256x3 1 [⟨S256x1, a⟩, ⟨S256x1, b⟩, ⟨S256x1, c⟩] concatenates_S256x1_S256x1_S256x1_S256x3_d1
/-- The softmax over three columns, its numerators first. -/
def smE (z : FVec F S256x3 .f32) : FVec F S256x3 .f32 :=
  Host.exp (subf z (broadcastInDim S256x3 ![0, 1] bcast_S256x1_S256x3_0_1 (broadcastInDim S256x1 ![0] bcast_S256_S256x1_0 (maximumf (broadcastInDim S256 ![] bcast_S_S256 (constant S_ .f32 0xFF800000#32)) (Host.reduce FloatOps.maximumf z (constant S_ .f32 0xFF800000#32) reducesTo_S256x3_S256_d1 h_S_)))))
def smD (e : FVec F S256x3 .f32) : FVec F S256x3 .f32 :=
  Host.divf e (broadcastInDim S256x3 ![0, 1] bcast_S256x1_S256x3_0_1 (broadcastInDim S256x1 ![0] bcast_S256_S256x1_0 (Host.reduceAdd e (constant S_ .f32 0x00000000#32) reducesTo_S256x3_S256_d1 h_S_)))
/-- The three representations, each by its gate. -/
def mix (g : FVec F S256x3 .f32) (a b c : FVec F S256x128 .f32) : FVec F S256x128 .f32 :=
  addf (addf (mulf (broadcastInDim S256x128 ![0, 1] bcast_S256x1_S256x128_0_1 (extractStridedSlice S256x1 ![0, 0] g slices_S256x3_S256x1_0_0)) a) (mulf (broadcastInDim S256x128 ![0, 1] bcast_S256x1_S256x128_0_1 (extractStridedSlice S256x1 ![0, 1] g slices_S256x3_S256x1_0_1)) b)) (mulf (broadcastInDim S256x128 ![0, 1] bcast_S256x1_S256x128_0_1 (extractStridedSlice S256x1 ![0, 2] g slices_S256x3_S256x1_0_2)) c)
/-- A row less its mean. -/
def devR (x : FVec F S256x128 .f32) : FVec F S256x128 .f32 :=
  subf x (broadcastInDim S256x128 ![0, 1] bcast_S256x1_S256x128_0_1 (Host.divf (broadcastInDim S256x1 ![0] bcast_S256_S256x1_0 (Host.reduceAdd x (constant S_ .f32 0x00000000#32) reducesTo_S256x128_S256_d1 h_S_)) (broadcastInDim S256x1 ![] bcast_S_S256x1 (constant S_ .f32 0x43000000#32))))
/-- The variance's divisor. -/
def dof : FVec F S_ .f32 := subf (constant S_ .f32 0x43000000#32) (sitofp .f32 (constantI S_ 32 0#32))
/-- The variance of the rows whose deviations are `d`. -/
def varR (d : FVec F S256x128 .f32) : FVec F S256x1 .f32 :=
  select (broadcastInDim S256x1 ![] bcast_S_S256x1 (cmpf .ogt (dof (F := F)) (constant S_ .f32 0x00000000#32))) (Host.divf (broadcastInDim S256x1 ![0] bcast_S256_S256x1_0 (Host.reduceAdd (mulf d d) (constant S_ .f32 0x00000000#32) reducesTo_S256x128_S256_d1 h_S_)) (broadcastInDim S256x1 ![] bcast_S_S256x1 dof)) (broadcastInDim S256x1 ![] bcast_S_S256x1 (id (constant S_ .f32 0x7FC00000#32)))
/-- The normalisation. -/
def norm (x : FVec F S256x128 .f32) (ga be : FVec F S128 .f32) : FVec F S256x128 .f32 :=
  addf (mulf (Host.divf (devR x) (broadcastInDim S256x128 ![0, 1] bcast_S256x1_S256x128_0_1 (Host.sqrt (addf (varR (devR x)) (broadcastInDim S256x1 ![] bcast_S_S256x1 (constant S_ .f32 0x3727C5AC#32)))))) (broadcastInDim S256x128 ![0, 1] bcast_S1x128_S256x128_0_1 (broadcastInDim S1x128 ![1] bcast_S128_S1x128_1 ga))) (broadcastInDim S256x128 ![0, 1] bcast_S1x128_S256x128_0_1 (broadcastInDim S1x128 ![1] bcast_S128_S1x128_1 be))

/-- The result from the three representations. -/
def rest (a b c : FVec F S256x128 .f32) (w8 : FVec F S1x128 .f32) (b9 : FVec F S1 .f32) (w10 : FVec F S1x128 .f32) (b11 : FVec F S1 .f32)
    (w12 : FVec F S1x128 .f32) (b13 : FVec F S1 .f32) (w14 : FVec F S128x128 .f32) (b15 ga be : FVec F S128 .f32) : FVec F S256x128 .f32 :=
  norm (lay (mix (smD (smE (cat (gat a w8 b9) (gat b w10 b11) (gat c w12 b13)))) a b c) w14 b15) ga be
/-- The result from the three pools. -/
def final (s : FVec F S256x128 .f32) (n : FVec F S256 .f32) (m : FVec F S256x128 .f32) (w2 : FVec F S128x128 .f32) (b3 : FVec F S128 .f32) (w4 : FVec F S128x128 .f32) (b5 : FVec F S128 .f32)
    (w6 : FVec F S128x128 .f32) (b7 : FVec F S128 .f32) (w8 : FVec F S1x128 .f32) (b9 : FVec F S1 .f32) (w10 : FVec F S1x128 .f32) (b11 : FVec F S1 .f32)
    (w12 : FVec F S1x128 .f32) (b13 : FVec F S1 .f32) (w14 : FVec F S128x128 .f32) (b15 ga be : FVec F S128 .f32) : FVec F S256x128 .f32 :=
  rest (lay (pMean s n) w2 b3) (lay m w4 b5) (lay s w6 b7) w8 b9 w10 b11 w12 b13 w14 b15 ga be

variable (V : Valuation τ sig (Elt F))

theorem v2_eq : res_main_v2 V = pSum (V (Proc.devRef .tc main_arg0)) (V (Proc.devRef .tc main_arg1)) := rfl
theorem v24_eq : res_main_v24 V = lay (pMean (pSum (V (Proc.devRef .tc main_arg0)) (V (Proc.devRef .tc main_arg1))) (pCnt (V (Proc.devRef .tc main_arg1)))) (V (Proc.devRef .tc main_arg2)) (V (Proc.devRef .tc main_arg3)) := rfl
theorem v29_eq : res_main_v29 V = lay (pMax (V (Proc.devRef .tc main_arg0)) (V (Proc.devRef .tc main_arg1))) (V (Proc.devRef .tc main_arg4)) (V (Proc.devRef .tc main_arg5)) := rfl
theorem v34_eq : res_main_v34 V = lay (pSum (V (Proc.devRef .tc main_arg0)) (V (Proc.devRef .tc main_arg1))) (V (Proc.devRef .tc main_arg6)) (V (Proc.devRef .tc main_arg7)) := rfl
theorem v68_eq : res_main_v68 V = cat (gat (res_main_v24 V) (V (Proc.devRef .tc main_arg8)) (V (Proc.devRef .tc main_arg9)))
    (gat (res_main_v29 V) (V (Proc.devRef .tc main_arg10)) (V (Proc.devRef .tc main_arg11))) (gat (res_main_v34 V) (V (Proc.devRef .tc main_arg12)) (V (Proc.devRef .tc main_arg13))) := rfl
theorem v79_eq : res_main_v79 V = smD (smE (res_main_v68 V)) := rfl
theorem v95_eq : res_main_v95 V = lay (mix (res_main_v79 V) (res_main_v24 V) (res_main_v29 V) (res_main_v34 V)) (V (Proc.devRef .tc main_arg14)) (V (Proc.devRef .tc main_arg15)) := rfl

theorem result_eq :
    addf (mulf (Host.divf (subf (res_main_v95 V) (broadcastInDim S256x128 ![0, 1] bcast_S256x1_S256x128_0_1 (Host.divf (broadcastInDim S256x1 ![0] bcast_S256_S256x1_0 (Host.reduceAdd (res_main_v95 V) (constant S_ .f32 0x00000000#32) reducesTo_S256x128_S256_d1 h_S_)) (broadcastInDim S256x1 ![] bcast_S_S256x1 (constant S_ .f32 0x43000000#32))))) (broadcastInDim S256x128 ![0, 1] bcast_S256x1_S256x128_0_1 (Host.sqrt (addf (select (broadcastInDim S256x1 ![] bcast_S_S256x1 (cmpf .ogt (res_main_call2_v8 V) (constant S_ .f32 0x00000000#32))) (Host.divf (broadcastInDim S256x1 ![0] bcast_S256_S256x1_0 (Host.reduceAdd (mulf (res_main_call2_v5 V) (res_main_call2_v5 V)) (constant S_ .f32 0x00000000#32) reducesTo_S256x128_S256_d1 h_S_)) (broadcastInDim S256x1 ![] bcast_S_S256x1 (res_main_call2_v8 V))) (broadcastInDim S256x1 ![] bcast_S_S256x1 (id (constant S_ .f32 0x7FC00000#32)))) (broadcastInDim S256x1 ![] bcast_S_S256x1 (constant S_ .f32 0x3727C5AC#32)))))) (broadcastInDim S256x128 ![0, 1] bcast_S1x128_S256x128_0_1 (broadcastInDim S1x128 ![1] bcast_S128_S1x128_1 (V (Proc.devRef .tc main_arg16))))) (broadcastInDim S256x128 ![0, 1] bcast_S1x128_S256x128_0_1 (broadcastInDim S1x128 ![1] bcast_S128_S1x128_1 (V (Proc.devRef .tc main_arg17))))
    = final (pSum (V (Proc.devRef .tc main_arg0)) (V (Proc.devRef .tc main_arg1))) (pCnt (V (Proc.devRef .tc main_arg1))) (pMax (V (Proc.devRef .tc main_arg0)) (V (Proc.devRef .tc main_arg1)))
      (V (Proc.devRef .tc main_arg2)) (V (Proc.devRef .tc main_arg3)) (V (Proc.devRef .tc main_arg4)) (V (Proc.devRef .tc main_arg5)) (V (Proc.devRef .tc main_arg6)) (V (Proc.devRef .tc main_arg7))
      (V (Proc.devRef .tc main_arg8)) (V (Proc.devRef .tc main_arg9)) (V (Proc.devRef .tc main_arg10)) (V (Proc.devRef .tc main_arg11)) (V (Proc.devRef .tc main_arg12)) (V (Proc.devRef .tc main_arg13))
      (V (Proc.devRef .tc main_arg14)) (V (Proc.devRef .tc main_arg15)) (V (Proc.devRef .tc main_arg16)) (V (Proc.devRef .tc main_arg17)) := by
  unfold final rest
  rw [← v24_eq, ← v29_eq, ← v34_eq, ← v68_eq, ← v79_eq, ← v95_eq]
  rfl

end Cert.Proof.Plain

end
-- ==== Proof.Forms.lean ====
/-
  Each piece of the two programs, read at a place: the plain pieces here, over any arrays, and the tail's.
-/
module

public import proofs.«01_k».proof.Proof.RefForm
public import proofs.«01_k».proof.Proof.Tail
public import Idealize.ShloMosaic.Lib.Pointwise

@[expose] public section

noncomputable section

namespace Cert.Proof.Plain

open Cert.ReferenceIdeal Cert.ReferenceIdeal.Gen Idealize.ShloMosaic Idealize.ShloMosaic.TcCoe Idealize.ShloMosaic.StableHlo

theorem bits_one : Ideal.ofBits .f32 0x3F800000#32 = 1 := by simp [Ideal.ofBits, Ideal.ieee, -EReal.coe_mul]; norm_num
theorem bits_zero : Ideal.ofBits .f32 0x00000000#32 = 0 := by simp [Ideal.ofBits, Ideal.ieee, -EReal.coe_mul]
theorem bits_ninf : Ideal.ofBits .f32 0xFF800000#32 = ⊥ := by simp [Ideal.ofBits, Ideal.ieee, -EReal.coe_mul]
theorem bits_128 : Ideal.ofBits .f32 0x43000000#32 = ((128 : ℝ) : EReal) := by simp [Ideal.ofBits, Ideal.ieee, -EReal.coe_mul]; norm_num
theorem bits_inv128 : Ideal.ofBits .f32 0x3C000000#32 = ((1 / 128 : ℝ) : EReal) := by simp [Ideal.ofBits, Ideal.ieee, -EReal.coe_mul]; norm_num
theorem bits_inv16 : Ideal.ofBits .f32 0x3D800000#32 = ((1 / 16 : ℝ) : EReal) := by simp [Ideal.ofBits, Ideal.ieee, -EReal.coe_mul]; norm_num

theorem pMean_at (s : FVec Ideal S256x128 .f32) (n : FVec Ideal S256 .f32) (g : Fin 256) (c : Fin 128) :
    pMean s n (ix2 g c) = Ideal.div (s (ix2 g c)) (max 1 (n (ix1 g))) := by
  pointwise [pMean]
  show Ideal.div (s (ix2 g c)) (max (Ideal.ofBits .f32 0x3F800000#32) _) = _
  rw [bits_one]

theorem lay_at (v : FVec Ideal S256x128 .f32) (w : FVec Ideal S128x128 .f32) (b : FVec Ideal S128 .f32) (g : Fin 256) (c : Fin 128) :
    lay v w b (ix2 g c) = ∑ x, v (ix2 g x) * w (ix2 c x) + b (ix1 c) := by
  pointwise [lay]

theorem gat_at (v : FVec Ideal S256x128 .f32) (w : FVec Ideal S1x128 .f32) (b : FVec Ideal S1 .f32) (g : Fin 256) :
    gat v w b (ix2 g 0) = Ideal.div 1 (1 + Ideal.exp (-(∑ x, v (ix2 g x) * w (ix2 0 x) + b (ix1 0)))) := by
  pointwise [gat]

theorem cat_at0 (a b c : FVec Ideal S256x1 .f32) (g : Fin 256) : cat a b c (ix2 g 0) = a (ix2 g 0) := by
  pointwise [cat]
theorem cat_at1 (a b c : FVec Ideal S256x1 .f32) (g : Fin 256) : cat a b c (ix2 g 1) = b (ix2 g 0) := by
  pointwise [cat]
theorem cat_at2 (a b c : FVec Ideal S256x1 .f32) (g : Fin 256) : cat a b c (ix2 g 2) = c (ix2 g 0) := by
  pointwise [cat]

theorem smE_at (z : FVec Ideal S256x3 .f32) (g : Fin 256) (k : Fin 3) :
    smE z (ix2 g k) = Ideal.exp (z (ix2 g k) - max (max (z (ix2 g 0)) (z (ix2 g 1))) (z (ix2 g 2))) := by
  pointwise [smE]
  rw [bits_ninf]
  congr 2
  simp only [show (Finset.univ : Finset (Fin 3)) = {0, 1, 2} from rfl]
  simp [max_assoc]

theorem smD_at (e : FVec Ideal S256x3 .f32) (g : Fin 256) (k : Fin 3) :
    smD e (ix2 g k) = Ideal.div (e (ix2 g k)) (e (ix2 g 0) + e (ix2 g 1) + e (ix2 g 2)) := by
  pointwise [smD]
  congr 1
  exact Fin.sum_univ_three (fun x => e (ix2 g x))

theorem mix_at (z : FVec Ideal S256x3 .f32) (s t u : FVec Ideal S256x128 .f32) (g : Fin 256) (c : Fin 128) :
    mix z s t u (ix2 g c) = z (ix2 g 0) * s (ix2 g c) + z (ix2 g 1) * t (ix2 g c) + z (ix2 g 2) * u (ix2 g c) := by
  pointwise [mix]

theorem devR_at (s : FVec Ideal S256x128 .f32) (g : Fin 256) (c : Fin 128) :
    devR s (ix2 g c) = s (ix2 g c) - Ideal.div (∑ x, s (ix2 g x)) ((128 : ℝ) : EReal) := by
  pointwise [devR]
  rw [bits_128]

theorem varR_at (s : FVec Ideal S256x128 .f32) (g : Fin 256) :
    varR s (ix2 g 0) = Ideal.div (∑ x, s (ix2 g x) * s (ix2 g x)) ((128 : ℝ) : EReal) := by
  pointwise [varR, dof]
  have e : (Ideal.ofBits .f32 0x43000000#32 - (FloatOps.sitofp .f32 (0#32) : Ideal .f32) : EReal) = ((128 : ℝ) : EReal) := by
    rw [bits_128]
    show ((128 : ℝ) : EReal) - (((0#32 : BitVec 32).toInt : ℝ) : EReal) = _
    simp
  rw [e]
  simp

theorem norm_at (x : FVec Ideal S256x128 .f32) (ga be : FVec Ideal S128 .f32) (g : Fin 256) (c : Fin 128) :
    norm x ga be (ix2 g c) = Ideal.div (devR x (ix2 g c)) (Ideal.sqrt (varR (devR x) (ix2 g 0) + Ideal.ofBits .f32 0x3727C5AC#32)) * ga (ix1 c) + be (ix1 c) := by
  pointwise [norm]

end Cert.Proof.Plain

namespace Cert.Proof.Pool

open Cert.KernelIdeal Cert.KernelIdeal.Facts₀ Cert.KernelIdeal.Facts
open Idealize.ShloMosaic Idealize.ShloMosaic.TcCoe Idealize.ShloMosaic.StableHlo

variable (I : TailIn Ideal)

theorem ptA_at (n : ℕ) (g : Fin 256) (c : Fin 128) : ptA I n (ix2 g c) = I.ps (ix3 ⟨n % 32, Nat.mod_lt _ (by decide)⟩ g c) := by
  pointwise [ptA, rawA]
  congr 1
  funext a; fin_cases a <;> apply Fin.ext <;> simp [ix3]
theorem ptB_at (n : ℕ) (g : Fin 256) (c : Fin 128) : ptB I n (ix2 g c) = I.pm (ix3 ⟨n % 32, Nat.mod_lt _ (by decide)⟩ g c) := by
  pointwise [ptB, rawB]
  congr 1
  funext a; fin_cases a <;> apply Fin.ext <;> simp [ix3]
theorem ptC_at (n : ℕ) (g : Fin 256) (c : Fin 16) : ptC I n (ix2 g c) = I.pc (ix3 ⟨n % 32, Nat.mod_lt _ (by decide)⟩ g c) := by
  pointwise [ptC, rawC]
  congr 1
  funext a; fin_cases a <;> apply Fin.ext <;> simp [ix3]

theorem has_at (n : ℕ) (g : Fin 256) (c : Fin 128) :
    has I n (ix2 g c) = BitVec.ofBool (decide (0 < ∑ x : Fin 16, ptC I n (ix2 g x))) := by
  pointwise [has, zero128, ones16, all128]

theorem accA_zero (j : S256x128.Idx) : accA I 0 j = 0 := by
  show Ideal.ofBits .f32 0x00000000#32 = _
  exact Plain.bits_zero
theorem accB_zero (j : S256x128.Idx) : accB I 0 j = ⊥ := by
  show Ideal.ofBits .f32 0xFF800000#32 = _
  exact Plain.bits_ninf
theorem accC_zero (j : S256x16.Idx) : accC I 0 j = 0 := by
  show Ideal.ofBits .f32 0x00000000#32 = _
  exact Plain.bits_zero

theorem accA_succ (n : ℕ) (j : S256x128.Idx) : accA I (n + 1) j = accA I n j + Scalar.select (has I n j) (ptA I n j) 0 := by
  pointwise [accA, all128]
theorem accB_succ (n : ℕ) (j : S256x128.Idx) : accB I (n + 1) j = Scalar.select (has I n j) (max (accB I n j) (ptB I n j)) (accB I n j) := by
  pointwise [accB, all128]
theorem accC_succ (n : ℕ) (j : S256x16.Idx) : accC I (n + 1) j = accC I n j + ptC I n j := rfl

theorem layer_at (v : FVec Ideal S256x128 .f32) (w : Vec Ideal S128x128 .f32) (b : Vec Ideal S1x128 .f32) (g : Fin 256) (c : Fin 128) :
    layer v w b (ix2 g c) = ∑ k, v (ix2 g k) * w (ix2 c k) + b (ix2 0 c) := by
  pointwise [layer, layer0, bias, zero128]
theorem gateL_at (v : FVec Ideal S256x128 .f32) (w : Vec Ideal S128x128 .f32) (b : Vec Ideal S1x128 .f32) (g : Fin 256) (c : Fin 128) :
    gateL v w b (ix2 g c) = ∑ k, v (ix2 g k) * w (ix2 c k) + b (ix2 0 c) := by
  pointwise [gateL, layer, layer0, bias, zero128]
theorem countsK_at (g : Fin 256) (c : Fin 128) : countsK I (ix2 g c) = max ((∑ x : Fin 16, accC I 32 (ix2 g x)) * ((1 / 16 : ℝ) : EReal)) 1 := by
  pointwise [countsK, zero128, ones16, all128]
  rw [Plain.bits_inv16]
theorem sqK_at (g : Fin 256) (c : Fin 128) : sqK I (ix2 g c) = ∑ x, devK I (ix2 g x) * devK I (ix2 g x) := by
  pointwise [sqK, layer0, ones128, zero128]
theorem devK_at (g : Fin 256) (c : Fin 128) : devK I (ix2 g c) = geK I (ix2 g c) - (∑ x, geK I (ix2 g x)) * ((1 / 128 : ℝ) : EReal) := by
  pointwise [devK, layer0, ones128, zero128, all128]
  rw [Plain.bits_inv128]
theorem tailOut_at (g : Fin 256) (c : Fin 128) : tailOut I (ix2 g c)
    = Ideal.div (devK I (ix2 g c)) (Ideal.sqrt (sqK I (ix2 g c) * ((1 / 128 : ℝ) : EReal) + Ideal.ofBits .f32 0x3727C5AC#32)) * I.ga (ix2 0 c) + I.be (ix2 0 c) := by
  pointwise [tailOut, bias, all128]
  rw [Plain.bits_inv128]
theorem sigm_at (v : FVec Ideal S256x128 .f32) (g : Fin 256) (c : Fin 128) : sigm v (ix2 g c) = Ideal.div 1 (1 + Ideal.exp (0 - v (ix2 g c))) := by
  pointwise [sigm, all128]

/-- The largest of the three gates' sigmoids, and the mixing by what is left of them. -/
theorem pooledK_at (g : Fin 256) (c : Fin 128) : pooledK I (ix2 g c)
    = Ideal.div (Ideal.exp (sigM I (ix2 g c) - max (max (sigM I (ix2 g c)) (sigm (gateX I) (ix2 g c))) (sigm (gateS I) (ix2 g c))) * meanR I (ix2 g c)
        + Ideal.exp (sigm (gateX I) (ix2 g c) - max (max (sigM I (ix2 g c)) (sigm (gateX I) (ix2 g c))) (sigm (gateS I) (ix2 g c))) * maxR I (ix2 g c)
        + Ideal.exp (sigm (gateS I) (ix2 g c) - max (max (sigM I (ix2 g c)) (sigm (gateX I) (ix2 g c))) (sigm (gateS I) (ix2 g c))) * sumR I (ix2 g c))
      (Ideal.exp (sigM I (ix2 g c) - max (max (sigM I (ix2 g c)) (sigm (gateX I) (ix2 g c))) (sigm (gateS I) (ix2 g c)))
        + Ideal.exp (sigm (gateX I) (ix2 g c) - max (max (sigM I (ix2 g c)) (sigm (gateX I) (ix2 g c))) (sigm (gateS I) (ix2 g c)))
        + Ideal.exp (sigm (gateS I) (ix2 g c) - max (max (sigM I (ix2 g c)) (sigm (gateX I) (ix2 g c))) (sigm (gateS I) (ix2 g c)))) := by
  pointwise [pooledK, expM, expX, expS, top3]

end Cert.Proof.Pool

end
-- ==== Proof.Scat.lean ====
/-
  A masked scatter, element by element, and the least bit of a mask.
-/
module

public import proofs.«01_k».proof.Proof.Base
public import Idealize.ShloMosaic.Lib.Affine

@[expose] public section

noncomputable section

namespace Cert.Proof.Pool

open Cert.KernelIdeal Cert.KernelIdeal.Facts₀ Cert.KernelIdeal.Facts
open Idealize.ShloMosaic

variable {F : FTy → Type} [FloatOps F]

/-- What one lane of a scatter does. -/
def laneW {s : Shape} (idxs : Fin s.rank → IVec S16 32) (h : ∀ a x, (idxs a x).toNat < s.size a) (v : FVec F S16 .f32) (mask : IVec S16 1)
    (g : s.Idx → F .f32) (k : Fin 16) : s.Idx → F .f32 :=
  if mask (Shape.ofLane (d := ![16]) k) = 1 then
    fun j => if (∀ a, (j a).val = (idxs a (Shape.ofLane (d := ![16]) k)).toNat) then v (Shape.ofLane (d := ![16]) k) else g j
  else g

set_option maxHeartbeats 0 in
theorem storeIdx_lanes {s : Shape} (T : s.Idx → F .f32) (idxs : Fin s.rank → IVec S16 32) (v : FVec F S16 .f32) (mask : IVec S16 1)
    (h : ∀ a x, (idxs a x).toNat < s.size a) :
    storeIdx (e := .f32) T idxs v mask false h = (List.finRange 16).foldl (laneW idxs h v mask) T := by
  unfold storeIdx laneW
  congr 1
  funext g k
  simp only [Bool.false_eq_true, if_false, idxAt]

section Lanes

variable {s : Shape} {idxs : Fin s.rank → IVec S16 32} {h : ∀ a x, (idxs a x).toNat < s.size a} {v : FVec F S16 .f32} {mask : IVec S16 1}

theorem lanes_miss (y : s.Idx) : ∀ (l : List (Fin 16)) (g : s.Idx → F .f32),
    (∀ k ∈ l, mask (Shape.ofLane (d := ![16]) k) = 1 → ¬ ∀ a, (y a).val = (idxs a (Shape.ofLane (d := ![16]) k)).toNat) →
    l.foldl (laneW idxs h v mask) g y = g y
  | [], _, _ => rfl
  | k :: l, g, hm => by
    rw [List.foldl_cons, lanes_miss y l _ fun k' hk => hm k' (List.mem_cons_of_mem _ hk)]
    unfold laneW
    split
    · next e => exact if_neg (hm k List.mem_cons_self e)
    · rfl

theorem lanes_hit (y : s.Idx) (k : Fin 16) (hk : mask (Shape.ofLane (d := ![16]) k) = 1)
    (hy : ∀ a, (y a).val = (idxs a (Shape.ofLane (d := ![16]) k)).toNat) : ∀ (l : List (Fin 16)) (g : s.Idx → F .f32), k ∈ l →
    (∀ k' ∈ l, (∀ a, (y a).val = (idxs a (Shape.ofLane (d := ![16]) k')).toNat) → k' = k) →
    l.foldl (laneW idxs h v mask) g y = v (Shape.ofLane (d := ![16]) k)
  | k' :: l, g, hm, hu => by
    rw [List.foldl_cons]
    by_cases hl : k ∈ l
    · exact lanes_hit y k hk hy l _ hl fun k' h' => hu k' (List.mem_cons_of_mem _ h')
    · obtain rfl : k = k' := by
        rcases List.mem_cons.mp hm with e | e
        · exact e
        · exact absurd e hl
      rw [lanes_miss y l _ fun k' h' _ e => hl (hu k' (List.mem_cons_of_mem _ h') e ▸ h')]
      unfold laneW
      rw [if_pos hk]
      exact if_pos hy

end Lanes

theorem ofLane_val (k : Fin 16) : ((Shape.ofLane (d := ![16]) k : S16.Idx) 0).val = k.val := rfl

theorem colIx_nat (j : Fin 8) (l : S16.Idx) : (colIx lanes j l).toNat = 16 * j.val + (l 0).val := by
  have h1 : (l 0).val < 16 := (l 0).isLt
  have h2 := j.isLt
  show (BitVec.ofNat 32 _ + BitVec.ofNat 32 (16 * j.val)).toNat = _
  rw [BitVec.toNat_add, BitVec.toNat_ofNat, BitVec.toNat_ofNat]
  show ((0 * 16 + (l 0).val) % 2 ^ 32 + 16 * j.val % 2 ^ 32) % 2 ^ 32 = _
  omega

/-- The group and the lane of a column. -/
def grp (y : S256x128.Idx) : Fin 8 := ⟨(y 1).val / 16, by have : (y 1).val < 128 := (y 1).isLt; omega⟩
def lan (n : ℕ) : S16.Idx := Shape.ofLane (d := ![16]) ⟨n % 16, Nat.mod_lt _ (by decide)⟩

/-- One group of a flush. -/
theorem scat_grp (T : S256x128.Idx → F .f32) (w : BitVec 32) (hw : w.toNat < 256) (j : Fin 8) (v : FVec F S16 .f32) (b : BitVec 1) (y : S256x128.Idx) :
    scat T ![fun _ => w, colIx lanes j] v (fun _ => b) y
      = if b = 1 ∧ (y 0).val = w.toNat ∧ grp y = j then v (lan (y 1).val) else T y := by
  have hin : ∀ a z, ((![fun _ => w, colIx lanes j] : Fin 2 → IVec S16 32) a z).toNat < S256x128.size a := by
    intro a z
    match a with
    | 0 => exact hw
    | 1 =>
      have h1 : (z 0).val < 16 := (z 0).isLt
      have h2 := j.isLt
      show (colIx lanes j z).toNat < 128
      rw [colIx_nat]; omega
  have hy : (y 1).val < 128 := (y 1).isLt
  unfold scat
  rw [dif_pos hin, storeIdx_lanes]
  split
  · next hc =>
    obtain ⟨hb, h0, hg⟩ := hc
    have hg' : (y 1).val / 16 = j.val := congrArg Fin.val hg
    refine lanes_hit y ⟨(y 1).val % 16, Nat.mod_lt _ (by decide)⟩ hb ?_ _ _ (List.mem_finRange _) ?_
    · intro a
      match a with
      | 0 => exact h0
      | 1 => show (y 1).val = (colIx lanes j _).toNat; rw [colIx_nat, ofLane_val]; show _ = _ + (y 1).val % 16; omega
    · intro k _ hk
      have := hk 1
      replace this : (y 1).val = (colIx lanes j (Shape.ofLane (d := ![16]) k)).toNat := this
      rw [colIx_nat, ofLane_val] at this
      apply Fin.ext; show k.val = (y 1).val % 16; have := k.isLt; omega
  · next hc =>
    refine lanes_miss y _ _ fun k _ hb hk => hc ⟨hb, hk 0, ?_⟩
    have := hk 1
    replace this : (y 1).val = (colIx lanes j (Shape.ofLane (d := ![16]) k)).toNat := this
    rw [colIx_nat, ofLane_val] at this
    apply Fin.ext; show (y 1).val / 16 = j.val; have := k.isLt; omega

/-- The groups of a flush, one after the other. -/
theorem scat_grps (w : BitVec 32) (hw : w.toNat < 256) (v : Fin 8 → FVec F S16 .f32) (b : BitVec 1) (y : S256x128.Idx) :
    ∀ (l : List (Fin 8)) (T : S256x128.Idx → F .f32),
      l.foldl (fun T j => scat T ![fun _ => w, colIx lanes j] (v j) (fun _ => b)) T y
        = if b = 1 ∧ (y 0).val = w.toNat ∧ grp y ∈ l then v (grp y) (lan (y 1).val) else T y
  | [], T => by simp
  | j :: l, T => by
    rw [List.foldl_cons, scat_grps w hw v b y l, scat_grp T w hw j]
    by_cases h1 : b = 1 ∧ (y 0).val = w.toNat
    · by_cases h2 : grp y ∈ l
      · rw [if_pos ⟨h1.1, h1.2, h2⟩, if_pos ⟨h1.1, h1.2, List.mem_cons_of_mem _ h2⟩]
      · rw [if_neg fun h => h2 h.2.2]
        by_cases h3 : grp y = j
        · rw [if_pos ⟨h1.1, h1.2, h3⟩, if_pos ⟨h1.1, h1.2, List.mem_cons.mpr (.inl h3)⟩, h3]
        · rw [if_neg fun h => h3 h.2.2, if_neg fun h => (List.mem_cons.mp h.2.2).elim h3 h2]
    · rw [if_neg fun h => h1 ⟨h.1, h.2.1⟩, if_neg fun h => h1 ⟨h.1, h.2.1⟩, if_neg fun h => h1 ⟨h.1, h.2.1⟩]

/-- The counts' store. -/
theorem scat_cnt (T : S256x16.Idx → F .f32) (w : BitVec 32) (hw : w.toNat < 256) (v : F .f32) (b : BitVec 1) (y : S256x16.Idx) :
    scat T ![fun _ => w, lanes] (broadcast S16 v) (fun _ => b) y = if b = 1 ∧ (y 0).val = w.toNat then v else T y := by
  have hl : ∀ z : S16.Idx, (lanes z).toNat = (z 0).val := by
    intro z
    have h1 : (z 0).val < 16 := (z 0).isLt
    show (BitVec.ofNat 32 _).toNat = _
    rw [BitVec.toNat_ofNat]
    show (0 * 16 + (z 0).val) % 2 ^ 32 = _
    omega
  have hin : ∀ a z, ((![fun _ => w, lanes] : Fin 2 → IVec S16 32) a z).toNat < S256x16.size a := by
    intro a z
    match a with
    | 0 => exact hw
    | 1 =>
      have h1 : (z 0).val < 16 := (z 0).isLt
      show (lanes z).toNat < 16
      rw [hl]; omega
  have hy : (y 1).val < 16 := (y 1).isLt
  unfold scat
  rw [dif_pos hin, storeIdx_lanes]
  split
  · next hc =>
    refine lanes_hit y ⟨(y 1).val, hy⟩ hc.1 ?_ _ _ (List.mem_finRange _) ?_
    · intro a
      match a with
      | 0 => exact hc.2
      | 1 => show (y 1).val = (lanes _).toNat; rw [hl, ofLane_val]
    · intro k _ hk
      have := hk 1
      replace this : (y 1).val = (lanes (Shape.ofLane (d := ![16]) k)).toNat := this
      rw [hl, ofLane_val] at this
      exact Fin.ext this.symm
  · next hc => exact lanes_miss y _ _ fun k _ hb hk => hc ⟨hb, hk 0⟩

/-! ## The least bit -/

abbrev flipB (b : BitVec 1) : BitVec 32 := IntOp.xori (b.setWidth 32) 2147483648#32

theorem step_flip (a b : BitVec 1) : ScanKind.min.step (flipB a) (flipB b) = flipB (IntOp.andi a b) := by
  revert a b; decide

theorem flip_back : ∀ b : BitVec 1, IntOp.xori (flipB b) 2147483648#32 = b.setWidth 32 := by decide

theorem fold_flip (e : Fin 16 → BitVec 1) : ∀ (l : List (Fin 16)) (a : BitVec 1),
    l.foldl (fun r k => ScanKind.min.step r (flipB (e k))) (flipB a) = flipB (l.foldl (fun r k => IntOp.andi r (e k)) a)
  | [], _ => rfl
  | k :: l, a => by rw [List.foldl_cons, List.foldl_cons, step_flip, fold_flip e l]

theorem minBit_eq (e : IVec S16 1) :
    minBit e = (((List.finRange 16).filter fun k => decide (0 < k.val ∧ k.val ≤ 15)).foldl (fun r k => IntOp.andi r (e (Shape.ofLane (d := ![16]) k)))
      (e (Shape.ofLane (d := ![16]) (0 : Fin 16)))).setWidth 32 := by
  have h := fold_flip (fun k => e (Shape.ofLane (d := ![16]) k)) ((List.finRange 16).filter fun k => decide (0 < k.val ∧ k.val ≤ 15)) (e (Shape.ofLane (d := ![16]) (0 : Fin 16)))
  have : minBit e = IntOp.xori (((List.finRange 16).filter fun k => decide (0 < k.val ∧ k.val ≤ 15)).foldl (fun r k => ScanKind.min.step r (flipB (e (Shape.ofLane (d := ![16]) k)))) (flipB (e (Shape.ofLane (d := ![16]) (0 : Fin 16))))) 2147483648#32 := rfl
  refine this.trans ((congrArg (IntOp.xori · 2147483648#32) h).trans ?_)
  exact flip_back _

theorem fold_and_one (e : Fin 16 → BitVec 1) : ∀ (l : List (Fin 16)) (a : BitVec 1),
    l.foldl (fun r k => IntOp.andi r (e k)) a = 1#1 → a = 1#1 ∧ ∀ k ∈ l, e k = 1#1
  | [], a, h => ⟨h, fun _ hk => nomatch hk⟩
  | k :: l, a, h => by
    obtain ⟨h1, h2⟩ := fold_and_one e l _ h
    obtain ⟨h3, h4⟩ := IntOp.andi_eq_one.mp h1
    exact ⟨h3, fun k' hk => (List.mem_cons.mp hk).elim (fun e' => e' ▸ h4) (h2 k')⟩

theorem minBit_const (b : BitVec 1) : minBit (fun _ => b) = b.setWidth 32 := by
  revert b; decide +kernel

theorem cond2_all {e : IVec S16 1} (h : k0_cond2 (minBit e) = 1#1) (l : S16.Idx) : e l = 1#1 := by
  have h1 : ∀ v : BitVec 1, k0_cond2 (v.setWidth 32) = 1#1 → v = 1#1 := by decide
  rw [minBit_eq] at h
  obtain ⟨h3, h4⟩ := fold_and_one _ _ _ (h1 _ h)
  have hl : l = Shape.ofLane (d := ![16]) (l 0) := by funext a; match a with | 0 => rfl
  rw [hl]
  by_cases h0 : (l 0).val = 0
  · rw [show l 0 = (0 : Fin 16) from Fin.ext h0]; exact h3
  · have : (l 0).val < 16 := (l 0).isLt
    exact h4 (l 0) (List.mem_filter.mpr ⟨List.mem_finRange _, by simp only [decide_eq_true_eq]; omega⟩)

end Cert.Proof.Pool

end
-- ==== Proof.Rows.lean ====
/-
  What a tile's loop holds after any number of its rows, over the extended reals: the sums, maxima and counts of the segment in
  hand, and in the tables those of the segments before it.
-/
module

public import proofs.«01_k».proof.Proof.Scat
public import Idealize.ShloMosaic.PureOps.Ideal
public import Idealize.ShloMosaic.Lib.WordCmp
public import Mathlib.Data.EReal.Operations

@[expose] public section

noncomputable section

namespace Cert.Proof.Pool

open Cert.KernelIdeal Cert.KernelIdeal.Facts₀ Cert.KernelIdeal.Facts
open Idealize.ShloMosaic

variable (x : S100000x128.Idx → Ideal .f32) (ids : S100000.Idx → BitVec 32)

/-- Row `r`'s segment. -/
def gid (r : ℕ) : ℕ := (idAt ids r).toNat

/-- The sum of column `c` of the rows of segment `g` among the `n` rows from row `b`; their maximum; their number. -/
def segS (b n g c : ℕ) : EReal := ∑ k ∈ Finset.range n, if gid ids (b + k) = g then (xAt x (b + k) c : EReal) else 0
def segM (b n g c : ℕ) : EReal := (Finset.range n).sup fun k => if gid ids (b + k) = g then (xAt x (b + k) c : EReal) else ⊥
def segN (b n g : ℕ) : EReal := ∑ k ∈ Finset.range n, if gid ids (b + k) = g then (1 : EReal) else 0

theorem segS_succ (b n g c : ℕ) : segS x ids b (n + 1) g c = segS x ids b n g c + if gid ids (b + n) = g then (xAt x (b + n) c : EReal) else 0 :=
  Finset.sum_range_succ _ _
theorem segN_succ (b n g : ℕ) : segN ids b (n + 1) g = segN ids b n g + if gid ids (b + n) = g then (1 : EReal) else 0 :=
  Finset.sum_range_succ _ _
theorem segM_succ (b n g c : ℕ) : segM x ids b (n + 1) g c = max (segM x ids b n g c) (if gid ids (b + n) = g then (xAt x (b + n) c : EReal) else ⊥) := by
  unfold segM
  rw [Finset.range_add_one, Finset.sup_insert, sup_comm]

theorem segS_none {b n g : ℕ} (h : ∀ k < n, gid ids (b + k) ≠ g) (c : ℕ) : segS x ids b n g c = 0 :=
  Finset.sum_eq_zero fun k hk => if_neg (h k (Finset.mem_range.mp hk))
theorem segN_none {b n g : ℕ} (h : ∀ k < n, gid ids (b + k) ≠ g) : segN ids b n g = 0 :=
  Finset.sum_eq_zero fun k hk => if_neg (h k (Finset.mem_range.mp hk))
theorem segM_none {b n g : ℕ} (h : ∀ k < n, gid ids (b + k) ≠ g) (c : ℕ) : segM x ids b n g c = ⊥ := by
  unfold segM
  rw [Finset.sup_eq_bot_iff]
  exact fun k hk => if_neg (h k (Finset.mem_range.mp hk))

/-- What holds after `n` rows from row `b`, the segment in hand being `R`. -/
structure Inv (b n : ℕ) (R : BitVec 32) (st : St Ideal) : Prop where
  run : st.acc.run = fun _ => R
  last : (n = 0 ∧ R = 4294967295#32) ∨ ∃ k, n = k + 1 ∧ R = idAt ids (b + k)
  s : ∀ j l, st.acc.s j l = segS x ids b n R.toNat (16 * j.val + (l 0).val)
  m : ∀ j l, st.acc.m j l = segM x ids b n R.toNat (16 * j.val + (l 0).val)
  c : st.acc.cnt = segN ids b n R.toNat
  none : ∀ y : S256x16.Idx, (y 0).val ≠ R.toNat → (∀ k < n, gid ids (b + k) ≠ (y 0).val) → st.cntT y = (0 : EReal)
  cnts : ∀ y : S256x16.Idx, (y 0).val ≠ R.toNat → (∃ k < n, gid ids (b + k) = (y 0).val) → st.cntT y = segN ids b n (y 0).val
  sums : ∀ y : S256x128.Idx, (y 0).val ≠ R.toNat → (∃ k < n, gid ids (b + k) = (y 0).val) → st.sumT y = segS x ids b n (y 0).val (y 1).val
  maxs : ∀ y : S256x128.Idx, (y 0).val ≠ R.toNat → (∃ k < n, gid ids (b + k) = (y 0).val) → st.maxT y = segM x ids b n (y 0).val (y 1).val

theorem ofBits_one : (Scalar.ofBits .f32 0x3F800000#32 : Ideal .f32) = (1 : EReal) := by
  show Ideal.ofBits .f32 _ = _
  simp [Ideal.ofBits, Ideal.ieee, -EReal.coe_mul]; norm_num
theorem ofBits_zero : (Scalar.ofBits .f32 0x00000000#32 : Ideal .f32) = (0 : EReal) := by
  show Ideal.ofBits .f32 _ = _
  simp [Ideal.ofBits, Ideal.ieee, -EReal.coe_mul]
theorem ofBits_ninf : (Scalar.ofBits .f32 0xFF800000#32 : Ideal .f32) = (⊥ : EReal) := by
  show Ideal.ofBits .f32 _ = _
  simp [Ideal.ofBits, Ideal.ieee, -EReal.coe_mul]

theorem inv_zero (b : ℕ) (t9 t10 : S256x128.Idx → Ideal .f32) : Inv x ids b 0 4294967295#32 (st₀ t9 t10) where
  run := rfl
  last := .inl ⟨rfl, rfl⟩
  s _ _ := ofBits_zero
  m _ _ := ofBits_ninf
  c := ofBits_zero
  none _ _ _ := ofBits_zero
  cnts _ _ h := by obtain ⟨k, hk, _⟩ := h; omega
  sums _ _ h := by obtain ⟨k, hk, _⟩ := h; omega
  maxs _ _ h := by obtain ⟨k, hk, _⟩ := h; omega

variable {x ids}

/-- A further row of the segment in hand. -/
theorem Inv.same {b n : ℕ} {R : BitVec 32} {st st' : St Ideal} (h : Inv x ids b n R st) (hR : idAt ids (b + n) = R)
    (hr : st'.acc.run = fun _ => R) (hs : ∀ j l, st'.acc.s j l = (st.acc.s j l + xAt x (b + n) (16 * j.val + (l 0).val) : EReal))
    (hm : ∀ j l, st'.acc.m j l = (max (st.acc.m j l) (xAt x (b + n) (16 * j.val + (l 0).val)) : EReal)) (hc : st'.acc.cnt = (st.acc.cnt + 1 : EReal))
    (h9 : st'.sumT = st.sumT) (h10 : st'.maxT = st.maxT) (h11 : st'.cntT = st.cntT) : Inv x ids b (n + 1) R st' := by
  have hg : gid ids (b + n) = R.toNat := congrArg BitVec.toNat hR
  have hne : ∀ {g : ℕ}, g ≠ R.toNat → gid ids (b + n) ≠ g := fun h' e => h' (e.symm.trans hg)
  have hex : ∀ {g : ℕ}, g ≠ R.toNat → (∃ k < n + 1, gid ids (b + k) = g) → ∃ k < n, gid ids (b + k) = g := by
    rintro g h' ⟨k, hk, e⟩
    rcases Nat.lt_succ_iff_lt_or_eq.mp hk with h1 | rfl
    · exact ⟨k, h1, e⟩
    · exact absurd e (hne h')
  exact {
    run := hr
    last := .inr ⟨n, rfl, hR.symm⟩
    s := fun j l => by rw [hs, h.s, segS_succ, if_pos hg]
    m := fun j l => by rw [hm, h.m, segM_succ, if_pos hg]
    c := by rw [hc, h.c, segN_succ, if_pos hg]
    none := fun y hy hk => by rw [h11]; exact h.none y hy fun k hk' => hk k (by omega)
    cnts := fun y hy hk => by rw [h11, h.cnts y hy (hex hy hk), segN_succ, if_neg (hne hy), add_zero]
    sums := fun y hy hk => by rw [h9, h.sums y hy (hex hy hk), segS_succ, if_neg (hne hy), add_zero]
    maxs := fun y hy hk => by rw [h10, h.maxs y hy (hex hy hk), segM_succ, if_neg (hne hy), max_bot_right] }

/-- The first row of another segment. -/
theorem Inv.next {b n : ℕ} {R : BitVec 32} {st st' : St Ideal} (h : Inv x ids b n R st) (hR : idAt ids (b + n) ≠ R)
    (ho : ∀ k < n, gid ids (b + k) ≠ gid ids (b + n))
    (hr : st'.acc.run = fun _ => idAt ids (b + n)) (hs : ∀ j l, st'.acc.s j l = (xAt x (b + n) (16 * j.val + (l 0).val) : EReal))
    (hm : ∀ j l, st'.acc.m j l = (xAt x (b + n) (16 * j.val + (l 0).val) : EReal)) (hc : st'.acc.cnt = (1 : EReal))
    (h9 : ∀ y, st'.sumT y = if n ≠ 0 ∧ (y 0).val = R.toNat then (segS x ids b n (y 0).val (y 1).val : EReal) else st.sumT y)
    (h10 : ∀ y, st'.maxT y = if n ≠ 0 ∧ (y 0).val = R.toNat then (segM x ids b n (y 0).val (y 1).val : EReal) else st.maxT y)
    (h11 : ∀ y, st'.cntT y = if n ≠ 0 ∧ (y 0).val = R.toNat then (segN ids b n (y 0).val : EReal) else st.cntT y) :
    Inv x ids b (n + 1) (idAt ids (b + n)) st' := by
  have hgg : gid ids (b + n) = (idAt ids (b + n)).toNat := rfl
  have ho' : ∀ k < n, gid ids (b + k) ≠ (idAt ids (b + n)).toNat := ho
  have hne : ∀ {g : ℕ}, g ≠ (idAt ids (b + n)).toNat → gid ids (b + n) ≠ g := fun h' e => h' e.symm
  have hex : ∀ {g : ℕ}, g ≠ (idAt ids (b + n)).toNat → (∃ k < n + 1, gid ids (b + k) = g) → ∃ k < n, gid ids (b + k) = g := by
    rintro g h' ⟨k, hk, e⟩
    rcases Nat.lt_succ_iff_lt_or_eq.mp hk with h1 | rfl
    · exact ⟨k, h1, e⟩
    · exact absurd e (hne h')
  have hin : ∀ {g : ℕ}, g = R.toNat → n ≠ 0 → ∃ k < n, gid ids (b + k) = g := by
    rintro g rfl h0
    rcases h.last with ⟨h1, _⟩ | ⟨k, rfl, rfl⟩
    · exact absurd h1 h0
    · exact ⟨k, by omega, rfl⟩
  exact {
    run := hr
    last := .inr ⟨n, rfl, rfl⟩
    s := fun j l => by rw [hs, segS_succ, if_pos hgg, segS_none x ids ho', zero_add]
    m := fun j l => by rw [hm, segM_succ, if_pos hgg, segM_none x ids ho', max_bot_left]
    c := by rw [hc, segN_succ, if_pos hgg, segN_none ids ho', zero_add]
    none := fun y hy hk => by
      rw [h11]
      split
      · next e => obtain ⟨k, hk1, hk2⟩ := hin e.2 e.1; exact absurd hk2 (hk k (by omega))
      · next e =>
        by_cases hyR : (y 0).val = R.toNat
        · have hn : n = 0 := by by_contra h0; exact e ⟨h0, hyR⟩
          rcases h.last with ⟨_, h1⟩ | ⟨k, h1, _⟩
          · rw [h1] at hyR
            have : (y 0).val < 256 := (y 0).isLt
            exact absurd hyR (by rw [show (4294967295#32).toNat = 4294967295 from rfl]; omega)
          · omega
        · exact h.none y hyR fun k hk' => hk k (by omega)
    cnts := fun y hy hk => by
      rw [h11, segN_succ, if_neg (hne hy), add_zero]
      have := hex hy hk
      split
      · rfl
      · next e => exact h.cnts y (fun e' => e ⟨by rintro rfl; obtain ⟨k, hk, _⟩ := this; omega, e'⟩) this
    sums := fun y hy hk => by
      rw [h9, segS_succ, if_neg (hne hy), add_zero]
      have := hex hy hk
      split
      · rfl
      · next e => exact h.sums y (fun e' => e ⟨by rintro rfl; obtain ⟨k, hk, _⟩ := this; omega, e'⟩) this
    maxs := fun y hy hk => by
      rw [h10, segM_succ, if_neg (hne hy), max_bot_right]
      have := hex hy hk
      split
      · rfl
      · next e => exact h.maxs y (fun e' => e ⟨by rintro rfl; obtain ⟨k, hk, _⟩ := this; omega, e'⟩) this }

/-! ## The steps -/

theorem sel_eq (p q : BitVec 32) : IntOp.cmpi .eq p q = if p = q then 1#1 else 0#1 := by
  by_cases h : p = q
  · subst h; rw [if_pos rfl]; simp [IntOp.cmpi]
  · rw [if_neg h]
    show BitVec.ofBool (p == q) = 0#1
    rw [beq_eq_false_iff_ne.mpr h]; rfl

theorem at_eq {R : BitVec 32} (h : R.toNat < 256) : IntOp.maxsi R 0#32 = R := Scalar.maxsi_zero_of_nonneg (by omega)
theorem at_lt {R : BitVec 32} (h : R = 4294967295#32 ∨ R.toNat < 256) : (IntOp.maxsi R 0#32).toNat < 256 := by
  rcases h with rfl | h
  · decide
  · rw [at_eq h]; exact h

theorem mem_grps (j : Fin 8) : j ∈ ([0, 1, 2, 3, 4, 5, 6, 7] : List (Fin 8)) := by revert j; decide

section Flush

variable {R : BitVec 32} {bit : BitVec 1} {a : Acc Ideal} (st : St Ideal) (hr : a.run = fun _ => R) (h1 : R = 4294967295#32 ∨ R.toNat < 256)
  (hb : bit = 1 → R.toNat < 256)
include hr h1 hb

/-- The three tables once a run is flushed. -/
theorem flush_sum (y : S256x128.Idx) :
    (flushSt (fun _ => bit) a st).sumT y = if bit = 1 ∧ (y 0).val = R.toNat then a.s (grp y) (lan (y 1).val) else st.sumT y := by
  have e : (flushSt (fun _ => bit) a st).sumT
      = [0, 1, 2, 3, 4, 5, 6, 7].foldl (fun T j => scat T ![fun _ => IntOp.maxsi R 0#32, colIx lanes j] (a.s j) fun _ => bit) st.sumT := by
    unfold flushSt atRow; rw [hr]; rfl
  rw [e, scat_grps _ (at_lt h1)]
  by_cases hbit : bit = 1
  · rw [at_eq (hb hbit)]; simp only [mem_grps, and_true]
  · rw [if_neg fun h => hbit h.1, if_neg fun h => hbit h.1]
theorem flush_max (y : S256x128.Idx) :
    (flushSt (fun _ => bit) a st).maxT y = if bit = 1 ∧ (y 0).val = R.toNat then a.m (grp y) (lan (y 1).val) else st.maxT y := by
  have e : (flushSt (fun _ => bit) a st).maxT
      = [0, 1, 2, 3, 4, 5, 6, 7].foldl (fun T j => scat T ![fun _ => IntOp.maxsi R 0#32, colIx lanes j] (a.m j) fun _ => bit) st.maxT := by
    unfold flushSt atRow; rw [hr]; rfl
  rw [e, scat_grps _ (at_lt h1)]
  by_cases hbit : bit = 1
  · rw [at_eq (hb hbit)]; simp only [mem_grps, and_true]
  · rw [if_neg fun h => hbit h.1, if_neg fun h => hbit h.1]
theorem flush_cnt (y : S256x16.Idx) :
    (flushSt (fun _ => bit) a st).cntT y = if bit = 1 ∧ (y 0).val = R.toNat then a.cnt else st.cntT y := by
  have e : (flushSt (fun _ => bit) a st).cntT = scat st.cntT ![fun _ => IntOp.maxsi R 0#32, lanes] (broadcast S16 a.cnt) fun _ => bit := by
    unfold flushSt atRow; rw [hr]; rfl
  rw [e, scat_cnt _ _ (at_lt h1)]
  by_cases hbit : bit = 1
  · rw [at_eq (hb hbit)]
  · rw [if_neg fun h => hbit h.1, if_neg fun h => hbit h.1]

end Flush

theorem grp_lan (y : S256x128.Idx) : 16 * (grp y).val + ((lan (y 1).val) 0).val = (y 1).val := by
  show 16 * ((y 1).val / 16) + (y 1).val % 16 = _
  omega

section Steps

variable (hids : ∀ i, (ids i).toNat < 256) (hs : ∀ i j, i ≤ j → j < 100000 → gid ids i ≤ gid ids j)

include hids in
theorem Inv.bound {b n : ℕ} {R : BitVec 32} {st : St Ideal} (h : Inv x ids b n R st) :
    (R = 4294967295#32 ∨ R.toNat < 256) ∧ (n ≠ 0 → R.toNat < 256) ∧ (R.toNat < 256 → n ≠ 0) := by
  rcases h.last with ⟨rfl, rfl⟩ | ⟨k, rfl, rfl⟩
  · exact ⟨.inl rfl, fun h => absurd rfl h, fun h => absurd h (by decide)⟩
  · exact ⟨.inr (hids _), fun _ => hids _, fun _ => by omega⟩

theorem Inv.fast {b n : ℕ} {R : BitVec 32} {st : St Ideal} (h : Inv x ids b n R st) (hR : idAt ids (b + n) = R) :
    Inv x ids b (n + 1) R (fastSt (rowV x (b + n)) st) :=
  h.same hR h.run (fun _ _ => rfl) (fun _ _ => rfl) (congrArg (fun t : EReal => st.acc.cnt + t) ofBits_one) rfl rfl rfl

theorem flushM_eq (seg R : BitVec 32) : flushM (fun _ => seg) (fun _ => R) = fun _ => if seg ≠ R ∧ R.toNat < 2 ^ 31 then 1#1 else 0#1 := by
  funext l
  show IntOp.andi (IntOp.xori (IntOp.cmpi .eq seg R) 1#1) (IntOp.cmpi .sge R 0#32) = _
  rw [sel_eq, WordCmp.cmpi_sge_zero]
  by_cases h2 : R.toNat < 2 ^ (32 - 1)
  · rw [decide_eq_true h2]
    by_cases h1 : seg = R
    · rw [if_pos h1, if_neg fun h => h.1 h1]; rfl
    · rw [if_neg h1, if_pos ⟨h1, h2⟩]; rfl
  · rw [decide_eq_false h2]
    by_cases h1 : seg = R
    · rw [if_pos h1, if_neg fun h => h.1 h1]; rfl
    · rw [if_neg h1, if_neg fun h => h2 h.2]; rfl

include hids hs in
theorem Inv.slow {b n : ℕ} {R : BitVec 32} {st : St Ideal} (h : Inv x ids b n R st) (hn : b + n < 100000) :
    Inv x ids b (n + 1) (idAt ids (b + n)) (slowSt (segV ids (b + n)) (rowV x (b + n)) st) := by
  obtain ⟨hb1, hb2, hb3⟩ := h.bound hids
  have hm : flushM (segV ids (b + n)) st.acc.run = fun _ => if idAt ids (b + n) ≠ R ∧ R.toNat < 2 ^ 31 then 1#1 else 0#1 := by
    rw [h.run]; exact flushM_eq _ _
  have hbit : (if idAt ids (b + n) ≠ R ∧ R.toNat < 2 ^ 31 then 1#1 else 0#1) = 1#1 ↔ (n ≠ 0 ∧ idAt ids (b + n) ≠ R) := by
    constructor
    · intro e
      split at e
      · next hh =>
        refine ⟨fun h0 => ?_, hh.1⟩
        rcases hb1 with rfl | h1
        · exact absurd hh.2 (by decide)
        · exact hb3 h1 h0
      · exact absurd e (by decide)
    · rintro ⟨h0, h1⟩
      rw [if_pos ⟨h1, by have := hb2 h0; omega⟩]
  have hlt : (if idAt ids (b + n) ≠ R ∧ R.toNat < 2 ^ 31 then 1#1 else 0#1) = 1#1 → R.toNat < 256 := fun e => hb2 (hbit.mp e).1
  have e9 : ∀ y, (slowSt (segV ids (b + n)) (rowV x (b + n)) st).sumT y
      = if n ≠ 0 ∧ idAt ids (b + n) ≠ R ∧ (y 0).val = R.toNat then (segS x ids b n (y 0).val (y 1).val : EReal) else st.sumT y := by
    intro y
    show (flushSt (flushM (segV ids (b + n)) st.acc.run) st.acc st).sumT y = _
    rw [hm, flush_sum st h.run hb1 hlt, h.s, grp_lan]
    by_cases e : n ≠ 0 ∧ idAt ids (b + n) ≠ R ∧ (y 0).val = R.toNat
    · rw [if_pos e, if_pos ⟨hbit.mpr ⟨e.1, e.2.1⟩, e.2.2⟩, e.2.2]
    · rw [if_neg e, if_neg fun e' => e ⟨(hbit.mp e'.1).1, (hbit.mp e'.1).2, e'.2⟩]
  have e10 : ∀ y, (slowSt (segV ids (b + n)) (rowV x (b + n)) st).maxT y
      = if n ≠ 0 ∧ idAt ids (b + n) ≠ R ∧ (y 0).val = R.toNat then (segM x ids b n (y 0).val (y 1).val : EReal) else st.maxT y := by
    intro y
    show (flushSt (flushM (segV ids (b + n)) st.acc.run) st.acc st).maxT y = _
    rw [hm, flush_max st h.run hb1 hlt, h.m, grp_lan]
    by_cases e : n ≠ 0 ∧ idAt ids (b + n) ≠ R ∧ (y 0).val = R.toNat
    · rw [if_pos e, if_pos ⟨hbit.mpr ⟨e.1, e.2.1⟩, e.2.2⟩, e.2.2]
    · rw [if_neg e, if_neg fun e' => e ⟨(hbit.mp e'.1).1, (hbit.mp e'.1).2, e'.2⟩]
  have e11 : ∀ y, (slowSt (segV ids (b + n)) (rowV x (b + n)) st).cntT y
      = if n ≠ 0 ∧ idAt ids (b + n) ≠ R ∧ (y 0).val = R.toNat then (segN ids b n (y 0).val : EReal) else st.cntT y := by
    intro y
    show (flushSt (flushM (segV ids (b + n)) st.acc.run) st.acc st).cntT y = _
    rw [hm, flush_cnt st h.run hb1 hlt, h.c]
    by_cases e : n ≠ 0 ∧ idAt ids (b + n) ≠ R ∧ (y 0).val = R.toNat
    · rw [if_pos e, if_pos ⟨hbit.mpr ⟨e.1, e.2.1⟩, e.2.2⟩, e.2.2]
    · rw [if_neg e, if_neg fun e' => e ⟨(hbit.mp e'.1).1, (hbit.mp e'.1).2, e'.2⟩]
  have he : cmpi .eq (segV ids (b + n)) st.acc.run = fun _ => if idAt ids (b + n) = R then 1#1 else 0#1 := by
    rw [h.run]; funext l; exact sel_eq _ _
  have hS : ∀ j l, (slowSt (segV ids (b + n)) (rowV x (b + n)) st).acc.s j l
      = if idAt ids (b + n) = R then (st.acc.s j l + xAt x (b + n) (16 * j.val + (l 0).val) : EReal) else xAt x (b + n) (16 * j.val + (l 0).val) := by
    intro j l
    show (select (cmpi .eq (segV ids (b + n)) st.acc.run) (addf (st.acc.s j) (rowV x (b + n) j)) (rowV x (b + n) j)) l = _
    rw [he]; unfold select
    by_cases e : idAt ids (b + n) = R
    · rw [if_pos e, if_pos e]; rfl
    · rw [if_neg e, if_neg e]; rfl
  have hM : ∀ j l, (slowSt (segV ids (b + n)) (rowV x (b + n)) st).acc.m j l
      = if idAt ids (b + n) = R then (max (st.acc.m j l) (xAt x (b + n) (16 * j.val + (l 0).val)) : EReal) else xAt x (b + n) (16 * j.val + (l 0).val) := by
    intro j l
    show (select (cmpi .eq (segV ids (b + n)) st.acc.run) (maximumf (st.acc.m j) (rowV x (b + n) j)) (rowV x (b + n) j)) l = _
    rw [he]; unfold select
    by_cases e : idAt ids (b + n) = R
    · rw [if_pos e, if_pos e]; rfl
    · rw [if_neg e, if_neg e]; rfl
  have hC : (slowSt (segV ids (b + n)) (rowV x (b + n)) st).acc.cnt = if idAt ids (b + n) = R then (st.acc.cnt + 1 : EReal) else 1 := by
    show (st.acc.cnt * (((minBit (cmpi .eq (segV ids (b + n)) st.acc.run)).toInt : ℝ) : EReal) + Scalar.ofBits (F := Ideal) .f32 0x3F800000#32 : EReal) = _
    rw [he, minBit_const, ofBits_one]
    by_cases e : idAt ids (b + n) = R
    · rw [if_pos e, if_pos e]; simp
    · rw [if_neg e, if_neg e]; simp
  by_cases e : idAt ids (b + n) = R
  · rw [e]
    refine h.same e (by show segV ids (b + n) = _; rw [← e]; rfl) (fun j l => (hS j l).trans (if_pos e)) (fun j l => (hM j l).trans (if_pos e)) (hC.trans (if_pos e)) ?_ ?_ ?_
    · funext y; rw [e9, if_neg fun hh => hh.2.1 e]
    · funext y; rw [e10, if_neg fun hh => hh.2.1 e]
    · funext y; rw [e11, if_neg fun hh => hh.2.1 e]
  · refine h.next e ?_ rfl (fun j l => (hS j l).trans (if_neg e)) (fun j l => (hM j l).trans (if_neg e)) (hC.trans (if_neg e)) ?_ ?_ ?_
    · intro k hk e'
      rcases h.last with ⟨h1, _⟩ | ⟨k', rfl, hk'⟩
      · omega
      · have h1 := hs (b + k) (b + k') (by omega) (by omega)
        have h2 := hs (b + k') (b + (k' + 1)) (by omega) hn
        exact e (BitVec.eq_of_toNat_eq (by rw [hk']; exact Nat.le_antisymm (by change gid ids (b + (k' + 1)) ≤ gid ids (b + k'); rw [← e']; exact h1) h2))
    · intro y; rw [e9]; simp only [ne_eq, e, not_false_eq_true, true_and]
    · intro y; rw [e10]; simp only [ne_eq, e, not_false_eq_true, true_and]
    · intro y; rw [e11]; simp only [ne_eq, e, not_false_eq_true, true_and]

theorem fold16 {σ : Type} (P : ℕ → σ → Prop) (f : ℕ → σ → σ) (st : σ) (h0 : P 0 st) (h : ∀ k < 16, ∀ st, P k st → P (k + 1) (f k st)) :
    P 16 ((List.finRange 16).foldl (fun st r => f r.val st) st) := by
  have e : ∀ n (hn : n ≤ 16), P n (((List.finRange 16).take n).foldl (fun st r => f r.val st) st) := by
    intro n
    induction n with
    | zero => intro _; exact h0
    | succ n ih =>
      intro hn
      rw [List.take_succ_eq_append_getElem (by simp; omega), List.foldl_append]
      have := h n (by omega) _ (ih (by omega))
      simpa using this
  have := e 16 le_rfl
  rwa [List.take_of_length_le (by simp)] at this

include hids hs in
/-- Sixteen rows. -/
theorem Inv.chunk {b n : ℕ} {R : BitVec 32} {st : St Ideal} (h : Inv x ids b n R st) (hn : b + n + 16 ≤ 100000) :
    ∃ R', Inv x ids b (n + 16) R' (chunkSt x ids (b + n) st) := by
  unfold chunkSt
  split
  · next hc =>
    refine ⟨R, fold16 (fun k st => Inv x ids b (n + k) R st) (fun k st => fastSt (rowV x (b + n + k)) st) st h fun k hk st' h' => ?_⟩
    have h1 := cond2_all hc (lan k)
    have h2 : IntOp.cmpi .eq (idAt ids (b + n + k)) R = 1#1 := by
      have : IntOp.cmpi .eq (idAt ids (b + n + k % 16)) (st.acc.run (lan k)) = 1#1 := h1
      rwa [Nat.mod_eq_of_lt hk, h.run] at this
    rw [sel_eq] at h2
    have h3 : idAt ids (b + (n + k)) = R := by
      by_contra hne
      rw [if_neg (by rwa [← Nat.add_assoc] at hne)] at h2
      exact absurd h2 (by decide)
    have := h'.fast h3
    rwa [← Nat.add_assoc b n k] at this
  · next hc =>
    refine fold16 (fun k st => ∃ R', Inv x ids b (n + k) R' st) (fun k st => slowSt (segV ids (b + n + k)) (rowV x (b + n + k)) st) st ⟨R, h⟩ fun k hk st' h' => ?_
    obtain ⟨R', h'⟩ := h'
    have := h'.slow hids hs (by omega)
    rw [← Nat.add_assoc b n k] at this
    exact ⟨_, this⟩

variable (i : grid0.Coords)

theorem rows_lt : 3136 * wid i + 16 * nch i ≤ 100000 := by
  have h1 : (i 1).val < 16 := (i 1).isLt
  have h0 : (i 0).val < 2 := (i 0).isLt
  unfold nch wid
  split <;> omega

include hids hs in
theorem inv_stC (t9 t10 : S256x128.Idx → Ideal .f32) : ∀ k ≤ nch i, ∃ R, Inv x ids (3136 * wid i) (16 * k) R (stC x ids i t9 t10 k)
  | 0, _ => ⟨_, inv_zero x ids _ t9 t10⟩
  | k + 1, hk => by
    obtain ⟨R, h⟩ := inv_stC t9 t10 k (by omega)
    have := rows_lt i
    exact h.chunk hids hs (by omega)

include hids hs in
/-- What a tile leaves in its tables: of the segments that it met their count, sum and maximum, of the others a count of zero. -/
theorem stEnd_read (t9 t10 : S256x128.Idx → Ideal .f32) :
    (∀ y : S256x16.Idx, (stEnd x ids i t9 t10).cntT y = (segN ids (3136 * wid i) (16 * nch i) (y 0).val : EReal))
    ∧ (∀ y : S256x128.Idx, (∃ k < 16 * nch i, gid ids (3136 * wid i + k) = (y 0).val) →
      (stEnd x ids i t9 t10).sumT y = (segS x ids (3136 * wid i) (16 * nch i) (y 0).val (y 1).val : EReal))
    ∧ (∀ y : S256x128.Idx, (∃ k < 16 * nch i, gid ids (3136 * wid i + k) = (y 0).val) →
      (stEnd x ids i t9 t10).maxT y = (segM x ids (3136 * wid i) (16 * nch i) (y 0).val (y 1).val : EReal)) := by
  obtain ⟨R, h⟩ := inv_stC hids hs i t9 t10 (nch i) le_rfl
  have hn : 16 * nch i ≠ 0 := by unfold nch; split <;> omega
  obtain ⟨hb1, hb2, _⟩ := h.bound hids
  have hR := hb2 hn
  have hm : endM (stC x ids i t9 t10 (nch i)).acc.run = fun _ => 1#1 := by
    rw [h.run]; funext l
    show IntOp.cmpi .sge R 0#32 = 1#1
    rw [WordCmp.cmpi_sge_zero, decide_eq_true (by omega)]; rfl
  refine ⟨fun y => ?_, fun y hy => ?_, fun y hy => ?_⟩
  · unfold stEnd
    rw [hm, flush_cnt _ h.run hb1 fun _ => hR]
    split
    · next e => rw [e.2]; exact h.c
    · next e =>
      have e' : (y 0).val ≠ R.toNat := fun e' => e ⟨rfl, e'⟩
      by_cases hk : ∃ k < 16 * nch i, gid ids (3136 * wid i + k) = (y 0).val
      · exact h.cnts y e' hk
      · push Not at hk
        rw [segN_none ids hk]; exact h.none y e' hk
  · unfold stEnd
    rw [hm, flush_sum _ h.run hb1 fun _ => hR]
    split
    · next e => rw [h.s, grp_lan, e.2]
    · next e => exact h.sums y (fun e' => e ⟨rfl, e'⟩) hy
  · unfold stEnd
    rw [hm, flush_max _ h.run hb1 fun _ => hR]
    split
    · next e => rw [h.m, grp_lan, e.2]
    · next e => exact h.maxs y (fun e' => e ⟨rfl, e'⟩) hy

end Steps

end Cert.Proof.Pool

end
-- ==== Proof.Parts.lean ====
/-
  The 32 parts put together: the tail's accumulators hold the pools over all the rows.
-/
module

public import proofs.«01_k».proof.Proof.Forms
public import proofs.«01_k».proof.Proof.Rows

@[expose] public section

noncomputable section

namespace Cert.Proof.Pool

open Cert.KernelIdeal Cert.KernelIdeal.Facts₀ Cert.KernelIdeal.Facts
open Idealize.ShloMosaic

/-- Where part `p` starts, for `p` up to 32, and how many rows it has. -/
def ends (p : ℕ) : ℕ := min (3136 * p) 100000
def len (p : ℕ) : ℕ := 16 * (if p = 31 then 174 else 196)

theorem ends_add {p : ℕ} (hp : p < 32) : ends p = 3136 * p ∧ ends (p + 1) = 3136 * p + len p := by
  unfold ends len
  split <;> omega

variable (x : FVec Ideal S100000x128 .f32) (ids : IVec S100000 32)

theorem segS_join (n k g c : ℕ) : segS x ids 0 (n + k) g c = segS x ids 0 n g c + segS x ids n k g c := by
  unfold segS
  rw [Finset.sum_range_add]
  simp only [Nat.zero_add]
theorem segN_join (n k g : ℕ) : segN ids 0 (n + k) g = segN ids 0 n g + segN ids n k g := by
  unfold segN
  rw [Finset.sum_range_add]
  simp only [Nat.zero_add]
theorem segM_join (n k g c : ℕ) : segM x ids 0 (n + k) g c = max (segM x ids 0 n g c) (segM x ids n k g c) := by
  unfold segM
  simp only [Nat.zero_add]
  refine le_antisymm (Finset.sup_le fun i hi => ?_) (max_le (Finset.sup_le fun i hi => ?_) (Finset.sup_le fun i hi => ?_))
  · have hi := Finset.mem_range.1 hi
    by_cases h : i < n
    · exact le_max_of_le_left (Finset.le_sup (f := fun k => if gid ids k = g then (xAt x k c : EReal) else ⊥) (Finset.mem_range.2 h))
    · have := Finset.le_sup (f := fun k => if gid ids (n + k) = g then (xAt x (n + k) c : EReal) else ⊥) (Finset.mem_range.2 (show i - n < k by omega))
      simp only [Nat.add_sub_of_le (Nat.le_of_not_lt h)] at this
      exact le_max_of_le_right this
  · have hi := Finset.mem_range.1 hi
    exact Finset.le_sup (f := fun k => if gid ids k = g then (xAt x k c : EReal) else ⊥) (Finset.mem_range.2 (show i < n + k by omega))
  · have hi := Finset.mem_range.1 hi
    exact Finset.le_sup (f := fun k => if gid ids k = g then (xAt x k c : EReal) else ⊥) (Finset.mem_range.2 (show n + i < n + k by omega))

theorem segN_pos {b n g : ℕ} (h : ∃ k < n, gid ids (b + k) = g) : 0 < segN ids b n g := by
  obtain ⟨k, hk, e⟩ := h
  have h1 := Finset.single_le_sum (f := fun k => if gid ids (b + k) = g then (1 : EReal) else 0) (s := Finset.range n)
    (fun i _ => by split <;> simp) (Finset.mem_range.2 hk)
  rw [if_pos e] at h1
  exact lt_of_lt_of_le zero_lt_one h1

theorem segN_real (b n g : ℕ) : ∃ r : ℝ, segN ids b n g = (r : EReal) := by
  induction n with
  | zero => exact ⟨0, by simp [segN]⟩
  | succ n ih =>
    obtain ⟨r, hr⟩ := ih
    rw [segN_succ, hr]
    split
    · exact ⟨r + 1, by rw [EReal.coe_add, EReal.coe_one]⟩
    · exact ⟨r, add_zero _⟩

/-- Sixteen times a count, over sixteen, is the count. -/
theorem lanes_div (b n g : ℕ) : (∑ _l : Fin 16, segN ids b n g) * ((1 / 16 : ℝ) : EReal) = segN ids b n g := by
  obtain ⟨r, hr⟩ := segN_real ids b n g
  rw [hr, Finset.sum_const, Finset.card_univ, Fintype.card_fin, ← EReal.coe_nsmul, ← EReal.coe_mul]
  congr 1
  rw [nsmul_eq_mul]
  push_cast
  ring

variable {I : TailIn Ideal}
  (hpc : ∀ (p : Fin 32) (g : Fin 256) (l : Fin 16), I.pc (ix3 p g l) = segN ids (3136 * p.val) (len p.val) g.val)
  (hps : ∀ (p : Fin 32) (g : Fin 256) (c : Fin 128), (∃ k < len p.val, gid ids (3136 * p.val + k) = g.val) →
    I.ps (ix3 p g c) = segS x ids (3136 * p.val) (len p.val) g.val c.val)
  (hpm : ∀ (p : Fin 32) (g : Fin 256) (c : Fin 128), (∃ k < len p.val, gid ids (3136 * p.val + k) = g.val) →
    I.pm (ix3 p g c) = segM x ids (3136 * p.val) (len p.val) g.val c.val)

include hpc in
theorem ptC_seg {p : ℕ} (hp : p < 32) (g : Fin 256) (l : Fin 16) : ptC I p (ix2 g l) = segN ids (3136 * p) (len p) g.val := by
  rw [ptC_at, hpc]
  simp only [Nat.mod_eq_of_lt hp]

include hpc in
theorem has_seg {p : ℕ} (hp : p < 32) (g : Fin 256) (c : Fin 128) :
    has I p (ix2 g c) = BitVec.ofBool (decide (∃ k < len p, gid ids (3136 * p + k) = g.val)) := by
  rw [has_at]
  simp only [ptC_seg ids hpc hp]
  congr 1
  refine decide_eq_decide.2 ⟨fun h => ?_, fun h => ?_⟩
  · by_contra hn
    rw [segN_none ids fun k hk e => hn ⟨k, hk, e⟩] at h
    simp at h
  · exact lt_of_lt_of_le (segN_pos ids h) (Finset.single_le_sum (f := fun _ : Fin 16 => segN ids (3136 * p) (len p) g.val) (fun _ _ => (segN_pos ids h).le) (Finset.mem_univ 0))

include hpc in
theorem accC_seg (n : ℕ) (hn : n ≤ 32) (g : Fin 256) (l : Fin 16) : accC I n (ix2 g l) = segN ids 0 (ends n) g.val := by
  induction n with
  | zero => rw [accC_zero]; simp [ends, segN]
  | succ n ih =>
    rw [accC_succ, ih (by omega), ptC_seg ids hpc (by omega), (ends_add (show n < 32 by omega)).2, segN_join, (ends_add (show n < 32 by omega)).1]

include hpc hps in
theorem accA_seg (n : ℕ) (hn : n ≤ 32) (g : Fin 256) (c : Fin 128) : accA I n (ix2 g c) = segS x ids 0 (ends n) g.val c.val := by
  induction n with
  | zero => rw [accA_zero]; simp [ends, segS]
  | succ n ih =>
    rw [accA_succ, ih (by omega), has_seg ids hpc (by omega), (ends_add (show n < 32 by omega)).2, segS_join, (ends_add (show n < 32 by omega)).1]
    by_cases h : ∃ k < len n, gid ids (3136 * n + k) = g.val
    · rw [decide_eq_true h, ptA_at, hps _ _ _ (by simpa only [Nat.mod_eq_of_lt (show n < 32 by omega)] using h)]
      simp only [Nat.mod_eq_of_lt (show n < 32 by omega)]
      rfl
    · rw [decide_eq_false h, segS_none x ids fun k hk e => h ⟨k, hk, e⟩]
      rfl

include hpc hpm in
theorem accB_seg (n : ℕ) (hn : n ≤ 32) (g : Fin 256) (c : Fin 128) : accB I n (ix2 g c) = segM x ids 0 (ends n) g.val c.val := by
  induction n with
  | zero => rw [accB_zero]; simp [ends, segM]
  | succ n ih =>
    rw [accB_succ, ih (by omega), has_seg ids hpc (by omega), (ends_add (show n < 32 by omega)).2, segM_join, (ends_add (show n < 32 by omega)).1]
    by_cases h : ∃ k < len n, gid ids (3136 * n + k) = g.val
    · rw [decide_eq_true h, ptB_at, hpm _ _ _ (by simpa only [Nat.mod_eq_of_lt (show n < 32 by omega)] using h)]
      simp only [Nat.mod_eq_of_lt (show n < 32 by omega)]
      rfl
    · rw [decide_eq_false h, segM_none x ids fun k hk e => h ⟨k, hk, e⟩, max_bot_right]
      rfl

end Cert.Proof.Pool

end
-- ==== Proof.Pools.lean ====
/-
  The plain program's three pools, as sums and maxima over the 100000 rows.
-/
module

public import proofs.«01_k».proof.Proof.Forms
public import proofs.«01_k».proof.Proof.Rows
public import Idealize.ShloMosaic.Lib.Routing.OpsPair

@[expose] public section

noncomputable section

namespace Cert.Proof.Plain

open Cert.ReferenceIdeal Cert.ReferenceIdeal.Gen Idealize.ShloMosaic Idealize.ShloMosaic.TcCoe Idealize.ShloMosaic.StableHlo
open Cert.Proof.Pool (gid segS segM segN xAt idAt)

variable (x : FVec Ideal S100000x128 .f32) (ids : IVec S100000 32)

/-- The ids, one a row, as the scatters read them. -/
def col : IVec S100000x1 32 := broadcastInDim S100000x1 ![0] bcast_S100000_S100000x1_0 ids

theorem col_at (r : Fin 100000) (k : Fin 1) : col ids (ix2 r k) = ids (ix1 r) := by
  pointwise [col]

theorem idAt_eq (r : Fin 100000) : idAt ids r.val = ids (ix1 r) := by
  unfold idAt
  congr 1
  funext a
  fin_cases a
  exact Fin.ext (Nat.mod_eq_of_lt r.isLt)
theorem xAt_eq (r : Fin 100000) (c : Fin 128) : xAt x r.val c.val = x (ix2 r c) := by
  unfold xAt
  congr 1
  funext a
  fin_cases a
  · exact Fin.ext (Nat.mod_eq_of_lt r.isLt)
  · exact Fin.ext (Nat.mod_eq_of_lt c.isLt)

/-- A small id read signed is itself. -/
theorem id_int {w : BitVec 32} (h : w.toNat < 256) (g : ℕ) : w.toInt = (g : ℤ) ↔ w.toNat = g := by
  rw [BitVec.toInt_eq_toNat_cond]
  split <;> omega

theorem lands_sum (hids : ∀ i, (ids i).toNat < 256) (j : S100000x128.Idx) (g : Fin 256) (c : Fin 128) :
    scatter_S256x128_S100000x1_S100000x128_1_0_0_1.resultIdx? j (col ids) = some (ix2 g c) ↔ gid ids (j 0).val = g.val ∧ (j 1).val = c.val := by
  rw [Routing.resultIdx?_eq_some]
  have s0 : scatter_S256x128_S100000x1_S100000x128_1_0_0_1.start j (col ids) 0 = (ids (ix1 (j 0))).toInt := by
    rw [← col_at ids (j 0) 0]
    refine congrArg BitVec.toInt (congrArg (col ids) ?_)
    funext a
    fin_cases a <;> rfl
  have s1 : scatter_S256x128_S100000x1_S100000x128_1_0_0_1.start j (col ids) 1 = 0 := rfl
  have w0 : scatter_S256x128_S100000x1_S100000x128_1_0_0_1.window j 0 = 0 := rfl
  have w1 : scatter_S256x128_S100000x1_S100000x128_1_0_0_1.window j 1 = (j 1).val := rfl
  have hg : gid ids (j 0).val = (ids (ix1 (j 0))).toNat := congrArg BitVec.toNat (idAt_eq ids (j 0))
  have hi := id_int (hids (ix1 (j 0))) g.val
  rw [hg, ← hi]
  constructor
  · intro h
    have h0 := h 0; have h1 := h 1
    rw [s0, w0] at h0; rw [s1, w1] at h1
    simp only [Nat.cast_zero, add_zero, zero_add] at h0 h1
    exact ⟨h0, by exact_mod_cast h1⟩
  · rintro ⟨h0, h1⟩ a
    fin_cases a
    · show scatter_S256x128_S100000x1_S100000x128_1_0_0_1.start j (col ids) 0 + (scatter_S256x128_S100000x1_S100000x128_1_0_0_1.window j 0 : ℤ) = (g.val : ℤ)
      rw [s0, w0, h0]; simp
    · show scatter_S256x128_S100000x1_S100000x128_1_0_0_1.start j (col ids) 1 + (scatter_S256x128_S100000x1_S100000x128_1_0_0_1.window j 1 : ℤ) = (c.val : ℤ)
      rw [s1, w1, h1]; simp

theorem lands_cnt (hids : ∀ i, (ids i).toNat < 256) (j : S100000.Idx) (g : Fin 256) :
    scatter_S256_S100000x1_S100000_n_0_0_1.resultIdx? j (col ids) = some (ix1 g) ↔ gid ids (j 0).val = g.val := by
  rw [Routing.resultIdx?_eq_some]
  have s0 : scatter_S256_S100000x1_S100000_n_0_0_1.start j (col ids) 0 = (ids (ix1 (j 0))).toInt := by
    rw [← col_at ids (j 0) 0]
    refine congrArg BitVec.toInt (congrArg (col ids) ?_)
    funext a
    fin_cases a <;> rfl
  have w0 : scatter_S256_S100000x1_S100000_n_0_0_1.window j 0 = 0 := rfl
  have hg : gid ids (j 0).val = (ids (ix1 (j 0))).toNat := congrArg BitVec.toNat (idAt_eq ids (j 0))
  have hi := id_int (hids (ix1 (j 0))) g.val
  rw [hg, ← hi]
  constructor
  · intro h
    have h0 := h 0
    rw [s0, w0] at h0
    simpa using h0
  · intro h0 a
    fin_cases a
    show scatter_S256_S100000x1_S100000_n_0_0_1.start j (col ids) 0 + (scatter_S256_S100000x1_S100000_n_0_0_1.window j 0 : ℤ) = (g.val : ℤ)
    rw [s0, w0, h0]; simp

theorem pSum_at (hids : ∀ i, (ids i).toNat < 256) (g : Fin 256) (c : Fin 128) : pSum x ids (ix2 g c) = segS x ids 0 100000 g.val c.val := by
  show (Ideal.ofBits .f32 0x00000000#32) + ∑ j ∈ Finset.univ.filter (fun j => scatter_S256x128_S100000x1_S100000x128_1_0_0_1.resultIdx? j (col ids) = some (ix2 g c)), x j = _
  rw [bits_zero, zero_add]
  unfold segS
  rw [← Finset.sum_filter]
  refine Finset.sum_bij' (fun j _ => (j 0).val) (fun k _ => ix2 ⟨k % 100000, Nat.mod_lt _ (by decide)⟩ c) ?_ ?_ ?_ ?_ ?_
  · intro j hj
    have h := (lands_sum ids hids j g c).1 (Finset.mem_filter.1 hj).2
    exact Finset.mem_filter.2 ⟨Finset.mem_range.2 (j 0).isLt, by rw [Nat.zero_add]; exact h.1⟩
  · intro k hk
    obtain ⟨hr, hk⟩ := Finset.mem_filter.1 hk
    rw [Nat.zero_add] at hk
    refine Finset.mem_filter.2 ⟨Finset.mem_univ _, (lands_sum ids hids _ g c).2 ⟨?_, rfl⟩⟩
    show gid ids (k % 100000) = g.val
    rw [Nat.mod_eq_of_lt (Finset.mem_range.1 hr)]; exact hk
  · intro j hj
    have h := (lands_sum ids hids j g c).1 (Finset.mem_filter.1 hj).2
    funext a
    fin_cases a
    · exact Fin.ext (Nat.mod_eq_of_lt (j 0).isLt)
    · exact Fin.ext h.2.symm
  · intro k hk
    exact Nat.mod_eq_of_lt (Finset.mem_range.1 (Finset.mem_filter.1 hk).1)
  · intro j hj
    have h := (lands_sum ids hids j g c).1 (Finset.mem_filter.1 hj).2
    rw [Nat.zero_add, ← h.2]
    refine Eq.trans (congrArg x ?_) (xAt_eq x (j 0) (j 1)).symm
    funext a
    fin_cases a <;> rfl

theorem pCnt_at (hids : ∀ i, (ids i).toNat < 256) (g : Fin 256) : pCnt (F := Ideal) ids (ix1 g) = segN ids 0 100000 g.val := by
  show (Ideal.ofBits .f32 0x00000000#32) + ∑ j ∈ Finset.univ.filter (fun j => scatter_S256_S100000x1_S100000_n_0_0_1.resultIdx? j (col ids) = some (ix1 g)), Ideal.ofBits .f32 0x3F800000#32 = _
  rw [bits_zero, zero_add, bits_one]
  unfold segN
  rw [← Finset.sum_filter]
  refine Finset.sum_bij' (fun j _ => (j 0).val) (fun k _ => ix1 ⟨k % 100000, Nat.mod_lt _ (by decide)⟩) ?_ ?_ ?_ ?_ ?_
  · intro j hj
    have h := (lands_cnt ids hids j g).1 (Finset.mem_filter.1 hj).2
    exact Finset.mem_filter.2 ⟨Finset.mem_range.2 (j 0).isLt, by rw [Nat.zero_add]; exact h⟩
  · intro k hk
    obtain ⟨hr, hk⟩ := Finset.mem_filter.1 hk
    rw [Nat.zero_add] at hk
    refine Finset.mem_filter.2 ⟨Finset.mem_univ _, (lands_cnt ids hids _ g).2 ?_⟩
    show gid ids (k % 100000) = g.val
    rw [Nat.mod_eq_of_lt (Finset.mem_range.1 hr)]; exact hk
  · intro j hj
    funext a
    fin_cases a
    exact Fin.ext (Nat.mod_eq_of_lt (j 0).isLt)
  · intro k hk
    exact Nat.mod_eq_of_lt (Finset.mem_range.1 (Finset.mem_filter.1 hk).1)
  · intro j hj
    rfl

theorem masked_at (g : Fin 256) (r : Fin 100000) (c : Fin 128) (hids : ∀ i, (ids i).toNat < 256) :
    pMasked x ids (ix3 g r c) = if gid ids r.val = g.val then xAt x r.val c.val else ⊥ := by
  have e : pMasked x ids (ix3 g r c) = Scalar.select (IntOp.cmpi .eq (ids (ix1 r)) (BitVec.ofNat 32 g.val)) (x (ix2 r c)) (Ideal.ofBits .f32 0xFF800000#32) := by
    pointwise [pMasked]
    rfl
  rw [e, bits_ninf, xAt_eq]
  unfold gid
  rw [idAt_eq]
  have hi := hids (ix1 r)
  have hw : ids (ix1 r) = BitVec.ofNat 32 g.val ↔ (ids (ix1 r)).toNat = g.val := by
    rw [← BitVec.toNat_inj, BitVec.toNat_ofNat, Nat.mod_eq_of_lt (by omega)]
  by_cases h : (ids (ix1 r)).toNat = g.val
  · rw [if_pos h, hw.2 h]
    simp [IntOp.cmpi, Scalar.select]
  · rw [if_neg h]
    have hne : ids (ix1 r) ≠ BitVec.ofNat 32 g.val := fun e => h (hw.1 e)
    have hb : (ids (ix1 r) == BitVec.ofNat 32 g.val) = false := beq_eq_false_iff_ne.2 hne
    simp only [IntOp.cmpi, Scalar.select, hb]
    rfl

theorem reduce_at (z : FVec Ideal S256x100000x128 .f32) (g : Fin 256) (c : Fin 128) :
    Host.reduce FloatOps.maximumf z (constant S_ .f32 0xFF800000#32) reducesTo_S256x100000x128_S256x128_d1 h_S_ (ix2 g c)
      = Finset.fold max (Ideal.ofBits FTy.f32 0xFF800000#32) (fun r : Fin 100000 => z (ix3 g r c)) Finset.univ := by
  pointwise

theorem pMax_at (hids : ∀ i, (ids i).toNat < 256) (g : Fin 256) (c : Fin 128) : pMax x ids (ix2 g c) = segM x ids 0 100000 g.val c.val := by
  unfold pMax
  rw [reduce_at, bits_ninf]
  simp only [masked_at x ids g _ c hids]
  show Finset.univ.sup (fun r : Fin 100000 => if gid ids r.val = g.val then xAt x r.val c.val else ⊥) = _
  unfold segM
  refine le_antisymm (Finset.sup_le fun r _ => ?_) (Finset.sup_le fun k hk => ?_)
  · have := Finset.le_sup (f := fun k => if gid ids (0 + k) = g.val then xAt x (0 + k) c.val else (⊥ : EReal)) (Finset.mem_range.2 r.isLt)
    simp only [Nat.zero_add] at this ⊢
    exact this
  · have := Finset.le_sup (f := fun r : Fin 100000 => if gid ids r.val = g.val then xAt x r.val c.val else (⊥ : EReal)) (Finset.mem_univ ⟨k, Finset.mem_range.1 hk⟩)
    simp only [Nat.zero_add] at this ⊢
    exact this

end Cert.Proof.Plain

end
-- ==== Proof.Tails.lean ====
/-
  The tail computes the plain program's result from the three pools.
-/
module

public import proofs.«01_k».proof.Proof.Forms

@[expose] public section

noncomputable section

namespace Cert.Proof.Pool

open Cert.KernelIdeal Cert.KernelIdeal.Facts₀ Cert.KernelIdeal.Facts
open Idealize.ShloMosaic Idealize.ShloMosaic.TcCoe Idealize.ShloMosaic.StableHlo

/-- A sigmoid is a real number, whatever it is taken of. -/
theorem sig_real (y : EReal) : ∃ r : ℝ, Ideal.div 1 (1 + Ideal.exp (-y)) = (r : EReal) := by
  induction y with
  | bot =>
    refine ⟨0, ?_⟩
    rw [EReal.neg_bot, Ideal.exp_top, show (1 : EReal) + ⊤ = ⊤ from rfl, Ideal.div, if_neg (by simp)]
    simp
  | top =>
    refine ⟨1, ?_⟩
    rw [EReal.neg_top, Ideal.exp_bot, add_zero, show (1 : EReal) = ((1 : ℝ) : EReal) from rfl, Ideal.div_coe one_ne_zero]
    simp
  | coe r =>
    refine ⟨1 / (1 + Real.exp (-r)), ?_⟩
    rw [← EReal.coe_neg, Ideal.exp_coe, show (1 : EReal) = ((1 : ℝ) : EReal) from rfl, ← EReal.coe_add,
      Ideal.div_coe (by positivity), EReal.coe_one, one_mul]

/-- Three values mixed by positive weights, divided by the weights' sum: each weight may be divided first. -/
theorem mix_div {p q r : ℝ} (hp : 0 < p) (hq : 0 < q) (hr : 0 < r) (a b c : EReal) :
    Ideal.div (p * a + q * b + r * c) ((p : EReal) + q + r)
      = Ideal.div p ((p : EReal) + q + r) * a + Ideal.div q ((p : EReal) + q + r) * b + Ideal.div r ((p : EReal) + q + r) * c := by
  rw [← EReal.coe_add, ← EReal.coe_add]
  have hD : p + q + r ≠ 0 := by positivity
  simp only [Ideal.div_coe hD]
  have h0 : (0 : EReal) ≤ ((1 / (p + q + r) : ℝ) : EReal) := by
    rw [← EReal.coe_zero]; exact EReal.coe_le_coe_iff.2 (by positivity)
  rw [EReal.right_distrib_of_nonneg_of_ne_top h0 (EReal.coe_ne_top _), EReal.right_distrib_of_nonneg_of_ne_top h0 (EReal.coe_ne_top _)]
  congr 1
  · congr 1
    · exact mul_right_comm _ _ _
    · exact mul_right_comm _ _ _
  · exact mul_right_comm _ _ _

/-- Two tables are one when they agree at every segment and column. -/
theorem ext2 {f h : FVec Ideal S256x128 .f32} (e : ∀ (g : Fin 256) (c : Fin 128), f (ix2 g c) = h (ix2 g c)) : f = h := by
  funext j
  have hj : j = ix2 (j 0) (j 1) := by funext a; fin_cases a <;> rfl
  rw [hj]; exact e _ _

variable {I : TailIn Ideal} {s mx : FVec Ideal S256x128 .f32} {n : FVec Ideal Cert.ReferenceIdeal.S256 .f32}
  {w2 w4 w6 w14 : FVec Ideal S128x128 .f32} {b3 b5 b7 b15 ga be : FVec Ideal Cert.ReferenceIdeal.S128 .f32} {w8 w10 w12 : FVec Ideal S1x128 .f32} {b9 b11 b13 : FVec Ideal Cert.ReferenceIdeal.S1 .f32}

/-- The tail's layer is the plain one. -/
theorem layer_lay (v : FVec Ideal S256x128 .f32) {w : FVec Ideal S128x128 .f32} {b : Vec Ideal S1x128 .f32} {b' : FVec Ideal Cert.ReferenceIdeal.S128 .f32}
    (hb : ∀ c : Fin 128, b (ix2 0 c) = b' (ix1 c)) : layer v w b = Plain.lay v w b' := by
  refine ext2 fun g c => ?_
  rw [layer_at, Plain.lay_at, hb]

/-- The tail's gate, on all 128 columns, is the plain one. -/
theorem sigm_gat (v : FVec Ideal S256x128 .f32) {w : Vec Ideal S128x128 .f32} {b : Vec Ideal S1x128 .f32} {w' : FVec Ideal S1x128 .f32} {b' : FVec Ideal Cert.ReferenceIdeal.S1 .f32}
    (hw : ∀ c k : Fin 128, w (ix2 c k) = w' (ix2 0 k)) (hb : ∀ c : Fin 128, b (ix2 0 c) = b' (ix1 0)) (g : Fin 256) (c : Fin 128) :
    sigm (gateL v w b) (ix2 g c) = Plain.gat v w' b' (ix2 g 0) := by
  rw [sigm_at, gateL_at, Plain.gat_at, hb, zero_sub]
  simp only [hw]

theorem gat_real (v : FVec Ideal S256x128 .f32) (w' : FVec Ideal S1x128 .f32) (b' : FVec Ideal Cert.ReferenceIdeal.S1 .f32) (g : Fin 256) :
    ∃ r : ℝ, Plain.gat v w' b' (ix2 g 0) = (r : EReal) := by
  rw [Plain.gat_at]; exact sig_real _

/-- The mixing of the three representations. -/
theorem mix_eq (a b c : FVec Ideal S256x128 .f32) (z0 z1 z2 : FVec Ideal Cert.ReferenceIdeal.S256x1 .f32) (g0 g1 g2 : FVec Ideal S256x128 .f32)
    (h0 : ∀ g c, g0 (ix2 g c) = z0 (ix2 g 0)) (h1 : ∀ g c, g1 (ix2 g c) = z1 (ix2 g 0)) (h2 : ∀ g c, g2 (ix2 g c) = z2 (ix2 g 0))
    (r0 : ∀ g, ∃ r : ℝ, z0 (ix2 g 0) = (r : EReal)) (r1 : ∀ g, ∃ r : ℝ, z1 (ix2 g 0) = (r : EReal)) (r2 : ∀ g, ∃ r : ℝ, z2 (ix2 g 0) = (r : EReal)) (g : Fin 256) (k : Fin 128) :
    Ideal.div (Ideal.exp (g0 (ix2 g k) - max (max (g0 (ix2 g k)) (g1 (ix2 g k))) (g2 (ix2 g k))) * a (ix2 g k) + Ideal.exp (g1 (ix2 g k) - max (max (g0 (ix2 g k)) (g1 (ix2 g k))) (g2 (ix2 g k))) * b (ix2 g k)
        + Ideal.exp (g2 (ix2 g k) - max (max (g0 (ix2 g k)) (g1 (ix2 g k))) (g2 (ix2 g k))) * c (ix2 g k))
      (Ideal.exp (g0 (ix2 g k) - max (max (g0 (ix2 g k)) (g1 (ix2 g k))) (g2 (ix2 g k))) + Ideal.exp (g1 (ix2 g k) - max (max (g0 (ix2 g k)) (g1 (ix2 g k))) (g2 (ix2 g k))) + Ideal.exp (g2 (ix2 g k) - max (max (g0 (ix2 g k)) (g1 (ix2 g k))) (g2 (ix2 g k))))
      = Plain.mix (Plain.smD (Plain.smE (Plain.cat z0 z1 z2))) a b c (ix2 g k) := by
  rw [Plain.mix_at, Plain.smD_at, Plain.smD_at, Plain.smD_at, Plain.smE_at, Plain.smE_at, Plain.smE_at, Plain.cat_at0, Plain.cat_at1, Plain.cat_at2, h0, h1, h2]
  obtain ⟨x, hx⟩ := r0 g
  obtain ⟨y, hy⟩ := r1 g
  obtain ⟨z, hz⟩ := r2 g
  rw [hx, hy, hz, ← EReal.coe_strictMono.monotone.map_max, ← EReal.coe_strictMono.monotone.map_max, ← EReal.coe_sub, ← EReal.coe_sub, ← EReal.coe_sub, Ideal.exp_coe, Ideal.exp_coe, Ideal.exp_coe]
  exact mix_div (Real.exp_pos _) (Real.exp_pos _) (Real.exp_pos _) _ _ _

/-- The tail's normalisation is the plain one. -/
theorem out_norm {x : FVec Ideal S256x128 .f32} (hx : geK I = x) (hga : ∀ c : Fin 128, I.ga (ix2 0 c) = ga (ix1 c)) (hbe : ∀ c : Fin 128, I.be (ix2 0 c) = be (ix1 c)) :
    tailOut I = Plain.norm x ga be := by
  have hd : devK I = Plain.devR x := by
    refine ext2 fun g c => ?_
    rw [devK_at, Plain.devR_at, hx, Ideal.div_coe (by norm_num)]
  refine ext2 fun g c => ?_
  rw [tailOut_at, Plain.norm_at, Plain.varR_at, Ideal.div_coe (by norm_num), sqK_at, hd, hga, hbe]

/-- The whole tail. -/
theorem tail_eq (hA : accA I 32 = s) (hB : accB I 32 = mx) (hC : ∀ g : Fin 256, (∑ x : Fin 16, accC I 32 (ix2 g x)) * ((1 / 16 : ℝ) : EReal) = n (ix1 g))
    (hwm : I.wm = w2) (hbm : ∀ c : Fin 128, I.bm (ix2 0 c) = b3 (ix1 c)) (hwx : I.wx = w4) (hbx : ∀ c : Fin 128, I.bx (ix2 0 c) = b5 (ix1 c))
    (hws : I.ws = w6) (hbs : ∀ c : Fin 128, I.bs (ix2 0 c) = b7 (ix1 c))
    (hgm : ∀ c k : Fin 128, I.gm (ix2 c k) = w8 (ix2 0 k)) (hcm : ∀ c : Fin 128, I.cm (ix2 0 c) = b9 (ix1 0))
    (hgx : ∀ c k : Fin 128, I.gx (ix2 c k) = w10 (ix2 0 k)) (hcx : ∀ c : Fin 128, I.cx (ix2 0 c) = b11 (ix1 0))
    (hgs : ∀ c k : Fin 128, I.gs (ix2 c k) = w12 (ix2 0 k)) (hcs : ∀ c : Fin 128, I.cs (ix2 0 c) = b13 (ix1 0))
    (hwo : I.wo = w14) (hbo : ∀ c : Fin 128, I.bo (ix2 0 c) = b15 (ix1 c))
    (hga : ∀ c : Fin 128, I.ga (ix2 0 c) = ga (ix1 c)) (hbe : ∀ c : Fin 128, I.be (ix2 0 c) = be (ix1 c)) :
    tailOut I = Plain.final s n mx w2 b3 w4 b5 w6 b7 w8 b9 w10 b11 w12 b13 w14 b15 ga be := by
  have hmean : meanR I = Plain.lay (Plain.pMean s n) w2 b3 := by
    unfold meanR
    rw [layer_lay _ hbm, hwm]
    congr 1
    refine ext2 fun g c => ?_
    rw [Plain.pMean_at]
    show Ideal.div (accA I 32 (ix2 g c)) (countsK I (ix2 g c)) = _
    rw [countsK_at, hC, hA, max_comm]
  have hmax : maxR I = Plain.lay mx w4 b5 := by
    have : maxR I = layer (accB I 32) I.wx I.bx := rfl
    rw [this, layer_lay _ hbx, hwx, hB]
  have hsum : sumR I = Plain.lay s w6 b7 := by
    unfold sumR
    rw [layer_lay _ hbs, hws, hA]
  refine out_norm ?_ hga hbe
  unfold geK
  rw [layer_lay _ hbo, hwo]
  refine congrArg (fun v => Plain.lay v w14 b15) ?_
  refine ext2 fun g c => ?_
  rw [← hmean, ← hmax, ← hsum, pooledK_at]
  have e0 : ∀ (g : Fin 256) (c : Fin 128), sigM I (ix2 g c) = Plain.gat (meanR I) w8 b9 (ix2 g 0) := fun g c => by
    unfold sigM; exact sigm_gat _ hgm hcm g c
  have e1 : ∀ (g : Fin 256) (c : Fin 128), sigm (gateX I) (ix2 g c) = Plain.gat (maxR I) w10 b11 (ix2 g 0) := fun g c => by
    unfold gateX; exact sigm_gat _ hgx hcx g c
  have e2 : ∀ (g : Fin 256) (c : Fin 128), sigm (gateS I) (ix2 g c) = Plain.gat (sumR I) w12 b13 (ix2 g 0) := fun g c => by
    unfold gateS; exact sigm_gat _ hgs hcs g c
  exact mix_eq (meanR I) (maxR I) (sumR I) _ _ _ (sigM I) (sigm (gateX I)) (sigm (gateS I)) e0 e1 e2 (gat_real _ _ _) (gat_real _ _ _) (gat_real _ _ _) g c

end Cert.Proof.Pool

end
-- ==== Proof.Value.lean ====
/-
  The kernel's result in terms of its arguments.
-/
module

public import proofs.«01_k».proof.Proof.Ends
public import proofs.«01_k».proof.Proof.Parts
public import proofs.«01_k».proof.Proof.Pools
public import proofs.«01_k».proof.Proof.Tails
public import Idealize.ShloMosaic.Lib.Pipeline.ValueKit
public import Idealize.ShloMosaic.Lib.StableHlo.RunRead

@[expose] public section

noncomputable section

namespace Cert.Proof.Pool

open Cert.KernelIdeal Cert.KernelIdeal.Facts₀ Cert.KernelIdeal.Facts
open Idealize.ShloMosaic Idealize.ShloMosaic.TcCoe Idealize.ShloMosaic.Pipeline

variable (m : (l : Loc nD τ sig) → Buf (Elt Ideal) l) (t : Fin 32 → Tab Ideal × Tab Ideal) (d : Dev nD)

theorem vEnd_out : vEnd m t d (Proc.devRef .tc main_v16) = tailOut (tailIn (vHost m t d)) := by
  unfold vEnd
  refine (afterRegion_arr (tdat (vHost m t) d) (vHost m t d) arr_inj 19).trans ?_
  refine (tdat (vHost m t) d).arrAt_eq_of_after_last 19 pt0 (by decide +kernel) _ fun j => ?_
  rfl

/-! ## The tail's operands are whole arrays -/

theorem in_ps (W : Valuation τ sig (Elt Ideal)) : (tailIn W).ps = W (Proc.devRef .tc main_v0_0) := by
  funext y
  have h0 : ∀ a, (cfg1.win 0).index pt0 a = 0 := by decide +kernel
  show W (Proc.devRef .tc main_v0_0) (((cfg1.win 0).blk pt0).view.emb y) = _
  congr 1
  funext a; apply Fin.ext
  exact Window.rect_emb_val_of_index_zero (cfg1.win 0) pt0 a (h0 a) y
theorem in_pm (W : Valuation τ sig (Elt Ideal)) : (tailIn W).pm = W (Proc.devRef .tc main_v0_1) := by
  funext y
  have h0 : ∀ a, (cfg1.win 1).index pt0 a = 0 := by decide +kernel
  show W (Proc.devRef .tc main_v0_1) (((cfg1.win 1).blk pt0).view.emb y) = _
  congr 1
  funext a; apply Fin.ext
  exact Window.rect_emb_val_of_index_zero (cfg1.win 1) pt0 a (h0 a) y
theorem in_pc (W : Valuation τ sig (Elt Ideal)) : (tailIn W).pc = W (Proc.devRef .tc main_v0_2) := by
  funext y
  have h0 : ∀ a, (cfg1.win 2).index pt0 a = 0 := by decide +kernel
  show W (Proc.devRef .tc main_v0_2) (((cfg1.win 2).blk pt0).view.emb y) = _
  congr 1
  funext a; apply Fin.ext
  exact Window.rect_emb_val_of_index_zero (cfg1.win 2) pt0 a (h0 a) y
theorem in_wm (W : Valuation τ sig (Elt Ideal)) : (tailIn W).wm = W (Proc.devRef .tc main_arg2) := by
  funext y
  have h0 : ∀ a, (cfg1.win 3).index pt0 a = 0 := by decide +kernel
  show W (Proc.devRef .tc main_arg2) (((cfg1.win 3).blk pt0).view.emb y) = _
  congr 1
  funext a; apply Fin.ext
  exact Window.rect_emb_val_of_index_zero (cfg1.win 3) pt0 a (h0 a) y
theorem in_bm (W : Valuation τ sig (Elt Ideal)) : (tailIn W).bm = W (Proc.devRef .tc main_v10) := by
  funext y
  have h0 : ∀ a, (cfg1.win 4).index pt0 a = 0 := by decide +kernel
  show W (Proc.devRef .tc main_v10) (((cfg1.win 4).blk pt0).view.emb y) = _
  congr 1
  funext a; apply Fin.ext
  exact Window.rect_emb_val_of_index_zero (cfg1.win 4) pt0 a (h0 a) y
theorem in_wx (W : Valuation τ sig (Elt Ideal)) : (tailIn W).wx = W (Proc.devRef .tc main_arg4) := by
  funext y
  have h0 : ∀ a, (cfg1.win 5).index pt0 a = 0 := by decide +kernel
  show W (Proc.devRef .tc main_arg4) (((cfg1.win 5).blk pt0).view.emb y) = _
  congr 1
  funext a; apply Fin.ext
  exact Window.rect_emb_val_of_index_zero (cfg1.win 5) pt0 a (h0 a) y
theorem in_bx (W : Valuation τ sig (Elt Ideal)) : (tailIn W).bx = W (Proc.devRef .tc main_v11) := by
  funext y
  have h0 : ∀ a, (cfg1.win 6).index pt0 a = 0 := by decide +kernel
  show W (Proc.devRef .tc main_v11) (((cfg1.win 6).blk pt0).view.emb y) = _
  congr 1
  funext a; apply Fin.ext
  exact Window.rect_emb_val_of_index_zero (cfg1.win 6) pt0 a (h0 a) y
theorem in_ws (W : Valuation τ sig (Elt Ideal)) : (tailIn W).ws = W (Proc.devRef .tc main_arg6) := by
  funext y
  have h0 : ∀ a, (cfg1.win 7).index pt0 a = 0 := by decide +kernel
  show W (Proc.devRef .tc main_arg6) (((cfg1.win 7).blk pt0).view.emb y) = _
  congr 1
  funext a; apply Fin.ext
  exact Window.rect_emb_val_of_index_zero (cfg1.win 7) pt0 a (h0 a) y
theorem in_bs (W : Valuation τ sig (Elt Ideal)) : (tailIn W).bs = W (Proc.devRef .tc main_v12) := by
  funext y
  have h0 : ∀ a, (cfg1.win 8).index pt0 a = 0 := by decide +kernel
  show W (Proc.devRef .tc main_v12) (((cfg1.win 8).blk pt0).view.emb y) = _
  congr 1
  funext a; apply Fin.ext
  exact Window.rect_emb_val_of_index_zero (cfg1.win 8) pt0 a (h0 a) y
theorem in_gm (W : Valuation τ sig (Elt Ideal)) : (tailIn W).gm = W (Proc.devRef .tc main_v1) := by
  funext y
  have h0 : ∀ a, (cfg1.win 9).index pt0 a = 0 := by decide +kernel
  show W (Proc.devRef .tc main_v1) (((cfg1.win 9).blk pt0).view.emb y) = _
  congr 1
  funext a; apply Fin.ext
  exact Window.rect_emb_val_of_index_zero (cfg1.win 9) pt0 a (h0 a) y
theorem in_cm (W : Valuation τ sig (Elt Ideal)) : (tailIn W).cm = W (Proc.devRef .tc main_v5) := by
  funext y
  have h0 : ∀ a, (cfg1.win 10).index pt0 a = 0 := by decide +kernel
  show W (Proc.devRef .tc main_v5) (((cfg1.win 10).blk pt0).view.emb y) = _
  congr 1
  funext a; apply Fin.ext
  exact Window.rect_emb_val_of_index_zero (cfg1.win 10) pt0 a (h0 a) y
theorem in_gx (W : Valuation τ sig (Elt Ideal)) : (tailIn W).gx = W (Proc.devRef .tc main_v2) := by
  funext y
  have h0 : ∀ a, (cfg1.win 11).index pt0 a = 0 := by decide +kernel
  show W (Proc.devRef .tc main_v2) (((cfg1.win 11).blk pt0).view.emb y) = _
  congr 1
  funext a; apply Fin.ext
  exact Window.rect_emb_val_of_index_zero (cfg1.win 11) pt0 a (h0 a) y
theorem in_cx (W : Valuation τ sig (Elt Ideal)) : (tailIn W).cx = W (Proc.devRef .tc main_v7) := by
  funext y
  have h0 : ∀ a, (cfg1.win 12).index pt0 a = 0 := by decide +kernel
  show W (Proc.devRef .tc main_v7) (((cfg1.win 12).blk pt0).view.emb y) = _
  congr 1
  funext a; apply Fin.ext
  exact Window.rect_emb_val_of_index_zero (cfg1.win 12) pt0 a (h0 a) y
theorem in_gs (W : Valuation τ sig (Elt Ideal)) : (tailIn W).gs = W (Proc.devRef .tc main_v3) := by
  funext y
  have h0 : ∀ a, (cfg1.win 13).index pt0 a = 0 := by decide +kernel
  show W (Proc.devRef .tc main_v3) (((cfg1.win 13).blk pt0).view.emb y) = _
  congr 1
  funext a; apply Fin.ext
  exact Window.rect_emb_val_of_index_zero (cfg1.win 13) pt0 a (h0 a) y
theorem in_cs (W : Valuation τ sig (Elt Ideal)) : (tailIn W).cs = W (Proc.devRef .tc main_v9) := by
  funext y
  have h0 : ∀ a, (cfg1.win 14).index pt0 a = 0 := by decide +kernel
  show W (Proc.devRef .tc main_v9) (((cfg1.win 14).blk pt0).view.emb y) = _
  congr 1
  funext a; apply Fin.ext
  exact Window.rect_emb_val_of_index_zero (cfg1.win 14) pt0 a (h0 a) y
theorem in_wo (W : Valuation τ sig (Elt Ideal)) : (tailIn W).wo = W (Proc.devRef .tc main_arg14) := by
  funext y
  have h0 : ∀ a, (cfg1.win 15).index pt0 a = 0 := by decide +kernel
  show W (Proc.devRef .tc main_arg14) (((cfg1.win 15).blk pt0).view.emb y) = _
  congr 1
  funext a; apply Fin.ext
  exact Window.rect_emb_val_of_index_zero (cfg1.win 15) pt0 a (h0 a) y
theorem in_bo (W : Valuation τ sig (Elt Ideal)) : (tailIn W).bo = W (Proc.devRef .tc main_v13) := by
  funext y
  have h0 : ∀ a, (cfg1.win 16).index pt0 a = 0 := by decide +kernel
  show W (Proc.devRef .tc main_v13) (((cfg1.win 16).blk pt0).view.emb y) = _
  congr 1
  funext a; apply Fin.ext
  exact Window.rect_emb_val_of_index_zero (cfg1.win 16) pt0 a (h0 a) y
theorem in_ga (W : Valuation τ sig (Elt Ideal)) : (tailIn W).ga = W (Proc.devRef .tc main_v14) := by
  funext y
  have h0 : ∀ a, (cfg1.win 17).index pt0 a = 0 := by decide +kernel
  show W (Proc.devRef .tc main_v14) (((cfg1.win 17).blk pt0).view.emb y) = _
  congr 1
  funext a; apply Fin.ext
  exact Window.rect_emb_val_of_index_zero (cfg1.win 17) pt0 a (h0 a) y
theorem in_be (W : Valuation τ sig (Elt Ideal)) : (tailIn W).be = W (Proc.devRef .tc main_v15) := by
  funext y
  have h0 : ∀ a, (cfg1.win 18).index pt0 a = 0 := by decide +kernel
  show W (Proc.devRef .tc main_v15) (((cfg1.win 18).blk pt0).view.emb y) = _
  congr 1
  funext a; apply Fin.ext
  exact Window.rect_emb_val_of_index_zero (cfg1.win 18) pt0 a (h0 a) y

/-! ## What the host's operations leave in them -/

/-- An argument is as it was at the launch. -/
theorem host_arg (b : Ref sig .tc) (hb : b ∉ hostOuts) (h3 : b ≠ main_v0_0 ∧ b ≠ main_v0_1 ∧ b ≠ main_v0_2) :
    vHost m t d (Proc.devRef .tc b) = m ((d.tc : Thread nD τ).loc b) :=
  (vHost_keeps m t d b hb).trans (vCall_rest m t d b h3)

theorem host_v0_0 : vHost m t d (Proc.devRef .tc main_v0_0) = psum m d t := by
  refine (vHost_keeps m t d main_v0_0 (by decide)).trans ?_
  unfold vCall; rw [Function.update_of_ne (by decide), Function.update_of_ne (by decide), Function.update_self]
theorem host_v0_1 : vHost m t d (Proc.devRef .tc main_v0_1) = pmax m d t := by
  refine (vHost_keeps m t d main_v0_1 (by decide)).trans ?_
  unfold vCall; rw [Function.update_of_ne (by decide), Function.update_self]
theorem host_v0_2 : vHost m t d (Proc.devRef .tc main_v0_2) = pcnt m d t := by
  refine (vHost_keeps m t d main_v0_2 (by decide)).trans ?_
  unfold vCall; rw [Function.update_self]

theorem host_v10 (c : Fin 128) : (vHost m t d (Proc.devRef .tc main_v10) : S1x128.Idx → EReal) (ix2 0 c) = (m ((d.tc : Thread nD τ).loc main_arg3) : S128.Idx → EReal) (ix1 c) := by
  rw [show m ((d.tc : Thread nD τ).loc main_arg3) = vCall m t d (Proc.devRef .tc main_arg3) from (vCall_rest m t d main_arg3 (by decide)).symm]
  unfold vHost hostOps
  after_results
  pointwise
theorem host_v11 (c : Fin 128) : (vHost m t d (Proc.devRef .tc main_v11) : S1x128.Idx → EReal) (ix2 0 c) = (m ((d.tc : Thread nD τ).loc main_arg5) : S128.Idx → EReal) (ix1 c) := by
  rw [show m ((d.tc : Thread nD τ).loc main_arg5) = vCall m t d (Proc.devRef .tc main_arg5) from (vCall_rest m t d main_arg5 (by decide)).symm]
  unfold vHost hostOps
  after_results
  pointwise
theorem host_v12 (c : Fin 128) : (vHost m t d (Proc.devRef .tc main_v12) : S1x128.Idx → EReal) (ix2 0 c) = (m ((d.tc : Thread nD τ).loc main_arg7) : S128.Idx → EReal) (ix1 c) := by
  rw [show m ((d.tc : Thread nD τ).loc main_arg7) = vCall m t d (Proc.devRef .tc main_arg7) from (vCall_rest m t d main_arg7 (by decide)).symm]
  unfold vHost hostOps
  after_results
  pointwise
theorem host_v13 (c : Fin 128) : (vHost m t d (Proc.devRef .tc main_v13) : S1x128.Idx → EReal) (ix2 0 c) = (m ((d.tc : Thread nD τ).loc main_arg15) : S128.Idx → EReal) (ix1 c) := by
  rw [show m ((d.tc : Thread nD τ).loc main_arg15) = vCall m t d (Proc.devRef .tc main_arg15) from (vCall_rest m t d main_arg15 (by decide)).symm]
  unfold vHost hostOps
  after_results
  pointwise
theorem host_v14 (c : Fin 128) : (vHost m t d (Proc.devRef .tc main_v14) : S1x128.Idx → EReal) (ix2 0 c) = (m ((d.tc : Thread nD τ).loc main_arg16) : S128.Idx → EReal) (ix1 c) := by
  rw [show m ((d.tc : Thread nD τ).loc main_arg16) = vCall m t d (Proc.devRef .tc main_arg16) from (vCall_rest m t d main_arg16 (by decide)).symm]
  unfold vHost hostOps
  after_results
  pointwise
theorem host_v15 (c : Fin 128) : (vHost m t d (Proc.devRef .tc main_v15) : S1x128.Idx → EReal) (ix2 0 c) = (m ((d.tc : Thread nD τ).loc main_arg17) : S128.Idx → EReal) (ix1 c) := by
  rw [show m ((d.tc : Thread nD τ).loc main_arg17) = vCall m t d (Proc.devRef .tc main_arg17) from (vCall_rest m t d main_arg17 (by decide)).symm]
  unfold vHost hostOps
  after_results
  pointwise
theorem host_v1 (c k : Fin 128) : (vHost m t d (Proc.devRef .tc main_v1) : S128x128.Idx → EReal) (ix2 c k) = (m ((d.tc : Thread nD τ).loc main_arg8) : S1x128.Idx → EReal) (ix2 0 k) := by
  rw [show m ((d.tc : Thread nD τ).loc main_arg8) = vCall m t d (Proc.devRef .tc main_arg8) from (vCall_rest m t d main_arg8 (by decide)).symm]
  unfold vHost hostOps
  after_results
  pointwise
theorem host_v2 (c k : Fin 128) : (vHost m t d (Proc.devRef .tc main_v2) : S128x128.Idx → EReal) (ix2 c k) = (m ((d.tc : Thread nD τ).loc main_arg10) : S1x128.Idx → EReal) (ix2 0 k) := by
  rw [show m ((d.tc : Thread nD τ).loc main_arg10) = vCall m t d (Proc.devRef .tc main_arg10) from (vCall_rest m t d main_arg10 (by decide)).symm]
  unfold vHost hostOps
  after_results
  pointwise
theorem host_v3 (c k : Fin 128) : (vHost m t d (Proc.devRef .tc main_v3) : S128x128.Idx → EReal) (ix2 c k) = (m ((d.tc : Thread nD τ).loc main_arg12) : S1x128.Idx → EReal) (ix2 0 k) := by
  rw [show m ((d.tc : Thread nD τ).loc main_arg12) = vCall m t d (Proc.devRef .tc main_arg12) from (vCall_rest m t d main_arg12 (by decide)).symm]
  unfold vHost hostOps
  after_results
  pointwise
theorem host_v5 (c : Fin 128) : (vHost m t d (Proc.devRef .tc main_v5) : S1x128.Idx → EReal) (ix2 0 c) = (m ((d.tc : Thread nD τ).loc main_arg9) : S1.Idx → EReal) (ix1 0) := by
  rw [show m ((d.tc : Thread nD τ).loc main_arg9) = vCall m t d (Proc.devRef .tc main_arg9) from (vCall_rest m t d main_arg9 (by decide)).symm]
  unfold vHost hostOps
  after_results
  pointwise
theorem host_v7 (c : Fin 128) : (vHost m t d (Proc.devRef .tc main_v7) : S1x128.Idx → EReal) (ix2 0 c) = (m ((d.tc : Thread nD τ).loc main_arg11) : S1.Idx → EReal) (ix1 0) := by
  rw [show m ((d.tc : Thread nD τ).loc main_arg11) = vCall m t d (Proc.devRef .tc main_arg11) from (vCall_rest m t d main_arg11 (by decide)).symm]
  unfold vHost hostOps
  after_results
  pointwise
theorem host_v9 (c : Fin 128) : (vHost m t d (Proc.devRef .tc main_v9) : S1x128.Idx → EReal) (ix2 0 c) = (m ((d.tc : Thread nD τ).loc main_arg13) : S1.Idx → EReal) (ix1 0) := by
  rw [show m ((d.tc : Thread nD τ).loc main_arg13) = vCall m t d (Proc.devRef .tc main_arg13) from (vCall_rest m t d main_arg13 (by decide)).symm]
  unfold vHost hostOps
  after_results
  pointwise

/-! ## The partial tables -/

theorem len_nch (p : Fin 32) : 16 * nch (tileOf p) = len p.val := by
  unfold nch len
  rw [wid_tileOf]

section Tables

variable (hids : ∀ i, (idM m d i).toNat < 256) (hs : ∀ i j, i ≤ j → j < 100000 → gid (idM m d) i ≤ gid (idM m d) j)

include hids hs in
theorem pcnt_at (p : Fin 32) (g : Fin 256) (l : Fin 16) : pcnt m d t (ix3 p g l) = segN (idM m d) (3136 * p.val) (len p.val) g.val := by
  have h := (stEnd_read (x := xM m d) (ids := idM m d) hids hs (tileOf p) (t p).1 (t p).2).1 (ix2 g l)
  rw [len_nch, wid_tileOf] at h
  refine Eq.trans (congrArg (stEnd (xM m d) (idM m d) (tileOf p) (t p).1 (t p).2).cntT ?_) h
  funext a
  fin_cases a <;> rfl

include hids hs in
theorem psum_at (p : Fin 32) (g : Fin 256) (c : Fin 128) (he : ∃ k < len p.val, gid (idM m d) (3136 * p.val + k) = g.val) :
    psum m d t (ix3 p g c) = segS (xM m d) (idM m d) (3136 * p.val) (len p.val) g.val c.val := by
  have h := (stEnd_read (x := xM m d) (ids := idM m d) hids hs (tileOf p) (t p).1 (t p).2).2.1 (ix2 g c)
  rw [len_nch, wid_tileOf] at h
  refine Eq.trans (congrArg (stEnd (xM m d) (idM m d) (tileOf p) (t p).1 (t p).2).sumT ?_) (h he)
  funext a
  fin_cases a <;> rfl

include hids hs in
theorem pmax_at (p : Fin 32) (g : Fin 256) (c : Fin 128) (he : ∃ k < len p.val, gid (idM m d) (3136 * p.val + k) = g.val) :
    pmax m d t (ix3 p g c) = segM (xM m d) (idM m d) (3136 * p.val) (len p.val) g.val c.val := by
  have h := (stEnd_read (x := xM m d) (ids := idM m d) hids hs (tileOf p) (t p).1 (t p).2).2.2 (ix2 g c)
  rw [len_nch, wid_tileOf] at h
  refine Eq.trans (congrArg (stEnd (xM m d) (idM m d) (tileOf p) (t p).1 (t p).2).maxT ?_) (h he)
  funext a
  fin_cases a <;> rfl

include hids hs in
/-- The kernel's result is the plain program's, of the same arguments. -/
theorem vEnd_final : vEnd m t d (Proc.devRef .tc main_v16)
    = Plain.final (Plain.pSum (xM m d) (idM m d)) (Plain.pCnt (idM m d)) (Plain.pMax (xM m d) (idM m d))
      (m ((d.tc : Thread nD τ).loc main_arg2)) (m ((d.tc : Thread nD τ).loc main_arg3)) (m ((d.tc : Thread nD τ).loc main_arg4)) (m ((d.tc : Thread nD τ).loc main_arg5))
      (m ((d.tc : Thread nD τ).loc main_arg6)) (m ((d.tc : Thread nD τ).loc main_arg7)) (m ((d.tc : Thread nD τ).loc main_arg8)) (m ((d.tc : Thread nD τ).loc main_arg9))
      (m ((d.tc : Thread nD τ).loc main_arg10)) (m ((d.tc : Thread nD τ).loc main_arg11)) (m ((d.tc : Thread nD τ).loc main_arg12)) (m ((d.tc : Thread nD τ).loc main_arg13))
      (m ((d.tc : Thread nD τ).loc main_arg14)) (m ((d.tc : Thread nD τ).loc main_arg15)) (m ((d.tc : Thread nD τ).loc main_arg16)) (m ((d.tc : Thread nD τ).loc main_arg17)) := by
  have hpc : ∀ (p : Fin 32) (g : Fin 256) (l : Fin 16), (tailIn (vHost m t d)).pc (ix3 p g l) = segN (idM m d) (3136 * p.val) (len p.val) g.val := fun p g l => by
    rw [in_pc, host_v0_2]; exact pcnt_at m t d hids hs p g l
  have hps : ∀ (p : Fin 32) (g : Fin 256) (c : Fin 128), (∃ k < len p.val, gid (idM m d) (3136 * p.val + k) = g.val) →
      (tailIn (vHost m t d)).ps (ix3 p g c) = segS (xM m d) (idM m d) (3136 * p.val) (len p.val) g.val c.val := fun p g c he => by
    rw [in_ps, host_v0_0]; exact psum_at m t d hids hs p g c he
  have hpm : ∀ (p : Fin 32) (g : Fin 256) (c : Fin 128), (∃ k < len p.val, gid (idM m d) (3136 * p.val + k) = g.val) →
      (tailIn (vHost m t d)).pm (ix3 p g c) = segM (xM m d) (idM m d) (3136 * p.val) (len p.val) g.val c.val := fun p g c he => by
    rw [in_pm, host_v0_1]; exact pmax_at m t d hids hs p g c he
  have e32 : ends 32 = 100000 := by decide
  refine (vEnd_out m t d).trans (tail_eq ?_ ?_ ?_ ?_ ?_ ?_ ?_ ?_ ?_ ?_ ?_ ?_ ?_ ?_ ?_ ?_ ?_ ?_ ?_)
  · refine ext2 fun g c => ?_
    rw [accA_seg (xM m d) (idM m d) hpc hps 32 le_rfl, e32]
    exact (Plain.pSum_at (xM m d) (idM m d) hids g c).symm
  · refine ext2 fun g c => ?_
    rw [accB_seg (xM m d) (idM m d) hpc hpm 32 le_rfl, e32]
    exact (Plain.pMax_at (xM m d) (idM m d) hids g c).symm
  · intro g
    simp only [accC_seg (idM m d) hpc 32 le_rfl, e32]
    exact (lanes_div (idM m d) 0 100000 g.val).trans (Plain.pCnt_at (idM m d) hids g).symm
  · exact (in_wm _).trans (host_arg m t d main_arg2 (by decide) (by decide))
  · intro c; rw [in_bm]; exact host_v10 m t d c
  · exact (in_wx _).trans (host_arg m t d main_arg4 (by decide) (by decide))
  · intro c; rw [in_bx]; exact host_v11 m t d c
  · exact (in_ws _).trans (host_arg m t d main_arg6 (by decide) (by decide))
  · intro c; rw [in_bs]; exact host_v12 m t d c
  · intro c k; rw [in_gm]; exact host_v1 m t d c k
  · intro c; rw [in_cm]; exact host_v5 m t d c
  · intro c k; rw [in_gx]; exact host_v2 m t d c k
  · intro c; rw [in_cx]; exact host_v7 m t d c
  · intro c k; rw [in_gs]; exact host_v3 m t d c k
  · intro c; rw [in_cs]; exact host_v9 m t d c
  · exact (in_wo _).trans (host_arg m t d main_arg14 (by decide) (by decide))
  · intro c; rw [in_bo]; exact host_v13 m t d c
  · intro c; rw [in_ga]; exact host_v14 m t d c
  · intro c; rw [in_be]; exact host_v15 m t d c

end Tables

end Cert.Proof.Pool

end
-- ==== Proof.Same.lean ====
/-
  The kernel's result and the plain program's, of the same arguments, are one value.
-/
module

public import proofs.«01_k».proof.Proof.Value
public import proofs.«01_k».proof.Proof.Gen.ReferenceIdeal
public import proofs.«01_k».proof.Proof.Gen.ReferenceIdeal.Run

@[expose] public section

noncomputable section

namespace Cert.Proof

open Idealize.ShloMosaic Idealize.ShloMosaic.TcCoe Idealize.SL.Sem

variable (m : (ℓ : Loc Cert.KernelIdeal.nD Cert.KernelIdeal.τ Cert.KernelIdeal.sig) → Buf (Elt Ideal) ℓ)

/-- What both programs return. -/
def outOf (c : Dev Cert.KernelIdeal.nD) : FVec Ideal Cert.ReferenceIdeal.S256x128 .f32 :=
  Plain.final (Plain.pSum (Pool.xM m c) (Pool.idM m c)) (Plain.pCnt (Pool.idM m c)) (Plain.pMax (Pool.xM m c) (Pool.idM m c))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
    (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
    (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
    (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))

/-- Ids that never go down from one row to the next never go down. -/
theorem sorted_all {ids : IVec Cert.KernelIdeal.S100000 32} (h : ∀ n : ℕ, n + 1 < 100000 → (Pool.idAt ids n).toNat ≤ (Pool.idAt ids (n + 1)).toNat) :
    ∀ i j, i ≤ j → j < 100000 → Pool.gid ids i ≤ Pool.gid ids j := by
  intro i j hij
  induction j, hij using Nat.le_induction with
  | base => intro _; exact le_rfl
  | succ j _ ih => intro hj; exact (ih (by omega)).trans (h j hj)

theorem kernel_out {r : PUnit × MemSt Cert.KernelIdeal.nD Cert.KernelIdeal.τ Cert.KernelIdeal.sig (Elt Ideal)} (h : Pool.QC m r) (c : Dev Cert.KernelIdeal.nD)
    (hids : ∀ i, (Pool.idM m c i).toNat < 256) (hs : ∀ n : ℕ, n + 1 < 100000 → (Pool.idAt (Pool.idM m c) n).toNat ≤ (Pool.idAt (Pool.idM m c) (n + 1)).toNat) :
    r.2.mem ((c.tc : Thread Cert.KernelIdeal.nD Cert.KernelIdeal.τ).loc Cert.KernelIdeal.main_v16) = outOf m c := by
  obtain ⟨t, ht⟩ := Pool.QC_read m h c
  exact (ht Cert.KernelIdeal.main_v16 (by decide)).trans (Pool.vEnd_final m t c hids (sorted_all hs))

/-- The plain program's value at arguments equal to the kernel's. -/
theorem final_of {V : Valuation Cert.ReferenceIdeal.τ Cert.ReferenceIdeal.sig (Elt Ideal)} (c : Dev Cert.KernelIdeal.nD)
    (e0 : V (Proc.devRef .tc Cert.ReferenceIdeal.main_arg0) = (m ((c.tc : Thread Cert.KernelIdeal.nD Cert.KernelIdeal.τ).loc Cert.KernelIdeal.main_arg0)))
    (e1 : V (Proc.devRef .tc Cert.ReferenceIdeal.main_arg1) = (m ((c.tc : Thread Cert.KernelIdeal.nD Cert.KernelIdeal.τ).loc Cert.KernelIdeal.main_arg1)))
    (e2 : V (Proc.devRef .tc Cert.ReferenceIdeal.main_arg2) = (m ((c.tc : Thread Cert.KernelIdeal.nD Cert.KernelIdeal.τ).loc Cert.KernelIdeal.main_arg2)))
    (e3 : V (Proc.devRef .tc Cert.ReferenceIdeal.main_arg3) = (m ((c.tc : Thread Cert.KernelIdeal.nD Cert.KernelIdeal.τ).loc Cert.KernelIdeal.main_arg3)))
    (e4 : V (Proc.devRef .tc Cert.ReferenceIdeal.main_arg4) = (m ((c.tc : Thread Cert.KernelIdeal.nD Cert.KernelIdeal.τ).loc Cert.KernelIdeal.main_arg4)))
    (e5 : V (Proc.devRef .tc Cert.ReferenceIdeal.main_arg5) = (m ((c.tc : Thread Cert.KernelIdeal.nD Cert.KernelIdeal.τ).loc Cert.KernelIdeal.main_arg5)))
    (e6 : V (Proc.devRef .tc Cert.ReferenceIdeal.main_arg6) = (m ((c.tc : Thread Cert.KernelIdeal.nD Cert.KernelIdeal.τ).loc Cert.KernelIdeal.main_arg6)))
    (e7 : V (Proc.devRef .tc Cert.ReferenceIdeal.main_arg7) = (m ((c.tc : Thread Cert.KernelIdeal.nD Cert.KernelIdeal.τ).loc Cert.KernelIdeal.main_arg7)))
    (e8 : V (Proc.devRef .tc Cert.ReferenceIdeal.main_arg8) = (m ((c.tc : Thread Cert.KernelIdeal.nD Cert.KernelIdeal.τ).loc Cert.KernelIdeal.main_arg8)))
    (e9 : V (Proc.devRef .tc Cert.ReferenceIdeal.main_arg9) = (m ((c.tc : Thread Cert.KernelIdeal.nD Cert.KernelIdeal.τ).loc Cert.KernelIdeal.main_arg9)))
    (e10 : V (Proc.devRef .tc Cert.ReferenceIdeal.main_arg10) = (m ((c.tc : Thread Cert.KernelIdeal.nD Cert.KernelIdeal.τ).loc Cert.KernelIdeal.main_arg10)))
    (e11 : V (Proc.devRef .tc Cert.ReferenceIdeal.main_arg11) = (m ((c.tc : Thread Cert.KernelIdeal.nD Cert.KernelIdeal.τ).loc Cert.KernelIdeal.main_arg11)))
    (e12 : V (Proc.devRef .tc Cert.ReferenceIdeal.main_arg12) = (m ((c.tc : Thread Cert.KernelIdeal.nD Cert.KernelIdeal.τ).loc Cert.KernelIdeal.main_arg12)))
    (e13 : V (Proc.devRef .tc Cert.ReferenceIdeal.main_arg13) = (m ((c.tc : Thread Cert.KernelIdeal.nD Cert.KernelIdeal.τ).loc Cert.KernelIdeal.main_arg13)))
    (e14 : V (Proc.devRef .tc Cert.ReferenceIdeal.main_arg14) = (m ((c.tc : Thread Cert.KernelIdeal.nD Cert.KernelIdeal.τ).loc Cert.KernelIdeal.main_arg14)))
    (e15 : V (Proc.devRef .tc Cert.ReferenceIdeal.main_arg15) = (m ((c.tc : Thread Cert.KernelIdeal.nD Cert.KernelIdeal.τ).loc Cert.KernelIdeal.main_arg15)))
    (e16 : V (Proc.devRef .tc Cert.ReferenceIdeal.main_arg16) = (m ((c.tc : Thread Cert.KernelIdeal.nD Cert.KernelIdeal.τ).loc Cert.KernelIdeal.main_arg16)))
    (e17 : V (Proc.devRef .tc Cert.ReferenceIdeal.main_arg17) = (m ((c.tc : Thread Cert.KernelIdeal.nD Cert.KernelIdeal.τ).loc Cert.KernelIdeal.main_arg17))) :
    Plain.final (Plain.pSum (V (Proc.devRef .tc Cert.ReferenceIdeal.main_arg0)) (V (Proc.devRef .tc Cert.ReferenceIdeal.main_arg1))) (Plain.pCnt (V (Proc.devRef .tc Cert.ReferenceIdeal.main_arg1)))
      (Plain.pMax (V (Proc.devRef .tc Cert.ReferenceIdeal.main_arg0)) (V (Proc.devRef .tc Cert.ReferenceIdeal.main_arg1)))
      (V (Proc.devRef .tc Cert.ReferenceIdeal.main_arg2)) (V (Proc.devRef .tc Cert.ReferenceIdeal.main_arg3)) (V (Proc.devRef .tc Cert.ReferenceIdeal.main_arg4)) (V (Proc.devRef .tc Cert.ReferenceIdeal.main_arg5))
      (V (Proc.devRef .tc Cert.ReferenceIdeal.main_arg6)) (V (Proc.devRef .tc Cert.ReferenceIdeal.main_arg7)) (V (Proc.devRef .tc Cert.ReferenceIdeal.main_arg8)) (V (Proc.devRef .tc Cert.ReferenceIdeal.main_arg9))
      (V (Proc.devRef .tc Cert.ReferenceIdeal.main_arg10)) (V (Proc.devRef .tc Cert.ReferenceIdeal.main_arg11)) (V (Proc.devRef .tc Cert.ReferenceIdeal.main_arg12)) (V (Proc.devRef .tc Cert.ReferenceIdeal.main_arg13))
      (V (Proc.devRef .tc Cert.ReferenceIdeal.main_arg14)) (V (Proc.devRef .tc Cert.ReferenceIdeal.main_arg15)) (V (Proc.devRef .tc Cert.ReferenceIdeal.main_arg16)) (V (Proc.devRef .tc Cert.ReferenceIdeal.main_arg17)) = outOf m c := by
  rw [e0, e1, e2, e3, e4, e5, e6, e7, e8, e9, e10, e11, e12, e13, e14, e15, e16, e17]
  rfl

end Cert.Proof

end
-- ==== Proof.lean ====
/-
  The proof of `Cert.Claim`: the kernel's run (Proof/Main.lean) read at the arguments, the same run of the program as
  printed (Proof/Xfer.lean), and the reference's generated run; the two results are one value (Proof/Same.lean).
-/
module

public import proofs.«01_k».proof.Defs
public import proofs.«01_k».proof.Proof.Xfer
public import proofs.«01_k».proof.Proof.Same
public import proofs.«01_k».proof.Proof.Gen.ReferenceIdeal
public import proofs.«01_k».proof.Proof.Gen.ReferenceIdeal.Run
public import proofs.«01_k».proof.Proof.Gen.Pre_sorted_ids
public import Idealize.ShloMosaic.Lib.Quiescent

@[expose] public section

noncomputable section

namespace Cert.Proof

open Idealize.ShloMosaic Idealize.ShloMosaic.TcCoe Idealize.SL.Sem

theorem ids_in {F : FTy → Type} [FloatOps F] (m : (ℓ : Loc Cert.KernelIdeal.nD Cert.KernelIdeal.τ Cert.KernelIdeal.sig) → Buf (Elt F) ℓ)
    (h : ∀ d i, ((Pool.idM m d) i).toNat < 256) (d : Dev Cert.KernelIdeal.nD) : Pool.IdsIn (Pool.idM m d) := fun _ => h d _

theorem frame_ideal : Cert.quiescent_KernelIdeal := fun m g hp =>
  (θ_run Cert.KernelIdeal.defs _ _).mono (fun _ h => Pool.QC_frame m h)
    (Pool.run_main m g (ids_in m fun d => (Pool.sorted_read _ _ _ _ _ _ _ _ _ _ _ _ _ _ _ _ _ _ (hp d)).1))

theorem frame_bits : Cert.quiescent_Kernel := fun m g hp =>
  Pool.run_kernel m g _ ((θ_run Cert.KernelIdeal.defs _ _).mono (fun _ h => Pool.QC_frame m h)
    (Pool.run_main (F := Bits) m g (ids_in m fun d => (Pool.sorted_read _ _ _ _ _ _ _ _ _ _ _ _ _ _ _ _ _ _ (hp d)).1)))

theorem frame_ref : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_ref_pre : Cert.quiescent_ReferenceIdeal_pre_sorted_ids := fun m g _ =>
  (θ_run Cert.ReferenceIdeal.defs _ _).mono (fun r h => ⟨fun c => (h c).2, sem_eq_zero_of_no_sems (by decide) r.2⟩)
    (Cert.ReferenceIdeal.Value.run (F := Ideal) m g)

theorem same_value : Cert.algebraic_KernelIdeal_ReferenceIdeal := fun m g m' g' hp ha => by
  have hs := fun d => Pool.sorted_read _ _ _ _ _ _ _ _ _ _ _ _ _ _ _ _ _ _ (hp d)
  refine ⟨outOf m, ?_, ?_⟩
  · exact (θ_run Cert.KernelIdeal.defs _ _).mono
      (fun _ h c => ⟨kernel_out m h c (hs c).1 (hs c).2, (Pool.QC_frame m h).1 c⟩)
      (Pool.run_main m g (ids_in m fun d => (hs d).1))
  · refine (θ_run Cert.ReferenceIdeal.defs _ _).mono (fun _ h c => ⟨?_, (h c).2⟩) (Cert.ReferenceIdeal.Value.run (F := Ideal) m' g')
    obtain ⟨e0, e1, e2, e3, e4, e5, e6, e7, e8, e9, e10, e11, e12, e13, e14, e15, e16, e17⟩ := ha c
    exact (h c).1.trans ((Plain.result_eq (StableHlo.launchContents m' c)).trans (final_of m c e0 e1 e2 e3 e4 e5 e6 e7 e8 e9 e10 e11 e12 e13 e14 e15 e16 e17))

theorem claim : Cert.Claim := ⟨Cert.Kernel.facts, Cert.KernelIdeal.facts, Cert.ReferenceIdeal.Gen.facts, Cert.Pre_sorted_ids.Gen.facts,
  frame_bits, frame_ideal, frame_ref, frame_ref_pre, trivial, same_value⟩

end Cert.Proof

end
